-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_ids_sorted [hPre_ids_sorted : Cert.Pre_ids_sorted.Facts] (m : (ℓ : Loc Cert.KernelIdeal.nD Cert.KernelIdeal.τ Cert.KernelIdeal.sig) → Buf (Elt Ideal) ℓ) : Prop :=
  ∀ c : Dev Cert.KernelIdeal.nD,
    (Cert.Pre_ids_sorted.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_ids_sorted [hPre_ids_sorted : Cert.Pre_ids_sorted.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_ids_sorted.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_KernelIdeal_pre_ids_sorted [hKernelIdeal : Cert.KernelIdeal.Facts] [hPre_ids_sorted : Cert.Pre_ids_sorted.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_ids_sorted m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_ReferenceIdeal_pre_ids_sorted [hReferenceIdeal : Cert.ReferenceIdeal.Facts] [hPre_ids_sorted : Cert.Pre_ids_sorted.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_ids_sorted m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def preserves_Kernel_KernelIdeal : Prop :=
  True

def algebraic_KernelIdeal_ReferenceIdeal_pre_ids_sorted [hKernelIdeal : Cert.KernelIdeal.Facts] [hReferenceIdeal : Cert.ReferenceIdeal.Facts] [hPre_ids_sorted : Cert.Pre_ids_sorted.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_ids_sorted m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v3)) (v1 : (c : Dev Cert.KernelIdeal.nD) → Buf (Elt Ideal) ((c.tc : Thread Cert.KernelIdeal.nD Cert.KernelIdeal.τ).loc Cert.KernelIdeal.main_arg3)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg3) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v19) = v0 c
          ∧ r.2.mem ((c.tc : Thread Cert.ReferenceIdeal.nD Cert.ReferenceIdeal.τ).loc Cert.ReferenceIdeal.main_arg3) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_ids_sorted : Cert.Pre_ids_sorted.Facts),
    quiescent_Kernel (hKernel := hKernel)
    ∧ quiescent_KernelIdeal (hKernelIdeal := hKernelIdeal)
    ∧ quiescent_KernelIdeal_pre_ids_sorted (hKernelIdeal := hKernelIdeal) (hPre_ids_sorted := hPre_ids_sorted)
    ∧ quiescent_ReferenceIdeal (hReferenceIdeal := hReferenceIdeal)
    ∧ quiescent_ReferenceIdeal_pre_ids_sorted (hReferenceIdeal := hReferenceIdeal) (hPre_ids_sorted := hPre_ids_sorted)
    ∧ preserves_Kernel_KernelIdeal
    ∧ algebraic_KernelIdeal_ReferenceIdeal_pre_ids_sorted (hKernelIdeal := hKernelIdeal) (hReferenceIdeal := hReferenceIdeal) (hPre_ids_sorted := hPre_ids_sorted)
-- ==== Pre_ids_sorted.lean ====
abbrev S10000x512 : Shape := ⟨2, ![10000, 512]⟩
abbrev S10000 : Shape := ⟨1, ![10000]⟩
abbrev S1024x512 : Shape := ⟨2, ![1024, 512]⟩
abbrev S512x512 : Shape := ⟨2, ![512, 512]⟩
abbrev S512 : Shape := ⟨1, ![512]⟩
abbrev S9999 : Shape := ⟨1, ![9999]⟩

class Facts : Prop where
  slices_S10000_S9999_0 : S10000.Slices ![0] S9999
  slices_S10000_S9999_1 : S10000.Slices ![1] S9999

variable [Facts]

def fn {F : FTy → Type} [FloatOps F] (main_arg0 : FVec F S10000x512 .f32) (main_arg1 : FVec F S10000 .f32) (main_arg2 : IVec S10000 32) (main_arg3 : FVec F S1024x512 .f32) (main_arg4 : FVec F S512x512 .f32) (main_arg5 : FVec F S512 .f32) (main_arg6 : FVec F S512x512 .f32) (main_arg7 : FVec F S512 .f32) : IVec S9999 1 :=
  let main_v0 : IVec S9999 32 := (extractStridedSlice S9999 ![0] · slices_S10000_S9999_0) main_arg2
  let main_v1 : IVec S9999 32 := (extractStridedSlice S9999 ![1] · slices_S10000_S9999_1) main_arg2
  let main_v2 : IVec S9999 1 := cmpi .sle main_v0 main_v1
  main_v2
-- ==== Kernel.lean ====
abbrev S10000x512 : Shape := ⟨2, ![10000, 512]⟩
abbrev S10000 : Shape := ⟨1, ![10000]⟩
abbrev S1024x512 : Shape := ⟨2, ![1024, 512]⟩
abbrev S512x512 : Shape := ⟨2, ![512, 512]⟩
abbrev S512 : Shape := ⟨1, ![512]⟩
abbrev S64x512 : Shape := ⟨2, ![64, 512]⟩
abbrev S10240 : Shape := ⟨1, ![10240]⟩
abbrev S32x512 : Shape := ⟨2, ![32, 512]⟩
abbrev S_ : Shape := ⟨0, ![]⟩
abbrev S16 : Shape := ⟨1, ![16]⟩
abbrev S1x16 : Shape := ⟨2, ![1, 16]⟩
abbrev S1 : Shape := ⟨1, ![1]⟩
abbrev S16x512 : Shape := ⟨2, ![16, 512]⟩
abbrev S1x512 : Shape := ⟨2, ![1, 512]⟩
abbrev S1x10000 : Shape := ⟨2, ![1, 10000]⟩
abbrev S1x1 : Shape := ⟨2, ![1, 1]⟩

abbrev nBuf : Table → Nat
  | .hbm => 12
  | .local .tc .vmem => 7
  | .local .scVector .vmem => 5
  | _ => 0

abbrev bufTy : (tb : Table) → Fin (nBuf tb) → BufTy
  | .hbm, ⟨0, _⟩ => ⟨S10000x512, .f32⟩
  | .hbm, ⟨1, _⟩ => ⟨S10000, .f32⟩
  | .hbm, ⟨2, _⟩ => ⟨S10000, .i32⟩
  | .hbm, ⟨3, _⟩ => ⟨S1024x512, .f32⟩
  | .hbm, ⟨4, _⟩ => ⟨S512x512, .f32⟩
  | .hbm, ⟨5, _⟩ => ⟨S512, .f32⟩
  | .hbm, ⟨6, _⟩ => ⟨S512x512, .f32⟩
  | .hbm, ⟨7, _⟩ => ⟨S512, .f32⟩
  | .hbm, ⟨8, _⟩ => ⟨S1024x512, .f32⟩
  | .hbm, ⟨9, _⟩ => ⟨S1x512, .f32⟩
  | .hbm, ⟨10, _⟩ => ⟨S1x512, .f32⟩
  | .hbm, ⟨11, _⟩ => ⟨S1024x512, .f32⟩
  | .local .tc .vmem, ⟨0, _⟩ => ⟨S1024x512, .f32⟩
  | .local .tc .vmem, ⟨1, _⟩ => ⟨S10000, .f32⟩
  | .local .tc .vmem, ⟨2, _⟩ => ⟨S512x512, .f32⟩
  | .local .tc .vmem, ⟨3, _⟩ => ⟨S1x512, .f32⟩
  | .local .tc .vmem, ⟨4, _⟩ => ⟨S512x512, .f32⟩
  | .local .tc .vmem, ⟨5, _⟩ => ⟨S1x512, .f32⟩
  | .local .tc .vmem, ⟨6, _⟩ => ⟨S1024x512, .f32⟩
  | .local .scVector .vmem, ⟨0, _⟩ => ⟨S64x512, .f32⟩
  | .local .scVector .vmem, ⟨1, _⟩ => ⟨S64x512, .f32⟩
  | .local .scVector .vmem, ⟨2, _⟩ => ⟨S10240, .i32⟩
  | .local .scVector .vmem, ⟨3, _⟩ => ⟨S10000, .f32⟩
  | .local .scVector .vmem, ⟨4, _⟩ => ⟨S32x512, .f32⟩
  | _, _ => ⟨S10000x512, .f32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 13 → Bool
  | ⟨0, _⟩ => false
  | ⟨1, _⟩ => false
  | ⟨2, _⟩ => false
  | ⟨3, _⟩ => false
  | ⟨4, _⟩ => false
  | ⟨5, _⟩ => false
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTables nBuf rfl bufTy 4 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_arg0_scv : Ref sig .scVector := ⟨.hbm, 0, rfl⟩
abbrev main_arg1_scv : Ref sig .scVector := ⟨.hbm, 1, rfl⟩
abbrev main_arg2_scv : Ref sig .scVector := ⟨.hbm, 2, rfl⟩
abbrev main_v0_scv : Ref sig .scVector := ⟨.hbm, 8, rfl⟩
abbrev cc1_stg0_0 : Ref sig .tc := ⟨.vmem, 0, rfl⟩
abbrev cc1_stg1_0 : Ref sig .tc := ⟨.vmem, 1, rfl⟩
abbrev cc1_stg2_0 : Ref sig .tc := ⟨.vmem, 2, rfl⟩
abbrev cc1_stg3_0 : Ref sig .tc := ⟨.vmem, 3, rfl⟩
abbrev cc1_stg4_0 : Ref sig .tc := ⟨.vmem, 4, rfl⟩
abbrev cc1_stg5_0 : Ref sig .tc := ⟨.vmem, 5, rfl⟩
abbrev cc1_stg6_0 : Ref sig .tc := ⟨.vmem, 6, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc0_scratch3 : Ref sig .scVector := ⟨.vmem, 3, rfl⟩
abbrev cc0_scratch4 : Ref sig .scVector := ⟨.vmem, 4, rfl⟩
abbrev cc1_sem0_0 : DmaSem sig := 6
abbrev cc1_sem1_0 : DmaSem sig := 7
abbrev cc1_sem2_0 : DmaSem sig := 8
abbrev cc1_sem3_0 : DmaSem sig := 9
abbrev cc1_sem4_0 : DmaSem sig := 10
abbrev cc1_sem5_0 : DmaSem sig := 11
abbrev cc1_sem6_0 : DmaSem sig := 12
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

@[reducible] def k0_t1_loop : Scf.Loop 32 :=
  let c0_i32_15 : BitVec 32 := 0#32
  let c32_i32_16 : BitVec 32 := 32#32
  let v64 : BitVec 32 := Scalar.addi c0_i32_15 c32_i32_16
  let c1_i32 : BitVec 32 := 1#32
  ⟨c0_i32_15, v64, c1_i32⟩
def k0_off1 (k0_t1 : Fin k0_t1_loop.trips) : Fin 2 → Nat :=
  let c0_i32_15 : BitVec 32 := 0#32
  let c1_i32 : BitVec 32 := 1#32
  let arg13 : BitVec 32 := Scf.iv c0_i32_15 c1_i32 k0_t1
  let v321 : Index := Scalar.indexCast arg13
  let c0 : Index := 0#32
  ![v321.toNat, 0]
def k0_off2 (k0_t1 : Fin k0_t1_loop.trips) : Fin 2 → Nat :=
  let c0_i32_15 : BitVec 32 := 0#32
  let c1_i32 : BitVec 32 := 1#32
  let arg13 : BitVec 32 := Scf.iv c0_i32_15 c1_i32 k0_t1
  let v326 : Index := Scalar.indexCast arg13
  let c16 : Index := 16#32
  ![v326.toNat, 16]
def k0_off3 (k0_t1 : Fin k0_t1_loop.trips) : Fin 2 → Nat :=
  let c0_i32_15 : BitVec 32 := 0#32
  let c1_i32 : BitVec 32 := 1#32
  let arg13 : BitVec 32 := Scf.iv c0_i32_15 c1_i32 k0_t1
  let v331 : Index := Scalar.indexCast arg13
  let c32 : Index := 32#32
  ![v331.toNat, 32]
def k0_off4 (k0_t1 : Fin k0_t1_loop.trips) : Fin 2 → Nat :=
  let c0_i32_15 : BitVec 32 := 0#32
  let c1_i32 : BitVec 32 := 1#32
  let arg13 : BitVec 32 := Scf.iv c0_i32_15 c1_i32 k0_t1
  let v336 : Index := Scalar.indexCast arg13
  let c48 : Index := 48#32
  ![v336.toNat, 48]
def k0_off5 (k0_t1 : Fin k0_t1_loop.trips) : Fin 2 → Nat :=
  let c0_i32_15 : BitVec 32 := 0#32
  let c1_i32 : BitVec 32 := 1#32
  let arg13 : BitVec 32 := Scf.iv c0_i32_15 c1_i32 k0_t1
  let v341 : Index := Scalar.indexCast arg13
  let c64 : Index := 64#32
  ![v341.toNat, 64]
def k0_off6 (k0_t1 : Fin k0_t1_loop.trips) : Fin 2 → Nat :=
  let c0_i32_15 : BitVec 32 := 0#32
  let c1_i32 : BitVec 32 := 1#32
  let arg13 : BitVec 32 := Scf.iv c0_i32_15 c1_i32 k0_t1
  let v346 : Index := Scalar.indexCast arg13
  let c80 : Index := 80#32
  ![v346.toNat, 80]
def k0_off7 (k0_t1 : Fin k0_t1_loop.trips) : Fin 2 → Nat :=
  let c0_i32_15 : BitVec 32 := 0#32
  let c1_i32 : BitVec 32 := 1#32
  let arg13 : BitVec 32 := Scf.iv c0_i32_15 c1_i32 k0_t1
  let v351 : Index := Scalar.indexCast arg13
  let c96 : Index := 96#32
  ![v351.toNat, 96]
def k0_off8 (k0_t1 : Fin k0_t1_loop.trips) : Fin 2 → Nat :=
  let c0_i32_15 : BitVec 32 := 0#32
  let c1_i32 : BitVec 32 := 1#32
  let arg13 : BitVec 32 := Scf.iv c0_i32_15 c1_i32 k0_t1
  let v356 : Index := Scalar.indexCast arg13
  let c112 : Index := 112#32
  ![v356.toNat, 112]
def k0_off9 (k0_t1 : Fin k0_t1_loop.trips) : Fin 2 → Nat :=
  let c0_i32_15 : BitVec 32 := 0#32
  let c1_i32 : BitVec 32 := 1#32
  let arg13 : BitVec 32 := Scf.iv c0_i32_15 c1_i32 k0_t1
  let v361 : Index := Scalar.indexCast arg13
  let c128 : Index := 128#32
  ![v361.toNat, 128]
def k0_off10 (k0_t1 : Fin k0_t1_loop.trips) : Fin 2 → Nat :=
  let c0_i32_15 : BitVec 32 := 0#32
  let c1_i32 : BitVec 32 := 1#32
  let arg13 : BitVec 32 := Scf.iv c0_i32_15 c1_i32 k0_t1
  let v366 : Index := Scalar.indexCast arg13
  let c144 : Index := 144#32
  ![v366.toNat, 144]
def k0_off11 (k0_t1 : Fin k0_t1_loop.trips) : Fin 2 → Nat :=
  let c0_i32_15 : BitVec 32 := 0#32
  let c1_i32 : BitVec 32 := 1#32
  let arg13 : BitVec 32 := Scf.iv c0_i32_15 c1_i32 k0_t1
  let v371 : Index := Scalar.indexCast arg13
  let c160 : Index := 160#32
  ![v371.toNat, 160]
def k0_off12 (k0_t1 : Fin k0_t1_loop.trips) : Fin 2 → Nat :=
  let c0_i32_15 : BitVec 32 := 0#32
  let c1_i32 : BitVec 32 := 1#32
  let arg13 : BitVec 32 := Scf.iv c0_i32_15 c1_i32 k0_t1
  let v376 : Index := Scalar.indexCast arg13
  let c176 : Index := 176#32
  ![v376.toNat, 176]
def k0_off13 (k0_t1 : Fin k0_t1_loop.trips) : Fin 2 → Nat :=
  let c0_i32_15 : BitVec 32 := 0#32
  let c1_i32 : BitVec 32 := 1#32
  let arg13 : BitVec 32 := Scf.iv c0_i32_15 c1_i32 k0_t1
  let v381 : Index := Scalar.indexCast arg13
  let c192 : Index := 192#32
  ![v381.toNat, 192]
def k0_off14 (k0_t1 : Fin k0_t1_loop.trips) : Fin 2 → Nat :=
  let c0_i32_15 : BitVec 32 := 0#32
  let c1_i32 : BitVec 32 := 1#32
  let arg13 : BitVec 32 := Scf.iv c0_i32_15 c1_i32 k0_t1
  let v386 : Index := Scalar.indexCast arg13
  let c208 : Index := 208#32
  ![v386.toNat, 208]
def k0_off15 (k0_t1 : Fin k0_t1_loop.trips) : Fin 2 → Nat :=
  let c0_i32_15 : BitVec 32 := 0#32
  let c1_i32 : BitVec 32 := 1#32
  let arg13 : BitVec 32 := Scf.iv c0_i32_15 c1_i32 k0_t1
  let v391 : Index := Scalar.indexCast arg13
  let c224 : Index := 224#32
  ![v391.toNat, 224]
def k0_off16 (k0_t1 : Fin k0_t1_loop.trips) : Fin 2 → Nat :=
  let c0_i32_15 : BitVec 32 := 0#32
  let c1_i32 : BitVec 32 := 1#32
  let arg13 : BitVec 32 := Scf.iv c0_i32_15 c1_i32 k0_t1
  let v396 : Index := Scalar.indexCast arg13
  let c240 : Index := 240#32
  ![v396.toNat, 240]
def k0_off17 (k0_t1 : Fin k0_t1_loop.trips) : Fin 2 → Nat :=
  let c0_i32_15 : BitVec 32 := 0#32
  let c1_i32 : BitVec 32 := 1#32
  let arg13 : BitVec 32 := Scf.iv c0_i32_15 c1_i32 k0_t1
  let v401 : Index := Scalar.indexCast arg13
  let c256 : Index := 256#32
  ![v401.toNat, 256]
def k0_off18 (k0_t1 : Fin k0_t1_loop.trips) : Fin 2 → Nat :=
  let c0_i32_15 : BitVec 32 := 0#32
  let c1_i32 : BitVec 32 := 1#32
  let arg13 : BitVec 32 := Scf.iv c0_i32_15 c1_i32 k0_t1
  let v406 : Index := Scalar.indexCast arg13
  let c272 : Index := 272#32
  ![v406.toNat, 272]
def k0_off19 (k0_t1 : Fin k0_t1_loop.trips) : Fin 2 → Nat :=
  let c0_i32_15 : BitVec 32 := 0#32
  let c1_i32 : BitVec 32 := 1#32
  let arg13 : BitVec 32 := Scf.iv c0_i32_15 c1_i32 k0_t1
  let v411 : Index := Scalar.indexCast arg13
  let c288 : Index := 288#32
  ![v411.toNat, 288]
def k0_off20 (k0_t1 : Fin k0_t1_loop.trips) : Fin 2 → Nat :=
  let c0_i32_15 : BitVec 32 := 0#32
  let c1_i32 : BitVec 32 := 1#32
  let arg13 : BitVec 32 := Scf.iv c0_i32_15 c1_i32 k0_t1
  let v416 : Index := Scalar.indexCast arg13
  let c304 : Index := 304#32
  ![v416.toNat, 304]
def k0_off21 (k0_t1 : Fin k0_t1_loop.trips) : Fin 2 → Nat :=
  let c0_i32_15 : BitVec 32 := 0#32
  let c1_i32 : BitVec 32 := 1#32
  let arg13 : BitVec 32 := Scf.iv c0_i32_15 c1_i32 k0_t1
  let v421 : Index := Scalar.indexCast arg13
  let c320 : Index := 320#32
  ![v421.toNat, 320]
def k0_off22 (k0_t1 : Fin k0_t1_loop.trips) : Fin 2 → Nat :=
  let c0_i32_15 : BitVec 32 := 0#32
  let c1_i32 : BitVec 32 := 1#32
  let arg13 : BitVec 32 := Scf.iv c0_i32_15 c1_i32 k0_t1
  let v426 : Index := Scalar.indexCast arg13
  let c336 : Index := 336#32
  ![v426.toNat, 336]
def k0_off23 (k0_t1 : Fin k0_t1_loop.trips) : Fin 2 → Nat :=
  let c0_i32_15 : BitVec 32 := 0#32
  let c1_i32 : BitVec 32 := 1#32
  let arg13 : BitVec 32 := Scf.iv c0_i32_15 c1_i32 k0_t1
  let v431 : Index := Scalar.indexCast arg13
  let c352 : Index := 352#32
  ![v431.toNat, 352]
def k0_off24 (k0_t1 : Fin k0_t1_loop.trips) : Fin 2 → Nat :=
  let c0_i32_15 : BitVec 32 := 0#32
  let c1_i32 : BitVec 32 := 1#32
  let arg13 : BitVec 32 := Scf.iv c0_i32_15 c1_i32 k0_t1
  let v436 : Index := Scalar.indexCast arg13
  let c368 : Index := 368#32
  ![v436.toNat, 368]
def k0_off25 (k0_t1 : Fin k0_t1_loop.trips) : Fin 2 → Nat :=
  let c0_i32_15 : BitVec 32 := 0#32
  let c1_i32 : BitVec 32 := 1#32
  let arg13 : BitVec 32 := Scf.iv c0_i32_15 c1_i32 k0_t1
  let v441 : Index := Scalar.indexCast arg13
  let c384 : Index := 384#32
  ![v441.toNat, 384]
def k0_off26 (k0_t1 : Fin k0_t1_loop.trips) : Fin 2 → Nat :=
  let c0_i32_15 : BitVec 32 := 0#32
  let c1_i32 : BitVec 32 := 1#32
  let arg13 : BitVec 32 := Scf.iv c0_i32_15 c1_i32 k0_t1
  let v446 : Index := Scalar.indexCast arg13
  let c400 : Index := 400#32
  ![v446.toNat, 400]
def k0_off27 (k0_t1 : Fin k0_t1_loop.trips) : Fin 2 → Nat :=
  let c0_i32_15 : BitVec 32 := 0#32
  let c1_i32 : BitVec 32 := 1#32
  let arg13 : BitVec 32 := Scf.iv c0_i32_15 c1_i32 k0_t1
  let v451 : Index := Scalar.indexCast arg13
  let c416 : Index := 416#32
  ![v451.toNat, 416]
def k0_off28 (k0_t1 : Fin k0_t1_loop.trips) : Fin 2 → Nat :=
  let c0_i32_15 : BitVec 32 := 0#32
  let c1_i32 : BitVec 32 := 1#32
  let arg13 : BitVec 32 := Scf.iv c0_i32_15 c1_i32 k0_t1
  let v456 : Index := Scalar.indexCast arg13
  let c432 : Index := 432#32
  ![v456.toNat, 432]
def k0_off29 (k0_t1 : Fin k0_t1_loop.trips) : Fin 2 → Nat :=
  let c0_i32_15 : BitVec 32 := 0#32
  let c1_i32 : BitVec 32 := 1#32
  let arg13 : BitVec 32 := Scf.iv c0_i32_15 c1_i32 k0_t1
  let v461 : Index := Scalar.indexCast arg13
  let c448 : Index := 448#32
  ![v461.toNat, 448]
def k0_off30 (k0_t1 : Fin k0_t1_loop.trips) : Fin 2 → Nat :=
  let c0_i32_15 : BitVec 32 := 0#32
  let c1_i32 : BitVec 32 := 1#32
  let arg13 : BitVec 32 := Scf.iv c0_i32_15 c1_i32 k0_t1
  let v466 : Index := Scalar.indexCast arg13
  let c464 : Index := 464#32
  ![v466.toNat, 464]
def k0_off31 (k0_t1 : Fin k0_t1_loop.trips) : Fin 2 → Nat :=
  let c0_i32_15 : BitVec 32 := 0#32
  let c1_i32 : BitVec 32 := 1#32
  let arg13 : BitVec 32 := Scf.iv c0_i32_15 c1_i32 k0_t1
  let v471 : Index := Scalar.indexCast arg13
  let c480 : Index := 480#32
  ![v471.toNat, 480]
def k0_off32 (k0_t1 : Fin k0_t1_loop.trips) : Fin 2 → Nat :=
  let c0_i32_15 : BitVec 32 := 0#32
  let c1_i32 : BitVec 32 := 1#32
  let arg13 : BitVec 32 := Scf.iv c0_i32_15 c1_i32 k0_t1
  let v476 : Index := Scalar.indexCast arg13
  let c496 : Index := 496#32
  ![v476.toNat, 496]
@[reducible] def k0_t2_loop : Scf.Loop 32 :=
  let c0_i32_19 : BitVec 32 := 0#32
  let c10_i32 : BitVec 32 := 10#32
  let v65 : BitVec 32 := Scalar.addi c0_i32_19 c10_i32
  let c1_i32_20 : BitVec 32 := 1#32
  ⟨c0_i32_19, v65, c1_i32_20⟩
def k0_off33 (arg14 : BitVec 32) (arg15 : BitVec 32) : Fin 1 → Nat :=
  let v320 : BitVec 32 := Scalar.addi arg14 arg15
  let c0_i32_140 : BitVec 32 := 0#32
  let v322 : BitVec 1 := Scalar.cmpi .sgt v320 c0_i32_140
  let v323 : BitVec 32 := Scalar.extui v322
  let c0_i32_141 : BitVec 32 := 0#32
  let v324 : BitVec 1 := Scalar.cmpi .slt v320 c0_i32_141
  let v325 : BitVec 32 := Scalar.extui v324
  let v326 : BitVec 32 := Scalar.subi v323 v325
  let c2_i32_139 : BitVec 32 := 2#32
  let c0_i32_142 : BitVec 32 := 0#32
  let v327 : BitVec 1 := Scalar.cmpi .sgt c2_i32_139 c0_i32_142
  let v328 : BitVec 32 := Scalar.extui v327
  let c0_i32_143 : BitVec 32 := 0#32
  let v329 : BitVec 1 := Scalar.cmpi .slt c2_i32_139 c0_i32_143
  let v330 : BitVec 32 := Scalar.extui v329
  let v331 : BitVec 32 := Scalar.subi v328 v330
  let v332 : BitVec 1 := Scalar.cmpi .ne v326 v331
  let v333 : BitVec 32 := Scalar.remsi v320 c2_i32_139
  let c0_i32_144 : BitVec 32 := 0#32
  let v334 : BitVec 1 := Scalar.cmpi .ne v333 c0_i32_144
  let v335 : BitVec 1 := Scalar.andi v332 v334
  let v321 : BitVec 32 := Scalar.divsi v320 c2_i32_139
  let c1_i32_145 : BitVec 32 := 1#32
  let v336 : BitVec 32 := Scalar.subi v321 c1_i32_145
  let v337 : BitVec 32 := Scalar.select v335 v336 v321
  let c16_i32_146 : BitVec 32 := 16#32
  let v338 : BitVec 32 := Scalar.muli v337 c16_i32_146
  let v339 : Index := Scalar.indexCast v338
  ![v339.toNat]

def k0_chk1 (arg14 : BitVec 32) (arg15 : BitVec 32) : Prop :=
  (∀ a, (k0_off33 arg14 arg15) a + S16.size a ≤ S10240.size a)
theorem k0_off33_inb : ∀ (arg14 : BitVec 32) (arg15 : BitVec 32) (k0_hw1 : k0_chk1 arg14 arg15), ∀ a, (k0_off33 arg14 arg15) a + S16.size a ≤ S10240.size a := fun arg14 arg15 k0_hw1 => k0_hw1

def k0_off34 (v66_0 : BitVec 32) : Fin 1 → Nat :=
  let c1_i32_22 : BitVec 32 := 1#32
  let v67 : BitVec 32 := Scalar.subi v66_0 c1_i32_22
  let c0_i32_23 : BitVec 32 := 0#32
  let v68 : BitVec 32 := Scalar.maxsi v67 c0_i32_23
  let c16_i32 : BitVec 32 := 16#32
  let v69 : BitVec 32 := Scalar.muli v68 c16_i32
  let v70 : Index := Scalar.indexCast v69
  ![v70.toNat]

def k0_chk2 (v66_0 : BitVec 32) : Prop :=
  (∀ a, (k0_off34 v66_0) a + S16.size a ≤ S10240.size a)
theorem k0_off34_inb : ∀ (v66_0 : BitVec 32) (k0_hw2 : k0_chk2 v66_0), ∀ a, (k0_off34 v66_0) a + S16.size a ≤ S10240.size a := fun v66_0 k0_hw2 => k0_hw2

@[reducible] def k0_t3_loop : Scf.Loop 32 :=
  let c0_i32_62 : BitVec 32 := 0#32
  let c10_i32_63 : BitVec 32 := 10#32
  let v157 : BitVec 32 := Scalar.addi c0_i32_62 c10_i32_63
  let c1_i32_64 : BitVec 32 := 1#32
  ⟨c0_i32_62, v157, c1_i32_64⟩
def k0_off35 (arg14 : BitVec 32) (arg15 : BitVec 32) : Fin 1 → Nat :=
  let v320 : BitVec 32 := Scalar.addi arg14 arg15
  let c0_i32_140 : BitVec 32 := 0#32
  let v322 : BitVec 1 := Scalar.cmpi .sgt v320 c0_i32_140
  let v323 : BitVec 32 := Scalar.extui v322
  let c0_i32_141 : BitVec 32 := 0#32
  let v324 : BitVec 1 := Scalar.cmpi .slt v320 c0_i32_141
  let v325 : BitVec 32 := Scalar.extui v324
  let v326 : BitVec 32 := Scalar.subi v323 v325
  let c2_i32_139 : BitVec 32 := 2#32
  let c0_i32_142 : BitVec 32 := 0#32
  let v327 : BitVec 1 := Scalar.cmpi .sgt c2_i32_139 c0_i32_142
  let v328 : BitVec 32 := Scalar.extui v327
  let c0_i32_143 : BitVec 32 := 0#32
  let v329 : BitVec 1 := Scalar.cmpi .slt c2_i32_139 c0_i32_143
  let v330 : BitVec 32 := Scalar.extui v329
  let v331 : BitVec 32 := Scalar.subi v328 v330
  let v332 : BitVec 1 := Scalar.cmpi .ne v326 v331
  let v333 : BitVec 32 := Scalar.remsi v320 c2_i32_139
  let c0_i32_144 : BitVec 32 := 0#32
  let v334 : BitVec 1 := Scalar.cmpi .ne v333 c0_i32_144
  let v335 : BitVec 1 := Scalar.andi v332 v334
  let v321 : BitVec 32 := Scalar.divsi v320 c2_i32_139
  let c1_i32_145 : BitVec 32 := 1#32
  let v336 : BitVec 32 := Scalar.subi v321 c1_i32_145
  let v337 : BitVec 32 := Scalar.select v335 v336 v321
  let c16_i32_146 : BitVec 32 := 16#32
  let v338 : BitVec 32 := Scalar.muli v337 c16_i32_146
  let v339 : Index := Scalar.indexCast v338
  ![v339.toNat]

def k0_chk3 (arg14 : BitVec 32) (arg15 : BitVec 32) : Prop :=
  (∀ a, (k0_off35 arg14 arg15) a + S16.size a ≤ S10240.size a)
theorem k0_off35_inb : ∀ (arg14 : BitVec 32) (arg15 : BitVec 32) (k0_hw3 : k0_chk3 arg14 arg15), ∀ a, (k0_off35 arg14 arg15) a + S16.size a ≤ S10240.size a := fun arg14 arg15 k0_hw3 => k0_hw3

def k0_off36 (v158_0 : BitVec 32) : Fin 1 → Nat :=
  let c1_i32_66 : BitVec 32 := 1#32
  let v159 : BitVec 32 := Scalar.subi v158_0 c1_i32_66
  let c0_i32_67 : BitVec 32 := 0#32
  let v160 : BitVec 32 := Scalar.maxsi v159 c0_i32_67
  let c16_i32_68 : BitVec 32 := 16#32
  let v161 : BitVec 32 := Scalar.muli v160 c16_i32_68
  let v162 : Index := Scalar.indexCast v161
  ![v162.toNat]

def k0_chk4 (v158_0 : BitVec 32) : Prop :=
  (∀ a, (k0_off36 v158_0) a + S16.size a ≤ S10240.size a)
theorem k0_off36_inb : ∀ (v158_0 : BitVec 32) (k0_hw4 : k0_chk4 v158_0), ∀ a, (k0_off36 v158_0) a + S16.size a ≤ S10240.size a := fun v158_0 k0_hw4 => k0_hw4

def k0_off37 (i : grid0.Coords) (v66_0 : BitVec 32) (v74 : BitVec 32) (v79 : BitVec 32) (v84 : BitVec 32) (v89 : BitVec 32) (v94 : BitVec 32) (v99 : BitVec 32) (v104 : BitVec 32) (v109 : BitVec 32) (v114 : BitVec 32) (v119 : BitVec 32) (v124 : BitVec 32) (v129 : BitVec 32) (v134 : BitVec 32) (v139 : BitVec 32) (v144 : BitVec 32) (v149 : BitVec 32) : Fin 2 → Nat :=
  let c0_i32_57 : BitVec 32 := 0#32
  let v153 : BitVec 1 := Scalar.cmpi .eq v66_0 c0_i32_57
  let c0_i32_59 : BitVec 32 := 0#32
  let c1_i32_22 : BitVec 32 := 1#32
  let v67 : BitVec 32 := Scalar.subi v66_0 c1_i32_22
  let c0_i32_23 : BitVec 32 := 0#32
  let v68 : BitVec 32 := Scalar.maxsi v67 c0_i32_23
  let c16_i32_58 : BitVec 32 := 16#32
  let v154 : BitVec 32 := Scalar.muli v68 c16_i32_58
  let c0_i32_26 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let v75 : BitVec 1 := Scalar.cmpi .slt v74 v2
  let c1_i32_24 : BitVec 32 := 1#32
  let c0_i32_25 : BitVec 32 := 0#32
  let v76 : BitVec 32 := Scalar.select v75 c1_i32_24 c0_i32_25
  let v77 : BitVec 32 := Scalar.addi c0_i32_26 v76
  let v80 : BitVec 1 := Scalar.cmpi .slt v79 v2
  let c1_i32_27 : BitVec 32 := 1#32
  let c0_i32_28 : BitVec 32 := 0#32
  let v81 : BitVec 32 := Scalar.select v80 c1_i32_27 c0_i32_28
  let v82 : BitVec 32 := Scalar.addi v77 v81
  let v85 : BitVec 1 := Scalar.cmpi .slt v84 v2
  let c1_i32_29 : BitVec 32 := 1#32
  let c0_i32_30 : BitVec 32 := 0#32
  let v86 : BitVec 32 := Scalar.select v85 c1_i32_29 c0_i32_30
  let v87 : BitVec 32 := Scalar.addi v82 v86
  let v90 : BitVec 1 := Scalar.cmpi .slt v89 v2
  let c1_i32_31 : BitVec 32 := 1#32
  let c0_i32_32 : BitVec 32 := 0#32
  let v91 : BitVec 32 := Scalar.select v90 c1_i32_31 c0_i32_32
  let v92 : BitVec 32 := Scalar.addi v87 v91
  let v95 : BitVec 1 := Scalar.cmpi .slt v94 v2
  let c1_i32_33 : BitVec 32 := 1#32
  let c0_i32_34 : BitVec 32 := 0#32
  let v96 : BitVec 32 := Scalar.select v95 c1_i32_33 c0_i32_34
  let v97 : BitVec 32 := Scalar.addi v92 v96
  let v100 : BitVec 1 := Scalar.cmpi .slt v99 v2
  let c1_i32_35 : BitVec 32 := 1#32
  let c0_i32_36 : BitVec 32 := 0#32
  let v101 : BitVec 32 := Scalar.select v100 c1_i32_35 c0_i32_36
  let v102 : BitVec 32 := Scalar.addi v97 v101
  let v105 : BitVec 1 := Scalar.cmpi .slt v104 v2
  let c1_i32_37 : BitVec 32 := 1#32
  let c0_i32_38 : BitVec 32 := 0#32
  let v106 : BitVec 32 := Scalar.select v105 c1_i32_37 c0_i32_38
  let v107 : BitVec 32 := Scalar.addi v102 v106
  let v110 : BitVec 1 := Scalar.cmpi .slt v109 v2
  let c1_i32_39 : BitVec 32 := 1#32
  let c0_i32_40 : BitVec 32 := 0#32
  let v111 : BitVec 32 := Scalar.select v110 c1_i32_39 c0_i32_40
  let v112 : BitVec 32 := Scalar.addi v107 v111
  let v115 : BitVec 1 := Scalar.cmpi .slt v114 v2
  let c1_i32_41 : BitVec 32 := 1#32
  let c0_i32_42 : BitVec 32 := 0#32
  let v116 : BitVec 32 := Scalar.select v115 c1_i32_41 c0_i32_42
  let v117 : BitVec 32 := Scalar.addi v112 v116
  let v120 : BitVec 1 := Scalar.cmpi .slt v119 v2
  let c1_i32_43 : BitVec 32 := 1#32
  let c0_i32_44 : BitVec 32 := 0#32
  let v121 : BitVec 32 := Scalar.select v120 c1_i32_43 c0_i32_44
  let v122 : BitVec 32 := Scalar.addi v117 v121
  let v125 : BitVec 1 := Scalar.cmpi .slt v124 v2
  let c1_i32_45 : BitVec 32 := 1#32
  let c0_i32_46 : BitVec 32 := 0#32
  let v126 : BitVec 32 := Scalar.select v125 c1_i32_45 c0_i32_46
  let v127 : BitVec 32 := Scalar.addi v122 v126
  let v130 : BitVec 1 := Scalar.cmpi .slt v129 v2
  let c1_i32_47 : BitVec 32 := 1#32
  let c0_i32_48 : BitVec 32 := 0#32
  let v131 : BitVec 32 := Scalar.select v130 c1_i32_47 c0_i32_48
  let v132 : BitVec 32 := Scalar.addi v127 v131
  let v135 : BitVec 1 := Scalar.cmpi .slt v134 v2
  let c1_i32_49 : BitVec 32 := 1#32
  let c0_i32_50 : BitVec 32 := 0#32
  let v136 : BitVec 32 := Scalar.select v135 c1_i32_49 c0_i32_50
  let v137 : BitVec 32 := Scalar.addi v132 v136
  let v140 : BitVec 1 := Scalar.cmpi .slt v139 v2
  let c1_i32_51 : BitVec 32 := 1#32
  let c0_i32_52 : BitVec 32 := 0#32
  let v141 : BitVec 32 := Scalar.select v140 c1_i32_51 c0_i32_52
  let v142 : BitVec 32 := Scalar.addi v137 v141
  let v145 : BitVec 1 := Scalar.cmpi .slt v144 v2
  let c1_i32_53 : BitVec 32 := 1#32
  let c0_i32_54 : BitVec 32 := 0#32
  let v146 : BitVec 32 := Scalar.select v145 c1_i32_53 c0_i32_54
  let v147 : BitVec 32 := Scalar.addi v142 v146
  let v150 : BitVec 1 := Scalar.cmpi .slt v149 v2
  let c1_i32_55 : BitVec 32 := 1#32
  let c0_i32_56 : BitVec 32 := 0#32
  let v151 : BitVec 32 := Scalar.select v150 c1_i32_55 c0_i32_56
  let v152 : BitVec 32 := Scalar.addi v147 v151
  let v155 : BitVec 32 := Scalar.addi v154 v152
  let v156 : BitVec 32 := Scalar.select v153 c0_i32_59 v155
  let c0_i32_105 : BitVec 32 := 0#32
  let v250 : BitVec 1 := Scalar.cmpi .sgt v156 c0_i32_105
  let v251 : BitVec 32 := Scalar.extui v250
  let c0_i32_106 : BitVec 32 := 0#32
  let v252 : BitVec 1 := Scalar.cmpi .slt v156 c0_i32_106
  let v253 : BitVec 32 := Scalar.extui v252
  let v254 : BitVec 32 := Scalar.subi v251 v253
  let c64_i32 : BitVec 32 := 64#32
  let c0_i32_107 : BitVec 32 := 0#32
  let v255 : BitVec 1 := Scalar.cmpi .sgt c64_i32 c0_i32_107
  let v256 : BitVec 32 := Scalar.extui v255
  let c0_i32_108 : BitVec 32 := 0#32
  let v257 : BitVec 1 := Scalar.cmpi .slt c64_i32 c0_i32_108
  let v258 : BitVec 32 := Scalar.extui v257
  let v259 : BitVec 32 := Scalar.subi v256 v258
  let v260 : BitVec 1 := Scalar.cmpi .ne v254 v259
  let v261 : BitVec 32 := Scalar.remsi v156 c64_i32
  let c0_i32_109 : BitVec 32 := 0#32
  let v262 : BitVec 1 := Scalar.cmpi .ne v261 c0_i32_109
  let v263 : BitVec 1 := Scalar.andi v260 v262
  let v249 : BitVec 32 := Scalar.divsi v156 c64_i32
  let c1_i32_110 : BitVec 32 := 1#32
  let v264 : BitVec 32 := Scalar.subi v249 c1_i32_110
  let v265 : BitVec 32 := Scalar.select v263 v264 v249
  let c0_i32_139 : BitVec 32 := 0#32
  let v320 : BitVec 32 := Scalar.addi v265 c0_i32_139
  let c64_i32_140 : BitVec 32 := 64#32
  let v321 : BitVec 32 := Scalar.muli v320 c64_i32_140
  let c0_i32_141 : BitVec 32 := 0#32
  ![v321.toNat, 0]
def k0_cond1 (i : grid0.Coords) (v66_0 : BitVec 32) (v74 : BitVec 32) (v79 : BitVec 32) (v84 : BitVec 32) (v89 : BitVec 32) (v94 : BitVec 32) (v99 : BitVec 32) (v104 : BitVec 32) (v109 : BitVec 32) (v114 : BitVec 32) (v119 : BitVec 32) (v124 : BitVec 32) (v129 : BitVec 32) (v134 : BitVec 32) (v139 : BitVec 32) (v144 : BitVec 32) (v149 : BitVec 32) (v158_0 : BitVec 32) (v166 : BitVec 32) (v171 : BitVec 32) (v176 : BitVec 32) (v181 : BitVec 32) (v186 : BitVec 32) (v191 : BitVec 32) (v196 : BitVec 32) (v201 : BitVec 32) (v206 : BitVec 32) (v211 : BitVec 32) (v216 : BitVec 32) (v221 : BitVec 32) (v226 : BitVec 32) (v231 : BitVec 32) (v236 : BitVec 32) (v241 : BitVec 32) : BitVec 1 :=
  let c0_i32_102 : BitVec 32 := 0#32
  let v245 : BitVec 1 := Scalar.cmpi .eq v158_0 c0_i32_102
  let c0_i32_104 : BitVec 32 := 0#32
  let c1_i32_66 : BitVec 32 := 1#32
  let v159 : BitVec 32 := Scalar.subi v158_0 c1_i32_66
  let c0_i32_67 : BitVec 32 := 0#32
  let v160 : BitVec 32 := Scalar.maxsi v159 c0_i32_67
  let c16_i32_103 : BitVec 32 := 16#32
  let v246 : BitVec 32 := Scalar.muli v160 c16_i32_103
  let c0_i32_71 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let c32_i32_0 : BitVec 32 := 32#32
  let v3 : BitVec 32 := Scalar.addi v2 c32_i32_0
  let v167 : BitVec 1 := Scalar.cmpi .slt v166 v3
  let c1_i32_69 : BitVec 32 := 1#32
  let c0_i32_70 : BitVec 32 := 0#32
  let v168 : BitVec 32 := Scalar.select v167 c1_i32_69 c0_i32_70
  let v169 : BitVec 32 := Scalar.addi c0_i32_71 v168
  let v172 : BitVec 1 := Scalar.cmpi .slt v171 v3
  let c1_i32_72 : BitVec 32 := 1#32
  let c0_i32_73 : BitVec 32 := 0#32
  let v173 : BitVec 32 := Scalar.select v172 c1_i32_72 c0_i32_73
  let v174 : BitVec 32 := Scalar.addi v169 v173
  let v177 : BitVec 1 := Scalar.cmpi .slt v176 v3
  let c1_i32_74 : BitVec 32 := 1#32
  let c0_i32_75 : BitVec 32 := 0#32
  let v178 : BitVec 32 := Scalar.select v177 c1_i32_74 c0_i32_75
  let v179 : BitVec 32 := Scalar.addi v174 v178
  let v182 : BitVec 1 := Scalar.cmpi .slt v181 v3
  let c1_i32_76 : BitVec 32 := 1#32
  let c0_i32_77 : BitVec 32 := 0#32
  let v183 : BitVec 32 := Scalar.select v182 c1_i32_76 c0_i32_77
  let v184 : BitVec 32 := Scalar.addi v179 v183
  let v187 : BitVec 1 := Scalar.cmpi .slt v186 v3
  let c1_i32_78 : BitVec 32 := 1#32
  let c0_i32_79 : BitVec 32 := 0#32
  let v188 : BitVec 32 := Scalar.select v187 c1_i32_78 c0_i32_79
  let v189 : BitVec 32 := Scalar.addi v184 v188
  let v192 : BitVec 1 := Scalar.cmpi .slt v191 v3
  let c1_i32_80 : BitVec 32 := 1#32
  let c0_i32_81 : BitVec 32 := 0#32
  let v193 : BitVec 32 := Scalar.select v192 c1_i32_80 c0_i32_81
  let v194 : BitVec 32 := Scalar.addi v189 v193
  let v197 : BitVec 1 := Scalar.cmpi .slt v196 v3
  let c1_i32_82 : BitVec 32 := 1#32
  let c0_i32_83 : BitVec 32 := 0#32
  let v198 : BitVec 32 := Scalar.select v197 c1_i32_82 c0_i32_83
  let v199 : BitVec 32 := Scalar.addi v194 v198
  let v202 : BitVec 1 := Scalar.cmpi .slt v201 v3
  let c1_i32_84 : BitVec 32 := 1#32
  let c0_i32_85 : BitVec 32 := 0#32
  let v203 : BitVec 32 := Scalar.select v202 c1_i32_84 c0_i32_85
  let v204 : BitVec 32 := Scalar.addi v199 v203
  let v207 : BitVec 1 := Scalar.cmpi .slt v206 v3
  let c1_i32_86 : BitVec 32 := 1#32
  let c0_i32_87 : BitVec 32 := 0#32
  let v208 : BitVec 32 := Scalar.select v207 c1_i32_86 c0_i32_87
  let v209 : BitVec 32 := Scalar.addi v204 v208
  let v212 : BitVec 1 := Scalar.cmpi .slt v211 v3
  let c1_i32_88 : BitVec 32 := 1#32
  let c0_i32_89 : BitVec 32 := 0#32
  let v213 : BitVec 32 := Scalar.select v212 c1_i32_88 c0_i32_89
  let v214 : BitVec 32 := Scalar.addi v209 v213
  let v217 : BitVec 1 := Scalar.cmpi .slt v216 v3
  let c1_i32_90 : BitVec 32 := 1#32
  let c0_i32_91 : BitVec 32 := 0#32
  let v218 : BitVec 32 := Scalar.select v217 c1_i32_90 c0_i32_91
  let v219 : BitVec 32 := Scalar.addi v214 v218
  let v222 : BitVec 1 := Scalar.cmpi .slt v221 v3
  let c1_i32_92 : BitVec 32 := 1#32
  let c0_i32_93 : BitVec 32 := 0#32
  let v223 : BitVec 32 := Scalar.select v222 c1_i32_92 c0_i32_93
  let v224 : BitVec 32 := Scalar.addi v219 v223
  let v227 : BitVec 1 := Scalar.cmpi .slt v226 v3
  let c1_i32_94 : BitVec 32 := 1#32
  let c0_i32_95 : BitVec 32 := 0#32
  let v228 : BitVec 32 := Scalar.select v227 c1_i32_94 c0_i32_95
  let v229 : BitVec 32 := Scalar.addi v224 v228
  let v232 : BitVec 1 := Scalar.cmpi .slt v231 v3
  let c1_i32_96 : BitVec 32 := 1#32
  let c0_i32_97 : BitVec 32 := 0#32
  let v233 : BitVec 32 := Scalar.select v232 c1_i32_96 c0_i32_97
  let v234 : BitVec 32 := Scalar.addi v229 v233
  let v237 : BitVec 1 := Scalar.cmpi .slt v236 v3
  let c1_i32_98 : BitVec 32 := 1#32
  let c0_i32_99 : BitVec 32 := 0#32
  let v238 : BitVec 32 := Scalar.select v237 c1_i32_98 c0_i32_99
  let v239 : BitVec 32 := Scalar.addi v234 v238
  let v242 : BitVec 1 := Scalar.cmpi .slt v241 v3
  let c1_i32_100 : BitVec 32 := 1#32
  let c0_i32_101 : BitVec 32 := 0#32
  let v243 : BitVec 32 := Scalar.select v242 c1_i32_100 c0_i32_101
  let v244 : BitVec 32 := Scalar.addi v239 v243
  let v247 : BitVec 32 := Scalar.addi v246 v244
  let v248 : BitVec 32 := Scalar.select v245 c0_i32_104 v247
  let c64_i32_111 : BitVec 32 := 64#32
  let v266 : BitVec 32 := Scalar.addi v248 c64_i32_111
  let c1_i32_112 : BitVec 32 := 1#32
  let v267 : BitVec 32 := Scalar.subi v266 c1_i32_112
  let c0_i32_114 : BitVec 32 := 0#32
  let v269 : BitVec 1 := Scalar.cmpi .sgt v267 c0_i32_114
  let v270 : BitVec 32 := Scalar.extui v269
  let c0_i32_115 : BitVec 32 := 0#32
  let v271 : BitVec 1 := Scalar.cmpi .slt v267 c0_i32_115
  let v272 : BitVec 32 := Scalar.extui v271
  let v273 : BitVec 32 := Scalar.subi v270 v272
  let c64_i32_113 : BitVec 32 := 64#32
  let c0_i32_116 : BitVec 32 := 0#32
  let v274 : BitVec 1 := Scalar.cmpi .sgt c64_i32_113 c0_i32_116
  let v275 : BitVec 32 := Scalar.extui v274
  let c0_i32_117 : BitVec 32 := 0#32
  let v276 : BitVec 1 := Scalar.cmpi .slt c64_i32_113 c0_i32_117
  let v277 : BitVec 32 := Scalar.extui v276
  let v278 : BitVec 32 := Scalar.subi v275 v277
  let v279 : BitVec 1 := Scalar.cmpi .ne v273 v278
  let v280 : BitVec 32 := Scalar.remsi v267 c64_i32_113
  let c0_i32_118 : BitVec 32 := 0#32
  let v281 : BitVec 1 := Scalar.cmpi .ne v280 c0_i32_118
  let v282 : BitVec 1 := Scalar.andi v279 v281
  let v268 : BitVec 32 := Scalar.divsi v267 c64_i32_113
  let c1_i32_119 : BitVec 32 := 1#32
  let v283 : BitVec 32 := Scalar.subi v268 c1_i32_119
  let v284 : BitVec 32 := Scalar.select v282 v283 v268
  let c156_i32 : BitVec 32 := 156#32
  let v285 : BitVec 32 := Scalar.minsi v284 c156_i32
  let c0_i32_57 : BitVec 32 := 0#32
  let v153 : BitVec 1 := Scalar.cmpi .eq v66_0 c0_i32_57
  let c0_i32_59 : BitVec 32 := 0#32
  let c1_i32_22 : BitVec 32 := 1#32
  let v67 : BitVec 32 := Scalar.subi v66_0 c1_i32_22
  let c0_i32_23 : BitVec 32 := 0#32
  let v68 : BitVec 32 := Scalar.maxsi v67 c0_i32_23
  let c16_i32_58 : BitVec 32 := 16#32
  let v154 : BitVec 32 := Scalar.muli v68 c16_i32_58
  let c0_i32_26 : BitVec 32 := 0#32
  let v75 : BitVec 1 := Scalar.cmpi .slt v74 v2
  let c1_i32_24 : BitVec 32 := 1#32
  let c0_i32_25 : BitVec 32 := 0#32
  let v76 : BitVec 32 := Scalar.select v75 c1_i32_24 c0_i32_25
  let v77 : BitVec 32 := Scalar.addi c0_i32_26 v76
  let v80 : BitVec 1 := Scalar.cmpi .slt v79 v2
  let c1_i32_27 : BitVec 32 := 1#32
  let c0_i32_28 : BitVec 32 := 0#32
  let v81 : BitVec 32 := Scalar.select v80 c1_i32_27 c0_i32_28
  let v82 : BitVec 32 := Scalar.addi v77 v81
  let v85 : BitVec 1 := Scalar.cmpi .slt v84 v2
  let c1_i32_29 : BitVec 32 := 1#32
  let c0_i32_30 : BitVec 32 := 0#32
  let v86 : BitVec 32 := Scalar.select v85 c1_i32_29 c0_i32_30
  let v87 : BitVec 32 := Scalar.addi v82 v86
  let v90 : BitVec 1 := Scalar.cmpi .slt v89 v2
  let c1_i32_31 : BitVec 32 := 1#32
  let c0_i32_32 : BitVec 32 := 0#32
  let v91 : BitVec 32 := Scalar.select v90 c1_i32_31 c0_i32_32
  let v92 : BitVec 32 := Scalar.addi v87 v91
  let v95 : BitVec 1 := Scalar.cmpi .slt v94 v2
  let c1_i32_33 : BitVec 32 := 1#32
  let c0_i32_34 : BitVec 32 := 0#32
  let v96 : BitVec 32 := Scalar.select v95 c1_i32_33 c0_i32_34
  let v97 : BitVec 32 := Scalar.addi v92 v96
  let v100 : BitVec 1 := Scalar.cmpi .slt v99 v2
  let c1_i32_35 : BitVec 32 := 1#32
  let c0_i32_36 : BitVec 32 := 0#32
  let v101 : BitVec 32 := Scalar.select v100 c1_i32_35 c0_i32_36
  let v102 : BitVec 32 := Scalar.addi v97 v101
  let v105 : BitVec 1 := Scalar.cmpi .slt v104 v2
  let c1_i32_37 : BitVec 32 := 1#32
  let c0_i32_38 : BitVec 32 := 0#32
  let v106 : BitVec 32 := Scalar.select v105 c1_i32_37 c0_i32_38
  let v107 : BitVec 32 := Scalar.addi v102 v106
  let v110 : BitVec 1 := Scalar.cmpi .slt v109 v2
  let c1_i32_39 : BitVec 32 := 1#32
  let c0_i32_40 : BitVec 32 := 0#32
  let v111 : BitVec 32 := Scalar.select v110 c1_i32_39 c0_i32_40
  let v112 : BitVec 32 := Scalar.addi v107 v111
  let v115 : BitVec 1 := Scalar.cmpi .slt v114 v2
  let c1_i32_41 : BitVec 32 := 1#32
  let c0_i32_42 : BitVec 32 := 0#32
  let v116 : BitVec 32 := Scalar.select v115 c1_i32_41 c0_i32_42
  let v117 : BitVec 32 := Scalar.addi v112 v116
  let v120 : BitVec 1 := Scalar.cmpi .slt v119 v2
  let c1_i32_43 : BitVec 32 := 1#32
  let c0_i32_44 : BitVec 32 := 0#32
  let v121 : BitVec 32 := Scalar.select v120 c1_i32_43 c0_i32_44
  let v122 : BitVec 32 := Scalar.addi v117 v121
  let v125 : BitVec 1 := Scalar.cmpi .slt v124 v2
  let c1_i32_45 : BitVec 32 := 1#32
  let c0_i32_46 : BitVec 32 := 0#32
  let v126 : BitVec 32 := Scalar.select v125 c1_i32_45 c0_i32_46
  let v127 : BitVec 32 := Scalar.addi v122 v126
  let v130 : BitVec 1 := Scalar.cmpi .slt v129 v2
  let c1_i32_47 : BitVec 32 := 1#32
  let c0_i32_48 : BitVec 32 := 0#32
  let v131 : BitVec 32 := Scalar.select v130 c1_i32_47 c0_i32_48
  let v132 : BitVec 32 := Scalar.addi v127 v131
  let v135 : BitVec 1 := Scalar.cmpi .slt v134 v2
  let c1_i32_49 : BitVec 32 := 1#32
  let c0_i32_50 : BitVec 32 := 0#32
  let v136 : BitVec 32 := Scalar.select v135 c1_i32_49 c0_i32_50
  let v137 : BitVec 32 := Scalar.addi v132 v136
  let v140 : BitVec 1 := Scalar.cmpi .slt v139 v2
  let c1_i32_51 : BitVec 32 := 1#32
  let c0_i32_52 : BitVec 32 := 0#32
  let v141 : BitVec 32 := Scalar.select v140 c1_i32_51 c0_i32_52
  let v142 : BitVec 32 := Scalar.addi v137 v141
  let v145 : BitVec 1 := Scalar.cmpi .slt v144 v2
  let c1_i32_53 : BitVec 32 := 1#32
  let c0_i32_54 : BitVec 32 := 0#32
  let v146 : BitVec 32 := Scalar.select v145 c1_i32_53 c0_i32_54
  let v147 : BitVec 32 := Scalar.addi v142 v146
  let v150 : BitVec 1 := Scalar.cmpi .slt v149 v2
  let c1_i32_55 : BitVec 32 := 1#32
  let c0_i32_56 : BitVec 32 := 0#32
  let v151 : BitVec 32 := Scalar.select v150 c1_i32_55 c0_i32_56
  let v152 : BitVec 32 := Scalar.addi v147 v151
  let v155 : BitVec 32 := Scalar.addi v154 v152
  let v156 : BitVec 32 := Scalar.select v153 c0_i32_59 v155
  let c0_i32_105 : BitVec 32 := 0#32
  let v250 : BitVec 1 := Scalar.cmpi .sgt v156 c0_i32_105
  let v251 : BitVec 32 := Scalar.extui v250
  let c0_i32_106 : BitVec 32 := 0#32
  let v252 : BitVec 1 := Scalar.cmpi .slt v156 c0_i32_106
  let v253 : BitVec 32 := Scalar.extui v252
  let v254 : BitVec 32 := Scalar.subi v251 v253
  let c64_i32 : BitVec 32 := 64#32
  let c0_i32_107 : BitVec 32 := 0#32
  let v255 : BitVec 1 := Scalar.cmpi .sgt c64_i32 c0_i32_107
  let v256 : BitVec 32 := Scalar.extui v255
  let c0_i32_108 : BitVec 32 := 0#32
  let v257 : BitVec 1 := Scalar.cmpi .slt c64_i32 c0_i32_108
  let v258 : BitVec 32 := Scalar.extui v257
  let v259 : BitVec 32 := Scalar.subi v256 v258
  let v260 : BitVec 1 := Scalar.cmpi .ne v254 v259
  let v261 : BitVec 32 := Scalar.remsi v156 c64_i32
  let c0_i32_109 : BitVec 32 := 0#32
  let v262 : BitVec 1 := Scalar.cmpi .ne v261 c0_i32_109
  let v263 : BitVec 1 := Scalar.andi v260 v262
  let v249 : BitVec 32 := Scalar.divsi v156 c64_i32
  let c1_i32_110 : BitVec 32 := 1#32
  let v264 : BitVec 32 := Scalar.subi v249 c1_i32_110
  let v265 : BitVec 32 := Scalar.select v263 v264 v249
  let v286 : BitVec 32 := Scalar.subi v285 v265
  let c0_i32_120 : BitVec 32 := 0#32
  let v287 : BitVec 1 := Scalar.cmpi .sgt v286 c0_i32_120
  let v288 : BitVec 32 := Scalar.extui v287
  let c0_i32_121 : BitVec 32 := 0#32
  let v289 : BitVec 1 := Scalar.cmpi .ne v288 c0_i32_121
  v289

def k0_off38 (i : grid0.Coords) (v66_0 : BitVec 32) (v74 : BitVec 32) (v79 : BitVec 32) (v84 : BitVec 32) (v89 : BitVec 32) (v94 : BitVec 32) (v99 : BitVec 32) (v104 : BitVec 32) (v109 : BitVec 32) (v114 : BitVec 32) (v119 : BitVec 32) (v124 : BitVec 32) (v129 : BitVec 32) (v134 : BitVec 32) (v139 : BitVec 32) (v144 : BitVec 32) (v149 : BitVec 32) : Fin 2 → Nat :=
  let c0_i32_57 : BitVec 32 := 0#32
  let v153 : BitVec 1 := Scalar.cmpi .eq v66_0 c0_i32_57
  let c0_i32_59 : BitVec 32 := 0#32
  let c1_i32_22 : BitVec 32 := 1#32
  let v67 : BitVec 32 := Scalar.subi v66_0 c1_i32_22
  let c0_i32_23 : BitVec 32 := 0#32
  let v68 : BitVec 32 := Scalar.maxsi v67 c0_i32_23
  let c16_i32_58 : BitVec 32 := 16#32
  let v154 : BitVec 32 := Scalar.muli v68 c16_i32_58
  let c0_i32_26 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let v75 : BitVec 1 := Scalar.cmpi .slt v74 v2
  let c1_i32_24 : BitVec 32 := 1#32
  let c0_i32_25 : BitVec 32 := 0#32
  let v76 : BitVec 32 := Scalar.select v75 c1_i32_24 c0_i32_25
  let v77 : BitVec 32 := Scalar.addi c0_i32_26 v76
  let v80 : BitVec 1 := Scalar.cmpi .slt v79 v2
  let c1_i32_27 : BitVec 32 := 1#32
  let c0_i32_28 : BitVec 32 := 0#32
  let v81 : BitVec 32 := Scalar.select v80 c1_i32_27 c0_i32_28
  let v82 : BitVec 32 := Scalar.addi v77 v81
  let v85 : BitVec 1 := Scalar.cmpi .slt v84 v2
  let c1_i32_29 : BitVec 32 := 1#32
  let c0_i32_30 : BitVec 32 := 0#32
  let v86 : BitVec 32 := Scalar.select v85 c1_i32_29 c0_i32_30
  let v87 : BitVec 32 := Scalar.addi v82 v86
  let v90 : BitVec 1 := Scalar.cmpi .slt v89 v2
  let c1_i32_31 : BitVec 32 := 1#32
  let c0_i32_32 : BitVec 32 := 0#32
  let v91 : BitVec 32 := Scalar.select v90 c1_i32_31 c0_i32_32
  let v92 : BitVec 32 := Scalar.addi v87 v91
  let v95 : BitVec 1 := Scalar.cmpi .slt v94 v2
  let c1_i32_33 : BitVec 32 := 1#32
  let c0_i32_34 : BitVec 32 := 0#32
  let v96 : BitVec 32 := Scalar.select v95 c1_i32_33 c0_i32_34
  let v97 : BitVec 32 := Scalar.addi v92 v96
  let v100 : BitVec 1 := Scalar.cmpi .slt v99 v2
  let c1_i32_35 : BitVec 32 := 1#32
  let c0_i32_36 : BitVec 32 := 0#32
  let v101 : BitVec 32 := Scalar.select v100 c1_i32_35 c0_i32_36
  let v102 : BitVec 32 := Scalar.addi v97 v101
  let v105 : BitVec 1 := Scalar.cmpi .slt v104 v2
  let c1_i32_37 : BitVec 32 := 1#32
  let c0_i32_38 : BitVec 32 := 0#32
  let v106 : BitVec 32 := Scalar.select v105 c1_i32_37 c0_i32_38
  let v107 : BitVec 32 := Scalar.addi v102 v106
  let v110 : BitVec 1 := Scalar.cmpi .slt v109 v2
  let c1_i32_39 : BitVec 32 := 1#32
  let c0_i32_40 : BitVec 32 := 0#32
  let v111 : BitVec 32 := Scalar.select v110 c1_i32_39 c0_i32_40
  let v112 : BitVec 32 := Scalar.addi v107 v111
  let v115 : BitVec 1 := Scalar.cmpi .slt v114 v2
  let c1_i32_41 : BitVec 32 := 1#32
  let c0_i32_42 : BitVec 32 := 0#32
  let v116 : BitVec 32 := Scalar.select v115 c1_i32_41 c0_i32_42
  let v117 : BitVec 32 := Scalar.addi v112 v116
  let v120 : BitVec 1 := Scalar.cmpi .slt v119 v2
  let c1_i32_43 : BitVec 32 := 1#32
  let c0_i32_44 : BitVec 32 := 0#32
  let v121 : BitVec 32 := Scalar.select v120 c1_i32_43 c0_i32_44
  let v122 : BitVec 32 := Scalar.addi v117 v121
  let v125 : BitVec 1 := Scalar.cmpi .slt v124 v2
  let c1_i32_45 : BitVec 32 := 1#32
  let c0_i32_46 : BitVec 32 := 0#32
  let v126 : BitVec 32 := Scalar.select v125 c1_i32_45 c0_i32_46
  let v127 : BitVec 32 := Scalar.addi v122 v126
  let v130 : BitVec 1 := Scalar.cmpi .slt v129 v2
  let c1_i32_47 : BitVec 32 := 1#32
  let c0_i32_48 : BitVec 32 := 0#32
  let v131 : BitVec 32 := Scalar.select v130 c1_i32_47 c0_i32_48
  let v132 : BitVec 32 := Scalar.addi v127 v131
  let v135 : BitVec 1 := Scalar.cmpi .slt v134 v2
  let c1_i32_49 : BitVec 32 := 1#32
  let c0_i32_50 : BitVec 32 := 0#32
  let v136 : BitVec 32 := Scalar.select v135 c1_i32_49 c0_i32_50
  let v137 : BitVec 32 := Scalar.addi v132 v136
  let v140 : BitVec 1 := Scalar.cmpi .slt v139 v2
  let c1_i32_51 : BitVec 32 := 1#32
  let c0_i32_52 : BitVec 32 := 0#32
  let v141 : BitVec 32 := Scalar.select v140 c1_i32_51 c0_i32_52
  let v142 : BitVec 32 := Scalar.addi v137 v141
  let v145 : BitVec 1 := Scalar.cmpi .slt v144 v2
  let c1_i32_53 : BitVec 32 := 1#32
  let c0_i32_54 : BitVec 32 := 0#32
  let v146 : BitVec 32 := Scalar.select v145 c1_i32_53 c0_i32_54
  let v147 : BitVec 32 := Scalar.addi v142 v146
  let v150 : BitVec 1 := Scalar.cmpi .slt v149 v2
  let c1_i32_55 : BitVec 32 := 1#32
  let c0_i32_56 : BitVec 32 := 0#32
  let v151 : BitVec 32 := Scalar.select v150 c1_i32_55 c0_i32_56
  let v152 : BitVec 32 := Scalar.addi v147 v151
  let v155 : BitVec 32 := Scalar.addi v154 v152
  let v156 : BitVec 32 := Scalar.select v153 c0_i32_59 v155
  let c0_i32_105 : BitVec 32 := 0#32
  let v250 : BitVec 1 := Scalar.cmpi .sgt v156 c0_i32_105
  let v251 : BitVec 32 := Scalar.extui v250
  let c0_i32_106 : BitVec 32 := 0#32
  let v252 : BitVec 1 := Scalar.cmpi .slt v156 c0_i32_106
  let v253 : BitVec 32 := Scalar.extui v252
  let v254 : BitVec 32 := Scalar.subi v251 v253
  let c64_i32 : BitVec 32 := 64#32
  let c0_i32_107 : BitVec 32 := 0#32
  let v255 : BitVec 1 := Scalar.cmpi .sgt c64_i32 c0_i32_107
  let v256 : BitVec 32 := Scalar.extui v255
  let c0_i32_108 : BitVec 32 := 0#32
  let v257 : BitVec 1 := Scalar.cmpi .slt c64_i32 c0_i32_108
  let v258 : BitVec 32 := Scalar.extui v257
  let v259 : BitVec 32 := Scalar.subi v256 v258
  let v260 : BitVec 1 := Scalar.cmpi .ne v254 v259
  let v261 : BitVec 32 := Scalar.remsi v156 c64_i32
  let c0_i32_109 : BitVec 32 := 0#32
  let v262 : BitVec 1 := Scalar.cmpi .ne v261 c0_i32_109
  let v263 : BitVec 1 := Scalar.andi v260 v262
  let v249 : BitVec 32 := Scalar.divsi v156 c64_i32
  let c1_i32_110 : BitVec 32 := 1#32
  let v264 : BitVec 32 := Scalar.subi v249 c1_i32_110
  let v265 : BitVec 32 := Scalar.select v263 v264 v249
  let c1_i32_139 : BitVec 32 := 1#32
  let v320 : BitVec 32 := Scalar.addi v265 c1_i32_139
  let c64_i32_140 : BitVec 32 := 64#32
  let v321 : BitVec 32 := Scalar.muli v320 c64_i32_140
  let c0_i32_141 : BitVec 32 := 0#32
  ![v321.toNat, 0]
def k0_cond2 (i : grid0.Coords) (v66_0 : BitVec 32) (v74 : BitVec 32) (v79 : BitVec 32) (v84 : BitVec 32) (v89 : BitVec 32) (v94 : BitVec 32) (v99 : BitVec 32) (v104 : BitVec 32) (v109 : BitVec 32) (v114 : BitVec 32) (v119 : BitVec 32) (v124 : BitVec 32) (v129 : BitVec 32) (v134 : BitVec 32) (v139 : BitVec 32) (v144 : BitVec 32) (v149 : BitVec 32) (v158_0 : BitVec 32) (v166 : BitVec 32) (v171 : BitVec 32) (v176 : BitVec 32) (v181 : BitVec 32) (v186 : BitVec 32) (v191 : BitVec 32) (v196 : BitVec 32) (v201 : BitVec 32) (v206 : BitVec 32) (v211 : BitVec 32) (v216 : BitVec 32) (v221 : BitVec 32) (v226 : BitVec 32) (v231 : BitVec 32) (v236 : BitVec 32) (v241 : BitVec 32) : BitVec 1 :=
  let c0_i32_102 : BitVec 32 := 0#32
  let v245 : BitVec 1 := Scalar.cmpi .eq v158_0 c0_i32_102
  let c0_i32_104 : BitVec 32 := 0#32
  let c1_i32_66 : BitVec 32 := 1#32
  let v159 : BitVec 32 := Scalar.subi v158_0 c1_i32_66
  let c0_i32_67 : BitVec 32 := 0#32
  let v160 : BitVec 32 := Scalar.maxsi v159 c0_i32_67
  let c16_i32_103 : BitVec 32 := 16#32
  let v246 : BitVec 32 := Scalar.muli v160 c16_i32_103
  let c0_i32_71 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let c32_i32_0 : BitVec 32 := 32#32
  let v3 : BitVec 32 := Scalar.addi v2 c32_i32_0
  let v167 : BitVec 1 := Scalar.cmpi .slt v166 v3
  let c1_i32_69 : BitVec 32 := 1#32
  let c0_i32_70 : BitVec 32 := 0#32
  let v168 : BitVec 32 := Scalar.select v167 c1_i32_69 c0_i32_70
  let v169 : BitVec 32 := Scalar.addi c0_i32_71 v168
  let v172 : BitVec 1 := Scalar.cmpi .slt v171 v3
  let c1_i32_72 : BitVec 32 := 1#32
  let c0_i32_73 : BitVec 32 := 0#32
  let v173 : BitVec 32 := Scalar.select v172 c1_i32_72 c0_i32_73
  let v174 : BitVec 32 := Scalar.addi v169 v173
  let v177 : BitVec 1 := Scalar.cmpi .slt v176 v3
  let c1_i32_74 : BitVec 32 := 1#32
  let c0_i32_75 : BitVec 32 := 0#32
  let v178 : BitVec 32 := Scalar.select v177 c1_i32_74 c0_i32_75
  let v179 : BitVec 32 := Scalar.addi v174 v178
  let v182 : BitVec 1 := Scalar.cmpi .slt v181 v3
  let c1_i32_76 : BitVec 32 := 1#32
  let c0_i32_77 : BitVec 32 := 0#32
  let v183 : BitVec 32 := Scalar.select v182 c1_i32_76 c0_i32_77
  let v184 : BitVec 32 := Scalar.addi v179 v183
  let v187 : BitVec 1 := Scalar.cmpi .slt v186 v3
  let c1_i32_78 : BitVec 32 := 1#32
  let c0_i32_79 : BitVec 32 := 0#32
  let v188 : BitVec 32 := Scalar.select v187 c1_i32_78 c0_i32_79
  let v189 : BitVec 32 := Scalar.addi v184 v188
  let v192 : BitVec 1 := Scalar.cmpi .slt v191 v3
  let c1_i32_80 : BitVec 32 := 1#32
  let c0_i32_81 : BitVec 32 := 0#32
  let v193 : BitVec 32 := Scalar.select v192 c1_i32_80 c0_i32_81
  let v194 : BitVec 32 := Scalar.addi v189 v193
  let v197 : BitVec 1 := Scalar.cmpi .slt v196 v3
  let c1_i32_82 : BitVec 32 := 1#32
  let c0_i32_83 : BitVec 32 := 0#32
  let v198 : BitVec 32 := Scalar.select v197 c1_i32_82 c0_i32_83
  let v199 : BitVec 32 := Scalar.addi v194 v198
  let v202 : BitVec 1 := Scalar.cmpi .slt v201 v3
  let c1_i32_84 : BitVec 32 := 1#32
  let c0_i32_85 : BitVec 32 := 0#32
  let v203 : BitVec 32 := Scalar.select v202 c1_i32_84 c0_i32_85
  let v204 : BitVec 32 := Scalar.addi v199 v203
  let v207 : BitVec 1 := Scalar.cmpi .slt v206 v3
  let c1_i32_86 : BitVec 32 := 1#32
  let c0_i32_87 : BitVec 32 := 0#32
  let v208 : BitVec 32 := Scalar.select v207 c1_i32_86 c0_i32_87
  let v209 : BitVec 32 := Scalar.addi v204 v208
  let v212 : BitVec 1 := Scalar.cmpi .slt v211 v3
  let c1_i32_88 : BitVec 32 := 1#32
  let c0_i32_89 : BitVec 32 := 0#32
  let v213 : BitVec 32 := Scalar.select v212 c1_i32_88 c0_i32_89
  let v214 : BitVec 32 := Scalar.addi v209 v213
  let v217 : BitVec 1 := Scalar.cmpi .slt v216 v3
  let c1_i32_90 : BitVec 32 := 1#32
  let c0_i32_91 : BitVec 32 := 0#32
  let v218 : BitVec 32 := Scalar.select v217 c1_i32_90 c0_i32_91
  let v219 : BitVec 32 := Scalar.addi v214 v218
  let v222 : BitVec 1 := Scalar.cmpi .slt v221 v3
  let c1_i32_92 : BitVec 32 := 1#32
  let c0_i32_93 : BitVec 32 := 0#32
  let v223 : BitVec 32 := Scalar.select v222 c1_i32_92 c0_i32_93
  let v224 : BitVec 32 := Scalar.addi v219 v223
  let v227 : BitVec 1 := Scalar.cmpi .slt v226 v3
  let c1_i32_94 : BitVec 32 := 1#32
  let c0_i32_95 : BitVec 32 := 0#32
  let v228 : BitVec 32 := Scalar.select v227 c1_i32_94 c0_i32_95
  let v229 : BitVec 32 := Scalar.addi v224 v228
  let v232 : BitVec 1 := Scalar.cmpi .slt v231 v3
  let c1_i32_96 : BitVec 32 := 1#32
  let c0_i32_97 : BitVec 32 := 0#32
  let v233 : BitVec 32 := Scalar.select v232 c1_i32_96 c0_i32_97
  let v234 : BitVec 32 := Scalar.addi v229 v233
  let v237 : BitVec 1 := Scalar.cmpi .slt v236 v3
  let c1_i32_98 : BitVec 32 := 1#32
  let c0_i32_99 : BitVec 32 := 0#32
  let v238 : BitVec 32 := Scalar.select v237 c1_i32_98 c0_i32_99
  let v239 : BitVec 32 := Scalar.addi v234 v238
  let v242 : BitVec 1 := Scalar.cmpi .slt v241 v3
  let c1_i32_100 : BitVec 32 := 1#32
  let c0_i32_101 : BitVec 32 := 0#32
  let v243 : BitVec 32 := Scalar.select v242 c1_i32_100 c0_i32_101
  let v244 : BitVec 32 := Scalar.addi v239 v243
  let v247 : BitVec 32 := Scalar.addi v246 v244
  let v248 : BitVec 32 := Scalar.select v245 c0_i32_104 v247
  let c64_i32_111 : BitVec 32 := 64#32
  let v266 : BitVec 32 := Scalar.addi v248 c64_i32_111
  let c1_i32_112 : BitVec 32 := 1#32
  let v267 : BitVec 32 := Scalar.subi v266 c1_i32_112
  let c0_i32_114 : BitVec 32 := 0#32
  let v269 : BitVec 1 := Scalar.cmpi .sgt v267 c0_i32_114
  let v270 : BitVec 32 := Scalar.extui v269
  let c0_i32_115 : BitVec 32 := 0#32
  let v271 : BitVec 1 := Scalar.cmpi .slt v267 c0_i32_115
  let v272 : BitVec 32 := Scalar.extui v271
  let v273 : BitVec 32 := Scalar.subi v270 v272
  let c64_i32_113 : BitVec 32 := 64#32
  let c0_i32_116 : BitVec 32 := 0#32
  let v274 : BitVec 1 := Scalar.cmpi .sgt c64_i32_113 c0_i32_116
  let v275 : BitVec 32 := Scalar.extui v274
  let c0_i32_117 : BitVec 32 := 0#32
  let v276 : BitVec 1 := Scalar.cmpi .slt c64_i32_113 c0_i32_117
  let v277 : BitVec 32 := Scalar.extui v276
  let v278 : BitVec 32 := Scalar.subi v275 v277
  let v279 : BitVec 1 := Scalar.cmpi .ne v273 v278
  let v280 : BitVec 32 := Scalar.remsi v267 c64_i32_113
  let c0_i32_118 : BitVec 32 := 0#32
  let v281 : BitVec 1 := Scalar.cmpi .ne v280 c0_i32_118
  let v282 : BitVec 1 := Scalar.andi v279 v281
  let v268 : BitVec 32 := Scalar.divsi v267 c64_i32_113
  let c1_i32_119 : BitVec 32 := 1#32
  let v283 : BitVec 32 := Scalar.subi v268 c1_i32_119
  let v284 : BitVec 32 := Scalar.select v282 v283 v268
  let c156_i32 : BitVec 32 := 156#32
  let v285 : BitVec 32 := Scalar.minsi v284 c156_i32
  let c0_i32_57 : BitVec 32 := 0#32
  let v153 : BitVec 1 := Scalar.cmpi .eq v66_0 c0_i32_57
  let c0_i32_59 : BitVec 32 := 0#32
  let c1_i32_22 : BitVec 32 := 1#32
  let v67 : BitVec 32 := Scalar.subi v66_0 c1_i32_22
  let c0_i32_23 : BitVec 32 := 0#32
  let v68 : BitVec 32 := Scalar.maxsi v67 c0_i32_23
  let c16_i32_58 : BitVec 32 := 16#32
  let v154 : BitVec 32 := Scalar.muli v68 c16_i32_58
  let c0_i32_26 : BitVec 32 := 0#32
  let v75 : BitVec 1 := Scalar.cmpi .slt v74 v2
  let c1_i32_24 : BitVec 32 := 1#32
  let c0_i32_25 : BitVec 32 := 0#32
  let v76 : BitVec 32 := Scalar.select v75 c1_i32_24 c0_i32_25
  let v77 : BitVec 32 := Scalar.addi c0_i32_26 v76
  let v80 : BitVec 1 := Scalar.cmpi .slt v79 v2
  let c1_i32_27 : BitVec 32 := 1#32
  let c0_i32_28 : BitVec 32 := 0#32
  let v81 : BitVec 32 := Scalar.select v80 c1_i32_27 c0_i32_28
  let v82 : BitVec 32 := Scalar.addi v77 v81
  let v85 : BitVec 1 := Scalar.cmpi .slt v84 v2
  let c1_i32_29 : BitVec 32 := 1#32
  let c0_i32_30 : BitVec 32 := 0#32
  let v86 : BitVec 32 := Scalar.select v85 c1_i32_29 c0_i32_30
  let v87 : BitVec 32 := Scalar.addi v82 v86
  let v90 : BitVec 1 := Scalar.cmpi .slt v89 v2
  let c1_i32_31 : BitVec 32 := 1#32
  let c0_i32_32 : BitVec 32 := 0#32
  let v91 : BitVec 32 := Scalar.select v90 c1_i32_31 c0_i32_32
  let v92 : BitVec 32 := Scalar.addi v87 v91
  let v95 : BitVec 1 := Scalar.cmpi .slt v94 v2
  let c1_i32_33 : BitVec 32 := 1#32
  let c0_i32_34 : BitVec 32 := 0#32
  let v96 : BitVec 32 := Scalar.select v95 c1_i32_33 c0_i32_34
  let v97 : BitVec 32 := Scalar.addi v92 v96
  let v100 : BitVec 1 := Scalar.cmpi .slt v99 v2
  let c1_i32_35 : BitVec 32 := 1#32
  let c0_i32_36 : BitVec 32 := 0#32
  let v101 : BitVec 32 := Scalar.select v100 c1_i32_35 c0_i32_36
  let v102 : BitVec 32 := Scalar.addi v97 v101
  let v105 : BitVec 1 := Scalar.cmpi .slt v104 v2
  let c1_i32_37 : BitVec 32 := 1#32
  let c0_i32_38 : BitVec 32 := 0#32
  let v106 : BitVec 32 := Scalar.select v105 c1_i32_37 c0_i32_38
  let v107 : BitVec 32 := Scalar.addi v102 v106
  let v110 : BitVec 1 := Scalar.cmpi .slt v109 v2
  let c1_i32_39 : BitVec 32 := 1#32
  let c0_i32_40 : BitVec 32 := 0#32
  let v111 : BitVec 32 := Scalar.select v110 c1_i32_39 c0_i32_40
  let v112 : BitVec 32 := Scalar.addi v107 v111
  let v115 : BitVec 1 := Scalar.cmpi .slt v114 v2
  let c1_i32_41 : BitVec 32 := 1#32
  let c0_i32_42 : BitVec 32 := 0#32
  let v116 : BitVec 32 := Scalar.select v115 c1_i32_41 c0_i32_42
  let v117 : BitVec 32 := Scalar.addi v112 v116
  let v120 : BitVec 1 := Scalar.cmpi .slt v119 v2
  let c1_i32_43 : BitVec 32 := 1#32
  let c0_i32_44 : BitVec 32 := 0#32
  let v121 : BitVec 32 := Scalar.select v120 c1_i32_43 c0_i32_44
  let v122 : BitVec 32 := Scalar.addi v117 v121
  let v125 : BitVec 1 := Scalar.cmpi .slt v124 v2
  let c1_i32_45 : BitVec 32 := 1#32
  let c0_i32_46 : BitVec 32 := 0#32
  let v126 : BitVec 32 := Scalar.select v125 c1_i32_45 c0_i32_46
  let v127 : BitVec 32 := Scalar.addi v122 v126
  let v130 : BitVec 1 := Scalar.cmpi .slt v129 v2
  let c1_i32_47 : BitVec 32 := 1#32
  let c0_i32_48 : BitVec 32 := 0#32
  let v131 : BitVec 32 := Scalar.select v130 c1_i32_47 c0_i32_48
  let v132 : BitVec 32 := Scalar.addi v127 v131
  let v135 : BitVec 1 := Scalar.cmpi .slt v134 v2
  let c1_i32_49 : BitVec 32 := 1#32
  let c0_i32_50 : BitVec 32 := 0#32
  let v136 : BitVec 32 := Scalar.select v135 c1_i32_49 c0_i32_50
  let v137 : BitVec 32 := Scalar.addi v132 v136
  let v140 : BitVec 1 := Scalar.cmpi .slt v139 v2
  let c1_i32_51 : BitVec 32 := 1#32
  let c0_i32_52 : BitVec 32 := 0#32
  let v141 : BitVec 32 := Scalar.select v140 c1_i32_51 c0_i32_52
  let v142 : BitVec 32 := Scalar.addi v137 v141
  let v145 : BitVec 1 := Scalar.cmpi .slt v144 v2
  let c1_i32_53 : BitVec 32 := 1#32
  let c0_i32_54 : BitVec 32 := 0#32
  let v146 : BitVec 32 := Scalar.select v145 c1_i32_53 c0_i32_54
  let v147 : BitVec 32 := Scalar.addi v142 v146
  let v150 : BitVec 1 := Scalar.cmpi .slt v149 v2
  let c1_i32_55 : BitVec 32 := 1#32
  let c0_i32_56 : BitVec 32 := 0#32
  let v151 : BitVec 32 := Scalar.select v150 c1_i32_55 c0_i32_56
  let v152 : BitVec 32 := Scalar.addi v147 v151
  let v155 : BitVec 32 := Scalar.addi v154 v152
  let v156 : BitVec 32 := Scalar.select v153 c0_i32_59 v155
  let c0_i32_105 : BitVec 32 := 0#32
  let v250 : BitVec 1 := Scalar.cmpi .sgt v156 c0_i32_105
  let v251 : BitVec 32 := Scalar.extui v250
  let c0_i32_106 : BitVec 32 := 0#32
  let v252 : BitVec 1 := Scalar.cmpi .slt v156 c0_i32_106
  let v253 : BitVec 32 := Scalar.extui v252
  let v254 : BitVec 32 := Scalar.subi v251 v253
  let c64_i32 : BitVec 32 := 64#32
  let c0_i32_107 : BitVec 32 := 0#32
  let v255 : BitVec 1 := Scalar.cmpi .sgt c64_i32 c0_i32_107
  let v256 : BitVec 32 := Scalar.extui v255
  let c0_i32_108 : BitVec 32 := 0#32
  let v257 : BitVec 1 := Scalar.cmpi .slt c64_i32 c0_i32_108
  let v258 : BitVec 32 := Scalar.extui v257
  let v259 : BitVec 32 := Scalar.subi v256 v258
  let v260 : BitVec 1 := Scalar.cmpi .ne v254 v259
  let v261 : BitVec 32 := Scalar.remsi v156 c64_i32
  let c0_i32_109 : BitVec 32 := 0#32
  let v262 : BitVec 1 := Scalar.cmpi .ne v261 c0_i32_109
  let v263 : BitVec 1 := Scalar.andi v260 v262
  let v249 : BitVec 32 := Scalar.divsi v156 c64_i32
  let c1_i32_110 : BitVec 32 := 1#32
  let v264 : BitVec 32 := Scalar.subi v249 c1_i32_110
  let v265 : BitVec 32 := Scalar.select v263 v264 v249
  let v286 : BitVec 32 := Scalar.subi v285 v265
  let c1_i32_122 : BitVec 32 := 1#32
  let v290 : BitVec 1 := Scalar.cmpi .sgt v286 c1_i32_122
  let v291 : BitVec 32 := Scalar.extui v290
  let c0_i32_123 : BitVec 32 := 0#32
  let v292 : BitVec 1 := Scalar.cmpi .ne v291 c0_i32_123
  v292

@[reducible] def k0_t4_loop (i : grid0.Coords) (v66_0 : BitVec 32) (v74 : BitVec 32) (v79 : BitVec 32) (v84 : BitVec 32) (v89 : BitVec 32) (v94 : BitVec 32) (v99 : BitVec 32) (v104 : BitVec 32) (v109 : BitVec 32) (v114 : BitVec 32) (v119 : BitVec 32) (v124 : BitVec 32) (v129 : BitVec 32) (v134 : BitVec 32) (v139 : BitVec 32) (v144 : BitVec 32) (v149 : BitVec 32) (v158_0 : BitVec 32) (v166 : BitVec 32) (v171 : BitVec 32) (v176 : BitVec 32) (v181 : BitVec 32) (v186 : BitVec 32) (v191 : BitVec 32) (v196 : BitVec 32) (v201 : BitVec 32) (v206 : BitVec 32) (v211 : BitVec 32) (v216 : BitVec 32) (v221 : BitVec 32) (v226 : BitVec 32) (v231 : BitVec 32) (v236 : BitVec 32) (v241 : BitVec 32) : Scf.Loop 32 :=
  let c0_i32_134 : BitVec 32 := 0#32
  let c0_i32_102 : BitVec 32 := 0#32
  let v245 : BitVec 1 := Scalar.cmpi .eq v158_0 c0_i32_102
  let c0_i32_104 : BitVec 32 := 0#32
  let c1_i32_66 : BitVec 32 := 1#32
  let v159 : BitVec 32 := Scalar.subi v158_0 c1_i32_66
  let c0_i32_67 : BitVec 32 := 0#32
  let v160 : BitVec 32 := Scalar.maxsi v159 c0_i32_67
  let c16_i32_103 : BitVec 32 := 16#32
  let v246 : BitVec 32 := Scalar.muli v160 c16_i32_103
  let c0_i32_71 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let c32_i32_0 : BitVec 32 := 32#32
  let v3 : BitVec 32 := Scalar.addi v2 c32_i32_0
  let v167 : BitVec 1 := Scalar.cmpi .slt v166 v3
  let c1_i32_69 : BitVec 32 := 1#32
  let c0_i32_70 : BitVec 32 := 0#32
  let v168 : BitVec 32 := Scalar.select v167 c1_i32_69 c0_i32_70
  let v169 : BitVec 32 := Scalar.addi c0_i32_71 v168
  let v172 : BitVec 1 := Scalar.cmpi .slt v171 v3
  let c1_i32_72 : BitVec 32 := 1#32
  let c0_i32_73 : BitVec 32 := 0#32
  let v173 : BitVec 32 := Scalar.select v172 c1_i32_72 c0_i32_73
  let v174 : BitVec 32 := Scalar.addi v169 v173
  let v177 : BitVec 1 := Scalar.cmpi .slt v176 v3
  let c1_i32_74 : BitVec 32 := 1#32
  let c0_i32_75 : BitVec 32 := 0#32
  let v178 : BitVec 32 := Scalar.select v177 c1_i32_74 c0_i32_75
  let v179 : BitVec 32 := Scalar.addi v174 v178
  let v182 : BitVec 1 := Scalar.cmpi .slt v181 v3
  let c1_i32_76 : BitVec 32 := 1#32
  let c0_i32_77 : BitVec 32 := 0#32
  let v183 : BitVec 32 := Scalar.select v182 c1_i32_76 c0_i32_77
  let v184 : BitVec 32 := Scalar.addi v179 v183
  let v187 : BitVec 1 := Scalar.cmpi .slt v186 v3
  let c1_i32_78 : BitVec 32 := 1#32
  let c0_i32_79 : BitVec 32 := 0#32
  let v188 : BitVec 32 := Scalar.select v187 c1_i32_78 c0_i32_79
  let v189 : BitVec 32 := Scalar.addi v184 v188
  let v192 : BitVec 1 := Scalar.cmpi .slt v191 v3
  let c1_i32_80 : BitVec 32 := 1#32
  let c0_i32_81 : BitVec 32 := 0#32
  let v193 : BitVec 32 := Scalar.select v192 c1_i32_80 c0_i32_81
  let v194 : BitVec 32 := Scalar.addi v189 v193
  let v197 : BitVec 1 := Scalar.cmpi .slt v196 v3
  let c1_i32_82 : BitVec 32 := 1#32
  let c0_i32_83 : BitVec 32 := 0#32
  let v198 : BitVec 32 := Scalar.select v197 c1_i32_82 c0_i32_83
  let v199 : BitVec 32 := Scalar.addi v194 v198
  let v202 : BitVec 1 := Scalar.cmpi .slt v201 v3
  let c1_i32_84 : BitVec 32 := 1#32
  let c0_i32_85 : BitVec 32 := 0#32
  let v203 : BitVec 32 := Scalar.select v202 c1_i32_84 c0_i32_85
  let v204 : BitVec 32 := Scalar.addi v199 v203
  let v207 : BitVec 1 := Scalar.cmpi .slt v206 v3
  let c1_i32_86 : BitVec 32 := 1#32
  let c0_i32_87 : BitVec 32 := 0#32
  let v208 : BitVec 32 := Scalar.select v207 c1_i32_86 c0_i32_87
  let v209 : BitVec 32 := Scalar.addi v204 v208
  let v212 : BitVec 1 := Scalar.cmpi .slt v211 v3
  let c1_i32_88 : BitVec 32 := 1#32
  let c0_i32_89 : BitVec 32 := 0#32
  let v213 : BitVec 32 := Scalar.select v212 c1_i32_88 c0_i32_89
  let v214 : BitVec 32 := Scalar.addi v209 v213
  let v217 : BitVec 1 := Scalar.cmpi .slt v216 v3
  let c1_i32_90 : BitVec 32 := 1#32
  let c0_i32_91 : BitVec 32 := 0#32
  let v218 : BitVec 32 := Scalar.select v217 c1_i32_90 c0_i32_91
  let v219 : BitVec 32 := Scalar.addi v214 v218
  let v222 : BitVec 1 := Scalar.cmpi .slt v221 v3
  let c1_i32_92 : BitVec 32 := 1#32
  let c0_i32_93 : BitVec 32 := 0#32
  let v223 : BitVec 32 := Scalar.select v222 c1_i32_92 c0_i32_93
  let v224 : BitVec 32 := Scalar.addi v219 v223
  let v227 : BitVec 1 := Scalar.cmpi .slt v226 v3
  let c1_i32_94 : BitVec 32 := 1#32
  let c0_i32_95 : BitVec 32 := 0#32
  let v228 : BitVec 32 := Scalar.select v227 c1_i32_94 c0_i32_95
  let v229 : BitVec 32 := Scalar.addi v224 v228
  let v232 : BitVec 1 := Scalar.cmpi .slt v231 v3
  let c1_i32_96 : BitVec 32 := 1#32
  let c0_i32_97 : BitVec 32 := 0#32
  let v233 : BitVec 32 := Scalar.select v232 c1_i32_96 c0_i32_97
  let v234 : BitVec 32 := Scalar.addi v229 v233
  let v237 : BitVec 1 := Scalar.cmpi .slt v236 v3
  let c1_i32_98 : BitVec 32 := 1#32
  let c0_i32_99 : BitVec 32 := 0#32
  let v238 : BitVec 32 := Scalar.select v237 c1_i32_98 c0_i32_99
  let v239 : BitVec 32 := Scalar.addi v234 v238
  let v242 : BitVec 1 := Scalar.cmpi .slt v241 v3
  let c1_i32_100 : BitVec 32 := 1#32
  let c0_i32_101 : BitVec 32 := 0#32
  let v243 : BitVec 32 := Scalar.select v242 c1_i32_100 c0_i32_101
  let v244 : BitVec 32 := Scalar.addi v239 v243
  let v247 : BitVec 32 := Scalar.addi v246 v244
  let v248 : BitVec 32 := Scalar.select v245 c0_i32_104 v247
  let c64_i32_111 : BitVec 32 := 64#32
  let v266 : BitVec 32 := Scalar.addi v248 c64_i32_111
  let c1_i32_112 : BitVec 32 := 1#32
  let v267 : BitVec 32 := Scalar.subi v266 c1_i32_112
  let c0_i32_114 : BitVec 32 := 0#32
  let v269 : BitVec 1 := Scalar.cmpi .sgt v267 c0_i32_114
  let v270 : BitVec 32 := Scalar.extui v269
  let c0_i32_115 : BitVec 32 := 0#32
  let v271 : BitVec 1 := Scalar.cmpi .slt v267 c0_i32_115
  let v272 : BitVec 32 := Scalar.extui v271
  let v273 : BitVec 32 := Scalar.subi v270 v272
  let c64_i32_113 : BitVec 32 := 64#32
  let c0_i32_116 : BitVec 32 := 0#32
  let v274 : BitVec 1 := Scalar.cmpi .sgt c64_i32_113 c0_i32_116
  let v275 : BitVec 32 := Scalar.extui v274
  let c0_i32_117 : BitVec 32 := 0#32
  let v276 : BitVec 1 := Scalar.cmpi .slt c64_i32_113 c0_i32_117
  let v277 : BitVec 32 := Scalar.extui v276
  let v278 : BitVec 32 := Scalar.subi v275 v277
  let v279 : BitVec 1 := Scalar.cmpi .ne v273 v278
  let v280 : BitVec 32 := Scalar.remsi v267 c64_i32_113
  let c0_i32_118 : BitVec 32 := 0#32
  let v281 : BitVec 1 := Scalar.cmpi .ne v280 c0_i32_118
  let v282 : BitVec 1 := Scalar.andi v279 v281
  let v268 : BitVec 32 := Scalar.divsi v267 c64_i32_113
  let c1_i32_119 : BitVec 32 := 1#32
  let v283 : BitVec 32 := Scalar.subi v268 c1_i32_119
  let v284 : BitVec 32 := Scalar.select v282 v283 v268
  let c156_i32 : BitVec 32 := 156#32
  let v285 : BitVec 32 := Scalar.minsi v284 c156_i32
  let c0_i32_57 : BitVec 32 := 0#32
  let v153 : BitVec 1 := Scalar.cmpi .eq v66_0 c0_i32_57
  let c0_i32_59 : BitVec 32 := 0#32
  let c1_i32_22 : BitVec 32 := 1#32
  let v67 : BitVec 32 := Scalar.subi v66_0 c1_i32_22
  let c0_i32_23 : BitVec 32 := 0#32
  let v68 : BitVec 32 := Scalar.maxsi v67 c0_i32_23
  let c16_i32_58 : BitVec 32 := 16#32
  let v154 : BitVec 32 := Scalar.muli v68 c16_i32_58
  let c0_i32_26 : BitVec 32 := 0#32
  let v75 : BitVec 1 := Scalar.cmpi .slt v74 v2
  let c1_i32_24 : BitVec 32 := 1#32
  let c0_i32_25 : BitVec 32 := 0#32
  let v76 : BitVec 32 := Scalar.select v75 c1_i32_24 c0_i32_25
  let v77 : BitVec 32 := Scalar.addi c0_i32_26 v76
  let v80 : BitVec 1 := Scalar.cmpi .slt v79 v2
  let c1_i32_27 : BitVec 32 := 1#32
  let c0_i32_28 : BitVec 32 := 0#32
  let v81 : BitVec 32 := Scalar.select v80 c1_i32_27 c0_i32_28
  let v82 : BitVec 32 := Scalar.addi v77 v81
  let v85 : BitVec 1 := Scalar.cmpi .slt v84 v2
  let c1_i32_29 : BitVec 32 := 1#32
  let c0_i32_30 : BitVec 32 := 0#32
  let v86 : BitVec 32 := Scalar.select v85 c1_i32_29 c0_i32_30
  let v87 : BitVec 32 := Scalar.addi v82 v86
  let v90 : BitVec 1 := Scalar.cmpi .slt v89 v2
  let c1_i32_31 : BitVec 32 := 1#32
  let c0_i32_32 : BitVec 32 := 0#32
  let v91 : BitVec 32 := Scalar.select v90 c1_i32_31 c0_i32_32
  let v92 : BitVec 32 := Scalar.addi v87 v91
  let v95 : BitVec 1 := Scalar.cmpi .slt v94 v2
  let c1_i32_33 : BitVec 32 := 1#32
  let c0_i32_34 : BitVec 32 := 0#32
  let v96 : BitVec 32 := Scalar.select v95 c1_i32_33 c0_i32_34
  let v97 : BitVec 32 := Scalar.addi v92 v96
  let v100 : BitVec 1 := Scalar.cmpi .slt v99 v2
  let c1_i32_35 : BitVec 32 := 1#32
  let c0_i32_36 : BitVec 32 := 0#32
  let v101 : BitVec 32 := Scalar.select v100 c1_i32_35 c0_i32_36
  let v102 : BitVec 32 := Scalar.addi v97 v101
  let v105 : BitVec 1 := Scalar.cmpi .slt v104 v2
  let c1_i32_37 : BitVec 32 := 1#32
  let c0_i32_38 : BitVec 32 := 0#32
  let v106 : BitVec 32 := Scalar.select v105 c1_i32_37 c0_i32_38
  let v107 : BitVec 32 := Scalar.addi v102 v106
  let v110 : BitVec 1 := Scalar.cmpi .slt v109 v2
  let c1_i32_39 : BitVec 32 := 1#32
  let c0_i32_40 : BitVec 32 := 0#32
  let v111 : BitVec 32 := Scalar.select v110 c1_i32_39 c0_i32_40
  let v112 : BitVec 32 := Scalar.addi v107 v111
  let v115 : BitVec 1 := Scalar.cmpi .slt v114 v2
  let c1_i32_41 : BitVec 32 := 1#32
  let c0_i32_42 : BitVec 32 := 0#32
  let v116 : BitVec 32 := Scalar.select v115 c1_i32_41 c0_i32_42
  let v117 : BitVec 32 := Scalar.addi v112 v116
  let v120 : BitVec 1 := Scalar.cmpi .slt v119 v2
  let c1_i32_43 : BitVec 32 := 1#32
  let c0_i32_44 : BitVec 32 := 0#32
  let v121 : BitVec 32 := Scalar.select v120 c1_i32_43 c0_i32_44
  let v122 : BitVec 32 := Scalar.addi v117 v121
  let v125 : BitVec 1 := Scalar.cmpi .slt v124 v2
  let c1_i32_45 : BitVec 32 := 1#32
  let c0_i32_46 : BitVec 32 := 0#32
  let v126 : BitVec 32 := Scalar.select v125 c1_i32_45 c0_i32_46
  let v127 : BitVec 32 := Scalar.addi v122 v126
  let v130 : BitVec 1 := Scalar.cmpi .slt v129 v2
  let c1_i32_47 : BitVec 32 := 1#32
  let c0_i32_48 : BitVec 32 := 0#32
  let v131 : BitVec 32 := Scalar.select v130 c1_i32_47 c0_i32_48
  let v132 : BitVec 32 := Scalar.addi v127 v131
  let v135 : BitVec 1 := Scalar.cmpi .slt v134 v2
  let c1_i32_49 : BitVec 32 := 1#32
  let c0_i32_50 : BitVec 32 := 0#32
  let v136 : BitVec 32 := Scalar.select v135 c1_i32_49 c0_i32_50
  let v137 : BitVec 32 := Scalar.addi v132 v136
  let v140 : BitVec 1 := Scalar.cmpi .slt v139 v2
  let c1_i32_51 : BitVec 32 := 1#32
  let c0_i32_52 : BitVec 32 := 0#32
  let v141 : BitVec 32 := Scalar.select v140 c1_i32_51 c0_i32_52
  let v142 : BitVec 32 := Scalar.addi v137 v141
  let v145 : BitVec 1 := Scalar.cmpi .slt v144 v2
  let c1_i32_53 : BitVec 32 := 1#32
  let c0_i32_54 : BitVec 32 := 0#32
  let v146 : BitVec 32 := Scalar.select v145 c1_i32_53 c0_i32_54
  let v147 : BitVec 32 := Scalar.addi v142 v146
  let v150 : BitVec 1 := Scalar.cmpi .slt v149 v2
  let c1_i32_55 : BitVec 32 := 1#32
  let c0_i32_56 : BitVec 32 := 0#32
  let v151 : BitVec 32 := Scalar.select v150 c1_i32_55 c0_i32_56
  let v152 : BitVec 32 := Scalar.addi v147 v151
  let v155 : BitVec 32 := Scalar.addi v154 v152
  let v156 : BitVec 32 := Scalar.select v153 c0_i32_59 v155
  let c0_i32_105 : BitVec 32 := 0#32
  let v250 : BitVec 1 := Scalar.cmpi .sgt v156 c0_i32_105
  let v251 : BitVec 32 := Scalar.extui v250
  let c0_i32_106 : BitVec 32 := 0#32
  let v252 : BitVec 1 := Scalar.cmpi .slt v156 c0_i32_106
  let v253 : BitVec 32 := Scalar.extui v252
  let v254 : BitVec 32 := Scalar.subi v251 v253
  let c64_i32 : BitVec 32 := 64#32
  let c0_i32_107 : BitVec 32 := 0#32
  let v255 : BitVec 1 := Scalar.cmpi .sgt c64_i32 c0_i32_107
  let v256 : BitVec 32 := Scalar.extui v255
  let c0_i32_108 : BitVec 32 := 0#32
  let v257 : BitVec 1 := Scalar.cmpi .slt c64_i32 c0_i32_108
  let v258 : BitVec 32 := Scalar.extui v257
  let v259 : BitVec 32 := Scalar.subi v256 v258
  let v260 : BitVec 1 := Scalar.cmpi .ne v254 v259
  let v261 : BitVec 32 := Scalar.remsi v156 c64_i32
  let c0_i32_109 : BitVec 32 := 0#32
  let v262 : BitVec 1 := Scalar.cmpi .ne v261 c0_i32_109
  let v263 : BitVec 1 := Scalar.andi v260 v262
  let v249 : BitVec 32 := Scalar.divsi v156 c64_i32
  let c1_i32_110 : BitVec 32 := 1#32
  let v264 : BitVec 32 := Scalar.subi v249 c1_i32_110
  let v265 : BitVec 32 := Scalar.select v263 v264 v249
  let v286 : BitVec 32 := Scalar.subi v285 v265
  let c2_i32_124 : BitVec 32 := 2#32
  let v293 : BitVec 32 := Scalar.addi v286 c2_i32_124
  let c1_i32_125 : BitVec 32 := 1#32
  let v294 : BitVec 32 := Scalar.subi v293 c1_i32_125
  let c0_i32_127 : BitVec 32 := 0#32
  let v296 : BitVec 1 := Scalar.cmpi .sgt v294 c0_i32_127
  let v297 : BitVec 32 := Scalar.extui v296
  let c0_i32_128 : BitVec 32 := 0#32
  let v298 : BitVec 1 := Scalar.cmpi .slt v294 c0_i32_128
  let v299 : BitVec 32 := Scalar.extui v298
  let v300 : BitVec 32 := Scalar.subi v297 v299
  let c2_i32_126 : BitVec 32 := 2#32
  let c0_i32_129 : BitVec 32 := 0#32
  let v301 : BitVec 1 := Scalar.cmpi .sgt c2_i32_126 c0_i32_129
  let v302 : BitVec 32 := Scalar.extui v301
  let c0_i32_130 : BitVec 32 := 0#32
  let v303 : BitVec 1 := Scalar.cmpi .slt c2_i32_126 c0_i32_130
  let v304 : BitVec 32 := Scalar.extui v303
  let v305 : BitVec 32 := Scalar.subi v302 v304
  let v306 : BitVec 1 := Scalar.cmpi .ne v300 v305
  let v307 : BitVec 32 := Scalar.remsi v294 c2_i32_126
  let c0_i32_131 : BitVec 32 := 0#32
  let v308 : BitVec 1 := Scalar.cmpi .ne v307 c0_i32_131
  let v309 : BitVec 1 := Scalar.andi v306 v308
  let v295 : BitVec 32 := Scalar.divsi v294 c2_i32_126
  let c1_i32_132 : BitVec 32 := 1#32
  let v310 : BitVec 32 := Scalar.subi v295 c1_i32_132
  let v311 : BitVec 32 := Scalar.select v309 v310 v295
  let v312 : BitVec 32 := Scalar.subi v311 c0_i32_134
  let c1_i32_135 : BitVec 32 := 1#32
  let v314 : BitVec 32 := Scalar.divsi v312 c1_i32_135
  let v315 : BitVec 32 := Scalar.muli v314 c1_i32_135
  let v316 : BitVec 32 := Scalar.addi c0_i32_134 v315
  let c1_i32_136 : BitVec 32 := 1#32
  ⟨c0_i32_134, v316, c1_i32_136⟩
def k0_off39 (i : grid0.Coords) (v66_0 : BitVec 32) (v74 : BitVec 32) (v79 : BitVec 32) (v84 : BitVec 32) (v89 : BitVec 32) (v94 : BitVec 32) (v99 : BitVec 32) (v104 : BitVec 32) (v109 : BitVec 32) (v114 : BitVec 32) (v119 : BitVec 32) (v124 : BitVec 32) (v129 : BitVec 32) (v134 : BitVec 32) (v139 : BitVec 32) (v144 : BitVec 32) (v149 : BitVec 32) (v158_0 : BitVec 32) (v166 : BitVec 32) (v171 : BitVec 32) (v176 : BitVec 32) (v181 : BitVec 32) (v186 : BitVec 32) (v191 : BitVec 32) (v196 : BitVec 32) (v201 : BitVec 32) (v206 : BitVec 32) (v211 : BitVec 32) (v216 : BitVec 32) (v221 : BitVec 32) (v226 : BitVec 32) (v231 : BitVec 32) (v236 : BitVec 32) (v241 : BitVec 32) (k0_t4 : Fin (k0_t4_loop i v66_0 v74 v79 v84 v89 v94 v99 v104 v109 v114 v119 v124 v129 v134 v139 v144 v149 v158_0 v166 v171 v176 v181 v186 v191 v196 v201 v206 v211 v216 v221 v226 v231 v236 v241).trips) : Fin 2 → Nat :=
  let c0_i32_57 : BitVec 32 := 0#32
  let v153 : BitVec 1 := Scalar.cmpi .eq v66_0 c0_i32_57
  let c0_i32_59 : BitVec 32 := 0#32
  let c1_i32_22 : BitVec 32 := 1#32
  let v67 : BitVec 32 := Scalar.subi v66_0 c1_i32_22
  let c0_i32_23 : BitVec 32 := 0#32
  let v68 : BitVec 32 := Scalar.maxsi v67 c0_i32_23
  let c16_i32_58 : BitVec 32 := 16#32
  let v154 : BitVec 32 := Scalar.muli v68 c16_i32_58
  let c0_i32_26 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let v75 : BitVec 1 := Scalar.cmpi .slt v74 v2
  let c1_i32_24 : BitVec 32 := 1#32
  let c0_i32_25 : BitVec 32 := 0#32
  let v76 : BitVec 32 := Scalar.select v75 c1_i32_24 c0_i32_25
  let v77 : BitVec 32 := Scalar.addi c0_i32_26 v76
  let v80 : BitVec 1 := Scalar.cmpi .slt v79 v2
  let c1_i32_27 : BitVec 32 := 1#32
  let c0_i32_28 : BitVec 32 := 0#32
  let v81 : BitVec 32 := Scalar.select v80 c1_i32_27 c0_i32_28
  let v82 : BitVec 32 := Scalar.addi v77 v81
  let v85 : BitVec 1 := Scalar.cmpi .slt v84 v2
  let c1_i32_29 : BitVec 32 := 1#32
  let c0_i32_30 : BitVec 32 := 0#32
  let v86 : BitVec 32 := Scalar.select v85 c1_i32_29 c0_i32_30
  let v87 : BitVec 32 := Scalar.addi v82 v86
  let v90 : BitVec 1 := Scalar.cmpi .slt v89 v2
  let c1_i32_31 : BitVec 32 := 1#32
  let c0_i32_32 : BitVec 32 := 0#32
  let v91 : BitVec 32 := Scalar.select v90 c1_i32_31 c0_i32_32
  let v92 : BitVec 32 := Scalar.addi v87 v91
  let v95 : BitVec 1 := Scalar.cmpi .slt v94 v2
  let c1_i32_33 : BitVec 32 := 1#32
  let c0_i32_34 : BitVec 32 := 0#32
  let v96 : BitVec 32 := Scalar.select v95 c1_i32_33 c0_i32_34
  let v97 : BitVec 32 := Scalar.addi v92 v96
  let v100 : BitVec 1 := Scalar.cmpi .slt v99 v2
  let c1_i32_35 : BitVec 32 := 1#32
  let c0_i32_36 : BitVec 32 := 0#32
  let v101 : BitVec 32 := Scalar.select v100 c1_i32_35 c0_i32_36
  let v102 : BitVec 32 := Scalar.addi v97 v101
  let v105 : BitVec 1 := Scalar.cmpi .slt v104 v2
  let c1_i32_37 : BitVec 32 := 1#32
  let c0_i32_38 : BitVec 32 := 0#32
  let v106 : BitVec 32 := Scalar.select v105 c1_i32_37 c0_i32_38
  let v107 : BitVec 32 := Scalar.addi v102 v106
  let v110 : BitVec 1 := Scalar.cmpi .slt v109 v2
  let c1_i32_39 : BitVec 32 := 1#32
  let c0_i32_40 : BitVec 32 := 0#32
  let v111 : BitVec 32 := Scalar.select v110 c1_i32_39 c0_i32_40
  let v112 : BitVec 32 := Scalar.addi v107 v111
  let v115 : BitVec 1 := Scalar.cmpi .slt v114 v2
  let c1_i32_41 : BitVec 32 := 1#32
  let c0_i32_42 : BitVec 32 := 0#32
  let v116 : BitVec 32 := Scalar.select v115 c1_i32_41 c0_i32_42
  let v117 : BitVec 32 := Scalar.addi v112 v116
  let v120 : BitVec 1 := Scalar.cmpi .slt v119 v2
  let c1_i32_43 : BitVec 32 := 1#32
  let c0_i32_44 : BitVec 32 := 0#32
  let v121 : BitVec 32 := Scalar.select v120 c1_i32_43 c0_i32_44
  let v122 : BitVec 32 := Scalar.addi v117 v121
  let v125 : BitVec 1 := Scalar.cmpi .slt v124 v2
  let c1_i32_45 : BitVec 32 := 1#32
  let c0_i32_46 : BitVec 32 := 0#32
  let v126 : BitVec 32 := Scalar.select v125 c1_i32_45 c0_i32_46
  let v127 : BitVec 32 := Scalar.addi v122 v126
  let v130 : BitVec 1 := Scalar.cmpi .slt v129 v2
  let c1_i32_47 : BitVec 32 := 1#32
  let c0_i32_48 : BitVec 32 := 0#32
  let v131 : BitVec 32 := Scalar.select v130 c1_i32_47 c0_i32_48
  let v132 : BitVec 32 := Scalar.addi v127 v131
  let v135 : BitVec 1 := Scalar.cmpi .slt v134 v2
  let c1_i32_49 : BitVec 32 := 1#32
  let c0_i32_50 : BitVec 32 := 0#32
  let v136 : BitVec 32 := Scalar.select v135 c1_i32_49 c0_i32_50
  let v137 : BitVec 32 := Scalar.addi v132 v136
  let v140 : BitVec 1 := Scalar.cmpi .slt v139 v2
  let c1_i32_51 : BitVec 32 := 1#32
  let c0_i32_52 : BitVec 32 := 0#32
  let v141 : BitVec 32 := Scalar.select v140 c1_i32_51 c0_i32_52
  let v142 : BitVec 32 := Scalar.addi v137 v141
  let v145 : BitVec 1 := Scalar.cmpi .slt v144 v2
  let c1_i32_53 : BitVec 32 := 1#32
  let c0_i32_54 : BitVec 32 := 0#32
  let v146 : BitVec 32 := Scalar.select v145 c1_i32_53 c0_i32_54
  let v147 : BitVec 32 := Scalar.addi v142 v146
  let v150 : BitVec 1 := Scalar.cmpi .slt v149 v2
  let c1_i32_55 : BitVec 32 := 1#32
  let c0_i32_56 : BitVec 32 := 0#32
  let v151 : BitVec 32 := Scalar.select v150 c1_i32_55 c0_i32_56
  let v152 : BitVec 32 := Scalar.addi v147 v151
  let v155 : BitVec 32 := Scalar.addi v154 v152
  let v156 : BitVec 32 := Scalar.select v153 c0_i32_59 v155
  let c0_i32_105 : BitVec 32 := 0#32
  let v250 : BitVec 1 := Scalar.cmpi .sgt v156 c0_i32_105
  let v251 : BitVec 32 := Scalar.extui v250
  let c0_i32_106 : BitVec 32 := 0#32
  let v252 : BitVec 1 := Scalar.cmpi .slt v156 c0_i32_106
  let v253 : BitVec 32 := Scalar.extui v252
  let v254 : BitVec 32 := Scalar.subi v251 v253
  let c64_i32 : BitVec 32 := 64#32
  let c0_i32_107 : BitVec 32 := 0#32
  let v255 : BitVec 1 := Scalar.cmpi .sgt c64_i32 c0_i32_107
  let v256 : BitVec 32 := Scalar.extui v255
  let c0_i32_108 : BitVec 32 := 0#32
  let v257 : BitVec 1 := Scalar.cmpi .slt c64_i32 c0_i32_108
  let v258 : BitVec 32 := Scalar.extui v257
  let v259 : BitVec 32 := Scalar.subi v256 v258
  let v260 : BitVec 1 := Scalar.cmpi .ne v254 v259
  let v261 : BitVec 32 := Scalar.remsi v156 c64_i32
  let c0_i32_109 : BitVec 32 := 0#32
  let v262 : BitVec 1 := Scalar.cmpi .ne v261 c0_i32_109
  let v263 : BitVec 1 := Scalar.andi v260 v262
  let v249 : BitVec 32 := Scalar.divsi v156 c64_i32
  let c1_i32_110 : BitVec 32 := 1#32
  let v264 : BitVec 32 := Scalar.subi v249 c1_i32_110
  let v265 : BitVec 32 := Scalar.select v263 v264 v249
  let c2_i32_139 : BitVec 32 := 2#32
  let c0_i32_134 : BitVec 32 := 0#32
  let c1_i32_136 : BitVec 32 := 1#32
  let arg13 : BitVec 32 := Scf.iv c0_i32_134 c1_i32_136 k0_t4
  let v320 : BitVec 32 := Scalar.muli c2_i32_139 arg13
  let v321 : BitVec 32 := Scalar.addi v265 v320
  let c0_i32_144 : BitVec 32 := 0#32
  let v330 : BitVec 32 := Scalar.addi v321 c0_i32_144
  let c64_i32_145 : BitVec 32 := 64#32
  let v331 : BitVec 32 := Scalar.muli v330 c64_i32_145
  let c0_i32_146 : BitVec 32 := 0#32
  ![v331.toNat, 0]
def k0_cond3 (i : grid0.Coords) (v66_0 : BitVec 32) (v74 : BitVec 32) (v79 : BitVec 32) (v84 : BitVec 32) (v89 : BitVec 32) (v94 : BitVec 32) (v99 : BitVec 32) (v104 : BitVec 32) (v109 : BitVec 32) (v114 : BitVec 32) (v119 : BitVec 32) (v124 : BitVec 32) (v129 : BitVec 32) (v134 : BitVec 32) (v139 : BitVec 32) (v144 : BitVec 32) (v149 : BitVec 32) (v158_0 : BitVec 32) (v166 : BitVec 32) (v171 : BitVec 32) (v176 : BitVec 32) (v181 : BitVec 32) (v186 : BitVec 32) (v191 : BitVec 32) (v196 : BitVec 32) (v201 : BitVec 32) (v206 : BitVec 32) (v211 : BitVec 32) (v216 : BitVec 32) (v221 : BitVec 32) (v226 : BitVec 32) (v231 : BitVec 32) (v236 : BitVec 32) (v241 : BitVec 32) (k0_t4 : Fin (k0_t4_loop i v66_0 v74 v79 v84 v89 v94 v99 v104 v109 v114 v119 v124 v129 v134 v139 v144 v149 v158_0 v166 v171 v176 v181 v186 v191 v196 v201 v206 v211 v216 v221 v226 v231 v236 v241).trips) : BitVec 1 :=
  let c0_i32_57 : BitVec 32 := 0#32
  let v153 : BitVec 1 := Scalar.cmpi .eq v66_0 c0_i32_57
  let c0_i32_59 : BitVec 32 := 0#32
  let c1_i32_22 : BitVec 32 := 1#32
  let v67 : BitVec 32 := Scalar.subi v66_0 c1_i32_22
  let c0_i32_23 : BitVec 32 := 0#32
  let v68 : BitVec 32 := Scalar.maxsi v67 c0_i32_23
  let c16_i32_58 : BitVec 32 := 16#32
  let v154 : BitVec 32 := Scalar.muli v68 c16_i32_58
  let c0_i32_26 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let v75 : BitVec 1 := Scalar.cmpi .slt v74 v2
  let c1_i32_24 : BitVec 32 := 1#32
  let c0_i32_25 : BitVec 32 := 0#32
  let v76 : BitVec 32 := Scalar.select v75 c1_i32_24 c0_i32_25
  let v77 : BitVec 32 := Scalar.addi c0_i32_26 v76
  let v80 : BitVec 1 := Scalar.cmpi .slt v79 v2
  let c1_i32_27 : BitVec 32 := 1#32
  let c0_i32_28 : BitVec 32 := 0#32
  let v81 : BitVec 32 := Scalar.select v80 c1_i32_27 c0_i32_28
  let v82 : BitVec 32 := Scalar.addi v77 v81
  let v85 : BitVec 1 := Scalar.cmpi .slt v84 v2
  let c1_i32_29 : BitVec 32 := 1#32
  let c0_i32_30 : BitVec 32 := 0#32
  let v86 : BitVec 32 := Scalar.select v85 c1_i32_29 c0_i32_30
  let v87 : BitVec 32 := Scalar.addi v82 v86
  let v90 : BitVec 1 := Scalar.cmpi .slt v89 v2
  let c1_i32_31 : BitVec 32 := 1#32
  let c0_i32_32 : BitVec 32 := 0#32
  let v91 : BitVec 32 := Scalar.select v90 c1_i32_31 c0_i32_32
  let v92 : BitVec 32 := Scalar.addi v87 v91
  let v95 : BitVec 1 := Scalar.cmpi .slt v94 v2
  let c1_i32_33 : BitVec 32 := 1#32
  let c0_i32_34 : BitVec 32 := 0#32
  let v96 : BitVec 32 := Scalar.select v95 c1_i32_33 c0_i32_34
  let v97 : BitVec 32 := Scalar.addi v92 v96
  let v100 : BitVec 1 := Scalar.cmpi .slt v99 v2
  let c1_i32_35 : BitVec 32 := 1#32
  let c0_i32_36 : BitVec 32 := 0#32
  let v101 : BitVec 32 := Scalar.select v100 c1_i32_35 c0_i32_36
  let v102 : BitVec 32 := Scalar.addi v97 v101
  let v105 : BitVec 1 := Scalar.cmpi .slt v104 v2
  let c1_i32_37 : BitVec 32 := 1#32
  let c0_i32_38 : BitVec 32 := 0#32
  let v106 : BitVec 32 := Scalar.select v105 c1_i32_37 c0_i32_38
  let v107 : BitVec 32 := Scalar.addi v102 v106
  let v110 : BitVec 1 := Scalar.cmpi .slt v109 v2
  let c1_i32_39 : BitVec 32 := 1#32
  let c0_i32_40 : BitVec 32 := 0#32
  let v111 : BitVec 32 := Scalar.select v110 c1_i32_39 c0_i32_40
  let v112 : BitVec 32 := Scalar.addi v107 v111
  let v115 : BitVec 1 := Scalar.cmpi .slt v114 v2
  let c1_i32_41 : BitVec 32 := 1#32
  let c0_i32_42 : BitVec 32 := 0#32
  let v116 : BitVec 32 := Scalar.select v115 c1_i32_41 c0_i32_42
  let v117 : BitVec 32 := Scalar.addi v112 v116
  let v120 : BitVec 1 := Scalar.cmpi .slt v119 v2
  let c1_i32_43 : BitVec 32 := 1#32
  let c0_i32_44 : BitVec 32 := 0#32
  let v121 : BitVec 32 := Scalar.select v120 c1_i32_43 c0_i32_44
  let v122 : BitVec 32 := Scalar.addi v117 v121
  let v125 : BitVec 1 := Scalar.cmpi .slt v124 v2
  let c1_i32_45 : BitVec 32 := 1#32
  let c0_i32_46 : BitVec 32 := 0#32
  let v126 : BitVec 32 := Scalar.select v125 c1_i32_45 c0_i32_46
  let v127 : BitVec 32 := Scalar.addi v122 v126
  let v130 : BitVec 1 := Scalar.cmpi .slt v129 v2
  let c1_i32_47 : BitVec 32 := 1#32
  let c0_i32_48 : BitVec 32 := 0#32
  let v131 : BitVec 32 := Scalar.select v130 c1_i32_47 c0_i32_48
  let v132 : BitVec 32 := Scalar.addi v127 v131
  let v135 : BitVec 1 := Scalar.cmpi .slt v134 v2
  let c1_i32_49 : BitVec 32 := 1#32
  let c0_i32_50 : BitVec 32 := 0#32
  let v136 : BitVec 32 := Scalar.select v135 c1_i32_49 c0_i32_50
  let v137 : BitVec 32 := Scalar.addi v132 v136
  let v140 : BitVec 1 := Scalar.cmpi .slt v139 v2
  let c1_i32_51 : BitVec 32 := 1#32
  let c0_i32_52 : BitVec 32 := 0#32
  let v141 : BitVec 32 := Scalar.select v140 c1_i32_51 c0_i32_52
  let v142 : BitVec 32 := Scalar.addi v137 v141
  let v145 : BitVec 1 := Scalar.cmpi .slt v144 v2
  let c1_i32_53 : BitVec 32 := 1#32
  let c0_i32_54 : BitVec 32 := 0#32
  let v146 : BitVec 32 := Scalar.select v145 c1_i32_53 c0_i32_54
  let v147 : BitVec 32 := Scalar.addi v142 v146
  let v150 : BitVec 1 := Scalar.cmpi .slt v149 v2
  let c1_i32_55 : BitVec 32 := 1#32
  let c0_i32_56 : BitVec 32 := 0#32
  let v151 : BitVec 32 := Scalar.select v150 c1_i32_55 c0_i32_56
  let v152 : BitVec 32 := Scalar.addi v147 v151
  let v155 : BitVec 32 := Scalar.addi v154 v152
  let v156 : BitVec 32 := Scalar.select v153 c0_i32_59 v155
  let c0_i32_105 : BitVec 32 := 0#32
  let v250 : BitVec 1 := Scalar.cmpi .sgt v156 c0_i32_105
  let v251 : BitVec 32 := Scalar.extui v250
  let c0_i32_106 : BitVec 32 := 0#32
  let v252 : BitVec 1 := Scalar.cmpi .slt v156 c0_i32_106
  let v253 : BitVec 32 := Scalar.extui v252
  let v254 : BitVec 32 := Scalar.subi v251 v253
  let c64_i32 : BitVec 32 := 64#32
  let c0_i32_107 : BitVec 32 := 0#32
  let v255 : BitVec 1 := Scalar.cmpi .sgt c64_i32 c0_i32_107
  let v256 : BitVec 32 := Scalar.extui v255
  let c0_i32_108 : BitVec 32 := 0#32
  let v257 : BitVec 1 := Scalar.cmpi .slt c64_i32 c0_i32_108
  let v258 : BitVec 32 := Scalar.extui v257
  let v259 : BitVec 32 := Scalar.subi v256 v258
  let v260 : BitVec 1 := Scalar.cmpi .ne v254 v259
  let v261 : BitVec 32 := Scalar.remsi v156 c64_i32
  let c0_i32_109 : BitVec 32 := 0#32
  let v262 : BitVec 1 := Scalar.cmpi .ne v261 c0_i32_109
  let v263 : BitVec 1 := Scalar.andi v260 v262
  let v249 : BitVec 32 := Scalar.divsi v156 c64_i32
  let c1_i32_110 : BitVec 32 := 1#32
  let v264 : BitVec 32 := Scalar.subi v249 c1_i32_110
  let v265 : BitVec 32 := Scalar.select v263 v264 v249
  let c2_i32_139 : BitVec 32 := 2#32
  let c0_i32_134 : BitVec 32 := 0#32
  let c1_i32_136 : BitVec 32 := 1#32
  let arg13 : BitVec 32 := Scf.iv c0_i32_134 c1_i32_136 k0_t4
  let v320 : BitVec 32 := Scalar.muli c2_i32_139 arg13
  let v321 : BitVec 32 := Scalar.addi v265 v320
  let c0_i32_140 : BitVec 32 := 0#32
  let v322 : BitVec 32 := Scalar.addi v321 c0_i32_140
  let c0_i32_102 : BitVec 32 := 0#32
  let v245 : BitVec 1 := Scalar.cmpi .eq v158_0 c0_i32_102
  let c0_i32_104 : BitVec 32 := 0#32
  let c1_i32_66 : BitVec 32 := 1#32
  let v159 : BitVec 32 := Scalar.subi v158_0 c1_i32_66
  let c0_i32_67 : BitVec 32 := 0#32
  let v160 : BitVec 32 := Scalar.maxsi v159 c0_i32_67
  let c16_i32_103 : BitVec 32 := 16#32
  let v246 : BitVec 32 := Scalar.muli v160 c16_i32_103
  let c0_i32_71 : BitVec 32 := 0#32
  let c32_i32_0 : BitVec 32 := 32#32
  let v3 : BitVec 32 := Scalar.addi v2 c32_i32_0
  let v167 : BitVec 1 := Scalar.cmpi .slt v166 v3
  let c1_i32_69 : BitVec 32 := 1#32
  let c0_i32_70 : BitVec 32 := 0#32
  let v168 : BitVec 32 := Scalar.select v167 c1_i32_69 c0_i32_70
  let v169 : BitVec 32 := Scalar.addi c0_i32_71 v168
  let v172 : BitVec 1 := Scalar.cmpi .slt v171 v3
  let c1_i32_72 : BitVec 32 := 1#32
  let c0_i32_73 : BitVec 32 := 0#32
  let v173 : BitVec 32 := Scalar.select v172 c1_i32_72 c0_i32_73
  let v174 : BitVec 32 := Scalar.addi v169 v173
  let v177 : BitVec 1 := Scalar.cmpi .slt v176 v3
  let c1_i32_74 : BitVec 32 := 1#32
  let c0_i32_75 : BitVec 32 := 0#32
  let v178 : BitVec 32 := Scalar.select v177 c1_i32_74 c0_i32_75
  let v179 : BitVec 32 := Scalar.addi v174 v178
  let v182 : BitVec 1 := Scalar.cmpi .slt v181 v3
  let c1_i32_76 : BitVec 32 := 1#32
  let c0_i32_77 : BitVec 32 := 0#32
  let v183 : BitVec 32 := Scalar.select v182 c1_i32_76 c0_i32_77
  let v184 : BitVec 32 := Scalar.addi v179 v183
  let v187 : BitVec 1 := Scalar.cmpi .slt v186 v3
  let c1_i32_78 : BitVec 32 := 1#32
  let c0_i32_79 : BitVec 32 := 0#32
  let v188 : BitVec 32 := Scalar.select v187 c1_i32_78 c0_i32_79
  let v189 : BitVec 32 := Scalar.addi v184 v188
  let v192 : BitVec 1 := Scalar.cmpi .slt v191 v3
  let c1_i32_80 : BitVec 32 := 1#32
  let c0_i32_81 : BitVec 32 := 0#32
  let v193 : BitVec 32 := Scalar.select v192 c1_i32_80 c0_i32_81
  let v194 : BitVec 32 := Scalar.addi v189 v193
  let v197 : BitVec 1 := Scalar.cmpi .slt v196 v3
  let c1_i32_82 : BitVec 32 := 1#32
  let c0_i32_83 : BitVec 32 := 0#32
  let v198 : BitVec 32 := Scalar.select v197 c1_i32_82 c0_i32_83
  let v199 : BitVec 32 := Scalar.addi v194 v198
  let v202 : BitVec 1 := Scalar.cmpi .slt v201 v3
  let c1_i32_84 : BitVec 32 := 1#32
  let c0_i32_85 : BitVec 32 := 0#32
  let v203 : BitVec 32 := Scalar.select v202 c1_i32_84 c0_i32_85
  let v204 : BitVec 32 := Scalar.addi v199 v203
  let v207 : BitVec 1 := Scalar.cmpi .slt v206 v3
  let c1_i32_86 : BitVec 32 := 1#32
  let c0_i32_87 : BitVec 32 := 0#32
  let v208 : BitVec 32 := Scalar.select v207 c1_i32_86 c0_i32_87
  let v209 : BitVec 32 := Scalar.addi v204 v208
  let v212 : BitVec 1 := Scalar.cmpi .slt v211 v3
  let c1_i32_88 : BitVec 32 := 1#32
  let c0_i32_89 : BitVec 32 := 0#32
  let v213 : BitVec 32 := Scalar.select v212 c1_i32_88 c0_i32_89
  let v214 : BitVec 32 := Scalar.addi v209 v213
  let v217 : BitVec 1 := Scalar.cmpi .slt v216 v3
  let c1_i32_90 : BitVec 32 := 1#32
  let c0_i32_91 : BitVec 32 := 0#32
  let v218 : BitVec 32 := Scalar.select v217 c1_i32_90 c0_i32_91
  let v219 : BitVec 32 := Scalar.addi v214 v218
  let v222 : BitVec 1 := Scalar.cmpi .slt v221 v3
  let c1_i32_92 : BitVec 32 := 1#32
  let c0_i32_93 : BitVec 32 := 0#32
  let v223 : BitVec 32 := Scalar.select v222 c1_i32_92 c0_i32_93
  let v224 : BitVec 32 := Scalar.addi v219 v223
  let v227 : BitVec 1 := Scalar.cmpi .slt v226 v3
  let c1_i32_94 : BitVec 32 := 1#32
  let c0_i32_95 : BitVec 32 := 0#32
  let v228 : BitVec 32 := Scalar.select v227 c1_i32_94 c0_i32_95
  let v229 : BitVec 32 := Scalar.addi v224 v228
  let v232 : BitVec 1 := Scalar.cmpi .slt v231 v3
  let c1_i32_96 : BitVec 32 := 1#32
  let c0_i32_97 : BitVec 32 := 0#32
  let v233 : BitVec 32 := Scalar.select v232 c1_i32_96 c0_i32_97
  let v234 : BitVec 32 := Scalar.addi v229 v233
  let v237 : BitVec 1 := Scalar.cmpi .slt v236 v3
  let c1_i32_98 : BitVec 32 := 1#32
  let c0_i32_99 : BitVec 32 := 0#32
  let v238 : BitVec 32 := Scalar.select v237 c1_i32_98 c0_i32_99
  let v239 : BitVec 32 := Scalar.addi v234 v238
  let v242 : BitVec 1 := Scalar.cmpi .slt v241 v3
  let c1_i32_100 : BitVec 32 := 1#32
  let c0_i32_101 : BitVec 32 := 0#32
  let v243 : BitVec 32 := Scalar.select v242 c1_i32_100 c0_i32_101
  let v244 : BitVec 32 := Scalar.addi v239 v243
  let v247 : BitVec 32 := Scalar.addi v246 v244
  let v248 : BitVec 32 := Scalar.select v245 c0_i32_104 v247
  let c64_i32_111 : BitVec 32 := 64#32
  let v266 : BitVec 32 := Scalar.addi v248 c64_i32_111
  let c1_i32_112 : BitVec 32 := 1#32
  let v267 : BitVec 32 := Scalar.subi v266 c1_i32_112
  let c0_i32_114 : BitVec 32 := 0#32
  let v269 : BitVec 1 := Scalar.cmpi .sgt v267 c0_i32_114
  let v270 : BitVec 32 := Scalar.extui v269
  let c0_i32_115 : BitVec 32 := 0#32
  let v271 : BitVec 1 := Scalar.cmpi .slt v267 c0_i32_115
  let v272 : BitVec 32 := Scalar.extui v271
  let v273 : BitVec 32 := Scalar.subi v270 v272
  let c64_i32_113 : BitVec 32 := 64#32
  let c0_i32_116 : BitVec 32 := 0#32
  let v274 : BitVec 1 := Scalar.cmpi .sgt c64_i32_113 c0_i32_116
  let v275 : BitVec 32 := Scalar.extui v274
  let c0_i32_117 : BitVec 32 := 0#32
  let v276 : BitVec 1 := Scalar.cmpi .slt c64_i32_113 c0_i32_117
  let v277 : BitVec 32 := Scalar.extui v276
  let v278 : BitVec 32 := Scalar.subi v275 v277
  let v279 : BitVec 1 := Scalar.cmpi .ne v273 v278
  let v280 : BitVec 32 := Scalar.remsi v267 c64_i32_113
  let c0_i32_118 : BitVec 32 := 0#32
  let v281 : BitVec 1 := Scalar.cmpi .ne v280 c0_i32_118
  let v282 : BitVec 1 := Scalar.andi v279 v281
  let v268 : BitVec 32 := Scalar.divsi v267 c64_i32_113
  let c1_i32_119 : BitVec 32 := 1#32
  let v283 : BitVec 32 := Scalar.subi v268 c1_i32_119
  let v284 : BitVec 32 := Scalar.select v282 v283 v268
  let c156_i32 : BitVec 32 := 156#32
  let v285 : BitVec 32 := Scalar.minsi v284 c156_i32
  let v323 : BitVec 1 := Scalar.cmpi .slt v322 v285
  let v324 : BitVec 32 := Scalar.extui v323
  let c0_i32_141 : BitVec 32 := 0#32
  let v325 : BitVec 1 := Scalar.cmpi .ne v324 c0_i32_141
  v325

@[reducible] def k0_t5_loop : Scf.Loop 32 :=
  let c0_i32_149 : BitVec 32 := 0#32
  let c4_i32 : BitVec 32 := 4#32
  let v334 : BitVec 32 := Scalar.addi c0_i32_149 c4_i32
  let c1_i32_150 : BitVec 32 := 1#32
  ⟨c0_i32_149, v334, c1_i32_150⟩
def k0_off40 (i : grid0.Coords) (v66_0 : BitVec 32) (v74 : BitVec 32) (v79 : BitVec 32) (v84 : BitVec 32) (v89 : BitVec 32) (v94 : BitVec 32) (v99 : BitVec 32) (v104 : BitVec 32) (v109 : BitVec 32) (v114 : BitVec 32) (v119 : BitVec 32) (v124 : BitVec 32) (v129 : BitVec 32) (v134 : BitVec 32) (v139 : BitVec 32) (v144 : BitVec 32) (v149 : BitVec 32) (v158_0 : BitVec 32) (v166 : BitVec 32) (v171 : BitVec 32) (v176 : BitVec 32) (v181 : BitVec 32) (v186 : BitVec 32) (v191 : BitVec 32) (v196 : BitVec 32) (v201 : BitVec 32) (v206 : BitVec 32) (v211 : BitVec 32) (v216 : BitVec 32) (v221 : BitVec 32) (v226 : BitVec 32) (v231 : BitVec 32) (v236 : BitVec 32) (v241 : BitVec 32) (k0_t4 : Fin (k0_t4_loop i v66_0 v74 v79 v84 v89 v94 v99 v104 v109 v114 v119 v124 v129 v134 v139 v144 v149 v158_0 v166 v171 v176 v181 v186 v191 v196 v201 v206 v211 v216 v221 v226 v231 v236 v241).trips) (k0_t5 : Fin k0_t5_loop.trips) : Fin 1 → Nat :=
  let c0_i32_57 : BitVec 32 := 0#32
  let v153 : BitVec 1 := Scalar.cmpi .eq v66_0 c0_i32_57
  let c0_i32_59 : BitVec 32 := 0#32
  let c1_i32_22 : BitVec 32 := 1#32
  let v67 : BitVec 32 := Scalar.subi v66_0 c1_i32_22
  let c0_i32_23 : BitVec 32 := 0#32
  let v68 : BitVec 32 := Scalar.maxsi v67 c0_i32_23
  let c16_i32_58 : BitVec 32 := 16#32
  let v154 : BitVec 32 := Scalar.muli v68 c16_i32_58
  let c0_i32_26 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let v75 : BitVec 1 := Scalar.cmpi .slt v74 v2
  let c1_i32_24 : BitVec 32 := 1#32
  let c0_i32_25 : BitVec 32 := 0#32
  let v76 : BitVec 32 := Scalar.select v75 c1_i32_24 c0_i32_25
  let v77 : BitVec 32 := Scalar.addi c0_i32_26 v76
  let v80 : BitVec 1 := Scalar.cmpi .slt v79 v2
  let c1_i32_27 : BitVec 32 := 1#32
  let c0_i32_28 : BitVec 32 := 0#32
  let v81 : BitVec 32 := Scalar.select v80 c1_i32_27 c0_i32_28
  let v82 : BitVec 32 := Scalar.addi v77 v81
  let v85 : BitVec 1 := Scalar.cmpi .slt v84 v2
  let c1_i32_29 : BitVec 32 := 1#32
  let c0_i32_30 : BitVec 32 := 0#32
  let v86 : BitVec 32 := Scalar.select v85 c1_i32_29 c0_i32_30
  let v87 : BitVec 32 := Scalar.addi v82 v86
  let v90 : BitVec 1 := Scalar.cmpi .slt v89 v2
  let c1_i32_31 : BitVec 32 := 1#32
  let c0_i32_32 : BitVec 32 := 0#32
  let v91 : BitVec 32 := Scalar.select v90 c1_i32_31 c0_i32_32
  let v92 : BitVec 32 := Scalar.addi v87 v91
  let v95 : BitVec 1 := Scalar.cmpi .slt v94 v2
  let c1_i32_33 : BitVec 32 := 1#32
  let c0_i32_34 : BitVec 32 := 0#32
  let v96 : BitVec 32 := Scalar.select v95 c1_i32_33 c0_i32_34
  let v97 : BitVec 32 := Scalar.addi v92 v96
  let v100 : BitVec 1 := Scalar.cmpi .slt v99 v2
  let c1_i32_35 : BitVec 32 := 1#32
  let c0_i32_36 : BitVec 32 := 0#32
  let v101 : BitVec 32 := Scalar.select v100 c1_i32_35 c0_i32_36
  let v102 : BitVec 32 := Scalar.addi v97 v101
  let v105 : BitVec 1 := Scalar.cmpi .slt v104 v2
  let c1_i32_37 : BitVec 32 := 1#32
  let c0_i32_38 : BitVec 32 := 0#32
  let v106 : BitVec 32 := Scalar.select v105 c1_i32_37 c0_i32_38
  let v107 : BitVec 32 := Scalar.addi v102 v106
  let v110 : BitVec 1 := Scalar.cmpi .slt v109 v2
  let c1_i32_39 : BitVec 32 := 1#32
  let c0_i32_40 : BitVec 32 := 0#32
  let v111 : BitVec 32 := Scalar.select v110 c1_i32_39 c0_i32_40
  let v112 : BitVec 32 := Scalar.addi v107 v111
  let v115 : BitVec 1 := Scalar.cmpi .slt v114 v2
  let c1_i32_41 : BitVec 32 := 1#32
  let c0_i32_42 : BitVec 32 := 0#32
  let v116 : BitVec 32 := Scalar.select v115 c1_i32_41 c0_i32_42
  let v117 : BitVec 32 := Scalar.addi v112 v116
  let v120 : BitVec 1 := Scalar.cmpi .slt v119 v2
  let c1_i32_43 : BitVec 32 := 1#32
  let c0_i32_44 : BitVec 32 := 0#32
  let v121 : BitVec 32 := Scalar.select v120 c1_i32_43 c0_i32_44
  let v122 : BitVec 32 := Scalar.addi v117 v121
  let v125 : BitVec 1 := Scalar.cmpi .slt v124 v2
  let c1_i32_45 : BitVec 32 := 1#32
  let c0_i32_46 : BitVec 32 := 0#32
  let v126 : BitVec 32 := Scalar.select v125 c1_i32_45 c0_i32_46
  let v127 : BitVec 32 := Scalar.addi v122 v126
  let v130 : BitVec 1 := Scalar.cmpi .slt v129 v2
  let c1_i32_47 : BitVec 32 := 1#32
  let c0_i32_48 : BitVec 32 := 0#32
  let v131 : BitVec 32 := Scalar.select v130 c1_i32_47 c0_i32_48
  let v132 : BitVec 32 := Scalar.addi v127 v131
  let v135 : BitVec 1 := Scalar.cmpi .slt v134 v2
  let c1_i32_49 : BitVec 32 := 1#32
  let c0_i32_50 : BitVec 32 := 0#32
  let v136 : BitVec 32 := Scalar.select v135 c1_i32_49 c0_i32_50
  let v137 : BitVec 32 := Scalar.addi v132 v136
  let v140 : BitVec 1 := Scalar.cmpi .slt v139 v2
  let c1_i32_51 : BitVec 32 := 1#32
  let c0_i32_52 : BitVec 32 := 0#32
  let v141 : BitVec 32 := Scalar.select v140 c1_i32_51 c0_i32_52
  let v142 : BitVec 32 := Scalar.addi v137 v141
  let v145 : BitVec 1 := Scalar.cmpi .slt v144 v2
  let c1_i32_53 : BitVec 32 := 1#32
  let c0_i32_54 : BitVec 32 := 0#32
  let v146 : BitVec 32 := Scalar.select v145 c1_i32_53 c0_i32_54
  let v147 : BitVec 32 := Scalar.addi v142 v146
  let v150 : BitVec 1 := Scalar.cmpi .slt v149 v2
  let c1_i32_55 : BitVec 32 := 1#32
  let c0_i32_56 : BitVec 32 := 0#32
  let v151 : BitVec 32 := Scalar.select v150 c1_i32_55 c0_i32_56
  let v152 : BitVec 32 := Scalar.addi v147 v151
  let v155 : BitVec 32 := Scalar.addi v154 v152
  let v156 : BitVec 32 := Scalar.select v153 c0_i32_59 v155
  let c0_i32_105 : BitVec 32 := 0#32
  let v250 : BitVec 1 := Scalar.cmpi .sgt v156 c0_i32_105
  let v251 : BitVec 32 := Scalar.extui v250
  let c0_i32_106 : BitVec 32 := 0#32
  let v252 : BitVec 1 := Scalar.cmpi .slt v156 c0_i32_106
  let v253 : BitVec 32 := Scalar.extui v252
  let v254 : BitVec 32 := Scalar.subi v251 v253
  let c64_i32 : BitVec 32 := 64#32
  let c0_i32_107 : BitVec 32 := 0#32
  let v255 : BitVec 1 := Scalar.cmpi .sgt c64_i32 c0_i32_107
  let v256 : BitVec 32 := Scalar.extui v255
  let c0_i32_108 : BitVec 32 := 0#32
  let v257 : BitVec 1 := Scalar.cmpi .slt c64_i32 c0_i32_108
  let v258 : BitVec 32 := Scalar.extui v257
  let v259 : BitVec 32 := Scalar.subi v256 v258
  let v260 : BitVec 1 := Scalar.cmpi .ne v254 v259
  let v261 : BitVec 32 := Scalar.remsi v156 c64_i32
  let c0_i32_109 : BitVec 32 := 0#32
  let v262 : BitVec 1 := Scalar.cmpi .ne v261 c0_i32_109
  let v263 : BitVec 1 := Scalar.andi v260 v262
  let v249 : BitVec 32 := Scalar.divsi v156 c64_i32
  let c1_i32_110 : BitVec 32 := 1#32
  let v264 : BitVec 32 := Scalar.subi v249 c1_i32_110
  let v265 : BitVec 32 := Scalar.select v263 v264 v249
  let c2_i32_139 : BitVec 32 := 2#32
  let c0_i32_134 : BitVec 32 := 0#32
  let c1_i32_136 : BitVec 32 := 1#32
  let arg13 : BitVec 32 := Scf.iv c0_i32_134 c1_i32_136 k0_t4
  let v320 : BitVec 32 := Scalar.muli c2_i32_139 arg13
  let v321 : BitVec 32 := Scalar.addi v265 v320
  let c0_i32_144 : BitVec 32 := 0#32
  let v330 : BitVec 32 := Scalar.addi v321 c0_i32_144
  let c64_i32_154 : BitVec 32 := 64#32
  let v339 : BitVec 32 := Scalar.muli v330 c64_i32_154
  let c0_i32_149 : BitVec 32 := 0#32
  let c1_i32_150 : BitVec 32 := 1#32
  let arg14 : BitVec 32 := Scf.iv c0_i32_149 c1_i32_150 k0_t5
  let c16_i32_155 : BitVec 32 := 16#32
  let v340 : BitVec 32 := Scalar.muli arg14 c16_i32_155
  let v341 : BitVec 32 := Scalar.addi v339 v340
  let v343 : Index := Scalar.indexCast v341
  ![v343.toNat]
def k0_off41 (i : grid0.Coords) (v66_0 : BitVec 32) (v74 : BitVec 32) (v79 : BitVec 32) (v84 : BitVec 32) (v89 : BitVec 32) (v94 : BitVec 32) (v99 : BitVec 32) (v104 : BitVec 32) (v109 : BitVec 32) (v114 : BitVec 32) (v119 : BitVec 32) (v124 : BitVec 32) (v129 : BitVec 32) (v134 : BitVec 32) (v139 : BitVec 32) (v144 : BitVec 32) (v149 : BitVec 32) (v158_0 : BitVec 32) (v166 : BitVec 32) (v171 : BitVec 32) (v176 : BitVec 32) (v181 : BitVec 32) (v186 : BitVec 32) (v191 : BitVec 32) (v196 : BitVec 32) (v201 : BitVec 32) (v206 : BitVec 32) (v211 : BitVec 32) (v216 : BitVec 32) (v221 : BitVec 32) (v226 : BitVec 32) (v231 : BitVec 32) (v236 : BitVec 32) (v241 : BitVec 32) (k0_t4 : Fin (k0_t4_loop i v66_0 v74 v79 v84 v89 v94 v99 v104 v109 v114 v119 v124 v129 v134 v139 v144 v149 v158_0 v166 v171 v176 v181 v186 v191 v196 v201 v206 v211 v216 v221 v226 v231 v236 v241).trips) (k0_t5 : Fin k0_t5_loop.trips) : Fin 1 → Nat :=
  let c0_i32_57 : BitVec 32 := 0#32
  let v153 : BitVec 1 := Scalar.cmpi .eq v66_0 c0_i32_57
  let c0_i32_59 : BitVec 32 := 0#32
  let c1_i32_22 : BitVec 32 := 1#32
  let v67 : BitVec 32 := Scalar.subi v66_0 c1_i32_22
  let c0_i32_23 : BitVec 32 := 0#32
  let v68 : BitVec 32 := Scalar.maxsi v67 c0_i32_23
  let c16_i32_58 : BitVec 32 := 16#32
  let v154 : BitVec 32 := Scalar.muli v68 c16_i32_58
  let c0_i32_26 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let v75 : BitVec 1 := Scalar.cmpi .slt v74 v2
  let c1_i32_24 : BitVec 32 := 1#32
  let c0_i32_25 : BitVec 32 := 0#32
  let v76 : BitVec 32 := Scalar.select v75 c1_i32_24 c0_i32_25
  let v77 : BitVec 32 := Scalar.addi c0_i32_26 v76
  let v80 : BitVec 1 := Scalar.cmpi .slt v79 v2
  let c1_i32_27 : BitVec 32 := 1#32
  let c0_i32_28 : BitVec 32 := 0#32
  let v81 : BitVec 32 := Scalar.select v80 c1_i32_27 c0_i32_28
  let v82 : BitVec 32 := Scalar.addi v77 v81
  let v85 : BitVec 1 := Scalar.cmpi .slt v84 v2
  let c1_i32_29 : BitVec 32 := 1#32
  let c0_i32_30 : BitVec 32 := 0#32
  let v86 : BitVec 32 := Scalar.select v85 c1_i32_29 c0_i32_30
  let v87 : BitVec 32 := Scalar.addi v82 v86
  let v90 : BitVec 1 := Scalar.cmpi .slt v89 v2
  let c1_i32_31 : BitVec 32 := 1#32
  let c0_i32_32 : BitVec 32 := 0#32
  let v91 : BitVec 32 := Scalar.select v90 c1_i32_31 c0_i32_32
  let v92 : BitVec 32 := Scalar.addi v87 v91
  let v95 : BitVec 1 := Scalar.cmpi .slt v94 v2
  let c1_i32_33 : BitVec 32 := 1#32
  let c0_i32_34 : BitVec 32 := 0#32
  let v96 : BitVec 32 := Scalar.select v95 c1_i32_33 c0_i32_34
  let v97 : BitVec 32 := Scalar.addi v92 v96
  let v100 : BitVec 1 := Scalar.cmpi .slt v99 v2
  let c1_i32_35 : BitVec 32 := 1#32
  let c0_i32_36 : BitVec 32 := 0#32
  let v101 : BitVec 32 := Scalar.select v100 c1_i32_35 c0_i32_36
  let v102 : BitVec 32 := Scalar.addi v97 v101
  let v105 : BitVec 1 := Scalar.cmpi .slt v104 v2
  let c1_i32_37 : BitVec 32 := 1#32
  let c0_i32_38 : BitVec 32 := 0#32
  let v106 : BitVec 32 := Scalar.select v105 c1_i32_37 c0_i32_38
  let v107 : BitVec 32 := Scalar.addi v102 v106
  let v110 : BitVec 1 := Scalar.cmpi .slt v109 v2
  let c1_i32_39 : BitVec 32 := 1#32
  let c0_i32_40 : BitVec 32 := 0#32
  let v111 : BitVec 32 := Scalar.select v110 c1_i32_39 c0_i32_40
  let v112 : BitVec 32 := Scalar.addi v107 v111
  let v115 : BitVec 1 := Scalar.cmpi .slt v114 v2
  let c1_i32_41 : BitVec 32 := 1#32
  let c0_i32_42 : BitVec 32 := 0#32
  let v116 : BitVec 32 := Scalar.select v115 c1_i32_41 c0_i32_42
  let v117 : BitVec 32 := Scalar.addi v112 v116
  let v120 : BitVec 1 := Scalar.cmpi .slt v119 v2
  let c1_i32_43 : BitVec 32 := 1#32
  let c0_i32_44 : BitVec 32 := 0#32
  let v121 : BitVec 32 := Scalar.select v120 c1_i32_43 c0_i32_44
  let v122 : BitVec 32 := Scalar.addi v117 v121
  let v125 : BitVec 1 := Scalar.cmpi .slt v124 v2
  let c1_i32_45 : BitVec 32 := 1#32
  let c0_i32_46 : BitVec 32 := 0#32
  let v126 : BitVec 32 := Scalar.select v125 c1_i32_45 c0_i32_46
  let v127 : BitVec 32 := Scalar.addi v122 v126
  let v130 : BitVec 1 := Scalar.cmpi .slt v129 v2
  let c1_i32_47 : BitVec 32 := 1#32
  let c0_i32_48 : BitVec 32 := 0#32
  let v131 : BitVec 32 := Scalar.select v130 c1_i32_47 c0_i32_48
  let v132 : BitVec 32 := Scalar.addi v127 v131
  let v135 : BitVec 1 := Scalar.cmpi .slt v134 v2
  let c1_i32_49 : BitVec 32 := 1#32
  let c0_i32_50 : BitVec 32 := 0#32
  let v136 : BitVec 32 := Scalar.select v135 c1_i32_49 c0_i32_50
  let v137 : BitVec 32 := Scalar.addi v132 v136
  let v140 : BitVec 1 := Scalar.cmpi .slt v139 v2
  let c1_i32_51 : BitVec 32 := 1#32
  let c0_i32_52 : BitVec 32 := 0#32
  let v141 : BitVec 32 := Scalar.select v140 c1_i32_51 c0_i32_52
  let v142 : BitVec 32 := Scalar.addi v137 v141
  let v145 : BitVec 1 := Scalar.cmpi .slt v144 v2
  let c1_i32_53 : BitVec 32 := 1#32
  let c0_i32_54 : BitVec 32 := 0#32
  let v146 : BitVec 32 := Scalar.select v145 c1_i32_53 c0_i32_54
  let v147 : BitVec 32 := Scalar.addi v142 v146
  let v150 : BitVec 1 := Scalar.cmpi .slt v149 v2
  let c1_i32_55 : BitVec 32 := 1#32
  let c0_i32_56 : BitVec 32 := 0#32
  let v151 : BitVec 32 := Scalar.select v150 c1_i32_55 c0_i32_56
  let v152 : BitVec 32 := Scalar.addi v147 v151
  let v155 : BitVec 32 := Scalar.addi v154 v152
  let v156 : BitVec 32 := Scalar.select v153 c0_i32_59 v155
  let c0_i32_105 : BitVec 32 := 0#32
  let v250 : BitVec 1 := Scalar.cmpi .sgt v156 c0_i32_105
  let v251 : BitVec 32 := Scalar.extui v250
  let c0_i32_106 : BitVec 32 := 0#32
  let v252 : BitVec 1 := Scalar.cmpi .slt v156 c0_i32_106
  let v253 : BitVec 32 := Scalar.extui v252
  let v254 : BitVec 32 := Scalar.subi v251 v253
  let c64_i32 : BitVec 32 := 64#32
  let c0_i32_107 : BitVec 32 := 0#32
  let v255 : BitVec 1 := Scalar.cmpi .sgt c64_i32 c0_i32_107
  let v256 : BitVec 32 := Scalar.extui v255
  let c0_i32_108 : BitVec 32 := 0#32
  let v257 : BitVec 1 := Scalar.cmpi .slt c64_i32 c0_i32_108
  let v258 : BitVec 32 := Scalar.extui v257
  let v259 : BitVec 32 := Scalar.subi v256 v258
  let v260 : BitVec 1 := Scalar.cmpi .ne v254 v259
  let v261 : BitVec 32 := Scalar.remsi v156 c64_i32
  let c0_i32_109 : BitVec 32 := 0#32
  let v262 : BitVec 1 := Scalar.cmpi .ne v261 c0_i32_109
  let v263 : BitVec 1 := Scalar.andi v260 v262
  let v249 : BitVec 32 := Scalar.divsi v156 c64_i32
  let c1_i32_110 : BitVec 32 := 1#32
  let v264 : BitVec 32 := Scalar.subi v249 c1_i32_110
  let v265 : BitVec 32 := Scalar.select v263 v264 v249
  let c2_i32_139 : BitVec 32 := 2#32
  let c0_i32_134 : BitVec 32 := 0#32
  let c1_i32_136 : BitVec 32 := 1#32
  let arg13 : BitVec 32 := Scf.iv c0_i32_134 c1_i32_136 k0_t4
  let v320 : BitVec 32 := Scalar.muli c2_i32_139 arg13
  let v321 : BitVec 32 := Scalar.addi v265 v320
  let c0_i32_144 : BitVec 32 := 0#32
  let v330 : BitVec 32 := Scalar.addi v321 c0_i32_144
  let c64_i32_154 : BitVec 32 := 64#32
  let v339 : BitVec 32 := Scalar.muli v330 c64_i32_154
  let c0_i32_149 : BitVec 32 := 0#32
  let c1_i32_150 : BitVec 32 := 1#32
  let arg14 : BitVec 32 := Scf.iv c0_i32_149 c1_i32_150 k0_t5
  let c16_i32_155 : BitVec 32 := 16#32
  let v340 : BitVec 32 := Scalar.muli arg14 c16_i32_155
  let v341 : BitVec 32 := Scalar.addi v339 v340
  let v346 : Index := Scalar.indexCast v341
  ![v346.toNat]
def k0_off42 (k0_t5 : Fin k0_t5_loop.trips) : Fin 2 → Nat :=
  let c0_i32_149 : BitVec 32 := 0#32
  let c1_i32_150 : BitVec 32 := 1#32
  let arg14 : BitVec 32 := Scf.iv c0_i32_149 c1_i32_150 k0_t5
  let c16_i32_156 : BitVec 32 := 16#32
  let v342 : BitVec 32 := Scalar.muli arg14 c16_i32_156
  let c0_i32_158 : BitVec 32 := 0#32
  let v367 : BitVec 32 := Scalar.addi v342 c0_i32_158
  let v368 : Index := Scalar.indexCast v367
  let c0 : Index := 0#32
  ![v368.toNat, 0]
@[reducible] def k0_t6_loop : Scf.Loop 32 :=
  let c1_i32_159 : BitVec 32 := 1#32
  let c31_i32_160 : BitVec 32 := 31#32
  let v373 : BitVec 32 := Scalar.addi c1_i32_159 c31_i32_160
  let c1_i32_161 : BitVec 32 := 1#32
  ⟨c1_i32_159, v373, c1_i32_161⟩
def k0_off43 (k0_t5 : Fin k0_t5_loop.trips) (k0_t6 : Fin k0_t6_loop.trips) : Fin 2 → Nat :=
  let c0_i32_149 : BitVec 32 := 0#32
  let c1_i32_150 : BitVec 32 := 1#32
  let arg14 : BitVec 32 := Scf.iv c0_i32_149 c1_i32_150 k0_t5
  let c16_i32_156 : BitVec 32 := 16#32
  let v342 : BitVec 32 := Scalar.muli arg14 c16_i32_156
  let c0_i32_158 : BitVec 32 := 0#32
  let v367 : BitVec 32 := Scalar.addi v342 c0_i32_158
  let v684 : Index := Scalar.indexCast v367
  let c1_i32_159 : BitVec 32 := 1#32
  let c1_i32_161 : BitVec 32 := 1#32
  let arg15 : BitVec 32 := Scf.iv c1_i32_159 c1_i32_161 k0_t6
  let c16_i32_273 : BitVec 32 := 16#32
  let v683 : BitVec 32 := Scalar.muli arg15 c16_i32_273
  let v685 : Index := Scalar.indexCast v683
  ![v684.toNat, v685.toNat]
def k0_off44 (v366 : BitVec 32) (k0_t6 : Fin k0_t6_loop.trips) : Fin 2 → Nat :=
  let v692 : Index := Scalar.indexCast v366
  let c1_i32_159 : BitVec 32 := 1#32
  let c1_i32_161 : BitVec 32 := 1#32
  let arg15 : BitVec 32 := Scf.iv c1_i32_159 c1_i32_161 k0_t6
  let c1_i32_274 : BitVec 32 := 1#32
  let v690 : BitVec 32 := Scalar.subi arg15 c1_i32_274
  let c16_i32_275 : BitVec 32 := 16#32
  let v691 : BitVec 32 := Scalar.muli v690 c16_i32_275
  let v693 : Index := Scalar.indexCast v691
  ![v692.toNat, v693.toNat]

def k0_off45 (v366 : BitVec 32) : Fin 2 → Nat :=
  let v375 : Index := Scalar.indexCast v366
  let c496 : Index := 496#32
  ![v375.toNat, 496]

def k0_chk6 (i : grid0.Coords) (v66_0 : BitVec 32) (v74 : BitVec 32) (v79 : BitVec 32) (v84 : BitVec 32) (v89 : BitVec 32) (v94 : BitVec 32) (v99 : BitVec 32) (v104 : BitVec 32) (v109 : BitVec 32) (v114 : BitVec 32) (v119 : BitVec 32) (v124 : BitVec 32) (v129 : BitVec 32) (v134 : BitVec 32) (v139 : BitVec 32) (v144 : BitVec 32) (v149 : BitVec 32) (v158_0 : BitVec 32) (v166 : BitVec 32) (v171 : BitVec 32) (v176 : BitVec 32) (v181 : BitVec 32) (v186 : BitVec 32) (v191 : BitVec 32) (v196 : BitVec 32) (v201 : BitVec 32) (v206 : BitVec 32) (v211 : BitVec 32) (v216 : BitVec 32) (v221 : BitVec 32) (v226 : BitVec 32) (v231 : BitVec 32) (v236 : BitVec 32) (v241 : BitVec 32) (k0_t4 : Fin (k0_t4_loop i v66_0 v74 v79 v84 v89 v94 v99 v104 v109 v114 v119 v124 v129 v134 v139 v144 v149 v158_0 v166 v171 v176 v181 v186 v191 v196 v201 v206 v211 v216 v221 v226 v231 v236 v241).trips) (v366 : BitVec 32) : Prop :=
  (∀ k0_t6 : Fin k0_t6_loop.trips, ∀ (k0_h3 : k0_cond3 i v66_0 v74 v79 v84 v89 v94 v99 v104 v109 v114 v119 v124 v129 v134 v139 v144 v149 v158_0 v166 v171 v176 v181 v186 v191 v196 v201 v206 v211 v216 v221 v226 v231 v236 v241 k0_t4 = 1#1), ∀ a, (k0_off44 v366 k0_t6) a + S1x16.size a ≤ S32x512.size a) ∧
  (∀ (k0_h3 : k0_cond3 i v66_0 v74 v79 v84 v89 v94 v99 v104 v109 v114 v119 v124 v129 v134 v139 v144 v149 v158_0 v166 v171 v176 v181 v186 v191 v196 v201 v206 v211 v216 v221 v226 v231 v236 v241 k0_t4 = 1#1), ∀ a, (k0_off45 v366) a + S1x16.size a ≤ S32x512.size a)
theorem k0_off44_inb : ∀ (i : grid0.Coords) (v66_0 : BitVec 32) (v74 : BitVec 32) (v79 : BitVec 32) (v84 : BitVec 32) (v89 : BitVec 32) (v94 : BitVec 32) (v99 : BitVec 32) (v104 : BitVec 32) (v109 : BitVec 32) (v114 : BitVec 32) (v119 : BitVec 32) (v124 : BitVec 32) (v129 : BitVec 32) (v134 : BitVec 32) (v139 : BitVec 32) (v144 : BitVec 32) (v149 : BitVec 32) (v158_0 : BitVec 32) (v166 : BitVec 32) (v171 : BitVec 32) (v176 : BitVec 32) (v181 : BitVec 32) (v186 : BitVec 32) (v191 : BitVec 32) (v196 : BitVec 32) (v201 : BitVec 32) (v206 : BitVec 32) (v211 : BitVec 32) (v216 : BitVec 32) (v221 : BitVec 32) (v226 : BitVec 32) (v231 : BitVec 32) (v236 : BitVec 32) (v241 : BitVec 32) (k0_t4 : Fin (k0_t4_loop i v66_0 v74 v79 v84 v89 v94 v99 v104 v109 v114 v119 v124 v129 v134 v139 v144 v149 v158_0 v166 v171 v176 v181 v186 v191 v196 v201 v206 v211 v216 v221 v226 v231 v236 v241).trips) (v366 : BitVec 32) (k0_hw6 : k0_chk6 i v66_0 v74 v79 v84 v89 v94 v99 v104 v109 v114 v119 v124 v129 v134 v139 v144 v149 v158_0 v166 v171 v176 v181 v186 v191 v196 v201 v206 v211 v216 v221 v226 v231 v236 v241 k0_t4 v366) (k0_t6 : Fin k0_t6_loop.trips), ∀ (k0_h3 : k0_cond3 i v66_0 v74 v79 v84 v89 v94 v99 v104 v109 v114 v119 v124 v129 v134 v139 v144 v149 v158_0 v166 v171 v176 v181 v186 v191 v196 v201 v206 v211 v216 v221 v226 v231 v236 v241 k0_t4 = 1#1), ∀ a, (k0_off44 v366 k0_t6) a + S1x16.size a ≤ S32x512.size a := fun i v66_0 v74 v79 v84 v89 v94 v99 v104 v109 v114 v119 v124 v129 v134 v139 v144 v149 v158_0 v166 v171 v176 v181 v186 v191 v196 v201 v206 v211 v216 v221 v226 v231 v236 v241 k0_t4 v366 k0_hw6 k0_t6 k0_h3 => k0_hw6.1 k0_t6 k0_h3
theorem k0_off45_inb : ∀ (i : grid0.Coords) (v66_0 : BitVec 32) (v74 : BitVec 32) (v79 : BitVec 32) (v84 : BitVec 32) (v89 : BitVec 32) (v94 : BitVec 32) (v99 : BitVec 32) (v104 : BitVec 32) (v109 : BitVec 32) (v114 : BitVec 32) (v119 : BitVec 32) (v124 : BitVec 32) (v129 : BitVec 32) (v134 : BitVec 32) (v139 : BitVec 32) (v144 : BitVec 32) (v149 : BitVec 32) (v158_0 : BitVec 32) (v166 : BitVec 32) (v171 : BitVec 32) (v176 : BitVec 32) (v181 : BitVec 32) (v186 : BitVec 32) (v191 : BitVec 32) (v196 : BitVec 32) (v201 : BitVec 32) (v206 : BitVec 32) (v211 : BitVec 32) (v216 : BitVec 32) (v221 : BitVec 32) (v226 : BitVec 32) (v231 : BitVec 32) (v236 : BitVec 32) (v241 : BitVec 32) (k0_t4 : Fin (k0_t4_loop i v66_0 v74 v79 v84 v89 v94 v99 v104 v109 v114 v119 v124 v129 v134 v139 v144 v149 v158_0 v166 v171 v176 v181 v186 v191 v196 v201 v206 v211 v216 v221 v226 v231 v236 v241).trips) (v366 : BitVec 32) (k0_hw6 : k0_chk6 i v66_0 v74 v79 v84 v89 v94 v99 v104 v109 v114 v119 v124 v129 v134 v139 v144 v149 v158_0 v166 v171 v176 v181 v186 v191 v196 v201 v206 v211 v216 v221 v226 v231 v236 v241 k0_t4 v366), ∀ (k0_h3 : k0_cond3 i v66_0 v74 v79 v84 v89 v94 v99 v104 v109 v114 v119 v124 v129 v134 v139 v144 v149 v158_0 v166 v171 v176 v181 v186 v191 v196 v201 v206 v211 v216 v221 v226 v231 v236 v241 k0_t4 = 1#1), ∀ a, (k0_off45 v366) a + S1x16.size a ≤ S32x512.size a := fun i v66_0 v74 v79 v84 v89 v94 v99 v104 v109 v114 v119 v124 v129 v134 v139 v144 v149 v158_0 v166 v171 v176 v181 v186 v191 v196 v201 v206 v211 v216 v221 v226 v231 v236 v241 k0_t4 v366 k0_hw6 k0_h3 => k0_hw6.2 k0_h3

def k0_off46 (k0_t5 : Fin k0_t5_loop.trips) : Fin 2 → Nat :=
  let c0_i32_149 : BitVec 32 := 0#32
  let c1_i32_150 : BitVec 32 := 1#32
  let arg14 : BitVec 32 := Scf.iv c0_i32_149 c1_i32_150 k0_t5
  let c16_i32_156 : BitVec 32 := 16#32
  let v342 : BitVec 32 := Scalar.muli arg14 c16_i32_156
  let c1_i32_164 : BitVec 32 := 1#32
  let v387 : BitVec 32 := Scalar.addi v342 c1_i32_164
  let v388 : Index := Scalar.indexCast v387
  let c0_165 : Index := 0#32
  ![v388.toNat, 0]
@[reducible] def k0_t7_loop : Scf.Loop 32 :=
  let c1_i32_166 : BitVec 32 := 1#32
  let c31_i32_167 : BitVec 32 := 31#32
  let v393 : BitVec 32 := Scalar.addi c1_i32_166 c31_i32_167
  let c1_i32_168 : BitVec 32 := 1#32
  ⟨c1_i32_166, v393, c1_i32_168⟩
def k0_off47 (k0_t5 : Fin k0_t5_loop.trips) (k0_t7 : Fin k0_t7_loop.trips) : Fin 2 → Nat :=
  let c0_i32_149 : BitVec 32 := 0#32
  let c1_i32_150 : BitVec 32 := 1#32
  let arg14 : BitVec 32 := Scf.iv c0_i32_149 c1_i32_150 k0_t5
  let c16_i32_156 : BitVec 32 := 16#32
  let v342 : BitVec 32 := Scalar.muli arg14 c16_i32_156
  let c1_i32_164 : BitVec 32 := 1#32
  let v387 : BitVec 32 := Scalar.addi v342 c1_i32_164
  let v684 : Index := Scalar.indexCast v387
  let c1_i32_166 : BitVec 32 := 1#32
  let c1_i32_168 : BitVec 32 := 1#32
  let arg15 : BitVec 32 := Scf.iv c1_i32_166 c1_i32_168 k0_t7
  let c16_i32_273 : BitVec 32 := 16#32
  let v683 : BitVec 32 := Scalar.muli arg15 c16_i32_273
  let v685 : Index := Scalar.indexCast v683
  ![v684.toNat, v685.toNat]
def k0_off48 (v386 : BitVec 32) (k0_t7 : Fin k0_t7_loop.trips) : Fin 2 → Nat :=
  let v692 : Index := Scalar.indexCast v386
  let c1_i32_166 : BitVec 32 := 1#32
  let c1_i32_168 : BitVec 32 := 1#32
  let arg15 : BitVec 32 := Scf.iv c1_i32_166 c1_i32_168 k0_t7
  let c1_i32_274 : BitVec 32 := 1#32
  let v690 : BitVec 32 := Scalar.subi arg15 c1_i32_274
  let c16_i32_275 : BitVec 32 := 16#32
  let v691 : BitVec 32 := Scalar.muli v690 c16_i32_275
  let v693 : Index := Scalar.indexCast v691
  ![v692.toNat, v693.toNat]

def k0_off49 (v386 : BitVec 32) : Fin 2 → Nat :=
  let v395 : Index := Scalar.indexCast v386
  let c496_170 : Index := 496#32
  ![v395.toNat, 496]

def k0_chk7 (i : grid0.Coords) (v66_0 : BitVec 32) (v74 : BitVec 32) (v79 : BitVec 32) (v84 : BitVec 32) (v89 : BitVec 32) (v94 : BitVec 32) (v99 : BitVec 32) (v104 : BitVec 32) (v109 : BitVec 32) (v114 : BitVec 32) (v119 : BitVec 32) (v124 : BitVec 32) (v129 : BitVec 32) (v134 : BitVec 32) (v139 : BitVec 32) (v144 : BitVec 32) (v149 : BitVec 32) (v158_0 : BitVec 32) (v166 : BitVec 32) (v171 : BitVec 32) (v176 : BitVec 32) (v181 : BitVec 32) (v186 : BitVec 32) (v191 : BitVec 32) (v196 : BitVec 32) (v201 : BitVec 32) (v206 : BitVec 32) (v211 : BitVec 32) (v216 : BitVec 32) (v221 : BitVec 32) (v226 : BitVec 32) (v231 : BitVec 32) (v236 : BitVec 32) (v241 : BitVec 32) (k0_t4 : Fin (k0_t4_loop i v66_0 v74 v79 v84 v89 v94 v99 v104 v109 v114 v119 v124 v129 v134 v139 v144 v149 v158_0 v166 v171 v176 v181 v186 v191 v196 v201 v206 v211 v216 v221 v226 v231 v236 v241).trips) (v386 : BitVec 32) : Prop :=
  (∀ k0_t7 : Fin k0_t7_loop.trips, ∀ (k0_h3 : k0_cond3 i v66_0 v74 v79 v84 v89 v94 v99 v104 v109 v114 v119 v124 v129 v134 v139 v144 v149 v158_0 v166 v171 v176 v181 v186 v191 v196 v201 v206 v211 v216 v221 v226 v231 v236 v241 k0_t4 = 1#1), ∀ a, (k0_off48 v386 k0_t7) a + S1x16.size a ≤ S32x512.size a) ∧
  (∀ (k0_h3 : k0_cond3 i v66_0 v74 v79 v84 v89 v94 v99 v104 v109 v114 v119 v124 v129 v134 v139 v144 v149 v158_0 v166 v171 v176 v181 v186 v191 v196 v201 v206 v211 v216 v221 v226 v231 v236 v241 k0_t4 = 1#1), ∀ a, (k0_off49 v386) a + S1x16.size a ≤ S32x512.size a)
theorem k0_off48_inb : ∀ (i : grid0.Coords) (v66_0 : BitVec 32) (v74 : BitVec 32) (v79 : BitVec 32) (v84 : BitVec 32) (v89 : BitVec 32) (v94 : BitVec 32) (v99 : BitVec 32) (v104 : BitVec 32) (v109 : BitVec 32) (v114 : BitVec 32) (v119 : BitVec 32) (v124 : BitVec 32) (v129 : BitVec 32) (v134 : BitVec 32) (v139 : BitVec 32) (v144 : BitVec 32) (v149 : BitVec 32) (v158_0 : BitVec 32) (v166 : BitVec 32) (v171 : BitVec 32) (v176 : BitVec 32) (v181 : BitVec 32) (v186 : BitVec 32) (v191 : BitVec 32) (v196 : BitVec 32) (v201 : BitVec 32) (v206 : BitVec 32) (v211 : BitVec 32) (v216 : BitVec 32) (v221 : BitVec 32) (v226 : BitVec 32) (v231 : BitVec 32) (v236 : BitVec 32) (v241 : BitVec 32) (k0_t4 : Fin (k0_t4_loop i v66_0 v74 v79 v84 v89 v94 v99 v104 v109 v114 v119 v124 v129 v134 v139 v144 v149 v158_0 v166 v171 v176 v181 v186 v191 v196 v201 v206 v211 v216 v221 v226 v231 v236 v241).trips) (v386 : BitVec 32) (k0_hw7 : k0_chk7 i v66_0 v74 v79 v84 v89 v94 v99 v104 v109 v114 v119 v124 v129 v134 v139 v144 v149 v158_0 v166 v171 v176 v181 v186 v191 v196 v201 v206 v211 v216 v221 v226 v231 v236 v241 k0_t4 v386) (k0_t7 : Fin k0_t7_loop.trips), ∀ (k0_h3 : k0_cond3 i v66_0 v74 v79 v84 v89 v94 v99 v104 v109 v114 v119 v124 v129 v134 v139 v144 v149 v158_0 v166 v171 v176 v181 v186 v191 v196 v201 v206 v211 v216 v221 v226 v231 v236 v241 k0_t4 = 1#1), ∀ a, (k0_off48 v386 k0_t7) a + S1x16.size a ≤ S32x512.size a := fun i v66_0 v74 v79 v84 v89 v94 v99 v104 v109 v114 v119 v124 v129 v134 v139 v144 v149 v158_0 v166 v171 v176 v181 v186 v191 v196 v201 v206 v211 v216 v221 v226 v231 v236 v241 k0_t4 v386 k0_hw7 k0_t7 k0_h3 => k0_hw7.1 k0_t7 k0_h3
theorem k0_off49_inb : ∀ (i : grid0.Coords) (v66_0 : BitVec 32) (v74 : BitVec 32) (v79 : BitVec 32) (v84 : BitVec 32) (v89 : BitVec 32) (v94 : BitVec 32) (v99 : BitVec 32) (v104 : BitVec 32) (v109 : BitVec 32) (v114 : BitVec 32) (v119 : BitVec 32) (v124 : BitVec 32) (v129 : BitVec 32) (v134 : BitVec 32) (v139 : BitVec 32) (v144 : BitVec 32) (v149 : BitVec 32) (v158_0 : BitVec 32) (v166 : BitVec 32) (v171 : BitVec 32) (v176 : BitVec 32) (v181 : BitVec 32) (v186 : BitVec 32) (v191 : BitVec 32) (v196 : BitVec 32) (v201 : BitVec 32) (v206 : BitVec 32) (v211 : BitVec 32) (v216 : BitVec 32) (v221 : BitVec 32) (v226 : BitVec 32) (v231 : BitVec 32) (v236 : BitVec 32) (v241 : BitVec 32) (k0_t4 : Fin (k0_t4_loop i v66_0 v74 v79 v84 v89 v94 v99 v104 v109 v114 v119 v124 v129 v134 v139 v144 v149 v158_0 v166 v171 v176 v181 v186 v191 v196 v201 v206 v211 v216 v221 v226 v231 v236 v241).trips) (v386 : BitVec 32) (k0_hw7 : k0_chk7 i v66_0 v74 v79 v84 v89 v94 v99 v104 v109 v114 v119 v124 v129 v134 v139 v144 v149 v158_0 v166 v171 v176 v181 v186 v191 v196 v201 v206 v211 v216 v221 v226 v231 v236 v241 k0_t4 v386), ∀ (k0_h3 : k0_cond3 i v66_0 v74 v79 v84 v89 v94 v99 v104 v109 v114 v119 v124 v129 v134 v139 v144 v149 v158_0 v166 v171 v176 v181 v186 v191 v196 v201 v206 v211 v216 v221 v226 v231 v236 v241 k0_t4 = 1#1), ∀ a, (k0_off49 v386) a + S1x16.size a ≤ S32x512.size a := fun i v66_0 v74 v79 v84 v89 v94 v99 v104 v109 v114 v119 v124 v129 v134 v139 v144 v149 v158_0 v166 v171 v176 v181 v186 v191 v196 v201 v206 v211 v216 v221 v226 v231 v236 v241 k0_t4 v386 k0_hw7 k0_h3 => k0_hw7.2 k0_h3

def k0_off50 (k0_t5 : Fin k0_t5_loop.trips) : Fin 2 → Nat :=
  let c0_i32_149 : BitVec 32 := 0#32
  let c1_i32_150 : BitVec 32 := 1#32
  let arg14 : BitVec 32 := Scf.iv c0_i32_149 c1_i32_150 k0_t5
  let c16_i32_156 : BitVec 32 := 16#32
  let v342 : BitVec 32 := Scalar.muli arg14 c16_i32_156
  let c2_i32_172 : BitVec 32 := 2#32
  let v407 : BitVec 32 := Scalar.addi v342 c2_i32_172
  let v408 : Index := Scalar.indexCast v407
  let c0_173 : Index := 0#32
  ![v408.toNat, 0]
@[reducible] def k0_t8_loop : Scf.Loop 32 :=
  let c1_i32_174 : BitVec 32 := 1#32
  let c31_i32_175 : BitVec 32 := 31#32
  let v413 : BitVec 32 := Scalar.addi c1_i32_174 c31_i32_175
  let c1_i32_176 : BitVec 32 := 1#32
  ⟨c1_i32_174, v413, c1_i32_176⟩
def k0_off51 (k0_t5 : Fin k0_t5_loop.trips) (k0_t8 : Fin k0_t8_loop.trips) : Fin 2 → Nat :=
  let c0_i32_149 : BitVec 32 := 0#32
  let c1_i32_150 : BitVec 32 := 1#32
  let arg14 : BitVec 32 := Scf.iv c0_i32_149 c1_i32_150 k0_t5
  let c16_i32_156 : BitVec 32 := 16#32
  let v342 : BitVec 32 := Scalar.muli arg14 c16_i32_156
  let c2_i32_172 : BitVec 32 := 2#32
  let v407 : BitVec 32 := Scalar.addi v342 c2_i32_172
  let v684 : Index := Scalar.indexCast v407
  let c1_i32_174 : BitVec 32 := 1#32
  let c1_i32_176 : BitVec 32 := 1#32
  let arg15 : BitVec 32 := Scf.iv c1_i32_174 c1_i32_176 k0_t8
  let c16_i32_273 : BitVec 32 := 16#32
  let v683 : BitVec 32 := Scalar.muli arg15 c16_i32_273
  let v685 : Index := Scalar.indexCast v683
  ![v684.toNat, v685.toNat]
def k0_off52 (v406 : BitVec 32) (k0_t8 : Fin k0_t8_loop.trips) : Fin 2 → Nat :=
  let v692 : Index := Scalar.indexCast v406
  let c1_i32_174 : BitVec 32 := 1#32
  let c1_i32_176 : BitVec 32 := 1#32
  let arg15 : BitVec 32 := Scf.iv c1_i32_174 c1_i32_176 k0_t8
  let c1_i32_274 : BitVec 32 := 1#32
  let v690 : BitVec 32 := Scalar.subi arg15 c1_i32_274
  let c16_i32_275 : BitVec 32 := 16#32
  let v691 : BitVec 32 := Scalar.muli v690 c16_i32_275
  let v693 : Index := Scalar.indexCast v691
  ![v692.toNat, v693.toNat]

def k0_off53 (v406 : BitVec 32) : Fin 2 → Nat :=
  let v415 : Index := Scalar.indexCast v406
  let c496_178 : Index := 496#32
  ![v415.toNat, 496]

def k0_chk8 (i : grid0.Coords) (v66_0 : BitVec 32) (v74 : BitVec 32) (v79 : BitVec 32) (v84 : BitVec 32) (v89 : BitVec 32) (v94 : BitVec 32) (v99 : BitVec 32) (v104 : BitVec 32) (v109 : BitVec 32) (v114 : BitVec 32) (v119 : BitVec 32) (v124 : BitVec 32) (v129 : BitVec 32) (v134 : BitVec 32) (v139 : BitVec 32) (v144 : BitVec 32) (v149 : BitVec 32) (v158_0 : BitVec 32) (v166 : BitVec 32) (v171 : BitVec 32) (v176 : BitVec 32) (v181 : BitVec 32) (v186 : BitVec 32) (v191 : BitVec 32) (v196 : BitVec 32) (v201 : BitVec 32) (v206 : BitVec 32) (v211 : BitVec 32) (v216 : BitVec 32) (v221 : BitVec 32) (v226 : BitVec 32) (v231 : BitVec 32) (v236 : BitVec 32) (v241 : BitVec 32) (k0_t4 : Fin (k0_t4_loop i v66_0 v74 v79 v84 v89 v94 v99 v104 v109 v114 v119 v124 v129 v134 v139 v144 v149 v158_0 v166 v171 v176 v181 v186 v191 v196 v201 v206 v211 v216 v221 v226 v231 v236 v241).trips) (v406 : BitVec 32) : Prop :=
  (∀ k0_t8 : Fin k0_t8_loop.trips, ∀ (k0_h3 : k0_cond3 i v66_0 v74 v79 v84 v89 v94 v99 v104 v109 v114 v119 v124 v129 v134 v139 v144 v149 v158_0 v166 v171 v176 v181 v186 v191 v196 v201 v206 v211 v216 v221 v226 v231 v236 v241 k0_t4 = 1#1), ∀ a, (k0_off52 v406 k0_t8) a + S1x16.size a ≤ S32x512.size a) ∧
  (∀ (k0_h3 : k0_cond3 i v66_0 v74 v79 v84 v89 v94 v99 v104 v109 v114 v119 v124 v129 v134 v139 v144 v149 v158_0 v166 v171 v176 v181 v186 v191 v196 v201 v206 v211 v216 v221 v226 v231 v236 v241 k0_t4 = 1#1), ∀ a, (k0_off53 v406) a + S1x16.size a ≤ S32x512.size a)
theorem k0_off52_inb : ∀ (i : grid0.Coords) (v66_0 : BitVec 32) (v74 : BitVec 32) (v79 : BitVec 32) (v84 : BitVec 32) (v89 : BitVec 32) (v94 : BitVec 32) (v99 : BitVec 32) (v104 : BitVec 32) (v109 : BitVec 32) (v114 : BitVec 32) (v119 : BitVec 32) (v124 : BitVec 32) (v129 : BitVec 32) (v134 : BitVec 32) (v139 : BitVec 32) (v144 : BitVec 32) (v149 : BitVec 32) (v158_0 : BitVec 32) (v166 : BitVec 32) (v171 : BitVec 32) (v176 : BitVec 32) (v181 : BitVec 32) (v186 : BitVec 32) (v191 : BitVec 32) (v196 : BitVec 32) (v201 : BitVec 32) (v206 : BitVec 32) (v211 : BitVec 32) (v216 : BitVec 32) (v221 : BitVec 32) (v226 : BitVec 32) (v231 : BitVec 32) (v236 : BitVec 32) (v241 : BitVec 32) (k0_t4 : Fin (k0_t4_loop i v66_0 v74 v79 v84 v89 v94 v99 v104 v109 v114 v119 v124 v129 v134 v139 v144 v149 v158_0 v166 v171 v176 v181 v186 v191 v196 v201 v206 v211 v216 v221 v226 v231 v236 v241).trips) (v406 : BitVec 32) (k0_hw8 : k0_chk8 i v66_0 v74 v79 v84 v89 v94 v99 v104 v109 v114 v119 v124 v129 v134 v139 v144 v149 v158_0 v166 v171 v176 v181 v186 v191 v196 v201 v206 v211 v216 v221 v226 v231 v236 v241 k0_t4 v406) (k0_t8 : Fin k0_t8_loop.trips), ∀ (k0_h3 : k0_cond3 i v66_0 v74 v79 v84 v89 v94 v99 v104 v109 v114 v119 v124 v129 v134 v139 v144 v149 v158_0 v166 v171 v176 v181 v186 v191 v196 v201 v206 v211 v216 v221 v226 v231 v236 v241 k0_t4 = 1#1), ∀ a, (k0_off52 v406 k0_t8) a + S1x16.size a ≤ S32x512.size a := fun i v66_0 v74 v79 v84 v89 v94 v99 v104 v109 v114 v119 v124 v129 v134 v139 v144 v149 v158_0 v166 v171 v176 v181 v186 v191 v196 v201 v206 v211 v216 v221 v226 v231 v236 v241 k0_t4 v406 k0_hw8 k0_t8 k0_h3 => k0_hw8.1 k0_t8 k0_h3
theorem k0_off53_inb : ∀ (i : grid0.Coords) (v66_0 : BitVec 32) (v74 : BitVec 32) (v79 : BitVec 32) (v84 : BitVec 32) (v89 : BitVec 32) (v94 : BitVec 32) (v99 : BitVec 32) (v104 : BitVec 32) (v109 : BitVec 32) (v114 : BitVec 32) (v119 : BitVec 32) (v124 : BitVec 32) (v129 : BitVec 32) (v134 : BitVec 32) (v139 : BitVec 32) (v144 : BitVec 32) (v149 : BitVec 32) (v158_0 : BitVec 32) (v166 : BitVec 32) (v171 : BitVec 32) (v176 : BitVec 32) (v181 : BitVec 32) (v186 : BitVec 32) (v191 : BitVec 32) (v196 : BitVec 32) (v201 : BitVec 32) (v206 : BitVec 32) (v211 : BitVec 32) (v216 : BitVec 32) (v221 : BitVec 32) (v226 : BitVec 32) (v231 : BitVec 32) (v236 : BitVec 32) (v241 : BitVec 32) (k0_t4 : Fin (k0_t4_loop i v66_0 v74 v79 v84 v89 v94 v99 v104 v109 v114 v119 v124 v129 v134 v139 v144 v149 v158_0 v166 v171 v176 v181 v186 v191 v196 v201 v206 v211 v216 v221 v226 v231 v236 v241).trips) (v406 : BitVec 32) (k0_hw8 : k0_chk8 i v66_0 v74 v79 v84 v89 v94 v99 v104 v109 v114 v119 v124 v129 v134 v139 v144 v149 v158_0 v166 v171 v176 v181 v186 v191 v196 v201 v206 v211 v216 v221 v226 v231 v236 v241 k0_t4 v406), ∀ (k0_h3 : k0_cond3 i v66_0 v74 v79 v84 v89 v94 v99 v104 v109 v114 v119 v124 v129 v134 v139 v144 v149 v158_0 v166 v171 v176 v181 v186 v191 v196 v201 v206 v211 v216 v221 v226 v231 v236 v241 k0_t4 = 1#1), ∀ a, (k0_off53 v406) a + S1x16.size a ≤ S32x512.size a := fun i v66_0 v74 v79 v84 v89 v94 v99 v104 v109 v114 v119 v124 v129 v134 v139 v144 v149 v158_0 v166 v171 v176 v181 v186 v191 v196 v201 v206 v211 v216 v221 v226 v231 v236 v241 k0_t4 v406 k0_hw8 k0_h3 => k0_hw8.2 k0_h3

def k0_off54 (k0_t5 : Fin k0_t5_loop.trips) : Fin 2 → Nat :=
  let c0_i32_149 : BitVec 32 := 0#32
  let c1_i32_150 : BitVec 32 := 1#32
  let arg14 : BitVec 32 := Scf.iv c0_i32_149 c1_i32_150 k0_t5
  let c16_i32_156 : BitVec 32 := 16#32
  let v342 : BitVec 32 := Scalar.muli arg14 c16_i32_156
  let c3_i32 : BitVec 32 := 3#32
  let v427 : BitVec 32 := Scalar.addi v342 c3_i32
  let v428 : Index := Scalar.indexCast v427
  let c0_180 : Index := 0#32
  ![v428.toNat, 0]
@[reducible] def k0_t9_loop : Scf.Loop 32 :=
  let c1_i32_181 : BitVec 32 := 1#32
  let c31_i32_182 : BitVec 32 := 31#32
  let v433 : BitVec 32 := Scalar.addi c1_i32_181 c31_i32_182
  let c1_i32_183 : BitVec 32 := 1#32
  ⟨c1_i32_181, v433, c1_i32_183⟩
def k0_off55 (k0_t5 : Fin k0_t5_loop.trips) (k0_t9 : Fin k0_t9_loop.trips) : Fin 2 → Nat :=
  let c0_i32_149 : BitVec 32 := 0#32
  let c1_i32_150 : BitVec 32 := 1#32
  let arg14 : BitVec 32 := Scf.iv c0_i32_149 c1_i32_150 k0_t5
  let c16_i32_156 : BitVec 32 := 16#32
  let v342 : BitVec 32 := Scalar.muli arg14 c16_i32_156
  let c3_i32 : BitVec 32 := 3#32
  let v427 : BitVec 32 := Scalar.addi v342 c3_i32
  let v684 : Index := Scalar.indexCast v427
  let c1_i32_181 : BitVec 32 := 1#32
  let c1_i32_183 : BitVec 32 := 1#32
  let arg15 : BitVec 32 := Scf.iv c1_i32_181 c1_i32_183 k0_t9
  let c16_i32_273 : BitVec 32 := 16#32
  let v683 : BitVec 32 := Scalar.muli arg15 c16_i32_273
  let v685 : Index := Scalar.indexCast v683
  ![v684.toNat, v685.toNat]
def k0_off56 (v426 : BitVec 32) (k0_t9 : Fin k0_t9_loop.trips) : Fin 2 → Nat :=
  let v692 : Index := Scalar.indexCast v426
  let c1_i32_181 : BitVec 32 := 1#32
  let c1_i32_183 : BitVec 32 := 1#32
  let arg15 : BitVec 32 := Scf.iv c1_i32_181 c1_i32_183 k0_t9
  let c1_i32_274 : BitVec 32 := 1#32
  let v690 : BitVec 32 := Scalar.subi arg15 c1_i32_274
  let c16_i32_275 : BitVec 32 := 16#32
  let v691 : BitVec 32 := Scalar.muli v690 c16_i32_275
  let v693 : Index := Scalar.indexCast v691
  ![v692.toNat, v693.toNat]

def k0_off57 (v426 : BitVec 32) : Fin 2 → Nat :=
  let v435 : Index := Scalar.indexCast v426
  let c496_185 : Index := 496#32
  ![v435.toNat, 496]

def k0_chk9 (i : grid0.Coords) (v66_0 : BitVec 32) (v74 : BitVec 32) (v79 : BitVec 32) (v84 : BitVec 32) (v89 : BitVec 32) (v94 : BitVec 32) (v99 : BitVec 32) (v104 : BitVec 32) (v109 : BitVec 32) (v114 : BitVec 32) (v119 : BitVec 32) (v124 : BitVec 32) (v129 : BitVec 32) (v134 : BitVec 32) (v139 : BitVec 32) (v144 : BitVec 32) (v149 : BitVec 32) (v158_0 : BitVec 32) (v166 : BitVec 32) (v171 : BitVec 32) (v176 : BitVec 32) (v181 : BitVec 32) (v186 : BitVec 32) (v191 : BitVec 32) (v196 : BitVec 32) (v201 : BitVec 32) (v206 : BitVec 32) (v211 : BitVec 32) (v216 : BitVec 32) (v221 : BitVec 32) (v226 : BitVec 32) (v231 : BitVec 32) (v236 : BitVec 32) (v241 : BitVec 32) (k0_t4 : Fin (k0_t4_loop i v66_0 v74 v79 v84 v89 v94 v99 v104 v109 v114 v119 v124 v129 v134 v139 v144 v149 v158_0 v166 v171 v176 v181 v186 v191 v196 v201 v206 v211 v216 v221 v226 v231 v236 v241).trips) (v426 : BitVec 32) : Prop :=
  (∀ k0_t9 : Fin k0_t9_loop.trips, ∀ (k0_h3 : k0_cond3 i v66_0 v74 v79 v84 v89 v94 v99 v104 v109 v114 v119 v124 v129 v134 v139 v144 v149 v158_0 v166 v171 v176 v181 v186 v191 v196 v201 v206 v211 v216 v221 v226 v231 v236 v241 k0_t4 = 1#1), ∀ a, (k0_off56 v426 k0_t9) a + S1x16.size a ≤ S32x512.size a) ∧
  (∀ (k0_h3 : k0_cond3 i v66_0 v74 v79 v84 v89 v94 v99 v104 v109 v114 v119 v124 v129 v134 v139 v144 v149 v158_0 v166 v171 v176 v181 v186 v191 v196 v201 v206 v211 v216 v221 v226 v231 v236 v241 k0_t4 = 1#1), ∀ a, (k0_off57 v426) a + S1x16.size a ≤ S32x512.size a)
theorem k0_off56_inb : ∀ (i : grid0.Coords) (v66_0 : BitVec 32) (v74 : BitVec 32) (v79 : BitVec 32) (v84 : BitVec 32) (v89 : BitVec 32) (v94 : BitVec 32) (v99 : BitVec 32) (v104 : BitVec 32) (v109 : BitVec 32) (v114 : BitVec 32) (v119 : BitVec 32) (v124 : BitVec 32) (v129 : BitVec 32) (v134 : BitVec 32) (v139 : BitVec 32) (v144 : BitVec 32) (v149 : BitVec 32) (v158_0 : BitVec 32) (v166 : BitVec 32) (v171 : BitVec 32) (v176 : BitVec 32) (v181 : BitVec 32) (v186 : BitVec 32) (v191 : BitVec 32) (v196 : BitVec 32) (v201 : BitVec 32) (v206 : BitVec 32) (v211 : BitVec 32) (v216 : BitVec 32) (v221 : BitVec 32) (v226 : BitVec 32) (v231 : BitVec 32) (v236 : BitVec 32) (v241 : BitVec 32) (k0_t4 : Fin (k0_t4_loop i v66_0 v74 v79 v84 v89 v94 v99 v104 v109 v114 v119 v124 v129 v134 v139 v144 v149 v158_0 v166 v171 v176 v181 v186 v191 v196 v201 v206 v211 v216 v221 v226 v231 v236 v241).trips) (v426 : BitVec 32) (k0_hw9 : k0_chk9 i v66_0 v74 v79 v84 v89 v94 v99 v104 v109 v114 v119 v124 v129 v134 v139 v144 v149 v158_0 v166 v171 v176 v181 v186 v191 v196 v201 v206 v211 v216 v221 v226 v231 v236 v241 k0_t4 v426) (k0_t9 : Fin k0_t9_loop.trips), ∀ (k0_h3 : k0_cond3 i v66_0 v74 v79 v84 v89 v94 v99 v104 v109 v114 v119 v124 v129 v134 v139 v144 v149 v158_0 v166 v171 v176 v181 v186 v191 v196 v201 v206 v211 v216 v221 v226 v231 v236 v241 k0_t4 = 1#1), ∀ a, (k0_off56 v426 k0_t9) a + S1x16.size a ≤ S32x512.size a := fun i v66_0 v74 v79 v84 v89 v94 v99 v104 v109 v114 v119 v124 v129 v134 v139 v144 v149 v158_0 v166 v171 v176 v181 v186 v191 v196 v201 v206 v211 v216 v221 v226 v231 v236 v241 k0_t4 v426 k0_hw9 k0_t9 k0_h3 => k0_hw9.1 k0_t9 k0_h3
theorem k0_off57_inb : ∀ (i : grid0.Coords) (v66_0 : BitVec 32) (v74 : BitVec 32) (v79 : BitVec 32) (v84 : BitVec 32) (v89 : BitVec 32) (v94 : BitVec 32) (v99 : BitVec 32) (v104 : BitVec 32) (v109 : BitVec 32) (v114 : BitVec 32) (v119 : BitVec 32) (v124 : BitVec 32) (v129 : BitVec 32) (v134 : BitVec 32) (v139 : BitVec 32) (v144 : BitVec 32) (v149 : BitVec 32) (v158_0 : BitVec 32) (v166 : BitVec 32) (v171 : BitVec 32) (v176 : BitVec 32) (v181 : BitVec 32) (v186 : BitVec 32) (v191 : BitVec 32) (v196 : BitVec 32) (v201 : BitVec 32) (v206 : BitVec 32) (v211 : BitVec 32) (v216 : BitVec 32) (v221 : BitVec 32) (v226 : BitVec 32) (v231 : BitVec 32) (v236 : BitVec 32) (v241 : BitVec 32) (k0_t4 : Fin (k0_t4_loop i v66_0 v74 v79 v84 v89 v94 v99 v104 v109 v114 v119 v124 v129 v134 v139 v144 v149 v158_0 v166 v171 v176 v181 v186 v191 v196 v201 v206 v211 v216 v221 v226 v231 v236 v241).trips) (v426 : BitVec 32) (k0_hw9 : k0_chk9 i v66_0 v74 v79 v84 v89 v94 v99 v104 v109 v114 v119 v124 v129 v134 v139 v144 v149 v158_0 v166 v171 v176 v181 v186 v191 v196 v201 v206 v211 v216 v221 v226 v231 v236 v241 k0_t4 v426), ∀ (k0_h3 : k0_cond3 i v66_0 v74 v79 v84 v89 v94 v99 v104 v109 v114 v119 v124 v129 v134 v139 v144 v149 v158_0 v166 v171 v176 v181 v186 v191 v196 v201 v206 v211 v216 v221 v226 v231 v236 v241 k0_t4 = 1#1), ∀ a, (k0_off57 v426) a + S1x16.size a ≤ S32x512.size a := fun i v66_0 v74 v79 v84 v89 v94 v99 v104 v109 v114 v119 v124 v129 v134 v139 v144 v149 v158_0 v166 v171 v176 v181 v186 v191 v196 v201 v206 v211 v216 v221 v226 v231 v236 v241 k0_t4 v426 k0_hw9 k0_h3 => k0_hw9.2 k0_h3

def k0_off58 (k0_t5 : Fin k0_t5_loop.trips) : Fin 2 → Nat :=
  let c0_i32_149 : BitVec 32 := 0#32
  let c1_i32_150 : BitVec 32 := 1#32
  let arg14 : BitVec 32 := Scf.iv c0_i32_149 c1_i32_150 k0_t5
  let c16_i32_156 : BitVec 32 := 16#32
  let v342 : BitVec 32 := Scalar.muli arg14 c16_i32_156
  let c4_i32_187 : BitVec 32 := 4#32
  let v447 : BitVec 32 := Scalar.addi v342 c4_i32_187
  let v448 : Index := Scalar.indexCast v447
  let c0_188 : Index := 0#32
  ![v448.toNat, 0]
@[reducible] def k0_t10_loop : Scf.Loop 32 :=
  let c1_i32_189 : BitVec 32 := 1#32
  let c31_i32_190 : BitVec 32 := 31#32
  let v453 : BitVec 32 := Scalar.addi c1_i32_189 c31_i32_190
  let c1_i32_191 : BitVec 32 := 1#32
  ⟨c1_i32_189, v453, c1_i32_191⟩
def k0_off59 (k0_t5 : Fin k0_t5_loop.trips) (k0_t10 : Fin k0_t10_loop.trips) : Fin 2 → Nat :=
  let c0_i32_149 : BitVec 32 := 0#32
  let c1_i32_150 : BitVec 32 := 1#32
  let arg14 : BitVec 32 := Scf.iv c0_i32_149 c1_i32_150 k0_t5
  let c16_i32_156 : BitVec 32 := 16#32
  let v342 : BitVec 32 := Scalar.muli arg14 c16_i32_156
  let c4_i32_187 : BitVec 32 := 4#32
  let v447 : BitVec 32 := Scalar.addi v342 c4_i32_187
  let v684 : Index := Scalar.indexCast v447
  let c1_i32_189 : BitVec 32 := 1#32
  let c1_i32_191 : BitVec 32 := 1#32
  let arg15 : BitVec 32 := Scf.iv c1_i32_189 c1_i32_191 k0_t10
  let c16_i32_273 : BitVec 32 := 16#32
  let v683 : BitVec 32 := Scalar.muli arg15 c16_i32_273
  let v685 : Index := Scalar.indexCast v683
  ![v684.toNat, v685.toNat]
def k0_off60 (v446 : BitVec 32) (k0_t10 : Fin k0_t10_loop.trips) : Fin 2 → Nat :=
  let v692 : Index := Scalar.indexCast v446
  let c1_i32_189 : BitVec 32 := 1#32
  let c1_i32_191 : BitVec 32 := 1#32
  let arg15 : BitVec 32 := Scf.iv c1_i32_189 c1_i32_191 k0_t10
  let c1_i32_274 : BitVec 32 := 1#32
  let v690 : BitVec 32 := Scalar.subi arg15 c1_i32_274
  let c16_i32_275 : BitVec 32 := 16#32
  let v691 : BitVec 32 := Scalar.muli v690 c16_i32_275
  let v693 : Index := Scalar.indexCast v691
  ![v692.toNat, v693.toNat]

def k0_off61 (v446 : BitVec 32) : Fin 2 → Nat :=
  let v455 : Index := Scalar.indexCast v446
  let c496_193 : Index := 496#32
  ![v455.toNat, 496]

def k0_chk10 (i : grid0.Coords) (v66_0 : BitVec 32) (v74 : BitVec 32) (v79 : BitVec 32) (v84 : BitVec 32) (v89 : BitVec 32) (v94 : BitVec 32) (v99 : BitVec 32) (v104 : BitVec 32) (v109 : BitVec 32) (v114 : BitVec 32) (v119 : BitVec 32) (v124 : BitVec 32) (v129 : BitVec 32) (v134 : BitVec 32) (v139 : BitVec 32) (v144 : BitVec 32) (v149 : BitVec 32) (v158_0 : BitVec 32) (v166 : BitVec 32) (v171 : BitVec 32) (v176 : BitVec 32) (v181 : BitVec 32) (v186 : BitVec 32) (v191 : BitVec 32) (v196 : BitVec 32) (v201 : BitVec 32) (v206 : BitVec 32) (v211 : BitVec 32) (v216 : BitVec 32) (v221 : BitVec 32) (v226 : BitVec 32) (v231 : BitVec 32) (v236 : BitVec 32) (v241 : BitVec 32) (k0_t4 : Fin (k0_t4_loop i v66_0 v74 v79 v84 v89 v94 v99 v104 v109 v114 v119 v124 v129 v134 v139 v144 v149 v158_0 v166 v171 v176 v181 v186 v191 v196 v201 v206 v211 v216 v221 v226 v231 v236 v241).trips) (v446 : BitVec 32) : Prop :=
  (∀ k0_t10 : Fin k0_t10_loop.trips, ∀ (k0_h3 : k0_cond3 i v66_0 v74 v79 v84 v89 v94 v99 v104 v109 v114 v119 v124 v129 v134 v139 v144 v149 v158_0 v166 v171 v176 v181 v186 v191 v196 v201 v206 v211 v216 v221 v226 v231 v236 v241 k0_t4 = 1#1), ∀ a, (k0_off60 v446 k0_t10) a + S1x16.size a ≤ S32x512.size a) ∧
  (∀ (k0_h3 : k0_cond3 i v66_0 v74 v79 v84 v89 v94 v99 v104 v109 v114 v119 v124 v129 v134 v139 v144 v149 v158_0 v166 v171 v176 v181 v186 v191 v196 v201 v206 v211 v216 v221 v226 v231 v236 v241 k0_t4 = 1#1), ∀ a, (k0_off61 v446) a + S1x16.size a ≤ S32x512.size a)
theorem k0_off60_inb : ∀ (i : grid0.Coords) (v66_0 : BitVec 32) (v74 : BitVec 32) (v79 : BitVec 32) (v84 : BitVec 32) (v89 : BitVec 32) (v94 : BitVec 32) (v99 : BitVec 32) (v104 : BitVec 32) (v109 : BitVec 32) (v114 : BitVec 32) (v119 : BitVec 32) (v124 : BitVec 32) (v129 : BitVec 32) (v134 : BitVec 32) (v139 : BitVec 32) (v144 : BitVec 32) (v149 : BitVec 32) (v158_0 : BitVec 32) (v166 : BitVec 32) (v171 : BitVec 32) (v176 : BitVec 32) (v181 : BitVec 32) (v186 : BitVec 32) (v191 : BitVec 32) (v196 : BitVec 32) (v201 : BitVec 32) (v206 : BitVec 32) (v211 : BitVec 32) (v216 : BitVec 32) (v221 : BitVec 32) (v226 : BitVec 32) (v231 : BitVec 32) (v236 : BitVec 32) (v241 : BitVec 32) (k0_t4 : Fin (k0_t4_loop i v66_0 v74 v79 v84 v89 v94 v99 v104 v109 v114 v119 v124 v129 v134 v139 v144 v149 v158_0 v166 v171 v176 v181 v186 v191 v196 v201 v206 v211 v216 v221 v226 v231 v236 v241).trips) (v446 : BitVec 32) (k0_hw10 : k0_chk10 i v66_0 v74 v79 v84 v89 v94 v99 v104 v109 v114 v119 v124 v129 v134 v139 v144 v149 v158_0 v166 v171 v176 v181 v186 v191 v196 v201 v206 v211 v216 v221 v226 v231 v236 v241 k0_t4 v446) (k0_t10 : Fin k0_t10_loop.trips), ∀ (k0_h3 : k0_cond3 i v66_0 v74 v79 v84 v89 v94 v99 v104 v109 v114 v119 v124 v129 v134 v139 v144 v149 v158_0 v166 v171 v176 v181 v186 v191 v196 v201 v206 v211 v216 v221 v226 v231 v236 v241 k0_t4 = 1#1), ∀ a, (k0_off60 v446 k0_t10) a + S1x16.size a ≤ S32x512.size a := fun i v66_0 v74 v79 v84 v89 v94 v99 v104 v109 v114 v119 v124 v129 v134 v139 v144 v149 v158_0 v166 v171 v176 v181 v186 v191 v196 v201 v206 v211 v216 v221 v226 v231 v236 v241 k0_t4 v446 k0_hw10 k0_t10 k0_h3 => k0_hw10.1 k0_t10 k0_h3
theorem k0_off61_inb : ∀ (i : grid0.Coords) (v66_0 : BitVec 32) (v74 : BitVec 32) (v79 : BitVec 32) (v84 : BitVec 32) (v89 : BitVec 32) (v94 : BitVec 32) (v99 : BitVec 32) (v104 : BitVec 32) (v109 : BitVec 32) (v114 : BitVec 32) (v119 : BitVec 32) (v124 : BitVec 32) (v129 : BitVec 32) (v134 : BitVec 32) (v139 : BitVec 32) (v144 : BitVec 32) (v149 : BitVec 32) (v158_0 : BitVec 32) (v166 : BitVec 32) (v171 : BitVec 32) (v176 : BitVec 32) (v181 : BitVec 32) (v186 : BitVec 32) (v191 : BitVec 32) (v196 : BitVec 32) (v201 : BitVec 32) (v206 : BitVec 32) (v211 : BitVec 32) (v216 : BitVec 32) (v221 : BitVec 32) (v226 : BitVec 32) (v231 : BitVec 32) (v236 : BitVec 32) (v241 : BitVec 32) (k0_t4 : Fin (k0_t4_loop i v66_0 v74 v79 v84 v89 v94 v99 v104 v109 v114 v119 v124 v129 v134 v139 v144 v149 v158_0 v166 v171 v176 v181 v186 v191 v196 v201 v206 v211 v216 v221 v226 v231 v236 v241).trips) (v446 : BitVec 32) (k0_hw10 : k0_chk10 i v66_0 v74 v79 v84 v89 v94 v99 v104 v109 v114 v119 v124 v129 v134 v139 v144 v149 v158_0 v166 v171 v176 v181 v186 v191 v196 v201 v206 v211 v216 v221 v226 v231 v236 v241 k0_t4 v446), ∀ (k0_h3 : k0_cond3 i v66_0 v74 v79 v84 v89 v94 v99 v104 v109 v114 v119 v124 v129 v134 v139 v144 v149 v158_0 v166 v171 v176 v181 v186 v191 v196 v201 v206 v211 v216 v221 v226 v231 v236 v241 k0_t4 = 1#1), ∀ a, (k0_off61 v446) a + S1x16.size a ≤ S32x512.size a := fun i v66_0 v74 v79 v84 v89 v94 v99 v104 v109 v114 v119 v124 v129 v134 v139 v144 v149 v158_0 v166 v171 v176 v181 v186 v191 v196 v201 v206 v211 v216 v221 v226 v231 v236 v241 k0_t4 v446 k0_hw10 k0_h3 => k0_hw10.2 k0_h3

def k0_off62 (k0_t5 : Fin k0_t5_loop.trips) : Fin 2 → Nat :=
  let c0_i32_149 : BitVec 32 := 0#32
  let c1_i32_150 : BitVec 32 := 1#32
  let arg14 : BitVec 32 := Scf.iv c0_i32_149 c1_i32_150 k0_t5
  let c16_i32_156 : BitVec 32 := 16#32
  let v342 : BitVec 32 := Scalar.muli arg14 c16_i32_156
  let c5_i32 : BitVec 32 := 5#32
  let v467 : BitVec 32 := Scalar.addi v342 c5_i32
  let v468 : Index := Scalar.indexCast v467
  let c0_195 : Index := 0#32
  ![v468.toNat, 0]
@[reducible] def k0_t11_loop : Scf.Loop 32 :=
  let c1_i32_196 : BitVec 32 := 1#32
  let c31_i32_197 : BitVec 32 := 31#32
  let v473 : BitVec 32 := Scalar.addi c1_i32_196 c31_i32_197
  let c1_i32_198 : BitVec 32 := 1#32
  ⟨c1_i32_196, v473, c1_i32_198⟩
def k0_off63 (k0_t5 : Fin k0_t5_loop.trips) (k0_t11 : Fin k0_t11_loop.trips) : Fin 2 → Nat :=
  let c0_i32_149 : BitVec 32 := 0#32
  let c1_i32_150 : BitVec 32 := 1#32
  let arg14 : BitVec 32 := Scf.iv c0_i32_149 c1_i32_150 k0_t5
  let c16_i32_156 : BitVec 32 := 16#32
  let v342 : BitVec 32 := Scalar.muli arg14 c16_i32_156
  let c5_i32 : BitVec 32 := 5#32
  let v467 : BitVec 32 := Scalar.addi v342 c5_i32
  let v684 : Index := Scalar.indexCast v467
  let c1_i32_196 : BitVec 32 := 1#32
  let c1_i32_198 : BitVec 32 := 1#32
  let arg15 : BitVec 32 := Scf.iv c1_i32_196 c1_i32_198 k0_t11
  let c16_i32_273 : BitVec 32 := 16#32
  let v683 : BitVec 32 := Scalar.muli arg15 c16_i32_273
  let v685 : Index := Scalar.indexCast v683
  ![v684.toNat, v685.toNat]
def k0_off64 (v466 : BitVec 32) (k0_t11 : Fin k0_t11_loop.trips) : Fin 2 → Nat :=
  let v692 : Index := Scalar.indexCast v466
  let c1_i32_196 : BitVec 32 := 1#32
  let c1_i32_198 : BitVec 32 := 1#32
  let arg15 : BitVec 32 := Scf.iv c1_i32_196 c1_i32_198 k0_t11
  let c1_i32_274 : BitVec 32 := 1#32
  let v690 : BitVec 32 := Scalar.subi arg15 c1_i32_274
  let c16_i32_275 : BitVec 32 := 16#32
  let v691 : BitVec 32 := Scalar.muli v690 c16_i32_275
  let v693 : Index := Scalar.indexCast v691
  ![v692.toNat, v693.toNat]

def k0_off65 (v466 : BitVec 32) : Fin 2 → Nat :=
  let v475 : Index := Scalar.indexCast v466
  let c496_200 : Index := 496#32
  ![v475.toNat, 496]

def k0_chk11 (i : grid0.Coords) (v66_0 : BitVec 32) (v74 : BitVec 32) (v79 : BitVec 32) (v84 : BitVec 32) (v89 : BitVec 32) (v94 : BitVec 32) (v99 : BitVec 32) (v104 : BitVec 32) (v109 : BitVec 32) (v114 : BitVec 32) (v119 : BitVec 32) (v124 : BitVec 32) (v129 : BitVec 32) (v134 : BitVec 32) (v139 : BitVec 32) (v144 : BitVec 32) (v149 : BitVec 32) (v158_0 : BitVec 32) (v166 : BitVec 32) (v171 : BitVec 32) (v176 : BitVec 32) (v181 : BitVec 32) (v186 : BitVec 32) (v191 : BitVec 32) (v196 : BitVec 32) (v201 : BitVec 32) (v206 : BitVec 32) (v211 : BitVec 32) (v216 : BitVec 32) (v221 : BitVec 32) (v226 : BitVec 32) (v231 : BitVec 32) (v236 : BitVec 32) (v241 : BitVec 32) (k0_t4 : Fin (k0_t4_loop i v66_0 v74 v79 v84 v89 v94 v99 v104 v109 v114 v119 v124 v129 v134 v139 v144 v149 v158_0 v166 v171 v176 v181 v186 v191 v196 v201 v206 v211 v216 v221 v226 v231 v236 v241).trips) (v466 : BitVec 32) : Prop :=
  (∀ k0_t11 : Fin k0_t11_loop.trips, ∀ (k0_h3 : k0_cond3 i v66_0 v74 v79 v84 v89 v94 v99 v104 v109 v114 v119 v124 v129 v134 v139 v144 v149 v158_0 v166 v171 v176 v181 v186 v191 v196 v201 v206 v211 v216 v221 v226 v231 v236 v241 k0_t4 = 1#1), ∀ a, (k0_off64 v466 k0_t11) a + S1x16.size a ≤ S32x512.size a) ∧
  (∀ (k0_h3 : k0_cond3 i v66_0 v74 v79 v84 v89 v94 v99 v104 v109 v114 v119 v124 v129 v134 v139 v144 v149 v158_0 v166 v171 v176 v181 v186 v191 v196 v201 v206 v211 v216 v221 v226 v231 v236 v241 k0_t4 = 1#1), ∀ a, (k0_off65 v466) a + S1x16.size a ≤ S32x512.size a)
theorem k0_off64_inb : ∀ (i : grid0.Coords) (v66_0 : BitVec 32) (v74 : BitVec 32) (v79 : BitVec 32) (v84 : BitVec 32) (v89 : BitVec 32) (v94 : BitVec 32) (v99 : BitVec 32) (v104 : BitVec 32) (v109 : BitVec 32) (v114 : BitVec 32) (v119 : BitVec 32) (v124 : BitVec 32) (v129 : BitVec 32) (v134 : BitVec 32) (v139 : BitVec 32) (v144 : BitVec 32) (v149 : BitVec 32) (v158_0 : BitVec 32) (v166 : BitVec 32) (v171 : BitVec 32) (v176 : BitVec 32) (v181 : BitVec 32) (v186 : BitVec 32) (v191 : BitVec 32) (v196 : BitVec 32) (v201 : BitVec 32) (v206 : BitVec 32) (v211 : BitVec 32) (v216 : BitVec 32) (v221 : BitVec 32) (v226 : BitVec 32) (v231 : BitVec 32) (v236 : BitVec 32) (v241 : BitVec 32) (k0_t4 : Fin (k0_t4_loop i v66_0 v74 v79 v84 v89 v94 v99 v104 v109 v114 v119 v124 v129 v134 v139 v144 v149 v158_0 v166 v171 v176 v181 v186 v191 v196 v201 v206 v211 v216 v221 v226 v231 v236 v241).trips) (v466 : BitVec 32) (k0_hw11 : k0_chk11 i v66_0 v74 v79 v84 v89 v94 v99 v104 v109 v114 v119 v124 v129 v134 v139 v144 v149 v158_0 v166 v171 v176 v181 v186 v191 v196 v201 v206 v211 v216 v221 v226 v231 v236 v241 k0_t4 v466) (k0_t11 : Fin k0_t11_loop.trips), ∀ (k0_h3 : k0_cond3 i v66_0 v74 v79 v84 v89 v94 v99 v104 v109 v114 v119 v124 v129 v134 v139 v144 v149 v158_0 v166 v171 v176 v181 v186 v191 v196 v201 v206 v211 v216 v221 v226 v231 v236 v241 k0_t4 = 1#1), ∀ a, (k0_off64 v466 k0_t11) a + S1x16.size a ≤ S32x512.size a := fun i v66_0 v74 v79 v84 v89 v94 v99 v104 v109 v114 v119 v124 v129 v134 v139 v144 v149 v158_0 v166 v171 v176 v181 v186 v191 v196 v201 v206 v211 v216 v221 v226 v231 v236 v241 k0_t4 v466 k0_hw11 k0_t11 k0_h3 => k0_hw11.1 k0_t11 k0_h3
theorem k0_off65_inb : ∀ (i : grid0.Coords) (v66_0 : BitVec 32) (v74 : BitVec 32) (v79 : BitVec 32) (v84 : BitVec 32) (v89 : BitVec 32) (v94 : BitVec 32) (v99 : BitVec 32) (v104 : BitVec 32) (v109 : BitVec 32) (v114 : BitVec 32) (v119 : BitVec 32) (v124 : BitVec 32) (v129 : BitVec 32) (v134 : BitVec 32) (v139 : BitVec 32) (v144 : BitVec 32) (v149 : BitVec 32) (v158_0 : BitVec 32) (v166 : BitVec 32) (v171 : BitVec 32) (v176 : BitVec 32) (v181 : BitVec 32) (v186 : BitVec 32) (v191 : BitVec 32) (v196 : BitVec 32) (v201 : BitVec 32) (v206 : BitVec 32) (v211 : BitVec 32) (v216 : BitVec 32) (v221 : BitVec 32) (v226 : BitVec 32) (v231 : BitVec 32) (v236 : BitVec 32) (v241 : BitVec 32) (k0_t4 : Fin (k0_t4_loop i v66_0 v74 v79 v84 v89 v94 v99 v104 v109 v114 v119 v124 v129 v134 v139 v144 v149 v158_0 v166 v171 v176 v181 v186 v191 v196 v201 v206 v211 v216 v221 v226 v231 v236 v241).trips) (v466 : BitVec 32) (k0_hw11 : k0_chk11 i v66_0 v74 v79 v84 v89 v94 v99 v104 v109 v114 v119 v124 v129 v134 v139 v144 v149 v158_0 v166 v171 v176 v181 v186 v191 v196 v201 v206 v211 v216 v221 v226 v231 v236 v241 k0_t4 v466), ∀ (k0_h3 : k0_cond3 i v66_0 v74 v79 v84 v89 v94 v99 v104 v109 v114 v119 v124 v129 v134 v139 v144 v149 v158_0 v166 v171 v176 v181 v186 v191 v196 v201 v206 v211 v216 v221 v226 v231 v236 v241 k0_t4 = 1#1), ∀ a, (k0_off65 v466) a + S1x16.size a ≤ S32x512.size a := fun i v66_0 v74 v79 v84 v89 v94 v99 v104 v109 v114 v119 v124 v129 v134 v139 v144 v149 v158_0 v166 v171 v176 v181 v186 v191 v196 v201 v206 v211 v216 v221 v226 v231 v236 v241 k0_t4 v466 k0_hw11 k0_h3 => k0_hw11.2 k0_h3

def k0_off66 (k0_t5 : Fin k0_t5_loop.trips) : Fin 2 → Nat :=
  let c0_i32_149 : BitVec 32 := 0#32
  let c1_i32_150 : BitVec 32 := 1#32
  let arg14 : BitVec 32 := Scf.iv c0_i32_149 c1_i32_150 k0_t5
  let c16_i32_156 : BitVec 32 := 16#32
  let v342 : BitVec 32 := Scalar.muli arg14 c16_i32_156
  let c6_i32 : BitVec 32 := 6#32
  let v487 : BitVec 32 := Scalar.addi v342 c6_i32
  let v488 : Index := Scalar.indexCast v487
  let c0_202 : Index := 0#32
  ![v488.toNat, 0]
@[reducible] def k0_t12_loop : Scf.Loop 32 :=
  let c1_i32_203 : BitVec 32 := 1#32
  let c31_i32_204 : BitVec 32 := 31#32
  let v493 : BitVec 32 := Scalar.addi c1_i32_203 c31_i32_204
  let c1_i32_205 : BitVec 32 := 1#32
  ⟨c1_i32_203, v493, c1_i32_205⟩
def k0_off67 (k0_t5 : Fin k0_t5_loop.trips) (k0_t12 : Fin k0_t12_loop.trips) : Fin 2 → Nat :=
  let c0_i32_149 : BitVec 32 := 0#32
  let c1_i32_150 : BitVec 32 := 1#32
  let arg14 : BitVec 32 := Scf.iv c0_i32_149 c1_i32_150 k0_t5
  let c16_i32_156 : BitVec 32 := 16#32
  let v342 : BitVec 32 := Scalar.muli arg14 c16_i32_156
  let c6_i32 : BitVec 32 := 6#32
  let v487 : BitVec 32 := Scalar.addi v342 c6_i32
  let v684 : Index := Scalar.indexCast v487
  let c1_i32_203 : BitVec 32 := 1#32
  let c1_i32_205 : BitVec 32 := 1#32
  let arg15 : BitVec 32 := Scf.iv c1_i32_203 c1_i32_205 k0_t12
  let c16_i32_273 : BitVec 32 := 16#32
  let v683 : BitVec 32 := Scalar.muli arg15 c16_i32_273
  let v685 : Index := Scalar.indexCast v683
  ![v684.toNat, v685.toNat]
def k0_off68 (v486 : BitVec 32) (k0_t12 : Fin k0_t12_loop.trips) : Fin 2 → Nat :=
  let v692 : Index := Scalar.indexCast v486
  let c1_i32_203 : BitVec 32 := 1#32
  let c1_i32_205 : BitVec 32 := 1#32
  let arg15 : BitVec 32 := Scf.iv c1_i32_203 c1_i32_205 k0_t12
  let c1_i32_274 : BitVec 32 := 1#32
  let v690 : BitVec 32 := Scalar.subi arg15 c1_i32_274
  let c16_i32_275 : BitVec 32 := 16#32
  let v691 : BitVec 32 := Scalar.muli v690 c16_i32_275
  let v693 : Index := Scalar.indexCast v691
  ![v692.toNat, v693.toNat]

def k0_off69 (v486 : BitVec 32) : Fin 2 → Nat :=
  let v495 : Index := Scalar.indexCast v486
  let c496_207 : Index := 496#32
  ![v495.toNat, 496]

def k0_chk12 (i : grid0.Coords) (v66_0 : BitVec 32) (v74 : BitVec 32) (v79 : BitVec 32) (v84 : BitVec 32) (v89 : BitVec 32) (v94 : BitVec 32) (v99 : BitVec 32) (v104 : BitVec 32) (v109 : BitVec 32) (v114 : BitVec 32) (v119 : BitVec 32) (v124 : BitVec 32) (v129 : BitVec 32) (v134 : BitVec 32) (v139 : BitVec 32) (v144 : BitVec 32) (v149 : BitVec 32) (v158_0 : BitVec 32) (v166 : BitVec 32) (v171 : BitVec 32) (v176 : BitVec 32) (v181 : BitVec 32) (v186 : BitVec 32) (v191 : BitVec 32) (v196 : BitVec 32) (v201 : BitVec 32) (v206 : BitVec 32) (v211 : BitVec 32) (v216 : BitVec 32) (v221 : BitVec 32) (v226 : BitVec 32) (v231 : BitVec 32) (v236 : BitVec 32) (v241 : BitVec 32) (k0_t4 : Fin (k0_t4_loop i v66_0 v74 v79 v84 v89 v94 v99 v104 v109 v114 v119 v124 v129 v134 v139 v144 v149 v158_0 v166 v171 v176 v181 v186 v191 v196 v201 v206 v211 v216 v221 v226 v231 v236 v241).trips) (v486 : BitVec 32) : Prop :=
  (∀ k0_t12 : Fin k0_t12_loop.trips, ∀ (k0_h3 : k0_cond3 i v66_0 v74 v79 v84 v89 v94 v99 v104 v109 v114 v119 v124 v129 v134 v139 v144 v149 v158_0 v166 v171 v176 v181 v186 v191 v196 v201 v206 v211 v216 v221 v226 v231 v236 v241 k0_t4 = 1#1), ∀ a, (k0_off68 v486 k0_t12) a + S1x16.size a ≤ S32x512.size a) ∧
  (∀ (k0_h3 : k0_cond3 i v66_0 v74 v79 v84 v89 v94 v99 v104 v109 v114 v119 v124 v129 v134 v139 v144 v149 v158_0 v166 v171 v176 v181 v186 v191 v196 v201 v206 v211 v216 v221 v226 v231 v236 v241 k0_t4 = 1#1), ∀ a, (k0_off69 v486) a + S1x16.size a ≤ S32x512.size a)
theorem k0_off68_inb : ∀ (i : grid0.Coords) (v66_0 : BitVec 32) (v74 : BitVec 32) (v79 : BitVec 32) (v84 : BitVec 32) (v89 : BitVec 32) (v94 : BitVec 32) (v99 : BitVec 32) (v104 : BitVec 32) (v109 : BitVec 32) (v114 : BitVec 32) (v119 : BitVec 32) (v124 : BitVec 32) (v129 : BitVec 32) (v134 : BitVec 32) (v139 : BitVec 32) (v144 : BitVec 32) (v149 : BitVec 32) (v158_0 : BitVec 32) (v166 : BitVec 32) (v171 : BitVec 32) (v176 : BitVec 32) (v181 : BitVec 32) (v186 : BitVec 32) (v191 : BitVec 32) (v196 : BitVec 32) (v201 : BitVec 32) (v206 : BitVec 32) (v211 : BitVec 32) (v216 : BitVec 32) (v221 : BitVec 32) (v226 : BitVec 32) (v231 : BitVec 32) (v236 : BitVec 32) (v241 : BitVec 32) (k0_t4 : Fin (k0_t4_loop i v66_0 v74 v79 v84 v89 v94 v99 v104 v109 v114 v119 v124 v129 v134 v139 v144 v149 v158_0 v166 v171 v176 v181 v186 v191 v196 v201 v206 v211 v216 v221 v226 v231 v236 v241).trips) (v486 : BitVec 32) (k0_hw12 : k0_chk12 i v66_0 v74 v79 v84 v89 v94 v99 v104 v109 v114 v119 v124 v129 v134 v139 v144 v149 v158_0 v166 v171 v176 v181 v186 v191 v196 v201 v206 v211 v216 v221 v226 v231 v236 v241 k0_t4 v486) (k0_t12 : Fin k0_t12_loop.trips), ∀ (k0_h3 : k0_cond3 i v66_0 v74 v79 v84 v89 v94 v99 v104 v109 v114 v119 v124 v129 v134 v139 v144 v149 v158_0 v166 v171 v176 v181 v186 v191 v196 v201 v206 v211 v216 v221 v226 v231 v236 v241 k0_t4 = 1#1), ∀ a, (k0_off68 v486 k0_t12) a + S1x16.size a ≤ S32x512.size a := fun i v66_0 v74 v79 v84 v89 v94 v99 v104 v109 v114 v119 v124 v129 v134 v139 v144 v149 v158_0 v166 v171 v176 v181 v186 v191 v196 v201 v206 v211 v216 v221 v226 v231 v236 v241 k0_t4 v486 k0_hw12 k0_t12 k0_h3 => k0_hw12.1 k0_t12 k0_h3
theorem k0_off69_inb : ∀ (i : grid0.Coords) (v66_0 : BitVec 32) (v74 : BitVec 32) (v79 : BitVec 32) (v84 : BitVec 32) (v89 : BitVec 32) (v94 : BitVec 32) (v99 : BitVec 32) (v104 : BitVec 32) (v109 : BitVec 32) (v114 : BitVec 32) (v119 : BitVec 32) (v124 : BitVec 32) (v129 : BitVec 32) (v134 : BitVec 32) (v139 : BitVec 32) (v144 : BitVec 32) (v149 : BitVec 32) (v158_0 : BitVec 32) (v166 : BitVec 32) (v171 : BitVec 32) (v176 : BitVec 32) (v181 : BitVec 32) (v186 : BitVec 32) (v191 : BitVec 32) (v196 : BitVec 32) (v201 : BitVec 32) (v206 : BitVec 32) (v211 : BitVec 32) (v216 : BitVec 32) (v221 : BitVec 32) (v226 : BitVec 32) (v231 : BitVec 32) (v236 : BitVec 32) (v241 : BitVec 32) (k0_t4 : Fin (k0_t4_loop i v66_0 v74 v79 v84 v89 v94 v99 v104 v109 v114 v119 v124 v129 v134 v139 v144 v149 v158_0 v166 v171 v176 v181 v186 v191 v196 v201 v206 v211 v216 v221 v226 v231 v236 v241).trips) (v486 : BitVec 32) (k0_hw12 : k0_chk12 i v66_0 v74 v79 v84 v89 v94 v99 v104 v109 v114 v119 v124 v129 v134 v139 v144 v149 v158_0 v166 v171 v176 v181 v186 v191 v196 v201 v206 v211 v216 v221 v226 v231 v236 v241 k0_t4 v486), ∀ (k0_h3 : k0_cond3 i v66_0 v74 v79 v84 v89 v94 v99 v104 v109 v114 v119 v124 v129 v134 v139 v144 v149 v158_0 v166 v171 v176 v181 v186 v191 v196 v201 v206 v211 v216 v221 v226 v231 v236 v241 k0_t4 = 1#1), ∀ a, (k0_off69 v486) a + S1x16.size a ≤ S32x512.size a := fun i v66_0 v74 v79 v84 v89 v94 v99 v104 v109 v114 v119 v124 v129 v134 v139 v144 v149 v158_0 v166 v171 v176 v181 v186 v191 v196 v201 v206 v211 v216 v221 v226 v231 v236 v241 k0_t4 v486 k0_hw12 k0_h3 => k0_hw12.2 k0_h3

def k0_off70 (k0_t5 : Fin k0_t5_loop.trips) : Fin 2 → Nat :=
  let c0_i32_149 : BitVec 32 := 0#32
  let c1_i32_150 : BitVec 32 := 1#32
  let arg14 : BitVec 32 := Scf.iv c0_i32_149 c1_i32_150 k0_t5
  let c16_i32_156 : BitVec 32 := 16#32
  let v342 : BitVec 32 := Scalar.muli arg14 c16_i32_156
  let c7_i32 : BitVec 32 := 7#32
  let v507 : BitVec 32 := Scalar.addi v342 c7_i32
  let v508 : Index := Scalar.indexCast v507
  let c0_209 : Index := 0#32
  ![v508.toNat, 0]
@[reducible] def k0_t13_loop : Scf.Loop 32 :=
  let c1_i32_210 : BitVec 32 := 1#32
  let c31_i32_211 : BitVec 32 := 31#32
  let v513 : BitVec 32 := Scalar.addi c1_i32_210 c31_i32_211
  let c1_i32_212 : BitVec 32 := 1#32
  ⟨c1_i32_210, v513, c1_i32_212⟩
def k0_off71 (k0_t5 : Fin k0_t5_loop.trips) (k0_t13 : Fin k0_t13_loop.trips) : Fin 2 → Nat :=
  let c0_i32_149 : BitVec 32 := 0#32
  let c1_i32_150 : BitVec 32 := 1#32
  let arg14 : BitVec 32 := Scf.iv c0_i32_149 c1_i32_150 k0_t5
  let c16_i32_156 : BitVec 32 := 16#32
  let v342 : BitVec 32 := Scalar.muli arg14 c16_i32_156
  let c7_i32 : BitVec 32 := 7#32
  let v507 : BitVec 32 := Scalar.addi v342 c7_i32
  let v684 : Index := Scalar.indexCast v507
  let c1_i32_210 : BitVec 32 := 1#32
  let c1_i32_212 : BitVec 32 := 1#32
  let arg15 : BitVec 32 := Scf.iv c1_i32_210 c1_i32_212 k0_t13
  let c16_i32_273 : BitVec 32 := 16#32
  let v683 : BitVec 32 := Scalar.muli arg15 c16_i32_273
  let v685 : Index := Scalar.indexCast v683
  ![v684.toNat, v685.toNat]
def k0_off72 (v506 : BitVec 32) (k0_t13 : Fin k0_t13_loop.trips) : Fin 2 → Nat :=
  let v692 : Index := Scalar.indexCast v506
  let c1_i32_210 : BitVec 32 := 1#32
  let c1_i32_212 : BitVec 32 := 1#32
  let arg15 : BitVec 32 := Scf.iv c1_i32_210 c1_i32_212 k0_t13
  let c1_i32_274 : BitVec 32 := 1#32
  let v690 : BitVec 32 := Scalar.subi arg15 c1_i32_274
  let c16_i32_275 : BitVec 32 := 16#32
  let v691 : BitVec 32 := Scalar.muli v690 c16_i32_275
  let v693 : Index := Scalar.indexCast v691
  ![v692.toNat, v693.toNat]

def k0_off73 (v506 : BitVec 32) : Fin 2 → Nat :=
  let v515 : Index := Scalar.indexCast v506
  let c496_214 : Index := 496#32
  ![v515.toNat, 496]

def k0_chk13 (i : grid0.Coords) (v66_0 : BitVec 32) (v74 : BitVec 32) (v79 : BitVec 32) (v84 : BitVec 32) (v89 : BitVec 32) (v94 : BitVec 32) (v99 : BitVec 32) (v104 : BitVec 32) (v109 : BitVec 32) (v114 : BitVec 32) (v119 : BitVec 32) (v124 : BitVec 32) (v129 : BitVec 32) (v134 : BitVec 32) (v139 : BitVec 32) (v144 : BitVec 32) (v149 : BitVec 32) (v158_0 : BitVec 32) (v166 : BitVec 32) (v171 : BitVec 32) (v176 : BitVec 32) (v181 : BitVec 32) (v186 : BitVec 32) (v191 : BitVec 32) (v196 : BitVec 32) (v201 : BitVec 32) (v206 : BitVec 32) (v211 : BitVec 32) (v216 : BitVec 32) (v221 : BitVec 32) (v226 : BitVec 32) (v231 : BitVec 32) (v236 : BitVec 32) (v241 : BitVec 32) (k0_t4 : Fin (k0_t4_loop i v66_0 v74 v79 v84 v89 v94 v99 v104 v109 v114 v119 v124 v129 v134 v139 v144 v149 v158_0 v166 v171 v176 v181 v186 v191 v196 v201 v206 v211 v216 v221 v226 v231 v236 v241).trips) (v506 : BitVec 32) : Prop :=
  (∀ k0_t13 : Fin k0_t13_loop.trips, ∀ (k0_h3 : k0_cond3 i v66_0 v74 v79 v84 v89 v94 v99 v104 v109 v114 v119 v124 v129 v134 v139 v144 v149 v158_0 v166 v171 v176 v181 v186 v191 v196 v201 v206 v211 v216 v221 v226 v231 v236 v241 k0_t4 = 1#1), ∀ a, (k0_off72 v506 k0_t13) a + S1x16.size a ≤ S32x512.size a) ∧
  (∀ (k0_h3 : k0_cond3 i v66_0 v74 v79 v84 v89 v94 v99 v104 v109 v114 v119 v124 v129 v134 v139 v144 v149 v158_0 v166 v171 v176 v181 v186 v191 v196 v201 v206 v211 v216 v221 v226 v231 v236 v241 k0_t4 = 1#1), ∀ a, (k0_off73 v506) a + S1x16.size a ≤ S32x512.size a)
theorem k0_off72_inb : ∀ (i : grid0.Coords) (v66_0 : BitVec 32) (v74 : BitVec 32) (v79 : BitVec 32) (v84 : BitVec 32) (v89 : BitVec 32) (v94 : BitVec 32) (v99 : BitVec 32) (v104 : BitVec 32) (v109 : BitVec 32) (v114 : BitVec 32) (v119 : BitVec 32) (v124 : BitVec 32) (v129 : BitVec 32) (v134 : BitVec 32) (v139 : BitVec 32) (v144 : BitVec 32) (v149 : BitVec 32) (v158_0 : BitVec 32) (v166 : BitVec 32) (v171 : BitVec 32) (v176 : BitVec 32) (v181 : BitVec 32) (v186 : BitVec 32) (v191 : BitVec 32) (v196 : BitVec 32) (v201 : BitVec 32) (v206 : BitVec 32) (v211 : BitVec 32) (v216 : BitVec 32) (v221 : BitVec 32) (v226 : BitVec 32) (v231 : BitVec 32) (v236 : BitVec 32) (v241 : BitVec 32) (k0_t4 : Fin (k0_t4_loop i v66_0 v74 v79 v84 v89 v94 v99 v104 v109 v114 v119 v124 v129 v134 v139 v144 v149 v158_0 v166 v171 v176 v181 v186 v191 v196 v201 v206 v211 v216 v221 v226 v231 v236 v241).trips) (v506 : BitVec 32) (k0_hw13 : k0_chk13 i v66_0 v74 v79 v84 v89 v94 v99 v104 v109 v114 v119 v124 v129 v134 v139 v144 v149 v158_0 v166 v171 v176 v181 v186 v191 v196 v201 v206 v211 v216 v221 v226 v231 v236 v241 k0_t4 v506) (k0_t13 : Fin k0_t13_loop.trips), ∀ (k0_h3 : k0_cond3 i v66_0 v74 v79 v84 v89 v94 v99 v104 v109 v114 v119 v124 v129 v134 v139 v144 v149 v158_0 v166 v171 v176 v181 v186 v191 v196 v201 v206 v211 v216 v221 v226 v231 v236 v241 k0_t4 = 1#1), ∀ a, (k0_off72 v506 k0_t13) a + S1x16.size a ≤ S32x512.size a := fun i v66_0 v74 v79 v84 v89 v94 v99 v104 v109 v114 v119 v124 v129 v134 v139 v144 v149 v158_0 v166 v171 v176 v181 v186 v191 v196 v201 v206 v211 v216 v221 v226 v231 v236 v241 k0_t4 v506 k0_hw13 k0_t13 k0_h3 => k0_hw13.1 k0_t13 k0_h3
theorem k0_off73_inb : ∀ (i : grid0.Coords) (v66_0 : BitVec 32) (v74 : BitVec 32) (v79 : BitVec 32) (v84 : BitVec 32) (v89 : BitVec 32) (v94 : BitVec 32) (v99 : BitVec 32) (v104 : BitVec 32) (v109 : BitVec 32) (v114 : BitVec 32) (v119 : BitVec 32) (v124 : BitVec 32) (v129 : BitVec 32) (v134 : BitVec 32) (v139 : BitVec 32) (v144 : BitVec 32) (v149 : BitVec 32) (v158_0 : BitVec 32) (v166 : BitVec 32) (v171 : BitVec 32) (v176 : BitVec 32) (v181 : BitVec 32) (v186 : BitVec 32) (v191 : BitVec 32) (v196 : BitVec 32) (v201 : BitVec 32) (v206 : BitVec 32) (v211 : BitVec 32) (v216 : BitVec 32) (v221 : BitVec 32) (v226 : BitVec 32) (v231 : BitVec 32) (v236 : BitVec 32) (v241 : BitVec 32) (k0_t4 : Fin (k0_t4_loop i v66_0 v74 v79 v84 v89 v94 v99 v104 v109 v114 v119 v124 v129 v134 v139 v144 v149 v158_0 v166 v171 v176 v181 v186 v191 v196 v201 v206 v211 v216 v221 v226 v231 v236 v241).trips) (v506 : BitVec 32) (k0_hw13 : k0_chk13 i v66_0 v74 v79 v84 v89 v94 v99 v104 v109 v114 v119 v124 v129 v134 v139 v144 v149 v158_0 v166 v171 v176 v181 v186 v191 v196 v201 v206 v211 v216 v221 v226 v231 v236 v241 k0_t4 v506), ∀ (k0_h3 : k0_cond3 i v66_0 v74 v79 v84 v89 v94 v99 v104 v109 v114 v119 v124 v129 v134 v139 v144 v149 v158_0 v166 v171 v176 v181 v186 v191 v196 v201 v206 v211 v216 v221 v226 v231 v236 v241 k0_t4 = 1#1), ∀ a, (k0_off73 v506) a + S1x16.size a ≤ S32x512.size a := fun i v66_0 v74 v79 v84 v89 v94 v99 v104 v109 v114 v119 v124 v129 v134 v139 v144 v149 v158_0 v166 v171 v176 v181 v186 v191 v196 v201 v206 v211 v216 v221 v226 v231 v236 v241 k0_t4 v506 k0_hw13 k0_h3 => k0_hw13.2 k0_h3

def k0_off74 (k0_t5 : Fin k0_t5_loop.trips) : Fin 2 → Nat :=
  let c0_i32_149 : BitVec 32 := 0#32
  let c1_i32_150 : BitVec 32 := 1#32
  let arg14 : BitVec 32 := Scf.iv c0_i32_149 c1_i32_150 k0_t5
  let c16_i32_156 : BitVec 32 := 16#32
  let v342 : BitVec 32 := Scalar.muli arg14 c16_i32_156
  let c8_i32 : BitVec 32 := 8#32
  let v527 : BitVec 32 := Scalar.addi v342 c8_i32
  let v528 : Index := Scalar.indexCast v527
  let c0_216 : Index := 0#32
  ![v528.toNat, 0]
@[reducible] def k0_t14_loop : Scf.Loop 32 :=
  let c1_i32_217 : BitVec 32 := 1#32
  let c31_i32_218 : BitVec 32 := 31#32
  let v533 : BitVec 32 := Scalar.addi c1_i32_217 c31_i32_218
  let c1_i32_219 : BitVec 32 := 1#32
  ⟨c1_i32_217, v533, c1_i32_219⟩
def k0_off75 (k0_t5 : Fin k0_t5_loop.trips) (k0_t14 : Fin k0_t14_loop.trips) : Fin 2 → Nat :=
  let c0_i32_149 : BitVec 32 := 0#32
  let c1_i32_150 : BitVec 32 := 1#32
  let arg14 : BitVec 32 := Scf.iv c0_i32_149 c1_i32_150 k0_t5
  let c16_i32_156 : BitVec 32 := 16#32
  let v342 : BitVec 32 := Scalar.muli arg14 c16_i32_156
  let c8_i32 : BitVec 32 := 8#32
  let v527 : BitVec 32 := Scalar.addi v342 c8_i32
  let v684 : Index := Scalar.indexCast v527
  let c1_i32_217 : BitVec 32 := 1#32
  let c1_i32_219 : BitVec 32 := 1#32
  let arg15 : BitVec 32 := Scf.iv c1_i32_217 c1_i32_219 k0_t14
  let c16_i32_273 : BitVec 32 := 16#32
  let v683 : BitVec 32 := Scalar.muli arg15 c16_i32_273
  let v685 : Index := Scalar.indexCast v683
  ![v684.toNat, v685.toNat]
def k0_off76 (v526 : BitVec 32) (k0_t14 : Fin k0_t14_loop.trips) : Fin 2 → Nat :=
  let v692 : Index := Scalar.indexCast v526
  let c1_i32_217 : BitVec 32 := 1#32
  let c1_i32_219 : BitVec 32 := 1#32
  let arg15 : BitVec 32 := Scf.iv c1_i32_217 c1_i32_219 k0_t14
  let c1_i32_274 : BitVec 32 := 1#32
  let v690 : BitVec 32 := Scalar.subi arg15 c1_i32_274
  let c16_i32_275 : BitVec 32 := 16#32
  let v691 : BitVec 32 := Scalar.muli v690 c16_i32_275
  let v693 : Index := Scalar.indexCast v691
  ![v692.toNat, v693.toNat]

def k0_off77 (v526 : BitVec 32) : Fin 2 → Nat :=
  let v535 : Index := Scalar.indexCast v526
  let c496_221 : Index := 496#32
  ![v535.toNat, 496]

def k0_chk14 (i : grid0.Coords) (v66_0 : BitVec 32) (v74 : BitVec 32) (v79 : BitVec 32) (v84 : BitVec 32) (v89 : BitVec 32) (v94 : BitVec 32) (v99 : BitVec 32) (v104 : BitVec 32) (v109 : BitVec 32) (v114 : BitVec 32) (v119 : BitVec 32) (v124 : BitVec 32) (v129 : BitVec 32) (v134 : BitVec 32) (v139 : BitVec 32) (v144 : BitVec 32) (v149 : BitVec 32) (v158_0 : BitVec 32) (v166 : BitVec 32) (v171 : BitVec 32) (v176 : BitVec 32) (v181 : BitVec 32) (v186 : BitVec 32) (v191 : BitVec 32) (v196 : BitVec 32) (v201 : BitVec 32) (v206 : BitVec 32) (v211 : BitVec 32) (v216 : BitVec 32) (v221 : BitVec 32) (v226 : BitVec 32) (v231 : BitVec 32) (v236 : BitVec 32) (v241 : BitVec 32) (k0_t4 : Fin (k0_t4_loop i v66_0 v74 v79 v84 v89 v94 v99 v104 v109 v114 v119 v124 v129 v134 v139 v144 v149 v158_0 v166 v171 v176 v181 v186 v191 v196 v201 v206 v211 v216 v221 v226 v231 v236 v241).trips) (v526 : BitVec 32) : Prop :=
  (∀ k0_t14 : Fin k0_t14_loop.trips, ∀ (k0_h3 : k0_cond3 i v66_0 v74 v79 v84 v89 v94 v99 v104 v109 v114 v119 v124 v129 v134 v139 v144 v149 v158_0 v166 v171 v176 v181 v186 v191 v196 v201 v206 v211 v216 v221 v226 v231 v236 v241 k0_t4 = 1#1), ∀ a, (k0_off76 v526 k0_t14) a + S1x16.size a ≤ S32x512.size a) ∧
  (∀ (k0_h3 : k0_cond3 i v66_0 v74 v79 v84 v89 v94 v99 v104 v109 v114 v119 v124 v129 v134 v139 v144 v149 v158_0 v166 v171 v176 v181 v186 v191 v196 v201 v206 v211 v216 v221 v226 v231 v236 v241 k0_t4 = 1#1), ∀ a, (k0_off77 v526) a + S1x16.size a ≤ S32x512.size a)
theorem k0_off76_inb : ∀ (i : grid0.Coords) (v66_0 : BitVec 32) (v74 : BitVec 32) (v79 : BitVec 32) (v84 : BitVec 32) (v89 : BitVec 32) (v94 : BitVec 32) (v99 : BitVec 32) (v104 : BitVec 32) (v109 : BitVec 32) (v114 : BitVec 32) (v119 : BitVec 32) (v124 : BitVec 32) (v129 : BitVec 32) (v134 : BitVec 32) (v139 : BitVec 32) (v144 : BitVec 32) (v149 : BitVec 32) (v158_0 : BitVec 32) (v166 : BitVec 32) (v171 : BitVec 32) (v176 : BitVec 32) (v181 : BitVec 32) (v186 : BitVec 32) (v191 : BitVec 32) (v196 : BitVec 32) (v201 : BitVec 32) (v206 : BitVec 32) (v211 : BitVec 32) (v216 : BitVec 32) (v221 : BitVec 32) (v226 : BitVec 32) (v231 : BitVec 32) (v236 : BitVec 32) (v241 : BitVec 32) (k0_t4 : Fin (k0_t4_loop i v66_0 v74 v79 v84 v89 v94 v99 v104 v109 v114 v119 v124 v129 v134 v139 v144 v149 v158_0 v166 v171 v176 v181 v186 v191 v196 v201 v206 v211 v216 v221 v226 v231 v236 v241).trips) (v526 : BitVec 32) (k0_hw14 : k0_chk14 i v66_0 v74 v79 v84 v89 v94 v99 v104 v109 v114 v119 v124 v129 v134 v139 v144 v149 v158_0 v166 v171 v176 v181 v186 v191 v196 v201 v206 v211 v216 v221 v226 v231 v236 v241 k0_t4 v526) (k0_t14 : Fin k0_t14_loop.trips), ∀ (k0_h3 : k0_cond3 i v66_0 v74 v79 v84 v89 v94 v99 v104 v109 v114 v119 v124 v129 v134 v139 v144 v149 v158_0 v166 v171 v176 v181 v186 v191 v196 v201 v206 v211 v216 v221 v226 v231 v236 v241 k0_t4 = 1#1), ∀ a, (k0_off76 v526 k0_t14) a + S1x16.size a ≤ S32x512.size a := fun i v66_0 v74 v79 v84 v89 v94 v99 v104 v109 v114 v119 v124 v129 v134 v139 v144 v149 v158_0 v166 v171 v176 v181 v186 v191 v196 v201 v206 v211 v216 v221 v226 v231 v236 v241 k0_t4 v526 k0_hw14 k0_t14 k0_h3 => k0_hw14.1 k0_t14 k0_h3
theorem k0_off77_inb : ∀ (i : grid0.Coords) (v66_0 : BitVec 32) (v74 : BitVec 32) (v79 : BitVec 32) (v84 : BitVec 32) (v89 : BitVec 32) (v94 : BitVec 32) (v99 : BitVec 32) (v104 : BitVec 32) (v109 : BitVec 32) (v114 : BitVec 32) (v119 : BitVec 32) (v124 : BitVec 32) (v129 : BitVec 32) (v134 : BitVec 32) (v139 : BitVec 32) (v144 : BitVec 32) (v149 : BitVec 32) (v158_0 : BitVec 32) (v166 : BitVec 32) (v171 : BitVec 32) (v176 : BitVec 32) (v181 : BitVec 32) (v186 : BitVec 32) (v191 : BitVec 32) (v196 : BitVec 32) (v201 : BitVec 32) (v206 : BitVec 32) (v211 : BitVec 32) (v216 : BitVec 32) (v221 : BitVec 32) (v226 : BitVec 32) (v231 : BitVec 32) (v236 : BitVec 32) (v241 : BitVec 32) (k0_t4 : Fin (k0_t4_loop i v66_0 v74 v79 v84 v89 v94 v99 v104 v109 v114 v119 v124 v129 v134 v139 v144 v149 v158_0 v166 v171 v176 v181 v186 v191 v196 v201 v206 v211 v216 v221 v226 v231 v236 v241).trips) (v526 : BitVec 32) (k0_hw14 : k0_chk14 i v66_0 v74 v79 v84 v89 v94 v99 v104 v109 v114 v119 v124 v129 v134 v139 v144 v149 v158_0 v166 v171 v176 v181 v186 v191 v196 v201 v206 v211 v216 v221 v226 v231 v236 v241 k0_t4 v526), ∀ (k0_h3 : k0_cond3 i v66_0 v74 v79 v84 v89 v94 v99 v104 v109 v114 v119 v124 v129 v134 v139 v144 v149 v158_0 v166 v171 v176 v181 v186 v191 v196 v201 v206 v211 v216 v221 v226 v231 v236 v241 k0_t4 = 1#1), ∀ a, (k0_off77 v526) a + S1x16.size a ≤ S32x512.size a := fun i v66_0 v74 v79 v84 v89 v94 v99 v104 v109 v114 v119 v124 v129 v134 v139 v144 v149 v158_0 v166 v171 v176 v181 v186 v191 v196 v201 v206 v211 v216 v221 v226 v231 v236 v241 k0_t4 v526 k0_hw14 k0_h3 => k0_hw14.2 k0_h3

def k0_off78 (k0_t5 : Fin k0_t5_loop.trips) : Fin 2 → Nat :=
  let c0_i32_149 : BitVec 32 := 0#32
  let c1_i32_150 : BitVec 32 := 1#32
  let arg14 : BitVec 32 := Scf.iv c0_i32_149 c1_i32_150 k0_t5
  let c16_i32_156 : BitVec 32 := 16#32
  let v342 : BitVec 32 := Scalar.muli arg14 c16_i32_156
  let c9_i32 : BitVec 32 := 9#32
  let v547 : BitVec 32 := Scalar.addi v342 c9_i32
  let v548 : Index := Scalar.indexCast v547
  let c0_223 : Index := 0#32
  ![v548.toNat, 0]
@[reducible] def k0_t15_loop : Scf.Loop 32 :=
  let c1_i32_224 : BitVec 32 := 1#32
  let c31_i32_225 : BitVec 32 := 31#32
  let v553 : BitVec 32 := Scalar.addi c1_i32_224 c31_i32_225
  let c1_i32_226 : BitVec 32 := 1#32
  ⟨c1_i32_224, v553, c1_i32_226⟩
def k0_off79 (k0_t5 : Fin k0_t5_loop.trips) (k0_t15 : Fin k0_t15_loop.trips) : Fin 2 → Nat :=
  let c0_i32_149 : BitVec 32 := 0#32
  let c1_i32_150 : BitVec 32 := 1#32
  let arg14 : BitVec 32 := Scf.iv c0_i32_149 c1_i32_150 k0_t5
  let c16_i32_156 : BitVec 32 := 16#32
  let v342 : BitVec 32 := Scalar.muli arg14 c16_i32_156
  let c9_i32 : BitVec 32 := 9#32
  let v547 : BitVec 32 := Scalar.addi v342 c9_i32
  let v684 : Index := Scalar.indexCast v547
  let c1_i32_224 : BitVec 32 := 1#32
  let c1_i32_226 : BitVec 32 := 1#32
  let arg15 : BitVec 32 := Scf.iv c1_i32_224 c1_i32_226 k0_t15
  let c16_i32_273 : BitVec 32 := 16#32
  let v683 : BitVec 32 := Scalar.muli arg15 c16_i32_273
  let v685 : Index := Scalar.indexCast v683
  ![v684.toNat, v685.toNat]
def k0_off80 (v546 : BitVec 32) (k0_t15 : Fin k0_t15_loop.trips) : Fin 2 → Nat :=
  let v692 : Index := Scalar.indexCast v546
  let c1_i32_224 : BitVec 32 := 1#32
  let c1_i32_226 : BitVec 32 := 1#32
  let arg15 : BitVec 32 := Scf.iv c1_i32_224 c1_i32_226 k0_t15
  let c1_i32_274 : BitVec 32 := 1#32
  let v690 : BitVec 32 := Scalar.subi arg15 c1_i32_274
  let c16_i32_275 : BitVec 32 := 16#32
  let v691 : BitVec 32 := Scalar.muli v690 c16_i32_275
  let v693 : Index := Scalar.indexCast v691
  ![v692.toNat, v693.toNat]

def k0_off81 (v546 : BitVec 32) : Fin 2 → Nat :=
  let v555 : Index := Scalar.indexCast v546
  let c496_228 : Index := 496#32
  ![v555.toNat, 496]

def k0_chk15 (i : grid0.Coords) (v66_0 : BitVec 32) (v74 : BitVec 32) (v79 : BitVec 32) (v84 : BitVec 32) (v89 : BitVec 32) (v94 : BitVec 32) (v99 : BitVec 32) (v104 : BitVec 32) (v109 : BitVec 32) (v114 : BitVec 32) (v119 : BitVec 32) (v124 : BitVec 32) (v129 : BitVec 32) (v134 : BitVec 32) (v139 : BitVec 32) (v144 : BitVec 32) (v149 : BitVec 32) (v158_0 : BitVec 32) (v166 : BitVec 32) (v171 : BitVec 32) (v176 : BitVec 32) (v181 : BitVec 32) (v186 : BitVec 32) (v191 : BitVec 32) (v196 : BitVec 32) (v201 : BitVec 32) (v206 : BitVec 32) (v211 : BitVec 32) (v216 : BitVec 32) (v221 : BitVec 32) (v226 : BitVec 32) (v231 : BitVec 32) (v236 : BitVec 32) (v241 : BitVec 32) (k0_t4 : Fin (k0_t4_loop i v66_0 v74 v79 v84 v89 v94 v99 v104 v109 v114 v119 v124 v129 v134 v139 v144 v149 v158_0 v166 v171 v176 v181 v186 v191 v196 v201 v206 v211 v216 v221 v226 v231 v236 v241).trips) (v546 : BitVec 32) : Prop :=
  (∀ k0_t15 : Fin k0_t15_loop.trips, ∀ (k0_h3 : k0_cond3 i v66_0 v74 v79 v84 v89 v94 v99 v104 v109 v114 v119 v124 v129 v134 v139 v144 v149 v158_0 v166 v171 v176 v181 v186 v191 v196 v201 v206 v211 v216 v221 v226 v231 v236 v241 k0_t4 = 1#1), ∀ a, (k0_off80 v546 k0_t15) a + S1x16.size a ≤ S32x512.size a) ∧
  (∀ (k0_h3 : k0_cond3 i v66_0 v74 v79 v84 v89 v94 v99 v104 v109 v114 v119 v124 v129 v134 v139 v144 v149 v158_0 v166 v171 v176 v181 v186 v191 v196 v201 v206 v211 v216 v221 v226 v231 v236 v241 k0_t4 = 1#1), ∀ a, (k0_off81 v546) a + S1x16.size a ≤ S32x512.size a)
theorem k0_off80_inb : ∀ (i : grid0.Coords) (v66_0 : BitVec 32) (v74 : BitVec 32) (v79 : BitVec 32) (v84 : BitVec 32) (v89 : BitVec 32) (v94 : BitVec 32) (v99 : BitVec 32) (v104 : BitVec 32) (v109 : BitVec 32) (v114 : BitVec 32) (v119 : BitVec 32) (v124 : BitVec 32) (v129 : BitVec 32) (v134 : BitVec 32) (v139 : BitVec 32) (v144 : BitVec 32) (v149 : BitVec 32) (v158_0 : BitVec 32) (v166 : BitVec 32) (v171 : BitVec 32) (v176 : BitVec 32) (v181 : BitVec 32) (v186 : BitVec 32) (v191 : BitVec 32) (v196 : BitVec 32) (v201 : BitVec 32) (v206 : BitVec 32) (v211 : BitVec 32) (v216 : BitVec 32) (v221 : BitVec 32) (v226 : BitVec 32) (v231 : BitVec 32) (v236 : BitVec 32) (v241 : BitVec 32) (k0_t4 : Fin (k0_t4_loop i v66_0 v74 v79 v84 v89 v94 v99 v104 v109 v114 v119 v124 v129 v134 v139 v144 v149 v158_0 v166 v171 v176 v181 v186 v191 v196 v201 v206 v211 v216 v221 v226 v231 v236 v241).trips) (v546 : BitVec 32) (k0_hw15 : k0_chk15 i v66_0 v74 v79 v84 v89 v94 v99 v104 v109 v114 v119 v124 v129 v134 v139 v144 v149 v158_0 v166 v171 v176 v181 v186 v191 v196 v201 v206 v211 v216 v221 v226 v231 v236 v241 k0_t4 v546) (k0_t15 : Fin k0_t15_loop.trips), ∀ (k0_h3 : k0_cond3 i v66_0 v74 v79 v84 v89 v94 v99 v104 v109 v114 v119 v124 v129 v134 v139 v144 v149 v158_0 v166 v171 v176 v181 v186 v191 v196 v201 v206 v211 v216 v221 v226 v231 v236 v241 k0_t4 = 1#1), ∀ a, (k0_off80 v546 k0_t15) a + S1x16.size a ≤ S32x512.size a := fun i v66_0 v74 v79 v84 v89 v94 v99 v104 v109 v114 v119 v124 v129 v134 v139 v144 v149 v158_0 v166 v171 v176 v181 v186 v191 v196 v201 v206 v211 v216 v221 v226 v231 v236 v241 k0_t4 v546 k0_hw15 k0_t15 k0_h3 => k0_hw15.1 k0_t15 k0_h3
theorem k0_off81_inb : ∀ (i : grid0.Coords) (v66_0 : BitVec 32) (v74 : BitVec 32) (v79 : BitVec 32) (v84 : BitVec 32) (v89 : BitVec 32) (v94 : BitVec 32) (v99 : BitVec 32) (v104 : BitVec 32) (v109 : BitVec 32) (v114 : BitVec 32) (v119 : BitVec 32) (v124 : BitVec 32) (v129 : BitVec 32) (v134 : BitVec 32) (v139 : BitVec 32) (v144 : BitVec 32) (v149 : BitVec 32) (v158_0 : BitVec 32) (v166 : BitVec 32) (v171 : BitVec 32) (v176 : BitVec 32) (v181 : BitVec 32) (v186 : BitVec 32) (v191 : BitVec 32) (v196 : BitVec 32) (v201 : BitVec 32) (v206 : BitVec 32) (v211 : BitVec 32) (v216 : BitVec 32) (v221 : BitVec 32) (v226 : BitVec 32) (v231 : BitVec 32) (v236 : BitVec 32) (v241 : BitVec 32) (k0_t4 : Fin (k0_t4_loop i v66_0 v74 v79 v84 v89 v94 v99 v104 v109 v114 v119 v124 v129 v134 v139 v144 v149 v158_0 v166 v171 v176 v181 v186 v191 v196 v201 v206 v211 v216 v221 v226 v231 v236 v241).trips) (v546 : BitVec 32) (k0_hw15 : k0_chk15 i v66_0 v74 v79 v84 v89 v94 v99 v104 v109 v114 v119 v124 v129 v134 v139 v144 v149 v158_0 v166 v171 v176 v181 v186 v191 v196 v201 v206 v211 v216 v221 v226 v231 v236 v241 k0_t4 v546), ∀ (k0_h3 : k0_cond3 i v66_0 v74 v79 v84 v89 v94 v99 v104 v109 v114 v119 v124 v129 v134 v139 v144 v149 v158_0 v166 v171 v176 v181 v186 v191 v196 v201 v206 v211 v216 v221 v226 v231 v236 v241 k0_t4 = 1#1), ∀ a, (k0_off81 v546) a + S1x16.size a ≤ S32x512.size a := fun i v66_0 v74 v79 v84 v89 v94 v99 v104 v109 v114 v119 v124 v129 v134 v139 v144 v149 v158_0 v166 v171 v176 v181 v186 v191 v196 v201 v206 v211 v216 v221 v226 v231 v236 v241 k0_t4 v546 k0_hw15 k0_h3 => k0_hw15.2 k0_h3

def k0_off82 (k0_t5 : Fin k0_t5_loop.trips) : Fin 2 → Nat :=
  let c0_i32_149 : BitVec 32 := 0#32
  let c1_i32_150 : BitVec 32 := 1#32
  let arg14 : BitVec 32 := Scf.iv c0_i32_149 c1_i32_150 k0_t5
  let c16_i32_156 : BitVec 32 := 16#32
  let v342 : BitVec 32 := Scalar.muli arg14 c16_i32_156
  let c10_i32_230 : BitVec 32 := 10#32
  let v567 : BitVec 32 := Scalar.addi v342 c10_i32_230
  let v568 : Index := Scalar.indexCast v567
  let c0_231 : Index := 0#32
  ![v568.toNat, 0]
@[reducible] def k0_t16_loop : Scf.Loop 32 :=
  let c1_i32_232 : BitVec 32 := 1#32
  let c31_i32_233 : BitVec 32 := 31#32
  let v573 : BitVec 32 := Scalar.addi c1_i32_232 c31_i32_233
  let c1_i32_234 : BitVec 32 := 1#32
  ⟨c1_i32_232, v573, c1_i32_234⟩
def k0_off83 (k0_t5 : Fin k0_t5_loop.trips) (k0_t16 : Fin k0_t16_loop.trips) : Fin 2 → Nat :=
  let c0_i32_149 : BitVec 32 := 0#32
  let c1_i32_150 : BitVec 32 := 1#32
  let arg14 : BitVec 32 := Scf.iv c0_i32_149 c1_i32_150 k0_t5
  let c16_i32_156 : BitVec 32 := 16#32
  let v342 : BitVec 32 := Scalar.muli arg14 c16_i32_156
  let c10_i32_230 : BitVec 32 := 10#32
  let v567 : BitVec 32 := Scalar.addi v342 c10_i32_230
  let v684 : Index := Scalar.indexCast v567
  let c1_i32_232 : BitVec 32 := 1#32
  let c1_i32_234 : BitVec 32 := 1#32
  let arg15 : BitVec 32 := Scf.iv c1_i32_232 c1_i32_234 k0_t16
  let c16_i32_273 : BitVec 32 := 16#32
  let v683 : BitVec 32 := Scalar.muli arg15 c16_i32_273
  let v685 : Index := Scalar.indexCast v683
  ![v684.toNat, v685.toNat]
def k0_off84 (v566 : BitVec 32) (k0_t16 : Fin k0_t16_loop.trips) : Fin 2 → Nat :=
  let v692 : Index := Scalar.indexCast v566
  let c1_i32_232 : BitVec 32 := 1#32
  let c1_i32_234 : BitVec 32 := 1#32
  let arg15 : BitVec 32 := Scf.iv c1_i32_232 c1_i32_234 k0_t16
  let c1_i32_274 : BitVec 32 := 1#32
  let v690 : BitVec 32 := Scalar.subi arg15 c1_i32_274
  let c16_i32_275 : BitVec 32 := 16#32
  let v691 : BitVec 32 := Scalar.muli v690 c16_i32_275
  let v693 : Index := Scalar.indexCast v691
  ![v692.toNat, v693.toNat]

def k0_off85 (v566 : BitVec 32) : Fin 2 → Nat :=
  let v575 : Index := Scalar.indexCast v566
  let c496_236 : Index := 496#32
  ![v575.toNat, 496]

def k0_chk16 (i : grid0.Coords) (v66_0 : BitVec 32) (v74 : BitVec 32) (v79 : BitVec 32) (v84 : BitVec 32) (v89 : BitVec 32) (v94 : BitVec 32) (v99 : BitVec 32) (v104 : BitVec 32) (v109 : BitVec 32) (v114 : BitVec 32) (v119 : BitVec 32) (v124 : BitVec 32) (v129 : BitVec 32) (v134 : BitVec 32) (v139 : BitVec 32) (v144 : BitVec 32) (v149 : BitVec 32) (v158_0 : BitVec 32) (v166 : BitVec 32) (v171 : BitVec 32) (v176 : BitVec 32) (v181 : BitVec 32) (v186 : BitVec 32) (v191 : BitVec 32) (v196 : BitVec 32) (v201 : BitVec 32) (v206 : BitVec 32) (v211 : BitVec 32) (v216 : BitVec 32) (v221 : BitVec 32) (v226 : BitVec 32) (v231 : BitVec 32) (v236 : BitVec 32) (v241 : BitVec 32) (k0_t4 : Fin (k0_t4_loop i v66_0 v74 v79 v84 v89 v94 v99 v104 v109 v114 v119 v124 v129 v134 v139 v144 v149 v158_0 v166 v171 v176 v181 v186 v191 v196 v201 v206 v211 v216 v221 v226 v231 v236 v241).trips) (v566 : BitVec 32) : Prop :=
  (∀ k0_t16 : Fin k0_t16_loop.trips, ∀ (k0_h3 : k0_cond3 i v66_0 v74 v79 v84 v89 v94 v99 v104 v109 v114 v119 v124 v129 v134 v139 v144 v149 v158_0 v166 v171 v176 v181 v186 v191 v196 v201 v206 v211 v216 v221 v226 v231 v236 v241 k0_t4 = 1#1), ∀ a, (k0_off84 v566 k0_t16) a + S1x16.size a ≤ S32x512.size a) ∧
  (∀ (k0_h3 : k0_cond3 i v66_0 v74 v79 v84 v89 v94 v99 v104 v109 v114 v119 v124 v129 v134 v139 v144 v149 v158_0 v166 v171 v176 v181 v186 v191 v196 v201 v206 v211 v216 v221 v226 v231 v236 v241 k0_t4 = 1#1), ∀ a, (k0_off85 v566) a + S1x16.size a ≤ S32x512.size a)
theorem k0_off84_inb : ∀ (i : grid0.Coords) (v66_0 : BitVec 32) (v74 : BitVec 32) (v79 : BitVec 32) (v84 : BitVec 32) (v89 : BitVec 32) (v94 : BitVec 32) (v99 : BitVec 32) (v104 : BitVec 32) (v109 : BitVec 32) (v114 : BitVec 32) (v119 : BitVec 32) (v124 : BitVec 32) (v129 : BitVec 32) (v134 : BitVec 32) (v139 : BitVec 32) (v144 : BitVec 32) (v149 : BitVec 32) (v158_0 : BitVec 32) (v166 : BitVec 32) (v171 : BitVec 32) (v176 : BitVec 32) (v181 : BitVec 32) (v186 : BitVec 32) (v191 : BitVec 32) (v196 : BitVec 32) (v201 : BitVec 32) (v206 : BitVec 32) (v211 : BitVec 32) (v216 : BitVec 32) (v221 : BitVec 32) (v226 : BitVec 32) (v231 : BitVec 32) (v236 : BitVec 32) (v241 : BitVec 32) (k0_t4 : Fin (k0_t4_loop i v66_0 v74 v79 v84 v89 v94 v99 v104 v109 v114 v119 v124 v129 v134 v139 v144 v149 v158_0 v166 v171 v176 v181 v186 v191 v196 v201 v206 v211 v216 v221 v226 v231 v236 v241).trips) (v566 : BitVec 32) (k0_hw16 : k0_chk16 i v66_0 v74 v79 v84 v89 v94 v99 v104 v109 v114 v119 v124 v129 v134 v139 v144 v149 v158_0 v166 v171 v176 v181 v186 v191 v196 v201 v206 v211 v216 v221 v226 v231 v236 v241 k0_t4 v566) (k0_t16 : Fin k0_t16_loop.trips), ∀ (k0_h3 : k0_cond3 i v66_0 v74 v79 v84 v89 v94 v99 v104 v109 v114 v119 v124 v129 v134 v139 v144 v149 v158_0 v166 v171 v176 v181 v186 v191 v196 v201 v206 v211 v216 v221 v226 v231 v236 v241 k0_t4 = 1#1), ∀ a, (k0_off84 v566 k0_t16) a + S1x16.size a ≤ S32x512.size a := fun i v66_0 v74 v79 v84 v89 v94 v99 v104 v109 v114 v119 v124 v129 v134 v139 v144 v149 v158_0 v166 v171 v176 v181 v186 v191 v196 v201 v206 v211 v216 v221 v226 v231 v236 v241 k0_t4 v566 k0_hw16 k0_t16 k0_h3 => k0_hw16.1 k0_t16 k0_h3
theorem k0_off85_inb : ∀ (i : grid0.Coords) (v66_0 : BitVec 32) (v74 : BitVec 32) (v79 : BitVec 32) (v84 : BitVec 32) (v89 : BitVec 32) (v94 : BitVec 32) (v99 : BitVec 32) (v104 : BitVec 32) (v109 : BitVec 32) (v114 : BitVec 32) (v119 : BitVec 32) (v124 : BitVec 32) (v129 : BitVec 32) (v134 : BitVec 32) (v139 : BitVec 32) (v144 : BitVec 32) (v149 : BitVec 32) (v158_0 : BitVec 32) (v166 : BitVec 32) (v171 : BitVec 32) (v176 : BitVec 32) (v181 : BitVec 32) (v186 : BitVec 32) (v191 : BitVec 32) (v196 : BitVec 32) (v201 : BitVec 32) (v206 : BitVec 32) (v211 : BitVec 32) (v216 : BitVec 32) (v221 : BitVec 32) (v226 : BitVec 32) (v231 : BitVec 32) (v236 : BitVec 32) (v241 : BitVec 32) (k0_t4 : Fin (k0_t4_loop i v66_0 v74 v79 v84 v89 v94 v99 v104 v109 v114 v119 v124 v129 v134 v139 v144 v149 v158_0 v166 v171 v176 v181 v186 v191 v196 v201 v206 v211 v216 v221 v226 v231 v236 v241).trips) (v566 : BitVec 32) (k0_hw16 : k0_chk16 i v66_0 v74 v79 v84 v89 v94 v99 v104 v109 v114 v119 v124 v129 v134 v139 v144 v149 v158_0 v166 v171 v176 v181 v186 v191 v196 v201 v206 v211 v216 v221 v226 v231 v236 v241 k0_t4 v566), ∀ (k0_h3 : k0_cond3 i v66_0 v74 v79 v84 v89 v94 v99 v104 v109 v114 v119 v124 v129 v134 v139 v144 v149 v158_0 v166 v171 v176 v181 v186 v191 v196 v201 v206 v211 v216 v221 v226 v231 v236 v241 k0_t4 = 1#1), ∀ a, (k0_off85 v566) a + S1x16.size a ≤ S32x512.size a := fun i v66_0 v74 v79 v84 v89 v94 v99 v104 v109 v114 v119 v124 v129 v134 v139 v144 v149 v158_0 v166 v171 v176 v181 v186 v191 v196 v201 v206 v211 v216 v221 v226 v231 v236 v241 k0_t4 v566 k0_hw16 k0_h3 => k0_hw16.2 k0_h3

def k0_off86 (k0_t5 : Fin k0_t5_loop.trips) : Fin 2 → Nat :=
  let c0_i32_149 : BitVec 32 := 0#32
  let c1_i32_150 : BitVec 32 := 1#32
  let arg14 : BitVec 32 := Scf.iv c0_i32_149 c1_i32_150 k0_t5
  let c16_i32_156 : BitVec 32 := 16#32
  let v342 : BitVec 32 := Scalar.muli arg14 c16_i32_156
  let c11_i32 : BitVec 32 := 11#32
  let v587 : BitVec 32 := Scalar.addi v342 c11_i32
  let v588 : Index := Scalar.indexCast v587
  let c0_238 : Index := 0#32
  ![v588.toNat, 0]
@[reducible] def k0_t17_loop : Scf.Loop 32 :=
  let c1_i32_239 : BitVec 32 := 1#32
  let c31_i32_240 : BitVec 32 := 31#32
  let v593 : BitVec 32 := Scalar.addi c1_i32_239 c31_i32_240
  let c1_i32_241 : BitVec 32 := 1#32
  ⟨c1_i32_239, v593, c1_i32_241⟩
def k0_off87 (k0_t5 : Fin k0_t5_loop.trips) (k0_t17 : Fin k0_t17_loop.trips) : Fin 2 → Nat :=
  let c0_i32_149 : BitVec 32 := 0#32
  let c1_i32_150 : BitVec 32 := 1#32
  let arg14 : BitVec 32 := Scf.iv c0_i32_149 c1_i32_150 k0_t5
  let c16_i32_156 : BitVec 32 := 16#32
  let v342 : BitVec 32 := Scalar.muli arg14 c16_i32_156
  let c11_i32 : BitVec 32 := 11#32
  let v587 : BitVec 32 := Scalar.addi v342 c11_i32
  let v684 : Index := Scalar.indexCast v587
  let c1_i32_239 : BitVec 32 := 1#32
  let c1_i32_241 : BitVec 32 := 1#32
  let arg15 : BitVec 32 := Scf.iv c1_i32_239 c1_i32_241 k0_t17
  let c16_i32_273 : BitVec 32 := 16#32
  let v683 : BitVec 32 := Scalar.muli arg15 c16_i32_273
  let v685 : Index := Scalar.indexCast v683
  ![v684.toNat, v685.toNat]
def k0_off88 (v586 : BitVec 32) (k0_t17 : Fin k0_t17_loop.trips) : Fin 2 → Nat :=
  let v692 : Index := Scalar.indexCast v586
  let c1_i32_239 : BitVec 32 := 1#32
  let c1_i32_241 : BitVec 32 := 1#32
  let arg15 : BitVec 32 := Scf.iv c1_i32_239 c1_i32_241 k0_t17
  let c1_i32_274 : BitVec 32 := 1#32
  let v690 : BitVec 32 := Scalar.subi arg15 c1_i32_274
  let c16_i32_275 : BitVec 32 := 16#32
  let v691 : BitVec 32 := Scalar.muli v690 c16_i32_275
  let v693 : Index := Scalar.indexCast v691
  ![v692.toNat, v693.toNat]

def k0_off89 (v586 : BitVec 32) : Fin 2 → Nat :=
  let v595 : Index := Scalar.indexCast v586
  let c496_243 : Index := 496#32
  ![v595.toNat, 496]

def k0_chk17 (i : grid0.Coords) (v66_0 : BitVec 32) (v74 : BitVec 32) (v79 : BitVec 32) (v84 : BitVec 32) (v89 : BitVec 32) (v94 : BitVec 32) (v99 : BitVec 32) (v104 : BitVec 32) (v109 : BitVec 32) (v114 : BitVec 32) (v119 : BitVec 32) (v124 : BitVec 32) (v129 : BitVec 32) (v134 : BitVec 32) (v139 : BitVec 32) (v144 : BitVec 32) (v149 : BitVec 32) (v158_0 : BitVec 32) (v166 : BitVec 32) (v171 : BitVec 32) (v176 : BitVec 32) (v181 : BitVec 32) (v186 : BitVec 32) (v191 : BitVec 32) (v196 : BitVec 32) (v201 : BitVec 32) (v206 : BitVec 32) (v211 : BitVec 32) (v216 : BitVec 32) (v221 : BitVec 32) (v226 : BitVec 32) (v231 : BitVec 32) (v236 : BitVec 32) (v241 : BitVec 32) (k0_t4 : Fin (k0_t4_loop i v66_0 v74 v79 v84 v89 v94 v99 v104 v109 v114 v119 v124 v129 v134 v139 v144 v149 v158_0 v166 v171 v176 v181 v186 v191 v196 v201 v206 v211 v216 v221 v226 v231 v236 v241).trips) (v586 : BitVec 32) : Prop :=
  (∀ k0_t17 : Fin k0_t17_loop.trips, ∀ (k0_h3 : k0_cond3 i v66_0 v74 v79 v84 v89 v94 v99 v104 v109 v114 v119 v124 v129 v134 v139 v144 v149 v158_0 v166 v171 v176 v181 v186 v191 v196 v201 v206 v211 v216 v221 v226 v231 v236 v241 k0_t4 = 1#1), ∀ a, (k0_off88 v586 k0_t17) a + S1x16.size a ≤ S32x512.size a) ∧
  (∀ (k0_h3 : k0_cond3 i v66_0 v74 v79 v84 v89 v94 v99 v104 v109 v114 v119 v124 v129 v134 v139 v144 v149 v158_0 v166 v171 v176 v181 v186 v191 v196 v201 v206 v211 v216 v221 v226 v231 v236 v241 k0_t4 = 1#1), ∀ a, (k0_off89 v586) a + S1x16.size a ≤ S32x512.size a)
theorem k0_off88_inb : ∀ (i : grid0.Coords) (v66_0 : BitVec 32) (v74 : BitVec 32) (v79 : BitVec 32) (v84 : BitVec 32) (v89 : BitVec 32) (v94 : BitVec 32) (v99 : BitVec 32) (v104 : BitVec 32) (v109 : BitVec 32) (v114 : BitVec 32) (v119 : BitVec 32) (v124 : BitVec 32) (v129 : BitVec 32) (v134 : BitVec 32) (v139 : BitVec 32) (v144 : BitVec 32) (v149 : BitVec 32) (v158_0 : BitVec 32) (v166 : BitVec 32) (v171 : BitVec 32) (v176 : BitVec 32) (v181 : BitVec 32) (v186 : BitVec 32) (v191 : BitVec 32) (v196 : BitVec 32) (v201 : BitVec 32) (v206 : BitVec 32) (v211 : BitVec 32) (v216 : BitVec 32) (v221 : BitVec 32) (v226 : BitVec 32) (v231 : BitVec 32) (v236 : BitVec 32) (v241 : BitVec 32) (k0_t4 : Fin (k0_t4_loop i v66_0 v74 v79 v84 v89 v94 v99 v104 v109 v114 v119 v124 v129 v134 v139 v144 v149 v158_0 v166 v171 v176 v181 v186 v191 v196 v201 v206 v211 v216 v221 v226 v231 v236 v241).trips) (v586 : BitVec 32) (k0_hw17 : k0_chk17 i v66_0 v74 v79 v84 v89 v94 v99 v104 v109 v114 v119 v124 v129 v134 v139 v144 v149 v158_0 v166 v171 v176 v181 v186 v191 v196 v201 v206 v211 v216 v221 v226 v231 v236 v241 k0_t4 v586) (k0_t17 : Fin k0_t17_loop.trips), ∀ (k0_h3 : k0_cond3 i v66_0 v74 v79 v84 v89 v94 v99 v104 v109 v114 v119 v124 v129 v134 v139 v144 v149 v158_0 v166 v171 v176 v181 v186 v191 v196 v201 v206 v211 v216 v221 v226 v231 v236 v241 k0_t4 = 1#1), ∀ a, (k0_off88 v586 k0_t17) a + S1x16.size a ≤ S32x512.size a := fun i v66_0 v74 v79 v84 v89 v94 v99 v104 v109 v114 v119 v124 v129 v134 v139 v144 v149 v158_0 v166 v171 v176 v181 v186 v191 v196 v201 v206 v211 v216 v221 v226 v231 v236 v241 k0_t4 v586 k0_hw17 k0_t17 k0_h3 => k0_hw17.1 k0_t17 k0_h3
theorem k0_off89_inb : ∀ (i : grid0.Coords) (v66_0 : BitVec 32) (v74 : BitVec 32) (v79 : BitVec 32) (v84 : BitVec 32) (v89 : BitVec 32) (v94 : BitVec 32) (v99 : BitVec 32) (v104 : BitVec 32) (v109 : BitVec 32) (v114 : BitVec 32) (v119 : BitVec 32) (v124 : BitVec 32) (v129 : BitVec 32) (v134 : BitVec 32) (v139 : BitVec 32) (v144 : BitVec 32) (v149 : BitVec 32) (v158_0 : BitVec 32) (v166 : BitVec 32) (v171 : BitVec 32) (v176 : BitVec 32) (v181 : BitVec 32) (v186 : BitVec 32) (v191 : BitVec 32) (v196 : BitVec 32) (v201 : BitVec 32) (v206 : BitVec 32) (v211 : BitVec 32) (v216 : BitVec 32) (v221 : BitVec 32) (v226 : BitVec 32) (v231 : BitVec 32) (v236 : BitVec 32) (v241 : BitVec 32) (k0_t4 : Fin (k0_t4_loop i v66_0 v74 v79 v84 v89 v94 v99 v104 v109 v114 v119 v124 v129 v134 v139 v144 v149 v158_0 v166 v171 v176 v181 v186 v191 v196 v201 v206 v211 v216 v221 v226 v231 v236 v241).trips) (v586 : BitVec 32) (k0_hw17 : k0_chk17 i v66_0 v74 v79 v84 v89 v94 v99 v104 v109 v114 v119 v124 v129 v134 v139 v144 v149 v158_0 v166 v171 v176 v181 v186 v191 v196 v201 v206 v211 v216 v221 v226 v231 v236 v241 k0_t4 v586), ∀ (k0_h3 : k0_cond3 i v66_0 v74 v79 v84 v89 v94 v99 v104 v109 v114 v119 v124 v129 v134 v139 v144 v149 v158_0 v166 v171 v176 v181 v186 v191 v196 v201 v206 v211 v216 v221 v226 v231 v236 v241 k0_t4 = 1#1), ∀ a, (k0_off89 v586) a + S1x16.size a ≤ S32x512.size a := fun i v66_0 v74 v79 v84 v89 v94 v99 v104 v109 v114 v119 v124 v129 v134 v139 v144 v149 v158_0 v166 v171 v176 v181 v186 v191 v196 v201 v206 v211 v216 v221 v226 v231 v236 v241 k0_t4 v586 k0_hw17 k0_h3 => k0_hw17.2 k0_h3

def k0_off90 (k0_t5 : Fin k0_t5_loop.trips) : Fin 2 → Nat :=
  let c0_i32_149 : BitVec 32 := 0#32
  let c1_i32_150 : BitVec 32 := 1#32
  let arg14 : BitVec 32 := Scf.iv c0_i32_149 c1_i32_150 k0_t5
  let c16_i32_156 : BitVec 32 := 16#32
  let v342 : BitVec 32 := Scalar.muli arg14 c16_i32_156
  let c12_i32 : BitVec 32 := 12#32
  let v607 : BitVec 32 := Scalar.addi v342 c12_i32
  let v608 : Index := Scalar.indexCast v607
  let c0_245 : Index := 0#32
  ![v608.toNat, 0]
@[reducible] def k0_t18_loop : Scf.Loop 32 :=
  let c1_i32_246 : BitVec 32 := 1#32
  let c31_i32_247 : BitVec 32 := 31#32
  let v613 : BitVec 32 := Scalar.addi c1_i32_246 c31_i32_247
  let c1_i32_248 : BitVec 32 := 1#32
  ⟨c1_i32_246, v613, c1_i32_248⟩
def k0_off91 (k0_t5 : Fin k0_t5_loop.trips) (k0_t18 : Fin k0_t18_loop.trips) : Fin 2 → Nat :=
  let c0_i32_149 : BitVec 32 := 0#32
  let c1_i32_150 : BitVec 32 := 1#32
  let arg14 : BitVec 32 := Scf.iv c0_i32_149 c1_i32_150 k0_t5
  let c16_i32_156 : BitVec 32 := 16#32
  let v342 : BitVec 32 := Scalar.muli arg14 c16_i32_156
  let c12_i32 : BitVec 32 := 12#32
  let v607 : BitVec 32 := Scalar.addi v342 c12_i32
  let v684 : Index := Scalar.indexCast v607
  let c1_i32_246 : BitVec 32 := 1#32
  let c1_i32_248 : BitVec 32 := 1#32
  let arg15 : BitVec 32 := Scf.iv c1_i32_246 c1_i32_248 k0_t18
  let c16_i32_273 : BitVec 32 := 16#32
  let v683 : BitVec 32 := Scalar.muli arg15 c16_i32_273
  let v685 : Index := Scalar.indexCast v683
  ![v684.toNat, v685.toNat]
def k0_off92 (v606 : BitVec 32) (k0_t18 : Fin k0_t18_loop.trips) : Fin 2 → Nat :=
  let v692 : Index := Scalar.indexCast v606
  let c1_i32_246 : BitVec 32 := 1#32
  let c1_i32_248 : BitVec 32 := 1#32
  let arg15 : BitVec 32 := Scf.iv c1_i32_246 c1_i32_248 k0_t18
  let c1_i32_274 : BitVec 32 := 1#32
  let v690 : BitVec 32 := Scalar.subi arg15 c1_i32_274
  let c16_i32_275 : BitVec 32 := 16#32
  let v691 : BitVec 32 := Scalar.muli v690 c16_i32_275
  let v693 : Index := Scalar.indexCast v691
  ![v692.toNat, v693.toNat]

def k0_off93 (v606 : BitVec 32) : Fin 2 → Nat :=
  let v615 : Index := Scalar.indexCast v606
  let c496_250 : Index := 496#32
  ![v615.toNat, 496]

def k0_chk18 (i : grid0.Coords) (v66_0 : BitVec 32) (v74 : BitVec 32) (v79 : BitVec 32) (v84 : BitVec 32) (v89 : BitVec 32) (v94 : BitVec 32) (v99 : BitVec 32) (v104 : BitVec 32) (v109 : BitVec 32) (v114 : BitVec 32) (v119 : BitVec 32) (v124 : BitVec 32) (v129 : BitVec 32) (v134 : BitVec 32) (v139 : BitVec 32) (v144 : BitVec 32) (v149 : BitVec 32) (v158_0 : BitVec 32) (v166 : BitVec 32) (v171 : BitVec 32) (v176 : BitVec 32) (v181 : BitVec 32) (v186 : BitVec 32) (v191 : BitVec 32) (v196 : BitVec 32) (v201 : BitVec 32) (v206 : BitVec 32) (v211 : BitVec 32) (v216 : BitVec 32) (v221 : BitVec 32) (v226 : BitVec 32) (v231 : BitVec 32) (v236 : BitVec 32) (v241 : BitVec 32) (k0_t4 : Fin (k0_t4_loop i v66_0 v74 v79 v84 v89 v94 v99 v104 v109 v114 v119 v124 v129 v134 v139 v144 v149 v158_0 v166 v171 v176 v181 v186 v191 v196 v201 v206 v211 v216 v221 v226 v231 v236 v241).trips) (v606 : BitVec 32) : Prop :=
  (∀ k0_t18 : Fin k0_t18_loop.trips, ∀ (k0_h3 : k0_cond3 i v66_0 v74 v79 v84 v89 v94 v99 v104 v109 v114 v119 v124 v129 v134 v139 v144 v149 v158_0 v166 v171 v176 v181 v186 v191 v196 v201 v206 v211 v216 v221 v226 v231 v236 v241 k0_t4 = 1#1), ∀ a, (k0_off92 v606 k0_t18) a + S1x16.size a ≤ S32x512.size a) ∧
  (∀ (k0_h3 : k0_cond3 i v66_0 v74 v79 v84 v89 v94 v99 v104 v109 v114 v119 v124 v129 v134 v139 v144 v149 v158_0 v166 v171 v176 v181 v186 v191 v196 v201 v206 v211 v216 v221 v226 v231 v236 v241 k0_t4 = 1#1), ∀ a, (k0_off93 v606) a + S1x16.size a ≤ S32x512.size a)
theorem k0_off92_inb : ∀ (i : grid0.Coords) (v66_0 : BitVec 32) (v74 : BitVec 32) (v79 : BitVec 32) (v84 : BitVec 32) (v89 : BitVec 32) (v94 : BitVec 32) (v99 : BitVec 32) (v104 : BitVec 32) (v109 : BitVec 32) (v114 : BitVec 32) (v119 : BitVec 32) (v124 : BitVec 32) (v129 : BitVec 32) (v134 : BitVec 32) (v139 : BitVec 32) (v144 : BitVec 32) (v149 : BitVec 32) (v158_0 : BitVec 32) (v166 : BitVec 32) (v171 : BitVec 32) (v176 : BitVec 32) (v181 : BitVec 32) (v186 : BitVec 32) (v191 : BitVec 32) (v196 : BitVec 32) (v201 : BitVec 32) (v206 : BitVec 32) (v211 : BitVec 32) (v216 : BitVec 32) (v221 : BitVec 32) (v226 : BitVec 32) (v231 : BitVec 32) (v236 : BitVec 32) (v241 : BitVec 32) (k0_t4 : Fin (k0_t4_loop i v66_0 v74 v79 v84 v89 v94 v99 v104 v109 v114 v119 v124 v129 v134 v139 v144 v149 v158_0 v166 v171 v176 v181 v186 v191 v196 v201 v206 v211 v216 v221 v226 v231 v236 v241).trips) (v606 : BitVec 32) (k0_hw18 : k0_chk18 i v66_0 v74 v79 v84 v89 v94 v99 v104 v109 v114 v119 v124 v129 v134 v139 v144 v149 v158_0 v166 v171 v176 v181 v186 v191 v196 v201 v206 v211 v216 v221 v226 v231 v236 v241 k0_t4 v606) (k0_t18 : Fin k0_t18_loop.trips), ∀ (k0_h3 : k0_cond3 i v66_0 v74 v79 v84 v89 v94 v99 v104 v109 v114 v119 v124 v129 v134 v139 v144 v149 v158_0 v166 v171 v176 v181 v186 v191 v196 v201 v206 v211 v216 v221 v226 v231 v236 v241 k0_t4 = 1#1), ∀ a, (k0_off92 v606 k0_t18) a + S1x16.size a ≤ S32x512.size a := fun i v66_0 v74 v79 v84 v89 v94 v99 v104 v109 v114 v119 v124 v129 v134 v139 v144 v149 v158_0 v166 v171 v176 v181 v186 v191 v196 v201 v206 v211 v216 v221 v226 v231 v236 v241 k0_t4 v606 k0_hw18 k0_t18 k0_h3 => k0_hw18.1 k0_t18 k0_h3
theorem k0_off93_inb : ∀ (i : grid0.Coords) (v66_0 : BitVec 32) (v74 : BitVec 32) (v79 : BitVec 32) (v84 : BitVec 32) (v89 : BitVec 32) (v94 : BitVec 32) (v99 : BitVec 32) (v104 : BitVec 32) (v109 : BitVec 32) (v114 : BitVec 32) (v119 : BitVec 32) (v124 : BitVec 32) (v129 : BitVec 32) (v134 : BitVec 32) (v139 : BitVec 32) (v144 : BitVec 32) (v149 : BitVec 32) (v158_0 : BitVec 32) (v166 : BitVec 32) (v171 : BitVec 32) (v176 : BitVec 32) (v181 : BitVec 32) (v186 : BitVec 32) (v191 : BitVec 32) (v196 : BitVec 32) (v201 : BitVec 32) (v206 : BitVec 32) (v211 : BitVec 32) (v216 : BitVec 32) (v221 : BitVec 32) (v226 : BitVec 32) (v231 : BitVec 32) (v236 : BitVec 32) (v241 : BitVec 32) (k0_t4 : Fin (k0_t4_loop i v66_0 v74 v79 v84 v89 v94 v99 v104 v109 v114 v119 v124 v129 v134 v139 v144 v149 v158_0 v166 v171 v176 v181 v186 v191 v196 v201 v206 v211 v216 v221 v226 v231 v236 v241).trips) (v606 : BitVec 32) (k0_hw18 : k0_chk18 i v66_0 v74 v79 v84 v89 v94 v99 v104 v109 v114 v119 v124 v129 v134 v139 v144 v149 v158_0 v166 v171 v176 v181 v186 v191 v196 v201 v206 v211 v216 v221 v226 v231 v236 v241 k0_t4 v606), ∀ (k0_h3 : k0_cond3 i v66_0 v74 v79 v84 v89 v94 v99 v104 v109 v114 v119 v124 v129 v134 v139 v144 v149 v158_0 v166 v171 v176 v181 v186 v191 v196 v201 v206 v211 v216 v221 v226 v231 v236 v241 k0_t4 = 1#1), ∀ a, (k0_off93 v606) a + S1x16.size a ≤ S32x512.size a := fun i v66_0 v74 v79 v84 v89 v94 v99 v104 v109 v114 v119 v124 v129 v134 v139 v144 v149 v158_0 v166 v171 v176 v181 v186 v191 v196 v201 v206 v211 v216 v221 v226 v231 v236 v241 k0_t4 v606 k0_hw18 k0_h3 => k0_hw18.2 k0_h3

def k0_off94 (k0_t5 : Fin k0_t5_loop.trips) : Fin 2 → Nat :=
  let c0_i32_149 : BitVec 32 := 0#32
  let c1_i32_150 : BitVec 32 := 1#32
  let arg14 : BitVec 32 := Scf.iv c0_i32_149 c1_i32_150 k0_t5
  let c16_i32_156 : BitVec 32 := 16#32
  let v342 : BitVec 32 := Scalar.muli arg14 c16_i32_156
  let c13_i32 : BitVec 32 := 13#32
  let v627 : BitVec 32 := Scalar.addi v342 c13_i32
  let v628 : Index := Scalar.indexCast v627
  let c0_252 : Index := 0#32
  ![v628.toNat, 0]
@[reducible] def k0_t19_loop : Scf.Loop 32 :=
  let c1_i32_253 : BitVec 32 := 1#32
  let c31_i32_254 : BitVec 32 := 31#32
  let v633 : BitVec 32 := Scalar.addi c1_i32_253 c31_i32_254
  let c1_i32_255 : BitVec 32 := 1#32
  ⟨c1_i32_253, v633, c1_i32_255⟩
def k0_off95 (k0_t5 : Fin k0_t5_loop.trips) (k0_t19 : Fin k0_t19_loop.trips) : Fin 2 → Nat :=
  let c0_i32_149 : BitVec 32 := 0#32
  let c1_i32_150 : BitVec 32 := 1#32
  let arg14 : BitVec 32 := Scf.iv c0_i32_149 c1_i32_150 k0_t5
  let c16_i32_156 : BitVec 32 := 16#32
  let v342 : BitVec 32 := Scalar.muli arg14 c16_i32_156
  let c13_i32 : BitVec 32 := 13#32
  let v627 : BitVec 32 := Scalar.addi v342 c13_i32
  let v684 : Index := Scalar.indexCast v627
  let c1_i32_253 : BitVec 32 := 1#32
  let c1_i32_255 : BitVec 32 := 1#32
  let arg15 : BitVec 32 := Scf.iv c1_i32_253 c1_i32_255 k0_t19
  let c16_i32_273 : BitVec 32 := 16#32
  let v683 : BitVec 32 := Scalar.muli arg15 c16_i32_273
  let v685 : Index := Scalar.indexCast v683
  ![v684.toNat, v685.toNat]
def k0_off96 (v626 : BitVec 32) (k0_t19 : Fin k0_t19_loop.trips) : Fin 2 → Nat :=
  let v692 : Index := Scalar.indexCast v626
  let c1_i32_253 : BitVec 32 := 1#32
  let c1_i32_255 : BitVec 32 := 1#32
  let arg15 : BitVec 32 := Scf.iv c1_i32_253 c1_i32_255 k0_t19
  let c1_i32_274 : BitVec 32 := 1#32
  let v690 : BitVec 32 := Scalar.subi arg15 c1_i32_274
  let c16_i32_275 : BitVec 32 := 16#32
  let v691 : BitVec 32 := Scalar.muli v690 c16_i32_275
  let v693 : Index := Scalar.indexCast v691
  ![v692.toNat, v693.toNat]

def k0_off97 (v626 : BitVec 32) : Fin 2 → Nat :=
  let v635 : Index := Scalar.indexCast v626
  let c496_257 : Index := 496#32
  ![v635.toNat, 496]

def k0_chk19 (i : grid0.Coords) (v66_0 : BitVec 32) (v74 : BitVec 32) (v79 : BitVec 32) (v84 : BitVec 32) (v89 : BitVec 32) (v94 : BitVec 32) (v99 : BitVec 32) (v104 : BitVec 32) (v109 : BitVec 32) (v114 : BitVec 32) (v119 : BitVec 32) (v124 : BitVec 32) (v129 : BitVec 32) (v134 : BitVec 32) (v139 : BitVec 32) (v144 : BitVec 32) (v149 : BitVec 32) (v158_0 : BitVec 32) (v166 : BitVec 32) (v171 : BitVec 32) (v176 : BitVec 32) (v181 : BitVec 32) (v186 : BitVec 32) (v191 : BitVec 32) (v196 : BitVec 32) (v201 : BitVec 32) (v206 : BitVec 32) (v211 : BitVec 32) (v216 : BitVec 32) (v221 : BitVec 32) (v226 : BitVec 32) (v231 : BitVec 32) (v236 : BitVec 32) (v241 : BitVec 32) (k0_t4 : Fin (k0_t4_loop i v66_0 v74 v79 v84 v89 v94 v99 v104 v109 v114 v119 v124 v129 v134 v139 v144 v149 v158_0 v166 v171 v176 v181 v186 v191 v196 v201 v206 v211 v216 v221 v226 v231 v236 v241).trips) (v626 : BitVec 32) : Prop :=
  (∀ k0_t19 : Fin k0_t19_loop.trips, ∀ (k0_h3 : k0_cond3 i v66_0 v74 v79 v84 v89 v94 v99 v104 v109 v114 v119 v124 v129 v134 v139 v144 v149 v158_0 v166 v171 v176 v181 v186 v191 v196 v201 v206 v211 v216 v221 v226 v231 v236 v241 k0_t4 = 1#1), ∀ a, (k0_off96 v626 k0_t19) a + S1x16.size a ≤ S32x512.size a) ∧
  (∀ (k0_h3 : k0_cond3 i v66_0 v74 v79 v84 v89 v94 v99 v104 v109 v114 v119 v124 v129 v134 v139 v144 v149 v158_0 v166 v171 v176 v181 v186 v191 v196 v201 v206 v211 v216 v221 v226 v231 v236 v241 k0_t4 = 1#1), ∀ a, (k0_off97 v626) a + S1x16.size a ≤ S32x512.size a)
theorem k0_off96_inb : ∀ (i : grid0.Coords) (v66_0 : BitVec 32) (v74 : BitVec 32) (v79 : BitVec 32) (v84 : BitVec 32) (v89 : BitVec 32) (v94 : BitVec 32) (v99 : BitVec 32) (v104 : BitVec 32) (v109 : BitVec 32) (v114 : BitVec 32) (v119 : BitVec 32) (v124 : BitVec 32) (v129 : BitVec 32) (v134 : BitVec 32) (v139 : BitVec 32) (v144 : BitVec 32) (v149 : BitVec 32) (v158_0 : BitVec 32) (v166 : BitVec 32) (v171 : BitVec 32) (v176 : BitVec 32) (v181 : BitVec 32) (v186 : BitVec 32) (v191 : BitVec 32) (v196 : BitVec 32) (v201 : BitVec 32) (v206 : BitVec 32) (v211 : BitVec 32) (v216 : BitVec 32) (v221 : BitVec 32) (v226 : BitVec 32) (v231 : BitVec 32) (v236 : BitVec 32) (v241 : BitVec 32) (k0_t4 : Fin (k0_t4_loop i v66_0 v74 v79 v84 v89 v94 v99 v104 v109 v114 v119 v124 v129 v134 v139 v144 v149 v158_0 v166 v171 v176 v181 v186 v191 v196 v201 v206 v211 v216 v221 v226 v231 v236 v241).trips) (v626 : BitVec 32) (k0_hw19 : k0_chk19 i v66_0 v74 v79 v84 v89 v94 v99 v104 v109 v114 v119 v124 v129 v134 v139 v144 v149 v158_0 v166 v171 v176 v181 v186 v191 v196 v201 v206 v211 v216 v221 v226 v231 v236 v241 k0_t4 v626) (k0_t19 : Fin k0_t19_loop.trips), ∀ (k0_h3 : k0_cond3 i v66_0 v74 v79 v84 v89 v94 v99 v104 v109 v114 v119 v124 v129 v134 v139 v144 v149 v158_0 v166 v171 v176 v181 v186 v191 v196 v201 v206 v211 v216 v221 v226 v231 v236 v241 k0_t4 = 1#1), ∀ a, (k0_off96 v626 k0_t19) a + S1x16.size a ≤ S32x512.size a := fun i v66_0 v74 v79 v84 v89 v94 v99 v104 v109 v114 v119 v124 v129 v134 v139 v144 v149 v158_0 v166 v171 v176 v181 v186 v191 v196 v201 v206 v211 v216 v221 v226 v231 v236 v241 k0_t4 v626 k0_hw19 k0_t19 k0_h3 => k0_hw19.1 k0_t19 k0_h3
theorem k0_off97_inb : ∀ (i : grid0.Coords) (v66_0 : BitVec 32) (v74 : BitVec 32) (v79 : BitVec 32) (v84 : BitVec 32) (v89 : BitVec 32) (v94 : BitVec 32) (v99 : BitVec 32) (v104 : BitVec 32) (v109 : BitVec 32) (v114 : BitVec 32) (v119 : BitVec 32) (v124 : BitVec 32) (v129 : BitVec 32) (v134 : BitVec 32) (v139 : BitVec 32) (v144 : BitVec 32) (v149 : BitVec 32) (v158_0 : BitVec 32) (v166 : BitVec 32) (v171 : BitVec 32) (v176 : BitVec 32) (v181 : BitVec 32) (v186 : BitVec 32) (v191 : BitVec 32) (v196 : BitVec 32) (v201 : BitVec 32) (v206 : BitVec 32) (v211 : BitVec 32) (v216 : BitVec 32) (v221 : BitVec 32) (v226 : BitVec 32) (v231 : BitVec 32) (v236 : BitVec 32) (v241 : BitVec 32) (k0_t4 : Fin (k0_t4_loop i v66_0 v74 v79 v84 v89 v94 v99 v104 v109 v114 v119 v124 v129 v134 v139 v144 v149 v158_0 v166 v171 v176 v181 v186 v191 v196 v201 v206 v211 v216 v221 v226 v231 v236 v241).trips) (v626 : BitVec 32) (k0_hw19 : k0_chk19 i v66_0 v74 v79 v84 v89 v94 v99 v104 v109 v114 v119 v124 v129 v134 v139 v144 v149 v158_0 v166 v171 v176 v181 v186 v191 v196 v201 v206 v211 v216 v221 v226 v231 v236 v241 k0_t4 v626), ∀ (k0_h3 : k0_cond3 i v66_0 v74 v79 v84 v89 v94 v99 v104 v109 v114 v119 v124 v129 v134 v139 v144 v149 v158_0 v166 v171 v176 v181 v186 v191 v196 v201 v206 v211 v216 v221 v226 v231 v236 v241 k0_t4 = 1#1), ∀ a, (k0_off97 v626) a + S1x16.size a ≤ S32x512.size a := fun i v66_0 v74 v79 v84 v89 v94 v99 v104 v109 v114 v119 v124 v129 v134 v139 v144 v149 v158_0 v166 v171 v176 v181 v186 v191 v196 v201 v206 v211 v216 v221 v226 v231 v236 v241 k0_t4 v626 k0_hw19 k0_h3 => k0_hw19.2 k0_h3

def k0_off98 (k0_t5 : Fin k0_t5_loop.trips) : Fin 2 → Nat :=
  let c0_i32_149 : BitVec 32 := 0#32
  let c1_i32_150 : BitVec 32 := 1#32
  let arg14 : BitVec 32 := Scf.iv c0_i32_149 c1_i32_150 k0_t5
  let c16_i32_156 : BitVec 32 := 16#32
  let v342 : BitVec 32 := Scalar.muli arg14 c16_i32_156
  let c14_i32 : BitVec 32 := 14#32
  let v647 : BitVec 32 := Scalar.addi v342 c14_i32
  let v648 : Index := Scalar.indexCast v647
  let c0_259 : Index := 0#32
  ![v648.toNat, 0]
@[reducible] def k0_t20_loop : Scf.Loop 32 :=
  let c1_i32_260 : BitVec 32 := 1#32
  let c31_i32_261 : BitVec 32 := 31#32
  let v653 : BitVec 32 := Scalar.addi c1_i32_260 c31_i32_261
  let c1_i32_262 : BitVec 32 := 1#32
  ⟨c1_i32_260, v653, c1_i32_262⟩
def k0_off99 (k0_t5 : Fin k0_t5_loop.trips) (k0_t20 : Fin k0_t20_loop.trips) : Fin 2 → Nat :=
  let c0_i32_149 : BitVec 32 := 0#32
  let c1_i32_150 : BitVec 32 := 1#32
  let arg14 : BitVec 32 := Scf.iv c0_i32_149 c1_i32_150 k0_t5
  let c16_i32_156 : BitVec 32 := 16#32
  let v342 : BitVec 32 := Scalar.muli arg14 c16_i32_156
  let c14_i32 : BitVec 32 := 14#32
  let v647 : BitVec 32 := Scalar.addi v342 c14_i32
  let v684 : Index := Scalar.indexCast v647
  let c1_i32_260 : BitVec 32 := 1#32
  let c1_i32_262 : BitVec 32 := 1#32
  let arg15 : BitVec 32 := Scf.iv c1_i32_260 c1_i32_262 k0_t20
  let c16_i32_273 : BitVec 32 := 16#32
  let v683 : BitVec 32 := Scalar.muli arg15 c16_i32_273
  let v685 : Index := Scalar.indexCast v683
  ![v684.toNat, v685.toNat]
def k0_off100 (v646 : BitVec 32) (k0_t20 : Fin k0_t20_loop.trips) : Fin 2 → Nat :=
  let v692 : Index := Scalar.indexCast v646
  let c1_i32_260 : BitVec 32 := 1#32
  let c1_i32_262 : BitVec 32 := 1#32
  let arg15 : BitVec 32 := Scf.iv c1_i32_260 c1_i32_262 k0_t20
  let c1_i32_274 : BitVec 32 := 1#32
  let v690 : BitVec 32 := Scalar.subi arg15 c1_i32_274
  let c16_i32_275 : BitVec 32 := 16#32
  let v691 : BitVec 32 := Scalar.muli v690 c16_i32_275
  let v693 : Index := Scalar.indexCast v691
  ![v692.toNat, v693.toNat]

def k0_off101 (v646 : BitVec 32) : Fin 2 → Nat :=
  let v655 : Index := Scalar.indexCast v646
  let c496_264 : Index := 496#32
  ![v655.toNat, 496]

def k0_chk20 (i : grid0.Coords) (v66_0 : BitVec 32) (v74 : BitVec 32) (v79 : BitVec 32) (v84 : BitVec 32) (v89 : BitVec 32) (v94 : BitVec 32) (v99 : BitVec 32) (v104 : BitVec 32) (v109 : BitVec 32) (v114 : BitVec 32) (v119 : BitVec 32) (v124 : BitVec 32) (v129 : BitVec 32) (v134 : BitVec 32) (v139 : BitVec 32) (v144 : BitVec 32) (v149 : BitVec 32) (v158_0 : BitVec 32) (v166 : BitVec 32) (v171 : BitVec 32) (v176 : BitVec 32) (v181 : BitVec 32) (v186 : BitVec 32) (v191 : BitVec 32) (v196 : BitVec 32) (v201 : BitVec 32) (v206 : BitVec 32) (v211 : BitVec 32) (v216 : BitVec 32) (v221 : BitVec 32) (v226 : BitVec 32) (v231 : BitVec 32) (v236 : BitVec 32) (v241 : BitVec 32) (k0_t4 : Fin (k0_t4_loop i v66_0 v74 v79 v84 v89 v94 v99 v104 v109 v114 v119 v124 v129 v134 v139 v144 v149 v158_0 v166 v171 v176 v181 v186 v191 v196 v201 v206 v211 v216 v221 v226 v231 v236 v241).trips) (v646 : BitVec 32) : Prop :=
  (∀ k0_t20 : Fin k0_t20_loop.trips, ∀ (k0_h3 : k0_cond3 i v66_0 v74 v79 v84 v89 v94 v99 v104 v109 v114 v119 v124 v129 v134 v139 v144 v149 v158_0 v166 v171 v176 v181 v186 v191 v196 v201 v206 v211 v216 v221 v226 v231 v236 v241 k0_t4 = 1#1), ∀ a, (k0_off100 v646 k0_t20) a + S1x16.size a ≤ S32x512.size a) ∧
  (∀ (k0_h3 : k0_cond3 i v66_0 v74 v79 v84 v89 v94 v99 v104 v109 v114 v119 v124 v129 v134 v139 v144 v149 v158_0 v166 v171 v176 v181 v186 v191 v196 v201 v206 v211 v216 v221 v226 v231 v236 v241 k0_t4 = 1#1), ∀ a, (k0_off101 v646) a + S1x16.size a ≤ S32x512.size a)
theorem k0_off100_inb : ∀ (i : grid0.Coords) (v66_0 : BitVec 32) (v74 : BitVec 32) (v79 : BitVec 32) (v84 : BitVec 32) (v89 : BitVec 32) (v94 : BitVec 32) (v99 : BitVec 32) (v104 : BitVec 32) (v109 : BitVec 32) (v114 : BitVec 32) (v119 : BitVec 32) (v124 : BitVec 32) (v129 : BitVec 32) (v134 : BitVec 32) (v139 : BitVec 32) (v144 : BitVec 32) (v149 : BitVec 32) (v158_0 : BitVec 32) (v166 : BitVec 32) (v171 : BitVec 32) (v176 : BitVec 32) (v181 : BitVec 32) (v186 : BitVec 32) (v191 : BitVec 32) (v196 : BitVec 32) (v201 : BitVec 32) (v206 : BitVec 32) (v211 : BitVec 32) (v216 : BitVec 32) (v221 : BitVec 32) (v226 : BitVec 32) (v231 : BitVec 32) (v236 : BitVec 32) (v241 : BitVec 32) (k0_t4 : Fin (k0_t4_loop i v66_0 v74 v79 v84 v89 v94 v99 v104 v109 v114 v119 v124 v129 v134 v139 v144 v149 v158_0 v166 v171 v176 v181 v186 v191 v196 v201 v206 v211 v216 v221 v226 v231 v236 v241).trips) (v646 : BitVec 32) (k0_hw20 : k0_chk20 i v66_0 v74 v79 v84 v89 v94 v99 v104 v109 v114 v119 v124 v129 v134 v139 v144 v149 v158_0 v166 v171 v176 v181 v186 v191 v196 v201 v206 v211 v216 v221 v226 v231 v236 v241 k0_t4 v646) (k0_t20 : Fin k0_t20_loop.trips), ∀ (k0_h3 : k0_cond3 i v66_0 v74 v79 v84 v89 v94 v99 v104 v109 v114 v119 v124 v129 v134 v139 v144 v149 v158_0 v166 v171 v176 v181 v186 v191 v196 v201 v206 v211 v216 v221 v226 v231 v236 v241 k0_t4 = 1#1), ∀ a, (k0_off100 v646 k0_t20) a + S1x16.size a ≤ S32x512.size a := fun i v66_0 v74 v79 v84 v89 v94 v99 v104 v109 v114 v119 v124 v129 v134 v139 v144 v149 v158_0 v166 v171 v176 v181 v186 v191 v196 v201 v206 v211 v216 v221 v226 v231 v236 v241 k0_t4 v646 k0_hw20 k0_t20 k0_h3 => k0_hw20.1 k0_t20 k0_h3
theorem k0_off101_inb : ∀ (i : grid0.Coords) (v66_0 : BitVec 32) (v74 : BitVec 32) (v79 : BitVec 32) (v84 : BitVec 32) (v89 : BitVec 32) (v94 : BitVec 32) (v99 : BitVec 32) (v104 : BitVec 32) (v109 : BitVec 32) (v114 : BitVec 32) (v119 : BitVec 32) (v124 : BitVec 32) (v129 : BitVec 32) (v134 : BitVec 32) (v139 : BitVec 32) (v144 : BitVec 32) (v149 : BitVec 32) (v158_0 : BitVec 32) (v166 : BitVec 32) (v171 : BitVec 32) (v176 : BitVec 32) (v181 : BitVec 32) (v186 : BitVec 32) (v191 : BitVec 32) (v196 : BitVec 32) (v201 : BitVec 32) (v206 : BitVec 32) (v211 : BitVec 32) (v216 : BitVec 32) (v221 : BitVec 32) (v226 : BitVec 32) (v231 : BitVec 32) (v236 : BitVec 32) (v241 : BitVec 32) (k0_t4 : Fin (k0_t4_loop i v66_0 v74 v79 v84 v89 v94 v99 v104 v109 v114 v119 v124 v129 v134 v139 v144 v149 v158_0 v166 v171 v176 v181 v186 v191 v196 v201 v206 v211 v216 v221 v226 v231 v236 v241).trips) (v646 : BitVec 32) (k0_hw20 : k0_chk20 i v66_0 v74 v79 v84 v89 v94 v99 v104 v109 v114 v119 v124 v129 v134 v139 v144 v149 v158_0 v166 v171 v176 v181 v186 v191 v196 v201 v206 v211 v216 v221 v226 v231 v236 v241 k0_t4 v646), ∀ (k0_h3 : k0_cond3 i v66_0 v74 v79 v84 v89 v94 v99 v104 v109 v114 v119 v124 v129 v134 v139 v144 v149 v158_0 v166 v171 v176 v181 v186 v191 v196 v201 v206 v211 v216 v221 v226 v231 v236 v241 k0_t4 = 1#1), ∀ a, (k0_off101 v646) a + S1x16.size a ≤ S32x512.size a := fun i v66_0 v74 v79 v84 v89 v94 v99 v104 v109 v114 v119 v124 v129 v134 v139 v144 v149 v158_0 v166 v171 v176 v181 v186 v191 v196 v201 v206 v211 v216 v221 v226 v231 v236 v241 k0_t4 v646 k0_hw20 k0_h3 => k0_hw20.2 k0_h3

def k0_off102 (k0_t5 : Fin k0_t5_loop.trips) : Fin 2 → Nat :=
  let c0_i32_149 : BitVec 32 := 0#32
  let c1_i32_150 : BitVec 32 := 1#32
  let arg14 : BitVec 32 := Scf.iv c0_i32_149 c1_i32_150 k0_t5
  let c16_i32_156 : BitVec 32 := 16#32
  let v342 : BitVec 32 := Scalar.muli arg14 c16_i32_156
  let c15_i32 : BitVec 32 := 15#32
  let v667 : BitVec 32 := Scalar.addi v342 c15_i32
  let v668 : Index := Scalar.indexCast v667
  let c0_266 : Index := 0#32
  ![v668.toNat, 0]
@[reducible] def k0_t21_loop : Scf.Loop 32 :=
  let c1_i32_267 : BitVec 32 := 1#32
  let c31_i32_268 : BitVec 32 := 31#32
  let v673 : BitVec 32 := Scalar.addi c1_i32_267 c31_i32_268
  let c1_i32_269 : BitVec 32 := 1#32
  ⟨c1_i32_267, v673, c1_i32_269⟩
def k0_off103 (k0_t5 : Fin k0_t5_loop.trips) (k0_t21 : Fin k0_t21_loop.trips) : Fin 2 → Nat :=
  let c0_i32_149 : BitVec 32 := 0#32
  let c1_i32_150 : BitVec 32 := 1#32
  let arg14 : BitVec 32 := Scf.iv c0_i32_149 c1_i32_150 k0_t5
  let c16_i32_156 : BitVec 32 := 16#32
  let v342 : BitVec 32 := Scalar.muli arg14 c16_i32_156
  let c15_i32 : BitVec 32 := 15#32
  let v667 : BitVec 32 := Scalar.addi v342 c15_i32
  let v684 : Index := Scalar.indexCast v667
  let c1_i32_267 : BitVec 32 := 1#32
  let c1_i32_269 : BitVec 32 := 1#32
  let arg15 : BitVec 32 := Scf.iv c1_i32_267 c1_i32_269 k0_t21
  let c16_i32_273 : BitVec 32 := 16#32
  let v683 : BitVec 32 := Scalar.muli arg15 c16_i32_273
  let v685 : Index := Scalar.indexCast v683
  ![v684.toNat, v685.toNat]
def k0_off104 (v666 : BitVec 32) (k0_t21 : Fin k0_t21_loop.trips) : Fin 2 → Nat :=
  let v692 : Index := Scalar.indexCast v666
  let c1_i32_267 : BitVec 32 := 1#32
  let c1_i32_269 : BitVec 32 := 1#32
  let arg15 : BitVec 32 := Scf.iv c1_i32_267 c1_i32_269 k0_t21
  let c1_i32_274 : BitVec 32 := 1#32
  let v690 : BitVec 32 := Scalar.subi arg15 c1_i32_274
  let c16_i32_275 : BitVec 32 := 16#32
  let v691 : BitVec 32 := Scalar.muli v690 c16_i32_275
  let v693 : Index := Scalar.indexCast v691
  ![v692.toNat, v693.toNat]

def k0_off105 (v666 : BitVec 32) : Fin 2 → Nat :=
  let v675 : Index := Scalar.indexCast v666
  let c496_271 : Index := 496#32
  ![v675.toNat, 496]

def k0_chk21 (i : grid0.Coords) (v66_0 : BitVec 32) (v74 : BitVec 32) (v79 : BitVec 32) (v84 : BitVec 32) (v89 : BitVec 32) (v94 : BitVec 32) (v99 : BitVec 32) (v104 : BitVec 32) (v109 : BitVec 32) (v114 : BitVec 32) (v119 : BitVec 32) (v124 : BitVec 32) (v129 : BitVec 32) (v134 : BitVec 32) (v139 : BitVec 32) (v144 : BitVec 32) (v149 : BitVec 32) (v158_0 : BitVec 32) (v166 : BitVec 32) (v171 : BitVec 32) (v176 : BitVec 32) (v181 : BitVec 32) (v186 : BitVec 32) (v191 : BitVec 32) (v196 : BitVec 32) (v201 : BitVec 32) (v206 : BitVec 32) (v211 : BitVec 32) (v216 : BitVec 32) (v221 : BitVec 32) (v226 : BitVec 32) (v231 : BitVec 32) (v236 : BitVec 32) (v241 : BitVec 32) (k0_t4 : Fin (k0_t4_loop i v66_0 v74 v79 v84 v89 v94 v99 v104 v109 v114 v119 v124 v129 v134 v139 v144 v149 v158_0 v166 v171 v176 v181 v186 v191 v196 v201 v206 v211 v216 v221 v226 v231 v236 v241).trips) (v666 : BitVec 32) : Prop :=
  (∀ k0_t21 : Fin k0_t21_loop.trips, ∀ (k0_h3 : k0_cond3 i v66_0 v74 v79 v84 v89 v94 v99 v104 v109 v114 v119 v124 v129 v134 v139 v144 v149 v158_0 v166 v171 v176 v181 v186 v191 v196 v201 v206 v211 v216 v221 v226 v231 v236 v241 k0_t4 = 1#1), ∀ a, (k0_off104 v666 k0_t21) a + S1x16.size a ≤ S32x512.size a) ∧
  (∀ (k0_h3 : k0_cond3 i v66_0 v74 v79 v84 v89 v94 v99 v104 v109 v114 v119 v124 v129 v134 v139 v144 v149 v158_0 v166 v171 v176 v181 v186 v191 v196 v201 v206 v211 v216 v221 v226 v231 v236 v241 k0_t4 = 1#1), ∀ a, (k0_off105 v666) a + S1x16.size a ≤ S32x512.size a)
theorem k0_off104_inb : ∀ (i : grid0.Coords) (v66_0 : BitVec 32) (v74 : BitVec 32) (v79 : BitVec 32) (v84 : BitVec 32) (v89 : BitVec 32) (v94 : BitVec 32) (v99 : BitVec 32) (v104 : BitVec 32) (v109 : BitVec 32) (v114 : BitVec 32) (v119 : BitVec 32) (v124 : BitVec 32) (v129 : BitVec 32) (v134 : BitVec 32) (v139 : BitVec 32) (v144 : BitVec 32) (v149 : BitVec 32) (v158_0 : BitVec 32) (v166 : BitVec 32) (v171 : BitVec 32) (v176 : BitVec 32) (v181 : BitVec 32) (v186 : BitVec 32) (v191 : BitVec 32) (v196 : BitVec 32) (v201 : BitVec 32) (v206 : BitVec 32) (v211 : BitVec 32) (v216 : BitVec 32) (v221 : BitVec 32) (v226 : BitVec 32) (v231 : BitVec 32) (v236 : BitVec 32) (v241 : BitVec 32) (k0_t4 : Fin (k0_t4_loop i v66_0 v74 v79 v84 v89 v94 v99 v104 v109 v114 v119 v124 v129 v134 v139 v144 v149 v158_0 v166 v171 v176 v181 v186 v191 v196 v201 v206 v211 v216 v221 v226 v231 v236 v241).trips) (v666 : BitVec 32) (k0_hw21 : k0_chk21 i v66_0 v74 v79 v84 v89 v94 v99 v104 v109 v114 v119 v124 v129 v134 v139 v144 v149 v158_0 v166 v171 v176 v181 v186 v191 v196 v201 v206 v211 v216 v221 v226 v231 v236 v241 k0_t4 v666) (k0_t21 : Fin k0_t21_loop.trips), ∀ (k0_h3 : k0_cond3 i v66_0 v74 v79 v84 v89 v94 v99 v104 v109 v114 v119 v124 v129 v134 v139 v144 v149 v158_0 v166 v171 v176 v181 v186 v191 v196 v201 v206 v211 v216 v221 v226 v231 v236 v241 k0_t4 = 1#1), ∀ a, (k0_off104 v666 k0_t21) a + S1x16.size a ≤ S32x512.size a := fun i v66_0 v74 v79 v84 v89 v94 v99 v104 v109 v114 v119 v124 v129 v134 v139 v144 v149 v158_0 v166 v171 v176 v181 v186 v191 v196 v201 v206 v211 v216 v221 v226 v231 v236 v241 k0_t4 v666 k0_hw21 k0_t21 k0_h3 => k0_hw21.1 k0_t21 k0_h3
theorem k0_off105_inb : ∀ (i : grid0.Coords) (v66_0 : BitVec 32) (v74 : BitVec 32) (v79 : BitVec 32) (v84 : BitVec 32) (v89 : BitVec 32) (v94 : BitVec 32) (v99 : BitVec 32) (v104 : BitVec 32) (v109 : BitVec 32) (v114 : BitVec 32) (v119 : BitVec 32) (v124 : BitVec 32) (v129 : BitVec 32) (v134 : BitVec 32) (v139 : BitVec 32) (v144 : BitVec 32) (v149 : BitVec 32) (v158_0 : BitVec 32) (v166 : BitVec 32) (v171 : BitVec 32) (v176 : BitVec 32) (v181 : BitVec 32) (v186 : BitVec 32) (v191 : BitVec 32) (v196 : BitVec 32) (v201 : BitVec 32) (v206 : BitVec 32) (v211 : BitVec 32) (v216 : BitVec 32) (v221 : BitVec 32) (v226 : BitVec 32) (v231 : BitVec 32) (v236 : BitVec 32) (v241 : BitVec 32) (k0_t4 : Fin (k0_t4_loop i v66_0 v74 v79 v84 v89 v94 v99 v104 v109 v114 v119 v124 v129 v134 v139 v144 v149 v158_0 v166 v171 v176 v181 v186 v191 v196 v201 v206 v211 v216 v221 v226 v231 v236 v241).trips) (v666 : BitVec 32) (k0_hw21 : k0_chk21 i v66_0 v74 v79 v84 v89 v94 v99 v104 v109 v114 v119 v124 v129 v134 v139 v144 v149 v158_0 v166 v171 v176 v181 v186 v191 v196 v201 v206 v211 v216 v221 v226 v231 v236 v241 k0_t4 v666), ∀ (k0_h3 : k0_cond3 i v66_0 v74 v79 v84 v89 v94 v99 v104 v109 v114 v119 v124 v129 v134 v139 v144 v149 v158_0 v166 v171 v176 v181 v186 v191 v196 v201 v206 v211 v216 v221 v226 v231 v236 v241 k0_t4 = 1#1), ∀ a, (k0_off105 v666) a + S1x16.size a ≤ S32x512.size a := fun i v66_0 v74 v79 v84 v89 v94 v99 v104 v109 v114 v119 v124 v129 v134 v139 v144 v149 v158_0 v166 v171 v176 v181 v186 v191 v196 v201 v206 v211 v216 v221 v226 v231 v236 v241 k0_t4 v666 k0_hw21 k0_h3 => k0_hw21.2 k0_h3

def k0_off106 (i : grid0.Coords) (v66_0 : BitVec 32) (v74 : BitVec 32) (v79 : BitVec 32) (v84 : BitVec 32) (v89 : BitVec 32) (v94 : BitVec 32) (v99 : BitVec 32) (v104 : BitVec 32) (v109 : BitVec 32) (v114 : BitVec 32) (v119 : BitVec 32) (v124 : BitVec 32) (v129 : BitVec 32) (v134 : BitVec 32) (v139 : BitVec 32) (v144 : BitVec 32) (v149 : BitVec 32) (v158_0 : BitVec 32) (v166 : BitVec 32) (v171 : BitVec 32) (v176 : BitVec 32) (v181 : BitVec 32) (v186 : BitVec 32) (v191 : BitVec 32) (v196 : BitVec 32) (v201 : BitVec 32) (v206 : BitVec 32) (v211 : BitVec 32) (v216 : BitVec 32) (v221 : BitVec 32) (v226 : BitVec 32) (v231 : BitVec 32) (v236 : BitVec 32) (v241 : BitVec 32) (k0_t4 : Fin (k0_t4_loop i v66_0 v74 v79 v84 v89 v94 v99 v104 v109 v114 v119 v124 v129 v134 v139 v144 v149 v158_0 v166 v171 v176 v181 v186 v191 v196 v201 v206 v211 v216 v221 v226 v231 v236 v241).trips) : Fin 2 → Nat :=
  let c0_i32_57 : BitVec 32 := 0#32
  let v153 : BitVec 1 := Scalar.cmpi .eq v66_0 c0_i32_57
  let c0_i32_59 : BitVec 32 := 0#32
  let c1_i32_22 : BitVec 32 := 1#32
  let v67 : BitVec 32 := Scalar.subi v66_0 c1_i32_22
  let c0_i32_23 : BitVec 32 := 0#32
  let v68 : BitVec 32 := Scalar.maxsi v67 c0_i32_23
  let c16_i32_58 : BitVec 32 := 16#32
  let v154 : BitVec 32 := Scalar.muli v68 c16_i32_58
  let c0_i32_26 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let v75 : BitVec 1 := Scalar.cmpi .slt v74 v2
  let c1_i32_24 : BitVec 32 := 1#32
  let c0_i32_25 : BitVec 32 := 0#32
  let v76 : BitVec 32 := Scalar.select v75 c1_i32_24 c0_i32_25
  let v77 : BitVec 32 := Scalar.addi c0_i32_26 v76
  let v80 : BitVec 1 := Scalar.cmpi .slt v79 v2
  let c1_i32_27 : BitVec 32 := 1#32
  let c0_i32_28 : BitVec 32 := 0#32
  let v81 : BitVec 32 := Scalar.select v80 c1_i32_27 c0_i32_28
  let v82 : BitVec 32 := Scalar.addi v77 v81
  let v85 : BitVec 1 := Scalar.cmpi .slt v84 v2
  let c1_i32_29 : BitVec 32 := 1#32
  let c0_i32_30 : BitVec 32 := 0#32
  let v86 : BitVec 32 := Scalar.select v85 c1_i32_29 c0_i32_30
  let v87 : BitVec 32 := Scalar.addi v82 v86
  let v90 : BitVec 1 := Scalar.cmpi .slt v89 v2
  let c1_i32_31 : BitVec 32 := 1#32
  let c0_i32_32 : BitVec 32 := 0#32
  let v91 : BitVec 32 := Scalar.select v90 c1_i32_31 c0_i32_32
  let v92 : BitVec 32 := Scalar.addi v87 v91
  let v95 : BitVec 1 := Scalar.cmpi .slt v94 v2
  let c1_i32_33 : BitVec 32 := 1#32
  let c0_i32_34 : BitVec 32 := 0#32
  let v96 : BitVec 32 := Scalar.select v95 c1_i32_33 c0_i32_34
  let v97 : BitVec 32 := Scalar.addi v92 v96
  let v100 : BitVec 1 := Scalar.cmpi .slt v99 v2
  let c1_i32_35 : BitVec 32 := 1#32
  let c0_i32_36 : BitVec 32 := 0#32
  let v101 : BitVec 32 := Scalar.select v100 c1_i32_35 c0_i32_36
  let v102 : BitVec 32 := Scalar.addi v97 v101
  let v105 : BitVec 1 := Scalar.cmpi .slt v104 v2
  let c1_i32_37 : BitVec 32 := 1#32
  let c0_i32_38 : BitVec 32 := 0#32
  let v106 : BitVec 32 := Scalar.select v105 c1_i32_37 c0_i32_38
  let v107 : BitVec 32 := Scalar.addi v102 v106
  let v110 : BitVec 1 := Scalar.cmpi .slt v109 v2
  let c1_i32_39 : BitVec 32 := 1#32
  let c0_i32_40 : BitVec 32 := 0#32
  let v111 : BitVec 32 := Scalar.select v110 c1_i32_39 c0_i32_40
  let v112 : BitVec 32 := Scalar.addi v107 v111
  let v115 : BitVec 1 := Scalar.cmpi .slt v114 v2
  let c1_i32_41 : BitVec 32 := 1#32
  let c0_i32_42 : BitVec 32 := 0#32
  let v116 : BitVec 32 := Scalar.select v115 c1_i32_41 c0_i32_42
  let v117 : BitVec 32 := Scalar.addi v112 v116
  let v120 : BitVec 1 := Scalar.cmpi .slt v119 v2
  let c1_i32_43 : BitVec 32 := 1#32
  let c0_i32_44 : BitVec 32 := 0#32
  let v121 : BitVec 32 := Scalar.select v120 c1_i32_43 c0_i32_44
  let v122 : BitVec 32 := Scalar.addi v117 v121
  let v125 : BitVec 1 := Scalar.cmpi .slt v124 v2
  let c1_i32_45 : BitVec 32 := 1#32
  let c0_i32_46 : BitVec 32 := 0#32
  let v126 : BitVec 32 := Scalar.select v125 c1_i32_45 c0_i32_46
  let v127 : BitVec 32 := Scalar.addi v122 v126
  let v130 : BitVec 1 := Scalar.cmpi .slt v129 v2
  let c1_i32_47 : BitVec 32 := 1#32
  let c0_i32_48 : BitVec 32 := 0#32
  let v131 : BitVec 32 := Scalar.select v130 c1_i32_47 c0_i32_48
  let v132 : BitVec 32 := Scalar.addi v127 v131
  let v135 : BitVec 1 := Scalar.cmpi .slt v134 v2
  let c1_i32_49 : BitVec 32 := 1#32
  let c0_i32_50 : BitVec 32 := 0#32
  let v136 : BitVec 32 := Scalar.select v135 c1_i32_49 c0_i32_50
  let v137 : BitVec 32 := Scalar.addi v132 v136
  let v140 : BitVec 1 := Scalar.cmpi .slt v139 v2
  let c1_i32_51 : BitVec 32 := 1#32
  let c0_i32_52 : BitVec 32 := 0#32
  let v141 : BitVec 32 := Scalar.select v140 c1_i32_51 c0_i32_52
  let v142 : BitVec 32 := Scalar.addi v137 v141
  let v145 : BitVec 1 := Scalar.cmpi .slt v144 v2
  let c1_i32_53 : BitVec 32 := 1#32
  let c0_i32_54 : BitVec 32 := 0#32
  let v146 : BitVec 32 := Scalar.select v145 c1_i32_53 c0_i32_54
  let v147 : BitVec 32 := Scalar.addi v142 v146
  let v150 : BitVec 1 := Scalar.cmpi .slt v149 v2
  let c1_i32_55 : BitVec 32 := 1#32
  let c0_i32_56 : BitVec 32 := 0#32
  let v151 : BitVec 32 := Scalar.select v150 c1_i32_55 c0_i32_56
  let v152 : BitVec 32 := Scalar.addi v147 v151
  let v155 : BitVec 32 := Scalar.addi v154 v152
  let v156 : BitVec 32 := Scalar.select v153 c0_i32_59 v155
  let c0_i32_105 : BitVec 32 := 0#32
  let v250 : BitVec 1 := Scalar.cmpi .sgt v156 c0_i32_105
  let v251 : BitVec 32 := Scalar.extui v250
  let c0_i32_106 : BitVec 32 := 0#32
  let v252 : BitVec 1 := Scalar.cmpi .slt v156 c0_i32_106
  let v253 : BitVec 32 := Scalar.extui v252
  let v254 : BitVec 32 := Scalar.subi v251 v253
  let c64_i32 : BitVec 32 := 64#32
  let c0_i32_107 : BitVec 32 := 0#32
  let v255 : BitVec 1 := Scalar.cmpi .sgt c64_i32 c0_i32_107
  let v256 : BitVec 32 := Scalar.extui v255
  let c0_i32_108 : BitVec 32 := 0#32
  let v257 : BitVec 1 := Scalar.cmpi .slt c64_i32 c0_i32_108
  let v258 : BitVec 32 := Scalar.extui v257
  let v259 : BitVec 32 := Scalar.subi v256 v258
  let v260 : BitVec 1 := Scalar.cmpi .ne v254 v259
  let v261 : BitVec 32 := Scalar.remsi v156 c64_i32
  let c0_i32_109 : BitVec 32 := 0#32
  let v262 : BitVec 1 := Scalar.cmpi .ne v261 c0_i32_109
  let v263 : BitVec 1 := Scalar.andi v260 v262
  let v249 : BitVec 32 := Scalar.divsi v156 c64_i32
  let c1_i32_110 : BitVec 32 := 1#32
  let v264 : BitVec 32 := Scalar.subi v249 c1_i32_110
  let v265 : BitVec 32 := Scalar.select v263 v264 v249
  let c2_i32_139 : BitVec 32 := 2#32
  let c0_i32_134 : BitVec 32 := 0#32
  let c1_i32_136 : BitVec 32 := 1#32
  let arg13 : BitVec 32 := Scf.iv c0_i32_134 c1_i32_136 k0_t4
  let v320 : BitVec 32 := Scalar.muli c2_i32_139 arg13
  let v321 : BitVec 32 := Scalar.addi v265 v320
  let c0_i32_144 : BitVec 32 := 0#32
  let v330 : BitVec 32 := Scalar.addi v321 c0_i32_144
  let c2_i32_154 : BitVec 32 := 2#32
  let v339 : BitVec 32 := Scalar.addi v330 c2_i32_154
  let c64_i32_155 : BitVec 32 := 64#32
  let v340 : BitVec 32 := Scalar.muli v339 c64_i32_155
  let c0_i32_156 : BitVec 32 := 0#32
  ![v340.toNat, 0]
def k0_cond4 (i : grid0.Coords) (v66_0 : BitVec 32) (v74 : BitVec 32) (v79 : BitVec 32) (v84 : BitVec 32) (v89 : BitVec 32) (v94 : BitVec 32) (v99 : BitVec 32) (v104 : BitVec 32) (v109 : BitVec 32) (v114 : BitVec 32) (v119 : BitVec 32) (v124 : BitVec 32) (v129 : BitVec 32) (v134 : BitVec 32) (v139 : BitVec 32) (v144 : BitVec 32) (v149 : BitVec 32) (v158_0 : BitVec 32) (v166 : BitVec 32) (v171 : BitVec 32) (v176 : BitVec 32) (v181 : BitVec 32) (v186 : BitVec 32) (v191 : BitVec 32) (v196 : BitVec 32) (v201 : BitVec 32) (v206 : BitVec 32) (v211 : BitVec 32) (v216 : BitVec 32) (v221 : BitVec 32) (v226 : BitVec 32) (v231 : BitVec 32) (v236 : BitVec 32) (v241 : BitVec 32) (k0_t4 : Fin (k0_t4_loop i v66_0 v74 v79 v84 v89 v94 v99 v104 v109 v114 v119 v124 v129 v134 v139 v144 v149 v158_0 v166 v171 v176 v181 v186 v191 v196 v201 v206 v211 v216 v221 v226 v231 v236 v241).trips) : BitVec 1 :=
  let c0_i32_57 : BitVec 32 := 0#32
  let v153 : BitVec 1 := Scalar.cmpi .eq v66_0 c0_i32_57
  let c0_i32_59 : BitVec 32 := 0#32
  let c1_i32_22 : BitVec 32 := 1#32
  let v67 : BitVec 32 := Scalar.subi v66_0 c1_i32_22
  let c0_i32_23 : BitVec 32 := 0#32
  let v68 : BitVec 32 := Scalar.maxsi v67 c0_i32_23
  let c16_i32_58 : BitVec 32 := 16#32
  let v154 : BitVec 32 := Scalar.muli v68 c16_i32_58
  let c0_i32_26 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let v75 : BitVec 1 := Scalar.cmpi .slt v74 v2
  let c1_i32_24 : BitVec 32 := 1#32
  let c0_i32_25 : BitVec 32 := 0#32
  let v76 : BitVec 32 := Scalar.select v75 c1_i32_24 c0_i32_25
  let v77 : BitVec 32 := Scalar.addi c0_i32_26 v76
  let v80 : BitVec 1 := Scalar.cmpi .slt v79 v2
  let c1_i32_27 : BitVec 32 := 1#32
  let c0_i32_28 : BitVec 32 := 0#32
  let v81 : BitVec 32 := Scalar.select v80 c1_i32_27 c0_i32_28
  let v82 : BitVec 32 := Scalar.addi v77 v81
  let v85 : BitVec 1 := Scalar.cmpi .slt v84 v2
  let c1_i32_29 : BitVec 32 := 1#32
  let c0_i32_30 : BitVec 32 := 0#32
  let v86 : BitVec 32 := Scalar.select v85 c1_i32_29 c0_i32_30
  let v87 : BitVec 32 := Scalar.addi v82 v86
  let v90 : BitVec 1 := Scalar.cmpi .slt v89 v2
  let c1_i32_31 : BitVec 32 := 1#32
  let c0_i32_32 : BitVec 32 := 0#32
  let v91 : BitVec 32 := Scalar.select v90 c1_i32_31 c0_i32_32
  let v92 : BitVec 32 := Scalar.addi v87 v91
  let v95 : BitVec 1 := Scalar.cmpi .slt v94 v2
  let c1_i32_33 : BitVec 32 := 1#32
  let c0_i32_34 : BitVec 32 := 0#32
  let v96 : BitVec 32 := Scalar.select v95 c1_i32_33 c0_i32_34
  let v97 : BitVec 32 := Scalar.addi v92 v96
  let v100 : BitVec 1 := Scalar.cmpi .slt v99 v2
  let c1_i32_35 : BitVec 32 := 1#32
  let c0_i32_36 : BitVec 32 := 0#32
  let v101 : BitVec 32 := Scalar.select v100 c1_i32_35 c0_i32_36
  let v102 : BitVec 32 := Scalar.addi v97 v101
  let v105 : BitVec 1 := Scalar.cmpi .slt v104 v2
  let c1_i32_37 : BitVec 32 := 1#32
  let c0_i32_38 : BitVec 32 := 0#32
  let v106 : BitVec 32 := Scalar.select v105 c1_i32_37 c0_i32_38
  let v107 : BitVec 32 := Scalar.addi v102 v106
  let v110 : BitVec 1 := Scalar.cmpi .slt v109 v2
  let c1_i32_39 : BitVec 32 := 1#32
  let c0_i32_40 : BitVec 32 := 0#32
  let v111 : BitVec 32 := Scalar.select v110 c1_i32_39 c0_i32_40
  let v112 : BitVec 32 := Scalar.addi v107 v111
  let v115 : BitVec 1 := Scalar.cmpi .slt v114 v2
  let c1_i32_41 : BitVec 32 := 1#32
  let c0_i32_42 : BitVec 32 := 0#32
  let v116 : BitVec 32 := Scalar.select v115 c1_i32_41 c0_i32_42
  let v117 : BitVec 32 := Scalar.addi v112 v116
  let v120 : BitVec 1 := Scalar.cmpi .slt v119 v2
  let c1_i32_43 : BitVec 32 := 1#32
  let c0_i32_44 : BitVec 32 := 0#32
  let v121 : BitVec 32 := Scalar.select v120 c1_i32_43 c0_i32_44
  let v122 : BitVec 32 := Scalar.addi v117 v121
  let v125 : BitVec 1 := Scalar.cmpi .slt v124 v2
  let c1_i32_45 : BitVec 32 := 1#32
  let c0_i32_46 : BitVec 32 := 0#32
  let v126 : BitVec 32 := Scalar.select v125 c1_i32_45 c0_i32_46
  let v127 : BitVec 32 := Scalar.addi v122 v126
  let v130 : BitVec 1 := Scalar.cmpi .slt v129 v2
  let c1_i32_47 : BitVec 32 := 1#32
  let c0_i32_48 : BitVec 32 := 0#32
  let v131 : BitVec 32 := Scalar.select v130 c1_i32_47 c0_i32_48
  let v132 : BitVec 32 := Scalar.addi v127 v131
  let v135 : BitVec 1 := Scalar.cmpi .slt v134 v2
  let c1_i32_49 : BitVec 32 := 1#32
  let c0_i32_50 : BitVec 32 := 0#32
  let v136 : BitVec 32 := Scalar.select v135 c1_i32_49 c0_i32_50
  let v137 : BitVec 32 := Scalar.addi v132 v136
  let v140 : BitVec 1 := Scalar.cmpi .slt v139 v2
  let c1_i32_51 : BitVec 32 := 1#32
  let c0_i32_52 : BitVec 32 := 0#32
  let v141 : BitVec 32 := Scalar.select v140 c1_i32_51 c0_i32_52
  let v142 : BitVec 32 := Scalar.addi v137 v141
  let v145 : BitVec 1 := Scalar.cmpi .slt v144 v2
  let c1_i32_53 : BitVec 32 := 1#32
  let c0_i32_54 : BitVec 32 := 0#32
  let v146 : BitVec 32 := Scalar.select v145 c1_i32_53 c0_i32_54
  let v147 : BitVec 32 := Scalar.addi v142 v146
  let v150 : BitVec 1 := Scalar.cmpi .slt v149 v2
  let c1_i32_55 : BitVec 32 := 1#32
  let c0_i32_56 : BitVec 32 := 0#32
  let v151 : BitVec 32 := Scalar.select v150 c1_i32_55 c0_i32_56
  let v152 : BitVec 32 := Scalar.addi v147 v151
  let v155 : BitVec 32 := Scalar.addi v154 v152
  let v156 : BitVec 32 := Scalar.select v153 c0_i32_59 v155
  let c0_i32_105 : BitVec 32 := 0#32
  let v250 : BitVec 1 := Scalar.cmpi .sgt v156 c0_i32_105
  let v251 : BitVec 32 := Scalar.extui v250
  let c0_i32_106 : BitVec 32 := 0#32
  let v252 : BitVec 1 := Scalar.cmpi .slt v156 c0_i32_106
  let v253 : BitVec 32 := Scalar.extui v252
  let v254 : BitVec 32 := Scalar.subi v251 v253
  let c64_i32 : BitVec 32 := 64#32
  let c0_i32_107 : BitVec 32 := 0#32
  let v255 : BitVec 1 := Scalar.cmpi .sgt c64_i32 c0_i32_107
  let v256 : BitVec 32 := Scalar.extui v255
  let c0_i32_108 : BitVec 32 := 0#32
  let v257 : BitVec 1 := Scalar.cmpi .slt c64_i32 c0_i32_108
  let v258 : BitVec 32 := Scalar.extui v257
  let v259 : BitVec 32 := Scalar.subi v256 v258
  let v260 : BitVec 1 := Scalar.cmpi .ne v254 v259
  let v261 : BitVec 32 := Scalar.remsi v156 c64_i32
  let c0_i32_109 : BitVec 32 := 0#32
  let v262 : BitVec 1 := Scalar.cmpi .ne v261 c0_i32_109
  let v263 : BitVec 1 := Scalar.andi v260 v262
  let v249 : BitVec 32 := Scalar.divsi v156 c64_i32
  let c1_i32_110 : BitVec 32 := 1#32
  let v264 : BitVec 32 := Scalar.subi v249 c1_i32_110
  let v265 : BitVec 32 := Scalar.select v263 v264 v249
  let c2_i32_139 : BitVec 32 := 2#32
  let c0_i32_134 : BitVec 32 := 0#32
  let c1_i32_136 : BitVec 32 := 1#32
  let arg13 : BitVec 32 := Scf.iv c0_i32_134 c1_i32_136 k0_t4
  let v320 : BitVec 32 := Scalar.muli c2_i32_139 arg13
  let v321 : BitVec 32 := Scalar.addi v265 v320
  let c0_i32_144 : BitVec 32 := 0#32
  let v330 : BitVec 32 := Scalar.addi v321 c0_i32_144
  let c2_i32_152 : BitVec 32 := 2#32
  let v335 : BitVec 32 := Scalar.addi v330 c2_i32_152
  let c0_i32_102 : BitVec 32 := 0#32
  let v245 : BitVec 1 := Scalar.cmpi .eq v158_0 c0_i32_102
  let c0_i32_104 : BitVec 32 := 0#32
  let c1_i32_66 : BitVec 32 := 1#32
  let v159 : BitVec 32 := Scalar.subi v158_0 c1_i32_66
  let c0_i32_67 : BitVec 32 := 0#32
  let v160 : BitVec 32 := Scalar.maxsi v159 c0_i32_67
  let c16_i32_103 : BitVec 32 := 16#32
  let v246 : BitVec 32 := Scalar.muli v160 c16_i32_103
  let c0_i32_71 : BitVec 32 := 0#32
  let c32_i32_0 : BitVec 32 := 32#32
  let v3 : BitVec 32 := Scalar.addi v2 c32_i32_0
  let v167 : BitVec 1 := Scalar.cmpi .slt v166 v3
  let c1_i32_69 : BitVec 32 := 1#32
  let c0_i32_70 : BitVec 32 := 0#32
  let v168 : BitVec 32 := Scalar.select v167 c1_i32_69 c0_i32_70
  let v169 : BitVec 32 := Scalar.addi c0_i32_71 v168
  let v172 : BitVec 1 := Scalar.cmpi .slt v171 v3
  let c1_i32_72 : BitVec 32 := 1#32
  let c0_i32_73 : BitVec 32 := 0#32
  let v173 : BitVec 32 := Scalar.select v172 c1_i32_72 c0_i32_73
  let v174 : BitVec 32 := Scalar.addi v169 v173
  let v177 : BitVec 1 := Scalar.cmpi .slt v176 v3
  let c1_i32_74 : BitVec 32 := 1#32
  let c0_i32_75 : BitVec 32 := 0#32
  let v178 : BitVec 32 := Scalar.select v177 c1_i32_74 c0_i32_75
  let v179 : BitVec 32 := Scalar.addi v174 v178
  let v182 : BitVec 1 := Scalar.cmpi .slt v181 v3
  let c1_i32_76 : BitVec 32 := 1#32
  let c0_i32_77 : BitVec 32 := 0#32
  let v183 : BitVec 32 := Scalar.select v182 c1_i32_76 c0_i32_77
  let v184 : BitVec 32 := Scalar.addi v179 v183
  let v187 : BitVec 1 := Scalar.cmpi .slt v186 v3
  let c1_i32_78 : BitVec 32 := 1#32
  let c0_i32_79 : BitVec 32 := 0#32
  let v188 : BitVec 32 := Scalar.select v187 c1_i32_78 c0_i32_79
  let v189 : BitVec 32 := Scalar.addi v184 v188
  let v192 : BitVec 1 := Scalar.cmpi .slt v191 v3
  let c1_i32_80 : BitVec 32 := 1#32
  let c0_i32_81 : BitVec 32 := 0#32
  let v193 : BitVec 32 := Scalar.select v192 c1_i32_80 c0_i32_81
  let v194 : BitVec 32 := Scalar.addi v189 v193
  let v197 : BitVec 1 := Scalar.cmpi .slt v196 v3
  let c1_i32_82 : BitVec 32 := 1#32
  let c0_i32_83 : BitVec 32 := 0#32
  let v198 : BitVec 32 := Scalar.select v197 c1_i32_82 c0_i32_83
  let v199 : BitVec 32 := Scalar.addi v194 v198
  let v202 : BitVec 1 := Scalar.cmpi .slt v201 v3
  let c1_i32_84 : BitVec 32 := 1#32
  let c0_i32_85 : BitVec 32 := 0#32
  let v203 : BitVec 32 := Scalar.select v202 c1_i32_84 c0_i32_85
  let v204 : BitVec 32 := Scalar.addi v199 v203
  let v207 : BitVec 1 := Scalar.cmpi .slt v206 v3
  let c1_i32_86 : BitVec 32 := 1#32
  let c0_i32_87 : BitVec 32 := 0#32
  let v208 : BitVec 32 := Scalar.select v207 c1_i32_86 c0_i32_87
  let v209 : BitVec 32 := Scalar.addi v204 v208
  let v212 : BitVec 1 := Scalar.cmpi .slt v211 v3
  let c1_i32_88 : BitVec 32 := 1#32
  let c0_i32_89 : BitVec 32 := 0#32
  let v213 : BitVec 32 := Scalar.select v212 c1_i32_88 c0_i32_89
  let v214 : BitVec 32 := Scalar.addi v209 v213
  let v217 : BitVec 1 := Scalar.cmpi .slt v216 v3
  let c1_i32_90 : BitVec 32 := 1#32
  let c0_i32_91 : BitVec 32 := 0#32
  let v218 : BitVec 32 := Scalar.select v217 c1_i32_90 c0_i32_91
  let v219 : BitVec 32 := Scalar.addi v214 v218
  let v222 : BitVec 1 := Scalar.cmpi .slt v221 v3
  let c1_i32_92 : BitVec 32 := 1#32
  let c0_i32_93 : BitVec 32 := 0#32
  let v223 : BitVec 32 := Scalar.select v222 c1_i32_92 c0_i32_93
  let v224 : BitVec 32 := Scalar.addi v219 v223
  let v227 : BitVec 1 := Scalar.cmpi .slt v226 v3
  let c1_i32_94 : BitVec 32 := 1#32
  let c0_i32_95 : BitVec 32 := 0#32
  let v228 : BitVec 32 := Scalar.select v227 c1_i32_94 c0_i32_95
  let v229 : BitVec 32 := Scalar.addi v224 v228
  let v232 : BitVec 1 := Scalar.cmpi .slt v231 v3
  let c1_i32_96 : BitVec 32 := 1#32
  let c0_i32_97 : BitVec 32 := 0#32
  let v233 : BitVec 32 := Scalar.select v232 c1_i32_96 c0_i32_97
  let v234 : BitVec 32 := Scalar.addi v229 v233
  let v237 : BitVec 1 := Scalar.cmpi .slt v236 v3
  let c1_i32_98 : BitVec 32 := 1#32
  let c0_i32_99 : BitVec 32 := 0#32
  let v238 : BitVec 32 := Scalar.select v237 c1_i32_98 c0_i32_99
  let v239 : BitVec 32 := Scalar.addi v234 v238
  let v242 : BitVec 1 := Scalar.cmpi .slt v241 v3
  let c1_i32_100 : BitVec 32 := 1#32
  let c0_i32_101 : BitVec 32 := 0#32
  let v243 : BitVec 32 := Scalar.select v242 c1_i32_100 c0_i32_101
  let v244 : BitVec 32 := Scalar.addi v239 v243
  let v247 : BitVec 32 := Scalar.addi v246 v244
  let v248 : BitVec 32 := Scalar.select v245 c0_i32_104 v247
  let c64_i32_111 : BitVec 32 := 64#32
  let v266 : BitVec 32 := Scalar.addi v248 c64_i32_111
  let c1_i32_112 : BitVec 32 := 1#32
  let v267 : BitVec 32 := Scalar.subi v266 c1_i32_112
  let c0_i32_114 : BitVec 32 := 0#32
  let v269 : BitVec 1 := Scalar.cmpi .sgt v267 c0_i32_114
  let v270 : BitVec 32 := Scalar.extui v269
  let c0_i32_115 : BitVec 32 := 0#32
  let v271 : BitVec 1 := Scalar.cmpi .slt v267 c0_i32_115
  let v272 : BitVec 32 := Scalar.extui v271
  let v273 : BitVec 32 := Scalar.subi v270 v272
  let c64_i32_113 : BitVec 32 := 64#32
  let c0_i32_116 : BitVec 32 := 0#32
  let v274 : BitVec 1 := Scalar.cmpi .sgt c64_i32_113 c0_i32_116
  let v275 : BitVec 32 := Scalar.extui v274
  let c0_i32_117 : BitVec 32 := 0#32
  let v276 : BitVec 1 := Scalar.cmpi .slt c64_i32_113 c0_i32_117
  let v277 : BitVec 32 := Scalar.extui v276
  let v278 : BitVec 32 := Scalar.subi v275 v277
  let v279 : BitVec 1 := Scalar.cmpi .ne v273 v278
  let v280 : BitVec 32 := Scalar.remsi v267 c64_i32_113
  let c0_i32_118 : BitVec 32 := 0#32
  let v281 : BitVec 1 := Scalar.cmpi .ne v280 c0_i32_118
  let v282 : BitVec 1 := Scalar.andi v279 v281
  let v268 : BitVec 32 := Scalar.divsi v267 c64_i32_113
  let c1_i32_119 : BitVec 32 := 1#32
  let v283 : BitVec 32 := Scalar.subi v268 c1_i32_119
  let v284 : BitVec 32 := Scalar.select v282 v283 v268
  let c156_i32 : BitVec 32 := 156#32
  let v285 : BitVec 32 := Scalar.minsi v284 c156_i32
  let v336 : BitVec 1 := Scalar.cmpi .slt v335 v285
  let v337 : BitVec 32 := Scalar.extui v336
  let c0_i32_153 : BitVec 32 := 0#32
  let v338 : BitVec 1 := Scalar.cmpi .ne v337 c0_i32_153
  v338

def k0_off107 (i : grid0.Coords) (v66_0 : BitVec 32) (v74 : BitVec 32) (v79 : BitVec 32) (v84 : BitVec 32) (v89 : BitVec 32) (v94 : BitVec 32) (v99 : BitVec 32) (v104 : BitVec 32) (v109 : BitVec 32) (v114 : BitVec 32) (v119 : BitVec 32) (v124 : BitVec 32) (v129 : BitVec 32) (v134 : BitVec 32) (v139 : BitVec 32) (v144 : BitVec 32) (v149 : BitVec 32) (v158_0 : BitVec 32) (v166 : BitVec 32) (v171 : BitVec 32) (v176 : BitVec 32) (v181 : BitVec 32) (v186 : BitVec 32) (v191 : BitVec 32) (v196 : BitVec 32) (v201 : BitVec 32) (v206 : BitVec 32) (v211 : BitVec 32) (v216 : BitVec 32) (v221 : BitVec 32) (v226 : BitVec 32) (v231 : BitVec 32) (v236 : BitVec 32) (v241 : BitVec 32) (k0_t4 : Fin (k0_t4_loop i v66_0 v74 v79 v84 v89 v94 v99 v104 v109 v114 v119 v124 v129 v134 v139 v144 v149 v158_0 v166 v171 v176 v181 v186 v191 v196 v201 v206 v211 v216 v221 v226 v231 v236 v241).trips) : Fin 2 → Nat :=
  let c0_i32_57 : BitVec 32 := 0#32
  let v153 : BitVec 1 := Scalar.cmpi .eq v66_0 c0_i32_57
  let c0_i32_59 : BitVec 32 := 0#32
  let c1_i32_22 : BitVec 32 := 1#32
  let v67 : BitVec 32 := Scalar.subi v66_0 c1_i32_22
  let c0_i32_23 : BitVec 32 := 0#32
  let v68 : BitVec 32 := Scalar.maxsi v67 c0_i32_23
  let c16_i32_58 : BitVec 32 := 16#32
  let v154 : BitVec 32 := Scalar.muli v68 c16_i32_58
  let c0_i32_26 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let v75 : BitVec 1 := Scalar.cmpi .slt v74 v2
  let c1_i32_24 : BitVec 32 := 1#32
  let c0_i32_25 : BitVec 32 := 0#32
  let v76 : BitVec 32 := Scalar.select v75 c1_i32_24 c0_i32_25
  let v77 : BitVec 32 := Scalar.addi c0_i32_26 v76
  let v80 : BitVec 1 := Scalar.cmpi .slt v79 v2
  let c1_i32_27 : BitVec 32 := 1#32
  let c0_i32_28 : BitVec 32 := 0#32
  let v81 : BitVec 32 := Scalar.select v80 c1_i32_27 c0_i32_28
  let v82 : BitVec 32 := Scalar.addi v77 v81
  let v85 : BitVec 1 := Scalar.cmpi .slt v84 v2
  let c1_i32_29 : BitVec 32 := 1#32
  let c0_i32_30 : BitVec 32 := 0#32
  let v86 : BitVec 32 := Scalar.select v85 c1_i32_29 c0_i32_30
  let v87 : BitVec 32 := Scalar.addi v82 v86
  let v90 : BitVec 1 := Scalar.cmpi .slt v89 v2
  let c1_i32_31 : BitVec 32 := 1#32
  let c0_i32_32 : BitVec 32 := 0#32
  let v91 : BitVec 32 := Scalar.select v90 c1_i32_31 c0_i32_32
  let v92 : BitVec 32 := Scalar.addi v87 v91
  let v95 : BitVec 1 := Scalar.cmpi .slt v94 v2
  let c1_i32_33 : BitVec 32 := 1#32
  let c0_i32_34 : BitVec 32 := 0#32
  let v96 : BitVec 32 := Scalar.select v95 c1_i32_33 c0_i32_34
  let v97 : BitVec 32 := Scalar.addi v92 v96
  let v100 : BitVec 1 := Scalar.cmpi .slt v99 v2
  let c1_i32_35 : BitVec 32 := 1#32
  let c0_i32_36 : BitVec 32 := 0#32
  let v101 : BitVec 32 := Scalar.select v100 c1_i32_35 c0_i32_36
  let v102 : BitVec 32 := Scalar.addi v97 v101
  let v105 : BitVec 1 := Scalar.cmpi .slt v104 v2
  let c1_i32_37 : BitVec 32 := 1#32
  let c0_i32_38 : BitVec 32 := 0#32
  let v106 : BitVec 32 := Scalar.select v105 c1_i32_37 c0_i32_38
  let v107 : BitVec 32 := Scalar.addi v102 v106
  let v110 : BitVec 1 := Scalar.cmpi .slt v109 v2
  let c1_i32_39 : BitVec 32 := 1#32
  let c0_i32_40 : BitVec 32 := 0#32
  let v111 : BitVec 32 := Scalar.select v110 c1_i32_39 c0_i32_40
  let v112 : BitVec 32 := Scalar.addi v107 v111
  let v115 : BitVec 1 := Scalar.cmpi .slt v114 v2
  let c1_i32_41 : BitVec 32 := 1#32
  let c0_i32_42 : BitVec 32 := 0#32
  let v116 : BitVec 32 := Scalar.select v115 c1_i32_41 c0_i32_42
  let v117 : BitVec 32 := Scalar.addi v112 v116
  let v120 : BitVec 1 := Scalar.cmpi .slt v119 v2
  let c1_i32_43 : BitVec 32 := 1#32
  let c0_i32_44 : BitVec 32 := 0#32
  let v121 : BitVec 32 := Scalar.select v120 c1_i32_43 c0_i32_44
  let v122 : BitVec 32 := Scalar.addi v117 v121
  let v125 : BitVec 1 := Scalar.cmpi .slt v124 v2
  let c1_i32_45 : BitVec 32 := 1#32
  let c0_i32_46 : BitVec 32 := 0#32
  let v126 : BitVec 32 := Scalar.select v125 c1_i32_45 c0_i32_46
  let v127 : BitVec 32 := Scalar.addi v122 v126
  let v130 : BitVec 1 := Scalar.cmpi .slt v129 v2
  let c1_i32_47 : BitVec 32 := 1#32
  let c0_i32_48 : BitVec 32 := 0#32
  let v131 : BitVec 32 := Scalar.select v130 c1_i32_47 c0_i32_48
  let v132 : BitVec 32 := Scalar.addi v127 v131
  let v135 : BitVec 1 := Scalar.cmpi .slt v134 v2
  let c1_i32_49 : BitVec 32 := 1#32
  let c0_i32_50 : BitVec 32 := 0#32
  let v136 : BitVec 32 := Scalar.select v135 c1_i32_49 c0_i32_50
  let v137 : BitVec 32 := Scalar.addi v132 v136
  let v140 : BitVec 1 := Scalar.cmpi .slt v139 v2
  let c1_i32_51 : BitVec 32 := 1#32
  let c0_i32_52 : BitVec 32 := 0#32
  let v141 : BitVec 32 := Scalar.select v140 c1_i32_51 c0_i32_52
  let v142 : BitVec 32 := Scalar.addi v137 v141
  let v145 : BitVec 1 := Scalar.cmpi .slt v144 v2
  let c1_i32_53 : BitVec 32 := 1#32
  let c0_i32_54 : BitVec 32 := 0#32
  let v146 : BitVec 32 := Scalar.select v145 c1_i32_53 c0_i32_54
  let v147 : BitVec 32 := Scalar.addi v142 v146
  let v150 : BitVec 1 := Scalar.cmpi .slt v149 v2
  let c1_i32_55 : BitVec 32 := 1#32
  let c0_i32_56 : BitVec 32 := 0#32
  let v151 : BitVec 32 := Scalar.select v150 c1_i32_55 c0_i32_56
  let v152 : BitVec 32 := Scalar.addi v147 v151
  let v155 : BitVec 32 := Scalar.addi v154 v152
  let v156 : BitVec 32 := Scalar.select v153 c0_i32_59 v155
  let c0_i32_105 : BitVec 32 := 0#32
  let v250 : BitVec 1 := Scalar.cmpi .sgt v156 c0_i32_105
  let v251 : BitVec 32 := Scalar.extui v250
  let c0_i32_106 : BitVec 32 := 0#32
  let v252 : BitVec 1 := Scalar.cmpi .slt v156 c0_i32_106
  let v253 : BitVec 32 := Scalar.extui v252
  let v254 : BitVec 32 := Scalar.subi v251 v253
  let c64_i32 : BitVec 32 := 64#32
  let c0_i32_107 : BitVec 32 := 0#32
  let v255 : BitVec 1 := Scalar.cmpi .sgt c64_i32 c0_i32_107
  let v256 : BitVec 32 := Scalar.extui v255
  let c0_i32_108 : BitVec 32 := 0#32
  let v257 : BitVec 1 := Scalar.cmpi .slt c64_i32 c0_i32_108
  let v258 : BitVec 32 := Scalar.extui v257
  let v259 : BitVec 32 := Scalar.subi v256 v258
  let v260 : BitVec 1 := Scalar.cmpi .ne v254 v259
  let v261 : BitVec 32 := Scalar.remsi v156 c64_i32
  let c0_i32_109 : BitVec 32 := 0#32
  let v262 : BitVec 1 := Scalar.cmpi .ne v261 c0_i32_109
  let v263 : BitVec 1 := Scalar.andi v260 v262
  let v249 : BitVec 32 := Scalar.divsi v156 c64_i32
  let c1_i32_110 : BitVec 32 := 1#32
  let v264 : BitVec 32 := Scalar.subi v249 c1_i32_110
  let v265 : BitVec 32 := Scalar.select v263 v264 v249
  let c2_i32_139 : BitVec 32 := 2#32
  let c0_i32_134 : BitVec 32 := 0#32
  let c1_i32_136 : BitVec 32 := 1#32
  let arg13 : BitVec 32 := Scf.iv c0_i32_134 c1_i32_136 k0_t4
  let v320 : BitVec 32 := Scalar.muli c2_i32_139 arg13
  let v321 : BitVec 32 := Scalar.addi v265 v320
  let c1_i32_144 : BitVec 32 := 1#32
  let v330 : BitVec 32 := Scalar.addi v321 c1_i32_144
  let c64_i32_145 : BitVec 32 := 64#32
  let v331 : BitVec 32 := Scalar.muli v330 c64_i32_145
  let c0_i32_146 : BitVec 32 := 0#32
  ![v331.toNat, 0]
def k0_cond5 (i : grid0.Coords) (v66_0 : BitVec 32) (v74 : BitVec 32) (v79 : BitVec 32) (v84 : BitVec 32) (v89 : BitVec 32) (v94 : BitVec 32) (v99 : BitVec 32) (v104 : BitVec 32) (v109 : BitVec 32) (v114 : BitVec 32) (v119 : BitVec 32) (v124 : BitVec 32) (v129 : BitVec 32) (v134 : BitVec 32) (v139 : BitVec 32) (v144 : BitVec 32) (v149 : BitVec 32) (v158_0 : BitVec 32) (v166 : BitVec 32) (v171 : BitVec 32) (v176 : BitVec 32) (v181 : BitVec 32) (v186 : BitVec 32) (v191 : BitVec 32) (v196 : BitVec 32) (v201 : BitVec 32) (v206 : BitVec 32) (v211 : BitVec 32) (v216 : BitVec 32) (v221 : BitVec 32) (v226 : BitVec 32) (v231 : BitVec 32) (v236 : BitVec 32) (v241 : BitVec 32) (k0_t4 : Fin (k0_t4_loop i v66_0 v74 v79 v84 v89 v94 v99 v104 v109 v114 v119 v124 v129 v134 v139 v144 v149 v158_0 v166 v171 v176 v181 v186 v191 v196 v201 v206 v211 v216 v221 v226 v231 v236 v241).trips) : BitVec 1 :=
  let c0_i32_57 : BitVec 32 := 0#32
  let v153 : BitVec 1 := Scalar.cmpi .eq v66_0 c0_i32_57
  let c0_i32_59 : BitVec 32 := 0#32
  let c1_i32_22 : BitVec 32 := 1#32
  let v67 : BitVec 32 := Scalar.subi v66_0 c1_i32_22
  let c0_i32_23 : BitVec 32 := 0#32
  let v68 : BitVec 32 := Scalar.maxsi v67 c0_i32_23
  let c16_i32_58 : BitVec 32 := 16#32
  let v154 : BitVec 32 := Scalar.muli v68 c16_i32_58
  let c0_i32_26 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let v75 : BitVec 1 := Scalar.cmpi .slt v74 v2
  let c1_i32_24 : BitVec 32 := 1#32
  let c0_i32_25 : BitVec 32 := 0#32
  let v76 : BitVec 32 := Scalar.select v75 c1_i32_24 c0_i32_25
  let v77 : BitVec 32 := Scalar.addi c0_i32_26 v76
  let v80 : BitVec 1 := Scalar.cmpi .slt v79 v2
  let c1_i32_27 : BitVec 32 := 1#32
  let c0_i32_28 : BitVec 32 := 0#32
  let v81 : BitVec 32 := Scalar.select v80 c1_i32_27 c0_i32_28
  let v82 : BitVec 32 := Scalar.addi v77 v81
  let v85 : BitVec 1 := Scalar.cmpi .slt v84 v2
  let c1_i32_29 : BitVec 32 := 1#32
  let c0_i32_30 : BitVec 32 := 0#32
  let v86 : BitVec 32 := Scalar.select v85 c1_i32_29 c0_i32_30
  let v87 : BitVec 32 := Scalar.addi v82 v86
  let v90 : BitVec 1 := Scalar.cmpi .slt v89 v2
  let c1_i32_31 : BitVec 32 := 1#32
  let c0_i32_32 : BitVec 32 := 0#32
  let v91 : BitVec 32 := Scalar.select v90 c1_i32_31 c0_i32_32
  let v92 : BitVec 32 := Scalar.addi v87 v91
  let v95 : BitVec 1 := Scalar.cmpi .slt v94 v2
  let c1_i32_33 : BitVec 32 := 1#32
  let c0_i32_34 : BitVec 32 := 0#32
  let v96 : BitVec 32 := Scalar.select v95 c1_i32_33 c0_i32_34
  let v97 : BitVec 32 := Scalar.addi v92 v96
  let v100 : BitVec 1 := Scalar.cmpi .slt v99 v2
  let c1_i32_35 : BitVec 32 := 1#32
  let c0_i32_36 : BitVec 32 := 0#32
  let v101 : BitVec 32 := Scalar.select v100 c1_i32_35 c0_i32_36
  let v102 : BitVec 32 := Scalar.addi v97 v101
  let v105 : BitVec 1 := Scalar.cmpi .slt v104 v2
  let c1_i32_37 : BitVec 32 := 1#32
  let c0_i32_38 : BitVec 32 := 0#32
  let v106 : BitVec 32 := Scalar.select v105 c1_i32_37 c0_i32_38
  let v107 : BitVec 32 := Scalar.addi v102 v106
  let v110 : BitVec 1 := Scalar.cmpi .slt v109 v2
  let c1_i32_39 : BitVec 32 := 1#32
  let c0_i32_40 : BitVec 32 := 0#32
  let v111 : BitVec 32 := Scalar.select v110 c1_i32_39 c0_i32_40
  let v112 : BitVec 32 := Scalar.addi v107 v111
  let v115 : BitVec 1 := Scalar.cmpi .slt v114 v2
  let c1_i32_41 : BitVec 32 := 1#32
  let c0_i32_42 : BitVec 32 := 0#32
  let v116 : BitVec 32 := Scalar.select v115 c1_i32_41 c0_i32_42
  let v117 : BitVec 32 := Scalar.addi v112 v116
  let v120 : BitVec 1 := Scalar.cmpi .slt v119 v2
  let c1_i32_43 : BitVec 32 := 1#32
  let c0_i32_44 : BitVec 32 := 0#32
  let v121 : BitVec 32 := Scalar.select v120 c1_i32_43 c0_i32_44
  let v122 : BitVec 32 := Scalar.addi v117 v121
  let v125 : BitVec 1 := Scalar.cmpi .slt v124 v2
  let c1_i32_45 : BitVec 32 := 1#32
  let c0_i32_46 : BitVec 32 := 0#32
  let v126 : BitVec 32 := Scalar.select v125 c1_i32_45 c0_i32_46
  let v127 : BitVec 32 := Scalar.addi v122 v126
  let v130 : BitVec 1 := Scalar.cmpi .slt v129 v2
  let c1_i32_47 : BitVec 32 := 1#32
  let c0_i32_48 : BitVec 32 := 0#32
  let v131 : BitVec 32 := Scalar.select v130 c1_i32_47 c0_i32_48
  let v132 : BitVec 32 := Scalar.addi v127 v131
  let v135 : BitVec 1 := Scalar.cmpi .slt v134 v2
  let c1_i32_49 : BitVec 32 := 1#32
  let c0_i32_50 : BitVec 32 := 0#32
  let v136 : BitVec 32 := Scalar.select v135 c1_i32_49 c0_i32_50
  let v137 : BitVec 32 := Scalar.addi v132 v136
  let v140 : BitVec 1 := Scalar.cmpi .slt v139 v2
  let c1_i32_51 : BitVec 32 := 1#32
  let c0_i32_52 : BitVec 32 := 0#32
  let v141 : BitVec 32 := Scalar.select v140 c1_i32_51 c0_i32_52
  let v142 : BitVec 32 := Scalar.addi v137 v141
  let v145 : BitVec 1 := Scalar.cmpi .slt v144 v2
  let c1_i32_53 : BitVec 32 := 1#32
  let c0_i32_54 : BitVec 32 := 0#32
  let v146 : BitVec 32 := Scalar.select v145 c1_i32_53 c0_i32_54
  let v147 : BitVec 32 := Scalar.addi v142 v146
  let v150 : BitVec 1 := Scalar.cmpi .slt v149 v2
  let c1_i32_55 : BitVec 32 := 1#32
  let c0_i32_56 : BitVec 32 := 0#32
  let v151 : BitVec 32 := Scalar.select v150 c1_i32_55 c0_i32_56
  let v152 : BitVec 32 := Scalar.addi v147 v151
  let v155 : BitVec 32 := Scalar.addi v154 v152
  let v156 : BitVec 32 := Scalar.select v153 c0_i32_59 v155
  let c0_i32_105 : BitVec 32 := 0#32
  let v250 : BitVec 1 := Scalar.cmpi .sgt v156 c0_i32_105
  let v251 : BitVec 32 := Scalar.extui v250
  let c0_i32_106 : BitVec 32 := 0#32
  let v252 : BitVec 1 := Scalar.cmpi .slt v156 c0_i32_106
  let v253 : BitVec 32 := Scalar.extui v252
  let v254 : BitVec 32 := Scalar.subi v251 v253
  let c64_i32 : BitVec 32 := 64#32
  let c0_i32_107 : BitVec 32 := 0#32
  let v255 : BitVec 1 := Scalar.cmpi .sgt c64_i32 c0_i32_107
  let v256 : BitVec 32 := Scalar.extui v255
  let c0_i32_108 : BitVec 32 := 0#32
  let v257 : BitVec 1 := Scalar.cmpi .slt c64_i32 c0_i32_108
  let v258 : BitVec 32 := Scalar.extui v257
  let v259 : BitVec 32 := Scalar.subi v256 v258
  let v260 : BitVec 1 := Scalar.cmpi .ne v254 v259
  let v261 : BitVec 32 := Scalar.remsi v156 c64_i32
  let c0_i32_109 : BitVec 32 := 0#32
  let v262 : BitVec 1 := Scalar.cmpi .ne v261 c0_i32_109
  let v263 : BitVec 1 := Scalar.andi v260 v262
  let v249 : BitVec 32 := Scalar.divsi v156 c64_i32
  let c1_i32_110 : BitVec 32 := 1#32
  let v264 : BitVec 32 := Scalar.subi v249 c1_i32_110
  let v265 : BitVec 32 := Scalar.select v263 v264 v249
  let c2_i32_139 : BitVec 32 := 2#32
  let c0_i32_134 : BitVec 32 := 0#32
  let c1_i32_136 : BitVec 32 := 1#32
  let arg13 : BitVec 32 := Scf.iv c0_i32_134 c1_i32_136 k0_t4
  let v320 : BitVec 32 := Scalar.muli c2_i32_139 arg13
  let v321 : BitVec 32 := Scalar.addi v265 v320
  let c1_i32_142 : BitVec 32 := 1#32
  let v326 : BitVec 32 := Scalar.addi v321 c1_i32_142
  let c0_i32_102 : BitVec 32 := 0#32
  let v245 : BitVec 1 := Scalar.cmpi .eq v158_0 c0_i32_102
  let c0_i32_104 : BitVec 32 := 0#32
  let c1_i32_66 : BitVec 32 := 1#32
  let v159 : BitVec 32 := Scalar.subi v158_0 c1_i32_66
  let c0_i32_67 : BitVec 32 := 0#32
  let v160 : BitVec 32 := Scalar.maxsi v159 c0_i32_67
  let c16_i32_103 : BitVec 32 := 16#32
  let v246 : BitVec 32 := Scalar.muli v160 c16_i32_103
  let c0_i32_71 : BitVec 32 := 0#32
  let c32_i32_0 : BitVec 32 := 32#32
  let v3 : BitVec 32 := Scalar.addi v2 c32_i32_0
  let v167 : BitVec 1 := Scalar.cmpi .slt v166 v3
  let c1_i32_69 : BitVec 32 := 1#32
  let c0_i32_70 : BitVec 32 := 0#32
  let v168 : BitVec 32 := Scalar.select v167 c1_i32_69 c0_i32_70
  let v169 : BitVec 32 := Scalar.addi c0_i32_71 v168
  let v172 : BitVec 1 := Scalar.cmpi .slt v171 v3
  let c1_i32_72 : BitVec 32 := 1#32
  let c0_i32_73 : BitVec 32 := 0#32
  let v173 : BitVec 32 := Scalar.select v172 c1_i32_72 c0_i32_73
  let v174 : BitVec 32 := Scalar.addi v169 v173
  let v177 : BitVec 1 := Scalar.cmpi .slt v176 v3
  let c1_i32_74 : BitVec 32 := 1#32
  let c0_i32_75 : BitVec 32 := 0#32
  let v178 : BitVec 32 := Scalar.select v177 c1_i32_74 c0_i32_75
  let v179 : BitVec 32 := Scalar.addi v174 v178
  let v182 : BitVec 1 := Scalar.cmpi .slt v181 v3
  let c1_i32_76 : BitVec 32 := 1#32
  let c0_i32_77 : BitVec 32 := 0#32
  let v183 : BitVec 32 := Scalar.select v182 c1_i32_76 c0_i32_77
  let v184 : BitVec 32 := Scalar.addi v179 v183
  let v187 : BitVec 1 := Scalar.cmpi .slt v186 v3
  let c1_i32_78 : BitVec 32 := 1#32
  let c0_i32_79 : BitVec 32 := 0#32
  let v188 : BitVec 32 := Scalar.select v187 c1_i32_78 c0_i32_79
  let v189 : BitVec 32 := Scalar.addi v184 v188
  let v192 : BitVec 1 := Scalar.cmpi .slt v191 v3
  let c1_i32_80 : BitVec 32 := 1#32
  let c0_i32_81 : BitVec 32 := 0#32
  let v193 : BitVec 32 := Scalar.select v192 c1_i32_80 c0_i32_81
  let v194 : BitVec 32 := Scalar.addi v189 v193
  let v197 : BitVec 1 := Scalar.cmpi .slt v196 v3
  let c1_i32_82 : BitVec 32 := 1#32
  let c0_i32_83 : BitVec 32 := 0#32
  let v198 : BitVec 32 := Scalar.select v197 c1_i32_82 c0_i32_83
  let v199 : BitVec 32 := Scalar.addi v194 v198
  let v202 : BitVec 1 := Scalar.cmpi .slt v201 v3
  let c1_i32_84 : BitVec 32 := 1#32
  let c0_i32_85 : BitVec 32 := 0#32
  let v203 : BitVec 32 := Scalar.select v202 c1_i32_84 c0_i32_85
  let v204 : BitVec 32 := Scalar.addi v199 v203
  let v207 : BitVec 1 := Scalar.cmpi .slt v206 v3
  let c1_i32_86 : BitVec 32 := 1#32
  let c0_i32_87 : BitVec 32 := 0#32
  let v208 : BitVec 32 := Scalar.select v207 c1_i32_86 c0_i32_87
  let v209 : BitVec 32 := Scalar.addi v204 v208
  let v212 : BitVec 1 := Scalar.cmpi .slt v211 v3
  let c1_i32_88 : BitVec 32 := 1#32
  let c0_i32_89 : BitVec 32 := 0#32
  let v213 : BitVec 32 := Scalar.select v212 c1_i32_88 c0_i32_89
  let v214 : BitVec 32 := Scalar.addi v209 v213
  let v217 : BitVec 1 := Scalar.cmpi .slt v216 v3
  let c1_i32_90 : BitVec 32 := 1#32
  let c0_i32_91 : BitVec 32 := 0#32
  let v218 : BitVec 32 := Scalar.select v217 c1_i32_90 c0_i32_91
  let v219 : BitVec 32 := Scalar.addi v214 v218
  let v222 : BitVec 1 := Scalar.cmpi .slt v221 v3
  let c1_i32_92 : BitVec 32 := 1#32
  let c0_i32_93 : BitVec 32 := 0#32
  let v223 : BitVec 32 := Scalar.select v222 c1_i32_92 c0_i32_93
  let v224 : BitVec 32 := Scalar.addi v219 v223
  let v227 : BitVec 1 := Scalar.cmpi .slt v226 v3
  let c1_i32_94 : BitVec 32 := 1#32
  let c0_i32_95 : BitVec 32 := 0#32
  let v228 : BitVec 32 := Scalar.select v227 c1_i32_94 c0_i32_95
  let v229 : BitVec 32 := Scalar.addi v224 v228
  let v232 : BitVec 1 := Scalar.cmpi .slt v231 v3
  let c1_i32_96 : BitVec 32 := 1#32
  let c0_i32_97 : BitVec 32 := 0#32
  let v233 : BitVec 32 := Scalar.select v232 c1_i32_96 c0_i32_97
  let v234 : BitVec 32 := Scalar.addi v229 v233
  let v237 : BitVec 1 := Scalar.cmpi .slt v236 v3
  let c1_i32_98 : BitVec 32 := 1#32
  let c0_i32_99 : BitVec 32 := 0#32
  let v238 : BitVec 32 := Scalar.select v237 c1_i32_98 c0_i32_99
  let v239 : BitVec 32 := Scalar.addi v234 v238
  let v242 : BitVec 1 := Scalar.cmpi .slt v241 v3
  let c1_i32_100 : BitVec 32 := 1#32
  let c0_i32_101 : BitVec 32 := 0#32
  let v243 : BitVec 32 := Scalar.select v242 c1_i32_100 c0_i32_101
  let v244 : BitVec 32 := Scalar.addi v239 v243
  let v247 : BitVec 32 := Scalar.addi v246 v244
  let v248 : BitVec 32 := Scalar.select v245 c0_i32_104 v247
  let c64_i32_111 : BitVec 32 := 64#32
  let v266 : BitVec 32 := Scalar.addi v248 c64_i32_111
  let c1_i32_112 : BitVec 32 := 1#32
  let v267 : BitVec 32 := Scalar.subi v266 c1_i32_112
  let c0_i32_114 : BitVec 32 := 0#32
  let v269 : BitVec 1 := Scalar.cmpi .sgt v267 c0_i32_114
  let v270 : BitVec 32 := Scalar.extui v269
  let c0_i32_115 : BitVec 32 := 0#32
  let v271 : BitVec 1 := Scalar.cmpi .slt v267 c0_i32_115
  let v272 : BitVec 32 := Scalar.extui v271
  let v273 : BitVec 32 := Scalar.subi v270 v272
  let c64_i32_113 : BitVec 32 := 64#32
  let c0_i32_116 : BitVec 32 := 0#32
  let v274 : BitVec 1 := Scalar.cmpi .sgt c64_i32_113 c0_i32_116
  let v275 : BitVec 32 := Scalar.extui v274
  let c0_i32_117 : BitVec 32 := 0#32
  let v276 : BitVec 1 := Scalar.cmpi .slt c64_i32_113 c0_i32_117
  let v277 : BitVec 32 := Scalar.extui v276
  let v278 : BitVec 32 := Scalar.subi v275 v277
  let v279 : BitVec 1 := Scalar.cmpi .ne v273 v278
  let v280 : BitVec 32 := Scalar.remsi v267 c64_i32_113
  let c0_i32_118 : BitVec 32 := 0#32
  let v281 : BitVec 1 := Scalar.cmpi .ne v280 c0_i32_118
  let v282 : BitVec 1 := Scalar.andi v279 v281
  let v268 : BitVec 32 := Scalar.divsi v267 c64_i32_113
  let c1_i32_119 : BitVec 32 := 1#32
  let v283 : BitVec 32 := Scalar.subi v268 c1_i32_119
  let v284 : BitVec 32 := Scalar.select v282 v283 v268
  let c156_i32 : BitVec 32 := 156#32
  let v285 : BitVec 32 := Scalar.minsi v284 c156_i32
  let v327 : BitVec 1 := Scalar.cmpi .slt v326 v285
  let v328 : BitVec 32 := Scalar.extui v327
  let c0_i32_143 : BitVec 32 := 0#32
  let v329 : BitVec 1 := Scalar.cmpi .ne v328 c0_i32_143
  v329

@[reducible] def k0_t22_loop : Scf.Loop 32 :=
  let c0_i32_149 : BitVec 32 := 0#32
  let c4_i32 : BitVec 32 := 4#32
  let v334 : BitVec 32 := Scalar.addi c0_i32_149 c4_i32
  let c1_i32_150 : BitVec 32 := 1#32
  ⟨c0_i32_149, v334, c1_i32_150⟩
def k0_off108 (i : grid0.Coords) (v66_0 : BitVec 32) (v74 : BitVec 32) (v79 : BitVec 32) (v84 : BitVec 32) (v89 : BitVec 32) (v94 : BitVec 32) (v99 : BitVec 32) (v104 : BitVec 32) (v109 : BitVec 32) (v114 : BitVec 32) (v119 : BitVec 32) (v124 : BitVec 32) (v129 : BitVec 32) (v134 : BitVec 32) (v139 : BitVec 32) (v144 : BitVec 32) (v149 : BitVec 32) (v158_0 : BitVec 32) (v166 : BitVec 32) (v171 : BitVec 32) (v176 : BitVec 32) (v181 : BitVec 32) (v186 : BitVec 32) (v191 : BitVec 32) (v196 : BitVec 32) (v201 : BitVec 32) (v206 : BitVec 32) (v211 : BitVec 32) (v216 : BitVec 32) (v221 : BitVec 32) (v226 : BitVec 32) (v231 : BitVec 32) (v236 : BitVec 32) (v241 : BitVec 32) (k0_t4 : Fin (k0_t4_loop i v66_0 v74 v79 v84 v89 v94 v99 v104 v109 v114 v119 v124 v129 v134 v139 v144 v149 v158_0 v166 v171 v176 v181 v186 v191 v196 v201 v206 v211 v216 v221 v226 v231 v236 v241).trips) (k0_t22 : Fin k0_t22_loop.trips) : Fin 1 → Nat :=
  let c0_i32_57 : BitVec 32 := 0#32
  let v153 : BitVec 1 := Scalar.cmpi .eq v66_0 c0_i32_57
  let c0_i32_59 : BitVec 32 := 0#32
  let c1_i32_22 : BitVec 32 := 1#32
  let v67 : BitVec 32 := Scalar.subi v66_0 c1_i32_22
  let c0_i32_23 : BitVec 32 := 0#32
  let v68 : BitVec 32 := Scalar.maxsi v67 c0_i32_23
  let c16_i32_58 : BitVec 32 := 16#32
  let v154 : BitVec 32 := Scalar.muli v68 c16_i32_58
  let c0_i32_26 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let v75 : BitVec 1 := Scalar.cmpi .slt v74 v2
  let c1_i32_24 : BitVec 32 := 1#32
  let c0_i32_25 : BitVec 32 := 0#32
  let v76 : BitVec 32 := Scalar.select v75 c1_i32_24 c0_i32_25
  let v77 : BitVec 32 := Scalar.addi c0_i32_26 v76
  let v80 : BitVec 1 := Scalar.cmpi .slt v79 v2
  let c1_i32_27 : BitVec 32 := 1#32
  let c0_i32_28 : BitVec 32 := 0#32
  let v81 : BitVec 32 := Scalar.select v80 c1_i32_27 c0_i32_28
  let v82 : BitVec 32 := Scalar.addi v77 v81
  let v85 : BitVec 1 := Scalar.cmpi .slt v84 v2
  let c1_i32_29 : BitVec 32 := 1#32
  let c0_i32_30 : BitVec 32 := 0#32
  let v86 : BitVec 32 := Scalar.select v85 c1_i32_29 c0_i32_30
  let v87 : BitVec 32 := Scalar.addi v82 v86
  let v90 : BitVec 1 := Scalar.cmpi .slt v89 v2
  let c1_i32_31 : BitVec 32 := 1#32
  let c0_i32_32 : BitVec 32 := 0#32
  let v91 : BitVec 32 := Scalar.select v90 c1_i32_31 c0_i32_32
  let v92 : BitVec 32 := Scalar.addi v87 v91
  let v95 : BitVec 1 := Scalar.cmpi .slt v94 v2
  let c1_i32_33 : BitVec 32 := 1#32
  let c0_i32_34 : BitVec 32 := 0#32
  let v96 : BitVec 32 := Scalar.select v95 c1_i32_33 c0_i32_34
  let v97 : BitVec 32 := Scalar.addi v92 v96
  let v100 : BitVec 1 := Scalar.cmpi .slt v99 v2
  let c1_i32_35 : BitVec 32 := 1#32
  let c0_i32_36 : BitVec 32 := 0#32
  let v101 : BitVec 32 := Scalar.select v100 c1_i32_35 c0_i32_36
  let v102 : BitVec 32 := Scalar.addi v97 v101
  let v105 : BitVec 1 := Scalar.cmpi .slt v104 v2
  let c1_i32_37 : BitVec 32 := 1#32
  let c0_i32_38 : BitVec 32 := 0#32
  let v106 : BitVec 32 := Scalar.select v105 c1_i32_37 c0_i32_38
  let v107 : BitVec 32 := Scalar.addi v102 v106
  let v110 : BitVec 1 := Scalar.cmpi .slt v109 v2
  let c1_i32_39 : BitVec 32 := 1#32
  let c0_i32_40 : BitVec 32 := 0#32
  let v111 : BitVec 32 := Scalar.select v110 c1_i32_39 c0_i32_40
  let v112 : BitVec 32 := Scalar.addi v107 v111
  let v115 : BitVec 1 := Scalar.cmpi .slt v114 v2
  let c1_i32_41 : BitVec 32 := 1#32
  let c0_i32_42 : BitVec 32 := 0#32
  let v116 : BitVec 32 := Scalar.select v115 c1_i32_41 c0_i32_42
  let v117 : BitVec 32 := Scalar.addi v112 v116
  let v120 : BitVec 1 := Scalar.cmpi .slt v119 v2
  let c1_i32_43 : BitVec 32 := 1#32
  let c0_i32_44 : BitVec 32 := 0#32
  let v121 : BitVec 32 := Scalar.select v120 c1_i32_43 c0_i32_44
  let v122 : BitVec 32 := Scalar.addi v117 v121
  let v125 : BitVec 1 := Scalar.cmpi .slt v124 v2
  let c1_i32_45 : BitVec 32 := 1#32
  let c0_i32_46 : BitVec 32 := 0#32
  let v126 : BitVec 32 := Scalar.select v125 c1_i32_45 c0_i32_46
  let v127 : BitVec 32 := Scalar.addi v122 v126
  let v130 : BitVec 1 := Scalar.cmpi .slt v129 v2
  let c1_i32_47 : BitVec 32 := 1#32
  let c0_i32_48 : BitVec 32 := 0#32
  let v131 : BitVec 32 := Scalar.select v130 c1_i32_47 c0_i32_48
  let v132 : BitVec 32 := Scalar.addi v127 v131
  let v135 : BitVec 1 := Scalar.cmpi .slt v134 v2
  let c1_i32_49 : BitVec 32 := 1#32
  let c0_i32_50 : BitVec 32 := 0#32
  let v136 : BitVec 32 := Scalar.select v135 c1_i32_49 c0_i32_50
  let v137 : BitVec 32 := Scalar.addi v132 v136
  let v140 : BitVec 1 := Scalar.cmpi .slt v139 v2
  let c1_i32_51 : BitVec 32 := 1#32
  let c0_i32_52 : BitVec 32 := 0#32
  let v141 : BitVec 32 := Scalar.select v140 c1_i32_51 c0_i32_52
  let v142 : BitVec 32 := Scalar.addi v137 v141
  let v145 : BitVec 1 := Scalar.cmpi .slt v144 v2
  let c1_i32_53 : BitVec 32 := 1#32
  let c0_i32_54 : BitVec 32 := 0#32
  let v146 : BitVec 32 := Scalar.select v145 c1_i32_53 c0_i32_54
  let v147 : BitVec 32 := Scalar.addi v142 v146
  let v150 : BitVec 1 := Scalar.cmpi .slt v149 v2
  let c1_i32_55 : BitVec 32 := 1#32
  let c0_i32_56 : BitVec 32 := 0#32
  let v151 : BitVec 32 := Scalar.select v150 c1_i32_55 c0_i32_56
  let v152 : BitVec 32 := Scalar.addi v147 v151
  let v155 : BitVec 32 := Scalar.addi v154 v152
  let v156 : BitVec 32 := Scalar.select v153 c0_i32_59 v155
  let c0_i32_105 : BitVec 32 := 0#32
  let v250 : BitVec 1 := Scalar.cmpi .sgt v156 c0_i32_105
  let v251 : BitVec 32 := Scalar.extui v250
  let c0_i32_106 : BitVec 32 := 0#32
  let v252 : BitVec 1 := Scalar.cmpi .slt v156 c0_i32_106
  let v253 : BitVec 32 := Scalar.extui v252
  let v254 : BitVec 32 := Scalar.subi v251 v253
  let c64_i32 : BitVec 32 := 64#32
  let c0_i32_107 : BitVec 32 := 0#32
  let v255 : BitVec 1 := Scalar.cmpi .sgt c64_i32 c0_i32_107
  let v256 : BitVec 32 := Scalar.extui v255
  let c0_i32_108 : BitVec 32 := 0#32
  let v257 : BitVec 1 := Scalar.cmpi .slt c64_i32 c0_i32_108
  let v258 : BitVec 32 := Scalar.extui v257
  let v259 : BitVec 32 := Scalar.subi v256 v258
  let v260 : BitVec 1 := Scalar.cmpi .ne v254 v259
  let v261 : BitVec 32 := Scalar.remsi v156 c64_i32
  let c0_i32_109 : BitVec 32 := 0#32
  let v262 : BitVec 1 := Scalar.cmpi .ne v261 c0_i32_109
  let v263 : BitVec 1 := Scalar.andi v260 v262
  let v249 : BitVec 32 := Scalar.divsi v156 c64_i32
  let c1_i32_110 : BitVec 32 := 1#32
  let v264 : BitVec 32 := Scalar.subi v249 c1_i32_110
  let v265 : BitVec 32 := Scalar.select v263 v264 v249
  let c2_i32_139 : BitVec 32 := 2#32
  let c0_i32_134 : BitVec 32 := 0#32
  let c1_i32_136 : BitVec 32 := 1#32
  let arg13 : BitVec 32 := Scf.iv c0_i32_134 c1_i32_136 k0_t4
  let v320 : BitVec 32 := Scalar.muli c2_i32_139 arg13
  let v321 : BitVec 32 := Scalar.addi v265 v320
  let c1_i32_144 : BitVec 32 := 1#32
  let v330 : BitVec 32 := Scalar.addi v321 c1_i32_144
  let c64_i32_154 : BitVec 32 := 64#32
  let v339 : BitVec 32 := Scalar.muli v330 c64_i32_154
  let c0_i32_149 : BitVec 32 := 0#32
  let c1_i32_150 : BitVec 32 := 1#32
  let arg14 : BitVec 32 := Scf.iv c0_i32_149 c1_i32_150 k0_t22
  let c16_i32_155 : BitVec 32 := 16#32
  let v340 : BitVec 32 := Scalar.muli arg14 c16_i32_155
  let v341 : BitVec 32 := Scalar.addi v339 v340
  let v343 : Index := Scalar.indexCast v341
  ![v343.toNat]
def k0_off109 (i : grid0.Coords) (v66_0 : BitVec 32) (v74 : BitVec 32) (v79 : BitVec 32) (v84 : BitVec 32) (v89 : BitVec 32) (v94 : BitVec 32) (v99 : BitVec 32) (v104 : BitVec 32) (v109 : BitVec 32) (v114 : BitVec 32) (v119 : BitVec 32) (v124 : BitVec 32) (v129 : BitVec 32) (v134 : BitVec 32) (v139 : BitVec 32) (v144 : BitVec 32) (v149 : BitVec 32) (v158_0 : BitVec 32) (v166 : BitVec 32) (v171 : BitVec 32) (v176 : BitVec 32) (v181 : BitVec 32) (v186 : BitVec 32) (v191 : BitVec 32) (v196 : BitVec 32) (v201 : BitVec 32) (v206 : BitVec 32) (v211 : BitVec 32) (v216 : BitVec 32) (v221 : BitVec 32) (v226 : BitVec 32) (v231 : BitVec 32) (v236 : BitVec 32) (v241 : BitVec 32) (k0_t4 : Fin (k0_t4_loop i v66_0 v74 v79 v84 v89 v94 v99 v104 v109 v114 v119 v124 v129 v134 v139 v144 v149 v158_0 v166 v171 v176 v181 v186 v191 v196 v201 v206 v211 v216 v221 v226 v231 v236 v241).trips) (k0_t22 : Fin k0_t22_loop.trips) : Fin 1 → Nat :=
  let c0_i32_57 : BitVec 32 := 0#32
  let v153 : BitVec 1 := Scalar.cmpi .eq v66_0 c0_i32_57
  let c0_i32_59 : BitVec 32 := 0#32
  let c1_i32_22 : BitVec 32 := 1#32
  let v67 : BitVec 32 := Scalar.subi v66_0 c1_i32_22
  let c0_i32_23 : BitVec 32 := 0#32
  let v68 : BitVec 32 := Scalar.maxsi v67 c0_i32_23
  let c16_i32_58 : BitVec 32 := 16#32
  let v154 : BitVec 32 := Scalar.muli v68 c16_i32_58
  let c0_i32_26 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let v75 : BitVec 1 := Scalar.cmpi .slt v74 v2
  let c1_i32_24 : BitVec 32 := 1#32
  let c0_i32_25 : BitVec 32 := 0#32
  let v76 : BitVec 32 := Scalar.select v75 c1_i32_24 c0_i32_25
  let v77 : BitVec 32 := Scalar.addi c0_i32_26 v76
  let v80 : BitVec 1 := Scalar.cmpi .slt v79 v2
  let c1_i32_27 : BitVec 32 := 1#32
  let c0_i32_28 : BitVec 32 := 0#32
  let v81 : BitVec 32 := Scalar.select v80 c1_i32_27 c0_i32_28
  let v82 : BitVec 32 := Scalar.addi v77 v81
  let v85 : BitVec 1 := Scalar.cmpi .slt v84 v2
  let c1_i32_29 : BitVec 32 := 1#32
  let c0_i32_30 : BitVec 32 := 0#32
  let v86 : BitVec 32 := Scalar.select v85 c1_i32_29 c0_i32_30
  let v87 : BitVec 32 := Scalar.addi v82 v86
  let v90 : BitVec 1 := Scalar.cmpi .slt v89 v2
  let c1_i32_31 : BitVec 32 := 1#32
  let c0_i32_32 : BitVec 32 := 0#32
  let v91 : BitVec 32 := Scalar.select v90 c1_i32_31 c0_i32_32
  let v92 : BitVec 32 := Scalar.addi v87 v91
  let v95 : BitVec 1 := Scalar.cmpi .slt v94 v2
  let c1_i32_33 : BitVec 32 := 1#32
  let c0_i32_34 : BitVec 32 := 0#32
  let v96 : BitVec 32 := Scalar.select v95 c1_i32_33 c0_i32_34
  let v97 : BitVec 32 := Scalar.addi v92 v96
  let v100 : BitVec 1 := Scalar.cmpi .slt v99 v2
  let c1_i32_35 : BitVec 32 := 1#32
  let c0_i32_36 : BitVec 32 := 0#32
  let v101 : BitVec 32 := Scalar.select v100 c1_i32_35 c0_i32_36
  let v102 : BitVec 32 := Scalar.addi v97 v101
  let v105 : BitVec 1 := Scalar.cmpi .slt v104 v2
  let c1_i32_37 : BitVec 32 := 1#32
  let c0_i32_38 : BitVec 32 := 0#32
  let v106 : BitVec 32 := Scalar.select v105 c1_i32_37 c0_i32_38
  let v107 : BitVec 32 := Scalar.addi v102 v106
  let v110 : BitVec 1 := Scalar.cmpi .slt v109 v2
  let c1_i32_39 : BitVec 32 := 1#32
  let c0_i32_40 : BitVec 32 := 0#32
  let v111 : BitVec 32 := Scalar.select v110 c1_i32_39 c0_i32_40
  let v112 : BitVec 32 := Scalar.addi v107 v111
  let v115 : BitVec 1 := Scalar.cmpi .slt v114 v2
  let c1_i32_41 : BitVec 32 := 1#32
  let c0_i32_42 : BitVec 32 := 0#32
  let v116 : BitVec 32 := Scalar.select v115 c1_i32_41 c0_i32_42
  let v117 : BitVec 32 := Scalar.addi v112 v116
  let v120 : BitVec 1 := Scalar.cmpi .slt v119 v2
  let c1_i32_43 : BitVec 32 := 1#32
  let c0_i32_44 : BitVec 32 := 0#32
  let v121 : BitVec 32 := Scalar.select v120 c1_i32_43 c0_i32_44
  let v122 : BitVec 32 := Scalar.addi v117 v121
  let v125 : BitVec 1 := Scalar.cmpi .slt v124 v2
  let c1_i32_45 : BitVec 32 := 1#32
  let c0_i32_46 : BitVec 32 := 0#32
  let v126 : BitVec 32 := Scalar.select v125 c1_i32_45 c0_i32_46
  let v127 : BitVec 32 := Scalar.addi v122 v126
  let v130 : BitVec 1 := Scalar.cmpi .slt v129 v2
  let c1_i32_47 : BitVec 32 := 1#32
  let c0_i32_48 : BitVec 32 := 0#32
  let v131 : BitVec 32 := Scalar.select v130 c1_i32_47 c0_i32_48
  let v132 : BitVec 32 := Scalar.addi v127 v131
  let v135 : BitVec 1 := Scalar.cmpi .slt v134 v2
  let c1_i32_49 : BitVec 32 := 1#32
  let c0_i32_50 : BitVec 32 := 0#32
  let v136 : BitVec 32 := Scalar.select v135 c1_i32_49 c0_i32_50
  let v137 : BitVec 32 := Scalar.addi v132 v136
  let v140 : BitVec 1 := Scalar.cmpi .slt v139 v2
  let c1_i32_51 : BitVec 32 := 1#32
  let c0_i32_52 : BitVec 32 := 0#32
  let v141 : BitVec 32 := Scalar.select v140 c1_i32_51 c0_i32_52
  let v142 : BitVec 32 := Scalar.addi v137 v141
  let v145 : BitVec 1 := Scalar.cmpi .slt v144 v2
  let c1_i32_53 : BitVec 32 := 1#32
  let c0_i32_54 : BitVec 32 := 0#32
  let v146 : BitVec 32 := Scalar.select v145 c1_i32_53 c0_i32_54
  let v147 : BitVec 32 := Scalar.addi v142 v146
  let v150 : BitVec 1 := Scalar.cmpi .slt v149 v2
  let c1_i32_55 : BitVec 32 := 1#32
  let c0_i32_56 : BitVec 32 := 0#32
  let v151 : BitVec 32 := Scalar.select v150 c1_i32_55 c0_i32_56
  let v152 : BitVec 32 := Scalar.addi v147 v151
  let v155 : BitVec 32 := Scalar.addi v154 v152
  let v156 : BitVec 32 := Scalar.select v153 c0_i32_59 v155
  let c0_i32_105 : BitVec 32 := 0#32
  let v250 : BitVec 1 := Scalar.cmpi .sgt v156 c0_i32_105
  let v251 : BitVec 32 := Scalar.extui v250
  let c0_i32_106 : BitVec 32 := 0#32
  let v252 : BitVec 1 := Scalar.cmpi .slt v156 c0_i32_106
  let v253 : BitVec 32 := Scalar.extui v252
  let v254 : BitVec 32 := Scalar.subi v251 v253
  let c64_i32 : BitVec 32 := 64#32
  let c0_i32_107 : BitVec 32 := 0#32
  let v255 : BitVec 1 := Scalar.cmpi .sgt c64_i32 c0_i32_107
  let v256 : BitVec 32 := Scalar.extui v255
  let c0_i32_108 : BitVec 32 := 0#32
  let v257 : BitVec 1 := Scalar.cmpi .slt c64_i32 c0_i32_108
  let v258 : BitVec 32 := Scalar.extui v257
  let v259 : BitVec 32 := Scalar.subi v256 v258
  let v260 : BitVec 1 := Scalar.cmpi .ne v254 v259
  let v261 : BitVec 32 := Scalar.remsi v156 c64_i32
  let c0_i32_109 : BitVec 32 := 0#32
  let v262 : BitVec 1 := Scalar.cmpi .ne v261 c0_i32_109
  let v263 : BitVec 1 := Scalar.andi v260 v262
  let v249 : BitVec 32 := Scalar.divsi v156 c64_i32
  let c1_i32_110 : BitVec 32 := 1#32
  let v264 : BitVec 32 := Scalar.subi v249 c1_i32_110
  let v265 : BitVec 32 := Scalar.select v263 v264 v249
  let c2_i32_139 : BitVec 32 := 2#32
  let c0_i32_134 : BitVec 32 := 0#32
  let c1_i32_136 : BitVec 32 := 1#32
  let arg13 : BitVec 32 := Scf.iv c0_i32_134 c1_i32_136 k0_t4
  let v320 : BitVec 32 := Scalar.muli c2_i32_139 arg13
  let v321 : BitVec 32 := Scalar.addi v265 v320
  let c1_i32_144 : BitVec 32 := 1#32
  let v330 : BitVec 32 := Scalar.addi v321 c1_i32_144
  let c64_i32_154 : BitVec 32 := 64#32
  let v339 : BitVec 32 := Scalar.muli v330 c64_i32_154
  let c0_i32_149 : BitVec 32 := 0#32
  let c1_i32_150 : BitVec 32 := 1#32
  let arg14 : BitVec 32 := Scf.iv c0_i32_149 c1_i32_150 k0_t22
  let c16_i32_155 : BitVec 32 := 16#32
  let v340 : BitVec 32 := Scalar.muli arg14 c16_i32_155
  let v341 : BitVec 32 := Scalar.addi v339 v340
  let v346 : Index := Scalar.indexCast v341
  ![v346.toNat]
def k0_off110 (k0_t22 : Fin k0_t22_loop.trips) : Fin 2 → Nat :=
  let c0_i32_149 : BitVec 32 := 0#32
  let c1_i32_150 : BitVec 32 := 1#32
  let arg14 : BitVec 32 := Scf.iv c0_i32_149 c1_i32_150 k0_t22
  let c16_i32_156 : BitVec 32 := 16#32
  let v342 : BitVec 32 := Scalar.muli arg14 c16_i32_156
  let c0_i32_158 : BitVec 32 := 0#32
  let v367 : BitVec 32 := Scalar.addi v342 c0_i32_158
  let v368 : Index := Scalar.indexCast v367
  let c0 : Index := 0#32
  ![v368.toNat, 0]
@[reducible] def k0_t23_loop : Scf.Loop 32 :=
  let c1_i32_159 : BitVec 32 := 1#32
  let c31_i32_160 : BitVec 32 := 31#32
  let v373 : BitVec 32 := Scalar.addi c1_i32_159 c31_i32_160
  let c1_i32_161 : BitVec 32 := 1#32
  ⟨c1_i32_159, v373, c1_i32_161⟩
def k0_off111 (k0_t22 : Fin k0_t22_loop.trips) (k0_t23 : Fin k0_t23_loop.trips) : Fin 2 → Nat :=
  let c0_i32_149 : BitVec 32 := 0#32
  let c1_i32_150 : BitVec 32 := 1#32
  let arg14 : BitVec 32 := Scf.iv c0_i32_149 c1_i32_150 k0_t22
  let c16_i32_156 : BitVec 32 := 16#32
  let v342 : BitVec 32 := Scalar.muli arg14 c16_i32_156
  let c0_i32_158 : BitVec 32 := 0#32
  let v367 : BitVec 32 := Scalar.addi v342 c0_i32_158
  let v684 : Index := Scalar.indexCast v367
  let c1_i32_159 : BitVec 32 := 1#32
  let c1_i32_161 : BitVec 32 := 1#32
  let arg15 : BitVec 32 := Scf.iv c1_i32_159 c1_i32_161 k0_t23
  let c16_i32_273 : BitVec 32 := 16#32
  let v683 : BitVec 32 := Scalar.muli arg15 c16_i32_273
  let v685 : Index := Scalar.indexCast v683
  ![v684.toNat, v685.toNat]
def k0_off112 (v366 : BitVec 32) (k0_t23 : Fin k0_t23_loop.trips) : Fin 2 → Nat :=
  let v692 : Index := Scalar.indexCast v366
  let c1_i32_159 : BitVec 32 := 1#32
  let c1_i32_161 : BitVec 32 := 1#32
  let arg15 : BitVec 32 := Scf.iv c1_i32_159 c1_i32_161 k0_t23
  let c1_i32_274 : BitVec 32 := 1#32
  let v690 : BitVec 32 := Scalar.subi arg15 c1_i32_274
  let c16_i32_275 : BitVec 32 := 16#32
  let v691 : BitVec 32 := Scalar.muli v690 c16_i32_275
  let v693 : Index := Scalar.indexCast v691
  ![v692.toNat, v693.toNat]

def k0_off113 (v366 : BitVec 32) : Fin 2 → Nat :=
  let v375 : Index := Scalar.indexCast v366
  let c496 : Index := 496#32
  ![v375.toNat, 496]

def k0_chk22 (i : grid0.Coords) (v66_0 : BitVec 32) (v74 : BitVec 32) (v79 : BitVec 32) (v84 : BitVec 32) (v89 : BitVec 32) (v94 : BitVec 32) (v99 : BitVec 32) (v104 : BitVec 32) (v109 : BitVec 32) (v114 : BitVec 32) (v119 : BitVec 32) (v124 : BitVec 32) (v129 : BitVec 32) (v134 : BitVec 32) (v139 : BitVec 32) (v144 : BitVec 32) (v149 : BitVec 32) (v158_0 : BitVec 32) (v166 : BitVec 32) (v171 : BitVec 32) (v176 : BitVec 32) (v181 : BitVec 32) (v186 : BitVec 32) (v191 : BitVec 32) (v196 : BitVec 32) (v201 : BitVec 32) (v206 : BitVec 32) (v211 : BitVec 32) (v216 : BitVec 32) (v221 : BitVec 32) (v226 : BitVec 32) (v231 : BitVec 32) (v236 : BitVec 32) (v241 : BitVec 32) (k0_t4 : Fin (k0_t4_loop i v66_0 v74 v79 v84 v89 v94 v99 v104 v109 v114 v119 v124 v129 v134 v139 v144 v149 v158_0 v166 v171 v176 v181 v186 v191 v196 v201 v206 v211 v216 v221 v226 v231 v236 v241).trips) (v366 : BitVec 32) : Prop :=
  (∀ k0_t23 : Fin k0_t23_loop.trips, ∀ (k0_h5 : k0_cond5 i v66_0 v74 v79 v84 v89 v94 v99 v104 v109 v114 v119 v124 v129 v134 v139 v144 v149 v158_0 v166 v171 v176 v181 v186 v191 v196 v201 v206 v211 v216 v221 v226 v231 v236 v241 k0_t4 = 1#1), ∀ a, (k0_off112 v366 k0_t23) a + S1x16.size a ≤ S32x512.size a) ∧
  (∀ (k0_h5 : k0_cond5 i v66_0 v74 v79 v84 v89 v94 v99 v104 v109 v114 v119 v124 v129 v134 v139 v144 v149 v158_0 v166 v171 v176 v181 v186 v191 v196 v201 v206 v211 v216 v221 v226 v231 v236 v241 k0_t4 = 1#1), ∀ a, (k0_off113 v366) a + S1x16.size a ≤ S32x512.size a)
theorem k0_off112_inb : ∀ (i : grid0.Coords) (v66_0 : BitVec 32) (v74 : BitVec 32) (v79 : BitVec 32) (v84 : BitVec 32) (v89 : BitVec 32) (v94 : BitVec 32) (v99 : BitVec 32) (v104 : BitVec 32) (v109 : BitVec 32) (v114 : BitVec 32) (v119 : BitVec 32) (v124 : BitVec 32) (v129 : BitVec 32) (v134 : BitVec 32) (v139 : BitVec 32) (v144 : BitVec 32) (v149 : BitVec 32) (v158_0 : BitVec 32) (v166 : BitVec 32) (v171 : BitVec 32) (v176 : BitVec 32) (v181 : BitVec 32) (v186 : BitVec 32) (v191 : BitVec 32) (v196 : BitVec 32) (v201 : BitVec 32) (v206 : BitVec 32) (v211 : BitVec 32) (v216 : BitVec 32) (v221 : BitVec 32) (v226 : BitVec 32) (v231 : BitVec 32) (v236 : BitVec 32) (v241 : BitVec 32) (k0_t4 : Fin (k0_t4_loop i v66_0 v74 v79 v84 v89 v94 v99 v104 v109 v114 v119 v124 v129 v134 v139 v144 v149 v158_0 v166 v171 v176 v181 v186 v191 v196 v201 v206 v211 v216 v221 v226 v231 v236 v241).trips) (v366 : BitVec 32) (k0_hw22 : k0_chk22 i v66_0 v74 v79 v84 v89 v94 v99 v104 v109 v114 v119 v124 v129 v134 v139 v144 v149 v158_0 v166 v171 v176 v181 v186 v191 v196 v201 v206 v211 v216 v221 v226 v231 v236 v241 k0_t4 v366) (k0_t23 : Fin k0_t23_loop.trips), ∀ (k0_h5 : k0_cond5 i v66_0 v74 v79 v84 v89 v94 v99 v104 v109 v114 v119 v124 v129 v134 v139 v144 v149 v158_0 v166 v171 v176 v181 v186 v191 v196 v201 v206 v211 v216 v221 v226 v231 v236 v241 k0_t4 = 1#1), ∀ a, (k0_off112 v366 k0_t23) a + S1x16.size a ≤ S32x512.size a := fun i v66_0 v74 v79 v84 v89 v94 v99 v104 v109 v114 v119 v124 v129 v134 v139 v144 v149 v158_0 v166 v171 v176 v181 v186 v191 v196 v201 v206 v211 v216 v221 v226 v231 v236 v241 k0_t4 v366 k0_hw22 k0_t23 k0_h5 => k0_hw22.1 k0_t23 k0_h5
theorem k0_off113_inb : ∀ (i : grid0.Coords) (v66_0 : BitVec 32) (v74 : BitVec 32) (v79 : BitVec 32) (v84 : BitVec 32) (v89 : BitVec 32) (v94 : BitVec 32) (v99 : BitVec 32) (v104 : BitVec 32) (v109 : BitVec 32) (v114 : BitVec 32) (v119 : BitVec 32) (v124 : BitVec 32) (v129 : BitVec 32) (v134 : BitVec 32) (v139 : BitVec 32) (v144 : BitVec 32) (v149 : BitVec 32) (v158_0 : BitVec 32) (v166 : BitVec 32) (v171 : BitVec 32) (v176 : BitVec 32) (v181 : BitVec 32) (v186 : BitVec 32) (v191 : BitVec 32) (v196 : BitVec 32) (v201 : BitVec 32) (v206 : BitVec 32) (v211 : BitVec 32) (v216 : BitVec 32) (v221 : BitVec 32) (v226 : BitVec 32) (v231 : BitVec 32) (v236 : BitVec 32) (v241 : BitVec 32) (k0_t4 : Fin (k0_t4_loop i v66_0 v74 v79 v84 v89 v94 v99 v104 v109 v114 v119 v124 v129 v134 v139 v144 v149 v158_0 v166 v171 v176 v181 v186 v191 v196 v201 v206 v211 v216 v221 v226 v231 v236 v241).trips) (v366 : BitVec 32) (k0_hw22 : k0_chk22 i v66_0 v74 v79 v84 v89 v94 v99 v104 v109 v114 v119 v124 v129 v134 v139 v144 v149 v158_0 v166 v171 v176 v181 v186 v191 v196 v201 v206 v211 v216 v221 v226 v231 v236 v241 k0_t4 v366), ∀ (k0_h5 : k0_cond5 i v66_0 v74 v79 v84 v89 v94 v99 v104 v109 v114 v119 v124 v129 v134 v139 v144 v149 v158_0 v166 v171 v176 v181 v186 v191 v196 v201 v206 v211 v216 v221 v226 v231 v236 v241 k0_t4 = 1#1), ∀ a, (k0_off113 v366) a + S1x16.size a ≤ S32x512.size a := fun i v66_0 v74 v79 v84 v89 v94 v99 v104 v109 v114 v119 v124 v129 v134 v139 v144 v149 v158_0 v166 v171 v176 v181 v186 v191 v196 v201 v206 v211 v216 v221 v226 v231 v236 v241 k0_t4 v366 k0_hw22 k0_h5 => k0_hw22.2 k0_h5

def k0_off114 (k0_t22 : Fin k0_t22_loop.trips) : Fin 2 → Nat :=
  let c0_i32_149 : BitVec 32 := 0#32
  let c1_i32_150 : BitVec 32 := 1#32
  let arg14 : BitVec 32 := Scf.iv c0_i32_149 c1_i32_150 k0_t22
  let c16_i32_156 : BitVec 32 := 16#32
  let v342 : BitVec 32 := Scalar.muli arg14 c16_i32_156
  let c1_i32_164 : BitVec 32 := 1#32
  let v387 : BitVec 32 := Scalar.addi v342 c1_i32_164
  let v388 : Index := Scalar.indexCast v387
  let c0_165 : Index := 0#32
  ![v388.toNat, 0]
@[reducible] def k0_t24_loop : Scf.Loop 32 :=
  let c1_i32_166 : BitVec 32 := 1#32
  let c31_i32_167 : BitVec 32 := 31#32
  let v393 : BitVec 32 := Scalar.addi c1_i32_166 c31_i32_167
  let c1_i32_168 : BitVec 32 := 1#32
  ⟨c1_i32_166, v393, c1_i32_168⟩
def k0_off115 (k0_t22 : Fin k0_t22_loop.trips) (k0_t24 : Fin k0_t24_loop.trips) : Fin 2 → Nat :=
  let c0_i32_149 : BitVec 32 := 0#32
  let c1_i32_150 : BitVec 32 := 1#32
  let arg14 : BitVec 32 := Scf.iv c0_i32_149 c1_i32_150 k0_t22
  let c16_i32_156 : BitVec 32 := 16#32
  let v342 : BitVec 32 := Scalar.muli arg14 c16_i32_156
  let c1_i32_164 : BitVec 32 := 1#32
  let v387 : BitVec 32 := Scalar.addi v342 c1_i32_164
  let v684 : Index := Scalar.indexCast v387
  let c1_i32_166 : BitVec 32 := 1#32
  let c1_i32_168 : BitVec 32 := 1#32
  let arg15 : BitVec 32 := Scf.iv c1_i32_166 c1_i32_168 k0_t24
  let c16_i32_273 : BitVec 32 := 16#32
  let v683 : BitVec 32 := Scalar.muli arg15 c16_i32_273
  let v685 : Index := Scalar.indexCast v683
  ![v684.toNat, v685.toNat]
def k0_off116 (v386 : BitVec 32) (k0_t24 : Fin k0_t24_loop.trips) : Fin 2 → Nat :=
  let v692 : Index := Scalar.indexCast v386
  let c1_i32_166 : BitVec 32 := 1#32
  let c1_i32_168 : BitVec 32 := 1#32
  let arg15 : BitVec 32 := Scf.iv c1_i32_166 c1_i32_168 k0_t24
  let c1_i32_274 : BitVec 32 := 1#32
  let v690 : BitVec 32 := Scalar.subi arg15 c1_i32_274
  let c16_i32_275 : BitVec 32 := 16#32
  let v691 : BitVec 32 := Scalar.muli v690 c16_i32_275
  let v693 : Index := Scalar.indexCast v691
  ![v692.toNat, v693.toNat]

def k0_off117 (v386 : BitVec 32) : Fin 2 → Nat :=
  let v395 : Index := Scalar.indexCast v386
  let c496_170 : Index := 496#32
  ![v395.toNat, 496]

def k0_chk23 (i : grid0.Coords) (v66_0 : BitVec 32) (v74 : BitVec 32) (v79 : BitVec 32) (v84 : BitVec 32) (v89 : BitVec 32) (v94 : BitVec 32) (v99 : BitVec 32) (v104 : BitVec 32) (v109 : BitVec 32) (v114 : BitVec 32) (v119 : BitVec 32) (v124 : BitVec 32) (v129 : BitVec 32) (v134 : BitVec 32) (v139 : BitVec 32) (v144 : BitVec 32) (v149 : BitVec 32) (v158_0 : BitVec 32) (v166 : BitVec 32) (v171 : BitVec 32) (v176 : BitVec 32) (v181 : BitVec 32) (v186 : BitVec 32) (v191 : BitVec 32) (v196 : BitVec 32) (v201 : BitVec 32) (v206 : BitVec 32) (v211 : BitVec 32) (v216 : BitVec 32) (v221 : BitVec 32) (v226 : BitVec 32) (v231 : BitVec 32) (v236 : BitVec 32) (v241 : BitVec 32) (k0_t4 : Fin (k0_t4_loop i v66_0 v74 v79 v84 v89 v94 v99 v104 v109 v114 v119 v124 v129 v134 v139 v144 v149 v158_0 v166 v171 v176 v181 v186 v191 v196 v201 v206 v211 v216 v221 v226 v231 v236 v241).trips) (v386 : BitVec 32) : Prop :=
  (∀ k0_t24 : Fin k0_t24_loop.trips, ∀ (k0_h5 : k0_cond5 i v66_0 v74 v79 v84 v89 v94 v99 v104 v109 v114 v119 v124 v129 v134 v139 v144 v149 v158_0 v166 v171 v176 v181 v186 v191 v196 v201 v206 v211 v216 v221 v226 v231 v236 v241 k0_t4 = 1#1), ∀ a, (k0_off116 v386 k0_t24) a + S1x16.size a ≤ S32x512.size a) ∧
  (∀ (k0_h5 : k0_cond5 i v66_0 v74 v79 v84 v89 v94 v99 v104 v109 v114 v119 v124 v129 v134 v139 v144 v149 v158_0 v166 v171 v176 v181 v186 v191 v196 v201 v206 v211 v216 v221 v226 v231 v236 v241 k0_t4 = 1#1), ∀ a, (k0_off117 v386) a + S1x16.size a ≤ S32x512.size a)
theorem k0_off116_inb : ∀ (i : grid0.Coords) (v66_0 : BitVec 32) (v74 : BitVec 32) (v79 : BitVec 32) (v84 : BitVec 32) (v89 : BitVec 32) (v94 : BitVec 32) (v99 : BitVec 32) (v104 : BitVec 32) (v109 : BitVec 32) (v114 : BitVec 32) (v119 : BitVec 32) (v124 : BitVec 32) (v129 : BitVec 32) (v134 : BitVec 32) (v139 : BitVec 32) (v144 : BitVec 32) (v149 : BitVec 32) (v158_0 : BitVec 32) (v166 : BitVec 32) (v171 : BitVec 32) (v176 : BitVec 32) (v181 : BitVec 32) (v186 : BitVec 32) (v191 : BitVec 32) (v196 : BitVec 32) (v201 : BitVec 32) (v206 : BitVec 32) (v211 : BitVec 32) (v216 : BitVec 32) (v221 : BitVec 32) (v226 : BitVec 32) (v231 : BitVec 32) (v236 : BitVec 32) (v241 : BitVec 32) (k0_t4 : Fin (k0_t4_loop i v66_0 v74 v79 v84 v89 v94 v99 v104 v109 v114 v119 v124 v129 v134 v139 v144 v149 v158_0 v166 v171 v176 v181 v186 v191 v196 v201 v206 v211 v216 v221 v226 v231 v236 v241).trips) (v386 : BitVec 32) (k0_hw23 : k0_chk23 i v66_0 v74 v79 v84 v89 v94 v99 v104 v109 v114 v119 v124 v129 v134 v139 v144 v149 v158_0 v166 v171 v176 v181 v186 v191 v196 v201 v206 v211 v216 v221 v226 v231 v236 v241 k0_t4 v386) (k0_t24 : Fin k0_t24_loop.trips), ∀ (k0_h5 : k0_cond5 i v66_0 v74 v79 v84 v89 v94 v99 v104 v109 v114 v119 v124 v129 v134 v139 v144 v149 v158_0 v166 v171 v176 v181 v186 v191 v196 v201 v206 v211 v216 v221 v226 v231 v236 v241 k0_t4 = 1#1), ∀ a, (k0_off116 v386 k0_t24) a + S1x16.size a ≤ S32x512.size a := fun i v66_0 v74 v79 v84 v89 v94 v99 v104 v109 v114 v119 v124 v129 v134 v139 v144 v149 v158_0 v166 v171 v176 v181 v186 v191 v196 v201 v206 v211 v216 v221 v226 v231 v236 v241 k0_t4 v386 k0_hw23 k0_t24 k0_h5 => k0_hw23.1 k0_t24 k0_h5
theorem k0_off117_inb : ∀ (i : grid0.Coords) (v66_0 : BitVec 32) (v74 : BitVec 32) (v79 : BitVec 32) (v84 : BitVec 32) (v89 : BitVec 32) (v94 : BitVec 32) (v99 : BitVec 32) (v104 : BitVec 32) (v109 : BitVec 32) (v114 : BitVec 32) (v119 : BitVec 32) (v124 : BitVec 32) (v129 : BitVec 32) (v134 : BitVec 32) (v139 : BitVec 32) (v144 : BitVec 32) (v149 : BitVec 32) (v158_0 : BitVec 32) (v166 : BitVec 32) (v171 : BitVec 32) (v176 : BitVec 32) (v181 : BitVec 32) (v186 : BitVec 32) (v191 : BitVec 32) (v196 : BitVec 32) (v201 : BitVec 32) (v206 : BitVec 32) (v211 : BitVec 32) (v216 : BitVec 32) (v221 : BitVec 32) (v226 : BitVec 32) (v231 : BitVec 32) (v236 : BitVec 32) (v241 : BitVec 32) (k0_t4 : Fin (k0_t4_loop i v66_0 v74 v79 v84 v89 v94 v99 v104 v109 v114 v119 v124 v129 v134 v139 v144 v149 v158_0 v166 v171 v176 v181 v186 v191 v196 v201 v206 v211 v216 v221 v226 v231 v236 v241).trips) (v386 : BitVec 32) (k0_hw23 : k0_chk23 i v66_0 v74 v79 v84 v89 v94 v99 v104 v109 v114 v119 v124 v129 v134 v139 v144 v149 v158_0 v166 v171 v176 v181 v186 v191 v196 v201 v206 v211 v216 v221 v226 v231 v236 v241 k0_t4 v386), ∀ (k0_h5 : k0_cond5 i v66_0 v74 v79 v84 v89 v94 v99 v104 v109 v114 v119 v124 v129 v134 v139 v144 v149 v158_0 v166 v171 v176 v181 v186 v191 v196 v201 v206 v211 v216 v221 v226 v231 v236 v241 k0_t4 = 1#1), ∀ a, (k0_off117 v386) a + S1x16.size a ≤ S32x512.size a := fun i v66_0 v74 v79 v84 v89 v94 v99 v104 v109 v114 v119 v124 v129 v134 v139 v144 v149 v158_0 v166 v171 v176 v181 v186 v191 v196 v201 v206 v211 v216 v221 v226 v231 v236 v241 k0_t4 v386 k0_hw23 k0_h5 => k0_hw23.2 k0_h5

def k0_off118 (k0_t22 : Fin k0_t22_loop.trips) : Fin 2 → Nat :=
  let c0_i32_149 : BitVec 32 := 0#32
  let c1_i32_150 : BitVec 32 := 1#32
  let arg14 : BitVec 32 := Scf.iv c0_i32_149 c1_i32_150 k0_t22
  let c16_i32_156 : BitVec 32 := 16#32
  let v342 : BitVec 32 := Scalar.muli arg14 c16_i32_156
  let c2_i32_172 : BitVec 32 := 2#32
  let v407 : BitVec 32 := Scalar.addi v342 c2_i32_172
  let v408 : Index := Scalar.indexCast v407
  let c0_173 : Index := 0#32
  ![v408.toNat, 0]
@[reducible] def k0_t25_loop : Scf.Loop 32 :=
  let c1_i32_174 : BitVec 32 := 1#32
  let c31_i32_175 : BitVec 32 := 31#32
  let v413 : BitVec 32 := Scalar.addi c1_i32_174 c31_i32_175
  let c1_i32_176 : BitVec 32 := 1#32
  ⟨c1_i32_174, v413, c1_i32_176⟩
def k0_off119 (k0_t22 : Fin k0_t22_loop.trips) (k0_t25 : Fin k0_t25_loop.trips) : Fin 2 → Nat :=
  let c0_i32_149 : BitVec 32 := 0#32
  let c1_i32_150 : BitVec 32 := 1#32
  let arg14 : BitVec 32 := Scf.iv c0_i32_149 c1_i32_150 k0_t22
  let c16_i32_156 : BitVec 32 := 16#32
  let v342 : BitVec 32 := Scalar.muli arg14 c16_i32_156
  let c2_i32_172 : BitVec 32 := 2#32
  let v407 : BitVec 32 := Scalar.addi v342 c2_i32_172
  let v684 : Index := Scalar.indexCast v407
  let c1_i32_174 : BitVec 32 := 1#32
  let c1_i32_176 : BitVec 32 := 1#32
  let arg15 : BitVec 32 := Scf.iv c1_i32_174 c1_i32_176 k0_t25
  let c16_i32_273 : BitVec 32 := 16#32
  let v683 : BitVec 32 := Scalar.muli arg15 c16_i32_273
  let v685 : Index := Scalar.indexCast v683
  ![v684.toNat, v685.toNat]
def k0_off120 (v406 : BitVec 32) (k0_t25 : Fin k0_t25_loop.trips) : Fin 2 → Nat :=
  let v692 : Index := Scalar.indexCast v406
  let c1_i32_174 : BitVec 32 := 1#32
  let c1_i32_176 : BitVec 32 := 1#32
  let arg15 : BitVec 32 := Scf.iv c1_i32_174 c1_i32_176 k0_t25
  let c1_i32_274 : BitVec 32 := 1#32
  let v690 : BitVec 32 := Scalar.subi arg15 c1_i32_274
  let c16_i32_275 : BitVec 32 := 16#32
  let v691 : BitVec 32 := Scalar.muli v690 c16_i32_275
  let v693 : Index := Scalar.indexCast v691
  ![v692.toNat, v693.toNat]

def k0_off121 (v406 : BitVec 32) : Fin 2 → Nat :=
  let v415 : Index := Scalar.indexCast v406
  let c496_178 : Index := 496#32
  ![v415.toNat, 496]

def k0_chk24 (i : grid0.Coords) (v66_0 : BitVec 32) (v74 : BitVec 32) (v79 : BitVec 32) (v84 : BitVec 32) (v89 : BitVec 32) (v94 : BitVec 32) (v99 : BitVec 32) (v104 : BitVec 32) (v109 : BitVec 32) (v114 : BitVec 32) (v119 : BitVec 32) (v124 : BitVec 32) (v129 : BitVec 32) (v134 : BitVec 32) (v139 : BitVec 32) (v144 : BitVec 32) (v149 : BitVec 32) (v158_0 : BitVec 32) (v166 : BitVec 32) (v171 : BitVec 32) (v176 : BitVec 32) (v181 : BitVec 32) (v186 : BitVec 32) (v191 : BitVec 32) (v196 : BitVec 32) (v201 : BitVec 32) (v206 : BitVec 32) (v211 : BitVec 32) (v216 : BitVec 32) (v221 : BitVec 32) (v226 : BitVec 32) (v231 : BitVec 32) (v236 : BitVec 32) (v241 : BitVec 32) (k0_t4 : Fin (k0_t4_loop i v66_0 v74 v79 v84 v89 v94 v99 v104 v109 v114 v119 v124 v129 v134 v139 v144 v149 v158_0 v166 v171 v176 v181 v186 v191 v196 v201 v206 v211 v216 v221 v226 v231 v236 v241).trips) (v406 : BitVec 32) : Prop :=
  (∀ k0_t25 : Fin k0_t25_loop.trips, ∀ (k0_h5 : k0_cond5 i v66_0 v74 v79 v84 v89 v94 v99 v104 v109 v114 v119 v124 v129 v134 v139 v144 v149 v158_0 v166 v171 v176 v181 v186 v191 v196 v201 v206 v211 v216 v221 v226 v231 v236 v241 k0_t4 = 1#1), ∀ a, (k0_off120 v406 k0_t25) a + S1x16.size a ≤ S32x512.size a) ∧
  (∀ (k0_h5 : k0_cond5 i v66_0 v74 v79 v84 v89 v94 v99 v104 v109 v114 v119 v124 v129 v134 v139 v144 v149 v158_0 v166 v171 v176 v181 v186 v191 v196 v201 v206 v211 v216 v221 v226 v231 v236 v241 k0_t4 = 1#1), ∀ a, (k0_off121 v406) a + S1x16.size a ≤ S32x512.size a)
theorem k0_off120_inb : ∀ (i : grid0.Coords) (v66_0 : BitVec 32) (v74 : BitVec 32) (v79 : BitVec 32) (v84 : BitVec 32) (v89 : BitVec 32) (v94 : BitVec 32) (v99 : BitVec 32) (v104 : BitVec 32) (v109 : BitVec 32) (v114 : BitVec 32) (v119 : BitVec 32) (v124 : BitVec 32) (v129 : BitVec 32) (v134 : BitVec 32) (v139 : BitVec 32) (v144 : BitVec 32) (v149 : BitVec 32) (v158_0 : BitVec 32) (v166 : BitVec 32) (v171 : BitVec 32) (v176 : BitVec 32) (v181 : BitVec 32) (v186 : BitVec 32) (v191 : BitVec 32) (v196 : BitVec 32) (v201 : BitVec 32) (v206 : BitVec 32) (v211 : BitVec 32) (v216 : BitVec 32) (v221 : BitVec 32) (v226 : BitVec 32) (v231 : BitVec 32) (v236 : BitVec 32) (v241 : BitVec 32) (k0_t4 : Fin (k0_t4_loop i v66_0 v74 v79 v84 v89 v94 v99 v104 v109 v114 v119 v124 v129 v134 v139 v144 v149 v158_0 v166 v171 v176 v181 v186 v191 v196 v201 v206 v211 v216 v221 v226 v231 v236 v241).trips) (v406 : BitVec 32) (k0_hw24 : k0_chk24 i v66_0 v74 v79 v84 v89 v94 v99 v104 v109 v114 v119 v124 v129 v134 v139 v144 v149 v158_0 v166 v171 v176 v181 v186 v191 v196 v201 v206 v211 v216 v221 v226 v231 v236 v241 k0_t4 v406) (k0_t25 : Fin k0_t25_loop.trips), ∀ (k0_h5 : k0_cond5 i v66_0 v74 v79 v84 v89 v94 v99 v104 v109 v114 v119 v124 v129 v134 v139 v144 v149 v158_0 v166 v171 v176 v181 v186 v191 v196 v201 v206 v211 v216 v221 v226 v231 v236 v241 k0_t4 = 1#1), ∀ a, (k0_off120 v406 k0_t25) a + S1x16.size a ≤ S32x512.size a := fun i v66_0 v74 v79 v84 v89 v94 v99 v104 v109 v114 v119 v124 v129 v134 v139 v144 v149 v158_0 v166 v171 v176 v181 v186 v191 v196 v201 v206 v211 v216 v221 v226 v231 v236 v241 k0_t4 v406 k0_hw24 k0_t25 k0_h5 => k0_hw24.1 k0_t25 k0_h5
theorem k0_off121_inb : ∀ (i : grid0.Coords) (v66_0 : BitVec 32) (v74 : BitVec 32) (v79 : BitVec 32) (v84 : BitVec 32) (v89 : BitVec 32) (v94 : BitVec 32) (v99 : BitVec 32) (v104 : BitVec 32) (v109 : BitVec 32) (v114 : BitVec 32) (v119 : BitVec 32) (v124 : BitVec 32) (v129 : BitVec 32) (v134 : BitVec 32) (v139 : BitVec 32) (v144 : BitVec 32) (v149 : BitVec 32) (v158_0 : BitVec 32) (v166 : BitVec 32) (v171 : BitVec 32) (v176 : BitVec 32) (v181 : BitVec 32) (v186 : BitVec 32) (v191 : BitVec 32) (v196 : BitVec 32) (v201 : BitVec 32) (v206 : BitVec 32) (v211 : BitVec 32) (v216 : BitVec 32) (v221 : BitVec 32) (v226 : BitVec 32) (v231 : BitVec 32) (v236 : BitVec 32) (v241 : BitVec 32) (k0_t4 : Fin (k0_t4_loop i v66_0 v74 v79 v84 v89 v94 v99 v104 v109 v114 v119 v124 v129 v134 v139 v144 v149 v158_0 v166 v171 v176 v181 v186 v191 v196 v201 v206 v211 v216 v221 v226 v231 v236 v241).trips) (v406 : BitVec 32) (k0_hw24 : k0_chk24 i v66_0 v74 v79 v84 v89 v94 v99 v104 v109 v114 v119 v124 v129 v134 v139 v144 v149 v158_0 v166 v171 v176 v181 v186 v191 v196 v201 v206 v211 v216 v221 v226 v231 v236 v241 k0_t4 v406), ∀ (k0_h5 : k0_cond5 i v66_0 v74 v79 v84 v89 v94 v99 v104 v109 v114 v119 v124 v129 v134 v139 v144 v149 v158_0 v166 v171 v176 v181 v186 v191 v196 v201 v206 v211 v216 v221 v226 v231 v236 v241 k0_t4 = 1#1), ∀ a, (k0_off121 v406) a + S1x16.size a ≤ S32x512.size a := fun i v66_0 v74 v79 v84 v89 v94 v99 v104 v109 v114 v119 v124 v129 v134 v139 v144 v149 v158_0 v166 v171 v176 v181 v186 v191 v196 v201 v206 v211 v216 v221 v226 v231 v236 v241 k0_t4 v406 k0_hw24 k0_h5 => k0_hw24.2 k0_h5

def k0_off122 (k0_t22 : Fin k0_t22_loop.trips) : Fin 2 → Nat :=
  let c0_i32_149 : BitVec 32 := 0#32
  let c1_i32_150 : BitVec 32 := 1#32
  let arg14 : BitVec 32 := Scf.iv c0_i32_149 c1_i32_150 k0_t22
  let c16_i32_156 : BitVec 32 := 16#32
  let v342 : BitVec 32 := Scalar.muli arg14 c16_i32_156
  let c3_i32 : BitVec 32 := 3#32
  let v427 : BitVec 32 := Scalar.addi v342 c3_i32
  let v428 : Index := Scalar.indexCast v427
  let c0_180 : Index := 0#32
  ![v428.toNat, 0]
@[reducible] def k0_t26_loop : Scf.Loop 32 :=
  let c1_i32_181 : BitVec 32 := 1#32
  let c31_i32_182 : BitVec 32 := 31#32
  let v433 : BitVec 32 := Scalar.addi c1_i32_181 c31_i32_182
  let c1_i32_183 : BitVec 32 := 1#32
  ⟨c1_i32_181, v433, c1_i32_183⟩
def k0_off123 (k0_t22 : Fin k0_t22_loop.trips) (k0_t26 : Fin k0_t26_loop.trips) : Fin 2 → Nat :=
  let c0_i32_149 : BitVec 32 := 0#32
  let c1_i32_150 : BitVec 32 := 1#32
  let arg14 : BitVec 32 := Scf.iv c0_i32_149 c1_i32_150 k0_t22
  let c16_i32_156 : BitVec 32 := 16#32
  let v342 : BitVec 32 := Scalar.muli arg14 c16_i32_156
  let c3_i32 : BitVec 32 := 3#32
  let v427 : BitVec 32 := Scalar.addi v342 c3_i32
  let v684 : Index := Scalar.indexCast v427
  let c1_i32_181 : BitVec 32 := 1#32
  let c1_i32_183 : BitVec 32 := 1#32
  let arg15 : BitVec 32 := Scf.iv c1_i32_181 c1_i32_183 k0_t26
  let c16_i32_273 : BitVec 32 := 16#32
  let v683 : BitVec 32 := Scalar.muli arg15 c16_i32_273
  let v685 : Index := Scalar.indexCast v683
  ![v684.toNat, v685.toNat]
def k0_off124 (v426 : BitVec 32) (k0_t26 : Fin k0_t26_loop.trips) : Fin 2 → Nat :=
  let v692 : Index := Scalar.indexCast v426
  let c1_i32_181 : BitVec 32 := 1#32
  let c1_i32_183 : BitVec 32 := 1#32
  let arg15 : BitVec 32 := Scf.iv c1_i32_181 c1_i32_183 k0_t26
  let c1_i32_274 : BitVec 32 := 1#32
  let v690 : BitVec 32 := Scalar.subi arg15 c1_i32_274
  let c16_i32_275 : BitVec 32 := 16#32
  let v691 : BitVec 32 := Scalar.muli v690 c16_i32_275
  let v693 : Index := Scalar.indexCast v691
  ![v692.toNat, v693.toNat]

def k0_off125 (v426 : BitVec 32) : Fin 2 → Nat :=
  let v435 : Index := Scalar.indexCast v426
  let c496_185 : Index := 496#32
  ![v435.toNat, 496]

def k0_chk25 (i : grid0.Coords) (v66_0 : BitVec 32) (v74 : BitVec 32) (v79 : BitVec 32) (v84 : BitVec 32) (v89 : BitVec 32) (v94 : BitVec 32) (v99 : BitVec 32) (v104 : BitVec 32) (v109 : BitVec 32) (v114 : BitVec 32) (v119 : BitVec 32) (v124 : BitVec 32) (v129 : BitVec 32) (v134 : BitVec 32) (v139 : BitVec 32) (v144 : BitVec 32) (v149 : BitVec 32) (v158_0 : BitVec 32) (v166 : BitVec 32) (v171 : BitVec 32) (v176 : BitVec 32) (v181 : BitVec 32) (v186 : BitVec 32) (v191 : BitVec 32) (v196 : BitVec 32) (v201 : BitVec 32) (v206 : BitVec 32) (v211 : BitVec 32) (v216 : BitVec 32) (v221 : BitVec 32) (v226 : BitVec 32) (v231 : BitVec 32) (v236 : BitVec 32) (v241 : BitVec 32) (k0_t4 : Fin (k0_t4_loop i v66_0 v74 v79 v84 v89 v94 v99 v104 v109 v114 v119 v124 v129 v134 v139 v144 v149 v158_0 v166 v171 v176 v181 v186 v191 v196 v201 v206 v211 v216 v221 v226 v231 v236 v241).trips) (v426 : BitVec 32) : Prop :=
  (∀ k0_t26 : Fin k0_t26_loop.trips, ∀ (k0_h5 : k0_cond5 i v66_0 v74 v79 v84 v89 v94 v99 v104 v109 v114 v119 v124 v129 v134 v139 v144 v149 v158_0 v166 v171 v176 v181 v186 v191 v196 v201 v206 v211 v216 v221 v226 v231 v236 v241 k0_t4 = 1#1), ∀ a, (k0_off124 v426 k0_t26) a + S1x16.size a ≤ S32x512.size a) ∧
  (∀ (k0_h5 : k0_cond5 i v66_0 v74 v79 v84 v89 v94 v99 v104 v109 v114 v119 v124 v129 v134 v139 v144 v149 v158_0 v166 v171 v176 v181 v186 v191 v196 v201 v206 v211 v216 v221 v226 v231 v236 v241 k0_t4 = 1#1), ∀ a, (k0_off125 v426) a + S1x16.size a ≤ S32x512.size a)
theorem k0_off124_inb : ∀ (i : grid0.Coords) (v66_0 : BitVec 32) (v74 : BitVec 32) (v79 : BitVec 32) (v84 : BitVec 32) (v89 : BitVec 32) (v94 : BitVec 32) (v99 : BitVec 32) (v104 : BitVec 32) (v109 : BitVec 32) (v114 : BitVec 32) (v119 : BitVec 32) (v124 : BitVec 32) (v129 : BitVec 32) (v134 : BitVec 32) (v139 : BitVec 32) (v144 : BitVec 32) (v149 : BitVec 32) (v158_0 : BitVec 32) (v166 : BitVec 32) (v171 : BitVec 32) (v176 : BitVec 32) (v181 : BitVec 32) (v186 : BitVec 32) (v191 : BitVec 32) (v196 : BitVec 32) (v201 : BitVec 32) (v206 : BitVec 32) (v211 : BitVec 32) (v216 : BitVec 32) (v221 : BitVec 32) (v226 : BitVec 32) (v231 : BitVec 32) (v236 : BitVec 32) (v241 : BitVec 32) (k0_t4 : Fin (k0_t4_loop i v66_0 v74 v79 v84 v89 v94 v99 v104 v109 v114 v119 v124 v129 v134 v139 v144 v149 v158_0 v166 v171 v176 v181 v186 v191 v196 v201 v206 v211 v216 v221 v226 v231 v236 v241).trips) (v426 : BitVec 32) (k0_hw25 : k0_chk25 i v66_0 v74 v79 v84 v89 v94 v99 v104 v109 v114 v119 v124 v129 v134 v139 v144 v149 v158_0 v166 v171 v176 v181 v186 v191 v196 v201 v206 v211 v216 v221 v226 v231 v236 v241 k0_t4 v426) (k0_t26 : Fin k0_t26_loop.trips), ∀ (k0_h5 : k0_cond5 i v66_0 v74 v79 v84 v89 v94 v99 v104 v109 v114 v119 v124 v129 v134 v139 v144 v149 v158_0 v166 v171 v176 v181 v186 v191 v196 v201 v206 v211 v216 v221 v226 v231 v236 v241 k0_t4 = 1#1), ∀ a, (k0_off124 v426 k0_t26) a + S1x16.size a ≤ S32x512.size a := fun i v66_0 v74 v79 v84 v89 v94 v99 v104 v109 v114 v119 v124 v129 v134 v139 v144 v149 v158_0 v166 v171 v176 v181 v186 v191 v196 v201 v206 v211 v216 v221 v226 v231 v236 v241 k0_t4 v426 k0_hw25 k0_t26 k0_h5 => k0_hw25.1 k0_t26 k0_h5
theorem k0_off125_inb : ∀ (i : grid0.Coords) (v66_0 : BitVec 32) (v74 : BitVec 32) (v79 : BitVec 32) (v84 : BitVec 32) (v89 : BitVec 32) (v94 : BitVec 32) (v99 : BitVec 32) (v104 : BitVec 32) (v109 : BitVec 32) (v114 : BitVec 32) (v119 : BitVec 32) (v124 : BitVec 32) (v129 : BitVec 32) (v134 : BitVec 32) (v139 : BitVec 32) (v144 : BitVec 32) (v149 : BitVec 32) (v158_0 : BitVec 32) (v166 : BitVec 32) (v171 : BitVec 32) (v176 : BitVec 32) (v181 : BitVec 32) (v186 : BitVec 32) (v191 : BitVec 32) (v196 : BitVec 32) (v201 : BitVec 32) (v206 : BitVec 32) (v211 : BitVec 32) (v216 : BitVec 32) (v221 : BitVec 32) (v226 : BitVec 32) (v231 : BitVec 32) (v236 : BitVec 32) (v241 : BitVec 32) (k0_t4 : Fin (k0_t4_loop i v66_0 v74 v79 v84 v89 v94 v99 v104 v109 v114 v119 v124 v129 v134 v139 v144 v149 v158_0 v166 v171 v176 v181 v186 v191 v196 v201 v206 v211 v216 v221 v226 v231 v236 v241).trips) (v426 : BitVec 32) (k0_hw25 : k0_chk25 i v66_0 v74 v79 v84 v89 v94 v99 v104 v109 v114 v119 v124 v129 v134 v139 v144 v149 v158_0 v166 v171 v176 v181 v186 v191 v196 v201 v206 v211 v216 v221 v226 v231 v236 v241 k0_t4 v426), ∀ (k0_h5 : k0_cond5 i v66_0 v74 v79 v84 v89 v94 v99 v104 v109 v114 v119 v124 v129 v134 v139 v144 v149 v158_0 v166 v171 v176 v181 v186 v191 v196 v201 v206 v211 v216 v221 v226 v231 v236 v241 k0_t4 = 1#1), ∀ a, (k0_off125 v426) a + S1x16.size a ≤ S32x512.size a := fun i v66_0 v74 v79 v84 v89 v94 v99 v104 v109 v114 v119 v124 v129 v134 v139 v144 v149 v158_0 v166 v171 v176 v181 v186 v191 v196 v201 v206 v211 v216 v221 v226 v231 v236 v241 k0_t4 v426 k0_hw25 k0_h5 => k0_hw25.2 k0_h5

def k0_off126 (k0_t22 : Fin k0_t22_loop.trips) : Fin 2 → Nat :=
  let c0_i32_149 : BitVec 32 := 0#32
  let c1_i32_150 : BitVec 32 := 1#32
  let arg14 : BitVec 32 := Scf.iv c0_i32_149 c1_i32_150 k0_t22
  let c16_i32_156 : BitVec 32 := 16#32
  let v342 : BitVec 32 := Scalar.muli arg14 c16_i32_156
  let c4_i32_187 : BitVec 32 := 4#32
  let v447 : BitVec 32 := Scalar.addi v342 c4_i32_187
  let v448 : Index := Scalar.indexCast v447
  let c0_188 : Index := 0#32
  ![v448.toNat, 0]
@[reducible] def k0_t27_loop : Scf.Loop 32 :=
  let c1_i32_189 : BitVec 32 := 1#32
  let c31_i32_190 : BitVec 32 := 31#32
  let v453 : BitVec 32 := Scalar.addi c1_i32_189 c31_i32_190
  let c1_i32_191 : BitVec 32 := 1#32
  ⟨c1_i32_189, v453, c1_i32_191⟩
def k0_off127 (k0_t22 : Fin k0_t22_loop.trips) (k0_t27 : Fin k0_t27_loop.trips) : Fin 2 → Nat :=
  let c0_i32_149 : BitVec 32 := 0#32
  let c1_i32_150 : BitVec 32 := 1#32
  let arg14 : BitVec 32 := Scf.iv c0_i32_149 c1_i32_150 k0_t22
  let c16_i32_156 : BitVec 32 := 16#32
  let v342 : BitVec 32 := Scalar.muli arg14 c16_i32_156
  let c4_i32_187 : BitVec 32 := 4#32
  let v447 : BitVec 32 := Scalar.addi v342 c4_i32_187
  let v684 : Index := Scalar.indexCast v447
  let c1_i32_189 : BitVec 32 := 1#32
  let c1_i32_191 : BitVec 32 := 1#32
  let arg15 : BitVec 32 := Scf.iv c1_i32_189 c1_i32_191 k0_t27
  let c16_i32_273 : BitVec 32 := 16#32
  let v683 : BitVec 32 := Scalar.muli arg15 c16_i32_273
  let v685 : Index := Scalar.indexCast v683
  ![v684.toNat, v685.toNat]
def k0_off128 (v446 : BitVec 32) (k0_t27 : Fin k0_t27_loop.trips) : Fin 2 → Nat :=
  let v692 : Index := Scalar.indexCast v446
  let c1_i32_189 : BitVec 32 := 1#32
  let c1_i32_191 : BitVec 32 := 1#32
  let arg15 : BitVec 32 := Scf.iv c1_i32_189 c1_i32_191 k0_t27
  let c1_i32_274 : BitVec 32 := 1#32
  let v690 : BitVec 32 := Scalar.subi arg15 c1_i32_274
  let c16_i32_275 : BitVec 32 := 16#32
  let v691 : BitVec 32 := Scalar.muli v690 c16_i32_275
  let v693 : Index := Scalar.indexCast v691
  ![v692.toNat, v693.toNat]

def k0_off129 (v446 : BitVec 32) : Fin 2 → Nat :=
  let v455 : Index := Scalar.indexCast v446
  let c496_193 : Index := 496#32
  ![v455.toNat, 496]

def k0_chk26 (i : grid0.Coords) (v66_0 : BitVec 32) (v74 : BitVec 32) (v79 : BitVec 32) (v84 : BitVec 32) (v89 : BitVec 32) (v94 : BitVec 32) (v99 : BitVec 32) (v104 : BitVec 32) (v109 : BitVec 32) (v114 : BitVec 32) (v119 : BitVec 32) (v124 : BitVec 32) (v129 : BitVec 32) (v134 : BitVec 32) (v139 : BitVec 32) (v144 : BitVec 32) (v149 : BitVec 32) (v158_0 : BitVec 32) (v166 : BitVec 32) (v171 : BitVec 32) (v176 : BitVec 32) (v181 : BitVec 32) (v186 : BitVec 32) (v191 : BitVec 32) (v196 : BitVec 32) (v201 : BitVec 32) (v206 : BitVec 32) (v211 : BitVec 32) (v216 : BitVec 32) (v221 : BitVec 32) (v226 : BitVec 32) (v231 : BitVec 32) (v236 : BitVec 32) (v241 : BitVec 32) (k0_t4 : Fin (k0_t4_loop i v66_0 v74 v79 v84 v89 v94 v99 v104 v109 v114 v119 v124 v129 v134 v139 v144 v149 v158_0 v166 v171 v176 v181 v186 v191 v196 v201 v206 v211 v216 v221 v226 v231 v236 v241).trips) (v446 : BitVec 32) : Prop :=
  (∀ k0_t27 : Fin k0_t27_loop.trips, ∀ (k0_h5 : k0_cond5 i v66_0 v74 v79 v84 v89 v94 v99 v104 v109 v114 v119 v124 v129 v134 v139 v144 v149 v158_0 v166 v171 v176 v181 v186 v191 v196 v201 v206 v211 v216 v221 v226 v231 v236 v241 k0_t4 = 1#1), ∀ a, (k0_off128 v446 k0_t27) a + S1x16.size a ≤ S32x512.size a) ∧
  (∀ (k0_h5 : k0_cond5 i v66_0 v74 v79 v84 v89 v94 v99 v104 v109 v114 v119 v124 v129 v134 v139 v144 v149 v158_0 v166 v171 v176 v181 v186 v191 v196 v201 v206 v211 v216 v221 v226 v231 v236 v241 k0_t4 = 1#1), ∀ a, (k0_off129 v446) a + S1x16.size a ≤ S32x512.size a)
theorem k0_off128_inb : ∀ (i : grid0.Coords) (v66_0 : BitVec 32) (v74 : BitVec 32) (v79 : BitVec 32) (v84 : BitVec 32) (v89 : BitVec 32) (v94 : BitVec 32) (v99 : BitVec 32) (v104 : BitVec 32) (v109 : BitVec 32) (v114 : BitVec 32) (v119 : BitVec 32) (v124 : BitVec 32) (v129 : BitVec 32) (v134 : BitVec 32) (v139 : BitVec 32) (v144 : BitVec 32) (v149 : BitVec 32) (v158_0 : BitVec 32) (v166 : BitVec 32) (v171 : BitVec 32) (v176 : BitVec 32) (v181 : BitVec 32) (v186 : BitVec 32) (v191 : BitVec 32) (v196 : BitVec 32) (v201 : BitVec 32) (v206 : BitVec 32) (v211 : BitVec 32) (v216 : BitVec 32) (v221 : BitVec 32) (v226 : BitVec 32) (v231 : BitVec 32) (v236 : BitVec 32) (v241 : BitVec 32) (k0_t4 : Fin (k0_t4_loop i v66_0 v74 v79 v84 v89 v94 v99 v104 v109 v114 v119 v124 v129 v134 v139 v144 v149 v158_0 v166 v171 v176 v181 v186 v191 v196 v201 v206 v211 v216 v221 v226 v231 v236 v241).trips) (v446 : BitVec 32) (k0_hw26 : k0_chk26 i v66_0 v74 v79 v84 v89 v94 v99 v104 v109 v114 v119 v124 v129 v134 v139 v144 v149 v158_0 v166 v171 v176 v181 v186 v191 v196 v201 v206 v211 v216 v221 v226 v231 v236 v241 k0_t4 v446) (k0_t27 : Fin k0_t27_loop.trips), ∀ (k0_h5 : k0_cond5 i v66_0 v74 v79 v84 v89 v94 v99 v104 v109 v114 v119 v124 v129 v134 v139 v144 v149 v158_0 v166 v171 v176 v181 v186 v191 v196 v201 v206 v211 v216 v221 v226 v231 v236 v241 k0_t4 = 1#1), ∀ a, (k0_off128 v446 k0_t27) a + S1x16.size a ≤ S32x512.size a := fun i v66_0 v74 v79 v84 v89 v94 v99 v104 v109 v114 v119 v124 v129 v134 v139 v144 v149 v158_0 v166 v171 v176 v181 v186 v191 v196 v201 v206 v211 v216 v221 v226 v231 v236 v241 k0_t4 v446 k0_hw26 k0_t27 k0_h5 => k0_hw26.1 k0_t27 k0_h5
theorem k0_off129_inb : ∀ (i : grid0.Coords) (v66_0 : BitVec 32) (v74 : BitVec 32) (v79 : BitVec 32) (v84 : BitVec 32) (v89 : BitVec 32) (v94 : BitVec 32) (v99 : BitVec 32) (v104 : BitVec 32) (v109 : BitVec 32) (v114 : BitVec 32) (v119 : BitVec 32) (v124 : BitVec 32) (v129 : BitVec 32) (v134 : BitVec 32) (v139 : BitVec 32) (v144 : BitVec 32) (v149 : BitVec 32) (v158_0 : BitVec 32) (v166 : BitVec 32) (v171 : BitVec 32) (v176 : BitVec 32) (v181 : BitVec 32) (v186 : BitVec 32) (v191 : BitVec 32) (v196 : BitVec 32) (v201 : BitVec 32) (v206 : BitVec 32) (v211 : BitVec 32) (v216 : BitVec 32) (v221 : BitVec 32) (v226 : BitVec 32) (v231 : BitVec 32) (v236 : BitVec 32) (v241 : BitVec 32) (k0_t4 : Fin (k0_t4_loop i v66_0 v74 v79 v84 v89 v94 v99 v104 v109 v114 v119 v124 v129 v134 v139 v144 v149 v158_0 v166 v171 v176 v181 v186 v191 v196 v201 v206 v211 v216 v221 v226 v231 v236 v241).trips) (v446 : BitVec 32) (k0_hw26 : k0_chk26 i v66_0 v74 v79 v84 v89 v94 v99 v104 v109 v114 v119 v124 v129 v134 v139 v144 v149 v158_0 v166 v171 v176 v181 v186 v191 v196 v201 v206 v211 v216 v221 v226 v231 v236 v241 k0_t4 v446), ∀ (k0_h5 : k0_cond5 i v66_0 v74 v79 v84 v89 v94 v99 v104 v109 v114 v119 v124 v129 v134 v139 v144 v149 v158_0 v166 v171 v176 v181 v186 v191 v196 v201 v206 v211 v216 v221 v226 v231 v236 v241 k0_t4 = 1#1), ∀ a, (k0_off129 v446) a + S1x16.size a ≤ S32x512.size a := fun i v66_0 v74 v79 v84 v89 v94 v99 v104 v109 v114 v119 v124 v129 v134 v139 v144 v149 v158_0 v166 v171 v176 v181 v186 v191 v196 v201 v206 v211 v216 v221 v226 v231 v236 v241 k0_t4 v446 k0_hw26 k0_h5 => k0_hw26.2 k0_h5

def k0_off130 (k0_t22 : Fin k0_t22_loop.trips) : Fin 2 → Nat :=
  let c0_i32_149 : BitVec 32 := 0#32
  let c1_i32_150 : BitVec 32 := 1#32
  let arg14 : BitVec 32 := Scf.iv c0_i32_149 c1_i32_150 k0_t22
  let c16_i32_156 : BitVec 32 := 16#32
  let v342 : BitVec 32 := Scalar.muli arg14 c16_i32_156
  let c5_i32 : BitVec 32 := 5#32
  let v467 : BitVec 32 := Scalar.addi v342 c5_i32
  let v468 : Index := Scalar.indexCast v467
  let c0_195 : Index := 0#32
  ![v468.toNat, 0]
@[reducible] def k0_t28_loop : Scf.Loop 32 :=
  let c1_i32_196 : BitVec 32 := 1#32
  let c31_i32_197 : BitVec 32 := 31#32
  let v473 : BitVec 32 := Scalar.addi c1_i32_196 c31_i32_197
  let c1_i32_198 : BitVec 32 := 1#32
  ⟨c1_i32_196, v473, c1_i32_198⟩
def k0_off131 (k0_t22 : Fin k0_t22_loop.trips) (k0_t28 : Fin k0_t28_loop.trips) : Fin 2 → Nat :=
  let c0_i32_149 : BitVec 32 := 0#32
  let c1_i32_150 : BitVec 32 := 1#32
  let arg14 : BitVec 32 := Scf.iv c0_i32_149 c1_i32_150 k0_t22
  let c16_i32_156 : BitVec 32 := 16#32
  let v342 : BitVec 32 := Scalar.muli arg14 c16_i32_156
  let c5_i32 : BitVec 32 := 5#32
  let v467 : BitVec 32 := Scalar.addi v342 c5_i32
  let v684 : Index := Scalar.indexCast v467
  let c1_i32_196 : BitVec 32 := 1#32
  let c1_i32_198 : BitVec 32 := 1#32
  let arg15 : BitVec 32 := Scf.iv c1_i32_196 c1_i32_198 k0_t28
  let c16_i32_273 : BitVec 32 := 16#32
  let v683 : BitVec 32 := Scalar.muli arg15 c16_i32_273
  let v685 : Index := Scalar.indexCast v683
  ![v684.toNat, v685.toNat]
def k0_off132 (v466 : BitVec 32) (k0_t28 : Fin k0_t28_loop.trips) : Fin 2 → Nat :=
  let v692 : Index := Scalar.indexCast v466
  let c1_i32_196 : BitVec 32 := 1#32
  let c1_i32_198 : BitVec 32 := 1#32
  let arg15 : BitVec 32 := Scf.iv c1_i32_196 c1_i32_198 k0_t28
  let c1_i32_274 : BitVec 32 := 1#32
  let v690 : BitVec 32 := Scalar.subi arg15 c1_i32_274
  let c16_i32_275 : BitVec 32 := 16#32
  let v691 : BitVec 32 := Scalar.muli v690 c16_i32_275
  let v693 : Index := Scalar.indexCast v691
  ![v692.toNat, v693.toNat]

def k0_off133 (v466 : BitVec 32) : Fin 2 → Nat :=
  let v475 : Index := Scalar.indexCast v466
  let c496_200 : Index := 496#32
  ![v475.toNat, 496]

def k0_chk27 (i : grid0.Coords) (v66_0 : BitVec 32) (v74 : BitVec 32) (v79 : BitVec 32) (v84 : BitVec 32) (v89 : BitVec 32) (v94 : BitVec 32) (v99 : BitVec 32) (v104 : BitVec 32) (v109 : BitVec 32) (v114 : BitVec 32) (v119 : BitVec 32) (v124 : BitVec 32) (v129 : BitVec 32) (v134 : BitVec 32) (v139 : BitVec 32) (v144 : BitVec 32) (v149 : BitVec 32) (v158_0 : BitVec 32) (v166 : BitVec 32) (v171 : BitVec 32) (v176 : BitVec 32) (v181 : BitVec 32) (v186 : BitVec 32) (v191 : BitVec 32) (v196 : BitVec 32) (v201 : BitVec 32) (v206 : BitVec 32) (v211 : BitVec 32) (v216 : BitVec 32) (v221 : BitVec 32) (v226 : BitVec 32) (v231 : BitVec 32) (v236 : BitVec 32) (v241 : BitVec 32) (k0_t4 : Fin (k0_t4_loop i v66_0 v74 v79 v84 v89 v94 v99 v104 v109 v114 v119 v124 v129 v134 v139 v144 v149 v158_0 v166 v171 v176 v181 v186 v191 v196 v201 v206 v211 v216 v221 v226 v231 v236 v241).trips) (v466 : BitVec 32) : Prop :=
  (∀ k0_t28 : Fin k0_t28_loop.trips, ∀ (k0_h5 : k0_cond5 i v66_0 v74 v79 v84 v89 v94 v99 v104 v109 v114 v119 v124 v129 v134 v139 v144 v149 v158_0 v166 v171 v176 v181 v186 v191 v196 v201 v206 v211 v216 v221 v226 v231 v236 v241 k0_t4 = 1#1), ∀ a, (k0_off132 v466 k0_t28) a + S1x16.size a ≤ S32x512.size a) ∧
  (∀ (k0_h5 : k0_cond5 i v66_0 v74 v79 v84 v89 v94 v99 v104 v109 v114 v119 v124 v129 v134 v139 v144 v149 v158_0 v166 v171 v176 v181 v186 v191 v196 v201 v206 v211 v216 v221 v226 v231 v236 v241 k0_t4 = 1#1), ∀ a, (k0_off133 v466) a + S1x16.size a ≤ S32x512.size a)
theorem k0_off132_inb : ∀ (i : grid0.Coords) (v66_0 : BitVec 32) (v74 : BitVec 32) (v79 : BitVec 32) (v84 : BitVec 32) (v89 : BitVec 32) (v94 : BitVec 32) (v99 : BitVec 32) (v104 : BitVec 32) (v109 : BitVec 32) (v114 : BitVec 32) (v119 : BitVec 32) (v124 : BitVec 32) (v129 : BitVec 32) (v134 : BitVec 32) (v139 : BitVec 32) (v144 : BitVec 32) (v149 : BitVec 32) (v158_0 : BitVec 32) (v166 : BitVec 32) (v171 : BitVec 32) (v176 : BitVec 32) (v181 : BitVec 32) (v186 : BitVec 32) (v191 : BitVec 32) (v196 : BitVec 32) (v201 : BitVec 32) (v206 : BitVec 32) (v211 : BitVec 32) (v216 : BitVec 32) (v221 : BitVec 32) (v226 : BitVec 32) (v231 : BitVec 32) (v236 : BitVec 32) (v241 : BitVec 32) (k0_t4 : Fin (k0_t4_loop i v66_0 v74 v79 v84 v89 v94 v99 v104 v109 v114 v119 v124 v129 v134 v139 v144 v149 v158_0 v166 v171 v176 v181 v186 v191 v196 v201 v206 v211 v216 v221 v226 v231 v236 v241).trips) (v466 : BitVec 32) (k0_hw27 : k0_chk27 i v66_0 v74 v79 v84 v89 v94 v99 v104 v109 v114 v119 v124 v129 v134 v139 v144 v149 v158_0 v166 v171 v176 v181 v186 v191 v196 v201 v206 v211 v216 v221 v226 v231 v236 v241 k0_t4 v466) (k0_t28 : Fin k0_t28_loop.trips), ∀ (k0_h5 : k0_cond5 i v66_0 v74 v79 v84 v89 v94 v99 v104 v109 v114 v119 v124 v129 v134 v139 v144 v149 v158_0 v166 v171 v176 v181 v186 v191 v196 v201 v206 v211 v216 v221 v226 v231 v236 v241 k0_t4 = 1#1), ∀ a, (k0_off132 v466 k0_t28) a + S1x16.size a ≤ S32x512.size a := fun i v66_0 v74 v79 v84 v89 v94 v99 v104 v109 v114 v119 v124 v129 v134 v139 v144 v149 v158_0 v166 v171 v176 v181 v186 v191 v196 v201 v206 v211 v216 v221 v226 v231 v236 v241 k0_t4 v466 k0_hw27 k0_t28 k0_h5 => k0_hw27.1 k0_t28 k0_h5
theorem k0_off133_inb : ∀ (i : grid0.Coords) (v66_0 : BitVec 32) (v74 : BitVec 32) (v79 : BitVec 32) (v84 : BitVec 32) (v89 : BitVec 32) (v94 : BitVec 32) (v99 : BitVec 32) (v104 : BitVec 32) (v109 : BitVec 32) (v114 : BitVec 32) (v119 : BitVec 32) (v124 : BitVec 32) (v129 : BitVec 32) (v134 : BitVec 32) (v139 : BitVec 32) (v144 : BitVec 32) (v149 : BitVec 32) (v158_0 : BitVec 32) (v166 : BitVec 32) (v171 : BitVec 32) (v176 : BitVec 32) (v181 : BitVec 32) (v186 : BitVec 32) (v191 : BitVec 32) (v196 : BitVec 32) (v201 : BitVec 32) (v206 : BitVec 32) (v211 : BitVec 32) (v216 : BitVec 32) (v221 : BitVec 32) (v226 : BitVec 32) (v231 : BitVec 32) (v236 : BitVec 32) (v241 : BitVec 32) (k0_t4 : Fin (k0_t4_loop i v66_0 v74 v79 v84 v89 v94 v99 v104 v109 v114 v119 v124 v129 v134 v139 v144 v149 v158_0 v166 v171 v176 v181 v186 v191 v196 v201 v206 v211 v216 v221 v226 v231 v236 v241).trips) (v466 : BitVec 32) (k0_hw27 : k0_chk27 i v66_0 v74 v79 v84 v89 v94 v99 v104 v109 v114 v119 v124 v129 v134 v139 v144 v149 v158_0 v166 v171 v176 v181 v186 v191 v196 v201 v206 v211 v216 v221 v226 v231 v236 v241 k0_t4 v466), ∀ (k0_h5 : k0_cond5 i v66_0 v74 v79 v84 v89 v94 v99 v104 v109 v114 v119 v124 v129 v134 v139 v144 v149 v158_0 v166 v171 v176 v181 v186 v191 v196 v201 v206 v211 v216 v221 v226 v231 v236 v241 k0_t4 = 1#1), ∀ a, (k0_off133 v466) a + S1x16.size a ≤ S32x512.size a := fun i v66_0 v74 v79 v84 v89 v94 v99 v104 v109 v114 v119 v124 v129 v134 v139 v144 v149 v158_0 v166 v171 v176 v181 v186 v191 v196 v201 v206 v211 v216 v221 v226 v231 v236 v241 k0_t4 v466 k0_hw27 k0_h5 => k0_hw27.2 k0_h5

def k0_off134 (k0_t22 : Fin k0_t22_loop.trips) : Fin 2 → Nat :=
  let c0_i32_149 : BitVec 32 := 0#32
  let c1_i32_150 : BitVec 32 := 1#32
  let arg14 : BitVec 32 := Scf.iv c0_i32_149 c1_i32_150 k0_t22
  let c16_i32_156 : BitVec 32 := 16#32
  let v342 : BitVec 32 := Scalar.muli arg14 c16_i32_156
  let c6_i32 : BitVec 32 := 6#32
  let v487 : BitVec 32 := Scalar.addi v342 c6_i32
  let v488 : Index := Scalar.indexCast v487
  let c0_202 : Index := 0#32
  ![v488.toNat, 0]
@[reducible] def k0_t29_loop : Scf.Loop 32 :=
  let c1_i32_203 : BitVec 32 := 1#32
  let c31_i32_204 : BitVec 32 := 31#32
  let v493 : BitVec 32 := Scalar.addi c1_i32_203 c31_i32_204
  let c1_i32_205 : BitVec 32 := 1#32
  ⟨c1_i32_203, v493, c1_i32_205⟩
def k0_off135 (k0_t22 : Fin k0_t22_loop.trips) (k0_t29 : Fin k0_t29_loop.trips) : Fin 2 → Nat :=
  let c0_i32_149 : BitVec 32 := 0#32
  let c1_i32_150 : BitVec 32 := 1#32
  let arg14 : BitVec 32 := Scf.iv c0_i32_149 c1_i32_150 k0_t22
  let c16_i32_156 : BitVec 32 := 16#32
  let v342 : BitVec 32 := Scalar.muli arg14 c16_i32_156
  let c6_i32 : BitVec 32 := 6#32
  let v487 : BitVec 32 := Scalar.addi v342 c6_i32
  let v684 : Index := Scalar.indexCast v487
  let c1_i32_203 : BitVec 32 := 1#32
  let c1_i32_205 : BitVec 32 := 1#32
  let arg15 : BitVec 32 := Scf.iv c1_i32_203 c1_i32_205 k0_t29
  let c16_i32_273 : BitVec 32 := 16#32
  let v683 : BitVec 32 := Scalar.muli arg15 c16_i32_273
  let v685 : Index := Scalar.indexCast v683
  ![v684.toNat, v685.toNat]
def k0_off136 (v486 : BitVec 32) (k0_t29 : Fin k0_t29_loop.trips) : Fin 2 → Nat :=
  let v692 : Index := Scalar.indexCast v486
  let c1_i32_203 : BitVec 32 := 1#32
  let c1_i32_205 : BitVec 32 := 1#32
  let arg15 : BitVec 32 := Scf.iv c1_i32_203 c1_i32_205 k0_t29
  let c1_i32_274 : BitVec 32 := 1#32
  let v690 : BitVec 32 := Scalar.subi arg15 c1_i32_274
  let c16_i32_275 : BitVec 32 := 16#32
  let v691 : BitVec 32 := Scalar.muli v690 c16_i32_275
  let v693 : Index := Scalar.indexCast v691
  ![v692.toNat, v693.toNat]

def k0_off137 (v486 : BitVec 32) : Fin 2 → Nat :=
  let v495 : Index := Scalar.indexCast v486
  let c496_207 : Index := 496#32
  ![v495.toNat, 496]

def k0_chk28 (i : grid0.Coords) (v66_0 : BitVec 32) (v74 : BitVec 32) (v79 : BitVec 32) (v84 : BitVec 32) (v89 : BitVec 32) (v94 : BitVec 32) (v99 : BitVec 32) (v104 : BitVec 32) (v109 : BitVec 32) (v114 : BitVec 32) (v119 : BitVec 32) (v124 : BitVec 32) (v129 : BitVec 32) (v134 : BitVec 32) (v139 : BitVec 32) (v144 : BitVec 32) (v149 : BitVec 32) (v158_0 : BitVec 32) (v166 : BitVec 32) (v171 : BitVec 32) (v176 : BitVec 32) (v181 : BitVec 32) (v186 : BitVec 32) (v191 : BitVec 32) (v196 : BitVec 32) (v201 : BitVec 32) (v206 : BitVec 32) (v211 : BitVec 32) (v216 : BitVec 32) (v221 : BitVec 32) (v226 : BitVec 32) (v231 : BitVec 32) (v236 : BitVec 32) (v241 : BitVec 32) (k0_t4 : Fin (k0_t4_loop i v66_0 v74 v79 v84 v89 v94 v99 v104 v109 v114 v119 v124 v129 v134 v139 v144 v149 v158_0 v166 v171 v176 v181 v186 v191 v196 v201 v206 v211 v216 v221 v226 v231 v236 v241).trips) (v486 : BitVec 32) : Prop :=
  (∀ k0_t29 : Fin k0_t29_loop.trips, ∀ (k0_h5 : k0_cond5 i v66_0 v74 v79 v84 v89 v94 v99 v104 v109 v114 v119 v124 v129 v134 v139 v144 v149 v158_0 v166 v171 v176 v181 v186 v191 v196 v201 v206 v211 v216 v221 v226 v231 v236 v241 k0_t4 = 1#1), ∀ a, (k0_off136 v486 k0_t29) a + S1x16.size a ≤ S32x512.size a) ∧
  (∀ (k0_h5 : k0_cond5 i v66_0 v74 v79 v84 v89 v94 v99 v104 v109 v114 v119 v124 v129 v134 v139 v144 v149 v158_0 v166 v171 v176 v181 v186 v191 v196 v201 v206 v211 v216 v221 v226 v231 v236 v241 k0_t4 = 1#1), ∀ a, (k0_off137 v486) a + S1x16.size a ≤ S32x512.size a)
theorem k0_off136_inb : ∀ (i : grid0.Coords) (v66_0 : BitVec 32) (v74 : BitVec 32) (v79 : BitVec 32) (v84 : BitVec 32) (v89 : BitVec 32) (v94 : BitVec 32) (v99 : BitVec 32) (v104 : BitVec 32) (v109 : BitVec 32) (v114 : BitVec 32) (v119 : BitVec 32) (v124 : BitVec 32) (v129 : BitVec 32) (v134 : BitVec 32) (v139 : BitVec 32) (v144 : BitVec 32) (v149 : BitVec 32) (v158_0 : BitVec 32) (v166 : BitVec 32) (v171 : BitVec 32) (v176 : BitVec 32) (v181 : BitVec 32) (v186 : BitVec 32) (v191 : BitVec 32) (v196 : BitVec 32) (v201 : BitVec 32) (v206 : BitVec 32) (v211 : BitVec 32) (v216 : BitVec 32) (v221 : BitVec 32) (v226 : BitVec 32) (v231 : BitVec 32) (v236 : BitVec 32) (v241 : BitVec 32) (k0_t4 : Fin (k0_t4_loop i v66_0 v74 v79 v84 v89 v94 v99 v104 v109 v114 v119 v124 v129 v134 v139 v144 v149 v158_0 v166 v171 v176 v181 v186 v191 v196 v201 v206 v211 v216 v221 v226 v231 v236 v241).trips) (v486 : BitVec 32) (k0_hw28 : k0_chk28 i v66_0 v74 v79 v84 v89 v94 v99 v104 v109 v114 v119 v124 v129 v134 v139 v144 v149 v158_0 v166 v171 v176 v181 v186 v191 v196 v201 v206 v211 v216 v221 v226 v231 v236 v241 k0_t4 v486) (k0_t29 : Fin k0_t29_loop.trips), ∀ (k0_h5 : k0_cond5 i v66_0 v74 v79 v84 v89 v94 v99 v104 v109 v114 v119 v124 v129 v134 v139 v144 v149 v158_0 v166 v171 v176 v181 v186 v191 v196 v201 v206 v211 v216 v221 v226 v231 v236 v241 k0_t4 = 1#1), ∀ a, (k0_off136 v486 k0_t29) a + S1x16.size a ≤ S32x512.size a := fun i v66_0 v74 v79 v84 v89 v94 v99 v104 v109 v114 v119 v124 v129 v134 v139 v144 v149 v158_0 v166 v171 v176 v181 v186 v191 v196 v201 v206 v211 v216 v221 v226 v231 v236 v241 k0_t4 v486 k0_hw28 k0_t29 k0_h5 => k0_hw28.1 k0_t29 k0_h5
theorem k0_off137_inb : ∀ (i : grid0.Coords) (v66_0 : BitVec 32) (v74 : BitVec 32) (v79 : BitVec 32) (v84 : BitVec 32) (v89 : BitVec 32) (v94 : BitVec 32) (v99 : BitVec 32) (v104 : BitVec 32) (v109 : BitVec 32) (v114 : BitVec 32) (v119 : BitVec 32) (v124 : BitVec 32) (v129 : BitVec 32) (v134 : BitVec 32) (v139 : BitVec 32) (v144 : BitVec 32) (v149 : BitVec 32) (v158_0 : BitVec 32) (v166 : BitVec 32) (v171 : BitVec 32) (v176 : BitVec 32) (v181 : BitVec 32) (v186 : BitVec 32) (v191 : BitVec 32) (v196 : BitVec 32) (v201 : BitVec 32) (v206 : BitVec 32) (v211 : BitVec 32) (v216 : BitVec 32) (v221 : BitVec 32) (v226 : BitVec 32) (v231 : BitVec 32) (v236 : BitVec 32) (v241 : BitVec 32) (k0_t4 : Fin (k0_t4_loop i v66_0 v74 v79 v84 v89 v94 v99 v104 v109 v114 v119 v124 v129 v134 v139 v144 v149 v158_0 v166 v171 v176 v181 v186 v191 v196 v201 v206 v211 v216 v221 v226 v231 v236 v241).trips) (v486 : BitVec 32) (k0_hw28 : k0_chk28 i v66_0 v74 v79 v84 v89 v94 v99 v104 v109 v114 v119 v124 v129 v134 v139 v144 v149 v158_0 v166 v171 v176 v181 v186 v191 v196 v201 v206 v211 v216 v221 v226 v231 v236 v241 k0_t4 v486), ∀ (k0_h5 : k0_cond5 i v66_0 v74 v79 v84 v89 v94 v99 v104 v109 v114 v119 v124 v129 v134 v139 v144 v149 v158_0 v166 v171 v176 v181 v186 v191 v196 v201 v206 v211 v216 v221 v226 v231 v236 v241 k0_t4 = 1#1), ∀ a, (k0_off137 v486) a + S1x16.size a ≤ S32x512.size a := fun i v66_0 v74 v79 v84 v89 v94 v99 v104 v109 v114 v119 v124 v129 v134 v139 v144 v149 v158_0 v166 v171 v176 v181 v186 v191 v196 v201 v206 v211 v216 v221 v226 v231 v236 v241 k0_t4 v486 k0_hw28 k0_h5 => k0_hw28.2 k0_h5

def k0_off138 (k0_t22 : Fin k0_t22_loop.trips) : Fin 2 → Nat :=
  let c0_i32_149 : BitVec 32 := 0#32
  let c1_i32_150 : BitVec 32 := 1#32
  let arg14 : BitVec 32 := Scf.iv c0_i32_149 c1_i32_150 k0_t22
  let c16_i32_156 : BitVec 32 := 16#32
  let v342 : BitVec 32 := Scalar.muli arg14 c16_i32_156
  let c7_i32 : BitVec 32 := 7#32
  let v507 : BitVec 32 := Scalar.addi v342 c7_i32
  let v508 : Index := Scalar.indexCast v507
  let c0_209 : Index := 0#32
  ![v508.toNat, 0]
@[reducible] def k0_t30_loop : Scf.Loop 32 :=
  let c1_i32_210 : BitVec 32 := 1#32
  let c31_i32_211 : BitVec 32 := 31#32
  let v513 : BitVec 32 := Scalar.addi c1_i32_210 c31_i32_211
  let c1_i32_212 : BitVec 32 := 1#32
  ⟨c1_i32_210, v513, c1_i32_212⟩
def k0_off139 (k0_t22 : Fin k0_t22_loop.trips) (k0_t30 : Fin k0_t30_loop.trips) : Fin 2 → Nat :=
  let c0_i32_149 : BitVec 32 := 0#32
  let c1_i32_150 : BitVec 32 := 1#32
  let arg14 : BitVec 32 := Scf.iv c0_i32_149 c1_i32_150 k0_t22
  let c16_i32_156 : BitVec 32 := 16#32
  let v342 : BitVec 32 := Scalar.muli arg14 c16_i32_156
  let c7_i32 : BitVec 32 := 7#32
  let v507 : BitVec 32 := Scalar.addi v342 c7_i32
  let v684 : Index := Scalar.indexCast v507
  let c1_i32_210 : BitVec 32 := 1#32
  let c1_i32_212 : BitVec 32 := 1#32
  let arg15 : BitVec 32 := Scf.iv c1_i32_210 c1_i32_212 k0_t30
  let c16_i32_273 : BitVec 32 := 16#32
  let v683 : BitVec 32 := Scalar.muli arg15 c16_i32_273
  let v685 : Index := Scalar.indexCast v683
  ![v684.toNat, v685.toNat]
def k0_off140 (v506 : BitVec 32) (k0_t30 : Fin k0_t30_loop.trips) : Fin 2 → Nat :=
  let v692 : Index := Scalar.indexCast v506
  let c1_i32_210 : BitVec 32 := 1#32
  let c1_i32_212 : BitVec 32 := 1#32
  let arg15 : BitVec 32 := Scf.iv c1_i32_210 c1_i32_212 k0_t30
  let c1_i32_274 : BitVec 32 := 1#32
  let v690 : BitVec 32 := Scalar.subi arg15 c1_i32_274
  let c16_i32_275 : BitVec 32 := 16#32
  let v691 : BitVec 32 := Scalar.muli v690 c16_i32_275
  let v693 : Index := Scalar.indexCast v691
  ![v692.toNat, v693.toNat]

def k0_off141 (v506 : BitVec 32) : Fin 2 → Nat :=
  let v515 : Index := Scalar.indexCast v506
  let c496_214 : Index := 496#32
  ![v515.toNat, 496]

def k0_chk29 (i : grid0.Coords) (v66_0 : BitVec 32) (v74 : BitVec 32) (v79 : BitVec 32) (v84 : BitVec 32) (v89 : BitVec 32) (v94 : BitVec 32) (v99 : BitVec 32) (v104 : BitVec 32) (v109 : BitVec 32) (v114 : BitVec 32) (v119 : BitVec 32) (v124 : BitVec 32) (v129 : BitVec 32) (v134 : BitVec 32) (v139 : BitVec 32) (v144 : BitVec 32) (v149 : BitVec 32) (v158_0 : BitVec 32) (v166 : BitVec 32) (v171 : BitVec 32) (v176 : BitVec 32) (v181 : BitVec 32) (v186 : BitVec 32) (v191 : BitVec 32) (v196 : BitVec 32) (v201 : BitVec 32) (v206 : BitVec 32) (v211 : BitVec 32) (v216 : BitVec 32) (v221 : BitVec 32) (v226 : BitVec 32) (v231 : BitVec 32) (v236 : BitVec 32) (v241 : BitVec 32) (k0_t4 : Fin (k0_t4_loop i v66_0 v74 v79 v84 v89 v94 v99 v104 v109 v114 v119 v124 v129 v134 v139 v144 v149 v158_0 v166 v171 v176 v181 v186 v191 v196 v201 v206 v211 v216 v221 v226 v231 v236 v241).trips) (v506 : BitVec 32) : Prop :=
  (∀ k0_t30 : Fin k0_t30_loop.trips, ∀ (k0_h5 : k0_cond5 i v66_0 v74 v79 v84 v89 v94 v99 v104 v109 v114 v119 v124 v129 v134 v139 v144 v149 v158_0 v166 v171 v176 v181 v186 v191 v196 v201 v206 v211 v216 v221 v226 v231 v236 v241 k0_t4 = 1#1), ∀ a, (k0_off140 v506 k0_t30) a + S1x16.size a ≤ S32x512.size a) ∧
  (∀ (k0_h5 : k0_cond5 i v66_0 v74 v79 v84 v89 v94 v99 v104 v109 v114 v119 v124 v129 v134 v139 v144 v149 v158_0 v166 v171 v176 v181 v186 v191 v196 v201 v206 v211 v216 v221 v226 v231 v236 v241 k0_t4 = 1#1), ∀ a, (k0_off141 v506) a + S1x16.size a ≤ S32x512.size a)
theorem k0_off140_inb : ∀ (i : grid0.Coords) (v66_0 : BitVec 32) (v74 : BitVec 32) (v79 : BitVec 32) (v84 : BitVec 32) (v89 : BitVec 32) (v94 : BitVec 32) (v99 : BitVec 32) (v104 : BitVec 32) (v109 : BitVec 32) (v114 : BitVec 32) (v119 : BitVec 32) (v124 : BitVec 32) (v129 : BitVec 32) (v134 : BitVec 32) (v139 : BitVec 32) (v144 : BitVec 32) (v149 : BitVec 32) (v158_0 : BitVec 32) (v166 : BitVec 32) (v171 : BitVec 32) (v176 : BitVec 32) (v181 : BitVec 32) (v186 : BitVec 32) (v191 : BitVec 32) (v196 : BitVec 32) (v201 : BitVec 32) (v206 : BitVec 32) (v211 : BitVec 32) (v216 : BitVec 32) (v221 : BitVec 32) (v226 : BitVec 32) (v231 : BitVec 32) (v236 : BitVec 32) (v241 : BitVec 32) (k0_t4 : Fin (k0_t4_loop i v66_0 v74 v79 v84 v89 v94 v99 v104 v109 v114 v119 v124 v129 v134 v139 v144 v149 v158_0 v166 v171 v176 v181 v186 v191 v196 v201 v206 v211 v216 v221 v226 v231 v236 v241).trips) (v506 : BitVec 32) (k0_hw29 : k0_chk29 i v66_0 v74 v79 v84 v89 v94 v99 v104 v109 v114 v119 v124 v129 v134 v139 v144 v149 v158_0 v166 v171 v176 v181 v186 v191 v196 v201 v206 v211 v216 v221 v226 v231 v236 v241 k0_t4 v506) (k0_t30 : Fin k0_t30_loop.trips), ∀ (k0_h5 : k0_cond5 i v66_0 v74 v79 v84 v89 v94 v99 v104 v109 v114 v119 v124 v129 v134 v139 v144 v149 v158_0 v166 v171 v176 v181 v186 v191 v196 v201 v206 v211 v216 v221 v226 v231 v236 v241 k0_t4 = 1#1), ∀ a, (k0_off140 v506 k0_t30) a + S1x16.size a ≤ S32x512.size a := fun i v66_0 v74 v79 v84 v89 v94 v99 v104 v109 v114 v119 v124 v129 v134 v139 v144 v149 v158_0 v166 v171 v176 v181 v186 v191 v196 v201 v206 v211 v216 v221 v226 v231 v236 v241 k0_t4 v506 k0_hw29 k0_t30 k0_h5 => k0_hw29.1 k0_t30 k0_h5
theorem k0_off141_inb : ∀ (i : grid0.Coords) (v66_0 : BitVec 32) (v74 : BitVec 32) (v79 : BitVec 32) (v84 : BitVec 32) (v89 : BitVec 32) (v94 : BitVec 32) (v99 : BitVec 32) (v104 : BitVec 32) (v109 : BitVec 32) (v114 : BitVec 32) (v119 : BitVec 32) (v124 : BitVec 32) (v129 : BitVec 32) (v134 : BitVec 32) (v139 : BitVec 32) (v144 : BitVec 32) (v149 : BitVec 32) (v158_0 : BitVec 32) (v166 : BitVec 32) (v171 : BitVec 32) (v176 : BitVec 32) (v181 : BitVec 32) (v186 : BitVec 32) (v191 : BitVec 32) (v196 : BitVec 32) (v201 : BitVec 32) (v206 : BitVec 32) (v211 : BitVec 32) (v216 : BitVec 32) (v221 : BitVec 32) (v226 : BitVec 32) (v231 : BitVec 32) (v236 : BitVec 32) (v241 : BitVec 32) (k0_t4 : Fin (k0_t4_loop i v66_0 v74 v79 v84 v89 v94 v99 v104 v109 v114 v119 v124 v129 v134 v139 v144 v149 v158_0 v166 v171 v176 v181 v186 v191 v196 v201 v206 v211 v216 v221 v226 v231 v236 v241).trips) (v506 : BitVec 32) (k0_hw29 : k0_chk29 i v66_0 v74 v79 v84 v89 v94 v99 v104 v109 v114 v119 v124 v129 v134 v139 v144 v149 v158_0 v166 v171 v176 v181 v186 v191 v196 v201 v206 v211 v216 v221 v226 v231 v236 v241 k0_t4 v506), ∀ (k0_h5 : k0_cond5 i v66_0 v74 v79 v84 v89 v94 v99 v104 v109 v114 v119 v124 v129 v134 v139 v144 v149 v158_0 v166 v171 v176 v181 v186 v191 v196 v201 v206 v211 v216 v221 v226 v231 v236 v241 k0_t4 = 1#1), ∀ a, (k0_off141 v506) a + S1x16.size a ≤ S32x512.size a := fun i v66_0 v74 v79 v84 v89 v94 v99 v104 v109 v114 v119 v124 v129 v134 v139 v144 v149 v158_0 v166 v171 v176 v181 v186 v191 v196 v201 v206 v211 v216 v221 v226 v231 v236 v241 k0_t4 v506 k0_hw29 k0_h5 => k0_hw29.2 k0_h5

def k0_off142 (k0_t22 : Fin k0_t22_loop.trips) : Fin 2 → Nat :=
  let c0_i32_149 : BitVec 32 := 0#32
  let c1_i32_150 : BitVec 32 := 1#32
  let arg14 : BitVec 32 := Scf.iv c0_i32_149 c1_i32_150 k0_t22
  let c16_i32_156 : BitVec 32 := 16#32
  let v342 : BitVec 32 := Scalar.muli arg14 c16_i32_156
  let c8_i32 : BitVec 32 := 8#32
  let v527 : BitVec 32 := Scalar.addi v342 c8_i32
  let v528 : Index := Scalar.indexCast v527
  let c0_216 : Index := 0#32
  ![v528.toNat, 0]
@[reducible] def k0_t31_loop : Scf.Loop 32 :=
  let c1_i32_217 : BitVec 32 := 1#32
  let c31_i32_218 : BitVec 32 := 31#32
  let v533 : BitVec 32 := Scalar.addi c1_i32_217 c31_i32_218
  let c1_i32_219 : BitVec 32 := 1#32
  ⟨c1_i32_217, v533, c1_i32_219⟩
def k0_off143 (k0_t22 : Fin k0_t22_loop.trips) (k0_t31 : Fin k0_t31_loop.trips) : Fin 2 → Nat :=
  let c0_i32_149 : BitVec 32 := 0#32
  let c1_i32_150 : BitVec 32 := 1#32
  let arg14 : BitVec 32 := Scf.iv c0_i32_149 c1_i32_150 k0_t22
  let c16_i32_156 : BitVec 32 := 16#32
  let v342 : BitVec 32 := Scalar.muli arg14 c16_i32_156
  let c8_i32 : BitVec 32 := 8#32
  let v527 : BitVec 32 := Scalar.addi v342 c8_i32
  let v684 : Index := Scalar.indexCast v527
  let c1_i32_217 : BitVec 32 := 1#32
  let c1_i32_219 : BitVec 32 := 1#32
  let arg15 : BitVec 32 := Scf.iv c1_i32_217 c1_i32_219 k0_t31
  let c16_i32_273 : BitVec 32 := 16#32
  let v683 : BitVec 32 := Scalar.muli arg15 c16_i32_273
  let v685 : Index := Scalar.indexCast v683
  ![v684.toNat, v685.toNat]
def k0_off144 (v526 : BitVec 32) (k0_t31 : Fin k0_t31_loop.trips) : Fin 2 → Nat :=
  let v692 : Index := Scalar.indexCast v526
  let c1_i32_217 : BitVec 32 := 1#32
  let c1_i32_219 : BitVec 32 := 1#32
  let arg15 : BitVec 32 := Scf.iv c1_i32_217 c1_i32_219 k0_t31
  let c1_i32_274 : BitVec 32 := 1#32
  let v690 : BitVec 32 := Scalar.subi arg15 c1_i32_274
  let c16_i32_275 : BitVec 32 := 16#32
  let v691 : BitVec 32 := Scalar.muli v690 c16_i32_275
  let v693 : Index := Scalar.indexCast v691
  ![v692.toNat, v693.toNat]

def k0_off145 (v526 : BitVec 32) : Fin 2 → Nat :=
  let v535 : Index := Scalar.indexCast v526
  let c496_221 : Index := 496#32
  ![v535.toNat, 496]

def k0_chk30 (i : grid0.Coords) (v66_0 : BitVec 32) (v74 : BitVec 32) (v79 : BitVec 32) (v84 : BitVec 32) (v89 : BitVec 32) (v94 : BitVec 32) (v99 : BitVec 32) (v104 : BitVec 32) (v109 : BitVec 32) (v114 : BitVec 32) (v119 : BitVec 32) (v124 : BitVec 32) (v129 : BitVec 32) (v134 : BitVec 32) (v139 : BitVec 32) (v144 : BitVec 32) (v149 : BitVec 32) (v158_0 : BitVec 32) (v166 : BitVec 32) (v171 : BitVec 32) (v176 : BitVec 32) (v181 : BitVec 32) (v186 : BitVec 32) (v191 : BitVec 32) (v196 : BitVec 32) (v201 : BitVec 32) (v206 : BitVec 32) (v211 : BitVec 32) (v216 : BitVec 32) (v221 : BitVec 32) (v226 : BitVec 32) (v231 : BitVec 32) (v236 : BitVec 32) (v241 : BitVec 32) (k0_t4 : Fin (k0_t4_loop i v66_0 v74 v79 v84 v89 v94 v99 v104 v109 v114 v119 v124 v129 v134 v139 v144 v149 v158_0 v166 v171 v176 v181 v186 v191 v196 v201 v206 v211 v216 v221 v226 v231 v236 v241).trips) (v526 : BitVec 32) : Prop :=
  (∀ k0_t31 : Fin k0_t31_loop.trips, ∀ (k0_h5 : k0_cond5 i v66_0 v74 v79 v84 v89 v94 v99 v104 v109 v114 v119 v124 v129 v134 v139 v144 v149 v158_0 v166 v171 v176 v181 v186 v191 v196 v201 v206 v211 v216 v221 v226 v231 v236 v241 k0_t4 = 1#1), ∀ a, (k0_off144 v526 k0_t31) a + S1x16.size a ≤ S32x512.size a) ∧
  (∀ (k0_h5 : k0_cond5 i v66_0 v74 v79 v84 v89 v94 v99 v104 v109 v114 v119 v124 v129 v134 v139 v144 v149 v158_0 v166 v171 v176 v181 v186 v191 v196 v201 v206 v211 v216 v221 v226 v231 v236 v241 k0_t4 = 1#1), ∀ a, (k0_off145 v526) a + S1x16.size a ≤ S32x512.size a)
theorem k0_off144_inb : ∀ (i : grid0.Coords) (v66_0 : BitVec 32) (v74 : BitVec 32) (v79 : BitVec 32) (v84 : BitVec 32) (v89 : BitVec 32) (v94 : BitVec 32) (v99 : BitVec 32) (v104 : BitVec 32) (v109 : BitVec 32) (v114 : BitVec 32) (v119 : BitVec 32) (v124 : BitVec 32) (v129 : BitVec 32) (v134 : BitVec 32) (v139 : BitVec 32) (v144 : BitVec 32) (v149 : BitVec 32) (v158_0 : BitVec 32) (v166 : BitVec 32) (v171 : BitVec 32) (v176 : BitVec 32) (v181 : BitVec 32) (v186 : BitVec 32) (v191 : BitVec 32) (v196 : BitVec 32) (v201 : BitVec 32) (v206 : BitVec 32) (v211 : BitVec 32) (v216 : BitVec 32) (v221 : BitVec 32) (v226 : BitVec 32) (v231 : BitVec 32) (v236 : BitVec 32) (v241 : BitVec 32) (k0_t4 : Fin (k0_t4_loop i v66_0 v74 v79 v84 v89 v94 v99 v104 v109 v114 v119 v124 v129 v134 v139 v144 v149 v158_0 v166 v171 v176 v181 v186 v191 v196 v201 v206 v211 v216 v221 v226 v231 v236 v241).trips) (v526 : BitVec 32) (k0_hw30 : k0_chk30 i v66_0 v74 v79 v84 v89 v94 v99 v104 v109 v114 v119 v124 v129 v134 v139 v144 v149 v158_0 v166 v171 v176 v181 v186 v191 v196 v201 v206 v211 v216 v221 v226 v231 v236 v241 k0_t4 v526) (k0_t31 : Fin k0_t31_loop.trips), ∀ (k0_h5 : k0_cond5 i v66_0 v74 v79 v84 v89 v94 v99 v104 v109 v114 v119 v124 v129 v134 v139 v144 v149 v158_0 v166 v171 v176 v181 v186 v191 v196 v201 v206 v211 v216 v221 v226 v231 v236 v241 k0_t4 = 1#1), ∀ a, (k0_off144 v526 k0_t31) a + S1x16.size a ≤ S32x512.size a := fun i v66_0 v74 v79 v84 v89 v94 v99 v104 v109 v114 v119 v124 v129 v134 v139 v144 v149 v158_0 v166 v171 v176 v181 v186 v191 v196 v201 v206 v211 v216 v221 v226 v231 v236 v241 k0_t4 v526 k0_hw30 k0_t31 k0_h5 => k0_hw30.1 k0_t31 k0_h5
theorem k0_off145_inb : ∀ (i : grid0.Coords) (v66_0 : BitVec 32) (v74 : BitVec 32) (v79 : BitVec 32) (v84 : BitVec 32) (v89 : BitVec 32) (v94 : BitVec 32) (v99 : BitVec 32) (v104 : BitVec 32) (v109 : BitVec 32) (v114 : BitVec 32) (v119 : BitVec 32) (v124 : BitVec 32) (v129 : BitVec 32) (v134 : BitVec 32) (v139 : BitVec 32) (v144 : BitVec 32) (v149 : BitVec 32) (v158_0 : BitVec 32) (v166 : BitVec 32) (v171 : BitVec 32) (v176 : BitVec 32) (v181 : BitVec 32) (v186 : BitVec 32) (v191 : BitVec 32) (v196 : BitVec 32) (v201 : BitVec 32) (v206 : BitVec 32) (v211 : BitVec 32) (v216 : BitVec 32) (v221 : BitVec 32) (v226 : BitVec 32) (v231 : BitVec 32) (v236 : BitVec 32) (v241 : BitVec 32) (k0_t4 : Fin (k0_t4_loop i v66_0 v74 v79 v84 v89 v94 v99 v104 v109 v114 v119 v124 v129 v134 v139 v144 v149 v158_0 v166 v171 v176 v181 v186 v191 v196 v201 v206 v211 v216 v221 v226 v231 v236 v241).trips) (v526 : BitVec 32) (k0_hw30 : k0_chk30 i v66_0 v74 v79 v84 v89 v94 v99 v104 v109 v114 v119 v124 v129 v134 v139 v144 v149 v158_0 v166 v171 v176 v181 v186 v191 v196 v201 v206 v211 v216 v221 v226 v231 v236 v241 k0_t4 v526), ∀ (k0_h5 : k0_cond5 i v66_0 v74 v79 v84 v89 v94 v99 v104 v109 v114 v119 v124 v129 v134 v139 v144 v149 v158_0 v166 v171 v176 v181 v186 v191 v196 v201 v206 v211 v216 v221 v226 v231 v236 v241 k0_t4 = 1#1), ∀ a, (k0_off145 v526) a + S1x16.size a ≤ S32x512.size a := fun i v66_0 v74 v79 v84 v89 v94 v99 v104 v109 v114 v119 v124 v129 v134 v139 v144 v149 v158_0 v166 v171 v176 v181 v186 v191 v196 v201 v206 v211 v216 v221 v226 v231 v236 v241 k0_t4 v526 k0_hw30 k0_h5 => k0_hw30.2 k0_h5

def k0_off146 (k0_t22 : Fin k0_t22_loop.trips) : Fin 2 → Nat :=
  let c0_i32_149 : BitVec 32 := 0#32
  let c1_i32_150 : BitVec 32 := 1#32
  let arg14 : BitVec 32 := Scf.iv c0_i32_149 c1_i32_150 k0_t22
  let c16_i32_156 : BitVec 32 := 16#32
  let v342 : BitVec 32 := Scalar.muli arg14 c16_i32_156
  let c9_i32 : BitVec 32 := 9#32
  let v547 : BitVec 32 := Scalar.addi v342 c9_i32
  let v548 : Index := Scalar.indexCast v547
  let c0_223 : Index := 0#32
  ![v548.toNat, 0]
@[reducible] def k0_t32_loop : Scf.Loop 32 :=
  let c1_i32_224 : BitVec 32 := 1#32
  let c31_i32_225 : BitVec 32 := 31#32
  let v553 : BitVec 32 := Scalar.addi c1_i32_224 c31_i32_225
  let c1_i32_226 : BitVec 32 := 1#32
  ⟨c1_i32_224, v553, c1_i32_226⟩
def k0_off147 (k0_t22 : Fin k0_t22_loop.trips) (k0_t32 : Fin k0_t32_loop.trips) : Fin 2 → Nat :=
  let c0_i32_149 : BitVec 32 := 0#32
  let c1_i32_150 : BitVec 32 := 1#32
  let arg14 : BitVec 32 := Scf.iv c0_i32_149 c1_i32_150 k0_t22
  let c16_i32_156 : BitVec 32 := 16#32
  let v342 : BitVec 32 := Scalar.muli arg14 c16_i32_156
  let c9_i32 : BitVec 32 := 9#32
  let v547 : BitVec 32 := Scalar.addi v342 c9_i32
  let v684 : Index := Scalar.indexCast v547
  let c1_i32_224 : BitVec 32 := 1#32
  let c1_i32_226 : BitVec 32 := 1#32
  let arg15 : BitVec 32 := Scf.iv c1_i32_224 c1_i32_226 k0_t32
  let c16_i32_273 : BitVec 32 := 16#32
  let v683 : BitVec 32 := Scalar.muli arg15 c16_i32_273
  let v685 : Index := Scalar.indexCast v683
  ![v684.toNat, v685.toNat]
def k0_off148 (v546 : BitVec 32) (k0_t32 : Fin k0_t32_loop.trips) : Fin 2 → Nat :=
  let v692 : Index := Scalar.indexCast v546
  let c1_i32_224 : BitVec 32 := 1#32
  let c1_i32_226 : BitVec 32 := 1#32
  let arg15 : BitVec 32 := Scf.iv c1_i32_224 c1_i32_226 k0_t32
  let c1_i32_274 : BitVec 32 := 1#32
  let v690 : BitVec 32 := Scalar.subi arg15 c1_i32_274
  let c16_i32_275 : BitVec 32 := 16#32
  let v691 : BitVec 32 := Scalar.muli v690 c16_i32_275
  let v693 : Index := Scalar.indexCast v691
  ![v692.toNat, v693.toNat]

def k0_off149 (v546 : BitVec 32) : Fin 2 → Nat :=
  let v555 : Index := Scalar.indexCast v546
  let c496_228 : Index := 496#32
  ![v555.toNat, 496]

def k0_chk31 (i : grid0.Coords) (v66_0 : BitVec 32) (v74 : BitVec 32) (v79 : BitVec 32) (v84 : BitVec 32) (v89 : BitVec 32) (v94 : BitVec 32) (v99 : BitVec 32) (v104 : BitVec 32) (v109 : BitVec 32) (v114 : BitVec 32) (v119 : BitVec 32) (v124 : BitVec 32) (v129 : BitVec 32) (v134 : BitVec 32) (v139 : BitVec 32) (v144 : BitVec 32) (v149 : BitVec 32) (v158_0 : BitVec 32) (v166 : BitVec 32) (v171 : BitVec 32) (v176 : BitVec 32) (v181 : BitVec 32) (v186 : BitVec 32) (v191 : BitVec 32) (v196 : BitVec 32) (v201 : BitVec 32) (v206 : BitVec 32) (v211 : BitVec 32) (v216 : BitVec 32) (v221 : BitVec 32) (v226 : BitVec 32) (v231 : BitVec 32) (v236 : BitVec 32) (v241 : BitVec 32) (k0_t4 : Fin (k0_t4_loop i v66_0 v74 v79 v84 v89 v94 v99 v104 v109 v114 v119 v124 v129 v134 v139 v144 v149 v158_0 v166 v171 v176 v181 v186 v191 v196 v201 v206 v211 v216 v221 v226 v231 v236 v241).trips) (v546 : BitVec 32) : Prop :=
  (∀ k0_t32 : Fin k0_t32_loop.trips, ∀ (k0_h5 : k0_cond5 i v66_0 v74 v79 v84 v89 v94 v99 v104 v109 v114 v119 v124 v129 v134 v139 v144 v149 v158_0 v166 v171 v176 v181 v186 v191 v196 v201 v206 v211 v216 v221 v226 v231 v236 v241 k0_t4 = 1#1), ∀ a, (k0_off148 v546 k0_t32) a + S1x16.size a ≤ S32x512.size a) ∧
  (∀ (k0_h5 : k0_cond5 i v66_0 v74 v79 v84 v89 v94 v99 v104 v109 v114 v119 v124 v129 v134 v139 v144 v149 v158_0 v166 v171 v176 v181 v186 v191 v196 v201 v206 v211 v216 v221 v226 v231 v236 v241 k0_t4 = 1#1), ∀ a, (k0_off149 v546) a + S1x16.size a ≤ S32x512.size a)
theorem k0_off148_inb : ∀ (i : grid0.Coords) (v66_0 : BitVec 32) (v74 : BitVec 32) (v79 : BitVec 32) (v84 : BitVec 32) (v89 : BitVec 32) (v94 : BitVec 32) (v99 : BitVec 32) (v104 : BitVec 32) (v109 : BitVec 32) (v114 : BitVec 32) (v119 : BitVec 32) (v124 : BitVec 32) (v129 : BitVec 32) (v134 : BitVec 32) (v139 : BitVec 32) (v144 : BitVec 32) (v149 : BitVec 32) (v158_0 : BitVec 32) (v166 : BitVec 32) (v171 : BitVec 32) (v176 : BitVec 32) (v181 : BitVec 32) (v186 : BitVec 32) (v191 : BitVec 32) (v196 : BitVec 32) (v201 : BitVec 32) (v206 : BitVec 32) (v211 : BitVec 32) (v216 : BitVec 32) (v221 : BitVec 32) (v226 : BitVec 32) (v231 : BitVec 32) (v236 : BitVec 32) (v241 : BitVec 32) (k0_t4 : Fin (k0_t4_loop i v66_0 v74 v79 v84 v89 v94 v99 v104 v109 v114 v119 v124 v129 v134 v139 v144 v149 v158_0 v166 v171 v176 v181 v186 v191 v196 v201 v206 v211 v216 v221 v226 v231 v236 v241).trips) (v546 : BitVec 32) (k0_hw31 : k0_chk31 i v66_0 v74 v79 v84 v89 v94 v99 v104 v109 v114 v119 v124 v129 v134 v139 v144 v149 v158_0 v166 v171 v176 v181 v186 v191 v196 v201 v206 v211 v216 v221 v226 v231 v236 v241 k0_t4 v546) (k0_t32 : Fin k0_t32_loop.trips), ∀ (k0_h5 : k0_cond5 i v66_0 v74 v79 v84 v89 v94 v99 v104 v109 v114 v119 v124 v129 v134 v139 v144 v149 v158_0 v166 v171 v176 v181 v186 v191 v196 v201 v206 v211 v216 v221 v226 v231 v236 v241 k0_t4 = 1#1), ∀ a, (k0_off148 v546 k0_t32) a + S1x16.size a ≤ S32x512.size a := fun i v66_0 v74 v79 v84 v89 v94 v99 v104 v109 v114 v119 v124 v129 v134 v139 v144 v149 v158_0 v166 v171 v176 v181 v186 v191 v196 v201 v206 v211 v216 v221 v226 v231 v236 v241 k0_t4 v546 k0_hw31 k0_t32 k0_h5 => k0_hw31.1 k0_t32 k0_h5
theorem k0_off149_inb : ∀ (i : grid0.Coords) (v66_0 : BitVec 32) (v74 : BitVec 32) (v79 : BitVec 32) (v84 : BitVec 32) (v89 : BitVec 32) (v94 : BitVec 32) (v99 : BitVec 32) (v104 : BitVec 32) (v109 : BitVec 32) (v114 : BitVec 32) (v119 : BitVec 32) (v124 : BitVec 32) (v129 : BitVec 32) (v134 : BitVec 32) (v139 : BitVec 32) (v144 : BitVec 32) (v149 : BitVec 32) (v158_0 : BitVec 32) (v166 : BitVec 32) (v171 : BitVec 32) (v176 : BitVec 32) (v181 : BitVec 32) (v186 : BitVec 32) (v191 : BitVec 32) (v196 : BitVec 32) (v201 : BitVec 32) (v206 : BitVec 32) (v211 : BitVec 32) (v216 : BitVec 32) (v221 : BitVec 32) (v226 : BitVec 32) (v231 : BitVec 32) (v236 : BitVec 32) (v241 : BitVec 32) (k0_t4 : Fin (k0_t4_loop i v66_0 v74 v79 v84 v89 v94 v99 v104 v109 v114 v119 v124 v129 v134 v139 v144 v149 v158_0 v166 v171 v176 v181 v186 v191 v196 v201 v206 v211 v216 v221 v226 v231 v236 v241).trips) (v546 : BitVec 32) (k0_hw31 : k0_chk31 i v66_0 v74 v79 v84 v89 v94 v99 v104 v109 v114 v119 v124 v129 v134 v139 v144 v149 v158_0 v166 v171 v176 v181 v186 v191 v196 v201 v206 v211 v216 v221 v226 v231 v236 v241 k0_t4 v546), ∀ (k0_h5 : k0_cond5 i v66_0 v74 v79 v84 v89 v94 v99 v104 v109 v114 v119 v124 v129 v134 v139 v144 v149 v158_0 v166 v171 v176 v181 v186 v191 v196 v201 v206 v211 v216 v221 v226 v231 v236 v241 k0_t4 = 1#1), ∀ a, (k0_off149 v546) a + S1x16.size a ≤ S32x512.size a := fun i v66_0 v74 v79 v84 v89 v94 v99 v104 v109 v114 v119 v124 v129 v134 v139 v144 v149 v158_0 v166 v171 v176 v181 v186 v191 v196 v201 v206 v211 v216 v221 v226 v231 v236 v241 k0_t4 v546 k0_hw31 k0_h5 => k0_hw31.2 k0_h5

def k0_off150 (k0_t22 : Fin k0_t22_loop.trips) : Fin 2 → Nat :=
  let c0_i32_149 : BitVec 32 := 0#32
  let c1_i32_150 : BitVec 32 := 1#32
  let arg14 : BitVec 32 := Scf.iv c0_i32_149 c1_i32_150 k0_t22
  let c16_i32_156 : BitVec 32 := 16#32
  let v342 : BitVec 32 := Scalar.muli arg14 c16_i32_156
  let c10_i32_230 : BitVec 32 := 10#32
  let v567 : BitVec 32 := Scalar.addi v342 c10_i32_230
  let v568 : Index := Scalar.indexCast v567
  let c0_231 : Index := 0#32
  ![v568.toNat, 0]
@[reducible] def k0_t33_loop : Scf.Loop 32 :=
  let c1_i32_232 : BitVec 32 := 1#32
  let c31_i32_233 : BitVec 32 := 31#32
  let v573 : BitVec 32 := Scalar.addi c1_i32_232 c31_i32_233
  let c1_i32_234 : BitVec 32 := 1#32
  ⟨c1_i32_232, v573, c1_i32_234⟩
def k0_off151 (k0_t22 : Fin k0_t22_loop.trips) (k0_t33 : Fin k0_t33_loop.trips) : Fin 2 → Nat :=
  let c0_i32_149 : BitVec 32 := 0#32
  let c1_i32_150 : BitVec 32 := 1#32
  let arg14 : BitVec 32 := Scf.iv c0_i32_149 c1_i32_150 k0_t22
  let c16_i32_156 : BitVec 32 := 16#32
  let v342 : BitVec 32 := Scalar.muli arg14 c16_i32_156
  let c10_i32_230 : BitVec 32 := 10#32
  let v567 : BitVec 32 := Scalar.addi v342 c10_i32_230
  let v684 : Index := Scalar.indexCast v567
  let c1_i32_232 : BitVec 32 := 1#32
  let c1_i32_234 : BitVec 32 := 1#32
  let arg15 : BitVec 32 := Scf.iv c1_i32_232 c1_i32_234 k0_t33
  let c16_i32_273 : BitVec 32 := 16#32
  let v683 : BitVec 32 := Scalar.muli arg15 c16_i32_273
  let v685 : Index := Scalar.indexCast v683
  ![v684.toNat, v685.toNat]
def k0_off152 (v566 : BitVec 32) (k0_t33 : Fin k0_t33_loop.trips) : Fin 2 → Nat :=
  let v692 : Index := Scalar.indexCast v566
  let c1_i32_232 : BitVec 32 := 1#32
  let c1_i32_234 : BitVec 32 := 1#32
  let arg15 : BitVec 32 := Scf.iv c1_i32_232 c1_i32_234 k0_t33
  let c1_i32_274 : BitVec 32 := 1#32
  let v690 : BitVec 32 := Scalar.subi arg15 c1_i32_274
  let c16_i32_275 : BitVec 32 := 16#32
  let v691 : BitVec 32 := Scalar.muli v690 c16_i32_275
  let v693 : Index := Scalar.indexCast v691
  ![v692.toNat, v693.toNat]

def k0_off153 (v566 : BitVec 32) : Fin 2 → Nat :=
  let v575 : Index := Scalar.indexCast v566
  let c496_236 : Index := 496#32
  ![v575.toNat, 496]

def k0_chk32 (i : grid0.Coords) (v66_0 : BitVec 32) (v74 : BitVec 32) (v79 : BitVec 32) (v84 : BitVec 32) (v89 : BitVec 32) (v94 : BitVec 32) (v99 : BitVec 32) (v104 : BitVec 32) (v109 : BitVec 32) (v114 : BitVec 32) (v119 : BitVec 32) (v124 : BitVec 32) (v129 : BitVec 32) (v134 : BitVec 32) (v139 : BitVec 32) (v144 : BitVec 32) (v149 : BitVec 32) (v158_0 : BitVec 32) (v166 : BitVec 32) (v171 : BitVec 32) (v176 : BitVec 32) (v181 : BitVec 32) (v186 : BitVec 32) (v191 : BitVec 32) (v196 : BitVec 32) (v201 : BitVec 32) (v206 : BitVec 32) (v211 : BitVec 32) (v216 : BitVec 32) (v221 : BitVec 32) (v226 : BitVec 32) (v231 : BitVec 32) (v236 : BitVec 32) (v241 : BitVec 32) (k0_t4 : Fin (k0_t4_loop i v66_0 v74 v79 v84 v89 v94 v99 v104 v109 v114 v119 v124 v129 v134 v139 v144 v149 v158_0 v166 v171 v176 v181 v186 v191 v196 v201 v206 v211 v216 v221 v226 v231 v236 v241).trips) (v566 : BitVec 32) : Prop :=
  (∀ k0_t33 : Fin k0_t33_loop.trips, ∀ (k0_h5 : k0_cond5 i v66_0 v74 v79 v84 v89 v94 v99 v104 v109 v114 v119 v124 v129 v134 v139 v144 v149 v158_0 v166 v171 v176 v181 v186 v191 v196 v201 v206 v211 v216 v221 v226 v231 v236 v241 k0_t4 = 1#1), ∀ a, (k0_off152 v566 k0_t33) a + S1x16.size a ≤ S32x512.size a) ∧
  (∀ (k0_h5 : k0_cond5 i v66_0 v74 v79 v84 v89 v94 v99 v104 v109 v114 v119 v124 v129 v134 v139 v144 v149 v158_0 v166 v171 v176 v181 v186 v191 v196 v201 v206 v211 v216 v221 v226 v231 v236 v241 k0_t4 = 1#1), ∀ a, (k0_off153 v566) a + S1x16.size a ≤ S32x512.size a)
theorem k0_off152_inb : ∀ (i : grid0.Coords) (v66_0 : BitVec 32) (v74 : BitVec 32) (v79 : BitVec 32) (v84 : BitVec 32) (v89 : BitVec 32) (v94 : BitVec 32) (v99 : BitVec 32) (v104 : BitVec 32) (v109 : BitVec 32) (v114 : BitVec 32) (v119 : BitVec 32) (v124 : BitVec 32) (v129 : BitVec 32) (v134 : BitVec 32) (v139 : BitVec 32) (v144 : BitVec 32) (v149 : BitVec 32) (v158_0 : BitVec 32) (v166 : BitVec 32) (v171 : BitVec 32) (v176 : BitVec 32) (v181 : BitVec 32) (v186 : BitVec 32) (v191 : BitVec 32) (v196 : BitVec 32) (v201 : BitVec 32) (v206 : BitVec 32) (v211 : BitVec 32) (v216 : BitVec 32) (v221 : BitVec 32) (v226 : BitVec 32) (v231 : BitVec 32) (v236 : BitVec 32) (v241 : BitVec 32) (k0_t4 : Fin (k0_t4_loop i v66_0 v74 v79 v84 v89 v94 v99 v104 v109 v114 v119 v124 v129 v134 v139 v144 v149 v158_0 v166 v171 v176 v181 v186 v191 v196 v201 v206 v211 v216 v221 v226 v231 v236 v241).trips) (v566 : BitVec 32) (k0_hw32 : k0_chk32 i v66_0 v74 v79 v84 v89 v94 v99 v104 v109 v114 v119 v124 v129 v134 v139 v144 v149 v158_0 v166 v171 v176 v181 v186 v191 v196 v201 v206 v211 v216 v221 v226 v231 v236 v241 k0_t4 v566) (k0_t33 : Fin k0_t33_loop.trips), ∀ (k0_h5 : k0_cond5 i v66_0 v74 v79 v84 v89 v94 v99 v104 v109 v114 v119 v124 v129 v134 v139 v144 v149 v158_0 v166 v171 v176 v181 v186 v191 v196 v201 v206 v211 v216 v221 v226 v231 v236 v241 k0_t4 = 1#1), ∀ a, (k0_off152 v566 k0_t33) a + S1x16.size a ≤ S32x512.size a := fun i v66_0 v74 v79 v84 v89 v94 v99 v104 v109 v114 v119 v124 v129 v134 v139 v144 v149 v158_0 v166 v171 v176 v181 v186 v191 v196 v201 v206 v211 v216 v221 v226 v231 v236 v241 k0_t4 v566 k0_hw32 k0_t33 k0_h5 => k0_hw32.1 k0_t33 k0_h5
theorem k0_off153_inb : ∀ (i : grid0.Coords) (v66_0 : BitVec 32) (v74 : BitVec 32) (v79 : BitVec 32) (v84 : BitVec 32) (v89 : BitVec 32) (v94 : BitVec 32) (v99 : BitVec 32) (v104 : BitVec 32) (v109 : BitVec 32) (v114 : BitVec 32) (v119 : BitVec 32) (v124 : BitVec 32) (v129 : BitVec 32) (v134 : BitVec 32) (v139 : BitVec 32) (v144 : BitVec 32) (v149 : BitVec 32) (v158_0 : BitVec 32) (v166 : BitVec 32) (v171 : BitVec 32) (v176 : BitVec 32) (v181 : BitVec 32) (v186 : BitVec 32) (v191 : BitVec 32) (v196 : BitVec 32) (v201 : BitVec 32) (v206 : BitVec 32) (v211 : BitVec 32) (v216 : BitVec 32) (v221 : BitVec 32) (v226 : BitVec 32) (v231 : BitVec 32) (v236 : BitVec 32) (v241 : BitVec 32) (k0_t4 : Fin (k0_t4_loop i v66_0 v74 v79 v84 v89 v94 v99 v104 v109 v114 v119 v124 v129 v134 v139 v144 v149 v158_0 v166 v171 v176 v181 v186 v191 v196 v201 v206 v211 v216 v221 v226 v231 v236 v241).trips) (v566 : BitVec 32) (k0_hw32 : k0_chk32 i v66_0 v74 v79 v84 v89 v94 v99 v104 v109 v114 v119 v124 v129 v134 v139 v144 v149 v158_0 v166 v171 v176 v181 v186 v191 v196 v201 v206 v211 v216 v221 v226 v231 v236 v241 k0_t4 v566), ∀ (k0_h5 : k0_cond5 i v66_0 v74 v79 v84 v89 v94 v99 v104 v109 v114 v119 v124 v129 v134 v139 v144 v149 v158_0 v166 v171 v176 v181 v186 v191 v196 v201 v206 v211 v216 v221 v226 v231 v236 v241 k0_t4 = 1#1), ∀ a, (k0_off153 v566) a + S1x16.size a ≤ S32x512.size a := fun i v66_0 v74 v79 v84 v89 v94 v99 v104 v109 v114 v119 v124 v129 v134 v139 v144 v149 v158_0 v166 v171 v176 v181 v186 v191 v196 v201 v206 v211 v216 v221 v226 v231 v236 v241 k0_t4 v566 k0_hw32 k0_h5 => k0_hw32.2 k0_h5

def k0_off154 (k0_t22 : Fin k0_t22_loop.trips) : Fin 2 → Nat :=
  let c0_i32_149 : BitVec 32 := 0#32
  let c1_i32_150 : BitVec 32 := 1#32
  let arg14 : BitVec 32 := Scf.iv c0_i32_149 c1_i32_150 k0_t22
  let c16_i32_156 : BitVec 32 := 16#32
  let v342 : BitVec 32 := Scalar.muli arg14 c16_i32_156
  let c11_i32 : BitVec 32 := 11#32
  let v587 : BitVec 32 := Scalar.addi v342 c11_i32
  let v588 : Index := Scalar.indexCast v587
  let c0_238 : Index := 0#32
  ![v588.toNat, 0]
@[reducible] def k0_t34_loop : Scf.Loop 32 :=
  let c1_i32_239 : BitVec 32 := 1#32
  let c31_i32_240 : BitVec 32 := 31#32
  let v593 : BitVec 32 := Scalar.addi c1_i32_239 c31_i32_240
  let c1_i32_241 : BitVec 32 := 1#32
  ⟨c1_i32_239, v593, c1_i32_241⟩
def k0_off155 (k0_t22 : Fin k0_t22_loop.trips) (k0_t34 : Fin k0_t34_loop.trips) : Fin 2 → Nat :=
  let c0_i32_149 : BitVec 32 := 0#32
  let c1_i32_150 : BitVec 32 := 1#32
  let arg14 : BitVec 32 := Scf.iv c0_i32_149 c1_i32_150 k0_t22
  let c16_i32_156 : BitVec 32 := 16#32
  let v342 : BitVec 32 := Scalar.muli arg14 c16_i32_156
  let c11_i32 : BitVec 32 := 11#32
  let v587 : BitVec 32 := Scalar.addi v342 c11_i32
  let v684 : Index := Scalar.indexCast v587
  let c1_i32_239 : BitVec 32 := 1#32
  let c1_i32_241 : BitVec 32 := 1#32
  let arg15 : BitVec 32 := Scf.iv c1_i32_239 c1_i32_241 k0_t34
  let c16_i32_273 : BitVec 32 := 16#32
  let v683 : BitVec 32 := Scalar.muli arg15 c16_i32_273
  let v685 : Index := Scalar.indexCast v683
  ![v684.toNat, v685.toNat]
def k0_off156 (v586 : BitVec 32) (k0_t34 : Fin k0_t34_loop.trips) : Fin 2 → Nat :=
  let v692 : Index := Scalar.indexCast v586
  let c1_i32_239 : BitVec 32 := 1#32
  let c1_i32_241 : BitVec 32 := 1#32
  let arg15 : BitVec 32 := Scf.iv c1_i32_239 c1_i32_241 k0_t34
  let c1_i32_274 : BitVec 32 := 1#32
  let v690 : BitVec 32 := Scalar.subi arg15 c1_i32_274
  let c16_i32_275 : BitVec 32 := 16#32
  let v691 : BitVec 32 := Scalar.muli v690 c16_i32_275
  let v693 : Index := Scalar.indexCast v691
  ![v692.toNat, v693.toNat]

def k0_off157 (v586 : BitVec 32) : Fin 2 → Nat :=
  let v595 : Index := Scalar.indexCast v586
  let c496_243 : Index := 496#32
  ![v595.toNat, 496]

def k0_chk33 (i : grid0.Coords) (v66_0 : BitVec 32) (v74 : BitVec 32) (v79 : BitVec 32) (v84 : BitVec 32) (v89 : BitVec 32) (v94 : BitVec 32) (v99 : BitVec 32) (v104 : BitVec 32) (v109 : BitVec 32) (v114 : BitVec 32) (v119 : BitVec 32) (v124 : BitVec 32) (v129 : BitVec 32) (v134 : BitVec 32) (v139 : BitVec 32) (v144 : BitVec 32) (v149 : BitVec 32) (v158_0 : BitVec 32) (v166 : BitVec 32) (v171 : BitVec 32) (v176 : BitVec 32) (v181 : BitVec 32) (v186 : BitVec 32) (v191 : BitVec 32) (v196 : BitVec 32) (v201 : BitVec 32) (v206 : BitVec 32) (v211 : BitVec 32) (v216 : BitVec 32) (v221 : BitVec 32) (v226 : BitVec 32) (v231 : BitVec 32) (v236 : BitVec 32) (v241 : BitVec 32) (k0_t4 : Fin (k0_t4_loop i v66_0 v74 v79 v84 v89 v94 v99 v104 v109 v114 v119 v124 v129 v134 v139 v144 v149 v158_0 v166 v171 v176 v181 v186 v191 v196 v201 v206 v211 v216 v221 v226 v231 v236 v241).trips) (v586 : BitVec 32) : Prop :=
  (∀ k0_t34 : Fin k0_t34_loop.trips, ∀ (k0_h5 : k0_cond5 i v66_0 v74 v79 v84 v89 v94 v99 v104 v109 v114 v119 v124 v129 v134 v139 v144 v149 v158_0 v166 v171 v176 v181 v186 v191 v196 v201 v206 v211 v216 v221 v226 v231 v236 v241 k0_t4 = 1#1), ∀ a, (k0_off156 v586 k0_t34) a + S1x16.size a ≤ S32x512.size a) ∧
  (∀ (k0_h5 : k0_cond5 i v66_0 v74 v79 v84 v89 v94 v99 v104 v109 v114 v119 v124 v129 v134 v139 v144 v149 v158_0 v166 v171 v176 v181 v186 v191 v196 v201 v206 v211 v216 v221 v226 v231 v236 v241 k0_t4 = 1#1), ∀ a, (k0_off157 v586) a + S1x16.size a ≤ S32x512.size a)
theorem k0_off156_inb : ∀ (i : grid0.Coords) (v66_0 : BitVec 32) (v74 : BitVec 32) (v79 : BitVec 32) (v84 : BitVec 32) (v89 : BitVec 32) (v94 : BitVec 32) (v99 : BitVec 32) (v104 : BitVec 32) (v109 : BitVec 32) (v114 : BitVec 32) (v119 : BitVec 32) (v124 : BitVec 32) (v129 : BitVec 32) (v134 : BitVec 32) (v139 : BitVec 32) (v144 : BitVec 32) (v149 : BitVec 32) (v158_0 : BitVec 32) (v166 : BitVec 32) (v171 : BitVec 32) (v176 : BitVec 32) (v181 : BitVec 32) (v186 : BitVec 32) (v191 : BitVec 32) (v196 : BitVec 32) (v201 : BitVec 32) (v206 : BitVec 32) (v211 : BitVec 32) (v216 : BitVec 32) (v221 : BitVec 32) (v226 : BitVec 32) (v231 : BitVec 32) (v236 : BitVec 32) (v241 : BitVec 32) (k0_t4 : Fin (k0_t4_loop i v66_0 v74 v79 v84 v89 v94 v99 v104 v109 v114 v119 v124 v129 v134 v139 v144 v149 v158_0 v166 v171 v176 v181 v186 v191 v196 v201 v206 v211 v216 v221 v226 v231 v236 v241).trips) (v586 : BitVec 32) (k0_hw33 : k0_chk33 i v66_0 v74 v79 v84 v89 v94 v99 v104 v109 v114 v119 v124 v129 v134 v139 v144 v149 v158_0 v166 v171 v176 v181 v186 v191 v196 v201 v206 v211 v216 v221 v226 v231 v236 v241 k0_t4 v586) (k0_t34 : Fin k0_t34_loop.trips), ∀ (k0_h5 : k0_cond5 i v66_0 v74 v79 v84 v89 v94 v99 v104 v109 v114 v119 v124 v129 v134 v139 v144 v149 v158_0 v166 v171 v176 v181 v186 v191 v196 v201 v206 v211 v216 v221 v226 v231 v236 v241 k0_t4 = 1#1), ∀ a, (k0_off156 v586 k0_t34) a + S1x16.size a ≤ S32x512.size a := fun i v66_0 v74 v79 v84 v89 v94 v99 v104 v109 v114 v119 v124 v129 v134 v139 v144 v149 v158_0 v166 v171 v176 v181 v186 v191 v196 v201 v206 v211 v216 v221 v226 v231 v236 v241 k0_t4 v586 k0_hw33 k0_t34 k0_h5 => k0_hw33.1 k0_t34 k0_h5
theorem k0_off157_inb : ∀ (i : grid0.Coords) (v66_0 : BitVec 32) (v74 : BitVec 32) (v79 : BitVec 32) (v84 : BitVec 32) (v89 : BitVec 32) (v94 : BitVec 32) (v99 : BitVec 32) (v104 : BitVec 32) (v109 : BitVec 32) (v114 : BitVec 32) (v119 : BitVec 32) (v124 : BitVec 32) (v129 : BitVec 32) (v134 : BitVec 32) (v139 : BitVec 32) (v144 : BitVec 32) (v149 : BitVec 32) (v158_0 : BitVec 32) (v166 : BitVec 32) (v171 : BitVec 32) (v176 : BitVec 32) (v181 : BitVec 32) (v186 : BitVec 32) (v191 : BitVec 32) (v196 : BitVec 32) (v201 : BitVec 32) (v206 : BitVec 32) (v211 : BitVec 32) (v216 : BitVec 32) (v221 : BitVec 32) (v226 : BitVec 32) (v231 : BitVec 32) (v236 : BitVec 32) (v241 : BitVec 32) (k0_t4 : Fin (k0_t4_loop i v66_0 v74 v79 v84 v89 v94 v99 v104 v109 v114 v119 v124 v129 v134 v139 v144 v149 v158_0 v166 v171 v176 v181 v186 v191 v196 v201 v206 v211 v216 v221 v226 v231 v236 v241).trips) (v586 : BitVec 32) (k0_hw33 : k0_chk33 i v66_0 v74 v79 v84 v89 v94 v99 v104 v109 v114 v119 v124 v129 v134 v139 v144 v149 v158_0 v166 v171 v176 v181 v186 v191 v196 v201 v206 v211 v216 v221 v226 v231 v236 v241 k0_t4 v586), ∀ (k0_h5 : k0_cond5 i v66_0 v74 v79 v84 v89 v94 v99 v104 v109 v114 v119 v124 v129 v134 v139 v144 v149 v158_0 v166 v171 v176 v181 v186 v191 v196 v201 v206 v211 v216 v221 v226 v231 v236 v241 k0_t4 = 1#1), ∀ a, (k0_off157 v586) a + S1x16.size a ≤ S32x512.size a := fun i v66_0 v74 v79 v84 v89 v94 v99 v104 v109 v114 v119 v124 v129 v134 v139 v144 v149 v158_0 v166 v171 v176 v181 v186 v191 v196 v201 v206 v211 v216 v221 v226 v231 v236 v241 k0_t4 v586 k0_hw33 k0_h5 => k0_hw33.2 k0_h5

def k0_off158 (k0_t22 : Fin k0_t22_loop.trips) : Fin 2 → Nat :=
  let c0_i32_149 : BitVec 32 := 0#32
  let c1_i32_150 : BitVec 32 := 1#32
  let arg14 : BitVec 32 := Scf.iv c0_i32_149 c1_i32_150 k0_t22
  let c16_i32_156 : BitVec 32 := 16#32
  let v342 : BitVec 32 := Scalar.muli arg14 c16_i32_156
  let c12_i32 : BitVec 32 := 12#32
  let v607 : BitVec 32 := Scalar.addi v342 c12_i32
  let v608 : Index := Scalar.indexCast v607
  let c0_245 : Index := 0#32
  ![v608.toNat, 0]
@[reducible] def k0_t35_loop : Scf.Loop 32 :=
  let c1_i32_246 : BitVec 32 := 1#32
  let c31_i32_247 : BitVec 32 := 31#32
  let v613 : BitVec 32 := Scalar.addi c1_i32_246 c31_i32_247
  let c1_i32_248 : BitVec 32 := 1#32
  ⟨c1_i32_246, v613, c1_i32_248⟩
def k0_off159 (k0_t22 : Fin k0_t22_loop.trips) (k0_t35 : Fin k0_t35_loop.trips) : Fin 2 → Nat :=
  let c0_i32_149 : BitVec 32 := 0#32
  let c1_i32_150 : BitVec 32 := 1#32
  let arg14 : BitVec 32 := Scf.iv c0_i32_149 c1_i32_150 k0_t22
  let c16_i32_156 : BitVec 32 := 16#32
  let v342 : BitVec 32 := Scalar.muli arg14 c16_i32_156
  let c12_i32 : BitVec 32 := 12#32
  let v607 : BitVec 32 := Scalar.addi v342 c12_i32
  let v684 : Index := Scalar.indexCast v607
  let c1_i32_246 : BitVec 32 := 1#32
  let c1_i32_248 : BitVec 32 := 1#32
  let arg15 : BitVec 32 := Scf.iv c1_i32_246 c1_i32_248 k0_t35
  let c16_i32_273 : BitVec 32 := 16#32
  let v683 : BitVec 32 := Scalar.muli arg15 c16_i32_273
  let v685 : Index := Scalar.indexCast v683
  ![v684.toNat, v685.toNat]
def k0_off160 (v606 : BitVec 32) (k0_t35 : Fin k0_t35_loop.trips) : Fin 2 → Nat :=
  let v692 : Index := Scalar.indexCast v606
  let c1_i32_246 : BitVec 32 := 1#32
  let c1_i32_248 : BitVec 32 := 1#32
  let arg15 : BitVec 32 := Scf.iv c1_i32_246 c1_i32_248 k0_t35
  let c1_i32_274 : BitVec 32 := 1#32
  let v690 : BitVec 32 := Scalar.subi arg15 c1_i32_274
  let c16_i32_275 : BitVec 32 := 16#32
  let v691 : BitVec 32 := Scalar.muli v690 c16_i32_275
  let v693 : Index := Scalar.indexCast v691
  ![v692.toNat, v693.toNat]

def k0_off161 (v606 : BitVec 32) : Fin 2 → Nat :=
  let v615 : Index := Scalar.indexCast v606
  let c496_250 : Index := 496#32
  ![v615.toNat, 496]

def k0_chk34 (i : grid0.Coords) (v66_0 : BitVec 32) (v74 : BitVec 32) (v79 : BitVec 32) (v84 : BitVec 32) (v89 : BitVec 32) (v94 : BitVec 32) (v99 : BitVec 32) (v104 : BitVec 32) (v109 : BitVec 32) (v114 : BitVec 32) (v119 : BitVec 32) (v124 : BitVec 32) (v129 : BitVec 32) (v134 : BitVec 32) (v139 : BitVec 32) (v144 : BitVec 32) (v149 : BitVec 32) (v158_0 : BitVec 32) (v166 : BitVec 32) (v171 : BitVec 32) (v176 : BitVec 32) (v181 : BitVec 32) (v186 : BitVec 32) (v191 : BitVec 32) (v196 : BitVec 32) (v201 : BitVec 32) (v206 : BitVec 32) (v211 : BitVec 32) (v216 : BitVec 32) (v221 : BitVec 32) (v226 : BitVec 32) (v231 : BitVec 32) (v236 : BitVec 32) (v241 : BitVec 32) (k0_t4 : Fin (k0_t4_loop i v66_0 v74 v79 v84 v89 v94 v99 v104 v109 v114 v119 v124 v129 v134 v139 v144 v149 v158_0 v166 v171 v176 v181 v186 v191 v196 v201 v206 v211 v216 v221 v226 v231 v236 v241).trips) (v606 : BitVec 32) : Prop :=
  (∀ k0_t35 : Fin k0_t35_loop.trips, ∀ (k0_h5 : k0_cond5 i v66_0 v74 v79 v84 v89 v94 v99 v104 v109 v114 v119 v124 v129 v134 v139 v144 v149 v158_0 v166 v171 v176 v181 v186 v191 v196 v201 v206 v211 v216 v221 v226 v231 v236 v241 k0_t4 = 1#1), ∀ a, (k0_off160 v606 k0_t35) a + S1x16.size a ≤ S32x512.size a) ∧
  (∀ (k0_h5 : k0_cond5 i v66_0 v74 v79 v84 v89 v94 v99 v104 v109 v114 v119 v124 v129 v134 v139 v144 v149 v158_0 v166 v171 v176 v181 v186 v191 v196 v201 v206 v211 v216 v221 v226 v231 v236 v241 k0_t4 = 1#1), ∀ a, (k0_off161 v606) a + S1x16.size a ≤ S32x512.size a)
theorem k0_off160_inb : ∀ (i : grid0.Coords) (v66_0 : BitVec 32) (v74 : BitVec 32) (v79 : BitVec 32) (v84 : BitVec 32) (v89 : BitVec 32) (v94 : BitVec 32) (v99 : BitVec 32) (v104 : BitVec 32) (v109 : BitVec 32) (v114 : BitVec 32) (v119 : BitVec 32) (v124 : BitVec 32) (v129 : BitVec 32) (v134 : BitVec 32) (v139 : BitVec 32) (v144 : BitVec 32) (v149 : BitVec 32) (v158_0 : BitVec 32) (v166 : BitVec 32) (v171 : BitVec 32) (v176 : BitVec 32) (v181 : BitVec 32) (v186 : BitVec 32) (v191 : BitVec 32) (v196 : BitVec 32) (v201 : BitVec 32) (v206 : BitVec 32) (v211 : BitVec 32) (v216 : BitVec 32) (v221 : BitVec 32) (v226 : BitVec 32) (v231 : BitVec 32) (v236 : BitVec 32) (v241 : BitVec 32) (k0_t4 : Fin (k0_t4_loop i v66_0 v74 v79 v84 v89 v94 v99 v104 v109 v114 v119 v124 v129 v134 v139 v144 v149 v158_0 v166 v171 v176 v181 v186 v191 v196 v201 v206 v211 v216 v221 v226 v231 v236 v241).trips) (v606 : BitVec 32) (k0_hw34 : k0_chk34 i v66_0 v74 v79 v84 v89 v94 v99 v104 v109 v114 v119 v124 v129 v134 v139 v144 v149 v158_0 v166 v171 v176 v181 v186 v191 v196 v201 v206 v211 v216 v221 v226 v231 v236 v241 k0_t4 v606) (k0_t35 : Fin k0_t35_loop.trips), ∀ (k0_h5 : k0_cond5 i v66_0 v74 v79 v84 v89 v94 v99 v104 v109 v114 v119 v124 v129 v134 v139 v144 v149 v158_0 v166 v171 v176 v181 v186 v191 v196 v201 v206 v211 v216 v221 v226 v231 v236 v241 k0_t4 = 1#1), ∀ a, (k0_off160 v606 k0_t35) a + S1x16.size a ≤ S32x512.size a := fun i v66_0 v74 v79 v84 v89 v94 v99 v104 v109 v114 v119 v124 v129 v134 v139 v144 v149 v158_0 v166 v171 v176 v181 v186 v191 v196 v201 v206 v211 v216 v221 v226 v231 v236 v241 k0_t4 v606 k0_hw34 k0_t35 k0_h5 => k0_hw34.1 k0_t35 k0_h5
theorem k0_off161_inb : ∀ (i : grid0.Coords) (v66_0 : BitVec 32) (v74 : BitVec 32) (v79 : BitVec 32) (v84 : BitVec 32) (v89 : BitVec 32) (v94 : BitVec 32) (v99 : BitVec 32) (v104 : BitVec 32) (v109 : BitVec 32) (v114 : BitVec 32) (v119 : BitVec 32) (v124 : BitVec 32) (v129 : BitVec 32) (v134 : BitVec 32) (v139 : BitVec 32) (v144 : BitVec 32) (v149 : BitVec 32) (v158_0 : BitVec 32) (v166 : BitVec 32) (v171 : BitVec 32) (v176 : BitVec 32) (v181 : BitVec 32) (v186 : BitVec 32) (v191 : BitVec 32) (v196 : BitVec 32) (v201 : BitVec 32) (v206 : BitVec 32) (v211 : BitVec 32) (v216 : BitVec 32) (v221 : BitVec 32) (v226 : BitVec 32) (v231 : BitVec 32) (v236 : BitVec 32) (v241 : BitVec 32) (k0_t4 : Fin (k0_t4_loop i v66_0 v74 v79 v84 v89 v94 v99 v104 v109 v114 v119 v124 v129 v134 v139 v144 v149 v158_0 v166 v171 v176 v181 v186 v191 v196 v201 v206 v211 v216 v221 v226 v231 v236 v241).trips) (v606 : BitVec 32) (k0_hw34 : k0_chk34 i v66_0 v74 v79 v84 v89 v94 v99 v104 v109 v114 v119 v124 v129 v134 v139 v144 v149 v158_0 v166 v171 v176 v181 v186 v191 v196 v201 v206 v211 v216 v221 v226 v231 v236 v241 k0_t4 v606), ∀ (k0_h5 : k0_cond5 i v66_0 v74 v79 v84 v89 v94 v99 v104 v109 v114 v119 v124 v129 v134 v139 v144 v149 v158_0 v166 v171 v176 v181 v186 v191 v196 v201 v206 v211 v216 v221 v226 v231 v236 v241 k0_t4 = 1#1), ∀ a, (k0_off161 v606) a + S1x16.size a ≤ S32x512.size a := fun i v66_0 v74 v79 v84 v89 v94 v99 v104 v109 v114 v119 v124 v129 v134 v139 v144 v149 v158_0 v166 v171 v176 v181 v186 v191 v196 v201 v206 v211 v216 v221 v226 v231 v236 v241 k0_t4 v606 k0_hw34 k0_h5 => k0_hw34.2 k0_h5

def k0_off162 (k0_t22 : Fin k0_t22_loop.trips) : Fin 2 → Nat :=
  let c0_i32_149 : BitVec 32 := 0#32
  let c1_i32_150 : BitVec 32 := 1#32
  let arg14 : BitVec 32 := Scf.iv c0_i32_149 c1_i32_150 k0_t22
  let c16_i32_156 : BitVec 32 := 16#32
  let v342 : BitVec 32 := Scalar.muli arg14 c16_i32_156
  let c13_i32 : BitVec 32 := 13#32
  let v627 : BitVec 32 := Scalar.addi v342 c13_i32
  let v628 : Index := Scalar.indexCast v627
  let c0_252 : Index := 0#32
  ![v628.toNat, 0]
@[reducible] def k0_t36_loop : Scf.Loop 32 :=
  let c1_i32_253 : BitVec 32 := 1#32
  let c31_i32_254 : BitVec 32 := 31#32
  let v633 : BitVec 32 := Scalar.addi c1_i32_253 c31_i32_254
  let c1_i32_255 : BitVec 32 := 1#32
  ⟨c1_i32_253, v633, c1_i32_255⟩
def k0_off163 (k0_t22 : Fin k0_t22_loop.trips) (k0_t36 : Fin k0_t36_loop.trips) : Fin 2 → Nat :=
  let c0_i32_149 : BitVec 32 := 0#32
  let c1_i32_150 : BitVec 32 := 1#32
  let arg14 : BitVec 32 := Scf.iv c0_i32_149 c1_i32_150 k0_t22
  let c16_i32_156 : BitVec 32 := 16#32
  let v342 : BitVec 32 := Scalar.muli arg14 c16_i32_156
  let c13_i32 : BitVec 32 := 13#32
  let v627 : BitVec 32 := Scalar.addi v342 c13_i32
  let v684 : Index := Scalar.indexCast v627
  let c1_i32_253 : BitVec 32 := 1#32
  let c1_i32_255 : BitVec 32 := 1#32
  let arg15 : BitVec 32 := Scf.iv c1_i32_253 c1_i32_255 k0_t36
  let c16_i32_273 : BitVec 32 := 16#32
  let v683 : BitVec 32 := Scalar.muli arg15 c16_i32_273
  let v685 : Index := Scalar.indexCast v683
  ![v684.toNat, v685.toNat]
def k0_off164 (v626 : BitVec 32) (k0_t36 : Fin k0_t36_loop.trips) : Fin 2 → Nat :=
  let v692 : Index := Scalar.indexCast v626
  let c1_i32_253 : BitVec 32 := 1#32
  let c1_i32_255 : BitVec 32 := 1#32
  let arg15 : BitVec 32 := Scf.iv c1_i32_253 c1_i32_255 k0_t36
  let c1_i32_274 : BitVec 32 := 1#32
  let v690 : BitVec 32 := Scalar.subi arg15 c1_i32_274
  let c16_i32_275 : BitVec 32 := 16#32
  let v691 : BitVec 32 := Scalar.muli v690 c16_i32_275
  let v693 : Index := Scalar.indexCast v691
  ![v692.toNat, v693.toNat]

def k0_off165 (v626 : BitVec 32) : Fin 2 → Nat :=
  let v635 : Index := Scalar.indexCast v626
  let c496_257 : Index := 496#32
  ![v635.toNat, 496]

def k0_chk35 (i : grid0.Coords) (v66_0 : BitVec 32) (v74 : BitVec 32) (v79 : BitVec 32) (v84 : BitVec 32) (v89 : BitVec 32) (v94 : BitVec 32) (v99 : BitVec 32) (v104 : BitVec 32) (v109 : BitVec 32) (v114 : BitVec 32) (v119 : BitVec 32) (v124 : BitVec 32) (v129 : BitVec 32) (v134 : BitVec 32) (v139 : BitVec 32) (v144 : BitVec 32) (v149 : BitVec 32) (v158_0 : BitVec 32) (v166 : BitVec 32) (v171 : BitVec 32) (v176 : BitVec 32) (v181 : BitVec 32) (v186 : BitVec 32) (v191 : BitVec 32) (v196 : BitVec 32) (v201 : BitVec 32) (v206 : BitVec 32) (v211 : BitVec 32) (v216 : BitVec 32) (v221 : BitVec 32) (v226 : BitVec 32) (v231 : BitVec 32) (v236 : BitVec 32) (v241 : BitVec 32) (k0_t4 : Fin (k0_t4_loop i v66_0 v74 v79 v84 v89 v94 v99 v104 v109 v114 v119 v124 v129 v134 v139 v144 v149 v158_0 v166 v171 v176 v181 v186 v191 v196 v201 v206 v211 v216 v221 v226 v231 v236 v241).trips) (v626 : BitVec 32) : Prop :=
  (∀ k0_t36 : Fin k0_t36_loop.trips, ∀ (k0_h5 : k0_cond5 i v66_0 v74 v79 v84 v89 v94 v99 v104 v109 v114 v119 v124 v129 v134 v139 v144 v149 v158_0 v166 v171 v176 v181 v186 v191 v196 v201 v206 v211 v216 v221 v226 v231 v236 v241 k0_t4 = 1#1), ∀ a, (k0_off164 v626 k0_t36) a + S1x16.size a ≤ S32x512.size a) ∧
  (∀ (k0_h5 : k0_cond5 i v66_0 v74 v79 v84 v89 v94 v99 v104 v109 v114 v119 v124 v129 v134 v139 v144 v149 v158_0 v166 v171 v176 v181 v186 v191 v196 v201 v206 v211 v216 v221 v226 v231 v236 v241 k0_t4 = 1#1), ∀ a, (k0_off165 v626) a + S1x16.size a ≤ S32x512.size a)
theorem k0_off164_inb : ∀ (i : grid0.Coords) (v66_0 : BitVec 32) (v74 : BitVec 32) (v79 : BitVec 32) (v84 : BitVec 32) (v89 : BitVec 32) (v94 : BitVec 32) (v99 : BitVec 32) (v104 : BitVec 32) (v109 : BitVec 32) (v114 : BitVec 32) (v119 : BitVec 32) (v124 : BitVec 32) (v129 : BitVec 32) (v134 : BitVec 32) (v139 : BitVec 32) (v144 : BitVec 32) (v149 : BitVec 32) (v158_0 : BitVec 32) (v166 : BitVec 32) (v171 : BitVec 32) (v176 : BitVec 32) (v181 : BitVec 32) (v186 : BitVec 32) (v191 : BitVec 32) (v196 : BitVec 32) (v201 : BitVec 32) (v206 : BitVec 32) (v211 : BitVec 32) (v216 : BitVec 32) (v221 : BitVec 32) (v226 : BitVec 32) (v231 : BitVec 32) (v236 : BitVec 32) (v241 : BitVec 32) (k0_t4 : Fin (k0_t4_loop i v66_0 v74 v79 v84 v89 v94 v99 v104 v109 v114 v119 v124 v129 v134 v139 v144 v149 v158_0 v166 v171 v176 v181 v186 v191 v196 v201 v206 v211 v216 v221 v226 v231 v236 v241).trips) (v626 : BitVec 32) (k0_hw35 : k0_chk35 i v66_0 v74 v79 v84 v89 v94 v99 v104 v109 v114 v119 v124 v129 v134 v139 v144 v149 v158_0 v166 v171 v176 v181 v186 v191 v196 v201 v206 v211 v216 v221 v226 v231 v236 v241 k0_t4 v626) (k0_t36 : Fin k0_t36_loop.trips), ∀ (k0_h5 : k0_cond5 i v66_0 v74 v79 v84 v89 v94 v99 v104 v109 v114 v119 v124 v129 v134 v139 v144 v149 v158_0 v166 v171 v176 v181 v186 v191 v196 v201 v206 v211 v216 v221 v226 v231 v236 v241 k0_t4 = 1#1), ∀ a, (k0_off164 v626 k0_t36) a + S1x16.size a ≤ S32x512.size a := fun i v66_0 v74 v79 v84 v89 v94 v99 v104 v109 v114 v119 v124 v129 v134 v139 v144 v149 v158_0 v166 v171 v176 v181 v186 v191 v196 v201 v206 v211 v216 v221 v226 v231 v236 v241 k0_t4 v626 k0_hw35 k0_t36 k0_h5 => k0_hw35.1 k0_t36 k0_h5
theorem k0_off165_inb : ∀ (i : grid0.Coords) (v66_0 : BitVec 32) (v74 : BitVec 32) (v79 : BitVec 32) (v84 : BitVec 32) (v89 : BitVec 32) (v94 : BitVec 32) (v99 : BitVec 32) (v104 : BitVec 32) (v109 : BitVec 32) (v114 : BitVec 32) (v119 : BitVec 32) (v124 : BitVec 32) (v129 : BitVec 32) (v134 : BitVec 32) (v139 : BitVec 32) (v144 : BitVec 32) (v149 : BitVec 32) (v158_0 : BitVec 32) (v166 : BitVec 32) (v171 : BitVec 32) (v176 : BitVec 32) (v181 : BitVec 32) (v186 : BitVec 32) (v191 : BitVec 32) (v196 : BitVec 32) (v201 : BitVec 32) (v206 : BitVec 32) (v211 : BitVec 32) (v216 : BitVec 32) (v221 : BitVec 32) (v226 : BitVec 32) (v231 : BitVec 32) (v236 : BitVec 32) (v241 : BitVec 32) (k0_t4 : Fin (k0_t4_loop i v66_0 v74 v79 v84 v89 v94 v99 v104 v109 v114 v119 v124 v129 v134 v139 v144 v149 v158_0 v166 v171 v176 v181 v186 v191 v196 v201 v206 v211 v216 v221 v226 v231 v236 v241).trips) (v626 : BitVec 32) (k0_hw35 : k0_chk35 i v66_0 v74 v79 v84 v89 v94 v99 v104 v109 v114 v119 v124 v129 v134 v139 v144 v149 v158_0 v166 v171 v176 v181 v186 v191 v196 v201 v206 v211 v216 v221 v226 v231 v236 v241 k0_t4 v626), ∀ (k0_h5 : k0_cond5 i v66_0 v74 v79 v84 v89 v94 v99 v104 v109 v114 v119 v124 v129 v134 v139 v144 v149 v158_0 v166 v171 v176 v181 v186 v191 v196 v201 v206 v211 v216 v221 v226 v231 v236 v241 k0_t4 = 1#1), ∀ a, (k0_off165 v626) a + S1x16.size a ≤ S32x512.size a := fun i v66_0 v74 v79 v84 v89 v94 v99 v104 v109 v114 v119 v124 v129 v134 v139 v144 v149 v158_0 v166 v171 v176 v181 v186 v191 v196 v201 v206 v211 v216 v221 v226 v231 v236 v241 k0_t4 v626 k0_hw35 k0_h5 => k0_hw35.2 k0_h5

def k0_off166 (k0_t22 : Fin k0_t22_loop.trips) : Fin 2 → Nat :=
  let c0_i32_149 : BitVec 32 := 0#32
  let c1_i32_150 : BitVec 32 := 1#32
  let arg14 : BitVec 32 := Scf.iv c0_i32_149 c1_i32_150 k0_t22
  let c16_i32_156 : BitVec 32 := 16#32
  let v342 : BitVec 32 := Scalar.muli arg14 c16_i32_156
  let c14_i32 : BitVec 32 := 14#32
  let v647 : BitVec 32 := Scalar.addi v342 c14_i32
  let v648 : Index := Scalar.indexCast v647
  let c0_259 : Index := 0#32
  ![v648.toNat, 0]
@[reducible] def k0_t37_loop : Scf.Loop 32 :=
  let c1_i32_260 : BitVec 32 := 1#32
  let c31_i32_261 : BitVec 32 := 31#32
  let v653 : BitVec 32 := Scalar.addi c1_i32_260 c31_i32_261
  let c1_i32_262 : BitVec 32 := 1#32
  ⟨c1_i32_260, v653, c1_i32_262⟩
def k0_off167 (k0_t22 : Fin k0_t22_loop.trips) (k0_t37 : Fin k0_t37_loop.trips) : Fin 2 → Nat :=
  let c0_i32_149 : BitVec 32 := 0#32
  let c1_i32_150 : BitVec 32 := 1#32
  let arg14 : BitVec 32 := Scf.iv c0_i32_149 c1_i32_150 k0_t22
  let c16_i32_156 : BitVec 32 := 16#32
  let v342 : BitVec 32 := Scalar.muli arg14 c16_i32_156
  let c14_i32 : BitVec 32 := 14#32
  let v647 : BitVec 32 := Scalar.addi v342 c14_i32
  let v684 : Index := Scalar.indexCast v647
  let c1_i32_260 : BitVec 32 := 1#32
  let c1_i32_262 : BitVec 32 := 1#32
  let arg15 : BitVec 32 := Scf.iv c1_i32_260 c1_i32_262 k0_t37
  let c16_i32_273 : BitVec 32 := 16#32
  let v683 : BitVec 32 := Scalar.muli arg15 c16_i32_273
  let v685 : Index := Scalar.indexCast v683
  ![v684.toNat, v685.toNat]
def k0_off168 (v646 : BitVec 32) (k0_t37 : Fin k0_t37_loop.trips) : Fin 2 → Nat :=
  let v692 : Index := Scalar.indexCast v646
  let c1_i32_260 : BitVec 32 := 1#32
  let c1_i32_262 : BitVec 32 := 1#32
  let arg15 : BitVec 32 := Scf.iv c1_i32_260 c1_i32_262 k0_t37
  let c1_i32_274 : BitVec 32 := 1#32
  let v690 : BitVec 32 := Scalar.subi arg15 c1_i32_274
  let c16_i32_275 : BitVec 32 := 16#32
  let v691 : BitVec 32 := Scalar.muli v690 c16_i32_275
  let v693 : Index := Scalar.indexCast v691
  ![v692.toNat, v693.toNat]

def k0_off169 (v646 : BitVec 32) : Fin 2 → Nat :=
  let v655 : Index := Scalar.indexCast v646
  let c496_264 : Index := 496#32
  ![v655.toNat, 496]

def k0_chk36 (i : grid0.Coords) (v66_0 : BitVec 32) (v74 : BitVec 32) (v79 : BitVec 32) (v84 : BitVec 32) (v89 : BitVec 32) (v94 : BitVec 32) (v99 : BitVec 32) (v104 : BitVec 32) (v109 : BitVec 32) (v114 : BitVec 32) (v119 : BitVec 32) (v124 : BitVec 32) (v129 : BitVec 32) (v134 : BitVec 32) (v139 : BitVec 32) (v144 : BitVec 32) (v149 : BitVec 32) (v158_0 : BitVec 32) (v166 : BitVec 32) (v171 : BitVec 32) (v176 : BitVec 32) (v181 : BitVec 32) (v186 : BitVec 32) (v191 : BitVec 32) (v196 : BitVec 32) (v201 : BitVec 32) (v206 : BitVec 32) (v211 : BitVec 32) (v216 : BitVec 32) (v221 : BitVec 32) (v226 : BitVec 32) (v231 : BitVec 32) (v236 : BitVec 32) (v241 : BitVec 32) (k0_t4 : Fin (k0_t4_loop i v66_0 v74 v79 v84 v89 v94 v99 v104 v109 v114 v119 v124 v129 v134 v139 v144 v149 v158_0 v166 v171 v176 v181 v186 v191 v196 v201 v206 v211 v216 v221 v226 v231 v236 v241).trips) (v646 : BitVec 32) : Prop :=
  (∀ k0_t37 : Fin k0_t37_loop.trips, ∀ (k0_h5 : k0_cond5 i v66_0 v74 v79 v84 v89 v94 v99 v104 v109 v114 v119 v124 v129 v134 v139 v144 v149 v158_0 v166 v171 v176 v181 v186 v191 v196 v201 v206 v211 v216 v221 v226 v231 v236 v241 k0_t4 = 1#1), ∀ a, (k0_off168 v646 k0_t37) a + S1x16.size a ≤ S32x512.size a) ∧
  (∀ (k0_h5 : k0_cond5 i v66_0 v74 v79 v84 v89 v94 v99 v104 v109 v114 v119 v124 v129 v134 v139 v144 v149 v158_0 v166 v171 v176 v181 v186 v191 v196 v201 v206 v211 v216 v221 v226 v231 v236 v241 k0_t4 = 1#1), ∀ a, (k0_off169 v646) a + S1x16.size a ≤ S32x512.size a)
theorem k0_off168_inb : ∀ (i : grid0.Coords) (v66_0 : BitVec 32) (v74 : BitVec 32) (v79 : BitVec 32) (v84 : BitVec 32) (v89 : BitVec 32) (v94 : BitVec 32) (v99 : BitVec 32) (v104 : BitVec 32) (v109 : BitVec 32) (v114 : BitVec 32) (v119 : BitVec 32) (v124 : BitVec 32) (v129 : BitVec 32) (v134 : BitVec 32) (v139 : BitVec 32) (v144 : BitVec 32) (v149 : BitVec 32) (v158_0 : BitVec 32) (v166 : BitVec 32) (v171 : BitVec 32) (v176 : BitVec 32) (v181 : BitVec 32) (v186 : BitVec 32) (v191 : BitVec 32) (v196 : BitVec 32) (v201 : BitVec 32) (v206 : BitVec 32) (v211 : BitVec 32) (v216 : BitVec 32) (v221 : BitVec 32) (v226 : BitVec 32) (v231 : BitVec 32) (v236 : BitVec 32) (v241 : BitVec 32) (k0_t4 : Fin (k0_t4_loop i v66_0 v74 v79 v84 v89 v94 v99 v104 v109 v114 v119 v124 v129 v134 v139 v144 v149 v158_0 v166 v171 v176 v181 v186 v191 v196 v201 v206 v211 v216 v221 v226 v231 v236 v241).trips) (v646 : BitVec 32) (k0_hw36 : k0_chk36 i v66_0 v74 v79 v84 v89 v94 v99 v104 v109 v114 v119 v124 v129 v134 v139 v144 v149 v158_0 v166 v171 v176 v181 v186 v191 v196 v201 v206 v211 v216 v221 v226 v231 v236 v241 k0_t4 v646) (k0_t37 : Fin k0_t37_loop.trips), ∀ (k0_h5 : k0_cond5 i v66_0 v74 v79 v84 v89 v94 v99 v104 v109 v114 v119 v124 v129 v134 v139 v144 v149 v158_0 v166 v171 v176 v181 v186 v191 v196 v201 v206 v211 v216 v221 v226 v231 v236 v241 k0_t4 = 1#1), ∀ a, (k0_off168 v646 k0_t37) a + S1x16.size a ≤ S32x512.size a := fun i v66_0 v74 v79 v84 v89 v94 v99 v104 v109 v114 v119 v124 v129 v134 v139 v144 v149 v158_0 v166 v171 v176 v181 v186 v191 v196 v201 v206 v211 v216 v221 v226 v231 v236 v241 k0_t4 v646 k0_hw36 k0_t37 k0_h5 => k0_hw36.1 k0_t37 k0_h5
theorem k0_off169_inb : ∀ (i : grid0.Coords) (v66_0 : BitVec 32) (v74 : BitVec 32) (v79 : BitVec 32) (v84 : BitVec 32) (v89 : BitVec 32) (v94 : BitVec 32) (v99 : BitVec 32) (v104 : BitVec 32) (v109 : BitVec 32) (v114 : BitVec 32) (v119 : BitVec 32) (v124 : BitVec 32) (v129 : BitVec 32) (v134 : BitVec 32) (v139 : BitVec 32) (v144 : BitVec 32) (v149 : BitVec 32) (v158_0 : BitVec 32) (v166 : BitVec 32) (v171 : BitVec 32) (v176 : BitVec 32) (v181 : BitVec 32) (v186 : BitVec 32) (v191 : BitVec 32) (v196 : BitVec 32) (v201 : BitVec 32) (v206 : BitVec 32) (v211 : BitVec 32) (v216 : BitVec 32) (v221 : BitVec 32) (v226 : BitVec 32) (v231 : BitVec 32) (v236 : BitVec 32) (v241 : BitVec 32) (k0_t4 : Fin (k0_t4_loop i v66_0 v74 v79 v84 v89 v94 v99 v104 v109 v114 v119 v124 v129 v134 v139 v144 v149 v158_0 v166 v171 v176 v181 v186 v191 v196 v201 v206 v211 v216 v221 v226 v231 v236 v241).trips) (v646 : BitVec 32) (k0_hw36 : k0_chk36 i v66_0 v74 v79 v84 v89 v94 v99 v104 v109 v114 v119 v124 v129 v134 v139 v144 v149 v158_0 v166 v171 v176 v181 v186 v191 v196 v201 v206 v211 v216 v221 v226 v231 v236 v241 k0_t4 v646), ∀ (k0_h5 : k0_cond5 i v66_0 v74 v79 v84 v89 v94 v99 v104 v109 v114 v119 v124 v129 v134 v139 v144 v149 v158_0 v166 v171 v176 v181 v186 v191 v196 v201 v206 v211 v216 v221 v226 v231 v236 v241 k0_t4 = 1#1), ∀ a, (k0_off169 v646) a + S1x16.size a ≤ S32x512.size a := fun i v66_0 v74 v79 v84 v89 v94 v99 v104 v109 v114 v119 v124 v129 v134 v139 v144 v149 v158_0 v166 v171 v176 v181 v186 v191 v196 v201 v206 v211 v216 v221 v226 v231 v236 v241 k0_t4 v646 k0_hw36 k0_h5 => k0_hw36.2 k0_h5

def k0_off170 (k0_t22 : Fin k0_t22_loop.trips) : Fin 2 → Nat :=
  let c0_i32_149 : BitVec 32 := 0#32
  let c1_i32_150 : BitVec 32 := 1#32
  let arg14 : BitVec 32 := Scf.iv c0_i32_149 c1_i32_150 k0_t22
  let c16_i32_156 : BitVec 32 := 16#32
  let v342 : BitVec 32 := Scalar.muli arg14 c16_i32_156
  let c15_i32 : BitVec 32 := 15#32
  let v667 : BitVec 32 := Scalar.addi v342 c15_i32
  let v668 : Index := Scalar.indexCast v667
  let c0_266 : Index := 0#32
  ![v668.toNat, 0]
@[reducible] def k0_t38_loop : Scf.Loop 32 :=
  let c1_i32_267 : BitVec 32 := 1#32
  let c31_i32_268 : BitVec 32 := 31#32
  let v673 : BitVec 32 := Scalar.addi c1_i32_267 c31_i32_268
  let c1_i32_269 : BitVec 32 := 1#32
  ⟨c1_i32_267, v673, c1_i32_269⟩
def k0_off171 (k0_t22 : Fin k0_t22_loop.trips) (k0_t38 : Fin k0_t38_loop.trips) : Fin 2 → Nat :=
  let c0_i32_149 : BitVec 32 := 0#32
  let c1_i32_150 : BitVec 32 := 1#32
  let arg14 : BitVec 32 := Scf.iv c0_i32_149 c1_i32_150 k0_t22
  let c16_i32_156 : BitVec 32 := 16#32
  let v342 : BitVec 32 := Scalar.muli arg14 c16_i32_156
  let c15_i32 : BitVec 32 := 15#32
  let v667 : BitVec 32 := Scalar.addi v342 c15_i32
  let v684 : Index := Scalar.indexCast v667
  let c1_i32_267 : BitVec 32 := 1#32
  let c1_i32_269 : BitVec 32 := 1#32
  let arg15 : BitVec 32 := Scf.iv c1_i32_267 c1_i32_269 k0_t38
  let c16_i32_273 : BitVec 32 := 16#32
  let v683 : BitVec 32 := Scalar.muli arg15 c16_i32_273
  let v685 : Index := Scalar.indexCast v683
  ![v684.toNat, v685.toNat]
def k0_off172 (v666 : BitVec 32) (k0_t38 : Fin k0_t38_loop.trips) : Fin 2 → Nat :=
  let v692 : Index := Scalar.indexCast v666
  let c1_i32_267 : BitVec 32 := 1#32
  let c1_i32_269 : BitVec 32 := 1#32
  let arg15 : BitVec 32 := Scf.iv c1_i32_267 c1_i32_269 k0_t38
  let c1_i32_274 : BitVec 32 := 1#32
  let v690 : BitVec 32 := Scalar.subi arg15 c1_i32_274
  let c16_i32_275 : BitVec 32 := 16#32
  let v691 : BitVec 32 := Scalar.muli v690 c16_i32_275
  let v693 : Index := Scalar.indexCast v691
  ![v692.toNat, v693.toNat]

def k0_off173 (v666 : BitVec 32) : Fin 2 → Nat :=
  let v675 : Index := Scalar.indexCast v666
  let c496_271 : Index := 496#32
  ![v675.toNat, 496]

def k0_chk37 (i : grid0.Coords) (v66_0 : BitVec 32) (v74 : BitVec 32) (v79 : BitVec 32) (v84 : BitVec 32) (v89 : BitVec 32) (v94 : BitVec 32) (v99 : BitVec 32) (v104 : BitVec 32) (v109 : BitVec 32) (v114 : BitVec 32) (v119 : BitVec 32) (v124 : BitVec 32) (v129 : BitVec 32) (v134 : BitVec 32) (v139 : BitVec 32) (v144 : BitVec 32) (v149 : BitVec 32) (v158_0 : BitVec 32) (v166 : BitVec 32) (v171 : BitVec 32) (v176 : BitVec 32) (v181 : BitVec 32) (v186 : BitVec 32) (v191 : BitVec 32) (v196 : BitVec 32) (v201 : BitVec 32) (v206 : BitVec 32) (v211 : BitVec 32) (v216 : BitVec 32) (v221 : BitVec 32) (v226 : BitVec 32) (v231 : BitVec 32) (v236 : BitVec 32) (v241 : BitVec 32) (k0_t4 : Fin (k0_t4_loop i v66_0 v74 v79 v84 v89 v94 v99 v104 v109 v114 v119 v124 v129 v134 v139 v144 v149 v158_0 v166 v171 v176 v181 v186 v191 v196 v201 v206 v211 v216 v221 v226 v231 v236 v241).trips) (v666 : BitVec 32) : Prop :=
  (∀ k0_t38 : Fin k0_t38_loop.trips, ∀ (k0_h5 : k0_cond5 i v66_0 v74 v79 v84 v89 v94 v99 v104 v109 v114 v119 v124 v129 v134 v139 v144 v149 v158_0 v166 v171 v176 v181 v186 v191 v196 v201 v206 v211 v216 v221 v226 v231 v236 v241 k0_t4 = 1#1), ∀ a, (k0_off172 v666 k0_t38) a + S1x16.size a ≤ S32x512.size a) ∧
  (∀ (k0_h5 : k0_cond5 i v66_0 v74 v79 v84 v89 v94 v99 v104 v109 v114 v119 v124 v129 v134 v139 v144 v149 v158_0 v166 v171 v176 v181 v186 v191 v196 v201 v206 v211 v216 v221 v226 v231 v236 v241 k0_t4 = 1#1), ∀ a, (k0_off173 v666) a + S1x16.size a ≤ S32x512.size a)
theorem k0_off172_inb : ∀ (i : grid0.Coords) (v66_0 : BitVec 32) (v74 : BitVec 32) (v79 : BitVec 32) (v84 : BitVec 32) (v89 : BitVec 32) (v94 : BitVec 32) (v99 : BitVec 32) (v104 : BitVec 32) (v109 : BitVec 32) (v114 : BitVec 32) (v119 : BitVec 32) (v124 : BitVec 32) (v129 : BitVec 32) (v134 : BitVec 32) (v139 : BitVec 32) (v144 : BitVec 32) (v149 : BitVec 32) (v158_0 : BitVec 32) (v166 : BitVec 32) (v171 : BitVec 32) (v176 : BitVec 32) (v181 : BitVec 32) (v186 : BitVec 32) (v191 : BitVec 32) (v196 : BitVec 32) (v201 : BitVec 32) (v206 : BitVec 32) (v211 : BitVec 32) (v216 : BitVec 32) (v221 : BitVec 32) (v226 : BitVec 32) (v231 : BitVec 32) (v236 : BitVec 32) (v241 : BitVec 32) (k0_t4 : Fin (k0_t4_loop i v66_0 v74 v79 v84 v89 v94 v99 v104 v109 v114 v119 v124 v129 v134 v139 v144 v149 v158_0 v166 v171 v176 v181 v186 v191 v196 v201 v206 v211 v216 v221 v226 v231 v236 v241).trips) (v666 : BitVec 32) (k0_hw37 : k0_chk37 i v66_0 v74 v79 v84 v89 v94 v99 v104 v109 v114 v119 v124 v129 v134 v139 v144 v149 v158_0 v166 v171 v176 v181 v186 v191 v196 v201 v206 v211 v216 v221 v226 v231 v236 v241 k0_t4 v666) (k0_t38 : Fin k0_t38_loop.trips), ∀ (k0_h5 : k0_cond5 i v66_0 v74 v79 v84 v89 v94 v99 v104 v109 v114 v119 v124 v129 v134 v139 v144 v149 v158_0 v166 v171 v176 v181 v186 v191 v196 v201 v206 v211 v216 v221 v226 v231 v236 v241 k0_t4 = 1#1), ∀ a, (k0_off172 v666 k0_t38) a + S1x16.size a ≤ S32x512.size a := fun i v66_0 v74 v79 v84 v89 v94 v99 v104 v109 v114 v119 v124 v129 v134 v139 v144 v149 v158_0 v166 v171 v176 v181 v186 v191 v196 v201 v206 v211 v216 v221 v226 v231 v236 v241 k0_t4 v666 k0_hw37 k0_t38 k0_h5 => k0_hw37.1 k0_t38 k0_h5
theorem k0_off173_inb : ∀ (i : grid0.Coords) (v66_0 : BitVec 32) (v74 : BitVec 32) (v79 : BitVec 32) (v84 : BitVec 32) (v89 : BitVec 32) (v94 : BitVec 32) (v99 : BitVec 32) (v104 : BitVec 32) (v109 : BitVec 32) (v114 : BitVec 32) (v119 : BitVec 32) (v124 : BitVec 32) (v129 : BitVec 32) (v134 : BitVec 32) (v139 : BitVec 32) (v144 : BitVec 32) (v149 : BitVec 32) (v158_0 : BitVec 32) (v166 : BitVec 32) (v171 : BitVec 32) (v176 : BitVec 32) (v181 : BitVec 32) (v186 : BitVec 32) (v191 : BitVec 32) (v196 : BitVec 32) (v201 : BitVec 32) (v206 : BitVec 32) (v211 : BitVec 32) (v216 : BitVec 32) (v221 : BitVec 32) (v226 : BitVec 32) (v231 : BitVec 32) (v236 : BitVec 32) (v241 : BitVec 32) (k0_t4 : Fin (k0_t4_loop i v66_0 v74 v79 v84 v89 v94 v99 v104 v109 v114 v119 v124 v129 v134 v139 v144 v149 v158_0 v166 v171 v176 v181 v186 v191 v196 v201 v206 v211 v216 v221 v226 v231 v236 v241).trips) (v666 : BitVec 32) (k0_hw37 : k0_chk37 i v66_0 v74 v79 v84 v89 v94 v99 v104 v109 v114 v119 v124 v129 v134 v139 v144 v149 v158_0 v166 v171 v176 v181 v186 v191 v196 v201 v206 v211 v216 v221 v226 v231 v236 v241 k0_t4 v666), ∀ (k0_h5 : k0_cond5 i v66_0 v74 v79 v84 v89 v94 v99 v104 v109 v114 v119 v124 v129 v134 v139 v144 v149 v158_0 v166 v171 v176 v181 v186 v191 v196 v201 v206 v211 v216 v221 v226 v231 v236 v241 k0_t4 = 1#1), ∀ a, (k0_off173 v666) a + S1x16.size a ≤ S32x512.size a := fun i v66_0 v74 v79 v84 v89 v94 v99 v104 v109 v114 v119 v124 v129 v134 v139 v144 v149 v158_0 v166 v171 v176 v181 v186 v191 v196 v201 v206 v211 v216 v221 v226 v231 v236 v241 k0_t4 v666 k0_hw37 k0_h5 => k0_hw37.2 k0_h5

def k0_off174 (i : grid0.Coords) (v66_0 : BitVec 32) (v74 : BitVec 32) (v79 : BitVec 32) (v84 : BitVec 32) (v89 : BitVec 32) (v94 : BitVec 32) (v99 : BitVec 32) (v104 : BitVec 32) (v109 : BitVec 32) (v114 : BitVec 32) (v119 : BitVec 32) (v124 : BitVec 32) (v129 : BitVec 32) (v134 : BitVec 32) (v139 : BitVec 32) (v144 : BitVec 32) (v149 : BitVec 32) (v158_0 : BitVec 32) (v166 : BitVec 32) (v171 : BitVec 32) (v176 : BitVec 32) (v181 : BitVec 32) (v186 : BitVec 32) (v191 : BitVec 32) (v196 : BitVec 32) (v201 : BitVec 32) (v206 : BitVec 32) (v211 : BitVec 32) (v216 : BitVec 32) (v221 : BitVec 32) (v226 : BitVec 32) (v231 : BitVec 32) (v236 : BitVec 32) (v241 : BitVec 32) (k0_t4 : Fin (k0_t4_loop i v66_0 v74 v79 v84 v89 v94 v99 v104 v109 v114 v119 v124 v129 v134 v139 v144 v149 v158_0 v166 v171 v176 v181 v186 v191 v196 v201 v206 v211 v216 v221 v226 v231 v236 v241).trips) : Fin 2 → Nat :=
  let c0_i32_57 : BitVec 32 := 0#32
  let v153 : BitVec 1 := Scalar.cmpi .eq v66_0 c0_i32_57
  let c0_i32_59 : BitVec 32 := 0#32
  let c1_i32_22 : BitVec 32 := 1#32
  let v67 : BitVec 32 := Scalar.subi v66_0 c1_i32_22
  let c0_i32_23 : BitVec 32 := 0#32
  let v68 : BitVec 32 := Scalar.maxsi v67 c0_i32_23
  let c16_i32_58 : BitVec 32 := 16#32
  let v154 : BitVec 32 := Scalar.muli v68 c16_i32_58
  let c0_i32_26 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let v75 : BitVec 1 := Scalar.cmpi .slt v74 v2
  let c1_i32_24 : BitVec 32 := 1#32
  let c0_i32_25 : BitVec 32 := 0#32
  let v76 : BitVec 32 := Scalar.select v75 c1_i32_24 c0_i32_25
  let v77 : BitVec 32 := Scalar.addi c0_i32_26 v76
  let v80 : BitVec 1 := Scalar.cmpi .slt v79 v2
  let c1_i32_27 : BitVec 32 := 1#32
  let c0_i32_28 : BitVec 32 := 0#32
  let v81 : BitVec 32 := Scalar.select v80 c1_i32_27 c0_i32_28
  let v82 : BitVec 32 := Scalar.addi v77 v81
  let v85 : BitVec 1 := Scalar.cmpi .slt v84 v2
  let c1_i32_29 : BitVec 32 := 1#32
  let c0_i32_30 : BitVec 32 := 0#32
  let v86 : BitVec 32 := Scalar.select v85 c1_i32_29 c0_i32_30
  let v87 : BitVec 32 := Scalar.addi v82 v86
  let v90 : BitVec 1 := Scalar.cmpi .slt v89 v2
  let c1_i32_31 : BitVec 32 := 1#32
  let c0_i32_32 : BitVec 32 := 0#32
  let v91 : BitVec 32 := Scalar.select v90 c1_i32_31 c0_i32_32
  let v92 : BitVec 32 := Scalar.addi v87 v91
  let v95 : BitVec 1 := Scalar.cmpi .slt v94 v2
  let c1_i32_33 : BitVec 32 := 1#32
  let c0_i32_34 : BitVec 32 := 0#32
  let v96 : BitVec 32 := Scalar.select v95 c1_i32_33 c0_i32_34
  let v97 : BitVec 32 := Scalar.addi v92 v96
  let v100 : BitVec 1 := Scalar.cmpi .slt v99 v2
  let c1_i32_35 : BitVec 32 := 1#32
  let c0_i32_36 : BitVec 32 := 0#32
  let v101 : BitVec 32 := Scalar.select v100 c1_i32_35 c0_i32_36
  let v102 : BitVec 32 := Scalar.addi v97 v101
  let v105 : BitVec 1 := Scalar.cmpi .slt v104 v2
  let c1_i32_37 : BitVec 32 := 1#32
  let c0_i32_38 : BitVec 32 := 0#32
  let v106 : BitVec 32 := Scalar.select v105 c1_i32_37 c0_i32_38
  let v107 : BitVec 32 := Scalar.addi v102 v106
  let v110 : BitVec 1 := Scalar.cmpi .slt v109 v2
  let c1_i32_39 : BitVec 32 := 1#32
  let c0_i32_40 : BitVec 32 := 0#32
  let v111 : BitVec 32 := Scalar.select v110 c1_i32_39 c0_i32_40
  let v112 : BitVec 32 := Scalar.addi v107 v111
  let v115 : BitVec 1 := Scalar.cmpi .slt v114 v2
  let c1_i32_41 : BitVec 32 := 1#32
  let c0_i32_42 : BitVec 32 := 0#32
  let v116 : BitVec 32 := Scalar.select v115 c1_i32_41 c0_i32_42
  let v117 : BitVec 32 := Scalar.addi v112 v116
  let v120 : BitVec 1 := Scalar.cmpi .slt v119 v2
  let c1_i32_43 : BitVec 32 := 1#32
  let c0_i32_44 : BitVec 32 := 0#32
  let v121 : BitVec 32 := Scalar.select v120 c1_i32_43 c0_i32_44
  let v122 : BitVec 32 := Scalar.addi v117 v121
  let v125 : BitVec 1 := Scalar.cmpi .slt v124 v2
  let c1_i32_45 : BitVec 32 := 1#32
  let c0_i32_46 : BitVec 32 := 0#32
  let v126 : BitVec 32 := Scalar.select v125 c1_i32_45 c0_i32_46
  let v127 : BitVec 32 := Scalar.addi v122 v126
  let v130 : BitVec 1 := Scalar.cmpi .slt v129 v2
  let c1_i32_47 : BitVec 32 := 1#32
  let c0_i32_48 : BitVec 32 := 0#32
  let v131 : BitVec 32 := Scalar.select v130 c1_i32_47 c0_i32_48
  let v132 : BitVec 32 := Scalar.addi v127 v131
  let v135 : BitVec 1 := Scalar.cmpi .slt v134 v2
  let c1_i32_49 : BitVec 32 := 1#32
  let c0_i32_50 : BitVec 32 := 0#32
  let v136 : BitVec 32 := Scalar.select v135 c1_i32_49 c0_i32_50
  let v137 : BitVec 32 := Scalar.addi v132 v136
  let v140 : BitVec 1 := Scalar.cmpi .slt v139 v2
  let c1_i32_51 : BitVec 32 := 1#32
  let c0_i32_52 : BitVec 32 := 0#32
  let v141 : BitVec 32 := Scalar.select v140 c1_i32_51 c0_i32_52
  let v142 : BitVec 32 := Scalar.addi v137 v141
  let v145 : BitVec 1 := Scalar.cmpi .slt v144 v2
  let c1_i32_53 : BitVec 32 := 1#32
  let c0_i32_54 : BitVec 32 := 0#32
  let v146 : BitVec 32 := Scalar.select v145 c1_i32_53 c0_i32_54
  let v147 : BitVec 32 := Scalar.addi v142 v146
  let v150 : BitVec 1 := Scalar.cmpi .slt v149 v2
  let c1_i32_55 : BitVec 32 := 1#32
  let c0_i32_56 : BitVec 32 := 0#32
  let v151 : BitVec 32 := Scalar.select v150 c1_i32_55 c0_i32_56
  let v152 : BitVec 32 := Scalar.addi v147 v151
  let v155 : BitVec 32 := Scalar.addi v154 v152
  let v156 : BitVec 32 := Scalar.select v153 c0_i32_59 v155
  let c0_i32_105 : BitVec 32 := 0#32
  let v250 : BitVec 1 := Scalar.cmpi .sgt v156 c0_i32_105
  let v251 : BitVec 32 := Scalar.extui v250
  let c0_i32_106 : BitVec 32 := 0#32
  let v252 : BitVec 1 := Scalar.cmpi .slt v156 c0_i32_106
  let v253 : BitVec 32 := Scalar.extui v252
  let v254 : BitVec 32 := Scalar.subi v251 v253
  let c64_i32 : BitVec 32 := 64#32
  let c0_i32_107 : BitVec 32 := 0#32
  let v255 : BitVec 1 := Scalar.cmpi .sgt c64_i32 c0_i32_107
  let v256 : BitVec 32 := Scalar.extui v255
  let c0_i32_108 : BitVec 32 := 0#32
  let v257 : BitVec 1 := Scalar.cmpi .slt c64_i32 c0_i32_108
  let v258 : BitVec 32 := Scalar.extui v257
  let v259 : BitVec 32 := Scalar.subi v256 v258
  let v260 : BitVec 1 := Scalar.cmpi .ne v254 v259
  let v261 : BitVec 32 := Scalar.remsi v156 c64_i32
  let c0_i32_109 : BitVec 32 := 0#32
  let v262 : BitVec 1 := Scalar.cmpi .ne v261 c0_i32_109
  let v263 : BitVec 1 := Scalar.andi v260 v262
  let v249 : BitVec 32 := Scalar.divsi v156 c64_i32
  let c1_i32_110 : BitVec 32 := 1#32
  let v264 : BitVec 32 := Scalar.subi v249 c1_i32_110
  let v265 : BitVec 32 := Scalar.select v263 v264 v249
  let c2_i32_139 : BitVec 32 := 2#32
  let c0_i32_134 : BitVec 32 := 0#32
  let c1_i32_136 : BitVec 32 := 1#32
  let arg13 : BitVec 32 := Scf.iv c0_i32_134 c1_i32_136 k0_t4
  let v320 : BitVec 32 := Scalar.muli c2_i32_139 arg13
  let v321 : BitVec 32 := Scalar.addi v265 v320
  let c1_i32_144 : BitVec 32 := 1#32
  let v330 : BitVec 32 := Scalar.addi v321 c1_i32_144
  let c2_i32_154 : BitVec 32 := 2#32
  let v339 : BitVec 32 := Scalar.addi v330 c2_i32_154
  let c64_i32_155 : BitVec 32 := 64#32
  let v340 : BitVec 32 := Scalar.muli v339 c64_i32_155
  let c0_i32_156 : BitVec 32 := 0#32
  ![v340.toNat, 0]
def k0_cond6 (i : grid0.Coords) (v66_0 : BitVec 32) (v74 : BitVec 32) (v79 : BitVec 32) (v84 : BitVec 32) (v89 : BitVec 32) (v94 : BitVec 32) (v99 : BitVec 32) (v104 : BitVec 32) (v109 : BitVec 32) (v114 : BitVec 32) (v119 : BitVec 32) (v124 : BitVec 32) (v129 : BitVec 32) (v134 : BitVec 32) (v139 : BitVec 32) (v144 : BitVec 32) (v149 : BitVec 32) (v158_0 : BitVec 32) (v166 : BitVec 32) (v171 : BitVec 32) (v176 : BitVec 32) (v181 : BitVec 32) (v186 : BitVec 32) (v191 : BitVec 32) (v196 : BitVec 32) (v201 : BitVec 32) (v206 : BitVec 32) (v211 : BitVec 32) (v216 : BitVec 32) (v221 : BitVec 32) (v226 : BitVec 32) (v231 : BitVec 32) (v236 : BitVec 32) (v241 : BitVec 32) (k0_t4 : Fin (k0_t4_loop i v66_0 v74 v79 v84 v89 v94 v99 v104 v109 v114 v119 v124 v129 v134 v139 v144 v149 v158_0 v166 v171 v176 v181 v186 v191 v196 v201 v206 v211 v216 v221 v226 v231 v236 v241).trips) : BitVec 1 :=
  let c0_i32_57 : BitVec 32 := 0#32
  let v153 : BitVec 1 := Scalar.cmpi .eq v66_0 c0_i32_57
  let c0_i32_59 : BitVec 32 := 0#32
  let c1_i32_22 : BitVec 32 := 1#32
  let v67 : BitVec 32 := Scalar.subi v66_0 c1_i32_22
  let c0_i32_23 : BitVec 32 := 0#32
  let v68 : BitVec 32 := Scalar.maxsi v67 c0_i32_23
  let c16_i32_58 : BitVec 32 := 16#32
  let v154 : BitVec 32 := Scalar.muli v68 c16_i32_58
  let c0_i32_26 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let v75 : BitVec 1 := Scalar.cmpi .slt v74 v2
  let c1_i32_24 : BitVec 32 := 1#32
  let c0_i32_25 : BitVec 32 := 0#32
  let v76 : BitVec 32 := Scalar.select v75 c1_i32_24 c0_i32_25
  let v77 : BitVec 32 := Scalar.addi c0_i32_26 v76
  let v80 : BitVec 1 := Scalar.cmpi .slt v79 v2
  let c1_i32_27 : BitVec 32 := 1#32
  let c0_i32_28 : BitVec 32 := 0#32
  let v81 : BitVec 32 := Scalar.select v80 c1_i32_27 c0_i32_28
  let v82 : BitVec 32 := Scalar.addi v77 v81
  let v85 : BitVec 1 := Scalar.cmpi .slt v84 v2
  let c1_i32_29 : BitVec 32 := 1#32
  let c0_i32_30 : BitVec 32 := 0#32
  let v86 : BitVec 32 := Scalar.select v85 c1_i32_29 c0_i32_30
  let v87 : BitVec 32 := Scalar.addi v82 v86
  let v90 : BitVec 1 := Scalar.cmpi .slt v89 v2
  let c1_i32_31 : BitVec 32 := 1#32
  let c0_i32_32 : BitVec 32 := 0#32
  let v91 : BitVec 32 := Scalar.select v90 c1_i32_31 c0_i32_32
  let v92 : BitVec 32 := Scalar.addi v87 v91
  let v95 : BitVec 1 := Scalar.cmpi .slt v94 v2
  let c1_i32_33 : BitVec 32 := 1#32
  let c0_i32_34 : BitVec 32 := 0#32
  let v96 : BitVec 32 := Scalar.select v95 c1_i32_33 c0_i32_34
  let v97 : BitVec 32 := Scalar.addi v92 v96
  let v100 : BitVec 1 := Scalar.cmpi .slt v99 v2
  let c1_i32_35 : BitVec 32 := 1#32
  let c0_i32_36 : BitVec 32 := 0#32
  let v101 : BitVec 32 := Scalar.select v100 c1_i32_35 c0_i32_36
  let v102 : BitVec 32 := Scalar.addi v97 v101
  let v105 : BitVec 1 := Scalar.cmpi .slt v104 v2
  let c1_i32_37 : BitVec 32 := 1#32
  let c0_i32_38 : BitVec 32 := 0#32
  let v106 : BitVec 32 := Scalar.select v105 c1_i32_37 c0_i32_38
  let v107 : BitVec 32 := Scalar.addi v102 v106
  let v110 : BitVec 1 := Scalar.cmpi .slt v109 v2
  let c1_i32_39 : BitVec 32 := 1#32
  let c0_i32_40 : BitVec 32 := 0#32
  let v111 : BitVec 32 := Scalar.select v110 c1_i32_39 c0_i32_40
  let v112 : BitVec 32 := Scalar.addi v107 v111
  let v115 : BitVec 1 := Scalar.cmpi .slt v114 v2
  let c1_i32_41 : BitVec 32 := 1#32
  let c0_i32_42 : BitVec 32 := 0#32
  let v116 : BitVec 32 := Scalar.select v115 c1_i32_41 c0_i32_42
  let v117 : BitVec 32 := Scalar.addi v112 v116
  let v120 : BitVec 1 := Scalar.cmpi .slt v119 v2
  let c1_i32_43 : BitVec 32 := 1#32
  let c0_i32_44 : BitVec 32 := 0#32
  let v121 : BitVec 32 := Scalar.select v120 c1_i32_43 c0_i32_44
  let v122 : BitVec 32 := Scalar.addi v117 v121
  let v125 : BitVec 1 := Scalar.cmpi .slt v124 v2
  let c1_i32_45 : BitVec 32 := 1#32
  let c0_i32_46 : BitVec 32 := 0#32
  let v126 : BitVec 32 := Scalar.select v125 c1_i32_45 c0_i32_46
  let v127 : BitVec 32 := Scalar.addi v122 v126
  let v130 : BitVec 1 := Scalar.cmpi .slt v129 v2
  let c1_i32_47 : BitVec 32 := 1#32
  let c0_i32_48 : BitVec 32 := 0#32
  let v131 : BitVec 32 := Scalar.select v130 c1_i32_47 c0_i32_48
  let v132 : BitVec 32 := Scalar.addi v127 v131
  let v135 : BitVec 1 := Scalar.cmpi .slt v134 v2
  let c1_i32_49 : BitVec 32 := 1#32
  let c0_i32_50 : BitVec 32 := 0#32
  let v136 : BitVec 32 := Scalar.select v135 c1_i32_49 c0_i32_50
  let v137 : BitVec 32 := Scalar.addi v132 v136
  let v140 : BitVec 1 := Scalar.cmpi .slt v139 v2
  let c1_i32_51 : BitVec 32 := 1#32
  let c0_i32_52 : BitVec 32 := 0#32
  let v141 : BitVec 32 := Scalar.select v140 c1_i32_51 c0_i32_52
  let v142 : BitVec 32 := Scalar.addi v137 v141
  let v145 : BitVec 1 := Scalar.cmpi .slt v144 v2
  let c1_i32_53 : BitVec 32 := 1#32
  let c0_i32_54 : BitVec 32 := 0#32
  let v146 : BitVec 32 := Scalar.select v145 c1_i32_53 c0_i32_54
  let v147 : BitVec 32 := Scalar.addi v142 v146
  let v150 : BitVec 1 := Scalar.cmpi .slt v149 v2
  let c1_i32_55 : BitVec 32 := 1#32
  let c0_i32_56 : BitVec 32 := 0#32
  let v151 : BitVec 32 := Scalar.select v150 c1_i32_55 c0_i32_56
  let v152 : BitVec 32 := Scalar.addi v147 v151
  let v155 : BitVec 32 := Scalar.addi v154 v152
  let v156 : BitVec 32 := Scalar.select v153 c0_i32_59 v155
  let c0_i32_105 : BitVec 32 := 0#32
  let v250 : BitVec 1 := Scalar.cmpi .sgt v156 c0_i32_105
  let v251 : BitVec 32 := Scalar.extui v250
  let c0_i32_106 : BitVec 32 := 0#32
  let v252 : BitVec 1 := Scalar.cmpi .slt v156 c0_i32_106
  let v253 : BitVec 32 := Scalar.extui v252
  let v254 : BitVec 32 := Scalar.subi v251 v253
  let c64_i32 : BitVec 32 := 64#32
  let c0_i32_107 : BitVec 32 := 0#32
  let v255 : BitVec 1 := Scalar.cmpi .sgt c64_i32 c0_i32_107
  let v256 : BitVec 32 := Scalar.extui v255
  let c0_i32_108 : BitVec 32 := 0#32
  let v257 : BitVec 1 := Scalar.cmpi .slt c64_i32 c0_i32_108
  let v258 : BitVec 32 := Scalar.extui v257
  let v259 : BitVec 32 := Scalar.subi v256 v258
  let v260 : BitVec 1 := Scalar.cmpi .ne v254 v259
  let v261 : BitVec 32 := Scalar.remsi v156 c64_i32
  let c0_i32_109 : BitVec 32 := 0#32
  let v262 : BitVec 1 := Scalar.cmpi .ne v261 c0_i32_109
  let v263 : BitVec 1 := Scalar.andi v260 v262
  let v249 : BitVec 32 := Scalar.divsi v156 c64_i32
  let c1_i32_110 : BitVec 32 := 1#32
  let v264 : BitVec 32 := Scalar.subi v249 c1_i32_110
  let v265 : BitVec 32 := Scalar.select v263 v264 v249
  let c2_i32_139 : BitVec 32 := 2#32
  let c0_i32_134 : BitVec 32 := 0#32
  let c1_i32_136 : BitVec 32 := 1#32
  let arg13 : BitVec 32 := Scf.iv c0_i32_134 c1_i32_136 k0_t4
  let v320 : BitVec 32 := Scalar.muli c2_i32_139 arg13
  let v321 : BitVec 32 := Scalar.addi v265 v320
  let c1_i32_144 : BitVec 32 := 1#32
  let v330 : BitVec 32 := Scalar.addi v321 c1_i32_144
  let c2_i32_152 : BitVec 32 := 2#32
  let v335 : BitVec 32 := Scalar.addi v330 c2_i32_152
  let c0_i32_102 : BitVec 32 := 0#32
  let v245 : BitVec 1 := Scalar.cmpi .eq v158_0 c0_i32_102
  let c0_i32_104 : BitVec 32 := 0#32
  let c1_i32_66 : BitVec 32 := 1#32
  let v159 : BitVec 32 := Scalar.subi v158_0 c1_i32_66
  let c0_i32_67 : BitVec 32 := 0#32
  let v160 : BitVec 32 := Scalar.maxsi v159 c0_i32_67
  let c16_i32_103 : BitVec 32 := 16#32
  let v246 : BitVec 32 := Scalar.muli v160 c16_i32_103
  let c0_i32_71 : BitVec 32 := 0#32
  let c32_i32_0 : BitVec 32 := 32#32
  let v3 : BitVec 32 := Scalar.addi v2 c32_i32_0
  let v167 : BitVec 1 := Scalar.cmpi .slt v166 v3
  let c1_i32_69 : BitVec 32 := 1#32
  let c0_i32_70 : BitVec 32 := 0#32
  let v168 : BitVec 32 := Scalar.select v167 c1_i32_69 c0_i32_70
  let v169 : BitVec 32 := Scalar.addi c0_i32_71 v168
  let v172 : BitVec 1 := Scalar.cmpi .slt v171 v3
  let c1_i32_72 : BitVec 32 := 1#32
  let c0_i32_73 : BitVec 32 := 0#32
  let v173 : BitVec 32 := Scalar.select v172 c1_i32_72 c0_i32_73
  let v174 : BitVec 32 := Scalar.addi v169 v173
  let v177 : BitVec 1 := Scalar.cmpi .slt v176 v3
  let c1_i32_74 : BitVec 32 := 1#32
  let c0_i32_75 : BitVec 32 := 0#32
  let v178 : BitVec 32 := Scalar.select v177 c1_i32_74 c0_i32_75
  let v179 : BitVec 32 := Scalar.addi v174 v178
  let v182 : BitVec 1 := Scalar.cmpi .slt v181 v3
  let c1_i32_76 : BitVec 32 := 1#32
  let c0_i32_77 : BitVec 32 := 0#32
  let v183 : BitVec 32 := Scalar.select v182 c1_i32_76 c0_i32_77
  let v184 : BitVec 32 := Scalar.addi v179 v183
  let v187 : BitVec 1 := Scalar.cmpi .slt v186 v3
  let c1_i32_78 : BitVec 32 := 1#32
  let c0_i32_79 : BitVec 32 := 0#32
  let v188 : BitVec 32 := Scalar.select v187 c1_i32_78 c0_i32_79
  let v189 : BitVec 32 := Scalar.addi v184 v188
  let v192 : BitVec 1 := Scalar.cmpi .slt v191 v3
  let c1_i32_80 : BitVec 32 := 1#32
  let c0_i32_81 : BitVec 32 := 0#32
  let v193 : BitVec 32 := Scalar.select v192 c1_i32_80 c0_i32_81
  let v194 : BitVec 32 := Scalar.addi v189 v193
  let v197 : BitVec 1 := Scalar.cmpi .slt v196 v3
  let c1_i32_82 : BitVec 32 := 1#32
  let c0_i32_83 : BitVec 32 := 0#32
  let v198 : BitVec 32 := Scalar.select v197 c1_i32_82 c0_i32_83
  let v199 : BitVec 32 := Scalar.addi v194 v198
  let v202 : BitVec 1 := Scalar.cmpi .slt v201 v3
  let c1_i32_84 : BitVec 32 := 1#32
  let c0_i32_85 : BitVec 32 := 0#32
  let v203 : BitVec 32 := Scalar.select v202 c1_i32_84 c0_i32_85
  let v204 : BitVec 32 := Scalar.addi v199 v203
  let v207 : BitVec 1 := Scalar.cmpi .slt v206 v3
  let c1_i32_86 : BitVec 32 := 1#32
  let c0_i32_87 : BitVec 32 := 0#32
  let v208 : BitVec 32 := Scalar.select v207 c1_i32_86 c0_i32_87
  let v209 : BitVec 32 := Scalar.addi v204 v208
  let v212 : BitVec 1 := Scalar.cmpi .slt v211 v3
  let c1_i32_88 : BitVec 32 := 1#32
  let c0_i32_89 : BitVec 32 := 0#32
  let v213 : BitVec 32 := Scalar.select v212 c1_i32_88 c0_i32_89
  let v214 : BitVec 32 := Scalar.addi v209 v213
  let v217 : BitVec 1 := Scalar.cmpi .slt v216 v3
  let c1_i32_90 : BitVec 32 := 1#32
  let c0_i32_91 : BitVec 32 := 0#32
  let v218 : BitVec 32 := Scalar.select v217 c1_i32_90 c0_i32_91
  let v219 : BitVec 32 := Scalar.addi v214 v218
  let v222 : BitVec 1 := Scalar.cmpi .slt v221 v3
  let c1_i32_92 : BitVec 32 := 1#32
  let c0_i32_93 : BitVec 32 := 0#32
  let v223 : BitVec 32 := Scalar.select v222 c1_i32_92 c0_i32_93
  let v224 : BitVec 32 := Scalar.addi v219 v223
  let v227 : BitVec 1 := Scalar.cmpi .slt v226 v3
  let c1_i32_94 : BitVec 32 := 1#32
  let c0_i32_95 : BitVec 32 := 0#32
  let v228 : BitVec 32 := Scalar.select v227 c1_i32_94 c0_i32_95
  let v229 : BitVec 32 := Scalar.addi v224 v228
  let v232 : BitVec 1 := Scalar.cmpi .slt v231 v3
  let c1_i32_96 : BitVec 32 := 1#32
  let c0_i32_97 : BitVec 32 := 0#32
  let v233 : BitVec 32 := Scalar.select v232 c1_i32_96 c0_i32_97
  let v234 : BitVec 32 := Scalar.addi v229 v233
  let v237 : BitVec 1 := Scalar.cmpi .slt v236 v3
  let c1_i32_98 : BitVec 32 := 1#32
  let c0_i32_99 : BitVec 32 := 0#32
  let v238 : BitVec 32 := Scalar.select v237 c1_i32_98 c0_i32_99
  let v239 : BitVec 32 := Scalar.addi v234 v238
  let v242 : BitVec 1 := Scalar.cmpi .slt v241 v3
  let c1_i32_100 : BitVec 32 := 1#32
  let c0_i32_101 : BitVec 32 := 0#32
  let v243 : BitVec 32 := Scalar.select v242 c1_i32_100 c0_i32_101
  let v244 : BitVec 32 := Scalar.addi v239 v243
  let v247 : BitVec 32 := Scalar.addi v246 v244
  let v248 : BitVec 32 := Scalar.select v245 c0_i32_104 v247
  let c64_i32_111 : BitVec 32 := 64#32
  let v266 : BitVec 32 := Scalar.addi v248 c64_i32_111
  let c1_i32_112 : BitVec 32 := 1#32
  let v267 : BitVec 32 := Scalar.subi v266 c1_i32_112
  let c0_i32_114 : BitVec 32 := 0#32
  let v269 : BitVec 1 := Scalar.cmpi .sgt v267 c0_i32_114
  let v270 : BitVec 32 := Scalar.extui v269
  let c0_i32_115 : BitVec 32 := 0#32
  let v271 : BitVec 1 := Scalar.cmpi .slt v267 c0_i32_115
  let v272 : BitVec 32 := Scalar.extui v271
  let v273 : BitVec 32 := Scalar.subi v270 v272
  let c64_i32_113 : BitVec 32 := 64#32
  let c0_i32_116 : BitVec 32 := 0#32
  let v274 : BitVec 1 := Scalar.cmpi .sgt c64_i32_113 c0_i32_116
  let v275 : BitVec 32 := Scalar.extui v274
  let c0_i32_117 : BitVec 32 := 0#32
  let v276 : BitVec 1 := Scalar.cmpi .slt c64_i32_113 c0_i32_117
  let v277 : BitVec 32 := Scalar.extui v276
  let v278 : BitVec 32 := Scalar.subi v275 v277
  let v279 : BitVec 1 := Scalar.cmpi .ne v273 v278
  let v280 : BitVec 32 := Scalar.remsi v267 c64_i32_113
  let c0_i32_118 : BitVec 32 := 0#32
  let v281 : BitVec 1 := Scalar.cmpi .ne v280 c0_i32_118
  let v282 : BitVec 1 := Scalar.andi v279 v281
  let v268 : BitVec 32 := Scalar.divsi v267 c64_i32_113
  let c1_i32_119 : BitVec 32 := 1#32
  let v283 : BitVec 32 := Scalar.subi v268 c1_i32_119
  let v284 : BitVec 32 := Scalar.select v282 v283 v268
  let c156_i32 : BitVec 32 := 156#32
  let v285 : BitVec 32 := Scalar.minsi v284 c156_i32
  let v336 : BitVec 1 := Scalar.cmpi .slt v335 v285
  let v337 : BitVec 32 := Scalar.extui v336
  let c0_i32_153 : BitVec 32 := 0#32
  let v338 : BitVec 1 := Scalar.cmpi .ne v337 c0_i32_153
  v338

@[reducible] def k0_t39_loop (i : grid0.Coords) (v66_0 : BitVec 32) (v74 : BitVec 32) (v79 : BitVec 32) (v84 : BitVec 32) (v89 : BitVec 32) (v94 : BitVec 32) (v99 : BitVec 32) (v104 : BitVec 32) (v109 : BitVec 32) (v114 : BitVec 32) (v119 : BitVec 32) (v124 : BitVec 32) (v129 : BitVec 32) (v134 : BitVec 32) (v139 : BitVec 32) (v144 : BitVec 32) (v149 : BitVec 32) (v158_0 : BitVec 32) (v166 : BitVec 32) (v171 : BitVec 32) (v176 : BitVec 32) (v181 : BitVec 32) (v186 : BitVec 32) (v191 : BitVec 32) (v196 : BitVec 32) (v201 : BitVec 32) (v206 : BitVec 32) (v211 : BitVec 32) (v216 : BitVec 32) (v221 : BitVec 32) (v226 : BitVec 32) (v231 : BitVec 32) (v236 : BitVec 32) (v241 : BitVec 32) : Scf.Loop 32 :=
  let c0_i32_134 : BitVec 32 := 0#32
  let c0_i32_102 : BitVec 32 := 0#32
  let v245 : BitVec 1 := Scalar.cmpi .eq v158_0 c0_i32_102
  let c0_i32_104 : BitVec 32 := 0#32
  let c1_i32_66 : BitVec 32 := 1#32
  let v159 : BitVec 32 := Scalar.subi v158_0 c1_i32_66
  let c0_i32_67 : BitVec 32 := 0#32
  let v160 : BitVec 32 := Scalar.maxsi v159 c0_i32_67
  let c16_i32_103 : BitVec 32 := 16#32
  let v246 : BitVec 32 := Scalar.muli v160 c16_i32_103
  let c0_i32_71 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let c32_i32_0 : BitVec 32 := 32#32
  let v3 : BitVec 32 := Scalar.addi v2 c32_i32_0
  let v167 : BitVec 1 := Scalar.cmpi .slt v166 v3
  let c1_i32_69 : BitVec 32 := 1#32
  let c0_i32_70 : BitVec 32 := 0#32
  let v168 : BitVec 32 := Scalar.select v167 c1_i32_69 c0_i32_70
  let v169 : BitVec 32 := Scalar.addi c0_i32_71 v168
  let v172 : BitVec 1 := Scalar.cmpi .slt v171 v3
  let c1_i32_72 : BitVec 32 := 1#32
  let c0_i32_73 : BitVec 32 := 0#32
  let v173 : BitVec 32 := Scalar.select v172 c1_i32_72 c0_i32_73
  let v174 : BitVec 32 := Scalar.addi v169 v173
  let v177 : BitVec 1 := Scalar.cmpi .slt v176 v3
  let c1_i32_74 : BitVec 32 := 1#32
  let c0_i32_75 : BitVec 32 := 0#32
  let v178 : BitVec 32 := Scalar.select v177 c1_i32_74 c0_i32_75
  let v179 : BitVec 32 := Scalar.addi v174 v178
  let v182 : BitVec 1 := Scalar.cmpi .slt v181 v3
  let c1_i32_76 : BitVec 32 := 1#32
  let c0_i32_77 : BitVec 32 := 0#32
  let v183 : BitVec 32 := Scalar.select v182 c1_i32_76 c0_i32_77
  let v184 : BitVec 32 := Scalar.addi v179 v183
  let v187 : BitVec 1 := Scalar.cmpi .slt v186 v3
  let c1_i32_78 : BitVec 32 := 1#32
  let c0_i32_79 : BitVec 32 := 0#32
  let v188 : BitVec 32 := Scalar.select v187 c1_i32_78 c0_i32_79
  let v189 : BitVec 32 := Scalar.addi v184 v188
  let v192 : BitVec 1 := Scalar.cmpi .slt v191 v3
  let c1_i32_80 : BitVec 32 := 1#32
  let c0_i32_81 : BitVec 32 := 0#32
  let v193 : BitVec 32 := Scalar.select v192 c1_i32_80 c0_i32_81
  let v194 : BitVec 32 := Scalar.addi v189 v193
  let v197 : BitVec 1 := Scalar.cmpi .slt v196 v3
  let c1_i32_82 : BitVec 32 := 1#32
  let c0_i32_83 : BitVec 32 := 0#32
  let v198 : BitVec 32 := Scalar.select v197 c1_i32_82 c0_i32_83
  let v199 : BitVec 32 := Scalar.addi v194 v198
  let v202 : BitVec 1 := Scalar.cmpi .slt v201 v3
  let c1_i32_84 : BitVec 32 := 1#32
  let c0_i32_85 : BitVec 32 := 0#32
  let v203 : BitVec 32 := Scalar.select v202 c1_i32_84 c0_i32_85
  let v204 : BitVec 32 := Scalar.addi v199 v203
  let v207 : BitVec 1 := Scalar.cmpi .slt v206 v3
  let c1_i32_86 : BitVec 32 := 1#32
  let c0_i32_87 : BitVec 32 := 0#32
  let v208 : BitVec 32 := Scalar.select v207 c1_i32_86 c0_i32_87
  let v209 : BitVec 32 := Scalar.addi v204 v208
  let v212 : BitVec 1 := Scalar.cmpi .slt v211 v3
  let c1_i32_88 : BitVec 32 := 1#32
  let c0_i32_89 : BitVec 32 := 0#32
  let v213 : BitVec 32 := Scalar.select v212 c1_i32_88 c0_i32_89
  let v214 : BitVec 32 := Scalar.addi v209 v213
  let v217 : BitVec 1 := Scalar.cmpi .slt v216 v3
  let c1_i32_90 : BitVec 32 := 1#32
  let c0_i32_91 : BitVec 32 := 0#32
  let v218 : BitVec 32 := Scalar.select v217 c1_i32_90 c0_i32_91
  let v219 : BitVec 32 := Scalar.addi v214 v218
  let v222 : BitVec 1 := Scalar.cmpi .slt v221 v3
  let c1_i32_92 : BitVec 32 := 1#32
  let c0_i32_93 : BitVec 32 := 0#32
  let v223 : BitVec 32 := Scalar.select v222 c1_i32_92 c0_i32_93
  let v224 : BitVec 32 := Scalar.addi v219 v223
  let v227 : BitVec 1 := Scalar.cmpi .slt v226 v3
  let c1_i32_94 : BitVec 32 := 1#32
  let c0_i32_95 : BitVec 32 := 0#32
  let v228 : BitVec 32 := Scalar.select v227 c1_i32_94 c0_i32_95
  let v229 : BitVec 32 := Scalar.addi v224 v228
  let v232 : BitVec 1 := Scalar.cmpi .slt v231 v3
  let c1_i32_96 : BitVec 32 := 1#32
  let c0_i32_97 : BitVec 32 := 0#32
  let v233 : BitVec 32 := Scalar.select v232 c1_i32_96 c0_i32_97
  let v234 : BitVec 32 := Scalar.addi v229 v233
  let v237 : BitVec 1 := Scalar.cmpi .slt v236 v3
  let c1_i32_98 : BitVec 32 := 1#32
  let c0_i32_99 : BitVec 32 := 0#32
  let v238 : BitVec 32 := Scalar.select v237 c1_i32_98 c0_i32_99
  let v239 : BitVec 32 := Scalar.addi v234 v238
  let v242 : BitVec 1 := Scalar.cmpi .slt v241 v3
  let c1_i32_100 : BitVec 32 := 1#32
  let c0_i32_101 : BitVec 32 := 0#32
  let v243 : BitVec 32 := Scalar.select v242 c1_i32_100 c0_i32_101
  let v244 : BitVec 32 := Scalar.addi v239 v243
  let v247 : BitVec 32 := Scalar.addi v246 v244
  let v248 : BitVec 32 := Scalar.select v245 c0_i32_104 v247
  let c64_i32_111 : BitVec 32 := 64#32
  let v266 : BitVec 32 := Scalar.addi v248 c64_i32_111
  let c1_i32_112 : BitVec 32 := 1#32
  let v267 : BitVec 32 := Scalar.subi v266 c1_i32_112
  let c0_i32_114 : BitVec 32 := 0#32
  let v269 : BitVec 1 := Scalar.cmpi .sgt v267 c0_i32_114
  let v270 : BitVec 32 := Scalar.extui v269
  let c0_i32_115 : BitVec 32 := 0#32
  let v271 : BitVec 1 := Scalar.cmpi .slt v267 c0_i32_115
  let v272 : BitVec 32 := Scalar.extui v271
  let v273 : BitVec 32 := Scalar.subi v270 v272
  let c64_i32_113 : BitVec 32 := 64#32
  let c0_i32_116 : BitVec 32 := 0#32
  let v274 : BitVec 1 := Scalar.cmpi .sgt c64_i32_113 c0_i32_116
  let v275 : BitVec 32 := Scalar.extui v274
  let c0_i32_117 : BitVec 32 := 0#32
  let v276 : BitVec 1 := Scalar.cmpi .slt c64_i32_113 c0_i32_117
  let v277 : BitVec 32 := Scalar.extui v276
  let v278 : BitVec 32 := Scalar.subi v275 v277
  let v279 : BitVec 1 := Scalar.cmpi .ne v273 v278
  let v280 : BitVec 32 := Scalar.remsi v267 c64_i32_113
  let c0_i32_118 : BitVec 32 := 0#32
  let v281 : BitVec 1 := Scalar.cmpi .ne v280 c0_i32_118
  let v282 : BitVec 1 := Scalar.andi v279 v281
  let v268 : BitVec 32 := Scalar.divsi v267 c64_i32_113
  let c1_i32_119 : BitVec 32 := 1#32
  let v283 : BitVec 32 := Scalar.subi v268 c1_i32_119
  let v284 : BitVec 32 := Scalar.select v282 v283 v268
  let c156_i32 : BitVec 32 := 156#32
  let v285 : BitVec 32 := Scalar.minsi v284 c156_i32
  let c0_i32_57 : BitVec 32 := 0#32
  let v153 : BitVec 1 := Scalar.cmpi .eq v66_0 c0_i32_57
  let c0_i32_59 : BitVec 32 := 0#32
  let c1_i32_22 : BitVec 32 := 1#32
  let v67 : BitVec 32 := Scalar.subi v66_0 c1_i32_22
  let c0_i32_23 : BitVec 32 := 0#32
  let v68 : BitVec 32 := Scalar.maxsi v67 c0_i32_23
  let c16_i32_58 : BitVec 32 := 16#32
  let v154 : BitVec 32 := Scalar.muli v68 c16_i32_58
  let c0_i32_26 : BitVec 32 := 0#32
  let v75 : BitVec 1 := Scalar.cmpi .slt v74 v2
  let c1_i32_24 : BitVec 32 := 1#32
  let c0_i32_25 : BitVec 32 := 0#32
  let v76 : BitVec 32 := Scalar.select v75 c1_i32_24 c0_i32_25
  let v77 : BitVec 32 := Scalar.addi c0_i32_26 v76
  let v80 : BitVec 1 := Scalar.cmpi .slt v79 v2
  let c1_i32_27 : BitVec 32 := 1#32
  let c0_i32_28 : BitVec 32 := 0#32
  let v81 : BitVec 32 := Scalar.select v80 c1_i32_27 c0_i32_28
  let v82 : BitVec 32 := Scalar.addi v77 v81
  let v85 : BitVec 1 := Scalar.cmpi .slt v84 v2
  let c1_i32_29 : BitVec 32 := 1#32
  let c0_i32_30 : BitVec 32 := 0#32
  let v86 : BitVec 32 := Scalar.select v85 c1_i32_29 c0_i32_30
  let v87 : BitVec 32 := Scalar.addi v82 v86
  let v90 : BitVec 1 := Scalar.cmpi .slt v89 v2
  let c1_i32_31 : BitVec 32 := 1#32
  let c0_i32_32 : BitVec 32 := 0#32
  let v91 : BitVec 32 := Scalar.select v90 c1_i32_31 c0_i32_32
  let v92 : BitVec 32 := Scalar.addi v87 v91
  let v95 : BitVec 1 := Scalar.cmpi .slt v94 v2
  let c1_i32_33 : BitVec 32 := 1#32
  let c0_i32_34 : BitVec 32 := 0#32
  let v96 : BitVec 32 := Scalar.select v95 c1_i32_33 c0_i32_34
  let v97 : BitVec 32 := Scalar.addi v92 v96
  let v100 : BitVec 1 := Scalar.cmpi .slt v99 v2
  let c1_i32_35 : BitVec 32 := 1#32
  let c0_i32_36 : BitVec 32 := 0#32
  let v101 : BitVec 32 := Scalar.select v100 c1_i32_35 c0_i32_36
  let v102 : BitVec 32 := Scalar.addi v97 v101
  let v105 : BitVec 1 := Scalar.cmpi .slt v104 v2
  let c1_i32_37 : BitVec 32 := 1#32
  let c0_i32_38 : BitVec 32 := 0#32
  let v106 : BitVec 32 := Scalar.select v105 c1_i32_37 c0_i32_38
  let v107 : BitVec 32 := Scalar.addi v102 v106
  let v110 : BitVec 1 := Scalar.cmpi .slt v109 v2
  let c1_i32_39 : BitVec 32 := 1#32
  let c0_i32_40 : BitVec 32 := 0#32
  let v111 : BitVec 32 := Scalar.select v110 c1_i32_39 c0_i32_40
  let v112 : BitVec 32 := Scalar.addi v107 v111
  let v115 : BitVec 1 := Scalar.cmpi .slt v114 v2
  let c1_i32_41 : BitVec 32 := 1#32
  let c0_i32_42 : BitVec 32 := 0#32
  let v116 : BitVec 32 := Scalar.select v115 c1_i32_41 c0_i32_42
  let v117 : BitVec 32 := Scalar.addi v112 v116
  let v120 : BitVec 1 := Scalar.cmpi .slt v119 v2
  let c1_i32_43 : BitVec 32 := 1#32
  let c0_i32_44 : BitVec 32 := 0#32
  let v121 : BitVec 32 := Scalar.select v120 c1_i32_43 c0_i32_44
  let v122 : BitVec 32 := Scalar.addi v117 v121
  let v125 : BitVec 1 := Scalar.cmpi .slt v124 v2
  let c1_i32_45 : BitVec 32 := 1#32
  let c0_i32_46 : BitVec 32 := 0#32
  let v126 : BitVec 32 := Scalar.select v125 c1_i32_45 c0_i32_46
  let v127 : BitVec 32 := Scalar.addi v122 v126
  let v130 : BitVec 1 := Scalar.cmpi .slt v129 v2
  let c1_i32_47 : BitVec 32 := 1#32
  let c0_i32_48 : BitVec 32 := 0#32
  let v131 : BitVec 32 := Scalar.select v130 c1_i32_47 c0_i32_48
  let v132 : BitVec 32 := Scalar.addi v127 v131
  let v135 : BitVec 1 := Scalar.cmpi .slt v134 v2
  let c1_i32_49 : BitVec 32 := 1#32
  let c0_i32_50 : BitVec 32 := 0#32
  let v136 : BitVec 32 := Scalar.select v135 c1_i32_49 c0_i32_50
  let v137 : BitVec 32 := Scalar.addi v132 v136
  let v140 : BitVec 1 := Scalar.cmpi .slt v139 v2
  let c1_i32_51 : BitVec 32 := 1#32
  let c0_i32_52 : BitVec 32 := 0#32
  let v141 : BitVec 32 := Scalar.select v140 c1_i32_51 c0_i32_52
  let v142 : BitVec 32 := Scalar.addi v137 v141
  let v145 : BitVec 1 := Scalar.cmpi .slt v144 v2
  let c1_i32_53 : BitVec 32 := 1#32
  let c0_i32_54 : BitVec 32 := 0#32
  let v146 : BitVec 32 := Scalar.select v145 c1_i32_53 c0_i32_54
  let v147 : BitVec 32 := Scalar.addi v142 v146
  let v150 : BitVec 1 := Scalar.cmpi .slt v149 v2
  let c1_i32_55 : BitVec 32 := 1#32
  let c0_i32_56 : BitVec 32 := 0#32
  let v151 : BitVec 32 := Scalar.select v150 c1_i32_55 c0_i32_56
  let v152 : BitVec 32 := Scalar.addi v147 v151
  let v155 : BitVec 32 := Scalar.addi v154 v152
  let v156 : BitVec 32 := Scalar.select v153 c0_i32_59 v155
  let c0_i32_105 : BitVec 32 := 0#32
  let v250 : BitVec 1 := Scalar.cmpi .sgt v156 c0_i32_105
  let v251 : BitVec 32 := Scalar.extui v250
  let c0_i32_106 : BitVec 32 := 0#32
  let v252 : BitVec 1 := Scalar.cmpi .slt v156 c0_i32_106
  let v253 : BitVec 32 := Scalar.extui v252
  let v254 : BitVec 32 := Scalar.subi v251 v253
  let c64_i32 : BitVec 32 := 64#32
  let c0_i32_107 : BitVec 32 := 0#32
  let v255 : BitVec 1 := Scalar.cmpi .sgt c64_i32 c0_i32_107
  let v256 : BitVec 32 := Scalar.extui v255
  let c0_i32_108 : BitVec 32 := 0#32
  let v257 : BitVec 1 := Scalar.cmpi .slt c64_i32 c0_i32_108
  let v258 : BitVec 32 := Scalar.extui v257
  let v259 : BitVec 32 := Scalar.subi v256 v258
  let v260 : BitVec 1 := Scalar.cmpi .ne v254 v259
  let v261 : BitVec 32 := Scalar.remsi v156 c64_i32
  let c0_i32_109 : BitVec 32 := 0#32
  let v262 : BitVec 1 := Scalar.cmpi .ne v261 c0_i32_109
  let v263 : BitVec 1 := Scalar.andi v260 v262
  let v249 : BitVec 32 := Scalar.divsi v156 c64_i32
  let c1_i32_110 : BitVec 32 := 1#32
  let v264 : BitVec 32 := Scalar.subi v249 c1_i32_110
  let v265 : BitVec 32 := Scalar.select v263 v264 v249
  let v286 : BitVec 32 := Scalar.subi v285 v265
  let c2_i32_124 : BitVec 32 := 2#32
  let v293 : BitVec 32 := Scalar.addi v286 c2_i32_124
  let c1_i32_125 : BitVec 32 := 1#32
  let v294 : BitVec 32 := Scalar.subi v293 c1_i32_125
  let c0_i32_127 : BitVec 32 := 0#32
  let v296 : BitVec 1 := Scalar.cmpi .sgt v294 c0_i32_127
  let v297 : BitVec 32 := Scalar.extui v296
  let c0_i32_128 : BitVec 32 := 0#32
  let v298 : BitVec 1 := Scalar.cmpi .slt v294 c0_i32_128
  let v299 : BitVec 32 := Scalar.extui v298
  let v300 : BitVec 32 := Scalar.subi v297 v299
  let c2_i32_126 : BitVec 32 := 2#32
  let c0_i32_129 : BitVec 32 := 0#32
  let v301 : BitVec 1 := Scalar.cmpi .sgt c2_i32_126 c0_i32_129
  let v302 : BitVec 32 := Scalar.extui v301
  let c0_i32_130 : BitVec 32 := 0#32
  let v303 : BitVec 1 := Scalar.cmpi .slt c2_i32_126 c0_i32_130
  let v304 : BitVec 32 := Scalar.extui v303
  let v305 : BitVec 32 := Scalar.subi v302 v304
  let v306 : BitVec 1 := Scalar.cmpi .ne v300 v305
  let v307 : BitVec 32 := Scalar.remsi v294 c2_i32_126
  let c0_i32_131 : BitVec 32 := 0#32
  let v308 : BitVec 1 := Scalar.cmpi .ne v307 c0_i32_131
  let v309 : BitVec 1 := Scalar.andi v306 v308
  let v295 : BitVec 32 := Scalar.divsi v294 c2_i32_126
  let c1_i32_132 : BitVec 32 := 1#32
  let v310 : BitVec 32 := Scalar.subi v295 c1_i32_132
  let v311 : BitVec 32 := Scalar.select v309 v310 v295
  let v312 : BitVec 32 := Scalar.subi v311 c0_i32_134
  let c1_i32_135 : BitVec 32 := 1#32
  let v314 : BitVec 32 := Scalar.divsi v312 c1_i32_135
  let v315 : BitVec 32 := Scalar.muli v314 c1_i32_135
  let v316 : BitVec 32 := Scalar.addi c0_i32_134 v315
  let v313 : BitVec 32 := Scalar.addi c0_i32_134 v312
  let c1_i32_137 : BitVec 32 := 1#32
  ⟨v316, v313, c1_i32_137⟩
def k0_off175 (i : grid0.Coords) (v66_0 : BitVec 32) (v74 : BitVec 32) (v79 : BitVec 32) (v84 : BitVec 32) (v89 : BitVec 32) (v94 : BitVec 32) (v99 : BitVec 32) (v104 : BitVec 32) (v109 : BitVec 32) (v114 : BitVec 32) (v119 : BitVec 32) (v124 : BitVec 32) (v129 : BitVec 32) (v134 : BitVec 32) (v139 : BitVec 32) (v144 : BitVec 32) (v149 : BitVec 32) (v158_0 : BitVec 32) (v166 : BitVec 32) (v171 : BitVec 32) (v176 : BitVec 32) (v181 : BitVec 32) (v186 : BitVec 32) (v191 : BitVec 32) (v196 : BitVec 32) (v201 : BitVec 32) (v206 : BitVec 32) (v211 : BitVec 32) (v216 : BitVec 32) (v221 : BitVec 32) (v226 : BitVec 32) (v231 : BitVec 32) (v236 : BitVec 32) (v241 : BitVec 32) (k0_t39 : Fin (k0_t39_loop i v66_0 v74 v79 v84 v89 v94 v99 v104 v109 v114 v119 v124 v129 v134 v139 v144 v149 v158_0 v166 v171 v176 v181 v186 v191 v196 v201 v206 v211 v216 v221 v226 v231 v236 v241).trips) : Fin 2 → Nat :=
  let c0_i32_57 : BitVec 32 := 0#32
  let v153 : BitVec 1 := Scalar.cmpi .eq v66_0 c0_i32_57
  let c0_i32_59 : BitVec 32 := 0#32
  let c1_i32_22 : BitVec 32 := 1#32
  let v67 : BitVec 32 := Scalar.subi v66_0 c1_i32_22
  let c0_i32_23 : BitVec 32 := 0#32
  let v68 : BitVec 32 := Scalar.maxsi v67 c0_i32_23
  let c16_i32_58 : BitVec 32 := 16#32
  let v154 : BitVec 32 := Scalar.muli v68 c16_i32_58
  let c0_i32_26 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let v75 : BitVec 1 := Scalar.cmpi .slt v74 v2
  let c1_i32_24 : BitVec 32 := 1#32
  let c0_i32_25 : BitVec 32 := 0#32
  let v76 : BitVec 32 := Scalar.select v75 c1_i32_24 c0_i32_25
  let v77 : BitVec 32 := Scalar.addi c0_i32_26 v76
  let v80 : BitVec 1 := Scalar.cmpi .slt v79 v2
  let c1_i32_27 : BitVec 32 := 1#32
  let c0_i32_28 : BitVec 32 := 0#32
  let v81 : BitVec 32 := Scalar.select v80 c1_i32_27 c0_i32_28
  let v82 : BitVec 32 := Scalar.addi v77 v81
  let v85 : BitVec 1 := Scalar.cmpi .slt v84 v2
  let c1_i32_29 : BitVec 32 := 1#32
  let c0_i32_30 : BitVec 32 := 0#32
  let v86 : BitVec 32 := Scalar.select v85 c1_i32_29 c0_i32_30
  let v87 : BitVec 32 := Scalar.addi v82 v86
  let v90 : BitVec 1 := Scalar.cmpi .slt v89 v2
  let c1_i32_31 : BitVec 32 := 1#32
  let c0_i32_32 : BitVec 32 := 0#32
  let v91 : BitVec 32 := Scalar.select v90 c1_i32_31 c0_i32_32
  let v92 : BitVec 32 := Scalar.addi v87 v91
  let v95 : BitVec 1 := Scalar.cmpi .slt v94 v2
  let c1_i32_33 : BitVec 32 := 1#32
  let c0_i32_34 : BitVec 32 := 0#32
  let v96 : BitVec 32 := Scalar.select v95 c1_i32_33 c0_i32_34
  let v97 : BitVec 32 := Scalar.addi v92 v96
  let v100 : BitVec 1 := Scalar.cmpi .slt v99 v2
  let c1_i32_35 : BitVec 32 := 1#32
  let c0_i32_36 : BitVec 32 := 0#32
  let v101 : BitVec 32 := Scalar.select v100 c1_i32_35 c0_i32_36
  let v102 : BitVec 32 := Scalar.addi v97 v101
  let v105 : BitVec 1 := Scalar.cmpi .slt v104 v2
  let c1_i32_37 : BitVec 32 := 1#32
  let c0_i32_38 : BitVec 32 := 0#32
  let v106 : BitVec 32 := Scalar.select v105 c1_i32_37 c0_i32_38
  let v107 : BitVec 32 := Scalar.addi v102 v106
  let v110 : BitVec 1 := Scalar.cmpi .slt v109 v2
  let c1_i32_39 : BitVec 32 := 1#32
  let c0_i32_40 : BitVec 32 := 0#32
  let v111 : BitVec 32 := Scalar.select v110 c1_i32_39 c0_i32_40
  let v112 : BitVec 32 := Scalar.addi v107 v111
  let v115 : BitVec 1 := Scalar.cmpi .slt v114 v2
  let c1_i32_41 : BitVec 32 := 1#32
  let c0_i32_42 : BitVec 32 := 0#32
  let v116 : BitVec 32 := Scalar.select v115 c1_i32_41 c0_i32_42
  let v117 : BitVec 32 := Scalar.addi v112 v116
  let v120 : BitVec 1 := Scalar.cmpi .slt v119 v2
  let c1_i32_43 : BitVec 32 := 1#32
  let c0_i32_44 : BitVec 32 := 0#32
  let v121 : BitVec 32 := Scalar.select v120 c1_i32_43 c0_i32_44
  let v122 : BitVec 32 := Scalar.addi v117 v121
  let v125 : BitVec 1 := Scalar.cmpi .slt v124 v2
  let c1_i32_45 : BitVec 32 := 1#32
  let c0_i32_46 : BitVec 32 := 0#32
  let v126 : BitVec 32 := Scalar.select v125 c1_i32_45 c0_i32_46
  let v127 : BitVec 32 := Scalar.addi v122 v126
  let v130 : BitVec 1 := Scalar.cmpi .slt v129 v2
  let c1_i32_47 : BitVec 32 := 1#32
  let c0_i32_48 : BitVec 32 := 0#32
  let v131 : BitVec 32 := Scalar.select v130 c1_i32_47 c0_i32_48
  let v132 : BitVec 32 := Scalar.addi v127 v131
  let v135 : BitVec 1 := Scalar.cmpi .slt v134 v2
  let c1_i32_49 : BitVec 32 := 1#32
  let c0_i32_50 : BitVec 32 := 0#32
  let v136 : BitVec 32 := Scalar.select v135 c1_i32_49 c0_i32_50
  let v137 : BitVec 32 := Scalar.addi v132 v136
  let v140 : BitVec 1 := Scalar.cmpi .slt v139 v2
  let c1_i32_51 : BitVec 32 := 1#32
  let c0_i32_52 : BitVec 32 := 0#32
  let v141 : BitVec 32 := Scalar.select v140 c1_i32_51 c0_i32_52
  let v142 : BitVec 32 := Scalar.addi v137 v141
  let v145 : BitVec 1 := Scalar.cmpi .slt v144 v2
  let c1_i32_53 : BitVec 32 := 1#32
  let c0_i32_54 : BitVec 32 := 0#32
  let v146 : BitVec 32 := Scalar.select v145 c1_i32_53 c0_i32_54
  let v147 : BitVec 32 := Scalar.addi v142 v146
  let v150 : BitVec 1 := Scalar.cmpi .slt v149 v2
  let c1_i32_55 : BitVec 32 := 1#32
  let c0_i32_56 : BitVec 32 := 0#32
  let v151 : BitVec 32 := Scalar.select v150 c1_i32_55 c0_i32_56
  let v152 : BitVec 32 := Scalar.addi v147 v151
  let v155 : BitVec 32 := Scalar.addi v154 v152
  let v156 : BitVec 32 := Scalar.select v153 c0_i32_59 v155
  let c0_i32_105 : BitVec 32 := 0#32
  let v250 : BitVec 1 := Scalar.cmpi .sgt v156 c0_i32_105
  let v251 : BitVec 32 := Scalar.extui v250
  let c0_i32_106 : BitVec 32 := 0#32
  let v252 : BitVec 1 := Scalar.cmpi .slt v156 c0_i32_106
  let v253 : BitVec 32 := Scalar.extui v252
  let v254 : BitVec 32 := Scalar.subi v251 v253
  let c64_i32 : BitVec 32 := 64#32
  let c0_i32_107 : BitVec 32 := 0#32
  let v255 : BitVec 1 := Scalar.cmpi .sgt c64_i32 c0_i32_107
  let v256 : BitVec 32 := Scalar.extui v255
  let c0_i32_108 : BitVec 32 := 0#32
  let v257 : BitVec 1 := Scalar.cmpi .slt c64_i32 c0_i32_108
  let v258 : BitVec 32 := Scalar.extui v257
  let v259 : BitVec 32 := Scalar.subi v256 v258
  let v260 : BitVec 1 := Scalar.cmpi .ne v254 v259
  let v261 : BitVec 32 := Scalar.remsi v156 c64_i32
  let c0_i32_109 : BitVec 32 := 0#32
  let v262 : BitVec 1 := Scalar.cmpi .ne v261 c0_i32_109
  let v263 : BitVec 1 := Scalar.andi v260 v262
  let v249 : BitVec 32 := Scalar.divsi v156 c64_i32
  let c1_i32_110 : BitVec 32 := 1#32
  let v264 : BitVec 32 := Scalar.subi v249 c1_i32_110
  let v265 : BitVec 32 := Scalar.select v263 v264 v249
  let c2_i32_139 : BitVec 32 := 2#32
  let c0_i32_134 : BitVec 32 := 0#32
  let c0_i32_102 : BitVec 32 := 0#32
  let v245 : BitVec 1 := Scalar.cmpi .eq v158_0 c0_i32_102
  let c0_i32_104 : BitVec 32 := 0#32
  let c1_i32_66 : BitVec 32 := 1#32
  let v159 : BitVec 32 := Scalar.subi v158_0 c1_i32_66
  let c0_i32_67 : BitVec 32 := 0#32
  let v160 : BitVec 32 := Scalar.maxsi v159 c0_i32_67
  let c16_i32_103 : BitVec 32 := 16#32
  let v246 : BitVec 32 := Scalar.muli v160 c16_i32_103
  let c0_i32_71 : BitVec 32 := 0#32
  let c32_i32_0 : BitVec 32 := 32#32
  let v3 : BitVec 32 := Scalar.addi v2 c32_i32_0
  let v167 : BitVec 1 := Scalar.cmpi .slt v166 v3
  let c1_i32_69 : BitVec 32 := 1#32
  let c0_i32_70 : BitVec 32 := 0#32
  let v168 : BitVec 32 := Scalar.select v167 c1_i32_69 c0_i32_70
  let v169 : BitVec 32 := Scalar.addi c0_i32_71 v168
  let v172 : BitVec 1 := Scalar.cmpi .slt v171 v3
  let c1_i32_72 : BitVec 32 := 1#32
  let c0_i32_73 : BitVec 32 := 0#32
  let v173 : BitVec 32 := Scalar.select v172 c1_i32_72 c0_i32_73
  let v174 : BitVec 32 := Scalar.addi v169 v173
  let v177 : BitVec 1 := Scalar.cmpi .slt v176 v3
  let c1_i32_74 : BitVec 32 := 1#32
  let c0_i32_75 : BitVec 32 := 0#32
  let v178 : BitVec 32 := Scalar.select v177 c1_i32_74 c0_i32_75
  let v179 : BitVec 32 := Scalar.addi v174 v178
  let v182 : BitVec 1 := Scalar.cmpi .slt v181 v3
  let c1_i32_76 : BitVec 32 := 1#32
  let c0_i32_77 : BitVec 32 := 0#32
  let v183 : BitVec 32 := Scalar.select v182 c1_i32_76 c0_i32_77
  let v184 : BitVec 32 := Scalar.addi v179 v183
  let v187 : BitVec 1 := Scalar.cmpi .slt v186 v3
  let c1_i32_78 : BitVec 32 := 1#32
  let c0_i32_79 : BitVec 32 := 0#32
  let v188 : BitVec 32 := Scalar.select v187 c1_i32_78 c0_i32_79
  let v189 : BitVec 32 := Scalar.addi v184 v188
  let v192 : BitVec 1 := Scalar.cmpi .slt v191 v3
  let c1_i32_80 : BitVec 32 := 1#32
  let c0_i32_81 : BitVec 32 := 0#32
  let v193 : BitVec 32 := Scalar.select v192 c1_i32_80 c0_i32_81
  let v194 : BitVec 32 := Scalar.addi v189 v193
  let v197 : BitVec 1 := Scalar.cmpi .slt v196 v3
  let c1_i32_82 : BitVec 32 := 1#32
  let c0_i32_83 : BitVec 32 := 0#32
  let v198 : BitVec 32 := Scalar.select v197 c1_i32_82 c0_i32_83
  let v199 : BitVec 32 := Scalar.addi v194 v198
  let v202 : BitVec 1 := Scalar.cmpi .slt v201 v3
  let c1_i32_84 : BitVec 32 := 1#32
  let c0_i32_85 : BitVec 32 := 0#32
  let v203 : BitVec 32 := Scalar.select v202 c1_i32_84 c0_i32_85
  let v204 : BitVec 32 := Scalar.addi v199 v203
  let v207 : BitVec 1 := Scalar.cmpi .slt v206 v3
  let c1_i32_86 : BitVec 32 := 1#32
  let c0_i32_87 : BitVec 32 := 0#32
  let v208 : BitVec 32 := Scalar.select v207 c1_i32_86 c0_i32_87
  let v209 : BitVec 32 := Scalar.addi v204 v208
  let v212 : BitVec 1 := Scalar.cmpi .slt v211 v3
  let c1_i32_88 : BitVec 32 := 1#32
  let c0_i32_89 : BitVec 32 := 0#32
  let v213 : BitVec 32 := Scalar.select v212 c1_i32_88 c0_i32_89
  let v214 : BitVec 32 := Scalar.addi v209 v213
  let v217 : BitVec 1 := Scalar.cmpi .slt v216 v3
  let c1_i32_90 : BitVec 32 := 1#32
  let c0_i32_91 : BitVec 32 := 0#32
  let v218 : BitVec 32 := Scalar.select v217 c1_i32_90 c0_i32_91
  let v219 : BitVec 32 := Scalar.addi v214 v218
  let v222 : BitVec 1 := Scalar.cmpi .slt v221 v3
  let c1_i32_92 : BitVec 32 := 1#32
  let c0_i32_93 : BitVec 32 := 0#32
  let v223 : BitVec 32 := Scalar.select v222 c1_i32_92 c0_i32_93
  let v224 : BitVec 32 := Scalar.addi v219 v223
  let v227 : BitVec 1 := Scalar.cmpi .slt v226 v3
  let c1_i32_94 : BitVec 32 := 1#32
  let c0_i32_95 : BitVec 32 := 0#32
  let v228 : BitVec 32 := Scalar.select v227 c1_i32_94 c0_i32_95
  let v229 : BitVec 32 := Scalar.addi v224 v228
  let v232 : BitVec 1 := Scalar.cmpi .slt v231 v3
  let c1_i32_96 : BitVec 32 := 1#32
  let c0_i32_97 : BitVec 32 := 0#32
  let v233 : BitVec 32 := Scalar.select v232 c1_i32_96 c0_i32_97
  let v234 : BitVec 32 := Scalar.addi v229 v233
  let v237 : BitVec 1 := Scalar.cmpi .slt v236 v3
  let c1_i32_98 : BitVec 32 := 1#32
  let c0_i32_99 : BitVec 32 := 0#32
  let v238 : BitVec 32 := Scalar.select v237 c1_i32_98 c0_i32_99
  let v239 : BitVec 32 := Scalar.addi v234 v238
  let v242 : BitVec 1 := Scalar.cmpi .slt v241 v3
  let c1_i32_100 : BitVec 32 := 1#32
  let c0_i32_101 : BitVec 32 := 0#32
  let v243 : BitVec 32 := Scalar.select v242 c1_i32_100 c0_i32_101
  let v244 : BitVec 32 := Scalar.addi v239 v243
  let v247 : BitVec 32 := Scalar.addi v246 v244
  let v248 : BitVec 32 := Scalar.select v245 c0_i32_104 v247
  let c64_i32_111 : BitVec 32 := 64#32
  let v266 : BitVec 32 := Scalar.addi v248 c64_i32_111
  let c1_i32_112 : BitVec 32 := 1#32
  let v267 : BitVec 32 := Scalar.subi v266 c1_i32_112
  let c0_i32_114 : BitVec 32 := 0#32
  let v269 : BitVec 1 := Scalar.cmpi .sgt v267 c0_i32_114
  let v270 : BitVec 32 := Scalar.extui v269
  let c0_i32_115 : BitVec 32 := 0#32
  let v271 : BitVec 1 := Scalar.cmpi .slt v267 c0_i32_115
  let v272 : BitVec 32 := Scalar.extui v271
  let v273 : BitVec 32 := Scalar.subi v270 v272
  let c64_i32_113 : BitVec 32 := 64#32
  let c0_i32_116 : BitVec 32 := 0#32
  let v274 : BitVec 1 := Scalar.cmpi .sgt c64_i32_113 c0_i32_116
  let v275 : BitVec 32 := Scalar.extui v274
  let c0_i32_117 : BitVec 32 := 0#32
  let v276 : BitVec 1 := Scalar.cmpi .slt c64_i32_113 c0_i32_117
  let v277 : BitVec 32 := Scalar.extui v276
  let v278 : BitVec 32 := Scalar.subi v275 v277
  let v279 : BitVec 1 := Scalar.cmpi .ne v273 v278
  let v280 : BitVec 32 := Scalar.remsi v267 c64_i32_113
  let c0_i32_118 : BitVec 32 := 0#32
  let v281 : BitVec 1 := Scalar.cmpi .ne v280 c0_i32_118
  let v282 : BitVec 1 := Scalar.andi v279 v281
  let v268 : BitVec 32 := Scalar.divsi v267 c64_i32_113
  let c1_i32_119 : BitVec 32 := 1#32
  let v283 : BitVec 32 := Scalar.subi v268 c1_i32_119
  let v284 : BitVec 32 := Scalar.select v282 v283 v268
  let c156_i32 : BitVec 32 := 156#32
  let v285 : BitVec 32 := Scalar.minsi v284 c156_i32
  let v286 : BitVec 32 := Scalar.subi v285 v265
  let c2_i32_124 : BitVec 32 := 2#32
  let v293 : BitVec 32 := Scalar.addi v286 c2_i32_124
  let c1_i32_125 : BitVec 32 := 1#32
  let v294 : BitVec 32 := Scalar.subi v293 c1_i32_125
  let c0_i32_127 : BitVec 32 := 0#32
  let v296 : BitVec 1 := Scalar.cmpi .sgt v294 c0_i32_127
  let v297 : BitVec 32 := Scalar.extui v296
  let c0_i32_128 : BitVec 32 := 0#32
  let v298 : BitVec 1 := Scalar.cmpi .slt v294 c0_i32_128
  let v299 : BitVec 32 := Scalar.extui v298
  let v300 : BitVec 32 := Scalar.subi v297 v299
  let c2_i32_126 : BitVec 32 := 2#32
  let c0_i32_129 : BitVec 32 := 0#32
  let v301 : BitVec 1 := Scalar.cmpi .sgt c2_i32_126 c0_i32_129
  let v302 : BitVec 32 := Scalar.extui v301
  let c0_i32_130 : BitVec 32 := 0#32
  let v303 : BitVec 1 := Scalar.cmpi .slt c2_i32_126 c0_i32_130
  let v304 : BitVec 32 := Scalar.extui v303
  let v305 : BitVec 32 := Scalar.subi v302 v304
  let v306 : BitVec 1 := Scalar.cmpi .ne v300 v305
  let v307 : BitVec 32 := Scalar.remsi v294 c2_i32_126
  let c0_i32_131 : BitVec 32 := 0#32
  let v308 : BitVec 1 := Scalar.cmpi .ne v307 c0_i32_131
  let v309 : BitVec 1 := Scalar.andi v306 v308
  let v295 : BitVec 32 := Scalar.divsi v294 c2_i32_126
  let c1_i32_132 : BitVec 32 := 1#32
  let v310 : BitVec 32 := Scalar.subi v295 c1_i32_132
  let v311 : BitVec 32 := Scalar.select v309 v310 v295
  let v312 : BitVec 32 := Scalar.subi v311 c0_i32_134
  let c1_i32_135 : BitVec 32 := 1#32
  let v314 : BitVec 32 := Scalar.divsi v312 c1_i32_135
  let v315 : BitVec 32 := Scalar.muli v314 c1_i32_135
  let v316 : BitVec 32 := Scalar.addi c0_i32_134 v315
  let c1_i32_137 : BitVec 32 := 1#32
  let arg13 : BitVec 32 := Scf.iv v316 c1_i32_137 k0_t39
  let v320 : BitVec 32 := Scalar.muli c2_i32_139 arg13
  let v321 : BitVec 32 := Scalar.addi v265 v320
  let c0_i32_144 : BitVec 32 := 0#32
  let v330 : BitVec 32 := Scalar.addi v321 c0_i32_144
  let c64_i32_145 : BitVec 32 := 64#32
  let v331 : BitVec 32 := Scalar.muli v330 c64_i32_145
  let c0_i32_146 : BitVec 32 := 0#32
  ![v331.toNat, 0]
def k0_cond7 (i : grid0.Coords) (v66_0 : BitVec 32) (v74 : BitVec 32) (v79 : BitVec 32) (v84 : BitVec 32) (v89 : BitVec 32) (v94 : BitVec 32) (v99 : BitVec 32) (v104 : BitVec 32) (v109 : BitVec 32) (v114 : BitVec 32) (v119 : BitVec 32) (v124 : BitVec 32) (v129 : BitVec 32) (v134 : BitVec 32) (v139 : BitVec 32) (v144 : BitVec 32) (v149 : BitVec 32) (v158_0 : BitVec 32) (v166 : BitVec 32) (v171 : BitVec 32) (v176 : BitVec 32) (v181 : BitVec 32) (v186 : BitVec 32) (v191 : BitVec 32) (v196 : BitVec 32) (v201 : BitVec 32) (v206 : BitVec 32) (v211 : BitVec 32) (v216 : BitVec 32) (v221 : BitVec 32) (v226 : BitVec 32) (v231 : BitVec 32) (v236 : BitVec 32) (v241 : BitVec 32) (k0_t39 : Fin (k0_t39_loop i v66_0 v74 v79 v84 v89 v94 v99 v104 v109 v114 v119 v124 v129 v134 v139 v144 v149 v158_0 v166 v171 v176 v181 v186 v191 v196 v201 v206 v211 v216 v221 v226 v231 v236 v241).trips) : BitVec 1 :=
  let c0_i32_57 : BitVec 32 := 0#32
  let v153 : BitVec 1 := Scalar.cmpi .eq v66_0 c0_i32_57
  let c0_i32_59 : BitVec 32 := 0#32
  let c1_i32_22 : BitVec 32 := 1#32
  let v67 : BitVec 32 := Scalar.subi v66_0 c1_i32_22
  let c0_i32_23 : BitVec 32 := 0#32
  let v68 : BitVec 32 := Scalar.maxsi v67 c0_i32_23
  let c16_i32_58 : BitVec 32 := 16#32
  let v154 : BitVec 32 := Scalar.muli v68 c16_i32_58
  let c0_i32_26 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let v75 : BitVec 1 := Scalar.cmpi .slt v74 v2
  let c1_i32_24 : BitVec 32 := 1#32
  let c0_i32_25 : BitVec 32 := 0#32
  let v76 : BitVec 32 := Scalar.select v75 c1_i32_24 c0_i32_25
  let v77 : BitVec 32 := Scalar.addi c0_i32_26 v76
  let v80 : BitVec 1 := Scalar.cmpi .slt v79 v2
  let c1_i32_27 : BitVec 32 := 1#32
  let c0_i32_28 : BitVec 32 := 0#32
  let v81 : BitVec 32 := Scalar.select v80 c1_i32_27 c0_i32_28
  let v82 : BitVec 32 := Scalar.addi v77 v81
  let v85 : BitVec 1 := Scalar.cmpi .slt v84 v2
  let c1_i32_29 : BitVec 32 := 1#32
  let c0_i32_30 : BitVec 32 := 0#32
  let v86 : BitVec 32 := Scalar.select v85 c1_i32_29 c0_i32_30
  let v87 : BitVec 32 := Scalar.addi v82 v86
  let v90 : BitVec 1 := Scalar.cmpi .slt v89 v2
  let c1_i32_31 : BitVec 32 := 1#32
  let c0_i32_32 : BitVec 32 := 0#32
  let v91 : BitVec 32 := Scalar.select v90 c1_i32_31 c0_i32_32
  let v92 : BitVec 32 := Scalar.addi v87 v91
  let v95 : BitVec 1 := Scalar.cmpi .slt v94 v2
  let c1_i32_33 : BitVec 32 := 1#32
  let c0_i32_34 : BitVec 32 := 0#32
  let v96 : BitVec 32 := Scalar.select v95 c1_i32_33 c0_i32_34
  let v97 : BitVec 32 := Scalar.addi v92 v96
  let v100 : BitVec 1 := Scalar.cmpi .slt v99 v2
  let c1_i32_35 : BitVec 32 := 1#32
  let c0_i32_36 : BitVec 32 := 0#32
  let v101 : BitVec 32 := Scalar.select v100 c1_i32_35 c0_i32_36
  let v102 : BitVec 32 := Scalar.addi v97 v101
  let v105 : BitVec 1 := Scalar.cmpi .slt v104 v2
  let c1_i32_37 : BitVec 32 := 1#32
  let c0_i32_38 : BitVec 32 := 0#32
  let v106 : BitVec 32 := Scalar.select v105 c1_i32_37 c0_i32_38
  let v107 : BitVec 32 := Scalar.addi v102 v106
  let v110 : BitVec 1 := Scalar.cmpi .slt v109 v2
  let c1_i32_39 : BitVec 32 := 1#32
  let c0_i32_40 : BitVec 32 := 0#32
  let v111 : BitVec 32 := Scalar.select v110 c1_i32_39 c0_i32_40
  let v112 : BitVec 32 := Scalar.addi v107 v111
  let v115 : BitVec 1 := Scalar.cmpi .slt v114 v2
  let c1_i32_41 : BitVec 32 := 1#32
  let c0_i32_42 : BitVec 32 := 0#32
  let v116 : BitVec 32 := Scalar.select v115 c1_i32_41 c0_i32_42
  let v117 : BitVec 32 := Scalar.addi v112 v116
  let v120 : BitVec 1 := Scalar.cmpi .slt v119 v2
  let c1_i32_43 : BitVec 32 := 1#32
  let c0_i32_44 : BitVec 32 := 0#32
  let v121 : BitVec 32 := Scalar.select v120 c1_i32_43 c0_i32_44
  let v122 : BitVec 32 := Scalar.addi v117 v121
  let v125 : BitVec 1 := Scalar.cmpi .slt v124 v2
  let c1_i32_45 : BitVec 32 := 1#32
  let c0_i32_46 : BitVec 32 := 0#32
  let v126 : BitVec 32 := Scalar.select v125 c1_i32_45 c0_i32_46
  let v127 : BitVec 32 := Scalar.addi v122 v126
  let v130 : BitVec 1 := Scalar.cmpi .slt v129 v2
  let c1_i32_47 : BitVec 32 := 1#32
  let c0_i32_48 : BitVec 32 := 0#32
  let v131 : BitVec 32 := Scalar.select v130 c1_i32_47 c0_i32_48
  let v132 : BitVec 32 := Scalar.addi v127 v131
  let v135 : BitVec 1 := Scalar.cmpi .slt v134 v2
  let c1_i32_49 : BitVec 32 := 1#32
  let c0_i32_50 : BitVec 32 := 0#32
  let v136 : BitVec 32 := Scalar.select v135 c1_i32_49 c0_i32_50
  let v137 : BitVec 32 := Scalar.addi v132 v136
  let v140 : BitVec 1 := Scalar.cmpi .slt v139 v2
  let c1_i32_51 : BitVec 32 := 1#32
  let c0_i32_52 : BitVec 32 := 0#32
  let v141 : BitVec 32 := Scalar.select v140 c1_i32_51 c0_i32_52
  let v142 : BitVec 32 := Scalar.addi v137 v141
  let v145 : BitVec 1 := Scalar.cmpi .slt v144 v2
  let c1_i32_53 : BitVec 32 := 1#32
  let c0_i32_54 : BitVec 32 := 0#32
  let v146 : BitVec 32 := Scalar.select v145 c1_i32_53 c0_i32_54
  let v147 : BitVec 32 := Scalar.addi v142 v146
  let v150 : BitVec 1 := Scalar.cmpi .slt v149 v2
  let c1_i32_55 : BitVec 32 := 1#32
  let c0_i32_56 : BitVec 32 := 0#32
  let v151 : BitVec 32 := Scalar.select v150 c1_i32_55 c0_i32_56
  let v152 : BitVec 32 := Scalar.addi v147 v151
  let v155 : BitVec 32 := Scalar.addi v154 v152
  let v156 : BitVec 32 := Scalar.select v153 c0_i32_59 v155
  let c0_i32_105 : BitVec 32 := 0#32
  let v250 : BitVec 1 := Scalar.cmpi .sgt v156 c0_i32_105
  let v251 : BitVec 32 := Scalar.extui v250
  let c0_i32_106 : BitVec 32 := 0#32
  let v252 : BitVec 1 := Scalar.cmpi .slt v156 c0_i32_106
  let v253 : BitVec 32 := Scalar.extui v252
  let v254 : BitVec 32 := Scalar.subi v251 v253
  let c64_i32 : BitVec 32 := 64#32
  let c0_i32_107 : BitVec 32 := 0#32
  let v255 : BitVec 1 := Scalar.cmpi .sgt c64_i32 c0_i32_107
  let v256 : BitVec 32 := Scalar.extui v255
  let c0_i32_108 : BitVec 32 := 0#32
  let v257 : BitVec 1 := Scalar.cmpi .slt c64_i32 c0_i32_108
  let v258 : BitVec 32 := Scalar.extui v257
  let v259 : BitVec 32 := Scalar.subi v256 v258
  let v260 : BitVec 1 := Scalar.cmpi .ne v254 v259
  let v261 : BitVec 32 := Scalar.remsi v156 c64_i32
  let c0_i32_109 : BitVec 32 := 0#32
  let v262 : BitVec 1 := Scalar.cmpi .ne v261 c0_i32_109
  let v263 : BitVec 1 := Scalar.andi v260 v262
  let v249 : BitVec 32 := Scalar.divsi v156 c64_i32
  let c1_i32_110 : BitVec 32 := 1#32
  let v264 : BitVec 32 := Scalar.subi v249 c1_i32_110
  let v265 : BitVec 32 := Scalar.select v263 v264 v249
  let c2_i32_139 : BitVec 32 := 2#32
  let c0_i32_134 : BitVec 32 := 0#32
  let c0_i32_102 : BitVec 32 := 0#32
  let v245 : BitVec 1 := Scalar.cmpi .eq v158_0 c0_i32_102
  let c0_i32_104 : BitVec 32 := 0#32
  let c1_i32_66 : BitVec 32 := 1#32
  let v159 : BitVec 32 := Scalar.subi v158_0 c1_i32_66
  let c0_i32_67 : BitVec 32 := 0#32
  let v160 : BitVec 32 := Scalar.maxsi v159 c0_i32_67
  let c16_i32_103 : BitVec 32 := 16#32
  let v246 : BitVec 32 := Scalar.muli v160 c16_i32_103
  let c0_i32_71 : BitVec 32 := 0#32
  let c32_i32_0 : BitVec 32 := 32#32
  let v3 : BitVec 32 := Scalar.addi v2 c32_i32_0
  let v167 : BitVec 1 := Scalar.cmpi .slt v166 v3
  let c1_i32_69 : BitVec 32 := 1#32
  let c0_i32_70 : BitVec 32 := 0#32
  let v168 : BitVec 32 := Scalar.select v167 c1_i32_69 c0_i32_70
  let v169 : BitVec 32 := Scalar.addi c0_i32_71 v168
  let v172 : BitVec 1 := Scalar.cmpi .slt v171 v3
  let c1_i32_72 : BitVec 32 := 1#32
  let c0_i32_73 : BitVec 32 := 0#32
  let v173 : BitVec 32 := Scalar.select v172 c1_i32_72 c0_i32_73
  let v174 : BitVec 32 := Scalar.addi v169 v173
  let v177 : BitVec 1 := Scalar.cmpi .slt v176 v3
  let c1_i32_74 : BitVec 32 := 1#32
  let c0_i32_75 : BitVec 32 := 0#32
  let v178 : BitVec 32 := Scalar.select v177 c1_i32_74 c0_i32_75
  let v179 : BitVec 32 := Scalar.addi v174 v178
  let v182 : BitVec 1 := Scalar.cmpi .slt v181 v3
  let c1_i32_76 : BitVec 32 := 1#32
  let c0_i32_77 : BitVec 32 := 0#32
  let v183 : BitVec 32 := Scalar.select v182 c1_i32_76 c0_i32_77
  let v184 : BitVec 32 := Scalar.addi v179 v183
  let v187 : BitVec 1 := Scalar.cmpi .slt v186 v3
  let c1_i32_78 : BitVec 32 := 1#32
  let c0_i32_79 : BitVec 32 := 0#32
  let v188 : BitVec 32 := Scalar.select v187 c1_i32_78 c0_i32_79
  let v189 : BitVec 32 := Scalar.addi v184 v188
  let v192 : BitVec 1 := Scalar.cmpi .slt v191 v3
  let c1_i32_80 : BitVec 32 := 1#32
  let c0_i32_81 : BitVec 32 := 0#32
  let v193 : BitVec 32 := Scalar.select v192 c1_i32_80 c0_i32_81
  let v194 : BitVec 32 := Scalar.addi v189 v193
  let v197 : BitVec 1 := Scalar.cmpi .slt v196 v3
  let c1_i32_82 : BitVec 32 := 1#32
  let c0_i32_83 : BitVec 32 := 0#32
  let v198 : BitVec 32 := Scalar.select v197 c1_i32_82 c0_i32_83
  let v199 : BitVec 32 := Scalar.addi v194 v198
  let v202 : BitVec 1 := Scalar.cmpi .slt v201 v3
  let c1_i32_84 : BitVec 32 := 1#32
  let c0_i32_85 : BitVec 32 := 0#32
  let v203 : BitVec 32 := Scalar.select v202 c1_i32_84 c0_i32_85
  let v204 : BitVec 32 := Scalar.addi v199 v203
  let v207 : BitVec 1 := Scalar.cmpi .slt v206 v3
  let c1_i32_86 : BitVec 32 := 1#32
  let c0_i32_87 : BitVec 32 := 0#32
  let v208 : BitVec 32 := Scalar.select v207 c1_i32_86 c0_i32_87
  let v209 : BitVec 32 := Scalar.addi v204 v208
  let v212 : BitVec 1 := Scalar.cmpi .slt v211 v3
  let c1_i32_88 : BitVec 32 := 1#32
  let c0_i32_89 : BitVec 32 := 0#32
  let v213 : BitVec 32 := Scalar.select v212 c1_i32_88 c0_i32_89
  let v214 : BitVec 32 := Scalar.addi v209 v213
  let v217 : BitVec 1 := Scalar.cmpi .slt v216 v3
  let c1_i32_90 : BitVec 32 := 1#32
  let c0_i32_91 : BitVec 32 := 0#32
  let v218 : BitVec 32 := Scalar.select v217 c1_i32_90 c0_i32_91
  let v219 : BitVec 32 := Scalar.addi v214 v218
  let v222 : BitVec 1 := Scalar.cmpi .slt v221 v3
  let c1_i32_92 : BitVec 32 := 1#32
  let c0_i32_93 : BitVec 32 := 0#32
  let v223 : BitVec 32 := Scalar.select v222 c1_i32_92 c0_i32_93
  let v224 : BitVec 32 := Scalar.addi v219 v223
  let v227 : BitVec 1 := Scalar.cmpi .slt v226 v3
  let c1_i32_94 : BitVec 32 := 1#32
  let c0_i32_95 : BitVec 32 := 0#32
  let v228 : BitVec 32 := Scalar.select v227 c1_i32_94 c0_i32_95
  let v229 : BitVec 32 := Scalar.addi v224 v228
  let v232 : BitVec 1 := Scalar.cmpi .slt v231 v3
  let c1_i32_96 : BitVec 32 := 1#32
  let c0_i32_97 : BitVec 32 := 0#32
  let v233 : BitVec 32 := Scalar.select v232 c1_i32_96 c0_i32_97
  let v234 : BitVec 32 := Scalar.addi v229 v233
  let v237 : BitVec 1 := Scalar.cmpi .slt v236 v3
  let c1_i32_98 : BitVec 32 := 1#32
  let c0_i32_99 : BitVec 32 := 0#32
  let v238 : BitVec 32 := Scalar.select v237 c1_i32_98 c0_i32_99
  let v239 : BitVec 32 := Scalar.addi v234 v238
  let v242 : BitVec 1 := Scalar.cmpi .slt v241 v3
  let c1_i32_100 : BitVec 32 := 1#32
  let c0_i32_101 : BitVec 32 := 0#32
  let v243 : BitVec 32 := Scalar.select v242 c1_i32_100 c0_i32_101
  let v244 : BitVec 32 := Scalar.addi v239 v243
  let v247 : BitVec 32 := Scalar.addi v246 v244
  let v248 : BitVec 32 := Scalar.select v245 c0_i32_104 v247
  let c64_i32_111 : BitVec 32 := 64#32
  let v266 : BitVec 32 := Scalar.addi v248 c64_i32_111
  let c1_i32_112 : BitVec 32 := 1#32
  let v267 : BitVec 32 := Scalar.subi v266 c1_i32_112
  let c0_i32_114 : BitVec 32 := 0#32
  let v269 : BitVec 1 := Scalar.cmpi .sgt v267 c0_i32_114
  let v270 : BitVec 32 := Scalar.extui v269
  let c0_i32_115 : BitVec 32 := 0#32
  let v271 : BitVec 1 := Scalar.cmpi .slt v267 c0_i32_115
  let v272 : BitVec 32 := Scalar.extui v271
  let v273 : BitVec 32 := Scalar.subi v270 v272
  let c64_i32_113 : BitVec 32 := 64#32
  let c0_i32_116 : BitVec 32 := 0#32
  let v274 : BitVec 1 := Scalar.cmpi .sgt c64_i32_113 c0_i32_116
  let v275 : BitVec 32 := Scalar.extui v274
  let c0_i32_117 : BitVec 32 := 0#32
  let v276 : BitVec 1 := Scalar.cmpi .slt c64_i32_113 c0_i32_117
  let v277 : BitVec 32 := Scalar.extui v276
  let v278 : BitVec 32 := Scalar.subi v275 v277
  let v279 : BitVec 1 := Scalar.cmpi .ne v273 v278
  let v280 : BitVec 32 := Scalar.remsi v267 c64_i32_113
  let c0_i32_118 : BitVec 32 := 0#32
  let v281 : BitVec 1 := Scalar.cmpi .ne v280 c0_i32_118
  let v282 : BitVec 1 := Scalar.andi v279 v281
  let v268 : BitVec 32 := Scalar.divsi v267 c64_i32_113
  let c1_i32_119 : BitVec 32 := 1#32
  let v283 : BitVec 32 := Scalar.subi v268 c1_i32_119
  let v284 : BitVec 32 := Scalar.select v282 v283 v268
  let c156_i32 : BitVec 32 := 156#32
  let v285 : BitVec 32 := Scalar.minsi v284 c156_i32
  let v286 : BitVec 32 := Scalar.subi v285 v265
  let c2_i32_124 : BitVec 32 := 2#32
  let v293 : BitVec 32 := Scalar.addi v286 c2_i32_124
  let c1_i32_125 : BitVec 32 := 1#32
  let v294 : BitVec 32 := Scalar.subi v293 c1_i32_125
  let c0_i32_127 : BitVec 32 := 0#32
  let v296 : BitVec 1 := Scalar.cmpi .sgt v294 c0_i32_127
  let v297 : BitVec 32 := Scalar.extui v296
  let c0_i32_128 : BitVec 32 := 0#32
  let v298 : BitVec 1 := Scalar.cmpi .slt v294 c0_i32_128
  let v299 : BitVec 32 := Scalar.extui v298
  let v300 : BitVec 32 := Scalar.subi v297 v299
  let c2_i32_126 : BitVec 32 := 2#32
  let c0_i32_129 : BitVec 32 := 0#32
  let v301 : BitVec 1 := Scalar.cmpi .sgt c2_i32_126 c0_i32_129
  let v302 : BitVec 32 := Scalar.extui v301
  let c0_i32_130 : BitVec 32 := 0#32
  let v303 : BitVec 1 := Scalar.cmpi .slt c2_i32_126 c0_i32_130
  let v304 : BitVec 32 := Scalar.extui v303
  let v305 : BitVec 32 := Scalar.subi v302 v304
  let v306 : BitVec 1 := Scalar.cmpi .ne v300 v305
  let v307 : BitVec 32 := Scalar.remsi v294 c2_i32_126
  let c0_i32_131 : BitVec 32 := 0#32
  let v308 : BitVec 1 := Scalar.cmpi .ne v307 c0_i32_131
  let v309 : BitVec 1 := Scalar.andi v306 v308
  let v295 : BitVec 32 := Scalar.divsi v294 c2_i32_126
  let c1_i32_132 : BitVec 32 := 1#32
  let v310 : BitVec 32 := Scalar.subi v295 c1_i32_132
  let v311 : BitVec 32 := Scalar.select v309 v310 v295
  let v312 : BitVec 32 := Scalar.subi v311 c0_i32_134
  let c1_i32_135 : BitVec 32 := 1#32
  let v314 : BitVec 32 := Scalar.divsi v312 c1_i32_135
  let v315 : BitVec 32 := Scalar.muli v314 c1_i32_135
  let v316 : BitVec 32 := Scalar.addi c0_i32_134 v315
  let c1_i32_137 : BitVec 32 := 1#32
  let arg13 : BitVec 32 := Scf.iv v316 c1_i32_137 k0_t39
  let v320 : BitVec 32 := Scalar.muli c2_i32_139 arg13
  let v321 : BitVec 32 := Scalar.addi v265 v320
  let c0_i32_140 : BitVec 32 := 0#32
  let v322 : BitVec 32 := Scalar.addi v321 c0_i32_140
  let v323 : BitVec 1 := Scalar.cmpi .slt v322 v285
  let v324 : BitVec 32 := Scalar.extui v323
  let c0_i32_141 : BitVec 32 := 0#32
  let v325 : BitVec 1 := Scalar.cmpi .ne v324 c0_i32_141
  v325

@[reducible] def k0_t40_loop : Scf.Loop 32 :=
  let c0_i32_149 : BitVec 32 := 0#32
  let c4_i32 : BitVec 32 := 4#32
  let v334 : BitVec 32 := Scalar.addi c0_i32_149 c4_i32
  let c1_i32_150 : BitVec 32 := 1#32
  ⟨c0_i32_149, v334, c1_i32_150⟩
def k0_off176 (i : grid0.Coords) (v66_0 : BitVec 32) (v74 : BitVec 32) (v79 : BitVec 32) (v84 : BitVec 32) (v89 : BitVec 32) (v94 : BitVec 32) (v99 : BitVec 32) (v104 : BitVec 32) (v109 : BitVec 32) (v114 : BitVec 32) (v119 : BitVec 32) (v124 : BitVec 32) (v129 : BitVec 32) (v134 : BitVec 32) (v139 : BitVec 32) (v144 : BitVec 32) (v149 : BitVec 32) (v158_0 : BitVec 32) (v166 : BitVec 32) (v171 : BitVec 32) (v176 : BitVec 32) (v181 : BitVec 32) (v186 : BitVec 32) (v191 : BitVec 32) (v196 : BitVec 32) (v201 : BitVec 32) (v206 : BitVec 32) (v211 : BitVec 32) (v216 : BitVec 32) (v221 : BitVec 32) (v226 : BitVec 32) (v231 : BitVec 32) (v236 : BitVec 32) (v241 : BitVec 32) (k0_t39 : Fin (k0_t39_loop i v66_0 v74 v79 v84 v89 v94 v99 v104 v109 v114 v119 v124 v129 v134 v139 v144 v149 v158_0 v166 v171 v176 v181 v186 v191 v196 v201 v206 v211 v216 v221 v226 v231 v236 v241).trips) (k0_t40 : Fin k0_t40_loop.trips) : Fin 1 → Nat :=
  let c0_i32_57 : BitVec 32 := 0#32
  let v153 : BitVec 1 := Scalar.cmpi .eq v66_0 c0_i32_57
  let c0_i32_59 : BitVec 32 := 0#32
  let c1_i32_22 : BitVec 32 := 1#32
  let v67 : BitVec 32 := Scalar.subi v66_0 c1_i32_22
  let c0_i32_23 : BitVec 32 := 0#32
  let v68 : BitVec 32 := Scalar.maxsi v67 c0_i32_23
  let c16_i32_58 : BitVec 32 := 16#32
  let v154 : BitVec 32 := Scalar.muli v68 c16_i32_58
  let c0_i32_26 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let v75 : BitVec 1 := Scalar.cmpi .slt v74 v2
  let c1_i32_24 : BitVec 32 := 1#32
  let c0_i32_25 : BitVec 32 := 0#32
  let v76 : BitVec 32 := Scalar.select v75 c1_i32_24 c0_i32_25
  let v77 : BitVec 32 := Scalar.addi c0_i32_26 v76
  let v80 : BitVec 1 := Scalar.cmpi .slt v79 v2
  let c1_i32_27 : BitVec 32 := 1#32
  let c0_i32_28 : BitVec 32 := 0#32
  let v81 : BitVec 32 := Scalar.select v80 c1_i32_27 c0_i32_28
  let v82 : BitVec 32 := Scalar.addi v77 v81
  let v85 : BitVec 1 := Scalar.cmpi .slt v84 v2
  let c1_i32_29 : BitVec 32 := 1#32
  let c0_i32_30 : BitVec 32 := 0#32
  let v86 : BitVec 32 := Scalar.select v85 c1_i32_29 c0_i32_30
  let v87 : BitVec 32 := Scalar.addi v82 v86
  let v90 : BitVec 1 := Scalar.cmpi .slt v89 v2
  let c1_i32_31 : BitVec 32 := 1#32
  let c0_i32_32 : BitVec 32 := 0#32
  let v91 : BitVec 32 := Scalar.select v90 c1_i32_31 c0_i32_32
  let v92 : BitVec 32 := Scalar.addi v87 v91
  let v95 : BitVec 1 := Scalar.cmpi .slt v94 v2
  let c1_i32_33 : BitVec 32 := 1#32
  let c0_i32_34 : BitVec 32 := 0#32
  let v96 : BitVec 32 := Scalar.select v95 c1_i32_33 c0_i32_34
  let v97 : BitVec 32 := Scalar.addi v92 v96
  let v100 : BitVec 1 := Scalar.cmpi .slt v99 v2
  let c1_i32_35 : BitVec 32 := 1#32
  let c0_i32_36 : BitVec 32 := 0#32
  let v101 : BitVec 32 := Scalar.select v100 c1_i32_35 c0_i32_36
  let v102 : BitVec 32 := Scalar.addi v97 v101
  let v105 : BitVec 1 := Scalar.cmpi .slt v104 v2
  let c1_i32_37 : BitVec 32 := 1#32
  let c0_i32_38 : BitVec 32 := 0#32
  let v106 : BitVec 32 := Scalar.select v105 c1_i32_37 c0_i32_38
  let v107 : BitVec 32 := Scalar.addi v102 v106
  let v110 : BitVec 1 := Scalar.cmpi .slt v109 v2
  let c1_i32_39 : BitVec 32 := 1#32
  let c0_i32_40 : BitVec 32 := 0#32
  let v111 : BitVec 32 := Scalar.select v110 c1_i32_39 c0_i32_40
  let v112 : BitVec 32 := Scalar.addi v107 v111
  let v115 : BitVec 1 := Scalar.cmpi .slt v114 v2
  let c1_i32_41 : BitVec 32 := 1#32
  let c0_i32_42 : BitVec 32 := 0#32
  let v116 : BitVec 32 := Scalar.select v115 c1_i32_41 c0_i32_42
  let v117 : BitVec 32 := Scalar.addi v112 v116
  let v120 : BitVec 1 := Scalar.cmpi .slt v119 v2
  let c1_i32_43 : BitVec 32 := 1#32
  let c0_i32_44 : BitVec 32 := 0#32
  let v121 : BitVec 32 := Scalar.select v120 c1_i32_43 c0_i32_44
  let v122 : BitVec 32 := Scalar.addi v117 v121
  let v125 : BitVec 1 := Scalar.cmpi .slt v124 v2
  let c1_i32_45 : BitVec 32 := 1#32
  let c0_i32_46 : BitVec 32 := 0#32
  let v126 : BitVec 32 := Scalar.select v125 c1_i32_45 c0_i32_46
  let v127 : BitVec 32 := Scalar.addi v122 v126
  let v130 : BitVec 1 := Scalar.cmpi .slt v129 v2
  let c1_i32_47 : BitVec 32 := 1#32
  let c0_i32_48 : BitVec 32 := 0#32
  let v131 : BitVec 32 := Scalar.select v130 c1_i32_47 c0_i32_48
  let v132 : BitVec 32 := Scalar.addi v127 v131
  let v135 : BitVec 1 := Scalar.cmpi .slt v134 v2
  let c1_i32_49 : BitVec 32 := 1#32
  let c0_i32_50 : BitVec 32 := 0#32
  let v136 : BitVec 32 := Scalar.select v135 c1_i32_49 c0_i32_50
  let v137 : BitVec 32 := Scalar.addi v132 v136
  let v140 : BitVec 1 := Scalar.cmpi .slt v139 v2
  let c1_i32_51 : BitVec 32 := 1#32
  let c0_i32_52 : BitVec 32 := 0#32
  let v141 : BitVec 32 := Scalar.select v140 c1_i32_51 c0_i32_52
  let v142 : BitVec 32 := Scalar.addi v137 v141
  let v145 : BitVec 1 := Scalar.cmpi .slt v144 v2
  let c1_i32_53 : BitVec 32 := 1#32
  let c0_i32_54 : BitVec 32 := 0#32
  let v146 : BitVec 32 := Scalar.select v145 c1_i32_53 c0_i32_54
  let v147 : BitVec 32 := Scalar.addi v142 v146
  let v150 : BitVec 1 := Scalar.cmpi .slt v149 v2
  let c1_i32_55 : BitVec 32 := 1#32
  let c0_i32_56 : BitVec 32 := 0#32
  let v151 : BitVec 32 := Scalar.select v150 c1_i32_55 c0_i32_56
  let v152 : BitVec 32 := Scalar.addi v147 v151
  let v155 : BitVec 32 := Scalar.addi v154 v152
  let v156 : BitVec 32 := Scalar.select v153 c0_i32_59 v155
  let c0_i32_105 : BitVec 32 := 0#32
  let v250 : BitVec 1 := Scalar.cmpi .sgt v156 c0_i32_105
  let v251 : BitVec 32 := Scalar.extui v250
  let c0_i32_106 : BitVec 32 := 0#32
  let v252 : BitVec 1 := Scalar.cmpi .slt v156 c0_i32_106
  let v253 : BitVec 32 := Scalar.extui v252
  let v254 : BitVec 32 := Scalar.subi v251 v253
  let c64_i32 : BitVec 32 := 64#32
  let c0_i32_107 : BitVec 32 := 0#32
  let v255 : BitVec 1 := Scalar.cmpi .sgt c64_i32 c0_i32_107
  let v256 : BitVec 32 := Scalar.extui v255
  let c0_i32_108 : BitVec 32 := 0#32
  let v257 : BitVec 1 := Scalar.cmpi .slt c64_i32 c0_i32_108
  let v258 : BitVec 32 := Scalar.extui v257
  let v259 : BitVec 32 := Scalar.subi v256 v258
  let v260 : BitVec 1 := Scalar.cmpi .ne v254 v259
  let v261 : BitVec 32 := Scalar.remsi v156 c64_i32
  let c0_i32_109 : BitVec 32 := 0#32
  let v262 : BitVec 1 := Scalar.cmpi .ne v261 c0_i32_109
  let v263 : BitVec 1 := Scalar.andi v260 v262
  let v249 : BitVec 32 := Scalar.divsi v156 c64_i32
  let c1_i32_110 : BitVec 32 := 1#32
  let v264 : BitVec 32 := Scalar.subi v249 c1_i32_110
  let v265 : BitVec 32 := Scalar.select v263 v264 v249
  let c2_i32_139 : BitVec 32 := 2#32
  let c0_i32_134 : BitVec 32 := 0#32
  let c0_i32_102 : BitVec 32 := 0#32
  let v245 : BitVec 1 := Scalar.cmpi .eq v158_0 c0_i32_102
  let c0_i32_104 : BitVec 32 := 0#32
  let c1_i32_66 : BitVec 32 := 1#32
  let v159 : BitVec 32 := Scalar.subi v158_0 c1_i32_66
  let c0_i32_67 : BitVec 32 := 0#32
  let v160 : BitVec 32 := Scalar.maxsi v159 c0_i32_67
  let c16_i32_103 : BitVec 32 := 16#32
  let v246 : BitVec 32 := Scalar.muli v160 c16_i32_103
  let c0_i32_71 : BitVec 32 := 0#32
  let c32_i32_0 : BitVec 32 := 32#32
  let v3 : BitVec 32 := Scalar.addi v2 c32_i32_0
  let v167 : BitVec 1 := Scalar.cmpi .slt v166 v3
  let c1_i32_69 : BitVec 32 := 1#32
  let c0_i32_70 : BitVec 32 := 0#32
  let v168 : BitVec 32 := Scalar.select v167 c1_i32_69 c0_i32_70
  let v169 : BitVec 32 := Scalar.addi c0_i32_71 v168
  let v172 : BitVec 1 := Scalar.cmpi .slt v171 v3
  let c1_i32_72 : BitVec 32 := 1#32
  let c0_i32_73 : BitVec 32 := 0#32
  let v173 : BitVec 32 := Scalar.select v172 c1_i32_72 c0_i32_73
  let v174 : BitVec 32 := Scalar.addi v169 v173
  let v177 : BitVec 1 := Scalar.cmpi .slt v176 v3
  let c1_i32_74 : BitVec 32 := 1#32
  let c0_i32_75 : BitVec 32 := 0#32
  let v178 : BitVec 32 := Scalar.select v177 c1_i32_74 c0_i32_75
  let v179 : BitVec 32 := Scalar.addi v174 v178
  let v182 : BitVec 1 := Scalar.cmpi .slt v181 v3
  let c1_i32_76 : BitVec 32 := 1#32
  let c0_i32_77 : BitVec 32 := 0#32
  let v183 : BitVec 32 := Scalar.select v182 c1_i32_76 c0_i32_77
  let v184 : BitVec 32 := Scalar.addi v179 v183
  let v187 : BitVec 1 := Scalar.cmpi .slt v186 v3
  let c1_i32_78 : BitVec 32 := 1#32
  let c0_i32_79 : BitVec 32 := 0#32
  let v188 : BitVec 32 := Scalar.select v187 c1_i32_78 c0_i32_79
  let v189 : BitVec 32 := Scalar.addi v184 v188
  let v192 : BitVec 1 := Scalar.cmpi .slt v191 v3
  let c1_i32_80 : BitVec 32 := 1#32
  let c0_i32_81 : BitVec 32 := 0#32
  let v193 : BitVec 32 := Scalar.select v192 c1_i32_80 c0_i32_81
  let v194 : BitVec 32 := Scalar.addi v189 v193
  let v197 : BitVec 1 := Scalar.cmpi .slt v196 v3
  let c1_i32_82 : BitVec 32 := 1#32
  let c0_i32_83 : BitVec 32 := 0#32
  let v198 : BitVec 32 := Scalar.select v197 c1_i32_82 c0_i32_83
  let v199 : BitVec 32 := Scalar.addi v194 v198
  let v202 : BitVec 1 := Scalar.cmpi .slt v201 v3
  let c1_i32_84 : BitVec 32 := 1#32
  let c0_i32_85 : BitVec 32 := 0#32
  let v203 : BitVec 32 := Scalar.select v202 c1_i32_84 c0_i32_85
  let v204 : BitVec 32 := Scalar.addi v199 v203
  let v207 : BitVec 1 := Scalar.cmpi .slt v206 v3
  let c1_i32_86 : BitVec 32 := 1#32
  let c0_i32_87 : BitVec 32 := 0#32
  let v208 : BitVec 32 := Scalar.select v207 c1_i32_86 c0_i32_87
  let v209 : BitVec 32 := Scalar.addi v204 v208
  let v212 : BitVec 1 := Scalar.cmpi .slt v211 v3
  let c1_i32_88 : BitVec 32 := 1#32
  let c0_i32_89 : BitVec 32 := 0#32
  let v213 : BitVec 32 := Scalar.select v212 c1_i32_88 c0_i32_89
  let v214 : BitVec 32 := Scalar.addi v209 v213
  let v217 : BitVec 1 := Scalar.cmpi .slt v216 v3
  let c1_i32_90 : BitVec 32 := 1#32
  let c0_i32_91 : BitVec 32 := 0#32
  let v218 : BitVec 32 := Scalar.select v217 c1_i32_90 c0_i32_91
  let v219 : BitVec 32 := Scalar.addi v214 v218
  let v222 : BitVec 1 := Scalar.cmpi .slt v221 v3
  let c1_i32_92 : BitVec 32 := 1#32
  let c0_i32_93 : BitVec 32 := 0#32
  let v223 : BitVec 32 := Scalar.select v222 c1_i32_92 c0_i32_93
  let v224 : BitVec 32 := Scalar.addi v219 v223
  let v227 : BitVec 1 := Scalar.cmpi .slt v226 v3
  let c1_i32_94 : BitVec 32 := 1#32
  let c0_i32_95 : BitVec 32 := 0#32
  let v228 : BitVec 32 := Scalar.select v227 c1_i32_94 c0_i32_95
  let v229 : BitVec 32 := Scalar.addi v224 v228
  let v232 : BitVec 1 := Scalar.cmpi .slt v231 v3
  let c1_i32_96 : BitVec 32 := 1#32
  let c0_i32_97 : BitVec 32 := 0#32
  let v233 : BitVec 32 := Scalar.select v232 c1_i32_96 c0_i32_97
  let v234 : BitVec 32 := Scalar.addi v229 v233
  let v237 : BitVec 1 := Scalar.cmpi .slt v236 v3
  let c1_i32_98 : BitVec 32 := 1#32
  let c0_i32_99 : BitVec 32 := 0#32
  let v238 : BitVec 32 := Scalar.select v237 c1_i32_98 c0_i32_99
  let v239 : BitVec 32 := Scalar.addi v234 v238
  let v242 : BitVec 1 := Scalar.cmpi .slt v241 v3
  let c1_i32_100 : BitVec 32 := 1#32
  let c0_i32_101 : BitVec 32 := 0#32
  let v243 : BitVec 32 := Scalar.select v242 c1_i32_100 c0_i32_101
  let v244 : BitVec 32 := Scalar.addi v239 v243
  let v247 : BitVec 32 := Scalar.addi v246 v244
  let v248 : BitVec 32 := Scalar.select v245 c0_i32_104 v247
  let c64_i32_111 : BitVec 32 := 64#32
  let v266 : BitVec 32 := Scalar.addi v248 c64_i32_111
  let c1_i32_112 : BitVec 32 := 1#32
  let v267 : BitVec 32 := Scalar.subi v266 c1_i32_112
  let c0_i32_114 : BitVec 32 := 0#32
  let v269 : BitVec 1 := Scalar.cmpi .sgt v267 c0_i32_114
  let v270 : BitVec 32 := Scalar.extui v269
  let c0_i32_115 : BitVec 32 := 0#32
  let v271 : BitVec 1 := Scalar.cmpi .slt v267 c0_i32_115
  let v272 : BitVec 32 := Scalar.extui v271
  let v273 : BitVec 32 := Scalar.subi v270 v272
  let c64_i32_113 : BitVec 32 := 64#32
  let c0_i32_116 : BitVec 32 := 0#32
  let v274 : BitVec 1 := Scalar.cmpi .sgt c64_i32_113 c0_i32_116
  let v275 : BitVec 32 := Scalar.extui v274
  let c0_i32_117 : BitVec 32 := 0#32
  let v276 : BitVec 1 := Scalar.cmpi .slt c64_i32_113 c0_i32_117
  let v277 : BitVec 32 := Scalar.extui v276
  let v278 : BitVec 32 := Scalar.subi v275 v277
  let v279 : BitVec 1 := Scalar.cmpi .ne v273 v278
  let v280 : BitVec 32 := Scalar.remsi v267 c64_i32_113
  let c0_i32_118 : BitVec 32 := 0#32
  let v281 : BitVec 1 := Scalar.cmpi .ne v280 c0_i32_118
  let v282 : BitVec 1 := Scalar.andi v279 v281
  let v268 : BitVec 32 := Scalar.divsi v267 c64_i32_113
  let c1_i32_119 : BitVec 32 := 1#32
  let v283 : BitVec 32 := Scalar.subi v268 c1_i32_119
  let v284 : BitVec 32 := Scalar.select v282 v283 v268
  let c156_i32 : BitVec 32 := 156#32
  let v285 : BitVec 32 := Scalar.minsi v284 c156_i32
  let v286 : BitVec 32 := Scalar.subi v285 v265
  let c2_i32_124 : BitVec 32 := 2#32
  let v293 : BitVec 32 := Scalar.addi v286 c2_i32_124
  let c1_i32_125 : BitVec 32 := 1#32
  let v294 : BitVec 32 := Scalar.subi v293 c1_i32_125
  let c0_i32_127 : BitVec 32 := 0#32
  let v296 : BitVec 1 := Scalar.cmpi .sgt v294 c0_i32_127
  let v297 : BitVec 32 := Scalar.extui v296
  let c0_i32_128 : BitVec 32 := 0#32
  let v298 : BitVec 1 := Scalar.cmpi .slt v294 c0_i32_128
  let v299 : BitVec 32 := Scalar.extui v298
  let v300 : BitVec 32 := Scalar.subi v297 v299
  let c2_i32_126 : BitVec 32 := 2#32
  let c0_i32_129 : BitVec 32 := 0#32
  let v301 : BitVec 1 := Scalar.cmpi .sgt c2_i32_126 c0_i32_129
  let v302 : BitVec 32 := Scalar.extui v301
  let c0_i32_130 : BitVec 32 := 0#32
  let v303 : BitVec 1 := Scalar.cmpi .slt c2_i32_126 c0_i32_130
  let v304 : BitVec 32 := Scalar.extui v303
  let v305 : BitVec 32 := Scalar.subi v302 v304
  let v306 : BitVec 1 := Scalar.cmpi .ne v300 v305
  let v307 : BitVec 32 := Scalar.remsi v294 c2_i32_126
  let c0_i32_131 : BitVec 32 := 0#32
  let v308 : BitVec 1 := Scalar.cmpi .ne v307 c0_i32_131
  let v309 : BitVec 1 := Scalar.andi v306 v308
  let v295 : BitVec 32 := Scalar.divsi v294 c2_i32_126
  let c1_i32_132 : BitVec 32 := 1#32
  let v310 : BitVec 32 := Scalar.subi v295 c1_i32_132
  let v311 : BitVec 32 := Scalar.select v309 v310 v295
  let v312 : BitVec 32 := Scalar.subi v311 c0_i32_134
  let c1_i32_135 : BitVec 32 := 1#32
  let v314 : BitVec 32 := Scalar.divsi v312 c1_i32_135
  let v315 : BitVec 32 := Scalar.muli v314 c1_i32_135
  let v316 : BitVec 32 := Scalar.addi c0_i32_134 v315
  let c1_i32_137 : BitVec 32 := 1#32
  let arg13 : BitVec 32 := Scf.iv v316 c1_i32_137 k0_t39
  let v320 : BitVec 32 := Scalar.muli c2_i32_139 arg13
  let v321 : BitVec 32 := Scalar.addi v265 v320
  let c0_i32_144 : BitVec 32 := 0#32
  let v330 : BitVec 32 := Scalar.addi v321 c0_i32_144
  let c64_i32_154 : BitVec 32 := 64#32
  let v339 : BitVec 32 := Scalar.muli v330 c64_i32_154
  let c0_i32_149 : BitVec 32 := 0#32
  let c1_i32_150 : BitVec 32 := 1#32
  let arg14 : BitVec 32 := Scf.iv c0_i32_149 c1_i32_150 k0_t40
  let c16_i32_155 : BitVec 32 := 16#32
  let v340 : BitVec 32 := Scalar.muli arg14 c16_i32_155
  let v341 : BitVec 32 := Scalar.addi v339 v340
  let v343 : Index := Scalar.indexCast v341
  ![v343.toNat]
def k0_off177 (i : grid0.Coords) (v66_0 : BitVec 32) (v74 : BitVec 32) (v79 : BitVec 32) (v84 : BitVec 32) (v89 : BitVec 32) (v94 : BitVec 32) (v99 : BitVec 32) (v104 : BitVec 32) (v109 : BitVec 32) (v114 : BitVec 32) (v119 : BitVec 32) (v124 : BitVec 32) (v129 : BitVec 32) (v134 : BitVec 32) (v139 : BitVec 32) (v144 : BitVec 32) (v149 : BitVec 32) (v158_0 : BitVec 32) (v166 : BitVec 32) (v171 : BitVec 32) (v176 : BitVec 32) (v181 : BitVec 32) (v186 : BitVec 32) (v191 : BitVec 32) (v196 : BitVec 32) (v201 : BitVec 32) (v206 : BitVec 32) (v211 : BitVec 32) (v216 : BitVec 32) (v221 : BitVec 32) (v226 : BitVec 32) (v231 : BitVec 32) (v236 : BitVec 32) (v241 : BitVec 32) (k0_t39 : Fin (k0_t39_loop i v66_0 v74 v79 v84 v89 v94 v99 v104 v109 v114 v119 v124 v129 v134 v139 v144 v149 v158_0 v166 v171 v176 v181 v186 v191 v196 v201 v206 v211 v216 v221 v226 v231 v236 v241).trips) (k0_t40 : Fin k0_t40_loop.trips) : Fin 1 → Nat :=
  let c0_i32_57 : BitVec 32 := 0#32
  let v153 : BitVec 1 := Scalar.cmpi .eq v66_0 c0_i32_57
  let c0_i32_59 : BitVec 32 := 0#32
  let c1_i32_22 : BitVec 32 := 1#32
  let v67 : BitVec 32 := Scalar.subi v66_0 c1_i32_22
  let c0_i32_23 : BitVec 32 := 0#32
  let v68 : BitVec 32 := Scalar.maxsi v67 c0_i32_23
  let c16_i32_58 : BitVec 32 := 16#32
  let v154 : BitVec 32 := Scalar.muli v68 c16_i32_58
  let c0_i32_26 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let v75 : BitVec 1 := Scalar.cmpi .slt v74 v2
  let c1_i32_24 : BitVec 32 := 1#32
  let c0_i32_25 : BitVec 32 := 0#32
  let v76 : BitVec 32 := Scalar.select v75 c1_i32_24 c0_i32_25
  let v77 : BitVec 32 := Scalar.addi c0_i32_26 v76
  let v80 : BitVec 1 := Scalar.cmpi .slt v79 v2
  let c1_i32_27 : BitVec 32 := 1#32
  let c0_i32_28 : BitVec 32 := 0#32
  let v81 : BitVec 32 := Scalar.select v80 c1_i32_27 c0_i32_28
  let v82 : BitVec 32 := Scalar.addi v77 v81
  let v85 : BitVec 1 := Scalar.cmpi .slt v84 v2
  let c1_i32_29 : BitVec 32 := 1#32
  let c0_i32_30 : BitVec 32 := 0#32
  let v86 : BitVec 32 := Scalar.select v85 c1_i32_29 c0_i32_30
  let v87 : BitVec 32 := Scalar.addi v82 v86
  let v90 : BitVec 1 := Scalar.cmpi .slt v89 v2
  let c1_i32_31 : BitVec 32 := 1#32
  let c0_i32_32 : BitVec 32 := 0#32
  let v91 : BitVec 32 := Scalar.select v90 c1_i32_31 c0_i32_32
  let v92 : BitVec 32 := Scalar.addi v87 v91
  let v95 : BitVec 1 := Scalar.cmpi .slt v94 v2
  let c1_i32_33 : BitVec 32 := 1#32
  let c0_i32_34 : BitVec 32 := 0#32
  let v96 : BitVec 32 := Scalar.select v95 c1_i32_33 c0_i32_34
  let v97 : BitVec 32 := Scalar.addi v92 v96
  let v100 : BitVec 1 := Scalar.cmpi .slt v99 v2
  let c1_i32_35 : BitVec 32 := 1#32
  let c0_i32_36 : BitVec 32 := 0#32
  let v101 : BitVec 32 := Scalar.select v100 c1_i32_35 c0_i32_36
  let v102 : BitVec 32 := Scalar.addi v97 v101
  let v105 : BitVec 1 := Scalar.cmpi .slt v104 v2
  let c1_i32_37 : BitVec 32 := 1#32
  let c0_i32_38 : BitVec 32 := 0#32
  let v106 : BitVec 32 := Scalar.select v105 c1_i32_37 c0_i32_38
  let v107 : BitVec 32 := Scalar.addi v102 v106
  let v110 : BitVec 1 := Scalar.cmpi .slt v109 v2
  let c1_i32_39 : BitVec 32 := 1#32
  let c0_i32_40 : BitVec 32 := 0#32
  let v111 : BitVec 32 := Scalar.select v110 c1_i32_39 c0_i32_40
  let v112 : BitVec 32 := Scalar.addi v107 v111
  let v115 : BitVec 1 := Scalar.cmpi .slt v114 v2
  let c1_i32_41 : BitVec 32 := 1#32
  let c0_i32_42 : BitVec 32 := 0#32
  let v116 : BitVec 32 := Scalar.select v115 c1_i32_41 c0_i32_42
  let v117 : BitVec 32 := Scalar.addi v112 v116
  let v120 : BitVec 1 := Scalar.cmpi .slt v119 v2
  let c1_i32_43 : BitVec 32 := 1#32
  let c0_i32_44 : BitVec 32 := 0#32
  let v121 : BitVec 32 := Scalar.select v120 c1_i32_43 c0_i32_44
  let v122 : BitVec 32 := Scalar.addi v117 v121
  let v125 : BitVec 1 := Scalar.cmpi .slt v124 v2
  let c1_i32_45 : BitVec 32 := 1#32
  let c0_i32_46 : BitVec 32 := 0#32
  let v126 : BitVec 32 := Scalar.select v125 c1_i32_45 c0_i32_46
  let v127 : BitVec 32 := Scalar.addi v122 v126
  let v130 : BitVec 1 := Scalar.cmpi .slt v129 v2
  let c1_i32_47 : BitVec 32 := 1#32
  let c0_i32_48 : BitVec 32 := 0#32
  let v131 : BitVec 32 := Scalar.select v130 c1_i32_47 c0_i32_48
  let v132 : BitVec 32 := Scalar.addi v127 v131
  let v135 : BitVec 1 := Scalar.cmpi .slt v134 v2
  let c1_i32_49 : BitVec 32 := 1#32
  let c0_i32_50 : BitVec 32 := 0#32
  let v136 : BitVec 32 := Scalar.select v135 c1_i32_49 c0_i32_50
  let v137 : BitVec 32 := Scalar.addi v132 v136
  let v140 : BitVec 1 := Scalar.cmpi .slt v139 v2
  let c1_i32_51 : BitVec 32 := 1#32
  let c0_i32_52 : BitVec 32 := 0#32
  let v141 : BitVec 32 := Scalar.select v140 c1_i32_51 c0_i32_52
  let v142 : BitVec 32 := Scalar.addi v137 v141
  let v145 : BitVec 1 := Scalar.cmpi .slt v144 v2
  let c1_i32_53 : BitVec 32 := 1#32
  let c0_i32_54 : BitVec 32 := 0#32
  let v146 : BitVec 32 := Scalar.select v145 c1_i32_53 c0_i32_54
  let v147 : BitVec 32 := Scalar.addi v142 v146
  let v150 : BitVec 1 := Scalar.cmpi .slt v149 v2
  let c1_i32_55 : BitVec 32 := 1#32
  let c0_i32_56 : BitVec 32 := 0#32
  let v151 : BitVec 32 := Scalar.select v150 c1_i32_55 c0_i32_56
  let v152 : BitVec 32 := Scalar.addi v147 v151
  let v155 : BitVec 32 := Scalar.addi v154 v152
  let v156 : BitVec 32 := Scalar.select v153 c0_i32_59 v155
  let c0_i32_105 : BitVec 32 := 0#32
  let v250 : BitVec 1 := Scalar.cmpi .sgt v156 c0_i32_105
  let v251 : BitVec 32 := Scalar.extui v250
  let c0_i32_106 : BitVec 32 := 0#32
  let v252 : BitVec 1 := Scalar.cmpi .slt v156 c0_i32_106
  let v253 : BitVec 32 := Scalar.extui v252
  let v254 : BitVec 32 := Scalar.subi v251 v253
  let c64_i32 : BitVec 32 := 64#32
  let c0_i32_107 : BitVec 32 := 0#32
  let v255 : BitVec 1 := Scalar.cmpi .sgt c64_i32 c0_i32_107
  let v256 : BitVec 32 := Scalar.extui v255
  let c0_i32_108 : BitVec 32 := 0#32
  let v257 : BitVec 1 := Scalar.cmpi .slt c64_i32 c0_i32_108
  let v258 : BitVec 32 := Scalar.extui v257
  let v259 : BitVec 32 := Scalar.subi v256 v258
  let v260 : BitVec 1 := Scalar.cmpi .ne v254 v259
  let v261 : BitVec 32 := Scalar.remsi v156 c64_i32
  let c0_i32_109 : BitVec 32 := 0#32
  let v262 : BitVec 1 := Scalar.cmpi .ne v261 c0_i32_109
  let v263 : BitVec 1 := Scalar.andi v260 v262
  let v249 : BitVec 32 := Scalar.divsi v156 c64_i32
  let c1_i32_110 : BitVec 32 := 1#32
  let v264 : BitVec 32 := Scalar.subi v249 c1_i32_110
  let v265 : BitVec 32 := Scalar.select v263 v264 v249
  let c2_i32_139 : BitVec 32 := 2#32
  let c0_i32_134 : BitVec 32 := 0#32
  let c0_i32_102 : BitVec 32 := 0#32
  let v245 : BitVec 1 := Scalar.cmpi .eq v158_0 c0_i32_102
  let c0_i32_104 : BitVec 32 := 0#32
  let c1_i32_66 : BitVec 32 := 1#32
  let v159 : BitVec 32 := Scalar.subi v158_0 c1_i32_66
  let c0_i32_67 : BitVec 32 := 0#32
  let v160 : BitVec 32 := Scalar.maxsi v159 c0_i32_67
  let c16_i32_103 : BitVec 32 := 16#32
  let v246 : BitVec 32 := Scalar.muli v160 c16_i32_103
  let c0_i32_71 : BitVec 32 := 0#32
  let c32_i32_0 : BitVec 32 := 32#32
  let v3 : BitVec 32 := Scalar.addi v2 c32_i32_0
  let v167 : BitVec 1 := Scalar.cmpi .slt v166 v3
  let c1_i32_69 : BitVec 32 := 1#32
  let c0_i32_70 : BitVec 32 := 0#32
  let v168 : BitVec 32 := Scalar.select v167 c1_i32_69 c0_i32_70
  let v169 : BitVec 32 := Scalar.addi c0_i32_71 v168
  let v172 : BitVec 1 := Scalar.cmpi .slt v171 v3
  let c1_i32_72 : BitVec 32 := 1#32
  let c0_i32_73 : BitVec 32 := 0#32
  let v173 : BitVec 32 := Scalar.select v172 c1_i32_72 c0_i32_73
  let v174 : BitVec 32 := Scalar.addi v169 v173
  let v177 : BitVec 1 := Scalar.cmpi .slt v176 v3
  let c1_i32_74 : BitVec 32 := 1#32
  let c0_i32_75 : BitVec 32 := 0#32
  let v178 : BitVec 32 := Scalar.select v177 c1_i32_74 c0_i32_75
  let v179 : BitVec 32 := Scalar.addi v174 v178
  let v182 : BitVec 1 := Scalar.cmpi .slt v181 v3
  let c1_i32_76 : BitVec 32 := 1#32
  let c0_i32_77 : BitVec 32 := 0#32
  let v183 : BitVec 32 := Scalar.select v182 c1_i32_76 c0_i32_77
  let v184 : BitVec 32 := Scalar.addi v179 v183
  let v187 : BitVec 1 := Scalar.cmpi .slt v186 v3
  let c1_i32_78 : BitVec 32 := 1#32
  let c0_i32_79 : BitVec 32 := 0#32
  let v188 : BitVec 32 := Scalar.select v187 c1_i32_78 c0_i32_79
  let v189 : BitVec 32 := Scalar.addi v184 v188
  let v192 : BitVec 1 := Scalar.cmpi .slt v191 v3
  let c1_i32_80 : BitVec 32 := 1#32
  let c0_i32_81 : BitVec 32 := 0#32
  let v193 : BitVec 32 := Scalar.select v192 c1_i32_80 c0_i32_81
  let v194 : BitVec 32 := Scalar.addi v189 v193
  let v197 : BitVec 1 := Scalar.cmpi .slt v196 v3
  let c1_i32_82 : BitVec 32 := 1#32
  let c0_i32_83 : BitVec 32 := 0#32
  let v198 : BitVec 32 := Scalar.select v197 c1_i32_82 c0_i32_83
  let v199 : BitVec 32 := Scalar.addi v194 v198
  let v202 : BitVec 1 := Scalar.cmpi .slt v201 v3
  let c1_i32_84 : BitVec 32 := 1#32
  let c0_i32_85 : BitVec 32 := 0#32
  let v203 : BitVec 32 := Scalar.select v202 c1_i32_84 c0_i32_85
  let v204 : BitVec 32 := Scalar.addi v199 v203
  let v207 : BitVec 1 := Scalar.cmpi .slt v206 v3
  let c1_i32_86 : BitVec 32 := 1#32
  let c0_i32_87 : BitVec 32 := 0#32
  let v208 : BitVec 32 := Scalar.select v207 c1_i32_86 c0_i32_87
  let v209 : BitVec 32 := Scalar.addi v204 v208
  let v212 : BitVec 1 := Scalar.cmpi .slt v211 v3
  let c1_i32_88 : BitVec 32 := 1#32
  let c0_i32_89 : BitVec 32 := 0#32
  let v213 : BitVec 32 := Scalar.select v212 c1_i32_88 c0_i32_89
  let v214 : BitVec 32 := Scalar.addi v209 v213
  let v217 : BitVec 1 := Scalar.cmpi .slt v216 v3
  let c1_i32_90 : BitVec 32 := 1#32
  let c0_i32_91 : BitVec 32 := 0#32
  let v218 : BitVec 32 := Scalar.select v217 c1_i32_90 c0_i32_91
  let v219 : BitVec 32 := Scalar.addi v214 v218
  let v222 : BitVec 1 := Scalar.cmpi .slt v221 v3
  let c1_i32_92 : BitVec 32 := 1#32
  let c0_i32_93 : BitVec 32 := 0#32
  let v223 : BitVec 32 := Scalar.select v222 c1_i32_92 c0_i32_93
  let v224 : BitVec 32 := Scalar.addi v219 v223
  let v227 : BitVec 1 := Scalar.cmpi .slt v226 v3
  let c1_i32_94 : BitVec 32 := 1#32
  let c0_i32_95 : BitVec 32 := 0#32
  let v228 : BitVec 32 := Scalar.select v227 c1_i32_94 c0_i32_95
  let v229 : BitVec 32 := Scalar.addi v224 v228
  let v232 : BitVec 1 := Scalar.cmpi .slt v231 v3
  let c1_i32_96 : BitVec 32 := 1#32
  let c0_i32_97 : BitVec 32 := 0#32
  let v233 : BitVec 32 := Scalar.select v232 c1_i32_96 c0_i32_97
  let v234 : BitVec 32 := Scalar.addi v229 v233
  let v237 : BitVec 1 := Scalar.cmpi .slt v236 v3
  let c1_i32_98 : BitVec 32 := 1#32
  let c0_i32_99 : BitVec 32 := 0#32
  let v238 : BitVec 32 := Scalar.select v237 c1_i32_98 c0_i32_99
  let v239 : BitVec 32 := Scalar.addi v234 v238
  let v242 : BitVec 1 := Scalar.cmpi .slt v241 v3
  let c1_i32_100 : BitVec 32 := 1#32
  let c0_i32_101 : BitVec 32 := 0#32
  let v243 : BitVec 32 := Scalar.select v242 c1_i32_100 c0_i32_101
  let v244 : BitVec 32 := Scalar.addi v239 v243
  let v247 : BitVec 32 := Scalar.addi v246 v244
  let v248 : BitVec 32 := Scalar.select v245 c0_i32_104 v247
  let c64_i32_111 : BitVec 32 := 64#32
  let v266 : BitVec 32 := Scalar.addi v248 c64_i32_111
  let c1_i32_112 : BitVec 32 := 1#32
  let v267 : BitVec 32 := Scalar.subi v266 c1_i32_112
  let c0_i32_114 : BitVec 32 := 0#32
  let v269 : BitVec 1 := Scalar.cmpi .sgt v267 c0_i32_114
  let v270 : BitVec 32 := Scalar.extui v269
  let c0_i32_115 : BitVec 32 := 0#32
  let v271 : BitVec 1 := Scalar.cmpi .slt v267 c0_i32_115
  let v272 : BitVec 32 := Scalar.extui v271
  let v273 : BitVec 32 := Scalar.subi v270 v272
  let c64_i32_113 : BitVec 32 := 64#32
  let c0_i32_116 : BitVec 32 := 0#32
  let v274 : BitVec 1 := Scalar.cmpi .sgt c64_i32_113 c0_i32_116
  let v275 : BitVec 32 := Scalar.extui v274
  let c0_i32_117 : BitVec 32 := 0#32
  let v276 : BitVec 1 := Scalar.cmpi .slt c64_i32_113 c0_i32_117
  let v277 : BitVec 32 := Scalar.extui v276
  let v278 : BitVec 32 := Scalar.subi v275 v277
  let v279 : BitVec 1 := Scalar.cmpi .ne v273 v278
  let v280 : BitVec 32 := Scalar.remsi v267 c64_i32_113
  let c0_i32_118 : BitVec 32 := 0#32
  let v281 : BitVec 1 := Scalar.cmpi .ne v280 c0_i32_118
  let v282 : BitVec 1 := Scalar.andi v279 v281
  let v268 : BitVec 32 := Scalar.divsi v267 c64_i32_113
  let c1_i32_119 : BitVec 32 := 1#32
  let v283 : BitVec 32 := Scalar.subi v268 c1_i32_119
  let v284 : BitVec 32 := Scalar.select v282 v283 v268
  let c156_i32 : BitVec 32 := 156#32
  let v285 : BitVec 32 := Scalar.minsi v284 c156_i32
  let v286 : BitVec 32 := Scalar.subi v285 v265
  let c2_i32_124 : BitVec 32 := 2#32
  let v293 : BitVec 32 := Scalar.addi v286 c2_i32_124
  let c1_i32_125 : BitVec 32 := 1#32
  let v294 : BitVec 32 := Scalar.subi v293 c1_i32_125
  let c0_i32_127 : BitVec 32 := 0#32
  let v296 : BitVec 1 := Scalar.cmpi .sgt v294 c0_i32_127
  let v297 : BitVec 32 := Scalar.extui v296
  let c0_i32_128 : BitVec 32 := 0#32
  let v298 : BitVec 1 := Scalar.cmpi .slt v294 c0_i32_128
  let v299 : BitVec 32 := Scalar.extui v298
  let v300 : BitVec 32 := Scalar.subi v297 v299
  let c2_i32_126 : BitVec 32 := 2#32
  let c0_i32_129 : BitVec 32 := 0#32
  let v301 : BitVec 1 := Scalar.cmpi .sgt c2_i32_126 c0_i32_129
  let v302 : BitVec 32 := Scalar.extui v301
  let c0_i32_130 : BitVec 32 := 0#32
  let v303 : BitVec 1 := Scalar.cmpi .slt c2_i32_126 c0_i32_130
  let v304 : BitVec 32 := Scalar.extui v303
  let v305 : BitVec 32 := Scalar.subi v302 v304
  let v306 : BitVec 1 := Scalar.cmpi .ne v300 v305
  let v307 : BitVec 32 := Scalar.remsi v294 c2_i32_126
  let c0_i32_131 : BitVec 32 := 0#32
  let v308 : BitVec 1 := Scalar.cmpi .ne v307 c0_i32_131
  let v309 : BitVec 1 := Scalar.andi v306 v308
  let v295 : BitVec 32 := Scalar.divsi v294 c2_i32_126
  let c1_i32_132 : BitVec 32 := 1#32
  let v310 : BitVec 32 := Scalar.subi v295 c1_i32_132
  let v311 : BitVec 32 := Scalar.select v309 v310 v295
  let v312 : BitVec 32 := Scalar.subi v311 c0_i32_134
  let c1_i32_135 : BitVec 32 := 1#32
  let v314 : BitVec 32 := Scalar.divsi v312 c1_i32_135
  let v315 : BitVec 32 := Scalar.muli v314 c1_i32_135
  let v316 : BitVec 32 := Scalar.addi c0_i32_134 v315
  let c1_i32_137 : BitVec 32 := 1#32
  let arg13 : BitVec 32 := Scf.iv v316 c1_i32_137 k0_t39
  let v320 : BitVec 32 := Scalar.muli c2_i32_139 arg13
  let v321 : BitVec 32 := Scalar.addi v265 v320
  let c0_i32_144 : BitVec 32 := 0#32
  let v330 : BitVec 32 := Scalar.addi v321 c0_i32_144
  let c64_i32_154 : BitVec 32 := 64#32
  let v339 : BitVec 32 := Scalar.muli v330 c64_i32_154
  let c0_i32_149 : BitVec 32 := 0#32
  let c1_i32_150 : BitVec 32 := 1#32
  let arg14 : BitVec 32 := Scf.iv c0_i32_149 c1_i32_150 k0_t40
  let c16_i32_155 : BitVec 32 := 16#32
  let v340 : BitVec 32 := Scalar.muli arg14 c16_i32_155
  let v341 : BitVec 32 := Scalar.addi v339 v340
  let v346 : Index := Scalar.indexCast v341
  ![v346.toNat]
def k0_off178 (k0_t40 : Fin k0_t40_loop.trips) : Fin 2 → Nat :=
  let c0_i32_149 : BitVec 32 := 0#32
  let c1_i32_150 : BitVec 32 := 1#32
  let arg14 : BitVec 32 := Scf.iv c0_i32_149 c1_i32_150 k0_t40
  let c16_i32_156 : BitVec 32 := 16#32
  let v342 : BitVec 32 := Scalar.muli arg14 c16_i32_156
  let c0_i32_158 : BitVec 32 := 0#32
  let v367 : BitVec 32 := Scalar.addi v342 c0_i32_158
  let v368 : Index := Scalar.indexCast v367
  let c0 : Index := 0#32
  ![v368.toNat, 0]
@[reducible] def k0_t41_loop : Scf.Loop 32 :=
  let c1_i32_159 : BitVec 32 := 1#32
  let c31_i32_160 : BitVec 32 := 31#32
  let v373 : BitVec 32 := Scalar.addi c1_i32_159 c31_i32_160
  let c1_i32_161 : BitVec 32 := 1#32
  ⟨c1_i32_159, v373, c1_i32_161⟩
def k0_off179 (k0_t40 : Fin k0_t40_loop.trips) (k0_t41 : Fin k0_t41_loop.trips) : Fin 2 → Nat :=
  let c0_i32_149 : BitVec 32 := 0#32
  let c1_i32_150 : BitVec 32 := 1#32
  let arg14 : BitVec 32 := Scf.iv c0_i32_149 c1_i32_150 k0_t40
  let c16_i32_156 : BitVec 32 := 16#32
  let v342 : BitVec 32 := Scalar.muli arg14 c16_i32_156
  let c0_i32_158 : BitVec 32 := 0#32
  let v367 : BitVec 32 := Scalar.addi v342 c0_i32_158
  let v684 : Index := Scalar.indexCast v367
  let c1_i32_159 : BitVec 32 := 1#32
  let c1_i32_161 : BitVec 32 := 1#32
  let arg15 : BitVec 32 := Scf.iv c1_i32_159 c1_i32_161 k0_t41
  let c16_i32_273 : BitVec 32 := 16#32
  let v683 : BitVec 32 := Scalar.muli arg15 c16_i32_273
  let v685 : Index := Scalar.indexCast v683
  ![v684.toNat, v685.toNat]
def k0_off180 (v366 : BitVec 32) (k0_t41 : Fin k0_t41_loop.trips) : Fin 2 → Nat :=
  let v692 : Index := Scalar.indexCast v366
  let c1_i32_159 : BitVec 32 := 1#32
  let c1_i32_161 : BitVec 32 := 1#32
  let arg15 : BitVec 32 := Scf.iv c1_i32_159 c1_i32_161 k0_t41
  let c1_i32_274 : BitVec 32 := 1#32
  let v690 : BitVec 32 := Scalar.subi arg15 c1_i32_274
  let c16_i32_275 : BitVec 32 := 16#32
  let v691 : BitVec 32 := Scalar.muli v690 c16_i32_275
  let v693 : Index := Scalar.indexCast v691
  ![v692.toNat, v693.toNat]

def k0_off181 (v366 : BitVec 32) : Fin 2 → Nat :=
  let v375 : Index := Scalar.indexCast v366
  let c496 : Index := 496#32
  ![v375.toNat, 496]

def k0_chk38 (i : grid0.Coords) (v66_0 : BitVec 32) (v74 : BitVec 32) (v79 : BitVec 32) (v84 : BitVec 32) (v89 : BitVec 32) (v94 : BitVec 32) (v99 : BitVec 32) (v104 : BitVec 32) (v109 : BitVec 32) (v114 : BitVec 32) (v119 : BitVec 32) (v124 : BitVec 32) (v129 : BitVec 32) (v134 : BitVec 32) (v139 : BitVec 32) (v144 : BitVec 32) (v149 : BitVec 32) (v158_0 : BitVec 32) (v166 : BitVec 32) (v171 : BitVec 32) (v176 : BitVec 32) (v181 : BitVec 32) (v186 : BitVec 32) (v191 : BitVec 32) (v196 : BitVec 32) (v201 : BitVec 32) (v206 : BitVec 32) (v211 : BitVec 32) (v216 : BitVec 32) (v221 : BitVec 32) (v226 : BitVec 32) (v231 : BitVec 32) (v236 : BitVec 32) (v241 : BitVec 32) (k0_t39 : Fin (k0_t39_loop i v66_0 v74 v79 v84 v89 v94 v99 v104 v109 v114 v119 v124 v129 v134 v139 v144 v149 v158_0 v166 v171 v176 v181 v186 v191 v196 v201 v206 v211 v216 v221 v226 v231 v236 v241).trips) (v366 : BitVec 32) : Prop :=
  (∀ k0_t41 : Fin k0_t41_loop.trips, ∀ (k0_h7 : k0_cond7 i v66_0 v74 v79 v84 v89 v94 v99 v104 v109 v114 v119 v124 v129 v134 v139 v144 v149 v158_0 v166 v171 v176 v181 v186 v191 v196 v201 v206 v211 v216 v221 v226 v231 v236 v241 k0_t39 = 1#1), ∀ a, (k0_off180 v366 k0_t41) a + S1x16.size a ≤ S32x512.size a) ∧
  (∀ (k0_h7 : k0_cond7 i v66_0 v74 v79 v84 v89 v94 v99 v104 v109 v114 v119 v124 v129 v134 v139 v144 v149 v158_0 v166 v171 v176 v181 v186 v191 v196 v201 v206 v211 v216 v221 v226 v231 v236 v241 k0_t39 = 1#1), ∀ a, (k0_off181 v366) a + S1x16.size a ≤ S32x512.size a)
theorem k0_off180_inb : ∀ (i : grid0.Coords) (v66_0 : BitVec 32) (v74 : BitVec 32) (v79 : BitVec 32) (v84 : BitVec 32) (v89 : BitVec 32) (v94 : BitVec 32) (v99 : BitVec 32) (v104 : BitVec 32) (v109 : BitVec 32) (v114 : BitVec 32) (v119 : BitVec 32) (v124 : BitVec 32) (v129 : BitVec 32) (v134 : BitVec 32) (v139 : BitVec 32) (v144 : BitVec 32) (v149 : BitVec 32) (v158_0 : BitVec 32) (v166 : BitVec 32) (v171 : BitVec 32) (v176 : BitVec 32) (v181 : BitVec 32) (v186 : BitVec 32) (v191 : BitVec 32) (v196 : BitVec 32) (v201 : BitVec 32) (v206 : BitVec 32) (v211 : BitVec 32) (v216 : BitVec 32) (v221 : BitVec 32) (v226 : BitVec 32) (v231 : BitVec 32) (v236 : BitVec 32) (v241 : BitVec 32) (k0_t39 : Fin (k0_t39_loop i v66_0 v74 v79 v84 v89 v94 v99 v104 v109 v114 v119 v124 v129 v134 v139 v144 v149 v158_0 v166 v171 v176 v181 v186 v191 v196 v201 v206 v211 v216 v221 v226 v231 v236 v241).trips) (v366 : BitVec 32) (k0_hw38 : k0_chk38 i v66_0 v74 v79 v84 v89 v94 v99 v104 v109 v114 v119 v124 v129 v134 v139 v144 v149 v158_0 v166 v171 v176 v181 v186 v191 v196 v201 v206 v211 v216 v221 v226 v231 v236 v241 k0_t39 v366) (k0_t41 : Fin k0_t41_loop.trips), ∀ (k0_h7 : k0_cond7 i v66_0 v74 v79 v84 v89 v94 v99 v104 v109 v114 v119 v124 v129 v134 v139 v144 v149 v158_0 v166 v171 v176 v181 v186 v191 v196 v201 v206 v211 v216 v221 v226 v231 v236 v241 k0_t39 = 1#1), ∀ a, (k0_off180 v366 k0_t41) a + S1x16.size a ≤ S32x512.size a := fun i v66_0 v74 v79 v84 v89 v94 v99 v104 v109 v114 v119 v124 v129 v134 v139 v144 v149 v158_0 v166 v171 v176 v181 v186 v191 v196 v201 v206 v211 v216 v221 v226 v231 v236 v241 k0_t39 v366 k0_hw38 k0_t41 k0_h7 => k0_hw38.1 k0_t41 k0_h7
theorem k0_off181_inb : ∀ (i : grid0.Coords) (v66_0 : BitVec 32) (v74 : BitVec 32) (v79 : BitVec 32) (v84 : BitVec 32) (v89 : BitVec 32) (v94 : BitVec 32) (v99 : BitVec 32) (v104 : BitVec 32) (v109 : BitVec 32) (v114 : BitVec 32) (v119 : BitVec 32) (v124 : BitVec 32) (v129 : BitVec 32) (v134 : BitVec 32) (v139 : BitVec 32) (v144 : BitVec 32) (v149 : BitVec 32) (v158_0 : BitVec 32) (v166 : BitVec 32) (v171 : BitVec 32) (v176 : BitVec 32) (v181 : BitVec 32) (v186 : BitVec 32) (v191 : BitVec 32) (v196 : BitVec 32) (v201 : BitVec 32) (v206 : BitVec 32) (v211 : BitVec 32) (v216 : BitVec 32) (v221 : BitVec 32) (v226 : BitVec 32) (v231 : BitVec 32) (v236 : BitVec 32) (v241 : BitVec 32) (k0_t39 : Fin (k0_t39_loop i v66_0 v74 v79 v84 v89 v94 v99 v104 v109 v114 v119 v124 v129 v134 v139 v144 v149 v158_0 v166 v171 v176 v181 v186 v191 v196 v201 v206 v211 v216 v221 v226 v231 v236 v241).trips) (v366 : BitVec 32) (k0_hw38 : k0_chk38 i v66_0 v74 v79 v84 v89 v94 v99 v104 v109 v114 v119 v124 v129 v134 v139 v144 v149 v158_0 v166 v171 v176 v181 v186 v191 v196 v201 v206 v211 v216 v221 v226 v231 v236 v241 k0_t39 v366), ∀ (k0_h7 : k0_cond7 i v66_0 v74 v79 v84 v89 v94 v99 v104 v109 v114 v119 v124 v129 v134 v139 v144 v149 v158_0 v166 v171 v176 v181 v186 v191 v196 v201 v206 v211 v216 v221 v226 v231 v236 v241 k0_t39 = 1#1), ∀ a, (k0_off181 v366) a + S1x16.size a ≤ S32x512.size a := fun i v66_0 v74 v79 v84 v89 v94 v99 v104 v109 v114 v119 v124 v129 v134 v139 v144 v149 v158_0 v166 v171 v176 v181 v186 v191 v196 v201 v206 v211 v216 v221 v226 v231 v236 v241 k0_t39 v366 k0_hw38 k0_h7 => k0_hw38.2 k0_h7

def k0_off182 (k0_t40 : Fin k0_t40_loop.trips) : Fin 2 → Nat :=
  let c0_i32_149 : BitVec 32 := 0#32
  let c1_i32_150 : BitVec 32 := 1#32
  let arg14 : BitVec 32 := Scf.iv c0_i32_149 c1_i32_150 k0_t40
  let c16_i32_156 : BitVec 32 := 16#32
  let v342 : BitVec 32 := Scalar.muli arg14 c16_i32_156
  let c1_i32_164 : BitVec 32 := 1#32
  let v387 : BitVec 32 := Scalar.addi v342 c1_i32_164
  let v388 : Index := Scalar.indexCast v387
  let c0_165 : Index := 0#32
  ![v388.toNat, 0]
@[reducible] def k0_t42_loop : Scf.Loop 32 :=
  let c1_i32_166 : BitVec 32 := 1#32
  let c31_i32_167 : BitVec 32 := 31#32
  let v393 : BitVec 32 := Scalar.addi c1_i32_166 c31_i32_167
  let c1_i32_168 : BitVec 32 := 1#32
  ⟨c1_i32_166, v393, c1_i32_168⟩
def k0_off183 (k0_t40 : Fin k0_t40_loop.trips) (k0_t42 : Fin k0_t42_loop.trips) : Fin 2 → Nat :=
  let c0_i32_149 : BitVec 32 := 0#32
  let c1_i32_150 : BitVec 32 := 1#32
  let arg14 : BitVec 32 := Scf.iv c0_i32_149 c1_i32_150 k0_t40
  let c16_i32_156 : BitVec 32 := 16#32
  let v342 : BitVec 32 := Scalar.muli arg14 c16_i32_156
  let c1_i32_164 : BitVec 32 := 1#32
  let v387 : BitVec 32 := Scalar.addi v342 c1_i32_164
  let v684 : Index := Scalar.indexCast v387
  let c1_i32_166 : BitVec 32 := 1#32
  let c1_i32_168 : BitVec 32 := 1#32
  let arg15 : BitVec 32 := Scf.iv c1_i32_166 c1_i32_168 k0_t42
  let c16_i32_273 : BitVec 32 := 16#32
  let v683 : BitVec 32 := Scalar.muli arg15 c16_i32_273
  let v685 : Index := Scalar.indexCast v683
  ![v684.toNat, v685.toNat]
def k0_off184 (v386 : BitVec 32) (k0_t42 : Fin k0_t42_loop.trips) : Fin 2 → Nat :=
  let v692 : Index := Scalar.indexCast v386
  let c1_i32_166 : BitVec 32 := 1#32
  let c1_i32_168 : BitVec 32 := 1#32
  let arg15 : BitVec 32 := Scf.iv c1_i32_166 c1_i32_168 k0_t42
  let c1_i32_274 : BitVec 32 := 1#32
  let v690 : BitVec 32 := Scalar.subi arg15 c1_i32_274
  let c16_i32_275 : BitVec 32 := 16#32
  let v691 : BitVec 32 := Scalar.muli v690 c16_i32_275
  let v693 : Index := Scalar.indexCast v691
  ![v692.toNat, v693.toNat]

def k0_off185 (v386 : BitVec 32) : Fin 2 → Nat :=
  let v395 : Index := Scalar.indexCast v386
  let c496_170 : Index := 496#32
  ![v395.toNat, 496]

def k0_chk39 (i : grid0.Coords) (v66_0 : BitVec 32) (v74 : BitVec 32) (v79 : BitVec 32) (v84 : BitVec 32) (v89 : BitVec 32) (v94 : BitVec 32) (v99 : BitVec 32) (v104 : BitVec 32) (v109 : BitVec 32) (v114 : BitVec 32) (v119 : BitVec 32) (v124 : BitVec 32) (v129 : BitVec 32) (v134 : BitVec 32) (v139 : BitVec 32) (v144 : BitVec 32) (v149 : BitVec 32) (v158_0 : BitVec 32) (v166 : BitVec 32) (v171 : BitVec 32) (v176 : BitVec 32) (v181 : BitVec 32) (v186 : BitVec 32) (v191 : BitVec 32) (v196 : BitVec 32) (v201 : BitVec 32) (v206 : BitVec 32) (v211 : BitVec 32) (v216 : BitVec 32) (v221 : BitVec 32) (v226 : BitVec 32) (v231 : BitVec 32) (v236 : BitVec 32) (v241 : BitVec 32) (k0_t39 : Fin (k0_t39_loop i v66_0 v74 v79 v84 v89 v94 v99 v104 v109 v114 v119 v124 v129 v134 v139 v144 v149 v158_0 v166 v171 v176 v181 v186 v191 v196 v201 v206 v211 v216 v221 v226 v231 v236 v241).trips) (v386 : BitVec 32) : Prop :=
  (∀ k0_t42 : Fin k0_t42_loop.trips, ∀ (k0_h7 : k0_cond7 i v66_0 v74 v79 v84 v89 v94 v99 v104 v109 v114 v119 v124 v129 v134 v139 v144 v149 v158_0 v166 v171 v176 v181 v186 v191 v196 v201 v206 v211 v216 v221 v226 v231 v236 v241 k0_t39 = 1#1), ∀ a, (k0_off184 v386 k0_t42) a + S1x16.size a ≤ S32x512.size a) ∧
  (∀ (k0_h7 : k0_cond7 i v66_0 v74 v79 v84 v89 v94 v99 v104 v109 v114 v119 v124 v129 v134 v139 v144 v149 v158_0 v166 v171 v176 v181 v186 v191 v196 v201 v206 v211 v216 v221 v226 v231 v236 v241 k0_t39 = 1#1), ∀ a, (k0_off185 v386) a + S1x16.size a ≤ S32x512.size a)
theorem k0_off184_inb : ∀ (i : grid0.Coords) (v66_0 : BitVec 32) (v74 : BitVec 32) (v79 : BitVec 32) (v84 : BitVec 32) (v89 : BitVec 32) (v94 : BitVec 32) (v99 : BitVec 32) (v104 : BitVec 32) (v109 : BitVec 32) (v114 : BitVec 32) (v119 : BitVec 32) (v124 : BitVec 32) (v129 : BitVec 32) (v134 : BitVec 32) (v139 : BitVec 32) (v144 : BitVec 32) (v149 : BitVec 32) (v158_0 : BitVec 32) (v166 : BitVec 32) (v171 : BitVec 32) (v176 : BitVec 32) (v181 : BitVec 32) (v186 : BitVec 32) (v191 : BitVec 32) (v196 : BitVec 32) (v201 : BitVec 32) (v206 : BitVec 32) (v211 : BitVec 32) (v216 : BitVec 32) (v221 : BitVec 32) (v226 : BitVec 32) (v231 : BitVec 32) (v236 : BitVec 32) (v241 : BitVec 32) (k0_t39 : Fin (k0_t39_loop i v66_0 v74 v79 v84 v89 v94 v99 v104 v109 v114 v119 v124 v129 v134 v139 v144 v149 v158_0 v166 v171 v176 v181 v186 v191 v196 v201 v206 v211 v216 v221 v226 v231 v236 v241).trips) (v386 : BitVec 32) (k0_hw39 : k0_chk39 i v66_0 v74 v79 v84 v89 v94 v99 v104 v109 v114 v119 v124 v129 v134 v139 v144 v149 v158_0 v166 v171 v176 v181 v186 v191 v196 v201 v206 v211 v216 v221 v226 v231 v236 v241 k0_t39 v386) (k0_t42 : Fin k0_t42_loop.trips), ∀ (k0_h7 : k0_cond7 i v66_0 v74 v79 v84 v89 v94 v99 v104 v109 v114 v119 v124 v129 v134 v139 v144 v149 v158_0 v166 v171 v176 v181 v186 v191 v196 v201 v206 v211 v216 v221 v226 v231 v236 v241 k0_t39 = 1#1), ∀ a, (k0_off184 v386 k0_t42) a + S1x16.size a ≤ S32x512.size a := fun i v66_0 v74 v79 v84 v89 v94 v99 v104 v109 v114 v119 v124 v129 v134 v139 v144 v149 v158_0 v166 v171 v176 v181 v186 v191 v196 v201 v206 v211 v216 v221 v226 v231 v236 v241 k0_t39 v386 k0_hw39 k0_t42 k0_h7 => k0_hw39.1 k0_t42 k0_h7
theorem k0_off185_inb : ∀ (i : grid0.Coords) (v66_0 : BitVec 32) (v74 : BitVec 32) (v79 : BitVec 32) (v84 : BitVec 32) (v89 : BitVec 32) (v94 : BitVec 32) (v99 : BitVec 32) (v104 : BitVec 32) (v109 : BitVec 32) (v114 : BitVec 32) (v119 : BitVec 32) (v124 : BitVec 32) (v129 : BitVec 32) (v134 : BitVec 32) (v139 : BitVec 32) (v144 : BitVec 32) (v149 : BitVec 32) (v158_0 : BitVec 32) (v166 : BitVec 32) (v171 : BitVec 32) (v176 : BitVec 32) (v181 : BitVec 32) (v186 : BitVec 32) (v191 : BitVec 32) (v196 : BitVec 32) (v201 : BitVec 32) (v206 : BitVec 32) (v211 : BitVec 32) (v216 : BitVec 32) (v221 : BitVec 32) (v226 : BitVec 32) (v231 : BitVec 32) (v236 : BitVec 32) (v241 : BitVec 32) (k0_t39 : Fin (k0_t39_loop i v66_0 v74 v79 v84 v89 v94 v99 v104 v109 v114 v119 v124 v129 v134 v139 v144 v149 v158_0 v166 v171 v176 v181 v186 v191 v196 v201 v206 v211 v216 v221 v226 v231 v236 v241).trips) (v386 : BitVec 32) (k0_hw39 : k0_chk39 i v66_0 v74 v79 v84 v89 v94 v99 v104 v109 v114 v119 v124 v129 v134 v139 v144 v149 v158_0 v166 v171 v176 v181 v186 v191 v196 v201 v206 v211 v216 v221 v226 v231 v236 v241 k0_t39 v386), ∀ (k0_h7 : k0_cond7 i v66_0 v74 v79 v84 v89 v94 v99 v104 v109 v114 v119 v124 v129 v134 v139 v144 v149 v158_0 v166 v171 v176 v181 v186 v191 v196 v201 v206 v211 v216 v221 v226 v231 v236 v241 k0_t39 = 1#1), ∀ a, (k0_off185 v386) a + S1x16.size a ≤ S32x512.size a := fun i v66_0 v74 v79 v84 v89 v94 v99 v104 v109 v114 v119 v124 v129 v134 v139 v144 v149 v158_0 v166 v171 v176 v181 v186 v191 v196 v201 v206 v211 v216 v221 v226 v231 v236 v241 k0_t39 v386 k0_hw39 k0_h7 => k0_hw39.2 k0_h7

def k0_off186 (k0_t40 : Fin k0_t40_loop.trips) : Fin 2 → Nat :=
  let c0_i32_149 : BitVec 32 := 0#32
  let c1_i32_150 : BitVec 32 := 1#32
  let arg14 : BitVec 32 := Scf.iv c0_i32_149 c1_i32_150 k0_t40
  let c16_i32_156 : BitVec 32 := 16#32
  let v342 : BitVec 32 := Scalar.muli arg14 c16_i32_156
  let c2_i32_172 : BitVec 32 := 2#32
  let v407 : BitVec 32 := Scalar.addi v342 c2_i32_172
  let v408 : Index := Scalar.indexCast v407
  let c0_173 : Index := 0#32
  ![v408.toNat, 0]
@[reducible] def k0_t43_loop : Scf.Loop 32 :=
  let c1_i32_174 : BitVec 32 := 1#32
  let c31_i32_175 : BitVec 32 := 31#32
  let v413 : BitVec 32 := Scalar.addi c1_i32_174 c31_i32_175
  let c1_i32_176 : BitVec 32 := 1#32
  ⟨c1_i32_174, v413, c1_i32_176⟩
def k0_off187 (k0_t40 : Fin k0_t40_loop.trips) (k0_t43 : Fin k0_t43_loop.trips) : Fin 2 → Nat :=
  let c0_i32_149 : BitVec 32 := 0#32
  let c1_i32_150 : BitVec 32 := 1#32
  let arg14 : BitVec 32 := Scf.iv c0_i32_149 c1_i32_150 k0_t40
  let c16_i32_156 : BitVec 32 := 16#32
  let v342 : BitVec 32 := Scalar.muli arg14 c16_i32_156
  let c2_i32_172 : BitVec 32 := 2#32
  let v407 : BitVec 32 := Scalar.addi v342 c2_i32_172
  let v684 : Index := Scalar.indexCast v407
  let c1_i32_174 : BitVec 32 := 1#32
  let c1_i32_176 : BitVec 32 := 1#32
  let arg15 : BitVec 32 := Scf.iv c1_i32_174 c1_i32_176 k0_t43
  let c16_i32_273 : BitVec 32 := 16#32
  let v683 : BitVec 32 := Scalar.muli arg15 c16_i32_273
  let v685 : Index := Scalar.indexCast v683
  ![v684.toNat, v685.toNat]
def k0_off188 (v406 : BitVec 32) (k0_t43 : Fin k0_t43_loop.trips) : Fin 2 → Nat :=
  let v692 : Index := Scalar.indexCast v406
  let c1_i32_174 : BitVec 32 := 1#32
  let c1_i32_176 : BitVec 32 := 1#32
  let arg15 : BitVec 32 := Scf.iv c1_i32_174 c1_i32_176 k0_t43
  let c1_i32_274 : BitVec 32 := 1#32
  let v690 : BitVec 32 := Scalar.subi arg15 c1_i32_274
  let c16_i32_275 : BitVec 32 := 16#32
  let v691 : BitVec 32 := Scalar.muli v690 c16_i32_275
  let v693 : Index := Scalar.indexCast v691
  ![v692.toNat, v693.toNat]

def k0_off189 (v406 : BitVec 32) : Fin 2 → Nat :=
  let v415 : Index := Scalar.indexCast v406
  let c496_178 : Index := 496#32
  ![v415.toNat, 496]

def k0_chk40 (i : grid0.Coords) (v66_0 : BitVec 32) (v74 : BitVec 32) (v79 : BitVec 32) (v84 : BitVec 32) (v89 : BitVec 32) (v94 : BitVec 32) (v99 : BitVec 32) (v104 : BitVec 32) (v109 : BitVec 32) (v114 : BitVec 32) (v119 : BitVec 32) (v124 : BitVec 32) (v129 : BitVec 32) (v134 : BitVec 32) (v139 : BitVec 32) (v144 : BitVec 32) (v149 : BitVec 32) (v158_0 : BitVec 32) (v166 : BitVec 32) (v171 : BitVec 32) (v176 : BitVec 32) (v181 : BitVec 32) (v186 : BitVec 32) (v191 : BitVec 32) (v196 : BitVec 32) (v201 : BitVec 32) (v206 : BitVec 32) (v211 : BitVec 32) (v216 : BitVec 32) (v221 : BitVec 32) (v226 : BitVec 32) (v231 : BitVec 32) (v236 : BitVec 32) (v241 : BitVec 32) (k0_t39 : Fin (k0_t39_loop i v66_0 v74 v79 v84 v89 v94 v99 v104 v109 v114 v119 v124 v129 v134 v139 v144 v149 v158_0 v166 v171 v176 v181 v186 v191 v196 v201 v206 v211 v216 v221 v226 v231 v236 v241).trips) (v406 : BitVec 32) : Prop :=
  (∀ k0_t43 : Fin k0_t43_loop.trips, ∀ (k0_h7 : k0_cond7 i v66_0 v74 v79 v84 v89 v94 v99 v104 v109 v114 v119 v124 v129 v134 v139 v144 v149 v158_0 v166 v171 v176 v181 v186 v191 v196 v201 v206 v211 v216 v221 v226 v231 v236 v241 k0_t39 = 1#1), ∀ a, (k0_off188 v406 k0_t43) a + S1x16.size a ≤ S32x512.size a) ∧
  (∀ (k0_h7 : k0_cond7 i v66_0 v74 v79 v84 v89 v94 v99 v104 v109 v114 v119 v124 v129 v134 v139 v144 v149 v158_0 v166 v171 v176 v181 v186 v191 v196 v201 v206 v211 v216 v221 v226 v231 v236 v241 k0_t39 = 1#1), ∀ a, (k0_off189 v406) a + S1x16.size a ≤ S32x512.size a)
theorem k0_off188_inb : ∀ (i : grid0.Coords) (v66_0 : BitVec 32) (v74 : BitVec 32) (v79 : BitVec 32) (v84 : BitVec 32) (v89 : BitVec 32) (v94 : BitVec 32) (v99 : BitVec 32) (v104 : BitVec 32) (v109 : BitVec 32) (v114 : BitVec 32) (v119 : BitVec 32) (v124 : BitVec 32) (v129 : BitVec 32) (v134 : BitVec 32) (v139 : BitVec 32) (v144 : BitVec 32) (v149 : BitVec 32) (v158_0 : BitVec 32) (v166 : BitVec 32) (v171 : BitVec 32) (v176 : BitVec 32) (v181 : BitVec 32) (v186 : BitVec 32) (v191 : BitVec 32) (v196 : BitVec 32) (v201 : BitVec 32) (v206 : BitVec 32) (v211 : BitVec 32) (v216 : BitVec 32) (v221 : BitVec 32) (v226 : BitVec 32) (v231 : BitVec 32) (v236 : BitVec 32) (v241 : BitVec 32) (k0_t39 : Fin (k0_t39_loop i v66_0 v74 v79 v84 v89 v94 v99 v104 v109 v114 v119 v124 v129 v134 v139 v144 v149 v158_0 v166 v171 v176 v181 v186 v191 v196 v201 v206 v211 v216 v221 v226 v231 v236 v241).trips) (v406 : BitVec 32) (k0_hw40 : k0_chk40 i v66_0 v74 v79 v84 v89 v94 v99 v104 v109 v114 v119 v124 v129 v134 v139 v144 v149 v158_0 v166 v171 v176 v181 v186 v191 v196 v201 v206 v211 v216 v221 v226 v231 v236 v241 k0_t39 v406) (k0_t43 : Fin k0_t43_loop.trips), ∀ (k0_h7 : k0_cond7 i v66_0 v74 v79 v84 v89 v94 v99 v104 v109 v114 v119 v124 v129 v134 v139 v144 v149 v158_0 v166 v171 v176 v181 v186 v191 v196 v201 v206 v211 v216 v221 v226 v231 v236 v241 k0_t39 = 1#1), ∀ a, (k0_off188 v406 k0_t43) a + S1x16.size a ≤ S32x512.size a := fun i v66_0 v74 v79 v84 v89 v94 v99 v104 v109 v114 v119 v124 v129 v134 v139 v144 v149 v158_0 v166 v171 v176 v181 v186 v191 v196 v201 v206 v211 v216 v221 v226 v231 v236 v241 k0_t39 v406 k0_hw40 k0_t43 k0_h7 => k0_hw40.1 k0_t43 k0_h7
theorem k0_off189_inb : ∀ (i : grid0.Coords) (v66_0 : BitVec 32) (v74 : BitVec 32) (v79 : BitVec 32) (v84 : BitVec 32) (v89 : BitVec 32) (v94 : BitVec 32) (v99 : BitVec 32) (v104 : BitVec 32) (v109 : BitVec 32) (v114 : BitVec 32) (v119 : BitVec 32) (v124 : BitVec 32) (v129 : BitVec 32) (v134 : BitVec 32) (v139 : BitVec 32) (v144 : BitVec 32) (v149 : BitVec 32) (v158_0 : BitVec 32) (v166 : BitVec 32) (v171 : BitVec 32) (v176 : BitVec 32) (v181 : BitVec 32) (v186 : BitVec 32) (v191 : BitVec 32) (v196 : BitVec 32) (v201 : BitVec 32) (v206 : BitVec 32) (v211 : BitVec 32) (v216 : BitVec 32) (v221 : BitVec 32) (v226 : BitVec 32) (v231 : BitVec 32) (v236 : BitVec 32) (v241 : BitVec 32) (k0_t39 : Fin (k0_t39_loop i v66_0 v74 v79 v84 v89 v94 v99 v104 v109 v114 v119 v124 v129 v134 v139 v144 v149 v158_0 v166 v171 v176 v181 v186 v191 v196 v201 v206 v211 v216 v221 v226 v231 v236 v241).trips) (v406 : BitVec 32) (k0_hw40 : k0_chk40 i v66_0 v74 v79 v84 v89 v94 v99 v104 v109 v114 v119 v124 v129 v134 v139 v144 v149 v158_0 v166 v171 v176 v181 v186 v191 v196 v201 v206 v211 v216 v221 v226 v231 v236 v241 k0_t39 v406), ∀ (k0_h7 : k0_cond7 i v66_0 v74 v79 v84 v89 v94 v99 v104 v109 v114 v119 v124 v129 v134 v139 v144 v149 v158_0 v166 v171 v176 v181 v186 v191 v196 v201 v206 v211 v216 v221 v226 v231 v236 v241 k0_t39 = 1#1), ∀ a, (k0_off189 v406) a + S1x16.size a ≤ S32x512.size a := fun i v66_0 v74 v79 v84 v89 v94 v99 v104 v109 v114 v119 v124 v129 v134 v139 v144 v149 v158_0 v166 v171 v176 v181 v186 v191 v196 v201 v206 v211 v216 v221 v226 v231 v236 v241 k0_t39 v406 k0_hw40 k0_h7 => k0_hw40.2 k0_h7

def k0_off190 (k0_t40 : Fin k0_t40_loop.trips) : Fin 2 → Nat :=
  let c0_i32_149 : BitVec 32 := 0#32
  let c1_i32_150 : BitVec 32 := 1#32
  let arg14 : BitVec 32 := Scf.iv c0_i32_149 c1_i32_150 k0_t40
  let c16_i32_156 : BitVec 32 := 16#32
  let v342 : BitVec 32 := Scalar.muli arg14 c16_i32_156
  let c3_i32 : BitVec 32 := 3#32
  let v427 : BitVec 32 := Scalar.addi v342 c3_i32
  let v428 : Index := Scalar.indexCast v427
  let c0_180 : Index := 0#32
  ![v428.toNat, 0]
@[reducible] def k0_t44_loop : Scf.Loop 32 :=
  let c1_i32_181 : BitVec 32 := 1#32
  let c31_i32_182 : BitVec 32 := 31#32
  let v433 : BitVec 32 := Scalar.addi c1_i32_181 c31_i32_182
  let c1_i32_183 : BitVec 32 := 1#32
  ⟨c1_i32_181, v433, c1_i32_183⟩
def k0_off191 (k0_t40 : Fin k0_t40_loop.trips) (k0_t44 : Fin k0_t44_loop.trips) : Fin 2 → Nat :=
  let c0_i32_149 : BitVec 32 := 0#32
  let c1_i32_150 : BitVec 32 := 1#32
  let arg14 : BitVec 32 := Scf.iv c0_i32_149 c1_i32_150 k0_t40
  let c16_i32_156 : BitVec 32 := 16#32
  let v342 : BitVec 32 := Scalar.muli arg14 c16_i32_156
  let c3_i32 : BitVec 32 := 3#32
  let v427 : BitVec 32 := Scalar.addi v342 c3_i32
  let v684 : Index := Scalar.indexCast v427
  let c1_i32_181 : BitVec 32 := 1#32
  let c1_i32_183 : BitVec 32 := 1#32
  let arg15 : BitVec 32 := Scf.iv c1_i32_181 c1_i32_183 k0_t44
  let c16_i32_273 : BitVec 32 := 16#32
  let v683 : BitVec 32 := Scalar.muli arg15 c16_i32_273
  let v685 : Index := Scalar.indexCast v683
  ![v684.toNat, v685.toNat]
def k0_off192 (v426 : BitVec 32) (k0_t44 : Fin k0_t44_loop.trips) : Fin 2 → Nat :=
  let v692 : Index := Scalar.indexCast v426
  let c1_i32_181 : BitVec 32 := 1#32
  let c1_i32_183 : BitVec 32 := 1#32
  let arg15 : BitVec 32 := Scf.iv c1_i32_181 c1_i32_183 k0_t44
  let c1_i32_274 : BitVec 32 := 1#32
  let v690 : BitVec 32 := Scalar.subi arg15 c1_i32_274
  let c16_i32_275 : BitVec 32 := 16#32
  let v691 : BitVec 32 := Scalar.muli v690 c16_i32_275
  let v693 : Index := Scalar.indexCast v691
  ![v692.toNat, v693.toNat]

def k0_off193 (v426 : BitVec 32) : Fin 2 → Nat :=
  let v435 : Index := Scalar.indexCast v426
  let c496_185 : Index := 496#32
  ![v435.toNat, 496]

def k0_chk41 (i : grid0.Coords) (v66_0 : BitVec 32) (v74 : BitVec 32) (v79 : BitVec 32) (v84 : BitVec 32) (v89 : BitVec 32) (v94 : BitVec 32) (v99 : BitVec 32) (v104 : BitVec 32) (v109 : BitVec 32) (v114 : BitVec 32) (v119 : BitVec 32) (v124 : BitVec 32) (v129 : BitVec 32) (v134 : BitVec 32) (v139 : BitVec 32) (v144 : BitVec 32) (v149 : BitVec 32) (v158_0 : BitVec 32) (v166 : BitVec 32) (v171 : BitVec 32) (v176 : BitVec 32) (v181 : BitVec 32) (v186 : BitVec 32) (v191 : BitVec 32) (v196 : BitVec 32) (v201 : BitVec 32) (v206 : BitVec 32) (v211 : BitVec 32) (v216 : BitVec 32) (v221 : BitVec 32) (v226 : BitVec 32) (v231 : BitVec 32) (v236 : BitVec 32) (v241 : BitVec 32) (k0_t39 : Fin (k0_t39_loop i v66_0 v74 v79 v84 v89 v94 v99 v104 v109 v114 v119 v124 v129 v134 v139 v144 v149 v158_0 v166 v171 v176 v181 v186 v191 v196 v201 v206 v211 v216 v221 v226 v231 v236 v241).trips) (v426 : BitVec 32) : Prop :=
  (∀ k0_t44 : Fin k0_t44_loop.trips, ∀ (k0_h7 : k0_cond7 i v66_0 v74 v79 v84 v89 v94 v99 v104 v109 v114 v119 v124 v129 v134 v139 v144 v149 v158_0 v166 v171 v176 v181 v186 v191 v196 v201 v206 v211 v216 v221 v226 v231 v236 v241 k0_t39 = 1#1), ∀ a, (k0_off192 v426 k0_t44) a + S1x16.size a ≤ S32x512.size a) ∧
  (∀ (k0_h7 : k0_cond7 i v66_0 v74 v79 v84 v89 v94 v99 v104 v109 v114 v119 v124 v129 v134 v139 v144 v149 v158_0 v166 v171 v176 v181 v186 v191 v196 v201 v206 v211 v216 v221 v226 v231 v236 v241 k0_t39 = 1#1), ∀ a, (k0_off193 v426) a + S1x16.size a ≤ S32x512.size a)
theorem k0_off192_inb : ∀ (i : grid0.Coords) (v66_0 : BitVec 32) (v74 : BitVec 32) (v79 : BitVec 32) (v84 : BitVec 32) (v89 : BitVec 32) (v94 : BitVec 32) (v99 : BitVec 32) (v104 : BitVec 32) (v109 : BitVec 32) (v114 : BitVec 32) (v119 : BitVec 32) (v124 : BitVec 32) (v129 : BitVec 32) (v134 : BitVec 32) (v139 : BitVec 32) (v144 : BitVec 32) (v149 : BitVec 32) (v158_0 : BitVec 32) (v166 : BitVec 32) (v171 : BitVec 32) (v176 : BitVec 32) (v181 : BitVec 32) (v186 : BitVec 32) (v191 : BitVec 32) (v196 : BitVec 32) (v201 : BitVec 32) (v206 : BitVec 32) (v211 : BitVec 32) (v216 : BitVec 32) (v221 : BitVec 32) (v226 : BitVec 32) (v231 : BitVec 32) (v236 : BitVec 32) (v241 : BitVec 32) (k0_t39 : Fin (k0_t39_loop i v66_0 v74 v79 v84 v89 v94 v99 v104 v109 v114 v119 v124 v129 v134 v139 v144 v149 v158_0 v166 v171 v176 v181 v186 v191 v196 v201 v206 v211 v216 v221 v226 v231 v236 v241).trips) (v426 : BitVec 32) (k0_hw41 : k0_chk41 i v66_0 v74 v79 v84 v89 v94 v99 v104 v109 v114 v119 v124 v129 v134 v139 v144 v149 v158_0 v166 v171 v176 v181 v186 v191 v196 v201 v206 v211 v216 v221 v226 v231 v236 v241 k0_t39 v426) (k0_t44 : Fin k0_t44_loop.trips), ∀ (k0_h7 : k0_cond7 i v66_0 v74 v79 v84 v89 v94 v99 v104 v109 v114 v119 v124 v129 v134 v139 v144 v149 v158_0 v166 v171 v176 v181 v186 v191 v196 v201 v206 v211 v216 v221 v226 v231 v236 v241 k0_t39 = 1#1), ∀ a, (k0_off192 v426 k0_t44) a + S1x16.size a ≤ S32x512.size a := fun i v66_0 v74 v79 v84 v89 v94 v99 v104 v109 v114 v119 v124 v129 v134 v139 v144 v149 v158_0 v166 v171 v176 v181 v186 v191 v196 v201 v206 v211 v216 v221 v226 v231 v236 v241 k0_t39 v426 k0_hw41 k0_t44 k0_h7 => k0_hw41.1 k0_t44 k0_h7
theorem k0_off193_inb : ∀ (i : grid0.Coords) (v66_0 : BitVec 32) (v74 : BitVec 32) (v79 : BitVec 32) (v84 : BitVec 32) (v89 : BitVec 32) (v94 : BitVec 32) (v99 : BitVec 32) (v104 : BitVec 32) (v109 : BitVec 32) (v114 : BitVec 32) (v119 : BitVec 32) (v124 : BitVec 32) (v129 : BitVec 32) (v134 : BitVec 32) (v139 : BitVec 32) (v144 : BitVec 32) (v149 : BitVec 32) (v158_0 : BitVec 32) (v166 : BitVec 32) (v171 : BitVec 32) (v176 : BitVec 32) (v181 : BitVec 32) (v186 : BitVec 32) (v191 : BitVec 32) (v196 : BitVec 32) (v201 : BitVec 32) (v206 : BitVec 32) (v211 : BitVec 32) (v216 : BitVec 32) (v221 : BitVec 32) (v226 : BitVec 32) (v231 : BitVec 32) (v236 : BitVec 32) (v241 : BitVec 32) (k0_t39 : Fin (k0_t39_loop i v66_0 v74 v79 v84 v89 v94 v99 v104 v109 v114 v119 v124 v129 v134 v139 v144 v149 v158_0 v166 v171 v176 v181 v186 v191 v196 v201 v206 v211 v216 v221 v226 v231 v236 v241).trips) (v426 : BitVec 32) (k0_hw41 : k0_chk41 i v66_0 v74 v79 v84 v89 v94 v99 v104 v109 v114 v119 v124 v129 v134 v139 v144 v149 v158_0 v166 v171 v176 v181 v186 v191 v196 v201 v206 v211 v216 v221 v226 v231 v236 v241 k0_t39 v426), ∀ (k0_h7 : k0_cond7 i v66_0 v74 v79 v84 v89 v94 v99 v104 v109 v114 v119 v124 v129 v134 v139 v144 v149 v158_0 v166 v171 v176 v181 v186 v191 v196 v201 v206 v211 v216 v221 v226 v231 v236 v241 k0_t39 = 1#1), ∀ a, (k0_off193 v426) a + S1x16.size a ≤ S32x512.size a := fun i v66_0 v74 v79 v84 v89 v94 v99 v104 v109 v114 v119 v124 v129 v134 v139 v144 v149 v158_0 v166 v171 v176 v181 v186 v191 v196 v201 v206 v211 v216 v221 v226 v231 v236 v241 k0_t39 v426 k0_hw41 k0_h7 => k0_hw41.2 k0_h7

def k0_off194 (k0_t40 : Fin k0_t40_loop.trips) : Fin 2 → Nat :=
  let c0_i32_149 : BitVec 32 := 0#32
  let c1_i32_150 : BitVec 32 := 1#32
  let arg14 : BitVec 32 := Scf.iv c0_i32_149 c1_i32_150 k0_t40
  let c16_i32_156 : BitVec 32 := 16#32
  let v342 : BitVec 32 := Scalar.muli arg14 c16_i32_156
  let c4_i32_187 : BitVec 32 := 4#32
  let v447 : BitVec 32 := Scalar.addi v342 c4_i32_187
  let v448 : Index := Scalar.indexCast v447
  let c0_188 : Index := 0#32
  ![v448.toNat, 0]
@[reducible] def k0_t45_loop : Scf.Loop 32 :=
  let c1_i32_189 : BitVec 32 := 1#32
  let c31_i32_190 : BitVec 32 := 31#32
  let v453 : BitVec 32 := Scalar.addi c1_i32_189 c31_i32_190
  let c1_i32_191 : BitVec 32 := 1#32
  ⟨c1_i32_189, v453, c1_i32_191⟩
def k0_off195 (k0_t40 : Fin k0_t40_loop.trips) (k0_t45 : Fin k0_t45_loop.trips) : Fin 2 → Nat :=
  let c0_i32_149 : BitVec 32 := 0#32
  let c1_i32_150 : BitVec 32 := 1#32
  let arg14 : BitVec 32 := Scf.iv c0_i32_149 c1_i32_150 k0_t40
  let c16_i32_156 : BitVec 32 := 16#32
  let v342 : BitVec 32 := Scalar.muli arg14 c16_i32_156
  let c4_i32_187 : BitVec 32 := 4#32
  let v447 : BitVec 32 := Scalar.addi v342 c4_i32_187
  let v684 : Index := Scalar.indexCast v447
  let c1_i32_189 : BitVec 32 := 1#32
  let c1_i32_191 : BitVec 32 := 1#32
  let arg15 : BitVec 32 := Scf.iv c1_i32_189 c1_i32_191 k0_t45
  let c16_i32_273 : BitVec 32 := 16#32
  let v683 : BitVec 32 := Scalar.muli arg15 c16_i32_273
  let v685 : Index := Scalar.indexCast v683
  ![v684.toNat, v685.toNat]
def k0_off196 (v446 : BitVec 32) (k0_t45 : Fin k0_t45_loop.trips) : Fin 2 → Nat :=
  let v692 : Index := Scalar.indexCast v446
  let c1_i32_189 : BitVec 32 := 1#32
  let c1_i32_191 : BitVec 32 := 1#32
  let arg15 : BitVec 32 := Scf.iv c1_i32_189 c1_i32_191 k0_t45
  let c1_i32_274 : BitVec 32 := 1#32
  let v690 : BitVec 32 := Scalar.subi arg15 c1_i32_274
  let c16_i32_275 : BitVec 32 := 16#32
  let v691 : BitVec 32 := Scalar.muli v690 c16_i32_275
  let v693 : Index := Scalar.indexCast v691
  ![v692.toNat, v693.toNat]

def k0_off197 (v446 : BitVec 32) : Fin 2 → Nat :=
  let v455 : Index := Scalar.indexCast v446
  let c496_193 : Index := 496#32
  ![v455.toNat, 496]

def k0_chk42 (i : grid0.Coords) (v66_0 : BitVec 32) (v74 : BitVec 32) (v79 : BitVec 32) (v84 : BitVec 32) (v89 : BitVec 32) (v94 : BitVec 32) (v99 : BitVec 32) (v104 : BitVec 32) (v109 : BitVec 32) (v114 : BitVec 32) (v119 : BitVec 32) (v124 : BitVec 32) (v129 : BitVec 32) (v134 : BitVec 32) (v139 : BitVec 32) (v144 : BitVec 32) (v149 : BitVec 32) (v158_0 : BitVec 32) (v166 : BitVec 32) (v171 : BitVec 32) (v176 : BitVec 32) (v181 : BitVec 32) (v186 : BitVec 32) (v191 : BitVec 32) (v196 : BitVec 32) (v201 : BitVec 32) (v206 : BitVec 32) (v211 : BitVec 32) (v216 : BitVec 32) (v221 : BitVec 32) (v226 : BitVec 32) (v231 : BitVec 32) (v236 : BitVec 32) (v241 : BitVec 32) (k0_t39 : Fin (k0_t39_loop i v66_0 v74 v79 v84 v89 v94 v99 v104 v109 v114 v119 v124 v129 v134 v139 v144 v149 v158_0 v166 v171 v176 v181 v186 v191 v196 v201 v206 v211 v216 v221 v226 v231 v236 v241).trips) (v446 : BitVec 32) : Prop :=
  (∀ k0_t45 : Fin k0_t45_loop.trips, ∀ (k0_h7 : k0_cond7 i v66_0 v74 v79 v84 v89 v94 v99 v104 v109 v114 v119 v124 v129 v134 v139 v144 v149 v158_0 v166 v171 v176 v181 v186 v191 v196 v201 v206 v211 v216 v221 v226 v231 v236 v241 k0_t39 = 1#1), ∀ a, (k0_off196 v446 k0_t45) a + S1x16.size a ≤ S32x512.size a) ∧
  (∀ (k0_h7 : k0_cond7 i v66_0 v74 v79 v84 v89 v94 v99 v104 v109 v114 v119 v124 v129 v134 v139 v144 v149 v158_0 v166 v171 v176 v181 v186 v191 v196 v201 v206 v211 v216 v221 v226 v231 v236 v241 k0_t39 = 1#1), ∀ a, (k0_off197 v446) a + S1x16.size a ≤ S32x512.size a)
theorem k0_off196_inb : ∀ (i : grid0.Coords) (v66_0 : BitVec 32) (v74 : BitVec 32) (v79 : BitVec 32) (v84 : BitVec 32) (v89 : BitVec 32) (v94 : BitVec 32) (v99 : BitVec 32) (v104 : BitVec 32) (v109 : BitVec 32) (v114 : BitVec 32) (v119 : BitVec 32) (v124 : BitVec 32) (v129 : BitVec 32) (v134 : BitVec 32) (v139 : BitVec 32) (v144 : BitVec 32) (v149 : BitVec 32) (v158_0 : BitVec 32) (v166 : BitVec 32) (v171 : BitVec 32) (v176 : BitVec 32) (v181 : BitVec 32) (v186 : BitVec 32) (v191 : BitVec 32) (v196 : BitVec 32) (v201 : BitVec 32) (v206 : BitVec 32) (v211 : BitVec 32) (v216 : BitVec 32) (v221 : BitVec 32) (v226 : BitVec 32) (v231 : BitVec 32) (v236 : BitVec 32) (v241 : BitVec 32) (k0_t39 : Fin (k0_t39_loop i v66_0 v74 v79 v84 v89 v94 v99 v104 v109 v114 v119 v124 v129 v134 v139 v144 v149 v158_0 v166 v171 v176 v181 v186 v191 v196 v201 v206 v211 v216 v221 v226 v231 v236 v241).trips) (v446 : BitVec 32) (k0_hw42 : k0_chk42 i v66_0 v74 v79 v84 v89 v94 v99 v104 v109 v114 v119 v124 v129 v134 v139 v144 v149 v158_0 v166 v171 v176 v181 v186 v191 v196 v201 v206 v211 v216 v221 v226 v231 v236 v241 k0_t39 v446) (k0_t45 : Fin k0_t45_loop.trips), ∀ (k0_h7 : k0_cond7 i v66_0 v74 v79 v84 v89 v94 v99 v104 v109 v114 v119 v124 v129 v134 v139 v144 v149 v158_0 v166 v171 v176 v181 v186 v191 v196 v201 v206 v211 v216 v221 v226 v231 v236 v241 k0_t39 = 1#1), ∀ a, (k0_off196 v446 k0_t45) a + S1x16.size a ≤ S32x512.size a := fun i v66_0 v74 v79 v84 v89 v94 v99 v104 v109 v114 v119 v124 v129 v134 v139 v144 v149 v158_0 v166 v171 v176 v181 v186 v191 v196 v201 v206 v211 v216 v221 v226 v231 v236 v241 k0_t39 v446 k0_hw42 k0_t45 k0_h7 => k0_hw42.1 k0_t45 k0_h7
theorem k0_off197_inb : ∀ (i : grid0.Coords) (v66_0 : BitVec 32) (v74 : BitVec 32) (v79 : BitVec 32) (v84 : BitVec 32) (v89 : BitVec 32) (v94 : BitVec 32) (v99 : BitVec 32) (v104 : BitVec 32) (v109 : BitVec 32) (v114 : BitVec 32) (v119 : BitVec 32) (v124 : BitVec 32) (v129 : BitVec 32) (v134 : BitVec 32) (v139 : BitVec 32) (v144 : BitVec 32) (v149 : BitVec 32) (v158_0 : BitVec 32) (v166 : BitVec 32) (v171 : BitVec 32) (v176 : BitVec 32) (v181 : BitVec 32) (v186 : BitVec 32) (v191 : BitVec 32) (v196 : BitVec 32) (v201 : BitVec 32) (v206 : BitVec 32) (v211 : BitVec 32) (v216 : BitVec 32) (v221 : BitVec 32) (v226 : BitVec 32) (v231 : BitVec 32) (v236 : BitVec 32) (v241 : BitVec 32) (k0_t39 : Fin (k0_t39_loop i v66_0 v74 v79 v84 v89 v94 v99 v104 v109 v114 v119 v124 v129 v134 v139 v144 v149 v158_0 v166 v171 v176 v181 v186 v191 v196 v201 v206 v211 v216 v221 v226 v231 v236 v241).trips) (v446 : BitVec 32) (k0_hw42 : k0_chk42 i v66_0 v74 v79 v84 v89 v94 v99 v104 v109 v114 v119 v124 v129 v134 v139 v144 v149 v158_0 v166 v171 v176 v181 v186 v191 v196 v201 v206 v211 v216 v221 v226 v231 v236 v241 k0_t39 v446), ∀ (k0_h7 : k0_cond7 i v66_0 v74 v79 v84 v89 v94 v99 v104 v109 v114 v119 v124 v129 v134 v139 v144 v149 v158_0 v166 v171 v176 v181 v186 v191 v196 v201 v206 v211 v216 v221 v226 v231 v236 v241 k0_t39 = 1#1), ∀ a, (k0_off197 v446) a + S1x16.size a ≤ S32x512.size a := fun i v66_0 v74 v79 v84 v89 v94 v99 v104 v109 v114 v119 v124 v129 v134 v139 v144 v149 v158_0 v166 v171 v176 v181 v186 v191 v196 v201 v206 v211 v216 v221 v226 v231 v236 v241 k0_t39 v446 k0_hw42 k0_h7 => k0_hw42.2 k0_h7

def k0_off198 (k0_t40 : Fin k0_t40_loop.trips) : Fin 2 → Nat :=
  let c0_i32_149 : BitVec 32 := 0#32
  let c1_i32_150 : BitVec 32 := 1#32
  let arg14 : BitVec 32 := Scf.iv c0_i32_149 c1_i32_150 k0_t40
  let c16_i32_156 : BitVec 32 := 16#32
  let v342 : BitVec 32 := Scalar.muli arg14 c16_i32_156
  let c5_i32 : BitVec 32 := 5#32
  let v467 : BitVec 32 := Scalar.addi v342 c5_i32
  let v468 : Index := Scalar.indexCast v467
  let c0_195 : Index := 0#32
  ![v468.toNat, 0]
@[reducible] def k0_t46_loop : Scf.Loop 32 :=
  let c1_i32_196 : BitVec 32 := 1#32
  let c31_i32_197 : BitVec 32 := 31#32
  let v473 : BitVec 32 := Scalar.addi c1_i32_196 c31_i32_197
  let c1_i32_198 : BitVec 32 := 1#32
  ⟨c1_i32_196, v473, c1_i32_198⟩
def k0_off199 (k0_t40 : Fin k0_t40_loop.trips) (k0_t46 : Fin k0_t46_loop.trips) : Fin 2 → Nat :=
  let c0_i32_149 : BitVec 32 := 0#32
  let c1_i32_150 : BitVec 32 := 1#32
  let arg14 : BitVec 32 := Scf.iv c0_i32_149 c1_i32_150 k0_t40
  let c16_i32_156 : BitVec 32 := 16#32
  let v342 : BitVec 32 := Scalar.muli arg14 c16_i32_156
  let c5_i32 : BitVec 32 := 5#32
  let v467 : BitVec 32 := Scalar.addi v342 c5_i32
  let v684 : Index := Scalar.indexCast v467
  let c1_i32_196 : BitVec 32 := 1#32
  let c1_i32_198 : BitVec 32 := 1#32
  let arg15 : BitVec 32 := Scf.iv c1_i32_196 c1_i32_198 k0_t46
  let c16_i32_273 : BitVec 32 := 16#32
  let v683 : BitVec 32 := Scalar.muli arg15 c16_i32_273
  let v685 : Index := Scalar.indexCast v683
  ![v684.toNat, v685.toNat]
def k0_off200 (v466 : BitVec 32) (k0_t46 : Fin k0_t46_loop.trips) : Fin 2 → Nat :=
  let v692 : Index := Scalar.indexCast v466
  let c1_i32_196 : BitVec 32 := 1#32
  let c1_i32_198 : BitVec 32 := 1#32
  let arg15 : BitVec 32 := Scf.iv c1_i32_196 c1_i32_198 k0_t46
  let c1_i32_274 : BitVec 32 := 1#32
  let v690 : BitVec 32 := Scalar.subi arg15 c1_i32_274
  let c16_i32_275 : BitVec 32 := 16#32
  let v691 : BitVec 32 := Scalar.muli v690 c16_i32_275
  let v693 : Index := Scalar.indexCast v691
  ![v692.toNat, v693.toNat]

def k0_off201 (v466 : BitVec 32) : Fin 2 → Nat :=
  let v475 : Index := Scalar.indexCast v466
  let c496_200 : Index := 496#32
  ![v475.toNat, 496]

def k0_chk43 (i : grid0.Coords) (v66_0 : BitVec 32) (v74 : BitVec 32) (v79 : BitVec 32) (v84 : BitVec 32) (v89 : BitVec 32) (v94 : BitVec 32) (v99 : BitVec 32) (v104 : BitVec 32) (v109 : BitVec 32) (v114 : BitVec 32) (v119 : BitVec 32) (v124 : BitVec 32) (v129 : BitVec 32) (v134 : BitVec 32) (v139 : BitVec 32) (v144 : BitVec 32) (v149 : BitVec 32) (v158_0 : BitVec 32) (v166 : BitVec 32) (v171 : BitVec 32) (v176 : BitVec 32) (v181 : BitVec 32) (v186 : BitVec 32) (v191 : BitVec 32) (v196 : BitVec 32) (v201 : BitVec 32) (v206 : BitVec 32) (v211 : BitVec 32) (v216 : BitVec 32) (v221 : BitVec 32) (v226 : BitVec 32) (v231 : BitVec 32) (v236 : BitVec 32) (v241 : BitVec 32) (k0_t39 : Fin (k0_t39_loop i v66_0 v74 v79 v84 v89 v94 v99 v104 v109 v114 v119 v124 v129 v134 v139 v144 v149 v158_0 v166 v171 v176 v181 v186 v191 v196 v201 v206 v211 v216 v221 v226 v231 v236 v241).trips) (v466 : BitVec 32) : Prop :=
  (∀ k0_t46 : Fin k0_t46_loop.trips, ∀ (k0_h7 : k0_cond7 i v66_0 v74 v79 v84 v89 v94 v99 v104 v109 v114 v119 v124 v129 v134 v139 v144 v149 v158_0 v166 v171 v176 v181 v186 v191 v196 v201 v206 v211 v216 v221 v226 v231 v236 v241 k0_t39 = 1#1), ∀ a, (k0_off200 v466 k0_t46) a + S1x16.size a ≤ S32x512.size a) ∧
  (∀ (k0_h7 : k0_cond7 i v66_0 v74 v79 v84 v89 v94 v99 v104 v109 v114 v119 v124 v129 v134 v139 v144 v149 v158_0 v166 v171 v176 v181 v186 v191 v196 v201 v206 v211 v216 v221 v226 v231 v236 v241 k0_t39 = 1#1), ∀ a, (k0_off201 v466) a + S1x16.size a ≤ S32x512.size a)
theorem k0_off200_inb : ∀ (i : grid0.Coords) (v66_0 : BitVec 32) (v74 : BitVec 32) (v79 : BitVec 32) (v84 : BitVec 32) (v89 : BitVec 32) (v94 : BitVec 32) (v99 : BitVec 32) (v104 : BitVec 32) (v109 : BitVec 32) (v114 : BitVec 32) (v119 : BitVec 32) (v124 : BitVec 32) (v129 : BitVec 32) (v134 : BitVec 32) (v139 : BitVec 32) (v144 : BitVec 32) (v149 : BitVec 32) (v158_0 : BitVec 32) (v166 : BitVec 32) (v171 : BitVec 32) (v176 : BitVec 32) (v181 : BitVec 32) (v186 : BitVec 32) (v191 : BitVec 32) (v196 : BitVec 32) (v201 : BitVec 32) (v206 : BitVec 32) (v211 : BitVec 32) (v216 : BitVec 32) (v221 : BitVec 32) (v226 : BitVec 32) (v231 : BitVec 32) (v236 : BitVec 32) (v241 : BitVec 32) (k0_t39 : Fin (k0_t39_loop i v66_0 v74 v79 v84 v89 v94 v99 v104 v109 v114 v119 v124 v129 v134 v139 v144 v149 v158_0 v166 v171 v176 v181 v186 v191 v196 v201 v206 v211 v216 v221 v226 v231 v236 v241).trips) (v466 : BitVec 32) (k0_hw43 : k0_chk43 i v66_0 v74 v79 v84 v89 v94 v99 v104 v109 v114 v119 v124 v129 v134 v139 v144 v149 v158_0 v166 v171 v176 v181 v186 v191 v196 v201 v206 v211 v216 v221 v226 v231 v236 v241 k0_t39 v466) (k0_t46 : Fin k0_t46_loop.trips), ∀ (k0_h7 : k0_cond7 i v66_0 v74 v79 v84 v89 v94 v99 v104 v109 v114 v119 v124 v129 v134 v139 v144 v149 v158_0 v166 v171 v176 v181 v186 v191 v196 v201 v206 v211 v216 v221 v226 v231 v236 v241 k0_t39 = 1#1), ∀ a, (k0_off200 v466 k0_t46) a + S1x16.size a ≤ S32x512.size a := fun i v66_0 v74 v79 v84 v89 v94 v99 v104 v109 v114 v119 v124 v129 v134 v139 v144 v149 v158_0 v166 v171 v176 v181 v186 v191 v196 v201 v206 v211 v216 v221 v226 v231 v236 v241 k0_t39 v466 k0_hw43 k0_t46 k0_h7 => k0_hw43.1 k0_t46 k0_h7
theorem k0_off201_inb : ∀ (i : grid0.Coords) (v66_0 : BitVec 32) (v74 : BitVec 32) (v79 : BitVec 32) (v84 : BitVec 32) (v89 : BitVec 32) (v94 : BitVec 32) (v99 : BitVec 32) (v104 : BitVec 32) (v109 : BitVec 32) (v114 : BitVec 32) (v119 : BitVec 32) (v124 : BitVec 32) (v129 : BitVec 32) (v134 : BitVec 32) (v139 : BitVec 32) (v144 : BitVec 32) (v149 : BitVec 32) (v158_0 : BitVec 32) (v166 : BitVec 32) (v171 : BitVec 32) (v176 : BitVec 32) (v181 : BitVec 32) (v186 : BitVec 32) (v191 : BitVec 32) (v196 : BitVec 32) (v201 : BitVec 32) (v206 : BitVec 32) (v211 : BitVec 32) (v216 : BitVec 32) (v221 : BitVec 32) (v226 : BitVec 32) (v231 : BitVec 32) (v236 : BitVec 32) (v241 : BitVec 32) (k0_t39 : Fin (k0_t39_loop i v66_0 v74 v79 v84 v89 v94 v99 v104 v109 v114 v119 v124 v129 v134 v139 v144 v149 v158_0 v166 v171 v176 v181 v186 v191 v196 v201 v206 v211 v216 v221 v226 v231 v236 v241).trips) (v466 : BitVec 32) (k0_hw43 : k0_chk43 i v66_0 v74 v79 v84 v89 v94 v99 v104 v109 v114 v119 v124 v129 v134 v139 v144 v149 v158_0 v166 v171 v176 v181 v186 v191 v196 v201 v206 v211 v216 v221 v226 v231 v236 v241 k0_t39 v466), ∀ (k0_h7 : k0_cond7 i v66_0 v74 v79 v84 v89 v94 v99 v104 v109 v114 v119 v124 v129 v134 v139 v144 v149 v158_0 v166 v171 v176 v181 v186 v191 v196 v201 v206 v211 v216 v221 v226 v231 v236 v241 k0_t39 = 1#1), ∀ a, (k0_off201 v466) a + S1x16.size a ≤ S32x512.size a := fun i v66_0 v74 v79 v84 v89 v94 v99 v104 v109 v114 v119 v124 v129 v134 v139 v144 v149 v158_0 v166 v171 v176 v181 v186 v191 v196 v201 v206 v211 v216 v221 v226 v231 v236 v241 k0_t39 v466 k0_hw43 k0_h7 => k0_hw43.2 k0_h7

def k0_off202 (k0_t40 : Fin k0_t40_loop.trips) : Fin 2 → Nat :=
  let c0_i32_149 : BitVec 32 := 0#32
  let c1_i32_150 : BitVec 32 := 1#32
  let arg14 : BitVec 32 := Scf.iv c0_i32_149 c1_i32_150 k0_t40
  let c16_i32_156 : BitVec 32 := 16#32
  let v342 : BitVec 32 := Scalar.muli arg14 c16_i32_156
  let c6_i32 : BitVec 32 := 6#32
  let v487 : BitVec 32 := Scalar.addi v342 c6_i32
  let v488 : Index := Scalar.indexCast v487
  let c0_202 : Index := 0#32
  ![v488.toNat, 0]
@[reducible] def k0_t47_loop : Scf.Loop 32 :=
  let c1_i32_203 : BitVec 32 := 1#32
  let c31_i32_204 : BitVec 32 := 31#32
  let v493 : BitVec 32 := Scalar.addi c1_i32_203 c31_i32_204
  let c1_i32_205 : BitVec 32 := 1#32
  ⟨c1_i32_203, v493, c1_i32_205⟩
def k0_off203 (k0_t40 : Fin k0_t40_loop.trips) (k0_t47 : Fin k0_t47_loop.trips) : Fin 2 → Nat :=
  let c0_i32_149 : BitVec 32 := 0#32
  let c1_i32_150 : BitVec 32 := 1#32
  let arg14 : BitVec 32 := Scf.iv c0_i32_149 c1_i32_150 k0_t40
  let c16_i32_156 : BitVec 32 := 16#32
  let v342 : BitVec 32 := Scalar.muli arg14 c16_i32_156
  let c6_i32 : BitVec 32 := 6#32
  let v487 : BitVec 32 := Scalar.addi v342 c6_i32
  let v684 : Index := Scalar.indexCast v487
  let c1_i32_203 : BitVec 32 := 1#32
  let c1_i32_205 : BitVec 32 := 1#32
  let arg15 : BitVec 32 := Scf.iv c1_i32_203 c1_i32_205 k0_t47
  let c16_i32_273 : BitVec 32 := 16#32
  let v683 : BitVec 32 := Scalar.muli arg15 c16_i32_273
  let v685 : Index := Scalar.indexCast v683
  ![v684.toNat, v685.toNat]
def k0_off204 (v486 : BitVec 32) (k0_t47 : Fin k0_t47_loop.trips) : Fin 2 → Nat :=
  let v692 : Index := Scalar.indexCast v486
  let c1_i32_203 : BitVec 32 := 1#32
  let c1_i32_205 : BitVec 32 := 1#32
  let arg15 : BitVec 32 := Scf.iv c1_i32_203 c1_i32_205 k0_t47
  let c1_i32_274 : BitVec 32 := 1#32
  let v690 : BitVec 32 := Scalar.subi arg15 c1_i32_274
  let c16_i32_275 : BitVec 32 := 16#32
  let v691 : BitVec 32 := Scalar.muli v690 c16_i32_275
  let v693 : Index := Scalar.indexCast v691
  ![v692.toNat, v693.toNat]

def k0_off205 (v486 : BitVec 32) : Fin 2 → Nat :=
  let v495 : Index := Scalar.indexCast v486
  let c496_207 : Index := 496#32
  ![v495.toNat, 496]

def k0_chk44 (i : grid0.Coords) (v66_0 : BitVec 32) (v74 : BitVec 32) (v79 : BitVec 32) (v84 : BitVec 32) (v89 : BitVec 32) (v94 : BitVec 32) (v99 : BitVec 32) (v104 : BitVec 32) (v109 : BitVec 32) (v114 : BitVec 32) (v119 : BitVec 32) (v124 : BitVec 32) (v129 : BitVec 32) (v134 : BitVec 32) (v139 : BitVec 32) (v144 : BitVec 32) (v149 : BitVec 32) (v158_0 : BitVec 32) (v166 : BitVec 32) (v171 : BitVec 32) (v176 : BitVec 32) (v181 : BitVec 32) (v186 : BitVec 32) (v191 : BitVec 32) (v196 : BitVec 32) (v201 : BitVec 32) (v206 : BitVec 32) (v211 : BitVec 32) (v216 : BitVec 32) (v221 : BitVec 32) (v226 : BitVec 32) (v231 : BitVec 32) (v236 : BitVec 32) (v241 : BitVec 32) (k0_t39 : Fin (k0_t39_loop i v66_0 v74 v79 v84 v89 v94 v99 v104 v109 v114 v119 v124 v129 v134 v139 v144 v149 v158_0 v166 v171 v176 v181 v186 v191 v196 v201 v206 v211 v216 v221 v226 v231 v236 v241).trips) (v486 : BitVec 32) : Prop :=
  (∀ k0_t47 : Fin k0_t47_loop.trips, ∀ (k0_h7 : k0_cond7 i v66_0 v74 v79 v84 v89 v94 v99 v104 v109 v114 v119 v124 v129 v134 v139 v144 v149 v158_0 v166 v171 v176 v181 v186 v191 v196 v201 v206 v211 v216 v221 v226 v231 v236 v241 k0_t39 = 1#1), ∀ a, (k0_off204 v486 k0_t47) a + S1x16.size a ≤ S32x512.size a) ∧
  (∀ (k0_h7 : k0_cond7 i v66_0 v74 v79 v84 v89 v94 v99 v104 v109 v114 v119 v124 v129 v134 v139 v144 v149 v158_0 v166 v171 v176 v181 v186 v191 v196 v201 v206 v211 v216 v221 v226 v231 v236 v241 k0_t39 = 1#1), ∀ a, (k0_off205 v486) a + S1x16.size a ≤ S32x512.size a)
theorem k0_off204_inb : ∀ (i : grid0.Coords) (v66_0 : BitVec 32) (v74 : BitVec 32) (v79 : BitVec 32) (v84 : BitVec 32) (v89 : BitVec 32) (v94 : BitVec 32) (v99 : BitVec 32) (v104 : BitVec 32) (v109 : BitVec 32) (v114 : BitVec 32) (v119 : BitVec 32) (v124 : BitVec 32) (v129 : BitVec 32) (v134 : BitVec 32) (v139 : BitVec 32) (v144 : BitVec 32) (v149 : BitVec 32) (v158_0 : BitVec 32) (v166 : BitVec 32) (v171 : BitVec 32) (v176 : BitVec 32) (v181 : BitVec 32) (v186 : BitVec 32) (v191 : BitVec 32) (v196 : BitVec 32) (v201 : BitVec 32) (v206 : BitVec 32) (v211 : BitVec 32) (v216 : BitVec 32) (v221 : BitVec 32) (v226 : BitVec 32) (v231 : BitVec 32) (v236 : BitVec 32) (v241 : BitVec 32) (k0_t39 : Fin (k0_t39_loop i v66_0 v74 v79 v84 v89 v94 v99 v104 v109 v114 v119 v124 v129 v134 v139 v144 v149 v158_0 v166 v171 v176 v181 v186 v191 v196 v201 v206 v211 v216 v221 v226 v231 v236 v241).trips) (v486 : BitVec 32) (k0_hw44 : k0_chk44 i v66_0 v74 v79 v84 v89 v94 v99 v104 v109 v114 v119 v124 v129 v134 v139 v144 v149 v158_0 v166 v171 v176 v181 v186 v191 v196 v201 v206 v211 v216 v221 v226 v231 v236 v241 k0_t39 v486) (k0_t47 : Fin k0_t47_loop.trips), ∀ (k0_h7 : k0_cond7 i v66_0 v74 v79 v84 v89 v94 v99 v104 v109 v114 v119 v124 v129 v134 v139 v144 v149 v158_0 v166 v171 v176 v181 v186 v191 v196 v201 v206 v211 v216 v221 v226 v231 v236 v241 k0_t39 = 1#1), ∀ a, (k0_off204 v486 k0_t47) a + S1x16.size a ≤ S32x512.size a := fun i v66_0 v74 v79 v84 v89 v94 v99 v104 v109 v114 v119 v124 v129 v134 v139 v144 v149 v158_0 v166 v171 v176 v181 v186 v191 v196 v201 v206 v211 v216 v221 v226 v231 v236 v241 k0_t39 v486 k0_hw44 k0_t47 k0_h7 => k0_hw44.1 k0_t47 k0_h7
theorem k0_off205_inb : ∀ (i : grid0.Coords) (v66_0 : BitVec 32) (v74 : BitVec 32) (v79 : BitVec 32) (v84 : BitVec 32) (v89 : BitVec 32) (v94 : BitVec 32) (v99 : BitVec 32) (v104 : BitVec 32) (v109 : BitVec 32) (v114 : BitVec 32) (v119 : BitVec 32) (v124 : BitVec 32) (v129 : BitVec 32) (v134 : BitVec 32) (v139 : BitVec 32) (v144 : BitVec 32) (v149 : BitVec 32) (v158_0 : BitVec 32) (v166 : BitVec 32) (v171 : BitVec 32) (v176 : BitVec 32) (v181 : BitVec 32) (v186 : BitVec 32) (v191 : BitVec 32) (v196 : BitVec 32) (v201 : BitVec 32) (v206 : BitVec 32) (v211 : BitVec 32) (v216 : BitVec 32) (v221 : BitVec 32) (v226 : BitVec 32) (v231 : BitVec 32) (v236 : BitVec 32) (v241 : BitVec 32) (k0_t39 : Fin (k0_t39_loop i v66_0 v74 v79 v84 v89 v94 v99 v104 v109 v114 v119 v124 v129 v134 v139 v144 v149 v158_0 v166 v171 v176 v181 v186 v191 v196 v201 v206 v211 v216 v221 v226 v231 v236 v241).trips) (v486 : BitVec 32) (k0_hw44 : k0_chk44 i v66_0 v74 v79 v84 v89 v94 v99 v104 v109 v114 v119 v124 v129 v134 v139 v144 v149 v158_0 v166 v171 v176 v181 v186 v191 v196 v201 v206 v211 v216 v221 v226 v231 v236 v241 k0_t39 v486), ∀ (k0_h7 : k0_cond7 i v66_0 v74 v79 v84 v89 v94 v99 v104 v109 v114 v119 v124 v129 v134 v139 v144 v149 v158_0 v166 v171 v176 v181 v186 v191 v196 v201 v206 v211 v216 v221 v226 v231 v236 v241 k0_t39 = 1#1), ∀ a, (k0_off205 v486) a + S1x16.size a ≤ S32x512.size a := fun i v66_0 v74 v79 v84 v89 v94 v99 v104 v109 v114 v119 v124 v129 v134 v139 v144 v149 v158_0 v166 v171 v176 v181 v186 v191 v196 v201 v206 v211 v216 v221 v226 v231 v236 v241 k0_t39 v486 k0_hw44 k0_h7 => k0_hw44.2 k0_h7

def k0_off206 (k0_t40 : Fin k0_t40_loop.trips) : Fin 2 → Nat :=
  let c0_i32_149 : BitVec 32 := 0#32
  let c1_i32_150 : BitVec 32 := 1#32
  let arg14 : BitVec 32 := Scf.iv c0_i32_149 c1_i32_150 k0_t40
  let c16_i32_156 : BitVec 32 := 16#32
  let v342 : BitVec 32 := Scalar.muli arg14 c16_i32_156
  let c7_i32 : BitVec 32 := 7#32
  let v507 : BitVec 32 := Scalar.addi v342 c7_i32
  let v508 : Index := Scalar.indexCast v507
  let c0_209 : Index := 0#32
  ![v508.toNat, 0]
@[reducible] def k0_t48_loop : Scf.Loop 32 :=
  let c1_i32_210 : BitVec 32 := 1#32
  let c31_i32_211 : BitVec 32 := 31#32
  let v513 : BitVec 32 := Scalar.addi c1_i32_210 c31_i32_211
  let c1_i32_212 : BitVec 32 := 1#32
  ⟨c1_i32_210, v513, c1_i32_212⟩
def k0_off207 (k0_t40 : Fin k0_t40_loop.trips) (k0_t48 : Fin k0_t48_loop.trips) : Fin 2 → Nat :=
  let c0_i32_149 : BitVec 32 := 0#32
  let c1_i32_150 : BitVec 32 := 1#32
  let arg14 : BitVec 32 := Scf.iv c0_i32_149 c1_i32_150 k0_t40
  let c16_i32_156 : BitVec 32 := 16#32
  let v342 : BitVec 32 := Scalar.muli arg14 c16_i32_156
  let c7_i32 : BitVec 32 := 7#32
  let v507 : BitVec 32 := Scalar.addi v342 c7_i32
  let v684 : Index := Scalar.indexCast v507
  let c1_i32_210 : BitVec 32 := 1#32
  let c1_i32_212 : BitVec 32 := 1#32
  let arg15 : BitVec 32 := Scf.iv c1_i32_210 c1_i32_212 k0_t48
  let c16_i32_273 : BitVec 32 := 16#32
  let v683 : BitVec 32 := Scalar.muli arg15 c16_i32_273
  let v685 : Index := Scalar.indexCast v683
  ![v684.toNat, v685.toNat]
def k0_off208 (v506 : BitVec 32) (k0_t48 : Fin k0_t48_loop.trips) : Fin 2 → Nat :=
  let v692 : Index := Scalar.indexCast v506
  let c1_i32_210 : BitVec 32 := 1#32
  let c1_i32_212 : BitVec 32 := 1#32
  let arg15 : BitVec 32 := Scf.iv c1_i32_210 c1_i32_212 k0_t48
  let c1_i32_274 : BitVec 32 := 1#32
  let v690 : BitVec 32 := Scalar.subi arg15 c1_i32_274
  let c16_i32_275 : BitVec 32 := 16#32
  let v691 : BitVec 32 := Scalar.muli v690 c16_i32_275
  let v693 : Index := Scalar.indexCast v691
  ![v692.toNat, v693.toNat]

def k0_off209 (v506 : BitVec 32) : Fin 2 → Nat :=
  let v515 : Index := Scalar.indexCast v506
  let c496_214 : Index := 496#32
  ![v515.toNat, 496]

def k0_chk45 (i : grid0.Coords) (v66_0 : BitVec 32) (v74 : BitVec 32) (v79 : BitVec 32) (v84 : BitVec 32) (v89 : BitVec 32) (v94 : BitVec 32) (v99 : BitVec 32) (v104 : BitVec 32) (v109 : BitVec 32) (v114 : BitVec 32) (v119 : BitVec 32) (v124 : BitVec 32) (v129 : BitVec 32) (v134 : BitVec 32) (v139 : BitVec 32) (v144 : BitVec 32) (v149 : BitVec 32) (v158_0 : BitVec 32) (v166 : BitVec 32) (v171 : BitVec 32) (v176 : BitVec 32) (v181 : BitVec 32) (v186 : BitVec 32) (v191 : BitVec 32) (v196 : BitVec 32) (v201 : BitVec 32) (v206 : BitVec 32) (v211 : BitVec 32) (v216 : BitVec 32) (v221 : BitVec 32) (v226 : BitVec 32) (v231 : BitVec 32) (v236 : BitVec 32) (v241 : BitVec 32) (k0_t39 : Fin (k0_t39_loop i v66_0 v74 v79 v84 v89 v94 v99 v104 v109 v114 v119 v124 v129 v134 v139 v144 v149 v158_0 v166 v171 v176 v181 v186 v191 v196 v201 v206 v211 v216 v221 v226 v231 v236 v241).trips) (v506 : BitVec 32) : Prop :=
  (∀ k0_t48 : Fin k0_t48_loop.trips, ∀ (k0_h7 : k0_cond7 i v66_0 v74 v79 v84 v89 v94 v99 v104 v109 v114 v119 v124 v129 v134 v139 v144 v149 v158_0 v166 v171 v176 v181 v186 v191 v196 v201 v206 v211 v216 v221 v226 v231 v236 v241 k0_t39 = 1#1), ∀ a, (k0_off208 v506 k0_t48) a + S1x16.size a ≤ S32x512.size a) ∧
  (∀ (k0_h7 : k0_cond7 i v66_0 v74 v79 v84 v89 v94 v99 v104 v109 v114 v119 v124 v129 v134 v139 v144 v149 v158_0 v166 v171 v176 v181 v186 v191 v196 v201 v206 v211 v216 v221 v226 v231 v236 v241 k0_t39 = 1#1), ∀ a, (k0_off209 v506) a + S1x16.size a ≤ S32x512.size a)
theorem k0_off208_inb : ∀ (i : grid0.Coords) (v66_0 : BitVec 32) (v74 : BitVec 32) (v79 : BitVec 32) (v84 : BitVec 32) (v89 : BitVec 32) (v94 : BitVec 32) (v99 : BitVec 32) (v104 : BitVec 32) (v109 : BitVec 32) (v114 : BitVec 32) (v119 : BitVec 32) (v124 : BitVec 32) (v129 : BitVec 32) (v134 : BitVec 32) (v139 : BitVec 32) (v144 : BitVec 32) (v149 : BitVec 32) (v158_0 : BitVec 32) (v166 : BitVec 32) (v171 : BitVec 32) (v176 : BitVec 32) (v181 : BitVec 32) (v186 : BitVec 32) (v191 : BitVec 32) (v196 : BitVec 32) (v201 : BitVec 32) (v206 : BitVec 32) (v211 : BitVec 32) (v216 : BitVec 32) (v221 : BitVec 32) (v226 : BitVec 32) (v231 : BitVec 32) (v236 : BitVec 32) (v241 : BitVec 32) (k0_t39 : Fin (k0_t39_loop i v66_0 v74 v79 v84 v89 v94 v99 v104 v109 v114 v119 v124 v129 v134 v139 v144 v149 v158_0 v166 v171 v176 v181 v186 v191 v196 v201 v206 v211 v216 v221 v226 v231 v236 v241).trips) (v506 : BitVec 32) (k0_hw45 : k0_chk45 i v66_0 v74 v79 v84 v89 v94 v99 v104 v109 v114 v119 v124 v129 v134 v139 v144 v149 v158_0 v166 v171 v176 v181 v186 v191 v196 v201 v206 v211 v216 v221 v226 v231 v236 v241 k0_t39 v506) (k0_t48 : Fin k0_t48_loop.trips), ∀ (k0_h7 : k0_cond7 i v66_0 v74 v79 v84 v89 v94 v99 v104 v109 v114 v119 v124 v129 v134 v139 v144 v149 v158_0 v166 v171 v176 v181 v186 v191 v196 v201 v206 v211 v216 v221 v226 v231 v236 v241 k0_t39 = 1#1), ∀ a, (k0_off208 v506 k0_t48) a + S1x16.size a ≤ S32x512.size a := fun i v66_0 v74 v79 v84 v89 v94 v99 v104 v109 v114 v119 v124 v129 v134 v139 v144 v149 v158_0 v166 v171 v176 v181 v186 v191 v196 v201 v206 v211 v216 v221 v226 v231 v236 v241 k0_t39 v506 k0_hw45 k0_t48 k0_h7 => k0_hw45.1 k0_t48 k0_h7
theorem k0_off209_inb : ∀ (i : grid0.Coords) (v66_0 : BitVec 32) (v74 : BitVec 32) (v79 : BitVec 32) (v84 : BitVec 32) (v89 : BitVec 32) (v94 : BitVec 32) (v99 : BitVec 32) (v104 : BitVec 32) (v109 : BitVec 32) (v114 : BitVec 32) (v119 : BitVec 32) (v124 : BitVec 32) (v129 : BitVec 32) (v134 : BitVec 32) (v139 : BitVec 32) (v144 : BitVec 32) (v149 : BitVec 32) (v158_0 : BitVec 32) (v166 : BitVec 32) (v171 : BitVec 32) (v176 : BitVec 32) (v181 : BitVec 32) (v186 : BitVec 32) (v191 : BitVec 32) (v196 : BitVec 32) (v201 : BitVec 32) (v206 : BitVec 32) (v211 : BitVec 32) (v216 : BitVec 32) (v221 : BitVec 32) (v226 : BitVec 32) (v231 : BitVec 32) (v236 : BitVec 32) (v241 : BitVec 32) (k0_t39 : Fin (k0_t39_loop i v66_0 v74 v79 v84 v89 v94 v99 v104 v109 v114 v119 v124 v129 v134 v139 v144 v149 v158_0 v166 v171 v176 v181 v186 v191 v196 v201 v206 v211 v216 v221 v226 v231 v236 v241).trips) (v506 : BitVec 32) (k0_hw45 : k0_chk45 i v66_0 v74 v79 v84 v89 v94 v99 v104 v109 v114 v119 v124 v129 v134 v139 v144 v149 v158_0 v166 v171 v176 v181 v186 v191 v196 v201 v206 v211 v216 v221 v226 v231 v236 v241 k0_t39 v506), ∀ (k0_h7 : k0_cond7 i v66_0 v74 v79 v84 v89 v94 v99 v104 v109 v114 v119 v124 v129 v134 v139 v144 v149 v158_0 v166 v171 v176 v181 v186 v191 v196 v201 v206 v211 v216 v221 v226 v231 v236 v241 k0_t39 = 1#1), ∀ a, (k0_off209 v506) a + S1x16.size a ≤ S32x512.size a := fun i v66_0 v74 v79 v84 v89 v94 v99 v104 v109 v114 v119 v124 v129 v134 v139 v144 v149 v158_0 v166 v171 v176 v181 v186 v191 v196 v201 v206 v211 v216 v221 v226 v231 v236 v241 k0_t39 v506 k0_hw45 k0_h7 => k0_hw45.2 k0_h7

def k0_off210 (k0_t40 : Fin k0_t40_loop.trips) : Fin 2 → Nat :=
  let c0_i32_149 : BitVec 32 := 0#32
  let c1_i32_150 : BitVec 32 := 1#32
  let arg14 : BitVec 32 := Scf.iv c0_i32_149 c1_i32_150 k0_t40
  let c16_i32_156 : BitVec 32 := 16#32
  let v342 : BitVec 32 := Scalar.muli arg14 c16_i32_156
  let c8_i32 : BitVec 32 := 8#32
  let v527 : BitVec 32 := Scalar.addi v342 c8_i32
  let v528 : Index := Scalar.indexCast v527
  let c0_216 : Index := 0#32
  ![v528.toNat, 0]
@[reducible] def k0_t49_loop : Scf.Loop 32 :=
  let c1_i32_217 : BitVec 32 := 1#32
  let c31_i32_218 : BitVec 32 := 31#32
  let v533 : BitVec 32 := Scalar.addi c1_i32_217 c31_i32_218
  let c1_i32_219 : BitVec 32 := 1#32
  ⟨c1_i32_217, v533, c1_i32_219⟩
def k0_off211 (k0_t40 : Fin k0_t40_loop.trips) (k0_t49 : Fin k0_t49_loop.trips) : Fin 2 → Nat :=
  let c0_i32_149 : BitVec 32 := 0#32
  let c1_i32_150 : BitVec 32 := 1#32
  let arg14 : BitVec 32 := Scf.iv c0_i32_149 c1_i32_150 k0_t40
  let c16_i32_156 : BitVec 32 := 16#32
  let v342 : BitVec 32 := Scalar.muli arg14 c16_i32_156
  let c8_i32 : BitVec 32 := 8#32
  let v527 : BitVec 32 := Scalar.addi v342 c8_i32
  let v684 : Index := Scalar.indexCast v527
  let c1_i32_217 : BitVec 32 := 1#32
  let c1_i32_219 : BitVec 32 := 1#32
  let arg15 : BitVec 32 := Scf.iv c1_i32_217 c1_i32_219 k0_t49
  let c16_i32_273 : BitVec 32 := 16#32
  let v683 : BitVec 32 := Scalar.muli arg15 c16_i32_273
  let v685 : Index := Scalar.indexCast v683
  ![v684.toNat, v685.toNat]
def k0_off212 (v526 : BitVec 32) (k0_t49 : Fin k0_t49_loop.trips) : Fin 2 → Nat :=
  let v692 : Index := Scalar.indexCast v526
  let c1_i32_217 : BitVec 32 := 1#32
  let c1_i32_219 : BitVec 32 := 1#32
  let arg15 : BitVec 32 := Scf.iv c1_i32_217 c1_i32_219 k0_t49
  let c1_i32_274 : BitVec 32 := 1#32
  let v690 : BitVec 32 := Scalar.subi arg15 c1_i32_274
  let c16_i32_275 : BitVec 32 := 16#32
  let v691 : BitVec 32 := Scalar.muli v690 c16_i32_275
  let v693 : Index := Scalar.indexCast v691
  ![v692.toNat, v693.toNat]

def k0_off213 (v526 : BitVec 32) : Fin 2 → Nat :=
  let v535 : Index := Scalar.indexCast v526
  let c496_221 : Index := 496#32
  ![v535.toNat, 496]

def k0_chk46 (i : grid0.Coords) (v66_0 : BitVec 32) (v74 : BitVec 32) (v79 : BitVec 32) (v84 : BitVec 32) (v89 : BitVec 32) (v94 : BitVec 32) (v99 : BitVec 32) (v104 : BitVec 32) (v109 : BitVec 32) (v114 : BitVec 32) (v119 : BitVec 32) (v124 : BitVec 32) (v129 : BitVec 32) (v134 : BitVec 32) (v139 : BitVec 32) (v144 : BitVec 32) (v149 : BitVec 32) (v158_0 : BitVec 32) (v166 : BitVec 32) (v171 : BitVec 32) (v176 : BitVec 32) (v181 : BitVec 32) (v186 : BitVec 32) (v191 : BitVec 32) (v196 : BitVec 32) (v201 : BitVec 32) (v206 : BitVec 32) (v211 : BitVec 32) (v216 : BitVec 32) (v221 : BitVec 32) (v226 : BitVec 32) (v231 : BitVec 32) (v236 : BitVec 32) (v241 : BitVec 32) (k0_t39 : Fin (k0_t39_loop i v66_0 v74 v79 v84 v89 v94 v99 v104 v109 v114 v119 v124 v129 v134 v139 v144 v149 v158_0 v166 v171 v176 v181 v186 v191 v196 v201 v206 v211 v216 v221 v226 v231 v236 v241).trips) (v526 : BitVec 32) : Prop :=
  (∀ k0_t49 : Fin k0_t49_loop.trips, ∀ (k0_h7 : k0_cond7 i v66_0 v74 v79 v84 v89 v94 v99 v104 v109 v114 v119 v124 v129 v134 v139 v144 v149 v158_0 v166 v171 v176 v181 v186 v191 v196 v201 v206 v211 v216 v221 v226 v231 v236 v241 k0_t39 = 1#1), ∀ a, (k0_off212 v526 k0_t49) a + S1x16.size a ≤ S32x512.size a) ∧
  (∀ (k0_h7 : k0_cond7 i v66_0 v74 v79 v84 v89 v94 v99 v104 v109 v114 v119 v124 v129 v134 v139 v144 v149 v158_0 v166 v171 v176 v181 v186 v191 v196 v201 v206 v211 v216 v221 v226 v231 v236 v241 k0_t39 = 1#1), ∀ a, (k0_off213 v526) a + S1x16.size a ≤ S32x512.size a)
theorem k0_off212_inb : ∀ (i : grid0.Coords) (v66_0 : BitVec 32) (v74 : BitVec 32) (v79 : BitVec 32) (v84 : BitVec 32) (v89 : BitVec 32) (v94 : BitVec 32) (v99 : BitVec 32) (v104 : BitVec 32) (v109 : BitVec 32) (v114 : BitVec 32) (v119 : BitVec 32) (v124 : BitVec 32) (v129 : BitVec 32) (v134 : BitVec 32) (v139 : BitVec 32) (v144 : BitVec 32) (v149 : BitVec 32) (v158_0 : BitVec 32) (v166 : BitVec 32) (v171 : BitVec 32) (v176 : BitVec 32) (v181 : BitVec 32) (v186 : BitVec 32) (v191 : BitVec 32) (v196 : BitVec 32) (v201 : BitVec 32) (v206 : BitVec 32) (v211 : BitVec 32) (v216 : BitVec 32) (v221 : BitVec 32) (v226 : BitVec 32) (v231 : BitVec 32) (v236 : BitVec 32) (v241 : BitVec 32) (k0_t39 : Fin (k0_t39_loop i v66_0 v74 v79 v84 v89 v94 v99 v104 v109 v114 v119 v124 v129 v134 v139 v144 v149 v158_0 v166 v171 v176 v181 v186 v191 v196 v201 v206 v211 v216 v221 v226 v231 v236 v241).trips) (v526 : BitVec 32) (k0_hw46 : k0_chk46 i v66_0 v74 v79 v84 v89 v94 v99 v104 v109 v114 v119 v124 v129 v134 v139 v144 v149 v158_0 v166 v171 v176 v181 v186 v191 v196 v201 v206 v211 v216 v221 v226 v231 v236 v241 k0_t39 v526) (k0_t49 : Fin k0_t49_loop.trips), ∀ (k0_h7 : k0_cond7 i v66_0 v74 v79 v84 v89 v94 v99 v104 v109 v114 v119 v124 v129 v134 v139 v144 v149 v158_0 v166 v171 v176 v181 v186 v191 v196 v201 v206 v211 v216 v221 v226 v231 v236 v241 k0_t39 = 1#1), ∀ a, (k0_off212 v526 k0_t49) a + S1x16.size a ≤ S32x512.size a := fun i v66_0 v74 v79 v84 v89 v94 v99 v104 v109 v114 v119 v124 v129 v134 v139 v144 v149 v158_0 v166 v171 v176 v181 v186 v191 v196 v201 v206 v211 v216 v221 v226 v231 v236 v241 k0_t39 v526 k0_hw46 k0_t49 k0_h7 => k0_hw46.1 k0_t49 k0_h7
theorem k0_off213_inb : ∀ (i : grid0.Coords) (v66_0 : BitVec 32) (v74 : BitVec 32) (v79 : BitVec 32) (v84 : BitVec 32) (v89 : BitVec 32) (v94 : BitVec 32) (v99 : BitVec 32) (v104 : BitVec 32) (v109 : BitVec 32) (v114 : BitVec 32) (v119 : BitVec 32) (v124 : BitVec 32) (v129 : BitVec 32) (v134 : BitVec 32) (v139 : BitVec 32) (v144 : BitVec 32) (v149 : BitVec 32) (v158_0 : BitVec 32) (v166 : BitVec 32) (v171 : BitVec 32) (v176 : BitVec 32) (v181 : BitVec 32) (v186 : BitVec 32) (v191 : BitVec 32) (v196 : BitVec 32) (v201 : BitVec 32) (v206 : BitVec 32) (v211 : BitVec 32) (v216 : BitVec 32) (v221 : BitVec 32) (v226 : BitVec 32) (v231 : BitVec 32) (v236 : BitVec 32) (v241 : BitVec 32) (k0_t39 : Fin (k0_t39_loop i v66_0 v74 v79 v84 v89 v94 v99 v104 v109 v114 v119 v124 v129 v134 v139 v144 v149 v158_0 v166 v171 v176 v181 v186 v191 v196 v201 v206 v211 v216 v221 v226 v231 v236 v241).trips) (v526 : BitVec 32) (k0_hw46 : k0_chk46 i v66_0 v74 v79 v84 v89 v94 v99 v104 v109 v114 v119 v124 v129 v134 v139 v144 v149 v158_0 v166 v171 v176 v181 v186 v191 v196 v201 v206 v211 v216 v221 v226 v231 v236 v241 k0_t39 v526), ∀ (k0_h7 : k0_cond7 i v66_0 v74 v79 v84 v89 v94 v99 v104 v109 v114 v119 v124 v129 v134 v139 v144 v149 v158_0 v166 v171 v176 v181 v186 v191 v196 v201 v206 v211 v216 v221 v226 v231 v236 v241 k0_t39 = 1#1), ∀ a, (k0_off213 v526) a + S1x16.size a ≤ S32x512.size a := fun i v66_0 v74 v79 v84 v89 v94 v99 v104 v109 v114 v119 v124 v129 v134 v139 v144 v149 v158_0 v166 v171 v176 v181 v186 v191 v196 v201 v206 v211 v216 v221 v226 v231 v236 v241 k0_t39 v526 k0_hw46 k0_h7 => k0_hw46.2 k0_h7

def k0_off214 (k0_t40 : Fin k0_t40_loop.trips) : Fin 2 → Nat :=
  let c0_i32_149 : BitVec 32 := 0#32
  let c1_i32_150 : BitVec 32 := 1#32
  let arg14 : BitVec 32 := Scf.iv c0_i32_149 c1_i32_150 k0_t40
  let c16_i32_156 : BitVec 32 := 16#32
  let v342 : BitVec 32 := Scalar.muli arg14 c16_i32_156
  let c9_i32 : BitVec 32 := 9#32
  let v547 : BitVec 32 := Scalar.addi v342 c9_i32
  let v548 : Index := Scalar.indexCast v547
  let c0_223 : Index := 0#32
  ![v548.toNat, 0]
@[reducible] def k0_t50_loop : Scf.Loop 32 :=
  let c1_i32_224 : BitVec 32 := 1#32
  let c31_i32_225 : BitVec 32 := 31#32
  let v553 : BitVec 32 := Scalar.addi c1_i32_224 c31_i32_225
  let c1_i32_226 : BitVec 32 := 1#32
  ⟨c1_i32_224, v553, c1_i32_226⟩
def k0_off215 (k0_t40 : Fin k0_t40_loop.trips) (k0_t50 : Fin k0_t50_loop.trips) : Fin 2 → Nat :=
  let c0_i32_149 : BitVec 32 := 0#32
  let c1_i32_150 : BitVec 32 := 1#32
  let arg14 : BitVec 32 := Scf.iv c0_i32_149 c1_i32_150 k0_t40
  let c16_i32_156 : BitVec 32 := 16#32
  let v342 : BitVec 32 := Scalar.muli arg14 c16_i32_156
  let c9_i32 : BitVec 32 := 9#32
  let v547 : BitVec 32 := Scalar.addi v342 c9_i32
  let v684 : Index := Scalar.indexCast v547
  let c1_i32_224 : BitVec 32 := 1#32
  let c1_i32_226 : BitVec 32 := 1#32
  let arg15 : BitVec 32 := Scf.iv c1_i32_224 c1_i32_226 k0_t50
  let c16_i32_273 : BitVec 32 := 16#32
  let v683 : BitVec 32 := Scalar.muli arg15 c16_i32_273
  let v685 : Index := Scalar.indexCast v683
  ![v684.toNat, v685.toNat]
def k0_off216 (v546 : BitVec 32) (k0_t50 : Fin k0_t50_loop.trips) : Fin 2 → Nat :=
  let v692 : Index := Scalar.indexCast v546
  let c1_i32_224 : BitVec 32 := 1#32
  let c1_i32_226 : BitVec 32 := 1#32
  let arg15 : BitVec 32 := Scf.iv c1_i32_224 c1_i32_226 k0_t50
  let c1_i32_274 : BitVec 32 := 1#32
  let v690 : BitVec 32 := Scalar.subi arg15 c1_i32_274
  let c16_i32_275 : BitVec 32 := 16#32
  let v691 : BitVec 32 := Scalar.muli v690 c16_i32_275
  let v693 : Index := Scalar.indexCast v691
  ![v692.toNat, v693.toNat]

def k0_off217 (v546 : BitVec 32) : Fin 2 → Nat :=
  let v555 : Index := Scalar.indexCast v546
  let c496_228 : Index := 496#32
  ![v555.toNat, 496]

def k0_chk47 (i : grid0.Coords) (v66_0 : BitVec 32) (v74 : BitVec 32) (v79 : BitVec 32) (v84 : BitVec 32) (v89 : BitVec 32) (v94 : BitVec 32) (v99 : BitVec 32) (v104 : BitVec 32) (v109 : BitVec 32) (v114 : BitVec 32) (v119 : BitVec 32) (v124 : BitVec 32) (v129 : BitVec 32) (v134 : BitVec 32) (v139 : BitVec 32) (v144 : BitVec 32) (v149 : BitVec 32) (v158_0 : BitVec 32) (v166 : BitVec 32) (v171 : BitVec 32) (v176 : BitVec 32) (v181 : BitVec 32) (v186 : BitVec 32) (v191 : BitVec 32) (v196 : BitVec 32) (v201 : BitVec 32) (v206 : BitVec 32) (v211 : BitVec 32) (v216 : BitVec 32) (v221 : BitVec 32) (v226 : BitVec 32) (v231 : BitVec 32) (v236 : BitVec 32) (v241 : BitVec 32) (k0_t39 : Fin (k0_t39_loop i v66_0 v74 v79 v84 v89 v94 v99 v104 v109 v114 v119 v124 v129 v134 v139 v144 v149 v158_0 v166 v171 v176 v181 v186 v191 v196 v201 v206 v211 v216 v221 v226 v231 v236 v241).trips) (v546 : BitVec 32) : Prop :=
  (∀ k0_t50 : Fin k0_t50_loop.trips, ∀ (k0_h7 : k0_cond7 i v66_0 v74 v79 v84 v89 v94 v99 v104 v109 v114 v119 v124 v129 v134 v139 v144 v149 v158_0 v166 v171 v176 v181 v186 v191 v196 v201 v206 v211 v216 v221 v226 v231 v236 v241 k0_t39 = 1#1), ∀ a, (k0_off216 v546 k0_t50) a + S1x16.size a ≤ S32x512.size a) ∧
  (∀ (k0_h7 : k0_cond7 i v66_0 v74 v79 v84 v89 v94 v99 v104 v109 v114 v119 v124 v129 v134 v139 v144 v149 v158_0 v166 v171 v176 v181 v186 v191 v196 v201 v206 v211 v216 v221 v226 v231 v236 v241 k0_t39 = 1#1), ∀ a, (k0_off217 v546) a + S1x16.size a ≤ S32x512.size a)
theorem k0_off216_inb : ∀ (i : grid0.Coords) (v66_0 : BitVec 32) (v74 : BitVec 32) (v79 : BitVec 32) (v84 : BitVec 32) (v89 : BitVec 32) (v94 : BitVec 32) (v99 : BitVec 32) (v104 : BitVec 32) (v109 : BitVec 32) (v114 : BitVec 32) (v119 : BitVec 32) (v124 : BitVec 32) (v129 : BitVec 32) (v134 : BitVec 32) (v139 : BitVec 32) (v144 : BitVec 32) (v149 : BitVec 32) (v158_0 : BitVec 32) (v166 : BitVec 32) (v171 : BitVec 32) (v176 : BitVec 32) (v181 : BitVec 32) (v186 : BitVec 32) (v191 : BitVec 32) (v196 : BitVec 32) (v201 : BitVec 32) (v206 : BitVec 32) (v211 : BitVec 32) (v216 : BitVec 32) (v221 : BitVec 32) (v226 : BitVec 32) (v231 : BitVec 32) (v236 : BitVec 32) (v241 : BitVec 32) (k0_t39 : Fin (k0_t39_loop i v66_0 v74 v79 v84 v89 v94 v99 v104 v109 v114 v119 v124 v129 v134 v139 v144 v149 v158_0 v166 v171 v176 v181 v186 v191 v196 v201 v206 v211 v216 v221 v226 v231 v236 v241).trips) (v546 : BitVec 32) (k0_hw47 : k0_chk47 i v66_0 v74 v79 v84 v89 v94 v99 v104 v109 v114 v119 v124 v129 v134 v139 v144 v149 v158_0 v166 v171 v176 v181 v186 v191 v196 v201 v206 v211 v216 v221 v226 v231 v236 v241 k0_t39 v546) (k0_t50 : Fin k0_t50_loop.trips), ∀ (k0_h7 : k0_cond7 i v66_0 v74 v79 v84 v89 v94 v99 v104 v109 v114 v119 v124 v129 v134 v139 v144 v149 v158_0 v166 v171 v176 v181 v186 v191 v196 v201 v206 v211 v216 v221 v226 v231 v236 v241 k0_t39 = 1#1), ∀ a, (k0_off216 v546 k0_t50) a + S1x16.size a ≤ S32x512.size a := fun i v66_0 v74 v79 v84 v89 v94 v99 v104 v109 v114 v119 v124 v129 v134 v139 v144 v149 v158_0 v166 v171 v176 v181 v186 v191 v196 v201 v206 v211 v216 v221 v226 v231 v236 v241 k0_t39 v546 k0_hw47 k0_t50 k0_h7 => k0_hw47.1 k0_t50 k0_h7
theorem k0_off217_inb : ∀ (i : grid0.Coords) (v66_0 : BitVec 32) (v74 : BitVec 32) (v79 : BitVec 32) (v84 : BitVec 32) (v89 : BitVec 32) (v94 : BitVec 32) (v99 : BitVec 32) (v104 : BitVec 32) (v109 : BitVec 32) (v114 : BitVec 32) (v119 : BitVec 32) (v124 : BitVec 32) (v129 : BitVec 32) (v134 : BitVec 32) (v139 : BitVec 32) (v144 : BitVec 32) (v149 : BitVec 32) (v158_0 : BitVec 32) (v166 : BitVec 32) (v171 : BitVec 32) (v176 : BitVec 32) (v181 : BitVec 32) (v186 : BitVec 32) (v191 : BitVec 32) (v196 : BitVec 32) (v201 : BitVec 32) (v206 : BitVec 32) (v211 : BitVec 32) (v216 : BitVec 32) (v221 : BitVec 32) (v226 : BitVec 32) (v231 : BitVec 32) (v236 : BitVec 32) (v241 : BitVec 32) (k0_t39 : Fin (k0_t39_loop i v66_0 v74 v79 v84 v89 v94 v99 v104 v109 v114 v119 v124 v129 v134 v139 v144 v149 v158_0 v166 v171 v176 v181 v186 v191 v196 v201 v206 v211 v216 v221 v226 v231 v236 v241).trips) (v546 : BitVec 32) (k0_hw47 : k0_chk47 i v66_0 v74 v79 v84 v89 v94 v99 v104 v109 v114 v119 v124 v129 v134 v139 v144 v149 v158_0 v166 v171 v176 v181 v186 v191 v196 v201 v206 v211 v216 v221 v226 v231 v236 v241 k0_t39 v546), ∀ (k0_h7 : k0_cond7 i v66_0 v74 v79 v84 v89 v94 v99 v104 v109 v114 v119 v124 v129 v134 v139 v144 v149 v158_0 v166 v171 v176 v181 v186 v191 v196 v201 v206 v211 v216 v221 v226 v231 v236 v241 k0_t39 = 1#1), ∀ a, (k0_off217 v546) a + S1x16.size a ≤ S32x512.size a := fun i v66_0 v74 v79 v84 v89 v94 v99 v104 v109 v114 v119 v124 v129 v134 v139 v144 v149 v158_0 v166 v171 v176 v181 v186 v191 v196 v201 v206 v211 v216 v221 v226 v231 v236 v241 k0_t39 v546 k0_hw47 k0_h7 => k0_hw47.2 k0_h7

def k0_off218 (k0_t40 : Fin k0_t40_loop.trips) : Fin 2 → Nat :=
  let c0_i32_149 : BitVec 32 := 0#32
  let c1_i32_150 : BitVec 32 := 1#32
  let arg14 : BitVec 32 := Scf.iv c0_i32_149 c1_i32_150 k0_t40
  let c16_i32_156 : BitVec 32 := 16#32
  let v342 : BitVec 32 := Scalar.muli arg14 c16_i32_156
  let c10_i32_230 : BitVec 32 := 10#32
  let v567 : BitVec 32 := Scalar.addi v342 c10_i32_230
  let v568 : Index := Scalar.indexCast v567
  let c0_231 : Index := 0#32
  ![v568.toNat, 0]
@[reducible] def k0_t51_loop : Scf.Loop 32 :=
  let c1_i32_232 : BitVec 32 := 1#32
  let c31_i32_233 : BitVec 32 := 31#32
  let v573 : BitVec 32 := Scalar.addi c1_i32_232 c31_i32_233
  let c1_i32_234 : BitVec 32 := 1#32
  ⟨c1_i32_232, v573, c1_i32_234⟩
def k0_off219 (k0_t40 : Fin k0_t40_loop.trips) (k0_t51 : Fin k0_t51_loop.trips) : Fin 2 → Nat :=
  let c0_i32_149 : BitVec 32 := 0#32
  let c1_i32_150 : BitVec 32 := 1#32
  let arg14 : BitVec 32 := Scf.iv c0_i32_149 c1_i32_150 k0_t40
  let c16_i32_156 : BitVec 32 := 16#32
  let v342 : BitVec 32 := Scalar.muli arg14 c16_i32_156
  let c10_i32_230 : BitVec 32 := 10#32
  let v567 : BitVec 32 := Scalar.addi v342 c10_i32_230
  let v684 : Index := Scalar.indexCast v567
  let c1_i32_232 : BitVec 32 := 1#32
  let c1_i32_234 : BitVec 32 := 1#32
  let arg15 : BitVec 32 := Scf.iv c1_i32_232 c1_i32_234 k0_t51
  let c16_i32_273 : BitVec 32 := 16#32
  let v683 : BitVec 32 := Scalar.muli arg15 c16_i32_273
  let v685 : Index := Scalar.indexCast v683
  ![v684.toNat, v685.toNat]
def k0_off220 (v566 : BitVec 32) (k0_t51 : Fin k0_t51_loop.trips) : Fin 2 → Nat :=
  let v692 : Index := Scalar.indexCast v566
  let c1_i32_232 : BitVec 32 := 1#32
  let c1_i32_234 : BitVec 32 := 1#32
  let arg15 : BitVec 32 := Scf.iv c1_i32_232 c1_i32_234 k0_t51
  let c1_i32_274 : BitVec 32 := 1#32
  let v690 : BitVec 32 := Scalar.subi arg15 c1_i32_274
  let c16_i32_275 : BitVec 32 := 16#32
  let v691 : BitVec 32 := Scalar.muli v690 c16_i32_275
  let v693 : Index := Scalar.indexCast v691
  ![v692.toNat, v693.toNat]

def k0_off221 (v566 : BitVec 32) : Fin 2 → Nat :=
  let v575 : Index := Scalar.indexCast v566
  let c496_236 : Index := 496#32
  ![v575.toNat, 496]

def k0_chk48 (i : grid0.Coords) (v66_0 : BitVec 32) (v74 : BitVec 32) (v79 : BitVec 32) (v84 : BitVec 32) (v89 : BitVec 32) (v94 : BitVec 32) (v99 : BitVec 32) (v104 : BitVec 32) (v109 : BitVec 32) (v114 : BitVec 32) (v119 : BitVec 32) (v124 : BitVec 32) (v129 : BitVec 32) (v134 : BitVec 32) (v139 : BitVec 32) (v144 : BitVec 32) (v149 : BitVec 32) (v158_0 : BitVec 32) (v166 : BitVec 32) (v171 : BitVec 32) (v176 : BitVec 32) (v181 : BitVec 32) (v186 : BitVec 32) (v191 : BitVec 32) (v196 : BitVec 32) (v201 : BitVec 32) (v206 : BitVec 32) (v211 : BitVec 32) (v216 : BitVec 32) (v221 : BitVec 32) (v226 : BitVec 32) (v231 : BitVec 32) (v236 : BitVec 32) (v241 : BitVec 32) (k0_t39 : Fin (k0_t39_loop i v66_0 v74 v79 v84 v89 v94 v99 v104 v109 v114 v119 v124 v129 v134 v139 v144 v149 v158_0 v166 v171 v176 v181 v186 v191 v196 v201 v206 v211 v216 v221 v226 v231 v236 v241).trips) (v566 : BitVec 32) : Prop :=
  (∀ k0_t51 : Fin k0_t51_loop.trips, ∀ (k0_h7 : k0_cond7 i v66_0 v74 v79 v84 v89 v94 v99 v104 v109 v114 v119 v124 v129 v134 v139 v144 v149 v158_0 v166 v171 v176 v181 v186 v191 v196 v201 v206 v211 v216 v221 v226 v231 v236 v241 k0_t39 = 1#1), ∀ a, (k0_off220 v566 k0_t51) a + S1x16.size a ≤ S32x512.size a) ∧
  (∀ (k0_h7 : k0_cond7 i v66_0 v74 v79 v84 v89 v94 v99 v104 v109 v114 v119 v124 v129 v134 v139 v144 v149 v158_0 v166 v171 v176 v181 v186 v191 v196 v201 v206 v211 v216 v221 v226 v231 v236 v241 k0_t39 = 1#1), ∀ a, (k0_off221 v566) a + S1x16.size a ≤ S32x512.size a)
theorem k0_off220_inb : ∀ (i : grid0.Coords) (v66_0 : BitVec 32) (v74 : BitVec 32) (v79 : BitVec 32) (v84 : BitVec 32) (v89 : BitVec 32) (v94 : BitVec 32) (v99 : BitVec 32) (v104 : BitVec 32) (v109 : BitVec 32) (v114 : BitVec 32) (v119 : BitVec 32) (v124 : BitVec 32) (v129 : BitVec 32) (v134 : BitVec 32) (v139 : BitVec 32) (v144 : BitVec 32) (v149 : BitVec 32) (v158_0 : BitVec 32) (v166 : BitVec 32) (v171 : BitVec 32) (v176 : BitVec 32) (v181 : BitVec 32) (v186 : BitVec 32) (v191 : BitVec 32) (v196 : BitVec 32) (v201 : BitVec 32) (v206 : BitVec 32) (v211 : BitVec 32) (v216 : BitVec 32) (v221 : BitVec 32) (v226 : BitVec 32) (v231 : BitVec 32) (v236 : BitVec 32) (v241 : BitVec 32) (k0_t39 : Fin (k0_t39_loop i v66_0 v74 v79 v84 v89 v94 v99 v104 v109 v114 v119 v124 v129 v134 v139 v144 v149 v158_0 v166 v171 v176 v181 v186 v191 v196 v201 v206 v211 v216 v221 v226 v231 v236 v241).trips) (v566 : BitVec 32) (k0_hw48 : k0_chk48 i v66_0 v74 v79 v84 v89 v94 v99 v104 v109 v114 v119 v124 v129 v134 v139 v144 v149 v158_0 v166 v171 v176 v181 v186 v191 v196 v201 v206 v211 v216 v221 v226 v231 v236 v241 k0_t39 v566) (k0_t51 : Fin k0_t51_loop.trips), ∀ (k0_h7 : k0_cond7 i v66_0 v74 v79 v84 v89 v94 v99 v104 v109 v114 v119 v124 v129 v134 v139 v144 v149 v158_0 v166 v171 v176 v181 v186 v191 v196 v201 v206 v211 v216 v221 v226 v231 v236 v241 k0_t39 = 1#1), ∀ a, (k0_off220 v566 k0_t51) a + S1x16.size a ≤ S32x512.size a := fun i v66_0 v74 v79 v84 v89 v94 v99 v104 v109 v114 v119 v124 v129 v134 v139 v144 v149 v158_0 v166 v171 v176 v181 v186 v191 v196 v201 v206 v211 v216 v221 v226 v231 v236 v241 k0_t39 v566 k0_hw48 k0_t51 k0_h7 => k0_hw48.1 k0_t51 k0_h7
theorem k0_off221_inb : ∀ (i : grid0.Coords) (v66_0 : BitVec 32) (v74 : BitVec 32) (v79 : BitVec 32) (v84 : BitVec 32) (v89 : BitVec 32) (v94 : BitVec 32) (v99 : BitVec 32) (v104 : BitVec 32) (v109 : BitVec 32) (v114 : BitVec 32) (v119 : BitVec 32) (v124 : BitVec 32) (v129 : BitVec 32) (v134 : BitVec 32) (v139 : BitVec 32) (v144 : BitVec 32) (v149 : BitVec 32) (v158_0 : BitVec 32) (v166 : BitVec 32) (v171 : BitVec 32) (v176 : BitVec 32) (v181 : BitVec 32) (v186 : BitVec 32) (v191 : BitVec 32) (v196 : BitVec 32) (v201 : BitVec 32) (v206 : BitVec 32) (v211 : BitVec 32) (v216 : BitVec 32) (v221 : BitVec 32) (v226 : BitVec 32) (v231 : BitVec 32) (v236 : BitVec 32) (v241 : BitVec 32) (k0_t39 : Fin (k0_t39_loop i v66_0 v74 v79 v84 v89 v94 v99 v104 v109 v114 v119 v124 v129 v134 v139 v144 v149 v158_0 v166 v171 v176 v181 v186 v191 v196 v201 v206 v211 v216 v221 v226 v231 v236 v241).trips) (v566 : BitVec 32) (k0_hw48 : k0_chk48 i v66_0 v74 v79 v84 v89 v94 v99 v104 v109 v114 v119 v124 v129 v134 v139 v144 v149 v158_0 v166 v171 v176 v181 v186 v191 v196 v201 v206 v211 v216 v221 v226 v231 v236 v241 k0_t39 v566), ∀ (k0_h7 : k0_cond7 i v66_0 v74 v79 v84 v89 v94 v99 v104 v109 v114 v119 v124 v129 v134 v139 v144 v149 v158_0 v166 v171 v176 v181 v186 v191 v196 v201 v206 v211 v216 v221 v226 v231 v236 v241 k0_t39 = 1#1), ∀ a, (k0_off221 v566) a + S1x16.size a ≤ S32x512.size a := fun i v66_0 v74 v79 v84 v89 v94 v99 v104 v109 v114 v119 v124 v129 v134 v139 v144 v149 v158_0 v166 v171 v176 v181 v186 v191 v196 v201 v206 v211 v216 v221 v226 v231 v236 v241 k0_t39 v566 k0_hw48 k0_h7 => k0_hw48.2 k0_h7

def k0_off222 (k0_t40 : Fin k0_t40_loop.trips) : Fin 2 → Nat :=
  let c0_i32_149 : BitVec 32 := 0#32
  let c1_i32_150 : BitVec 32 := 1#32
  let arg14 : BitVec 32 := Scf.iv c0_i32_149 c1_i32_150 k0_t40
  let c16_i32_156 : BitVec 32 := 16#32
  let v342 : BitVec 32 := Scalar.muli arg14 c16_i32_156
  let c11_i32 : BitVec 32 := 11#32
  let v587 : BitVec 32 := Scalar.addi v342 c11_i32
  let v588 : Index := Scalar.indexCast v587
  let c0_238 : Index := 0#32
  ![v588.toNat, 0]
@[reducible] def k0_t52_loop : Scf.Loop 32 :=
  let c1_i32_239 : BitVec 32 := 1#32
  let c31_i32_240 : BitVec 32 := 31#32
  let v593 : BitVec 32 := Scalar.addi c1_i32_239 c31_i32_240
  let c1_i32_241 : BitVec 32 := 1#32
  ⟨c1_i32_239, v593, c1_i32_241⟩
def k0_off223 (k0_t40 : Fin k0_t40_loop.trips) (k0_t52 : Fin k0_t52_loop.trips) : Fin 2 → Nat :=
  let c0_i32_149 : BitVec 32 := 0#32
  let c1_i32_150 : BitVec 32 := 1#32
  let arg14 : BitVec 32 := Scf.iv c0_i32_149 c1_i32_150 k0_t40
  let c16_i32_156 : BitVec 32 := 16#32
  let v342 : BitVec 32 := Scalar.muli arg14 c16_i32_156
  let c11_i32 : BitVec 32 := 11#32
  let v587 : BitVec 32 := Scalar.addi v342 c11_i32
  let v684 : Index := Scalar.indexCast v587
  let c1_i32_239 : BitVec 32 := 1#32
  let c1_i32_241 : BitVec 32 := 1#32
  let arg15 : BitVec 32 := Scf.iv c1_i32_239 c1_i32_241 k0_t52
  let c16_i32_273 : BitVec 32 := 16#32
  let v683 : BitVec 32 := Scalar.muli arg15 c16_i32_273
  let v685 : Index := Scalar.indexCast v683
  ![v684.toNat, v685.toNat]
def k0_off224 (v586 : BitVec 32) (k0_t52 : Fin k0_t52_loop.trips) : Fin 2 → Nat :=
  let v692 : Index := Scalar.indexCast v586
  let c1_i32_239 : BitVec 32 := 1#32
  let c1_i32_241 : BitVec 32 := 1#32
  let arg15 : BitVec 32 := Scf.iv c1_i32_239 c1_i32_241 k0_t52
  let c1_i32_274 : BitVec 32 := 1#32
  let v690 : BitVec 32 := Scalar.subi arg15 c1_i32_274
  let c16_i32_275 : BitVec 32 := 16#32
  let v691 : BitVec 32 := Scalar.muli v690 c16_i32_275
  let v693 : Index := Scalar.indexCast v691
  ![v692.toNat, v693.toNat]

def k0_off225 (v586 : BitVec 32) : Fin 2 → Nat :=
  let v595 : Index := Scalar.indexCast v586
  let c496_243 : Index := 496#32
  ![v595.toNat, 496]

def k0_chk49 (i : grid0.Coords) (v66_0 : BitVec 32) (v74 : BitVec 32) (v79 : BitVec 32) (v84 : BitVec 32) (v89 : BitVec 32) (v94 : BitVec 32) (v99 : BitVec 32) (v104 : BitVec 32) (v109 : BitVec 32) (v114 : BitVec 32) (v119 : BitVec 32) (v124 : BitVec 32) (v129 : BitVec 32) (v134 : BitVec 32) (v139 : BitVec 32) (v144 : BitVec 32) (v149 : BitVec 32) (v158_0 : BitVec 32) (v166 : BitVec 32) (v171 : BitVec 32) (v176 : BitVec 32) (v181 : BitVec 32) (v186 : BitVec 32) (v191 : BitVec 32) (v196 : BitVec 32) (v201 : BitVec 32) (v206 : BitVec 32) (v211 : BitVec 32) (v216 : BitVec 32) (v221 : BitVec 32) (v226 : BitVec 32) (v231 : BitVec 32) (v236 : BitVec 32) (v241 : BitVec 32) (k0_t39 : Fin (k0_t39_loop i v66_0 v74 v79 v84 v89 v94 v99 v104 v109 v114 v119 v124 v129 v134 v139 v144 v149 v158_0 v166 v171 v176 v181 v186 v191 v196 v201 v206 v211 v216 v221 v226 v231 v236 v241).trips) (v586 : BitVec 32) : Prop :=
  (∀ k0_t52 : Fin k0_t52_loop.trips, ∀ (k0_h7 : k0_cond7 i v66_0 v74 v79 v84 v89 v94 v99 v104 v109 v114 v119 v124 v129 v134 v139 v144 v149 v158_0 v166 v171 v176 v181 v186 v191 v196 v201 v206 v211 v216 v221 v226 v231 v236 v241 k0_t39 = 1#1), ∀ a, (k0_off224 v586 k0_t52) a + S1x16.size a ≤ S32x512.size a) ∧
  (∀ (k0_h7 : k0_cond7 i v66_0 v74 v79 v84 v89 v94 v99 v104 v109 v114 v119 v124 v129 v134 v139 v144 v149 v158_0 v166 v171 v176 v181 v186 v191 v196 v201 v206 v211 v216 v221 v226 v231 v236 v241 k0_t39 = 1#1), ∀ a, (k0_off225 v586) a + S1x16.size a ≤ S32x512.size a)
theorem k0_off224_inb : ∀ (i : grid0.Coords) (v66_0 : BitVec 32) (v74 : BitVec 32) (v79 : BitVec 32) (v84 : BitVec 32) (v89 : BitVec 32) (v94 : BitVec 32) (v99 : BitVec 32) (v104 : BitVec 32) (v109 : BitVec 32) (v114 : BitVec 32) (v119 : BitVec 32) (v124 : BitVec 32) (v129 : BitVec 32) (v134 : BitVec 32) (v139 : BitVec 32) (v144 : BitVec 32) (v149 : BitVec 32) (v158_0 : BitVec 32) (v166 : BitVec 32) (v171 : BitVec 32) (v176 : BitVec 32) (v181 : BitVec 32) (v186 : BitVec 32) (v191 : BitVec 32) (v196 : BitVec 32) (v201 : BitVec 32) (v206 : BitVec 32) (v211 : BitVec 32) (v216 : BitVec 32) (v221 : BitVec 32) (v226 : BitVec 32) (v231 : BitVec 32) (v236 : BitVec 32) (v241 : BitVec 32) (k0_t39 : Fin (k0_t39_loop i v66_0 v74 v79 v84 v89 v94 v99 v104 v109 v114 v119 v124 v129 v134 v139 v144 v149 v158_0 v166 v171 v176 v181 v186 v191 v196 v201 v206 v211 v216 v221 v226 v231 v236 v241).trips) (v586 : BitVec 32) (k0_hw49 : k0_chk49 i v66_0 v74 v79 v84 v89 v94 v99 v104 v109 v114 v119 v124 v129 v134 v139 v144 v149 v158_0 v166 v171 v176 v181 v186 v191 v196 v201 v206 v211 v216 v221 v226 v231 v236 v241 k0_t39 v586) (k0_t52 : Fin k0_t52_loop.trips), ∀ (k0_h7 : k0_cond7 i v66_0 v74 v79 v84 v89 v94 v99 v104 v109 v114 v119 v124 v129 v134 v139 v144 v149 v158_0 v166 v171 v176 v181 v186 v191 v196 v201 v206 v211 v216 v221 v226 v231 v236 v241 k0_t39 = 1#1), ∀ a, (k0_off224 v586 k0_t52) a + S1x16.size a ≤ S32x512.size a := fun i v66_0 v74 v79 v84 v89 v94 v99 v104 v109 v114 v119 v124 v129 v134 v139 v144 v149 v158_0 v166 v171 v176 v181 v186 v191 v196 v201 v206 v211 v216 v221 v226 v231 v236 v241 k0_t39 v586 k0_hw49 k0_t52 k0_h7 => k0_hw49.1 k0_t52 k0_h7
theorem k0_off225_inb : ∀ (i : grid0.Coords) (v66_0 : BitVec 32) (v74 : BitVec 32) (v79 : BitVec 32) (v84 : BitVec 32) (v89 : BitVec 32) (v94 : BitVec 32) (v99 : BitVec 32) (v104 : BitVec 32) (v109 : BitVec 32) (v114 : BitVec 32) (v119 : BitVec 32) (v124 : BitVec 32) (v129 : BitVec 32) (v134 : BitVec 32) (v139 : BitVec 32) (v144 : BitVec 32) (v149 : BitVec 32) (v158_0 : BitVec 32) (v166 : BitVec 32) (v171 : BitVec 32) (v176 : BitVec 32) (v181 : BitVec 32) (v186 : BitVec 32) (v191 : BitVec 32) (v196 : BitVec 32) (v201 : BitVec 32) (v206 : BitVec 32) (v211 : BitVec 32) (v216 : BitVec 32) (v221 : BitVec 32) (v226 : BitVec 32) (v231 : BitVec 32) (v236 : BitVec 32) (v241 : BitVec 32) (k0_t39 : Fin (k0_t39_loop i v66_0 v74 v79 v84 v89 v94 v99 v104 v109 v114 v119 v124 v129 v134 v139 v144 v149 v158_0 v166 v171 v176 v181 v186 v191 v196 v201 v206 v211 v216 v221 v226 v231 v236 v241).trips) (v586 : BitVec 32) (k0_hw49 : k0_chk49 i v66_0 v74 v79 v84 v89 v94 v99 v104 v109 v114 v119 v124 v129 v134 v139 v144 v149 v158_0 v166 v171 v176 v181 v186 v191 v196 v201 v206 v211 v216 v221 v226 v231 v236 v241 k0_t39 v586), ∀ (k0_h7 : k0_cond7 i v66_0 v74 v79 v84 v89 v94 v99 v104 v109 v114 v119 v124 v129 v134 v139 v144 v149 v158_0 v166 v171 v176 v181 v186 v191 v196 v201 v206 v211 v216 v221 v226 v231 v236 v241 k0_t39 = 1#1), ∀ a, (k0_off225 v586) a + S1x16.size a ≤ S32x512.size a := fun i v66_0 v74 v79 v84 v89 v94 v99 v104 v109 v114 v119 v124 v129 v134 v139 v144 v149 v158_0 v166 v171 v176 v181 v186 v191 v196 v201 v206 v211 v216 v221 v226 v231 v236 v241 k0_t39 v586 k0_hw49 k0_h7 => k0_hw49.2 k0_h7

def k0_off226 (k0_t40 : Fin k0_t40_loop.trips) : Fin 2 → Nat :=
  let c0_i32_149 : BitVec 32 := 0#32
  let c1_i32_150 : BitVec 32 := 1#32
  let arg14 : BitVec 32 := Scf.iv c0_i32_149 c1_i32_150 k0_t40
  let c16_i32_156 : BitVec 32 := 16#32
  let v342 : BitVec 32 := Scalar.muli arg14 c16_i32_156
  let c12_i32 : BitVec 32 := 12#32
  let v607 : BitVec 32 := Scalar.addi v342 c12_i32
  let v608 : Index := Scalar.indexCast v607
  let c0_245 : Index := 0#32
  ![v608.toNat, 0]
@[reducible] def k0_t53_loop : Scf.Loop 32 :=
  let c1_i32_246 : BitVec 32 := 1#32
  let c31_i32_247 : BitVec 32 := 31#32
  let v613 : BitVec 32 := Scalar.addi c1_i32_246 c31_i32_247
  let c1_i32_248 : BitVec 32 := 1#32
  ⟨c1_i32_246, v613, c1_i32_248⟩
def k0_off227 (k0_t40 : Fin k0_t40_loop.trips) (k0_t53 : Fin k0_t53_loop.trips) : Fin 2 → Nat :=
  let c0_i32_149 : BitVec 32 := 0#32
  let c1_i32_150 : BitVec 32 := 1#32
  let arg14 : BitVec 32 := Scf.iv c0_i32_149 c1_i32_150 k0_t40
  let c16_i32_156 : BitVec 32 := 16#32
  let v342 : BitVec 32 := Scalar.muli arg14 c16_i32_156
  let c12_i32 : BitVec 32 := 12#32
  let v607 : BitVec 32 := Scalar.addi v342 c12_i32
  let v684 : Index := Scalar.indexCast v607
  let c1_i32_246 : BitVec 32 := 1#32
  let c1_i32_248 : BitVec 32 := 1#32
  let arg15 : BitVec 32 := Scf.iv c1_i32_246 c1_i32_248 k0_t53
  let c16_i32_273 : BitVec 32 := 16#32
  let v683 : BitVec 32 := Scalar.muli arg15 c16_i32_273
  let v685 : Index := Scalar.indexCast v683
  ![v684.toNat, v685.toNat]
def k0_off228 (v606 : BitVec 32) (k0_t53 : Fin k0_t53_loop.trips) : Fin 2 → Nat :=
  let v692 : Index := Scalar.indexCast v606
  let c1_i32_246 : BitVec 32 := 1#32
  let c1_i32_248 : BitVec 32 := 1#32
  let arg15 : BitVec 32 := Scf.iv c1_i32_246 c1_i32_248 k0_t53
  let c1_i32_274 : BitVec 32 := 1#32
  let v690 : BitVec 32 := Scalar.subi arg15 c1_i32_274
  let c16_i32_275 : BitVec 32 := 16#32
  let v691 : BitVec 32 := Scalar.muli v690 c16_i32_275
  let v693 : Index := Scalar.indexCast v691
  ![v692.toNat, v693.toNat]

def k0_off229 (v606 : BitVec 32) : Fin 2 → Nat :=
  let v615 : Index := Scalar.indexCast v606
  let c496_250 : Index := 496#32
  ![v615.toNat, 496]

def k0_chk50 (i : grid0.Coords) (v66_0 : BitVec 32) (v74 : BitVec 32) (v79 : BitVec 32) (v84 : BitVec 32) (v89 : BitVec 32) (v94 : BitVec 32) (v99 : BitVec 32) (v104 : BitVec 32) (v109 : BitVec 32) (v114 : BitVec 32) (v119 : BitVec 32) (v124 : BitVec 32) (v129 : BitVec 32) (v134 : BitVec 32) (v139 : BitVec 32) (v144 : BitVec 32) (v149 : BitVec 32) (v158_0 : BitVec 32) (v166 : BitVec 32) (v171 : BitVec 32) (v176 : BitVec 32) (v181 : BitVec 32) (v186 : BitVec 32) (v191 : BitVec 32) (v196 : BitVec 32) (v201 : BitVec 32) (v206 : BitVec 32) (v211 : BitVec 32) (v216 : BitVec 32) (v221 : BitVec 32) (v226 : BitVec 32) (v231 : BitVec 32) (v236 : BitVec 32) (v241 : BitVec 32) (k0_t39 : Fin (k0_t39_loop i v66_0 v74 v79 v84 v89 v94 v99 v104 v109 v114 v119 v124 v129 v134 v139 v144 v149 v158_0 v166 v171 v176 v181 v186 v191 v196 v201 v206 v211 v216 v221 v226 v231 v236 v241).trips) (v606 : BitVec 32) : Prop :=
  (∀ k0_t53 : Fin k0_t53_loop.trips, ∀ (k0_h7 : k0_cond7 i v66_0 v74 v79 v84 v89 v94 v99 v104 v109 v114 v119 v124 v129 v134 v139 v144 v149 v158_0 v166 v171 v176 v181 v186 v191 v196 v201 v206 v211 v216 v221 v226 v231 v236 v241 k0_t39 = 1#1), ∀ a, (k0_off228 v606 k0_t53) a + S1x16.size a ≤ S32x512.size a) ∧
  (∀ (k0_h7 : k0_cond7 i v66_0 v74 v79 v84 v89 v94 v99 v104 v109 v114 v119 v124 v129 v134 v139 v144 v149 v158_0 v166 v171 v176 v181 v186 v191 v196 v201 v206 v211 v216 v221 v226 v231 v236 v241 k0_t39 = 1#1), ∀ a, (k0_off229 v606) a + S1x16.size a ≤ S32x512.size a)
theorem k0_off228_inb : ∀ (i : grid0.Coords) (v66_0 : BitVec 32) (v74 : BitVec 32) (v79 : BitVec 32) (v84 : BitVec 32) (v89 : BitVec 32) (v94 : BitVec 32) (v99 : BitVec 32) (v104 : BitVec 32) (v109 : BitVec 32) (v114 : BitVec 32) (v119 : BitVec 32) (v124 : BitVec 32) (v129 : BitVec 32) (v134 : BitVec 32) (v139 : BitVec 32) (v144 : BitVec 32) (v149 : BitVec 32) (v158_0 : BitVec 32) (v166 : BitVec 32) (v171 : BitVec 32) (v176 : BitVec 32) (v181 : BitVec 32) (v186 : BitVec 32) (v191 : BitVec 32) (v196 : BitVec 32) (v201 : BitVec 32) (v206 : BitVec 32) (v211 : BitVec 32) (v216 : BitVec 32) (v221 : BitVec 32) (v226 : BitVec 32) (v231 : BitVec 32) (v236 : BitVec 32) (v241 : BitVec 32) (k0_t39 : Fin (k0_t39_loop i v66_0 v74 v79 v84 v89 v94 v99 v104 v109 v114 v119 v124 v129 v134 v139 v144 v149 v158_0 v166 v171 v176 v181 v186 v191 v196 v201 v206 v211 v216 v221 v226 v231 v236 v241).trips) (v606 : BitVec 32) (k0_hw50 : k0_chk50 i v66_0 v74 v79 v84 v89 v94 v99 v104 v109 v114 v119 v124 v129 v134 v139 v144 v149 v158_0 v166 v171 v176 v181 v186 v191 v196 v201 v206 v211 v216 v221 v226 v231 v236 v241 k0_t39 v606) (k0_t53 : Fin k0_t53_loop.trips), ∀ (k0_h7 : k0_cond7 i v66_0 v74 v79 v84 v89 v94 v99 v104 v109 v114 v119 v124 v129 v134 v139 v144 v149 v158_0 v166 v171 v176 v181 v186 v191 v196 v201 v206 v211 v216 v221 v226 v231 v236 v241 k0_t39 = 1#1), ∀ a, (k0_off228 v606 k0_t53) a + S1x16.size a ≤ S32x512.size a := fun i v66_0 v74 v79 v84 v89 v94 v99 v104 v109 v114 v119 v124 v129 v134 v139 v144 v149 v158_0 v166 v171 v176 v181 v186 v191 v196 v201 v206 v211 v216 v221 v226 v231 v236 v241 k0_t39 v606 k0_hw50 k0_t53 k0_h7 => k0_hw50.1 k0_t53 k0_h7
theorem k0_off229_inb : ∀ (i : grid0.Coords) (v66_0 : BitVec 32) (v74 : BitVec 32) (v79 : BitVec 32) (v84 : BitVec 32) (v89 : BitVec 32) (v94 : BitVec 32) (v99 : BitVec 32) (v104 : BitVec 32) (v109 : BitVec 32) (v114 : BitVec 32) (v119 : BitVec 32) (v124 : BitVec 32) (v129 : BitVec 32) (v134 : BitVec 32) (v139 : BitVec 32) (v144 : BitVec 32) (v149 : BitVec 32) (v158_0 : BitVec 32) (v166 : BitVec 32) (v171 : BitVec 32) (v176 : BitVec 32) (v181 : BitVec 32) (v186 : BitVec 32) (v191 : BitVec 32) (v196 : BitVec 32) (v201 : BitVec 32) (v206 : BitVec 32) (v211 : BitVec 32) (v216 : BitVec 32) (v221 : BitVec 32) (v226 : BitVec 32) (v231 : BitVec 32) (v236 : BitVec 32) (v241 : BitVec 32) (k0_t39 : Fin (k0_t39_loop i v66_0 v74 v79 v84 v89 v94 v99 v104 v109 v114 v119 v124 v129 v134 v139 v144 v149 v158_0 v166 v171 v176 v181 v186 v191 v196 v201 v206 v211 v216 v221 v226 v231 v236 v241).trips) (v606 : BitVec 32) (k0_hw50 : k0_chk50 i v66_0 v74 v79 v84 v89 v94 v99 v104 v109 v114 v119 v124 v129 v134 v139 v144 v149 v158_0 v166 v171 v176 v181 v186 v191 v196 v201 v206 v211 v216 v221 v226 v231 v236 v241 k0_t39 v606), ∀ (k0_h7 : k0_cond7 i v66_0 v74 v79 v84 v89 v94 v99 v104 v109 v114 v119 v124 v129 v134 v139 v144 v149 v158_0 v166 v171 v176 v181 v186 v191 v196 v201 v206 v211 v216 v221 v226 v231 v236 v241 k0_t39 = 1#1), ∀ a, (k0_off229 v606) a + S1x16.size a ≤ S32x512.size a := fun i v66_0 v74 v79 v84 v89 v94 v99 v104 v109 v114 v119 v124 v129 v134 v139 v144 v149 v158_0 v166 v171 v176 v181 v186 v191 v196 v201 v206 v211 v216 v221 v226 v231 v236 v241 k0_t39 v606 k0_hw50 k0_h7 => k0_hw50.2 k0_h7

def k0_off230 (k0_t40 : Fin k0_t40_loop.trips) : Fin 2 → Nat :=
  let c0_i32_149 : BitVec 32 := 0#32
  let c1_i32_150 : BitVec 32 := 1#32
  let arg14 : BitVec 32 := Scf.iv c0_i32_149 c1_i32_150 k0_t40
  let c16_i32_156 : BitVec 32 := 16#32
  let v342 : BitVec 32 := Scalar.muli arg14 c16_i32_156
  let c13_i32 : BitVec 32 := 13#32
  let v627 : BitVec 32 := Scalar.addi v342 c13_i32
  let v628 : Index := Scalar.indexCast v627
  let c0_252 : Index := 0#32
  ![v628.toNat, 0]
@[reducible] def k0_t54_loop : Scf.Loop 32 :=
  let c1_i32_253 : BitVec 32 := 1#32
  let c31_i32_254 : BitVec 32 := 31#32
  let v633 : BitVec 32 := Scalar.addi c1_i32_253 c31_i32_254
  let c1_i32_255 : BitVec 32 := 1#32
  ⟨c1_i32_253, v633, c1_i32_255⟩
def k0_off231 (k0_t40 : Fin k0_t40_loop.trips) (k0_t54 : Fin k0_t54_loop.trips) : Fin 2 → Nat :=
  let c0_i32_149 : BitVec 32 := 0#32
  let c1_i32_150 : BitVec 32 := 1#32
  let arg14 : BitVec 32 := Scf.iv c0_i32_149 c1_i32_150 k0_t40
  let c16_i32_156 : BitVec 32 := 16#32
  let v342 : BitVec 32 := Scalar.muli arg14 c16_i32_156
  let c13_i32 : BitVec 32 := 13#32
  let v627 : BitVec 32 := Scalar.addi v342 c13_i32
  let v684 : Index := Scalar.indexCast v627
  let c1_i32_253 : BitVec 32 := 1#32
  let c1_i32_255 : BitVec 32 := 1#32
  let arg15 : BitVec 32 := Scf.iv c1_i32_253 c1_i32_255 k0_t54
  let c16_i32_273 : BitVec 32 := 16#32
  let v683 : BitVec 32 := Scalar.muli arg15 c16_i32_273
  let v685 : Index := Scalar.indexCast v683
  ![v684.toNat, v685.toNat]
def k0_off232 (v626 : BitVec 32) (k0_t54 : Fin k0_t54_loop.trips) : Fin 2 → Nat :=
  let v692 : Index := Scalar.indexCast v626
  let c1_i32_253 : BitVec 32 := 1#32
  let c1_i32_255 : BitVec 32 := 1#32
  let arg15 : BitVec 32 := Scf.iv c1_i32_253 c1_i32_255 k0_t54
  let c1_i32_274 : BitVec 32 := 1#32
  let v690 : BitVec 32 := Scalar.subi arg15 c1_i32_274
  let c16_i32_275 : BitVec 32 := 16#32
  let v691 : BitVec 32 := Scalar.muli v690 c16_i32_275
  let v693 : Index := Scalar.indexCast v691
  ![v692.toNat, v693.toNat]

def k0_off233 (v626 : BitVec 32) : Fin 2 → Nat :=
  let v635 : Index := Scalar.indexCast v626
  let c496_257 : Index := 496#32
  ![v635.toNat, 496]

def k0_chk51 (i : grid0.Coords) (v66_0 : BitVec 32) (v74 : BitVec 32) (v79 : BitVec 32) (v84 : BitVec 32) (v89 : BitVec 32) (v94 : BitVec 32) (v99 : BitVec 32) (v104 : BitVec 32) (v109 : BitVec 32) (v114 : BitVec 32) (v119 : BitVec 32) (v124 : BitVec 32) (v129 : BitVec 32) (v134 : BitVec 32) (v139 : BitVec 32) (v144 : BitVec 32) (v149 : BitVec 32) (v158_0 : BitVec 32) (v166 : BitVec 32) (v171 : BitVec 32) (v176 : BitVec 32) (v181 : BitVec 32) (v186 : BitVec 32) (v191 : BitVec 32) (v196 : BitVec 32) (v201 : BitVec 32) (v206 : BitVec 32) (v211 : BitVec 32) (v216 : BitVec 32) (v221 : BitVec 32) (v226 : BitVec 32) (v231 : BitVec 32) (v236 : BitVec 32) (v241 : BitVec 32) (k0_t39 : Fin (k0_t39_loop i v66_0 v74 v79 v84 v89 v94 v99 v104 v109 v114 v119 v124 v129 v134 v139 v144 v149 v158_0 v166 v171 v176 v181 v186 v191 v196 v201 v206 v211 v216 v221 v226 v231 v236 v241).trips) (v626 : BitVec 32) : Prop :=
  (∀ k0_t54 : Fin k0_t54_loop.trips, ∀ (k0_h7 : k0_cond7 i v66_0 v74 v79 v84 v89 v94 v99 v104 v109 v114 v119 v124 v129 v134 v139 v144 v149 v158_0 v166 v171 v176 v181 v186 v191 v196 v201 v206 v211 v216 v221 v226 v231 v236 v241 k0_t39 = 1#1), ∀ a, (k0_off232 v626 k0_t54) a + S1x16.size a ≤ S32x512.size a) ∧
  (∀ (k0_h7 : k0_cond7 i v66_0 v74 v79 v84 v89 v94 v99 v104 v109 v114 v119 v124 v129 v134 v139 v144 v149 v158_0 v166 v171 v176 v181 v186 v191 v196 v201 v206 v211 v216 v221 v226 v231 v236 v241 k0_t39 = 1#1), ∀ a, (k0_off233 v626) a + S1x16.size a ≤ S32x512.size a)
theorem k0_off232_inb : ∀ (i : grid0.Coords) (v66_0 : BitVec 32) (v74 : BitVec 32) (v79 : BitVec 32) (v84 : BitVec 32) (v89 : BitVec 32) (v94 : BitVec 32) (v99 : BitVec 32) (v104 : BitVec 32) (v109 : BitVec 32) (v114 : BitVec 32) (v119 : BitVec 32) (v124 : BitVec 32) (v129 : BitVec 32) (v134 : BitVec 32) (v139 : BitVec 32) (v144 : BitVec 32) (v149 : BitVec 32) (v158_0 : BitVec 32) (v166 : BitVec 32) (v171 : BitVec 32) (v176 : BitVec 32) (v181 : BitVec 32) (v186 : BitVec 32) (v191 : BitVec 32) (v196 : BitVec 32) (v201 : BitVec 32) (v206 : BitVec 32) (v211 : BitVec 32) (v216 : BitVec 32) (v221 : BitVec 32) (v226 : BitVec 32) (v231 : BitVec 32) (v236 : BitVec 32) (v241 : BitVec 32) (k0_t39 : Fin (k0_t39_loop i v66_0 v74 v79 v84 v89 v94 v99 v104 v109 v114 v119 v124 v129 v134 v139 v144 v149 v158_0 v166 v171 v176 v181 v186 v191 v196 v201 v206 v211 v216 v221 v226 v231 v236 v241).trips) (v626 : BitVec 32) (k0_hw51 : k0_chk51 i v66_0 v74 v79 v84 v89 v94 v99 v104 v109 v114 v119 v124 v129 v134 v139 v144 v149 v158_0 v166 v171 v176 v181 v186 v191 v196 v201 v206 v211 v216 v221 v226 v231 v236 v241 k0_t39 v626) (k0_t54 : Fin k0_t54_loop.trips), ∀ (k0_h7 : k0_cond7 i v66_0 v74 v79 v84 v89 v94 v99 v104 v109 v114 v119 v124 v129 v134 v139 v144 v149 v158_0 v166 v171 v176 v181 v186 v191 v196 v201 v206 v211 v216 v221 v226 v231 v236 v241 k0_t39 = 1#1), ∀ a, (k0_off232 v626 k0_t54) a + S1x16.size a ≤ S32x512.size a := fun i v66_0 v74 v79 v84 v89 v94 v99 v104 v109 v114 v119 v124 v129 v134 v139 v144 v149 v158_0 v166 v171 v176 v181 v186 v191 v196 v201 v206 v211 v216 v221 v226 v231 v236 v241 k0_t39 v626 k0_hw51 k0_t54 k0_h7 => k0_hw51.1 k0_t54 k0_h7
theorem k0_off233_inb : ∀ (i : grid0.Coords) (v66_0 : BitVec 32) (v74 : BitVec 32) (v79 : BitVec 32) (v84 : BitVec 32) (v89 : BitVec 32) (v94 : BitVec 32) (v99 : BitVec 32) (v104 : BitVec 32) (v109 : BitVec 32) (v114 : BitVec 32) (v119 : BitVec 32) (v124 : BitVec 32) (v129 : BitVec 32) (v134 : BitVec 32) (v139 : BitVec 32) (v144 : BitVec 32) (v149 : BitVec 32) (v158_0 : BitVec 32) (v166 : BitVec 32) (v171 : BitVec 32) (v176 : BitVec 32) (v181 : BitVec 32) (v186 : BitVec 32) (v191 : BitVec 32) (v196 : BitVec 32) (v201 : BitVec 32) (v206 : BitVec 32) (v211 : BitVec 32) (v216 : BitVec 32) (v221 : BitVec 32) (v226 : BitVec 32) (v231 : BitVec 32) (v236 : BitVec 32) (v241 : BitVec 32) (k0_t39 : Fin (k0_t39_loop i v66_0 v74 v79 v84 v89 v94 v99 v104 v109 v114 v119 v124 v129 v134 v139 v144 v149 v158_0 v166 v171 v176 v181 v186 v191 v196 v201 v206 v211 v216 v221 v226 v231 v236 v241).trips) (v626 : BitVec 32) (k0_hw51 : k0_chk51 i v66_0 v74 v79 v84 v89 v94 v99 v104 v109 v114 v119 v124 v129 v134 v139 v144 v149 v158_0 v166 v171 v176 v181 v186 v191 v196 v201 v206 v211 v216 v221 v226 v231 v236 v241 k0_t39 v626), ∀ (k0_h7 : k0_cond7 i v66_0 v74 v79 v84 v89 v94 v99 v104 v109 v114 v119 v124 v129 v134 v139 v144 v149 v158_0 v166 v171 v176 v181 v186 v191 v196 v201 v206 v211 v216 v221 v226 v231 v236 v241 k0_t39 = 1#1), ∀ a, (k0_off233 v626) a + S1x16.size a ≤ S32x512.size a := fun i v66_0 v74 v79 v84 v89 v94 v99 v104 v109 v114 v119 v124 v129 v134 v139 v144 v149 v158_0 v166 v171 v176 v181 v186 v191 v196 v201 v206 v211 v216 v221 v226 v231 v236 v241 k0_t39 v626 k0_hw51 k0_h7 => k0_hw51.2 k0_h7

def k0_off234 (k0_t40 : Fin k0_t40_loop.trips) : Fin 2 → Nat :=
  let c0_i32_149 : BitVec 32 := 0#32
  let c1_i32_150 : BitVec 32 := 1#32
  let arg14 : BitVec 32 := Scf.iv c0_i32_149 c1_i32_150 k0_t40
  let c16_i32_156 : BitVec 32 := 16#32
  let v342 : BitVec 32 := Scalar.muli arg14 c16_i32_156
  let c14_i32 : BitVec 32 := 14#32
  let v647 : BitVec 32 := Scalar.addi v342 c14_i32
  let v648 : Index := Scalar.indexCast v647
  let c0_259 : Index := 0#32
  ![v648.toNat, 0]
@[reducible] def k0_t55_loop : Scf.Loop 32 :=
  let c1_i32_260 : BitVec 32 := 1#32
  let c31_i32_261 : BitVec 32 := 31#32
  let v653 : BitVec 32 := Scalar.addi c1_i32_260 c31_i32_261
  let c1_i32_262 : BitVec 32 := 1#32
  ⟨c1_i32_260, v653, c1_i32_262⟩
def k0_off235 (k0_t40 : Fin k0_t40_loop.trips) (k0_t55 : Fin k0_t55_loop.trips) : Fin 2 → Nat :=
  let c0_i32_149 : BitVec 32 := 0#32
  let c1_i32_150 : BitVec 32 := 1#32
  let arg14 : BitVec 32 := Scf.iv c0_i32_149 c1_i32_150 k0_t40
  let c16_i32_156 : BitVec 32 := 16#32
  let v342 : BitVec 32 := Scalar.muli arg14 c16_i32_156
  let c14_i32 : BitVec 32 := 14#32
  let v647 : BitVec 32 := Scalar.addi v342 c14_i32
  let v684 : Index := Scalar.indexCast v647
  let c1_i32_260 : BitVec 32 := 1#32
  let c1_i32_262 : BitVec 32 := 1#32
  let arg15 : BitVec 32 := Scf.iv c1_i32_260 c1_i32_262 k0_t55
  let c16_i32_273 : BitVec 32 := 16#32
  let v683 : BitVec 32 := Scalar.muli arg15 c16_i32_273
  let v685 : Index := Scalar.indexCast v683
  ![v684.toNat, v685.toNat]
def k0_off236 (v646 : BitVec 32) (k0_t55 : Fin k0_t55_loop.trips) : Fin 2 → Nat :=
  let v692 : Index := Scalar.indexCast v646
  let c1_i32_260 : BitVec 32 := 1#32
  let c1_i32_262 : BitVec 32 := 1#32
  let arg15 : BitVec 32 := Scf.iv c1_i32_260 c1_i32_262 k0_t55
  let c1_i32_274 : BitVec 32 := 1#32
  let v690 : BitVec 32 := Scalar.subi arg15 c1_i32_274
  let c16_i32_275 : BitVec 32 := 16#32
  let v691 : BitVec 32 := Scalar.muli v690 c16_i32_275
  let v693 : Index := Scalar.indexCast v691
  ![v692.toNat, v693.toNat]

def k0_off237 (v646 : BitVec 32) : Fin 2 → Nat :=
  let v655 : Index := Scalar.indexCast v646
  let c496_264 : Index := 496#32
  ![v655.toNat, 496]

def k0_chk52 (i : grid0.Coords) (v66_0 : BitVec 32) (v74 : BitVec 32) (v79 : BitVec 32) (v84 : BitVec 32) (v89 : BitVec 32) (v94 : BitVec 32) (v99 : BitVec 32) (v104 : BitVec 32) (v109 : BitVec 32) (v114 : BitVec 32) (v119 : BitVec 32) (v124 : BitVec 32) (v129 : BitVec 32) (v134 : BitVec 32) (v139 : BitVec 32) (v144 : BitVec 32) (v149 : BitVec 32) (v158_0 : BitVec 32) (v166 : BitVec 32) (v171 : BitVec 32) (v176 : BitVec 32) (v181 : BitVec 32) (v186 : BitVec 32) (v191 : BitVec 32) (v196 : BitVec 32) (v201 : BitVec 32) (v206 : BitVec 32) (v211 : BitVec 32) (v216 : BitVec 32) (v221 : BitVec 32) (v226 : BitVec 32) (v231 : BitVec 32) (v236 : BitVec 32) (v241 : BitVec 32) (k0_t39 : Fin (k0_t39_loop i v66_0 v74 v79 v84 v89 v94 v99 v104 v109 v114 v119 v124 v129 v134 v139 v144 v149 v158_0 v166 v171 v176 v181 v186 v191 v196 v201 v206 v211 v216 v221 v226 v231 v236 v241).trips) (v646 : BitVec 32) : Prop :=
  (∀ k0_t55 : Fin k0_t55_loop.trips, ∀ (k0_h7 : k0_cond7 i v66_0 v74 v79 v84 v89 v94 v99 v104 v109 v114 v119 v124 v129 v134 v139 v144 v149 v158_0 v166 v171 v176 v181 v186 v191 v196 v201 v206 v211 v216 v221 v226 v231 v236 v241 k0_t39 = 1#1), ∀ a, (k0_off236 v646 k0_t55) a + S1x16.size a ≤ S32x512.size a) ∧
  (∀ (k0_h7 : k0_cond7 i v66_0 v74 v79 v84 v89 v94 v99 v104 v109 v114 v119 v124 v129 v134 v139 v144 v149 v158_0 v166 v171 v176 v181 v186 v191 v196 v201 v206 v211 v216 v221 v226 v231 v236 v241 k0_t39 = 1#1), ∀ a, (k0_off237 v646) a + S1x16.size a ≤ S32x512.size a)
theorem k0_off236_inb : ∀ (i : grid0.Coords) (v66_0 : BitVec 32) (v74 : BitVec 32) (v79 : BitVec 32) (v84 : BitVec 32) (v89 : BitVec 32) (v94 : BitVec 32) (v99 : BitVec 32) (v104 : BitVec 32) (v109 : BitVec 32) (v114 : BitVec 32) (v119 : BitVec 32) (v124 : BitVec 32) (v129 : BitVec 32) (v134 : BitVec 32) (v139 : BitVec 32) (v144 : BitVec 32) (v149 : BitVec 32) (v158_0 : BitVec 32) (v166 : BitVec 32) (v171 : BitVec 32) (v176 : BitVec 32) (v181 : BitVec 32) (v186 : BitVec 32) (v191 : BitVec 32) (v196 : BitVec 32) (v201 : BitVec 32) (v206 : BitVec 32) (v211 : BitVec 32) (v216 : BitVec 32) (v221 : BitVec 32) (v226 : BitVec 32) (v231 : BitVec 32) (v236 : BitVec 32) (v241 : BitVec 32) (k0_t39 : Fin (k0_t39_loop i v66_0 v74 v79 v84 v89 v94 v99 v104 v109 v114 v119 v124 v129 v134 v139 v144 v149 v158_0 v166 v171 v176 v181 v186 v191 v196 v201 v206 v211 v216 v221 v226 v231 v236 v241).trips) (v646 : BitVec 32) (k0_hw52 : k0_chk52 i v66_0 v74 v79 v84 v89 v94 v99 v104 v109 v114 v119 v124 v129 v134 v139 v144 v149 v158_0 v166 v171 v176 v181 v186 v191 v196 v201 v206 v211 v216 v221 v226 v231 v236 v241 k0_t39 v646) (k0_t55 : Fin k0_t55_loop.trips), ∀ (k0_h7 : k0_cond7 i v66_0 v74 v79 v84 v89 v94 v99 v104 v109 v114 v119 v124 v129 v134 v139 v144 v149 v158_0 v166 v171 v176 v181 v186 v191 v196 v201 v206 v211 v216 v221 v226 v231 v236 v241 k0_t39 = 1#1), ∀ a, (k0_off236 v646 k0_t55) a + S1x16.size a ≤ S32x512.size a := fun i v66_0 v74 v79 v84 v89 v94 v99 v104 v109 v114 v119 v124 v129 v134 v139 v144 v149 v158_0 v166 v171 v176 v181 v186 v191 v196 v201 v206 v211 v216 v221 v226 v231 v236 v241 k0_t39 v646 k0_hw52 k0_t55 k0_h7 => k0_hw52.1 k0_t55 k0_h7
theorem k0_off237_inb : ∀ (i : grid0.Coords) (v66_0 : BitVec 32) (v74 : BitVec 32) (v79 : BitVec 32) (v84 : BitVec 32) (v89 : BitVec 32) (v94 : BitVec 32) (v99 : BitVec 32) (v104 : BitVec 32) (v109 : BitVec 32) (v114 : BitVec 32) (v119 : BitVec 32) (v124 : BitVec 32) (v129 : BitVec 32) (v134 : BitVec 32) (v139 : BitVec 32) (v144 : BitVec 32) (v149 : BitVec 32) (v158_0 : BitVec 32) (v166 : BitVec 32) (v171 : BitVec 32) (v176 : BitVec 32) (v181 : BitVec 32) (v186 : BitVec 32) (v191 : BitVec 32) (v196 : BitVec 32) (v201 : BitVec 32) (v206 : BitVec 32) (v211 : BitVec 32) (v216 : BitVec 32) (v221 : BitVec 32) (v226 : BitVec 32) (v231 : BitVec 32) (v236 : BitVec 32) (v241 : BitVec 32) (k0_t39 : Fin (k0_t39_loop i v66_0 v74 v79 v84 v89 v94 v99 v104 v109 v114 v119 v124 v129 v134 v139 v144 v149 v158_0 v166 v171 v176 v181 v186 v191 v196 v201 v206 v211 v216 v221 v226 v231 v236 v241).trips) (v646 : BitVec 32) (k0_hw52 : k0_chk52 i v66_0 v74 v79 v84 v89 v94 v99 v104 v109 v114 v119 v124 v129 v134 v139 v144 v149 v158_0 v166 v171 v176 v181 v186 v191 v196 v201 v206 v211 v216 v221 v226 v231 v236 v241 k0_t39 v646), ∀ (k0_h7 : k0_cond7 i v66_0 v74 v79 v84 v89 v94 v99 v104 v109 v114 v119 v124 v129 v134 v139 v144 v149 v158_0 v166 v171 v176 v181 v186 v191 v196 v201 v206 v211 v216 v221 v226 v231 v236 v241 k0_t39 = 1#1), ∀ a, (k0_off237 v646) a + S1x16.size a ≤ S32x512.size a := fun i v66_0 v74 v79 v84 v89 v94 v99 v104 v109 v114 v119 v124 v129 v134 v139 v144 v149 v158_0 v166 v171 v176 v181 v186 v191 v196 v201 v206 v211 v216 v221 v226 v231 v236 v241 k0_t39 v646 k0_hw52 k0_h7 => k0_hw52.2 k0_h7

def k0_off238 (k0_t40 : Fin k0_t40_loop.trips) : Fin 2 → Nat :=
  let c0_i32_149 : BitVec 32 := 0#32
  let c1_i32_150 : BitVec 32 := 1#32
  let arg14 : BitVec 32 := Scf.iv c0_i32_149 c1_i32_150 k0_t40
  let c16_i32_156 : BitVec 32 := 16#32
  let v342 : BitVec 32 := Scalar.muli arg14 c16_i32_156
  let c15_i32 : BitVec 32 := 15#32
  let v667 : BitVec 32 := Scalar.addi v342 c15_i32
  let v668 : Index := Scalar.indexCast v667
  let c0_266 : Index := 0#32
  ![v668.toNat, 0]
@[reducible] def k0_t56_loop : Scf.Loop 32 :=
  let c1_i32_267 : BitVec 32 := 1#32
  let c31_i32_268 : BitVec 32 := 31#32
  let v673 : BitVec 32 := Scalar.addi c1_i32_267 c31_i32_268
  let c1_i32_269 : BitVec 32 := 1#32
  ⟨c1_i32_267, v673, c1_i32_269⟩
def k0_off239 (k0_t40 : Fin k0_t40_loop.trips) (k0_t56 : Fin k0_t56_loop.trips) : Fin 2 → Nat :=
  let c0_i32_149 : BitVec 32 := 0#32
  let c1_i32_150 : BitVec 32 := 1#32
  let arg14 : BitVec 32 := Scf.iv c0_i32_149 c1_i32_150 k0_t40
  let c16_i32_156 : BitVec 32 := 16#32
  let v342 : BitVec 32 := Scalar.muli arg14 c16_i32_156
  let c15_i32 : BitVec 32 := 15#32
  let v667 : BitVec 32 := Scalar.addi v342 c15_i32
  let v684 : Index := Scalar.indexCast v667
  let c1_i32_267 : BitVec 32 := 1#32
  let c1_i32_269 : BitVec 32 := 1#32
  let arg15 : BitVec 32 := Scf.iv c1_i32_267 c1_i32_269 k0_t56
  let c16_i32_273 : BitVec 32 := 16#32
  let v683 : BitVec 32 := Scalar.muli arg15 c16_i32_273
  let v685 : Index := Scalar.indexCast v683
  ![v684.toNat, v685.toNat]
def k0_off240 (v666 : BitVec 32) (k0_t56 : Fin k0_t56_loop.trips) : Fin 2 → Nat :=
  let v692 : Index := Scalar.indexCast v666
  let c1_i32_267 : BitVec 32 := 1#32
  let c1_i32_269 : BitVec 32 := 1#32
  let arg15 : BitVec 32 := Scf.iv c1_i32_267 c1_i32_269 k0_t56
  let c1_i32_274 : BitVec 32 := 1#32
  let v690 : BitVec 32 := Scalar.subi arg15 c1_i32_274
  let c16_i32_275 : BitVec 32 := 16#32
  let v691 : BitVec 32 := Scalar.muli v690 c16_i32_275
  let v693 : Index := Scalar.indexCast v691
  ![v692.toNat, v693.toNat]

def k0_off241 (v666 : BitVec 32) : Fin 2 → Nat :=
  let v675 : Index := Scalar.indexCast v666
  let c496_271 : Index := 496#32
  ![v675.toNat, 496]

def k0_chk53 (i : grid0.Coords) (v66_0 : BitVec 32) (v74 : BitVec 32) (v79 : BitVec 32) (v84 : BitVec 32) (v89 : BitVec 32) (v94 : BitVec 32) (v99 : BitVec 32) (v104 : BitVec 32) (v109 : BitVec 32) (v114 : BitVec 32) (v119 : BitVec 32) (v124 : BitVec 32) (v129 : BitVec 32) (v134 : BitVec 32) (v139 : BitVec 32) (v144 : BitVec 32) (v149 : BitVec 32) (v158_0 : BitVec 32) (v166 : BitVec 32) (v171 : BitVec 32) (v176 : BitVec 32) (v181 : BitVec 32) (v186 : BitVec 32) (v191 : BitVec 32) (v196 : BitVec 32) (v201 : BitVec 32) (v206 : BitVec 32) (v211 : BitVec 32) (v216 : BitVec 32) (v221 : BitVec 32) (v226 : BitVec 32) (v231 : BitVec 32) (v236 : BitVec 32) (v241 : BitVec 32) (k0_t39 : Fin (k0_t39_loop i v66_0 v74 v79 v84 v89 v94 v99 v104 v109 v114 v119 v124 v129 v134 v139 v144 v149 v158_0 v166 v171 v176 v181 v186 v191 v196 v201 v206 v211 v216 v221 v226 v231 v236 v241).trips) (v666 : BitVec 32) : Prop :=
  (∀ k0_t56 : Fin k0_t56_loop.trips, ∀ (k0_h7 : k0_cond7 i v66_0 v74 v79 v84 v89 v94 v99 v104 v109 v114 v119 v124 v129 v134 v139 v144 v149 v158_0 v166 v171 v176 v181 v186 v191 v196 v201 v206 v211 v216 v221 v226 v231 v236 v241 k0_t39 = 1#1), ∀ a, (k0_off240 v666 k0_t56) a + S1x16.size a ≤ S32x512.size a) ∧
  (∀ (k0_h7 : k0_cond7 i v66_0 v74 v79 v84 v89 v94 v99 v104 v109 v114 v119 v124 v129 v134 v139 v144 v149 v158_0 v166 v171 v176 v181 v186 v191 v196 v201 v206 v211 v216 v221 v226 v231 v236 v241 k0_t39 = 1#1), ∀ a, (k0_off241 v666) a + S1x16.size a ≤ S32x512.size a)
theorem k0_off240_inb : ∀ (i : grid0.Coords) (v66_0 : BitVec 32) (v74 : BitVec 32) (v79 : BitVec 32) (v84 : BitVec 32) (v89 : BitVec 32) (v94 : BitVec 32) (v99 : BitVec 32) (v104 : BitVec 32) (v109 : BitVec 32) (v114 : BitVec 32) (v119 : BitVec 32) (v124 : BitVec 32) (v129 : BitVec 32) (v134 : BitVec 32) (v139 : BitVec 32) (v144 : BitVec 32) (v149 : BitVec 32) (v158_0 : BitVec 32) (v166 : BitVec 32) (v171 : BitVec 32) (v176 : BitVec 32) (v181 : BitVec 32) (v186 : BitVec 32) (v191 : BitVec 32) (v196 : BitVec 32) (v201 : BitVec 32) (v206 : BitVec 32) (v211 : BitVec 32) (v216 : BitVec 32) (v221 : BitVec 32) (v226 : BitVec 32) (v231 : BitVec 32) (v236 : BitVec 32) (v241 : BitVec 32) (k0_t39 : Fin (k0_t39_loop i v66_0 v74 v79 v84 v89 v94 v99 v104 v109 v114 v119 v124 v129 v134 v139 v144 v149 v158_0 v166 v171 v176 v181 v186 v191 v196 v201 v206 v211 v216 v221 v226 v231 v236 v241).trips) (v666 : BitVec 32) (k0_hw53 : k0_chk53 i v66_0 v74 v79 v84 v89 v94 v99 v104 v109 v114 v119 v124 v129 v134 v139 v144 v149 v158_0 v166 v171 v176 v181 v186 v191 v196 v201 v206 v211 v216 v221 v226 v231 v236 v241 k0_t39 v666) (k0_t56 : Fin k0_t56_loop.trips), ∀ (k0_h7 : k0_cond7 i v66_0 v74 v79 v84 v89 v94 v99 v104 v109 v114 v119 v124 v129 v134 v139 v144 v149 v158_0 v166 v171 v176 v181 v186 v191 v196 v201 v206 v211 v216 v221 v226 v231 v236 v241 k0_t39 = 1#1), ∀ a, (k0_off240 v666 k0_t56) a + S1x16.size a ≤ S32x512.size a := fun i v66_0 v74 v79 v84 v89 v94 v99 v104 v109 v114 v119 v124 v129 v134 v139 v144 v149 v158_0 v166 v171 v176 v181 v186 v191 v196 v201 v206 v211 v216 v221 v226 v231 v236 v241 k0_t39 v666 k0_hw53 k0_t56 k0_h7 => k0_hw53.1 k0_t56 k0_h7
theorem k0_off241_inb : ∀ (i : grid0.Coords) (v66_0 : BitVec 32) (v74 : BitVec 32) (v79 : BitVec 32) (v84 : BitVec 32) (v89 : BitVec 32) (v94 : BitVec 32) (v99 : BitVec 32) (v104 : BitVec 32) (v109 : BitVec 32) (v114 : BitVec 32) (v119 : BitVec 32) (v124 : BitVec 32) (v129 : BitVec 32) (v134 : BitVec 32) (v139 : BitVec 32) (v144 : BitVec 32) (v149 : BitVec 32) (v158_0 : BitVec 32) (v166 : BitVec 32) (v171 : BitVec 32) (v176 : BitVec 32) (v181 : BitVec 32) (v186 : BitVec 32) (v191 : BitVec 32) (v196 : BitVec 32) (v201 : BitVec 32) (v206 : BitVec 32) (v211 : BitVec 32) (v216 : BitVec 32) (v221 : BitVec 32) (v226 : BitVec 32) (v231 : BitVec 32) (v236 : BitVec 32) (v241 : BitVec 32) (k0_t39 : Fin (k0_t39_loop i v66_0 v74 v79 v84 v89 v94 v99 v104 v109 v114 v119 v124 v129 v134 v139 v144 v149 v158_0 v166 v171 v176 v181 v186 v191 v196 v201 v206 v211 v216 v221 v226 v231 v236 v241).trips) (v666 : BitVec 32) (k0_hw53 : k0_chk53 i v66_0 v74 v79 v84 v89 v94 v99 v104 v109 v114 v119 v124 v129 v134 v139 v144 v149 v158_0 v166 v171 v176 v181 v186 v191 v196 v201 v206 v211 v216 v221 v226 v231 v236 v241 k0_t39 v666), ∀ (k0_h7 : k0_cond7 i v66_0 v74 v79 v84 v89 v94 v99 v104 v109 v114 v119 v124 v129 v134 v139 v144 v149 v158_0 v166 v171 v176 v181 v186 v191 v196 v201 v206 v211 v216 v221 v226 v231 v236 v241 k0_t39 = 1#1), ∀ a, (k0_off241 v666) a + S1x16.size a ≤ S32x512.size a := fun i v66_0 v74 v79 v84 v89 v94 v99 v104 v109 v114 v119 v124 v129 v134 v139 v144 v149 v158_0 v166 v171 v176 v181 v186 v191 v196 v201 v206 v211 v216 v221 v226 v231 v236 v241 k0_t39 v666 k0_hw53 k0_h7 => k0_hw53.2 k0_h7

def k0_off242 (i : grid0.Coords) (v66_0 : BitVec 32) (v74 : BitVec 32) (v79 : BitVec 32) (v84 : BitVec 32) (v89 : BitVec 32) (v94 : BitVec 32) (v99 : BitVec 32) (v104 : BitVec 32) (v109 : BitVec 32) (v114 : BitVec 32) (v119 : BitVec 32) (v124 : BitVec 32) (v129 : BitVec 32) (v134 : BitVec 32) (v139 : BitVec 32) (v144 : BitVec 32) (v149 : BitVec 32) (v158_0 : BitVec 32) (v166 : BitVec 32) (v171 : BitVec 32) (v176 : BitVec 32) (v181 : BitVec 32) (v186 : BitVec 32) (v191 : BitVec 32) (v196 : BitVec 32) (v201 : BitVec 32) (v206 : BitVec 32) (v211 : BitVec 32) (v216 : BitVec 32) (v221 : BitVec 32) (v226 : BitVec 32) (v231 : BitVec 32) (v236 : BitVec 32) (v241 : BitVec 32) (k0_t39 : Fin (k0_t39_loop i v66_0 v74 v79 v84 v89 v94 v99 v104 v109 v114 v119 v124 v129 v134 v139 v144 v149 v158_0 v166 v171 v176 v181 v186 v191 v196 v201 v206 v211 v216 v221 v226 v231 v236 v241).trips) : Fin 2 → Nat :=
  let c0_i32_57 : BitVec 32 := 0#32
  let v153 : BitVec 1 := Scalar.cmpi .eq v66_0 c0_i32_57
  let c0_i32_59 : BitVec 32 := 0#32
  let c1_i32_22 : BitVec 32 := 1#32
  let v67 : BitVec 32 := Scalar.subi v66_0 c1_i32_22
  let c0_i32_23 : BitVec 32 := 0#32
  let v68 : BitVec 32 := Scalar.maxsi v67 c0_i32_23
  let c16_i32_58 : BitVec 32 := 16#32
  let v154 : BitVec 32 := Scalar.muli v68 c16_i32_58
  let c0_i32_26 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let v75 : BitVec 1 := Scalar.cmpi .slt v74 v2
  let c1_i32_24 : BitVec 32 := 1#32
  let c0_i32_25 : BitVec 32 := 0#32
  let v76 : BitVec 32 := Scalar.select v75 c1_i32_24 c0_i32_25
  let v77 : BitVec 32 := Scalar.addi c0_i32_26 v76
  let v80 : BitVec 1 := Scalar.cmpi .slt v79 v2
  let c1_i32_27 : BitVec 32 := 1#32
  let c0_i32_28 : BitVec 32 := 0#32
  let v81 : BitVec 32 := Scalar.select v80 c1_i32_27 c0_i32_28
  let v82 : BitVec 32 := Scalar.addi v77 v81
  let v85 : BitVec 1 := Scalar.cmpi .slt v84 v2
  let c1_i32_29 : BitVec 32 := 1#32
  let c0_i32_30 : BitVec 32 := 0#32
  let v86 : BitVec 32 := Scalar.select v85 c1_i32_29 c0_i32_30
  let v87 : BitVec 32 := Scalar.addi v82 v86
  let v90 : BitVec 1 := Scalar.cmpi .slt v89 v2
  let c1_i32_31 : BitVec 32 := 1#32
  let c0_i32_32 : BitVec 32 := 0#32
  let v91 : BitVec 32 := Scalar.select v90 c1_i32_31 c0_i32_32
  let v92 : BitVec 32 := Scalar.addi v87 v91
  let v95 : BitVec 1 := Scalar.cmpi .slt v94 v2
  let c1_i32_33 : BitVec 32 := 1#32
  let c0_i32_34 : BitVec 32 := 0#32
  let v96 : BitVec 32 := Scalar.select v95 c1_i32_33 c0_i32_34
  let v97 : BitVec 32 := Scalar.addi v92 v96
  let v100 : BitVec 1 := Scalar.cmpi .slt v99 v2
  let c1_i32_35 : BitVec 32 := 1#32
  let c0_i32_36 : BitVec 32 := 0#32
  let v101 : BitVec 32 := Scalar.select v100 c1_i32_35 c0_i32_36
  let v102 : BitVec 32 := Scalar.addi v97 v101
  let v105 : BitVec 1 := Scalar.cmpi .slt v104 v2
  let c1_i32_37 : BitVec 32 := 1#32
  let c0_i32_38 : BitVec 32 := 0#32
  let v106 : BitVec 32 := Scalar.select v105 c1_i32_37 c0_i32_38
  let v107 : BitVec 32 := Scalar.addi v102 v106
  let v110 : BitVec 1 := Scalar.cmpi .slt v109 v2
  let c1_i32_39 : BitVec 32 := 1#32
  let c0_i32_40 : BitVec 32 := 0#32
  let v111 : BitVec 32 := Scalar.select v110 c1_i32_39 c0_i32_40
  let v112 : BitVec 32 := Scalar.addi v107 v111
  let v115 : BitVec 1 := Scalar.cmpi .slt v114 v2
  let c1_i32_41 : BitVec 32 := 1#32
  let c0_i32_42 : BitVec 32 := 0#32
  let v116 : BitVec 32 := Scalar.select v115 c1_i32_41 c0_i32_42
  let v117 : BitVec 32 := Scalar.addi v112 v116
  let v120 : BitVec 1 := Scalar.cmpi .slt v119 v2
  let c1_i32_43 : BitVec 32 := 1#32
  let c0_i32_44 : BitVec 32 := 0#32
  let v121 : BitVec 32 := Scalar.select v120 c1_i32_43 c0_i32_44
  let v122 : BitVec 32 := Scalar.addi v117 v121
  let v125 : BitVec 1 := Scalar.cmpi .slt v124 v2
  let c1_i32_45 : BitVec 32 := 1#32
  let c0_i32_46 : BitVec 32 := 0#32
  let v126 : BitVec 32 := Scalar.select v125 c1_i32_45 c0_i32_46
  let v127 : BitVec 32 := Scalar.addi v122 v126
  let v130 : BitVec 1 := Scalar.cmpi .slt v129 v2
  let c1_i32_47 : BitVec 32 := 1#32
  let c0_i32_48 : BitVec 32 := 0#32
  let v131 : BitVec 32 := Scalar.select v130 c1_i32_47 c0_i32_48
  let v132 : BitVec 32 := Scalar.addi v127 v131
  let v135 : BitVec 1 := Scalar.cmpi .slt v134 v2
  let c1_i32_49 : BitVec 32 := 1#32
  let c0_i32_50 : BitVec 32 := 0#32
  let v136 : BitVec 32 := Scalar.select v135 c1_i32_49 c0_i32_50
  let v137 : BitVec 32 := Scalar.addi v132 v136
  let v140 : BitVec 1 := Scalar.cmpi .slt v139 v2
  let c1_i32_51 : BitVec 32 := 1#32
  let c0_i32_52 : BitVec 32 := 0#32
  let v141 : BitVec 32 := Scalar.select v140 c1_i32_51 c0_i32_52
  let v142 : BitVec 32 := Scalar.addi v137 v141
  let v145 : BitVec 1 := Scalar.cmpi .slt v144 v2
  let c1_i32_53 : BitVec 32 := 1#32
  let c0_i32_54 : BitVec 32 := 0#32
  let v146 : BitVec 32 := Scalar.select v145 c1_i32_53 c0_i32_54
  let v147 : BitVec 32 := Scalar.addi v142 v146
  let v150 : BitVec 1 := Scalar.cmpi .slt v149 v2
  let c1_i32_55 : BitVec 32 := 1#32
  let c0_i32_56 : BitVec 32 := 0#32
  let v151 : BitVec 32 := Scalar.select v150 c1_i32_55 c0_i32_56
  let v152 : BitVec 32 := Scalar.addi v147 v151
  let v155 : BitVec 32 := Scalar.addi v154 v152
  let v156 : BitVec 32 := Scalar.select v153 c0_i32_59 v155
  let c0_i32_105 : BitVec 32 := 0#32
  let v250 : BitVec 1 := Scalar.cmpi .sgt v156 c0_i32_105
  let v251 : BitVec 32 := Scalar.extui v250
  let c0_i32_106 : BitVec 32 := 0#32
  let v252 : BitVec 1 := Scalar.cmpi .slt v156 c0_i32_106
  let v253 : BitVec 32 := Scalar.extui v252
  let v254 : BitVec 32 := Scalar.subi v251 v253
  let c64_i32 : BitVec 32 := 64#32
  let c0_i32_107 : BitVec 32 := 0#32
  let v255 : BitVec 1 := Scalar.cmpi .sgt c64_i32 c0_i32_107
  let v256 : BitVec 32 := Scalar.extui v255
  let c0_i32_108 : BitVec 32 := 0#32
  let v257 : BitVec 1 := Scalar.cmpi .slt c64_i32 c0_i32_108
  let v258 : BitVec 32 := Scalar.extui v257
  let v259 : BitVec 32 := Scalar.subi v256 v258
  let v260 : BitVec 1 := Scalar.cmpi .ne v254 v259
  let v261 : BitVec 32 := Scalar.remsi v156 c64_i32
  let c0_i32_109 : BitVec 32 := 0#32
  let v262 : BitVec 1 := Scalar.cmpi .ne v261 c0_i32_109
  let v263 : BitVec 1 := Scalar.andi v260 v262
  let v249 : BitVec 32 := Scalar.divsi v156 c64_i32
  let c1_i32_110 : BitVec 32 := 1#32
  let v264 : BitVec 32 := Scalar.subi v249 c1_i32_110
  let v265 : BitVec 32 := Scalar.select v263 v264 v249
  let c2_i32_139 : BitVec 32 := 2#32
  let c0_i32_134 : BitVec 32 := 0#32
  let c0_i32_102 : BitVec 32 := 0#32
  let v245 : BitVec 1 := Scalar.cmpi .eq v158_0 c0_i32_102
  let c0_i32_104 : BitVec 32 := 0#32
  let c1_i32_66 : BitVec 32 := 1#32
  let v159 : BitVec 32 := Scalar.subi v158_0 c1_i32_66
  let c0_i32_67 : BitVec 32 := 0#32
  let v160 : BitVec 32 := Scalar.maxsi v159 c0_i32_67
  let c16_i32_103 : BitVec 32 := 16#32
  let v246 : BitVec 32 := Scalar.muli v160 c16_i32_103
  let c0_i32_71 : BitVec 32 := 0#32
  let c32_i32_0 : BitVec 32 := 32#32
  let v3 : BitVec 32 := Scalar.addi v2 c32_i32_0
  let v167 : BitVec 1 := Scalar.cmpi .slt v166 v3
  let c1_i32_69 : BitVec 32 := 1#32
  let c0_i32_70 : BitVec 32 := 0#32
  let v168 : BitVec 32 := Scalar.select v167 c1_i32_69 c0_i32_70
  let v169 : BitVec 32 := Scalar.addi c0_i32_71 v168
  let v172 : BitVec 1 := Scalar.cmpi .slt v171 v3
  let c1_i32_72 : BitVec 32 := 1#32
  let c0_i32_73 : BitVec 32 := 0#32
  let v173 : BitVec 32 := Scalar.select v172 c1_i32_72 c0_i32_73
  let v174 : BitVec 32 := Scalar.addi v169 v173
  let v177 : BitVec 1 := Scalar.cmpi .slt v176 v3
  let c1_i32_74 : BitVec 32 := 1#32
  let c0_i32_75 : BitVec 32 := 0#32
  let v178 : BitVec 32 := Scalar.select v177 c1_i32_74 c0_i32_75
  let v179 : BitVec 32 := Scalar.addi v174 v178
  let v182 : BitVec 1 := Scalar.cmpi .slt v181 v3
  let c1_i32_76 : BitVec 32 := 1#32
  let c0_i32_77 : BitVec 32 := 0#32
  let v183 : BitVec 32 := Scalar.select v182 c1_i32_76 c0_i32_77
  let v184 : BitVec 32 := Scalar.addi v179 v183
  let v187 : BitVec 1 := Scalar.cmpi .slt v186 v3
  let c1_i32_78 : BitVec 32 := 1#32
  let c0_i32_79 : BitVec 32 := 0#32
  let v188 : BitVec 32 := Scalar.select v187 c1_i32_78 c0_i32_79
  let v189 : BitVec 32 := Scalar.addi v184 v188
  let v192 : BitVec 1 := Scalar.cmpi .slt v191 v3
  let c1_i32_80 : BitVec 32 := 1#32
  let c0_i32_81 : BitVec 32 := 0#32
  let v193 : BitVec 32 := Scalar.select v192 c1_i32_80 c0_i32_81
  let v194 : BitVec 32 := Scalar.addi v189 v193
  let v197 : BitVec 1 := Scalar.cmpi .slt v196 v3
  let c1_i32_82 : BitVec 32 := 1#32
  let c0_i32_83 : BitVec 32 := 0#32
  let v198 : BitVec 32 := Scalar.select v197 c1_i32_82 c0_i32_83
  let v199 : BitVec 32 := Scalar.addi v194 v198
  let v202 : BitVec 1 := Scalar.cmpi .slt v201 v3
  let c1_i32_84 : BitVec 32 := 1#32
  let c0_i32_85 : BitVec 32 := 0#32
  let v203 : BitVec 32 := Scalar.select v202 c1_i32_84 c0_i32_85
  let v204 : BitVec 32 := Scalar.addi v199 v203
  let v207 : BitVec 1 := Scalar.cmpi .slt v206 v3
  let c1_i32_86 : BitVec 32 := 1#32
  let c0_i32_87 : BitVec 32 := 0#32
  let v208 : BitVec 32 := Scalar.select v207 c1_i32_86 c0_i32_87
  let v209 : BitVec 32 := Scalar.addi v204 v208
  let v212 : BitVec 1 := Scalar.cmpi .slt v211 v3
  let c1_i32_88 : BitVec 32 := 1#32
  let c0_i32_89 : BitVec 32 := 0#32
  let v213 : BitVec 32 := Scalar.select v212 c1_i32_88 c0_i32_89
  let v214 : BitVec 32 := Scalar.addi v209 v213
  let v217 : BitVec 1 := Scalar.cmpi .slt v216 v3
  let c1_i32_90 : BitVec 32 := 1#32
  let c0_i32_91 : BitVec 32 := 0#32
  let v218 : BitVec 32 := Scalar.select v217 c1_i32_90 c0_i32_91
  let v219 : BitVec 32 := Scalar.addi v214 v218
  let v222 : BitVec 1 := Scalar.cmpi .slt v221 v3
  let c1_i32_92 : BitVec 32 := 1#32
  let c0_i32_93 : BitVec 32 := 0#32
  let v223 : BitVec 32 := Scalar.select v222 c1_i32_92 c0_i32_93
  let v224 : BitVec 32 := Scalar.addi v219 v223
  let v227 : BitVec 1 := Scalar.cmpi .slt v226 v3
  let c1_i32_94 : BitVec 32 := 1#32
  let c0_i32_95 : BitVec 32 := 0#32
  let v228 : BitVec 32 := Scalar.select v227 c1_i32_94 c0_i32_95
  let v229 : BitVec 32 := Scalar.addi v224 v228
  let v232 : BitVec 1 := Scalar.cmpi .slt v231 v3
  let c1_i32_96 : BitVec 32 := 1#32
  let c0_i32_97 : BitVec 32 := 0#32
  let v233 : BitVec 32 := Scalar.select v232 c1_i32_96 c0_i32_97
  let v234 : BitVec 32 := Scalar.addi v229 v233
  let v237 : BitVec 1 := Scalar.cmpi .slt v236 v3
  let c1_i32_98 : BitVec 32 := 1#32
  let c0_i32_99 : BitVec 32 := 0#32
  let v238 : BitVec 32 := Scalar.select v237 c1_i32_98 c0_i32_99
  let v239 : BitVec 32 := Scalar.addi v234 v238
  let v242 : BitVec 1 := Scalar.cmpi .slt v241 v3
  let c1_i32_100 : BitVec 32 := 1#32
  let c0_i32_101 : BitVec 32 := 0#32
  let v243 : BitVec 32 := Scalar.select v242 c1_i32_100 c0_i32_101
  let v244 : BitVec 32 := Scalar.addi v239 v243
  let v247 : BitVec 32 := Scalar.addi v246 v244
  let v248 : BitVec 32 := Scalar.select v245 c0_i32_104 v247
  let c64_i32_111 : BitVec 32 := 64#32
  let v266 : BitVec 32 := Scalar.addi v248 c64_i32_111
  let c1_i32_112 : BitVec 32 := 1#32
  let v267 : BitVec 32 := Scalar.subi v266 c1_i32_112
  let c0_i32_114 : BitVec 32 := 0#32
  let v269 : BitVec 1 := Scalar.cmpi .sgt v267 c0_i32_114
  let v270 : BitVec 32 := Scalar.extui v269
  let c0_i32_115 : BitVec 32 := 0#32
  let v271 : BitVec 1 := Scalar.cmpi .slt v267 c0_i32_115
  let v272 : BitVec 32 := Scalar.extui v271
  let v273 : BitVec 32 := Scalar.subi v270 v272
  let c64_i32_113 : BitVec 32 := 64#32
  let c0_i32_116 : BitVec 32 := 0#32
  let v274 : BitVec 1 := Scalar.cmpi .sgt c64_i32_113 c0_i32_116
  let v275 : BitVec 32 := Scalar.extui v274
  let c0_i32_117 : BitVec 32 := 0#32
  let v276 : BitVec 1 := Scalar.cmpi .slt c64_i32_113 c0_i32_117
  let v277 : BitVec 32 := Scalar.extui v276
  let v278 : BitVec 32 := Scalar.subi v275 v277
  let v279 : BitVec 1 := Scalar.cmpi .ne v273 v278
  let v280 : BitVec 32 := Scalar.remsi v267 c64_i32_113
  let c0_i32_118 : BitVec 32 := 0#32
  let v281 : BitVec 1 := Scalar.cmpi .ne v280 c0_i32_118
  let v282 : BitVec 1 := Scalar.andi v279 v281
  let v268 : BitVec 32 := Scalar.divsi v267 c64_i32_113
  let c1_i32_119 : BitVec 32 := 1#32
  let v283 : BitVec 32 := Scalar.subi v268 c1_i32_119
  let v284 : BitVec 32 := Scalar.select v282 v283 v268
  let c156_i32 : BitVec 32 := 156#32
  let v285 : BitVec 32 := Scalar.minsi v284 c156_i32
  let v286 : BitVec 32 := Scalar.subi v285 v265
  let c2_i32_124 : BitVec 32 := 2#32
  let v293 : BitVec 32 := Scalar.addi v286 c2_i32_124
  let c1_i32_125 : BitVec 32 := 1#32
  let v294 : BitVec 32 := Scalar.subi v293 c1_i32_125
  let c0_i32_127 : BitVec 32 := 0#32
  let v296 : BitVec 1 := Scalar.cmpi .sgt v294 c0_i32_127
  let v297 : BitVec 32 := Scalar.extui v296
  let c0_i32_128 : BitVec 32 := 0#32
  let v298 : BitVec 1 := Scalar.cmpi .slt v294 c0_i32_128
  let v299 : BitVec 32 := Scalar.extui v298
  let v300 : BitVec 32 := Scalar.subi v297 v299
  let c2_i32_126 : BitVec 32 := 2#32
  let c0_i32_129 : BitVec 32 := 0#32
  let v301 : BitVec 1 := Scalar.cmpi .sgt c2_i32_126 c0_i32_129
  let v302 : BitVec 32 := Scalar.extui v301
  let c0_i32_130 : BitVec 32 := 0#32
  let v303 : BitVec 1 := Scalar.cmpi .slt c2_i32_126 c0_i32_130
  let v304 : BitVec 32 := Scalar.extui v303
  let v305 : BitVec 32 := Scalar.subi v302 v304
  let v306 : BitVec 1 := Scalar.cmpi .ne v300 v305
  let v307 : BitVec 32 := Scalar.remsi v294 c2_i32_126
  let c0_i32_131 : BitVec 32 := 0#32
  let v308 : BitVec 1 := Scalar.cmpi .ne v307 c0_i32_131
  let v309 : BitVec 1 := Scalar.andi v306 v308
  let v295 : BitVec 32 := Scalar.divsi v294 c2_i32_126
  let c1_i32_132 : BitVec 32 := 1#32
  let v310 : BitVec 32 := Scalar.subi v295 c1_i32_132
  let v311 : BitVec 32 := Scalar.select v309 v310 v295
  let v312 : BitVec 32 := Scalar.subi v311 c0_i32_134
  let c1_i32_135 : BitVec 32 := 1#32
  let v314 : BitVec 32 := Scalar.divsi v312 c1_i32_135
  let v315 : BitVec 32 := Scalar.muli v314 c1_i32_135
  let v316 : BitVec 32 := Scalar.addi c0_i32_134 v315
  let c1_i32_137 : BitVec 32 := 1#32
  let arg13 : BitVec 32 := Scf.iv v316 c1_i32_137 k0_t39
  let v320 : BitVec 32 := Scalar.muli c2_i32_139 arg13
  let v321 : BitVec 32 := Scalar.addi v265 v320
  let c0_i32_144 : BitVec 32 := 0#32
  let v330 : BitVec 32 := Scalar.addi v321 c0_i32_144
  let c2_i32_154 : BitVec 32 := 2#32
  let v339 : BitVec 32 := Scalar.addi v330 c2_i32_154
  let c64_i32_155 : BitVec 32 := 64#32
  let v340 : BitVec 32 := Scalar.muli v339 c64_i32_155
  let c0_i32_156 : BitVec 32 := 0#32
  ![v340.toNat, 0]
def k0_cond8 (i : grid0.Coords) (v66_0 : BitVec 32) (v74 : BitVec 32) (v79 : BitVec 32) (v84 : BitVec 32) (v89 : BitVec 32) (v94 : BitVec 32) (v99 : BitVec 32) (v104 : BitVec 32) (v109 : BitVec 32) (v114 : BitVec 32) (v119 : BitVec 32) (v124 : BitVec 32) (v129 : BitVec 32) (v134 : BitVec 32) (v139 : BitVec 32) (v144 : BitVec 32) (v149 : BitVec 32) (v158_0 : BitVec 32) (v166 : BitVec 32) (v171 : BitVec 32) (v176 : BitVec 32) (v181 : BitVec 32) (v186 : BitVec 32) (v191 : BitVec 32) (v196 : BitVec 32) (v201 : BitVec 32) (v206 : BitVec 32) (v211 : BitVec 32) (v216 : BitVec 32) (v221 : BitVec 32) (v226 : BitVec 32) (v231 : BitVec 32) (v236 : BitVec 32) (v241 : BitVec 32) (k0_t39 : Fin (k0_t39_loop i v66_0 v74 v79 v84 v89 v94 v99 v104 v109 v114 v119 v124 v129 v134 v139 v144 v149 v158_0 v166 v171 v176 v181 v186 v191 v196 v201 v206 v211 v216 v221 v226 v231 v236 v241).trips) : BitVec 1 :=
  let c0_i32_57 : BitVec 32 := 0#32
  let v153 : BitVec 1 := Scalar.cmpi .eq v66_0 c0_i32_57
  let c0_i32_59 : BitVec 32 := 0#32
  let c1_i32_22 : BitVec 32 := 1#32
  let v67 : BitVec 32 := Scalar.subi v66_0 c1_i32_22
  let c0_i32_23 : BitVec 32 := 0#32
  let v68 : BitVec 32 := Scalar.maxsi v67 c0_i32_23
  let c16_i32_58 : BitVec 32 := 16#32
  let v154 : BitVec 32 := Scalar.muli v68 c16_i32_58
  let c0_i32_26 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let v75 : BitVec 1 := Scalar.cmpi .slt v74 v2
  let c1_i32_24 : BitVec 32 := 1#32
  let c0_i32_25 : BitVec 32 := 0#32
  let v76 : BitVec 32 := Scalar.select v75 c1_i32_24 c0_i32_25
  let v77 : BitVec 32 := Scalar.addi c0_i32_26 v76
  let v80 : BitVec 1 := Scalar.cmpi .slt v79 v2
  let c1_i32_27 : BitVec 32 := 1#32
  let c0_i32_28 : BitVec 32 := 0#32
  let v81 : BitVec 32 := Scalar.select v80 c1_i32_27 c0_i32_28
  let v82 : BitVec 32 := Scalar.addi v77 v81
  let v85 : BitVec 1 := Scalar.cmpi .slt v84 v2
  let c1_i32_29 : BitVec 32 := 1#32
  let c0_i32_30 : BitVec 32 := 0#32
  let v86 : BitVec 32 := Scalar.select v85 c1_i32_29 c0_i32_30
  let v87 : BitVec 32 := Scalar.addi v82 v86
  let v90 : BitVec 1 := Scalar.cmpi .slt v89 v2
  let c1_i32_31 : BitVec 32 := 1#32
  let c0_i32_32 : BitVec 32 := 0#32
  let v91 : BitVec 32 := Scalar.select v90 c1_i32_31 c0_i32_32
  let v92 : BitVec 32 := Scalar.addi v87 v91
  let v95 : BitVec 1 := Scalar.cmpi .slt v94 v2
  let c1_i32_33 : BitVec 32 := 1#32
  let c0_i32_34 : BitVec 32 := 0#32
  let v96 : BitVec 32 := Scalar.select v95 c1_i32_33 c0_i32_34
  let v97 : BitVec 32 := Scalar.addi v92 v96
  let v100 : BitVec 1 := Scalar.cmpi .slt v99 v2
  let c1_i32_35 : BitVec 32 := 1#32
  let c0_i32_36 : BitVec 32 := 0#32
  let v101 : BitVec 32 := Scalar.select v100 c1_i32_35 c0_i32_36
  let v102 : BitVec 32 := Scalar.addi v97 v101
  let v105 : BitVec 1 := Scalar.cmpi .slt v104 v2
  let c1_i32_37 : BitVec 32 := 1#32
  let c0_i32_38 : BitVec 32 := 0#32
  let v106 : BitVec 32 := Scalar.select v105 c1_i32_37 c0_i32_38
  let v107 : BitVec 32 := Scalar.addi v102 v106
  let v110 : BitVec 1 := Scalar.cmpi .slt v109 v2
  let c1_i32_39 : BitVec 32 := 1#32
  let c0_i32_40 : BitVec 32 := 0#32
  let v111 : BitVec 32 := Scalar.select v110 c1_i32_39 c0_i32_40
  let v112 : BitVec 32 := Scalar.addi v107 v111
  let v115 : BitVec 1 := Scalar.cmpi .slt v114 v2
  let c1_i32_41 : BitVec 32 := 1#32
  let c0_i32_42 : BitVec 32 := 0#32
  let v116 : BitVec 32 := Scalar.select v115 c1_i32_41 c0_i32_42
  let v117 : BitVec 32 := Scalar.addi v112 v116
  let v120 : BitVec 1 := Scalar.cmpi .slt v119 v2
  let c1_i32_43 : BitVec 32 := 1#32
  let c0_i32_44 : BitVec 32 := 0#32
  let v121 : BitVec 32 := Scalar.select v120 c1_i32_43 c0_i32_44
  let v122 : BitVec 32 := Scalar.addi v117 v121
  let v125 : BitVec 1 := Scalar.cmpi .slt v124 v2
  let c1_i32_45 : BitVec 32 := 1#32
  let c0_i32_46 : BitVec 32 := 0#32
  let v126 : BitVec 32 := Scalar.select v125 c1_i32_45 c0_i32_46
  let v127 : BitVec 32 := Scalar.addi v122 v126
  let v130 : BitVec 1 := Scalar.cmpi .slt v129 v2
  let c1_i32_47 : BitVec 32 := 1#32
  let c0_i32_48 : BitVec 32 := 0#32
  let v131 : BitVec 32 := Scalar.select v130 c1_i32_47 c0_i32_48
  let v132 : BitVec 32 := Scalar.addi v127 v131
  let v135 : BitVec 1 := Scalar.cmpi .slt v134 v2
  let c1_i32_49 : BitVec 32 := 1#32
  let c0_i32_50 : BitVec 32 := 0#32
  let v136 : BitVec 32 := Scalar.select v135 c1_i32_49 c0_i32_50
  let v137 : BitVec 32 := Scalar.addi v132 v136
  let v140 : BitVec 1 := Scalar.cmpi .slt v139 v2
  let c1_i32_51 : BitVec 32 := 1#32
  let c0_i32_52 : BitVec 32 := 0#32
  let v141 : BitVec 32 := Scalar.select v140 c1_i32_51 c0_i32_52
  let v142 : BitVec 32 := Scalar.addi v137 v141
  let v145 : BitVec 1 := Scalar.cmpi .slt v144 v2
  let c1_i32_53 : BitVec 32 := 1#32
  let c0_i32_54 : BitVec 32 := 0#32
  let v146 : BitVec 32 := Scalar.select v145 c1_i32_53 c0_i32_54
  let v147 : BitVec 32 := Scalar.addi v142 v146
  let v150 : BitVec 1 := Scalar.cmpi .slt v149 v2
  let c1_i32_55 : BitVec 32 := 1#32
  let c0_i32_56 : BitVec 32 := 0#32
  let v151 : BitVec 32 := Scalar.select v150 c1_i32_55 c0_i32_56
  let v152 : BitVec 32 := Scalar.addi v147 v151
  let v155 : BitVec 32 := Scalar.addi v154 v152
  let v156 : BitVec 32 := Scalar.select v153 c0_i32_59 v155
  let c0_i32_105 : BitVec 32 := 0#32
  let v250 : BitVec 1 := Scalar.cmpi .sgt v156 c0_i32_105
  let v251 : BitVec 32 := Scalar.extui v250
  let c0_i32_106 : BitVec 32 := 0#32
  let v252 : BitVec 1 := Scalar.cmpi .slt v156 c0_i32_106
  let v253 : BitVec 32 := Scalar.extui v252
  let v254 : BitVec 32 := Scalar.subi v251 v253
  let c64_i32 : BitVec 32 := 64#32
  let c0_i32_107 : BitVec 32 := 0#32
  let v255 : BitVec 1 := Scalar.cmpi .sgt c64_i32 c0_i32_107
  let v256 : BitVec 32 := Scalar.extui v255
  let c0_i32_108 : BitVec 32 := 0#32
  let v257 : BitVec 1 := Scalar.cmpi .slt c64_i32 c0_i32_108
  let v258 : BitVec 32 := Scalar.extui v257
  let v259 : BitVec 32 := Scalar.subi v256 v258
  let v260 : BitVec 1 := Scalar.cmpi .ne v254 v259
  let v261 : BitVec 32 := Scalar.remsi v156 c64_i32
  let c0_i32_109 : BitVec 32 := 0#32
  let v262 : BitVec 1 := Scalar.cmpi .ne v261 c0_i32_109
  let v263 : BitVec 1 := Scalar.andi v260 v262
  let v249 : BitVec 32 := Scalar.divsi v156 c64_i32
  let c1_i32_110 : BitVec 32 := 1#32
  let v264 : BitVec 32 := Scalar.subi v249 c1_i32_110
  let v265 : BitVec 32 := Scalar.select v263 v264 v249
  let c2_i32_139 : BitVec 32 := 2#32
  let c0_i32_134 : BitVec 32 := 0#32
  let c0_i32_102 : BitVec 32 := 0#32
  let v245 : BitVec 1 := Scalar.cmpi .eq v158_0 c0_i32_102
  let c0_i32_104 : BitVec 32 := 0#32
  let c1_i32_66 : BitVec 32 := 1#32
  let v159 : BitVec 32 := Scalar.subi v158_0 c1_i32_66
  let c0_i32_67 : BitVec 32 := 0#32
  let v160 : BitVec 32 := Scalar.maxsi v159 c0_i32_67
  let c16_i32_103 : BitVec 32 := 16#32
  let v246 : BitVec 32 := Scalar.muli v160 c16_i32_103
  let c0_i32_71 : BitVec 32 := 0#32
  let c32_i32_0 : BitVec 32 := 32#32
  let v3 : BitVec 32 := Scalar.addi v2 c32_i32_0
  let v167 : BitVec 1 := Scalar.cmpi .slt v166 v3
  let c1_i32_69 : BitVec 32 := 1#32
  let c0_i32_70 : BitVec 32 := 0#32
  let v168 : BitVec 32 := Scalar.select v167 c1_i32_69 c0_i32_70
  let v169 : BitVec 32 := Scalar.addi c0_i32_71 v168
  let v172 : BitVec 1 := Scalar.cmpi .slt v171 v3
  let c1_i32_72 : BitVec 32 := 1#32
  let c0_i32_73 : BitVec 32 := 0#32
  let v173 : BitVec 32 := Scalar.select v172 c1_i32_72 c0_i32_73
  let v174 : BitVec 32 := Scalar.addi v169 v173
  let v177 : BitVec 1 := Scalar.cmpi .slt v176 v3
  let c1_i32_74 : BitVec 32 := 1#32
  let c0_i32_75 : BitVec 32 := 0#32
  let v178 : BitVec 32 := Scalar.select v177 c1_i32_74 c0_i32_75
  let v179 : BitVec 32 := Scalar.addi v174 v178
  let v182 : BitVec 1 := Scalar.cmpi .slt v181 v3
  let c1_i32_76 : BitVec 32 := 1#32
  let c0_i32_77 : BitVec 32 := 0#32
  let v183 : BitVec 32 := Scalar.select v182 c1_i32_76 c0_i32_77
  let v184 : BitVec 32 := Scalar.addi v179 v183
  let v187 : BitVec 1 := Scalar.cmpi .slt v186 v3
  let c1_i32_78 : BitVec 32 := 1#32
  let c0_i32_79 : BitVec 32 := 0#32
  let v188 : BitVec 32 := Scalar.select v187 c1_i32_78 c0_i32_79
  let v189 : BitVec 32 := Scalar.addi v184 v188
  let v192 : BitVec 1 := Scalar.cmpi .slt v191 v3
  let c1_i32_80 : BitVec 32 := 1#32
  let c0_i32_81 : BitVec 32 := 0#32
  let v193 : BitVec 32 := Scalar.select v192 c1_i32_80 c0_i32_81
  let v194 : BitVec 32 := Scalar.addi v189 v193
  let v197 : BitVec 1 := Scalar.cmpi .slt v196 v3
  let c1_i32_82 : BitVec 32 := 1#32
  let c0_i32_83 : BitVec 32 := 0#32
  let v198 : BitVec 32 := Scalar.select v197 c1_i32_82 c0_i32_83
  let v199 : BitVec 32 := Scalar.addi v194 v198
  let v202 : BitVec 1 := Scalar.cmpi .slt v201 v3
  let c1_i32_84 : BitVec 32 := 1#32
  let c0_i32_85 : BitVec 32 := 0#32
  let v203 : BitVec 32 := Scalar.select v202 c1_i32_84 c0_i32_85
  let v204 : BitVec 32 := Scalar.addi v199 v203
  let v207 : BitVec 1 := Scalar.cmpi .slt v206 v3
  let c1_i32_86 : BitVec 32 := 1#32
  let c0_i32_87 : BitVec 32 := 0#32
  let v208 : BitVec 32 := Scalar.select v207 c1_i32_86 c0_i32_87
  let v209 : BitVec 32 := Scalar.addi v204 v208
  let v212 : BitVec 1 := Scalar.cmpi .slt v211 v3
  let c1_i32_88 : BitVec 32 := 1#32
  let c0_i32_89 : BitVec 32 := 0#32
  let v213 : BitVec 32 := Scalar.select v212 c1_i32_88 c0_i32_89
  let v214 : BitVec 32 := Scalar.addi v209 v213
  let v217 : BitVec 1 := Scalar.cmpi .slt v216 v3
  let c1_i32_90 : BitVec 32 := 1#32
  let c0_i32_91 : BitVec 32 := 0#32
  let v218 : BitVec 32 := Scalar.select v217 c1_i32_90 c0_i32_91
  let v219 : BitVec 32 := Scalar.addi v214 v218
  let v222 : BitVec 1 := Scalar.cmpi .slt v221 v3
  let c1_i32_92 : BitVec 32 := 1#32
  let c0_i32_93 : BitVec 32 := 0#32
  let v223 : BitVec 32 := Scalar.select v222 c1_i32_92 c0_i32_93
  let v224 : BitVec 32 := Scalar.addi v219 v223
  let v227 : BitVec 1 := Scalar.cmpi .slt v226 v3
  let c1_i32_94 : BitVec 32 := 1#32
  let c0_i32_95 : BitVec 32 := 0#32
  let v228 : BitVec 32 := Scalar.select v227 c1_i32_94 c0_i32_95
  let v229 : BitVec 32 := Scalar.addi v224 v228
  let v232 : BitVec 1 := Scalar.cmpi .slt v231 v3
  let c1_i32_96 : BitVec 32 := 1#32
  let c0_i32_97 : BitVec 32 := 0#32
  let v233 : BitVec 32 := Scalar.select v232 c1_i32_96 c0_i32_97
  let v234 : BitVec 32 := Scalar.addi v229 v233
  let v237 : BitVec 1 := Scalar.cmpi .slt v236 v3
  let c1_i32_98 : BitVec 32 := 1#32
  let c0_i32_99 : BitVec 32 := 0#32
  let v238 : BitVec 32 := Scalar.select v237 c1_i32_98 c0_i32_99
  let v239 : BitVec 32 := Scalar.addi v234 v238
  let v242 : BitVec 1 := Scalar.cmpi .slt v241 v3
  let c1_i32_100 : BitVec 32 := 1#32
  let c0_i32_101 : BitVec 32 := 0#32
  let v243 : BitVec 32 := Scalar.select v242 c1_i32_100 c0_i32_101
  let v244 : BitVec 32 := Scalar.addi v239 v243
  let v247 : BitVec 32 := Scalar.addi v246 v244
  let v248 : BitVec 32 := Scalar.select v245 c0_i32_104 v247
  let c64_i32_111 : BitVec 32 := 64#32
  let v266 : BitVec 32 := Scalar.addi v248 c64_i32_111
  let c1_i32_112 : BitVec 32 := 1#32
  let v267 : BitVec 32 := Scalar.subi v266 c1_i32_112
  let c0_i32_114 : BitVec 32 := 0#32
  let v269 : BitVec 1 := Scalar.cmpi .sgt v267 c0_i32_114
  let v270 : BitVec 32 := Scalar.extui v269
  let c0_i32_115 : BitVec 32 := 0#32
  let v271 : BitVec 1 := Scalar.cmpi .slt v267 c0_i32_115
  let v272 : BitVec 32 := Scalar.extui v271
  let v273 : BitVec 32 := Scalar.subi v270 v272
  let c64_i32_113 : BitVec 32 := 64#32
  let c0_i32_116 : BitVec 32 := 0#32
  let v274 : BitVec 1 := Scalar.cmpi .sgt c64_i32_113 c0_i32_116
  let v275 : BitVec 32 := Scalar.extui v274
  let c0_i32_117 : BitVec 32 := 0#32
  let v276 : BitVec 1 := Scalar.cmpi .slt c64_i32_113 c0_i32_117
  let v277 : BitVec 32 := Scalar.extui v276
  let v278 : BitVec 32 := Scalar.subi v275 v277
  let v279 : BitVec 1 := Scalar.cmpi .ne v273 v278
  let v280 : BitVec 32 := Scalar.remsi v267 c64_i32_113
  let c0_i32_118 : BitVec 32 := 0#32
  let v281 : BitVec 1 := Scalar.cmpi .ne v280 c0_i32_118
  let v282 : BitVec 1 := Scalar.andi v279 v281
  let v268 : BitVec 32 := Scalar.divsi v267 c64_i32_113
  let c1_i32_119 : BitVec 32 := 1#32
  let v283 : BitVec 32 := Scalar.subi v268 c1_i32_119
  let v284 : BitVec 32 := Scalar.select v282 v283 v268
  let c156_i32 : BitVec 32 := 156#32
  let v285 : BitVec 32 := Scalar.minsi v284 c156_i32
  let v286 : BitVec 32 := Scalar.subi v285 v265
  let c2_i32_124 : BitVec 32 := 2#32
  let v293 : BitVec 32 := Scalar.addi v286 c2_i32_124
  let c1_i32_125 : BitVec 32 := 1#32
  let v294 : BitVec 32 := Scalar.subi v293 c1_i32_125
  let c0_i32_127 : BitVec 32 := 0#32
  let v296 : BitVec 1 := Scalar.cmpi .sgt v294 c0_i32_127
  let v297 : BitVec 32 := Scalar.extui v296
  let c0_i32_128 : BitVec 32 := 0#32
  let v298 : BitVec 1 := Scalar.cmpi .slt v294 c0_i32_128
  let v299 : BitVec 32 := Scalar.extui v298
  let v300 : BitVec 32 := Scalar.subi v297 v299
  let c2_i32_126 : BitVec 32 := 2#32
  let c0_i32_129 : BitVec 32 := 0#32
  let v301 : BitVec 1 := Scalar.cmpi .sgt c2_i32_126 c0_i32_129
  let v302 : BitVec 32 := Scalar.extui v301
  let c0_i32_130 : BitVec 32 := 0#32
  let v303 : BitVec 1 := Scalar.cmpi .slt c2_i32_126 c0_i32_130
  let v304 : BitVec 32 := Scalar.extui v303
  let v305 : BitVec 32 := Scalar.subi v302 v304
  let v306 : BitVec 1 := Scalar.cmpi .ne v300 v305
  let v307 : BitVec 32 := Scalar.remsi v294 c2_i32_126
  let c0_i32_131 : BitVec 32 := 0#32
  let v308 : BitVec 1 := Scalar.cmpi .ne v307 c0_i32_131
  let v309 : BitVec 1 := Scalar.andi v306 v308
  let v295 : BitVec 32 := Scalar.divsi v294 c2_i32_126
  let c1_i32_132 : BitVec 32 := 1#32
  let v310 : BitVec 32 := Scalar.subi v295 c1_i32_132
  let v311 : BitVec 32 := Scalar.select v309 v310 v295
  let v312 : BitVec 32 := Scalar.subi v311 c0_i32_134
  let c1_i32_135 : BitVec 32 := 1#32
  let v314 : BitVec 32 := Scalar.divsi v312 c1_i32_135
  let v315 : BitVec 32 := Scalar.muli v314 c1_i32_135
  let v316 : BitVec 32 := Scalar.addi c0_i32_134 v315
  let c1_i32_137 : BitVec 32 := 1#32
  let arg13 : BitVec 32 := Scf.iv v316 c1_i32_137 k0_t39
  let v320 : BitVec 32 := Scalar.muli c2_i32_139 arg13
  let v321 : BitVec 32 := Scalar.addi v265 v320
  let c0_i32_144 : BitVec 32 := 0#32
  let v330 : BitVec 32 := Scalar.addi v321 c0_i32_144
  let c2_i32_152 : BitVec 32 := 2#32
  let v335 : BitVec 32 := Scalar.addi v330 c2_i32_152
  let v336 : BitVec 1 := Scalar.cmpi .slt v335 v285
  let v337 : BitVec 32 := Scalar.extui v336
  let c0_i32_153 : BitVec 32 := 0#32
  let v338 : BitVec 1 := Scalar.cmpi .ne v337 c0_i32_153
  v338

def k0_off243 (i : grid0.Coords) (v66_0 : BitVec 32) (v74 : BitVec 32) (v79 : BitVec 32) (v84 : BitVec 32) (v89 : BitVec 32) (v94 : BitVec 32) (v99 : BitVec 32) (v104 : BitVec 32) (v109 : BitVec 32) (v114 : BitVec 32) (v119 : BitVec 32) (v124 : BitVec 32) (v129 : BitVec 32) (v134 : BitVec 32) (v139 : BitVec 32) (v144 : BitVec 32) (v149 : BitVec 32) (v158_0 : BitVec 32) (v166 : BitVec 32) (v171 : BitVec 32) (v176 : BitVec 32) (v181 : BitVec 32) (v186 : BitVec 32) (v191 : BitVec 32) (v196 : BitVec 32) (v201 : BitVec 32) (v206 : BitVec 32) (v211 : BitVec 32) (v216 : BitVec 32) (v221 : BitVec 32) (v226 : BitVec 32) (v231 : BitVec 32) (v236 : BitVec 32) (v241 : BitVec 32) (k0_t39 : Fin (k0_t39_loop i v66_0 v74 v79 v84 v89 v94 v99 v104 v109 v114 v119 v124 v129 v134 v139 v144 v149 v158_0 v166 v171 v176 v181 v186 v191 v196 v201 v206 v211 v216 v221 v226 v231 v236 v241).trips) : Fin 2 → Nat :=
  let c0_i32_57 : BitVec 32 := 0#32
  let v153 : BitVec 1 := Scalar.cmpi .eq v66_0 c0_i32_57
  let c0_i32_59 : BitVec 32 := 0#32
  let c1_i32_22 : BitVec 32 := 1#32
  let v67 : BitVec 32 := Scalar.subi v66_0 c1_i32_22
  let c0_i32_23 : BitVec 32 := 0#32
  let v68 : BitVec 32 := Scalar.maxsi v67 c0_i32_23
  let c16_i32_58 : BitVec 32 := 16#32
  let v154 : BitVec 32 := Scalar.muli v68 c16_i32_58
  let c0_i32_26 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let v75 : BitVec 1 := Scalar.cmpi .slt v74 v2
  let c1_i32_24 : BitVec 32 := 1#32
  let c0_i32_25 : BitVec 32 := 0#32
  let v76 : BitVec 32 := Scalar.select v75 c1_i32_24 c0_i32_25
  let v77 : BitVec 32 := Scalar.addi c0_i32_26 v76
  let v80 : BitVec 1 := Scalar.cmpi .slt v79 v2
  let c1_i32_27 : BitVec 32 := 1#32
  let c0_i32_28 : BitVec 32 := 0#32
  let v81 : BitVec 32 := Scalar.select v80 c1_i32_27 c0_i32_28
  let v82 : BitVec 32 := Scalar.addi v77 v81
  let v85 : BitVec 1 := Scalar.cmpi .slt v84 v2
  let c1_i32_29 : BitVec 32 := 1#32
  let c0_i32_30 : BitVec 32 := 0#32
  let v86 : BitVec 32 := Scalar.select v85 c1_i32_29 c0_i32_30
  let v87 : BitVec 32 := Scalar.addi v82 v86
  let v90 : BitVec 1 := Scalar.cmpi .slt v89 v2
  let c1_i32_31 : BitVec 32 := 1#32
  let c0_i32_32 : BitVec 32 := 0#32
  let v91 : BitVec 32 := Scalar.select v90 c1_i32_31 c0_i32_32
  let v92 : BitVec 32 := Scalar.addi v87 v91
  let v95 : BitVec 1 := Scalar.cmpi .slt v94 v2
  let c1_i32_33 : BitVec 32 := 1#32
  let c0_i32_34 : BitVec 32 := 0#32
  let v96 : BitVec 32 := Scalar.select v95 c1_i32_33 c0_i32_34
  let v97 : BitVec 32 := Scalar.addi v92 v96
  let v100 : BitVec 1 := Scalar.cmpi .slt v99 v2
  let c1_i32_35 : BitVec 32 := 1#32
  let c0_i32_36 : BitVec 32 := 0#32
  let v101 : BitVec 32 := Scalar.select v100 c1_i32_35 c0_i32_36
  let v102 : BitVec 32 := Scalar.addi v97 v101
  let v105 : BitVec 1 := Scalar.cmpi .slt v104 v2
  let c1_i32_37 : BitVec 32 := 1#32
  let c0_i32_38 : BitVec 32 := 0#32
  let v106 : BitVec 32 := Scalar.select v105 c1_i32_37 c0_i32_38
  let v107 : BitVec 32 := Scalar.addi v102 v106
  let v110 : BitVec 1 := Scalar.cmpi .slt v109 v2
  let c1_i32_39 : BitVec 32 := 1#32
  let c0_i32_40 : BitVec 32 := 0#32
  let v111 : BitVec 32 := Scalar.select v110 c1_i32_39 c0_i32_40
  let v112 : BitVec 32 := Scalar.addi v107 v111
  let v115 : BitVec 1 := Scalar.cmpi .slt v114 v2
  let c1_i32_41 : BitVec 32 := 1#32
  let c0_i32_42 : BitVec 32 := 0#32
  let v116 : BitVec 32 := Scalar.select v115 c1_i32_41 c0_i32_42
  let v117 : BitVec 32 := Scalar.addi v112 v116
  let v120 : BitVec 1 := Scalar.cmpi .slt v119 v2
  let c1_i32_43 : BitVec 32 := 1#32
  let c0_i32_44 : BitVec 32 := 0#32
  let v121 : BitVec 32 := Scalar.select v120 c1_i32_43 c0_i32_44
  let v122 : BitVec 32 := Scalar.addi v117 v121
  let v125 : BitVec 1 := Scalar.cmpi .slt v124 v2
  let c1_i32_45 : BitVec 32 := 1#32
  let c0_i32_46 : BitVec 32 := 0#32
  let v126 : BitVec 32 := Scalar.select v125 c1_i32_45 c0_i32_46
  let v127 : BitVec 32 := Scalar.addi v122 v126
  let v130 : BitVec 1 := Scalar.cmpi .slt v129 v2
  let c1_i32_47 : BitVec 32 := 1#32
  let c0_i32_48 : BitVec 32 := 0#32
  let v131 : BitVec 32 := Scalar.select v130 c1_i32_47 c0_i32_48
  let v132 : BitVec 32 := Scalar.addi v127 v131
  let v135 : BitVec 1 := Scalar.cmpi .slt v134 v2
  let c1_i32_49 : BitVec 32 := 1#32
  let c0_i32_50 : BitVec 32 := 0#32
  let v136 : BitVec 32 := Scalar.select v135 c1_i32_49 c0_i32_50
  let v137 : BitVec 32 := Scalar.addi v132 v136
  let v140 : BitVec 1 := Scalar.cmpi .slt v139 v2
  let c1_i32_51 : BitVec 32 := 1#32
  let c0_i32_52 : BitVec 32 := 0#32
  let v141 : BitVec 32 := Scalar.select v140 c1_i32_51 c0_i32_52
  let v142 : BitVec 32 := Scalar.addi v137 v141
  let v145 : BitVec 1 := Scalar.cmpi .slt v144 v2
  let c1_i32_53 : BitVec 32 := 1#32
  let c0_i32_54 : BitVec 32 := 0#32
  let v146 : BitVec 32 := Scalar.select v145 c1_i32_53 c0_i32_54
  let v147 : BitVec 32 := Scalar.addi v142 v146
  let v150 : BitVec 1 := Scalar.cmpi .slt v149 v2
  let c1_i32_55 : BitVec 32 := 1#32
  let c0_i32_56 : BitVec 32 := 0#32
  let v151 : BitVec 32 := Scalar.select v150 c1_i32_55 c0_i32_56
  let v152 : BitVec 32 := Scalar.addi v147 v151
  let v155 : BitVec 32 := Scalar.addi v154 v152
  let v156 : BitVec 32 := Scalar.select v153 c0_i32_59 v155
  let c0_i32_105 : BitVec 32 := 0#32
  let v250 : BitVec 1 := Scalar.cmpi .sgt v156 c0_i32_105
  let v251 : BitVec 32 := Scalar.extui v250
  let c0_i32_106 : BitVec 32 := 0#32
  let v252 : BitVec 1 := Scalar.cmpi .slt v156 c0_i32_106
  let v253 : BitVec 32 := Scalar.extui v252
  let v254 : BitVec 32 := Scalar.subi v251 v253
  let c64_i32 : BitVec 32 := 64#32
  let c0_i32_107 : BitVec 32 := 0#32
  let v255 : BitVec 1 := Scalar.cmpi .sgt c64_i32 c0_i32_107
  let v256 : BitVec 32 := Scalar.extui v255
  let c0_i32_108 : BitVec 32 := 0#32
  let v257 : BitVec 1 := Scalar.cmpi .slt c64_i32 c0_i32_108
  let v258 : BitVec 32 := Scalar.extui v257
  let v259 : BitVec 32 := Scalar.subi v256 v258
  let v260 : BitVec 1 := Scalar.cmpi .ne v254 v259
  let v261 : BitVec 32 := Scalar.remsi v156 c64_i32
  let c0_i32_109 : BitVec 32 := 0#32
  let v262 : BitVec 1 := Scalar.cmpi .ne v261 c0_i32_109
  let v263 : BitVec 1 := Scalar.andi v260 v262
  let v249 : BitVec 32 := Scalar.divsi v156 c64_i32
  let c1_i32_110 : BitVec 32 := 1#32
  let v264 : BitVec 32 := Scalar.subi v249 c1_i32_110
  let v265 : BitVec 32 := Scalar.select v263 v264 v249
  let c2_i32_139 : BitVec 32 := 2#32
  let c0_i32_134 : BitVec 32 := 0#32
  let c0_i32_102 : BitVec 32 := 0#32
  let v245 : BitVec 1 := Scalar.cmpi .eq v158_0 c0_i32_102
  let c0_i32_104 : BitVec 32 := 0#32
  let c1_i32_66 : BitVec 32 := 1#32
  let v159 : BitVec 32 := Scalar.subi v158_0 c1_i32_66
  let c0_i32_67 : BitVec 32 := 0#32
  let v160 : BitVec 32 := Scalar.maxsi v159 c0_i32_67
  let c16_i32_103 : BitVec 32 := 16#32
  let v246 : BitVec 32 := Scalar.muli v160 c16_i32_103
  let c0_i32_71 : BitVec 32 := 0#32
  let c32_i32_0 : BitVec 32 := 32#32
  let v3 : BitVec 32 := Scalar.addi v2 c32_i32_0
  let v167 : BitVec 1 := Scalar.cmpi .slt v166 v3
  let c1_i32_69 : BitVec 32 := 1#32
  let c0_i32_70 : BitVec 32 := 0#32
  let v168 : BitVec 32 := Scalar.select v167 c1_i32_69 c0_i32_70
  let v169 : BitVec 32 := Scalar.addi c0_i32_71 v168
  let v172 : BitVec 1 := Scalar.cmpi .slt v171 v3
  let c1_i32_72 : BitVec 32 := 1#32
  let c0_i32_73 : BitVec 32 := 0#32
  let v173 : BitVec 32 := Scalar.select v172 c1_i32_72 c0_i32_73
  let v174 : BitVec 32 := Scalar.addi v169 v173
  let v177 : BitVec 1 := Scalar.cmpi .slt v176 v3
  let c1_i32_74 : BitVec 32 := 1#32
  let c0_i32_75 : BitVec 32 := 0#32
  let v178 : BitVec 32 := Scalar.select v177 c1_i32_74 c0_i32_75
  let v179 : BitVec 32 := Scalar.addi v174 v178
  let v182 : BitVec 1 := Scalar.cmpi .slt v181 v3
  let c1_i32_76 : BitVec 32 := 1#32
  let c0_i32_77 : BitVec 32 := 0#32
  let v183 : BitVec 32 := Scalar.select v182 c1_i32_76 c0_i32_77
  let v184 : BitVec 32 := Scalar.addi v179 v183
  let v187 : BitVec 1 := Scalar.cmpi .slt v186 v3
  let c1_i32_78 : BitVec 32 := 1#32
  let c0_i32_79 : BitVec 32 := 0#32
  let v188 : BitVec 32 := Scalar.select v187 c1_i32_78 c0_i32_79
  let v189 : BitVec 32 := Scalar.addi v184 v188
  let v192 : BitVec 1 := Scalar.cmpi .slt v191 v3
  let c1_i32_80 : BitVec 32 := 1#32
  let c0_i32_81 : BitVec 32 := 0#32
  let v193 : BitVec 32 := Scalar.select v192 c1_i32_80 c0_i32_81
  let v194 : BitVec 32 := Scalar.addi v189 v193
  let v197 : BitVec 1 := Scalar.cmpi .slt v196 v3
  let c1_i32_82 : BitVec 32 := 1#32
  let c0_i32_83 : BitVec 32 := 0#32
  let v198 : BitVec 32 := Scalar.select v197 c1_i32_82 c0_i32_83
  let v199 : BitVec 32 := Scalar.addi v194 v198
  let v202 : BitVec 1 := Scalar.cmpi .slt v201 v3
  let c1_i32_84 : BitVec 32 := 1#32
  let c0_i32_85 : BitVec 32 := 0#32
  let v203 : BitVec 32 := Scalar.select v202 c1_i32_84 c0_i32_85
  let v204 : BitVec 32 := Scalar.addi v199 v203
  let v207 : BitVec 1 := Scalar.cmpi .slt v206 v3
  let c1_i32_86 : BitVec 32 := 1#32
  let c0_i32_87 : BitVec 32 := 0#32
  let v208 : BitVec 32 := Scalar.select v207 c1_i32_86 c0_i32_87
  let v209 : BitVec 32 := Scalar.addi v204 v208
  let v212 : BitVec 1 := Scalar.cmpi .slt v211 v3
  let c1_i32_88 : BitVec 32 := 1#32
  let c0_i32_89 : BitVec 32 := 0#32
  let v213 : BitVec 32 := Scalar.select v212 c1_i32_88 c0_i32_89
  let v214 : BitVec 32 := Scalar.addi v209 v213
  let v217 : BitVec 1 := Scalar.cmpi .slt v216 v3
  let c1_i32_90 : BitVec 32 := 1#32
  let c0_i32_91 : BitVec 32 := 0#32
  let v218 : BitVec 32 := Scalar.select v217 c1_i32_90 c0_i32_91
  let v219 : BitVec 32 := Scalar.addi v214 v218
  let v222 : BitVec 1 := Scalar.cmpi .slt v221 v3
  let c1_i32_92 : BitVec 32 := 1#32
  let c0_i32_93 : BitVec 32 := 0#32
  let v223 : BitVec 32 := Scalar.select v222 c1_i32_92 c0_i32_93
  let v224 : BitVec 32 := Scalar.addi v219 v223
  let v227 : BitVec 1 := Scalar.cmpi .slt v226 v3
  let c1_i32_94 : BitVec 32 := 1#32
  let c0_i32_95 : BitVec 32 := 0#32
  let v228 : BitVec 32 := Scalar.select v227 c1_i32_94 c0_i32_95
  let v229 : BitVec 32 := Scalar.addi v224 v228
  let v232 : BitVec 1 := Scalar.cmpi .slt v231 v3
  let c1_i32_96 : BitVec 32 := 1#32
  let c0_i32_97 : BitVec 32 := 0#32
  let v233 : BitVec 32 := Scalar.select v232 c1_i32_96 c0_i32_97
  let v234 : BitVec 32 := Scalar.addi v229 v233
  let v237 : BitVec 1 := Scalar.cmpi .slt v236 v3
  let c1_i32_98 : BitVec 32 := 1#32
  let c0_i32_99 : BitVec 32 := 0#32
  let v238 : BitVec 32 := Scalar.select v237 c1_i32_98 c0_i32_99
  let v239 : BitVec 32 := Scalar.addi v234 v238
  let v242 : BitVec 1 := Scalar.cmpi .slt v241 v3
  let c1_i32_100 : BitVec 32 := 1#32
  let c0_i32_101 : BitVec 32 := 0#32
  let v243 : BitVec 32 := Scalar.select v242 c1_i32_100 c0_i32_101
  let v244 : BitVec 32 := Scalar.addi v239 v243
  let v247 : BitVec 32 := Scalar.addi v246 v244
  let v248 : BitVec 32 := Scalar.select v245 c0_i32_104 v247
  let c64_i32_111 : BitVec 32 := 64#32
  let v266 : BitVec 32 := Scalar.addi v248 c64_i32_111
  let c1_i32_112 : BitVec 32 := 1#32
  let v267 : BitVec 32 := Scalar.subi v266 c1_i32_112
  let c0_i32_114 : BitVec 32 := 0#32
  let v269 : BitVec 1 := Scalar.cmpi .sgt v267 c0_i32_114
  let v270 : BitVec 32 := Scalar.extui v269
  let c0_i32_115 : BitVec 32 := 0#32
  let v271 : BitVec 1 := Scalar.cmpi .slt v267 c0_i32_115
  let v272 : BitVec 32 := Scalar.extui v271
  let v273 : BitVec 32 := Scalar.subi v270 v272
  let c64_i32_113 : BitVec 32 := 64#32
  let c0_i32_116 : BitVec 32 := 0#32
  let v274 : BitVec 1 := Scalar.cmpi .sgt c64_i32_113 c0_i32_116
  let v275 : BitVec 32 := Scalar.extui v274
  let c0_i32_117 : BitVec 32 := 0#32
  let v276 : BitVec 1 := Scalar.cmpi .slt c64_i32_113 c0_i32_117
  let v277 : BitVec 32 := Scalar.extui v276
  let v278 : BitVec 32 := Scalar.subi v275 v277
  let v279 : BitVec 1 := Scalar.cmpi .ne v273 v278
  let v280 : BitVec 32 := Scalar.remsi v267 c64_i32_113
  let c0_i32_118 : BitVec 32 := 0#32
  let v281 : BitVec 1 := Scalar.cmpi .ne v280 c0_i32_118
  let v282 : BitVec 1 := Scalar.andi v279 v281
  let v268 : BitVec 32 := Scalar.divsi v267 c64_i32_113
  let c1_i32_119 : BitVec 32 := 1#32
  let v283 : BitVec 32 := Scalar.subi v268 c1_i32_119
  let v284 : BitVec 32 := Scalar.select v282 v283 v268
  let c156_i32 : BitVec 32 := 156#32
  let v285 : BitVec 32 := Scalar.minsi v284 c156_i32
  let v286 : BitVec 32 := Scalar.subi v285 v265
  let c2_i32_124 : BitVec 32 := 2#32
  let v293 : BitVec 32 := Scalar.addi v286 c2_i32_124
  let c1_i32_125 : BitVec 32 := 1#32
  let v294 : BitVec 32 := Scalar.subi v293 c1_i32_125
  let c0_i32_127 : BitVec 32 := 0#32
  let v296 : BitVec 1 := Scalar.cmpi .sgt v294 c0_i32_127
  let v297 : BitVec 32 := Scalar.extui v296
  let c0_i32_128 : BitVec 32 := 0#32
  let v298 : BitVec 1 := Scalar.cmpi .slt v294 c0_i32_128
  let v299 : BitVec 32 := Scalar.extui v298
  let v300 : BitVec 32 := Scalar.subi v297 v299
  let c2_i32_126 : BitVec 32 := 2#32
  let c0_i32_129 : BitVec 32 := 0#32
  let v301 : BitVec 1 := Scalar.cmpi .sgt c2_i32_126 c0_i32_129
  let v302 : BitVec 32 := Scalar.extui v301
  let c0_i32_130 : BitVec 32 := 0#32
  let v303 : BitVec 1 := Scalar.cmpi .slt c2_i32_126 c0_i32_130
  let v304 : BitVec 32 := Scalar.extui v303
  let v305 : BitVec 32 := Scalar.subi v302 v304
  let v306 : BitVec 1 := Scalar.cmpi .ne v300 v305
  let v307 : BitVec 32 := Scalar.remsi v294 c2_i32_126
  let c0_i32_131 : BitVec 32 := 0#32
  let v308 : BitVec 1 := Scalar.cmpi .ne v307 c0_i32_131
  let v309 : BitVec 1 := Scalar.andi v306 v308
  let v295 : BitVec 32 := Scalar.divsi v294 c2_i32_126
  let c1_i32_132 : BitVec 32 := 1#32
  let v310 : BitVec 32 := Scalar.subi v295 c1_i32_132
  let v311 : BitVec 32 := Scalar.select v309 v310 v295
  let v312 : BitVec 32 := Scalar.subi v311 c0_i32_134
  let c1_i32_135 : BitVec 32 := 1#32
  let v314 : BitVec 32 := Scalar.divsi v312 c1_i32_135
  let v315 : BitVec 32 := Scalar.muli v314 c1_i32_135
  let v316 : BitVec 32 := Scalar.addi c0_i32_134 v315
  let c1_i32_137 : BitVec 32 := 1#32
  let arg13 : BitVec 32 := Scf.iv v316 c1_i32_137 k0_t39
  let v320 : BitVec 32 := Scalar.muli c2_i32_139 arg13
  let v321 : BitVec 32 := Scalar.addi v265 v320
  let c1_i32_144 : BitVec 32 := 1#32
  let v330 : BitVec 32 := Scalar.addi v321 c1_i32_144
  let c64_i32_145 : BitVec 32 := 64#32
  let v331 : BitVec 32 := Scalar.muli v330 c64_i32_145
  let c0_i32_146 : BitVec 32 := 0#32
  ![v331.toNat, 0]
def k0_cond9 (i : grid0.Coords) (v66_0 : BitVec 32) (v74 : BitVec 32) (v79 : BitVec 32) (v84 : BitVec 32) (v89 : BitVec 32) (v94 : BitVec 32) (v99 : BitVec 32) (v104 : BitVec 32) (v109 : BitVec 32) (v114 : BitVec 32) (v119 : BitVec 32) (v124 : BitVec 32) (v129 : BitVec 32) (v134 : BitVec 32) (v139 : BitVec 32) (v144 : BitVec 32) (v149 : BitVec 32) (v158_0 : BitVec 32) (v166 : BitVec 32) (v171 : BitVec 32) (v176 : BitVec 32) (v181 : BitVec 32) (v186 : BitVec 32) (v191 : BitVec 32) (v196 : BitVec 32) (v201 : BitVec 32) (v206 : BitVec 32) (v211 : BitVec 32) (v216 : BitVec 32) (v221 : BitVec 32) (v226 : BitVec 32) (v231 : BitVec 32) (v236 : BitVec 32) (v241 : BitVec 32) (k0_t39 : Fin (k0_t39_loop i v66_0 v74 v79 v84 v89 v94 v99 v104 v109 v114 v119 v124 v129 v134 v139 v144 v149 v158_0 v166 v171 v176 v181 v186 v191 v196 v201 v206 v211 v216 v221 v226 v231 v236 v241).trips) : BitVec 1 :=
  let c0_i32_57 : BitVec 32 := 0#32
  let v153 : BitVec 1 := Scalar.cmpi .eq v66_0 c0_i32_57
  let c0_i32_59 : BitVec 32 := 0#32
  let c1_i32_22 : BitVec 32 := 1#32
  let v67 : BitVec 32 := Scalar.subi v66_0 c1_i32_22
  let c0_i32_23 : BitVec 32 := 0#32
  let v68 : BitVec 32 := Scalar.maxsi v67 c0_i32_23
  let c16_i32_58 : BitVec 32 := 16#32
  let v154 : BitVec 32 := Scalar.muli v68 c16_i32_58
  let c0_i32_26 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let v75 : BitVec 1 := Scalar.cmpi .slt v74 v2
  let c1_i32_24 : BitVec 32 := 1#32
  let c0_i32_25 : BitVec 32 := 0#32
  let v76 : BitVec 32 := Scalar.select v75 c1_i32_24 c0_i32_25
  let v77 : BitVec 32 := Scalar.addi c0_i32_26 v76
  let v80 : BitVec 1 := Scalar.cmpi .slt v79 v2
  let c1_i32_27 : BitVec 32 := 1#32
  let c0_i32_28 : BitVec 32 := 0#32
  let v81 : BitVec 32 := Scalar.select v80 c1_i32_27 c0_i32_28
  let v82 : BitVec 32 := Scalar.addi v77 v81
  let v85 : BitVec 1 := Scalar.cmpi .slt v84 v2
  let c1_i32_29 : BitVec 32 := 1#32
  let c0_i32_30 : BitVec 32 := 0#32
  let v86 : BitVec 32 := Scalar.select v85 c1_i32_29 c0_i32_30
  let v87 : BitVec 32 := Scalar.addi v82 v86
  let v90 : BitVec 1 := Scalar.cmpi .slt v89 v2
  let c1_i32_31 : BitVec 32 := 1#32
  let c0_i32_32 : BitVec 32 := 0#32
  let v91 : BitVec 32 := Scalar.select v90 c1_i32_31 c0_i32_32
  let v92 : BitVec 32 := Scalar.addi v87 v91
  let v95 : BitVec 1 := Scalar.cmpi .slt v94 v2
  let c1_i32_33 : BitVec 32 := 1#32
  let c0_i32_34 : BitVec 32 := 0#32
  let v96 : BitVec 32 := Scalar.select v95 c1_i32_33 c0_i32_34
  let v97 : BitVec 32 := Scalar.addi v92 v96
  let v100 : BitVec 1 := Scalar.cmpi .slt v99 v2
  let c1_i32_35 : BitVec 32 := 1#32
  let c0_i32_36 : BitVec 32 := 0#32
  let v101 : BitVec 32 := Scalar.select v100 c1_i32_35 c0_i32_36
  let v102 : BitVec 32 := Scalar.addi v97 v101
  let v105 : BitVec 1 := Scalar.cmpi .slt v104 v2
  let c1_i32_37 : BitVec 32 := 1#32
  let c0_i32_38 : BitVec 32 := 0#32
  let v106 : BitVec 32 := Scalar.select v105 c1_i32_37 c0_i32_38
  let v107 : BitVec 32 := Scalar.addi v102 v106
  let v110 : BitVec 1 := Scalar.cmpi .slt v109 v2
  let c1_i32_39 : BitVec 32 := 1#32
  let c0_i32_40 : BitVec 32 := 0#32
  let v111 : BitVec 32 := Scalar.select v110 c1_i32_39 c0_i32_40
  let v112 : BitVec 32 := Scalar.addi v107 v111
  let v115 : BitVec 1 := Scalar.cmpi .slt v114 v2
  let c1_i32_41 : BitVec 32 := 1#32
  let c0_i32_42 : BitVec 32 := 0#32
  let v116 : BitVec 32 := Scalar.select v115 c1_i32_41 c0_i32_42
  let v117 : BitVec 32 := Scalar.addi v112 v116
  let v120 : BitVec 1 := Scalar.cmpi .slt v119 v2
  let c1_i32_43 : BitVec 32 := 1#32
  let c0_i32_44 : BitVec 32 := 0#32
  let v121 : BitVec 32 := Scalar.select v120 c1_i32_43 c0_i32_44
  let v122 : BitVec 32 := Scalar.addi v117 v121
  let v125 : BitVec 1 := Scalar.cmpi .slt v124 v2
  let c1_i32_45 : BitVec 32 := 1#32
  let c0_i32_46 : BitVec 32 := 0#32
  let v126 : BitVec 32 := Scalar.select v125 c1_i32_45 c0_i32_46
  let v127 : BitVec 32 := Scalar.addi v122 v126
  let v130 : BitVec 1 := Scalar.cmpi .slt v129 v2
  let c1_i32_47 : BitVec 32 := 1#32
  let c0_i32_48 : BitVec 32 := 0#32
  let v131 : BitVec 32 := Scalar.select v130 c1_i32_47 c0_i32_48
  let v132 : BitVec 32 := Scalar.addi v127 v131
  let v135 : BitVec 1 := Scalar.cmpi .slt v134 v2
  let c1_i32_49 : BitVec 32 := 1#32
  let c0_i32_50 : BitVec 32 := 0#32
  let v136 : BitVec 32 := Scalar.select v135 c1_i32_49 c0_i32_50
  let v137 : BitVec 32 := Scalar.addi v132 v136
  let v140 : BitVec 1 := Scalar.cmpi .slt v139 v2
  let c1_i32_51 : BitVec 32 := 1#32
  let c0_i32_52 : BitVec 32 := 0#32
  let v141 : BitVec 32 := Scalar.select v140 c1_i32_51 c0_i32_52
  let v142 : BitVec 32 := Scalar.addi v137 v141
  let v145 : BitVec 1 := Scalar.cmpi .slt v144 v2
  let c1_i32_53 : BitVec 32 := 1#32
  let c0_i32_54 : BitVec 32 := 0#32
  let v146 : BitVec 32 := Scalar.select v145 c1_i32_53 c0_i32_54
  let v147 : BitVec 32 := Scalar.addi v142 v146
  let v150 : BitVec 1 := Scalar.cmpi .slt v149 v2
  let c1_i32_55 : BitVec 32 := 1#32
  let c0_i32_56 : BitVec 32 := 0#32
  let v151 : BitVec 32 := Scalar.select v150 c1_i32_55 c0_i32_56
  let v152 : BitVec 32 := Scalar.addi v147 v151
  let v155 : BitVec 32 := Scalar.addi v154 v152
  let v156 : BitVec 32 := Scalar.select v153 c0_i32_59 v155
  let c0_i32_105 : BitVec 32 := 0#32
  let v250 : BitVec 1 := Scalar.cmpi .sgt v156 c0_i32_105
  let v251 : BitVec 32 := Scalar.extui v250
  let c0_i32_106 : BitVec 32 := 0#32
  let v252 : BitVec 1 := Scalar.cmpi .slt v156 c0_i32_106
  let v253 : BitVec 32 := Scalar.extui v252
  let v254 : BitVec 32 := Scalar.subi v251 v253
  let c64_i32 : BitVec 32 := 64#32
  let c0_i32_107 : BitVec 32 := 0#32
  let v255 : BitVec 1 := Scalar.cmpi .sgt c64_i32 c0_i32_107
  let v256 : BitVec 32 := Scalar.extui v255
  let c0_i32_108 : BitVec 32 := 0#32
  let v257 : BitVec 1 := Scalar.cmpi .slt c64_i32 c0_i32_108
  let v258 : BitVec 32 := Scalar.extui v257
  let v259 : BitVec 32 := Scalar.subi v256 v258
  let v260 : BitVec 1 := Scalar.cmpi .ne v254 v259
  let v261 : BitVec 32 := Scalar.remsi v156 c64_i32
  let c0_i32_109 : BitVec 32 := 0#32
  let v262 : BitVec 1 := Scalar.cmpi .ne v261 c0_i32_109
  let v263 : BitVec 1 := Scalar.andi v260 v262
  let v249 : BitVec 32 := Scalar.divsi v156 c64_i32
  let c1_i32_110 : BitVec 32 := 1#32
  let v264 : BitVec 32 := Scalar.subi v249 c1_i32_110
  let v265 : BitVec 32 := Scalar.select v263 v264 v249
  let c2_i32_139 : BitVec 32 := 2#32
  let c0_i32_134 : BitVec 32 := 0#32
  let c0_i32_102 : BitVec 32 := 0#32
  let v245 : BitVec 1 := Scalar.cmpi .eq v158_0 c0_i32_102
  let c0_i32_104 : BitVec 32 := 0#32
  let c1_i32_66 : BitVec 32 := 1#32
  let v159 : BitVec 32 := Scalar.subi v158_0 c1_i32_66
  let c0_i32_67 : BitVec 32 := 0#32
  let v160 : BitVec 32 := Scalar.maxsi v159 c0_i32_67
  let c16_i32_103 : BitVec 32 := 16#32
  let v246 : BitVec 32 := Scalar.muli v160 c16_i32_103
  let c0_i32_71 : BitVec 32 := 0#32
  let c32_i32_0 : BitVec 32 := 32#32
  let v3 : BitVec 32 := Scalar.addi v2 c32_i32_0
  let v167 : BitVec 1 := Scalar.cmpi .slt v166 v3
  let c1_i32_69 : BitVec 32 := 1#32
  let c0_i32_70 : BitVec 32 := 0#32
  let v168 : BitVec 32 := Scalar.select v167 c1_i32_69 c0_i32_70
  let v169 : BitVec 32 := Scalar.addi c0_i32_71 v168
  let v172 : BitVec 1 := Scalar.cmpi .slt v171 v3
  let c1_i32_72 : BitVec 32 := 1#32
  let c0_i32_73 : BitVec 32 := 0#32
  let v173 : BitVec 32 := Scalar.select v172 c1_i32_72 c0_i32_73
  let v174 : BitVec 32 := Scalar.addi v169 v173
  let v177 : BitVec 1 := Scalar.cmpi .slt v176 v3
  let c1_i32_74 : BitVec 32 := 1#32
  let c0_i32_75 : BitVec 32 := 0#32
  let v178 : BitVec 32 := Scalar.select v177 c1_i32_74 c0_i32_75
  let v179 : BitVec 32 := Scalar.addi v174 v178
  let v182 : BitVec 1 := Scalar.cmpi .slt v181 v3
  let c1_i32_76 : BitVec 32 := 1#32
  let c0_i32_77 : BitVec 32 := 0#32
  let v183 : BitVec 32 := Scalar.select v182 c1_i32_76 c0_i32_77
  let v184 : BitVec 32 := Scalar.addi v179 v183
  let v187 : BitVec 1 := Scalar.cmpi .slt v186 v3
  let c1_i32_78 : BitVec 32 := 1#32
  let c0_i32_79 : BitVec 32 := 0#32
  let v188 : BitVec 32 := Scalar.select v187 c1_i32_78 c0_i32_79
  let v189 : BitVec 32 := Scalar.addi v184 v188
  let v192 : BitVec 1 := Scalar.cmpi .slt v191 v3
  let c1_i32_80 : BitVec 32 := 1#32
  let c0_i32_81 : BitVec 32 := 0#32
  let v193 : BitVec 32 := Scalar.select v192 c1_i32_80 c0_i32_81
  let v194 : BitVec 32 := Scalar.addi v189 v193
  let v197 : BitVec 1 := Scalar.cmpi .slt v196 v3
  let c1_i32_82 : BitVec 32 := 1#32
  let c0_i32_83 : BitVec 32 := 0#32
  let v198 : BitVec 32 := Scalar.select v197 c1_i32_82 c0_i32_83
  let v199 : BitVec 32 := Scalar.addi v194 v198
  let v202 : BitVec 1 := Scalar.cmpi .slt v201 v3
  let c1_i32_84 : BitVec 32 := 1#32
  let c0_i32_85 : BitVec 32 := 0#32
  let v203 : BitVec 32 := Scalar.select v202 c1_i32_84 c0_i32_85
  let v204 : BitVec 32 := Scalar.addi v199 v203
  let v207 : BitVec 1 := Scalar.cmpi .slt v206 v3
  let c1_i32_86 : BitVec 32 := 1#32
  let c0_i32_87 : BitVec 32 := 0#32
  let v208 : BitVec 32 := Scalar.select v207 c1_i32_86 c0_i32_87
  let v209 : BitVec 32 := Scalar.addi v204 v208
  let v212 : BitVec 1 := Scalar.cmpi .slt v211 v3
  let c1_i32_88 : BitVec 32 := 1#32
  let c0_i32_89 : BitVec 32 := 0#32
  let v213 : BitVec 32 := Scalar.select v212 c1_i32_88 c0_i32_89
  let v214 : BitVec 32 := Scalar.addi v209 v213
  let v217 : BitVec 1 := Scalar.cmpi .slt v216 v3
  let c1_i32_90 : BitVec 32 := 1#32
  let c0_i32_91 : BitVec 32 := 0#32
  let v218 : BitVec 32 := Scalar.select v217 c1_i32_90 c0_i32_91
  let v219 : BitVec 32 := Scalar.addi v214 v218
  let v222 : BitVec 1 := Scalar.cmpi .slt v221 v3
  let c1_i32_92 : BitVec 32 := 1#32
  let c0_i32_93 : BitVec 32 := 0#32
  let v223 : BitVec 32 := Scalar.select v222 c1_i32_92 c0_i32_93
  let v224 : BitVec 32 := Scalar.addi v219 v223
  let v227 : BitVec 1 := Scalar.cmpi .slt v226 v3
  let c1_i32_94 : BitVec 32 := 1#32
  let c0_i32_95 : BitVec 32 := 0#32
  let v228 : BitVec 32 := Scalar.select v227 c1_i32_94 c0_i32_95
  let v229 : BitVec 32 := Scalar.addi v224 v228
  let v232 : BitVec 1 := Scalar.cmpi .slt v231 v3
  let c1_i32_96 : BitVec 32 := 1#32
  let c0_i32_97 : BitVec 32 := 0#32
  let v233 : BitVec 32 := Scalar.select v232 c1_i32_96 c0_i32_97
  let v234 : BitVec 32 := Scalar.addi v229 v233
  let v237 : BitVec 1 := Scalar.cmpi .slt v236 v3
  let c1_i32_98 : BitVec 32 := 1#32
  let c0_i32_99 : BitVec 32 := 0#32
  let v238 : BitVec 32 := Scalar.select v237 c1_i32_98 c0_i32_99
  let v239 : BitVec 32 := Scalar.addi v234 v238
  let v242 : BitVec 1 := Scalar.cmpi .slt v241 v3
  let c1_i32_100 : BitVec 32 := 1#32
  let c0_i32_101 : BitVec 32 := 0#32
  let v243 : BitVec 32 := Scalar.select v242 c1_i32_100 c0_i32_101
  let v244 : BitVec 32 := Scalar.addi v239 v243
  let v247 : BitVec 32 := Scalar.addi v246 v244
  let v248 : BitVec 32 := Scalar.select v245 c0_i32_104 v247
  let c64_i32_111 : BitVec 32 := 64#32
  let v266 : BitVec 32 := Scalar.addi v248 c64_i32_111
  let c1_i32_112 : BitVec 32 := 1#32
  let v267 : BitVec 32 := Scalar.subi v266 c1_i32_112
  let c0_i32_114 : BitVec 32 := 0#32
  let v269 : BitVec 1 := Scalar.cmpi .sgt v267 c0_i32_114
  let v270 : BitVec 32 := Scalar.extui v269
  let c0_i32_115 : BitVec 32 := 0#32
  let v271 : BitVec 1 := Scalar.cmpi .slt v267 c0_i32_115
  let v272 : BitVec 32 := Scalar.extui v271
  let v273 : BitVec 32 := Scalar.subi v270 v272
  let c64_i32_113 : BitVec 32 := 64#32
  let c0_i32_116 : BitVec 32 := 0#32
  let v274 : BitVec 1 := Scalar.cmpi .sgt c64_i32_113 c0_i32_116
  let v275 : BitVec 32 := Scalar.extui v274
  let c0_i32_117 : BitVec 32 := 0#32
  let v276 : BitVec 1 := Scalar.cmpi .slt c64_i32_113 c0_i32_117
  let v277 : BitVec 32 := Scalar.extui v276
  let v278 : BitVec 32 := Scalar.subi v275 v277
  let v279 : BitVec 1 := Scalar.cmpi .ne v273 v278
  let v280 : BitVec 32 := Scalar.remsi v267 c64_i32_113
  let c0_i32_118 : BitVec 32 := 0#32
  let v281 : BitVec 1 := Scalar.cmpi .ne v280 c0_i32_118
  let v282 : BitVec 1 := Scalar.andi v279 v281
  let v268 : BitVec 32 := Scalar.divsi v267 c64_i32_113
  let c1_i32_119 : BitVec 32 := 1#32
  let v283 : BitVec 32 := Scalar.subi v268 c1_i32_119
  let v284 : BitVec 32 := Scalar.select v282 v283 v268
  let c156_i32 : BitVec 32 := 156#32
  let v285 : BitVec 32 := Scalar.minsi v284 c156_i32
  let v286 : BitVec 32 := Scalar.subi v285 v265
  let c2_i32_124 : BitVec 32 := 2#32
  let v293 : BitVec 32 := Scalar.addi v286 c2_i32_124
  let c1_i32_125 : BitVec 32 := 1#32
  let v294 : BitVec 32 := Scalar.subi v293 c1_i32_125
  let c0_i32_127 : BitVec 32 := 0#32
  let v296 : BitVec 1 := Scalar.cmpi .sgt v294 c0_i32_127
  let v297 : BitVec 32 := Scalar.extui v296
  let c0_i32_128 : BitVec 32 := 0#32
  let v298 : BitVec 1 := Scalar.cmpi .slt v294 c0_i32_128
  let v299 : BitVec 32 := Scalar.extui v298
  let v300 : BitVec 32 := Scalar.subi v297 v299
  let c2_i32_126 : BitVec 32 := 2#32
  let c0_i32_129 : BitVec 32 := 0#32
  let v301 : BitVec 1 := Scalar.cmpi .sgt c2_i32_126 c0_i32_129
  let v302 : BitVec 32 := Scalar.extui v301
  let c0_i32_130 : BitVec 32 := 0#32
  let v303 : BitVec 1 := Scalar.cmpi .slt c2_i32_126 c0_i32_130
  let v304 : BitVec 32 := Scalar.extui v303
  let v305 : BitVec 32 := Scalar.subi v302 v304
  let v306 : BitVec 1 := Scalar.cmpi .ne v300 v305
  let v307 : BitVec 32 := Scalar.remsi v294 c2_i32_126
  let c0_i32_131 : BitVec 32 := 0#32
  let v308 : BitVec 1 := Scalar.cmpi .ne v307 c0_i32_131
  let v309 : BitVec 1 := Scalar.andi v306 v308
  let v295 : BitVec 32 := Scalar.divsi v294 c2_i32_126
  let c1_i32_132 : BitVec 32 := 1#32
  let v310 : BitVec 32 := Scalar.subi v295 c1_i32_132
  let v311 : BitVec 32 := Scalar.select v309 v310 v295
  let v312 : BitVec 32 := Scalar.subi v311 c0_i32_134
  let c1_i32_135 : BitVec 32 := 1#32
  let v314 : BitVec 32 := Scalar.divsi v312 c1_i32_135
  let v315 : BitVec 32 := Scalar.muli v314 c1_i32_135
  let v316 : BitVec 32 := Scalar.addi c0_i32_134 v315
  let c1_i32_137 : BitVec 32 := 1#32
  let arg13 : BitVec 32 := Scf.iv v316 c1_i32_137 k0_t39
  let v320 : BitVec 32 := Scalar.muli c2_i32_139 arg13
  let v321 : BitVec 32 := Scalar.addi v265 v320
  let c1_i32_142 : BitVec 32 := 1#32
  let v326 : BitVec 32 := Scalar.addi v321 c1_i32_142
  let v327 : BitVec 1 := Scalar.cmpi .slt v326 v285
  let v328 : BitVec 32 := Scalar.extui v327
  let c0_i32_143 : BitVec 32 := 0#32
  let v329 : BitVec 1 := Scalar.cmpi .ne v328 c0_i32_143
  v329

@[reducible] def k0_t57_loop : Scf.Loop 32 :=
  let c0_i32_149 : BitVec 32 := 0#32
  let c4_i32 : BitVec 32 := 4#32
  let v334 : BitVec 32 := Scalar.addi c0_i32_149 c4_i32
  let c1_i32_150 : BitVec 32 := 1#32
  ⟨c0_i32_149, v334, c1_i32_150⟩
def k0_off244 (i : grid0.Coords) (v66_0 : BitVec 32) (v74 : BitVec 32) (v79 : BitVec 32) (v84 : BitVec 32) (v89 : BitVec 32) (v94 : BitVec 32) (v99 : BitVec 32) (v104 : BitVec 32) (v109 : BitVec 32) (v114 : BitVec 32) (v119 : BitVec 32) (v124 : BitVec 32) (v129 : BitVec 32) (v134 : BitVec 32) (v139 : BitVec 32) (v144 : BitVec 32) (v149 : BitVec 32) (v158_0 : BitVec 32) (v166 : BitVec 32) (v171 : BitVec 32) (v176 : BitVec 32) (v181 : BitVec 32) (v186 : BitVec 32) (v191 : BitVec 32) (v196 : BitVec 32) (v201 : BitVec 32) (v206 : BitVec 32) (v211 : BitVec 32) (v216 : BitVec 32) (v221 : BitVec 32) (v226 : BitVec 32) (v231 : BitVec 32) (v236 : BitVec 32) (v241 : BitVec 32) (k0_t39 : Fin (k0_t39_loop i v66_0 v74 v79 v84 v89 v94 v99 v104 v109 v114 v119 v124 v129 v134 v139 v144 v149 v158_0 v166 v171 v176 v181 v186 v191 v196 v201 v206 v211 v216 v221 v226 v231 v236 v241).trips) (k0_t57 : Fin k0_t57_loop.trips) : Fin 1 → Nat :=
  let c0_i32_57 : BitVec 32 := 0#32
  let v153 : BitVec 1 := Scalar.cmpi .eq v66_0 c0_i32_57
  let c0_i32_59 : BitVec 32 := 0#32
  let c1_i32_22 : BitVec 32 := 1#32
  let v67 : BitVec 32 := Scalar.subi v66_0 c1_i32_22
  let c0_i32_23 : BitVec 32 := 0#32
  let v68 : BitVec 32 := Scalar.maxsi v67 c0_i32_23
  let c16_i32_58 : BitVec 32 := 16#32
  let v154 : BitVec 32 := Scalar.muli v68 c16_i32_58
  let c0_i32_26 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let v75 : BitVec 1 := Scalar.cmpi .slt v74 v2
  let c1_i32_24 : BitVec 32 := 1#32
  let c0_i32_25 : BitVec 32 := 0#32
  let v76 : BitVec 32 := Scalar.select v75 c1_i32_24 c0_i32_25
  let v77 : BitVec 32 := Scalar.addi c0_i32_26 v76
  let v80 : BitVec 1 := Scalar.cmpi .slt v79 v2
  let c1_i32_27 : BitVec 32 := 1#32
  let c0_i32_28 : BitVec 32 := 0#32
  let v81 : BitVec 32 := Scalar.select v80 c1_i32_27 c0_i32_28
  let v82 : BitVec 32 := Scalar.addi v77 v81
  let v85 : BitVec 1 := Scalar.cmpi .slt v84 v2
  let c1_i32_29 : BitVec 32 := 1#32
  let c0_i32_30 : BitVec 32 := 0#32
  let v86 : BitVec 32 := Scalar.select v85 c1_i32_29 c0_i32_30
  let v87 : BitVec 32 := Scalar.addi v82 v86
  let v90 : BitVec 1 := Scalar.cmpi .slt v89 v2
  let c1_i32_31 : BitVec 32 := 1#32
  let c0_i32_32 : BitVec 32 := 0#32
  let v91 : BitVec 32 := Scalar.select v90 c1_i32_31 c0_i32_32
  let v92 : BitVec 32 := Scalar.addi v87 v91
  let v95 : BitVec 1 := Scalar.cmpi .slt v94 v2
  let c1_i32_33 : BitVec 32 := 1#32
  let c0_i32_34 : BitVec 32 := 0#32
  let v96 : BitVec 32 := Scalar.select v95 c1_i32_33 c0_i32_34
  let v97 : BitVec 32 := Scalar.addi v92 v96
  let v100 : BitVec 1 := Scalar.cmpi .slt v99 v2
  let c1_i32_35 : BitVec 32 := 1#32
  let c0_i32_36 : BitVec 32 := 0#32
  let v101 : BitVec 32 := Scalar.select v100 c1_i32_35 c0_i32_36
  let v102 : BitVec 32 := Scalar.addi v97 v101
  let v105 : BitVec 1 := Scalar.cmpi .slt v104 v2
  let c1_i32_37 : BitVec 32 := 1#32
  let c0_i32_38 : BitVec 32 := 0#32
  let v106 : BitVec 32 := Scalar.select v105 c1_i32_37 c0_i32_38
  let v107 : BitVec 32 := Scalar.addi v102 v106
  let v110 : BitVec 1 := Scalar.cmpi .slt v109 v2
  let c1_i32_39 : BitVec 32 := 1#32
  let c0_i32_40 : BitVec 32 := 0#32
  let v111 : BitVec 32 := Scalar.select v110 c1_i32_39 c0_i32_40
  let v112 : BitVec 32 := Scalar.addi v107 v111
  let v115 : BitVec 1 := Scalar.cmpi .slt v114 v2
  let c1_i32_41 : BitVec 32 := 1#32
  let c0_i32_42 : BitVec 32 := 0#32
  let v116 : BitVec 32 := Scalar.select v115 c1_i32_41 c0_i32_42
  let v117 : BitVec 32 := Scalar.addi v112 v116
  let v120 : BitVec 1 := Scalar.cmpi .slt v119 v2
  let c1_i32_43 : BitVec 32 := 1#32
  let c0_i32_44 : BitVec 32 := 0#32
  let v121 : BitVec 32 := Scalar.select v120 c1_i32_43 c0_i32_44
  let v122 : BitVec 32 := Scalar.addi v117 v121
  let v125 : BitVec 1 := Scalar.cmpi .slt v124 v2
  let c1_i32_45 : BitVec 32 := 1#32
  let c0_i32_46 : BitVec 32 := 0#32
  let v126 : BitVec 32 := Scalar.select v125 c1_i32_45 c0_i32_46
  let v127 : BitVec 32 := Scalar.addi v122 v126
  let v130 : BitVec 1 := Scalar.cmpi .slt v129 v2
  let c1_i32_47 : BitVec 32 := 1#32
  let c0_i32_48 : BitVec 32 := 0#32
  let v131 : BitVec 32 := Scalar.select v130 c1_i32_47 c0_i32_48
  let v132 : BitVec 32 := Scalar.addi v127 v131
  let v135 : BitVec 1 := Scalar.cmpi .slt v134 v2
  let c1_i32_49 : BitVec 32 := 1#32
  let c0_i32_50 : BitVec 32 := 0#32
  let v136 : BitVec 32 := Scalar.select v135 c1_i32_49 c0_i32_50
  let v137 : BitVec 32 := Scalar.addi v132 v136
  let v140 : BitVec 1 := Scalar.cmpi .slt v139 v2
  let c1_i32_51 : BitVec 32 := 1#32
  let c0_i32_52 : BitVec 32 := 0#32
  let v141 : BitVec 32 := Scalar.select v140 c1_i32_51 c0_i32_52
  let v142 : BitVec 32 := Scalar.addi v137 v141
  let v145 : BitVec 1 := Scalar.cmpi .slt v144 v2
  let c1_i32_53 : BitVec 32 := 1#32
  let c0_i32_54 : BitVec 32 := 0#32
  let v146 : BitVec 32 := Scalar.select v145 c1_i32_53 c0_i32_54
  let v147 : BitVec 32 := Scalar.addi v142 v146
  let v150 : BitVec 1 := Scalar.cmpi .slt v149 v2
  let c1_i32_55 : BitVec 32 := 1#32
  let c0_i32_56 : BitVec 32 := 0#32
  let v151 : BitVec 32 := Scalar.select v150 c1_i32_55 c0_i32_56
  let v152 : BitVec 32 := Scalar.addi v147 v151
  let v155 : BitVec 32 := Scalar.addi v154 v152
  let v156 : BitVec 32 := Scalar.select v153 c0_i32_59 v155
  let c0_i32_105 : BitVec 32 := 0#32
  let v250 : BitVec 1 := Scalar.cmpi .sgt v156 c0_i32_105
  let v251 : BitVec 32 := Scalar.extui v250
  let c0_i32_106 : BitVec 32 := 0#32
  let v252 : BitVec 1 := Scalar.cmpi .slt v156 c0_i32_106
  let v253 : BitVec 32 := Scalar.extui v252
  let v254 : BitVec 32 := Scalar.subi v251 v253
  let c64_i32 : BitVec 32 := 64#32
  let c0_i32_107 : BitVec 32 := 0#32
  let v255 : BitVec 1 := Scalar.cmpi .sgt c64_i32 c0_i32_107
  let v256 : BitVec 32 := Scalar.extui v255
  let c0_i32_108 : BitVec 32 := 0#32
  let v257 : BitVec 1 := Scalar.cmpi .slt c64_i32 c0_i32_108
  let v258 : BitVec 32 := Scalar.extui v257
  let v259 : BitVec 32 := Scalar.subi v256 v258
  let v260 : BitVec 1 := Scalar.cmpi .ne v254 v259
  let v261 : BitVec 32 := Scalar.remsi v156 c64_i32
  let c0_i32_109 : BitVec 32 := 0#32
  let v262 : BitVec 1 := Scalar.cmpi .ne v261 c0_i32_109
  let v263 : BitVec 1 := Scalar.andi v260 v262
  let v249 : BitVec 32 := Scalar.divsi v156 c64_i32
  let c1_i32_110 : BitVec 32 := 1#32
  let v264 : BitVec 32 := Scalar.subi v249 c1_i32_110
  let v265 : BitVec 32 := Scalar.select v263 v264 v249
  let c2_i32_139 : BitVec 32 := 2#32
  let c0_i32_134 : BitVec 32 := 0#32
  let c0_i32_102 : BitVec 32 := 0#32
  let v245 : BitVec 1 := Scalar.cmpi .eq v158_0 c0_i32_102
  let c0_i32_104 : BitVec 32 := 0#32
  let c1_i32_66 : BitVec 32 := 1#32
  let v159 : BitVec 32 := Scalar.subi v158_0 c1_i32_66
  let c0_i32_67 : BitVec 32 := 0#32
  let v160 : BitVec 32 := Scalar.maxsi v159 c0_i32_67
  let c16_i32_103 : BitVec 32 := 16#32
  let v246 : BitVec 32 := Scalar.muli v160 c16_i32_103
  let c0_i32_71 : BitVec 32 := 0#32
  let c32_i32_0 : BitVec 32 := 32#32
  let v3 : BitVec 32 := Scalar.addi v2 c32_i32_0
  let v167 : BitVec 1 := Scalar.cmpi .slt v166 v3
  let c1_i32_69 : BitVec 32 := 1#32
  let c0_i32_70 : BitVec 32 := 0#32
  let v168 : BitVec 32 := Scalar.select v167 c1_i32_69 c0_i32_70
  let v169 : BitVec 32 := Scalar.addi c0_i32_71 v168
  let v172 : BitVec 1 := Scalar.cmpi .slt v171 v3
  let c1_i32_72 : BitVec 32 := 1#32
  let c0_i32_73 : BitVec 32 := 0#32
  let v173 : BitVec 32 := Scalar.select v172 c1_i32_72 c0_i32_73
  let v174 : BitVec 32 := Scalar.addi v169 v173
  let v177 : BitVec 1 := Scalar.cmpi .slt v176 v3
  let c1_i32_74 : BitVec 32 := 1#32
  let c0_i32_75 : BitVec 32 := 0#32
  let v178 : BitVec 32 := Scalar.select v177 c1_i32_74 c0_i32_75
  let v179 : BitVec 32 := Scalar.addi v174 v178
  let v182 : BitVec 1 := Scalar.cmpi .slt v181 v3
  let c1_i32_76 : BitVec 32 := 1#32
  let c0_i32_77 : BitVec 32 := 0#32
  let v183 : BitVec 32 := Scalar.select v182 c1_i32_76 c0_i32_77
  let v184 : BitVec 32 := Scalar.addi v179 v183
  let v187 : BitVec 1 := Scalar.cmpi .slt v186 v3
  let c1_i32_78 : BitVec 32 := 1#32
  let c0_i32_79 : BitVec 32 := 0#32
  let v188 : BitVec 32 := Scalar.select v187 c1_i32_78 c0_i32_79
  let v189 : BitVec 32 := Scalar.addi v184 v188
  let v192 : BitVec 1 := Scalar.cmpi .slt v191 v3
  let c1_i32_80 : BitVec 32 := 1#32
  let c0_i32_81 : BitVec 32 := 0#32
  let v193 : BitVec 32 := Scalar.select v192 c1_i32_80 c0_i32_81
  let v194 : BitVec 32 := Scalar.addi v189 v193
  let v197 : BitVec 1 := Scalar.cmpi .slt v196 v3
  let c1_i32_82 : BitVec 32 := 1#32
  let c0_i32_83 : BitVec 32 := 0#32
  let v198 : BitVec 32 := Scalar.select v197 c1_i32_82 c0_i32_83
  let v199 : BitVec 32 := Scalar.addi v194 v198
  let v202 : BitVec 1 := Scalar.cmpi .slt v201 v3
  let c1_i32_84 : BitVec 32 := 1#32
  let c0_i32_85 : BitVec 32 := 0#32
  let v203 : BitVec 32 := Scalar.select v202 c1_i32_84 c0_i32_85
  let v204 : BitVec 32 := Scalar.addi v199 v203
  let v207 : BitVec 1 := Scalar.cmpi .slt v206 v3
  let c1_i32_86 : BitVec 32 := 1#32
  let c0_i32_87 : BitVec 32 := 0#32
  let v208 : BitVec 32 := Scalar.select v207 c1_i32_86 c0_i32_87
  let v209 : BitVec 32 := Scalar.addi v204 v208
  let v212 : BitVec 1 := Scalar.cmpi .slt v211 v3
  let c1_i32_88 : BitVec 32 := 1#32
  let c0_i32_89 : BitVec 32 := 0#32
  let v213 : BitVec 32 := Scalar.select v212 c1_i32_88 c0_i32_89
  let v214 : BitVec 32 := Scalar.addi v209 v213
  let v217 : BitVec 1 := Scalar.cmpi .slt v216 v3
  let c1_i32_90 : BitVec 32 := 1#32
  let c0_i32_91 : BitVec 32 := 0#32
  let v218 : BitVec 32 := Scalar.select v217 c1_i32_90 c0_i32_91
  let v219 : BitVec 32 := Scalar.addi v214 v218
  let v222 : BitVec 1 := Scalar.cmpi .slt v221 v3
  let c1_i32_92 : BitVec 32 := 1#32
  let c0_i32_93 : BitVec 32 := 0#32
  let v223 : BitVec 32 := Scalar.select v222 c1_i32_92 c0_i32_93
  let v224 : BitVec 32 := Scalar.addi v219 v223
  let v227 : BitVec 1 := Scalar.cmpi .slt v226 v3
  let c1_i32_94 : BitVec 32 := 1#32
  let c0_i32_95 : BitVec 32 := 0#32
  let v228 : BitVec 32 := Scalar.select v227 c1_i32_94 c0_i32_95
  let v229 : BitVec 32 := Scalar.addi v224 v228
  let v232 : BitVec 1 := Scalar.cmpi .slt v231 v3
  let c1_i32_96 : BitVec 32 := 1#32
  let c0_i32_97 : BitVec 32 := 0#32
  let v233 : BitVec 32 := Scalar.select v232 c1_i32_96 c0_i32_97
  let v234 : BitVec 32 := Scalar.addi v229 v233
  let v237 : BitVec 1 := Scalar.cmpi .slt v236 v3
  let c1_i32_98 : BitVec 32 := 1#32
  let c0_i32_99 : BitVec 32 := 0#32
  let v238 : BitVec 32 := Scalar.select v237 c1_i32_98 c0_i32_99
  let v239 : BitVec 32 := Scalar.addi v234 v238
  let v242 : BitVec 1 := Scalar.cmpi .slt v241 v3
  let c1_i32_100 : BitVec 32 := 1#32
  let c0_i32_101 : BitVec 32 := 0#32
  let v243 : BitVec 32 := Scalar.select v242 c1_i32_100 c0_i32_101
  let v244 : BitVec 32 := Scalar.addi v239 v243
  let v247 : BitVec 32 := Scalar.addi v246 v244
  let v248 : BitVec 32 := Scalar.select v245 c0_i32_104 v247
  let c64_i32_111 : BitVec 32 := 64#32
  let v266 : BitVec 32 := Scalar.addi v248 c64_i32_111
  let c1_i32_112 : BitVec 32 := 1#32
  let v267 : BitVec 32 := Scalar.subi v266 c1_i32_112
  let c0_i32_114 : BitVec 32 := 0#32
  let v269 : BitVec 1 := Scalar.cmpi .sgt v267 c0_i32_114
  let v270 : BitVec 32 := Scalar.extui v269
  let c0_i32_115 : BitVec 32 := 0#32
  let v271 : BitVec 1 := Scalar.cmpi .slt v267 c0_i32_115
  let v272 : BitVec 32 := Scalar.extui v271
  let v273 : BitVec 32 := Scalar.subi v270 v272
  let c64_i32_113 : BitVec 32 := 64#32
  let c0_i32_116 : BitVec 32 := 0#32
  let v274 : BitVec 1 := Scalar.cmpi .sgt c64_i32_113 c0_i32_116
  let v275 : BitVec 32 := Scalar.extui v274
  let c0_i32_117 : BitVec 32 := 0#32
  let v276 : BitVec 1 := Scalar.cmpi .slt c64_i32_113 c0_i32_117
  let v277 : BitVec 32 := Scalar.extui v276
  let v278 : BitVec 32 := Scalar.subi v275 v277
  let v279 : BitVec 1 := Scalar.cmpi .ne v273 v278
  let v280 : BitVec 32 := Scalar.remsi v267 c64_i32_113
  let c0_i32_118 : BitVec 32 := 0#32
  let v281 : BitVec 1 := Scalar.cmpi .ne v280 c0_i32_118
  let v282 : BitVec 1 := Scalar.andi v279 v281
  let v268 : BitVec 32 := Scalar.divsi v267 c64_i32_113
  let c1_i32_119 : BitVec 32 := 1#32
  let v283 : BitVec 32 := Scalar.subi v268 c1_i32_119
  let v284 : BitVec 32 := Scalar.select v282 v283 v268
  let c156_i32 : BitVec 32 := 156#32
  let v285 : BitVec 32 := Scalar.minsi v284 c156_i32
  let v286 : BitVec 32 := Scalar.subi v285 v265
  let c2_i32_124 : BitVec 32 := 2#32
  let v293 : BitVec 32 := Scalar.addi v286 c2_i32_124
  let c1_i32_125 : BitVec 32 := 1#32
  let v294 : BitVec 32 := Scalar.subi v293 c1_i32_125
  let c0_i32_127 : BitVec 32 := 0#32
  let v296 : BitVec 1 := Scalar.cmpi .sgt v294 c0_i32_127
  let v297 : BitVec 32 := Scalar.extui v296
  let c0_i32_128 : BitVec 32 := 0#32
  let v298 : BitVec 1 := Scalar.cmpi .slt v294 c0_i32_128
  let v299 : BitVec 32 := Scalar.extui v298
  let v300 : BitVec 32 := Scalar.subi v297 v299
  let c2_i32_126 : BitVec 32 := 2#32
  let c0_i32_129 : BitVec 32 := 0#32
  let v301 : BitVec 1 := Scalar.cmpi .sgt c2_i32_126 c0_i32_129
  let v302 : BitVec 32 := Scalar.extui v301
  let c0_i32_130 : BitVec 32 := 0#32
  let v303 : BitVec 1 := Scalar.cmpi .slt c2_i32_126 c0_i32_130
  let v304 : BitVec 32 := Scalar.extui v303
  let v305 : BitVec 32 := Scalar.subi v302 v304
  let v306 : BitVec 1 := Scalar.cmpi .ne v300 v305
  let v307 : BitVec 32 := Scalar.remsi v294 c2_i32_126
  let c0_i32_131 : BitVec 32 := 0#32
  let v308 : BitVec 1 := Scalar.cmpi .ne v307 c0_i32_131
  let v309 : BitVec 1 := Scalar.andi v306 v308
  let v295 : BitVec 32 := Scalar.divsi v294 c2_i32_126
  let c1_i32_132 : BitVec 32 := 1#32
  let v310 : BitVec 32 := Scalar.subi v295 c1_i32_132
  let v311 : BitVec 32 := Scalar.select v309 v310 v295
  let v312 : BitVec 32 := Scalar.subi v311 c0_i32_134
  let c1_i32_135 : BitVec 32 := 1#32
  let v314 : BitVec 32 := Scalar.divsi v312 c1_i32_135
  let v315 : BitVec 32 := Scalar.muli v314 c1_i32_135
  let v316 : BitVec 32 := Scalar.addi c0_i32_134 v315
  let c1_i32_137 : BitVec 32 := 1#32
  let arg13 : BitVec 32 := Scf.iv v316 c1_i32_137 k0_t39
  let v320 : BitVec 32 := Scalar.muli c2_i32_139 arg13
  let v321 : BitVec 32 := Scalar.addi v265 v320
  let c1_i32_144 : BitVec 32 := 1#32
  let v330 : BitVec 32 := Scalar.addi v321 c1_i32_144
  let c64_i32_154 : BitVec 32 := 64#32
  let v339 : BitVec 32 := Scalar.muli v330 c64_i32_154
  let c0_i32_149 : BitVec 32 := 0#32
  let c1_i32_150 : BitVec 32 := 1#32
  let arg14 : BitVec 32 := Scf.iv c0_i32_149 c1_i32_150 k0_t57
  let c16_i32_155 : BitVec 32 := 16#32
  let v340 : BitVec 32 := Scalar.muli arg14 c16_i32_155
  let v341 : BitVec 32 := Scalar.addi v339 v340
  let v343 : Index := Scalar.indexCast v341
  ![v343.toNat]
def k0_off245 (i : grid0.Coords) (v66_0 : BitVec 32) (v74 : BitVec 32) (v79 : BitVec 32) (v84 : BitVec 32) (v89 : BitVec 32) (v94 : BitVec 32) (v99 : BitVec 32) (v104 : BitVec 32) (v109 : BitVec 32) (v114 : BitVec 32) (v119 : BitVec 32) (v124 : BitVec 32) (v129 : BitVec 32) (v134 : BitVec 32) (v139 : BitVec 32) (v144 : BitVec 32) (v149 : BitVec 32) (v158_0 : BitVec 32) (v166 : BitVec 32) (v171 : BitVec 32) (v176 : BitVec 32) (v181 : BitVec 32) (v186 : BitVec 32) (v191 : BitVec 32) (v196 : BitVec 32) (v201 : BitVec 32) (v206 : BitVec 32) (v211 : BitVec 32) (v216 : BitVec 32) (v221 : BitVec 32) (v226 : BitVec 32) (v231 : BitVec 32) (v236 : BitVec 32) (v241 : BitVec 32) (k0_t39 : Fin (k0_t39_loop i v66_0 v74 v79 v84 v89 v94 v99 v104 v109 v114 v119 v124 v129 v134 v139 v144 v149 v158_0 v166 v171 v176 v181 v186 v191 v196 v201 v206 v211 v216 v221 v226 v231 v236 v241).trips) (k0_t57 : Fin k0_t57_loop.trips) : Fin 1 → Nat :=
  let c0_i32_57 : BitVec 32 := 0#32
  let v153 : BitVec 1 := Scalar.cmpi .eq v66_0 c0_i32_57
  let c0_i32_59 : BitVec 32 := 0#32
  let c1_i32_22 : BitVec 32 := 1#32
  let v67 : BitVec 32 := Scalar.subi v66_0 c1_i32_22
  let c0_i32_23 : BitVec 32 := 0#32
  let v68 : BitVec 32 := Scalar.maxsi v67 c0_i32_23
  let c16_i32_58 : BitVec 32 := 16#32
  let v154 : BitVec 32 := Scalar.muli v68 c16_i32_58
  let c0_i32_26 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let v75 : BitVec 1 := Scalar.cmpi .slt v74 v2
  let c1_i32_24 : BitVec 32 := 1#32
  let c0_i32_25 : BitVec 32 := 0#32
  let v76 : BitVec 32 := Scalar.select v75 c1_i32_24 c0_i32_25
  let v77 : BitVec 32 := Scalar.addi c0_i32_26 v76
  let v80 : BitVec 1 := Scalar.cmpi .slt v79 v2
  let c1_i32_27 : BitVec 32 := 1#32
  let c0_i32_28 : BitVec 32 := 0#32
  let v81 : BitVec 32 := Scalar.select v80 c1_i32_27 c0_i32_28
  let v82 : BitVec 32 := Scalar.addi v77 v81
  let v85 : BitVec 1 := Scalar.cmpi .slt v84 v2
  let c1_i32_29 : BitVec 32 := 1#32
  let c0_i32_30 : BitVec 32 := 0#32
  let v86 : BitVec 32 := Scalar.select v85 c1_i32_29 c0_i32_30
  let v87 : BitVec 32 := Scalar.addi v82 v86
  let v90 : BitVec 1 := Scalar.cmpi .slt v89 v2
  let c1_i32_31 : BitVec 32 := 1#32
  let c0_i32_32 : BitVec 32 := 0#32
  let v91 : BitVec 32 := Scalar.select v90 c1_i32_31 c0_i32_32
  let v92 : BitVec 32 := Scalar.addi v87 v91
  let v95 : BitVec 1 := Scalar.cmpi .slt v94 v2
  let c1_i32_33 : BitVec 32 := 1#32
  let c0_i32_34 : BitVec 32 := 0#32
  let v96 : BitVec 32 := Scalar.select v95 c1_i32_33 c0_i32_34
  let v97 : BitVec 32 := Scalar.addi v92 v96
  let v100 : BitVec 1 := Scalar.cmpi .slt v99 v2
  let c1_i32_35 : BitVec 32 := 1#32
  let c0_i32_36 : BitVec 32 := 0#32
  let v101 : BitVec 32 := Scalar.select v100 c1_i32_35 c0_i32_36
  let v102 : BitVec 32 := Scalar.addi v97 v101
  let v105 : BitVec 1 := Scalar.cmpi .slt v104 v2
  let c1_i32_37 : BitVec 32 := 1#32
  let c0_i32_38 : BitVec 32 := 0#32
  let v106 : BitVec 32 := Scalar.select v105 c1_i32_37 c0_i32_38
  let v107 : BitVec 32 := Scalar.addi v102 v106
  let v110 : BitVec 1 := Scalar.cmpi .slt v109 v2
  let c1_i32_39 : BitVec 32 := 1#32
  let c0_i32_40 : BitVec 32 := 0#32
  let v111 : BitVec 32 := Scalar.select v110 c1_i32_39 c0_i32_40
  let v112 : BitVec 32 := Scalar.addi v107 v111
  let v115 : BitVec 1 := Scalar.cmpi .slt v114 v2
  let c1_i32_41 : BitVec 32 := 1#32
  let c0_i32_42 : BitVec 32 := 0#32
  let v116 : BitVec 32 := Scalar.select v115 c1_i32_41 c0_i32_42
  let v117 : BitVec 32 := Scalar.addi v112 v116
  let v120 : BitVec 1 := Scalar.cmpi .slt v119 v2
  let c1_i32_43 : BitVec 32 := 1#32
  let c0_i32_44 : BitVec 32 := 0#32
  let v121 : BitVec 32 := Scalar.select v120 c1_i32_43 c0_i32_44
  let v122 : BitVec 32 := Scalar.addi v117 v121
  let v125 : BitVec 1 := Scalar.cmpi .slt v124 v2
  let c1_i32_45 : BitVec 32 := 1#32
  let c0_i32_46 : BitVec 32 := 0#32
  let v126 : BitVec 32 := Scalar.select v125 c1_i32_45 c0_i32_46
  let v127 : BitVec 32 := Scalar.addi v122 v126
  let v130 : BitVec 1 := Scalar.cmpi .slt v129 v2
  let c1_i32_47 : BitVec 32 := 1#32
  let c0_i32_48 : BitVec 32 := 0#32
  let v131 : BitVec 32 := Scalar.select v130 c1_i32_47 c0_i32_48
  let v132 : BitVec 32 := Scalar.addi v127 v131
  let v135 : BitVec 1 := Scalar.cmpi .slt v134 v2
  let c1_i32_49 : BitVec 32 := 1#32
  let c0_i32_50 : BitVec 32 := 0#32
  let v136 : BitVec 32 := Scalar.select v135 c1_i32_49 c0_i32_50
  let v137 : BitVec 32 := Scalar.addi v132 v136
  let v140 : BitVec 1 := Scalar.cmpi .slt v139 v2
  let c1_i32_51 : BitVec 32 := 1#32
  let c0_i32_52 : BitVec 32 := 0#32
  let v141 : BitVec 32 := Scalar.select v140 c1_i32_51 c0_i32_52
  let v142 : BitVec 32 := Scalar.addi v137 v141
  let v145 : BitVec 1 := Scalar.cmpi .slt v144 v2
  let c1_i32_53 : BitVec 32 := 1#32
  let c0_i32_54 : BitVec 32 := 0#32
  let v146 : BitVec 32 := Scalar.select v145 c1_i32_53 c0_i32_54
  let v147 : BitVec 32 := Scalar.addi v142 v146
  let v150 : BitVec 1 := Scalar.cmpi .slt v149 v2
  let c1_i32_55 : BitVec 32 := 1#32
  let c0_i32_56 : BitVec 32 := 0#32
  let v151 : BitVec 32 := Scalar.select v150 c1_i32_55 c0_i32_56
  let v152 : BitVec 32 := Scalar.addi v147 v151
  let v155 : BitVec 32 := Scalar.addi v154 v152
  let v156 : BitVec 32 := Scalar.select v153 c0_i32_59 v155
  let c0_i32_105 : BitVec 32 := 0#32
  let v250 : BitVec 1 := Scalar.cmpi .sgt v156 c0_i32_105
  let v251 : BitVec 32 := Scalar.extui v250
  let c0_i32_106 : BitVec 32 := 0#32
  let v252 : BitVec 1 := Scalar.cmpi .slt v156 c0_i32_106
  let v253 : BitVec 32 := Scalar.extui v252
  let v254 : BitVec 32 := Scalar.subi v251 v253
  let c64_i32 : BitVec 32 := 64#32
  let c0_i32_107 : BitVec 32 := 0#32
  let v255 : BitVec 1 := Scalar.cmpi .sgt c64_i32 c0_i32_107
  let v256 : BitVec 32 := Scalar.extui v255
  let c0_i32_108 : BitVec 32 := 0#32
  let v257 : BitVec 1 := Scalar.cmpi .slt c64_i32 c0_i32_108
  let v258 : BitVec 32 := Scalar.extui v257
  let v259 : BitVec 32 := Scalar.subi v256 v258
  let v260 : BitVec 1 := Scalar.cmpi .ne v254 v259
  let v261 : BitVec 32 := Scalar.remsi v156 c64_i32
  let c0_i32_109 : BitVec 32 := 0#32
  let v262 : BitVec 1 := Scalar.cmpi .ne v261 c0_i32_109
  let v263 : BitVec 1 := Scalar.andi v260 v262
  let v249 : BitVec 32 := Scalar.divsi v156 c64_i32
  let c1_i32_110 : BitVec 32 := 1#32
  let v264 : BitVec 32 := Scalar.subi v249 c1_i32_110
  let v265 : BitVec 32 := Scalar.select v263 v264 v249
  let c2_i32_139 : BitVec 32 := 2#32
  let c0_i32_134 : BitVec 32 := 0#32
  let c0_i32_102 : BitVec 32 := 0#32
  let v245 : BitVec 1 := Scalar.cmpi .eq v158_0 c0_i32_102
  let c0_i32_104 : BitVec 32 := 0#32
  let c1_i32_66 : BitVec 32 := 1#32
  let v159 : BitVec 32 := Scalar.subi v158_0 c1_i32_66
  let c0_i32_67 : BitVec 32 := 0#32
  let v160 : BitVec 32 := Scalar.maxsi v159 c0_i32_67
  let c16_i32_103 : BitVec 32 := 16#32
  let v246 : BitVec 32 := Scalar.muli v160 c16_i32_103
  let c0_i32_71 : BitVec 32 := 0#32
  let c32_i32_0 : BitVec 32 := 32#32
  let v3 : BitVec 32 := Scalar.addi v2 c32_i32_0
  let v167 : BitVec 1 := Scalar.cmpi .slt v166 v3
  let c1_i32_69 : BitVec 32 := 1#32
  let c0_i32_70 : BitVec 32 := 0#32
  let v168 : BitVec 32 := Scalar.select v167 c1_i32_69 c0_i32_70
  let v169 : BitVec 32 := Scalar.addi c0_i32_71 v168
  let v172 : BitVec 1 := Scalar.cmpi .slt v171 v3
  let c1_i32_72 : BitVec 32 := 1#32
  let c0_i32_73 : BitVec 32 := 0#32
  let v173 : BitVec 32 := Scalar.select v172 c1_i32_72 c0_i32_73
  let v174 : BitVec 32 := Scalar.addi v169 v173
  let v177 : BitVec 1 := Scalar.cmpi .slt v176 v3
  let c1_i32_74 : BitVec 32 := 1#32
  let c0_i32_75 : BitVec 32 := 0#32
  let v178 : BitVec 32 := Scalar.select v177 c1_i32_74 c0_i32_75
  let v179 : BitVec 32 := Scalar.addi v174 v178
  let v182 : BitVec 1 := Scalar.cmpi .slt v181 v3
  let c1_i32_76 : BitVec 32 := 1#32
  let c0_i32_77 : BitVec 32 := 0#32
  let v183 : BitVec 32 := Scalar.select v182 c1_i32_76 c0_i32_77
  let v184 : BitVec 32 := Scalar.addi v179 v183
  let v187 : BitVec 1 := Scalar.cmpi .slt v186 v3
  let c1_i32_78 : BitVec 32 := 1#32
  let c0_i32_79 : BitVec 32 := 0#32
  let v188 : BitVec 32 := Scalar.select v187 c1_i32_78 c0_i32_79
  let v189 : BitVec 32 := Scalar.addi v184 v188
  let v192 : BitVec 1 := Scalar.cmpi .slt v191 v3
  let c1_i32_80 : BitVec 32 := 1#32
  let c0_i32_81 : BitVec 32 := 0#32
  let v193 : BitVec 32 := Scalar.select v192 c1_i32_80 c0_i32_81
  let v194 : BitVec 32 := Scalar.addi v189 v193
  let v197 : BitVec 1 := Scalar.cmpi .slt v196 v3
  let c1_i32_82 : BitVec 32 := 1#32
  let c0_i32_83 : BitVec 32 := 0#32
  let v198 : BitVec 32 := Scalar.select v197 c1_i32_82 c0_i32_83
  let v199 : BitVec 32 := Scalar.addi v194 v198
  let v202 : BitVec 1 := Scalar.cmpi .slt v201 v3
  let c1_i32_84 : BitVec 32 := 1#32
  let c0_i32_85 : BitVec 32 := 0#32
  let v203 : BitVec 32 := Scalar.select v202 c1_i32_84 c0_i32_85
  let v204 : BitVec 32 := Scalar.addi v199 v203
  let v207 : BitVec 1 := Scalar.cmpi .slt v206 v3
  let c1_i32_86 : BitVec 32 := 1#32
  let c0_i32_87 : BitVec 32 := 0#32
  let v208 : BitVec 32 := Scalar.select v207 c1_i32_86 c0_i32_87
  let v209 : BitVec 32 := Scalar.addi v204 v208
  let v212 : BitVec 1 := Scalar.cmpi .slt v211 v3
  let c1_i32_88 : BitVec 32 := 1#32
  let c0_i32_89 : BitVec 32 := 0#32
  let v213 : BitVec 32 := Scalar.select v212 c1_i32_88 c0_i32_89
  let v214 : BitVec 32 := Scalar.addi v209 v213
  let v217 : BitVec 1 := Scalar.cmpi .slt v216 v3
  let c1_i32_90 : BitVec 32 := 1#32
  let c0_i32_91 : BitVec 32 := 0#32
  let v218 : BitVec 32 := Scalar.select v217 c1_i32_90 c0_i32_91
  let v219 : BitVec 32 := Scalar.addi v214 v218
  let v222 : BitVec 1 := Scalar.cmpi .slt v221 v3
  let c1_i32_92 : BitVec 32 := 1#32
  let c0_i32_93 : BitVec 32 := 0#32
  let v223 : BitVec 32 := Scalar.select v222 c1_i32_92 c0_i32_93
  let v224 : BitVec 32 := Scalar.addi v219 v223
  let v227 : BitVec 1 := Scalar.cmpi .slt v226 v3
  let c1_i32_94 : BitVec 32 := 1#32
  let c0_i32_95 : BitVec 32 := 0#32
  let v228 : BitVec 32 := Scalar.select v227 c1_i32_94 c0_i32_95
  let v229 : BitVec 32 := Scalar.addi v224 v228
  let v232 : BitVec 1 := Scalar.cmpi .slt v231 v3
  let c1_i32_96 : BitVec 32 := 1#32
  let c0_i32_97 : BitVec 32 := 0#32
  let v233 : BitVec 32 := Scalar.select v232 c1_i32_96 c0_i32_97
  let v234 : BitVec 32 := Scalar.addi v229 v233
  let v237 : BitVec 1 := Scalar.cmpi .slt v236 v3
  let c1_i32_98 : BitVec 32 := 1#32
  let c0_i32_99 : BitVec 32 := 0#32
  let v238 : BitVec 32 := Scalar.select v237 c1_i32_98 c0_i32_99
  let v239 : BitVec 32 := Scalar.addi v234 v238
  let v242 : BitVec 1 := Scalar.cmpi .slt v241 v3
  let c1_i32_100 : BitVec 32 := 1#32
  let c0_i32_101 : BitVec 32 := 0#32
  let v243 : BitVec 32 := Scalar.select v242 c1_i32_100 c0_i32_101
  let v244 : BitVec 32 := Scalar.addi v239 v243
  let v247 : BitVec 32 := Scalar.addi v246 v244
  let v248 : BitVec 32 := Scalar.select v245 c0_i32_104 v247
  let c64_i32_111 : BitVec 32 := 64#32
  let v266 : BitVec 32 := Scalar.addi v248 c64_i32_111
  let c1_i32_112 : BitVec 32 := 1#32
  let v267 : BitVec 32 := Scalar.subi v266 c1_i32_112
  let c0_i32_114 : BitVec 32 := 0#32
  let v269 : BitVec 1 := Scalar.cmpi .sgt v267 c0_i32_114
  let v270 : BitVec 32 := Scalar.extui v269
  let c0_i32_115 : BitVec 32 := 0#32
  let v271 : BitVec 1 := Scalar.cmpi .slt v267 c0_i32_115
  let v272 : BitVec 32 := Scalar.extui v271
  let v273 : BitVec 32 := Scalar.subi v270 v272
  let c64_i32_113 : BitVec 32 := 64#32
  let c0_i32_116 : BitVec 32 := 0#32
  let v274 : BitVec 1 := Scalar.cmpi .sgt c64_i32_113 c0_i32_116
  let v275 : BitVec 32 := Scalar.extui v274
  let c0_i32_117 : BitVec 32 := 0#32
  let v276 : BitVec 1 := Scalar.cmpi .slt c64_i32_113 c0_i32_117
  let v277 : BitVec 32 := Scalar.extui v276
  let v278 : BitVec 32 := Scalar.subi v275 v277
  let v279 : BitVec 1 := Scalar.cmpi .ne v273 v278
  let v280 : BitVec 32 := Scalar.remsi v267 c64_i32_113
  let c0_i32_118 : BitVec 32 := 0#32
  let v281 : BitVec 1 := Scalar.cmpi .ne v280 c0_i32_118
  let v282 : BitVec 1 := Scalar.andi v279 v281
  let v268 : BitVec 32 := Scalar.divsi v267 c64_i32_113
  let c1_i32_119 : BitVec 32 := 1#32
  let v283 : BitVec 32 := Scalar.subi v268 c1_i32_119
  let v284 : BitVec 32 := Scalar.select v282 v283 v268
  let c156_i32 : BitVec 32 := 156#32
  let v285 : BitVec 32 := Scalar.minsi v284 c156_i32
  let v286 : BitVec 32 := Scalar.subi v285 v265
  let c2_i32_124 : BitVec 32 := 2#32
  let v293 : BitVec 32 := Scalar.addi v286 c2_i32_124
  let c1_i32_125 : BitVec 32 := 1#32
  let v294 : BitVec 32 := Scalar.subi v293 c1_i32_125
  let c0_i32_127 : BitVec 32 := 0#32
  let v296 : BitVec 1 := Scalar.cmpi .sgt v294 c0_i32_127
  let v297 : BitVec 32 := Scalar.extui v296
  let c0_i32_128 : BitVec 32 := 0#32
  let v298 : BitVec 1 := Scalar.cmpi .slt v294 c0_i32_128
  let v299 : BitVec 32 := Scalar.extui v298
  let v300 : BitVec 32 := Scalar.subi v297 v299
  let c2_i32_126 : BitVec 32 := 2#32
  let c0_i32_129 : BitVec 32 := 0#32
  let v301 : BitVec 1 := Scalar.cmpi .sgt c2_i32_126 c0_i32_129
  let v302 : BitVec 32 := Scalar.extui v301
  let c0_i32_130 : BitVec 32 := 0#32
  let v303 : BitVec 1 := Scalar.cmpi .slt c2_i32_126 c0_i32_130
  let v304 : BitVec 32 := Scalar.extui v303
  let v305 : BitVec 32 := Scalar.subi v302 v304
  let v306 : BitVec 1 := Scalar.cmpi .ne v300 v305
  let v307 : BitVec 32 := Scalar.remsi v294 c2_i32_126
  let c0_i32_131 : BitVec 32 := 0#32
  let v308 : BitVec 1 := Scalar.cmpi .ne v307 c0_i32_131
  let v309 : BitVec 1 := Scalar.andi v306 v308
  let v295 : BitVec 32 := Scalar.divsi v294 c2_i32_126
  let c1_i32_132 : BitVec 32 := 1#32
  let v310 : BitVec 32 := Scalar.subi v295 c1_i32_132
  let v311 : BitVec 32 := Scalar.select v309 v310 v295
  let v312 : BitVec 32 := Scalar.subi v311 c0_i32_134
  let c1_i32_135 : BitVec 32 := 1#32
  let v314 : BitVec 32 := Scalar.divsi v312 c1_i32_135
  let v315 : BitVec 32 := Scalar.muli v314 c1_i32_135
  let v316 : BitVec 32 := Scalar.addi c0_i32_134 v315
  let c1_i32_137 : BitVec 32 := 1#32
  let arg13 : BitVec 32 := Scf.iv v316 c1_i32_137 k0_t39
  let v320 : BitVec 32 := Scalar.muli c2_i32_139 arg13
  let v321 : BitVec 32 := Scalar.addi v265 v320
  let c1_i32_144 : BitVec 32 := 1#32
  let v330 : BitVec 32 := Scalar.addi v321 c1_i32_144
  let c64_i32_154 : BitVec 32 := 64#32
  let v339 : BitVec 32 := Scalar.muli v330 c64_i32_154
  let c0_i32_149 : BitVec 32 := 0#32
  let c1_i32_150 : BitVec 32 := 1#32
  let arg14 : BitVec 32 := Scf.iv c0_i32_149 c1_i32_150 k0_t57
  let c16_i32_155 : BitVec 32 := 16#32
  let v340 : BitVec 32 := Scalar.muli arg14 c16_i32_155
  let v341 : BitVec 32 := Scalar.addi v339 v340
  let v346 : Index := Scalar.indexCast v341
  ![v346.toNat]
def k0_off246 (k0_t57 : Fin k0_t57_loop.trips) : Fin 2 → Nat :=
  let c0_i32_149 : BitVec 32 := 0#32
  let c1_i32_150 : BitVec 32 := 1#32
  let arg14 : BitVec 32 := Scf.iv c0_i32_149 c1_i32_150 k0_t57
  let c16_i32_156 : BitVec 32 := 16#32
  let v342 : BitVec 32 := Scalar.muli arg14 c16_i32_156
  let c0_i32_158 : BitVec 32 := 0#32
  let v367 : BitVec 32 := Scalar.addi v342 c0_i32_158
  let v368 : Index := Scalar.indexCast v367
  let c0 : Index := 0#32
  ![v368.toNat, 0]
@[reducible] def k0_t58_loop : Scf.Loop 32 :=
  let c1_i32_159 : BitVec 32 := 1#32
  let c31_i32_160 : BitVec 32 := 31#32
  let v373 : BitVec 32 := Scalar.addi c1_i32_159 c31_i32_160
  let c1_i32_161 : BitVec 32 := 1#32
  ⟨c1_i32_159, v373, c1_i32_161⟩
def k0_off247 (k0_t57 : Fin k0_t57_loop.trips) (k0_t58 : Fin k0_t58_loop.trips) : Fin 2 → Nat :=
  let c0_i32_149 : BitVec 32 := 0#32
  let c1_i32_150 : BitVec 32 := 1#32
  let arg14 : BitVec 32 := Scf.iv c0_i32_149 c1_i32_150 k0_t57
  let c16_i32_156 : BitVec 32 := 16#32
  let v342 : BitVec 32 := Scalar.muli arg14 c16_i32_156
  let c0_i32_158 : BitVec 32 := 0#32
  let v367 : BitVec 32 := Scalar.addi v342 c0_i32_158
  let v684 : Index := Scalar.indexCast v367
  let c1_i32_159 : BitVec 32 := 1#32
  let c1_i32_161 : BitVec 32 := 1#32
  let arg15 : BitVec 32 := Scf.iv c1_i32_159 c1_i32_161 k0_t58
  let c16_i32_273 : BitVec 32 := 16#32
  let v683 : BitVec 32 := Scalar.muli arg15 c16_i32_273
  let v685 : Index := Scalar.indexCast v683
  ![v684.toNat, v685.toNat]
def k0_off248 (v366 : BitVec 32) (k0_t58 : Fin k0_t58_loop.trips) : Fin 2 → Nat :=
  let v692 : Index := Scalar.indexCast v366
  let c1_i32_159 : BitVec 32 := 1#32
  let c1_i32_161 : BitVec 32 := 1#32
  let arg15 : BitVec 32 := Scf.iv c1_i32_159 c1_i32_161 k0_t58
  let c1_i32_274 : BitVec 32 := 1#32
  let v690 : BitVec 32 := Scalar.subi arg15 c1_i32_274
  let c16_i32_275 : BitVec 32 := 16#32
  let v691 : BitVec 32 := Scalar.muli v690 c16_i32_275
  let v693 : Index := Scalar.indexCast v691
  ![v692.toNat, v693.toNat]

def k0_off249 (v366 : BitVec 32) : Fin 2 → Nat :=
  let v375 : Index := Scalar.indexCast v366
  let c496 : Index := 496#32
  ![v375.toNat, 496]

def k0_chk54 (i : grid0.Coords) (v66_0 : BitVec 32) (v74 : BitVec 32) (v79 : BitVec 32) (v84 : BitVec 32) (v89 : BitVec 32) (v94 : BitVec 32) (v99 : BitVec 32) (v104 : BitVec 32) (v109 : BitVec 32) (v114 : BitVec 32) (v119 : BitVec 32) (v124 : BitVec 32) (v129 : BitVec 32) (v134 : BitVec 32) (v139 : BitVec 32) (v144 : BitVec 32) (v149 : BitVec 32) (v158_0 : BitVec 32) (v166 : BitVec 32) (v171 : BitVec 32) (v176 : BitVec 32) (v181 : BitVec 32) (v186 : BitVec 32) (v191 : BitVec 32) (v196 : BitVec 32) (v201 : BitVec 32) (v206 : BitVec 32) (v211 : BitVec 32) (v216 : BitVec 32) (v221 : BitVec 32) (v226 : BitVec 32) (v231 : BitVec 32) (v236 : BitVec 32) (v241 : BitVec 32) (k0_t39 : Fin (k0_t39_loop i v66_0 v74 v79 v84 v89 v94 v99 v104 v109 v114 v119 v124 v129 v134 v139 v144 v149 v158_0 v166 v171 v176 v181 v186 v191 v196 v201 v206 v211 v216 v221 v226 v231 v236 v241).trips) (v366 : BitVec 32) : Prop :=
  (∀ k0_t58 : Fin k0_t58_loop.trips, ∀ (k0_h9 : k0_cond9 i v66_0 v74 v79 v84 v89 v94 v99 v104 v109 v114 v119 v124 v129 v134 v139 v144 v149 v158_0 v166 v171 v176 v181 v186 v191 v196 v201 v206 v211 v216 v221 v226 v231 v236 v241 k0_t39 = 1#1), ∀ a, (k0_off248 v366 k0_t58) a + S1x16.size a ≤ S32x512.size a) ∧
  (∀ (k0_h9 : k0_cond9 i v66_0 v74 v79 v84 v89 v94 v99 v104 v109 v114 v119 v124 v129 v134 v139 v144 v149 v158_0 v166 v171 v176 v181 v186 v191 v196 v201 v206 v211 v216 v221 v226 v231 v236 v241 k0_t39 = 1#1), ∀ a, (k0_off249 v366) a + S1x16.size a ≤ S32x512.size a)
theorem k0_off248_inb : ∀ (i : grid0.Coords) (v66_0 : BitVec 32) (v74 : BitVec 32) (v79 : BitVec 32) (v84 : BitVec 32) (v89 : BitVec 32) (v94 : BitVec 32) (v99 : BitVec 32) (v104 : BitVec 32) (v109 : BitVec 32) (v114 : BitVec 32) (v119 : BitVec 32) (v124 : BitVec 32) (v129 : BitVec 32) (v134 : BitVec 32) (v139 : BitVec 32) (v144 : BitVec 32) (v149 : BitVec 32) (v158_0 : BitVec 32) (v166 : BitVec 32) (v171 : BitVec 32) (v176 : BitVec 32) (v181 : BitVec 32) (v186 : BitVec 32) (v191 : BitVec 32) (v196 : BitVec 32) (v201 : BitVec 32) (v206 : BitVec 32) (v211 : BitVec 32) (v216 : BitVec 32) (v221 : BitVec 32) (v226 : BitVec 32) (v231 : BitVec 32) (v236 : BitVec 32) (v241 : BitVec 32) (k0_t39 : Fin (k0_t39_loop i v66_0 v74 v79 v84 v89 v94 v99 v104 v109 v114 v119 v124 v129 v134 v139 v144 v149 v158_0 v166 v171 v176 v181 v186 v191 v196 v201 v206 v211 v216 v221 v226 v231 v236 v241).trips) (v366 : BitVec 32) (k0_hw54 : k0_chk54 i v66_0 v74 v79 v84 v89 v94 v99 v104 v109 v114 v119 v124 v129 v134 v139 v144 v149 v158_0 v166 v171 v176 v181 v186 v191 v196 v201 v206 v211 v216 v221 v226 v231 v236 v241 k0_t39 v366) (k0_t58 : Fin k0_t58_loop.trips), ∀ (k0_h9 : k0_cond9 i v66_0 v74 v79 v84 v89 v94 v99 v104 v109 v114 v119 v124 v129 v134 v139 v144 v149 v158_0 v166 v171 v176 v181 v186 v191 v196 v201 v206 v211 v216 v221 v226 v231 v236 v241 k0_t39 = 1#1), ∀ a, (k0_off248 v366 k0_t58) a + S1x16.size a ≤ S32x512.size a := fun i v66_0 v74 v79 v84 v89 v94 v99 v104 v109 v114 v119 v124 v129 v134 v139 v144 v149 v158_0 v166 v171 v176 v181 v186 v191 v196 v201 v206 v211 v216 v221 v226 v231 v236 v241 k0_t39 v366 k0_hw54 k0_t58 k0_h9 => k0_hw54.1 k0_t58 k0_h9
theorem k0_off249_inb : ∀ (i : grid0.Coords) (v66_0 : BitVec 32) (v74 : BitVec 32) (v79 : BitVec 32) (v84 : BitVec 32) (v89 : BitVec 32) (v94 : BitVec 32) (v99 : BitVec 32) (v104 : BitVec 32) (v109 : BitVec 32) (v114 : BitVec 32) (v119 : BitVec 32) (v124 : BitVec 32) (v129 : BitVec 32) (v134 : BitVec 32) (v139 : BitVec 32) (v144 : BitVec 32) (v149 : BitVec 32) (v158_0 : BitVec 32) (v166 : BitVec 32) (v171 : BitVec 32) (v176 : BitVec 32) (v181 : BitVec 32) (v186 : BitVec 32) (v191 : BitVec 32) (v196 : BitVec 32) (v201 : BitVec 32) (v206 : BitVec 32) (v211 : BitVec 32) (v216 : BitVec 32) (v221 : BitVec 32) (v226 : BitVec 32) (v231 : BitVec 32) (v236 : BitVec 32) (v241 : BitVec 32) (k0_t39 : Fin (k0_t39_loop i v66_0 v74 v79 v84 v89 v94 v99 v104 v109 v114 v119 v124 v129 v134 v139 v144 v149 v158_0 v166 v171 v176 v181 v186 v191 v196 v201 v206 v211 v216 v221 v226 v231 v236 v241).trips) (v366 : BitVec 32) (k0_hw54 : k0_chk54 i v66_0 v74 v79 v84 v89 v94 v99 v104 v109 v114 v119 v124 v129 v134 v139 v144 v149 v158_0 v166 v171 v176 v181 v186 v191 v196 v201 v206 v211 v216 v221 v226 v231 v236 v241 k0_t39 v366), ∀ (k0_h9 : k0_cond9 i v66_0 v74 v79 v84 v89 v94 v99 v104 v109 v114 v119 v124 v129 v134 v139 v144 v149 v158_0 v166 v171 v176 v181 v186 v191 v196 v201 v206 v211 v216 v221 v226 v231 v236 v241 k0_t39 = 1#1), ∀ a, (k0_off249 v366) a + S1x16.size a ≤ S32x512.size a := fun i v66_0 v74 v79 v84 v89 v94 v99 v104 v109 v114 v119 v124 v129 v134 v139 v144 v149 v158_0 v166 v171 v176 v181 v186 v191 v196 v201 v206 v211 v216 v221 v226 v231 v236 v241 k0_t39 v366 k0_hw54 k0_h9 => k0_hw54.2 k0_h9

def k0_off250 (k0_t57 : Fin k0_t57_loop.trips) : Fin 2 → Nat :=
  let c0_i32_149 : BitVec 32 := 0#32
  let c1_i32_150 : BitVec 32 := 1#32
  let arg14 : BitVec 32 := Scf.iv c0_i32_149 c1_i32_150 k0_t57
  let c16_i32_156 : BitVec 32 := 16#32
  let v342 : BitVec 32 := Scalar.muli arg14 c16_i32_156
  let c1_i32_164 : BitVec 32 := 1#32
  let v387 : BitVec 32 := Scalar.addi v342 c1_i32_164
  let v388 : Index := Scalar.indexCast v387
  let c0_165 : Index := 0#32
  ![v388.toNat, 0]
@[reducible] def k0_t59_loop : Scf.Loop 32 :=
  let c1_i32_166 : BitVec 32 := 1#32
  let c31_i32_167 : BitVec 32 := 31#32
  let v393 : BitVec 32 := Scalar.addi c1_i32_166 c31_i32_167
  let c1_i32_168 : BitVec 32 := 1#32
  ⟨c1_i32_166, v393, c1_i32_168⟩
def k0_off251 (k0_t57 : Fin k0_t57_loop.trips) (k0_t59 : Fin k0_t59_loop.trips) : Fin 2 → Nat :=
  let c0_i32_149 : BitVec 32 := 0#32
  let c1_i32_150 : BitVec 32 := 1#32
  let arg14 : BitVec 32 := Scf.iv c0_i32_149 c1_i32_150 k0_t57
  let c16_i32_156 : BitVec 32 := 16#32
  let v342 : BitVec 32 := Scalar.muli arg14 c16_i32_156
  let c1_i32_164 : BitVec 32 := 1#32
  let v387 : BitVec 32 := Scalar.addi v342 c1_i32_164
  let v684 : Index := Scalar.indexCast v387
  let c1_i32_166 : BitVec 32 := 1#32
  let c1_i32_168 : BitVec 32 := 1#32
  let arg15 : BitVec 32 := Scf.iv c1_i32_166 c1_i32_168 k0_t59
  let c16_i32_273 : BitVec 32 := 16#32
  let v683 : BitVec 32 := Scalar.muli arg15 c16_i32_273
  let v685 : Index := Scalar.indexCast v683
  ![v684.toNat, v685.toNat]
def k0_off252 (v386 : BitVec 32) (k0_t59 : Fin k0_t59_loop.trips) : Fin 2 → Nat :=
  let v692 : Index := Scalar.indexCast v386
  let c1_i32_166 : BitVec 32 := 1#32
  let c1_i32_168 : BitVec 32 := 1#32
  let arg15 : BitVec 32 := Scf.iv c1_i32_166 c1_i32_168 k0_t59
  let c1_i32_274 : BitVec 32 := 1#32
  let v690 : BitVec 32 := Scalar.subi arg15 c1_i32_274
  let c16_i32_275 : BitVec 32 := 16#32
  let v691 : BitVec 32 := Scalar.muli v690 c16_i32_275
  let v693 : Index := Scalar.indexCast v691
  ![v692.toNat, v693.toNat]

def k0_off253 (v386 : BitVec 32) : Fin 2 → Nat :=
  let v395 : Index := Scalar.indexCast v386
  let c496_170 : Index := 496#32
  ![v395.toNat, 496]

def k0_chk55 (i : grid0.Coords) (v66_0 : BitVec 32) (v74 : BitVec 32) (v79 : BitVec 32) (v84 : BitVec 32) (v89 : BitVec 32) (v94 : BitVec 32) (v99 : BitVec 32) (v104 : BitVec 32) (v109 : BitVec 32) (v114 : BitVec 32) (v119 : BitVec 32) (v124 : BitVec 32) (v129 : BitVec 32) (v134 : BitVec 32) (v139 : BitVec 32) (v144 : BitVec 32) (v149 : BitVec 32) (v158_0 : BitVec 32) (v166 : BitVec 32) (v171 : BitVec 32) (v176 : BitVec 32) (v181 : BitVec 32) (v186 : BitVec 32) (v191 : BitVec 32) (v196 : BitVec 32) (v201 : BitVec 32) (v206 : BitVec 32) (v211 : BitVec 32) (v216 : BitVec 32) (v221 : BitVec 32) (v226 : BitVec 32) (v231 : BitVec 32) (v236 : BitVec 32) (v241 : BitVec 32) (k0_t39 : Fin (k0_t39_loop i v66_0 v74 v79 v84 v89 v94 v99 v104 v109 v114 v119 v124 v129 v134 v139 v144 v149 v158_0 v166 v171 v176 v181 v186 v191 v196 v201 v206 v211 v216 v221 v226 v231 v236 v241).trips) (v386 : BitVec 32) : Prop :=
  (∀ k0_t59 : Fin k0_t59_loop.trips, ∀ (k0_h9 : k0_cond9 i v66_0 v74 v79 v84 v89 v94 v99 v104 v109 v114 v119 v124 v129 v134 v139 v144 v149 v158_0 v166 v171 v176 v181 v186 v191 v196 v201 v206 v211 v216 v221 v226 v231 v236 v241 k0_t39 = 1#1), ∀ a, (k0_off252 v386 k0_t59) a + S1x16.size a ≤ S32x512.size a) ∧
  (∀ (k0_h9 : k0_cond9 i v66_0 v74 v79 v84 v89 v94 v99 v104 v109 v114 v119 v124 v129 v134 v139 v144 v149 v158_0 v166 v171 v176 v181 v186 v191 v196 v201 v206 v211 v216 v221 v226 v231 v236 v241 k0_t39 = 1#1), ∀ a, (k0_off253 v386) a + S1x16.size a ≤ S32x512.size a)
theorem k0_off252_inb : ∀ (i : grid0.Coords) (v66_0 : BitVec 32) (v74 : BitVec 32) (v79 : BitVec 32) (v84 : BitVec 32) (v89 : BitVec 32) (v94 : BitVec 32) (v99 : BitVec 32) (v104 : BitVec 32) (v109 : BitVec 32) (v114 : BitVec 32) (v119 : BitVec 32) (v124 : BitVec 32) (v129 : BitVec 32) (v134 : BitVec 32) (v139 : BitVec 32) (v144 : BitVec 32) (v149 : BitVec 32) (v158_0 : BitVec 32) (v166 : BitVec 32) (v171 : BitVec 32) (v176 : BitVec 32) (v181 : BitVec 32) (v186 : BitVec 32) (v191 : BitVec 32) (v196 : BitVec 32) (v201 : BitVec 32) (v206 : BitVec 32) (v211 : BitVec 32) (v216 : BitVec 32) (v221 : BitVec 32) (v226 : BitVec 32) (v231 : BitVec 32) (v236 : BitVec 32) (v241 : BitVec 32) (k0_t39 : Fin (k0_t39_loop i v66_0 v74 v79 v84 v89 v94 v99 v104 v109 v114 v119 v124 v129 v134 v139 v144 v149 v158_0 v166 v171 v176 v181 v186 v191 v196 v201 v206 v211 v216 v221 v226 v231 v236 v241).trips) (v386 : BitVec 32) (k0_hw55 : k0_chk55 i v66_0 v74 v79 v84 v89 v94 v99 v104 v109 v114 v119 v124 v129 v134 v139 v144 v149 v158_0 v166 v171 v176 v181 v186 v191 v196 v201 v206 v211 v216 v221 v226 v231 v236 v241 k0_t39 v386) (k0_t59 : Fin k0_t59_loop.trips), ∀ (k0_h9 : k0_cond9 i v66_0 v74 v79 v84 v89 v94 v99 v104 v109 v114 v119 v124 v129 v134 v139 v144 v149 v158_0 v166 v171 v176 v181 v186 v191 v196 v201 v206 v211 v216 v221 v226 v231 v236 v241 k0_t39 = 1#1), ∀ a, (k0_off252 v386 k0_t59) a + S1x16.size a ≤ S32x512.size a := fun i v66_0 v74 v79 v84 v89 v94 v99 v104 v109 v114 v119 v124 v129 v134 v139 v144 v149 v158_0 v166 v171 v176 v181 v186 v191 v196 v201 v206 v211 v216 v221 v226 v231 v236 v241 k0_t39 v386 k0_hw55 k0_t59 k0_h9 => k0_hw55.1 k0_t59 k0_h9
theorem k0_off253_inb : ∀ (i : grid0.Coords) (v66_0 : BitVec 32) (v74 : BitVec 32) (v79 : BitVec 32) (v84 : BitVec 32) (v89 : BitVec 32) (v94 : BitVec 32) (v99 : BitVec 32) (v104 : BitVec 32) (v109 : BitVec 32) (v114 : BitVec 32) (v119 : BitVec 32) (v124 : BitVec 32) (v129 : BitVec 32) (v134 : BitVec 32) (v139 : BitVec 32) (v144 : BitVec 32) (v149 : BitVec 32) (v158_0 : BitVec 32) (v166 : BitVec 32) (v171 : BitVec 32) (v176 : BitVec 32) (v181 : BitVec 32) (v186 : BitVec 32) (v191 : BitVec 32) (v196 : BitVec 32) (v201 : BitVec 32) (v206 : BitVec 32) (v211 : BitVec 32) (v216 : BitVec 32) (v221 : BitVec 32) (v226 : BitVec 32) (v231 : BitVec 32) (v236 : BitVec 32) (v241 : BitVec 32) (k0_t39 : Fin (k0_t39_loop i v66_0 v74 v79 v84 v89 v94 v99 v104 v109 v114 v119 v124 v129 v134 v139 v144 v149 v158_0 v166 v171 v176 v181 v186 v191 v196 v201 v206 v211 v216 v221 v226 v231 v236 v241).trips) (v386 : BitVec 32) (k0_hw55 : k0_chk55 i v66_0 v74 v79 v84 v89 v94 v99 v104 v109 v114 v119 v124 v129 v134 v139 v144 v149 v158_0 v166 v171 v176 v181 v186 v191 v196 v201 v206 v211 v216 v221 v226 v231 v236 v241 k0_t39 v386), ∀ (k0_h9 : k0_cond9 i v66_0 v74 v79 v84 v89 v94 v99 v104 v109 v114 v119 v124 v129 v134 v139 v144 v149 v158_0 v166 v171 v176 v181 v186 v191 v196 v201 v206 v211 v216 v221 v226 v231 v236 v241 k0_t39 = 1#1), ∀ a, (k0_off253 v386) a + S1x16.size a ≤ S32x512.size a := fun i v66_0 v74 v79 v84 v89 v94 v99 v104 v109 v114 v119 v124 v129 v134 v139 v144 v149 v158_0 v166 v171 v176 v181 v186 v191 v196 v201 v206 v211 v216 v221 v226 v231 v236 v241 k0_t39 v386 k0_hw55 k0_h9 => k0_hw55.2 k0_h9

def k0_off254 (k0_t57 : Fin k0_t57_loop.trips) : Fin 2 → Nat :=
  let c0_i32_149 : BitVec 32 := 0#32
  let c1_i32_150 : BitVec 32 := 1#32
  let arg14 : BitVec 32 := Scf.iv c0_i32_149 c1_i32_150 k0_t57
  let c16_i32_156 : BitVec 32 := 16#32
  let v342 : BitVec 32 := Scalar.muli arg14 c16_i32_156
  let c2_i32_172 : BitVec 32 := 2#32
  let v407 : BitVec 32 := Scalar.addi v342 c2_i32_172
  let v408 : Index := Scalar.indexCast v407
  let c0_173 : Index := 0#32
  ![v408.toNat, 0]
@[reducible] def k0_t60_loop : Scf.Loop 32 :=
  let c1_i32_174 : BitVec 32 := 1#32
  let c31_i32_175 : BitVec 32 := 31#32
  let v413 : BitVec 32 := Scalar.addi c1_i32_174 c31_i32_175
  let c1_i32_176 : BitVec 32 := 1#32
  ⟨c1_i32_174, v413, c1_i32_176⟩
def k0_off255 (k0_t57 : Fin k0_t57_loop.trips) (k0_t60 : Fin k0_t60_loop.trips) : Fin 2 → Nat :=
  let c0_i32_149 : BitVec 32 := 0#32
  let c1_i32_150 : BitVec 32 := 1#32
  let arg14 : BitVec 32 := Scf.iv c0_i32_149 c1_i32_150 k0_t57
  let c16_i32_156 : BitVec 32 := 16#32
  let v342 : BitVec 32 := Scalar.muli arg14 c16_i32_156
  let c2_i32_172 : BitVec 32 := 2#32
  let v407 : BitVec 32 := Scalar.addi v342 c2_i32_172
  let v684 : Index := Scalar.indexCast v407
  let c1_i32_174 : BitVec 32 := 1#32
  let c1_i32_176 : BitVec 32 := 1#32
  let arg15 : BitVec 32 := Scf.iv c1_i32_174 c1_i32_176 k0_t60
  let c16_i32_273 : BitVec 32 := 16#32
  let v683 : BitVec 32 := Scalar.muli arg15 c16_i32_273
  let v685 : Index := Scalar.indexCast v683
  ![v684.toNat, v685.toNat]
def k0_off256 (v406 : BitVec 32) (k0_t60 : Fin k0_t60_loop.trips) : Fin 2 → Nat :=
  let v692 : Index := Scalar.indexCast v406
  let c1_i32_174 : BitVec 32 := 1#32
  let c1_i32_176 : BitVec 32 := 1#32
  let arg15 : BitVec 32 := Scf.iv c1_i32_174 c1_i32_176 k0_t60
  let c1_i32_274 : BitVec 32 := 1#32
  let v690 : BitVec 32 := Scalar.subi arg15 c1_i32_274
  let c16_i32_275 : BitVec 32 := 16#32
  let v691 : BitVec 32 := Scalar.muli v690 c16_i32_275
  let v693 : Index := Scalar.indexCast v691
  ![v692.toNat, v693.toNat]

def k0_off257 (v406 : BitVec 32) : Fin 2 → Nat :=
  let v415 : Index := Scalar.indexCast v406
  let c496_178 : Index := 496#32
  ![v415.toNat, 496]

def k0_chk56 (i : grid0.Coords) (v66_0 : BitVec 32) (v74 : BitVec 32) (v79 : BitVec 32) (v84 : BitVec 32) (v89 : BitVec 32) (v94 : BitVec 32) (v99 : BitVec 32) (v104 : BitVec 32) (v109 : BitVec 32) (v114 : BitVec 32) (v119 : BitVec 32) (v124 : BitVec 32) (v129 : BitVec 32) (v134 : BitVec 32) (v139 : BitVec 32) (v144 : BitVec 32) (v149 : BitVec 32) (v158_0 : BitVec 32) (v166 : BitVec 32) (v171 : BitVec 32) (v176 : BitVec 32) (v181 : BitVec 32) (v186 : BitVec 32) (v191 : BitVec 32) (v196 : BitVec 32) (v201 : BitVec 32) (v206 : BitVec 32) (v211 : BitVec 32) (v216 : BitVec 32) (v221 : BitVec 32) (v226 : BitVec 32) (v231 : BitVec 32) (v236 : BitVec 32) (v241 : BitVec 32) (k0_t39 : Fin (k0_t39_loop i v66_0 v74 v79 v84 v89 v94 v99 v104 v109 v114 v119 v124 v129 v134 v139 v144 v149 v158_0 v166 v171 v176 v181 v186 v191 v196 v201 v206 v211 v216 v221 v226 v231 v236 v241).trips) (v406 : BitVec 32) : Prop :=
  (∀ k0_t60 : Fin k0_t60_loop.trips, ∀ (k0_h9 : k0_cond9 i v66_0 v74 v79 v84 v89 v94 v99 v104 v109 v114 v119 v124 v129 v134 v139 v144 v149 v158_0 v166 v171 v176 v181 v186 v191 v196 v201 v206 v211 v216 v221 v226 v231 v236 v241 k0_t39 = 1#1), ∀ a, (k0_off256 v406 k0_t60) a + S1x16.size a ≤ S32x512.size a) ∧
  (∀ (k0_h9 : k0_cond9 i v66_0 v74 v79 v84 v89 v94 v99 v104 v109 v114 v119 v124 v129 v134 v139 v144 v149 v158_0 v166 v171 v176 v181 v186 v191 v196 v201 v206 v211 v216 v221 v226 v231 v236 v241 k0_t39 = 1#1), ∀ a, (k0_off257 v406) a + S1x16.size a ≤ S32x512.size a)
theorem k0_off256_inb : ∀ (i : grid0.Coords) (v66_0 : BitVec 32) (v74 : BitVec 32) (v79 : BitVec 32) (v84 : BitVec 32) (v89 : BitVec 32) (v94 : BitVec 32) (v99 : BitVec 32) (v104 : BitVec 32) (v109 : BitVec 32) (v114 : BitVec 32) (v119 : BitVec 32) (v124 : BitVec 32) (v129 : BitVec 32) (v134 : BitVec 32) (v139 : BitVec 32) (v144 : BitVec 32) (v149 : BitVec 32) (v158_0 : BitVec 32) (v166 : BitVec 32) (v171 : BitVec 32) (v176 : BitVec 32) (v181 : BitVec 32) (v186 : BitVec 32) (v191 : BitVec 32) (v196 : BitVec 32) (v201 : BitVec 32) (v206 : BitVec 32) (v211 : BitVec 32) (v216 : BitVec 32) (v221 : BitVec 32) (v226 : BitVec 32) (v231 : BitVec 32) (v236 : BitVec 32) (v241 : BitVec 32) (k0_t39 : Fin (k0_t39_loop i v66_0 v74 v79 v84 v89 v94 v99 v104 v109 v114 v119 v124 v129 v134 v139 v144 v149 v158_0 v166 v171 v176 v181 v186 v191 v196 v201 v206 v211 v216 v221 v226 v231 v236 v241).trips) (v406 : BitVec 32) (k0_hw56 : k0_chk56 i v66_0 v74 v79 v84 v89 v94 v99 v104 v109 v114 v119 v124 v129 v134 v139 v144 v149 v158_0 v166 v171 v176 v181 v186 v191 v196 v201 v206 v211 v216 v221 v226 v231 v236 v241 k0_t39 v406) (k0_t60 : Fin k0_t60_loop.trips), ∀ (k0_h9 : k0_cond9 i v66_0 v74 v79 v84 v89 v94 v99 v104 v109 v114 v119 v124 v129 v134 v139 v144 v149 v158_0 v166 v171 v176 v181 v186 v191 v196 v201 v206 v211 v216 v221 v226 v231 v236 v241 k0_t39 = 1#1), ∀ a, (k0_off256 v406 k0_t60) a + S1x16.size a ≤ S32x512.size a := fun i v66_0 v74 v79 v84 v89 v94 v99 v104 v109 v114 v119 v124 v129 v134 v139 v144 v149 v158_0 v166 v171 v176 v181 v186 v191 v196 v201 v206 v211 v216 v221 v226 v231 v236 v241 k0_t39 v406 k0_hw56 k0_t60 k0_h9 => k0_hw56.1 k0_t60 k0_h9
theorem k0_off257_inb : ∀ (i : grid0.Coords) (v66_0 : BitVec 32) (v74 : BitVec 32) (v79 : BitVec 32) (v84 : BitVec 32) (v89 : BitVec 32) (v94 : BitVec 32) (v99 : BitVec 32) (v104 : BitVec 32) (v109 : BitVec 32) (v114 : BitVec 32) (v119 : BitVec 32) (v124 : BitVec 32) (v129 : BitVec 32) (v134 : BitVec 32) (v139 : BitVec 32) (v144 : BitVec 32) (v149 : BitVec 32) (v158_0 : BitVec 32) (v166 : BitVec 32) (v171 : BitVec 32) (v176 : BitVec 32) (v181 : BitVec 32) (v186 : BitVec 32) (v191 : BitVec 32) (v196 : BitVec 32) (v201 : BitVec 32) (v206 : BitVec 32) (v211 : BitVec 32) (v216 : BitVec 32) (v221 : BitVec 32) (v226 : BitVec 32) (v231 : BitVec 32) (v236 : BitVec 32) (v241 : BitVec 32) (k0_t39 : Fin (k0_t39_loop i v66_0 v74 v79 v84 v89 v94 v99 v104 v109 v114 v119 v124 v129 v134 v139 v144 v149 v158_0 v166 v171 v176 v181 v186 v191 v196 v201 v206 v211 v216 v221 v226 v231 v236 v241).trips) (v406 : BitVec 32) (k0_hw56 : k0_chk56 i v66_0 v74 v79 v84 v89 v94 v99 v104 v109 v114 v119 v124 v129 v134 v139 v144 v149 v158_0 v166 v171 v176 v181 v186 v191 v196 v201 v206 v211 v216 v221 v226 v231 v236 v241 k0_t39 v406), ∀ (k0_h9 : k0_cond9 i v66_0 v74 v79 v84 v89 v94 v99 v104 v109 v114 v119 v124 v129 v134 v139 v144 v149 v158_0 v166 v171 v176 v181 v186 v191 v196 v201 v206 v211 v216 v221 v226 v231 v236 v241 k0_t39 = 1#1), ∀ a, (k0_off257 v406) a + S1x16.size a ≤ S32x512.size a := fun i v66_0 v74 v79 v84 v89 v94 v99 v104 v109 v114 v119 v124 v129 v134 v139 v144 v149 v158_0 v166 v171 v176 v181 v186 v191 v196 v201 v206 v211 v216 v221 v226 v231 v236 v241 k0_t39 v406 k0_hw56 k0_h9 => k0_hw56.2 k0_h9

def k0_off258 (k0_t57 : Fin k0_t57_loop.trips) : Fin 2 → Nat :=
  let c0_i32_149 : BitVec 32 := 0#32
  let c1_i32_150 : BitVec 32 := 1#32
  let arg14 : BitVec 32 := Scf.iv c0_i32_149 c1_i32_150 k0_t57
  let c16_i32_156 : BitVec 32 := 16#32
  let v342 : BitVec 32 := Scalar.muli arg14 c16_i32_156
  let c3_i32 : BitVec 32 := 3#32
  let v427 : BitVec 32 := Scalar.addi v342 c3_i32
  let v428 : Index := Scalar.indexCast v427
  let c0_180 : Index := 0#32
  ![v428.toNat, 0]
@[reducible] def k0_t61_loop : Scf.Loop 32 :=
  let c1_i32_181 : BitVec 32 := 1#32
  let c31_i32_182 : BitVec 32 := 31#32
  let v433 : BitVec 32 := Scalar.addi c1_i32_181 c31_i32_182
  let c1_i32_183 : BitVec 32 := 1#32
  ⟨c1_i32_181, v433, c1_i32_183⟩
def k0_off259 (k0_t57 : Fin k0_t57_loop.trips) (k0_t61 : Fin k0_t61_loop.trips) : Fin 2 → Nat :=
  let c0_i32_149 : BitVec 32 := 0#32
  let c1_i32_150 : BitVec 32 := 1#32
  let arg14 : BitVec 32 := Scf.iv c0_i32_149 c1_i32_150 k0_t57
  let c16_i32_156 : BitVec 32 := 16#32
  let v342 : BitVec 32 := Scalar.muli arg14 c16_i32_156
  let c3_i32 : BitVec 32 := 3#32
  let v427 : BitVec 32 := Scalar.addi v342 c3_i32
  let v684 : Index := Scalar.indexCast v427
  let c1_i32_181 : BitVec 32 := 1#32
  let c1_i32_183 : BitVec 32 := 1#32
  let arg15 : BitVec 32 := Scf.iv c1_i32_181 c1_i32_183 k0_t61
  let c16_i32_273 : BitVec 32 := 16#32
  let v683 : BitVec 32 := Scalar.muli arg15 c16_i32_273
  let v685 : Index := Scalar.indexCast v683
  ![v684.toNat, v685.toNat]
def k0_off260 (v426 : BitVec 32) (k0_t61 : Fin k0_t61_loop.trips) : Fin 2 → Nat :=
  let v692 : Index := Scalar.indexCast v426
  let c1_i32_181 : BitVec 32 := 1#32
  let c1_i32_183 : BitVec 32 := 1#32
  let arg15 : BitVec 32 := Scf.iv c1_i32_181 c1_i32_183 k0_t61
  let c1_i32_274 : BitVec 32 := 1#32
  let v690 : BitVec 32 := Scalar.subi arg15 c1_i32_274
  let c16_i32_275 : BitVec 32 := 16#32
  let v691 : BitVec 32 := Scalar.muli v690 c16_i32_275
  let v693 : Index := Scalar.indexCast v691
  ![v692.toNat, v693.toNat]

def k0_off261 (v426 : BitVec 32) : Fin 2 → Nat :=
  let v435 : Index := Scalar.indexCast v426
  let c496_185 : Index := 496#32
  ![v435.toNat, 496]

def k0_chk57 (i : grid0.Coords) (v66_0 : BitVec 32) (v74 : BitVec 32) (v79 : BitVec 32) (v84 : BitVec 32) (v89 : BitVec 32) (v94 : BitVec 32) (v99 : BitVec 32) (v104 : BitVec 32) (v109 : BitVec 32) (v114 : BitVec 32) (v119 : BitVec 32) (v124 : BitVec 32) (v129 : BitVec 32) (v134 : BitVec 32) (v139 : BitVec 32) (v144 : BitVec 32) (v149 : BitVec 32) (v158_0 : BitVec 32) (v166 : BitVec 32) (v171 : BitVec 32) (v176 : BitVec 32) (v181 : BitVec 32) (v186 : BitVec 32) (v191 : BitVec 32) (v196 : BitVec 32) (v201 : BitVec 32) (v206 : BitVec 32) (v211 : BitVec 32) (v216 : BitVec 32) (v221 : BitVec 32) (v226 : BitVec 32) (v231 : BitVec 32) (v236 : BitVec 32) (v241 : BitVec 32) (k0_t39 : Fin (k0_t39_loop i v66_0 v74 v79 v84 v89 v94 v99 v104 v109 v114 v119 v124 v129 v134 v139 v144 v149 v158_0 v166 v171 v176 v181 v186 v191 v196 v201 v206 v211 v216 v221 v226 v231 v236 v241).trips) (v426 : BitVec 32) : Prop :=
  (∀ k0_t61 : Fin k0_t61_loop.trips, ∀ (k0_h9 : k0_cond9 i v66_0 v74 v79 v84 v89 v94 v99 v104 v109 v114 v119 v124 v129 v134 v139 v144 v149 v158_0 v166 v171 v176 v181 v186 v191 v196 v201 v206 v211 v216 v221 v226 v231 v236 v241 k0_t39 = 1#1), ∀ a, (k0_off260 v426 k0_t61) a + S1x16.size a ≤ S32x512.size a) ∧
  (∀ (k0_h9 : k0_cond9 i v66_0 v74 v79 v84 v89 v94 v99 v104 v109 v114 v119 v124 v129 v134 v139 v144 v149 v158_0 v166 v171 v176 v181 v186 v191 v196 v201 v206 v211 v216 v221 v226 v231 v236 v241 k0_t39 = 1#1), ∀ a, (k0_off261 v426) a + S1x16.size a ≤ S32x512.size a)
theorem k0_off260_inb : ∀ (i : grid0.Coords) (v66_0 : BitVec 32) (v74 : BitVec 32) (v79 : BitVec 32) (v84 : BitVec 32) (v89 : BitVec 32) (v94 : BitVec 32) (v99 : BitVec 32) (v104 : BitVec 32) (v109 : BitVec 32) (v114 : BitVec 32) (v119 : BitVec 32) (v124 : BitVec 32) (v129 : BitVec 32) (v134 : BitVec 32) (v139 : BitVec 32) (v144 : BitVec 32) (v149 : BitVec 32) (v158_0 : BitVec 32) (v166 : BitVec 32) (v171 : BitVec 32) (v176 : BitVec 32) (v181 : BitVec 32) (v186 : BitVec 32) (v191 : BitVec 32) (v196 : BitVec 32) (v201 : BitVec 32) (v206 : BitVec 32) (v211 : BitVec 32) (v216 : BitVec 32) (v221 : BitVec 32) (v226 : BitVec 32) (v231 : BitVec 32) (v236 : BitVec 32) (v241 : BitVec 32) (k0_t39 : Fin (k0_t39_loop i v66_0 v74 v79 v84 v89 v94 v99 v104 v109 v114 v119 v124 v129 v134 v139 v144 v149 v158_0 v166 v171 v176 v181 v186 v191 v196 v201 v206 v211 v216 v221 v226 v231 v236 v241).trips) (v426 : BitVec 32) (k0_hw57 : k0_chk57 i v66_0 v74 v79 v84 v89 v94 v99 v104 v109 v114 v119 v124 v129 v134 v139 v144 v149 v158_0 v166 v171 v176 v181 v186 v191 v196 v201 v206 v211 v216 v221 v226 v231 v236 v241 k0_t39 v426) (k0_t61 : Fin k0_t61_loop.trips), ∀ (k0_h9 : k0_cond9 i v66_0 v74 v79 v84 v89 v94 v99 v104 v109 v114 v119 v124 v129 v134 v139 v144 v149 v158_0 v166 v171 v176 v181 v186 v191 v196 v201 v206 v211 v216 v221 v226 v231 v236 v241 k0_t39 = 1#1), ∀ a, (k0_off260 v426 k0_t61) a + S1x16.size a ≤ S32x512.size a := fun i v66_0 v74 v79 v84 v89 v94 v99 v104 v109 v114 v119 v124 v129 v134 v139 v144 v149 v158_0 v166 v171 v176 v181 v186 v191 v196 v201 v206 v211 v216 v221 v226 v231 v236 v241 k0_t39 v426 k0_hw57 k0_t61 k0_h9 => k0_hw57.1 k0_t61 k0_h9
theorem k0_off261_inb : ∀ (i : grid0.Coords) (v66_0 : BitVec 32) (v74 : BitVec 32) (v79 : BitVec 32) (v84 : BitVec 32) (v89 : BitVec 32) (v94 : BitVec 32) (v99 : BitVec 32) (v104 : BitVec 32) (v109 : BitVec 32) (v114 : BitVec 32) (v119 : BitVec 32) (v124 : BitVec 32) (v129 : BitVec 32) (v134 : BitVec 32) (v139 : BitVec 32) (v144 : BitVec 32) (v149 : BitVec 32) (v158_0 : BitVec 32) (v166 : BitVec 32) (v171 : BitVec 32) (v176 : BitVec 32) (v181 : BitVec 32) (v186 : BitVec 32) (v191 : BitVec 32) (v196 : BitVec 32) (v201 : BitVec 32) (v206 : BitVec 32) (v211 : BitVec 32) (v216 : BitVec 32) (v221 : BitVec 32) (v226 : BitVec 32) (v231 : BitVec 32) (v236 : BitVec 32) (v241 : BitVec 32) (k0_t39 : Fin (k0_t39_loop i v66_0 v74 v79 v84 v89 v94 v99 v104 v109 v114 v119 v124 v129 v134 v139 v144 v149 v158_0 v166 v171 v176 v181 v186 v191 v196 v201 v206 v211 v216 v221 v226 v231 v236 v241).trips) (v426 : BitVec 32) (k0_hw57 : k0_chk57 i v66_0 v74 v79 v84 v89 v94 v99 v104 v109 v114 v119 v124 v129 v134 v139 v144 v149 v158_0 v166 v171 v176 v181 v186 v191 v196 v201 v206 v211 v216 v221 v226 v231 v236 v241 k0_t39 v426), ∀ (k0_h9 : k0_cond9 i v66_0 v74 v79 v84 v89 v94 v99 v104 v109 v114 v119 v124 v129 v134 v139 v144 v149 v158_0 v166 v171 v176 v181 v186 v191 v196 v201 v206 v211 v216 v221 v226 v231 v236 v241 k0_t39 = 1#1), ∀ a, (k0_off261 v426) a + S1x16.size a ≤ S32x512.size a := fun i v66_0 v74 v79 v84 v89 v94 v99 v104 v109 v114 v119 v124 v129 v134 v139 v144 v149 v158_0 v166 v171 v176 v181 v186 v191 v196 v201 v206 v211 v216 v221 v226 v231 v236 v241 k0_t39 v426 k0_hw57 k0_h9 => k0_hw57.2 k0_h9

def k0_off262 (k0_t57 : Fin k0_t57_loop.trips) : Fin 2 → Nat :=
  let c0_i32_149 : BitVec 32 := 0#32
  let c1_i32_150 : BitVec 32 := 1#32
  let arg14 : BitVec 32 := Scf.iv c0_i32_149 c1_i32_150 k0_t57
  let c16_i32_156 : BitVec 32 := 16#32
  let v342 : BitVec 32 := Scalar.muli arg14 c16_i32_156
  let c4_i32_187 : BitVec 32 := 4#32
  let v447 : BitVec 32 := Scalar.addi v342 c4_i32_187
  let v448 : Index := Scalar.indexCast v447
  let c0_188 : Index := 0#32
  ![v448.toNat, 0]
@[reducible] def k0_t62_loop : Scf.Loop 32 :=
  let c1_i32_189 : BitVec 32 := 1#32
  let c31_i32_190 : BitVec 32 := 31#32
  let v453 : BitVec 32 := Scalar.addi c1_i32_189 c31_i32_190
  let c1_i32_191 : BitVec 32 := 1#32
  ⟨c1_i32_189, v453, c1_i32_191⟩
def k0_off263 (k0_t57 : Fin k0_t57_loop.trips) (k0_t62 : Fin k0_t62_loop.trips) : Fin 2 → Nat :=
  let c0_i32_149 : BitVec 32 := 0#32
  let c1_i32_150 : BitVec 32 := 1#32
  let arg14 : BitVec 32 := Scf.iv c0_i32_149 c1_i32_150 k0_t57
  let c16_i32_156 : BitVec 32 := 16#32
  let v342 : BitVec 32 := Scalar.muli arg14 c16_i32_156
  let c4_i32_187 : BitVec 32 := 4#32
  let v447 : BitVec 32 := Scalar.addi v342 c4_i32_187
  let v684 : Index := Scalar.indexCast v447
  let c1_i32_189 : BitVec 32 := 1#32
  let c1_i32_191 : BitVec 32 := 1#32
  let arg15 : BitVec 32 := Scf.iv c1_i32_189 c1_i32_191 k0_t62
  let c16_i32_273 : BitVec 32 := 16#32
  let v683 : BitVec 32 := Scalar.muli arg15 c16_i32_273
  let v685 : Index := Scalar.indexCast v683
  ![v684.toNat, v685.toNat]
def k0_off264 (v446 : BitVec 32) (k0_t62 : Fin k0_t62_loop.trips) : Fin 2 → Nat :=
  let v692 : Index := Scalar.indexCast v446
  let c1_i32_189 : BitVec 32 := 1#32
  let c1_i32_191 : BitVec 32 := 1#32
  let arg15 : BitVec 32 := Scf.iv c1_i32_189 c1_i32_191 k0_t62
  let c1_i32_274 : BitVec 32 := 1#32
  let v690 : BitVec 32 := Scalar.subi arg15 c1_i32_274
  let c16_i32_275 : BitVec 32 := 16#32
  let v691 : BitVec 32 := Scalar.muli v690 c16_i32_275
  let v693 : Index := Scalar.indexCast v691
  ![v692.toNat, v693.toNat]

def k0_off265 (v446 : BitVec 32) : Fin 2 → Nat :=
  let v455 : Index := Scalar.indexCast v446
  let c496_193 : Index := 496#32
  ![v455.toNat, 496]

def k0_chk58 (i : grid0.Coords) (v66_0 : BitVec 32) (v74 : BitVec 32) (v79 : BitVec 32) (v84 : BitVec 32) (v89 : BitVec 32) (v94 : BitVec 32) (v99 : BitVec 32) (v104 : BitVec 32) (v109 : BitVec 32) (v114 : BitVec 32) (v119 : BitVec 32) (v124 : BitVec 32) (v129 : BitVec 32) (v134 : BitVec 32) (v139 : BitVec 32) (v144 : BitVec 32) (v149 : BitVec 32) (v158_0 : BitVec 32) (v166 : BitVec 32) (v171 : BitVec 32) (v176 : BitVec 32) (v181 : BitVec 32) (v186 : BitVec 32) (v191 : BitVec 32) (v196 : BitVec 32) (v201 : BitVec 32) (v206 : BitVec 32) (v211 : BitVec 32) (v216 : BitVec 32) (v221 : BitVec 32) (v226 : BitVec 32) (v231 : BitVec 32) (v236 : BitVec 32) (v241 : BitVec 32) (k0_t39 : Fin (k0_t39_loop i v66_0 v74 v79 v84 v89 v94 v99 v104 v109 v114 v119 v124 v129 v134 v139 v144 v149 v158_0 v166 v171 v176 v181 v186 v191 v196 v201 v206 v211 v216 v221 v226 v231 v236 v241).trips) (v446 : BitVec 32) : Prop :=
  (∀ k0_t62 : Fin k0_t62_loop.trips, ∀ (k0_h9 : k0_cond9 i v66_0 v74 v79 v84 v89 v94 v99 v104 v109 v114 v119 v124 v129 v134 v139 v144 v149 v158_0 v166 v171 v176 v181 v186 v191 v196 v201 v206 v211 v216 v221 v226 v231 v236 v241 k0_t39 = 1#1), ∀ a, (k0_off264 v446 k0_t62) a + S1x16.size a ≤ S32x512.size a) ∧
  (∀ (k0_h9 : k0_cond9 i v66_0 v74 v79 v84 v89 v94 v99 v104 v109 v114 v119 v124 v129 v134 v139 v144 v149 v158_0 v166 v171 v176 v181 v186 v191 v196 v201 v206 v211 v216 v221 v226 v231 v236 v241 k0_t39 = 1#1), ∀ a, (k0_off265 v446) a + S1x16.size a ≤ S32x512.size a)
theorem k0_off264_inb : ∀ (i : grid0.Coords) (v66_0 : BitVec 32) (v74 : BitVec 32) (v79 : BitVec 32) (v84 : BitVec 32) (v89 : BitVec 32) (v94 : BitVec 32) (v99 : BitVec 32) (v104 : BitVec 32) (v109 : BitVec 32) (v114 : BitVec 32) (v119 : BitVec 32) (v124 : BitVec 32) (v129 : BitVec 32) (v134 : BitVec 32) (v139 : BitVec 32) (v144 : BitVec 32) (v149 : BitVec 32) (v158_0 : BitVec 32) (v166 : BitVec 32) (v171 : BitVec 32) (v176 : BitVec 32) (v181 : BitVec 32) (v186 : BitVec 32) (v191 : BitVec 32) (v196 : BitVec 32) (v201 : BitVec 32) (v206 : BitVec 32) (v211 : BitVec 32) (v216 : BitVec 32) (v221 : BitVec 32) (v226 : BitVec 32) (v231 : BitVec 32) (v236 : BitVec 32) (v241 : BitVec 32) (k0_t39 : Fin (k0_t39_loop i v66_0 v74 v79 v84 v89 v94 v99 v104 v109 v114 v119 v124 v129 v134 v139 v144 v149 v158_0 v166 v171 v176 v181 v186 v191 v196 v201 v206 v211 v216 v221 v226 v231 v236 v241).trips) (v446 : BitVec 32) (k0_hw58 : k0_chk58 i v66_0 v74 v79 v84 v89 v94 v99 v104 v109 v114 v119 v124 v129 v134 v139 v144 v149 v158_0 v166 v171 v176 v181 v186 v191 v196 v201 v206 v211 v216 v221 v226 v231 v236 v241 k0_t39 v446) (k0_t62 : Fin k0_t62_loop.trips), ∀ (k0_h9 : k0_cond9 i v66_0 v74 v79 v84 v89 v94 v99 v104 v109 v114 v119 v124 v129 v134 v139 v144 v149 v158_0 v166 v171 v176 v181 v186 v191 v196 v201 v206 v211 v216 v221 v226 v231 v236 v241 k0_t39 = 1#1), ∀ a, (k0_off264 v446 k0_t62) a + S1x16.size a ≤ S32x512.size a := fun i v66_0 v74 v79 v84 v89 v94 v99 v104 v109 v114 v119 v124 v129 v134 v139 v144 v149 v158_0 v166 v171 v176 v181 v186 v191 v196 v201 v206 v211 v216 v221 v226 v231 v236 v241 k0_t39 v446 k0_hw58 k0_t62 k0_h9 => k0_hw58.1 k0_t62 k0_h9
theorem k0_off265_inb : ∀ (i : grid0.Coords) (v66_0 : BitVec 32) (v74 : BitVec 32) (v79 : BitVec 32) (v84 : BitVec 32) (v89 : BitVec 32) (v94 : BitVec 32) (v99 : BitVec 32) (v104 : BitVec 32) (v109 : BitVec 32) (v114 : BitVec 32) (v119 : BitVec 32) (v124 : BitVec 32) (v129 : BitVec 32) (v134 : BitVec 32) (v139 : BitVec 32) (v144 : BitVec 32) (v149 : BitVec 32) (v158_0 : BitVec 32) (v166 : BitVec 32) (v171 : BitVec 32) (v176 : BitVec 32) (v181 : BitVec 32) (v186 : BitVec 32) (v191 : BitVec 32) (v196 : BitVec 32) (v201 : BitVec 32) (v206 : BitVec 32) (v211 : BitVec 32) (v216 : BitVec 32) (v221 : BitVec 32) (v226 : BitVec 32) (v231 : BitVec 32) (v236 : BitVec 32) (v241 : BitVec 32) (k0_t39 : Fin (k0_t39_loop i v66_0 v74 v79 v84 v89 v94 v99 v104 v109 v114 v119 v124 v129 v134 v139 v144 v149 v158_0 v166 v171 v176 v181 v186 v191 v196 v201 v206 v211 v216 v221 v226 v231 v236 v241).trips) (v446 : BitVec 32) (k0_hw58 : k0_chk58 i v66_0 v74 v79 v84 v89 v94 v99 v104 v109 v114 v119 v124 v129 v134 v139 v144 v149 v158_0 v166 v171 v176 v181 v186 v191 v196 v201 v206 v211 v216 v221 v226 v231 v236 v241 k0_t39 v446), ∀ (k0_h9 : k0_cond9 i v66_0 v74 v79 v84 v89 v94 v99 v104 v109 v114 v119 v124 v129 v134 v139 v144 v149 v158_0 v166 v171 v176 v181 v186 v191 v196 v201 v206 v211 v216 v221 v226 v231 v236 v241 k0_t39 = 1#1), ∀ a, (k0_off265 v446) a + S1x16.size a ≤ S32x512.size a := fun i v66_0 v74 v79 v84 v89 v94 v99 v104 v109 v114 v119 v124 v129 v134 v139 v144 v149 v158_0 v166 v171 v176 v181 v186 v191 v196 v201 v206 v211 v216 v221 v226 v231 v236 v241 k0_t39 v446 k0_hw58 k0_h9 => k0_hw58.2 k0_h9

def k0_off266 (k0_t57 : Fin k0_t57_loop.trips) : Fin 2 → Nat :=
  let c0_i32_149 : BitVec 32 := 0#32
  let c1_i32_150 : BitVec 32 := 1#32
  let arg14 : BitVec 32 := Scf.iv c0_i32_149 c1_i32_150 k0_t57
  let c16_i32_156 : BitVec 32 := 16#32
  let v342 : BitVec 32 := Scalar.muli arg14 c16_i32_156
  let c5_i32 : BitVec 32 := 5#32
  let v467 : BitVec 32 := Scalar.addi v342 c5_i32
  let v468 : Index := Scalar.indexCast v467
  let c0_195 : Index := 0#32
  ![v468.toNat, 0]
@[reducible] def k0_t63_loop : Scf.Loop 32 :=
  let c1_i32_196 : BitVec 32 := 1#32
  let c31_i32_197 : BitVec 32 := 31#32
  let v473 : BitVec 32 := Scalar.addi c1_i32_196 c31_i32_197
  let c1_i32_198 : BitVec 32 := 1#32
  ⟨c1_i32_196, v473, c1_i32_198⟩
def k0_off267 (k0_t57 : Fin k0_t57_loop.trips) (k0_t63 : Fin k0_t63_loop.trips) : Fin 2 → Nat :=
  let c0_i32_149 : BitVec 32 := 0#32
  let c1_i32_150 : BitVec 32 := 1#32
  let arg14 : BitVec 32 := Scf.iv c0_i32_149 c1_i32_150 k0_t57
  let c16_i32_156 : BitVec 32 := 16#32
  let v342 : BitVec 32 := Scalar.muli arg14 c16_i32_156
  let c5_i32 : BitVec 32 := 5#32
  let v467 : BitVec 32 := Scalar.addi v342 c5_i32
  let v684 : Index := Scalar.indexCast v467
  let c1_i32_196 : BitVec 32 := 1#32
  let c1_i32_198 : BitVec 32 := 1#32
  let arg15 : BitVec 32 := Scf.iv c1_i32_196 c1_i32_198 k0_t63
  let c16_i32_273 : BitVec 32 := 16#32
  let v683 : BitVec 32 := Scalar.muli arg15 c16_i32_273
  let v685 : Index := Scalar.indexCast v683
  ![v684.toNat, v685.toNat]
def k0_off268 (v466 : BitVec 32) (k0_t63 : Fin k0_t63_loop.trips) : Fin 2 → Nat :=
  let v692 : Index := Scalar.indexCast v466
  let c1_i32_196 : BitVec 32 := 1#32
  let c1_i32_198 : BitVec 32 := 1#32
  let arg15 : BitVec 32 := Scf.iv c1_i32_196 c1_i32_198 k0_t63
  let c1_i32_274 : BitVec 32 := 1#32
  let v690 : BitVec 32 := Scalar.subi arg15 c1_i32_274
  let c16_i32_275 : BitVec 32 := 16#32
  let v691 : BitVec 32 := Scalar.muli v690 c16_i32_275
  let v693 : Index := Scalar.indexCast v691
  ![v692.toNat, v693.toNat]

def k0_off269 (v466 : BitVec 32) : Fin 2 → Nat :=
  let v475 : Index := Scalar.indexCast v466
  let c496_200 : Index := 496#32
  ![v475.toNat, 496]

def k0_chk59 (i : grid0.Coords) (v66_0 : BitVec 32) (v74 : BitVec 32) (v79 : BitVec 32) (v84 : BitVec 32) (v89 : BitVec 32) (v94 : BitVec 32) (v99 : BitVec 32) (v104 : BitVec 32) (v109 : BitVec 32) (v114 : BitVec 32) (v119 : BitVec 32) (v124 : BitVec 32) (v129 : BitVec 32) (v134 : BitVec 32) (v139 : BitVec 32) (v144 : BitVec 32) (v149 : BitVec 32) (v158_0 : BitVec 32) (v166 : BitVec 32) (v171 : BitVec 32) (v176 : BitVec 32) (v181 : BitVec 32) (v186 : BitVec 32) (v191 : BitVec 32) (v196 : BitVec 32) (v201 : BitVec 32) (v206 : BitVec 32) (v211 : BitVec 32) (v216 : BitVec 32) (v221 : BitVec 32) (v226 : BitVec 32) (v231 : BitVec 32) (v236 : BitVec 32) (v241 : BitVec 32) (k0_t39 : Fin (k0_t39_loop i v66_0 v74 v79 v84 v89 v94 v99 v104 v109 v114 v119 v124 v129 v134 v139 v144 v149 v158_0 v166 v171 v176 v181 v186 v191 v196 v201 v206 v211 v216 v221 v226 v231 v236 v241).trips) (v466 : BitVec 32) : Prop :=
  (∀ k0_t63 : Fin k0_t63_loop.trips, ∀ (k0_h9 : k0_cond9 i v66_0 v74 v79 v84 v89 v94 v99 v104 v109 v114 v119 v124 v129 v134 v139 v144 v149 v158_0 v166 v171 v176 v181 v186 v191 v196 v201 v206 v211 v216 v221 v226 v231 v236 v241 k0_t39 = 1#1), ∀ a, (k0_off268 v466 k0_t63) a + S1x16.size a ≤ S32x512.size a) ∧
  (∀ (k0_h9 : k0_cond9 i v66_0 v74 v79 v84 v89 v94 v99 v104 v109 v114 v119 v124 v129 v134 v139 v144 v149 v158_0 v166 v171 v176 v181 v186 v191 v196 v201 v206 v211 v216 v221 v226 v231 v236 v241 k0_t39 = 1#1), ∀ a, (k0_off269 v466) a + S1x16.size a ≤ S32x512.size a)
theorem k0_off268_inb : ∀ (i : grid0.Coords) (v66_0 : BitVec 32) (v74 : BitVec 32) (v79 : BitVec 32) (v84 : BitVec 32) (v89 : BitVec 32) (v94 : BitVec 32) (v99 : BitVec 32) (v104 : BitVec 32) (v109 : BitVec 32) (v114 : BitVec 32) (v119 : BitVec 32) (v124 : BitVec 32) (v129 : BitVec 32) (v134 : BitVec 32) (v139 : BitVec 32) (v144 : BitVec 32) (v149 : BitVec 32) (v158_0 : BitVec 32) (v166 : BitVec 32) (v171 : BitVec 32) (v176 : BitVec 32) (v181 : BitVec 32) (v186 : BitVec 32) (v191 : BitVec 32) (v196 : BitVec 32) (v201 : BitVec 32) (v206 : BitVec 32) (v211 : BitVec 32) (v216 : BitVec 32) (v221 : BitVec 32) (v226 : BitVec 32) (v231 : BitVec 32) (v236 : BitVec 32) (v241 : BitVec 32) (k0_t39 : Fin (k0_t39_loop i v66_0 v74 v79 v84 v89 v94 v99 v104 v109 v114 v119 v124 v129 v134 v139 v144 v149 v158_0 v166 v171 v176 v181 v186 v191 v196 v201 v206 v211 v216 v221 v226 v231 v236 v241).trips) (v466 : BitVec 32) (k0_hw59 : k0_chk59 i v66_0 v74 v79 v84 v89 v94 v99 v104 v109 v114 v119 v124 v129 v134 v139 v144 v149 v158_0 v166 v171 v176 v181 v186 v191 v196 v201 v206 v211 v216 v221 v226 v231 v236 v241 k0_t39 v466) (k0_t63 : Fin k0_t63_loop.trips), ∀ (k0_h9 : k0_cond9 i v66_0 v74 v79 v84 v89 v94 v99 v104 v109 v114 v119 v124 v129 v134 v139 v144 v149 v158_0 v166 v171 v176 v181 v186 v191 v196 v201 v206 v211 v216 v221 v226 v231 v236 v241 k0_t39 = 1#1), ∀ a, (k0_off268 v466 k0_t63) a + S1x16.size a ≤ S32x512.size a := fun i v66_0 v74 v79 v84 v89 v94 v99 v104 v109 v114 v119 v124 v129 v134 v139 v144 v149 v158_0 v166 v171 v176 v181 v186 v191 v196 v201 v206 v211 v216 v221 v226 v231 v236 v241 k0_t39 v466 k0_hw59 k0_t63 k0_h9 => k0_hw59.1 k0_t63 k0_h9
theorem k0_off269_inb : ∀ (i : grid0.Coords) (v66_0 : BitVec 32) (v74 : BitVec 32) (v79 : BitVec 32) (v84 : BitVec 32) (v89 : BitVec 32) (v94 : BitVec 32) (v99 : BitVec 32) (v104 : BitVec 32) (v109 : BitVec 32) (v114 : BitVec 32) (v119 : BitVec 32) (v124 : BitVec 32) (v129 : BitVec 32) (v134 : BitVec 32) (v139 : BitVec 32) (v144 : BitVec 32) (v149 : BitVec 32) (v158_0 : BitVec 32) (v166 : BitVec 32) (v171 : BitVec 32) (v176 : BitVec 32) (v181 : BitVec 32) (v186 : BitVec 32) (v191 : BitVec 32) (v196 : BitVec 32) (v201 : BitVec 32) (v206 : BitVec 32) (v211 : BitVec 32) (v216 : BitVec 32) (v221 : BitVec 32) (v226 : BitVec 32) (v231 : BitVec 32) (v236 : BitVec 32) (v241 : BitVec 32) (k0_t39 : Fin (k0_t39_loop i v66_0 v74 v79 v84 v89 v94 v99 v104 v109 v114 v119 v124 v129 v134 v139 v144 v149 v158_0 v166 v171 v176 v181 v186 v191 v196 v201 v206 v211 v216 v221 v226 v231 v236 v241).trips) (v466 : BitVec 32) (k0_hw59 : k0_chk59 i v66_0 v74 v79 v84 v89 v94 v99 v104 v109 v114 v119 v124 v129 v134 v139 v144 v149 v158_0 v166 v171 v176 v181 v186 v191 v196 v201 v206 v211 v216 v221 v226 v231 v236 v241 k0_t39 v466), ∀ (k0_h9 : k0_cond9 i v66_0 v74 v79 v84 v89 v94 v99 v104 v109 v114 v119 v124 v129 v134 v139 v144 v149 v158_0 v166 v171 v176 v181 v186 v191 v196 v201 v206 v211 v216 v221 v226 v231 v236 v241 k0_t39 = 1#1), ∀ a, (k0_off269 v466) a + S1x16.size a ≤ S32x512.size a := fun i v66_0 v74 v79 v84 v89 v94 v99 v104 v109 v114 v119 v124 v129 v134 v139 v144 v149 v158_0 v166 v171 v176 v181 v186 v191 v196 v201 v206 v211 v216 v221 v226 v231 v236 v241 k0_t39 v466 k0_hw59 k0_h9 => k0_hw59.2 k0_h9

def k0_off270 (k0_t57 : Fin k0_t57_loop.trips) : Fin 2 → Nat :=
  let c0_i32_149 : BitVec 32 := 0#32
  let c1_i32_150 : BitVec 32 := 1#32
  let arg14 : BitVec 32 := Scf.iv c0_i32_149 c1_i32_150 k0_t57
  let c16_i32_156 : BitVec 32 := 16#32
  let v342 : BitVec 32 := Scalar.muli arg14 c16_i32_156
  let c6_i32 : BitVec 32 := 6#32
  let v487 : BitVec 32 := Scalar.addi v342 c6_i32
  let v488 : Index := Scalar.indexCast v487
  let c0_202 : Index := 0#32
  ![v488.toNat, 0]
@[reducible] def k0_t64_loop : Scf.Loop 32 :=
  let c1_i32_203 : BitVec 32 := 1#32
  let c31_i32_204 : BitVec 32 := 31#32
  let v493 : BitVec 32 := Scalar.addi c1_i32_203 c31_i32_204
  let c1_i32_205 : BitVec 32 := 1#32
  ⟨c1_i32_203, v493, c1_i32_205⟩
def k0_off271 (k0_t57 : Fin k0_t57_loop.trips) (k0_t64 : Fin k0_t64_loop.trips) : Fin 2 → Nat :=
  let c0_i32_149 : BitVec 32 := 0#32
  let c1_i32_150 : BitVec 32 := 1#32
  let arg14 : BitVec 32 := Scf.iv c0_i32_149 c1_i32_150 k0_t57
  let c16_i32_156 : BitVec 32 := 16#32
  let v342 : BitVec 32 := Scalar.muli arg14 c16_i32_156
  let c6_i32 : BitVec 32 := 6#32
  let v487 : BitVec 32 := Scalar.addi v342 c6_i32
  let v684 : Index := Scalar.indexCast v487
  let c1_i32_203 : BitVec 32 := 1#32
  let c1_i32_205 : BitVec 32 := 1#32
  let arg15 : BitVec 32 := Scf.iv c1_i32_203 c1_i32_205 k0_t64
  let c16_i32_273 : BitVec 32 := 16#32
  let v683 : BitVec 32 := Scalar.muli arg15 c16_i32_273
  let v685 : Index := Scalar.indexCast v683
  ![v684.toNat, v685.toNat]
def k0_off272 (v486 : BitVec 32) (k0_t64 : Fin k0_t64_loop.trips) : Fin 2 → Nat :=
  let v692 : Index := Scalar.indexCast v486
  let c1_i32_203 : BitVec 32 := 1#32
  let c1_i32_205 : BitVec 32 := 1#32
  let arg15 : BitVec 32 := Scf.iv c1_i32_203 c1_i32_205 k0_t64
  let c1_i32_274 : BitVec 32 := 1#32
  let v690 : BitVec 32 := Scalar.subi arg15 c1_i32_274
  let c16_i32_275 : BitVec 32 := 16#32
  let v691 : BitVec 32 := Scalar.muli v690 c16_i32_275
  let v693 : Index := Scalar.indexCast v691
  ![v692.toNat, v693.toNat]

def k0_off273 (v486 : BitVec 32) : Fin 2 → Nat :=
  let v495 : Index := Scalar.indexCast v486
  let c496_207 : Index := 496#32
  ![v495.toNat, 496]

def k0_chk60 (i : grid0.Coords) (v66_0 : BitVec 32) (v74 : BitVec 32) (v79 : BitVec 32) (v84 : BitVec 32) (v89 : BitVec 32) (v94 : BitVec 32) (v99 : BitVec 32) (v104 : BitVec 32) (v109 : BitVec 32) (v114 : BitVec 32) (v119 : BitVec 32) (v124 : BitVec 32) (v129 : BitVec 32) (v134 : BitVec 32) (v139 : BitVec 32) (v144 : BitVec 32) (v149 : BitVec 32) (v158_0 : BitVec 32) (v166 : BitVec 32) (v171 : BitVec 32) (v176 : BitVec 32) (v181 : BitVec 32) (v186 : BitVec 32) (v191 : BitVec 32) (v196 : BitVec 32) (v201 : BitVec 32) (v206 : BitVec 32) (v211 : BitVec 32) (v216 : BitVec 32) (v221 : BitVec 32) (v226 : BitVec 32) (v231 : BitVec 32) (v236 : BitVec 32) (v241 : BitVec 32) (k0_t39 : Fin (k0_t39_loop i v66_0 v74 v79 v84 v89 v94 v99 v104 v109 v114 v119 v124 v129 v134 v139 v144 v149 v158_0 v166 v171 v176 v181 v186 v191 v196 v201 v206 v211 v216 v221 v226 v231 v236 v241).trips) (v486 : BitVec 32) : Prop :=
  (∀ k0_t64 : Fin k0_t64_loop.trips, ∀ (k0_h9 : k0_cond9 i v66_0 v74 v79 v84 v89 v94 v99 v104 v109 v114 v119 v124 v129 v134 v139 v144 v149 v158_0 v166 v171 v176 v181 v186 v191 v196 v201 v206 v211 v216 v221 v226 v231 v236 v241 k0_t39 = 1#1), ∀ a, (k0_off272 v486 k0_t64) a + S1x16.size a ≤ S32x512.size a) ∧
  (∀ (k0_h9 : k0_cond9 i v66_0 v74 v79 v84 v89 v94 v99 v104 v109 v114 v119 v124 v129 v134 v139 v144 v149 v158_0 v166 v171 v176 v181 v186 v191 v196 v201 v206 v211 v216 v221 v226 v231 v236 v241 k0_t39 = 1#1), ∀ a, (k0_off273 v486) a + S1x16.size a ≤ S32x512.size a)
theorem k0_off272_inb : ∀ (i : grid0.Coords) (v66_0 : BitVec 32) (v74 : BitVec 32) (v79 : BitVec 32) (v84 : BitVec 32) (v89 : BitVec 32) (v94 : BitVec 32) (v99 : BitVec 32) (v104 : BitVec 32) (v109 : BitVec 32) (v114 : BitVec 32) (v119 : BitVec 32) (v124 : BitVec 32) (v129 : BitVec 32) (v134 : BitVec 32) (v139 : BitVec 32) (v144 : BitVec 32) (v149 : BitVec 32) (v158_0 : BitVec 32) (v166 : BitVec 32) (v171 : BitVec 32) (v176 : BitVec 32) (v181 : BitVec 32) (v186 : BitVec 32) (v191 : BitVec 32) (v196 : BitVec 32) (v201 : BitVec 32) (v206 : BitVec 32) (v211 : BitVec 32) (v216 : BitVec 32) (v221 : BitVec 32) (v226 : BitVec 32) (v231 : BitVec 32) (v236 : BitVec 32) (v241 : BitVec 32) (k0_t39 : Fin (k0_t39_loop i v66_0 v74 v79 v84 v89 v94 v99 v104 v109 v114 v119 v124 v129 v134 v139 v144 v149 v158_0 v166 v171 v176 v181 v186 v191 v196 v201 v206 v211 v216 v221 v226 v231 v236 v241).trips) (v486 : BitVec 32) (k0_hw60 : k0_chk60 i v66_0 v74 v79 v84 v89 v94 v99 v104 v109 v114 v119 v124 v129 v134 v139 v144 v149 v158_0 v166 v171 v176 v181 v186 v191 v196 v201 v206 v211 v216 v221 v226 v231 v236 v241 k0_t39 v486) (k0_t64 : Fin k0_t64_loop.trips), ∀ (k0_h9 : k0_cond9 i v66_0 v74 v79 v84 v89 v94 v99 v104 v109 v114 v119 v124 v129 v134 v139 v144 v149 v158_0 v166 v171 v176 v181 v186 v191 v196 v201 v206 v211 v216 v221 v226 v231 v236 v241 k0_t39 = 1#1), ∀ a, (k0_off272 v486 k0_t64) a + S1x16.size a ≤ S32x512.size a := fun i v66_0 v74 v79 v84 v89 v94 v99 v104 v109 v114 v119 v124 v129 v134 v139 v144 v149 v158_0 v166 v171 v176 v181 v186 v191 v196 v201 v206 v211 v216 v221 v226 v231 v236 v241 k0_t39 v486 k0_hw60 k0_t64 k0_h9 => k0_hw60.1 k0_t64 k0_h9
theorem k0_off273_inb : ∀ (i : grid0.Coords) (v66_0 : BitVec 32) (v74 : BitVec 32) (v79 : BitVec 32) (v84 : BitVec 32) (v89 : BitVec 32) (v94 : BitVec 32) (v99 : BitVec 32) (v104 : BitVec 32) (v109 : BitVec 32) (v114 : BitVec 32) (v119 : BitVec 32) (v124 : BitVec 32) (v129 : BitVec 32) (v134 : BitVec 32) (v139 : BitVec 32) (v144 : BitVec 32) (v149 : BitVec 32) (v158_0 : BitVec 32) (v166 : BitVec 32) (v171 : BitVec 32) (v176 : BitVec 32) (v181 : BitVec 32) (v186 : BitVec 32) (v191 : BitVec 32) (v196 : BitVec 32) (v201 : BitVec 32) (v206 : BitVec 32) (v211 : BitVec 32) (v216 : BitVec 32) (v221 : BitVec 32) (v226 : BitVec 32) (v231 : BitVec 32) (v236 : BitVec 32) (v241 : BitVec 32) (k0_t39 : Fin (k0_t39_loop i v66_0 v74 v79 v84 v89 v94 v99 v104 v109 v114 v119 v124 v129 v134 v139 v144 v149 v158_0 v166 v171 v176 v181 v186 v191 v196 v201 v206 v211 v216 v221 v226 v231 v236 v241).trips) (v486 : BitVec 32) (k0_hw60 : k0_chk60 i v66_0 v74 v79 v84 v89 v94 v99 v104 v109 v114 v119 v124 v129 v134 v139 v144 v149 v158_0 v166 v171 v176 v181 v186 v191 v196 v201 v206 v211 v216 v221 v226 v231 v236 v241 k0_t39 v486), ∀ (k0_h9 : k0_cond9 i v66_0 v74 v79 v84 v89 v94 v99 v104 v109 v114 v119 v124 v129 v134 v139 v144 v149 v158_0 v166 v171 v176 v181 v186 v191 v196 v201 v206 v211 v216 v221 v226 v231 v236 v241 k0_t39 = 1#1), ∀ a, (k0_off273 v486) a + S1x16.size a ≤ S32x512.size a := fun i v66_0 v74 v79 v84 v89 v94 v99 v104 v109 v114 v119 v124 v129 v134 v139 v144 v149 v158_0 v166 v171 v176 v181 v186 v191 v196 v201 v206 v211 v216 v221 v226 v231 v236 v241 k0_t39 v486 k0_hw60 k0_h9 => k0_hw60.2 k0_h9

def k0_off274 (k0_t57 : Fin k0_t57_loop.trips) : Fin 2 → Nat :=
  let c0_i32_149 : BitVec 32 := 0#32
  let c1_i32_150 : BitVec 32 := 1#32
  let arg14 : BitVec 32 := Scf.iv c0_i32_149 c1_i32_150 k0_t57
  let c16_i32_156 : BitVec 32 := 16#32
  let v342 : BitVec 32 := Scalar.muli arg14 c16_i32_156
  let c7_i32 : BitVec 32 := 7#32
  let v507 : BitVec 32 := Scalar.addi v342 c7_i32
  let v508 : Index := Scalar.indexCast v507
  let c0_209 : Index := 0#32
  ![v508.toNat, 0]
@[reducible] def k0_t65_loop : Scf.Loop 32 :=
  let c1_i32_210 : BitVec 32 := 1#32
  let c31_i32_211 : BitVec 32 := 31#32
  let v513 : BitVec 32 := Scalar.addi c1_i32_210 c31_i32_211
  let c1_i32_212 : BitVec 32 := 1#32
  ⟨c1_i32_210, v513, c1_i32_212⟩
def k0_off275 (k0_t57 : Fin k0_t57_loop.trips) (k0_t65 : Fin k0_t65_loop.trips) : Fin 2 → Nat :=
  let c0_i32_149 : BitVec 32 := 0#32
  let c1_i32_150 : BitVec 32 := 1#32
  let arg14 : BitVec 32 := Scf.iv c0_i32_149 c1_i32_150 k0_t57
  let c16_i32_156 : BitVec 32 := 16#32
  let v342 : BitVec 32 := Scalar.muli arg14 c16_i32_156
  let c7_i32 : BitVec 32 := 7#32
  let v507 : BitVec 32 := Scalar.addi v342 c7_i32
  let v684 : Index := Scalar.indexCast v507
  let c1_i32_210 : BitVec 32 := 1#32
  let c1_i32_212 : BitVec 32 := 1#32
  let arg15 : BitVec 32 := Scf.iv c1_i32_210 c1_i32_212 k0_t65
  let c16_i32_273 : BitVec 32 := 16#32
  let v683 : BitVec 32 := Scalar.muli arg15 c16_i32_273
  let v685 : Index := Scalar.indexCast v683
  ![v684.toNat, v685.toNat]
def k0_off276 (v506 : BitVec 32) (k0_t65 : Fin k0_t65_loop.trips) : Fin 2 → Nat :=
  let v692 : Index := Scalar.indexCast v506
  let c1_i32_210 : BitVec 32 := 1#32
  let c1_i32_212 : BitVec 32 := 1#32
  let arg15 : BitVec 32 := Scf.iv c1_i32_210 c1_i32_212 k0_t65
  let c1_i32_274 : BitVec 32 := 1#32
  let v690 : BitVec 32 := Scalar.subi arg15 c1_i32_274
  let c16_i32_275 : BitVec 32 := 16#32
  let v691 : BitVec 32 := Scalar.muli v690 c16_i32_275
  let v693 : Index := Scalar.indexCast v691
  ![v692.toNat, v693.toNat]

def k0_off277 (v506 : BitVec 32) : Fin 2 → Nat :=
  let v515 : Index := Scalar.indexCast v506
  let c496_214 : Index := 496#32
  ![v515.toNat, 496]

def k0_chk61 (i : grid0.Coords) (v66_0 : BitVec 32) (v74 : BitVec 32) (v79 : BitVec 32) (v84 : BitVec 32) (v89 : BitVec 32) (v94 : BitVec 32) (v99 : BitVec 32) (v104 : BitVec 32) (v109 : BitVec 32) (v114 : BitVec 32) (v119 : BitVec 32) (v124 : BitVec 32) (v129 : BitVec 32) (v134 : BitVec 32) (v139 : BitVec 32) (v144 : BitVec 32) (v149 : BitVec 32) (v158_0 : BitVec 32) (v166 : BitVec 32) (v171 : BitVec 32) (v176 : BitVec 32) (v181 : BitVec 32) (v186 : BitVec 32) (v191 : BitVec 32) (v196 : BitVec 32) (v201 : BitVec 32) (v206 : BitVec 32) (v211 : BitVec 32) (v216 : BitVec 32) (v221 : BitVec 32) (v226 : BitVec 32) (v231 : BitVec 32) (v236 : BitVec 32) (v241 : BitVec 32) (k0_t39 : Fin (k0_t39_loop i v66_0 v74 v79 v84 v89 v94 v99 v104 v109 v114 v119 v124 v129 v134 v139 v144 v149 v158_0 v166 v171 v176 v181 v186 v191 v196 v201 v206 v211 v216 v221 v226 v231 v236 v241).trips) (v506 : BitVec 32) : Prop :=
  (∀ k0_t65 : Fin k0_t65_loop.trips, ∀ (k0_h9 : k0_cond9 i v66_0 v74 v79 v84 v89 v94 v99 v104 v109 v114 v119 v124 v129 v134 v139 v144 v149 v158_0 v166 v171 v176 v181 v186 v191 v196 v201 v206 v211 v216 v221 v226 v231 v236 v241 k0_t39 = 1#1), ∀ a, (k0_off276 v506 k0_t65) a + S1x16.size a ≤ S32x512.size a) ∧
  (∀ (k0_h9 : k0_cond9 i v66_0 v74 v79 v84 v89 v94 v99 v104 v109 v114 v119 v124 v129 v134 v139 v144 v149 v158_0 v166 v171 v176 v181 v186 v191 v196 v201 v206 v211 v216 v221 v226 v231 v236 v241 k0_t39 = 1#1), ∀ a, (k0_off277 v506) a + S1x16.size a ≤ S32x512.size a)
theorem k0_off276_inb : ∀ (i : grid0.Coords) (v66_0 : BitVec 32) (v74 : BitVec 32) (v79 : BitVec 32) (v84 : BitVec 32) (v89 : BitVec 32) (v94 : BitVec 32) (v99 : BitVec 32) (v104 : BitVec 32) (v109 : BitVec 32) (v114 : BitVec 32) (v119 : BitVec 32) (v124 : BitVec 32) (v129 : BitVec 32) (v134 : BitVec 32) (v139 : BitVec 32) (v144 : BitVec 32) (v149 : BitVec 32) (v158_0 : BitVec 32) (v166 : BitVec 32) (v171 : BitVec 32) (v176 : BitVec 32) (v181 : BitVec 32) (v186 : BitVec 32) (v191 : BitVec 32) (v196 : BitVec 32) (v201 : BitVec 32) (v206 : BitVec 32) (v211 : BitVec 32) (v216 : BitVec 32) (v221 : BitVec 32) (v226 : BitVec 32) (v231 : BitVec 32) (v236 : BitVec 32) (v241 : BitVec 32) (k0_t39 : Fin (k0_t39_loop i v66_0 v74 v79 v84 v89 v94 v99 v104 v109 v114 v119 v124 v129 v134 v139 v144 v149 v158_0 v166 v171 v176 v181 v186 v191 v196 v201 v206 v211 v216 v221 v226 v231 v236 v241).trips) (v506 : BitVec 32) (k0_hw61 : k0_chk61 i v66_0 v74 v79 v84 v89 v94 v99 v104 v109 v114 v119 v124 v129 v134 v139 v144 v149 v158_0 v166 v171 v176 v181 v186 v191 v196 v201 v206 v211 v216 v221 v226 v231 v236 v241 k0_t39 v506) (k0_t65 : Fin k0_t65_loop.trips), ∀ (k0_h9 : k0_cond9 i v66_0 v74 v79 v84 v89 v94 v99 v104 v109 v114 v119 v124 v129 v134 v139 v144 v149 v158_0 v166 v171 v176 v181 v186 v191 v196 v201 v206 v211 v216 v221 v226 v231 v236 v241 k0_t39 = 1#1), ∀ a, (k0_off276 v506 k0_t65) a + S1x16.size a ≤ S32x512.size a := fun i v66_0 v74 v79 v84 v89 v94 v99 v104 v109 v114 v119 v124 v129 v134 v139 v144 v149 v158_0 v166 v171 v176 v181 v186 v191 v196 v201 v206 v211 v216 v221 v226 v231 v236 v241 k0_t39 v506 k0_hw61 k0_t65 k0_h9 => k0_hw61.1 k0_t65 k0_h9
theorem k0_off277_inb : ∀ (i : grid0.Coords) (v66_0 : BitVec 32) (v74 : BitVec 32) (v79 : BitVec 32) (v84 : BitVec 32) (v89 : BitVec 32) (v94 : BitVec 32) (v99 : BitVec 32) (v104 : BitVec 32) (v109 : BitVec 32) (v114 : BitVec 32) (v119 : BitVec 32) (v124 : BitVec 32) (v129 : BitVec 32) (v134 : BitVec 32) (v139 : BitVec 32) (v144 : BitVec 32) (v149 : BitVec 32) (v158_0 : BitVec 32) (v166 : BitVec 32) (v171 : BitVec 32) (v176 : BitVec 32) (v181 : BitVec 32) (v186 : BitVec 32) (v191 : BitVec 32) (v196 : BitVec 32) (v201 : BitVec 32) (v206 : BitVec 32) (v211 : BitVec 32) (v216 : BitVec 32) (v221 : BitVec 32) (v226 : BitVec 32) (v231 : BitVec 32) (v236 : BitVec 32) (v241 : BitVec 32) (k0_t39 : Fin (k0_t39_loop i v66_0 v74 v79 v84 v89 v94 v99 v104 v109 v114 v119 v124 v129 v134 v139 v144 v149 v158_0 v166 v171 v176 v181 v186 v191 v196 v201 v206 v211 v216 v221 v226 v231 v236 v241).trips) (v506 : BitVec 32) (k0_hw61 : k0_chk61 i v66_0 v74 v79 v84 v89 v94 v99 v104 v109 v114 v119 v124 v129 v134 v139 v144 v149 v158_0 v166 v171 v176 v181 v186 v191 v196 v201 v206 v211 v216 v221 v226 v231 v236 v241 k0_t39 v506), ∀ (k0_h9 : k0_cond9 i v66_0 v74 v79 v84 v89 v94 v99 v104 v109 v114 v119 v124 v129 v134 v139 v144 v149 v158_0 v166 v171 v176 v181 v186 v191 v196 v201 v206 v211 v216 v221 v226 v231 v236 v241 k0_t39 = 1#1), ∀ a, (k0_off277 v506) a + S1x16.size a ≤ S32x512.size a := fun i v66_0 v74 v79 v84 v89 v94 v99 v104 v109 v114 v119 v124 v129 v134 v139 v144 v149 v158_0 v166 v171 v176 v181 v186 v191 v196 v201 v206 v211 v216 v221 v226 v231 v236 v241 k0_t39 v506 k0_hw61 k0_h9 => k0_hw61.2 k0_h9

def k0_off278 (k0_t57 : Fin k0_t57_loop.trips) : Fin 2 → Nat :=
  let c0_i32_149 : BitVec 32 := 0#32
  let c1_i32_150 : BitVec 32 := 1#32
  let arg14 : BitVec 32 := Scf.iv c0_i32_149 c1_i32_150 k0_t57
  let c16_i32_156 : BitVec 32 := 16#32
  let v342 : BitVec 32 := Scalar.muli arg14 c16_i32_156
  let c8_i32 : BitVec 32 := 8#32
  let v527 : BitVec 32 := Scalar.addi v342 c8_i32
  let v528 : Index := Scalar.indexCast v527
  let c0_216 : Index := 0#32
  ![v528.toNat, 0]
@[reducible] def k0_t66_loop : Scf.Loop 32 :=
  let c1_i32_217 : BitVec 32 := 1#32
  let c31_i32_218 : BitVec 32 := 31#32
  let v533 : BitVec 32 := Scalar.addi c1_i32_217 c31_i32_218
  let c1_i32_219 : BitVec 32 := 1#32
  ⟨c1_i32_217, v533, c1_i32_219⟩
def k0_off279 (k0_t57 : Fin k0_t57_loop.trips) (k0_t66 : Fin k0_t66_loop.trips) : Fin 2 → Nat :=
  let c0_i32_149 : BitVec 32 := 0#32
  let c1_i32_150 : BitVec 32 := 1#32
  let arg14 : BitVec 32 := Scf.iv c0_i32_149 c1_i32_150 k0_t57
  let c16_i32_156 : BitVec 32 := 16#32
  let v342 : BitVec 32 := Scalar.muli arg14 c16_i32_156
  let c8_i32 : BitVec 32 := 8#32
  let v527 : BitVec 32 := Scalar.addi v342 c8_i32
  let v684 : Index := Scalar.indexCast v527
  let c1_i32_217 : BitVec 32 := 1#32
  let c1_i32_219 : BitVec 32 := 1#32
  let arg15 : BitVec 32 := Scf.iv c1_i32_217 c1_i32_219 k0_t66
  let c16_i32_273 : BitVec 32 := 16#32
  let v683 : BitVec 32 := Scalar.muli arg15 c16_i32_273
  let v685 : Index := Scalar.indexCast v683
  ![v684.toNat, v685.toNat]
def k0_off280 (v526 : BitVec 32) (k0_t66 : Fin k0_t66_loop.trips) : Fin 2 → Nat :=
  let v692 : Index := Scalar.indexCast v526
  let c1_i32_217 : BitVec 32 := 1#32
  let c1_i32_219 : BitVec 32 := 1#32
  let arg15 : BitVec 32 := Scf.iv c1_i32_217 c1_i32_219 k0_t66
  let c1_i32_274 : BitVec 32 := 1#32
  let v690 : BitVec 32 := Scalar.subi arg15 c1_i32_274
  let c16_i32_275 : BitVec 32 := 16#32
  let v691 : BitVec 32 := Scalar.muli v690 c16_i32_275
  let v693 : Index := Scalar.indexCast v691
  ![v692.toNat, v693.toNat]

def k0_off281 (v526 : BitVec 32) : Fin 2 → Nat :=
  let v535 : Index := Scalar.indexCast v526
  let c496_221 : Index := 496#32
  ![v535.toNat, 496]

def k0_chk62 (i : grid0.Coords) (v66_0 : BitVec 32) (v74 : BitVec 32) (v79 : BitVec 32) (v84 : BitVec 32) (v89 : BitVec 32) (v94 : BitVec 32) (v99 : BitVec 32) (v104 : BitVec 32) (v109 : BitVec 32) (v114 : BitVec 32) (v119 : BitVec 32) (v124 : BitVec 32) (v129 : BitVec 32) (v134 : BitVec 32) (v139 : BitVec 32) (v144 : BitVec 32) (v149 : BitVec 32) (v158_0 : BitVec 32) (v166 : BitVec 32) (v171 : BitVec 32) (v176 : BitVec 32) (v181 : BitVec 32) (v186 : BitVec 32) (v191 : BitVec 32) (v196 : BitVec 32) (v201 : BitVec 32) (v206 : BitVec 32) (v211 : BitVec 32) (v216 : BitVec 32) (v221 : BitVec 32) (v226 : BitVec 32) (v231 : BitVec 32) (v236 : BitVec 32) (v241 : BitVec 32) (k0_t39 : Fin (k0_t39_loop i v66_0 v74 v79 v84 v89 v94 v99 v104 v109 v114 v119 v124 v129 v134 v139 v144 v149 v158_0 v166 v171 v176 v181 v186 v191 v196 v201 v206 v211 v216 v221 v226 v231 v236 v241).trips) (v526 : BitVec 32) : Prop :=
  (∀ k0_t66 : Fin k0_t66_loop.trips, ∀ (k0_h9 : k0_cond9 i v66_0 v74 v79 v84 v89 v94 v99 v104 v109 v114 v119 v124 v129 v134 v139 v144 v149 v158_0 v166 v171 v176 v181 v186 v191 v196 v201 v206 v211 v216 v221 v226 v231 v236 v241 k0_t39 = 1#1), ∀ a, (k0_off280 v526 k0_t66) a + S1x16.size a ≤ S32x512.size a) ∧
  (∀ (k0_h9 : k0_cond9 i v66_0 v74 v79 v84 v89 v94 v99 v104 v109 v114 v119 v124 v129 v134 v139 v144 v149 v158_0 v166 v171 v176 v181 v186 v191 v196 v201 v206 v211 v216 v221 v226 v231 v236 v241 k0_t39 = 1#1), ∀ a, (k0_off281 v526) a + S1x16.size a ≤ S32x512.size a)
theorem k0_off280_inb : ∀ (i : grid0.Coords) (v66_0 : BitVec 32) (v74 : BitVec 32) (v79 : BitVec 32) (v84 : BitVec 32) (v89 : BitVec 32) (v94 : BitVec 32) (v99 : BitVec 32) (v104 : BitVec 32) (v109 : BitVec 32) (v114 : BitVec 32) (v119 : BitVec 32) (v124 : BitVec 32) (v129 : BitVec 32) (v134 : BitVec 32) (v139 : BitVec 32) (v144 : BitVec 32) (v149 : BitVec 32) (v158_0 : BitVec 32) (v166 : BitVec 32) (v171 : BitVec 32) (v176 : BitVec 32) (v181 : BitVec 32) (v186 : BitVec 32) (v191 : BitVec 32) (v196 : BitVec 32) (v201 : BitVec 32) (v206 : BitVec 32) (v211 : BitVec 32) (v216 : BitVec 32) (v221 : BitVec 32) (v226 : BitVec 32) (v231 : BitVec 32) (v236 : BitVec 32) (v241 : BitVec 32) (k0_t39 : Fin (k0_t39_loop i v66_0 v74 v79 v84 v89 v94 v99 v104 v109 v114 v119 v124 v129 v134 v139 v144 v149 v158_0 v166 v171 v176 v181 v186 v191 v196 v201 v206 v211 v216 v221 v226 v231 v236 v241).trips) (v526 : BitVec 32) (k0_hw62 : k0_chk62 i v66_0 v74 v79 v84 v89 v94 v99 v104 v109 v114 v119 v124 v129 v134 v139 v144 v149 v158_0 v166 v171 v176 v181 v186 v191 v196 v201 v206 v211 v216 v221 v226 v231 v236 v241 k0_t39 v526) (k0_t66 : Fin k0_t66_loop.trips), ∀ (k0_h9 : k0_cond9 i v66_0 v74 v79 v84 v89 v94 v99 v104 v109 v114 v119 v124 v129 v134 v139 v144 v149 v158_0 v166 v171 v176 v181 v186 v191 v196 v201 v206 v211 v216 v221 v226 v231 v236 v241 k0_t39 = 1#1), ∀ a, (k0_off280 v526 k0_t66) a + S1x16.size a ≤ S32x512.size a := fun i v66_0 v74 v79 v84 v89 v94 v99 v104 v109 v114 v119 v124 v129 v134 v139 v144 v149 v158_0 v166 v171 v176 v181 v186 v191 v196 v201 v206 v211 v216 v221 v226 v231 v236 v241 k0_t39 v526 k0_hw62 k0_t66 k0_h9 => k0_hw62.1 k0_t66 k0_h9
theorem k0_off281_inb : ∀ (i : grid0.Coords) (v66_0 : BitVec 32) (v74 : BitVec 32) (v79 : BitVec 32) (v84 : BitVec 32) (v89 : BitVec 32) (v94 : BitVec 32) (v99 : BitVec 32) (v104 : BitVec 32) (v109 : BitVec 32) (v114 : BitVec 32) (v119 : BitVec 32) (v124 : BitVec 32) (v129 : BitVec 32) (v134 : BitVec 32) (v139 : BitVec 32) (v144 : BitVec 32) (v149 : BitVec 32) (v158_0 : BitVec 32) (v166 : BitVec 32) (v171 : BitVec 32) (v176 : BitVec 32) (v181 : BitVec 32) (v186 : BitVec 32) (v191 : BitVec 32) (v196 : BitVec 32) (v201 : BitVec 32) (v206 : BitVec 32) (v211 : BitVec 32) (v216 : BitVec 32) (v221 : BitVec 32) (v226 : BitVec 32) (v231 : BitVec 32) (v236 : BitVec 32) (v241 : BitVec 32) (k0_t39 : Fin (k0_t39_loop i v66_0 v74 v79 v84 v89 v94 v99 v104 v109 v114 v119 v124 v129 v134 v139 v144 v149 v158_0 v166 v171 v176 v181 v186 v191 v196 v201 v206 v211 v216 v221 v226 v231 v236 v241).trips) (v526 : BitVec 32) (k0_hw62 : k0_chk62 i v66_0 v74 v79 v84 v89 v94 v99 v104 v109 v114 v119 v124 v129 v134 v139 v144 v149 v158_0 v166 v171 v176 v181 v186 v191 v196 v201 v206 v211 v216 v221 v226 v231 v236 v241 k0_t39 v526), ∀ (k0_h9 : k0_cond9 i v66_0 v74 v79 v84 v89 v94 v99 v104 v109 v114 v119 v124 v129 v134 v139 v144 v149 v158_0 v166 v171 v176 v181 v186 v191 v196 v201 v206 v211 v216 v221 v226 v231 v236 v241 k0_t39 = 1#1), ∀ a, (k0_off281 v526) a + S1x16.size a ≤ S32x512.size a := fun i v66_0 v74 v79 v84 v89 v94 v99 v104 v109 v114 v119 v124 v129 v134 v139 v144 v149 v158_0 v166 v171 v176 v181 v186 v191 v196 v201 v206 v211 v216 v221 v226 v231 v236 v241 k0_t39 v526 k0_hw62 k0_h9 => k0_hw62.2 k0_h9

def k0_off282 (k0_t57 : Fin k0_t57_loop.trips) : Fin 2 → Nat :=
  let c0_i32_149 : BitVec 32 := 0#32
  let c1_i32_150 : BitVec 32 := 1#32
  let arg14 : BitVec 32 := Scf.iv c0_i32_149 c1_i32_150 k0_t57
  let c16_i32_156 : BitVec 32 := 16#32
  let v342 : BitVec 32 := Scalar.muli arg14 c16_i32_156
  let c9_i32 : BitVec 32 := 9#32
  let v547 : BitVec 32 := Scalar.addi v342 c9_i32
  let v548 : Index := Scalar.indexCast v547
  let c0_223 : Index := 0#32
  ![v548.toNat, 0]
@[reducible] def k0_t67_loop : Scf.Loop 32 :=
  let c1_i32_224 : BitVec 32 := 1#32
  let c31_i32_225 : BitVec 32 := 31#32
  let v553 : BitVec 32 := Scalar.addi c1_i32_224 c31_i32_225
  let c1_i32_226 : BitVec 32 := 1#32
  ⟨c1_i32_224, v553, c1_i32_226⟩
def k0_off283 (k0_t57 : Fin k0_t57_loop.trips) (k0_t67 : Fin k0_t67_loop.trips) : Fin 2 → Nat :=
  let c0_i32_149 : BitVec 32 := 0#32
  let c1_i32_150 : BitVec 32 := 1#32
  let arg14 : BitVec 32 := Scf.iv c0_i32_149 c1_i32_150 k0_t57
  let c16_i32_156 : BitVec 32 := 16#32
  let v342 : BitVec 32 := Scalar.muli arg14 c16_i32_156
  let c9_i32 : BitVec 32 := 9#32
  let v547 : BitVec 32 := Scalar.addi v342 c9_i32
  let v684 : Index := Scalar.indexCast v547
  let c1_i32_224 : BitVec 32 := 1#32
  let c1_i32_226 : BitVec 32 := 1#32
  let arg15 : BitVec 32 := Scf.iv c1_i32_224 c1_i32_226 k0_t67
  let c16_i32_273 : BitVec 32 := 16#32
  let v683 : BitVec 32 := Scalar.muli arg15 c16_i32_273
  let v685 : Index := Scalar.indexCast v683
  ![v684.toNat, v685.toNat]
def k0_off284 (v546 : BitVec 32) (k0_t67 : Fin k0_t67_loop.trips) : Fin 2 → Nat :=
  let v692 : Index := Scalar.indexCast v546
  let c1_i32_224 : BitVec 32 := 1#32
  let c1_i32_226 : BitVec 32 := 1#32
  let arg15 : BitVec 32 := Scf.iv c1_i32_224 c1_i32_226 k0_t67
  let c1_i32_274 : BitVec 32 := 1#32
  let v690 : BitVec 32 := Scalar.subi arg15 c1_i32_274
  let c16_i32_275 : BitVec 32 := 16#32
  let v691 : BitVec 32 := Scalar.muli v690 c16_i32_275
  let v693 : Index := Scalar.indexCast v691
  ![v692.toNat, v693.toNat]

def k0_off285 (v546 : BitVec 32) : Fin 2 → Nat :=
  let v555 : Index := Scalar.indexCast v546
  let c496_228 : Index := 496#32
  ![v555.toNat, 496]

def k0_chk63 (i : grid0.Coords) (v66_0 : BitVec 32) (v74 : BitVec 32) (v79 : BitVec 32) (v84 : BitVec 32) (v89 : BitVec 32) (v94 : BitVec 32) (v99 : BitVec 32) (v104 : BitVec 32) (v109 : BitVec 32) (v114 : BitVec 32) (v119 : BitVec 32) (v124 : BitVec 32) (v129 : BitVec 32) (v134 : BitVec 32) (v139 : BitVec 32) (v144 : BitVec 32) (v149 : BitVec 32) (v158_0 : BitVec 32) (v166 : BitVec 32) (v171 : BitVec 32) (v176 : BitVec 32) (v181 : BitVec 32) (v186 : BitVec 32) (v191 : BitVec 32) (v196 : BitVec 32) (v201 : BitVec 32) (v206 : BitVec 32) (v211 : BitVec 32) (v216 : BitVec 32) (v221 : BitVec 32) (v226 : BitVec 32) (v231 : BitVec 32) (v236 : BitVec 32) (v241 : BitVec 32) (k0_t39 : Fin (k0_t39_loop i v66_0 v74 v79 v84 v89 v94 v99 v104 v109 v114 v119 v124 v129 v134 v139 v144 v149 v158_0 v166 v171 v176 v181 v186 v191 v196 v201 v206 v211 v216 v221 v226 v231 v236 v241).trips) (v546 : BitVec 32) : Prop :=
  (∀ k0_t67 : Fin k0_t67_loop.trips, ∀ (k0_h9 : k0_cond9 i v66_0 v74 v79 v84 v89 v94 v99 v104 v109 v114 v119 v124 v129 v134 v139 v144 v149 v158_0 v166 v171 v176 v181 v186 v191 v196 v201 v206 v211 v216 v221 v226 v231 v236 v241 k0_t39 = 1#1), ∀ a, (k0_off284 v546 k0_t67) a + S1x16.size a ≤ S32x512.size a) ∧
  (∀ (k0_h9 : k0_cond9 i v66_0 v74 v79 v84 v89 v94 v99 v104 v109 v114 v119 v124 v129 v134 v139 v144 v149 v158_0 v166 v171 v176 v181 v186 v191 v196 v201 v206 v211 v216 v221 v226 v231 v236 v241 k0_t39 = 1#1), ∀ a, (k0_off285 v546) a + S1x16.size a ≤ S32x512.size a)
theorem k0_off284_inb : ∀ (i : grid0.Coords) (v66_0 : BitVec 32) (v74 : BitVec 32) (v79 : BitVec 32) (v84 : BitVec 32) (v89 : BitVec 32) (v94 : BitVec 32) (v99 : BitVec 32) (v104 : BitVec 32) (v109 : BitVec 32) (v114 : BitVec 32) (v119 : BitVec 32) (v124 : BitVec 32) (v129 : BitVec 32) (v134 : BitVec 32) (v139 : BitVec 32) (v144 : BitVec 32) (v149 : BitVec 32) (v158_0 : BitVec 32) (v166 : BitVec 32) (v171 : BitVec 32) (v176 : BitVec 32) (v181 : BitVec 32) (v186 : BitVec 32) (v191 : BitVec 32) (v196 : BitVec 32) (v201 : BitVec 32) (v206 : BitVec 32) (v211 : BitVec 32) (v216 : BitVec 32) (v221 : BitVec 32) (v226 : BitVec 32) (v231 : BitVec 32) (v236 : BitVec 32) (v241 : BitVec 32) (k0_t39 : Fin (k0_t39_loop i v66_0 v74 v79 v84 v89 v94 v99 v104 v109 v114 v119 v124 v129 v134 v139 v144 v149 v158_0 v166 v171 v176 v181 v186 v191 v196 v201 v206 v211 v216 v221 v226 v231 v236 v241).trips) (v546 : BitVec 32) (k0_hw63 : k0_chk63 i v66_0 v74 v79 v84 v89 v94 v99 v104 v109 v114 v119 v124 v129 v134 v139 v144 v149 v158_0 v166 v171 v176 v181 v186 v191 v196 v201 v206 v211 v216 v221 v226 v231 v236 v241 k0_t39 v546) (k0_t67 : Fin k0_t67_loop.trips), ∀ (k0_h9 : k0_cond9 i v66_0 v74 v79 v84 v89 v94 v99 v104 v109 v114 v119 v124 v129 v134 v139 v144 v149 v158_0 v166 v171 v176 v181 v186 v191 v196 v201 v206 v211 v216 v221 v226 v231 v236 v241 k0_t39 = 1#1), ∀ a, (k0_off284 v546 k0_t67) a + S1x16.size a ≤ S32x512.size a := fun i v66_0 v74 v79 v84 v89 v94 v99 v104 v109 v114 v119 v124 v129 v134 v139 v144 v149 v158_0 v166 v171 v176 v181 v186 v191 v196 v201 v206 v211 v216 v221 v226 v231 v236 v241 k0_t39 v546 k0_hw63 k0_t67 k0_h9 => k0_hw63.1 k0_t67 k0_h9
theorem k0_off285_inb : ∀ (i : grid0.Coords) (v66_0 : BitVec 32) (v74 : BitVec 32) (v79 : BitVec 32) (v84 : BitVec 32) (v89 : BitVec 32) (v94 : BitVec 32) (v99 : BitVec 32) (v104 : BitVec 32) (v109 : BitVec 32) (v114 : BitVec 32) (v119 : BitVec 32) (v124 : BitVec 32) (v129 : BitVec 32) (v134 : BitVec 32) (v139 : BitVec 32) (v144 : BitVec 32) (v149 : BitVec 32) (v158_0 : BitVec 32) (v166 : BitVec 32) (v171 : BitVec 32) (v176 : BitVec 32) (v181 : BitVec 32) (v186 : BitVec 32) (v191 : BitVec 32) (v196 : BitVec 32) (v201 : BitVec 32) (v206 : BitVec 32) (v211 : BitVec 32) (v216 : BitVec 32) (v221 : BitVec 32) (v226 : BitVec 32) (v231 : BitVec 32) (v236 : BitVec 32) (v241 : BitVec 32) (k0_t39 : Fin (k0_t39_loop i v66_0 v74 v79 v84 v89 v94 v99 v104 v109 v114 v119 v124 v129 v134 v139 v144 v149 v158_0 v166 v171 v176 v181 v186 v191 v196 v201 v206 v211 v216 v221 v226 v231 v236 v241).trips) (v546 : BitVec 32) (k0_hw63 : k0_chk63 i v66_0 v74 v79 v84 v89 v94 v99 v104 v109 v114 v119 v124 v129 v134 v139 v144 v149 v158_0 v166 v171 v176 v181 v186 v191 v196 v201 v206 v211 v216 v221 v226 v231 v236 v241 k0_t39 v546), ∀ (k0_h9 : k0_cond9 i v66_0 v74 v79 v84 v89 v94 v99 v104 v109 v114 v119 v124 v129 v134 v139 v144 v149 v158_0 v166 v171 v176 v181 v186 v191 v196 v201 v206 v211 v216 v221 v226 v231 v236 v241 k0_t39 = 1#1), ∀ a, (k0_off285 v546) a + S1x16.size a ≤ S32x512.size a := fun i v66_0 v74 v79 v84 v89 v94 v99 v104 v109 v114 v119 v124 v129 v134 v139 v144 v149 v158_0 v166 v171 v176 v181 v186 v191 v196 v201 v206 v211 v216 v221 v226 v231 v236 v241 k0_t39 v546 k0_hw63 k0_h9 => k0_hw63.2 k0_h9

def k0_off286 (k0_t57 : Fin k0_t57_loop.trips) : Fin 2 → Nat :=
  let c0_i32_149 : BitVec 32 := 0#32
  let c1_i32_150 : BitVec 32 := 1#32
  let arg14 : BitVec 32 := Scf.iv c0_i32_149 c1_i32_150 k0_t57
  let c16_i32_156 : BitVec 32 := 16#32
  let v342 : BitVec 32 := Scalar.muli arg14 c16_i32_156
  let c10_i32_230 : BitVec 32 := 10#32
  let v567 : BitVec 32 := Scalar.addi v342 c10_i32_230
  let v568 : Index := Scalar.indexCast v567
  let c0_231 : Index := 0#32
  ![v568.toNat, 0]
@[reducible] def k0_t68_loop : Scf.Loop 32 :=
  let c1_i32_232 : BitVec 32 := 1#32
  let c31_i32_233 : BitVec 32 := 31#32
  let v573 : BitVec 32 := Scalar.addi c1_i32_232 c31_i32_233
  let c1_i32_234 : BitVec 32 := 1#32
  ⟨c1_i32_232, v573, c1_i32_234⟩
def k0_off287 (k0_t57 : Fin k0_t57_loop.trips) (k0_t68 : Fin k0_t68_loop.trips) : Fin 2 → Nat :=
  let c0_i32_149 : BitVec 32 := 0#32
  let c1_i32_150 : BitVec 32 := 1#32
  let arg14 : BitVec 32 := Scf.iv c0_i32_149 c1_i32_150 k0_t57
  let c16_i32_156 : BitVec 32 := 16#32
  let v342 : BitVec 32 := Scalar.muli arg14 c16_i32_156
  let c10_i32_230 : BitVec 32 := 10#32
  let v567 : BitVec 32 := Scalar.addi v342 c10_i32_230
  let v684 : Index := Scalar.indexCast v567
  let c1_i32_232 : BitVec 32 := 1#32
  let c1_i32_234 : BitVec 32 := 1#32
  let arg15 : BitVec 32 := Scf.iv c1_i32_232 c1_i32_234 k0_t68
  let c16_i32_273 : BitVec 32 := 16#32
  let v683 : BitVec 32 := Scalar.muli arg15 c16_i32_273
  let v685 : Index := Scalar.indexCast v683
  ![v684.toNat, v685.toNat]
def k0_off288 (v566 : BitVec 32) (k0_t68 : Fin k0_t68_loop.trips) : Fin 2 → Nat :=
  let v692 : Index := Scalar.indexCast v566
  let c1_i32_232 : BitVec 32 := 1#32
  let c1_i32_234 : BitVec 32 := 1#32
  let arg15 : BitVec 32 := Scf.iv c1_i32_232 c1_i32_234 k0_t68
  let c1_i32_274 : BitVec 32 := 1#32
  let v690 : BitVec 32 := Scalar.subi arg15 c1_i32_274
  let c16_i32_275 : BitVec 32 := 16#32
  let v691 : BitVec 32 := Scalar.muli v690 c16_i32_275
  let v693 : Index := Scalar.indexCast v691
  ![v692.toNat, v693.toNat]

def k0_off289 (v566 : BitVec 32) : Fin 2 → Nat :=
  let v575 : Index := Scalar.indexCast v566
  let c496_236 : Index := 496#32
  ![v575.toNat, 496]

def k0_chk64 (i : grid0.Coords) (v66_0 : BitVec 32) (v74 : BitVec 32) (v79 : BitVec 32) (v84 : BitVec 32) (v89 : BitVec 32) (v94 : BitVec 32) (v99 : BitVec 32) (v104 : BitVec 32) (v109 : BitVec 32) (v114 : BitVec 32) (v119 : BitVec 32) (v124 : BitVec 32) (v129 : BitVec 32) (v134 : BitVec 32) (v139 : BitVec 32) (v144 : BitVec 32) (v149 : BitVec 32) (v158_0 : BitVec 32) (v166 : BitVec 32) (v171 : BitVec 32) (v176 : BitVec 32) (v181 : BitVec 32) (v186 : BitVec 32) (v191 : BitVec 32) (v196 : BitVec 32) (v201 : BitVec 32) (v206 : BitVec 32) (v211 : BitVec 32) (v216 : BitVec 32) (v221 : BitVec 32) (v226 : BitVec 32) (v231 : BitVec 32) (v236 : BitVec 32) (v241 : BitVec 32) (k0_t39 : Fin (k0_t39_loop i v66_0 v74 v79 v84 v89 v94 v99 v104 v109 v114 v119 v124 v129 v134 v139 v144 v149 v158_0 v166 v171 v176 v181 v186 v191 v196 v201 v206 v211 v216 v221 v226 v231 v236 v241).trips) (v566 : BitVec 32) : Prop :=
  (∀ k0_t68 : Fin k0_t68_loop.trips, ∀ (k0_h9 : k0_cond9 i v66_0 v74 v79 v84 v89 v94 v99 v104 v109 v114 v119 v124 v129 v134 v139 v144 v149 v158_0 v166 v171 v176 v181 v186 v191 v196 v201 v206 v211 v216 v221 v226 v231 v236 v241 k0_t39 = 1#1), ∀ a, (k0_off288 v566 k0_t68) a + S1x16.size a ≤ S32x512.size a) ∧
  (∀ (k0_h9 : k0_cond9 i v66_0 v74 v79 v84 v89 v94 v99 v104 v109 v114 v119 v124 v129 v134 v139 v144 v149 v158_0 v166 v171 v176 v181 v186 v191 v196 v201 v206 v211 v216 v221 v226 v231 v236 v241 k0_t39 = 1#1), ∀ a, (k0_off289 v566) a + S1x16.size a ≤ S32x512.size a)
theorem k0_off288_inb : ∀ (i : grid0.Coords) (v66_0 : BitVec 32) (v74 : BitVec 32) (v79 : BitVec 32) (v84 : BitVec 32) (v89 : BitVec 32) (v94 : BitVec 32) (v99 : BitVec 32) (v104 : BitVec 32) (v109 : BitVec 32) (v114 : BitVec 32) (v119 : BitVec 32) (v124 : BitVec 32) (v129 : BitVec 32) (v134 : BitVec 32) (v139 : BitVec 32) (v144 : BitVec 32) (v149 : BitVec 32) (v158_0 : BitVec 32) (v166 : BitVec 32) (v171 : BitVec 32) (v176 : BitVec 32) (v181 : BitVec 32) (v186 : BitVec 32) (v191 : BitVec 32) (v196 : BitVec 32) (v201 : BitVec 32) (v206 : BitVec 32) (v211 : BitVec 32) (v216 : BitVec 32) (v221 : BitVec 32) (v226 : BitVec 32) (v231 : BitVec 32) (v236 : BitVec 32) (v241 : BitVec 32) (k0_t39 : Fin (k0_t39_loop i v66_0 v74 v79 v84 v89 v94 v99 v104 v109 v114 v119 v124 v129 v134 v139 v144 v149 v158_0 v166 v171 v176 v181 v186 v191 v196 v201 v206 v211 v216 v221 v226 v231 v236 v241).trips) (v566 : BitVec 32) (k0_hw64 : k0_chk64 i v66_0 v74 v79 v84 v89 v94 v99 v104 v109 v114 v119 v124 v129 v134 v139 v144 v149 v158_0 v166 v171 v176 v181 v186 v191 v196 v201 v206 v211 v216 v221 v226 v231 v236 v241 k0_t39 v566) (k0_t68 : Fin k0_t68_loop.trips), ∀ (k0_h9 : k0_cond9 i v66_0 v74 v79 v84 v89 v94 v99 v104 v109 v114 v119 v124 v129 v134 v139 v144 v149 v158_0 v166 v171 v176 v181 v186 v191 v196 v201 v206 v211 v216 v221 v226 v231 v236 v241 k0_t39 = 1#1), ∀ a, (k0_off288 v566 k0_t68) a + S1x16.size a ≤ S32x512.size a := fun i v66_0 v74 v79 v84 v89 v94 v99 v104 v109 v114 v119 v124 v129 v134 v139 v144 v149 v158_0 v166 v171 v176 v181 v186 v191 v196 v201 v206 v211 v216 v221 v226 v231 v236 v241 k0_t39 v566 k0_hw64 k0_t68 k0_h9 => k0_hw64.1 k0_t68 k0_h9
theorem k0_off289_inb : ∀ (i : grid0.Coords) (v66_0 : BitVec 32) (v74 : BitVec 32) (v79 : BitVec 32) (v84 : BitVec 32) (v89 : BitVec 32) (v94 : BitVec 32) (v99 : BitVec 32) (v104 : BitVec 32) (v109 : BitVec 32) (v114 : BitVec 32) (v119 : BitVec 32) (v124 : BitVec 32) (v129 : BitVec 32) (v134 : BitVec 32) (v139 : BitVec 32) (v144 : BitVec 32) (v149 : BitVec 32) (v158_0 : BitVec 32) (v166 : BitVec 32) (v171 : BitVec 32) (v176 : BitVec 32) (v181 : BitVec 32) (v186 : BitVec 32) (v191 : BitVec 32) (v196 : BitVec 32) (v201 : BitVec 32) (v206 : BitVec 32) (v211 : BitVec 32) (v216 : BitVec 32) (v221 : BitVec 32) (v226 : BitVec 32) (v231 : BitVec 32) (v236 : BitVec 32) (v241 : BitVec 32) (k0_t39 : Fin (k0_t39_loop i v66_0 v74 v79 v84 v89 v94 v99 v104 v109 v114 v119 v124 v129 v134 v139 v144 v149 v158_0 v166 v171 v176 v181 v186 v191 v196 v201 v206 v211 v216 v221 v226 v231 v236 v241).trips) (v566 : BitVec 32) (k0_hw64 : k0_chk64 i v66_0 v74 v79 v84 v89 v94 v99 v104 v109 v114 v119 v124 v129 v134 v139 v144 v149 v158_0 v166 v171 v176 v181 v186 v191 v196 v201 v206 v211 v216 v221 v226 v231 v236 v241 k0_t39 v566), ∀ (k0_h9 : k0_cond9 i v66_0 v74 v79 v84 v89 v94 v99 v104 v109 v114 v119 v124 v129 v134 v139 v144 v149 v158_0 v166 v171 v176 v181 v186 v191 v196 v201 v206 v211 v216 v221 v226 v231 v236 v241 k0_t39 = 1#1), ∀ a, (k0_off289 v566) a + S1x16.size a ≤ S32x512.size a := fun i v66_0 v74 v79 v84 v89 v94 v99 v104 v109 v114 v119 v124 v129 v134 v139 v144 v149 v158_0 v166 v171 v176 v181 v186 v191 v196 v201 v206 v211 v216 v221 v226 v231 v236 v241 k0_t39 v566 k0_hw64 k0_h9 => k0_hw64.2 k0_h9

def k0_off290 (k0_t57 : Fin k0_t57_loop.trips) : Fin 2 → Nat :=
  let c0_i32_149 : BitVec 32 := 0#32
  let c1_i32_150 : BitVec 32 := 1#32
  let arg14 : BitVec 32 := Scf.iv c0_i32_149 c1_i32_150 k0_t57
  let c16_i32_156 : BitVec 32 := 16#32
  let v342 : BitVec 32 := Scalar.muli arg14 c16_i32_156
  let c11_i32 : BitVec 32 := 11#32
  let v587 : BitVec 32 := Scalar.addi v342 c11_i32
  let v588 : Index := Scalar.indexCast v587
  let c0_238 : Index := 0#32
  ![v588.toNat, 0]
@[reducible] def k0_t69_loop : Scf.Loop 32 :=
  let c1_i32_239 : BitVec 32 := 1#32
  let c31_i32_240 : BitVec 32 := 31#32
  let v593 : BitVec 32 := Scalar.addi c1_i32_239 c31_i32_240
  let c1_i32_241 : BitVec 32 := 1#32
  ⟨c1_i32_239, v593, c1_i32_241⟩
def k0_off291 (k0_t57 : Fin k0_t57_loop.trips) (k0_t69 : Fin k0_t69_loop.trips) : Fin 2 → Nat :=
  let c0_i32_149 : BitVec 32 := 0#32
  let c1_i32_150 : BitVec 32 := 1#32
  let arg14 : BitVec 32 := Scf.iv c0_i32_149 c1_i32_150 k0_t57
  let c16_i32_156 : BitVec 32 := 16#32
  let v342 : BitVec 32 := Scalar.muli arg14 c16_i32_156
  let c11_i32 : BitVec 32 := 11#32
  let v587 : BitVec 32 := Scalar.addi v342 c11_i32
  let v684 : Index := Scalar.indexCast v587
  let c1_i32_239 : BitVec 32 := 1#32
  let c1_i32_241 : BitVec 32 := 1#32
  let arg15 : BitVec 32 := Scf.iv c1_i32_239 c1_i32_241 k0_t69
  let c16_i32_273 : BitVec 32 := 16#32
  let v683 : BitVec 32 := Scalar.muli arg15 c16_i32_273
  let v685 : Index := Scalar.indexCast v683
  ![v684.toNat, v685.toNat]
def k0_off292 (v586 : BitVec 32) (k0_t69 : Fin k0_t69_loop.trips) : Fin 2 → Nat :=
  let v692 : Index := Scalar.indexCast v586
  let c1_i32_239 : BitVec 32 := 1#32
  let c1_i32_241 : BitVec 32 := 1#32
  let arg15 : BitVec 32 := Scf.iv c1_i32_239 c1_i32_241 k0_t69
  let c1_i32_274 : BitVec 32 := 1#32
  let v690 : BitVec 32 := Scalar.subi arg15 c1_i32_274
  let c16_i32_275 : BitVec 32 := 16#32
  let v691 : BitVec 32 := Scalar.muli v690 c16_i32_275
  let v693 : Index := Scalar.indexCast v691
  ![v692.toNat, v693.toNat]

def k0_off293 (v586 : BitVec 32) : Fin 2 → Nat :=
  let v595 : Index := Scalar.indexCast v586
  let c496_243 : Index := 496#32
  ![v595.toNat, 496]

def k0_chk65 (i : grid0.Coords) (v66_0 : BitVec 32) (v74 : BitVec 32) (v79 : BitVec 32) (v84 : BitVec 32) (v89 : BitVec 32) (v94 : BitVec 32) (v99 : BitVec 32) (v104 : BitVec 32) (v109 : BitVec 32) (v114 : BitVec 32) (v119 : BitVec 32) (v124 : BitVec 32) (v129 : BitVec 32) (v134 : BitVec 32) (v139 : BitVec 32) (v144 : BitVec 32) (v149 : BitVec 32) (v158_0 : BitVec 32) (v166 : BitVec 32) (v171 : BitVec 32) (v176 : BitVec 32) (v181 : BitVec 32) (v186 : BitVec 32) (v191 : BitVec 32) (v196 : BitVec 32) (v201 : BitVec 32) (v206 : BitVec 32) (v211 : BitVec 32) (v216 : BitVec 32) (v221 : BitVec 32) (v226 : BitVec 32) (v231 : BitVec 32) (v236 : BitVec 32) (v241 : BitVec 32) (k0_t39 : Fin (k0_t39_loop i v66_0 v74 v79 v84 v89 v94 v99 v104 v109 v114 v119 v124 v129 v134 v139 v144 v149 v158_0 v166 v171 v176 v181 v186 v191 v196 v201 v206 v211 v216 v221 v226 v231 v236 v241).trips) (v586 : BitVec 32) : Prop :=
  (∀ k0_t69 : Fin k0_t69_loop.trips, ∀ (k0_h9 : k0_cond9 i v66_0 v74 v79 v84 v89 v94 v99 v104 v109 v114 v119 v124 v129 v134 v139 v144 v149 v158_0 v166 v171 v176 v181 v186 v191 v196 v201 v206 v211 v216 v221 v226 v231 v236 v241 k0_t39 = 1#1), ∀ a, (k0_off292 v586 k0_t69) a + S1x16.size a ≤ S32x512.size a) ∧
  (∀ (k0_h9 : k0_cond9 i v66_0 v74 v79 v84 v89 v94 v99 v104 v109 v114 v119 v124 v129 v134 v139 v144 v149 v158_0 v166 v171 v176 v181 v186 v191 v196 v201 v206 v211 v216 v221 v226 v231 v236 v241 k0_t39 = 1#1), ∀ a, (k0_off293 v586) a + S1x16.size a ≤ S32x512.size a)
theorem k0_off292_inb : ∀ (i : grid0.Coords) (v66_0 : BitVec 32) (v74 : BitVec 32) (v79 : BitVec 32) (v84 : BitVec 32) (v89 : BitVec 32) (v94 : BitVec 32) (v99 : BitVec 32) (v104 : BitVec 32) (v109 : BitVec 32) (v114 : BitVec 32) (v119 : BitVec 32) (v124 : BitVec 32) (v129 : BitVec 32) (v134 : BitVec 32) (v139 : BitVec 32) (v144 : BitVec 32) (v149 : BitVec 32) (v158_0 : BitVec 32) (v166 : BitVec 32) (v171 : BitVec 32) (v176 : BitVec 32) (v181 : BitVec 32) (v186 : BitVec 32) (v191 : BitVec 32) (v196 : BitVec 32) (v201 : BitVec 32) (v206 : BitVec 32) (v211 : BitVec 32) (v216 : BitVec 32) (v221 : BitVec 32) (v226 : BitVec 32) (v231 : BitVec 32) (v236 : BitVec 32) (v241 : BitVec 32) (k0_t39 : Fin (k0_t39_loop i v66_0 v74 v79 v84 v89 v94 v99 v104 v109 v114 v119 v124 v129 v134 v139 v144 v149 v158_0 v166 v171 v176 v181 v186 v191 v196 v201 v206 v211 v216 v221 v226 v231 v236 v241).trips) (v586 : BitVec 32) (k0_hw65 : k0_chk65 i v66_0 v74 v79 v84 v89 v94 v99 v104 v109 v114 v119 v124 v129 v134 v139 v144 v149 v158_0 v166 v171 v176 v181 v186 v191 v196 v201 v206 v211 v216 v221 v226 v231 v236 v241 k0_t39 v586) (k0_t69 : Fin k0_t69_loop.trips), ∀ (k0_h9 : k0_cond9 i v66_0 v74 v79 v84 v89 v94 v99 v104 v109 v114 v119 v124 v129 v134 v139 v144 v149 v158_0 v166 v171 v176 v181 v186 v191 v196 v201 v206 v211 v216 v221 v226 v231 v236 v241 k0_t39 = 1#1), ∀ a, (k0_off292 v586 k0_t69) a + S1x16.size a ≤ S32x512.size a := fun i v66_0 v74 v79 v84 v89 v94 v99 v104 v109 v114 v119 v124 v129 v134 v139 v144 v149 v158_0 v166 v171 v176 v181 v186 v191 v196 v201 v206 v211 v216 v221 v226 v231 v236 v241 k0_t39 v586 k0_hw65 k0_t69 k0_h9 => k0_hw65.1 k0_t69 k0_h9
theorem k0_off293_inb : ∀ (i : grid0.Coords) (v66_0 : BitVec 32) (v74 : BitVec 32) (v79 : BitVec 32) (v84 : BitVec 32) (v89 : BitVec 32) (v94 : BitVec 32) (v99 : BitVec 32) (v104 : BitVec 32) (v109 : BitVec 32) (v114 : BitVec 32) (v119 : BitVec 32) (v124 : BitVec 32) (v129 : BitVec 32) (v134 : BitVec 32) (v139 : BitVec 32) (v144 : BitVec 32) (v149 : BitVec 32) (v158_0 : BitVec 32) (v166 : BitVec 32) (v171 : BitVec 32) (v176 : BitVec 32) (v181 : BitVec 32) (v186 : BitVec 32) (v191 : BitVec 32) (v196 : BitVec 32) (v201 : BitVec 32) (v206 : BitVec 32) (v211 : BitVec 32) (v216 : BitVec 32) (v221 : BitVec 32) (v226 : BitVec 32) (v231 : BitVec 32) (v236 : BitVec 32) (v241 : BitVec 32) (k0_t39 : Fin (k0_t39_loop i v66_0 v74 v79 v84 v89 v94 v99 v104 v109 v114 v119 v124 v129 v134 v139 v144 v149 v158_0 v166 v171 v176 v181 v186 v191 v196 v201 v206 v211 v216 v221 v226 v231 v236 v241).trips) (v586 : BitVec 32) (k0_hw65 : k0_chk65 i v66_0 v74 v79 v84 v89 v94 v99 v104 v109 v114 v119 v124 v129 v134 v139 v144 v149 v158_0 v166 v171 v176 v181 v186 v191 v196 v201 v206 v211 v216 v221 v226 v231 v236 v241 k0_t39 v586), ∀ (k0_h9 : k0_cond9 i v66_0 v74 v79 v84 v89 v94 v99 v104 v109 v114 v119 v124 v129 v134 v139 v144 v149 v158_0 v166 v171 v176 v181 v186 v191 v196 v201 v206 v211 v216 v221 v226 v231 v236 v241 k0_t39 = 1#1), ∀ a, (k0_off293 v586) a + S1x16.size a ≤ S32x512.size a := fun i v66_0 v74 v79 v84 v89 v94 v99 v104 v109 v114 v119 v124 v129 v134 v139 v144 v149 v158_0 v166 v171 v176 v181 v186 v191 v196 v201 v206 v211 v216 v221 v226 v231 v236 v241 k0_t39 v586 k0_hw65 k0_h9 => k0_hw65.2 k0_h9

def k0_off294 (k0_t57 : Fin k0_t57_loop.trips) : Fin 2 → Nat :=
  let c0_i32_149 : BitVec 32 := 0#32
  let c1_i32_150 : BitVec 32 := 1#32
  let arg14 : BitVec 32 := Scf.iv c0_i32_149 c1_i32_150 k0_t57
  let c16_i32_156 : BitVec 32 := 16#32
  let v342 : BitVec 32 := Scalar.muli arg14 c16_i32_156
  let c12_i32 : BitVec 32 := 12#32
  let v607 : BitVec 32 := Scalar.addi v342 c12_i32
  let v608 : Index := Scalar.indexCast v607
  let c0_245 : Index := 0#32
  ![v608.toNat, 0]
@[reducible] def k0_t70_loop : Scf.Loop 32 :=
  let c1_i32_246 : BitVec 32 := 1#32
  let c31_i32_247 : BitVec 32 := 31#32
  let v613 : BitVec 32 := Scalar.addi c1_i32_246 c31_i32_247
  let c1_i32_248 : BitVec 32 := 1#32
  ⟨c1_i32_246, v613, c1_i32_248⟩
def k0_off295 (k0_t57 : Fin k0_t57_loop.trips) (k0_t70 : Fin k0_t70_loop.trips) : Fin 2 → Nat :=
  let c0_i32_149 : BitVec 32 := 0#32
  let c1_i32_150 : BitVec 32 := 1#32
  let arg14 : BitVec 32 := Scf.iv c0_i32_149 c1_i32_150 k0_t57
  let c16_i32_156 : BitVec 32 := 16#32
  let v342 : BitVec 32 := Scalar.muli arg14 c16_i32_156
  let c12_i32 : BitVec 32 := 12#32
  let v607 : BitVec 32 := Scalar.addi v342 c12_i32
  let v684 : Index := Scalar.indexCast v607
  let c1_i32_246 : BitVec 32 := 1#32
  let c1_i32_248 : BitVec 32 := 1#32
  let arg15 : BitVec 32 := Scf.iv c1_i32_246 c1_i32_248 k0_t70
  let c16_i32_273 : BitVec 32 := 16#32
  let v683 : BitVec 32 := Scalar.muli arg15 c16_i32_273
  let v685 : Index := Scalar.indexCast v683
  ![v684.toNat, v685.toNat]
def k0_off296 (v606 : BitVec 32) (k0_t70 : Fin k0_t70_loop.trips) : Fin 2 → Nat :=
  let v692 : Index := Scalar.indexCast v606
  let c1_i32_246 : BitVec 32 := 1#32
  let c1_i32_248 : BitVec 32 := 1#32
  let arg15 : BitVec 32 := Scf.iv c1_i32_246 c1_i32_248 k0_t70
  let c1_i32_274 : BitVec 32 := 1#32
  let v690 : BitVec 32 := Scalar.subi arg15 c1_i32_274
  let c16_i32_275 : BitVec 32 := 16#32
  let v691 : BitVec 32 := Scalar.muli v690 c16_i32_275
  let v693 : Index := Scalar.indexCast v691
  ![v692.toNat, v693.toNat]

def k0_off297 (v606 : BitVec 32) : Fin 2 → Nat :=
  let v615 : Index := Scalar.indexCast v606
  let c496_250 : Index := 496#32
  ![v615.toNat, 496]

def k0_chk66 (i : grid0.Coords) (v66_0 : BitVec 32) (v74 : BitVec 32) (v79 : BitVec 32) (v84 : BitVec 32) (v89 : BitVec 32) (v94 : BitVec 32) (v99 : BitVec 32) (v104 : BitVec 32) (v109 : BitVec 32) (v114 : BitVec 32) (v119 : BitVec 32) (v124 : BitVec 32) (v129 : BitVec 32) (v134 : BitVec 32) (v139 : BitVec 32) (v144 : BitVec 32) (v149 : BitVec 32) (v158_0 : BitVec 32) (v166 : BitVec 32) (v171 : BitVec 32) (v176 : BitVec 32) (v181 : BitVec 32) (v186 : BitVec 32) (v191 : BitVec 32) (v196 : BitVec 32) (v201 : BitVec 32) (v206 : BitVec 32) (v211 : BitVec 32) (v216 : BitVec 32) (v221 : BitVec 32) (v226 : BitVec 32) (v231 : BitVec 32) (v236 : BitVec 32) (v241 : BitVec 32) (k0_t39 : Fin (k0_t39_loop i v66_0 v74 v79 v84 v89 v94 v99 v104 v109 v114 v119 v124 v129 v134 v139 v144 v149 v158_0 v166 v171 v176 v181 v186 v191 v196 v201 v206 v211 v216 v221 v226 v231 v236 v241).trips) (v606 : BitVec 32) : Prop :=
  (∀ k0_t70 : Fin k0_t70_loop.trips, ∀ (k0_h9 : k0_cond9 i v66_0 v74 v79 v84 v89 v94 v99 v104 v109 v114 v119 v124 v129 v134 v139 v144 v149 v158_0 v166 v171 v176 v181 v186 v191 v196 v201 v206 v211 v216 v221 v226 v231 v236 v241 k0_t39 = 1#1), ∀ a, (k0_off296 v606 k0_t70) a + S1x16.size a ≤ S32x512.size a) ∧
  (∀ (k0_h9 : k0_cond9 i v66_0 v74 v79 v84 v89 v94 v99 v104 v109 v114 v119 v124 v129 v134 v139 v144 v149 v158_0 v166 v171 v176 v181 v186 v191 v196 v201 v206 v211 v216 v221 v226 v231 v236 v241 k0_t39 = 1#1), ∀ a, (k0_off297 v606) a + S1x16.size a ≤ S32x512.size a)
theorem k0_off296_inb : ∀ (i : grid0.Coords) (v66_0 : BitVec 32) (v74 : BitVec 32) (v79 : BitVec 32) (v84 : BitVec 32) (v89 : BitVec 32) (v94 : BitVec 32) (v99 : BitVec 32) (v104 : BitVec 32) (v109 : BitVec 32) (v114 : BitVec 32) (v119 : BitVec 32) (v124 : BitVec 32) (v129 : BitVec 32) (v134 : BitVec 32) (v139 : BitVec 32) (v144 : BitVec 32) (v149 : BitVec 32) (v158_0 : BitVec 32) (v166 : BitVec 32) (v171 : BitVec 32) (v176 : BitVec 32) (v181 : BitVec 32) (v186 : BitVec 32) (v191 : BitVec 32) (v196 : BitVec 32) (v201 : BitVec 32) (v206 : BitVec 32) (v211 : BitVec 32) (v216 : BitVec 32) (v221 : BitVec 32) (v226 : BitVec 32) (v231 : BitVec 32) (v236 : BitVec 32) (v241 : BitVec 32) (k0_t39 : Fin (k0_t39_loop i v66_0 v74 v79 v84 v89 v94 v99 v104 v109 v114 v119 v124 v129 v134 v139 v144 v149 v158_0 v166 v171 v176 v181 v186 v191 v196 v201 v206 v211 v216 v221 v226 v231 v236 v241).trips) (v606 : BitVec 32) (k0_hw66 : k0_chk66 i v66_0 v74 v79 v84 v89 v94 v99 v104 v109 v114 v119 v124 v129 v134 v139 v144 v149 v158_0 v166 v171 v176 v181 v186 v191 v196 v201 v206 v211 v216 v221 v226 v231 v236 v241 k0_t39 v606) (k0_t70 : Fin k0_t70_loop.trips), ∀ (k0_h9 : k0_cond9 i v66_0 v74 v79 v84 v89 v94 v99 v104 v109 v114 v119 v124 v129 v134 v139 v144 v149 v158_0 v166 v171 v176 v181 v186 v191 v196 v201 v206 v211 v216 v221 v226 v231 v236 v241 k0_t39 = 1#1), ∀ a, (k0_off296 v606 k0_t70) a + S1x16.size a ≤ S32x512.size a := fun i v66_0 v74 v79 v84 v89 v94 v99 v104 v109 v114 v119 v124 v129 v134 v139 v144 v149 v158_0 v166 v171 v176 v181 v186 v191 v196 v201 v206 v211 v216 v221 v226 v231 v236 v241 k0_t39 v606 k0_hw66 k0_t70 k0_h9 => k0_hw66.1 k0_t70 k0_h9
theorem k0_off297_inb : ∀ (i : grid0.Coords) (v66_0 : BitVec 32) (v74 : BitVec 32) (v79 : BitVec 32) (v84 : BitVec 32) (v89 : BitVec 32) (v94 : BitVec 32) (v99 : BitVec 32) (v104 : BitVec 32) (v109 : BitVec 32) (v114 : BitVec 32) (v119 : BitVec 32) (v124 : BitVec 32) (v129 : BitVec 32) (v134 : BitVec 32) (v139 : BitVec 32) (v144 : BitVec 32) (v149 : BitVec 32) (v158_0 : BitVec 32) (v166 : BitVec 32) (v171 : BitVec 32) (v176 : BitVec 32) (v181 : BitVec 32) (v186 : BitVec 32) (v191 : BitVec 32) (v196 : BitVec 32) (v201 : BitVec 32) (v206 : BitVec 32) (v211 : BitVec 32) (v216 : BitVec 32) (v221 : BitVec 32) (v226 : BitVec 32) (v231 : BitVec 32) (v236 : BitVec 32) (v241 : BitVec 32) (k0_t39 : Fin (k0_t39_loop i v66_0 v74 v79 v84 v89 v94 v99 v104 v109 v114 v119 v124 v129 v134 v139 v144 v149 v158_0 v166 v171 v176 v181 v186 v191 v196 v201 v206 v211 v216 v221 v226 v231 v236 v241).trips) (v606 : BitVec 32) (k0_hw66 : k0_chk66 i v66_0 v74 v79 v84 v89 v94 v99 v104 v109 v114 v119 v124 v129 v134 v139 v144 v149 v158_0 v166 v171 v176 v181 v186 v191 v196 v201 v206 v211 v216 v221 v226 v231 v236 v241 k0_t39 v606), ∀ (k0_h9 : k0_cond9 i v66_0 v74 v79 v84 v89 v94 v99 v104 v109 v114 v119 v124 v129 v134 v139 v144 v149 v158_0 v166 v171 v176 v181 v186 v191 v196 v201 v206 v211 v216 v221 v226 v231 v236 v241 k0_t39 = 1#1), ∀ a, (k0_off297 v606) a + S1x16.size a ≤ S32x512.size a := fun i v66_0 v74 v79 v84 v89 v94 v99 v104 v109 v114 v119 v124 v129 v134 v139 v144 v149 v158_0 v166 v171 v176 v181 v186 v191 v196 v201 v206 v211 v216 v221 v226 v231 v236 v241 k0_t39 v606 k0_hw66 k0_h9 => k0_hw66.2 k0_h9

def k0_off298 (k0_t57 : Fin k0_t57_loop.trips) : Fin 2 → Nat :=
  let c0_i32_149 : BitVec 32 := 0#32
  let c1_i32_150 : BitVec 32 := 1#32
  let arg14 : BitVec 32 := Scf.iv c0_i32_149 c1_i32_150 k0_t57
  let c16_i32_156 : BitVec 32 := 16#32
  let v342 : BitVec 32 := Scalar.muli arg14 c16_i32_156
  let c13_i32 : BitVec 32 := 13#32
  let v627 : BitVec 32 := Scalar.addi v342 c13_i32
  let v628 : Index := Scalar.indexCast v627
  let c0_252 : Index := 0#32
  ![v628.toNat, 0]
@[reducible] def k0_t71_loop : Scf.Loop 32 :=
  let c1_i32_253 : BitVec 32 := 1#32
  let c31_i32_254 : BitVec 32 := 31#32
  let v633 : BitVec 32 := Scalar.addi c1_i32_253 c31_i32_254
  let c1_i32_255 : BitVec 32 := 1#32
  ⟨c1_i32_253, v633, c1_i32_255⟩
def k0_off299 (k0_t57 : Fin k0_t57_loop.trips) (k0_t71 : Fin k0_t71_loop.trips) : Fin 2 → Nat :=
  let c0_i32_149 : BitVec 32 := 0#32
  let c1_i32_150 : BitVec 32 := 1#32
  let arg14 : BitVec 32 := Scf.iv c0_i32_149 c1_i32_150 k0_t57
  let c16_i32_156 : BitVec 32 := 16#32
  let v342 : BitVec 32 := Scalar.muli arg14 c16_i32_156
  let c13_i32 : BitVec 32 := 13#32
  let v627 : BitVec 32 := Scalar.addi v342 c13_i32
  let v684 : Index := Scalar.indexCast v627
  let c1_i32_253 : BitVec 32 := 1#32
  let c1_i32_255 : BitVec 32 := 1#32
  let arg15 : BitVec 32 := Scf.iv c1_i32_253 c1_i32_255 k0_t71
  let c16_i32_273 : BitVec 32 := 16#32
  let v683 : BitVec 32 := Scalar.muli arg15 c16_i32_273
  let v685 : Index := Scalar.indexCast v683
  ![v684.toNat, v685.toNat]
def k0_off300 (v626 : BitVec 32) (k0_t71 : Fin k0_t71_loop.trips) : Fin 2 → Nat :=
  let v692 : Index := Scalar.indexCast v626
  let c1_i32_253 : BitVec 32 := 1#32
  let c1_i32_255 : BitVec 32 := 1#32
  let arg15 : BitVec 32 := Scf.iv c1_i32_253 c1_i32_255 k0_t71
  let c1_i32_274 : BitVec 32 := 1#32
  let v690 : BitVec 32 := Scalar.subi arg15 c1_i32_274
  let c16_i32_275 : BitVec 32 := 16#32
  let v691 : BitVec 32 := Scalar.muli v690 c16_i32_275
  let v693 : Index := Scalar.indexCast v691
  ![v692.toNat, v693.toNat]

def k0_off301 (v626 : BitVec 32) : Fin 2 → Nat :=
  let v635 : Index := Scalar.indexCast v626
  let c496_257 : Index := 496#32
  ![v635.toNat, 496]

def k0_chk67 (i : grid0.Coords) (v66_0 : BitVec 32) (v74 : BitVec 32) (v79 : BitVec 32) (v84 : BitVec 32) (v89 : BitVec 32) (v94 : BitVec 32) (v99 : BitVec 32) (v104 : BitVec 32) (v109 : BitVec 32) (v114 : BitVec 32) (v119 : BitVec 32) (v124 : BitVec 32) (v129 : BitVec 32) (v134 : BitVec 32) (v139 : BitVec 32) (v144 : BitVec 32) (v149 : BitVec 32) (v158_0 : BitVec 32) (v166 : BitVec 32) (v171 : BitVec 32) (v176 : BitVec 32) (v181 : BitVec 32) (v186 : BitVec 32) (v191 : BitVec 32) (v196 : BitVec 32) (v201 : BitVec 32) (v206 : BitVec 32) (v211 : BitVec 32) (v216 : BitVec 32) (v221 : BitVec 32) (v226 : BitVec 32) (v231 : BitVec 32) (v236 : BitVec 32) (v241 : BitVec 32) (k0_t39 : Fin (k0_t39_loop i v66_0 v74 v79 v84 v89 v94 v99 v104 v109 v114 v119 v124 v129 v134 v139 v144 v149 v158_0 v166 v171 v176 v181 v186 v191 v196 v201 v206 v211 v216 v221 v226 v231 v236 v241).trips) (v626 : BitVec 32) : Prop :=
  (∀ k0_t71 : Fin k0_t71_loop.trips, ∀ (k0_h9 : k0_cond9 i v66_0 v74 v79 v84 v89 v94 v99 v104 v109 v114 v119 v124 v129 v134 v139 v144 v149 v158_0 v166 v171 v176 v181 v186 v191 v196 v201 v206 v211 v216 v221 v226 v231 v236 v241 k0_t39 = 1#1), ∀ a, (k0_off300 v626 k0_t71) a + S1x16.size a ≤ S32x512.size a) ∧
  (∀ (k0_h9 : k0_cond9 i v66_0 v74 v79 v84 v89 v94 v99 v104 v109 v114 v119 v124 v129 v134 v139 v144 v149 v158_0 v166 v171 v176 v181 v186 v191 v196 v201 v206 v211 v216 v221 v226 v231 v236 v241 k0_t39 = 1#1), ∀ a, (k0_off301 v626) a + S1x16.size a ≤ S32x512.size a)
theorem k0_off300_inb : ∀ (i : grid0.Coords) (v66_0 : BitVec 32) (v74 : BitVec 32) (v79 : BitVec 32) (v84 : BitVec 32) (v89 : BitVec 32) (v94 : BitVec 32) (v99 : BitVec 32) (v104 : BitVec 32) (v109 : BitVec 32) (v114 : BitVec 32) (v119 : BitVec 32) (v124 : BitVec 32) (v129 : BitVec 32) (v134 : BitVec 32) (v139 : BitVec 32) (v144 : BitVec 32) (v149 : BitVec 32) (v158_0 : BitVec 32) (v166 : BitVec 32) (v171 : BitVec 32) (v176 : BitVec 32) (v181 : BitVec 32) (v186 : BitVec 32) (v191 : BitVec 32) (v196 : BitVec 32) (v201 : BitVec 32) (v206 : BitVec 32) (v211 : BitVec 32) (v216 : BitVec 32) (v221 : BitVec 32) (v226 : BitVec 32) (v231 : BitVec 32) (v236 : BitVec 32) (v241 : BitVec 32) (k0_t39 : Fin (k0_t39_loop i v66_0 v74 v79 v84 v89 v94 v99 v104 v109 v114 v119 v124 v129 v134 v139 v144 v149 v158_0 v166 v171 v176 v181 v186 v191 v196 v201 v206 v211 v216 v221 v226 v231 v236 v241).trips) (v626 : BitVec 32) (k0_hw67 : k0_chk67 i v66_0 v74 v79 v84 v89 v94 v99 v104 v109 v114 v119 v124 v129 v134 v139 v144 v149 v158_0 v166 v171 v176 v181 v186 v191 v196 v201 v206 v211 v216 v221 v226 v231 v236 v241 k0_t39 v626) (k0_t71 : Fin k0_t71_loop.trips), ∀ (k0_h9 : k0_cond9 i v66_0 v74 v79 v84 v89 v94 v99 v104 v109 v114 v119 v124 v129 v134 v139 v144 v149 v158_0 v166 v171 v176 v181 v186 v191 v196 v201 v206 v211 v216 v221 v226 v231 v236 v241 k0_t39 = 1#1), ∀ a, (k0_off300 v626 k0_t71) a + S1x16.size a ≤ S32x512.size a := fun i v66_0 v74 v79 v84 v89 v94 v99 v104 v109 v114 v119 v124 v129 v134 v139 v144 v149 v158_0 v166 v171 v176 v181 v186 v191 v196 v201 v206 v211 v216 v221 v226 v231 v236 v241 k0_t39 v626 k0_hw67 k0_t71 k0_h9 => k0_hw67.1 k0_t71 k0_h9
theorem k0_off301_inb : ∀ (i : grid0.Coords) (v66_0 : BitVec 32) (v74 : BitVec 32) (v79 : BitVec 32) (v84 : BitVec 32) (v89 : BitVec 32) (v94 : BitVec 32) (v99 : BitVec 32) (v104 : BitVec 32) (v109 : BitVec 32) (v114 : BitVec 32) (v119 : BitVec 32) (v124 : BitVec 32) (v129 : BitVec 32) (v134 : BitVec 32) (v139 : BitVec 32) (v144 : BitVec 32) (v149 : BitVec 32) (v158_0 : BitVec 32) (v166 : BitVec 32) (v171 : BitVec 32) (v176 : BitVec 32) (v181 : BitVec 32) (v186 : BitVec 32) (v191 : BitVec 32) (v196 : BitVec 32) (v201 : BitVec 32) (v206 : BitVec 32) (v211 : BitVec 32) (v216 : BitVec 32) (v221 : BitVec 32) (v226 : BitVec 32) (v231 : BitVec 32) (v236 : BitVec 32) (v241 : BitVec 32) (k0_t39 : Fin (k0_t39_loop i v66_0 v74 v79 v84 v89 v94 v99 v104 v109 v114 v119 v124 v129 v134 v139 v144 v149 v158_0 v166 v171 v176 v181 v186 v191 v196 v201 v206 v211 v216 v221 v226 v231 v236 v241).trips) (v626 : BitVec 32) (k0_hw67 : k0_chk67 i v66_0 v74 v79 v84 v89 v94 v99 v104 v109 v114 v119 v124 v129 v134 v139 v144 v149 v158_0 v166 v171 v176 v181 v186 v191 v196 v201 v206 v211 v216 v221 v226 v231 v236 v241 k0_t39 v626), ∀ (k0_h9 : k0_cond9 i v66_0 v74 v79 v84 v89 v94 v99 v104 v109 v114 v119 v124 v129 v134 v139 v144 v149 v158_0 v166 v171 v176 v181 v186 v191 v196 v201 v206 v211 v216 v221 v226 v231 v236 v241 k0_t39 = 1#1), ∀ a, (k0_off301 v626) a + S1x16.size a ≤ S32x512.size a := fun i v66_0 v74 v79 v84 v89 v94 v99 v104 v109 v114 v119 v124 v129 v134 v139 v144 v149 v158_0 v166 v171 v176 v181 v186 v191 v196 v201 v206 v211 v216 v221 v226 v231 v236 v241 k0_t39 v626 k0_hw67 k0_h9 => k0_hw67.2 k0_h9

def k0_off302 (k0_t57 : Fin k0_t57_loop.trips) : Fin 2 → Nat :=
  let c0_i32_149 : BitVec 32 := 0#32
  let c1_i32_150 : BitVec 32 := 1#32
  let arg14 : BitVec 32 := Scf.iv c0_i32_149 c1_i32_150 k0_t57
  let c16_i32_156 : BitVec 32 := 16#32
  let v342 : BitVec 32 := Scalar.muli arg14 c16_i32_156
  let c14_i32 : BitVec 32 := 14#32
  let v647 : BitVec 32 := Scalar.addi v342 c14_i32
  let v648 : Index := Scalar.indexCast v647
  let c0_259 : Index := 0#32
  ![v648.toNat, 0]
@[reducible] def k0_t72_loop : Scf.Loop 32 :=
  let c1_i32_260 : BitVec 32 := 1#32
  let c31_i32_261 : BitVec 32 := 31#32
  let v653 : BitVec 32 := Scalar.addi c1_i32_260 c31_i32_261
  let c1_i32_262 : BitVec 32 := 1#32
  ⟨c1_i32_260, v653, c1_i32_262⟩
def k0_off303 (k0_t57 : Fin k0_t57_loop.trips) (k0_t72 : Fin k0_t72_loop.trips) : Fin 2 → Nat :=
  let c0_i32_149 : BitVec 32 := 0#32
  let c1_i32_150 : BitVec 32 := 1#32
  let arg14 : BitVec 32 := Scf.iv c0_i32_149 c1_i32_150 k0_t57
  let c16_i32_156 : BitVec 32 := 16#32
  let v342 : BitVec 32 := Scalar.muli arg14 c16_i32_156
  let c14_i32 : BitVec 32 := 14#32
  let v647 : BitVec 32 := Scalar.addi v342 c14_i32
  let v684 : Index := Scalar.indexCast v647
  let c1_i32_260 : BitVec 32 := 1#32
  let c1_i32_262 : BitVec 32 := 1#32
  let arg15 : BitVec 32 := Scf.iv c1_i32_260 c1_i32_262 k0_t72
  let c16_i32_273 : BitVec 32 := 16#32
  let v683 : BitVec 32 := Scalar.muli arg15 c16_i32_273
  let v685 : Index := Scalar.indexCast v683
  ![v684.toNat, v685.toNat]
def k0_off304 (v646 : BitVec 32) (k0_t72 : Fin k0_t72_loop.trips) : Fin 2 → Nat :=
  let v692 : Index := Scalar.indexCast v646
  let c1_i32_260 : BitVec 32 := 1#32
  let c1_i32_262 : BitVec 32 := 1#32
  let arg15 : BitVec 32 := Scf.iv c1_i32_260 c1_i32_262 k0_t72
  let c1_i32_274 : BitVec 32 := 1#32
  let v690 : BitVec 32 := Scalar.subi arg15 c1_i32_274
  let c16_i32_275 : BitVec 32 := 16#32
  let v691 : BitVec 32 := Scalar.muli v690 c16_i32_275
  let v693 : Index := Scalar.indexCast v691
  ![v692.toNat, v693.toNat]

def k0_off305 (v646 : BitVec 32) : Fin 2 → Nat :=
  let v655 : Index := Scalar.indexCast v646
  let c496_264 : Index := 496#32
  ![v655.toNat, 496]

def k0_chk68 (i : grid0.Coords) (v66_0 : BitVec 32) (v74 : BitVec 32) (v79 : BitVec 32) (v84 : BitVec 32) (v89 : BitVec 32) (v94 : BitVec 32) (v99 : BitVec 32) (v104 : BitVec 32) (v109 : BitVec 32) (v114 : BitVec 32) (v119 : BitVec 32) (v124 : BitVec 32) (v129 : BitVec 32) (v134 : BitVec 32) (v139 : BitVec 32) (v144 : BitVec 32) (v149 : BitVec 32) (v158_0 : BitVec 32) (v166 : BitVec 32) (v171 : BitVec 32) (v176 : BitVec 32) (v181 : BitVec 32) (v186 : BitVec 32) (v191 : BitVec 32) (v196 : BitVec 32) (v201 : BitVec 32) (v206 : BitVec 32) (v211 : BitVec 32) (v216 : BitVec 32) (v221 : BitVec 32) (v226 : BitVec 32) (v231 : BitVec 32) (v236 : BitVec 32) (v241 : BitVec 32) (k0_t39 : Fin (k0_t39_loop i v66_0 v74 v79 v84 v89 v94 v99 v104 v109 v114 v119 v124 v129 v134 v139 v144 v149 v158_0 v166 v171 v176 v181 v186 v191 v196 v201 v206 v211 v216 v221 v226 v231 v236 v241).trips) (v646 : BitVec 32) : Prop :=
  (∀ k0_t72 : Fin k0_t72_loop.trips, ∀ (k0_h9 : k0_cond9 i v66_0 v74 v79 v84 v89 v94 v99 v104 v109 v114 v119 v124 v129 v134 v139 v144 v149 v158_0 v166 v171 v176 v181 v186 v191 v196 v201 v206 v211 v216 v221 v226 v231 v236 v241 k0_t39 = 1#1), ∀ a, (k0_off304 v646 k0_t72) a + S1x16.size a ≤ S32x512.size a) ∧
  (∀ (k0_h9 : k0_cond9 i v66_0 v74 v79 v84 v89 v94 v99 v104 v109 v114 v119 v124 v129 v134 v139 v144 v149 v158_0 v166 v171 v176 v181 v186 v191 v196 v201 v206 v211 v216 v221 v226 v231 v236 v241 k0_t39 = 1#1), ∀ a, (k0_off305 v646) a + S1x16.size a ≤ S32x512.size a)
theorem k0_off304_inb : ∀ (i : grid0.Coords) (v66_0 : BitVec 32) (v74 : BitVec 32) (v79 : BitVec 32) (v84 : BitVec 32) (v89 : BitVec 32) (v94 : BitVec 32) (v99 : BitVec 32) (v104 : BitVec 32) (v109 : BitVec 32) (v114 : BitVec 32) (v119 : BitVec 32) (v124 : BitVec 32) (v129 : BitVec 32) (v134 : BitVec 32) (v139 : BitVec 32) (v144 : BitVec 32) (v149 : BitVec 32) (v158_0 : BitVec 32) (v166 : BitVec 32) (v171 : BitVec 32) (v176 : BitVec 32) (v181 : BitVec 32) (v186 : BitVec 32) (v191 : BitVec 32) (v196 : BitVec 32) (v201 : BitVec 32) (v206 : BitVec 32) (v211 : BitVec 32) (v216 : BitVec 32) (v221 : BitVec 32) (v226 : BitVec 32) (v231 : BitVec 32) (v236 : BitVec 32) (v241 : BitVec 32) (k0_t39 : Fin (k0_t39_loop i v66_0 v74 v79 v84 v89 v94 v99 v104 v109 v114 v119 v124 v129 v134 v139 v144 v149 v158_0 v166 v171 v176 v181 v186 v191 v196 v201 v206 v211 v216 v221 v226 v231 v236 v241).trips) (v646 : BitVec 32) (k0_hw68 : k0_chk68 i v66_0 v74 v79 v84 v89 v94 v99 v104 v109 v114 v119 v124 v129 v134 v139 v144 v149 v158_0 v166 v171 v176 v181 v186 v191 v196 v201 v206 v211 v216 v221 v226 v231 v236 v241 k0_t39 v646) (k0_t72 : Fin k0_t72_loop.trips), ∀ (k0_h9 : k0_cond9 i v66_0 v74 v79 v84 v89 v94 v99 v104 v109 v114 v119 v124 v129 v134 v139 v144 v149 v158_0 v166 v171 v176 v181 v186 v191 v196 v201 v206 v211 v216 v221 v226 v231 v236 v241 k0_t39 = 1#1), ∀ a, (k0_off304 v646 k0_t72) a + S1x16.size a ≤ S32x512.size a := fun i v66_0 v74 v79 v84 v89 v94 v99 v104 v109 v114 v119 v124 v129 v134 v139 v144 v149 v158_0 v166 v171 v176 v181 v186 v191 v196 v201 v206 v211 v216 v221 v226 v231 v236 v241 k0_t39 v646 k0_hw68 k0_t72 k0_h9 => k0_hw68.1 k0_t72 k0_h9
theorem k0_off305_inb : ∀ (i : grid0.Coords) (v66_0 : BitVec 32) (v74 : BitVec 32) (v79 : BitVec 32) (v84 : BitVec 32) (v89 : BitVec 32) (v94 : BitVec 32) (v99 : BitVec 32) (v104 : BitVec 32) (v109 : BitVec 32) (v114 : BitVec 32) (v119 : BitVec 32) (v124 : BitVec 32) (v129 : BitVec 32) (v134 : BitVec 32) (v139 : BitVec 32) (v144 : BitVec 32) (v149 : BitVec 32) (v158_0 : BitVec 32) (v166 : BitVec 32) (v171 : BitVec 32) (v176 : BitVec 32) (v181 : BitVec 32) (v186 : BitVec 32) (v191 : BitVec 32) (v196 : BitVec 32) (v201 : BitVec 32) (v206 : BitVec 32) (v211 : BitVec 32) (v216 : BitVec 32) (v221 : BitVec 32) (v226 : BitVec 32) (v231 : BitVec 32) (v236 : BitVec 32) (v241 : BitVec 32) (k0_t39 : Fin (k0_t39_loop i v66_0 v74 v79 v84 v89 v94 v99 v104 v109 v114 v119 v124 v129 v134 v139 v144 v149 v158_0 v166 v171 v176 v181 v186 v191 v196 v201 v206 v211 v216 v221 v226 v231 v236 v241).trips) (v646 : BitVec 32) (k0_hw68 : k0_chk68 i v66_0 v74 v79 v84 v89 v94 v99 v104 v109 v114 v119 v124 v129 v134 v139 v144 v149 v158_0 v166 v171 v176 v181 v186 v191 v196 v201 v206 v211 v216 v221 v226 v231 v236 v241 k0_t39 v646), ∀ (k0_h9 : k0_cond9 i v66_0 v74 v79 v84 v89 v94 v99 v104 v109 v114 v119 v124 v129 v134 v139 v144 v149 v158_0 v166 v171 v176 v181 v186 v191 v196 v201 v206 v211 v216 v221 v226 v231 v236 v241 k0_t39 = 1#1), ∀ a, (k0_off305 v646) a + S1x16.size a ≤ S32x512.size a := fun i v66_0 v74 v79 v84 v89 v94 v99 v104 v109 v114 v119 v124 v129 v134 v139 v144 v149 v158_0 v166 v171 v176 v181 v186 v191 v196 v201 v206 v211 v216 v221 v226 v231 v236 v241 k0_t39 v646 k0_hw68 k0_h9 => k0_hw68.2 k0_h9

def k0_off306 (k0_t57 : Fin k0_t57_loop.trips) : Fin 2 → Nat :=
  let c0_i32_149 : BitVec 32 := 0#32
  let c1_i32_150 : BitVec 32 := 1#32
  let arg14 : BitVec 32 := Scf.iv c0_i32_149 c1_i32_150 k0_t57
  let c16_i32_156 : BitVec 32 := 16#32
  let v342 : BitVec 32 := Scalar.muli arg14 c16_i32_156
  let c15_i32 : BitVec 32 := 15#32
  let v667 : BitVec 32 := Scalar.addi v342 c15_i32
  let v668 : Index := Scalar.indexCast v667
  let c0_266 : Index := 0#32
  ![v668.toNat, 0]
@[reducible] def k0_t73_loop : Scf.Loop 32 :=
  let c1_i32_267 : BitVec 32 := 1#32
  let c31_i32_268 : BitVec 32 := 31#32
  let v673 : BitVec 32 := Scalar.addi c1_i32_267 c31_i32_268
  let c1_i32_269 : BitVec 32 := 1#32
  ⟨c1_i32_267, v673, c1_i32_269⟩
def k0_off307 (k0_t57 : Fin k0_t57_loop.trips) (k0_t73 : Fin k0_t73_loop.trips) : Fin 2 → Nat :=
  let c0_i32_149 : BitVec 32 := 0#32
  let c1_i32_150 : BitVec 32 := 1#32
  let arg14 : BitVec 32 := Scf.iv c0_i32_149 c1_i32_150 k0_t57
  let c16_i32_156 : BitVec 32 := 16#32
  let v342 : BitVec 32 := Scalar.muli arg14 c16_i32_156
  let c15_i32 : BitVec 32 := 15#32
  let v667 : BitVec 32 := Scalar.addi v342 c15_i32
  let v684 : Index := Scalar.indexCast v667
  let c1_i32_267 : BitVec 32 := 1#32
  let c1_i32_269 : BitVec 32 := 1#32
  let arg15 : BitVec 32 := Scf.iv c1_i32_267 c1_i32_269 k0_t73
  let c16_i32_273 : BitVec 32 := 16#32
  let v683 : BitVec 32 := Scalar.muli arg15 c16_i32_273
  let v685 : Index := Scalar.indexCast v683
  ![v684.toNat, v685.toNat]
def k0_off308 (v666 : BitVec 32) (k0_t73 : Fin k0_t73_loop.trips) : Fin 2 → Nat :=
  let v692 : Index := Scalar.indexCast v666
  let c1_i32_267 : BitVec 32 := 1#32
  let c1_i32_269 : BitVec 32 := 1#32
  let arg15 : BitVec 32 := Scf.iv c1_i32_267 c1_i32_269 k0_t73
  let c1_i32_274 : BitVec 32 := 1#32
  let v690 : BitVec 32 := Scalar.subi arg15 c1_i32_274
  let c16_i32_275 : BitVec 32 := 16#32
  let v691 : BitVec 32 := Scalar.muli v690 c16_i32_275
  let v693 : Index := Scalar.indexCast v691
  ![v692.toNat, v693.toNat]

def k0_off309 (v666 : BitVec 32) : Fin 2 → Nat :=
  let v675 : Index := Scalar.indexCast v666
  let c496_271 : Index := 496#32
  ![v675.toNat, 496]

def k0_chk69 (i : grid0.Coords) (v66_0 : BitVec 32) (v74 : BitVec 32) (v79 : BitVec 32) (v84 : BitVec 32) (v89 : BitVec 32) (v94 : BitVec 32) (v99 : BitVec 32) (v104 : BitVec 32) (v109 : BitVec 32) (v114 : BitVec 32) (v119 : BitVec 32) (v124 : BitVec 32) (v129 : BitVec 32) (v134 : BitVec 32) (v139 : BitVec 32) (v144 : BitVec 32) (v149 : BitVec 32) (v158_0 : BitVec 32) (v166 : BitVec 32) (v171 : BitVec 32) (v176 : BitVec 32) (v181 : BitVec 32) (v186 : BitVec 32) (v191 : BitVec 32) (v196 : BitVec 32) (v201 : BitVec 32) (v206 : BitVec 32) (v211 : BitVec 32) (v216 : BitVec 32) (v221 : BitVec 32) (v226 : BitVec 32) (v231 : BitVec 32) (v236 : BitVec 32) (v241 : BitVec 32) (k0_t39 : Fin (k0_t39_loop i v66_0 v74 v79 v84 v89 v94 v99 v104 v109 v114 v119 v124 v129 v134 v139 v144 v149 v158_0 v166 v171 v176 v181 v186 v191 v196 v201 v206 v211 v216 v221 v226 v231 v236 v241).trips) (v666 : BitVec 32) : Prop :=
  (∀ k0_t73 : Fin k0_t73_loop.trips, ∀ (k0_h9 : k0_cond9 i v66_0 v74 v79 v84 v89 v94 v99 v104 v109 v114 v119 v124 v129 v134 v139 v144 v149 v158_0 v166 v171 v176 v181 v186 v191 v196 v201 v206 v211 v216 v221 v226 v231 v236 v241 k0_t39 = 1#1), ∀ a, (k0_off308 v666 k0_t73) a + S1x16.size a ≤ S32x512.size a) ∧
  (∀ (k0_h9 : k0_cond9 i v66_0 v74 v79 v84 v89 v94 v99 v104 v109 v114 v119 v124 v129 v134 v139 v144 v149 v158_0 v166 v171 v176 v181 v186 v191 v196 v201 v206 v211 v216 v221 v226 v231 v236 v241 k0_t39 = 1#1), ∀ a, (k0_off309 v666) a + S1x16.size a ≤ S32x512.size a)
theorem k0_off308_inb : ∀ (i : grid0.Coords) (v66_0 : BitVec 32) (v74 : BitVec 32) (v79 : BitVec 32) (v84 : BitVec 32) (v89 : BitVec 32) (v94 : BitVec 32) (v99 : BitVec 32) (v104 : BitVec 32) (v109 : BitVec 32) (v114 : BitVec 32) (v119 : BitVec 32) (v124 : BitVec 32) (v129 : BitVec 32) (v134 : BitVec 32) (v139 : BitVec 32) (v144 : BitVec 32) (v149 : BitVec 32) (v158_0 : BitVec 32) (v166 : BitVec 32) (v171 : BitVec 32) (v176 : BitVec 32) (v181 : BitVec 32) (v186 : BitVec 32) (v191 : BitVec 32) (v196 : BitVec 32) (v201 : BitVec 32) (v206 : BitVec 32) (v211 : BitVec 32) (v216 : BitVec 32) (v221 : BitVec 32) (v226 : BitVec 32) (v231 : BitVec 32) (v236 : BitVec 32) (v241 : BitVec 32) (k0_t39 : Fin (k0_t39_loop i v66_0 v74 v79 v84 v89 v94 v99 v104 v109 v114 v119 v124 v129 v134 v139 v144 v149 v158_0 v166 v171 v176 v181 v186 v191 v196 v201 v206 v211 v216 v221 v226 v231 v236 v241).trips) (v666 : BitVec 32) (k0_hw69 : k0_chk69 i v66_0 v74 v79 v84 v89 v94 v99 v104 v109 v114 v119 v124 v129 v134 v139 v144 v149 v158_0 v166 v171 v176 v181 v186 v191 v196 v201 v206 v211 v216 v221 v226 v231 v236 v241 k0_t39 v666) (k0_t73 : Fin k0_t73_loop.trips), ∀ (k0_h9 : k0_cond9 i v66_0 v74 v79 v84 v89 v94 v99 v104 v109 v114 v119 v124 v129 v134 v139 v144 v149 v158_0 v166 v171 v176 v181 v186 v191 v196 v201 v206 v211 v216 v221 v226 v231 v236 v241 k0_t39 = 1#1), ∀ a, (k0_off308 v666 k0_t73) a + S1x16.size a ≤ S32x512.size a := fun i v66_0 v74 v79 v84 v89 v94 v99 v104 v109 v114 v119 v124 v129 v134 v139 v144 v149 v158_0 v166 v171 v176 v181 v186 v191 v196 v201 v206 v211 v216 v221 v226 v231 v236 v241 k0_t39 v666 k0_hw69 k0_t73 k0_h9 => k0_hw69.1 k0_t73 k0_h9
theorem k0_off309_inb : ∀ (i : grid0.Coords) (v66_0 : BitVec 32) (v74 : BitVec 32) (v79 : BitVec 32) (v84 : BitVec 32) (v89 : BitVec 32) (v94 : BitVec 32) (v99 : BitVec 32) (v104 : BitVec 32) (v109 : BitVec 32) (v114 : BitVec 32) (v119 : BitVec 32) (v124 : BitVec 32) (v129 : BitVec 32) (v134 : BitVec 32) (v139 : BitVec 32) (v144 : BitVec 32) (v149 : BitVec 32) (v158_0 : BitVec 32) (v166 : BitVec 32) (v171 : BitVec 32) (v176 : BitVec 32) (v181 : BitVec 32) (v186 : BitVec 32) (v191 : BitVec 32) (v196 : BitVec 32) (v201 : BitVec 32) (v206 : BitVec 32) (v211 : BitVec 32) (v216 : BitVec 32) (v221 : BitVec 32) (v226 : BitVec 32) (v231 : BitVec 32) (v236 : BitVec 32) (v241 : BitVec 32) (k0_t39 : Fin (k0_t39_loop i v66_0 v74 v79 v84 v89 v94 v99 v104 v109 v114 v119 v124 v129 v134 v139 v144 v149 v158_0 v166 v171 v176 v181 v186 v191 v196 v201 v206 v211 v216 v221 v226 v231 v236 v241).trips) (v666 : BitVec 32) (k0_hw69 : k0_chk69 i v66_0 v74 v79 v84 v89 v94 v99 v104 v109 v114 v119 v124 v129 v134 v139 v144 v149 v158_0 v166 v171 v176 v181 v186 v191 v196 v201 v206 v211 v216 v221 v226 v231 v236 v241 k0_t39 v666), ∀ (k0_h9 : k0_cond9 i v66_0 v74 v79 v84 v89 v94 v99 v104 v109 v114 v119 v124 v129 v134 v139 v144 v149 v158_0 v166 v171 v176 v181 v186 v191 v196 v201 v206 v211 v216 v221 v226 v231 v236 v241 k0_t39 = 1#1), ∀ a, (k0_off309 v666) a + S1x16.size a ≤ S32x512.size a := fun i v66_0 v74 v79 v84 v89 v94 v99 v104 v109 v114 v119 v124 v129 v134 v139 v144 v149 v158_0 v166 v171 v176 v181 v186 v191 v196 v201 v206 v211 v216 v221 v226 v231 v236 v241 k0_t39 v666 k0_hw69 k0_h9 => k0_hw69.2 k0_h9

def k0_off310 (i : grid0.Coords) (v66_0 : BitVec 32) (v74 : BitVec 32) (v79 : BitVec 32) (v84 : BitVec 32) (v89 : BitVec 32) (v94 : BitVec 32) (v99 : BitVec 32) (v104 : BitVec 32) (v109 : BitVec 32) (v114 : BitVec 32) (v119 : BitVec 32) (v124 : BitVec 32) (v129 : BitVec 32) (v134 : BitVec 32) (v139 : BitVec 32) (v144 : BitVec 32) (v149 : BitVec 32) (v158_0 : BitVec 32) (v166 : BitVec 32) (v171 : BitVec 32) (v176 : BitVec 32) (v181 : BitVec 32) (v186 : BitVec 32) (v191 : BitVec 32) (v196 : BitVec 32) (v201 : BitVec 32) (v206 : BitVec 32) (v211 : BitVec 32) (v216 : BitVec 32) (v221 : BitVec 32) (v226 : BitVec 32) (v231 : BitVec 32) (v236 : BitVec 32) (v241 : BitVec 32) (k0_t39 : Fin (k0_t39_loop i v66_0 v74 v79 v84 v89 v94 v99 v104 v109 v114 v119 v124 v129 v134 v139 v144 v149 v158_0 v166 v171 v176 v181 v186 v191 v196 v201 v206 v211 v216 v221 v226 v231 v236 v241).trips) : Fin 2 → Nat :=
  let c0_i32_57 : BitVec 32 := 0#32
  let v153 : BitVec 1 := Scalar.cmpi .eq v66_0 c0_i32_57
  let c0_i32_59 : BitVec 32 := 0#32
  let c1_i32_22 : BitVec 32 := 1#32
  let v67 : BitVec 32 := Scalar.subi v66_0 c1_i32_22
  let c0_i32_23 : BitVec 32 := 0#32
  let v68 : BitVec 32 := Scalar.maxsi v67 c0_i32_23
  let c16_i32_58 : BitVec 32 := 16#32
  let v154 : BitVec 32 := Scalar.muli v68 c16_i32_58
  let c0_i32_26 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let v75 : BitVec 1 := Scalar.cmpi .slt v74 v2
  let c1_i32_24 : BitVec 32 := 1#32
  let c0_i32_25 : BitVec 32 := 0#32
  let v76 : BitVec 32 := Scalar.select v75 c1_i32_24 c0_i32_25
  let v77 : BitVec 32 := Scalar.addi c0_i32_26 v76
  let v80 : BitVec 1 := Scalar.cmpi .slt v79 v2
  let c1_i32_27 : BitVec 32 := 1#32
  let c0_i32_28 : BitVec 32 := 0#32
  let v81 : BitVec 32 := Scalar.select v80 c1_i32_27 c0_i32_28
  let v82 : BitVec 32 := Scalar.addi v77 v81
  let v85 : BitVec 1 := Scalar.cmpi .slt v84 v2
  let c1_i32_29 : BitVec 32 := 1#32
  let c0_i32_30 : BitVec 32 := 0#32
  let v86 : BitVec 32 := Scalar.select v85 c1_i32_29 c0_i32_30
  let v87 : BitVec 32 := Scalar.addi v82 v86
  let v90 : BitVec 1 := Scalar.cmpi .slt v89 v2
  let c1_i32_31 : BitVec 32 := 1#32
  let c0_i32_32 : BitVec 32 := 0#32
  let v91 : BitVec 32 := Scalar.select v90 c1_i32_31 c0_i32_32
  let v92 : BitVec 32 := Scalar.addi v87 v91
  let v95 : BitVec 1 := Scalar.cmpi .slt v94 v2
  let c1_i32_33 : BitVec 32 := 1#32
  let c0_i32_34 : BitVec 32 := 0#32
  let v96 : BitVec 32 := Scalar.select v95 c1_i32_33 c0_i32_34
  let v97 : BitVec 32 := Scalar.addi v92 v96
  let v100 : BitVec 1 := Scalar.cmpi .slt v99 v2
  let c1_i32_35 : BitVec 32 := 1#32
  let c0_i32_36 : BitVec 32 := 0#32
  let v101 : BitVec 32 := Scalar.select v100 c1_i32_35 c0_i32_36
  let v102 : BitVec 32 := Scalar.addi v97 v101
  let v105 : BitVec 1 := Scalar.cmpi .slt v104 v2
  let c1_i32_37 : BitVec 32 := 1#32
  let c0_i32_38 : BitVec 32 := 0#32
  let v106 : BitVec 32 := Scalar.select v105 c1_i32_37 c0_i32_38
  let v107 : BitVec 32 := Scalar.addi v102 v106
  let v110 : BitVec 1 := Scalar.cmpi .slt v109 v2
  let c1_i32_39 : BitVec 32 := 1#32
  let c0_i32_40 : BitVec 32 := 0#32
  let v111 : BitVec 32 := Scalar.select v110 c1_i32_39 c0_i32_40
  let v112 : BitVec 32 := Scalar.addi v107 v111
  let v115 : BitVec 1 := Scalar.cmpi .slt v114 v2
  let c1_i32_41 : BitVec 32 := 1#32
  let c0_i32_42 : BitVec 32 := 0#32
  let v116 : BitVec 32 := Scalar.select v115 c1_i32_41 c0_i32_42
  let v117 : BitVec 32 := Scalar.addi v112 v116
  let v120 : BitVec 1 := Scalar.cmpi .slt v119 v2
  let c1_i32_43 : BitVec 32 := 1#32
  let c0_i32_44 : BitVec 32 := 0#32
  let v121 : BitVec 32 := Scalar.select v120 c1_i32_43 c0_i32_44
  let v122 : BitVec 32 := Scalar.addi v117 v121
  let v125 : BitVec 1 := Scalar.cmpi .slt v124 v2
  let c1_i32_45 : BitVec 32 := 1#32
  let c0_i32_46 : BitVec 32 := 0#32
  let v126 : BitVec 32 := Scalar.select v125 c1_i32_45 c0_i32_46
  let v127 : BitVec 32 := Scalar.addi v122 v126
  let v130 : BitVec 1 := Scalar.cmpi .slt v129 v2
  let c1_i32_47 : BitVec 32 := 1#32
  let c0_i32_48 : BitVec 32 := 0#32
  let v131 : BitVec 32 := Scalar.select v130 c1_i32_47 c0_i32_48
  let v132 : BitVec 32 := Scalar.addi v127 v131
  let v135 : BitVec 1 := Scalar.cmpi .slt v134 v2
  let c1_i32_49 : BitVec 32 := 1#32
  let c0_i32_50 : BitVec 32 := 0#32
  let v136 : BitVec 32 := Scalar.select v135 c1_i32_49 c0_i32_50
  let v137 : BitVec 32 := Scalar.addi v132 v136
  let v140 : BitVec 1 := Scalar.cmpi .slt v139 v2
  let c1_i32_51 : BitVec 32 := 1#32
  let c0_i32_52 : BitVec 32 := 0#32
  let v141 : BitVec 32 := Scalar.select v140 c1_i32_51 c0_i32_52
  let v142 : BitVec 32 := Scalar.addi v137 v141
  let v145 : BitVec 1 := Scalar.cmpi .slt v144 v2
  let c1_i32_53 : BitVec 32 := 1#32
  let c0_i32_54 : BitVec 32 := 0#32
  let v146 : BitVec 32 := Scalar.select v145 c1_i32_53 c0_i32_54
  let v147 : BitVec 32 := Scalar.addi v142 v146
  let v150 : BitVec 1 := Scalar.cmpi .slt v149 v2
  let c1_i32_55 : BitVec 32 := 1#32
  let c0_i32_56 : BitVec 32 := 0#32
  let v151 : BitVec 32 := Scalar.select v150 c1_i32_55 c0_i32_56
  let v152 : BitVec 32 := Scalar.addi v147 v151
  let v155 : BitVec 32 := Scalar.addi v154 v152
  let v156 : BitVec 32 := Scalar.select v153 c0_i32_59 v155
  let c0_i32_105 : BitVec 32 := 0#32
  let v250 : BitVec 1 := Scalar.cmpi .sgt v156 c0_i32_105
  let v251 : BitVec 32 := Scalar.extui v250
  let c0_i32_106 : BitVec 32 := 0#32
  let v252 : BitVec 1 := Scalar.cmpi .slt v156 c0_i32_106
  let v253 : BitVec 32 := Scalar.extui v252
  let v254 : BitVec 32 := Scalar.subi v251 v253
  let c64_i32 : BitVec 32 := 64#32
  let c0_i32_107 : BitVec 32 := 0#32
  let v255 : BitVec 1 := Scalar.cmpi .sgt c64_i32 c0_i32_107
  let v256 : BitVec 32 := Scalar.extui v255
  let c0_i32_108 : BitVec 32 := 0#32
  let v257 : BitVec 1 := Scalar.cmpi .slt c64_i32 c0_i32_108
  let v258 : BitVec 32 := Scalar.extui v257
  let v259 : BitVec 32 := Scalar.subi v256 v258
  let v260 : BitVec 1 := Scalar.cmpi .ne v254 v259
  let v261 : BitVec 32 := Scalar.remsi v156 c64_i32
  let c0_i32_109 : BitVec 32 := 0#32
  let v262 : BitVec 1 := Scalar.cmpi .ne v261 c0_i32_109
  let v263 : BitVec 1 := Scalar.andi v260 v262
  let v249 : BitVec 32 := Scalar.divsi v156 c64_i32
  let c1_i32_110 : BitVec 32 := 1#32
  let v264 : BitVec 32 := Scalar.subi v249 c1_i32_110
  let v265 : BitVec 32 := Scalar.select v263 v264 v249
  let c2_i32_139 : BitVec 32 := 2#32
  let c0_i32_134 : BitVec 32 := 0#32
  let c0_i32_102 : BitVec 32 := 0#32
  let v245 : BitVec 1 := Scalar.cmpi .eq v158_0 c0_i32_102
  let c0_i32_104 : BitVec 32 := 0#32
  let c1_i32_66 : BitVec 32 := 1#32
  let v159 : BitVec 32 := Scalar.subi v158_0 c1_i32_66
  let c0_i32_67 : BitVec 32 := 0#32
  let v160 : BitVec 32 := Scalar.maxsi v159 c0_i32_67
  let c16_i32_103 : BitVec 32 := 16#32
  let v246 : BitVec 32 := Scalar.muli v160 c16_i32_103
  let c0_i32_71 : BitVec 32 := 0#32
  let c32_i32_0 : BitVec 32 := 32#32
  let v3 : BitVec 32 := Scalar.addi v2 c32_i32_0
  let v167 : BitVec 1 := Scalar.cmpi .slt v166 v3
  let c1_i32_69 : BitVec 32 := 1#32
  let c0_i32_70 : BitVec 32 := 0#32
  let v168 : BitVec 32 := Scalar.select v167 c1_i32_69 c0_i32_70
  let v169 : BitVec 32 := Scalar.addi c0_i32_71 v168
  let v172 : BitVec 1 := Scalar.cmpi .slt v171 v3
  let c1_i32_72 : BitVec 32 := 1#32
  let c0_i32_73 : BitVec 32 := 0#32
  let v173 : BitVec 32 := Scalar.select v172 c1_i32_72 c0_i32_73
  let v174 : BitVec 32 := Scalar.addi v169 v173
  let v177 : BitVec 1 := Scalar.cmpi .slt v176 v3
  let c1_i32_74 : BitVec 32 := 1#32
  let c0_i32_75 : BitVec 32 := 0#32
  let v178 : BitVec 32 := Scalar.select v177 c1_i32_74 c0_i32_75
  let v179 : BitVec 32 := Scalar.addi v174 v178
  let v182 : BitVec 1 := Scalar.cmpi .slt v181 v3
  let c1_i32_76 : BitVec 32 := 1#32
  let c0_i32_77 : BitVec 32 := 0#32
  let v183 : BitVec 32 := Scalar.select v182 c1_i32_76 c0_i32_77
  let v184 : BitVec 32 := Scalar.addi v179 v183
  let v187 : BitVec 1 := Scalar.cmpi .slt v186 v3
  let c1_i32_78 : BitVec 32 := 1#32
  let c0_i32_79 : BitVec 32 := 0#32
  let v188 : BitVec 32 := Scalar.select v187 c1_i32_78 c0_i32_79
  let v189 : BitVec 32 := Scalar.addi v184 v188
  let v192 : BitVec 1 := Scalar.cmpi .slt v191 v3
  let c1_i32_80 : BitVec 32 := 1#32
  let c0_i32_81 : BitVec 32 := 0#32
  let v193 : BitVec 32 := Scalar.select v192 c1_i32_80 c0_i32_81
  let v194 : BitVec 32 := Scalar.addi v189 v193
  let v197 : BitVec 1 := Scalar.cmpi .slt v196 v3
  let c1_i32_82 : BitVec 32 := 1#32
  let c0_i32_83 : BitVec 32 := 0#32
  let v198 : BitVec 32 := Scalar.select v197 c1_i32_82 c0_i32_83
  let v199 : BitVec 32 := Scalar.addi v194 v198
  let v202 : BitVec 1 := Scalar.cmpi .slt v201 v3
  let c1_i32_84 : BitVec 32 := 1#32
  let c0_i32_85 : BitVec 32 := 0#32
  let v203 : BitVec 32 := Scalar.select v202 c1_i32_84 c0_i32_85
  let v204 : BitVec 32 := Scalar.addi v199 v203
  let v207 : BitVec 1 := Scalar.cmpi .slt v206 v3
  let c1_i32_86 : BitVec 32 := 1#32
  let c0_i32_87 : BitVec 32 := 0#32
  let v208 : BitVec 32 := Scalar.select v207 c1_i32_86 c0_i32_87
  let v209 : BitVec 32 := Scalar.addi v204 v208
  let v212 : BitVec 1 := Scalar.cmpi .slt v211 v3
  let c1_i32_88 : BitVec 32 := 1#32
  let c0_i32_89 : BitVec 32 := 0#32
  let v213 : BitVec 32 := Scalar.select v212 c1_i32_88 c0_i32_89
  let v214 : BitVec 32 := Scalar.addi v209 v213
  let v217 : BitVec 1 := Scalar.cmpi .slt v216 v3
  let c1_i32_90 : BitVec 32 := 1#32
  let c0_i32_91 : BitVec 32 := 0#32
  let v218 : BitVec 32 := Scalar.select v217 c1_i32_90 c0_i32_91
  let v219 : BitVec 32 := Scalar.addi v214 v218
  let v222 : BitVec 1 := Scalar.cmpi .slt v221 v3
  let c1_i32_92 : BitVec 32 := 1#32
  let c0_i32_93 : BitVec 32 := 0#32
  let v223 : BitVec 32 := Scalar.select v222 c1_i32_92 c0_i32_93
  let v224 : BitVec 32 := Scalar.addi v219 v223
  let v227 : BitVec 1 := Scalar.cmpi .slt v226 v3
  let c1_i32_94 : BitVec 32 := 1#32
  let c0_i32_95 : BitVec 32 := 0#32
  let v228 : BitVec 32 := Scalar.select v227 c1_i32_94 c0_i32_95
  let v229 : BitVec 32 := Scalar.addi v224 v228
  let v232 : BitVec 1 := Scalar.cmpi .slt v231 v3
  let c1_i32_96 : BitVec 32 := 1#32
  let c0_i32_97 : BitVec 32 := 0#32
  let v233 : BitVec 32 := Scalar.select v232 c1_i32_96 c0_i32_97
  let v234 : BitVec 32 := Scalar.addi v229 v233
  let v237 : BitVec 1 := Scalar.cmpi .slt v236 v3
  let c1_i32_98 : BitVec 32 := 1#32
  let c0_i32_99 : BitVec 32 := 0#32
  let v238 : BitVec 32 := Scalar.select v237 c1_i32_98 c0_i32_99
  let v239 : BitVec 32 := Scalar.addi v234 v238
  let v242 : BitVec 1 := Scalar.cmpi .slt v241 v3
  let c1_i32_100 : BitVec 32 := 1#32
  let c0_i32_101 : BitVec 32 := 0#32
  let v243 : BitVec 32 := Scalar.select v242 c1_i32_100 c0_i32_101
  let v244 : BitVec 32 := Scalar.addi v239 v243
  let v247 : BitVec 32 := Scalar.addi v246 v244
  let v248 : BitVec 32 := Scalar.select v245 c0_i32_104 v247
  let c64_i32_111 : BitVec 32 := 64#32
  let v266 : BitVec 32 := Scalar.addi v248 c64_i32_111
  let c1_i32_112 : BitVec 32 := 1#32
  let v267 : BitVec 32 := Scalar.subi v266 c1_i32_112
  let c0_i32_114 : BitVec 32 := 0#32
  let v269 : BitVec 1 := Scalar.cmpi .sgt v267 c0_i32_114
  let v270 : BitVec 32 := Scalar.extui v269
  let c0_i32_115 : BitVec 32 := 0#32
  let v271 : BitVec 1 := Scalar.cmpi .slt v267 c0_i32_115
  let v272 : BitVec 32 := Scalar.extui v271
  let v273 : BitVec 32 := Scalar.subi v270 v272
  let c64_i32_113 : BitVec 32 := 64#32
  let c0_i32_116 : BitVec 32 := 0#32
  let v274 : BitVec 1 := Scalar.cmpi .sgt c64_i32_113 c0_i32_116
  let v275 : BitVec 32 := Scalar.extui v274
  let c0_i32_117 : BitVec 32 := 0#32
  let v276 : BitVec 1 := Scalar.cmpi .slt c64_i32_113 c0_i32_117
  let v277 : BitVec 32 := Scalar.extui v276
  let v278 : BitVec 32 := Scalar.subi v275 v277
  let v279 : BitVec 1 := Scalar.cmpi .ne v273 v278
  let v280 : BitVec 32 := Scalar.remsi v267 c64_i32_113
  let c0_i32_118 : BitVec 32 := 0#32
  let v281 : BitVec 1 := Scalar.cmpi .ne v280 c0_i32_118
  let v282 : BitVec 1 := Scalar.andi v279 v281
  let v268 : BitVec 32 := Scalar.divsi v267 c64_i32_113
  let c1_i32_119 : BitVec 32 := 1#32
  let v283 : BitVec 32 := Scalar.subi v268 c1_i32_119
  let v284 : BitVec 32 := Scalar.select v282 v283 v268
  let c156_i32 : BitVec 32 := 156#32
  let v285 : BitVec 32 := Scalar.minsi v284 c156_i32
  let v286 : BitVec 32 := Scalar.subi v285 v265
  let c2_i32_124 : BitVec 32 := 2#32
  let v293 : BitVec 32 := Scalar.addi v286 c2_i32_124
  let c1_i32_125 : BitVec 32 := 1#32
  let v294 : BitVec 32 := Scalar.subi v293 c1_i32_125
  let c0_i32_127 : BitVec 32 := 0#32
  let v296 : BitVec 1 := Scalar.cmpi .sgt v294 c0_i32_127
  let v297 : BitVec 32 := Scalar.extui v296
  let c0_i32_128 : BitVec 32 := 0#32
  let v298 : BitVec 1 := Scalar.cmpi .slt v294 c0_i32_128
  let v299 : BitVec 32 := Scalar.extui v298
  let v300 : BitVec 32 := Scalar.subi v297 v299
  let c2_i32_126 : BitVec 32 := 2#32
  let c0_i32_129 : BitVec 32 := 0#32
  let v301 : BitVec 1 := Scalar.cmpi .sgt c2_i32_126 c0_i32_129
  let v302 : BitVec 32 := Scalar.extui v301
  let c0_i32_130 : BitVec 32 := 0#32
  let v303 : BitVec 1 := Scalar.cmpi .slt c2_i32_126 c0_i32_130
  let v304 : BitVec 32 := Scalar.extui v303
  let v305 : BitVec 32 := Scalar.subi v302 v304
  let v306 : BitVec 1 := Scalar.cmpi .ne v300 v305
  let v307 : BitVec 32 := Scalar.remsi v294 c2_i32_126
  let c0_i32_131 : BitVec 32 := 0#32
  let v308 : BitVec 1 := Scalar.cmpi .ne v307 c0_i32_131
  let v309 : BitVec 1 := Scalar.andi v306 v308
  let v295 : BitVec 32 := Scalar.divsi v294 c2_i32_126
  let c1_i32_132 : BitVec 32 := 1#32
  let v310 : BitVec 32 := Scalar.subi v295 c1_i32_132
  let v311 : BitVec 32 := Scalar.select v309 v310 v295
  let v312 : BitVec 32 := Scalar.subi v311 c0_i32_134
  let c1_i32_135 : BitVec 32 := 1#32
  let v314 : BitVec 32 := Scalar.divsi v312 c1_i32_135
  let v315 : BitVec 32 := Scalar.muli v314 c1_i32_135
  let v316 : BitVec 32 := Scalar.addi c0_i32_134 v315
  let c1_i32_137 : BitVec 32 := 1#32
  let arg13 : BitVec 32 := Scf.iv v316 c1_i32_137 k0_t39
  let v320 : BitVec 32 := Scalar.muli c2_i32_139 arg13
  let v321 : BitVec 32 := Scalar.addi v265 v320
  let c1_i32_144 : BitVec 32 := 1#32
  let v330 : BitVec 32 := Scalar.addi v321 c1_i32_144
  let c2_i32_154 : BitVec 32 := 2#32
  let v339 : BitVec 32 := Scalar.addi v330 c2_i32_154
  let c64_i32_155 : BitVec 32 := 64#32
  let v340 : BitVec 32 := Scalar.muli v339 c64_i32_155
  let c0_i32_156 : BitVec 32 := 0#32
  ![v340.toNat, 0]
def k0_cond10 (i : grid0.Coords) (v66_0 : BitVec 32) (v74 : BitVec 32) (v79 : BitVec 32) (v84 : BitVec 32) (v89 : BitVec 32) (v94 : BitVec 32) (v99 : BitVec 32) (v104 : BitVec 32) (v109 : BitVec 32) (v114 : BitVec 32) (v119 : BitVec 32) (v124 : BitVec 32) (v129 : BitVec 32) (v134 : BitVec 32) (v139 : BitVec 32) (v144 : BitVec 32) (v149 : BitVec 32) (v158_0 : BitVec 32) (v166 : BitVec 32) (v171 : BitVec 32) (v176 : BitVec 32) (v181 : BitVec 32) (v186 : BitVec 32) (v191 : BitVec 32) (v196 : BitVec 32) (v201 : BitVec 32) (v206 : BitVec 32) (v211 : BitVec 32) (v216 : BitVec 32) (v221 : BitVec 32) (v226 : BitVec 32) (v231 : BitVec 32) (v236 : BitVec 32) (v241 : BitVec 32) (k0_t39 : Fin (k0_t39_loop i v66_0 v74 v79 v84 v89 v94 v99 v104 v109 v114 v119 v124 v129 v134 v139 v144 v149 v158_0 v166 v171 v176 v181 v186 v191 v196 v201 v206 v211 v216 v221 v226 v231 v236 v241).trips) : BitVec 1 :=
  let c0_i32_57 : BitVec 32 := 0#32
  let v153 : BitVec 1 := Scalar.cmpi .eq v66_0 c0_i32_57
  let c0_i32_59 : BitVec 32 := 0#32
  let c1_i32_22 : BitVec 32 := 1#32
  let v67 : BitVec 32 := Scalar.subi v66_0 c1_i32_22
  let c0_i32_23 : BitVec 32 := 0#32
  let v68 : BitVec 32 := Scalar.maxsi v67 c0_i32_23
  let c16_i32_58 : BitVec 32 := 16#32
  let v154 : BitVec 32 := Scalar.muli v68 c16_i32_58
  let c0_i32_26 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let v75 : BitVec 1 := Scalar.cmpi .slt v74 v2
  let c1_i32_24 : BitVec 32 := 1#32
  let c0_i32_25 : BitVec 32 := 0#32
  let v76 : BitVec 32 := Scalar.select v75 c1_i32_24 c0_i32_25
  let v77 : BitVec 32 := Scalar.addi c0_i32_26 v76
  let v80 : BitVec 1 := Scalar.cmpi .slt v79 v2
  let c1_i32_27 : BitVec 32 := 1#32
  let c0_i32_28 : BitVec 32 := 0#32
  let v81 : BitVec 32 := Scalar.select v80 c1_i32_27 c0_i32_28
  let v82 : BitVec 32 := Scalar.addi v77 v81
  let v85 : BitVec 1 := Scalar.cmpi .slt v84 v2
  let c1_i32_29 : BitVec 32 := 1#32
  let c0_i32_30 : BitVec 32 := 0#32
  let v86 : BitVec 32 := Scalar.select v85 c1_i32_29 c0_i32_30
  let v87 : BitVec 32 := Scalar.addi v82 v86
  let v90 : BitVec 1 := Scalar.cmpi .slt v89 v2
  let c1_i32_31 : BitVec 32 := 1#32
  let c0_i32_32 : BitVec 32 := 0#32
  let v91 : BitVec 32 := Scalar.select v90 c1_i32_31 c0_i32_32
  let v92 : BitVec 32 := Scalar.addi v87 v91
  let v95 : BitVec 1 := Scalar.cmpi .slt v94 v2
  let c1_i32_33 : BitVec 32 := 1#32
  let c0_i32_34 : BitVec 32 := 0#32
  let v96 : BitVec 32 := Scalar.select v95 c1_i32_33 c0_i32_34
  let v97 : BitVec 32 := Scalar.addi v92 v96
  let v100 : BitVec 1 := Scalar.cmpi .slt v99 v2
  let c1_i32_35 : BitVec 32 := 1#32
  let c0_i32_36 : BitVec 32 := 0#32
  let v101 : BitVec 32 := Scalar.select v100 c1_i32_35 c0_i32_36
  let v102 : BitVec 32 := Scalar.addi v97 v101
  let v105 : BitVec 1 := Scalar.cmpi .slt v104 v2
  let c1_i32_37 : BitVec 32 := 1#32
  let c0_i32_38 : BitVec 32 := 0#32
  let v106 : BitVec 32 := Scalar.select v105 c1_i32_37 c0_i32_38
  let v107 : BitVec 32 := Scalar.addi v102 v106
  let v110 : BitVec 1 := Scalar.cmpi .slt v109 v2
  let c1_i32_39 : BitVec 32 := 1#32
  let c0_i32_40 : BitVec 32 := 0#32
  let v111 : BitVec 32 := Scalar.select v110 c1_i32_39 c0_i32_40
  let v112 : BitVec 32 := Scalar.addi v107 v111
  let v115 : BitVec 1 := Scalar.cmpi .slt v114 v2
  let c1_i32_41 : BitVec 32 := 1#32
  let c0_i32_42 : BitVec 32 := 0#32
  let v116 : BitVec 32 := Scalar.select v115 c1_i32_41 c0_i32_42
  let v117 : BitVec 32 := Scalar.addi v112 v116
  let v120 : BitVec 1 := Scalar.cmpi .slt v119 v2
  let c1_i32_43 : BitVec 32 := 1#32
  let c0_i32_44 : BitVec 32 := 0#32
  let v121 : BitVec 32 := Scalar.select v120 c1_i32_43 c0_i32_44
  let v122 : BitVec 32 := Scalar.addi v117 v121
  let v125 : BitVec 1 := Scalar.cmpi .slt v124 v2
  let c1_i32_45 : BitVec 32 := 1#32
  let c0_i32_46 : BitVec 32 := 0#32
  let v126 : BitVec 32 := Scalar.select v125 c1_i32_45 c0_i32_46
  let v127 : BitVec 32 := Scalar.addi v122 v126
  let v130 : BitVec 1 := Scalar.cmpi .slt v129 v2
  let c1_i32_47 : BitVec 32 := 1#32
  let c0_i32_48 : BitVec 32 := 0#32
  let v131 : BitVec 32 := Scalar.select v130 c1_i32_47 c0_i32_48
  let v132 : BitVec 32 := Scalar.addi v127 v131
  let v135 : BitVec 1 := Scalar.cmpi .slt v134 v2
  let c1_i32_49 : BitVec 32 := 1#32
  let c0_i32_50 : BitVec 32 := 0#32
  let v136 : BitVec 32 := Scalar.select v135 c1_i32_49 c0_i32_50
  let v137 : BitVec 32 := Scalar.addi v132 v136
  let v140 : BitVec 1 := Scalar.cmpi .slt v139 v2
  let c1_i32_51 : BitVec 32 := 1#32
  let c0_i32_52 : BitVec 32 := 0#32
  let v141 : BitVec 32 := Scalar.select v140 c1_i32_51 c0_i32_52
  let v142 : BitVec 32 := Scalar.addi v137 v141
  let v145 : BitVec 1 := Scalar.cmpi .slt v144 v2
  let c1_i32_53 : BitVec 32 := 1#32
  let c0_i32_54 : BitVec 32 := 0#32
  let v146 : BitVec 32 := Scalar.select v145 c1_i32_53 c0_i32_54
  let v147 : BitVec 32 := Scalar.addi v142 v146
  let v150 : BitVec 1 := Scalar.cmpi .slt v149 v2
  let c1_i32_55 : BitVec 32 := 1#32
  let c0_i32_56 : BitVec 32 := 0#32
  let v151 : BitVec 32 := Scalar.select v150 c1_i32_55 c0_i32_56
  let v152 : BitVec 32 := Scalar.addi v147 v151
  let v155 : BitVec 32 := Scalar.addi v154 v152
  let v156 : BitVec 32 := Scalar.select v153 c0_i32_59 v155
  let c0_i32_105 : BitVec 32 := 0#32
  let v250 : BitVec 1 := Scalar.cmpi .sgt v156 c0_i32_105
  let v251 : BitVec 32 := Scalar.extui v250
  let c0_i32_106 : BitVec 32 := 0#32
  let v252 : BitVec 1 := Scalar.cmpi .slt v156 c0_i32_106
  let v253 : BitVec 32 := Scalar.extui v252
  let v254 : BitVec 32 := Scalar.subi v251 v253
  let c64_i32 : BitVec 32 := 64#32
  let c0_i32_107 : BitVec 32 := 0#32
  let v255 : BitVec 1 := Scalar.cmpi .sgt c64_i32 c0_i32_107
  let v256 : BitVec 32 := Scalar.extui v255
  let c0_i32_108 : BitVec 32 := 0#32
  let v257 : BitVec 1 := Scalar.cmpi .slt c64_i32 c0_i32_108
  let v258 : BitVec 32 := Scalar.extui v257
  let v259 : BitVec 32 := Scalar.subi v256 v258
  let v260 : BitVec 1 := Scalar.cmpi .ne v254 v259
  let v261 : BitVec 32 := Scalar.remsi v156 c64_i32
  let c0_i32_109 : BitVec 32 := 0#32
  let v262 : BitVec 1 := Scalar.cmpi .ne v261 c0_i32_109
  let v263 : BitVec 1 := Scalar.andi v260 v262
  let v249 : BitVec 32 := Scalar.divsi v156 c64_i32
  let c1_i32_110 : BitVec 32 := 1#32
  let v264 : BitVec 32 := Scalar.subi v249 c1_i32_110
  let v265 : BitVec 32 := Scalar.select v263 v264 v249
  let c2_i32_139 : BitVec 32 := 2#32
  let c0_i32_134 : BitVec 32 := 0#32
  let c0_i32_102 : BitVec 32 := 0#32
  let v245 : BitVec 1 := Scalar.cmpi .eq v158_0 c0_i32_102
  let c0_i32_104 : BitVec 32 := 0#32
  let c1_i32_66 : BitVec 32 := 1#32
  let v159 : BitVec 32 := Scalar.subi v158_0 c1_i32_66
  let c0_i32_67 : BitVec 32 := 0#32
  let v160 : BitVec 32 := Scalar.maxsi v159 c0_i32_67
  let c16_i32_103 : BitVec 32 := 16#32
  let v246 : BitVec 32 := Scalar.muli v160 c16_i32_103
  let c0_i32_71 : BitVec 32 := 0#32
  let c32_i32_0 : BitVec 32 := 32#32
  let v3 : BitVec 32 := Scalar.addi v2 c32_i32_0
  let v167 : BitVec 1 := Scalar.cmpi .slt v166 v3
  let c1_i32_69 : BitVec 32 := 1#32
  let c0_i32_70 : BitVec 32 := 0#32
  let v168 : BitVec 32 := Scalar.select v167 c1_i32_69 c0_i32_70
  let v169 : BitVec 32 := Scalar.addi c0_i32_71 v168
  let v172 : BitVec 1 := Scalar.cmpi .slt v171 v3
  let c1_i32_72 : BitVec 32 := 1#32
  let c0_i32_73 : BitVec 32 := 0#32
  let v173 : BitVec 32 := Scalar.select v172 c1_i32_72 c0_i32_73
  let v174 : BitVec 32 := Scalar.addi v169 v173
  let v177 : BitVec 1 := Scalar.cmpi .slt v176 v3
  let c1_i32_74 : BitVec 32 := 1#32
  let c0_i32_75 : BitVec 32 := 0#32
  let v178 : BitVec 32 := Scalar.select v177 c1_i32_74 c0_i32_75
  let v179 : BitVec 32 := Scalar.addi v174 v178
  let v182 : BitVec 1 := Scalar.cmpi .slt v181 v3
  let c1_i32_76 : BitVec 32 := 1#32
  let c0_i32_77 : BitVec 32 := 0#32
  let v183 : BitVec 32 := Scalar.select v182 c1_i32_76 c0_i32_77
  let v184 : BitVec 32 := Scalar.addi v179 v183
  let v187 : BitVec 1 := Scalar.cmpi .slt v186 v3
  let c1_i32_78 : BitVec 32 := 1#32
  let c0_i32_79 : BitVec 32 := 0#32
  let v188 : BitVec 32 := Scalar.select v187 c1_i32_78 c0_i32_79
  let v189 : BitVec 32 := Scalar.addi v184 v188
  let v192 : BitVec 1 := Scalar.cmpi .slt v191 v3
  let c1_i32_80 : BitVec 32 := 1#32
  let c0_i32_81 : BitVec 32 := 0#32
  let v193 : BitVec 32 := Scalar.select v192 c1_i32_80 c0_i32_81
  let v194 : BitVec 32 := Scalar.addi v189 v193
  let v197 : BitVec 1 := Scalar.cmpi .slt v196 v3
  let c1_i32_82 : BitVec 32 := 1#32
  let c0_i32_83 : BitVec 32 := 0#32
  let v198 : BitVec 32 := Scalar.select v197 c1_i32_82 c0_i32_83
  let v199 : BitVec 32 := Scalar.addi v194 v198
  let v202 : BitVec 1 := Scalar.cmpi .slt v201 v3
  let c1_i32_84 : BitVec 32 := 1#32
  let c0_i32_85 : BitVec 32 := 0#32
  let v203 : BitVec 32 := Scalar.select v202 c1_i32_84 c0_i32_85
  let v204 : BitVec 32 := Scalar.addi v199 v203
  let v207 : BitVec 1 := Scalar.cmpi .slt v206 v3
  let c1_i32_86 : BitVec 32 := 1#32
  let c0_i32_87 : BitVec 32 := 0#32
  let v208 : BitVec 32 := Scalar.select v207 c1_i32_86 c0_i32_87
  let v209 : BitVec 32 := Scalar.addi v204 v208
  let v212 : BitVec 1 := Scalar.cmpi .slt v211 v3
  let c1_i32_88 : BitVec 32 := 1#32
  let c0_i32_89 : BitVec 32 := 0#32
  let v213 : BitVec 32 := Scalar.select v212 c1_i32_88 c0_i32_89
  let v214 : BitVec 32 := Scalar.addi v209 v213
  let v217 : BitVec 1 := Scalar.cmpi .slt v216 v3
  let c1_i32_90 : BitVec 32 := 1#32
  let c0_i32_91 : BitVec 32 := 0#32
  let v218 : BitVec 32 := Scalar.select v217 c1_i32_90 c0_i32_91
  let v219 : BitVec 32 := Scalar.addi v214 v218
  let v222 : BitVec 1 := Scalar.cmpi .slt v221 v3
  let c1_i32_92 : BitVec 32 := 1#32
  let c0_i32_93 : BitVec 32 := 0#32
  let v223 : BitVec 32 := Scalar.select v222 c1_i32_92 c0_i32_93
  let v224 : BitVec 32 := Scalar.addi v219 v223
  let v227 : BitVec 1 := Scalar.cmpi .slt v226 v3
  let c1_i32_94 : BitVec 32 := 1#32
  let c0_i32_95 : BitVec 32 := 0#32
  let v228 : BitVec 32 := Scalar.select v227 c1_i32_94 c0_i32_95
  let v229 : BitVec 32 := Scalar.addi v224 v228
  let v232 : BitVec 1 := Scalar.cmpi .slt v231 v3
  let c1_i32_96 : BitVec 32 := 1#32
  let c0_i32_97 : BitVec 32 := 0#32
  let v233 : BitVec 32 := Scalar.select v232 c1_i32_96 c0_i32_97
  let v234 : BitVec 32 := Scalar.addi v229 v233
  let v237 : BitVec 1 := Scalar.cmpi .slt v236 v3
  let c1_i32_98 : BitVec 32 := 1#32
  let c0_i32_99 : BitVec 32 := 0#32
  let v238 : BitVec 32 := Scalar.select v237 c1_i32_98 c0_i32_99
  let v239 : BitVec 32 := Scalar.addi v234 v238
  let v242 : BitVec 1 := Scalar.cmpi .slt v241 v3
  let c1_i32_100 : BitVec 32 := 1#32
  let c0_i32_101 : BitVec 32 := 0#32
  let v243 : BitVec 32 := Scalar.select v242 c1_i32_100 c0_i32_101
  let v244 : BitVec 32 := Scalar.addi v239 v243
  let v247 : BitVec 32 := Scalar.addi v246 v244
  let v248 : BitVec 32 := Scalar.select v245 c0_i32_104 v247
  let c64_i32_111 : BitVec 32 := 64#32
  let v266 : BitVec 32 := Scalar.addi v248 c64_i32_111
  let c1_i32_112 : BitVec 32 := 1#32
  let v267 : BitVec 32 := Scalar.subi v266 c1_i32_112
  let c0_i32_114 : BitVec 32 := 0#32
  let v269 : BitVec 1 := Scalar.cmpi .sgt v267 c0_i32_114
  let v270 : BitVec 32 := Scalar.extui v269
  let c0_i32_115 : BitVec 32 := 0#32
  let v271 : BitVec 1 := Scalar.cmpi .slt v267 c0_i32_115
  let v272 : BitVec 32 := Scalar.extui v271
  let v273 : BitVec 32 := Scalar.subi v270 v272
  let c64_i32_113 : BitVec 32 := 64#32
  let c0_i32_116 : BitVec 32 := 0#32
  let v274 : BitVec 1 := Scalar.cmpi .sgt c64_i32_113 c0_i32_116
  let v275 : BitVec 32 := Scalar.extui v274
  let c0_i32_117 : BitVec 32 := 0#32
  let v276 : BitVec 1 := Scalar.cmpi .slt c64_i32_113 c0_i32_117
  let v277 : BitVec 32 := Scalar.extui v276
  let v278 : BitVec 32 := Scalar.subi v275 v277
  let v279 : BitVec 1 := Scalar.cmpi .ne v273 v278
  let v280 : BitVec 32 := Scalar.remsi v267 c64_i32_113
  let c0_i32_118 : BitVec 32 := 0#32
  let v281 : BitVec 1 := Scalar.cmpi .ne v280 c0_i32_118
  let v282 : BitVec 1 := Scalar.andi v279 v281
  let v268 : BitVec 32 := Scalar.divsi v267 c64_i32_113
  let c1_i32_119 : BitVec 32 := 1#32
  let v283 : BitVec 32 := Scalar.subi v268 c1_i32_119
  let v284 : BitVec 32 := Scalar.select v282 v283 v268
  let c156_i32 : BitVec 32 := 156#32
  let v285 : BitVec 32 := Scalar.minsi v284 c156_i32
  let v286 : BitVec 32 := Scalar.subi v285 v265
  let c2_i32_124 : BitVec 32 := 2#32
  let v293 : BitVec 32 := Scalar.addi v286 c2_i32_124
  let c1_i32_125 : BitVec 32 := 1#32
  let v294 : BitVec 32 := Scalar.subi v293 c1_i32_125
  let c0_i32_127 : BitVec 32 := 0#32
  let v296 : BitVec 1 := Scalar.cmpi .sgt v294 c0_i32_127
  let v297 : BitVec 32 := Scalar.extui v296
  let c0_i32_128 : BitVec 32 := 0#32
  let v298 : BitVec 1 := Scalar.cmpi .slt v294 c0_i32_128
  let v299 : BitVec 32 := Scalar.extui v298
  let v300 : BitVec 32 := Scalar.subi v297 v299
  let c2_i32_126 : BitVec 32 := 2#32
  let c0_i32_129 : BitVec 32 := 0#32
  let v301 : BitVec 1 := Scalar.cmpi .sgt c2_i32_126 c0_i32_129
  let v302 : BitVec 32 := Scalar.extui v301
  let c0_i32_130 : BitVec 32 := 0#32
  let v303 : BitVec 1 := Scalar.cmpi .slt c2_i32_126 c0_i32_130
  let v304 : BitVec 32 := Scalar.extui v303
  let v305 : BitVec 32 := Scalar.subi v302 v304
  let v306 : BitVec 1 := Scalar.cmpi .ne v300 v305
  let v307 : BitVec 32 := Scalar.remsi v294 c2_i32_126
  let c0_i32_131 : BitVec 32 := 0#32
  let v308 : BitVec 1 := Scalar.cmpi .ne v307 c0_i32_131
  let v309 : BitVec 1 := Scalar.andi v306 v308
  let v295 : BitVec 32 := Scalar.divsi v294 c2_i32_126
  let c1_i32_132 : BitVec 32 := 1#32
  let v310 : BitVec 32 := Scalar.subi v295 c1_i32_132
  let v311 : BitVec 32 := Scalar.select v309 v310 v295
  let v312 : BitVec 32 := Scalar.subi v311 c0_i32_134
  let c1_i32_135 : BitVec 32 := 1#32
  let v314 : BitVec 32 := Scalar.divsi v312 c1_i32_135
  let v315 : BitVec 32 := Scalar.muli v314 c1_i32_135
  let v316 : BitVec 32 := Scalar.addi c0_i32_134 v315
  let c1_i32_137 : BitVec 32 := 1#32
  let arg13 : BitVec 32 := Scf.iv v316 c1_i32_137 k0_t39
  let v320 : BitVec 32 := Scalar.muli c2_i32_139 arg13
  let v321 : BitVec 32 := Scalar.addi v265 v320
  let c1_i32_144 : BitVec 32 := 1#32
  let v330 : BitVec 32 := Scalar.addi v321 c1_i32_144
  let c2_i32_152 : BitVec 32 := 2#32
  let v335 : BitVec 32 := Scalar.addi v330 c2_i32_152
  let v336 : BitVec 1 := Scalar.cmpi .slt v335 v285
  let v337 : BitVec 32 := Scalar.extui v336
  let c0_i32_153 : BitVec 32 := 0#32
  let v338 : BitVec 1 := Scalar.cmpi .ne v337 c0_i32_153
  v338

def k0_chk5 (i : grid0.Coords) (v66_0 : BitVec 32) (v74 : BitVec 32) (v79 : BitVec 32) (v84 : BitVec 32) (v89 : BitVec 32) (v94 : BitVec 32) (v99 : BitVec 32) (v104 : BitVec 32) (v109 : BitVec 32) (v114 : BitVec 32) (v119 : BitVec 32) (v124 : BitVec 32) (v129 : BitVec 32) (v134 : BitVec 32) (v139 : BitVec 32) (v144 : BitVec 32) (v149 : BitVec 32) (v158_0 : BitVec 32) (v166 : BitVec 32) (v171 : BitVec 32) (v176 : BitVec 32) (v181 : BitVec 32) (v186 : BitVec 32) (v191 : BitVec 32) (v196 : BitVec 32) (v201 : BitVec 32) (v206 : BitVec 32) (v211 : BitVec 32) (v216 : BitVec 32) (v221 : BitVec 32) (v226 : BitVec 32) (v231 : BitVec 32) (v236 : BitVec 32) (v241 : BitVec 32) : Prop :=
  (∀ (k0_h1 : k0_cond1 i v66_0 v74 v79 v84 v89 v94 v99 v104 v109 v114 v119 v124 v129 v134 v139 v144 v149 v158_0 v166 v171 v176 v181 v186 v191 v196 v201 v206 v211 v216 v221 v226 v231 v236 v241 = 1#1), ∀ a, (k0_off37 i v66_0 v74 v79 v84 v89 v94 v99 v104 v109 v114 v119 v124 v129 v134 v139 v144 v149) a + S64x512.size a ≤ S10000x512.size a) ∧
  (∀ (k0_h2 : k0_cond2 i v66_0 v74 v79 v84 v89 v94 v99 v104 v109 v114 v119 v124 v129 v134 v139 v144 v149 v158_0 v166 v171 v176 v181 v186 v191 v196 v201 v206 v211 v216 v221 v226 v231 v236 v241 = 1#1), ∀ a, (k0_off38 i v66_0 v74 v79 v84 v89 v94 v99 v104 v109 v114 v119 v124 v129 v134 v139 v144 v149) a + S64x512.size a ≤ S10000x512.size a) ∧
  ((k0_t4_loop i v66_0 v74 v79 v84 v89 v94 v99 v104 v109 v114 v119 v124 v129 v134 v139 v144 v149 v158_0 v166 v171 v176 v181 v186 v191 v196 v201 v206 v211 v216 v221 v226 v231 v236 v241).OK) ∧
  (∀ k0_t4 : Fin (k0_t4_loop i v66_0 v74 v79 v84 v89 v94 v99 v104 v109 v114 v119 v124 v129 v134 v139 v144 v149 v158_0 v166 v171 v176 v181 v186 v191 v196 v201 v206 v211 v216 v221 v226 v231 v236 v241).trips, ∀ (k0_h3 : k0_cond3 i v66_0 v74 v79 v84 v89 v94 v99 v104 v109 v114 v119 v124 v129 v134 v139 v144 v149 v158_0 v166 v171 v176 v181 v186 v191 v196 v201 v206 v211 v216 v221 v226 v231 v236 v241 k0_t4 = 1#1), ∀ a, (k0_off39 i v66_0 v74 v79 v84 v89 v94 v99 v104 v109 v114 v119 v124 v129 v134 v139 v144 v149 v158_0 v166 v171 v176 v181 v186 v191 v196 v201 v206 v211 v216 v221 v226 v231 v236 v241 k0_t4) a + S64x512.size a ≤ S10000x512.size a) ∧
  (∀ (k0_t4 : Fin (k0_t4_loop i v66_0 v74 v79 v84 v89 v94 v99 v104 v109 v114 v119 v124 v129 v134 v139 v144 v149 v158_0 v166 v171 v176 v181 v186 v191 v196 v201 v206 v211 v216 v221 v226 v231 v236 v241).trips) (k0_t5 : Fin k0_t5_loop.trips), ∀ (k0_h3 : k0_cond3 i v66_0 v74 v79 v84 v89 v94 v99 v104 v109 v114 v119 v124 v129 v134 v139 v144 v149 v158_0 v166 v171 v176 v181 v186 v191 v196 v201 v206 v211 v216 v221 v226 v231 v236 v241 k0_t4 = 1#1), ∀ a, (k0_off40 i v66_0 v74 v79 v84 v89 v94 v99 v104 v109 v114 v119 v124 v129 v134 v139 v144 v149 v158_0 v166 v171 v176 v181 v186 v191 v196 v201 v206 v211 v216 v221 v226 v231 v236 v241 k0_t4 k0_t5) a + S16.size a ≤ S10240.size a) ∧
  (∀ (k0_t4 : Fin (k0_t4_loop i v66_0 v74 v79 v84 v89 v94 v99 v104 v109 v114 v119 v124 v129 v134 v139 v144 v149 v158_0 v166 v171 v176 v181 v186 v191 v196 v201 v206 v211 v216 v221 v226 v231 v236 v241).trips) (k0_t5 : Fin k0_t5_loop.trips), ∀ (k0_h3 : k0_cond3 i v66_0 v74 v79 v84 v89 v94 v99 v104 v109 v114 v119 v124 v129 v134 v139 v144 v149 v158_0 v166 v171 v176 v181 v186 v191 v196 v201 v206 v211 v216 v221 v226 v231 v236 v241 k0_t4 = 1#1), ∀ a, (k0_off41 i v66_0 v74 v79 v84 v89 v94 v99 v104 v109 v114 v119 v124 v129 v134 v139 v144 v149 v158_0 v166 v171 v176 v181 v186 v191 v196 v201 v206 v211 v216 v221 v226 v231 v236 v241 k0_t4 k0_t5) a + S16.size a ≤ S10000.size a) ∧
  (∀ k0_t4 : Fin (k0_t4_loop i v66_0 v74 v79 v84 v89 v94 v99 v104 v109 v114 v119 v124 v129 v134 v139 v144 v149 v158_0 v166 v171 v176 v181 v186 v191 v196 v201 v206 v211 v216 v221 v226 v231 v236 v241).trips, ∀ (k0_h3 : k0_cond3 i v66_0 v74 v79 v84 v89 v94 v99 v104 v109 v114 v119 v124 v129 v134 v139 v144 v149 v158_0 v166 v171 v176 v181 v186 v191 v196 v201 v206 v211 v216 v221 v226 v231 v236 v241 k0_t4 = 1#1), ∀ (k0_h4 : k0_cond4 i v66_0 v74 v79 v84 v89 v94 v99 v104 v109 v114 v119 v124 v129 v134 v139 v144 v149 v158_0 v166 v171 v176 v181 v186 v191 v196 v201 v206 v211 v216 v221 v226 v231 v236 v241 k0_t4 = 1#1), ∀ a, (k0_off106 i v66_0 v74 v79 v84 v89 v94 v99 v104 v109 v114 v119 v124 v129 v134 v139 v144 v149 v158_0 v166 v171 v176 v181 v186 v191 v196 v201 v206 v211 v216 v221 v226 v231 v236 v241 k0_t4) a + S64x512.size a ≤ S10000x512.size a) ∧
  (∀ k0_t4 : Fin (k0_t4_loop i v66_0 v74 v79 v84 v89 v94 v99 v104 v109 v114 v119 v124 v129 v134 v139 v144 v149 v158_0 v166 v171 v176 v181 v186 v191 v196 v201 v206 v211 v216 v221 v226 v231 v236 v241).trips, ∀ (k0_h5 : k0_cond5 i v66_0 v74 v79 v84 v89 v94 v99 v104 v109 v114 v119 v124 v129 v134 v139 v144 v149 v158_0 v166 v171 v176 v181 v186 v191 v196 v201 v206 v211 v216 v221 v226 v231 v236 v241 k0_t4 = 1#1), ∀ a, (k0_off107 i v66_0 v74 v79 v84 v89 v94 v99 v104 v109 v114 v119 v124 v129 v134 v139 v144 v149 v158_0 v166 v171 v176 v181 v186 v191 v196 v201 v206 v211 v216 v221 v226 v231 v236 v241 k0_t4) a + S64x512.size a ≤ S10000x512.size a) ∧
  (∀ (k0_t4 : Fin (k0_t4_loop i v66_0 v74 v79 v84 v89 v94 v99 v104 v109 v114 v119 v124 v129 v134 v139 v144 v149 v158_0 v166 v171 v176 v181 v186 v191 v196 v201 v206 v211 v216 v221 v226 v231 v236 v241).trips) (k0_t22 : Fin k0_t22_loop.trips), ∀ (k0_h5 : k0_cond5 i v66_0 v74 v79 v84 v89 v94 v99 v104 v109 v114 v119 v124 v129 v134 v139 v144 v149 v158_0 v166 v171 v176 v181 v186 v191 v196 v201 v206 v211 v216 v221 v226 v231 v236 v241 k0_t4 = 1#1), ∀ a, (k0_off108 i v66_0 v74 v79 v84 v89 v94 v99 v104 v109 v114 v119 v124 v129 v134 v139 v144 v149 v158_0 v166 v171 v176 v181 v186 v191 v196 v201 v206 v211 v216 v221 v226 v231 v236 v241 k0_t4 k0_t22) a + S16.size a ≤ S10240.size a) ∧
  (∀ (k0_t4 : Fin (k0_t4_loop i v66_0 v74 v79 v84 v89 v94 v99 v104 v109 v114 v119 v124 v129 v134 v139 v144 v149 v158_0 v166 v171 v176 v181 v186 v191 v196 v201 v206 v211 v216 v221 v226 v231 v236 v241).trips) (k0_t22 : Fin k0_t22_loop.trips), ∀ (k0_h5 : k0_cond5 i v66_0 v74 v79 v84 v89 v94 v99 v104 v109 v114 v119 v124 v129 v134 v139 v144 v149 v158_0 v166 v171 v176 v181 v186 v191 v196 v201 v206 v211 v216 v221 v226 v231 v236 v241 k0_t4 = 1#1), ∀ a, (k0_off109 i v66_0 v74 v79 v84 v89 v94 v99 v104 v109 v114 v119 v124 v129 v134 v139 v144 v149 v158_0 v166 v171 v176 v181 v186 v191 v196 v201 v206 v211 v216 v221 v226 v231 v236 v241 k0_t4 k0_t22) a + S16.size a ≤ S10000.size a) ∧
  (∀ k0_t4 : Fin (k0_t4_loop i v66_0 v74 v79 v84 v89 v94 v99 v104 v109 v114 v119 v124 v129 v134 v139 v144 v149 v158_0 v166 v171 v176 v181 v186 v191 v196 v201 v206 v211 v216 v221 v226 v231 v236 v241).trips, ∀ (k0_h5 : k0_cond5 i v66_0 v74 v79 v84 v89 v94 v99 v104 v109 v114 v119 v124 v129 v134 v139 v144 v149 v158_0 v166 v171 v176 v181 v186 v191 v196 v201 v206 v211 v216 v221 v226 v231 v236 v241 k0_t4 = 1#1), ∀ (k0_h6 : k0_cond6 i v66_0 v74 v79 v84 v89 v94 v99 v104 v109 v114 v119 v124 v129 v134 v139 v144 v149 v158_0 v166 v171 v176 v181 v186 v191 v196 v201 v206 v211 v216 v221 v226 v231 v236 v241 k0_t4 = 1#1), ∀ a, (k0_off174 i v66_0 v74 v79 v84 v89 v94 v99 v104 v109 v114 v119 v124 v129 v134 v139 v144 v149 v158_0 v166 v171 v176 v181 v186 v191 v196 v201 v206 v211 v216 v221 v226 v231 v236 v241 k0_t4) a + S64x512.size a ≤ S10000x512.size a) ∧
  ((k0_t39_loop i v66_0 v74 v79 v84 v89 v94 v99 v104 v109 v114 v119 v124 v129 v134 v139 v144 v149 v158_0 v166 v171 v176 v181 v186 v191 v196 v201 v206 v211 v216 v221 v226 v231 v236 v241).OK) ∧
  (∀ k0_t39 : Fin (k0_t39_loop i v66_0 v74 v79 v84 v89 v94 v99 v104 v109 v114 v119 v124 v129 v134 v139 v144 v149 v158_0 v166 v171 v176 v181 v186 v191 v196 v201 v206 v211 v216 v221 v226 v231 v236 v241).trips, ∀ (k0_h7 : k0_cond7 i v66_0 v74 v79 v84 v89 v94 v99 v104 v109 v114 v119 v124 v129 v134 v139 v144 v149 v158_0 v166 v171 v176 v181 v186 v191 v196 v201 v206 v211 v216 v221 v226 v231 v236 v241 k0_t39 = 1#1), ∀ a, (k0_off175 i v66_0 v74 v79 v84 v89 v94 v99 v104 v109 v114 v119 v124 v129 v134 v139 v144 v149 v158_0 v166 v171 v176 v181 v186 v191 v196 v201 v206 v211 v216 v221 v226 v231 v236 v241 k0_t39) a + S64x512.size a ≤ S10000x512.size a) ∧
  (∀ (k0_t39 : Fin (k0_t39_loop i v66_0 v74 v79 v84 v89 v94 v99 v104 v109 v114 v119 v124 v129 v134 v139 v144 v149 v158_0 v166 v171 v176 v181 v186 v191 v196 v201 v206 v211 v216 v221 v226 v231 v236 v241).trips) (k0_t40 : Fin k0_t40_loop.trips), ∀ (k0_h7 : k0_cond7 i v66_0 v74 v79 v84 v89 v94 v99 v104 v109 v114 v119 v124 v129 v134 v139 v144 v149 v158_0 v166 v171 v176 v181 v186 v191 v196 v201 v206 v211 v216 v221 v226 v231 v236 v241 k0_t39 = 1#1), ∀ a, (k0_off176 i v66_0 v74 v79 v84 v89 v94 v99 v104 v109 v114 v119 v124 v129 v134 v139 v144 v149 v158_0 v166 v171 v176 v181 v186 v191 v196 v201 v206 v211 v216 v221 v226 v231 v236 v241 k0_t39 k0_t40) a + S16.size a ≤ S10240.size a) ∧
  (∀ (k0_t39 : Fin (k0_t39_loop i v66_0 v74 v79 v84 v89 v94 v99 v104 v109 v114 v119 v124 v129 v134 v139 v144 v149 v158_0 v166 v171 v176 v181 v186 v191 v196 v201 v206 v211 v216 v221 v226 v231 v236 v241).trips) (k0_t40 : Fin k0_t40_loop.trips), ∀ (k0_h7 : k0_cond7 i v66_0 v74 v79 v84 v89 v94 v99 v104 v109 v114 v119 v124 v129 v134 v139 v144 v149 v158_0 v166 v171 v176 v181 v186 v191 v196 v201 v206 v211 v216 v221 v226 v231 v236 v241 k0_t39 = 1#1), ∀ a, (k0_off177 i v66_0 v74 v79 v84 v89 v94 v99 v104 v109 v114 v119 v124 v129 v134 v139 v144 v149 v158_0 v166 v171 v176 v181 v186 v191 v196 v201 v206 v211 v216 v221 v226 v231 v236 v241 k0_t39 k0_t40) a + S16.size a ≤ S10000.size a) ∧
  (∀ k0_t39 : Fin (k0_t39_loop i v66_0 v74 v79 v84 v89 v94 v99 v104 v109 v114 v119 v124 v129 v134 v139 v144 v149 v158_0 v166 v171 v176 v181 v186 v191 v196 v201 v206 v211 v216 v221 v226 v231 v236 v241).trips, ∀ (k0_h7 : k0_cond7 i v66_0 v74 v79 v84 v89 v94 v99 v104 v109 v114 v119 v124 v129 v134 v139 v144 v149 v158_0 v166 v171 v176 v181 v186 v191 v196 v201 v206 v211 v216 v221 v226 v231 v236 v241 k0_t39 = 1#1), ∀ (k0_h8 : k0_cond8 i v66_0 v74 v79 v84 v89 v94 v99 v104 v109 v114 v119 v124 v129 v134 v139 v144 v149 v158_0 v166 v171 v176 v181 v186 v191 v196 v201 v206 v211 v216 v221 v226 v231 v236 v241 k0_t39 = 1#1), ∀ a, (k0_off242 i v66_0 v74 v79 v84 v89 v94 v99 v104 v109 v114 v119 v124 v129 v134 v139 v144 v149 v158_0 v166 v171 v176 v181 v186 v191 v196 v201 v206 v211 v216 v221 v226 v231 v236 v241 k0_t39) a + S64x512.size a ≤ S10000x512.size a) ∧
  (∀ k0_t39 : Fin (k0_t39_loop i v66_0 v74 v79 v84 v89 v94 v99 v104 v109 v114 v119 v124 v129 v134 v139 v144 v149 v158_0 v166 v171 v176 v181 v186 v191 v196 v201 v206 v211 v216 v221 v226 v231 v236 v241).trips, ∀ (k0_h9 : k0_cond9 i v66_0 v74 v79 v84 v89 v94 v99 v104 v109 v114 v119 v124 v129 v134 v139 v144 v149 v158_0 v166 v171 v176 v181 v186 v191 v196 v201 v206 v211 v216 v221 v226 v231 v236 v241 k0_t39 = 1#1), ∀ a, (k0_off243 i v66_0 v74 v79 v84 v89 v94 v99 v104 v109 v114 v119 v124 v129 v134 v139 v144 v149 v158_0 v166 v171 v176 v181 v186 v191 v196 v201 v206 v211 v216 v221 v226 v231 v236 v241 k0_t39) a + S64x512.size a ≤ S10000x512.size a) ∧
  (∀ (k0_t39 : Fin (k0_t39_loop i v66_0 v74 v79 v84 v89 v94 v99 v104 v109 v114 v119 v124 v129 v134 v139 v144 v149 v158_0 v166 v171 v176 v181 v186 v191 v196 v201 v206 v211 v216 v221 v226 v231 v236 v241).trips) (k0_t57 : Fin k0_t57_loop.trips), ∀ (k0_h9 : k0_cond9 i v66_0 v74 v79 v84 v89 v94 v99 v104 v109 v114 v119 v124 v129 v134 v139 v144 v149 v158_0 v166 v171 v176 v181 v186 v191 v196 v201 v206 v211 v216 v221 v226 v231 v236 v241 k0_t39 = 1#1), ∀ a, (k0_off244 i v66_0 v74 v79 v84 v89 v94 v99 v104 v109 v114 v119 v124 v129 v134 v139 v144 v149 v158_0 v166 v171 v176 v181 v186 v191 v196 v201 v206 v211 v216 v221 v226 v231 v236 v241 k0_t39 k0_t57) a + S16.size a ≤ S10240.size a) ∧
  (∀ (k0_t39 : Fin (k0_t39_loop i v66_0 v74 v79 v84 v89 v94 v99 v104 v109 v114 v119 v124 v129 v134 v139 v144 v149 v158_0 v166 v171 v176 v181 v186 v191 v196 v201 v206 v211 v216 v221 v226 v231 v236 v241).trips) (k0_t57 : Fin k0_t57_loop.trips), ∀ (k0_h9 : k0_cond9 i v66_0 v74 v79 v84 v89 v94 v99 v104 v109 v114 v119 v124 v129 v134 v139 v144 v149 v158_0 v166 v171 v176 v181 v186 v191 v196 v201 v206 v211 v216 v221 v226 v231 v236 v241 k0_t39 = 1#1), ∀ a, (k0_off245 i v66_0 v74 v79 v84 v89 v94 v99 v104 v109 v114 v119 v124 v129 v134 v139 v144 v149 v158_0 v166 v171 v176 v181 v186 v191 v196 v201 v206 v211 v216 v221 v226 v231 v236 v241 k0_t39 k0_t57) a + S16.size a ≤ S10000.size a) ∧
  (∀ k0_t39 : Fin (k0_t39_loop i v66_0 v74 v79 v84 v89 v94 v99 v104 v109 v114 v119 v124 v129 v134 v139 v144 v149 v158_0 v166 v171 v176 v181 v186 v191 v196 v201 v206 v211 v216 v221 v226 v231 v236 v241).trips, ∀ (k0_h9 : k0_cond9 i v66_0 v74 v79 v84 v89 v94 v99 v104 v109 v114 v119 v124 v129 v134 v139 v144 v149 v158_0 v166 v171 v176 v181 v186 v191 v196 v201 v206 v211 v216 v221 v226 v231 v236 v241 k0_t39 = 1#1), ∀ (k0_h10 : k0_cond10 i v66_0 v74 v79 v84 v89 v94 v99 v104 v109 v114 v119 v124 v129 v134 v139 v144 v149 v158_0 v166 v171 v176 v181 v186 v191 v196 v201 v206 v211 v216 v221 v226 v231 v236 v241 k0_t39 = 1#1), ∀ a, (k0_off310 i v66_0 v74 v79 v84 v89 v94 v99 v104 v109 v114 v119 v124 v129 v134 v139 v144 v149 v158_0 v166 v171 v176 v181 v186 v191 v196 v201 v206 v211 v216 v221 v226 v231 v236 v241 k0_t39) a + S64x512.size a ≤ S10000x512.size a)
theorem k0_off37_inb : ∀ (i : grid0.Coords) (v66_0 : BitVec 32) (v74 : BitVec 32) (v79 : BitVec 32) (v84 : BitVec 32) (v89 : BitVec 32) (v94 : BitVec 32) (v99 : BitVec 32) (v104 : BitVec 32) (v109 : BitVec 32) (v114 : BitVec 32) (v119 : BitVec 32) (v124 : BitVec 32) (v129 : BitVec 32) (v134 : BitVec 32) (v139 : BitVec 32) (v144 : BitVec 32) (v149 : BitVec 32) (v158_0 : BitVec 32) (v166 : BitVec 32) (v171 : BitVec 32) (v176 : BitVec 32) (v181 : BitVec 32) (v186 : BitVec 32) (v191 : BitVec 32) (v196 : BitVec 32) (v201 : BitVec 32) (v206 : BitVec 32) (v211 : BitVec 32) (v216 : BitVec 32) (v221 : BitVec 32) (v226 : BitVec 32) (v231 : BitVec 32) (v236 : BitVec 32) (v241 : BitVec 32) (k0_hw5 : k0_chk5 i v66_0 v74 v79 v84 v89 v94 v99 v104 v109 v114 v119 v124 v129 v134 v139 v144 v149 v158_0 v166 v171 v176 v181 v186 v191 v196 v201 v206 v211 v216 v221 v226 v231 v236 v241), ∀ (k0_h1 : k0_cond1 i v66_0 v74 v79 v84 v89 v94 v99 v104 v109 v114 v119 v124 v129 v134 v139 v144 v149 v158_0 v166 v171 v176 v181 v186 v191 v196 v201 v206 v211 v216 v221 v226 v231 v236 v241 = 1#1), ∀ a, (k0_off37 i v66_0 v74 v79 v84 v89 v94 v99 v104 v109 v114 v119 v124 v129 v134 v139 v144 v149) a + S64x512.size a ≤ S10000x512.size a := fun i v66_0 v74 v79 v84 v89 v94 v99 v104 v109 v114 v119 v124 v129 v134 v139 v144 v149 v158_0 v166 v171 v176 v181 v186 v191 v196 v201 v206 v211 v216 v221 v226 v231 v236 v241 k0_hw5 k0_h1 => k0_hw5.1 k0_h1
theorem k0_off38_inb : ∀ (i : grid0.Coords) (v66_0 : BitVec 32) (v74 : BitVec 32) (v79 : BitVec 32) (v84 : BitVec 32) (v89 : BitVec 32) (v94 : BitVec 32) (v99 : BitVec 32) (v104 : BitVec 32) (v109 : BitVec 32) (v114 : BitVec 32) (v119 : BitVec 32) (v124 : BitVec 32) (v129 : BitVec 32) (v134 : BitVec 32) (v139 : BitVec 32) (v144 : BitVec 32) (v149 : BitVec 32) (v158_0 : BitVec 32) (v166 : BitVec 32) (v171 : BitVec 32) (v176 : BitVec 32) (v181 : BitVec 32) (v186 : BitVec 32) (v191 : BitVec 32) (v196 : BitVec 32) (v201 : BitVec 32) (v206 : BitVec 32) (v211 : BitVec 32) (v216 : BitVec 32) (v221 : BitVec 32) (v226 : BitVec 32) (v231 : BitVec 32) (v236 : BitVec 32) (v241 : BitVec 32) (k0_hw5 : k0_chk5 i v66_0 v74 v79 v84 v89 v94 v99 v104 v109 v114 v119 v124 v129 v134 v139 v144 v149 v158_0 v166 v171 v176 v181 v186 v191 v196 v201 v206 v211 v216 v221 v226 v231 v236 v241), ∀ (k0_h2 : k0_cond2 i v66_0 v74 v79 v84 v89 v94 v99 v104 v109 v114 v119 v124 v129 v134 v139 v144 v149 v158_0 v166 v171 v176 v181 v186 v191 v196 v201 v206 v211 v216 v221 v226 v231 v236 v241 = 1#1), ∀ a, (k0_off38 i v66_0 v74 v79 v84 v89 v94 v99 v104 v109 v114 v119 v124 v129 v134 v139 v144 v149) a + S64x512.size a ≤ S10000x512.size a := fun i v66_0 v74 v79 v84 v89 v94 v99 v104 v109 v114 v119 v124 v129 v134 v139 v144 v149 v158_0 v166 v171 v176 v181 v186 v191 v196 v201 v206 v211 v216 v221 v226 v231 v236 v241 k0_hw5 k0_h2 => k0_hw5.2.1 k0_h2
theorem k0_t4_ok : ∀ (i : grid0.Coords) (v66_0 : BitVec 32) (v74 : BitVec 32) (v79 : BitVec 32) (v84 : BitVec 32) (v89 : BitVec 32) (v94 : BitVec 32) (v99 : BitVec 32) (v104 : BitVec 32) (v109 : BitVec 32) (v114 : BitVec 32) (v119 : BitVec 32) (v124 : BitVec 32) (v129 : BitVec 32) (v134 : BitVec 32) (v139 : BitVec 32) (v144 : BitVec 32) (v149 : BitVec 32) (v158_0 : BitVec 32) (v166 : BitVec 32) (v171 : BitVec 32) (v176 : BitVec 32) (v181 : BitVec 32) (v186 : BitVec 32) (v191 : BitVec 32) (v196 : BitVec 32) (v201 : BitVec 32) (v206 : BitVec 32) (v211 : BitVec 32) (v216 : BitVec 32) (v221 : BitVec 32) (v226 : BitVec 32) (v231 : BitVec 32) (v236 : BitVec 32) (v241 : BitVec 32) (k0_hw5 : k0_chk5 i v66_0 v74 v79 v84 v89 v94 v99 v104 v109 v114 v119 v124 v129 v134 v139 v144 v149 v158_0 v166 v171 v176 v181 v186 v191 v196 v201 v206 v211 v216 v221 v226 v231 v236 v241), (k0_t4_loop i v66_0 v74 v79 v84 v89 v94 v99 v104 v109 v114 v119 v124 v129 v134 v139 v144 v149 v158_0 v166 v171 v176 v181 v186 v191 v196 v201 v206 v211 v216 v221 v226 v231 v236 v241).OK := fun i v66_0 v74 v79 v84 v89 v94 v99 v104 v109 v114 v119 v124 v129 v134 v139 v144 v149 v158_0 v166 v171 v176 v181 v186 v191 v196 v201 v206 v211 v216 v221 v226 v231 v236 v241 k0_hw5 => k0_hw5.2.2.1
theorem k0_off39_inb : ∀ (i : grid0.Coords) (v66_0 : BitVec 32) (v74 : BitVec 32) (v79 : BitVec 32) (v84 : BitVec 32) (v89 : BitVec 32) (v94 : BitVec 32) (v99 : BitVec 32) (v104 : BitVec 32) (v109 : BitVec 32) (v114 : BitVec 32) (v119 : BitVec 32) (v124 : BitVec 32) (v129 : BitVec 32) (v134 : BitVec 32) (v139 : BitVec 32) (v144 : BitVec 32) (v149 : BitVec 32) (v158_0 : BitVec 32) (v166 : BitVec 32) (v171 : BitVec 32) (v176 : BitVec 32) (v181 : BitVec 32) (v186 : BitVec 32) (v191 : BitVec 32) (v196 : BitVec 32) (v201 : BitVec 32) (v206 : BitVec 32) (v211 : BitVec 32) (v216 : BitVec 32) (v221 : BitVec 32) (v226 : BitVec 32) (v231 : BitVec 32) (v236 : BitVec 32) (v241 : BitVec 32) (k0_hw5 : k0_chk5 i v66_0 v74 v79 v84 v89 v94 v99 v104 v109 v114 v119 v124 v129 v134 v139 v144 v149 v158_0 v166 v171 v176 v181 v186 v191 v196 v201 v206 v211 v216 v221 v226 v231 v236 v241) (k0_t4 : Fin (k0_t4_loop i v66_0 v74 v79 v84 v89 v94 v99 v104 v109 v114 v119 v124 v129 v134 v139 v144 v149 v158_0 v166 v171 v176 v181 v186 v191 v196 v201 v206 v211 v216 v221 v226 v231 v236 v241).trips), ∀ (k0_h3 : k0_cond3 i v66_0 v74 v79 v84 v89 v94 v99 v104 v109 v114 v119 v124 v129 v134 v139 v144 v149 v158_0 v166 v171 v176 v181 v186 v191 v196 v201 v206 v211 v216 v221 v226 v231 v236 v241 k0_t4 = 1#1), ∀ a, (k0_off39 i v66_0 v74 v79 v84 v89 v94 v99 v104 v109 v114 v119 v124 v129 v134 v139 v144 v149 v158_0 v166 v171 v176 v181 v186 v191 v196 v201 v206 v211 v216 v221 v226 v231 v236 v241 k0_t4) a + S64x512.size a ≤ S10000x512.size a := fun i v66_0 v74 v79 v84 v89 v94 v99 v104 v109 v114 v119 v124 v129 v134 v139 v144 v149 v158_0 v166 v171 v176 v181 v186 v191 v196 v201 v206 v211 v216 v221 v226 v231 v236 v241 k0_hw5 k0_t4 k0_h3 => k0_hw5.2.2.2.1 k0_t4 k0_h3
theorem k0_off40_inb : ∀ (i : grid0.Coords) (v66_0 : BitVec 32) (v74 : BitVec 32) (v79 : BitVec 32) (v84 : BitVec 32) (v89 : BitVec 32) (v94 : BitVec 32) (v99 : BitVec 32) (v104 : BitVec 32) (v109 : BitVec 32) (v114 : BitVec 32) (v119 : BitVec 32) (v124 : BitVec 32) (v129 : BitVec 32) (v134 : BitVec 32) (v139 : BitVec 32) (v144 : BitVec 32) (v149 : BitVec 32) (v158_0 : BitVec 32) (v166 : BitVec 32) (v171 : BitVec 32) (v176 : BitVec 32) (v181 : BitVec 32) (v186 : BitVec 32) (v191 : BitVec 32) (v196 : BitVec 32) (v201 : BitVec 32) (v206 : BitVec 32) (v211 : BitVec 32) (v216 : BitVec 32) (v221 : BitVec 32) (v226 : BitVec 32) (v231 : BitVec 32) (v236 : BitVec 32) (v241 : BitVec 32) (k0_hw5 : k0_chk5 i v66_0 v74 v79 v84 v89 v94 v99 v104 v109 v114 v119 v124 v129 v134 v139 v144 v149 v158_0 v166 v171 v176 v181 v186 v191 v196 v201 v206 v211 v216 v221 v226 v231 v236 v241) (k0_t4 : Fin (k0_t4_loop i v66_0 v74 v79 v84 v89 v94 v99 v104 v109 v114 v119 v124 v129 v134 v139 v144 v149 v158_0 v166 v171 v176 v181 v186 v191 v196 v201 v206 v211 v216 v221 v226 v231 v236 v241).trips) (k0_t5 : Fin k0_t5_loop.trips), ∀ (k0_h3 : k0_cond3 i v66_0 v74 v79 v84 v89 v94 v99 v104 v109 v114 v119 v124 v129 v134 v139 v144 v149 v158_0 v166 v171 v176 v181 v186 v191 v196 v201 v206 v211 v216 v221 v226 v231 v236 v241 k0_t4 = 1#1), ∀ a, (k0_off40 i v66_0 v74 v79 v84 v89 v94 v99 v104 v109 v114 v119 v124 v129 v134 v139 v144 v149 v158_0 v166 v171 v176 v181 v186 v191 v196 v201 v206 v211 v216 v221 v226 v231 v236 v241 k0_t4 k0_t5) a + S16.size a ≤ S10240.size a := fun i v66_0 v74 v79 v84 v89 v94 v99 v104 v109 v114 v119 v124 v129 v134 v139 v144 v149 v158_0 v166 v171 v176 v181 v186 v191 v196 v201 v206 v211 v216 v221 v226 v231 v236 v241 k0_hw5 k0_t4 k0_t5 k0_h3 => k0_hw5.2.2.2.2.1 k0_t4 k0_t5 k0_h3
theorem k0_off41_inb : ∀ (i : grid0.Coords) (v66_0 : BitVec 32) (v74 : BitVec 32) (v79 : BitVec 32) (v84 : BitVec 32) (v89 : BitVec 32) (v94 : BitVec 32) (v99 : BitVec 32) (v104 : BitVec 32) (v109 : BitVec 32) (v114 : BitVec 32) (v119 : BitVec 32) (v124 : BitVec 32) (v129 : BitVec 32) (v134 : BitVec 32) (v139 : BitVec 32) (v144 : BitVec 32) (v149 : BitVec 32) (v158_0 : BitVec 32) (v166 : BitVec 32) (v171 : BitVec 32) (v176 : BitVec 32) (v181 : BitVec 32) (v186 : BitVec 32) (v191 : BitVec 32) (v196 : BitVec 32) (v201 : BitVec 32) (v206 : BitVec 32) (v211 : BitVec 32) (v216 : BitVec 32) (v221 : BitVec 32) (v226 : BitVec 32) (v231 : BitVec 32) (v236 : BitVec 32) (v241 : BitVec 32) (k0_hw5 : k0_chk5 i v66_0 v74 v79 v84 v89 v94 v99 v104 v109 v114 v119 v124 v129 v134 v139 v144 v149 v158_0 v166 v171 v176 v181 v186 v191 v196 v201 v206 v211 v216 v221 v226 v231 v236 v241) (k0_t4 : Fin (k0_t4_loop i v66_0 v74 v79 v84 v89 v94 v99 v104 v109 v114 v119 v124 v129 v134 v139 v144 v149 v158_0 v166 v171 v176 v181 v186 v191 v196 v201 v206 v211 v216 v221 v226 v231 v236 v241).trips) (k0_t5 : Fin k0_t5_loop.trips), ∀ (k0_h3 : k0_cond3 i v66_0 v74 v79 v84 v89 v94 v99 v104 v109 v114 v119 v124 v129 v134 v139 v144 v149 v158_0 v166 v171 v176 v181 v186 v191 v196 v201 v206 v211 v216 v221 v226 v231 v236 v241 k0_t4 = 1#1), ∀ a, (k0_off41 i v66_0 v74 v79 v84 v89 v94 v99 v104 v109 v114 v119 v124 v129 v134 v139 v144 v149 v158_0 v166 v171 v176 v181 v186 v191 v196 v201 v206 v211 v216 v221 v226 v231 v236 v241 k0_t4 k0_t5) a + S16.size a ≤ S10000.size a := fun i v66_0 v74 v79 v84 v89 v94 v99 v104 v109 v114 v119 v124 v129 v134 v139 v144 v149 v158_0 v166 v171 v176 v181 v186 v191 v196 v201 v206 v211 v216 v221 v226 v231 v236 v241 k0_hw5 k0_t4 k0_t5 k0_h3 => k0_hw5.2.2.2.2.2.1 k0_t4 k0_t5 k0_h3
theorem k0_off106_inb : ∀ (i : grid0.Coords) (v66_0 : BitVec 32) (v74 : BitVec 32) (v79 : BitVec 32) (v84 : BitVec 32) (v89 : BitVec 32) (v94 : BitVec 32) (v99 : BitVec 32) (v104 : BitVec 32) (v109 : BitVec 32) (v114 : BitVec 32) (v119 : BitVec 32) (v124 : BitVec 32) (v129 : BitVec 32) (v134 : BitVec 32) (v139 : BitVec 32) (v144 : BitVec 32) (v149 : BitVec 32) (v158_0 : BitVec 32) (v166 : BitVec 32) (v171 : BitVec 32) (v176 : BitVec 32) (v181 : BitVec 32) (v186 : BitVec 32) (v191 : BitVec 32) (v196 : BitVec 32) (v201 : BitVec 32) (v206 : BitVec 32) (v211 : BitVec 32) (v216 : BitVec 32) (v221 : BitVec 32) (v226 : BitVec 32) (v231 : BitVec 32) (v236 : BitVec 32) (v241 : BitVec 32) (k0_hw5 : k0_chk5 i v66_0 v74 v79 v84 v89 v94 v99 v104 v109 v114 v119 v124 v129 v134 v139 v144 v149 v158_0 v166 v171 v176 v181 v186 v191 v196 v201 v206 v211 v216 v221 v226 v231 v236 v241) (k0_t4 : Fin (k0_t4_loop i v66_0 v74 v79 v84 v89 v94 v99 v104 v109 v114 v119 v124 v129 v134 v139 v144 v149 v158_0 v166 v171 v176 v181 v186 v191 v196 v201 v206 v211 v216 v221 v226 v231 v236 v241).trips), ∀ (k0_h3 : k0_cond3 i v66_0 v74 v79 v84 v89 v94 v99 v104 v109 v114 v119 v124 v129 v134 v139 v144 v149 v158_0 v166 v171 v176 v181 v186 v191 v196 v201 v206 v211 v216 v221 v226 v231 v236 v241 k0_t4 = 1#1), ∀ (k0_h4 : k0_cond4 i v66_0 v74 v79 v84 v89 v94 v99 v104 v109 v114 v119 v124 v129 v134 v139 v144 v149 v158_0 v166 v171 v176 v181 v186 v191 v196 v201 v206 v211 v216 v221 v226 v231 v236 v241 k0_t4 = 1#1), ∀ a, (k0_off106 i v66_0 v74 v79 v84 v89 v94 v99 v104 v109 v114 v119 v124 v129 v134 v139 v144 v149 v158_0 v166 v171 v176 v181 v186 v191 v196 v201 v206 v211 v216 v221 v226 v231 v236 v241 k0_t4) a + S64x512.size a ≤ S10000x512.size a := fun i v66_0 v74 v79 v84 v89 v94 v99 v104 v109 v114 v119 v124 v129 v134 v139 v144 v149 v158_0 v166 v171 v176 v181 v186 v191 v196 v201 v206 v211 v216 v221 v226 v231 v236 v241 k0_hw5 k0_t4 k0_h3 k0_h4 => k0_hw5.2.2.2.2.2.2.1 k0_t4 k0_h3 k0_h4
theorem k0_off107_inb : ∀ (i : grid0.Coords) (v66_0 : BitVec 32) (v74 : BitVec 32) (v79 : BitVec 32) (v84 : BitVec 32) (v89 : BitVec 32) (v94 : BitVec 32) (v99 : BitVec 32) (v104 : BitVec 32) (v109 : BitVec 32) (v114 : BitVec 32) (v119 : BitVec 32) (v124 : BitVec 32) (v129 : BitVec 32) (v134 : BitVec 32) (v139 : BitVec 32) (v144 : BitVec 32) (v149 : BitVec 32) (v158_0 : BitVec 32) (v166 : BitVec 32) (v171 : BitVec 32) (v176 : BitVec 32) (v181 : BitVec 32) (v186 : BitVec 32) (v191 : BitVec 32) (v196 : BitVec 32) (v201 : BitVec 32) (v206 : BitVec 32) (v211 : BitVec 32) (v216 : BitVec 32) (v221 : BitVec 32) (v226 : BitVec 32) (v231 : BitVec 32) (v236 : BitVec 32) (v241 : BitVec 32) (k0_hw5 : k0_chk5 i v66_0 v74 v79 v84 v89 v94 v99 v104 v109 v114 v119 v124 v129 v134 v139 v144 v149 v158_0 v166 v171 v176 v181 v186 v191 v196 v201 v206 v211 v216 v221 v226 v231 v236 v241) (k0_t4 : Fin (k0_t4_loop i v66_0 v74 v79 v84 v89 v94 v99 v104 v109 v114 v119 v124 v129 v134 v139 v144 v149 v158_0 v166 v171 v176 v181 v186 v191 v196 v201 v206 v211 v216 v221 v226 v231 v236 v241).trips), ∀ (k0_h5 : k0_cond5 i v66_0 v74 v79 v84 v89 v94 v99 v104 v109 v114 v119 v124 v129 v134 v139 v144 v149 v158_0 v166 v171 v176 v181 v186 v191 v196 v201 v206 v211 v216 v221 v226 v231 v236 v241 k0_t4 = 1#1), ∀ a, (k0_off107 i v66_0 v74 v79 v84 v89 v94 v99 v104 v109 v114 v119 v124 v129 v134 v139 v144 v149 v158_0 v166 v171 v176 v181 v186 v191 v196 v201 v206 v211 v216 v221 v226 v231 v236 v241 k0_t4) a + S64x512.size a ≤ S10000x512.size a := fun i v66_0 v74 v79 v84 v89 v94 v99 v104 v109 v114 v119 v124 v129 v134 v139 v144 v149 v158_0 v166 v171 v176 v181 v186 v191 v196 v201 v206 v211 v216 v221 v226 v231 v236 v241 k0_hw5 k0_t4 k0_h5 => k0_hw5.2.2.2.2.2.2.2.1 k0_t4 k0_h5
theorem k0_off108_inb : ∀ (i : grid0.Coords) (v66_0 : BitVec 32) (v74 : BitVec 32) (v79 : BitVec 32) (v84 : BitVec 32) (v89 : BitVec 32) (v94 : BitVec 32) (v99 : BitVec 32) (v104 : BitVec 32) (v109 : BitVec 32) (v114 : BitVec 32) (v119 : BitVec 32) (v124 : BitVec 32) (v129 : BitVec 32) (v134 : BitVec 32) (v139 : BitVec 32) (v144 : BitVec 32) (v149 : BitVec 32) (v158_0 : BitVec 32) (v166 : BitVec 32) (v171 : BitVec 32) (v176 : BitVec 32) (v181 : BitVec 32) (v186 : BitVec 32) (v191 : BitVec 32) (v196 : BitVec 32) (v201 : BitVec 32) (v206 : BitVec 32) (v211 : BitVec 32) (v216 : BitVec 32) (v221 : BitVec 32) (v226 : BitVec 32) (v231 : BitVec 32) (v236 : BitVec 32) (v241 : BitVec 32) (k0_hw5 : k0_chk5 i v66_0 v74 v79 v84 v89 v94 v99 v104 v109 v114 v119 v124 v129 v134 v139 v144 v149 v158_0 v166 v171 v176 v181 v186 v191 v196 v201 v206 v211 v216 v221 v226 v231 v236 v241) (k0_t4 : Fin (k0_t4_loop i v66_0 v74 v79 v84 v89 v94 v99 v104 v109 v114 v119 v124 v129 v134 v139 v144 v149 v158_0 v166 v171 v176 v181 v186 v191 v196 v201 v206 v211 v216 v221 v226 v231 v236 v241).trips) (k0_t22 : Fin k0_t22_loop.trips), ∀ (k0_h5 : k0_cond5 i v66_0 v74 v79 v84 v89 v94 v99 v104 v109 v114 v119 v124 v129 v134 v139 v144 v149 v158_0 v166 v171 v176 v181 v186 v191 v196 v201 v206 v211 v216 v221 v226 v231 v236 v241 k0_t4 = 1#1), ∀ a, (k0_off108 i v66_0 v74 v79 v84 v89 v94 v99 v104 v109 v114 v119 v124 v129 v134 v139 v144 v149 v158_0 v166 v171 v176 v181 v186 v191 v196 v201 v206 v211 v216 v221 v226 v231 v236 v241 k0_t4 k0_t22) a + S16.size a ≤ S10240.size a := fun i v66_0 v74 v79 v84 v89 v94 v99 v104 v109 v114 v119 v124 v129 v134 v139 v144 v149 v158_0 v166 v171 v176 v181 v186 v191 v196 v201 v206 v211 v216 v221 v226 v231 v236 v241 k0_hw5 k0_t4 k0_t22 k0_h5 => k0_hw5.2.2.2.2.2.2.2.2.1 k0_t4 k0_t22 k0_h5
theorem k0_off109_inb : ∀ (i : grid0.Coords) (v66_0 : BitVec 32) (v74 : BitVec 32) (v79 : BitVec 32) (v84 : BitVec 32) (v89 : BitVec 32) (v94 : BitVec 32) (v99 : BitVec 32) (v104 : BitVec 32) (v109 : BitVec 32) (v114 : BitVec 32) (v119 : BitVec 32) (v124 : BitVec 32) (v129 : BitVec 32) (v134 : BitVec 32) (v139 : BitVec 32) (v144 : BitVec 32) (v149 : BitVec 32) (v158_0 : BitVec 32) (v166 : BitVec 32) (v171 : BitVec 32) (v176 : BitVec 32) (v181 : BitVec 32) (v186 : BitVec 32) (v191 : BitVec 32) (v196 : BitVec 32) (v201 : BitVec 32) (v206 : BitVec 32) (v211 : BitVec 32) (v216 : BitVec 32) (v221 : BitVec 32) (v226 : BitVec 32) (v231 : BitVec 32) (v236 : BitVec 32) (v241 : BitVec 32) (k0_hw5 : k0_chk5 i v66_0 v74 v79 v84 v89 v94 v99 v104 v109 v114 v119 v124 v129 v134 v139 v144 v149 v158_0 v166 v171 v176 v181 v186 v191 v196 v201 v206 v211 v216 v221 v226 v231 v236 v241) (k0_t4 : Fin (k0_t4_loop i v66_0 v74 v79 v84 v89 v94 v99 v104 v109 v114 v119 v124 v129 v134 v139 v144 v149 v158_0 v166 v171 v176 v181 v186 v191 v196 v201 v206 v211 v216 v221 v226 v231 v236 v241).trips) (k0_t22 : Fin k0_t22_loop.trips), ∀ (k0_h5 : k0_cond5 i v66_0 v74 v79 v84 v89 v94 v99 v104 v109 v114 v119 v124 v129 v134 v139 v144 v149 v158_0 v166 v171 v176 v181 v186 v191 v196 v201 v206 v211 v216 v221 v226 v231 v236 v241 k0_t4 = 1#1), ∀ a, (k0_off109 i v66_0 v74 v79 v84 v89 v94 v99 v104 v109 v114 v119 v124 v129 v134 v139 v144 v149 v158_0 v166 v171 v176 v181 v186 v191 v196 v201 v206 v211 v216 v221 v226 v231 v236 v241 k0_t4 k0_t22) a + S16.size a ≤ S10000.size a := fun i v66_0 v74 v79 v84 v89 v94 v99 v104 v109 v114 v119 v124 v129 v134 v139 v144 v149 v158_0 v166 v171 v176 v181 v186 v191 v196 v201 v206 v211 v216 v221 v226 v231 v236 v241 k0_hw5 k0_t4 k0_t22 k0_h5 => k0_hw5.2.2.2.2.2.2.2.2.2.1 k0_t4 k0_t22 k0_h5
theorem k0_off174_inb : ∀ (i : grid0.Coords) (v66_0 : BitVec 32) (v74 : BitVec 32) (v79 : BitVec 32) (v84 : BitVec 32) (v89 : BitVec 32) (v94 : BitVec 32) (v99 : BitVec 32) (v104 : BitVec 32) (v109 : BitVec 32) (v114 : BitVec 32) (v119 : BitVec 32) (v124 : BitVec 32) (v129 : BitVec 32) (v134 : BitVec 32) (v139 : BitVec 32) (v144 : BitVec 32) (v149 : BitVec 32) (v158_0 : BitVec 32) (v166 : BitVec 32) (v171 : BitVec 32) (v176 : BitVec 32) (v181 : BitVec 32) (v186 : BitVec 32) (v191 : BitVec 32) (v196 : BitVec 32) (v201 : BitVec 32) (v206 : BitVec 32) (v211 : BitVec 32) (v216 : BitVec 32) (v221 : BitVec 32) (v226 : BitVec 32) (v231 : BitVec 32) (v236 : BitVec 32) (v241 : BitVec 32) (k0_hw5 : k0_chk5 i v66_0 v74 v79 v84 v89 v94 v99 v104 v109 v114 v119 v124 v129 v134 v139 v144 v149 v158_0 v166 v171 v176 v181 v186 v191 v196 v201 v206 v211 v216 v221 v226 v231 v236 v241) (k0_t4 : Fin (k0_t4_loop i v66_0 v74 v79 v84 v89 v94 v99 v104 v109 v114 v119 v124 v129 v134 v139 v144 v149 v158_0 v166 v171 v176 v181 v186 v191 v196 v201 v206 v211 v216 v221 v226 v231 v236 v241).trips), ∀ (k0_h5 : k0_cond5 i v66_0 v74 v79 v84 v89 v94 v99 v104 v109 v114 v119 v124 v129 v134 v139 v144 v149 v158_0 v166 v171 v176 v181 v186 v191 v196 v201 v206 v211 v216 v221 v226 v231 v236 v241 k0_t4 = 1#1), ∀ (k0_h6 : k0_cond6 i v66_0 v74 v79 v84 v89 v94 v99 v104 v109 v114 v119 v124 v129 v134 v139 v144 v149 v158_0 v166 v171 v176 v181 v186 v191 v196 v201 v206 v211 v216 v221 v226 v231 v236 v241 k0_t4 = 1#1), ∀ a, (k0_off174 i v66_0 v74 v79 v84 v89 v94 v99 v104 v109 v114 v119 v124 v129 v134 v139 v144 v149 v158_0 v166 v171 v176 v181 v186 v191 v196 v201 v206 v211 v216 v221 v226 v231 v236 v241 k0_t4) a + S64x512.size a ≤ S10000x512.size a := fun i v66_0 v74 v79 v84 v89 v94 v99 v104 v109 v114 v119 v124 v129 v134 v139 v144 v149 v158_0 v166 v171 v176 v181 v186 v191 v196 v201 v206 v211 v216 v221 v226 v231 v236 v241 k0_hw5 k0_t4 k0_h5 k0_h6 => k0_hw5.2.2.2.2.2.2.2.2.2.2.1 k0_t4 k0_h5 k0_h6
theorem k0_t39_ok : ∀ (i : grid0.Coords) (v66_0 : BitVec 32) (v74 : BitVec 32) (v79 : BitVec 32) (v84 : BitVec 32) (v89 : BitVec 32) (v94 : BitVec 32) (v99 : BitVec 32) (v104 : BitVec 32) (v109 : BitVec 32) (v114 : BitVec 32) (v119 : BitVec 32) (v124 : BitVec 32) (v129 : BitVec 32) (v134 : BitVec 32) (v139 : BitVec 32) (v144 : BitVec 32) (v149 : BitVec 32) (v158_0 : BitVec 32) (v166 : BitVec 32) (v171 : BitVec 32) (v176 : BitVec 32) (v181 : BitVec 32) (v186 : BitVec 32) (v191 : BitVec 32) (v196 : BitVec 32) (v201 : BitVec 32) (v206 : BitVec 32) (v211 : BitVec 32) (v216 : BitVec 32) (v221 : BitVec 32) (v226 : BitVec 32) (v231 : BitVec 32) (v236 : BitVec 32) (v241 : BitVec 32) (k0_hw5 : k0_chk5 i v66_0 v74 v79 v84 v89 v94 v99 v104 v109 v114 v119 v124 v129 v134 v139 v144 v149 v158_0 v166 v171 v176 v181 v186 v191 v196 v201 v206 v211 v216 v221 v226 v231 v236 v241), (k0_t39_loop i v66_0 v74 v79 v84 v89 v94 v99 v104 v109 v114 v119 v124 v129 v134 v139 v144 v149 v158_0 v166 v171 v176 v181 v186 v191 v196 v201 v206 v211 v216 v221 v226 v231 v236 v241).OK := fun i v66_0 v74 v79 v84 v89 v94 v99 v104 v109 v114 v119 v124 v129 v134 v139 v144 v149 v158_0 v166 v171 v176 v181 v186 v191 v196 v201 v206 v211 v216 v221 v226 v231 v236 v241 k0_hw5 => k0_hw5.2.2.2.2.2.2.2.2.2.2.2.1
theorem k0_off175_inb : ∀ (i : grid0.Coords) (v66_0 : BitVec 32) (v74 : BitVec 32) (v79 : BitVec 32) (v84 : BitVec 32) (v89 : BitVec 32) (v94 : BitVec 32) (v99 : BitVec 32) (v104 : BitVec 32) (v109 : BitVec 32) (v114 : BitVec 32) (v119 : BitVec 32) (v124 : BitVec 32) (v129 : BitVec 32) (v134 : BitVec 32) (v139 : BitVec 32) (v144 : BitVec 32) (v149 : BitVec 32) (v158_0 : BitVec 32) (v166 : BitVec 32) (v171 : BitVec 32) (v176 : BitVec 32) (v181 : BitVec 32) (v186 : BitVec 32) (v191 : BitVec 32) (v196 : BitVec 32) (v201 : BitVec 32) (v206 : BitVec 32) (v211 : BitVec 32) (v216 : BitVec 32) (v221 : BitVec 32) (v226 : BitVec 32) (v231 : BitVec 32) (v236 : BitVec 32) (v241 : BitVec 32) (k0_hw5 : k0_chk5 i v66_0 v74 v79 v84 v89 v94 v99 v104 v109 v114 v119 v124 v129 v134 v139 v144 v149 v158_0 v166 v171 v176 v181 v186 v191 v196 v201 v206 v211 v216 v221 v226 v231 v236 v241) (k0_t39 : Fin (k0_t39_loop i v66_0 v74 v79 v84 v89 v94 v99 v104 v109 v114 v119 v124 v129 v134 v139 v144 v149 v158_0 v166 v171 v176 v181 v186 v191 v196 v201 v206 v211 v216 v221 v226 v231 v236 v241).trips), ∀ (k0_h7 : k0_cond7 i v66_0 v74 v79 v84 v89 v94 v99 v104 v109 v114 v119 v124 v129 v134 v139 v144 v149 v158_0 v166 v171 v176 v181 v186 v191 v196 v201 v206 v211 v216 v221 v226 v231 v236 v241 k0_t39 = 1#1), ∀ a, (k0_off175 i v66_0 v74 v79 v84 v89 v94 v99 v104 v109 v114 v119 v124 v129 v134 v139 v144 v149 v158_0 v166 v171 v176 v181 v186 v191 v196 v201 v206 v211 v216 v221 v226 v231 v236 v241 k0_t39) a + S64x512.size a ≤ S10000x512.size a := fun i v66_0 v74 v79 v84 v89 v94 v99 v104 v109 v114 v119 v124 v129 v134 v139 v144 v149 v158_0 v166 v171 v176 v181 v186 v191 v196 v201 v206 v211 v216 v221 v226 v231 v236 v241 k0_hw5 k0_t39 k0_h7 => k0_hw5.2.2.2.2.2.2.2.2.2.2.2.2.1 k0_t39 k0_h7
theorem k0_off176_inb : ∀ (i : grid0.Coords) (v66_0 : BitVec 32) (v74 : BitVec 32) (v79 : BitVec 32) (v84 : BitVec 32) (v89 : BitVec 32) (v94 : BitVec 32) (v99 : BitVec 32) (v104 : BitVec 32) (v109 : BitVec 32) (v114 : BitVec 32) (v119 : BitVec 32) (v124 : BitVec 32) (v129 : BitVec 32) (v134 : BitVec 32) (v139 : BitVec 32) (v144 : BitVec 32) (v149 : BitVec 32) (v158_0 : BitVec 32) (v166 : BitVec 32) (v171 : BitVec 32) (v176 : BitVec 32) (v181 : BitVec 32) (v186 : BitVec 32) (v191 : BitVec 32) (v196 : BitVec 32) (v201 : BitVec 32) (v206 : BitVec 32) (v211 : BitVec 32) (v216 : BitVec 32) (v221 : BitVec 32) (v226 : BitVec 32) (v231 : BitVec 32) (v236 : BitVec 32) (v241 : BitVec 32) (k0_hw5 : k0_chk5 i v66_0 v74 v79 v84 v89 v94 v99 v104 v109 v114 v119 v124 v129 v134 v139 v144 v149 v158_0 v166 v171 v176 v181 v186 v191 v196 v201 v206 v211 v216 v221 v226 v231 v236 v241) (k0_t39 : Fin (k0_t39_loop i v66_0 v74 v79 v84 v89 v94 v99 v104 v109 v114 v119 v124 v129 v134 v139 v144 v149 v158_0 v166 v171 v176 v181 v186 v191 v196 v201 v206 v211 v216 v221 v226 v231 v236 v241).trips) (k0_t40 : Fin k0_t40_loop.trips), ∀ (k0_h7 : k0_cond7 i v66_0 v74 v79 v84 v89 v94 v99 v104 v109 v114 v119 v124 v129 v134 v139 v144 v149 v158_0 v166 v171 v176 v181 v186 v191 v196 v201 v206 v211 v216 v221 v226 v231 v236 v241 k0_t39 = 1#1), ∀ a, (k0_off176 i v66_0 v74 v79 v84 v89 v94 v99 v104 v109 v114 v119 v124 v129 v134 v139 v144 v149 v158_0 v166 v171 v176 v181 v186 v191 v196 v201 v206 v211 v216 v221 v226 v231 v236 v241 k0_t39 k0_t40) a + S16.size a ≤ S10240.size a := fun i v66_0 v74 v79 v84 v89 v94 v99 v104 v109 v114 v119 v124 v129 v134 v139 v144 v149 v158_0 v166 v171 v176 v181 v186 v191 v196 v201 v206 v211 v216 v221 v226 v231 v236 v241 k0_hw5 k0_t39 k0_t40 k0_h7 => k0_hw5.2.2.2.2.2.2.2.2.2.2.2.2.2.1 k0_t39 k0_t40 k0_h7
theorem k0_off177_inb : ∀ (i : grid0.Coords) (v66_0 : BitVec 32) (v74 : BitVec 32) (v79 : BitVec 32) (v84 : BitVec 32) (v89 : BitVec 32) (v94 : BitVec 32) (v99 : BitVec 32) (v104 : BitVec 32) (v109 : BitVec 32) (v114 : BitVec 32) (v119 : BitVec 32) (v124 : BitVec 32) (v129 : BitVec 32) (v134 : BitVec 32) (v139 : BitVec 32) (v144 : BitVec 32) (v149 : BitVec 32) (v158_0 : BitVec 32) (v166 : BitVec 32) (v171 : BitVec 32) (v176 : BitVec 32) (v181 : BitVec 32) (v186 : BitVec 32) (v191 : BitVec 32) (v196 : BitVec 32) (v201 : BitVec 32) (v206 : BitVec 32) (v211 : BitVec 32) (v216 : BitVec 32) (v221 : BitVec 32) (v226 : BitVec 32) (v231 : BitVec 32) (v236 : BitVec 32) (v241 : BitVec 32) (k0_hw5 : k0_chk5 i v66_0 v74 v79 v84 v89 v94 v99 v104 v109 v114 v119 v124 v129 v134 v139 v144 v149 v158_0 v166 v171 v176 v181 v186 v191 v196 v201 v206 v211 v216 v221 v226 v231 v236 v241) (k0_t39 : Fin (k0_t39_loop i v66_0 v74 v79 v84 v89 v94 v99 v104 v109 v114 v119 v124 v129 v134 v139 v144 v149 v158_0 v166 v171 v176 v181 v186 v191 v196 v201 v206 v211 v216 v221 v226 v231 v236 v241).trips) (k0_t40 : Fin k0_t40_loop.trips), ∀ (k0_h7 : k0_cond7 i v66_0 v74 v79 v84 v89 v94 v99 v104 v109 v114 v119 v124 v129 v134 v139 v144 v149 v158_0 v166 v171 v176 v181 v186 v191 v196 v201 v206 v211 v216 v221 v226 v231 v236 v241 k0_t39 = 1#1), ∀ a, (k0_off177 i v66_0 v74 v79 v84 v89 v94 v99 v104 v109 v114 v119 v124 v129 v134 v139 v144 v149 v158_0 v166 v171 v176 v181 v186 v191 v196 v201 v206 v211 v216 v221 v226 v231 v236 v241 k0_t39 k0_t40) a + S16.size a ≤ S10000.size a := fun i v66_0 v74 v79 v84 v89 v94 v99 v104 v109 v114 v119 v124 v129 v134 v139 v144 v149 v158_0 v166 v171 v176 v181 v186 v191 v196 v201 v206 v211 v216 v221 v226 v231 v236 v241 k0_hw5 k0_t39 k0_t40 k0_h7 => k0_hw5.2.2.2.2.2.2.2.2.2.2.2.2.2.2.1 k0_t39 k0_t40 k0_h7
theorem k0_off242_inb : ∀ (i : grid0.Coords) (v66_0 : BitVec 32) (v74 : BitVec 32) (v79 : BitVec 32) (v84 : BitVec 32) (v89 : BitVec 32) (v94 : BitVec 32) (v99 : BitVec 32) (v104 : BitVec 32) (v109 : BitVec 32) (v114 : BitVec 32) (v119 : BitVec 32) (v124 : BitVec 32) (v129 : BitVec 32) (v134 : BitVec 32) (v139 : BitVec 32) (v144 : BitVec 32) (v149 : BitVec 32) (v158_0 : BitVec 32) (v166 : BitVec 32) (v171 : BitVec 32) (v176 : BitVec 32) (v181 : BitVec 32) (v186 : BitVec 32) (v191 : BitVec 32) (v196 : BitVec 32) (v201 : BitVec 32) (v206 : BitVec 32) (v211 : BitVec 32) (v216 : BitVec 32) (v221 : BitVec 32) (v226 : BitVec 32) (v231 : BitVec 32) (v236 : BitVec 32) (v241 : BitVec 32) (k0_hw5 : k0_chk5 i v66_0 v74 v79 v84 v89 v94 v99 v104 v109 v114 v119 v124 v129 v134 v139 v144 v149 v158_0 v166 v171 v176 v181 v186 v191 v196 v201 v206 v211 v216 v221 v226 v231 v236 v241) (k0_t39 : Fin (k0_t39_loop i v66_0 v74 v79 v84 v89 v94 v99 v104 v109 v114 v119 v124 v129 v134 v139 v144 v149 v158_0 v166 v171 v176 v181 v186 v191 v196 v201 v206 v211 v216 v221 v226 v231 v236 v241).trips), ∀ (k0_h7 : k0_cond7 i v66_0 v74 v79 v84 v89 v94 v99 v104 v109 v114 v119 v124 v129 v134 v139 v144 v149 v158_0 v166 v171 v176 v181 v186 v191 v196 v201 v206 v211 v216 v221 v226 v231 v236 v241 k0_t39 = 1#1), ∀ (k0_h8 : k0_cond8 i v66_0 v74 v79 v84 v89 v94 v99 v104 v109 v114 v119 v124 v129 v134 v139 v144 v149 v158_0 v166 v171 v176 v181 v186 v191 v196 v201 v206 v211 v216 v221 v226 v231 v236 v241 k0_t39 = 1#1), ∀ a, (k0_off242 i v66_0 v74 v79 v84 v89 v94 v99 v104 v109 v114 v119 v124 v129 v134 v139 v144 v149 v158_0 v166 v171 v176 v181 v186 v191 v196 v201 v206 v211 v216 v221 v226 v231 v236 v241 k0_t39) a + S64x512.size a ≤ S10000x512.size a := fun i v66_0 v74 v79 v84 v89 v94 v99 v104 v109 v114 v119 v124 v129 v134 v139 v144 v149 v158_0 v166 v171 v176 v181 v186 v191 v196 v201 v206 v211 v216 v221 v226 v231 v236 v241 k0_hw5 k0_t39 k0_h7 k0_h8 => k0_hw5.2.2.2.2.2.2.2.2.2.2.2.2.2.2.2.1 k0_t39 k0_h7 k0_h8
theorem k0_off243_inb : ∀ (i : grid0.Coords) (v66_0 : BitVec 32) (v74 : BitVec 32) (v79 : BitVec 32) (v84 : BitVec 32) (v89 : BitVec 32) (v94 : BitVec 32) (v99 : BitVec 32) (v104 : BitVec 32) (v109 : BitVec 32) (v114 : BitVec 32) (v119 : BitVec 32) (v124 : BitVec 32) (v129 : BitVec 32) (v134 : BitVec 32) (v139 : BitVec 32) (v144 : BitVec 32) (v149 : BitVec 32) (v158_0 : BitVec 32) (v166 : BitVec 32) (v171 : BitVec 32) (v176 : BitVec 32) (v181 : BitVec 32) (v186 : BitVec 32) (v191 : BitVec 32) (v196 : BitVec 32) (v201 : BitVec 32) (v206 : BitVec 32) (v211 : BitVec 32) (v216 : BitVec 32) (v221 : BitVec 32) (v226 : BitVec 32) (v231 : BitVec 32) (v236 : BitVec 32) (v241 : BitVec 32) (k0_hw5 : k0_chk5 i v66_0 v74 v79 v84 v89 v94 v99 v104 v109 v114 v119 v124 v129 v134 v139 v144 v149 v158_0 v166 v171 v176 v181 v186 v191 v196 v201 v206 v211 v216 v221 v226 v231 v236 v241) (k0_t39 : Fin (k0_t39_loop i v66_0 v74 v79 v84 v89 v94 v99 v104 v109 v114 v119 v124 v129 v134 v139 v144 v149 v158_0 v166 v171 v176 v181 v186 v191 v196 v201 v206 v211 v216 v221 v226 v231 v236 v241).trips), ∀ (k0_h9 : k0_cond9 i v66_0 v74 v79 v84 v89 v94 v99 v104 v109 v114 v119 v124 v129 v134 v139 v144 v149 v158_0 v166 v171 v176 v181 v186 v191 v196 v201 v206 v211 v216 v221 v226 v231 v236 v241 k0_t39 = 1#1), ∀ a, (k0_off243 i v66_0 v74 v79 v84 v89 v94 v99 v104 v109 v114 v119 v124 v129 v134 v139 v144 v149 v158_0 v166 v171 v176 v181 v186 v191 v196 v201 v206 v211 v216 v221 v226 v231 v236 v241 k0_t39) a + S64x512.size a ≤ S10000x512.size a := fun i v66_0 v74 v79 v84 v89 v94 v99 v104 v109 v114 v119 v124 v129 v134 v139 v144 v149 v158_0 v166 v171 v176 v181 v186 v191 v196 v201 v206 v211 v216 v221 v226 v231 v236 v241 k0_hw5 k0_t39 k0_h9 => k0_hw5.2.2.2.2.2.2.2.2.2.2.2.2.2.2.2.2.1 k0_t39 k0_h9
theorem k0_off244_inb : ∀ (i : grid0.Coords) (v66_0 : BitVec 32) (v74 : BitVec 32) (v79 : BitVec 32) (v84 : BitVec 32) (v89 : BitVec 32) (v94 : BitVec 32) (v99 : BitVec 32) (v104 : BitVec 32) (v109 : BitVec 32) (v114 : BitVec 32) (v119 : BitVec 32) (v124 : BitVec 32) (v129 : BitVec 32) (v134 : BitVec 32) (v139 : BitVec 32) (v144 : BitVec 32) (v149 : BitVec 32) (v158_0 : BitVec 32) (v166 : BitVec 32) (v171 : BitVec 32) (v176 : BitVec 32) (v181 : BitVec 32) (v186 : BitVec 32) (v191 : BitVec 32) (v196 : BitVec 32) (v201 : BitVec 32) (v206 : BitVec 32) (v211 : BitVec 32) (v216 : BitVec 32) (v221 : BitVec 32) (v226 : BitVec 32) (v231 : BitVec 32) (v236 : BitVec 32) (v241 : BitVec 32) (k0_hw5 : k0_chk5 i v66_0 v74 v79 v84 v89 v94 v99 v104 v109 v114 v119 v124 v129 v134 v139 v144 v149 v158_0 v166 v171 v176 v181 v186 v191 v196 v201 v206 v211 v216 v221 v226 v231 v236 v241) (k0_t39 : Fin (k0_t39_loop i v66_0 v74 v79 v84 v89 v94 v99 v104 v109 v114 v119 v124 v129 v134 v139 v144 v149 v158_0 v166 v171 v176 v181 v186 v191 v196 v201 v206 v211 v216 v221 v226 v231 v236 v241).trips) (k0_t57 : Fin k0_t57_loop.trips), ∀ (k0_h9 : k0_cond9 i v66_0 v74 v79 v84 v89 v94 v99 v104 v109 v114 v119 v124 v129 v134 v139 v144 v149 v158_0 v166 v171 v176 v181 v186 v191 v196 v201 v206 v211 v216 v221 v226 v231 v236 v241 k0_t39 = 1#1), ∀ a, (k0_off244 i v66_0 v74 v79 v84 v89 v94 v99 v104 v109 v114 v119 v124 v129 v134 v139 v144 v149 v158_0 v166 v171 v176 v181 v186 v191 v196 v201 v206 v211 v216 v221 v226 v231 v236 v241 k0_t39 k0_t57) a + S16.size a ≤ S10240.size a := fun i v66_0 v74 v79 v84 v89 v94 v99 v104 v109 v114 v119 v124 v129 v134 v139 v144 v149 v158_0 v166 v171 v176 v181 v186 v191 v196 v201 v206 v211 v216 v221 v226 v231 v236 v241 k0_hw5 k0_t39 k0_t57 k0_h9 => k0_hw5.2.2.2.2.2.2.2.2.2.2.2.2.2.2.2.2.2.1 k0_t39 k0_t57 k0_h9
theorem k0_off245_inb : ∀ (i : grid0.Coords) (v66_0 : BitVec 32) (v74 : BitVec 32) (v79 : BitVec 32) (v84 : BitVec 32) (v89 : BitVec 32) (v94 : BitVec 32) (v99 : BitVec 32) (v104 : BitVec 32) (v109 : BitVec 32) (v114 : BitVec 32) (v119 : BitVec 32) (v124 : BitVec 32) (v129 : BitVec 32) (v134 : BitVec 32) (v139 : BitVec 32) (v144 : BitVec 32) (v149 : BitVec 32) (v158_0 : BitVec 32) (v166 : BitVec 32) (v171 : BitVec 32) (v176 : BitVec 32) (v181 : BitVec 32) (v186 : BitVec 32) (v191 : BitVec 32) (v196 : BitVec 32) (v201 : BitVec 32) (v206 : BitVec 32) (v211 : BitVec 32) (v216 : BitVec 32) (v221 : BitVec 32) (v226 : BitVec 32) (v231 : BitVec 32) (v236 : BitVec 32) (v241 : BitVec 32) (k0_hw5 : k0_chk5 i v66_0 v74 v79 v84 v89 v94 v99 v104 v109 v114 v119 v124 v129 v134 v139 v144 v149 v158_0 v166 v171 v176 v181 v186 v191 v196 v201 v206 v211 v216 v221 v226 v231 v236 v241) (k0_t39 : Fin (k0_t39_loop i v66_0 v74 v79 v84 v89 v94 v99 v104 v109 v114 v119 v124 v129 v134 v139 v144 v149 v158_0 v166 v171 v176 v181 v186 v191 v196 v201 v206 v211 v216 v221 v226 v231 v236 v241).trips) (k0_t57 : Fin k0_t57_loop.trips), ∀ (k0_h9 : k0_cond9 i v66_0 v74 v79 v84 v89 v94 v99 v104 v109 v114 v119 v124 v129 v134 v139 v144 v149 v158_0 v166 v171 v176 v181 v186 v191 v196 v201 v206 v211 v216 v221 v226 v231 v236 v241 k0_t39 = 1#1), ∀ a, (k0_off245 i v66_0 v74 v79 v84 v89 v94 v99 v104 v109 v114 v119 v124 v129 v134 v139 v144 v149 v158_0 v166 v171 v176 v181 v186 v191 v196 v201 v206 v211 v216 v221 v226 v231 v236 v241 k0_t39 k0_t57) a + S16.size a ≤ S10000.size a := fun i v66_0 v74 v79 v84 v89 v94 v99 v104 v109 v114 v119 v124 v129 v134 v139 v144 v149 v158_0 v166 v171 v176 v181 v186 v191 v196 v201 v206 v211 v216 v221 v226 v231 v236 v241 k0_hw5 k0_t39 k0_t57 k0_h9 => k0_hw5.2.2.2.2.2.2.2.2.2.2.2.2.2.2.2.2.2.2.1 k0_t39 k0_t57 k0_h9
theorem k0_off310_inb : ∀ (i : grid0.Coords) (v66_0 : BitVec 32) (v74 : BitVec 32) (v79 : BitVec 32) (v84 : BitVec 32) (v89 : BitVec 32) (v94 : BitVec 32) (v99 : BitVec 32) (v104 : BitVec 32) (v109 : BitVec 32) (v114 : BitVec 32) (v119 : BitVec 32) (v124 : BitVec 32) (v129 : BitVec 32) (v134 : BitVec 32) (v139 : BitVec 32) (v144 : BitVec 32) (v149 : BitVec 32) (v158_0 : BitVec 32) (v166 : BitVec 32) (v171 : BitVec 32) (v176 : BitVec 32) (v181 : BitVec 32) (v186 : BitVec 32) (v191 : BitVec 32) (v196 : BitVec 32) (v201 : BitVec 32) (v206 : BitVec 32) (v211 : BitVec 32) (v216 : BitVec 32) (v221 : BitVec 32) (v226 : BitVec 32) (v231 : BitVec 32) (v236 : BitVec 32) (v241 : BitVec 32) (k0_hw5 : k0_chk5 i v66_0 v74 v79 v84 v89 v94 v99 v104 v109 v114 v119 v124 v129 v134 v139 v144 v149 v158_0 v166 v171 v176 v181 v186 v191 v196 v201 v206 v211 v216 v221 v226 v231 v236 v241) (k0_t39 : Fin (k0_t39_loop i v66_0 v74 v79 v84 v89 v94 v99 v104 v109 v114 v119 v124 v129 v134 v139 v144 v149 v158_0 v166 v171 v176 v181 v186 v191 v196 v201 v206 v211 v216 v221 v226 v231 v236 v241).trips), ∀ (k0_h9 : k0_cond9 i v66_0 v74 v79 v84 v89 v94 v99 v104 v109 v114 v119 v124 v129 v134 v139 v144 v149 v158_0 v166 v171 v176 v181 v186 v191 v196 v201 v206 v211 v216 v221 v226 v231 v236 v241 k0_t39 = 1#1), ∀ (k0_h10 : k0_cond10 i v66_0 v74 v79 v84 v89 v94 v99 v104 v109 v114 v119 v124 v129 v134 v139 v144 v149 v158_0 v166 v171 v176 v181 v186 v191 v196 v201 v206 v211 v216 v221 v226 v231 v236 v241 k0_t39 = 1#1), ∀ a, (k0_off310 i v66_0 v74 v79 v84 v89 v94 v99 v104 v109 v114 v119 v124 v129 v134 v139 v144 v149 v158_0 v166 v171 v176 v181 v186 v191 v196 v201 v206 v211 v216 v221 v226 v231 v236 v241 k0_t39) a + S64x512.size a ≤ S10000x512.size a := fun i v66_0 v74 v79 v84 v89 v94 v99 v104 v109 v114 v119 v124 v129 v134 v139 v144 v149 v158_0 v166 v171 v176 v181 v186 v191 v196 v201 v206 v211 v216 v221 v226 v231 v236 v241 k0_hw5 k0_t39 k0_h9 k0_h10 => k0_hw5.2.2.2.2.2.2.2.2.2.2.2.2.2.2.2.2.2.2.2 k0_t39 k0_h9 k0_h10

@[reducible] def k0_t74_loop : Scf.Loop 32 :=
  let c1_i32_142 : BitVec 32 := 1#32
  let c31_i32_143 : BitVec 32 := 31#32
  let v347 : BitVec 32 := Scalar.addi c1_i32_142 c31_i32_143
  let c1_i32_144 : BitVec 32 := 1#32
  ⟨c1_i32_142, v347, c1_i32_144⟩
def k0_off311 (k0_t74 : Fin k0_t74_loop.trips) : Fin 2 → Nat :=
  let c0_i32_256 : BitVec 32 := 0#32
  let v643 : Index := Scalar.indexCast c0_i32_256
  let c1_i32_142 : BitVec 32 := 1#32
  let c1_i32_144 : BitVec 32 := 1#32
  let arg13 : BitVec 32 := Scf.iv c1_i32_142 c1_i32_144 k0_t74
  let c16_i32_255 : BitVec 32 := 16#32
  let v642 : BitVec 32 := Scalar.muli arg13 c16_i32_255
  let v644 : Index := Scalar.indexCast v642
  ![0, v644.toNat]
def k0_off312 (v341 : BitVec 32) (k0_t74 : Fin k0_t74_loop.trips) : Fin 2 → Nat :=
  let v651 : Index := Scalar.indexCast v341
  let c1_i32_142 : BitVec 32 := 1#32
  let c1_i32_144 : BitVec 32 := 1#32
  let arg13 : BitVec 32 := Scf.iv c1_i32_142 c1_i32_144 k0_t74
  let c1_i32_257 : BitVec 32 := 1#32
  let v649 : BitVec 32 := Scalar.subi arg13 c1_i32_257
  let c16_i32_258 : BitVec 32 := 16#32
  let v650 : BitVec 32 := Scalar.muli v649 c16_i32_258
  let v652 : Index := Scalar.indexCast v650
  ![v651.toNat, v652.toNat]
def k0_cond11 (i : grid0.Coords) (v158_0 : BitVec 32) (v166 : BitVec 32) (v171 : BitVec 32) (v176 : BitVec 32) (v181 : BitVec 32) (v186 : BitVec 32) (v191 : BitVec 32) (v196 : BitVec 32) (v201 : BitVec 32) (v206 : BitVec 32) (v211 : BitVec 32) (v216 : BitVec 32) (v221 : BitVec 32) (v226 : BitVec 32) (v231 : BitVec 32) (v236 : BitVec 32) (v241 : BitVec 32) : BitVec 1 :=
  let c0_i32_102 : BitVec 32 := 0#32
  let v245 : BitVec 1 := Scalar.cmpi .eq v158_0 c0_i32_102
  let c0_i32_104 : BitVec 32 := 0#32
  let c1_i32_66 : BitVec 32 := 1#32
  let v159 : BitVec 32 := Scalar.subi v158_0 c1_i32_66
  let c0_i32_67 : BitVec 32 := 0#32
  let v160 : BitVec 32 := Scalar.maxsi v159 c0_i32_67
  let c16_i32_103 : BitVec 32 := 16#32
  let v246 : BitVec 32 := Scalar.muli v160 c16_i32_103
  let c0_i32_71 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let c32_i32_0 : BitVec 32 := 32#32
  let v3 : BitVec 32 := Scalar.addi v2 c32_i32_0
  let v167 : BitVec 1 := Scalar.cmpi .slt v166 v3
  let c1_i32_69 : BitVec 32 := 1#32
  let c0_i32_70 : BitVec 32 := 0#32
  let v168 : BitVec 32 := Scalar.select v167 c1_i32_69 c0_i32_70
  let v169 : BitVec 32 := Scalar.addi c0_i32_71 v168
  let v172 : BitVec 1 := Scalar.cmpi .slt v171 v3
  let c1_i32_72 : BitVec 32 := 1#32
  let c0_i32_73 : BitVec 32 := 0#32
  let v173 : BitVec 32 := Scalar.select v172 c1_i32_72 c0_i32_73
  let v174 : BitVec 32 := Scalar.addi v169 v173
  let v177 : BitVec 1 := Scalar.cmpi .slt v176 v3
  let c1_i32_74 : BitVec 32 := 1#32
  let c0_i32_75 : BitVec 32 := 0#32
  let v178 : BitVec 32 := Scalar.select v177 c1_i32_74 c0_i32_75
  let v179 : BitVec 32 := Scalar.addi v174 v178
  let v182 : BitVec 1 := Scalar.cmpi .slt v181 v3
  let c1_i32_76 : BitVec 32 := 1#32
  let c0_i32_77 : BitVec 32 := 0#32
  let v183 : BitVec 32 := Scalar.select v182 c1_i32_76 c0_i32_77
  let v184 : BitVec 32 := Scalar.addi v179 v183
  let v187 : BitVec 1 := Scalar.cmpi .slt v186 v3
  let c1_i32_78 : BitVec 32 := 1#32
  let c0_i32_79 : BitVec 32 := 0#32
  let v188 : BitVec 32 := Scalar.select v187 c1_i32_78 c0_i32_79
  let v189 : BitVec 32 := Scalar.addi v184 v188
  let v192 : BitVec 1 := Scalar.cmpi .slt v191 v3
  let c1_i32_80 : BitVec 32 := 1#32
  let c0_i32_81 : BitVec 32 := 0#32
  let v193 : BitVec 32 := Scalar.select v192 c1_i32_80 c0_i32_81
  let v194 : BitVec 32 := Scalar.addi v189 v193
  let v197 : BitVec 1 := Scalar.cmpi .slt v196 v3
  let c1_i32_82 : BitVec 32 := 1#32
  let c0_i32_83 : BitVec 32 := 0#32
  let v198 : BitVec 32 := Scalar.select v197 c1_i32_82 c0_i32_83
  let v199 : BitVec 32 := Scalar.addi v194 v198
  let v202 : BitVec 1 := Scalar.cmpi .slt v201 v3
  let c1_i32_84 : BitVec 32 := 1#32
  let c0_i32_85 : BitVec 32 := 0#32
  let v203 : BitVec 32 := Scalar.select v202 c1_i32_84 c0_i32_85
  let v204 : BitVec 32 := Scalar.addi v199 v203
  let v207 : BitVec 1 := Scalar.cmpi .slt v206 v3
  let c1_i32_86 : BitVec 32 := 1#32
  let c0_i32_87 : BitVec 32 := 0#32
  let v208 : BitVec 32 := Scalar.select v207 c1_i32_86 c0_i32_87
  let v209 : BitVec 32 := Scalar.addi v204 v208
  let v212 : BitVec 1 := Scalar.cmpi .slt v211 v3
  let c1_i32_88 : BitVec 32 := 1#32
  let c0_i32_89 : BitVec 32 := 0#32
  let v213 : BitVec 32 := Scalar.select v212 c1_i32_88 c0_i32_89
  let v214 : BitVec 32 := Scalar.addi v209 v213
  let v217 : BitVec 1 := Scalar.cmpi .slt v216 v3
  let c1_i32_90 : BitVec 32 := 1#32
  let c0_i32_91 : BitVec 32 := 0#32
  let v218 : BitVec 32 := Scalar.select v217 c1_i32_90 c0_i32_91
  let v219 : BitVec 32 := Scalar.addi v214 v218
  let v222 : BitVec 1 := Scalar.cmpi .slt v221 v3
  let c1_i32_92 : BitVec 32 := 1#32
  let c0_i32_93 : BitVec 32 := 0#32
  let v223 : BitVec 32 := Scalar.select v222 c1_i32_92 c0_i32_93
  let v224 : BitVec 32 := Scalar.addi v219 v223
  let v227 : BitVec 1 := Scalar.cmpi .slt v226 v3
  let c1_i32_94 : BitVec 32 := 1#32
  let c0_i32_95 : BitVec 32 := 0#32
  let v228 : BitVec 32 := Scalar.select v227 c1_i32_94 c0_i32_95
  let v229 : BitVec 32 := Scalar.addi v224 v228
  let v232 : BitVec 1 := Scalar.cmpi .slt v231 v3
  let c1_i32_96 : BitVec 32 := 1#32
  let c0_i32_97 : BitVec 32 := 0#32
  let v233 : BitVec 32 := Scalar.select v232 c1_i32_96 c0_i32_97
  let v234 : BitVec 32 := Scalar.addi v229 v233
  let v237 : BitVec 1 := Scalar.cmpi .slt v236 v3
  let c1_i32_98 : BitVec 32 := 1#32
  let c0_i32_99 : BitVec 32 := 0#32
  let v238 : BitVec 32 := Scalar.select v237 c1_i32_98 c0_i32_99
  let v239 : BitVec 32 := Scalar.addi v234 v238
  let v242 : BitVec 1 := Scalar.cmpi .slt v241 v3
  let c1_i32_100 : BitVec 32 := 1#32
  let c0_i32_101 : BitVec 32 := 0#32
  let v243 : BitVec 32 := Scalar.select v242 c1_i32_100 c0_i32_101
  let v244 : BitVec 32 := Scalar.addi v239 v243
  let v247 : BitVec 32 := Scalar.addi v246 v244
  let v248 : BitVec 32 := Scalar.select v245 c0_i32_104 v247
  let c9984_i32 : BitVec 32 := 9984#32
  let v317 : BitVec 1 := Scalar.cmpi .sgt v248 c9984_i32
  let v318 : BitVec 32 := Scalar.extui v317
  let c0_i32_138 : BitVec 32 := 0#32
  let v319 : BitVec 1 := Scalar.cmpi .ne v318 c0_i32_138
  v319

def k0_off313 (v341 : BitVec 32) : Fin 2 → Nat :=
  let v349 : Index := Scalar.indexCast v341
  let c496 : Index := 496#32
  ![v349.toNat, 496]

def k0_chk70 (i : grid0.Coords) (v158_0 : BitVec 32) (v166 : BitVec 32) (v171 : BitVec 32) (v176 : BitVec 32) (v181 : BitVec 32) (v186 : BitVec 32) (v191 : BitVec 32) (v196 : BitVec 32) (v201 : BitVec 32) (v206 : BitVec 32) (v211 : BitVec 32) (v216 : BitVec 32) (v221 : BitVec 32) (v226 : BitVec 32) (v231 : BitVec 32) (v236 : BitVec 32) (v241 : BitVec 32) (v341 : BitVec 32) : Prop :=
  (∀ k0_t74 : Fin k0_t74_loop.trips, ∀ (k0_h11 : k0_cond11 i v158_0 v166 v171 v176 v181 v186 v191 v196 v201 v206 v211 v216 v221 v226 v231 v236 v241 = 1#1), ∀ a, (k0_off312 v341 k0_t74) a + S1x16.size a ≤ S32x512.size a) ∧
  (∀ (k0_h11 : k0_cond11 i v158_0 v166 v171 v176 v181 v186 v191 v196 v201 v206 v211 v216 v221 v226 v231 v236 v241 = 1#1), ∀ a, (k0_off313 v341) a + S1x16.size a ≤ S32x512.size a)
theorem k0_off312_inb : ∀ (i : grid0.Coords) (v158_0 : BitVec 32) (v166 : BitVec 32) (v171 : BitVec 32) (v176 : BitVec 32) (v181 : BitVec 32) (v186 : BitVec 32) (v191 : BitVec 32) (v196 : BitVec 32) (v201 : BitVec 32) (v206 : BitVec 32) (v211 : BitVec 32) (v216 : BitVec 32) (v221 : BitVec 32) (v226 : BitVec 32) (v231 : BitVec 32) (v236 : BitVec 32) (v241 : BitVec 32) (v341 : BitVec 32) (k0_hw70 : k0_chk70 i v158_0 v166 v171 v176 v181 v186 v191 v196 v201 v206 v211 v216 v221 v226 v231 v236 v241 v341) (k0_t74 : Fin k0_t74_loop.trips), ∀ (k0_h11 : k0_cond11 i v158_0 v166 v171 v176 v181 v186 v191 v196 v201 v206 v211 v216 v221 v226 v231 v236 v241 = 1#1), ∀ a, (k0_off312 v341 k0_t74) a + S1x16.size a ≤ S32x512.size a := fun i v158_0 v166 v171 v176 v181 v186 v191 v196 v201 v206 v211 v216 v221 v226 v231 v236 v241 v341 k0_hw70 k0_t74 k0_h11 => k0_hw70.1 k0_t74 k0_h11
theorem k0_off313_inb : ∀ (i : grid0.Coords) (v158_0 : BitVec 32) (v166 : BitVec 32) (v171 : BitVec 32) (v176 : BitVec 32) (v181 : BitVec 32) (v186 : BitVec 32) (v191 : BitVec 32) (v196 : BitVec 32) (v201 : BitVec 32) (v206 : BitVec 32) (v211 : BitVec 32) (v216 : BitVec 32) (v221 : BitVec 32) (v226 : BitVec 32) (v231 : BitVec 32) (v236 : BitVec 32) (v241 : BitVec 32) (v341 : BitVec 32) (k0_hw70 : k0_chk70 i v158_0 v166 v171 v176 v181 v186 v191 v196 v201 v206 v211 v216 v221 v226 v231 v236 v241 v341), ∀ (k0_h11 : k0_cond11 i v158_0 v166 v171 v176 v181 v186 v191 v196 v201 v206 v211 v216 v221 v226 v231 v236 v241 = 1#1), ∀ a, (k0_off313 v341) a + S1x16.size a ≤ S32x512.size a := fun i v158_0 v166 v171 v176 v181 v186 v191 v196 v201 v206 v211 v216 v221 v226 v231 v236 v241 v341 k0_hw70 k0_h11 => k0_hw70.2 k0_h11

@[reducible] def k0_t75_loop : Scf.Loop 32 :=
  let c1_i32_149 : BitVec 32 := 1#32
  let c31_i32_150 : BitVec 32 := 31#32
  let v366 : BitVec 32 := Scalar.addi c1_i32_149 c31_i32_150
  let c1_i32_151 : BitVec 32 := 1#32
  ⟨c1_i32_149, v366, c1_i32_151⟩
def k0_off314 (k0_t75 : Fin k0_t75_loop.trips) : Fin 2 → Nat :=
  let c1_i32_256 : BitVec 32 := 1#32
  let v643 : Index := Scalar.indexCast c1_i32_256
  let c1_i32_149 : BitVec 32 := 1#32
  let c1_i32_151 : BitVec 32 := 1#32
  let arg13 : BitVec 32 := Scf.iv c1_i32_149 c1_i32_151 k0_t75
  let c16_i32_255 : BitVec 32 := 16#32
  let v642 : BitVec 32 := Scalar.muli arg13 c16_i32_255
  let v644 : Index := Scalar.indexCast v642
  ![1, v644.toNat]
def k0_off315 (v360 : BitVec 32) (k0_t75 : Fin k0_t75_loop.trips) : Fin 2 → Nat :=
  let v651 : Index := Scalar.indexCast v360
  let c1_i32_149 : BitVec 32 := 1#32
  let c1_i32_151 : BitVec 32 := 1#32
  let arg13 : BitVec 32 := Scf.iv c1_i32_149 c1_i32_151 k0_t75
  let c1_i32_257 : BitVec 32 := 1#32
  let v649 : BitVec 32 := Scalar.subi arg13 c1_i32_257
  let c16_i32_258 : BitVec 32 := 16#32
  let v650 : BitVec 32 := Scalar.muli v649 c16_i32_258
  let v652 : Index := Scalar.indexCast v650
  ![v651.toNat, v652.toNat]

def k0_off316 (v360 : BitVec 32) : Fin 2 → Nat :=
  let v368 : Index := Scalar.indexCast v360
  let c496_153 : Index := 496#32
  ![v368.toNat, 496]

def k0_chk71 (i : grid0.Coords) (v158_0 : BitVec 32) (v166 : BitVec 32) (v171 : BitVec 32) (v176 : BitVec 32) (v181 : BitVec 32) (v186 : BitVec 32) (v191 : BitVec 32) (v196 : BitVec 32) (v201 : BitVec 32) (v206 : BitVec 32) (v211 : BitVec 32) (v216 : BitVec 32) (v221 : BitVec 32) (v226 : BitVec 32) (v231 : BitVec 32) (v236 : BitVec 32) (v241 : BitVec 32) (v360 : BitVec 32) : Prop :=
  (∀ k0_t75 : Fin k0_t75_loop.trips, ∀ (k0_h11 : k0_cond11 i v158_0 v166 v171 v176 v181 v186 v191 v196 v201 v206 v211 v216 v221 v226 v231 v236 v241 = 1#1), ∀ a, (k0_off315 v360 k0_t75) a + S1x16.size a ≤ S32x512.size a) ∧
  (∀ (k0_h11 : k0_cond11 i v158_0 v166 v171 v176 v181 v186 v191 v196 v201 v206 v211 v216 v221 v226 v231 v236 v241 = 1#1), ∀ a, (k0_off316 v360) a + S1x16.size a ≤ S32x512.size a)
theorem k0_off315_inb : ∀ (i : grid0.Coords) (v158_0 : BitVec 32) (v166 : BitVec 32) (v171 : BitVec 32) (v176 : BitVec 32) (v181 : BitVec 32) (v186 : BitVec 32) (v191 : BitVec 32) (v196 : BitVec 32) (v201 : BitVec 32) (v206 : BitVec 32) (v211 : BitVec 32) (v216 : BitVec 32) (v221 : BitVec 32) (v226 : BitVec 32) (v231 : BitVec 32) (v236 : BitVec 32) (v241 : BitVec 32) (v360 : BitVec 32) (k0_hw71 : k0_chk71 i v158_0 v166 v171 v176 v181 v186 v191 v196 v201 v206 v211 v216 v221 v226 v231 v236 v241 v360) (k0_t75 : Fin k0_t75_loop.trips), ∀ (k0_h11 : k0_cond11 i v158_0 v166 v171 v176 v181 v186 v191 v196 v201 v206 v211 v216 v221 v226 v231 v236 v241 = 1#1), ∀ a, (k0_off315 v360 k0_t75) a + S1x16.size a ≤ S32x512.size a := fun i v158_0 v166 v171 v176 v181 v186 v191 v196 v201 v206 v211 v216 v221 v226 v231 v236 v241 v360 k0_hw71 k0_t75 k0_h11 => k0_hw71.1 k0_t75 k0_h11
theorem k0_off316_inb : ∀ (i : grid0.Coords) (v158_0 : BitVec 32) (v166 : BitVec 32) (v171 : BitVec 32) (v176 : BitVec 32) (v181 : BitVec 32) (v186 : BitVec 32) (v191 : BitVec 32) (v196 : BitVec 32) (v201 : BitVec 32) (v206 : BitVec 32) (v211 : BitVec 32) (v216 : BitVec 32) (v221 : BitVec 32) (v226 : BitVec 32) (v231 : BitVec 32) (v236 : BitVec 32) (v241 : BitVec 32) (v360 : BitVec 32) (k0_hw71 : k0_chk71 i v158_0 v166 v171 v176 v181 v186 v191 v196 v201 v206 v211 v216 v221 v226 v231 v236 v241 v360), ∀ (k0_h11 : k0_cond11 i v158_0 v166 v171 v176 v181 v186 v191 v196 v201 v206 v211 v216 v221 v226 v231 v236 v241 = 1#1), ∀ a, (k0_off316 v360) a + S1x16.size a ≤ S32x512.size a := fun i v158_0 v166 v171 v176 v181 v186 v191 v196 v201 v206 v211 v216 v221 v226 v231 v236 v241 v360 k0_hw71 k0_h11 => k0_hw71.2 k0_h11

@[reducible] def k0_t76_loop : Scf.Loop 32 :=
  let c1_i32_157 : BitVec 32 := 1#32
  let c31_i32_158 : BitVec 32 := 31#32
  let v385 : BitVec 32 := Scalar.addi c1_i32_157 c31_i32_158
  let c1_i32_159 : BitVec 32 := 1#32
  ⟨c1_i32_157, v385, c1_i32_159⟩
def k0_off317 (k0_t76 : Fin k0_t76_loop.trips) : Fin 2 → Nat :=
  let c2_i32_256 : BitVec 32 := 2#32
  let v643 : Index := Scalar.indexCast c2_i32_256
  let c1_i32_157 : BitVec 32 := 1#32
  let c1_i32_159 : BitVec 32 := 1#32
  let arg13 : BitVec 32 := Scf.iv c1_i32_157 c1_i32_159 k0_t76
  let c16_i32_255 : BitVec 32 := 16#32
  let v642 : BitVec 32 := Scalar.muli arg13 c16_i32_255
  let v644 : Index := Scalar.indexCast v642
  ![2, v644.toNat]
def k0_off318 (v379 : BitVec 32) (k0_t76 : Fin k0_t76_loop.trips) : Fin 2 → Nat :=
  let v651 : Index := Scalar.indexCast v379
  let c1_i32_157 : BitVec 32 := 1#32
  let c1_i32_159 : BitVec 32 := 1#32
  let arg13 : BitVec 32 := Scf.iv c1_i32_157 c1_i32_159 k0_t76
  let c1_i32_257 : BitVec 32 := 1#32
  let v649 : BitVec 32 := Scalar.subi arg13 c1_i32_257
  let c16_i32_258 : BitVec 32 := 16#32
  let v650 : BitVec 32 := Scalar.muli v649 c16_i32_258
  let v652 : Index := Scalar.indexCast v650
  ![v651.toNat, v652.toNat]

def k0_off319 (v379 : BitVec 32) : Fin 2 → Nat :=
  let v387 : Index := Scalar.indexCast v379
  let c496_161 : Index := 496#32
  ![v387.toNat, 496]

def k0_chk72 (i : grid0.Coords) (v158_0 : BitVec 32) (v166 : BitVec 32) (v171 : BitVec 32) (v176 : BitVec 32) (v181 : BitVec 32) (v186 : BitVec 32) (v191 : BitVec 32) (v196 : BitVec 32) (v201 : BitVec 32) (v206 : BitVec 32) (v211 : BitVec 32) (v216 : BitVec 32) (v221 : BitVec 32) (v226 : BitVec 32) (v231 : BitVec 32) (v236 : BitVec 32) (v241 : BitVec 32) (v379 : BitVec 32) : Prop :=
  (∀ k0_t76 : Fin k0_t76_loop.trips, ∀ (k0_h11 : k0_cond11 i v158_0 v166 v171 v176 v181 v186 v191 v196 v201 v206 v211 v216 v221 v226 v231 v236 v241 = 1#1), ∀ a, (k0_off318 v379 k0_t76) a + S1x16.size a ≤ S32x512.size a) ∧
  (∀ (k0_h11 : k0_cond11 i v158_0 v166 v171 v176 v181 v186 v191 v196 v201 v206 v211 v216 v221 v226 v231 v236 v241 = 1#1), ∀ a, (k0_off319 v379) a + S1x16.size a ≤ S32x512.size a)
theorem k0_off318_inb : ∀ (i : grid0.Coords) (v158_0 : BitVec 32) (v166 : BitVec 32) (v171 : BitVec 32) (v176 : BitVec 32) (v181 : BitVec 32) (v186 : BitVec 32) (v191 : BitVec 32) (v196 : BitVec 32) (v201 : BitVec 32) (v206 : BitVec 32) (v211 : BitVec 32) (v216 : BitVec 32) (v221 : BitVec 32) (v226 : BitVec 32) (v231 : BitVec 32) (v236 : BitVec 32) (v241 : BitVec 32) (v379 : BitVec 32) (k0_hw72 : k0_chk72 i v158_0 v166 v171 v176 v181 v186 v191 v196 v201 v206 v211 v216 v221 v226 v231 v236 v241 v379) (k0_t76 : Fin k0_t76_loop.trips), ∀ (k0_h11 : k0_cond11 i v158_0 v166 v171 v176 v181 v186 v191 v196 v201 v206 v211 v216 v221 v226 v231 v236 v241 = 1#1), ∀ a, (k0_off318 v379 k0_t76) a + S1x16.size a ≤ S32x512.size a := fun i v158_0 v166 v171 v176 v181 v186 v191 v196 v201 v206 v211 v216 v221 v226 v231 v236 v241 v379 k0_hw72 k0_t76 k0_h11 => k0_hw72.1 k0_t76 k0_h11
theorem k0_off319_inb : ∀ (i : grid0.Coords) (v158_0 : BitVec 32) (v166 : BitVec 32) (v171 : BitVec 32) (v176 : BitVec 32) (v181 : BitVec 32) (v186 : BitVec 32) (v191 : BitVec 32) (v196 : BitVec 32) (v201 : BitVec 32) (v206 : BitVec 32) (v211 : BitVec 32) (v216 : BitVec 32) (v221 : BitVec 32) (v226 : BitVec 32) (v231 : BitVec 32) (v236 : BitVec 32) (v241 : BitVec 32) (v379 : BitVec 32) (k0_hw72 : k0_chk72 i v158_0 v166 v171 v176 v181 v186 v191 v196 v201 v206 v211 v216 v221 v226 v231 v236 v241 v379), ∀ (k0_h11 : k0_cond11 i v158_0 v166 v171 v176 v181 v186 v191 v196 v201 v206 v211 v216 v221 v226 v231 v236 v241 = 1#1), ∀ a, (k0_off319 v379) a + S1x16.size a ≤ S32x512.size a := fun i v158_0 v166 v171 v176 v181 v186 v191 v196 v201 v206 v211 v216 v221 v226 v231 v236 v241 v379 k0_hw72 k0_h11 => k0_hw72.2 k0_h11

@[reducible] def k0_t77_loop : Scf.Loop 32 :=
  let c1_i32_164 : BitVec 32 := 1#32
  let c31_i32_165 : BitVec 32 := 31#32
  let v404 : BitVec 32 := Scalar.addi c1_i32_164 c31_i32_165
  let c1_i32_166 : BitVec 32 := 1#32
  ⟨c1_i32_164, v404, c1_i32_166⟩
def k0_off320 (k0_t77 : Fin k0_t77_loop.trips) : Fin 2 → Nat :=
  let c3_i32_256 : BitVec 32 := 3#32
  let v643 : Index := Scalar.indexCast c3_i32_256
  let c1_i32_164 : BitVec 32 := 1#32
  let c1_i32_166 : BitVec 32 := 1#32
  let arg13 : BitVec 32 := Scf.iv c1_i32_164 c1_i32_166 k0_t77
  let c16_i32_255 : BitVec 32 := 16#32
  let v642 : BitVec 32 := Scalar.muli arg13 c16_i32_255
  let v644 : Index := Scalar.indexCast v642
  ![3, v644.toNat]
def k0_off321 (v398 : BitVec 32) (k0_t77 : Fin k0_t77_loop.trips) : Fin 2 → Nat :=
  let v651 : Index := Scalar.indexCast v398
  let c1_i32_164 : BitVec 32 := 1#32
  let c1_i32_166 : BitVec 32 := 1#32
  let arg13 : BitVec 32 := Scf.iv c1_i32_164 c1_i32_166 k0_t77
  let c1_i32_257 : BitVec 32 := 1#32
  let v649 : BitVec 32 := Scalar.subi arg13 c1_i32_257
  let c16_i32_258 : BitVec 32 := 16#32
  let v650 : BitVec 32 := Scalar.muli v649 c16_i32_258
  let v652 : Index := Scalar.indexCast v650
  ![v651.toNat, v652.toNat]

def k0_off322 (v398 : BitVec 32) : Fin 2 → Nat :=
  let v406 : Index := Scalar.indexCast v398
  let c496_168 : Index := 496#32
  ![v406.toNat, 496]

def k0_chk73 (i : grid0.Coords) (v158_0 : BitVec 32) (v166 : BitVec 32) (v171 : BitVec 32) (v176 : BitVec 32) (v181 : BitVec 32) (v186 : BitVec 32) (v191 : BitVec 32) (v196 : BitVec 32) (v201 : BitVec 32) (v206 : BitVec 32) (v211 : BitVec 32) (v216 : BitVec 32) (v221 : BitVec 32) (v226 : BitVec 32) (v231 : BitVec 32) (v236 : BitVec 32) (v241 : BitVec 32) (v398 : BitVec 32) : Prop :=
  (∀ k0_t77 : Fin k0_t77_loop.trips, ∀ (k0_h11 : k0_cond11 i v158_0 v166 v171 v176 v181 v186 v191 v196 v201 v206 v211 v216 v221 v226 v231 v236 v241 = 1#1), ∀ a, (k0_off321 v398 k0_t77) a + S1x16.size a ≤ S32x512.size a) ∧
  (∀ (k0_h11 : k0_cond11 i v158_0 v166 v171 v176 v181 v186 v191 v196 v201 v206 v211 v216 v221 v226 v231 v236 v241 = 1#1), ∀ a, (k0_off322 v398) a + S1x16.size a ≤ S32x512.size a)
theorem k0_off321_inb : ∀ (i : grid0.Coords) (v158_0 : BitVec 32) (v166 : BitVec 32) (v171 : BitVec 32) (v176 : BitVec 32) (v181 : BitVec 32) (v186 : BitVec 32) (v191 : BitVec 32) (v196 : BitVec 32) (v201 : BitVec 32) (v206 : BitVec 32) (v211 : BitVec 32) (v216 : BitVec 32) (v221 : BitVec 32) (v226 : BitVec 32) (v231 : BitVec 32) (v236 : BitVec 32) (v241 : BitVec 32) (v398 : BitVec 32) (k0_hw73 : k0_chk73 i v158_0 v166 v171 v176 v181 v186 v191 v196 v201 v206 v211 v216 v221 v226 v231 v236 v241 v398) (k0_t77 : Fin k0_t77_loop.trips), ∀ (k0_h11 : k0_cond11 i v158_0 v166 v171 v176 v181 v186 v191 v196 v201 v206 v211 v216 v221 v226 v231 v236 v241 = 1#1), ∀ a, (k0_off321 v398 k0_t77) a + S1x16.size a ≤ S32x512.size a := fun i v158_0 v166 v171 v176 v181 v186 v191 v196 v201 v206 v211 v216 v221 v226 v231 v236 v241 v398 k0_hw73 k0_t77 k0_h11 => k0_hw73.1 k0_t77 k0_h11
theorem k0_off322_inb : ∀ (i : grid0.Coords) (v158_0 : BitVec 32) (v166 : BitVec 32) (v171 : BitVec 32) (v176 : BitVec 32) (v181 : BitVec 32) (v186 : BitVec 32) (v191 : BitVec 32) (v196 : BitVec 32) (v201 : BitVec 32) (v206 : BitVec 32) (v211 : BitVec 32) (v216 : BitVec 32) (v221 : BitVec 32) (v226 : BitVec 32) (v231 : BitVec 32) (v236 : BitVec 32) (v241 : BitVec 32) (v398 : BitVec 32) (k0_hw73 : k0_chk73 i v158_0 v166 v171 v176 v181 v186 v191 v196 v201 v206 v211 v216 v221 v226 v231 v236 v241 v398), ∀ (k0_h11 : k0_cond11 i v158_0 v166 v171 v176 v181 v186 v191 v196 v201 v206 v211 v216 v221 v226 v231 v236 v241 = 1#1), ∀ a, (k0_off322 v398) a + S1x16.size a ≤ S32x512.size a := fun i v158_0 v166 v171 v176 v181 v186 v191 v196 v201 v206 v211 v216 v221 v226 v231 v236 v241 v398 k0_hw73 k0_h11 => k0_hw73.2 k0_h11

@[reducible] def k0_t78_loop : Scf.Loop 32 :=
  let c1_i32_171 : BitVec 32 := 1#32
  let c31_i32_172 : BitVec 32 := 31#32
  let v423 : BitVec 32 := Scalar.addi c1_i32_171 c31_i32_172
  let c1_i32_173 : BitVec 32 := 1#32
  ⟨c1_i32_171, v423, c1_i32_173⟩
def k0_off323 (k0_t78 : Fin k0_t78_loop.trips) : Fin 2 → Nat :=
  let c4_i32_256 : BitVec 32 := 4#32
  let v643 : Index := Scalar.indexCast c4_i32_256
  let c1_i32_171 : BitVec 32 := 1#32
  let c1_i32_173 : BitVec 32 := 1#32
  let arg13 : BitVec 32 := Scf.iv c1_i32_171 c1_i32_173 k0_t78
  let c16_i32_255 : BitVec 32 := 16#32
  let v642 : BitVec 32 := Scalar.muli arg13 c16_i32_255
  let v644 : Index := Scalar.indexCast v642
  ![4, v644.toNat]
def k0_off324 (v417 : BitVec 32) (k0_t78 : Fin k0_t78_loop.trips) : Fin 2 → Nat :=
  let v651 : Index := Scalar.indexCast v417
  let c1_i32_171 : BitVec 32 := 1#32
  let c1_i32_173 : BitVec 32 := 1#32
  let arg13 : BitVec 32 := Scf.iv c1_i32_171 c1_i32_173 k0_t78
  let c1_i32_257 : BitVec 32 := 1#32
  let v649 : BitVec 32 := Scalar.subi arg13 c1_i32_257
  let c16_i32_258 : BitVec 32 := 16#32
  let v650 : BitVec 32 := Scalar.muli v649 c16_i32_258
  let v652 : Index := Scalar.indexCast v650
  ![v651.toNat, v652.toNat]

def k0_off325 (v417 : BitVec 32) : Fin 2 → Nat :=
  let v425 : Index := Scalar.indexCast v417
  let c496_175 : Index := 496#32
  ![v425.toNat, 496]

def k0_chk74 (i : grid0.Coords) (v158_0 : BitVec 32) (v166 : BitVec 32) (v171 : BitVec 32) (v176 : BitVec 32) (v181 : BitVec 32) (v186 : BitVec 32) (v191 : BitVec 32) (v196 : BitVec 32) (v201 : BitVec 32) (v206 : BitVec 32) (v211 : BitVec 32) (v216 : BitVec 32) (v221 : BitVec 32) (v226 : BitVec 32) (v231 : BitVec 32) (v236 : BitVec 32) (v241 : BitVec 32) (v417 : BitVec 32) : Prop :=
  (∀ k0_t78 : Fin k0_t78_loop.trips, ∀ (k0_h11 : k0_cond11 i v158_0 v166 v171 v176 v181 v186 v191 v196 v201 v206 v211 v216 v221 v226 v231 v236 v241 = 1#1), ∀ a, (k0_off324 v417 k0_t78) a + S1x16.size a ≤ S32x512.size a) ∧
  (∀ (k0_h11 : k0_cond11 i v158_0 v166 v171 v176 v181 v186 v191 v196 v201 v206 v211 v216 v221 v226 v231 v236 v241 = 1#1), ∀ a, (k0_off325 v417) a + S1x16.size a ≤ S32x512.size a)
theorem k0_off324_inb : ∀ (i : grid0.Coords) (v158_0 : BitVec 32) (v166 : BitVec 32) (v171 : BitVec 32) (v176 : BitVec 32) (v181 : BitVec 32) (v186 : BitVec 32) (v191 : BitVec 32) (v196 : BitVec 32) (v201 : BitVec 32) (v206 : BitVec 32) (v211 : BitVec 32) (v216 : BitVec 32) (v221 : BitVec 32) (v226 : BitVec 32) (v231 : BitVec 32) (v236 : BitVec 32) (v241 : BitVec 32) (v417 : BitVec 32) (k0_hw74 : k0_chk74 i v158_0 v166 v171 v176 v181 v186 v191 v196 v201 v206 v211 v216 v221 v226 v231 v236 v241 v417) (k0_t78 : Fin k0_t78_loop.trips), ∀ (k0_h11 : k0_cond11 i v158_0 v166 v171 v176 v181 v186 v191 v196 v201 v206 v211 v216 v221 v226 v231 v236 v241 = 1#1), ∀ a, (k0_off324 v417 k0_t78) a + S1x16.size a ≤ S32x512.size a := fun i v158_0 v166 v171 v176 v181 v186 v191 v196 v201 v206 v211 v216 v221 v226 v231 v236 v241 v417 k0_hw74 k0_t78 k0_h11 => k0_hw74.1 k0_t78 k0_h11
theorem k0_off325_inb : ∀ (i : grid0.Coords) (v158_0 : BitVec 32) (v166 : BitVec 32) (v171 : BitVec 32) (v176 : BitVec 32) (v181 : BitVec 32) (v186 : BitVec 32) (v191 : BitVec 32) (v196 : BitVec 32) (v201 : BitVec 32) (v206 : BitVec 32) (v211 : BitVec 32) (v216 : BitVec 32) (v221 : BitVec 32) (v226 : BitVec 32) (v231 : BitVec 32) (v236 : BitVec 32) (v241 : BitVec 32) (v417 : BitVec 32) (k0_hw74 : k0_chk74 i v158_0 v166 v171 v176 v181 v186 v191 v196 v201 v206 v211 v216 v221 v226 v231 v236 v241 v417), ∀ (k0_h11 : k0_cond11 i v158_0 v166 v171 v176 v181 v186 v191 v196 v201 v206 v211 v216 v221 v226 v231 v236 v241 = 1#1), ∀ a, (k0_off325 v417) a + S1x16.size a ≤ S32x512.size a := fun i v158_0 v166 v171 v176 v181 v186 v191 v196 v201 v206 v211 v216 v221 v226 v231 v236 v241 v417 k0_hw74 k0_h11 => k0_hw74.2 k0_h11

@[reducible] def k0_t79_loop : Scf.Loop 32 :=
  let c1_i32_178 : BitVec 32 := 1#32
  let c31_i32_179 : BitVec 32 := 31#32
  let v442 : BitVec 32 := Scalar.addi c1_i32_178 c31_i32_179
  let c1_i32_180 : BitVec 32 := 1#32
  ⟨c1_i32_178, v442, c1_i32_180⟩
def k0_off326 (k0_t79 : Fin k0_t79_loop.trips) : Fin 2 → Nat :=
  let c5_i32_256 : BitVec 32 := 5#32
  let v643 : Index := Scalar.indexCast c5_i32_256
  let c1_i32_178 : BitVec 32 := 1#32
  let c1_i32_180 : BitVec 32 := 1#32
  let arg13 : BitVec 32 := Scf.iv c1_i32_178 c1_i32_180 k0_t79
  let c16_i32_255 : BitVec 32 := 16#32
  let v642 : BitVec 32 := Scalar.muli arg13 c16_i32_255
  let v644 : Index := Scalar.indexCast v642
  ![5, v644.toNat]
def k0_off327 (v436 : BitVec 32) (k0_t79 : Fin k0_t79_loop.trips) : Fin 2 → Nat :=
  let v651 : Index := Scalar.indexCast v436
  let c1_i32_178 : BitVec 32 := 1#32
  let c1_i32_180 : BitVec 32 := 1#32
  let arg13 : BitVec 32 := Scf.iv c1_i32_178 c1_i32_180 k0_t79
  let c1_i32_257 : BitVec 32 := 1#32
  let v649 : BitVec 32 := Scalar.subi arg13 c1_i32_257
  let c16_i32_258 : BitVec 32 := 16#32
  let v650 : BitVec 32 := Scalar.muli v649 c16_i32_258
  let v652 : Index := Scalar.indexCast v650
  ![v651.toNat, v652.toNat]

def k0_off328 (v436 : BitVec 32) : Fin 2 → Nat :=
  let v444 : Index := Scalar.indexCast v436
  let c496_182 : Index := 496#32
  ![v444.toNat, 496]

def k0_chk75 (i : grid0.Coords) (v158_0 : BitVec 32) (v166 : BitVec 32) (v171 : BitVec 32) (v176 : BitVec 32) (v181 : BitVec 32) (v186 : BitVec 32) (v191 : BitVec 32) (v196 : BitVec 32) (v201 : BitVec 32) (v206 : BitVec 32) (v211 : BitVec 32) (v216 : BitVec 32) (v221 : BitVec 32) (v226 : BitVec 32) (v231 : BitVec 32) (v236 : BitVec 32) (v241 : BitVec 32) (v436 : BitVec 32) : Prop :=
  (∀ k0_t79 : Fin k0_t79_loop.trips, ∀ (k0_h11 : k0_cond11 i v158_0 v166 v171 v176 v181 v186 v191 v196 v201 v206 v211 v216 v221 v226 v231 v236 v241 = 1#1), ∀ a, (k0_off327 v436 k0_t79) a + S1x16.size a ≤ S32x512.size a) ∧
  (∀ (k0_h11 : k0_cond11 i v158_0 v166 v171 v176 v181 v186 v191 v196 v201 v206 v211 v216 v221 v226 v231 v236 v241 = 1#1), ∀ a, (k0_off328 v436) a + S1x16.size a ≤ S32x512.size a)
theorem k0_off327_inb : ∀ (i : grid0.Coords) (v158_0 : BitVec 32) (v166 : BitVec 32) (v171 : BitVec 32) (v176 : BitVec 32) (v181 : BitVec 32) (v186 : BitVec 32) (v191 : BitVec 32) (v196 : BitVec 32) (v201 : BitVec 32) (v206 : BitVec 32) (v211 : BitVec 32) (v216 : BitVec 32) (v221 : BitVec 32) (v226 : BitVec 32) (v231 : BitVec 32) (v236 : BitVec 32) (v241 : BitVec 32) (v436 : BitVec 32) (k0_hw75 : k0_chk75 i v158_0 v166 v171 v176 v181 v186 v191 v196 v201 v206 v211 v216 v221 v226 v231 v236 v241 v436) (k0_t79 : Fin k0_t79_loop.trips), ∀ (k0_h11 : k0_cond11 i v158_0 v166 v171 v176 v181 v186 v191 v196 v201 v206 v211 v216 v221 v226 v231 v236 v241 = 1#1), ∀ a, (k0_off327 v436 k0_t79) a + S1x16.size a ≤ S32x512.size a := fun i v158_0 v166 v171 v176 v181 v186 v191 v196 v201 v206 v211 v216 v221 v226 v231 v236 v241 v436 k0_hw75 k0_t79 k0_h11 => k0_hw75.1 k0_t79 k0_h11
theorem k0_off328_inb : ∀ (i : grid0.Coords) (v158_0 : BitVec 32) (v166 : BitVec 32) (v171 : BitVec 32) (v176 : BitVec 32) (v181 : BitVec 32) (v186 : BitVec 32) (v191 : BitVec 32) (v196 : BitVec 32) (v201 : BitVec 32) (v206 : BitVec 32) (v211 : BitVec 32) (v216 : BitVec 32) (v221 : BitVec 32) (v226 : BitVec 32) (v231 : BitVec 32) (v236 : BitVec 32) (v241 : BitVec 32) (v436 : BitVec 32) (k0_hw75 : k0_chk75 i v158_0 v166 v171 v176 v181 v186 v191 v196 v201 v206 v211 v216 v221 v226 v231 v236 v241 v436), ∀ (k0_h11 : k0_cond11 i v158_0 v166 v171 v176 v181 v186 v191 v196 v201 v206 v211 v216 v221 v226 v231 v236 v241 = 1#1), ∀ a, (k0_off328 v436) a + S1x16.size a ≤ S32x512.size a := fun i v158_0 v166 v171 v176 v181 v186 v191 v196 v201 v206 v211 v216 v221 v226 v231 v236 v241 v436 k0_hw75 k0_h11 => k0_hw75.2 k0_h11

@[reducible] def k0_t80_loop : Scf.Loop 32 :=
  let c1_i32_185 : BitVec 32 := 1#32
  let c31_i32_186 : BitVec 32 := 31#32
  let v461 : BitVec 32 := Scalar.addi c1_i32_185 c31_i32_186
  let c1_i32_187 : BitVec 32 := 1#32
  ⟨c1_i32_185, v461, c1_i32_187⟩
def k0_off329 (k0_t80 : Fin k0_t80_loop.trips) : Fin 2 → Nat :=
  let c6_i32_256 : BitVec 32 := 6#32
  let v643 : Index := Scalar.indexCast c6_i32_256
  let c1_i32_185 : BitVec 32 := 1#32
  let c1_i32_187 : BitVec 32 := 1#32
  let arg13 : BitVec 32 := Scf.iv c1_i32_185 c1_i32_187 k0_t80
  let c16_i32_255 : BitVec 32 := 16#32
  let v642 : BitVec 32 := Scalar.muli arg13 c16_i32_255
  let v644 : Index := Scalar.indexCast v642
  ![6, v644.toNat]
def k0_off330 (v455 : BitVec 32) (k0_t80 : Fin k0_t80_loop.trips) : Fin 2 → Nat :=
  let v651 : Index := Scalar.indexCast v455
  let c1_i32_185 : BitVec 32 := 1#32
  let c1_i32_187 : BitVec 32 := 1#32
  let arg13 : BitVec 32 := Scf.iv c1_i32_185 c1_i32_187 k0_t80
  let c1_i32_257 : BitVec 32 := 1#32
  let v649 : BitVec 32 := Scalar.subi arg13 c1_i32_257
  let c16_i32_258 : BitVec 32 := 16#32
  let v650 : BitVec 32 := Scalar.muli v649 c16_i32_258
  let v652 : Index := Scalar.indexCast v650
  ![v651.toNat, v652.toNat]

def k0_off331 (v455 : BitVec 32) : Fin 2 → Nat :=
  let v463 : Index := Scalar.indexCast v455
  let c496_189 : Index := 496#32
  ![v463.toNat, 496]

def k0_chk76 (i : grid0.Coords) (v158_0 : BitVec 32) (v166 : BitVec 32) (v171 : BitVec 32) (v176 : BitVec 32) (v181 : BitVec 32) (v186 : BitVec 32) (v191 : BitVec 32) (v196 : BitVec 32) (v201 : BitVec 32) (v206 : BitVec 32) (v211 : BitVec 32) (v216 : BitVec 32) (v221 : BitVec 32) (v226 : BitVec 32) (v231 : BitVec 32) (v236 : BitVec 32) (v241 : BitVec 32) (v455 : BitVec 32) : Prop :=
  (∀ k0_t80 : Fin k0_t80_loop.trips, ∀ (k0_h11 : k0_cond11 i v158_0 v166 v171 v176 v181 v186 v191 v196 v201 v206 v211 v216 v221 v226 v231 v236 v241 = 1#1), ∀ a, (k0_off330 v455 k0_t80) a + S1x16.size a ≤ S32x512.size a) ∧
  (∀ (k0_h11 : k0_cond11 i v158_0 v166 v171 v176 v181 v186 v191 v196 v201 v206 v211 v216 v221 v226 v231 v236 v241 = 1#1), ∀ a, (k0_off331 v455) a + S1x16.size a ≤ S32x512.size a)
theorem k0_off330_inb : ∀ (i : grid0.Coords) (v158_0 : BitVec 32) (v166 : BitVec 32) (v171 : BitVec 32) (v176 : BitVec 32) (v181 : BitVec 32) (v186 : BitVec 32) (v191 : BitVec 32) (v196 : BitVec 32) (v201 : BitVec 32) (v206 : BitVec 32) (v211 : BitVec 32) (v216 : BitVec 32) (v221 : BitVec 32) (v226 : BitVec 32) (v231 : BitVec 32) (v236 : BitVec 32) (v241 : BitVec 32) (v455 : BitVec 32) (k0_hw76 : k0_chk76 i v158_0 v166 v171 v176 v181 v186 v191 v196 v201 v206 v211 v216 v221 v226 v231 v236 v241 v455) (k0_t80 : Fin k0_t80_loop.trips), ∀ (k0_h11 : k0_cond11 i v158_0 v166 v171 v176 v181 v186 v191 v196 v201 v206 v211 v216 v221 v226 v231 v236 v241 = 1#1), ∀ a, (k0_off330 v455 k0_t80) a + S1x16.size a ≤ S32x512.size a := fun i v158_0 v166 v171 v176 v181 v186 v191 v196 v201 v206 v211 v216 v221 v226 v231 v236 v241 v455 k0_hw76 k0_t80 k0_h11 => k0_hw76.1 k0_t80 k0_h11
theorem k0_off331_inb : ∀ (i : grid0.Coords) (v158_0 : BitVec 32) (v166 : BitVec 32) (v171 : BitVec 32) (v176 : BitVec 32) (v181 : BitVec 32) (v186 : BitVec 32) (v191 : BitVec 32) (v196 : BitVec 32) (v201 : BitVec 32) (v206 : BitVec 32) (v211 : BitVec 32) (v216 : BitVec 32) (v221 : BitVec 32) (v226 : BitVec 32) (v231 : BitVec 32) (v236 : BitVec 32) (v241 : BitVec 32) (v455 : BitVec 32) (k0_hw76 : k0_chk76 i v158_0 v166 v171 v176 v181 v186 v191 v196 v201 v206 v211 v216 v221 v226 v231 v236 v241 v455), ∀ (k0_h11 : k0_cond11 i v158_0 v166 v171 v176 v181 v186 v191 v196 v201 v206 v211 v216 v221 v226 v231 v236 v241 = 1#1), ∀ a, (k0_off331 v455) a + S1x16.size a ≤ S32x512.size a := fun i v158_0 v166 v171 v176 v181 v186 v191 v196 v201 v206 v211 v216 v221 v226 v231 v236 v241 v455 k0_hw76 k0_h11 => k0_hw76.2 k0_h11

@[reducible] def k0_t81_loop : Scf.Loop 32 :=
  let c1_i32_192 : BitVec 32 := 1#32
  let c31_i32_193 : BitVec 32 := 31#32
  let v480 : BitVec 32 := Scalar.addi c1_i32_192 c31_i32_193
  let c1_i32_194 : BitVec 32 := 1#32
  ⟨c1_i32_192, v480, c1_i32_194⟩
def k0_off332 (k0_t81 : Fin k0_t81_loop.trips) : Fin 2 → Nat :=
  let c7_i32_256 : BitVec 32 := 7#32
  let v643 : Index := Scalar.indexCast c7_i32_256
  let c1_i32_192 : BitVec 32 := 1#32
  let c1_i32_194 : BitVec 32 := 1#32
  let arg13 : BitVec 32 := Scf.iv c1_i32_192 c1_i32_194 k0_t81
  let c16_i32_255 : BitVec 32 := 16#32
  let v642 : BitVec 32 := Scalar.muli arg13 c16_i32_255
  let v644 : Index := Scalar.indexCast v642
  ![7, v644.toNat]
def k0_off333 (v474 : BitVec 32) (k0_t81 : Fin k0_t81_loop.trips) : Fin 2 → Nat :=
  let v651 : Index := Scalar.indexCast v474
  let c1_i32_192 : BitVec 32 := 1#32
  let c1_i32_194 : BitVec 32 := 1#32
  let arg13 : BitVec 32 := Scf.iv c1_i32_192 c1_i32_194 k0_t81
  let c1_i32_257 : BitVec 32 := 1#32
  let v649 : BitVec 32 := Scalar.subi arg13 c1_i32_257
  let c16_i32_258 : BitVec 32 := 16#32
  let v650 : BitVec 32 := Scalar.muli v649 c16_i32_258
  let v652 : Index := Scalar.indexCast v650
  ![v651.toNat, v652.toNat]

def k0_off334 (v474 : BitVec 32) : Fin 2 → Nat :=
  let v482 : Index := Scalar.indexCast v474
  let c496_196 : Index := 496#32
  ![v482.toNat, 496]

def k0_chk77 (i : grid0.Coords) (v158_0 : BitVec 32) (v166 : BitVec 32) (v171 : BitVec 32) (v176 : BitVec 32) (v181 : BitVec 32) (v186 : BitVec 32) (v191 : BitVec 32) (v196 : BitVec 32) (v201 : BitVec 32) (v206 : BitVec 32) (v211 : BitVec 32) (v216 : BitVec 32) (v221 : BitVec 32) (v226 : BitVec 32) (v231 : BitVec 32) (v236 : BitVec 32) (v241 : BitVec 32) (v474 : BitVec 32) : Prop :=
  (∀ k0_t81 : Fin k0_t81_loop.trips, ∀ (k0_h11 : k0_cond11 i v158_0 v166 v171 v176 v181 v186 v191 v196 v201 v206 v211 v216 v221 v226 v231 v236 v241 = 1#1), ∀ a, (k0_off333 v474 k0_t81) a + S1x16.size a ≤ S32x512.size a) ∧
  (∀ (k0_h11 : k0_cond11 i v158_0 v166 v171 v176 v181 v186 v191 v196 v201 v206 v211 v216 v221 v226 v231 v236 v241 = 1#1), ∀ a, (k0_off334 v474) a + S1x16.size a ≤ S32x512.size a)
theorem k0_off333_inb : ∀ (i : grid0.Coords) (v158_0 : BitVec 32) (v166 : BitVec 32) (v171 : BitVec 32) (v176 : BitVec 32) (v181 : BitVec 32) (v186 : BitVec 32) (v191 : BitVec 32) (v196 : BitVec 32) (v201 : BitVec 32) (v206 : BitVec 32) (v211 : BitVec 32) (v216 : BitVec 32) (v221 : BitVec 32) (v226 : BitVec 32) (v231 : BitVec 32) (v236 : BitVec 32) (v241 : BitVec 32) (v474 : BitVec 32) (k0_hw77 : k0_chk77 i v158_0 v166 v171 v176 v181 v186 v191 v196 v201 v206 v211 v216 v221 v226 v231 v236 v241 v474) (k0_t81 : Fin k0_t81_loop.trips), ∀ (k0_h11 : k0_cond11 i v158_0 v166 v171 v176 v181 v186 v191 v196 v201 v206 v211 v216 v221 v226 v231 v236 v241 = 1#1), ∀ a, (k0_off333 v474 k0_t81) a + S1x16.size a ≤ S32x512.size a := fun i v158_0 v166 v171 v176 v181 v186 v191 v196 v201 v206 v211 v216 v221 v226 v231 v236 v241 v474 k0_hw77 k0_t81 k0_h11 => k0_hw77.1 k0_t81 k0_h11
theorem k0_off334_inb : ∀ (i : grid0.Coords) (v158_0 : BitVec 32) (v166 : BitVec 32) (v171 : BitVec 32) (v176 : BitVec 32) (v181 : BitVec 32) (v186 : BitVec 32) (v191 : BitVec 32) (v196 : BitVec 32) (v201 : BitVec 32) (v206 : BitVec 32) (v211 : BitVec 32) (v216 : BitVec 32) (v221 : BitVec 32) (v226 : BitVec 32) (v231 : BitVec 32) (v236 : BitVec 32) (v241 : BitVec 32) (v474 : BitVec 32) (k0_hw77 : k0_chk77 i v158_0 v166 v171 v176 v181 v186 v191 v196 v201 v206 v211 v216 v221 v226 v231 v236 v241 v474), ∀ (k0_h11 : k0_cond11 i v158_0 v166 v171 v176 v181 v186 v191 v196 v201 v206 v211 v216 v221 v226 v231 v236 v241 = 1#1), ∀ a, (k0_off334 v474) a + S1x16.size a ≤ S32x512.size a := fun i v158_0 v166 v171 v176 v181 v186 v191 v196 v201 v206 v211 v216 v221 v226 v231 v236 v241 v474 k0_hw77 k0_h11 => k0_hw77.2 k0_h11

@[reducible] def k0_t82_loop : Scf.Loop 32 :=
  let c1_i32_199 : BitVec 32 := 1#32
  let c31_i32_200 : BitVec 32 := 31#32
  let v499 : BitVec 32 := Scalar.addi c1_i32_199 c31_i32_200
  let c1_i32_201 : BitVec 32 := 1#32
  ⟨c1_i32_199, v499, c1_i32_201⟩
def k0_off335 (k0_t82 : Fin k0_t82_loop.trips) : Fin 2 → Nat :=
  let c8_i32_256 : BitVec 32 := 8#32
  let v643 : Index := Scalar.indexCast c8_i32_256
  let c1_i32_199 : BitVec 32 := 1#32
  let c1_i32_201 : BitVec 32 := 1#32
  let arg13 : BitVec 32 := Scf.iv c1_i32_199 c1_i32_201 k0_t82
  let c16_i32_255 : BitVec 32 := 16#32
  let v642 : BitVec 32 := Scalar.muli arg13 c16_i32_255
  let v644 : Index := Scalar.indexCast v642
  ![8, v644.toNat]
def k0_off336 (v493 : BitVec 32) (k0_t82 : Fin k0_t82_loop.trips) : Fin 2 → Nat :=
  let v651 : Index := Scalar.indexCast v493
  let c1_i32_199 : BitVec 32 := 1#32
  let c1_i32_201 : BitVec 32 := 1#32
  let arg13 : BitVec 32 := Scf.iv c1_i32_199 c1_i32_201 k0_t82
  let c1_i32_257 : BitVec 32 := 1#32
  let v649 : BitVec 32 := Scalar.subi arg13 c1_i32_257
  let c16_i32_258 : BitVec 32 := 16#32
  let v650 : BitVec 32 := Scalar.muli v649 c16_i32_258
  let v652 : Index := Scalar.indexCast v650
  ![v651.toNat, v652.toNat]

def k0_off337 (v493 : BitVec 32) : Fin 2 → Nat :=
  let v501 : Index := Scalar.indexCast v493
  let c496_203 : Index := 496#32
  ![v501.toNat, 496]

def k0_chk78 (i : grid0.Coords) (v158_0 : BitVec 32) (v166 : BitVec 32) (v171 : BitVec 32) (v176 : BitVec 32) (v181 : BitVec 32) (v186 : BitVec 32) (v191 : BitVec 32) (v196 : BitVec 32) (v201 : BitVec 32) (v206 : BitVec 32) (v211 : BitVec 32) (v216 : BitVec 32) (v221 : BitVec 32) (v226 : BitVec 32) (v231 : BitVec 32) (v236 : BitVec 32) (v241 : BitVec 32) (v493 : BitVec 32) : Prop :=
  (∀ k0_t82 : Fin k0_t82_loop.trips, ∀ (k0_h11 : k0_cond11 i v158_0 v166 v171 v176 v181 v186 v191 v196 v201 v206 v211 v216 v221 v226 v231 v236 v241 = 1#1), ∀ a, (k0_off336 v493 k0_t82) a + S1x16.size a ≤ S32x512.size a) ∧
  (∀ (k0_h11 : k0_cond11 i v158_0 v166 v171 v176 v181 v186 v191 v196 v201 v206 v211 v216 v221 v226 v231 v236 v241 = 1#1), ∀ a, (k0_off337 v493) a + S1x16.size a ≤ S32x512.size a)
theorem k0_off336_inb : ∀ (i : grid0.Coords) (v158_0 : BitVec 32) (v166 : BitVec 32) (v171 : BitVec 32) (v176 : BitVec 32) (v181 : BitVec 32) (v186 : BitVec 32) (v191 : BitVec 32) (v196 : BitVec 32) (v201 : BitVec 32) (v206 : BitVec 32) (v211 : BitVec 32) (v216 : BitVec 32) (v221 : BitVec 32) (v226 : BitVec 32) (v231 : BitVec 32) (v236 : BitVec 32) (v241 : BitVec 32) (v493 : BitVec 32) (k0_hw78 : k0_chk78 i v158_0 v166 v171 v176 v181 v186 v191 v196 v201 v206 v211 v216 v221 v226 v231 v236 v241 v493) (k0_t82 : Fin k0_t82_loop.trips), ∀ (k0_h11 : k0_cond11 i v158_0 v166 v171 v176 v181 v186 v191 v196 v201 v206 v211 v216 v221 v226 v231 v236 v241 = 1#1), ∀ a, (k0_off336 v493 k0_t82) a + S1x16.size a ≤ S32x512.size a := fun i v158_0 v166 v171 v176 v181 v186 v191 v196 v201 v206 v211 v216 v221 v226 v231 v236 v241 v493 k0_hw78 k0_t82 k0_h11 => k0_hw78.1 k0_t82 k0_h11
theorem k0_off337_inb : ∀ (i : grid0.Coords) (v158_0 : BitVec 32) (v166 : BitVec 32) (v171 : BitVec 32) (v176 : BitVec 32) (v181 : BitVec 32) (v186 : BitVec 32) (v191 : BitVec 32) (v196 : BitVec 32) (v201 : BitVec 32) (v206 : BitVec 32) (v211 : BitVec 32) (v216 : BitVec 32) (v221 : BitVec 32) (v226 : BitVec 32) (v231 : BitVec 32) (v236 : BitVec 32) (v241 : BitVec 32) (v493 : BitVec 32) (k0_hw78 : k0_chk78 i v158_0 v166 v171 v176 v181 v186 v191 v196 v201 v206 v211 v216 v221 v226 v231 v236 v241 v493), ∀ (k0_h11 : k0_cond11 i v158_0 v166 v171 v176 v181 v186 v191 v196 v201 v206 v211 v216 v221 v226 v231 v236 v241 = 1#1), ∀ a, (k0_off337 v493) a + S1x16.size a ≤ S32x512.size a := fun i v158_0 v166 v171 v176 v181 v186 v191 v196 v201 v206 v211 v216 v221 v226 v231 v236 v241 v493 k0_hw78 k0_h11 => k0_hw78.2 k0_h11

@[reducible] def k0_t83_loop : Scf.Loop 32 :=
  let c1_i32_206 : BitVec 32 := 1#32
  let c31_i32_207 : BitVec 32 := 31#32
  let v518 : BitVec 32 := Scalar.addi c1_i32_206 c31_i32_207
  let c1_i32_208 : BitVec 32 := 1#32
  ⟨c1_i32_206, v518, c1_i32_208⟩
def k0_off338 (k0_t83 : Fin k0_t83_loop.trips) : Fin 2 → Nat :=
  let c9_i32_256 : BitVec 32 := 9#32
  let v643 : Index := Scalar.indexCast c9_i32_256
  let c1_i32_206 : BitVec 32 := 1#32
  let c1_i32_208 : BitVec 32 := 1#32
  let arg13 : BitVec 32 := Scf.iv c1_i32_206 c1_i32_208 k0_t83
  let c16_i32_255 : BitVec 32 := 16#32
  let v642 : BitVec 32 := Scalar.muli arg13 c16_i32_255
  let v644 : Index := Scalar.indexCast v642
  ![9, v644.toNat]
def k0_off339 (v512 : BitVec 32) (k0_t83 : Fin k0_t83_loop.trips) : Fin 2 → Nat :=
  let v651 : Index := Scalar.indexCast v512
  let c1_i32_206 : BitVec 32 := 1#32
  let c1_i32_208 : BitVec 32 := 1#32
  let arg13 : BitVec 32 := Scf.iv c1_i32_206 c1_i32_208 k0_t83
  let c1_i32_257 : BitVec 32 := 1#32
  let v649 : BitVec 32 := Scalar.subi arg13 c1_i32_257
  let c16_i32_258 : BitVec 32 := 16#32
  let v650 : BitVec 32 := Scalar.muli v649 c16_i32_258
  let v652 : Index := Scalar.indexCast v650
  ![v651.toNat, v652.toNat]

def k0_off340 (v512 : BitVec 32) : Fin 2 → Nat :=
  let v520 : Index := Scalar.indexCast v512
  let c496_210 : Index := 496#32
  ![v520.toNat, 496]

def k0_chk79 (i : grid0.Coords) (v158_0 : BitVec 32) (v166 : BitVec 32) (v171 : BitVec 32) (v176 : BitVec 32) (v181 : BitVec 32) (v186 : BitVec 32) (v191 : BitVec 32) (v196 : BitVec 32) (v201 : BitVec 32) (v206 : BitVec 32) (v211 : BitVec 32) (v216 : BitVec 32) (v221 : BitVec 32) (v226 : BitVec 32) (v231 : BitVec 32) (v236 : BitVec 32) (v241 : BitVec 32) (v512 : BitVec 32) : Prop :=
  (∀ k0_t83 : Fin k0_t83_loop.trips, ∀ (k0_h11 : k0_cond11 i v158_0 v166 v171 v176 v181 v186 v191 v196 v201 v206 v211 v216 v221 v226 v231 v236 v241 = 1#1), ∀ a, (k0_off339 v512 k0_t83) a + S1x16.size a ≤ S32x512.size a) ∧
  (∀ (k0_h11 : k0_cond11 i v158_0 v166 v171 v176 v181 v186 v191 v196 v201 v206 v211 v216 v221 v226 v231 v236 v241 = 1#1), ∀ a, (k0_off340 v512) a + S1x16.size a ≤ S32x512.size a)
theorem k0_off339_inb : ∀ (i : grid0.Coords) (v158_0 : BitVec 32) (v166 : BitVec 32) (v171 : BitVec 32) (v176 : BitVec 32) (v181 : BitVec 32) (v186 : BitVec 32) (v191 : BitVec 32) (v196 : BitVec 32) (v201 : BitVec 32) (v206 : BitVec 32) (v211 : BitVec 32) (v216 : BitVec 32) (v221 : BitVec 32) (v226 : BitVec 32) (v231 : BitVec 32) (v236 : BitVec 32) (v241 : BitVec 32) (v512 : BitVec 32) (k0_hw79 : k0_chk79 i v158_0 v166 v171 v176 v181 v186 v191 v196 v201 v206 v211 v216 v221 v226 v231 v236 v241 v512) (k0_t83 : Fin k0_t83_loop.trips), ∀ (k0_h11 : k0_cond11 i v158_0 v166 v171 v176 v181 v186 v191 v196 v201 v206 v211 v216 v221 v226 v231 v236 v241 = 1#1), ∀ a, (k0_off339 v512 k0_t83) a + S1x16.size a ≤ S32x512.size a := fun i v158_0 v166 v171 v176 v181 v186 v191 v196 v201 v206 v211 v216 v221 v226 v231 v236 v241 v512 k0_hw79 k0_t83 k0_h11 => k0_hw79.1 k0_t83 k0_h11
theorem k0_off340_inb : ∀ (i : grid0.Coords) (v158_0 : BitVec 32) (v166 : BitVec 32) (v171 : BitVec 32) (v176 : BitVec 32) (v181 : BitVec 32) (v186 : BitVec 32) (v191 : BitVec 32) (v196 : BitVec 32) (v201 : BitVec 32) (v206 : BitVec 32) (v211 : BitVec 32) (v216 : BitVec 32) (v221 : BitVec 32) (v226 : BitVec 32) (v231 : BitVec 32) (v236 : BitVec 32) (v241 : BitVec 32) (v512 : BitVec 32) (k0_hw79 : k0_chk79 i v158_0 v166 v171 v176 v181 v186 v191 v196 v201 v206 v211 v216 v221 v226 v231 v236 v241 v512), ∀ (k0_h11 : k0_cond11 i v158_0 v166 v171 v176 v181 v186 v191 v196 v201 v206 v211 v216 v221 v226 v231 v236 v241 = 1#1), ∀ a, (k0_off340 v512) a + S1x16.size a ≤ S32x512.size a := fun i v158_0 v166 v171 v176 v181 v186 v191 v196 v201 v206 v211 v216 v221 v226 v231 v236 v241 v512 k0_hw79 k0_h11 => k0_hw79.2 k0_h11

@[reducible] def k0_t84_loop : Scf.Loop 32 :=
  let c1_i32_214 : BitVec 32 := 1#32
  let c31_i32_215 : BitVec 32 := 31#32
  let v537 : BitVec 32 := Scalar.addi c1_i32_214 c31_i32_215
  let c1_i32_216 : BitVec 32 := 1#32
  ⟨c1_i32_214, v537, c1_i32_216⟩
def k0_off341 (k0_t84 : Fin k0_t84_loop.trips) : Fin 2 → Nat :=
  let c10_i32_256 : BitVec 32 := 10#32
  let v643 : Index := Scalar.indexCast c10_i32_256
  let c1_i32_214 : BitVec 32 := 1#32
  let c1_i32_216 : BitVec 32 := 1#32
  let arg13 : BitVec 32 := Scf.iv c1_i32_214 c1_i32_216 k0_t84
  let c16_i32_255 : BitVec 32 := 16#32
  let v642 : BitVec 32 := Scalar.muli arg13 c16_i32_255
  let v644 : Index := Scalar.indexCast v642
  ![10, v644.toNat]
def k0_off342 (v531 : BitVec 32) (k0_t84 : Fin k0_t84_loop.trips) : Fin 2 → Nat :=
  let v651 : Index := Scalar.indexCast v531
  let c1_i32_214 : BitVec 32 := 1#32
  let c1_i32_216 : BitVec 32 := 1#32
  let arg13 : BitVec 32 := Scf.iv c1_i32_214 c1_i32_216 k0_t84
  let c1_i32_257 : BitVec 32 := 1#32
  let v649 : BitVec 32 := Scalar.subi arg13 c1_i32_257
  let c16_i32_258 : BitVec 32 := 16#32
  let v650 : BitVec 32 := Scalar.muli v649 c16_i32_258
  let v652 : Index := Scalar.indexCast v650
  ![v651.toNat, v652.toNat]

def k0_off343 (v531 : BitVec 32) : Fin 2 → Nat :=
  let v539 : Index := Scalar.indexCast v531
  let c496_218 : Index := 496#32
  ![v539.toNat, 496]

def k0_chk80 (i : grid0.Coords) (v158_0 : BitVec 32) (v166 : BitVec 32) (v171 : BitVec 32) (v176 : BitVec 32) (v181 : BitVec 32) (v186 : BitVec 32) (v191 : BitVec 32) (v196 : BitVec 32) (v201 : BitVec 32) (v206 : BitVec 32) (v211 : BitVec 32) (v216 : BitVec 32) (v221 : BitVec 32) (v226 : BitVec 32) (v231 : BitVec 32) (v236 : BitVec 32) (v241 : BitVec 32) (v531 : BitVec 32) : Prop :=
  (∀ k0_t84 : Fin k0_t84_loop.trips, ∀ (k0_h11 : k0_cond11 i v158_0 v166 v171 v176 v181 v186 v191 v196 v201 v206 v211 v216 v221 v226 v231 v236 v241 = 1#1), ∀ a, (k0_off342 v531 k0_t84) a + S1x16.size a ≤ S32x512.size a) ∧
  (∀ (k0_h11 : k0_cond11 i v158_0 v166 v171 v176 v181 v186 v191 v196 v201 v206 v211 v216 v221 v226 v231 v236 v241 = 1#1), ∀ a, (k0_off343 v531) a + S1x16.size a ≤ S32x512.size a)
theorem k0_off342_inb : ∀ (i : grid0.Coords) (v158_0 : BitVec 32) (v166 : BitVec 32) (v171 : BitVec 32) (v176 : BitVec 32) (v181 : BitVec 32) (v186 : BitVec 32) (v191 : BitVec 32) (v196 : BitVec 32) (v201 : BitVec 32) (v206 : BitVec 32) (v211 : BitVec 32) (v216 : BitVec 32) (v221 : BitVec 32) (v226 : BitVec 32) (v231 : BitVec 32) (v236 : BitVec 32) (v241 : BitVec 32) (v531 : BitVec 32) (k0_hw80 : k0_chk80 i v158_0 v166 v171 v176 v181 v186 v191 v196 v201 v206 v211 v216 v221 v226 v231 v236 v241 v531) (k0_t84 : Fin k0_t84_loop.trips), ∀ (k0_h11 : k0_cond11 i v158_0 v166 v171 v176 v181 v186 v191 v196 v201 v206 v211 v216 v221 v226 v231 v236 v241 = 1#1), ∀ a, (k0_off342 v531 k0_t84) a + S1x16.size a ≤ S32x512.size a := fun i v158_0 v166 v171 v176 v181 v186 v191 v196 v201 v206 v211 v216 v221 v226 v231 v236 v241 v531 k0_hw80 k0_t84 k0_h11 => k0_hw80.1 k0_t84 k0_h11
theorem k0_off343_inb : ∀ (i : grid0.Coords) (v158_0 : BitVec 32) (v166 : BitVec 32) (v171 : BitVec 32) (v176 : BitVec 32) (v181 : BitVec 32) (v186 : BitVec 32) (v191 : BitVec 32) (v196 : BitVec 32) (v201 : BitVec 32) (v206 : BitVec 32) (v211 : BitVec 32) (v216 : BitVec 32) (v221 : BitVec 32) (v226 : BitVec 32) (v231 : BitVec 32) (v236 : BitVec 32) (v241 : BitVec 32) (v531 : BitVec 32) (k0_hw80 : k0_chk80 i v158_0 v166 v171 v176 v181 v186 v191 v196 v201 v206 v211 v216 v221 v226 v231 v236 v241 v531), ∀ (k0_h11 : k0_cond11 i v158_0 v166 v171 v176 v181 v186 v191 v196 v201 v206 v211 v216 v221 v226 v231 v236 v241 = 1#1), ∀ a, (k0_off343 v531) a + S1x16.size a ≤ S32x512.size a := fun i v158_0 v166 v171 v176 v181 v186 v191 v196 v201 v206 v211 v216 v221 v226 v231 v236 v241 v531 k0_hw80 k0_h11 => k0_hw80.2 k0_h11

@[reducible] def k0_t85_loop : Scf.Loop 32 :=
  let c1_i32_221 : BitVec 32 := 1#32
  let c31_i32_222 : BitVec 32 := 31#32
  let v556 : BitVec 32 := Scalar.addi c1_i32_221 c31_i32_222
  let c1_i32_223 : BitVec 32 := 1#32
  ⟨c1_i32_221, v556, c1_i32_223⟩
def k0_off344 (k0_t85 : Fin k0_t85_loop.trips) : Fin 2 → Nat :=
  let c11_i32_256 : BitVec 32 := 11#32
  let v643 : Index := Scalar.indexCast c11_i32_256
  let c1_i32_221 : BitVec 32 := 1#32
  let c1_i32_223 : BitVec 32 := 1#32
  let arg13 : BitVec 32 := Scf.iv c1_i32_221 c1_i32_223 k0_t85
  let c16_i32_255 : BitVec 32 := 16#32
  let v642 : BitVec 32 := Scalar.muli arg13 c16_i32_255
  let v644 : Index := Scalar.indexCast v642
  ![11, v644.toNat]
def k0_off345 (v550 : BitVec 32) (k0_t85 : Fin k0_t85_loop.trips) : Fin 2 → Nat :=
  let v651 : Index := Scalar.indexCast v550
  let c1_i32_221 : BitVec 32 := 1#32
  let c1_i32_223 : BitVec 32 := 1#32
  let arg13 : BitVec 32 := Scf.iv c1_i32_221 c1_i32_223 k0_t85
  let c1_i32_257 : BitVec 32 := 1#32
  let v649 : BitVec 32 := Scalar.subi arg13 c1_i32_257
  let c16_i32_258 : BitVec 32 := 16#32
  let v650 : BitVec 32 := Scalar.muli v649 c16_i32_258
  let v652 : Index := Scalar.indexCast v650
  ![v651.toNat, v652.toNat]

def k0_off346 (v550 : BitVec 32) : Fin 2 → Nat :=
  let v558 : Index := Scalar.indexCast v550
  let c496_225 : Index := 496#32
  ![v558.toNat, 496]

def k0_chk81 (i : grid0.Coords) (v158_0 : BitVec 32) (v166 : BitVec 32) (v171 : BitVec 32) (v176 : BitVec 32) (v181 : BitVec 32) (v186 : BitVec 32) (v191 : BitVec 32) (v196 : BitVec 32) (v201 : BitVec 32) (v206 : BitVec 32) (v211 : BitVec 32) (v216 : BitVec 32) (v221 : BitVec 32) (v226 : BitVec 32) (v231 : BitVec 32) (v236 : BitVec 32) (v241 : BitVec 32) (v550 : BitVec 32) : Prop :=
  (∀ k0_t85 : Fin k0_t85_loop.trips, ∀ (k0_h11 : k0_cond11 i v158_0 v166 v171 v176 v181 v186 v191 v196 v201 v206 v211 v216 v221 v226 v231 v236 v241 = 1#1), ∀ a, (k0_off345 v550 k0_t85) a + S1x16.size a ≤ S32x512.size a) ∧
  (∀ (k0_h11 : k0_cond11 i v158_0 v166 v171 v176 v181 v186 v191 v196 v201 v206 v211 v216 v221 v226 v231 v236 v241 = 1#1), ∀ a, (k0_off346 v550) a + S1x16.size a ≤ S32x512.size a)
theorem k0_off345_inb : ∀ (i : grid0.Coords) (v158_0 : BitVec 32) (v166 : BitVec 32) (v171 : BitVec 32) (v176 : BitVec 32) (v181 : BitVec 32) (v186 : BitVec 32) (v191 : BitVec 32) (v196 : BitVec 32) (v201 : BitVec 32) (v206 : BitVec 32) (v211 : BitVec 32) (v216 : BitVec 32) (v221 : BitVec 32) (v226 : BitVec 32) (v231 : BitVec 32) (v236 : BitVec 32) (v241 : BitVec 32) (v550 : BitVec 32) (k0_hw81 : k0_chk81 i v158_0 v166 v171 v176 v181 v186 v191 v196 v201 v206 v211 v216 v221 v226 v231 v236 v241 v550) (k0_t85 : Fin k0_t85_loop.trips), ∀ (k0_h11 : k0_cond11 i v158_0 v166 v171 v176 v181 v186 v191 v196 v201 v206 v211 v216 v221 v226 v231 v236 v241 = 1#1), ∀ a, (k0_off345 v550 k0_t85) a + S1x16.size a ≤ S32x512.size a := fun i v158_0 v166 v171 v176 v181 v186 v191 v196 v201 v206 v211 v216 v221 v226 v231 v236 v241 v550 k0_hw81 k0_t85 k0_h11 => k0_hw81.1 k0_t85 k0_h11
theorem k0_off346_inb : ∀ (i : grid0.Coords) (v158_0 : BitVec 32) (v166 : BitVec 32) (v171 : BitVec 32) (v176 : BitVec 32) (v181 : BitVec 32) (v186 : BitVec 32) (v191 : BitVec 32) (v196 : BitVec 32) (v201 : BitVec 32) (v206 : BitVec 32) (v211 : BitVec 32) (v216 : BitVec 32) (v221 : BitVec 32) (v226 : BitVec 32) (v231 : BitVec 32) (v236 : BitVec 32) (v241 : BitVec 32) (v550 : BitVec 32) (k0_hw81 : k0_chk81 i v158_0 v166 v171 v176 v181 v186 v191 v196 v201 v206 v211 v216 v221 v226 v231 v236 v241 v550), ∀ (k0_h11 : k0_cond11 i v158_0 v166 v171 v176 v181 v186 v191 v196 v201 v206 v211 v216 v221 v226 v231 v236 v241 = 1#1), ∀ a, (k0_off346 v550) a + S1x16.size a ≤ S32x512.size a := fun i v158_0 v166 v171 v176 v181 v186 v191 v196 v201 v206 v211 v216 v221 v226 v231 v236 v241 v550 k0_hw81 k0_h11 => k0_hw81.2 k0_h11

@[reducible] def k0_t86_loop : Scf.Loop 32 :=
  let c1_i32_228 : BitVec 32 := 1#32
  let c31_i32_229 : BitVec 32 := 31#32
  let v575 : BitVec 32 := Scalar.addi c1_i32_228 c31_i32_229
  let c1_i32_230 : BitVec 32 := 1#32
  ⟨c1_i32_228, v575, c1_i32_230⟩
def k0_off347 (k0_t86 : Fin k0_t86_loop.trips) : Fin 2 → Nat :=
  let c12_i32_256 : BitVec 32 := 12#32
  let v643 : Index := Scalar.indexCast c12_i32_256
  let c1_i32_228 : BitVec 32 := 1#32
  let c1_i32_230 : BitVec 32 := 1#32
  let arg13 : BitVec 32 := Scf.iv c1_i32_228 c1_i32_230 k0_t86
  let c16_i32_255 : BitVec 32 := 16#32
  let v642 : BitVec 32 := Scalar.muli arg13 c16_i32_255
  let v644 : Index := Scalar.indexCast v642
  ![12, v644.toNat]
def k0_off348 (v569 : BitVec 32) (k0_t86 : Fin k0_t86_loop.trips) : Fin 2 → Nat :=
  let v651 : Index := Scalar.indexCast v569
  let c1_i32_228 : BitVec 32 := 1#32
  let c1_i32_230 : BitVec 32 := 1#32
  let arg13 : BitVec 32 := Scf.iv c1_i32_228 c1_i32_230 k0_t86
  let c1_i32_257 : BitVec 32 := 1#32
  let v649 : BitVec 32 := Scalar.subi arg13 c1_i32_257
  let c16_i32_258 : BitVec 32 := 16#32
  let v650 : BitVec 32 := Scalar.muli v649 c16_i32_258
  let v652 : Index := Scalar.indexCast v650
  ![v651.toNat, v652.toNat]

def k0_off349 (v569 : BitVec 32) : Fin 2 → Nat :=
  let v577 : Index := Scalar.indexCast v569
  let c496_232 : Index := 496#32
  ![v577.toNat, 496]

def k0_chk82 (i : grid0.Coords) (v158_0 : BitVec 32) (v166 : BitVec 32) (v171 : BitVec 32) (v176 : BitVec 32) (v181 : BitVec 32) (v186 : BitVec 32) (v191 : BitVec 32) (v196 : BitVec 32) (v201 : BitVec 32) (v206 : BitVec 32) (v211 : BitVec 32) (v216 : BitVec 32) (v221 : BitVec 32) (v226 : BitVec 32) (v231 : BitVec 32) (v236 : BitVec 32) (v241 : BitVec 32) (v569 : BitVec 32) : Prop :=
  (∀ k0_t86 : Fin k0_t86_loop.trips, ∀ (k0_h11 : k0_cond11 i v158_0 v166 v171 v176 v181 v186 v191 v196 v201 v206 v211 v216 v221 v226 v231 v236 v241 = 1#1), ∀ a, (k0_off348 v569 k0_t86) a + S1x16.size a ≤ S32x512.size a) ∧
  (∀ (k0_h11 : k0_cond11 i v158_0 v166 v171 v176 v181 v186 v191 v196 v201 v206 v211 v216 v221 v226 v231 v236 v241 = 1#1), ∀ a, (k0_off349 v569) a + S1x16.size a ≤ S32x512.size a)
theorem k0_off348_inb : ∀ (i : grid0.Coords) (v158_0 : BitVec 32) (v166 : BitVec 32) (v171 : BitVec 32) (v176 : BitVec 32) (v181 : BitVec 32) (v186 : BitVec 32) (v191 : BitVec 32) (v196 : BitVec 32) (v201 : BitVec 32) (v206 : BitVec 32) (v211 : BitVec 32) (v216 : BitVec 32) (v221 : BitVec 32) (v226 : BitVec 32) (v231 : BitVec 32) (v236 : BitVec 32) (v241 : BitVec 32) (v569 : BitVec 32) (k0_hw82 : k0_chk82 i v158_0 v166 v171 v176 v181 v186 v191 v196 v201 v206 v211 v216 v221 v226 v231 v236 v241 v569) (k0_t86 : Fin k0_t86_loop.trips), ∀ (k0_h11 : k0_cond11 i v158_0 v166 v171 v176 v181 v186 v191 v196 v201 v206 v211 v216 v221 v226 v231 v236 v241 = 1#1), ∀ a, (k0_off348 v569 k0_t86) a + S1x16.size a ≤ S32x512.size a := fun i v158_0 v166 v171 v176 v181 v186 v191 v196 v201 v206 v211 v216 v221 v226 v231 v236 v241 v569 k0_hw82 k0_t86 k0_h11 => k0_hw82.1 k0_t86 k0_h11
theorem k0_off349_inb : ∀ (i : grid0.Coords) (v158_0 : BitVec 32) (v166 : BitVec 32) (v171 : BitVec 32) (v176 : BitVec 32) (v181 : BitVec 32) (v186 : BitVec 32) (v191 : BitVec 32) (v196 : BitVec 32) (v201 : BitVec 32) (v206 : BitVec 32) (v211 : BitVec 32) (v216 : BitVec 32) (v221 : BitVec 32) (v226 : BitVec 32) (v231 : BitVec 32) (v236 : BitVec 32) (v241 : BitVec 32) (v569 : BitVec 32) (k0_hw82 : k0_chk82 i v158_0 v166 v171 v176 v181 v186 v191 v196 v201 v206 v211 v216 v221 v226 v231 v236 v241 v569), ∀ (k0_h11 : k0_cond11 i v158_0 v166 v171 v176 v181 v186 v191 v196 v201 v206 v211 v216 v221 v226 v231 v236 v241 = 1#1), ∀ a, (k0_off349 v569) a + S1x16.size a ≤ S32x512.size a := fun i v158_0 v166 v171 v176 v181 v186 v191 v196 v201 v206 v211 v216 v221 v226 v231 v236 v241 v569 k0_hw82 k0_h11 => k0_hw82.2 k0_h11

@[reducible] def k0_t87_loop : Scf.Loop 32 :=
  let c1_i32_235 : BitVec 32 := 1#32
  let c31_i32_236 : BitVec 32 := 31#32
  let v594 : BitVec 32 := Scalar.addi c1_i32_235 c31_i32_236
  let c1_i32_237 : BitVec 32 := 1#32
  ⟨c1_i32_235, v594, c1_i32_237⟩
def k0_off350 (k0_t87 : Fin k0_t87_loop.trips) : Fin 2 → Nat :=
  let c13_i32_256 : BitVec 32 := 13#32
  let v643 : Index := Scalar.indexCast c13_i32_256
  let c1_i32_235 : BitVec 32 := 1#32
  let c1_i32_237 : BitVec 32 := 1#32
  let arg13 : BitVec 32 := Scf.iv c1_i32_235 c1_i32_237 k0_t87
  let c16_i32_255 : BitVec 32 := 16#32
  let v642 : BitVec 32 := Scalar.muli arg13 c16_i32_255
  let v644 : Index := Scalar.indexCast v642
  ![13, v644.toNat]
def k0_off351 (v588 : BitVec 32) (k0_t87 : Fin k0_t87_loop.trips) : Fin 2 → Nat :=
  let v651 : Index := Scalar.indexCast v588
  let c1_i32_235 : BitVec 32 := 1#32
  let c1_i32_237 : BitVec 32 := 1#32
  let arg13 : BitVec 32 := Scf.iv c1_i32_235 c1_i32_237 k0_t87
  let c1_i32_257 : BitVec 32 := 1#32
  let v649 : BitVec 32 := Scalar.subi arg13 c1_i32_257
  let c16_i32_258 : BitVec 32 := 16#32
  let v650 : BitVec 32 := Scalar.muli v649 c16_i32_258
  let v652 : Index := Scalar.indexCast v650
  ![v651.toNat, v652.toNat]

def k0_off352 (v588 : BitVec 32) : Fin 2 → Nat :=
  let v596 : Index := Scalar.indexCast v588
  let c496_239 : Index := 496#32
  ![v596.toNat, 496]

def k0_chk83 (i : grid0.Coords) (v158_0 : BitVec 32) (v166 : BitVec 32) (v171 : BitVec 32) (v176 : BitVec 32) (v181 : BitVec 32) (v186 : BitVec 32) (v191 : BitVec 32) (v196 : BitVec 32) (v201 : BitVec 32) (v206 : BitVec 32) (v211 : BitVec 32) (v216 : BitVec 32) (v221 : BitVec 32) (v226 : BitVec 32) (v231 : BitVec 32) (v236 : BitVec 32) (v241 : BitVec 32) (v588 : BitVec 32) : Prop :=
  (∀ k0_t87 : Fin k0_t87_loop.trips, ∀ (k0_h11 : k0_cond11 i v158_0 v166 v171 v176 v181 v186 v191 v196 v201 v206 v211 v216 v221 v226 v231 v236 v241 = 1#1), ∀ a, (k0_off351 v588 k0_t87) a + S1x16.size a ≤ S32x512.size a) ∧
  (∀ (k0_h11 : k0_cond11 i v158_0 v166 v171 v176 v181 v186 v191 v196 v201 v206 v211 v216 v221 v226 v231 v236 v241 = 1#1), ∀ a, (k0_off352 v588) a + S1x16.size a ≤ S32x512.size a)
theorem k0_off351_inb : ∀ (i : grid0.Coords) (v158_0 : BitVec 32) (v166 : BitVec 32) (v171 : BitVec 32) (v176 : BitVec 32) (v181 : BitVec 32) (v186 : BitVec 32) (v191 : BitVec 32) (v196 : BitVec 32) (v201 : BitVec 32) (v206 : BitVec 32) (v211 : BitVec 32) (v216 : BitVec 32) (v221 : BitVec 32) (v226 : BitVec 32) (v231 : BitVec 32) (v236 : BitVec 32) (v241 : BitVec 32) (v588 : BitVec 32) (k0_hw83 : k0_chk83 i v158_0 v166 v171 v176 v181 v186 v191 v196 v201 v206 v211 v216 v221 v226 v231 v236 v241 v588) (k0_t87 : Fin k0_t87_loop.trips), ∀ (k0_h11 : k0_cond11 i v158_0 v166 v171 v176 v181 v186 v191 v196 v201 v206 v211 v216 v221 v226 v231 v236 v241 = 1#1), ∀ a, (k0_off351 v588 k0_t87) a + S1x16.size a ≤ S32x512.size a := fun i v158_0 v166 v171 v176 v181 v186 v191 v196 v201 v206 v211 v216 v221 v226 v231 v236 v241 v588 k0_hw83 k0_t87 k0_h11 => k0_hw83.1 k0_t87 k0_h11
theorem k0_off352_inb : ∀ (i : grid0.Coords) (v158_0 : BitVec 32) (v166 : BitVec 32) (v171 : BitVec 32) (v176 : BitVec 32) (v181 : BitVec 32) (v186 : BitVec 32) (v191 : BitVec 32) (v196 : BitVec 32) (v201 : BitVec 32) (v206 : BitVec 32) (v211 : BitVec 32) (v216 : BitVec 32) (v221 : BitVec 32) (v226 : BitVec 32) (v231 : BitVec 32) (v236 : BitVec 32) (v241 : BitVec 32) (v588 : BitVec 32) (k0_hw83 : k0_chk83 i v158_0 v166 v171 v176 v181 v186 v191 v196 v201 v206 v211 v216 v221 v226 v231 v236 v241 v588), ∀ (k0_h11 : k0_cond11 i v158_0 v166 v171 v176 v181 v186 v191 v196 v201 v206 v211 v216 v221 v226 v231 v236 v241 = 1#1), ∀ a, (k0_off352 v588) a + S1x16.size a ≤ S32x512.size a := fun i v158_0 v166 v171 v176 v181 v186 v191 v196 v201 v206 v211 v216 v221 v226 v231 v236 v241 v588 k0_hw83 k0_h11 => k0_hw83.2 k0_h11

@[reducible] def k0_t88_loop : Scf.Loop 32 :=
  let c1_i32_242 : BitVec 32 := 1#32
  let c31_i32_243 : BitVec 32 := 31#32
  let v613 : BitVec 32 := Scalar.addi c1_i32_242 c31_i32_243
  let c1_i32_244 : BitVec 32 := 1#32
  ⟨c1_i32_242, v613, c1_i32_244⟩
def k0_off353 (k0_t88 : Fin k0_t88_loop.trips) : Fin 2 → Nat :=
  let c14_i32_256 : BitVec 32 := 14#32
  let v643 : Index := Scalar.indexCast c14_i32_256
  let c1_i32_242 : BitVec 32 := 1#32
  let c1_i32_244 : BitVec 32 := 1#32
  let arg13 : BitVec 32 := Scf.iv c1_i32_242 c1_i32_244 k0_t88
  let c16_i32_255 : BitVec 32 := 16#32
  let v642 : BitVec 32 := Scalar.muli arg13 c16_i32_255
  let v644 : Index := Scalar.indexCast v642
  ![14, v644.toNat]
def k0_off354 (v607 : BitVec 32) (k0_t88 : Fin k0_t88_loop.trips) : Fin 2 → Nat :=
  let v651 : Index := Scalar.indexCast v607
  let c1_i32_242 : BitVec 32 := 1#32
  let c1_i32_244 : BitVec 32 := 1#32
  let arg13 : BitVec 32 := Scf.iv c1_i32_242 c1_i32_244 k0_t88
  let c1_i32_257 : BitVec 32 := 1#32
  let v649 : BitVec 32 := Scalar.subi arg13 c1_i32_257
  let c16_i32_258 : BitVec 32 := 16#32
  let v650 : BitVec 32 := Scalar.muli v649 c16_i32_258
  let v652 : Index := Scalar.indexCast v650
  ![v651.toNat, v652.toNat]

def k0_off355 (v607 : BitVec 32) : Fin 2 → Nat :=
  let v615 : Index := Scalar.indexCast v607
  let c496_246 : Index := 496#32
  ![v615.toNat, 496]

def k0_chk84 (i : grid0.Coords) (v158_0 : BitVec 32) (v166 : BitVec 32) (v171 : BitVec 32) (v176 : BitVec 32) (v181 : BitVec 32) (v186 : BitVec 32) (v191 : BitVec 32) (v196 : BitVec 32) (v201 : BitVec 32) (v206 : BitVec 32) (v211 : BitVec 32) (v216 : BitVec 32) (v221 : BitVec 32) (v226 : BitVec 32) (v231 : BitVec 32) (v236 : BitVec 32) (v241 : BitVec 32) (v607 : BitVec 32) : Prop :=
  (∀ k0_t88 : Fin k0_t88_loop.trips, ∀ (k0_h11 : k0_cond11 i v158_0 v166 v171 v176 v181 v186 v191 v196 v201 v206 v211 v216 v221 v226 v231 v236 v241 = 1#1), ∀ a, (k0_off354 v607 k0_t88) a + S1x16.size a ≤ S32x512.size a) ∧
  (∀ (k0_h11 : k0_cond11 i v158_0 v166 v171 v176 v181 v186 v191 v196 v201 v206 v211 v216 v221 v226 v231 v236 v241 = 1#1), ∀ a, (k0_off355 v607) a + S1x16.size a ≤ S32x512.size a)
theorem k0_off354_inb : ∀ (i : grid0.Coords) (v158_0 : BitVec 32) (v166 : BitVec 32) (v171 : BitVec 32) (v176 : BitVec 32) (v181 : BitVec 32) (v186 : BitVec 32) (v191 : BitVec 32) (v196 : BitVec 32) (v201 : BitVec 32) (v206 : BitVec 32) (v211 : BitVec 32) (v216 : BitVec 32) (v221 : BitVec 32) (v226 : BitVec 32) (v231 : BitVec 32) (v236 : BitVec 32) (v241 : BitVec 32) (v607 : BitVec 32) (k0_hw84 : k0_chk84 i v158_0 v166 v171 v176 v181 v186 v191 v196 v201 v206 v211 v216 v221 v226 v231 v236 v241 v607) (k0_t88 : Fin k0_t88_loop.trips), ∀ (k0_h11 : k0_cond11 i v158_0 v166 v171 v176 v181 v186 v191 v196 v201 v206 v211 v216 v221 v226 v231 v236 v241 = 1#1), ∀ a, (k0_off354 v607 k0_t88) a + S1x16.size a ≤ S32x512.size a := fun i v158_0 v166 v171 v176 v181 v186 v191 v196 v201 v206 v211 v216 v221 v226 v231 v236 v241 v607 k0_hw84 k0_t88 k0_h11 => k0_hw84.1 k0_t88 k0_h11
theorem k0_off355_inb : ∀ (i : grid0.Coords) (v158_0 : BitVec 32) (v166 : BitVec 32) (v171 : BitVec 32) (v176 : BitVec 32) (v181 : BitVec 32) (v186 : BitVec 32) (v191 : BitVec 32) (v196 : BitVec 32) (v201 : BitVec 32) (v206 : BitVec 32) (v211 : BitVec 32) (v216 : BitVec 32) (v221 : BitVec 32) (v226 : BitVec 32) (v231 : BitVec 32) (v236 : BitVec 32) (v241 : BitVec 32) (v607 : BitVec 32) (k0_hw84 : k0_chk84 i v158_0 v166 v171 v176 v181 v186 v191 v196 v201 v206 v211 v216 v221 v226 v231 v236 v241 v607), ∀ (k0_h11 : k0_cond11 i v158_0 v166 v171 v176 v181 v186 v191 v196 v201 v206 v211 v216 v221 v226 v231 v236 v241 = 1#1), ∀ a, (k0_off355 v607) a + S1x16.size a ≤ S32x512.size a := fun i v158_0 v166 v171 v176 v181 v186 v191 v196 v201 v206 v211 v216 v221 v226 v231 v236 v241 v607 k0_hw84 k0_h11 => k0_hw84.2 k0_h11

@[reducible] def k0_t89_loop : Scf.Loop 32 :=
  let c1_i32_249 : BitVec 32 := 1#32
  let c31_i32_250 : BitVec 32 := 31#32
  let v632 : BitVec 32 := Scalar.addi c1_i32_249 c31_i32_250
  let c1_i32_251 : BitVec 32 := 1#32
  ⟨c1_i32_249, v632, c1_i32_251⟩
def k0_off356 (k0_t89 : Fin k0_t89_loop.trips) : Fin 2 → Nat :=
  let c15_i32_256 : BitVec 32 := 15#32
  let v643 : Index := Scalar.indexCast c15_i32_256
  let c1_i32_249 : BitVec 32 := 1#32
  let c1_i32_251 : BitVec 32 := 1#32
  let arg13 : BitVec 32 := Scf.iv c1_i32_249 c1_i32_251 k0_t89
  let c16_i32_255 : BitVec 32 := 16#32
  let v642 : BitVec 32 := Scalar.muli arg13 c16_i32_255
  let v644 : Index := Scalar.indexCast v642
  ![15, v644.toNat]
def k0_off357 (v626 : BitVec 32) (k0_t89 : Fin k0_t89_loop.trips) : Fin 2 → Nat :=
  let v651 : Index := Scalar.indexCast v626
  let c1_i32_249 : BitVec 32 := 1#32
  let c1_i32_251 : BitVec 32 := 1#32
  let arg13 : BitVec 32 := Scf.iv c1_i32_249 c1_i32_251 k0_t89
  let c1_i32_257 : BitVec 32 := 1#32
  let v649 : BitVec 32 := Scalar.subi arg13 c1_i32_257
  let c16_i32_258 : BitVec 32 := 16#32
  let v650 : BitVec 32 := Scalar.muli v649 c16_i32_258
  let v652 : Index := Scalar.indexCast v650
  ![v651.toNat, v652.toNat]

def k0_off358 (v626 : BitVec 32) : Fin 2 → Nat :=
  let v634 : Index := Scalar.indexCast v626
  let c496_253 : Index := 496#32
  ![v634.toNat, 496]

def k0_chk85 (i : grid0.Coords) (v158_0 : BitVec 32) (v166 : BitVec 32) (v171 : BitVec 32) (v176 : BitVec 32) (v181 : BitVec 32) (v186 : BitVec 32) (v191 : BitVec 32) (v196 : BitVec 32) (v201 : BitVec 32) (v206 : BitVec 32) (v211 : BitVec 32) (v216 : BitVec 32) (v221 : BitVec 32) (v226 : BitVec 32) (v231 : BitVec 32) (v236 : BitVec 32) (v241 : BitVec 32) (v626 : BitVec 32) : Prop :=
  (∀ k0_t89 : Fin k0_t89_loop.trips, ∀ (k0_h11 : k0_cond11 i v158_0 v166 v171 v176 v181 v186 v191 v196 v201 v206 v211 v216 v221 v226 v231 v236 v241 = 1#1), ∀ a, (k0_off357 v626 k0_t89) a + S1x16.size a ≤ S32x512.size a) ∧
  (∀ (k0_h11 : k0_cond11 i v158_0 v166 v171 v176 v181 v186 v191 v196 v201 v206 v211 v216 v221 v226 v231 v236 v241 = 1#1), ∀ a, (k0_off358 v626) a + S1x16.size a ≤ S32x512.size a)
theorem k0_off357_inb : ∀ (i : grid0.Coords) (v158_0 : BitVec 32) (v166 : BitVec 32) (v171 : BitVec 32) (v176 : BitVec 32) (v181 : BitVec 32) (v186 : BitVec 32) (v191 : BitVec 32) (v196 : BitVec 32) (v201 : BitVec 32) (v206 : BitVec 32) (v211 : BitVec 32) (v216 : BitVec 32) (v221 : BitVec 32) (v226 : BitVec 32) (v231 : BitVec 32) (v236 : BitVec 32) (v241 : BitVec 32) (v626 : BitVec 32) (k0_hw85 : k0_chk85 i v158_0 v166 v171 v176 v181 v186 v191 v196 v201 v206 v211 v216 v221 v226 v231 v236 v241 v626) (k0_t89 : Fin k0_t89_loop.trips), ∀ (k0_h11 : k0_cond11 i v158_0 v166 v171 v176 v181 v186 v191 v196 v201 v206 v211 v216 v221 v226 v231 v236 v241 = 1#1), ∀ a, (k0_off357 v626 k0_t89) a + S1x16.size a ≤ S32x512.size a := fun i v158_0 v166 v171 v176 v181 v186 v191 v196 v201 v206 v211 v216 v221 v226 v231 v236 v241 v626 k0_hw85 k0_t89 k0_h11 => k0_hw85.1 k0_t89 k0_h11
theorem k0_off358_inb : ∀ (i : grid0.Coords) (v158_0 : BitVec 32) (v166 : BitVec 32) (v171 : BitVec 32) (v176 : BitVec 32) (v181 : BitVec 32) (v186 : BitVec 32) (v191 : BitVec 32) (v196 : BitVec 32) (v201 : BitVec 32) (v206 : BitVec 32) (v211 : BitVec 32) (v216 : BitVec 32) (v221 : BitVec 32) (v226 : BitVec 32) (v231 : BitVec 32) (v236 : BitVec 32) (v241 : BitVec 32) (v626 : BitVec 32) (k0_hw85 : k0_chk85 i v158_0 v166 v171 v176 v181 v186 v191 v196 v201 v206 v211 v216 v221 v226 v231 v236 v241 v626), ∀ (k0_h11 : k0_cond11 i v158_0 v166 v171 v176 v181 v186 v191 v196 v201 v206 v211 v216 v221 v226 v231 v236 v241 = 1#1), ∀ a, (k0_off358 v626) a + S1x16.size a ≤ S32x512.size a := fun i v158_0 v166 v171 v176 v181 v186 v191 v196 v201 v206 v211 v216 v221 v226 v231 v236 v241 v626 k0_hw85 k0_h11 => k0_hw85.2 k0_h11

def k0_off359 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let c0_i32_139_r3 : BitVec 32 := 0#32
  ![v2.toNat, 0]
abbrev grid1 : Pipeline.Grid := .none

abbrev stage1_0 : Fin 1 → Memref sig .tc .vmem S1024x512 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))

abbrev stage1_1 : Fin 1 → Memref sig .tc .vmem S10000 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))

abbrev stage1_2 : Fin 1 → Memref sig .tc .vmem S512x512 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))

abbrev stage1_3 : Fin 1 → Memref sig .tc .vmem S1x512 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))

abbrev stage1_4 : Fin 1 → Memref sig .tc .vmem S512x512 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))

abbrev stage1_5 : Fin 1 → Memref sig .tc .vmem S1x512 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))

abbrev stage1_6 : Fin 1 → Memref sig .tc .vmem S1024x512 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))

abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S10000x512 : Shape := ⟨2, ![10000, 512]⟩
abbrev S10000 : Shape := ⟨1, ![10000]⟩
abbrev S1024x512 : Shape := ⟨2, ![1024, 512]⟩
abbrev S512x512 : Shape := ⟨2, ![512, 512]⟩
abbrev S512 : Shape := ⟨1, ![512]⟩
abbrev S10000x1 : Shape := ⟨2, ![10000, 1]⟩
abbrev S_ : Shape := ⟨0, ![]⟩
abbrev S1x512 : Shape := ⟨2, ![1, 512]⟩

abbrev nBuf : Space → Nat
  | .hbm => 31
  | .vmem => 0
  | .smem => 0
  | _ => 0

abbrev bufTy : (tb : Table) → Fin (tcTables nBuf tb) → BufTy
  | .hbm, ⟨0, _⟩ => ⟨S10000x512, .f32⟩
  | .hbm, ⟨1, _⟩ => ⟨S10000, .f32⟩
  | .hbm, ⟨2, _⟩ => ⟨S10000, .i32⟩
  | .hbm, ⟨3, _⟩ => ⟨S1024x512, .f32⟩
  | .hbm, ⟨4, _⟩ => ⟨S512x512, .f32⟩
  | .hbm, ⟨5, _⟩ => ⟨S512, .f32⟩
  | .hbm, ⟨6, _⟩ => ⟨S512x512, .f32⟩
  | .hbm, ⟨7, _⟩ => ⟨S512, .f32⟩
  | .hbm, ⟨8, _⟩ => ⟨S10000, .f32⟩
  | .hbm, ⟨9, _⟩ => ⟨S10000x1, .f32⟩
  | .hbm, ⟨10, _⟩ => ⟨S10000x512, .f32⟩
  | .hbm, ⟨11, _⟩ => ⟨S10000x512, .f32⟩
  | .hbm, ⟨12, _⟩ => ⟨S_, .f32⟩
  | .hbm, ⟨13, _⟩ => ⟨S1024x512, .f32⟩
  | .hbm, ⟨14, _⟩ => ⟨S10000x1, .i32⟩
  | .hbm, ⟨15, _⟩ => ⟨S1024x512, .f32⟩
  | .hbm, ⟨16, _⟩ => ⟨S_, .f32⟩
  | .hbm, ⟨17, _⟩ => ⟨S_, .f32⟩
  | .hbm, ⟨18, _⟩ => ⟨S1024x512, .f32⟩
  | .hbm, ⟨19, _⟩ => ⟨S1024x512, .f32⟩
  | .hbm, ⟨20, _⟩ => ⟨S1024x512, .f32⟩
  | .hbm, ⟨21, _⟩ => ⟨S1x512, .f32⟩
  | .hbm, ⟨22, _⟩ => ⟨S1024x512, .f32⟩
  | .hbm, ⟨23, _⟩ => ⟨S1024x512, .f32⟩
  | .hbm, ⟨24, _⟩ => ⟨S_, .f32⟩
  | .hbm, ⟨25, _⟩ => ⟨S1024x512, .f32⟩
  | .hbm, ⟨26, _⟩ => ⟨S1024x512, .f32⟩
  | .hbm, ⟨27, _⟩ => ⟨S1024x512, .f32⟩
  | .hbm, ⟨28, _⟩ => ⟨S1x512, .f32⟩
  | .hbm, ⟨29, _⟩ => ⟨S1024x512, .f32⟩
  | .hbm, ⟨30, _⟩ => ⟨S1024x512, .f32⟩
  | _, _ => ⟨S10000x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_cst : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_cst_0 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_cst_1 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩

abbrev nD : Nat := 1
abbrev τ : Topo := Topo.v7x

variable {F : FTy → Type} [FloatOps F]
-- ==== Proof.Setup.lean ====
/-
  The set-up shared by every module of this proof: the resource algebra the run is stated over (the launch handshakes'
  rounds, the TensorCore pipeline's rounds and the transfers' counters), the launch's own names for the arrays, the two words that bound a tile's segments
  and the shorthand `Holds`, which says what a memref reads.
-/
module

public import proofs.«01_k».proof.Defs
public import proofs.«01_k».proof.Proof.Gen.KernelIdeal
public import proofs.«01_k».proof.Proof.Gen.KernelIdeal.Skeleton
public import Idealize.ShloMosaic.Lib.SparseCore.Quiescent
public import Idealize.ShloMosaic.Lib.SparseCore.Ops
public import Idealize.ShloMosaic.Lib.StableHlo.Run
public import Idealize.ShloMosaic.Lib.Pipeline.Kit
public import Idealize.ShloMosaic.Lib.Pipeline.Value
public import Idealize.ShloMosaic.Lib.Tactic

@[expose] public section

noncomputable section

namespace Cert.Proof.Pool

open Cert.KernelIdeal Cert.KernelIdeal.Gen
open Idealize.ShloMosaic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

/-! ## The program as the launch theorem sees it -/

/-- The labels of the two calls' bodies and of the TensorCore call's pipeline. -/
abbrev ΛP : Labels := Pipeline.Sig Λ₀ (Fin 1) fun p => (pcfgs (F := F) p).Adm
/-- The SparseCore call's launch. -/
abbrev K : SparseCore.Cfg τ sig (ΛP (F := F)) 1 := sc (F := F)
/-- The bodies of the labels of `ΛP`. -/
abbrev D [FloatOps F] : Defs nD τ sig (Elt F) (ΛP (F := F)) := Pipeline.defs pcfgs defs₀
/-- No loop of this program needs a variant. -/
abbrev 𝒱₀ : Variants := Variants.none
abbrev 𝒱 : Variants := 𝒱₀.lift

/-! ## The resource algebra -/

abbrev UH : Type := URounds (GSem nD τ sig) ℕ
/-- The rounds of the TensorCore call's own staging semaphores. -/
abbrev UP : Type := URounds (GSem nD τ sig) Unit
abbrev UU : Type := UH × (UP × Counters)

/-- The assertions of this proof are over this algebra. -/
abbrev MM (F : FTy → Type) := MT nD τ sig (HIx 1) (Elt F) ℕ UU ℕ

abbrev EH : Emb UH (MM F) := embL
/-- The TensorCore pipeline's part of the algebra. -/
def EP : Emb UP (MM F) := (Emb.inl : Emb UP (UP × Counters)).trans embR

instance EP_landsIn : (EP : Emb UP (MM F)).LandsIn (upEmb : UEmb _ (MM F)) := by unfold EP; infer_instance

/-- The type of a tile's part of the kernel, returning `α`. -/
abbrev TileProg (F : FTy → Type) (c : Fin τ.nSC) (s : Fin τ.nSub) (α : Type) : Type 1 :=
  Prog (TpuEff nD τ sig (Elt F) Λ₀ (.scVector c s)) α

/-- The weakest precondition of a tile's program. -/
abbrev twp [FloatOps F] (d : Dev nD) {c : Fin τ.nSC} {s : Fin τ.nSub} {α : Type} (p : TileProg F c s α) (Q : α → sProp (MM F)) :
    sProp (MM F) :=
  wp frame (wpE (defs₀ (F := F)) 𝒱₀ (d, .scVector c s) none) Set.univ p Q

/-- The memref reads `X`: its buffer is held whole, at contents the memref reads as `X`. -/
def Holds (d : Dev nD) {c : Fin τ.nSC} {s : Fin τ.nSub} {sp : Space} {sh : Shape} {e : EltTy}
    (m : Memref sig (Proc.scVector c s : Proc τ).kind sp sh e) (X : sh.Idx → Elt F e) : sProp (MM F) :=
  iprop(∃ f : Buf (Elt F) (m.view.loc ((d, .scVector c s) : Thread nD τ)),
    ⌜m.view.read (Elt F) f = X⌝ ∗ (m.view.loc ((d, .scVector c s) : Thread nD τ) ↦{fullShare} f))

end Cert.Proof.Pool

end
-- ==== Proof.Rows.lean ====
/-
  The arithmetic of one node's row on a tile's accumulator, apart from any program: what reading sixteen columns of a
  row gives, what writing them back makes of the accumulator, and the row's whole effect (`rowStep`) as thirty-two such
  steps.
-/
module

public import proofs.«01_k».proof.Proof.Setup
public import Idealize.ShloMosaic.Lib.ValueIdxCore

@[expose] public section

noncomputable section

namespace Cert.Proof.Pool

open Cert.KernelIdeal Cert.KernelIdeal.Gen
open Idealize.ShloMosaic Idealize.ShloMosaic.ValueIdx

variable {F : FTy → Type} [FloatOps F]

/-- An accumulator's contents: thirty-two segments' rows. -/
abbrev Acc (F : FTy → Type) : Type := S32x512.Idx → F .f32

/-- Row `g` of the accumulator takes the row `xr` scaled by `p`, in the columns below `n`; the rest stays. -/
def addCols (A : Acc F) (g : ℕ) (xr : Fin 512 → F .f32) (p : F .f32) (n : ℕ) : Acc F := fun j =>
  if (j 0).val = g ∧ (j 1).val < n then FloatOps.addf (A j) (FloatOps.mulf (xr (j 1)) p) else A j

/-- Row `g` of the accumulator takes the whole row `xr` scaled by `p`. -/
def rowStep (A : Acc F) (g : ℕ) (xr : Fin 512 → F .f32) (p : F .f32) : Acc F := fun j =>
  if (j 0).val = g then FloatOps.addf (A j) (FloatOps.mulf (xr (j 1)) p) else A j

theorem addCols_zero (A : Acc F) (g : ℕ) (xr : Fin 512 → F .f32) (p : F .f32) : addCols A g xr p 0 = A :=
  funext fun j => if_neg (by rintro ⟨-, h⟩; exact absurd h (Nat.not_lt_zero _))

theorem addCols_full (A : Acc F) (g : ℕ) (xr : Fin 512 → F .f32) (p : F .f32) : addCols A g xr p 512 = rowStep A g xr p := by
  funext j
  have h : (j 1).val < 512 := (j 1).isLt
  simp [addCols, rowStep, h]

/-- `v` holds the sixteen products of columns `16 * k …` of the row `xr` with `p`. -/
def IsChunk (xr : Fin 512 → F .f32) (p : F .f32) (k : ℕ) (v : FVec F S16 .f32) : Prop :=
  ∀ (t : S16.Idx) (c : Fin 512), c.val = 16 * k + (t 0).val → v t = FloatOps.mulf (xr c) p

/-- A cell of a `1 × 16` window at `off`. -/
theorem unit_idx {m : ℕ} {off : Fin 2 → ℕ} (h : ∀ a, off a + S1x16.size a ≤ (⟨2, ![m, 512]⟩ : Shape).size a) (x : S1x16.Idx)
    (r : Fin m) (c : Fin 512) (hr : r.val = off 0) (hc : c.val = off 1 + (x 1).val) :
    (Rect.unit (s := ⟨2, ![m, 512]⟩) off S1x16.size h).toLoadRect.idx x = ix2 r c := by
  funext a
  apply Fin.ext
  have h0 : (x 0).val < 1 := (x 0).isLt
  match a with
  | ⟨0, _⟩ => show off 0 + 1 * (x 0).val = r.val; omega
  | ⟨1, _⟩ => show off 1 + 1 * (x 1).val = c.val; omega

/-- A `1 × 16` window read as a vector of sixteen. -/
theorem cast_window {m : ℕ} (X : (⟨2, ![m, 512]⟩ : Shape).Idx → F .f32) {off : Fin 2 → ℕ}
    (h : ∀ a, off a + S1x16.size a ≤ (⟨2, ![m, 512]⟩ : Shape).size a) (hs : S1x16.ShapeCasts S16) (t : S16.Idx)
    (r : Fin m) (c : Fin 512) (hr : r.val = off 0) (hc : c.val = off 1 + (t 0).val) :
    shapeCast S16 (fun x : S1x16.Idx => X ((Rect.unit (s := ⟨2, ![m, 512]⟩) off S1x16.size h).toLoadRect.idx x)) hs t = X (ix2 r c) := by
  refine (shapeCast_dropUnit_apply ![16] _ hs t).trans ?_
  exact congrArg X (unit_idx h _ r c hr hc)

/-- Sixteen columns of the row, read and scaled. -/
theorem isChunk_load (X : S64x512.Idx → F .f32) {off : Fin 2 → ℕ} (h : ∀ a, off a + S1x16.size a ≤ S64x512.size a)
    (hs : S1x16.ShapeCasts S16) (p : F .f32) (r : Fin 64) (k : ℕ) (ho : off = ![r.val, 16 * k]) :
    IsChunk (fun c => X (ix2 r c)) p k
      (mulf (shapeCast S16 (fun x : S1x16.Idx => X ((Rect.unit (s := S64x512) off S1x16.size h).toLoadRect.idx x)) hs)
        (broadcast S16 p)) := by
  intro t c hc
  show FloatOps.mulf _ p = _
  rw [cast_window X h hs t r c (by simp [ho]) (by simp [ho, hc])]

/-- Adding a chunk into sixteen columns the row has not touched yet: what the window then holds … -/
theorem addCols_window (A : Acc F) (g : ℕ) (xr : Fin 512 → F .f32) (p : F .f32) (k : ℕ) {off : Fin 2 → ℕ}
    (h : ∀ a, off a + S1x16.size a ≤ S32x512.size a) (hs : S1x16.ShapeCasts S16) (hs' : S16.ShapeCasts S1x16)
    (ho : off = ![g, 16 * k]) (v : FVec F S16 .f32) (hv : IsChunk xr p k v) (x : S1x16.Idx) :
    addCols A g xr p (16 * k + 16) ((Rect.unit (s := S32x512) off S1x16.size h).toLoadRect.idx x)
      = shapeCast S1x16 (addf (shapeCast S16 (fun x : S1x16.Idx => addCols A g xr p (16 * k)
          ((Rect.unit (s := S32x512) off S1x16.size h).toLoadRect.idx x)) hs) v) hs' x := by
  have hg : g < 32 := by
    have := h 0; rw [ho] at this; change g + 1 ≤ 32 at this; omega
  have hk : 16 * k + 16 ≤ 512 := by
    have := h 1; rw [ho] at this; exact this
  have hx0 : (x 0).val < 1 := (x 0).isLt
  have hx1 : (x 1).val < 16 := (x 1).isLt
  let c : Fin 512 := ⟨16 * k + (x 1).val, by omega⟩
  let r : Fin 32 := ⟨g, hg⟩
  have hi : (Rect.unit (s := S32x512) off S1x16.size h).toLoadRect.idx x = ix2 r c :=
    unit_idx h x r c (by simp [ho, r]) (by simp [ho, c])
  rw [hi]
  refine Eq.trans ?_ (shapeCast_addUnit_apply ![16] _ hs' x).symm
  suffices key : ∀ t : S16.Idx, (t 0).val = (x 1).val → addCols A g xr p (16 * k + 16) (ix2 r c)
      = FloatOps.addf (shapeCast S16 (fun x : S1x16.Idx => addCols A g xr p (16 * k)
          ((Rect.unit (s := S32x512) off S1x16.size h).toLoadRect.idx x)) hs t) (v t) from
    key (fun a => x a.succ) rfl
  intro t ht
  rw [cast_window (addCols A g xr p (16 * k)) h hs t r c (by simp [ho, r]) (by simp [ho, c, ht]),
    hv t c (by simp [c, ht])]
  have e1 : addCols A g xr p (16 * k) (ix2 r c) = A (ix2 r c) :=
    if_neg (by rintro ⟨-, h2⟩; change 16 * k + (x 1).val < 16 * k at h2; omega)
  rw [e1]
  exact if_pos ⟨rfl, by change 16 * k + (x 1).val < 16 * k + 16; omega⟩

/-- … and that nothing outside the window changes. -/
theorem addCols_outside (A : Acc F) (g : ℕ) (xr : Fin 512 → F .f32) (p : F .f32) (k : ℕ) {off : Fin 2 → ℕ}
    (h : ∀ a, off a + S1x16.size a ≤ S32x512.size a) (ho : off = ![g, 16 * k]) (j : S32x512.Idx)
    (hj : ∀ x : S1x16.Idx, (Rect.unit (s := S32x512) off S1x16.size h).toLoadRect.idx x ≠ j) :
    addCols A g xr p (16 * k + 16) j = addCols A g xr p (16 * k) j := by
  unfold addCols
  by_cases h0 : (j 0).val = g
  · by_cases h1 : (j 1).val < 16 * k
    · rw [if_pos ⟨h0, by omega⟩, if_pos ⟨h0, h1⟩]
    · by_cases h2 : (j 1).val < 16 * k + 16
      · refine absurd ?_ (hj (ix2 0 ⟨(j 1).val - 16 * k, by omega⟩))
        exact (unit_idx h _ (j 0) (j 1) (by simp [ho, h0]) (by simp [ho]; omega)).trans (eq_ix2 j).symm
      · rw [if_neg (fun h => h2 h.2), if_neg (fun h => h1 h.2)]
  · rw [if_neg (fun h => h0 h.1), if_neg (fun h => h0 h.1)]

end Cert.Proof.Pool

end
-- ==== Proof.Ops.lean ====
/-
  The operations of a tile's body as rules over what its buffers read (`Holds`), and the loop over a row's columns as
  one rule: the four buffers a group of sixteen rows works on are kept together (`St`), and each rule says which of them
  an operation at the head of the program reads or changes.
-/
module

public import proofs.«01_k».proof.Proof.Rows

@[expose] public section

noncomputable section

namespace Cert.Proof.Pool

open Cert.KernelIdeal Cert.KernelIdeal.Gen
open Idealize.ShloMosaic Idealize.ShloMosaic.ValueIdx
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem

variable {F : FTy → Type} [FloatOps F]
variable (d : Dev nD) {c : Fin τ.nSC} {s : Fin τ.nSub}

/-! ## One buffer -/

section One
variable {cs : CoreSpace} {sh : Shape} {e : EltTy} {α : Type}

/-- A load at the head of the program. -/
theorem wp_ld {m : Memref sig (Proc.scVector c s : Proc τ).kind cs sh e} {r : LoadRect sh} {hl : m.view.LoadsAt r}
    {X : sh.Idx → Elt F e} {k : (r.shape.Idx → Elt F e) → TileProg F c s α} {R : sProp (MM F)} {Q : α → sProp (MM F)}
    (h : iprop(Holds d m X ∗ R) ⊢ twp d (k (fun x => X (r.idx x))) Q) :
    iprop(Holds d m X ∗ R) ⊢ twp d (Prog.lift (TpuEff.load m r hl) >>= k) Q := by
  unfold Holds
  iintro ⟨⟨%f, %hf, Hm⟩, HR⟩
  ihave Hw := (wp_load 𝒱₀ ((d, .scVector c s) : Thread nD τ) none Set.univ (Γ := ∅) (hl := hl) (k := k) (Finset.subset_univ _)) $$ Hm
  iapply Hw
  iintro Hm
  have e1 : m.view.readAt (Elt F) r f = fun x => X (r.idx x) := by funext x; rw [← hf]; rfl
  rw [e1]
  iapply (show iprop(Holds d m X ∗ R) ⊢ twp d (k (fun x => X (r.idx x))) Q from h)
  unfold Holds
  isplitl [Hm]
  · iexists f
    isplitr
    · ipureintro; exact hf
    · iexact Hm
  · iexact HR

/-- A store at the head of the program: `X'` is what the buffer then reads. -/
theorem wp_st {m : Memref sig (Proc.scVector c s : Proc τ).kind cs sh e} {r : Rect sh} {w : r.shape.Idx → Elt F e}
    {hx : (m.access r).Stores Finset.univ} {hm : (Finset.univ : Finset r.shape.Idx) = Finset.univ ∨ ∀ a, r.stride a = 1}
    {X : sh.Idx → Elt F e} (X' : sh.Idx → Elt F e) {k : PUnit → TileProg F c s α} {R : sProp (MM F)} {Q : α → sProp (MM F)}
    (h1 : ∀ x, X' (r.emb x) = w x) (h2 : ∀ j, (∀ x, r.emb x ≠ j) → X' j = X j)
    (h : iprop(Holds d m X' ∗ R) ⊢ twp d (k ⟨⟩) Q) :
    iprop(Holds d m X ∗ R) ⊢ twp d (Prog.lift (TpuEff.store m r w Finset.univ hx hm) >>= k) Q := by
  unfold Holds
  iintro ⟨⟨%f, %hf, Hm⟩, HR⟩
  ihave Hw := (wp_store 𝒱₀ ((d, .scVector c s) : Thread nD τ) none Set.univ (Γ := ∅) (w := w) (hx := hx) (hm := hm) (k := k) (f := f)
    (Finset.subset_univ _)) $$ Hm
  iapply Hw
  iintro Hm
  iapply (show iprop(Holds d m X' ∗ R) ⊢ twp d (k ⟨⟩) Q from h)
  unfold Holds
  isplitl [Hm]
  · iexists ((m.access r).write (Elt F) f w Finset.univ)
    isplitr
    · ipureintro
      funext j
      by_cases hj : ∃ x, r.emb x = j
      · obtain ⟨x, rfl⟩ := hj
        rw [h1 x]
        exact View.read_slice_write_emb (v := m.view) r f w (Finset.mem_univ x)
      · rw [h2 j (fun x hx => hj ⟨x, hx⟩), ← hf]
        refine View.read_slice_write_of_not_mem (v := m.view) r f w Finset.univ ?_
        intro hm
        obtain ⟨x, -, hx⟩ := Finset.mem_map.mp hm
        exact hj ⟨x, hx⟩
    · iexact Hm
  · iexact HR

end One

/-- A pure premise is a hypothesis, -/
theorem of_pure {P : Prop} {S T : sProp (MM F)} (h : P → S ⊢ T) : iprop(⌜P⌝ ∗ S) ⊢ T := by
  iintro ⟨%hP, HS⟩
  iapply (h hP)
  iexact HS

/-- and a hypothesis is a pure conclusion. -/
theorem with_pure {P : Prop} {S : sProp (MM F)} (hP : P) : S ⊢ iprop(⌜P⌝ ∗ S) := by
  iintro HS
  isplitr
  · ipureintro; exact hP
  · iexact HS

/-! ## The four buffers of a group of rows -/

section Four
variable (xb : Memref sig (Proc.scVector c s : Proc τ).kind .vmem S64x512 .f32) (bb : Memref sig (Proc.scVector c s : Proc τ).kind .vmem S10240 .i32)
  (lb : Memref sig (Proc.scVector c s : Proc τ).kind .vmem S10000 .f32) (acc : Memref sig (Proc.scVector c s : Proc τ).kind .vmem S32x512 .f32)
variable {α : Type}

/-- What the rows' buffer, the ids', the log-probabilities' and the accumulator read, and something else that holds. -/
def St (X : S64x512.Idx → F .f32) (B : S10240.Idx → BitVec 32) (L : S10000.Idx → F .f32) (A : Acc F) (R : sProp (MM F)) : sProp (MM F) :=
  iprop(Holds d xb X ∗ Holds d bb (e := .i32) B ∗ Holds d lb L ∗ Holds d acc A ∗ R)

variable {d xb bb lb acc}
variable {X : S64x512.Idx → F .f32} {B : S10240.Idx → BitVec 32} {L : S10000.Idx → F .f32} {A : Acc F}
  {R : sProp (MM F)} {Q : α → sProp (MM F)}

/-- A load of the rows' buffer. -/
theorem ld_x {r : LoadRect S64x512} {hl : xb.view.LoadsAt r} {k : (r.shape.Idx → F .f32) → TileProg F c s α}
    (h : St d xb bb lb acc X B L A R ⊢ twp d (k (fun x => X (r.idx x))) Q) :
    St d xb bb lb acc X B L A R ⊢ twp d (Prog.lift (TpuEff.load xb r hl) >>= k) Q := wp_ld d h

/-- A load of the ids. -/
theorem ld_b {r : LoadRect S10240} {hl : bb.view.LoadsAt r} {k : (r.shape.Idx → BitVec 32) → TileProg F c s α}
    (h : St d xb bb lb acc X B L A R ⊢ twp d (k (fun x => B (r.idx x))) Q) :
    St d xb bb lb acc X B L A R ⊢ twp d (Prog.lift (TpuEff.load bb r hl) >>= k) Q := by
  unfold St at h ⊢
  exact sep_left_comm.1.trans (wp_ld d (e := .i32) (sep_left_comm.1.trans h))

/-- A load of the log-probabilities. -/
theorem ld_l {r : LoadRect S10000} {hl : lb.view.LoadsAt r} {k : (r.shape.Idx → F .f32) → TileProg F c s α}
    (h : St d xb bb lb acc X B L A R ⊢ twp d (k (fun x => L (r.idx x))) Q) :
    St d xb bb lb acc X B L A R ⊢ twp d (Prog.lift (TpuEff.load lb r hl) >>= k) Q := by
  unfold St at h ⊢
  have e1 : iprop(Holds d xb X ∗ Holds d bb (e := .i32) B ∗ Holds d lb L ∗ Holds d acc A ∗ R)
      ⊢ iprop(Holds d lb L ∗ Holds d xb X ∗ Holds d bb (e := .i32) B ∗ Holds d acc A ∗ R) :=
    (sep_mono_right sep_left_comm.1).trans sep_left_comm.1
  have e2 : iprop(Holds d lb L ∗ Holds d xb X ∗ Holds d bb (e := .i32) B ∗ Holds d acc A ∗ R)
      ⊢ iprop(Holds d xb X ∗ Holds d bb (e := .i32) B ∗ Holds d lb L ∗ Holds d acc A ∗ R) :=
    sep_left_comm.1.trans (sep_mono_right sep_left_comm.1)
  exact e1.trans (wp_ld d (e2.trans h))

/-- The accumulator to the front. -/
theorem St_acc (A : Acc F) : St d xb bb lb acc X B L A R
    ⊣⊢ iprop(Holds d acc A ∗ (Holds d xb X ∗ Holds d bb (e := .i32) B ∗ Holds d lb L ∗ R)) := by
  unfold St
  constructor
  · iintro ⟨H1, H2, H3, H4, H5⟩; iframe
  · iintro ⟨H1, H2, H3, H4, H5⟩; iframe

/-- A load of the accumulator. -/
theorem ld_a {r : LoadRect S32x512} {hl : acc.view.LoadsAt r} {k : (r.shape.Idx → F .f32) → TileProg F c s α}
    (h : St d xb bb lb acc X B L A R ⊢ twp d (k (fun x => A (r.idx x))) Q) :
    St d xb bb lb acc X B L A R ⊢ twp d (Prog.lift (TpuEff.load acc r hl) >>= k) Q :=
  (St_acc A).1.trans (wp_ld d ((St_acc A).2.trans h))

/-- A store to the accumulator. -/
theorem st_a {r : Rect S32x512} {w : r.shape.Idx → F .f32} {hx : (acc.access r).Stores Finset.univ}
    {hm : (Finset.univ : Finset r.shape.Idx) = Finset.univ ∨ ∀ a, r.stride a = 1} (A' : Acc F) {k : PUnit → TileProg F c s α}
    (h1 : ∀ x, A' (r.emb x) = w x) (h2 : ∀ j, (∀ x, r.emb x ≠ j) → A' j = A j)
    (h : St d xb bb lb acc X B L A' R ⊢ twp d (k ⟨⟩) Q) :
    St d xb bb lb acc X B L A R ⊢ twp d (Prog.lift (TpuEff.store acc r w Finset.univ hx hm) >>= k) Q :=
  (St_acc A).1.trans (wp_st d A' h1 h2 ((St_acc A').2.trans h))

/-- A side condition that holds. -/
theorem assume_ok {P : Prop} {dec : Decidable P} {S : sProp (MM F)} {k : PLift P → TileProg F c s α} (hP : P)
    (h : S ⊢ twp d (k ⟨hP⟩) Q) : S ⊢ twp d (Prog.lift (TpuEff.assume P dec) >>= k) Q :=
  h.trans (wp_assume 𝒱₀ ((d, .scVector c s) : Thread nD τ) none Set.univ (Γ := ∅) (d := dec) (k := k) hP)

/-- A part of the program at its head. -/
theorem enter {β : Type} {p : TileProg F c s β} {k : β → TileProg F c s α} {S : sProp (MM F)}
    (h : S ⊢ twp d p (fun a => twp d (k a) Q)) : S ⊢ twp d (p >>= k) Q := by
  have e := wp_bind frame (wpE (defs₀ (F := F)) 𝒱₀ (d, .scVector c s) none) (E := Set.univ) p k Q
  exact h.trans (le_of_eq e.symm)

/-- The end of a part. -/
theorem leave {S : sProp (MM F)} {a : α} (h : S ⊢ Q a) : S ⊢ twp d (pure a : TileProg F c s α) Q :=
  h.trans (le_wp_ret _ _ _ _ _)

/-! ## The columns of a row -/

/-- One trip of the loop over a row's columns: read the next sixteen, add the carried products to the sixteen before,
    and carry the next products. -/
def colBody (xb : Memref sig (Proc.scVector c s : Proc τ).kind .vmem S64x512 .f32)
    (acc : Memref sig (Proc.scVector c s : Proc τ).kind .vmem S32x512 .f32) {n : ℕ} (ox oa : Fin n → Fin 2 → ℕ)
    (hx : ∀ t a, ox t a + S1x16.size a ≤ S64x512.size a) (ha : ∀ t a, oa t a + S1x16.size a ≤ S32x512.size a) (p : F .f32) :
    Fin n → FVec F S16 .f32 → TileProg F c s (FVec F S16 .f32) := fun t prev => do
  let v : Vec F S1x16 .f32 ← Prog.lift (.load xb (Rect.unit (s := S64x512) (ox t) S1x16.size (hx t)).toLoadRect (View.loadsAt_vmem h_S1x16))
  let u : Vec F S1x16 .f32 ← Prog.lift (.load acc (Rect.unit (s := S32x512) (oa t) S1x16.size (ha t)).toLoadRect (View.loadsAt_vmem h_S1x16))
  let _ : Vec F S1x16 .f32 ← Prog.lift (.load acc (Rect.unit (s := S32x512) (oa t) S1x16.size (ha t)).toLoadRect (View.loadsAt_vmem h_S1x16))
  Prog.lift (.store acc (Rect.unit (s := S32x512) (oa t) S1x16.size (ha t))
    (shapeCast S1x16 (addf (shapeCast S16 u shapeCasts_S1x16_S16) prev) shapeCasts_S16_S1x16) Finset.univ
    (View.stores_vmem_bits_univ h_S1x16 rfl) (.inl rfl))
  pure (mulf (shapeCast S16 v shapeCasts_S1x16_S16) (broadcast S16 p))

/-- The store that adds a chunk of products into sixteen columns. -/
theorem st_chunk {g k : ℕ} {xr : Fin 512 → F .f32} {p : F .f32} {off : Fin 2 → ℕ}
    {h : ∀ a, off a + S1x16.size a ≤ S32x512.size a} {v : FVec F S16 .f32} {hs : S1x16.ShapeCasts S16} {hs' : S16.ShapeCasts S1x16}
    {hx : (acc.access (Rect.unit (s := S32x512) off S1x16.size h)).Stores Finset.univ}
    {hm : (Finset.univ : Finset S1x16.Idx) = Finset.univ ∨ ∀ a, (Rect.unit (s := S32x512) off S1x16.size h).stride a = 1}
    {kk : PUnit → TileProg F c s α} (hv : IsChunk xr p k v) (ho : off = ![g, 16 * k])
    (hk : St d xb bb lb acc X B L (addCols A g xr p (16 * k + 16)) R ⊢ twp d (kk ⟨⟩) Q) :
    St d xb bb lb acc X B L (addCols A g xr p (16 * k)) R ⊢ twp d (Prog.lift (TpuEff.store acc (Rect.unit (s := S32x512) off S1x16.size h)
      (shapeCast S1x16 (addf (shapeCast S16 (fun x : S1x16.Idx => addCols A g xr p (16 * k)
          ((Rect.unit (s := S32x512) off S1x16.size h).toLoadRect.idx x)) hs) v) hs') Finset.univ hx hm) >>= kk) Q :=
  st_a (addCols A g xr p (16 * k + 16)) (addCols_window A g xr p k h hs hs' ho v hv) (addCols_outside A g xr p k h ho) hk

/-- The loop over a row's columns: it adds thirty-one chunks and carries the last. -/
theorem cols {l : Scf.Loop 32} {hok : l.OK} {init : FVec F S16 .f32} {ox oa : Fin l.trips → Fin 2 → ℕ}
    {hx : ∀ t a, ox t a + S1x16.size a ≤ S64x512.size a} {ha : ∀ t a, oa t a + S1x16.size a ≤ S32x512.size a} {p : F .f32}
    {body : Fin l.trips → FVec F S16 .f32 → TileProg F c s (FVec F S16 .f32)} {kk : FVec F S16 .f32 → TileProg F c s α}
    (hl : l.trips = 31) (hb : body = colBody xb acc ox oa hx ha p) (r : Fin 64) (g : ℕ)
    (hox : ∀ t, ox t = ![r.val, 16 * t.val + 16]) (hoa : ∀ t, oa t = ![g, 16 * t.val])
    (hi : IsChunk (fun c => X (ix2 r c)) p 0 init)
    (hk : ∀ v, IsChunk (fun c => X (ix2 r c)) p 31 v →
      St d xb bb lb acc X B L (addCols A g (fun c => X (ix2 r c)) p 496) R ⊢ twp d (kk v) Q) :
    St d xb bb lb acc X B L A R ⊢ twp d (Scf.Loop.for l hok init body >>= kk) Q := by
  have hbody : ∀ (t : Fin l.trips) (v : FVec F S16 .f32),
      iprop(⌜IsChunk (fun c => X (ix2 r c)) p t.val v⌝ ∗ St d xb bb lb acc X B L (addCols A g (fun c => X (ix2 r c)) p (16 * t.val)) R)
      ⊢ twp d (body t v) (fun v' => iprop(⌜IsChunk (fun c => X (ix2 r c)) p (t.val + 1) v'⌝
        ∗ St d xb bb lb acc X B L (addCols A g (fun c => X (ix2 r c)) p (16 * (t.val + 1))) R)) := by
    intro t v
    rw [hb]
    refine of_pure fun hv => ?_
    unfold colBody
    refine ld_x ?_
    refine ld_a ?_
    refine ld_a ?_
    refine st_chunk hv (hoa t) ?_
    refine leave ?_
    refine with_pure (isChunk_load X _ _ p r (t.val + 1) ((hox t).trans (by rw [Nat.mul_add])))
  have h0 : St d xb bb lb acc X B L A R ⊢ iprop(⌜IsChunk (fun c => X (ix2 r c)) p 0 init⌝
      ∗ St d xb bb lb acc X B L (addCols A g (fun c => X (ix2 r c)) p (16 * 0)) R) := by
    rw [Nat.mul_zero, addCols_zero]
    exact with_pure hi
  refine h0.trans ?_
  have hw := Scf.wp_for_bind frame (wpE (defs₀ (F := F)) 𝒱₀ (d, .scVector c s) none) Set.univ l.lb l.ub l.st hok init body
    (fun k v => iprop(⌜IsChunk (fun c => X (ix2 r c)) p k v⌝
      ∗ St d xb bb lb acc X B L (addCols A g (fun c => X (ix2 r c)) p (16 * k)) R)) hbody (kk := kk) (Q := Q)
  iintro H
  ihave Hw := hw $$ H
  iapply Hw
  iintro %v
  have e31 : Scf.trips l.lb l.ub l.st = 31 := hl
  rw [e31]
  iintro ⟨%hv, H⟩
  iapply (hk v hv)
  iexact H

end Four

end Cert.Proof.Pool

end
-- ==== Proof.Dma.lean ====
/-
  A tile's copies as rules over what the memrefs at their two ends read: `Fly` is a copy under way, which yields an
  assertion at its wait; a source LENDS what it reads, a destination TAKES what is written to it.
-/
module

public import proofs.«01_k».proof.Proof.Ops
public import Idealize.ShloMosaic.Lib.Transfers

@[expose] public section

noncomputable section

namespace Cert.Proof.Pool

open Cert.KernelIdeal Cert.KernelIdeal.Gen
open Idealize.ShloMosaic Idealize.ShloMosaic.ValueIdx
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Transfers

variable {F : FTy → Type} [FloatOps F]
variable (d : Dev nD) {c : Fin τ.nSC} {s : Fin τ.nSub}

/-- The memref reads `X`, its buffer held at the share `q`. -/
def Reads (q : PosShare TreeShare) {sp : Space} {sh : Shape} {e : EltTy}
    (m : Memref sig (Proc.scVector c s : Proc τ).kind sp sh e) (X : sh.Idx → Elt F e) : sProp (MM F) :=
  iprop(∃ f : Buf (Elt F) (m.view.loc ((d, .scVector c s) : Thread nD τ)),
    ⌜m.view.read (Elt F) f = X⌝ ∗ (m.view.loc ((d, .scVector c s) : Thread nD τ) ↦{q} f))

/-- `P` holds the source `src`, which reads `Y`. -/
def Lends {sp : Space} {sh : Shape} {e : EltTy} (src : Memref sig (Proc.scVector c s : Proc τ).kind sp sh e)
    (q : PosShare TreeShare) (Y : sh.Idx → Elt F e) (P : sProp (MM F)) : Prop :=
  P ⊢ iprop(∃ f : Buf (Elt F) (src.view.loc ((d, .scVector c s) : Thread nD τ)),
    ⌜src.view.read (Elt F) f = Y⌝ ∗ (src.view.loc ((d, .scVector c s) : Thread nD τ) ↦{q} f)
      ∗ ((src.view.loc ((d, .scVector c s) : Thread nD τ) ↦{q} f) -∗ P))

/-- `P` holds the destination `dst`, and is `T` once `Y` is written to it. -/
def Takes {sp : Space} {sh : Shape} {e : EltTy} (dst : Memref sig (Proc.scVector c s : Proc τ).kind sp sh e)
    (Y : sh.Idx → Elt F e) (P T : sProp (MM F)) : Prop :=
  P ⊢ iprop(∃ (S : Finset (Idx (dst.view.loc ((d, .scVector c s) : Thread nD τ))))
      (f : Buf (Elt F) (dst.view.loc ((d, .scVector c s) : Thread nD τ))), ⌜dst.view.set ⊆ S⌝
    ∗ (dst.view.loc ((d, .scVector c s) : Thread nD τ) ↦[S]{fullShare} f)
      ∗ ((dst.view.loc ((d, .scVector c s) : Thread nD τ) ↦[S]{fullShare} (dst.view.write (Elt F) f Y Finset.univ)) -∗ T))

/-- A copy under way on the cell `sem`, of `N` units, which yields `T` at its wait. -/
def Fly (c : Fin τ.nSC) (s : Fin τ.nSub) (sem : DmaSem sig) (N : ℕ) (T : sProp (MM F)) : sProp (MM F) :=
  iprop(∃ (D E : sProp (MM F)), ⌜iprop(D ∗ E) ⊢ T⌝ ∗
    Flight countersEmb ((d, .scVector c s) : Thread nD τ) (.dma sem) (none : HIx 1) N D ∗ E)

/-- The tile's cell `sem` stands at zero. -/
abbrev Idle (c : Fin τ.nSC) (s : Fin τ.nSub) (sem : DmaSem sig) : sProp (MM F) :=
  semVal (((d, .scVector c s) : Thread nD τ), SemLoc.dma sem) 0

/-- What the tile owes, which lets it wait on its own copies: its waits are those of `W` and its own. -/
def Debt (c : Fin τ.nSC) (s : Fin τ.nSub) (O : CellTallies nD τ sig (HIx 1)) (W : Waits sig (HIx 1)) : sProp (MM F) :=
  iprop(levAts (K (F := F)).L (K (F := F)).lev ∗ ⌜∀ g, O g none = 0⌝
    ∗ ∃ W', ⌜∀ p ∈ W', p ∈ W ∨ p.2 = none⌝ ∗ owes ((d, .scVector c s) : Thread nD τ) O W')

/-- What is at hand in another order, or in weaker words. -/
theorem shift {S T U : sProp (MM F)} (h : S ⊢ T) (k : T ⊢ U) : S ⊢ U := h.trans k

section Ends
variable {sp : Space} {sh : Shape} {e : EltTy} {m : Memref sig (Proc.scVector c s : Proc τ).kind sp sh e}

theorem lends_whole {q : PosShare TreeShare} {X : sh.Idx → Elt F e} : Lends d m q X (Reads d q m X) := by
  unfold Lends Reads
  iintro ⟨%f, %hf, H⟩
  iexists f
  isplitr; · ipureintro; exact hf
  isplitl [H]; · iexact H
  iintro H
  iexists f
  isplitr; · ipureintro; exact hf
  iexact H

theorem lends_slice {q : PosShare TreeShare} {X : sh.Idx → Elt F e} {r : Rect sh} {h : ∀ a, r.stride a = 1} :
    Lends d (m.slice r h) q (fun x => X (r.emb x)) (Reads d q m X) := by
  unfold Lends Reads
  iintro ⟨%f, %hf, H⟩
  iexists f
  isplitr; · ipureintro; subst hf; rfl
  isplitl [H]; · iexact H
  iintro H
  iexists f
  isplitr; · ipureintro; exact hf
  iexact H

theorem takes_whole {X Y : sh.Idx → Elt F e} : Takes d m Y (Holds d m X) (Holds d m Y) := by
  unfold Takes Holds
  iintro ⟨%f, %hf, H⟩
  iexists Finset.univ
  iexists f
  isplitr; · ipureintro; exact Finset.subset_univ _
  isplitl [H]; · iexact H
  iintro H
  iexists (m.view.write (Elt F) f Y Finset.univ)
  isplitr; · ipureintro; exact View.read_write_univ f Y
  iexact H

theorem takes_slice {X X' : sh.Idx → Elt F e} {r : Rect sh} {h : ∀ a, r.stride a = 1} {Y : r.shape.Idx → Elt F e}
    (h1 : ∀ x, X' (r.emb x) = Y x) (h2 : ∀ j, (∀ x, r.emb x ≠ j) → X' j = X j) :
    Takes d (m.slice r h) Y (Holds d m X) (Holds d m X') := by
  unfold Takes Holds
  iintro ⟨%f, %hf, H⟩
  iexists Finset.univ
  iexists f
  isplitr; · ipureintro; exact Finset.subset_univ _
  isplitl [H]; · iexact H
  iintro H
  iexists ((m.slice r h).view.write (Elt F) f Y Finset.univ)
  isplitr
  · ipureintro
    funext j
    by_cases hj : ∃ x, r.emb x = j
    · obtain ⟨x, rfl⟩ := hj
      rw [h1 x]
      exact View.read_slice_write_emb (v := m.view) r f Y (Finset.mem_univ x)
    · rw [h2 j (fun x hx => hj ⟨x, hx⟩), ← hf]
      refine View.read_slice_write_of_not_mem (v := m.view) r f Y Finset.univ ?_
      intro hm
      obtain ⟨x, -, hx⟩ := Finset.mem_map.mp hm
      exact hj ⟨x, hx⟩
  iexact H

end Ends

section Ops
variable {sp sp' : Space} {sh : Shape} {e : EltTy} {α : Type} {Q : α → sProp (MM F)} {R : sProp (MM F)}

/-- A copy is started: its two ends and its cell go with it, and come back at its wait. -/
theorem start {src : Memref sig (Proc.scVector c s : Proc τ).kind sp sh e}
    {dst : Memref sig (Proc.scVector c s : Proc τ).kind sp' sh e} {sem : DmaSem sig}
    {hs : src.view.WordExact} {hd : dst.view.WordExact} {ht : DmaTarget.Typed (nD := nD) (τ := τ) sp (SemLoc.dma sem) (.here dst)}
    {k : PUnit → TileProg F c s α} {q : PosShare TreeShare} {Y : sh.Idx → Elt F e} {P P' T : sProp (MM F)}
    (N : ℕ) (hN : dst.view.dmaCredit = N) (hN0 : 0 < N) (hP : Lends d src q Y P) (hP' : Takes d dst Y P' T)
    (h : iprop(Fly d c s sem N iprop(P ∗ T) ∗ R) ⊢ twp d (k ⟨⟩) Q) :
    iprop((P ∗ P' ∗ Idle d c s sem) ∗ R)
      ⊢ twp d (Prog.lift (TpuEff.enqueueDma src (.here dst) (.dma sem) hs hd ht) >>= k) Q := by
  unfold Lends at hP; unfold Takes at hP'
  iintro ⟨⟨HP, HP', Hv⟩, HR⟩
  ihave H1 := hP $$ HP
  icases H1 with ⟨%f, %hf, Hs, Hsw⟩
  ihave H2 := hP' $$ HP'
  icases H2 with ⟨%S, %g, %hS, Hd, Hdw⟩
  ihave H3 := (pointsTo_split_subset (q := q) (f := f) (S := Finset.univ) (Finset.subset_univ src.view.set)).1 $$ Hs
  icases H3 with ⟨Hs, Hr⟩
  ihave Hw := (wp_dmaLocal countersEmb 𝒱₀ ((d, .scVector c s) : Thread nD τ) none (defs := defs₀ (F := F)) (Q := Q)
    (src := src) (via := .same) (dst := dst) (sm := .dma sem) (hsrc := hs) (hdst := hd) (hsem := ht) (k := k) (q := q) (fs := f) (fd := g)
    (none : HIx 1) N hN hN0 hS) $$ [Hs Hd Hv]
  · isplitl [Hs]; · iexact Hs
    isplitl [Hd]; · iexact Hd
    iexact Hv
  iapply Hw
  iintro Hf
  iapply (show iprop(Fly d c s sem N iprop(P ∗ T) ∗ R) ⊢ twp d (k ⟨⟩) Q from h)
  isplitr [HR]
  · unfold Fly
    iexists _
    iexists iprop((src.view.loc ((d, .scVector c s) : Thread nD τ) ↦[Finset.univ \ src.view.set]{q} f)
      ∗ ((src.view.loc ((d, .scVector c s) : Thread nD τ) ↦{q} f) -∗ P)
      ∗ ((dst.view.loc ((d, .scVector c s) : Thread nD τ) ↦[S]{fullShare} (dst.view.write (Elt F) g Y Finset.univ)) -∗ T))
    isplitr
    swap
    · isplitl [Hf]; · iexact Hf
      isplitl [Hr]; · iexact Hr
      isplitl [Hsw]; · iexact Hsw
      iexact Hdw
    · ipureintro
      iintro ⟨⟨Hd, Hs⟩, Hr, Hsw, Hdw⟩
      isplitl [Hs Hr Hsw]
      · iapply Hsw
        iapply (pointsTo_split_subset (q := q) (f := f) (S := Finset.univ) (Finset.subset_univ src.view.set)).2
        isplitl [Hs]; · iexact Hs
        iexact Hr
      · iapply Hdw
        subst hf
        iexact Hd
  · iexact HR

/-- A copy's wait. -/
theorem land {src : Memref sig (Proc.scVector c s : Proc τ).kind sp sh e}
    {dst : Memref sig (Proc.scVector c s : Proc τ).kind sp' sh e} {sem : DmaSem sig}
    {hs : src.view.WordExact} {hd : dst.view.WordExact} {O : CellTallies nD τ sig (HIx 1)} {W : Waits sig (HIx 1)}
    {k : PUnit → TileProg F c s α} {T : sProp (MM F)} {N : ℕ} (hN : dst.view.dmaCredit = N)
    (h : iprop(T ∗ Idle d c s sem ∗ Debt d c s O W ∗ R) ⊢ twp d (k ⟨⟩) Q) :
    iprop(Fly d c s sem N T ∗ Debt d c s O W ∗ R) ⊢ twp d (Prog.lift (TpuEff.waitDma2 sem src dst hs hd) >>= k) Q := by
  unfold Fly
  iintro ⟨⟨%D, %E, %hT, Hf, HE⟩, HD, HR⟩
  unfold Debt
  icases HD with ⟨#Hlv, %hO, %W', %hW, HO⟩
  ihave Hmw := (show levAts (K (F := F)).L (K (F := F)).lev ⊢ MayWait ((d, .scVector c s) : Thread nD τ) (SemLoc.dma sem) (none : HIx 1) O from
    (K (F := F)).mayWait_none (thr := ((d, .scVector c s) : Thread nD τ)) (SemLoc.dma sem) hO) $$ Hlv
  ihave Hw := (wp_waitLocalO countersEmb 𝒱₀ ((d, .scVector c s) : Thread nD τ) none (defs := defs₀ (F := F)) (Q := Q)
    (srcw := src) (dstw := dst) (hsrc := hs) (hdst := hd) (k := k) (none : HIx 1) hN) $$ [Hf HO Hmw]
  · isplitl [Hf]; · iexact Hf
    isplitl [HO]; · iexact HO
    iexact Hmw
  iapply Hw
  iintro ⟨HD, Hv, HO⟩
  iapply (show iprop(T ∗ Idle d c s sem ∗ Debt d c s O W ∗ R) ⊢ twp d (k ⟨⟩) Q from h)
  isplitl [HD HE]
  · iapply (show iprop(D ∗ E) ⊢ T from hT)
    isplitl [HD]; · iexact HD
    iexact HE
  isplitl [Hv]; · iexact Hv
  isplitr [HR]
  · unfold Debt
    isplitr; · iexact Hlv
    isplitr; · ipureintro; exact hO
    iexists _
    isplitr
    swap; · iexact HO
    ipureintro
    intro p hp
    rcases Finset.mem_insert.mp hp with hp | hp
    · exact .inr (hp ▸ rfl)
    · exact hW p hp
  · iexact HR

end Ops

end Cert.Proof.Pool

end
-- ==== Proof.Fold.lean ====
/-
  The values a tile accumulates: a node's segment and weight as the tile computes them (`gW`, `pW`), the accumulator
  after a run of consecutive nodes (`rowsN`, `foldRows`), and how a group of sixteen lanes gives sixteen of its steps.
-/
module

public import proofs.«01_k».proof.Proof.Rows

@[expose] public section

noncomputable section

namespace Cert.Proof.Pool

open Cert.KernelIdeal Cert.KernelIdeal.Gen
open Idealize.ShloMosaic Idealize.ShloMosaic.ValueIdx

variable {F : FTy → Type} [FloatOps F]

/-! ## The arrays by node -/

/-- Node `n`'s row. -/
def rowN (x : S10000x512.Idx → F .f32) (n : ℕ) : Fin 512 → F .f32 := fun c => x (ix2 ⟨n % 10000, Nat.mod_lt _ (by norm_num)⟩ c)
/-- Node `n`'s log-probability. -/
def lpN (l : S10000.Idx → F .f32) (n : ℕ) : F .f32 := l (ix1 ⟨n % 10000, Nat.mod_lt _ (by norm_num)⟩)
/-- Node `n`'s segment. -/
def idN (b : S10000.Idx → BitVec 32) (n : ℕ) : BitVec 32 := b (ix1 ⟨n % 10000, Nat.mod_lt _ (by norm_num)⟩)

/-- The accumulator's row a node of segment `id` goes to, in a tile whose first segment is `lo`: clipped to the tile's
    thirty-two. -/
def gW (lo id : BitVec 32) : BitVec 32 := IntOp.minsi 31#32 (IntOp.maxsi 0#32 (IntOp.subi id lo))

/-- The weight it goes with: zero outside the tile's segments. -/
def pW (lo hi id : BitVec 32) (l : F .f32) : F .f32 :=
  Scalar.select (IntOp.andi (IntOp.cmpi .sge id lo) (IntOp.cmpi .slt id hi)) (FloatOps.exp l) (Scalar.ofBits .f32 0x00000000#32)

theorem minsi_toNat_lt (w : BitVec 32) : (IntOp.minsi 31#32 (IntOp.maxsi 0#32 w)).toNat < 32 := by
  have h0 : (0#32).toInt = 0 := rfl
  have h31 : (31#32).toInt = 31 := rfl
  have hw : w.toInt = if 2 * w.toNat < 2 ^ 32 then (w.toNat : ℤ) else (w.toNat : ℤ) - 2 ^ 32 := BitVec.toInt_eq_toNat_cond w
  have hl := w.isLt
  by_cases h1 : w.slt 0#32 = true
  · simp [IntOp.minsi, IntOp.maxsi, h1]
  · by_cases h2 : (31#32).slt w = true
    · simp [IntOp.minsi, IntOp.maxsi, h1, h2]
    · simp only [IntOp.minsi, IntOp.maxsi, h1, h2, Bool.false_eq_true, if_false]
      simp only [BitVec.slt, decide_eq_true_eq, h0, h31, hw] at h1 h2
      split at h1 <;> omega

theorem gW_lt (lo id : BitVec 32) : (gW lo id).toNat < 32 := minsi_toNat_lt _

/-! ## Runs of rows -/

/-- The accumulator after `k` rows. -/
def rowsN (A : Acc F) (g : ℕ → BitVec 32) (xr : ℕ → Fin 512 → F .f32) (p : ℕ → F .f32) : ℕ → Acc F
  | 0 => A
  | k + 1 => rowStep (rowsN A g xr p k) (g k).toNat (xr k) (p k)

theorem rowsN_congr (A : Acc F) {g g' : ℕ → BitVec 32} {xr xr' : ℕ → Fin 512 → F .f32} {p p' : ℕ → F .f32} (k : ℕ)
    (hg : ∀ i < k, g i = g' i) (hx : ∀ i < k, xr i = xr' i) (hp : ∀ i < k, p i = p' i) :
    rowsN A g xr p k = rowsN A g' xr' p' k := by
  induction k with
  | zero => rfl
  | succ k ih =>
    show rowStep _ _ _ _ = rowStep _ _ _ _
    rw [ih (fun i h => hg i (by omega)) (fun i h => hx i (by omega)) (fun i h => hp i (by omega)), hg k (by omega),
      hx k (by omega), hp k (by omega)]

/-- The accumulator after the `k` nodes from `n` on. -/
def foldRows (lo hi : BitVec 32) (x : S10000x512.Idx → F .f32) (l : S10000.Idx → F .f32) (b : S10000.Idx → BitVec 32)
    (A : Acc F) (n k : ℕ) : Acc F :=
  rowsN A (fun i => gW lo (idN b (n + i))) (fun i => rowN x (n + i)) (fun i => pW lo hi (idN b (n + i)) (lpN l (n + i))) k

theorem foldRows_add (lo hi : BitVec 32) (x : S10000x512.Idx → F .f32) (l : S10000.Idx → F .f32) (b : S10000.Idx → BitVec 32)
    (A : Acc F) (n k k' : ℕ) :
    foldRows lo hi x l b A n (k + k') = foldRows lo hi x l b (foldRows lo hi x l b A n k) (n + k) k' := by
  induction k' with
  | zero => rfl
  | succ k' ih =>
    have e : n + k + k' = n + (k + k') := Nat.add_assoc _ _ _
    show rowStep (foldRows lo hi x l b A n (k + k')) (gW lo (idN b (n + (k + k')))).toNat (rowN x (n + (k + k')))
        (pW lo hi (idN b (n + (k + k'))) (lpN l (n + (k + k'))))
      = rowStep (foldRows lo hi x l b (foldRows lo hi x l b A n k) (n + k) k') (gW lo (idN b (n + k + k'))).toNat (rowN x (n + k + k'))
        (pW lo hi (idN b (n + k + k')) (lpN l (n + k + k')))
    rw [ih, e]

/-! ## Sixteen lanes -/

/-- Lane `k` of a vector of sixteen, as extracting it spells it. -/
def lane (k : ℕ) : S16.Idx := fun a => ⟨(![k % 16] : Fin 1 → ℕ) a + (![0] : Fin 1 → ℕ) a, by
  match a with
  | ⟨0, _⟩ => exact Nat.mod_lt _ (by norm_num)⟩

theorem lane_val (k : ℕ) (hk : k < 16) : ((lane k) 0).val = k := by
  show k % 16 + 0 = k
  omega

/-- The accumulator's rows of sixteen nodes, and their weights, as the kernel's vectors. -/
def gV (lo : BitVec 32) (v : IVec S16 32) : IVec S16 32 :=
  minsi (broadcast S16 31#32) (maxsi (broadcast S16 0#32) (subi (shapeCast S16 v shapeCasts_S16_S16) (broadcast S16 lo)))
def pV (lo hi : BitVec 32) (v : IVec S16 32) (l : FVec F S16 .f32) : FVec F S16 .f32 :=
  select (andi (cmpi .sge (shapeCast S16 v shapeCasts_S16_S16) (broadcast S16 lo))
      (cmpi .slt (shapeCast S16 v shapeCasts_S16_S16) (broadcast S16 hi)))
    (exp (shapeCast S16 l shapeCasts_S16_S16)) (broadcast S16 (Scalar.ofBits .f32 0x00000000#32))

theorem gV_apply (lo : BitVec 32) (v : IVec S16 32) (t : S16.Idx) : gV lo v t = gW lo (v t) := by
  unfold gV; rw [shapeCast_self]; rfl
theorem pV_apply (lo hi : BitVec 32) (v : IVec S16 32) (l : FVec F S16 .f32) (t : S16.Idx) : pV lo hi v l t = pW lo hi (v t) (l t) := by
  unfold pV; rw [shapeCast_self, shapeCast_self]; rfl

/-- The words a group's lanes give are accumulator rows. -/
theorem gV_lt (lo : BitVec 32) (v : IVec S16 32) (t : S16.Idx) : (gV lo v t).toNat < 32 := by
  rw [gV_apply]; exact gW_lt _ _

/-- Row `n` of the rows' buffer. -/
def rowAt (X : S64x512.Idx → F .f32) (n : ℕ) : Fin 512 → F .f32 := fun c => X (ix2 ⟨n % 64, Nat.mod_lt _ (by norm_num)⟩ c)

/-- Sixteen lanes of rows `ro …` of the buffer are the sixteen nodes' rows from `n` on, when the buffer and the two
    vectors hold those nodes. -/
theorem group_eq (lo hi : BitVec 32) (x : S10000x512.Idx → F .f32) (l : S10000.Idx → F .f32) (b : S10000.Idx → BitVec 32)
    (A : Acc F) (X : S64x512.Idx → F .f32) (n : ℕ) (ro : ℕ → ℕ) (hX : ∀ k < 16, rowAt X (ro k) = rowN x (n + k)) :
    rowsN A (fun k => gV lo (fun t => idN b (n + (t 0).val)) (lane k)) (fun k => rowAt X (ro k))
      (fun k => pV lo hi (fun t => idN b (n + (t 0).val)) (fun t => lpN l (n + (t 0).val)) (lane k)) 16
      = foldRows lo hi x l b A n 16 := by
  refine rowsN_congr A 16 ?_ hX ?_
  · intro k hk
    show gV lo _ (lane k) = _
    rw [gV_apply, lane_val k hk]
  · intro k hk
    show pV lo hi _ _ (lane k) = _
    rw [pV_apply, lane_val k hk]

end Cert.Proof.Pool

end
-- ==== Proof.Group.lean ====
/-
  A row of a group of sixteen, as rules over the group's four buffers in the kernel's own words: the side condition of a
  row's word, its loop over the columns, and the store that ends it.
-/
module

public import proofs.«01_k».proof.Proof.Ops
public import proofs.«01_k».proof.Proof.Fold

@[expose] public section

noncomputable section

namespace Cert.Proof.Pool

open Cert.KernelIdeal Cert.KernelIdeal.Gen
open Idealize.ShloMosaic Idealize.ShloMosaic.ValueIdx
open Idealize.SL Idealize.SL.RA Idealize.SL.BI
open scoped Idealize.SL.BI
open Idealize.SL.BI.BIBase Idealize.SL.BI.Laws Idealize.SL.ProofMode Idealize.SL.Sem

variable {F : FTy → Type} [FloatOps F]

/-- The columns a trip reads of the row … -/
theorem col_next : ∀ n : Fin 31, (Scalar.indexCast (Scalar.muli (Scf.iv 1#32 1#32 n.val) 16#32)).toNat = 16 * n.val + 16 := by decide
/-- … and the columns it writes of the accumulator. -/
theorem col_here : ∀ n : Fin 31,
    (Scalar.indexCast (Scalar.muli (Scalar.subi (Scf.iv 1#32 1#32 n.val) 1#32) 16#32)).toNat = 16 * n.val := by decide

/-- Row `k` of the buffer's group `t`. -/
theorem group_row : ∀ (t : Fin 4) (k : Fin 16), (Scalar.indexCast
    (Scalar.addi (Scalar.muli (Scf.iv 0#32 1#32 t.val) 16#32) (BitVec.ofNat 32 k.val))).toNat = 16 * t.val + k.val := by decide

/-- A row's word names a row of the accumulator: the side condition of its loop, -/
theorem inb_cols {w : BitVec 32} (hw : w.toNat < 32) {n : ℕ} (hn : n < 31) : ∀ a,
    (![(Scalar.indexCast w).toNat, (Scalar.indexCast (Scalar.muli (Scalar.subi (Scf.iv 1#32 1#32 n) 1#32) 16#32)).toNat] : Fin 2 → ℕ) a
      + S1x16.size a ≤ S32x512.size a := by
  intro a
  have h := col_here ⟨n, hn⟩
  match a with
  | ⟨0, _⟩ => show w.toNat + 1 ≤ 32; omega
  | ⟨1, _⟩ => exact (Nat.add_le_add_right h.le 16).trans (by show 16 * n + 16 ≤ 512; omega)

/-- and of its last columns. -/
theorem inb_last {w : BitVec 32} (hw : w.toNat < 32) : ∀ a,
    (![(Scalar.indexCast w).toNat, 496] : Fin 2 → ℕ) a + S1x16.size a ≤ S32x512.size a := by
  intro a
  match a with
  | ⟨0, _⟩ => show w.toNat + 1 ≤ 32; omega
  | ⟨1, _⟩ => show 496 + 16 ≤ 512; omega

variable {d : Dev nD} {c : Fin τ.nSC} {s : Fin τ.nSub}
variable {xb : Memref sig (Proc.scVector c s : Proc τ).kind .vmem S64x512 .f32} {bb : Memref sig (Proc.scVector c s : Proc τ).kind .vmem S10240 .i32}
  {lb : Memref sig (Proc.scVector c s : Proc τ).kind .vmem S10000 .f32} {acc : Memref sig (Proc.scVector c s : Proc τ).kind .vmem S32x512 .f32}
variable {α : Type} {X : S64x512.Idx → F .f32} {B : S10240.Idx → BitVec 32} {L : S10000.Idx → F .f32} {A : Acc F}
  {R : sProp (MM F)} {Q : α → sProp (MM F)}

/-- A row's loop over its columns. -/
theorem row_loop {l : Scf.Loop 32} {hok : l.OK} {init : FVec F S16 .f32} {ox oa : Fin l.trips → Fin 2 → ℕ}
    {hx : ∀ t a, ox t a + S1x16.size a ≤ S64x512.size a} {ha : ∀ t a, oa t a + S1x16.size a ≤ S32x512.size a} {p : F .f32}
    {body : Fin l.trips → FVec F S16 .f32 → TileProg F c s (FVec F S16 .f32)} {kk : FVec F S16 .f32 → TileProg F c s α}
    {w : BitVec 32} {ro : ℕ} {o0 : Fin 2 → ℕ} {h0 : ∀ a, o0 a + S1x16.size a ≤ S64x512.size a}
    (hl : l.trips = 31) (hb : body = colBody xb acc ox oa hx ha p)
    (hox : ∀ t, ox t = ![ro, (Scalar.indexCast (Scalar.muli (Scf.iv 1#32 1#32 t.val) 16#32)).toNat])
    (hoa : ∀ t, oa t = ![(Scalar.indexCast w).toNat,
      (Scalar.indexCast (Scalar.muli (Scalar.subi (Scf.iv 1#32 1#32 t.val) 1#32) 16#32)).toNat])
    (h00 : o0 = ![ro, 0])
    (hi : init = mulf (shapeCast S16 (fun x : S1x16.Idx => X ((Rect.unit (s := S64x512) o0 S1x16.size h0).toLoadRect.idx x))
      shapeCasts_S1x16_S16) (broadcast S16 p))
    (hk : ∀ v, IsChunk (rowAt X ro) p 31 v →
      St d xb bb lb acc X B L (addCols A w.toNat (rowAt X ro) p 496) R ⊢ twp d (kk v) Q) :
    St d xb bb lb acc X B L A R ⊢ twp d (Scf.Loop.for l hok init body >>= kk) Q := by
  have hro : ro < 64 := by
    have := h0 0; rw [h00] at this; change ro + 1 ≤ 64 at this; omega
  have hr : rowAt X ro = fun c => X (ix2 ⟨ro, hro⟩ c) := by
    funext c
    exact congrArg X (congrArg (fun r => ix2 r c) (Fin.ext (Nat.mod_eq_of_lt hro)))
  rw [hr] at hk
  refine cols hl hb ⟨ro, hro⟩ w.toNat ?_ ?_ ?_ hk
  · intro t
    rw [hox t]
    exact congrArg (fun n => ![ro, n]) (col_next ⟨t.val, hl ▸ t.isLt⟩)
  · intro t
    rw [hoa t]
    exact congrArg (fun n => ![w.toNat, n]) (col_here ⟨t.val, hl ▸ t.isLt⟩)
  · rw [hi]
    exact isChunk_load X h0 _ p ⟨ro, hro⟩ 0 h00

/-- A row's last store: the accumulator has then taken the whole row. -/
theorem row_last {w : BitVec 32} {xr : Fin 512 → F .f32} {p : F .f32} {off : Fin 2 → ℕ}
    {h : ∀ a, off a + S1x16.size a ≤ S32x512.size a} {v : FVec F S16 .f32}
    {hx : (acc.access (Rect.unit (s := S32x512) off S1x16.size h)).Stores Finset.univ}
    {hm : (Finset.univ : Finset S1x16.Idx) = Finset.univ ∨ ∀ a, (Rect.unit (s := S32x512) off S1x16.size h).stride a = 1}
    {y : S1x16.Idx → F .f32}
    {kk : PUnit → TileProg F c s α} (hv : IsChunk xr p 31 v) (ho : off = ![(Scalar.indexCast w).toNat, 496])
    (hy : y = shapeCast S1x16 (addf (shapeCast S16 (fun x : S1x16.Idx => addCols A w.toNat xr p 496
          ((Rect.unit (s := S32x512) off S1x16.size h).toLoadRect.idx x)) shapeCasts_S1x16_S16) v) shapeCasts_S16_S1x16)
    (hk : St d xb bb lb acc X B L (rowStep A w.toNat xr p) R ⊢ twp d (kk ⟨⟩) Q) :
    St d xb bb lb acc X B L (addCols A w.toNat xr p 496) R
      ⊢ twp d (Prog.lift (TpuEff.store acc (Rect.unit (s := S32x512) off S1x16.size h) y Finset.univ hx hm) >>= kk) Q := by
  subst hy
  rw [← addCols_full] at hk
  exact st_chunk (k := 31) hv ho hk

/-- The group's vector of ids. -/
theorem ld_ids {b : S10000.Idx → BitVec 32} {off : Fin 1 → ℕ} {h : ∀ a, off a + S16.size a ≤ S10240.size a}
    {hl : bb.view.LoadsAt (Rect.unit (s := S10240) off S16.size h).toLoadRect} {k : (S16.Idx → BitVec 32) → TileProg F c s α} (n : ℕ)
    (ho : off 0 = n) (hB : ∀ j : S10240.Idx, (j 0).val < 10000 → B j = idN b (j 0).val) (hn : n + 16 ≤ 10000)
    (hk : St d xb bb lb acc X B L A R ⊢ twp d (k (fun t => idN b (n + (t 0).val))) Q) :
    St d xb bb lb acc X B L A R ⊢ twp d (Prog.lift (TpuEff.load bb (Rect.unit (s := S10240) off S16.size h).toLoadRect hl) >>= k) Q := by
  refine ld_b ?_
  have e : (fun x : S16.Idx => B ((Rect.unit (s := S10240) off S16.size h).toLoadRect.idx x)) = fun t => idN b (n + (t 0).val) := by
    funext t
    have ht : (t 0).val < 16 := (t 0).isLt
    have e0 : (((Rect.unit (s := S10240) off S16.size h).toLoadRect.idx t) 0).val = n + (t 0).val := by
      show off 0 + 1 * (t 0).val = _; omega
    rw [hB _ (by rw [e0]; omega), e0]
  exact e ▸ hk

/-- The group's vector of log-probabilities. -/
theorem ld_lps {off : Fin 1 → ℕ} {h : ∀ a, off a + S16.size a ≤ S10000.size a}
    {hl : lb.view.LoadsAt (Rect.unit (s := S10000) off S16.size h).toLoadRect} {k : (S16.Idx → F .f32) → TileProg F c s α} (n : ℕ)
    (ho : off 0 = n) (hn : n + 16 ≤ 10000)
    (hk : St d xb bb lb acc X B L A R ⊢ twp d (k (fun t => lpN L (n + (t 0).val))) Q) :
    St d xb bb lb acc X B L A R ⊢ twp d (Prog.lift (TpuEff.load lb (Rect.unit (s := S10000) off S16.size h).toLoadRect hl) >>= k) Q := by
  refine ld_l ?_
  have e : (fun x : S16.Idx => L ((Rect.unit (s := S10000) off S16.size h).toLoadRect.idx x)) = fun t => lpN L (n + (t 0).val) := by
    funext t
    have ht : (t 0).val < 16 := (t 0).isLt
    refine congrArg L ?_
    funext a
    match a with
    | ⟨0, _⟩ =>
      apply Fin.ext
      show off 0 + 1 * (t 0).val = (n + (t 0).val) % 10000
      omega
  exact e ▸ hk

end Cert.Proof.Pool

end
-- ==== Proof.Rounds.lean ====
/-
  The rounds over a tile's chunks: two row buffers take turns, each fetched one round ahead of its use. A buffer's SLOT
  says where its next chunk stands: on its way, or past the tile's last chunk and the buffer free.
-/
module

public import proofs.«01_k».proof.Proof.Dma
public import proofs.«01_k».proof.Proof.Group

@[expose] public section

noncomputable section

namespace Cert.Proof.Pool

open Cert.KernelIdeal Cert.KernelIdeal.Gen
open Idealize.ShloMosaic Idealize.ShloMosaic.ValueIdx
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem

variable {F : FTy → Type} [FloatOps F]
variable {d : Dev nD} {c : Fin τ.nSC} {s : Fin τ.nSub}

/-- Chunk `k`: sixty-four nodes' rows. -/
def chunk (x : S10000x512.Idx → F .f32) (k : ℕ) : S64x512.Idx → F .f32 := fun j => rowN x (64 * k + (j 0).val) (j 1)

theorem chunk_row (x : S10000x512.Idx → F .f32) (k n : ℕ) (hn : n < 64) : rowAt (chunk x k) n = rowN x (64 * k + n) := by
  funext c
  show rowN x (64 * k + n % 64) c = _
  rw [Nat.mod_eq_of_lt hn]

/-- What a slice of the rows reads is a chunk. -/
theorem slice_chunk {x : S10000x512.Idx → F .f32} {k : ℕ} {o : Fin 2 → ℕ} {h : ∀ a, o a + S64x512.size a ≤ S10000x512.size a}
    (ho : o = ![64 * k, 0]) : (fun y => x ((Rect.unit (s := S10000x512) o S64x512.size h).emb y)) = chunk x k := by
  subst ho
  funext y
  have hy : (y 0).val < 64 := (y 0).isLt
  have hk : 64 * k + 64 ≤ 10000 := h 0
  refine congrArg x ?_
  funext a
  match a with
  | ⟨0, _⟩ => apply Fin.ext; show 64 * k + 1 * (y 0).val = (64 * k + (y 0).val) % 10000; omega
  | ⟨1, _⟩ => apply Fin.ext; show 0 + 1 * (y 1).val = (y 1).val; omega

section Slots
variable (d) (q : PosShare TreeShare) (xm : Memref sig (Proc.scVector c s : Proc τ).kind .hbm S10000x512 .f32) (x : S10000x512.Idx → F .f32)
  (xb : Memref sig (Proc.scVector c s : Proc τ).kind .vmem S64x512 .f32) (sem : DmaSem sig)

/-- A row buffer that no copy is under way to. -/
def Free : sProp (MM F) := iprop(Reads d q xm x ∗ (∃ X, Holds d xb X) ∗ Idle d c s sem)

/-- A row buffer before chunk `k`'s turn, the tile's last chunk being the one before `E`. -/
def Slot (E k : ℕ) : sProp (MM F) :=
  if k < E then Fly d c s sem xb.view.dmaCredit iprop(Reads d q xm x ∗ Holds d xb (chunk x k)) else Free d q xm x xb sem

end Slots

variable {q : PosShare TreeShare} {xm : Memref sig (Proc.scVector c s : Proc τ).kind .hbm S10000x512 .f32} {x : S10000x512.Idx → F .f32}
  {xb : Memref sig (Proc.scVector c s : Proc τ).kind .vmem S64x512 .f32} {sem : DmaSem sig}
variable {bb : Memref sig (Proc.scVector c s : Proc τ).kind .vmem S10240 .i32}
  {lb : Memref sig (Proc.scVector c s : Proc τ).kind .vmem S10000 .f32} {acc : Memref sig (Proc.scVector c s : Proc τ).kind .vmem S32x512 .f32}
variable {α : Type} {Q : α → sProp (MM F)} {kp : TileProg F c s α} {R : sProp (MM F)}

/-- A chunk's fetch, if the tile has the chunk. -/
theorem fetch {P : Prop} [Decidable P] {E k : ℕ} {o : Fin 2 → ℕ} {h : P → ∀ a, o a + S64x512.size a ≤ S10000x512.size a}
    {hs : ∀ p, (xm.slice (Rect.unit (s := S10000x512) o S64x512.size (h p)) (fun _ => rfl)).view.WordExact} {hd : xb.view.WordExact}
    {ht : DmaTarget.Typed (nD := nD) (τ := τ) .hbm (SemLoc.dma sem) (.here xb)}
    (hP : P ↔ k < E) (ho : o = ![64 * k, 0])
    (hk : iprop(Slot d q xm x xb sem E k ∗ R) ⊢ twp d (kp) Q) :
    iprop(Free d q xm x xb sem ∗ R)
      ⊢ twp d (if p : P then Prog.lift (TpuEff.enqueueDma (xm.slice (Rect.unit (s := S10000x512) o S64x512.size (h p)) (fun _ => rfl))
          (.here xb) (.dma sem) (hs p) hd ht) >>= fun _ => kp else kp) Q := by
  unfold Slot at hk
  by_cases p : P
  · rw [dif_pos p]
    rw [if_pos (hP.1 p)] at hk
    have hr : Lends d (xm.slice (Rect.unit (s := S10000x512) o S64x512.size (h p)) (fun _ => rfl)) q (chunk x k) (Reads d q xm x) := by
      have e := lends_slice (m := xm) (q := q) (X := x) (r := Rect.unit (s := S10000x512) o S64x512.size (h p)) (h := fun _ => rfl) d
      rw [slice_chunk ho] at e
      exact e
    unfold Free
    iintro ⟨⟨Hx, ⟨%X, Hb⟩, Hs⟩, HR⟩
    have h1 := start (k := fun _ => kp) (hs := hs p) (hd := hd) (ht := ht) d xb.view.dmaCredit rfl (View.dmaCredit_pos _ (by decide))
      hr (takes_whole d (X := X)) hk
    iapply h1
    isplitr [HR]
    · isplitl [Hx]; · iexact Hx
      isplitl [Hb]; · iexact Hb
      iexact Hs
    · iexact HR
  · rw [dif_neg p]
    rw [if_neg (mt hP.2 p)] at hk
    exact hk

/-- One buffer's turn: its chunk's arrival, the chunk's rows in four groups of sixteen, and the fetch of its next chunk. -/
theorem turn {P P' : Prop} [Decidable P] [Decidable P'] {E k : ℕ} {o o' : Fin 2 → ℕ}
    {h : P → ∀ a, o a + S64x512.size a ≤ S10000x512.size a} {h' : P → P' → ∀ a, o' a + S64x512.size a ≤ S10000x512.size a}
    {hs0 : ∀ p, (xm.slice (Rect.unit (s := S10000x512) o S64x512.size (h p)) (fun _ => rfl)).view.WordExact} {hd0 : xb.view.WordExact}
    {hs : ∀ p p', (xm.slice (Rect.unit (s := S10000x512) o' S64x512.size (h' p p')) (fun _ => rfl)).view.WordExact} {hd : xb.view.WordExact}
    {ht : DmaTarget.Typed (nD := nD) (τ := τ) .hbm (SemLoc.dma sem) (.here xb)}
    {l : Scf.Loop 32} {hok : l.OK} {body : P → Fin l.trips → Unit → TileProg F c s Unit}
    {O : CellTallies nD τ sig (HIx 1)} {W : Waits sig (HIx 1)} {B : S10240.Idx → BitVec 32} {L : S10000.Idx → F .f32} {A : Acc F}
    {v2 v3 : BitVec 32} {b : S10000.Idx → BitVec 32}
    (hP : P ↔ k < E) (hP' : P' ↔ k + 2 < E) (ho' : o' = ![64 * (k + 2), 0]) (hl : l.trips = 4)
    (hbody : ∀ (p : P) (t : Fin l.trips) (A : Acc F) (R : sProp (MM F)), St d xb bb lb acc (chunk x k) B L A R
      ⊢ twp d (body p t ⟨⟩) (fun _ => St d xb bb lb acc (chunk x k) B L (foldRows v2 v3 x L b A (64 * k + 16 * t.val) 16) R))
    (hk : iprop(Slot d q xm x xb sem E (k + 2) ∗ (Holds d bb (e := .i32) B ∗ Holds d lb L
        ∗ Holds d acc (if k < E then foldRows v2 v3 x L b A (64 * k) 64 else A) ∗ Debt d c s O W ∗ R)) ⊢ twp d (kp) Q) :
    iprop(Slot d q xm x xb sem E k ∗ (Holds d bb (e := .i32) B ∗ Holds d lb L ∗ Holds d acc A ∗ Debt d c s O W ∗ R))
      ⊢ twp d (if p : P then
          Prog.lift (TpuEff.waitDma2 sem (xm.slice (Rect.unit (s := S10000x512) o S64x512.size (h p)) (fun _ => rfl)) xb (hs0 p) hd0) >>= fun _ =>
          Scf.Loop.for l hok ⟨⟩ (body p) >>= fun _ =>
          (if p' : P' then Prog.lift (TpuEff.enqueueDma (xm.slice (Rect.unit (s := S10000x512) o' S64x512.size (h' p p')) (fun _ => rfl))
            (.here xb) (.dma sem) (hs p p') hd ht) >>= fun _ => kp else kp)
        else kp) Q := by
  by_cases p : P
  · rw [dif_pos p]
    rw [if_pos (hP.1 p)] at hk
    unfold Slot
    rw [if_pos (hP.1 p)]
    refine shift (show _ ⊢ iprop(Fly d c s sem xb.view.dmaCredit iprop(Reads d q xm x ∗ Holds d xb (chunk x k)) ∗ Debt d c s O W
      ∗ (Holds d bb (e := .i32) B ∗ Holds d lb L ∗ Holds d acc A ∗ R)) from by
      iintro ⟨H1, H2, H3, H4, H5, H6⟩; iframe) ?_
    refine land d rfl ?_
    have hw := Scf.wp_for_bind frame (wpE (defs₀ (F := F)) 𝒱₀ (d, .scVector c s) none) Set.univ l.lb l.ub l.st hok ⟨⟩ (body p)
      (fun n _ => St d xb bb lb acc (chunk x k) B L (foldRows v2 v3 x L b A (64 * k) (16 * n))
        iprop(Reads d q xm x ∗ Idle d c s sem ∗ Debt d c s O W ∗ R))
      (fun t v => by
        have e : 16 * (t.val + 1) = 16 * t.val + 16 := by omega
        show _ ⊢ twp d (body p t v) (fun _ => St d xb bb lb acc (chunk x k) B L (foldRows v2 v3 x L b A (64 * k) (16 * (t.val + 1))) _)
        rw [e, foldRows_add]
        exact hbody p t _ _)
      (kk := fun _ => (if p' : P' then Prog.lift (TpuEff.enqueueDma (xm.slice (Rect.unit (s := S10000x512) o' S64x512.size (h' p p')) (fun _ => rfl))
            (.here xb) (.dma sem) (hs p p') hd ht) >>= fun _ => kp else kp)) (Q := Q)
    refine shift (show _ ⊢ St d xb bb lb acc (chunk x k) B L A iprop(Reads d q xm x ∗ Idle d c s sem ∗ Debt d c s O W ∗ R) from by
      unfold St; iintro ⟨⟨H1, H2⟩, H3, H4, H5, H6, H7, H8⟩; iframe) ?_
    iintro H
    ihave Hw := hw $$ [H]
    · have e0 : foldRows v2 v3 x L b A (64 * k) (16 * 0) = A := rfl
      rw [e0]
      iexact H
    iapply Hw
    iintro %v H
    have e4 : 16 * Scf.trips l.lb l.ub l.st = 64 := by
      have : Scf.trips l.lb l.ub l.st = 4 := hl
      omega
    rw [e4]
    iapply (fetch (kp := kp) (h := h' p) hP' ho' hk)
    unfold St Free
    icases H with ⟨H1, H2, H3, H4, H5, H6, H7, H8⟩
    isplitl [H1 H5 H6]
    · isplitl [H5]; · iexact H5
      isplitl [H1]; · iexists (chunk x k); iexact H1
      iexact H6
    iframe
  · rw [dif_neg p]
    have n2 : ¬ k + 2 < E := fun h => p (hP.2 (by omega))
    unfold Slot at hk ⊢
    rw [if_neg (mt hP.2 p), if_neg n2] at hk
    rw [if_neg (mt hP.2 p)]
    exact hk

end Cert.Proof.Pool

end
-- ==== Proof.Words.lean ====
/-
  The words a tile computes its ranges from: its two segment bounds, the node numbers its searches end at, the first and
  last chunk of sixty-four rows it visits and its number of rounds, each with the integer it is; and, from these, every
  offset and every condition of the double-buffered loop.
-/
module

public import proofs.«01_k».proof.Proof.Setup
public import Idealize.ShloMosaic.Lib.Affine

@[expose] public section

noncomputable section

namespace Cert.Proof.Pool

open Cert.KernelIdeal Cert.KernelIdeal.Gen
open Idealize.ShloMosaic Idealize.ShloMosaic.Affine

/-! ## The words -/

/-- The tile's number is `2 * subcore + core`; its segments are the thirty-two from here … -/
def tileLo (i : grid0.Coords) : BitVec 32 :=
  Scalar.muli (Scalar.addi (Scalar.muli (BitVec.ofNat 32 (i 1).val) 2#32) (BitVec.ofNat 32 (i 0).val)) 32#32
/-- … to here. -/
def tileHi (i : grid0.Coords) : BitVec 32 := Scalar.addi (tileLo i) 32#32

/-- One lane's contribution to the count of lanes below `g`. -/
def oneW (g a : BitVec 32) : BitVec 32 := Scalar.select (Scalar.cmpi .slt a g) 1#32 0#32

/-- The number of sixteen lanes below `g`, lane after lane. -/
def cntW (g : BitVec 32) (ls : List (BitVec 32)) : BitVec 32 := ls.foldl (fun s a => Scalar.addi s (oneW g a)) 0#32

/-- The node number a search ends at, from the block it found and the lanes of the block before it. -/
def bndW (g r : BitVec 32) (ls : List (BitVec 32)) : BitVec 32 :=
  Scalar.select (Scalar.cmpi .eq r 0#32) 0#32 (Scalar.addi (Scalar.muli (Scalar.maxsi (Scalar.subi r 1#32) 0#32) 16#32) (cntW g ls))

/-- Division rounding down. -/
def fdivW (a b : BitVec 32) : BitVec 32 :=
  Scalar.select
    (Scalar.andi
      (Scalar.cmpi .ne (Scalar.subi (Scalar.extui (Scalar.cmpi .sgt a 0#32)) (Scalar.extui (Scalar.cmpi .slt a 0#32)))
        (Scalar.subi (Scalar.extui (Scalar.cmpi .sgt b 0#32)) (Scalar.extui (Scalar.cmpi .slt b 0#32))))
      (Scalar.cmpi .ne (Scalar.remsi a b) 0#32))
    (Scalar.subi (Scalar.divsi a b) 1#32) (Scalar.divsi a b)

/-- The first chunk, -/
def firstW (lo : BitVec 32) : BitVec 32 := fdivW lo 64#32
/-- the end of the chunks, -/
def lastW (hi : BitVec 32) : BitVec 32 := Scalar.minsi (fdivW (Scalar.subi (Scalar.addi hi 64#32) 1#32) 64#32) 156#32
/-- their number, -/
def numW (lo hi : BitVec 32) : BitVec 32 := Scalar.subi (lastW hi) (firstW lo)
/-- and the number of rounds of two. -/
def roundsW (lo hi : BitVec 32) : BitVec 32 :=
  Scalar.subi (fdivW (Scalar.subi (Scalar.addi (numW lo hi) 2#32) 1#32) 2#32) 0#32

/-! ## What they are -/

theorem int_iff {x : BitVec 32} {e : ℤ} : IsInt x e ↔ x.toInt = e := by unfold IsInt; exact Iff.rfl

theorem fdivW_nonneg {a b : BitVec 32} {ea eb : ℤ} (ha : IsInt a ea) (hb : IsInt b eb) (h0 : 0 ≤ ea) (h1 : 0 < eb) :
    IsInt (fdivW a b) (ea / eb) := by
  have hd := divsi ha hb (e := ea / eb) ⟨rfl, h0, h1⟩
  have hr := remsi ha hb (e := ea % eb) ⟨rfl, h0, h1⟩
  have z : IsInt (0#32) 0 := ofNat 0 ⟨rfl, by norm_num⟩
  have o : IsInt (1#32) 1 := ofNat 1 ⟨rfl, by norm_num⟩
  have hq : 0 ≤ ea / eb := Int.ediv_nonneg h0 h1.le
  have hqr := word_range (Scalar.divsi a b)
  have hde : (Scalar.divsi a b).toInt = ea / eb := int_iff.1 hd
  rw [hde] at hqr
  have hq' := subi hd o (e := ea / eb - 1) ⟨rfl, by omega, by omega⟩
  have sb := subi (extui_holds (sgt_holds hb z h1) rfl) (extui_fails (slt_fails hb z (by omega)) rfl) (e := 1) ⟨by norm_num, by norm_num, by norm_num⟩
  refine select_fails ?_ hq' hd rfl
  rcases h0.lt_or_eq with h | h
  · have sa := subi (extui_holds (sgt_holds ha z h) rfl) (extui_fails (slt_fails ha z (by omega)) rfl) (e := 1) ⟨by norm_num, by norm_num, by norm_num⟩
    exact andi_fails_left (ne_fails sa sb rfl) trivial
  · subst h
    exact andi_fails_right trivial (ne_fails hr z (by simp))

theorem fdivW_two_neg : ∀ k : Fin 160, (fdivW (BitVec.ofInt 32 (-(k.val : ℤ))) 2#32).toInt = (-(k.val : ℤ)) / 2 := by decide +kernel

theorem fdivW_two {a : BitVec 32} {ea : ℤ} (ha : IsInt a ea) (h : -160 < ea) : IsInt (fdivW a 2#32) (ea / 2) := by
  by_cases h0 : 0 ≤ ea
  · exact fdivW_nonneg ha (ofNat 2 ⟨rfl, by norm_num⟩) h0 (by norm_num)
  · have e : a = BitVec.ofInt 32 (-((-ea).toNat : ℤ)) := by
      apply BitVec.eq_of_toInt_eq
      have ha' : a.toInt = ea := int_iff.1 ha
      rw [ha', BitVec.toInt_ofInt]
      have : (-((-ea).toNat : ℤ)) = ea := by omega
      rw [this, Int.bmod_def]
      push_cast
      split <;> omega
    have k := fdivW_two_neg ⟨(-ea).toNat, by omega⟩
    rw [← e] at k
    have k' : (fdivW a 2#32).toInt = ea / 2 := by rw [k]; congr 1; show -((-ea).toNat : ℤ) = ea; omega
    exact int_iff.2 k'

section Bounds
variable {lo hi : BitVec 32} {l h : ℕ} (hl : IsInt lo l) (hh : IsInt hi h) (l0 : l ≤ 10000) (h0 : h ≤ 10000)
include hl hh l0 h0

theorem firstW_int : IsInt (firstW lo) ((l / 64 : ℕ) : ℤ) := by
  have := fdivW_nonneg hl (ofNat 64 ⟨rfl, by norm_num⟩) (by positivity) (by norm_num)
  exact relit this (by push_cast; rfl)

theorem lastW_int : IsInt (lastW hi) ((min ((h + 63) / 64) 156 : ℕ) : ℤ) := by
  have a := addi hh (ofNat 64 ⟨rfl, by norm_num⟩) (e := h + 64) ⟨rfl, by omega, by omega⟩
  have b := subi a (ofNat 1 ⟨rfl, by norm_num⟩) (e := h + 63) ⟨by push_cast; ring, by omega, by omega⟩
  have c := fdivW_nonneg b (ofNat 64 ⟨rfl, by norm_num⟩) (by positivity) (by norm_num)
  exact minsi c (ofNat 156 ⟨rfl, by norm_num⟩) (by push_cast; rfl)

theorem numW_int : IsInt (numW lo hi) (((min ((h + 63) / 64) 156 : ℕ) : ℤ) - ((l / 64 : ℕ) : ℤ)) :=
  subi (lastW_int hl hh l0 h0) (firstW_int hl hh l0 h0) ⟨rfl, by omega, by omega⟩

theorem roundsW_int : IsInt (roundsW lo hi) ((((min ((h + 63) / 64) 156 : ℕ) : ℤ) - ((l / 64 : ℕ) : ℤ) + 1) / 2) := by
  have a := addi (numW_int hl hh l0 h0) (ofNat 2 ⟨rfl, by norm_num⟩) (e := ((min ((h + 63) / 64) 156 : ℕ) : ℤ) - ((l / 64 : ℕ) : ℤ) + 2)
    ⟨rfl, by omega, by omega⟩
  have b := subi a (ofNat 1 ⟨rfl, by norm_num⟩) (e := ((min ((h + 63) / 64) 156 : ℕ) : ℤ) - ((l / 64 : ℕ) : ℤ) + 1)
    ⟨by push_cast; ring, by omega, by omega⟩
  have c := fdivW_two b (by omega)
  exact subi c (ofNat 0 ⟨rfl, by norm_num⟩) ⟨by push_cast; ring, by omega, by omega⟩

end Bounds

theorem tileLo_int (i : grid0.Coords) : IsInt (tileLo i) (((2 * (i 1).val + (i 0).val) * 32 : ℕ) : ℤ) := by
  have h0 : (i 0).val < 2 := (i 0).isLt
  have h1 : (i 1).val < 16 := (i 1).isLt
  have a := muli (ofNat (i 1).val ⟨rfl, by omega⟩) (ofNat 2 ⟨rfl, by norm_num⟩) (e := 2 * (i 1).val) ⟨by ring, by omega, by omega⟩
  have b := addi a (ofNat (i 0).val ⟨rfl, by omega⟩) (e := 2 * (i 1).val + (i 0).val) ⟨by push_cast; ring, by omega, by omega⟩
  exact muli b (ofNat 32 ⟨rfl, by norm_num⟩) ⟨by push_cast; ring, by omega, by omega⟩

theorem tileHi_int (i : grid0.Coords) : IsInt (tileHi i) (((2 * (i 1).val + (i 0).val) * 32 + 32 : ℕ) : ℤ) := by
  have h0 : (i 0).val < 2 := (i 0).isLt
  have h1 : (i 1).val < 16 := (i 1).isLt
  exact addi (tileLo_int i) (ofNat 32 ⟨rfl, by norm_num⟩) ⟨by push_cast; ring, by omega, by omega⟩

/-- A flag widened and tested is the flag. -/
theorem flag_iff (c : BitVec 1) : Scalar.cmpi .ne (Scalar.extui c) 0#32 = 1#1 ↔ c = 1#1 := by
  rcases BitVec.eq_zero_or_eq_one c with rfl | rfl <;> decide

theorem slt_iff {a b : BitVec 32} {ea eb : ℤ} (ha : IsInt a ea) (hb : IsInt b eb) : Scalar.cmpi .slt a b = 1#1 ↔ ea < eb :=
  ⟨fun h => by_contra fun hn => slt_fails ha hb hn h, slt_holds ha hb⟩
theorem sgt_iff {a b : BitVec 32} {ea eb : ℤ} (ha : IsInt a ea) (hb : IsInt b eb) : Scalar.cmpi .sgt a b = 1#1 ↔ eb < ea :=
  ⟨fun h => by_contra fun hn => sgt_fails ha hb hn h, sgt_holds ha hb⟩

/-! ## The offsets and conditions of the loop -/

/-- The first chunk and the end of the chunks. -/
abbrev cF (l : ℕ) : ℕ := l / 64
abbrev cE (h : ℕ) : ℕ := min ((h + 63) / 64) 156

theorem cE_le (h : ℕ) : cE h ≤ 156 := Nat.min_le_right _ _
theorem cF_le {l : ℕ} (l0 : l ≤ 10000) : cF l ≤ 156 := by show l / 64 ≤ 156; omega

/-- A chunk's rows are the array's. -/
theorem inb_chunk {o : Fin 2 → ℕ} {c h : ℕ} (ho : o = ![64 * c, 0]) (hc : c < cE h) : ∀ a, o a + S64x512.size a ≤ S10000x512.size a := by
  subst ho
  intro a
  match a with
  | ⟨0, _⟩ => show 64 * c + 64 ≤ 10000; have := cE_le h; omega
  | ⟨1, _⟩ => show 0 + 512 ≤ 512; omega

theorem inb_group {N : ℕ} {o : Fin 1 → ℕ} {s : Fin 1 → ℕ} {c u : ℕ} (ho : o = ![64 * c + 16 * u]) (hs : s 0 = N) (hc : c < 156) (hu : u < 4)
    (hN : 10000 ≤ N) : ∀ a, o a + S16.size a ≤ s a := by
  subst ho
  intro a
  match a with
  | ⟨0, _⟩ => show 64 * c + 16 * u + 16 ≤ s 0; omega

section Loop
variable (i : grid0.Coords) (v66_0 v74 v79 v84 v89 v94 v99 v104 v109 v114 v119 v124 v129 v134 v139 v144 v149 v158_0 v166 v171 v176 v181 v186 v191 v196 v201 v206 v211 v216 v221 v226 v231 v236 v241 : BitVec 32)

/-- The node the tile starts from, in the words the program passes on, -/
abbrev loW : BitVec 32 := bndW (tileLo i) v66_0 [v74, v79, v84, v89, v94, v99, v104, v109, v114, v119, v124, v129, v134, v139, v144, v149]
/-- and the node it ends at. -/
abbrev hiW : BitVec 32 := bndW (tileHi i) v158_0 [v166, v171, v176, v181, v186, v191, v196, v201, v206, v211, v216, v221, v226, v231, v236, v241]

theorem loop_eq : k0_t4_loop i v66_0 v74 v79 v84 v89 v94 v99 v104 v109 v114 v119 v124 v129 v134 v139 v144 v149 v158_0 v166 v171 v176 v181 v186 v191 v196 v201 v206 v211 v216 v221 v226 v231 v236 v241
    = ⟨0#32, Scalar.addi 0#32 (Scalar.muli (Scalar.divsi (roundsW (loW i v66_0 v74 v79 v84 v89 v94 v99 v104 v109 v114 v119 v124 v129 v134 v139 v144 v149) (hiW i v158_0 v166 v171 v176 v181 v186 v191 v196 v201 v206 v211 v216 v221 v226 v231 v236 v241)) 1#32) 1#32), 1#32⟩ := rfl
theorem rest_eq : k0_t39_loop i v66_0 v74 v79 v84 v89 v94 v99 v104 v109 v114 v119 v124 v129 v134 v139 v144 v149 v158_0 v166 v171 v176 v181 v186 v191 v196 v201 v206 v211 v216 v221 v226 v231 v236 v241
    = ⟨Scalar.addi 0#32 (Scalar.muli (Scalar.divsi (roundsW (loW i v66_0 v74 v79 v84 v89 v94 v99 v104 v109 v114 v119 v124 v129 v134 v139 v144 v149) (hiW i v158_0 v166 v171 v176 v181 v186 v191 v196 v201 v206 v211 v216 v221 v226 v231 v236 v241)) 1#32) 1#32),
        Scalar.addi 0#32 (roundsW (loW i v66_0 v74 v79 v84 v89 v94 v99 v104 v109 v114 v119 v124 v129 v134 v139 v144 v149) (hiW i v158_0 v166 v171 v176 v181 v186 v191 v196 v201 v206 v211 v216 v221 v226 v231 v236 v241)), 1#32⟩ := rfl

variable {l h : ℕ} (hl : IsInt (loW i v66_0 v74 v79 v84 v89 v94 v99 v104 v109 v114 v119 v124 v129 v134 v139 v144 v149) l) (hh : IsInt (hiW i v158_0 v166 v171 v176 v181 v186 v191 v196 v201 v206 v211 v216 v221 v226 v231 v236 v241) h) (l0 : l ≤ 10000) (h0 : h ≤ 10000)

include hl hh l0 h0

theorem round_ub : IsInt (Scalar.addi 0#32 (Scalar.muli (Scalar.divsi (roundsW (loW i v66_0 v74 v79 v84 v89 v94 v99 v104 v109 v114 v119 v124 v129 v134 v139 v144 v149) (hiW i v158_0 v166 v171 v176 v181 v186 v191 v196 v201 v206 v211 v216 v221 v226 v231 v236 v241)) 1#32) 1#32))
    (((cE h : ℤ) - cF l + 1) / 2) := by
  have r := roundsW_int hl hh l0 h0
  have o : IsInt (1#32) 1 := ofNat 1 ⟨rfl, by norm_num⟩
  have a := divsi_one r o ⟨rfl, rfl⟩
  have b := muli a o ⟨(mul_one _).symm, by have := cE_le h; have := cF_le l0; omega, by have := cE_le h; have := cF_le l0; omega⟩
  exact addi (ofNat 0 ⟨rfl, by norm_num⟩) b ⟨(zero_add _).symm, by have := cE_le h; have := cF_le l0; omega, by have := cE_le h; have := cF_le l0; omega⟩

theorem rounds_trips : (k0_t4_loop i v66_0 v74 v79 v84 v89 v94 v99 v104 v109 v114 v119 v124 v129 v134 v139 v144 v149 v158_0 v166 v171 v176 v181 v186 v191 v196 v201 v206 v211 v216 v221 v226 v231 v236 v241).trips = (cE h + 1 - cF l) / 2 := by
  rw [loop_eq]
  have u := round_ub i v66_0 v74 v79 v84 v89 v94 v99 v104 v109 v114 v119 v124 v129 v134 v139 v144 v149 v158_0 v166 v171 v176 v181 v186 v191 v196 v201 v206 v211 v216 v221 v226 v231 v236 v241 hl hh l0 h0
  have u' := int_iff.1 u
  have z : (0#32).toInt = 0 := rfl
  have o : (1#32).toInt = 1 := rfl
  show Scf.trips (0#32) _ (1#32) = _
  rw [Scf.trips, u', z, o]
  omega

theorem rounds_ok : (k0_t4_loop i v66_0 v74 v79 v84 v89 v94 v99 v104 v109 v114 v119 v124 v129 v134 v139 v144 v149 v158_0 v166 v171 v176 v181 v186 v191 v196 v201 v206 v211 v216 v221 v226 v231 v236 v241).OK := by
  rw [loop_eq]
  have u := round_ub i v66_0 v74 v79 v84 v89 v94 v99 v104 v109 v114 v119 v124 v129 v134 v139 v144 v149 v158_0 v166 v171 v176 v181 v186 v191 v196 v201 v206 v211 v216 v221 v226 v231 v236 v241 hl hh l0 h0
  exact Affine.ok (ofNat 0 ⟨rfl, by norm_num⟩) u (ofNat 1 ⟨rfl, by norm_num⟩) ⟨by norm_num, by have := cE_le h; have := cF_le l0; omega⟩

theorem rest_ub : IsInt (Scalar.addi 0#32 (roundsW (loW i v66_0 v74 v79 v84 v89 v94 v99 v104 v109 v114 v119 v124 v129 v134 v139 v144 v149) (hiW i v158_0 v166 v171 v176 v181 v186 v191 v196 v201 v206 v211 v216 v221 v226 v231 v236 v241))) (((cE h : ℤ) - cF l + 1) / 2) :=
  addi (ofNat 0 ⟨rfl, by norm_num⟩) (roundsW_int hl hh l0 h0) ⟨(zero_add _).symm, by have := cE_le h; have := cF_le l0; omega, by have := cE_le h; have := cF_le l0; omega⟩

/-- The loop over what the rounds leave has no trips. -/
theorem rest_trips : (k0_t39_loop i v66_0 v74 v79 v84 v89 v94 v99 v104 v109 v114 v119 v124 v129 v134 v139 v144 v149 v158_0 v166 v171 v176 v181 v186 v191 v196 v201 v206 v211 v216 v221 v226 v231 v236 v241).trips = 0 := by
  rw [rest_eq]
  exact Affine.trips_eq (round_ub i v66_0 v74 v79 v84 v89 v94 v99 v104 v109 v114 v119 v124 v129 v134 v139 v144 v149 v158_0 v166 v171 v176 v181 v186 v191 v196 v201 v206 v211 v216 v221 v226 v231 v236 v241 hl hh l0 h0) (rest_ub i v66_0 v74 v79 v84 v89 v94 v99 v104 v109 v114 v119 v124 v129 v134 v139 v144 v149 v158_0 v166 v171 v176 v181 v186 v191 v196 v201 v206 v211 v216 v221 v226 v231 v236 v241 hl hh l0 h0) (ofNat 1 ⟨rfl, by norm_num⟩) 0 ⟨by norm_num, by have := cE_le h; have := cF_le l0; omega⟩

theorem rest_ok : (k0_t39_loop i v66_0 v74 v79 v84 v89 v94 v99 v104 v109 v114 v119 v124 v129 v134 v139 v144 v149 v158_0 v166 v171 v176 v181 v186 v191 v196 v201 v206 v211 v216 v221 v226 v231 v236 v241).OK := by
  rw [rest_eq]
  exact Affine.ok (round_ub i v66_0 v74 v79 v84 v89 v94 v99 v104 v109 v114 v119 v124 v129 v134 v139 v144 v149 v158_0 v166 v171 v176 v181 v186 v191 v196 v201 v206 v211 v216 v221 v226 v231 v236 v241 hl hh l0 h0) (rest_ub i v66_0 v74 v79 v84 v89 v94 v99 v104 v109 v114 v119 v124 v129 v134 v139 v144 v149 v158_0 v166 v171 v176 v181 v186 v191 v196 v201 v206 v211 v216 v221 v226 v231 v236 v241 hl hh l0 h0) (ofNat 1 ⟨rfl, by norm_num⟩) ⟨by norm_num, by have := cE_le h; have := cF_le l0; omega⟩

theorem cond1_iff : k0_cond1 i v66_0 v74 v79 v84 v89 v94 v99 v104 v109 v114 v119 v124 v129 v134 v139 v144 v149 v158_0 v166 v171 v176 v181 v186 v191 v196 v201 v206 v211 v216 v221 v226 v231 v236 v241 = 1#1 ↔ cF l < cE h := by
  refine (flag_iff _).trans ((sgt_iff (numW_int hl hh l0 h0) (ofNat 0 ⟨rfl, by norm_num⟩)).trans ?_)
  show ((0 : ℕ) : ℤ) < (cE h : ℤ) - (cF l : ℤ) ↔ cF l < cE h
  have := cE_le h; have := cF_le l0
  omega
theorem cond2_iff : k0_cond2 i v66_0 v74 v79 v84 v89 v94 v99 v104 v109 v114 v119 v124 v129 v134 v139 v144 v149 v158_0 v166 v171 v176 v181 v186 v191 v196 v201 v206 v211 v216 v221 v226 v231 v236 v241 = 1#1 ↔ cF l + 1 < cE h := by
  refine (flag_iff _).trans ((sgt_iff (numW_int hl hh l0 h0) (ofNat 1 ⟨rfl, by norm_num⟩)).trans ?_)
  show ((1 : ℕ) : ℤ) < (cE h : ℤ) - (cF l : ℤ) ↔ cF l + 1 < cE h
  have := cE_le h; have := cF_le l0
  omega

/-- Chunk `k` of the first two. -/
theorem start_int (k : ℕ) (hk : k ≤ 3) : IsInt (Scalar.muli (Scalar.addi (firstW (loW i v66_0 v74 v79 v84 v89 v94 v99 v104 v109 v114 v119 v124 v129 v134 v139 v144 v149)) (BitVec.ofNat 32 k)) 64#32) ((64 * (cF l + k) : ℕ) : ℤ) := by
  have a := addi (firstW_int hl hh l0 h0) (ofNat k ⟨rfl, by have := cE_le h; have := cF_le l0; omega⟩) (e := ((cF l + k : ℕ) : ℤ)) ⟨by push_cast; rfl, by have := cE_le h; have := cF_le l0; omega, by have := cE_le h; have := cF_le l0; omega⟩
  exact muli a (ofNat 64 ⟨rfl, by norm_num⟩) ⟨by push_cast; ring, by have := cE_le h; have := cF_le l0; omega, by have := cE_le h; have := cF_le l0; omega⟩

theorem off37_eq : k0_off37 i v66_0 v74 v79 v84 v89 v94 v99 v104 v109 v114 v119 v124 v129 v134 v139 v144 v149 = ![64 * cF l, 0] :=
  vec_cons (start_int i v66_0 v74 v79 v84 v89 v94 v99 v104 v109 v114 v119 v124 v129 v134 v139 v144 v149 v158_0 v166 v171 v176 v181 v186 v191 v196 v201 v206 v211 v216 v221 v226 v231 v236 v241 hl hh l0 h0 0 (by norm_num)) rfl rfl
theorem off38_eq : k0_off38 i v66_0 v74 v79 v84 v89 v94 v99 v104 v109 v114 v119 v124 v129 v134 v139 v144 v149 = ![64 * (cF l + 1), 0] :=
  vec_cons (start_int i v66_0 v74 v79 v84 v89 v94 v99 v104 v109 v114 v119 v124 v129 v134 v139 v144 v149 v158_0 v166 v171 v176 v181 v186 v191 v196 v201 v206 v211 v216 v221 v226 v231 v236 v241 hl hh l0 h0 1 (by norm_num)) rfl rfl

/-- Round `t`'s chunk for buffer `b`. -/
theorem chunk_int {b : ℕ} (hb : b ≤ 1) {t : ℕ} (ht : t < (k0_t4_loop i v66_0 v74 v79 v84 v89 v94 v99 v104 v109 v114 v119 v124 v129 v134 v139 v144 v149 v158_0 v166 v171 v176 v181 v186 v191 v196 v201 v206 v211 v216 v221 v226 v231 v236 v241).trips) :
    IsInt (Scalar.addi (Scalar.addi (firstW (loW i v66_0 v74 v79 v84 v89 v94 v99 v104 v109 v114 v119 v124 v129 v134 v139 v144 v149)) (Scalar.muli 2#32 (Scf.iv 0#32 1#32 t))) (BitVec.ofNat 32 b))
      ((cF l + 2 * t + b : ℕ) : ℤ) := by
  rw [rounds_trips i v66_0 v74 v79 v84 v89 v94 v99 v104 v109 v114 v119 v124 v129 v134 v139 v144 v149 v158_0 v166 v171 v176 v181 v186 v191 v196 v201 v206 v211 v216 v221 v226 v231 v236 v241 hl hh l0 h0] at ht
  have a := iv (ofNat 0 (e := 0) ⟨rfl, by norm_num⟩) (ofNat 1 (e := 1) ⟨rfl, by norm_num⟩) t (e := t) ⟨by push_cast; ring, by have := cE_le h; have := cF_le l0; omega, by have := cE_le h; have := cF_le l0; omega⟩
  have m := muli (ofNat 2 ⟨rfl, by norm_num⟩) a (e := 2 * t) ⟨by push_cast; rfl, by have := cE_le h; have := cF_le l0; omega, by have := cE_le h; have := cF_le l0; omega⟩
  have c := addi (firstW_int hl hh l0 h0) m (e := ((cF l + 2 * t : ℕ) : ℤ)) ⟨by push_cast; rfl, by have := cE_le h; have := cF_le l0; omega, by have := cE_le h; have := cF_le l0; omega⟩
  exact addi c (ofNat b ⟨rfl, by have := cE_le h; have := cF_le l0; omega⟩) ⟨by push_cast; rfl, by have := cE_le h; have := cF_le l0; omega, by have := cE_le h; have := cF_le l0; omega⟩

/-- Its next chunk, two on. -/
theorem next_int {b : ℕ} (hb : b ≤ 1) {t : ℕ} (ht : t < (k0_t4_loop i v66_0 v74 v79 v84 v89 v94 v99 v104 v109 v114 v119 v124 v129 v134 v139 v144 v149 v158_0 v166 v171 v176 v181 v186 v191 v196 v201 v206 v211 v216 v221 v226 v231 v236 v241).trips) :
    IsInt (Scalar.addi (Scalar.addi (Scalar.addi (firstW (loW i v66_0 v74 v79 v84 v89 v94 v99 v104 v109 v114 v119 v124 v129 v134 v139 v144 v149)) (Scalar.muli 2#32 (Scf.iv 0#32 1#32 t))) (BitVec.ofNat 32 b)) 2#32)
      ((cF l + 2 * (t + 1) + b : ℕ) : ℤ) := by
  have h' := ht
  rw [rounds_trips i v66_0 v74 v79 v84 v89 v94 v99 v104 v109 v114 v119 v124 v129 v134 v139 v144 v149 v158_0 v166 v171 v176 v181 v186 v191 v196 v201 v206 v211 v216 v221 v226 v231 v236 v241 hl hh l0 h0] at h'
  exact addi (chunk_int i v66_0 v74 v79 v84 v89 v94 v99 v104 v109 v114 v119 v124 v129 v134 v139 v144 v149 v158_0 v166 v171 v176 v181 v186 v191 v196 v201 v206 v211 v216 v221 v226 v231 v236 v241 hl hh l0 h0 hb ht) (ofNat 2 ⟨rfl, by norm_num⟩) ⟨by push_cast; ring, by have := cE_le h; have := cF_le l0; omega, by have := cE_le h; have := cF_le l0; omega⟩

/-- Where its rows start, -/
theorem row_int {b : ℕ} (hb : b ≤ 1) {t : ℕ} (ht : t < (k0_t4_loop i v66_0 v74 v79 v84 v89 v94 v99 v104 v109 v114 v119 v124 v129 v134 v139 v144 v149 v158_0 v166 v171 v176 v181 v186 v191 v196 v201 v206 v211 v216 v221 v226 v231 v236 v241).trips) :
    IsInt (Scalar.muli (Scalar.addi (Scalar.addi (firstW (loW i v66_0 v74 v79 v84 v89 v94 v99 v104 v109 v114 v119 v124 v129 v134 v139 v144 v149)) (Scalar.muli 2#32 (Scf.iv 0#32 1#32 t))) (BitVec.ofNat 32 b)) 64#32)
      ((64 * (cF l + 2 * t + b) : ℕ) : ℤ) := by
  have h' := ht
  rw [rounds_trips i v66_0 v74 v79 v84 v89 v94 v99 v104 v109 v114 v119 v124 v129 v134 v139 v144 v149 v158_0 v166 v171 v176 v181 v186 v191 v196 v201 v206 v211 v216 v221 v226 v231 v236 v241 hl hh l0 h0] at h'
  exact muli (chunk_int i v66_0 v74 v79 v84 v89 v94 v99 v104 v109 v114 v119 v124 v129 v134 v139 v144 v149 v158_0 v166 v171 v176 v181 v186 v191 v196 v201 v206 v211 v216 v221 v226 v231 v236 v241 hl hh l0 h0 hb ht) (ofNat 64 ⟨rfl, by norm_num⟩) ⟨by push_cast; ring, by have := cE_le h; have := cF_le l0; omega, by have := cE_le h; have := cF_le l0; omega⟩

theorem next_row_int {b : ℕ} (hb : b ≤ 1) {t : ℕ} (ht : t < (k0_t4_loop i v66_0 v74 v79 v84 v89 v94 v99 v104 v109 v114 v119 v124 v129 v134 v139 v144 v149 v158_0 v166 v171 v176 v181 v186 v191 v196 v201 v206 v211 v216 v221 v226 v231 v236 v241).trips) :
    IsInt (Scalar.muli (Scalar.addi (Scalar.addi (Scalar.addi (firstW (loW i v66_0 v74 v79 v84 v89 v94 v99 v104 v109 v114 v119 v124 v129 v134 v139 v144 v149)) (Scalar.muli 2#32 (Scf.iv 0#32 1#32 t))) (BitVec.ofNat 32 b)) 2#32) 64#32)
      ((64 * (cF l + 2 * (t + 1) + b) : ℕ) : ℤ) := by
  have h' := ht
  rw [rounds_trips i v66_0 v74 v79 v84 v89 v94 v99 v104 v109 v114 v119 v124 v129 v134 v139 v144 v149 v158_0 v166 v171 v176 v181 v186 v191 v196 v201 v206 v211 v216 v221 v226 v231 v236 v241 hl hh l0 h0] at h'
  exact muli (next_int i v66_0 v74 v79 v84 v89 v94 v99 v104 v109 v114 v119 v124 v129 v134 v139 v144 v149 v158_0 v166 v171 v176 v181 v186 v191 v196 v201 v206 v211 v216 v221 v226 v231 v236 v241 hl hh l0 h0 hb ht) (ofNat 64 ⟨rfl, by norm_num⟩) ⟨by push_cast; ring, by have := cE_le h; have := cF_le l0; omega, by have := cE_le h; have := cF_le l0; omega⟩

/-- and its group `u`'s. -/
theorem group_int {b : ℕ} (hb : b ≤ 1) {t : ℕ} (ht : t < (k0_t4_loop i v66_0 v74 v79 v84 v89 v94 v99 v104 v109 v114 v119 v124 v129 v134 v139 v144 v149 v158_0 v166 v171 v176 v181 v186 v191 v196 v201 v206 v211 v216 v221 v226 v231 v236 v241).trips) {u : ℕ} (hu : u < 4) :
    IsInt (Scalar.indexCast (Scalar.addi
        (Scalar.muli (Scalar.addi (Scalar.addi (firstW (loW i v66_0 v74 v79 v84 v89 v94 v99 v104 v109 v114 v119 v124 v129 v134 v139 v144 v149)) (Scalar.muli 2#32 (Scf.iv 0#32 1#32 t))) (BitVec.ofNat 32 b)) 64#32)
        (Scalar.muli (Scf.iv 0#32 1#32 u) 16#32)))
      ((64 * (cF l + 2 * t + b) + 16 * u : ℕ) : ℤ) := by
  have h' := ht
  rw [rounds_trips i v66_0 v74 v79 v84 v89 v94 v99 v104 v109 v114 v119 v124 v129 v134 v139 v144 v149 v158_0 v166 v171 v176 v181 v186 v191 v196 v201 v206 v211 v216 v221 v226 v231 v236 v241 hl hh l0 h0] at h'
  have a := iv (ofNat 0 (e := 0) ⟨rfl, by norm_num⟩) (ofNat 1 (e := 1) ⟨rfl, by norm_num⟩) u (e := u) ⟨by push_cast; ring, by have := cE_le h; have := cF_le l0; omega, by have := cE_le h; have := cF_le l0; omega⟩
  have m := muli a (ofNat 16 ⟨rfl, by norm_num⟩) (e := 16 * u) ⟨by push_cast; ring, by have := cE_le h; have := cF_le l0; omega, by have := cE_le h; have := cF_le l0; omega⟩
  exact indexCast (addi (row_int i v66_0 v74 v79 v84 v89 v94 v99 v104 v109 v114 v119 v124 v129 v134 v139 v144 v149 v158_0 v166 v171 v176 v181 v186 v191 v196 v201 v206 v211 v216 v221 v226 v231 v236 v241 hl hh l0 h0 hb ht) m ⟨by push_cast; rfl, by have := cE_le h; have := cF_le l0; omega, by have := cE_le h; have := cF_le l0; omega⟩)

variable (t : Fin (k0_t4_loop i v66_0 v74 v79 v84 v89 v94 v99 v104 v109 v114 v119 v124 v129 v134 v139 v144 v149 v158_0 v166 v171 v176 v181 v186 v191 v196 v201 v206 v211 v216 v221 v226 v231 v236 v241).trips)

theorem cond3_iff : k0_cond3 i v66_0 v74 v79 v84 v89 v94 v99 v104 v109 v114 v119 v124 v129 v134 v139 v144 v149 v158_0 v166 v171 v176 v181 v186 v191 v196 v201 v206 v211 v216 v221 v226 v231 v236 v241 t = 1#1 ↔ cF l + 2 * t.val + 0 < cE h :=
  (flag_iff _).trans ((slt_iff (chunk_int i v66_0 v74 v79 v84 v89 v94 v99 v104 v109 v114 v119 v124 v129 v134 v139 v144 v149 v158_0 v166 v171 v176 v181 v186 v191 v196 v201 v206 v211 v216 v221 v226 v231 v236 v241 hl hh l0 h0 (b := 0) (by norm_num) t.isLt) (lastW_int hl hh l0 h0)).trans Int.ofNat_lt)
theorem cond5_iff : k0_cond5 i v66_0 v74 v79 v84 v89 v94 v99 v104 v109 v114 v119 v124 v129 v134 v139 v144 v149 v158_0 v166 v171 v176 v181 v186 v191 v196 v201 v206 v211 v216 v221 v226 v231 v236 v241 t = 1#1 ↔ cF l + 2 * t.val + 1 < cE h :=
  (flag_iff _).trans ((slt_iff (chunk_int i v66_0 v74 v79 v84 v89 v94 v99 v104 v109 v114 v119 v124 v129 v134 v139 v144 v149 v158_0 v166 v171 v176 v181 v186 v191 v196 v201 v206 v211 v216 v221 v226 v231 v236 v241 hl hh l0 h0 (b := 1) (by norm_num) t.isLt) (lastW_int hl hh l0 h0)).trans Int.ofNat_lt)
theorem cond4_iff : k0_cond4 i v66_0 v74 v79 v84 v89 v94 v99 v104 v109 v114 v119 v124 v129 v134 v139 v144 v149 v158_0 v166 v171 v176 v181 v186 v191 v196 v201 v206 v211 v216 v221 v226 v231 v236 v241 t = 1#1 ↔ cF l + 2 * (t.val + 1) + 0 < cE h :=
  (flag_iff _).trans ((slt_iff (next_int i v66_0 v74 v79 v84 v89 v94 v99 v104 v109 v114 v119 v124 v129 v134 v139 v144 v149 v158_0 v166 v171 v176 v181 v186 v191 v196 v201 v206 v211 v216 v221 v226 v231 v236 v241 hl hh l0 h0 (b := 0) (by norm_num) t.isLt) (lastW_int hl hh l0 h0)).trans Int.ofNat_lt)
theorem cond6_iff : k0_cond6 i v66_0 v74 v79 v84 v89 v94 v99 v104 v109 v114 v119 v124 v129 v134 v139 v144 v149 v158_0 v166 v171 v176 v181 v186 v191 v196 v201 v206 v211 v216 v221 v226 v231 v236 v241 t = 1#1 ↔ cF l + 2 * (t.val + 1) + 1 < cE h :=
  (flag_iff _).trans ((slt_iff (next_int i v66_0 v74 v79 v84 v89 v94 v99 v104 v109 v114 v119 v124 v129 v134 v139 v144 v149 v158_0 v166 v171 v176 v181 v186 v191 v196 v201 v206 v211 v216 v221 v226 v231 v236 v241 hl hh l0 h0 (b := 1) (by norm_num) t.isLt) (lastW_int hl hh l0 h0)).trans Int.ofNat_lt)

theorem off39_eq : k0_off39 i v66_0 v74 v79 v84 v89 v94 v99 v104 v109 v114 v119 v124 v129 v134 v139 v144 v149 v158_0 v166 v171 v176 v181 v186 v191 v196 v201 v206 v211 v216 v221 v226 v231 v236 v241 t = ![64 * (cF l + 2 * t.val + 0), 0] :=
  vec_cons (row_int i v66_0 v74 v79 v84 v89 v94 v99 v104 v109 v114 v119 v124 v129 v134 v139 v144 v149 v158_0 v166 v171 v176 v181 v186 v191 v196 v201 v206 v211 v216 v221 v226 v231 v236 v241 hl hh l0 h0 (b := 0) (by norm_num) t.isLt) rfl rfl
theorem off107_eq : k0_off107 i v66_0 v74 v79 v84 v89 v94 v99 v104 v109 v114 v119 v124 v129 v134 v139 v144 v149 v158_0 v166 v171 v176 v181 v186 v191 v196 v201 v206 v211 v216 v221 v226 v231 v236 v241 t = ![64 * (cF l + 2 * t.val + 1), 0] :=
  vec_cons (row_int i v66_0 v74 v79 v84 v89 v94 v99 v104 v109 v114 v119 v124 v129 v134 v139 v144 v149 v158_0 v166 v171 v176 v181 v186 v191 v196 v201 v206 v211 v216 v221 v226 v231 v236 v241 hl hh l0 h0 (b := 1) (by norm_num) t.isLt) rfl rfl
theorem off106_eq : k0_off106 i v66_0 v74 v79 v84 v89 v94 v99 v104 v109 v114 v119 v124 v129 v134 v139 v144 v149 v158_0 v166 v171 v176 v181 v186 v191 v196 v201 v206 v211 v216 v221 v226 v231 v236 v241 t = ![64 * (cF l + 2 * (t.val + 1) + 0), 0] :=
  vec_cons (next_row_int i v66_0 v74 v79 v84 v89 v94 v99 v104 v109 v114 v119 v124 v129 v134 v139 v144 v149 v158_0 v166 v171 v176 v181 v186 v191 v196 v201 v206 v211 v216 v221 v226 v231 v236 v241 hl hh l0 h0 (b := 0) (by norm_num) t.isLt) rfl rfl
theorem off174_eq : k0_off174 i v66_0 v74 v79 v84 v89 v94 v99 v104 v109 v114 v119 v124 v129 v134 v139 v144 v149 v158_0 v166 v171 v176 v181 v186 v191 v196 v201 v206 v211 v216 v221 v226 v231 v236 v241 t = ![64 * (cF l + 2 * (t.val + 1) + 1), 0] :=
  vec_cons (next_row_int i v66_0 v74 v79 v84 v89 v94 v99 v104 v109 v114 v119 v124 v129 v134 v139 v144 v149 v158_0 v166 v171 v176 v181 v186 v191 v196 v201 v206 v211 v216 v221 v226 v231 v236 v241 hl hh l0 h0 (b := 1) (by norm_num) t.isLt) rfl rfl

theorem off40_eq (u : Fin k0_t5_loop.trips) : k0_off40 i v66_0 v74 v79 v84 v89 v94 v99 v104 v109 v114 v119 v124 v129 v134 v139 v144 v149 v158_0 v166 v171 v176 v181 v186 v191 v196 v201 v206 v211 v216 v221 v226 v231 v236 v241 t u = ![64 * (cF l + 2 * t.val + 0) + 16 * u.val] :=
  vec_cons (group_int i v66_0 v74 v79 v84 v89 v94 v99 v104 v109 v114 v119 v124 v129 v134 v139 v144 v149 v158_0 v166 v171 v176 v181 v186 v191 v196 v201 v206 v211 v216 v221 v226 v231 v236 v241 hl hh l0 h0 (b := 0) (by norm_num) t.isLt u.isLt) rfl rfl
theorem off41_eq (u : Fin k0_t5_loop.trips) : k0_off41 i v66_0 v74 v79 v84 v89 v94 v99 v104 v109 v114 v119 v124 v129 v134 v139 v144 v149 v158_0 v166 v171 v176 v181 v186 v191 v196 v201 v206 v211 v216 v221 v226 v231 v236 v241 t u = ![64 * (cF l + 2 * t.val + 0) + 16 * u.val] :=
  vec_cons (group_int i v66_0 v74 v79 v84 v89 v94 v99 v104 v109 v114 v119 v124 v129 v134 v139 v144 v149 v158_0 v166 v171 v176 v181 v186 v191 v196 v201 v206 v211 v216 v221 v226 v231 v236 v241 hl hh l0 h0 (b := 0) (by norm_num) t.isLt u.isLt) rfl rfl
theorem off108_eq (u : Fin k0_t22_loop.trips) : k0_off108 i v66_0 v74 v79 v84 v89 v94 v99 v104 v109 v114 v119 v124 v129 v134 v139 v144 v149 v158_0 v166 v171 v176 v181 v186 v191 v196 v201 v206 v211 v216 v221 v226 v231 v236 v241 t u = ![64 * (cF l + 2 * t.val + 1) + 16 * u.val] :=
  vec_cons (group_int i v66_0 v74 v79 v84 v89 v94 v99 v104 v109 v114 v119 v124 v129 v134 v139 v144 v149 v158_0 v166 v171 v176 v181 v186 v191 v196 v201 v206 v211 v216 v221 v226 v231 v236 v241 hl hh l0 h0 (b := 1) (by norm_num) t.isLt u.isLt) rfl rfl
theorem off109_eq (u : Fin k0_t22_loop.trips) : k0_off109 i v66_0 v74 v79 v84 v89 v94 v99 v104 v109 v114 v119 v124 v129 v134 v139 v144 v149 v158_0 v166 v171 v176 v181 v186 v191 v196 v201 v206 v211 v216 v221 v226 v231 v236 v241 t u = ![64 * (cF l + 2 * t.val + 1) + 16 * u.val] :=
  vec_cons (group_int i v66_0 v74 v79 v84 v89 v94 v99 v104 v109 v114 v119 v124 v129 v134 v139 v144 v149 v158_0 v166 v171 v176 v181 v186 v191 v196 v201 v206 v211 v216 v221 v226 v231 v236 v241 hl hh l0 h0 (b := 1) (by norm_num) t.isLt u.isLt) rfl rfl

omit hl l0 t in
theorem cond11_iff : k0_cond11 i v158_0 v166 v171 v176 v181 v186 v191 v196 v201 v206 v211 v216 v221 v226 v231 v236 v241 = 1#1 ↔ 9984 < h := by
  refine (flag_iff _).trans ((sgt_iff hh (ofNat 9984 ⟨rfl, by norm_num⟩)).trans ?_)
  show ((9984 : ℕ) : ℤ) < _ ↔ 9984 < h
  have := cE_le h
  omega

omit t in
/-- Every side condition of the loop's words. -/
theorem chk5_ok : k0_chk5 i v66_0 v74 v79 v84 v89 v94 v99 v104 v109 v114 v119 v124 v129 v134 v139 v144 v149 v158_0 v166 v171 v176 v181 v186 v191 v196 v201 v206 v211 v216 v221 v226 v231 v236 v241 := by
  have none : ∀ {P : Fin (k0_t39_loop i v66_0 v74 v79 v84 v89 v94 v99 v104 v109 v114 v119 v124 v129 v134 v139 v144 v149 v158_0 v166 v171 v176 v181 v186 v191 v196 v201 v206 v211 v216 v221 v226 v231 v236 v241).trips → Prop}, ∀ t, P t := fun t => absurd t.isLt (by have := rest_trips i v66_0 v74 v79 v84 v89 v94 v99 v104 v109 v114 v119 v124 v129 v134 v139 v144 v149 v158_0 v166 v171 v176 v181 v186 v191 v196 v201 v206 v211 v216 v221 v226 v231 v236 v241 hl hh l0 h0; omega)
  refine ⟨fun hc => ?_, fun hc => ?_, rounds_ok i v66_0 v74 v79 v84 v89 v94 v99 v104 v109 v114 v119 v124 v129 v134 v139 v144 v149 v158_0 v166 v171 v176 v181 v186 v191 v196 v201 v206 v211 v216 v221 v226 v231 v236 v241 hl hh l0 h0, fun t hc => ?_, fun t u hc => ?_, fun t u hc => ?_, fun t _ hc => ?_,
    fun t hc => ?_, fun t u hc => ?_, fun t u hc => ?_, fun t _ hc => ?_, rest_ok i v66_0 v74 v79 v84 v89 v94 v99 v104 v109 v114 v119 v124 v129 v134 v139 v144 v149 v158_0 v166 v171 v176 v181 v186 v191 v196 v201 v206 v211 v216 v221 v226 v231 v236 v241 hl hh l0 h0, none, none, none, none, none, none, none, none⟩
  · exact inb_chunk (off37_eq i v66_0 v74 v79 v84 v89 v94 v99 v104 v109 v114 v119 v124 v129 v134 v139 v144 v149 v158_0 v166 v171 v176 v181 v186 v191 v196 v201 v206 v211 v216 v221 v226 v231 v236 v241 hl hh l0 h0) ((cond1_iff i v66_0 v74 v79 v84 v89 v94 v99 v104 v109 v114 v119 v124 v129 v134 v139 v144 v149 v158_0 v166 v171 v176 v181 v186 v191 v196 v201 v206 v211 v216 v221 v226 v231 v236 v241 hl hh l0 h0).1 hc)
  · exact inb_chunk (off38_eq i v66_0 v74 v79 v84 v89 v94 v99 v104 v109 v114 v119 v124 v129 v134 v139 v144 v149 v158_0 v166 v171 v176 v181 v186 v191 v196 v201 v206 v211 v216 v221 v226 v231 v236 v241 hl hh l0 h0) ((cond2_iff i v66_0 v74 v79 v84 v89 v94 v99 v104 v109 v114 v119 v124 v129 v134 v139 v144 v149 v158_0 v166 v171 v176 v181 v186 v191 v196 v201 v206 v211 v216 v221 v226 v231 v236 v241 hl hh l0 h0).1 hc)
  · exact inb_chunk (off39_eq i v66_0 v74 v79 v84 v89 v94 v99 v104 v109 v114 v119 v124 v129 v134 v139 v144 v149 v158_0 v166 v171 v176 v181 v186 v191 v196 v201 v206 v211 v216 v221 v226 v231 v236 v241 hl hh l0 h0 t) ((cond3_iff i v66_0 v74 v79 v84 v89 v94 v99 v104 v109 v114 v119 v124 v129 v134 v139 v144 v149 v158_0 v166 v171 v176 v181 v186 v191 v196 v201 v206 v211 v216 v221 v226 v231 v236 v241 hl hh l0 h0 t).1 hc)
  · exact inb_group (s := S10240.size) (off40_eq i v66_0 v74 v79 v84 v89 v94 v99 v104 v109 v114 v119 v124 v129 v134 v139 v144 v149 v158_0 v166 v171 v176 v181 v186 v191 v196 v201 v206 v211 v216 v221 v226 v231 v236 v241 hl hh l0 h0 t u) rfl (lt_of_lt_of_le ((cond3_iff i v66_0 v74 v79 v84 v89 v94 v99 v104 v109 v114 v119 v124 v129 v134 v139 v144 v149 v158_0 v166 v171 v176 v181 v186 v191 v196 v201 v206 v211 v216 v221 v226 v231 v236 v241 hl hh l0 h0 t).1 hc) (cE_le h)) u.isLt (by norm_num)
  · exact inb_group (s := S10000.size) (off41_eq i v66_0 v74 v79 v84 v89 v94 v99 v104 v109 v114 v119 v124 v129 v134 v139 v144 v149 v158_0 v166 v171 v176 v181 v186 v191 v196 v201 v206 v211 v216 v221 v226 v231 v236 v241 hl hh l0 h0 t u) rfl (lt_of_lt_of_le ((cond3_iff i v66_0 v74 v79 v84 v89 v94 v99 v104 v109 v114 v119 v124 v129 v134 v139 v144 v149 v158_0 v166 v171 v176 v181 v186 v191 v196 v201 v206 v211 v216 v221 v226 v231 v236 v241 hl hh l0 h0 t).1 hc) (cE_le h)) u.isLt (by norm_num)
  · exact inb_chunk (off106_eq i v66_0 v74 v79 v84 v89 v94 v99 v104 v109 v114 v119 v124 v129 v134 v139 v144 v149 v158_0 v166 v171 v176 v181 v186 v191 v196 v201 v206 v211 v216 v221 v226 v231 v236 v241 hl hh l0 h0 t) ((cond4_iff i v66_0 v74 v79 v84 v89 v94 v99 v104 v109 v114 v119 v124 v129 v134 v139 v144 v149 v158_0 v166 v171 v176 v181 v186 v191 v196 v201 v206 v211 v216 v221 v226 v231 v236 v241 hl hh l0 h0 t).1 hc)
  · exact inb_chunk (off107_eq i v66_0 v74 v79 v84 v89 v94 v99 v104 v109 v114 v119 v124 v129 v134 v139 v144 v149 v158_0 v166 v171 v176 v181 v186 v191 v196 v201 v206 v211 v216 v221 v226 v231 v236 v241 hl hh l0 h0 t) ((cond5_iff i v66_0 v74 v79 v84 v89 v94 v99 v104 v109 v114 v119 v124 v129 v134 v139 v144 v149 v158_0 v166 v171 v176 v181 v186 v191 v196 v201 v206 v211 v216 v221 v226 v231 v236 v241 hl hh l0 h0 t).1 hc)
  · exact inb_group (s := S10240.size) (off108_eq i v66_0 v74 v79 v84 v89 v94 v99 v104 v109 v114 v119 v124 v129 v134 v139 v144 v149 v158_0 v166 v171 v176 v181 v186 v191 v196 v201 v206 v211 v216 v221 v226 v231 v236 v241 hl hh l0 h0 t u) rfl (lt_of_lt_of_le ((cond5_iff i v66_0 v74 v79 v84 v89 v94 v99 v104 v109 v114 v119 v124 v129 v134 v139 v144 v149 v158_0 v166 v171 v176 v181 v186 v191 v196 v201 v206 v211 v216 v221 v226 v231 v236 v241 hl hh l0 h0 t).1 hc) (cE_le h)) u.isLt (by norm_num)
  · exact inb_group (s := S10000.size) (off109_eq i v66_0 v74 v79 v84 v89 v94 v99 v104 v109 v114 v119 v124 v129 v134 v139 v144 v149 v158_0 v166 v171 v176 v181 v186 v191 v196 v201 v206 v211 v216 v221 v226 v231 v236 v241 hl hh l0 h0 t u) rfl (lt_of_lt_of_le ((cond5_iff i v66_0 v74 v79 v84 v89 v94 v99 v104 v109 v114 v119 v124 v129 v134 v139 v144 v149 v158_0 v166 v171 v176 v181 v186 v191 v196 v201 v206 v211 v216 v221 v226 v231 v236 v241 hl hh l0 h0 t).1 hc) (cE_le h)) u.isLt (by norm_num)
  · exact inb_chunk (off174_eq i v66_0 v74 v79 v84 v89 v94 v99 v104 v109 v114 v119 v124 v129 v134 v139 v144 v149 v158_0 v166 v171 v176 v181 v186 v191 v196 v201 v206 v211 v216 v221 v226 v231 v236 v241 hl hh l0 h0 t) ((cond6_iff i v66_0 v74 v79 v84 v89 v94 v99 v104 v109 v114 v119 v124 v129 v134 v139 v144 v149 v158_0 v166 v171 v176 v181 v186 v191 v196 v201 v206 v211 v216 v221 v226 v231 v236 v241 hl hh l0 h0 t).1 hc)

end Loop

end Cert.Proof.Pool

end
-- ==== Proof.Do16a.lean ====
/-
  The sixteen rows of a group taken from the first of the two row buffers.
-/
module

public import proofs.«01_k».proof.Proof.Group

@[expose] public section

noncomputable section

namespace Cert.Proof.Pool

open Cert.KernelIdeal Cert.KernelIdeal.Gen
open Idealize.ShloMosaic Idealize.ShloMosaic.ValueIdx
open Idealize.SL Idealize.SL.RA Idealize.SL.BI
open scoped Idealize.SL.BI
open Idealize.SL.BI.BIBase Idealize.SL.BI.Laws Idealize.SL.ProofMode Idealize.SL.Sem

variable {F : FTy → Type} [FloatOps F] {d : Dev nD}

variable (i : grid0.Coords) (arg2 : Memref sig .scVector .hbm S10000x512 .f32) (harg2 : arg2.IsWhole) (arg3 : Memref sig .scVector .hbm S10000 .f32) (harg3 : arg3.IsWhole) (arg4 : Memref sig .scVector .hbm S10000 .i32) (harg4 : arg4.IsWhole) (arg5 : Memref sig .scVector .hbm S1024x512 .f32) (harg5 : arg5.IsWhole) (arg6 : Memref sig .scVector .vmem S64x512 .f32) (harg6 : arg6.IsWhole) (arg7 : Memref sig .scVector .vmem S64x512 .f32) (harg7 : arg7.IsWhole) (arg8 : Memref sig .scVector .vmem S10240 .i32) (harg8 : arg8.IsWhole) (arg9 : Memref sig .scVector .vmem S10000 .f32) (harg9 : arg9.IsWhole) (arg10 : Memref sig .scVector .vmem S32x512 .f32) (harg10 : arg10.IsWhole) (arg11 : DmaSems sig S_) (arg12 : DmaSems sig S_) (v320_r0 : DmaSems sig S_) (v320_r1 : DmaSems sig S_) (v642_r2 : DmaSems sig S_) (v320_r3 : DmaSems sig S_) (v2 : BitVec 32) (v3 : BitVec 32) (v66_0 : BitVec 32) (v74 : BitVec 32) (v79 : BitVec 32) (v84 : BitVec 32) (v89 : BitVec 32) (v94 : BitVec 32) (v99 : BitVec 32) (v104 : BitVec 32) (v109 : BitVec 32) (v114 : BitVec 32) (v119 : BitVec 32) (v124 : BitVec 32) (v129 : BitVec 32) (v134 : BitVec 32) (v139 : BitVec 32) (v144 : BitVec 32) (v149 : BitVec 32) (v158_0 : BitVec 32) (v166 : BitVec 32) (v171 : BitVec 32) (v176 : BitVec 32) (v181 : BitVec 32) (v186 : BitVec 32) (v191 : BitVec 32) (v196 : BitVec 32) (v201 : BitVec 32) (v206 : BitVec 32) (v211 : BitVec 32) (v216 : BitVec 32) (v221 : BitVec 32) (v226 : BitVec 32) (v231 : BitVec 32) (v236 : BitVec 32) (v241 : BitVec 32)

variable {X : S64x512.Idx → F .f32} {B : S10240.Idx → BitVec 32} {L : S10000.Idx → F .f32} {A : Acc F} {R : sProp (MM F)}

set_option maxHeartbeats 4000000 in
theorem group_a (k0_hw5 : k0_chk5 i v66_0 v74 v79 v84 v89 v94 v99 v104 v109 v114 v119 v124 v129 v134 v139 v144 v149 v158_0 v166 v171 v176 v181 v186 v191 v196 v201 v206 v211 v216 v221 v226 v231 v236 v241)
    (k0_t4 : Fin (k0_t4_loop i v66_0 v74 v79 v84 v89 v94 v99 v104 v109 v114 v119 v124 v129 v134 v139 v144 v149 v158_0 v166 v171 v176 v181 v186 v191 v196 v201 v206 v211 v216 v221 v226 v231 v236 v241).trips)
    (k0_h3 : k0_cond3 i v66_0 v74 v79 v84 v89 v94 v99 v104 v109 v114 v119 v124 v129 v134 v139 v144 v149 v158_0 v166 v171 v176 v181 v186 v191 v196 v201 v206 v211 v216 v221 v226 v231 v236 v241 k0_t4 = 1#1)
    (v330 : BitVec 32) (t : Fin k0_t5_loop.trips) (n : ℕ) (hn : n + 16 ≤ 10000)
    (h40 : k0_off40 i v66_0 v74 v79 v84 v89 v94 v99 v104 v109 v114 v119 v124 v129 v134 v139 v144 v149 v158_0 v166 v171 v176 v181 v186 v191 v196 v201 v206 v211 v216 v221 v226 v231 v236 v241 k0_t4 t 0 = n)
    (h41 : k0_off41 i v66_0 v74 v79 v84 v89 v94 v99 v104 v109 v114 v119 v124 v129 v134 v139 v144 v149 v158_0 v166 v171 v176 v181 v186 v191 v196 v201 v206 v211 v216 v221 v226 v231 v236 v241 k0_t4 t 0 = n)
    (x : S10000x512.Idx → F .f32) (b : S10000.Idx → BitVec 32)
    (hB : ∀ j : S10240.Idx, (j 0).val < 10000 → B j = idN b (j 0).val)
    (hX : ∀ k < 16, rowAt X (16 * t.val + k) = rowN x (n + k)) :
    St (c := (i 0).castLE hcore0) (s := (i 1).castLE hsub0) d arg6 arg8 arg9 arg10 X B L A R
      ⊢ twp d (k0_t5_body (F := F) i arg2 harg2 arg3 harg3 arg4 harg4 arg5 harg5 arg6 harg6 arg7 harg7 arg8 harg8 arg9 harg9 arg10 harg10 arg11 arg12 v320_r0 v320_r1 v642_r2 v320_r3 v2 v3 v66_0 v74 v79 v84 v89 v94 v99 v104 v109 v114 v119 v124 v129 v134 v139 v144 v149 v158_0 v166 v171 v176 v181 v186 v191 v196 v201 v206 v211 v216 v221 v226 v231 v236 v241 k0_hw5 k0_t4 k0_h3 v330 t ⟨⟩)
        (fun _ => St (c := (i 0).castLE hcore0) (s := (i 1).castLE hsub0) d arg6 arg8 arg9 arg10 X B L (foldRows v2 v3 x L b A n 16) R) := by
  unfold k0_t5_body
  refine enter ?_
  rw [k0_part5_eq_skeleton]; unfold k0_part5_skel
  refine ld_ids n h40 hB hn ?_
  refine ld_lps n h41 hn ?_
  refine assume_ok ⟨fun t _ => inb_cols (gV_lt v2 _ _) t.isLt, fun _ => inb_last (gV_lt v2 _ _)⟩ ?_
  refine ld_x ?_
  refine row_loop (by decide) rfl (fun _ => rfl) (fun _ => rfl) rfl rfl (fun v hv => ?_)
  refine ld_a ?_
  refine ld_a ?_
  refine leave ?_
  beta_reduce
  iterate 7
    refine enter ?_
    first
      | (rw [k0_part6_eq_skeleton]; unfold k0_part6_skel) | (rw [k0_part7_eq_skeleton]; unfold k0_part7_skel)
      | (rw [k0_part8_eq_skeleton]; unfold k0_part8_skel) | (rw [k0_part9_eq_skeleton]; unfold k0_part9_skel)
      | (rw [k0_part10_eq_skeleton]; unfold k0_part10_skel) | (rw [k0_part11_eq_skeleton]; unfold k0_part11_skel)
      | (rw [k0_part12_eq_skeleton]; unfold k0_part12_skel)
    iterate 2
      refine row_last (by assumption) rfl rfl ?_
      refine assume_ok ⟨fun t _ => inb_cols (gV_lt v2 _ _) t.isLt, fun _ => inb_last (gV_lt v2 _ _)⟩ ?_
      refine ld_x ?_
      refine row_loop (by decide) rfl (fun _ => rfl) (fun _ => rfl) rfl rfl (fun v hv => ?_)
      refine ld_a ?_
      refine ld_a ?_
    refine leave ?_
    beta_reduce
  refine row_last (by assumption) rfl rfl ?_
  refine assume_ok ⟨fun t _ => inb_cols (gV_lt v2 _ _) t.isLt, fun _ => inb_last (gV_lt v2 _ _)⟩ ?_
  refine ld_x ?_
  refine row_loop (by decide) rfl (fun _ => rfl) (fun _ => rfl) rfl rfl (fun v hv => ?_)
  refine ld_a ?_
  refine ld_a ?_
  refine row_last (by assumption) rfl rfl ?_
  refine leave ?_
  rw [← group_eq v2 v3 x L b A X n
    (fun k => (Scalar.indexCast (Scalar.addi (Scalar.muli (Scf.iv 0#32 1#32 t.val) 16#32) (BitVec.ofNat 32 k))).toNat)]
  · exact Entails.rfl
  · intro k hk
    exact (congrArg (rowAt X) (group_row ⟨t.val, t.isLt⟩ ⟨k, hk⟩)).trans (hX k hk)

end Cert.Proof.Pool

end
-- ==== Proof.Do16b.lean ====
/-
  The sixteen rows of a group taken from the second of the two row buffers.
-/
module

public import proofs.«01_k».proof.Proof.Group

@[expose] public section

noncomputable section

namespace Cert.Proof.Pool

open Cert.KernelIdeal Cert.KernelIdeal.Gen
open Idealize.ShloMosaic Idealize.ShloMosaic.ValueIdx
open Idealize.SL Idealize.SL.RA Idealize.SL.BI
open scoped Idealize.SL.BI
open Idealize.SL.BI.BIBase Idealize.SL.BI.Laws Idealize.SL.ProofMode Idealize.SL.Sem

variable {F : FTy → Type} [FloatOps F] {d : Dev nD}

variable (i : grid0.Coords) (arg2 : Memref sig .scVector .hbm S10000x512 .f32) (harg2 : arg2.IsWhole) (arg3 : Memref sig .scVector .hbm S10000 .f32) (harg3 : arg3.IsWhole) (arg4 : Memref sig .scVector .hbm S10000 .i32) (harg4 : arg4.IsWhole) (arg5 : Memref sig .scVector .hbm S1024x512 .f32) (harg5 : arg5.IsWhole) (arg6 : Memref sig .scVector .vmem S64x512 .f32) (harg6 : arg6.IsWhole) (arg7 : Memref sig .scVector .vmem S64x512 .f32) (harg7 : arg7.IsWhole) (arg8 : Memref sig .scVector .vmem S10240 .i32) (harg8 : arg8.IsWhole) (arg9 : Memref sig .scVector .vmem S10000 .f32) (harg9 : arg9.IsWhole) (arg10 : Memref sig .scVector .vmem S32x512 .f32) (harg10 : arg10.IsWhole) (arg11 : DmaSems sig S_) (arg12 : DmaSems sig S_) (v320_r0 : DmaSems sig S_) (v320_r1 : DmaSems sig S_) (v642_r2 : DmaSems sig S_) (v320_r3 : DmaSems sig S_) (v2 : BitVec 32) (v3 : BitVec 32) (v66_0 : BitVec 32) (v74 : BitVec 32) (v79 : BitVec 32) (v84 : BitVec 32) (v89 : BitVec 32) (v94 : BitVec 32) (v99 : BitVec 32) (v104 : BitVec 32) (v109 : BitVec 32) (v114 : BitVec 32) (v119 : BitVec 32) (v124 : BitVec 32) (v129 : BitVec 32) (v134 : BitVec 32) (v139 : BitVec 32) (v144 : BitVec 32) (v149 : BitVec 32) (v158_0 : BitVec 32) (v166 : BitVec 32) (v171 : BitVec 32) (v176 : BitVec 32) (v181 : BitVec 32) (v186 : BitVec 32) (v191 : BitVec 32) (v196 : BitVec 32) (v201 : BitVec 32) (v206 : BitVec 32) (v211 : BitVec 32) (v216 : BitVec 32) (v221 : BitVec 32) (v226 : BitVec 32) (v231 : BitVec 32) (v236 : BitVec 32) (v241 : BitVec 32)

variable {X : S64x512.Idx → F .f32} {B : S10240.Idx → BitVec 32} {L : S10000.Idx → F .f32} {A : Acc F} {R : sProp (MM F)}

set_option maxHeartbeats 4000000 in
theorem group_b (k0_hw5 : k0_chk5 i v66_0 v74 v79 v84 v89 v94 v99 v104 v109 v114 v119 v124 v129 v134 v139 v144 v149 v158_0 v166 v171 v176 v181 v186 v191 v196 v201 v206 v211 v216 v221 v226 v231 v236 v241)
    (k0_t4 : Fin (k0_t4_loop i v66_0 v74 v79 v84 v89 v94 v99 v104 v109 v114 v119 v124 v129 v134 v139 v144 v149 v158_0 v166 v171 v176 v181 v186 v191 v196 v201 v206 v211 v216 v221 v226 v231 v236 v241).trips)
    (k0_h5 : k0_cond5 i v66_0 v74 v79 v84 v89 v94 v99 v104 v109 v114 v119 v124 v129 v134 v139 v144 v149 v158_0 v166 v171 v176 v181 v186 v191 v196 v201 v206 v211 v216 v221 v226 v231 v236 v241 k0_t4 = 1#1)
    (v330 : BitVec 32) (t : Fin k0_t22_loop.trips) (n : ℕ) (hn : n + 16 ≤ 10000)
    (h108 : k0_off108 i v66_0 v74 v79 v84 v89 v94 v99 v104 v109 v114 v119 v124 v129 v134 v139 v144 v149 v158_0 v166 v171 v176 v181 v186 v191 v196 v201 v206 v211 v216 v221 v226 v231 v236 v241 k0_t4 t 0 = n)
    (h109 : k0_off109 i v66_0 v74 v79 v84 v89 v94 v99 v104 v109 v114 v119 v124 v129 v134 v139 v144 v149 v158_0 v166 v171 v176 v181 v186 v191 v196 v201 v206 v211 v216 v221 v226 v231 v236 v241 k0_t4 t 0 = n)
    (x : S10000x512.Idx → F .f32) (b : S10000.Idx → BitVec 32)
    (hB : ∀ j : S10240.Idx, (j 0).val < 10000 → B j = idN b (j 0).val)
    (hX : ∀ k < 16, rowAt X (16 * t.val + k) = rowN x (n + k)) :
    St (c := (i 0).castLE hcore0) (s := (i 1).castLE hsub0) d arg7 arg8 arg9 arg10 X B L A R
      ⊢ twp d (k0_t22_body (F := F) i arg2 harg2 arg3 harg3 arg4 harg4 arg5 harg5 arg6 harg6 arg7 harg7 arg8 harg8 arg9 harg9 arg10 harg10 arg11 arg12 v320_r0 v320_r1 v642_r2 v320_r3 v2 v3 v66_0 v74 v79 v84 v89 v94 v99 v104 v109 v114 v119 v124 v129 v134 v139 v144 v149 v158_0 v166 v171 v176 v181 v186 v191 v196 v201 v206 v211 v216 v221 v226 v231 v236 v241 k0_hw5 k0_t4 k0_h5 v330 t ⟨⟩)
        (fun _ => St (c := (i 0).castLE hcore0) (s := (i 1).castLE hsub0) d arg7 arg8 arg9 arg10 X B L (foldRows v2 v3 x L b A n 16) R) := by
  unfold k0_t22_body
  refine enter ?_
  rw [k0_part13_eq_skeleton]; unfold k0_part13_skel
  refine ld_ids n h108 hB hn ?_
  refine ld_lps n h109 hn ?_
  refine assume_ok ⟨fun t _ => inb_cols (gV_lt v2 _ _) t.isLt, fun _ => inb_last (gV_lt v2 _ _)⟩ ?_
  refine ld_x ?_
  refine row_loop (by decide) rfl (fun _ => rfl) (fun _ => rfl) rfl rfl (fun v hv => ?_)
  refine ld_a ?_
  refine ld_a ?_
  refine leave ?_
  beta_reduce
  iterate 7
    refine enter ?_
    first
      | (rw [k0_part14_eq_skeleton]; unfold k0_part14_skel) | (rw [k0_part15_eq_skeleton]; unfold k0_part15_skel)
      | (rw [k0_part16_eq_skeleton]; unfold k0_part16_skel) | (rw [k0_part17_eq_skeleton]; unfold k0_part17_skel)
      | (rw [k0_part18_eq_skeleton]; unfold k0_part18_skel) | (rw [k0_part19_eq_skeleton]; unfold k0_part19_skel)
      | (rw [k0_part20_eq_skeleton]; unfold k0_part20_skel)
    iterate 2
      refine row_last (by assumption) rfl rfl ?_
      refine assume_ok ⟨fun t _ => inb_cols (gV_lt v2 _ _) t.isLt, fun _ => inb_last (gV_lt v2 _ _)⟩ ?_
      refine ld_x ?_
      refine row_loop (by decide) rfl (fun _ => rfl) (fun _ => rfl) rfl rfl (fun v hv => ?_)
      refine ld_a ?_
      refine ld_a ?_
    refine leave ?_
    beta_reduce
  refine row_last (by assumption) rfl rfl ?_
  refine assume_ok ⟨fun t _ => inb_cols (gV_lt v2 _ _) t.isLt, fun _ => inb_last (gV_lt v2 _ _)⟩ ?_
  refine ld_x ?_
  refine row_loop (by decide) rfl (fun _ => rfl) (fun _ => rfl) rfl rfl (fun v hv => ?_)
  refine ld_a ?_
  refine ld_a ?_
  refine row_last (by assumption) rfl rfl ?_
  refine leave ?_
  rw [← group_eq v2 v3 x L b A X n
    (fun k => (Scalar.indexCast (Scalar.addi (Scalar.muli (Scf.iv 0#32 1#32 t.val) 16#32) (BitVec.ofNat 32 k))).toNat)]
  · exact Entails.rfl
  · intro k hk
    exact (congrArg (rowAt X) (group_row ⟨t.val, t.isLt⟩ ⟨k, hk⟩)).trans (hX k hk)

end Cert.Proof.Pool

end
-- ==== Proof.Rounds2.lean ====
/-
  The loop over the rounds, from the first two fetches to the last chunk.
-/
module

public import proofs.«01_k».proof.Proof.Rounds
public import proofs.«01_k».proof.Proof.Words
public import proofs.«01_k».proof.Proof.Do16a
public import proofs.«01_k».proof.Proof.Do16b

@[expose] public section

noncomputable section

namespace Cert.Proof.Pool

open Cert.KernelIdeal Cert.KernelIdeal.Gen
open Idealize.ShloMosaic Idealize.ShloMosaic.ValueIdx
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem

variable {F : FTy → Type} [FloatOps F] {d : Dev nD}

/-- The accumulator after `n` of the tile's chunks, of which there are those from `f` up to `E`. -/
def accN (v2 v3 : BitVec 32) (x : S10000x512.Idx → F .f32) (L : S10000.Idx → F .f32) (b : S10000.Idx → BitVec 32) (A : Acc F)
    (f E n : ℕ) : Acc F := foldRows v2 v3 x L b A (64 * f) (64 * min n (E - f))

theorem accN_step (v2 v3 : BitVec 32) (x : S10000x512.Idx → F .f32) (L : S10000.Idx → F .f32) (b : S10000.Idx → BitVec 32) (A : Acc F)
    (f E n k : ℕ) (hk : k = f + n) :
    (if k < E then foldRows v2 v3 x L b (accN v2 v3 x L b A f E n) (64 * k) 64 else accN v2 v3 x L b A f E n)
      = accN v2 v3 x L b A f E (n + 1) := by
  subst hk
  unfold accN
  by_cases h : f + n < E
  · have e1 : min n (E - f) = n := by omega
    have e2 : 64 * min (n + 1) (E - f) = 64 * n + 64 := by omega
    have e3 : 64 * (f + n) = 64 * f + 64 * n := by omega
    rw [if_pos h, e1, e2, e3, foldRows_add]
  · have e : min (n + 1) (E - f) = min n (E - f) := by omega
    rw [if_neg h, e]

variable (i : grid0.Coords)
variable (arg2 : Memref sig .scVector .hbm S10000x512 .f32) (harg2 : arg2.IsWhole) (arg3 : Memref sig .scVector .hbm S10000 .f32) (harg3 : arg3.IsWhole) (arg4 : Memref sig .scVector .hbm S10000 .i32) (harg4 : arg4.IsWhole) (arg5 : Memref sig .scVector .hbm S1024x512 .f32) (harg5 : arg5.IsWhole) (arg6 : Memref sig .scVector .vmem S64x512 .f32) (harg6 : arg6.IsWhole) (arg7 : Memref sig .scVector .vmem S64x512 .f32) (harg7 : arg7.IsWhole) (arg8 : Memref sig .scVector .vmem S10240 .i32) (harg8 : arg8.IsWhole) (arg9 : Memref sig .scVector .vmem S10000 .f32) (harg9 : arg9.IsWhole) (arg10 : Memref sig .scVector .vmem S32x512 .f32) (harg10 : arg10.IsWhole) (arg11 : DmaSems sig S_) (arg12 : DmaSems sig S_) (v320_r0 : DmaSems sig S_) (v320_r1 : DmaSems sig S_) (v642_r2 : DmaSems sig S_) (v320_r3 : DmaSems sig S_)
variable (v2 v3 : BitVec 32) (v66_0 v74 v79 v84 v89 v94 v99 v104 v109 v114 v119 v124 v129 v134 v139 v144 v149 v158_0 v166 v171 v176 v181 v186 v191 v196 v201 v206 v211 v216 v221 v226 v231 v236 v241 : BitVec 32)
variable {l h : ℕ} (hl : Affine.IsInt (loW i v66_0 v74 v79 v84 v89 v94 v99 v104 v109 v114 v119 v124 v129 v134 v139 v144 v149) l) (hh : Affine.IsInt (hiW i v158_0 v166 v171 v176 v181 v186 v191 v196 v201 v206 v211 v216 v221 v226 v231 v236 v241) h) (l0 : l ≤ 10000) (h0 : h ≤ 10000)
variable {q₁ q₂ : PosShare TreeShare} {x : S10000x512.Idx → F .f32} {b : S10000.Idx → BitVec 32}
  {B : S10240.Idx → BitVec 32} {L : S10000.Idx → F .f32} {A : Acc F} {R : sProp (MM F)}
  {O : CellTallies nD τ sig (HIx 1)} {W : Waits sig (HIx 1)}
variable {α : Type} {Q : α → sProp (MM F)}

/-- What is at hand between the rounds. -/
abbrev Mid (d : Dev nD) (q₁ q₂ : PosShare TreeShare) (x : S10000x512.Idx → F .f32) (E k₁ k₂ : ℕ) (B : S10240.Idx → BitVec 32)
    (L : S10000.Idx → F .f32) (A : Acc F) (O : CellTallies nD τ sig (HIx 1)) (W : Waits sig (HIx 1)) (R : sProp (MM F)) : sProp (MM F) :=
  iprop(Slot (c := (i 0).castLE hcore0) (s := (i 1).castLE hsub0) d q₁ arg2 x arg6 arg11.sem E k₁ ∗ Slot (c := (i 0).castLE hcore0) (s := (i 1).castLE hsub0) d q₂ arg2 x arg7 arg12.sem E k₂
    ∗ (Holds (c := (i 0).castLE hcore0) (s := (i 1).castLE hsub0) d arg8 (e := .i32) B ∗ Holds (c := (i 0).castLE hcore0) (s := (i 1).castLE hsub0) d arg9 L ∗ Holds (c := (i 0).castLE hcore0) (s := (i 1).castLE hsub0) d arg10 A ∗ Debt d ((i 0).castLE hcore0) ((i 1).castLE hsub0) O W ∗ R))

include hl hh l0 h0

set_option maxHeartbeats 2000000 in
/-- A round: the first buffer's turn, then the second's. -/
theorem round (k0_hw5 : k0_chk5 i v66_0 v74 v79 v84 v89 v94 v99 v104 v109 v114 v119 v124 v129 v134 v139 v144 v149 v158_0 v166 v171 v176 v181 v186 v191 v196 v201 v206 v211 v216 v221 v226 v231 v236 v241) (v265 : BitVec 32) (t : Fin (k0_t4_loop i v66_0 v74 v79 v84 v89 v94 v99 v104 v109 v114 v119 v124 v129 v134 v139 v144 v149 v158_0 v166 v171 v176 v181 v186 v191 v196 v201 v206 v211 v216 v221 v226 v231 v236 v241).trips)
    (hB : ∀ j : S10240.Idx, (j 0).val < 10000 → B j = idN b (j 0).val) (n : ℕ) (hn : n = 2 * t.val) :
    Mid i arg2 arg6 arg7 arg8 arg9 arg10 arg11 arg12 d q₁ q₂ x (cE h) (cF l + 2 * t.val) (cF l + 2 * t.val + 1) B L (accN v2 v3 x L b A (cF l) (cE h) n) O W R
      ⊢ twp d (k0_t4_body (F := F) i arg2 harg2 arg3 harg3 arg4 harg4 arg5 harg5 arg6 harg6 arg7 harg7 arg8 harg8 arg9 harg9 arg10 harg10 arg11 arg12 v320_r0 v320_r1 v642_r2 v320_r3 v2 v3 v66_0 v74 v79 v84 v89 v94 v99 v104 v109 v114 v119 v124 v129 v134 v139 v144 v149 v158_0 v166 v171 v176 v181 v186 v191 v196 v201 v206 v211 v216 v221 v226 v231 v236 v241 k0_hw5 v265 t ⟨⟩)
        (fun _ => Mid i arg2 arg6 arg7 arg8 arg9 arg10 arg11 arg12 d q₁ q₂ x (cE h) (cF l + 2 * t.val + 2) (cF l + 2 * t.val + 1 + 2) B L
          (accN v2 v3 x L b A (cF l) (cE h) (n + 1 + 1)) O W R) := by
  have hE := cE_le h
  unfold k0_t4_body
  refine shift (show _ ⊢ iprop(Slot (c := (i 0).castLE hcore0) (s := (i 1).castLE hsub0) d q₁ arg2 x arg6 arg11.sem (cE h) (cF l + 2 * t.val) ∗ (Holds (c := (i 0).castLE hcore0) (s := (i 1).castLE hsub0) d arg8 (e := .i32) B ∗ Holds (c := (i 0).castLE hcore0) (s := (i 1).castLE hsub0) d arg9 L
      ∗ Holds (c := (i 0).castLE hcore0) (s := (i 1).castLE hsub0) d arg10 (accN v2 v3 x L b A (cF l) (cE h) n) ∗ Debt d ((i 0).castLE hcore0) ((i 1).castLE hsub0) O W
      ∗ (Slot (c := (i 0).castLE hcore0) (s := (i 1).castLE hsub0) d q₂ arg2 x arg7 arg12.sem (cE h) (cF l + 2 * t.val + 1) ∗ R))) from by
    iintro ⟨H1, H2, H3, H4, H5, H6, H7⟩; iframe) ?_
  refine turn (v2 := v2) (v3 := v3) (b := b) (cond3_iff i v66_0 v74 v79 v84 v89 v94 v99 v104 v109 v114 v119 v124 v129 v134 v139 v144 v149 v158_0 v166 v171 v176 v181 v186 v191 v196 v201 v206 v211 v216 v221 v226 v231 v236 v241 hl hh l0 h0 t) ((cond4_iff i v66_0 v74 v79 v84 v89 v94 v99 v104 v109 v114 v119 v124 v129 v134 v139 v144 v149 v158_0 v166 v171 v176 v181 v186 v191 v196 v201 v206 v211 v216 v221 v226 v231 v236 v241 hl hh l0 h0 t).trans (by omega))
    ((off106_eq i v66_0 v74 v79 v84 v89 v94 v99 v104 v109 v114 v119 v124 v129 v134 v139 v144 v149 v158_0 v166 v171 v176 v181 v186 v191 v196 v201 v206 v211 v216 v221 v226 v231 v236 v241 hl hh l0 h0 t).trans (congrArg (fun n => ![64 * n, 0]) (by omega))) (by decide) ?_ ?_
  · intro p u A R
    have hu : u.val < 4 := lt_of_lt_of_le u.isLt (by decide)
    have hp := (cond3_iff i v66_0 v74 v79 v84 v89 v94 v99 v104 v109 v114 v119 v124 v129 v134 v139 v144 v149 v158_0 v166 v171 v176 v181 v186 v191 v196 v201 v206 v211 v216 v221 v226 v231 v236 v241 hl hh l0 h0 t).1 p
    exact group_a i arg2 harg2 arg3 harg3 arg4 harg4 arg5 harg5 arg6 harg6 arg7 harg7 arg8 harg8 arg9 harg9 arg10 harg10 arg11 arg12 v320_r0 v320_r1 v642_r2 v320_r3 v2 v3 v66_0 v74 v79 v84 v89 v94 v99 v104 v109 v114 v119 v124 v129 v134 v139 v144 v149 v158_0 v166 v171 v176 v181 v186 v191 v196 v201 v206 v211 v216 v221 v226 v231 v236 v241 k0_hw5 t p _ u (64 * (cF l + 2 * t.val) + 16 * u.val) (by omega)
      (congrFun (off40_eq i v66_0 v74 v79 v84 v89 v94 v99 v104 v109 v114 v119 v124 v129 v134 v139 v144 v149 v158_0 v166 v171 v176 v181 v186 v191 v196 v201 v206 v211 v216 v221 v226 v231 v236 v241 hl hh l0 h0 t u) 0) (congrFun (off41_eq i v66_0 v74 v79 v84 v89 v94 v99 v104 v109 v114 v119 v124 v129 v134 v139 v144 v149 v158_0 v166 v171 v176 v181 v186 v191 v196 v201 v206 v211 v216 v221 v226 v231 v236 v241 hl hh l0 h0 t u) 0) x b hB
      (fun k hk => (chunk_row x _ _ (by omega)).trans (congrArg (rowN x) (by omega)))
  rw [accN_step v2 v3 x L b A (cF l) (cE h) n _ (by omega)]
  refine shift (show _ ⊢ iprop(Slot (c := (i 0).castLE hcore0) (s := (i 1).castLE hsub0) d q₂ arg2 x arg7 arg12.sem (cE h) (cF l + 2 * t.val + 1) ∗ (Holds (c := (i 0).castLE hcore0) (s := (i 1).castLE hsub0) d arg8 (e := .i32) B ∗ Holds (c := (i 0).castLE hcore0) (s := (i 1).castLE hsub0) d arg9 L
      ∗ Holds (c := (i 0).castLE hcore0) (s := (i 1).castLE hsub0) d arg10 (accN v2 v3 x L b A (cF l) (cE h) (n + 1)) ∗ Debt d ((i 0).castLE hcore0) ((i 1).castLE hsub0) O W
      ∗ (Slot (c := (i 0).castLE hcore0) (s := (i 1).castLE hsub0) d q₁ arg2 x arg6 arg11.sem (cE h) (cF l + 2 * t.val + 2) ∗ R))) from by
    iintro ⟨H1, H2, H3, H4, H5, H6, H7⟩; iframe) ?_
  refine turn (v2 := v2) (v3 := v3) (b := b) (cond5_iff i v66_0 v74 v79 v84 v89 v94 v99 v104 v109 v114 v119 v124 v129 v134 v139 v144 v149 v158_0 v166 v171 v176 v181 v186 v191 v196 v201 v206 v211 v216 v221 v226 v231 v236 v241 hl hh l0 h0 t) ((cond6_iff i v66_0 v74 v79 v84 v89 v94 v99 v104 v109 v114 v119 v124 v129 v134 v139 v144 v149 v158_0 v166 v171 v176 v181 v186 v191 v196 v201 v206 v211 v216 v221 v226 v231 v236 v241 hl hh l0 h0 t).trans (by omega))
    ((off174_eq i v66_0 v74 v79 v84 v89 v94 v99 v104 v109 v114 v119 v124 v129 v134 v139 v144 v149 v158_0 v166 v171 v176 v181 v186 v191 v196 v201 v206 v211 v216 v221 v226 v231 v236 v241 hl hh l0 h0 t).trans (congrArg (fun n => ![64 * n, 0]) (by omega))) (by decide) ?_ ?_
  · intro p u A R
    have hu : u.val < 4 := lt_of_lt_of_le u.isLt (by decide)
    have hp := (cond5_iff i v66_0 v74 v79 v84 v89 v94 v99 v104 v109 v114 v119 v124 v129 v134 v139 v144 v149 v158_0 v166 v171 v176 v181 v186 v191 v196 v201 v206 v211 v216 v221 v226 v231 v236 v241 hl hh l0 h0 t).1 p
    exact group_b i arg2 harg2 arg3 harg3 arg4 harg4 arg5 harg5 arg6 harg6 arg7 harg7 arg8 harg8 arg9 harg9 arg10 harg10 arg11 arg12 v320_r0 v320_r1 v642_r2 v320_r3 v2 v3 v66_0 v74 v79 v84 v89 v94 v99 v104 v109 v114 v119 v124 v129 v134 v139 v144 v149 v158_0 v166 v171 v176 v181 v186 v191 v196 v201 v206 v211 v216 v221 v226 v231 v236 v241 k0_hw5 t p _ u (64 * (cF l + 2 * t.val + 1) + 16 * u.val) (by omega)
      (congrFun (off108_eq i v66_0 v74 v79 v84 v89 v94 v99 v104 v109 v114 v119 v124 v129 v134 v139 v144 v149 v158_0 v166 v171 v176 v181 v186 v191 v196 v201 v206 v211 v216 v221 v226 v231 v236 v241 hl hh l0 h0 t u) 0) (congrFun (off109_eq i v66_0 v74 v79 v84 v89 v94 v99 v104 v109 v114 v119 v124 v129 v134 v139 v144 v149 v158_0 v166 v171 v176 v181 v186 v191 v196 v201 v206 v211 v216 v221 v226 v231 v236 v241 hl hh l0 h0 t u) 0) x b hB
      (fun k hk => (chunk_row x _ _ (by omega)).trans (congrArg (rowN x) (by omega)))
  rw [accN_step v2 v3 x L b A (cF l) (cE h) (n + 1) _ (by omega)]
  refine leave ?_
  unfold Mid
  iintro ⟨H1, H2, H3, H4, H5, H6, H7⟩
  iframe

set_option maxHeartbeats 2000000 in
/-- The rounds. -/
theorem rounds_loop (k0_hw5 : k0_chk5 i v66_0 v74 v79 v84 v89 v94 v99 v104 v109 v114 v119 v124 v129 v134 v139 v144 v149 v158_0 v166 v171 v176 v181 v186 v191 v196 v201 v206 v211 v216 v221 v226 v231 v236 v241) (v265 : BitVec 32)
    {kk : Unit → TileProg F ((i 0).castLE hcore0) ((i 1).castLE hsub0) α}
    (hB : ∀ j : S10240.Idx, (j 0).val < 10000 → B j = idN b (j 0).val)
    (hk : iprop(Free (c := (i 0).castLE hcore0) (s := (i 1).castLE hsub0) d q₁ arg2 x arg6 arg11.sem ∗ Free (c := (i 0).castLE hcore0) (s := (i 1).castLE hsub0) d q₂ arg2 x arg7 arg12.sem
      ∗ (Holds (c := (i 0).castLE hcore0) (s := (i 1).castLE hsub0) d arg8 (e := .i32) B ∗ Holds (c := (i 0).castLE hcore0) (s := (i 1).castLE hsub0) d arg9 L ∗ Holds (c := (i 0).castLE hcore0) (s := (i 1).castLE hsub0) d arg10 (foldRows v2 v3 x L b A (64 * cF l) (64 * (cE h - cF l)))
        ∗ Debt d ((i 0).castLE hcore0) ((i 1).castLE hsub0) O W ∗ R)) ⊢ twp d (kk ⟨⟩) Q) :
    Mid i arg2 arg6 arg7 arg8 arg9 arg10 arg11 arg12 d q₁ q₂ x (cE h) (cF l) (cF l + 1) B L A O W R
      ⊢ twp d (Scf.Loop.for (k0_t4_loop i v66_0 v74 v79 v84 v89 v94 v99 v104 v109 v114 v119 v124 v129 v134 v139 v144 v149 v158_0 v166 v171 v176 v181 v186 v191 v196 v201 v206 v211 v216 v221 v226 v231 v236 v241) (k0_t4_ok i v66_0 v74 v79 v84 v89 v94 v99 v104 v109 v114 v119 v124 v129 v134 v139 v144 v149 v158_0 v166 v171 v176 v181 v186 v191 v196 v201 v206 v211 v216 v221 v226 v231 v236 v241 k0_hw5) ⟨⟩ (k0_t4_body (F := F) i arg2 harg2 arg3 harg3 arg4 harg4 arg5 harg5 arg6 harg6 arg7 harg7 arg8 harg8 arg9 harg9 arg10 harg10 arg11 arg12 v320_r0 v320_r1 v642_r2 v320_r3 v2 v3 v66_0 v74 v79 v84 v89 v94 v99 v104 v109 v114 v119 v124 v129 v134 v139 v144 v149 v158_0 v166 v171 v176 v181 v186 v191 v196 v201 v206 v211 v216 v221 v226 v231 v236 v241 k0_hw5 v265) >>= kk) Q := by
  have hw := Scf.wp_for_bind frame (wpE (defs₀ (F := F)) 𝒱₀ (d, .scVector ((i 0).castLE hcore0) ((i 1).castLE hsub0)) none) Set.univ
    (k0_t4_loop i v66_0 v74 v79 v84 v89 v94 v99 v104 v109 v114 v119 v124 v129 v134 v139 v144 v149 v158_0 v166 v171 v176 v181 v186 v191 v196 v201 v206 v211 v216 v221 v226 v231 v236 v241).lb (k0_t4_loop i v66_0 v74 v79 v84 v89 v94 v99 v104 v109 v114 v119 v124 v129 v134 v139 v144 v149 v158_0 v166 v171 v176 v181 v186 v191 v196 v201 v206 v211 v216 v221 v226 v231 v236 v241).ub (k0_t4_loop i v66_0 v74 v79 v84 v89 v94 v99 v104 v109 v114 v119 v124 v129 v134 v139 v144 v149 v158_0 v166 v171 v176 v181 v186 v191 v196 v201 v206 v211 v216 v221 v226 v231 v236 v241).st (k0_t4_ok i v66_0 v74 v79 v84 v89 v94 v99 v104 v109 v114 v119 v124 v129 v134 v139 v144 v149 v158_0 v166 v171 v176 v181 v186 v191 v196 v201 v206 v211 v216 v221 v226 v231 v236 v241 k0_hw5) ⟨⟩
    (k0_t4_body (F := F) i arg2 harg2 arg3 harg3 arg4 harg4 arg5 harg5 arg6 harg6 arg7 harg7 arg8 harg8 arg9 harg9 arg10 harg10 arg11 arg12 v320_r0 v320_r1 v642_r2 v320_r3 v2 v3 v66_0 v74 v79 v84 v89 v94 v99 v104 v109 v114 v119 v124 v129 v134 v139 v144 v149 v158_0 v166 v171 v176 v181 v186 v191 v196 v201 v206 v211 v216 v221 v226 v231 v236 v241 k0_hw5 v265)
    (fun n _ => Mid i arg2 arg6 arg7 arg8 arg9 arg10 arg11 arg12 d q₁ q₂ x (cE h) (cF l + 2 * n) (cF l + 2 * n + 1) B L
      (accN v2 v3 x L b A (cF l) (cE h) (2 * n)) O W R)
    (fun t v => round i arg2 harg2 arg3 harg3 arg4 harg4 arg5 harg5 arg6 harg6 arg7 harg7 arg8 harg8 arg9 harg9 arg10 harg10 arg11 arg12 v320_r0 v320_r1 v642_r2 v320_r3 v2 v3 v66_0 v74 v79 v84 v89 v94 v99 v104 v109 v114 v119 v124 v129 v134 v139 v144 v149 v158_0 v166 v171 v176 v181 v186 v191 v196 v201 v206 v211 v216 v221 v226 v231 v236 v241 hl hh l0 h0 k0_hw5 v265 t hB (2 * t.val) rfl) (kk := kk) (Q := Q)
  iintro H
  ihave Hw := hw $$ [H]
  · have e0 : accN v2 v3 x L b A (cF l) (cE h) (2 * 0) = A := by
      unfold accN
      have e : 64 * min (2 * 0) (cE h - cF l) = 0 := by omega
      rw [e]; rfl
    rw [e0]
    iexact H
  iapply Hw
  iintro %v H
  have hT : Scf.trips (k0_t4_loop i v66_0 v74 v79 v84 v89 v94 v99 v104 v109 v114 v119 v124 v129 v134 v139 v144 v149 v158_0 v166 v171 v176 v181 v186 v191 v196 v201 v206 v211 v216 v221 v226 v231 v236 v241).lb (k0_t4_loop i v66_0 v74 v79 v84 v89 v94 v99 v104 v109 v114 v119 v124 v129 v134 v139 v144 v149 v158_0 v166 v171 v176 v181 v186 v191 v196 v201 v206 v211 v216 v221 v226 v231 v236 v241).ub (k0_t4_loop i v66_0 v74 v79 v84 v89 v94 v99 v104 v109 v114 v119 v124 v129 v134 v139 v144 v149 v158_0 v166 v171 v176 v181 v186 v191 v196 v201 v206 v211 v216 v221 v226 v231 v236 v241).st = (cE h + 1 - cF l) / 2 :=
    rounds_trips i v66_0 v74 v79 v84 v89 v94 v99 v104 v109 v114 v119 v124 v129 v134 v139 v144 v149 v158_0 v166 v171 v176 v181 v186 v191 v196 v201 v206 v211 v216 v221 v226 v231 v236 v241 hl hh l0 h0
  rw [hT]
  iapply hk
  have n1 : ¬ cF l + 2 * ((cE h + 1 - cF l) / 2) < cE h := by omega
  have n2 : ¬ cF l + 2 * ((cE h + 1 - cF l) / 2) + 1 < cE h := by omega
  have n3 : min (2 * ((cE h + 1 - cF l) / 2)) (cE h - cF l) = cE h - cF l := by omega
  unfold Mid Slot accN
  rw [if_neg n1, if_neg n2, n3]
  iexact H

/-- The second loop, over what the rounds leave: it has no trips. -/
theorem rest_loop (k0_hw5 : k0_chk5 i v66_0 v74 v79 v84 v89 v94 v99 v104 v109 v114 v119 v124 v129 v134 v139 v144 v149 v158_0 v166 v171 v176 v181 v186 v191 v196 v201 v206 v211 v216 v221 v226 v231 v236 v241) (v265 v316 : BitVec 32)
    {kk : Unit → TileProg F ((i 0).castLE hcore0) ((i 1).castLE hsub0) α} {S : sProp (MM F)}
    (hk : S ⊢ twp d (kk ⟨⟩) Q) :
    S ⊢ twp d (Scf.Loop.for (k0_t39_loop i v66_0 v74 v79 v84 v89 v94 v99 v104 v109 v114 v119 v124 v129 v134 v139 v144 v149 v158_0 v166 v171 v176 v181 v186 v191 v196 v201 v206 v211 v216 v221 v226 v231 v236 v241) (k0_t39_ok i v66_0 v74 v79 v84 v89 v94 v99 v104 v109 v114 v119 v124 v129 v134 v139 v144 v149 v158_0 v166 v171 v176 v181 v186 v191 v196 v201 v206 v211 v216 v221 v226 v231 v236 v241 k0_hw5) ⟨⟩ (k0_t39_body (F := F) i arg2 harg2 arg3 harg3 arg4 harg4 arg5 harg5 arg6 harg6 arg7 harg7 arg8 harg8 arg9 harg9 arg10 harg10 arg11 arg12 v320_r0 v320_r1 v642_r2 v320_r3 v2 v3 v66_0 v74 v79 v84 v89 v94 v99 v104 v109 v114 v119 v124 v129 v134 v139 v144 v149 v158_0 v166 v171 v176 v181 v186 v191 v196 v201 v206 v211 v216 v221 v226 v231 v236 v241 k0_hw5 v265 v316) >>= kk) Q := by
  have hT := rest_trips i v66_0 v74 v79 v84 v89 v94 v99 v104 v109 v114 v119 v124 v129 v134 v139 v144 v149 v158_0 v166 v171 v176 v181 v186 v191 v196 v201 v206 v211 v216 v221 v226 v231 v236 v241 hl hh l0 h0
  have hw := Scf.wp_for_bind frame (wpE (defs₀ (F := F)) 𝒱₀ (d, .scVector ((i 0).castLE hcore0) ((i 1).castLE hsub0)) none) Set.univ
    (k0_t39_loop i v66_0 v74 v79 v84 v89 v94 v99 v104 v109 v114 v119 v124 v129 v134 v139 v144 v149 v158_0 v166 v171 v176 v181 v186 v191 v196 v201 v206 v211 v216 v221 v226 v231 v236 v241).lb (k0_t39_loop i v66_0 v74 v79 v84 v89 v94 v99 v104 v109 v114 v119 v124 v129 v134 v139 v144 v149 v158_0 v166 v171 v176 v181 v186 v191 v196 v201 v206 v211 v216 v221 v226 v231 v236 v241).ub (k0_t39_loop i v66_0 v74 v79 v84 v89 v94 v99 v104 v109 v114 v119 v124 v129 v134 v139 v144 v149 v158_0 v166 v171 v176 v181 v186 v191 v196 v201 v206 v211 v216 v221 v226 v231 v236 v241).st (k0_t39_ok i v66_0 v74 v79 v84 v89 v94 v99 v104 v109 v114 v119 v124 v129 v134 v139 v144 v149 v158_0 v166 v171 v176 v181 v186 v191 v196 v201 v206 v211 v216 v221 v226 v231 v236 v241 k0_hw5) ⟨⟩
    (k0_t39_body (F := F) i arg2 harg2 arg3 harg3 arg4 harg4 arg5 harg5 arg6 harg6 arg7 harg7 arg8 harg8 arg9 harg9 arg10 harg10 arg11 arg12 v320_r0 v320_r1 v642_r2 v320_r3 v2 v3 v66_0 v74 v79 v84 v89 v94 v99 v104 v109 v114 v119 v124 v129 v134 v139 v144 v149 v158_0 v166 v171 v176 v181 v186 v191 v196 v201 v206 v211 v216 v221 v226 v231 v236 v241 k0_hw5 v265 v316) (fun _ _ => S)
    (fun t v => absurd t.isLt (by
      have e : Scf.trips (k0_t39_loop i v66_0 v74 v79 v84 v89 v94 v99 v104 v109 v114 v119 v124 v129 v134 v139 v144 v149 v158_0 v166 v171 v176 v181 v186 v191 v196 v201 v206 v211 v216 v221 v226 v231 v236 v241).lb (k0_t39_loop i v66_0 v74 v79 v84 v89 v94 v99 v104 v109 v114 v119 v124 v129 v134 v139 v144 v149 v158_0 v166 v171 v176 v181 v186 v191 v196 v201 v206 v211 v216 v221 v226 v231 v236 v241).ub (k0_t39_loop i v66_0 v74 v79 v84 v89 v94 v99 v104 v109 v114 v119 v124 v129 v134 v139 v144 v149 v158_0 v166 v171 v176 v181 v186 v191 v196 v201 v206 v211 v216 v221 v226 v231 v236 v241).st = 0 := hT
      omega)) (kk := kk) (Q := Q)
  iintro H
  ihave Hw := hw $$ H
  iapply Hw
  iintro %v H
  iapply hk
  iexact H

end Cert.Proof.Pool

end
-- ==== Proof.Bounds.lean ====
/-
  The search for a tile's bounds, apart from any program: the padded ids a tile keeps (`padW`), the invariant of the
  search by halving over blocks of sixteen ids (`SInv`), the count of the lanes below a bound, and what the node number
  a search ends at is (`BoundOK`).
-/
module

public import proofs.«01_k».proof.Proof.Words
public import proofs.«01_k».proof.Proof.Fold

@[expose] public section

noncomputable section

namespace Cert.Proof.Pool

open Cert.KernelIdeal Cert.KernelIdeal.Gen
open Idealize.ShloMosaic Idealize.ShloMosaic.ValueIdx Idealize.ShloMosaic.Affine

/-- The ids, followed by 1024s. -/
def padW (b : S10000.Idx → BitVec 32) (n : ℕ) : BitVec 32 := if n < 10000 then idN b n else 1024#32

/-- Node `n` is below the segment `g`. -/
def Below (b : S10000.Idx → BitVec 32) (g : BitVec 32) (n : ℕ) : Prop := Scalar.cmpi .slt (padW b n) g = 1#1

/-- The nodes below `g` are an initial run. -/
def Initial (p : ℕ → Prop) : Prop := ∀ m n, m ≤ n → p n → p m

theorem below_pad {b : S10000.Idx → BitVec 32} {g : BitVec 32} {e : ℤ} (hg : IsInt g e) (he : e ≤ 1024) {n : ℕ} (hn : 10000 ≤ n) :
    ¬ Below b g n := by
  unfold Below padW
  rw [if_neg (by omega), slt_iff (ofNat 1024 (e := 1024) ⟨rfl, by norm_num⟩) hg]
  omega

/-! ## The search -/

/-- The invariant after `t` halvings. -/
def SInv (p : ℕ → Prop) (t : ℕ) (l r : BitVec 32) : Prop :=
  ∃ a z : ℕ, IsInt l a ∧ IsInt r z ∧ a ≤ 625 ∧ z ≤ 640 ∧
    (Initial p → a ≤ z ∧ (z - a) * 2 ^ t ≤ 640 ∧ (∀ j < a, p (16 * j)) ∧ ∀ j, z ≤ j → ¬ p (16 * j))

/-- The block in the middle. -/
def midW (l r : BitVec 32) : BitVec 32 := fdivW (Scalar.addi l r) 2#32

theorem sinv_start {p : ℕ → Prop} (hp : ∀ n, 10000 ≤ n → ¬ p n) : SInv p 0 0#32 640#32 :=
  ⟨0, 640, ofNat 0 ⟨rfl, by norm_num⟩, ofNat 640 ⟨rfl, by norm_num⟩, by norm_num, le_rfl, fun _ =>
    ⟨by norm_num, by norm_num, fun j hj => absurd hj (Nat.not_lt_zero j), fun j hj => hp _ (by omega)⟩⟩

theorem sinv_mid {p : ℕ → Prop} {t : ℕ} {l r : BitVec 32} (h : SInv p t l r) :
    (Scalar.indexCast (Scalar.muli (midW l r) 16#32)).toNat + 16 ≤ 10240 := by
  obtain ⟨a, z, hl, hr, ha, hz, -⟩ := h
  have s := addi hl hr (e := ((a + z : ℕ) : ℤ)) ⟨by push_cast; rfl, by omega, by omega⟩
  have m0 := fdivW_nonneg s (ofNat 2 ⟨rfl, by norm_num⟩) (by omega) (by norm_num)
  have m : IsInt (midW l r) ((a + z) / 2 : ℕ) := relit m0 (by push_cast; rfl)
  have k := indexCast (muli m (ofNat 16 ⟨rfl, by norm_num⟩) (e := (((a + z) / 2 * 16 : ℕ) : ℤ)) ⟨by push_cast; rfl, by omega, by omega⟩)
  have := toNat_of k (by omega)
  omega

theorem sinv_step {p : ℕ → Prop} (hp : ∀ n, 10000 ≤ n → ¬ p n) {t : ℕ} {l r : BitVec 32} (h : SInv p t l r) {c : BitVec 1}
    (hc : c = 1#1 ↔ p (Scalar.indexCast (Scalar.muli (midW l r) 16#32)).toNat) :
    SInv p (t + 1) (Scalar.select c (Scalar.addi (midW l r) 1#32) l) (Scalar.select c r (midW l r)) := by
  obtain ⟨a, z, hl, hr, ha, hz, hs⟩ := h
  have s := addi hl hr (e := ((a + z : ℕ) : ℤ)) ⟨by push_cast; rfl, by omega, by omega⟩
  have m0 := fdivW_nonneg s (ofNat 2 ⟨rfl, by norm_num⟩) (by omega) (by norm_num)
  have m : IsInt (midW l r) ((a + z) / 2 : ℕ) := relit m0 (by push_cast; rfl)
  have k := indexCast (muli m (ofNat 16 ⟨rfl, by norm_num⟩) (e := (((a + z) / 2 * 16 : ℕ) : ℤ)) ⟨by push_cast; rfl, by omega, by omega⟩)
  have kk := toNat_of k (by omega)
  have e16 : (Scalar.indexCast (Scalar.muli (midW l r) 16#32)).toNat = 16 * ((a + z) / 2) := by omega
  rw [e16] at hc
  by_cases h1 : c = 1#1
  · have hpm := hc.1 h1
    have hm : (a + z) / 2 ≤ 624 := by
      by_contra hn
      exact hp _ (by omega) hpm
    have m1 := addi m (ofNat 1 ⟨rfl, by norm_num⟩) (e := (((a + z) / 2 + 1 : ℕ) : ℤ)) ⟨by push_cast; rfl, by omega, by omega⟩
    refine ⟨(a + z) / 2 + 1, z, select_holds h1 m1 hl rfl, select_holds h1 hr m rfl, by omega, hz, fun hi => ?_⟩
    obtain ⟨q1, q2, q3, q4⟩ := hs hi
    have hlt : (a + z) / 2 < z := by
      by_contra hn
      exact q4 _ (by omega) hpm
    refine ⟨by omega, ?_, fun j hj => hi _ _ (by omega) hpm, q4⟩
    have : (z - ((a + z) / 2 + 1)) * 2 ≤ z - a := by omega
    calc (z - ((a + z) / 2 + 1)) * 2 ^ (t + 1) = ((z - ((a + z) / 2 + 1)) * 2) * 2 ^ t := by ring
      _ ≤ (z - a) * 2 ^ t := Nat.mul_le_mul_right _ this
      _ ≤ 640 := q2
  · have hpm : ¬ p (16 * ((a + z) / 2)) := fun h => h1 (hc.2 h)
    have m1 := addi m (ofNat 1 ⟨rfl, by norm_num⟩) (e := (((a + z) / 2 + 1 : ℕ) : ℤ)) ⟨by push_cast; rfl, by omega, by omega⟩
    refine ⟨a, (a + z) / 2, select_fails h1 m1 hl rfl, select_fails h1 hr m rfl, ha, by omega, fun hi => ?_⟩
    obtain ⟨q1, q2, q3, q4⟩ := hs hi
    refine ⟨by omega, ?_, q3, fun j hj hpj => hpm (hi _ _ (by omega) hpj)⟩
    have : ((a + z) / 2 - a) * 2 ≤ z - a := by omega
    calc ((a + z) / 2 - a) * 2 ^ (t + 1) = (((a + z) / 2 - a) * 2) * 2 ^ t := by ring
      _ ≤ (z - a) * 2 ^ t := Nat.mul_le_mul_right _ this
      _ ≤ 640 := q2

/-- What ten halvings find. -/
def Found (p : ℕ → Prop) (r : BitVec 32) : Prop :=
  ∃ a : ℕ, IsInt r a ∧ a ≤ 625 ∧ (Initial p → (∀ j < a, p (16 * j)) ∧ ∀ j, a ≤ j → ¬ p (16 * j))

theorem sinv_end {p : ℕ → Prop} {l r : BitVec 32} (h : SInv p 10 l r) : Found p l := by
  obtain ⟨a, z, hl, -, ha, -, hs⟩ := h
  refine ⟨a, hl, ha, fun hi => ?_⟩
  obtain ⟨q1, q2, q3, q4⟩ := hs hi
  have : z = a := by
    have : z - a = 0 := by
      by_contra hn
      have : 1 ≤ z - a := by omega
      have := Nat.mul_le_mul_right (2 ^ 10) this
      omega
    omega
  exact ⟨q3, this ▸ q4⟩

/-! ## The lanes below -/

/-- The count of the first `k` lanes, as the program adds it up, -/
def cntU (g : BitVec 32) (v : ℕ → BitVec 32) : ℕ → BitVec 32
  | 0 => 0#32
  | k + 1 => Scalar.addi (cntU g v k) (oneW g (v k))

open Classical in
/-- and as a number. -/
def cntN (p : ℕ → Prop) : ℕ → ℕ
  | 0 => 0
  | k + 1 => cntN p k + if p k then 1 else 0

theorem cntN_le (p : ℕ → Prop) (k : ℕ) : cntN p k ≤ k := by
  induction k with
  | zero => exact le_rfl
  | succ k ih => unfold cntN; split <;> omega

theorem cntN_iff {p : ℕ → Prop} (hp : Initial p) (k : ℕ) : ∀ t < k, (p t ↔ t < cntN p k) := by
  induction k with
  | zero => intro t ht; omega
  | succ k ih =>
    have hle := cntN_le p k
    intro t ht
    unfold cntN
    by_cases hk : p k
    · rw [if_pos hk]
      have hall : cntN p k = k := by
        by_contra hn
        have h1 := (ih (cntN p k) (by omega)).1 (hp _ k (by omega) hk)
        omega
      exact ⟨fun _ => by omega, fun _ => hp _ _ (by omega) hk⟩
    · rw [if_neg hk]
      by_cases htk : t = k
      · subst htk; exact ⟨fun h => absurd h hk, fun h => by omega⟩
      · rw [ih t (by omega)]; rfl

theorem cntU_int {g : BitVec 32} {v : ℕ → BitVec 32} {p : ℕ → Prop} (k : ℕ) (hk : k ≤ 16)
    (h : ∀ t < 16, (Scalar.cmpi .slt (v t) g = 1#1 ↔ p t)) : IsInt (cntU g v k) (cntN p k : ℕ) := by
  induction k with
  | zero => exact ofNat 0 ⟨rfl, by norm_num⟩
  | succ k ih =>
    have i := ih (by omega)
    have hle := cntN_le p k
    unfold cntN cntU oneW
    by_cases hp : p k
    · rw [if_pos hp]
      exact addi i (select_holds ((h k (by omega)).2 hp) (ofNat 1 ⟨rfl, by norm_num⟩) (ofNat 0 (e := 0) ⟨rfl, by norm_num⟩) rfl)
        ⟨by push_cast; rfl, by omega, by omega⟩
    · rw [if_neg hp]
      exact addi i (select_fails (fun hh => hp ((h k (by omega)).1 hh)) (ofNat 1 (e := 1) ⟨rfl, by norm_num⟩) (ofNat 0 (e := 0) ⟨rfl, by norm_num⟩) rfl)
        ⟨by push_cast; ring, by omega, by omega⟩

/-! ## The bound -/

/-- The word `w` is the number of the first node not below. -/
def BoundOK (p : ℕ → Prop) (w : BitVec 32) (n : ℕ) : Prop :=
  IsInt w n ∧ n ≤ 10000 ∧ (Initial p → (∀ m < n, p m) ∧ ∀ m, n ≤ m → ¬ p m)

/-- The block before the one found, -/
def blockW (r : BitVec 32) : BitVec 32 := Scalar.indexCast (Scalar.muli (Scalar.maxsi (Scalar.subi r 1#32) 0#32) 16#32)

theorem found_block {p : ℕ → Prop} {r : BitVec 32} (h : Found p r) : (blockW r).toNat + 16 ≤ 10000 := by
  obtain ⟨a, hr, ha, -⟩ := h
  have m := maxsi (subi hr (ofNat 1 ⟨rfl, by norm_num⟩) (e := (a : ℤ) - 1) ⟨rfl, by omega, by omega⟩) (ofNat 0 ⟨rfl, by norm_num⟩)
    (e := ((a - 1 : ℕ) : ℤ)) (by omega)
  have k := indexCast (muli m (ofNat 16 ⟨rfl, by norm_num⟩) (e := (((a - 1) * 16 : ℕ) : ℤ)) ⟨by push_cast; rfl, by omega, by omega⟩)
  have kk := toNat_of k (by omega)
  unfold blockW
  omega

/-- A search's bound, from the block's lanes. -/
theorem bound_ok {p : ℕ → Prop} {g r : BitVec 32} {v : ℕ → BitVec 32} (h : Found p r)
    (hv : ∀ t < 16, (Scalar.cmpi .slt (v t) g = 1#1 ↔ p ((blockW r).toNat + t))) :
    ∃ n, BoundOK p (bndW g r [v 0, v 1, v 2, v 3, v 4, v 5, v 6, v 7, v 8, v 9, v 10, v 11, v 12, v 13, v 14, v 15]) n := by
  have hb := found_block h
  obtain ⟨a, hr, ha, hs⟩ := h
  have m := maxsi (subi hr (ofNat 1 ⟨rfl, by norm_num⟩) (e := (a : ℤ) - 1) ⟨rfl, by omega, by omega⟩) (ofNat 0 ⟨rfl, by norm_num⟩)
    (e := ((a - 1 : ℕ) : ℤ)) (by omega)
  have k := muli m (ofNat 16 ⟨rfl, by norm_num⟩) (e := (((a - 1) * 16 : ℕ) : ℤ)) ⟨by push_cast; rfl, by omega, by omega⟩
  have kk := toNat_of (indexCast k) (by omega)
  have e16 : (blockW r).toNat = (a - 1) * 16 := by unfold blockW; omega
  rw [e16] at hv hb
  have hc := cntU_int (p := fun t => p ((a - 1) * 16 + t)) 16 le_rfl hv
  have hcl := cntN_le (fun t => p ((a - 1) * 16 + t)) 16
  have s := addi k hc (e := (((a - 1) * 16 + cntN (fun t => p ((a - 1) * 16 + t)) 16 : ℕ) : ℤ)) ⟨by push_cast; rfl, by omega, by omega⟩
  by_cases h0 : a = 0
  · subst h0
    refine ⟨0, select_holds (eq_holds hr (ofNat 0 ⟨rfl, by norm_num⟩) rfl) (ofNat 0 ⟨rfl, by norm_num⟩) s rfl, by norm_num, fun hi => ?_⟩
    obtain ⟨-, q⟩ := hs hi
    exact ⟨fun m hm => absurd hm (Nat.not_lt_zero m), fun m _ hm => q 0 le_rfl (hi _ _ (by omega) hm)⟩
  · refine ⟨_, select_fails (eq_fails hr (ofNat 0 ⟨rfl, by norm_num⟩) (by omega)) (ofNat 0 (e := 0) ⟨rfl, by norm_num⟩) s rfl, by omega, fun hi => ?_⟩
    obtain ⟨q1, q2⟩ := hs hi
    have hin : Initial (fun t => p ((a - 1) * 16 + t)) := fun m n hmn h => hi _ _ (by omega) h
    have hiff := cntN_iff hin 16
    have hp0 := q1 (a - 1) (by omega)
    constructor
    · intro m hm
      by_cases hlt : m < (a - 1) * 16
      · exact hi _ _ (by omega) hp0
      · have := (hiff (m - (a - 1) * 16) (by omega)).2 (by omega)
        have e : (a - 1) * 16 + (m - (a - 1) * 16) = m := by omega
        simpa only [e] using this
    · intro m hm hpm
      by_cases hge : 16 * a ≤ m
      · exact q2 a le_rfl (hi _ _ hge hpm)
      · have e : (a - 1) * 16 + (m - (a - 1) * 16) = m := by omega
        have := (hiff (m - (a - 1) * 16) (by omega)).1 (by simpa only [e] using hpm)
        omega

end Cert.Proof.Pool

end
-- ==== Proof.Front.lean ====
/-
  The start of a tile's body, after its ids and log-probabilities have arrived: the pads behind the ids, the zeroing of
  the accumulator and the two searches for the tile's bounds.
-/
module

public import proofs.«01_k».proof.Proof.Ops
public import proofs.«01_k».proof.Proof.Bounds

@[expose] public section

noncomputable section

namespace Cert.Proof.Pool

open Cert.KernelIdeal Cert.KernelIdeal.Gen
open Idealize.ShloMosaic Idealize.ShloMosaic.ValueIdx
open Idealize.SL Idealize.SL.RA Idealize.SL.BI
open scoped Idealize.SL.BI
open Idealize.SL.BI.BIBase Idealize.SL.BI.Laws Idealize.SL.ProofMode Idealize.SL.Sem

variable {F : FTy → Type} [FloatOps F]
variable {d : Dev nD} {c : Fin τ.nSC} {s : Fin τ.nSub} {α : Type} {R : sProp (MM F)} {Q : α → sProp (MM F)}

/-! ## The pads -/

section Pads
variable {bb : Memref sig (Proc.scVector c s : Proc τ).kind .vmem S10240 .i32} {b : S10000.Idx → BitVec 32}

/-- The ids' buffer holds the ids and their pads below `m`. -/
def Padded (b : S10000.Idx → BitVec 32) (m : ℕ) (B : S10240.Idx → BitVec 32) : Prop := ∀ j, (j 0).val < m → B j = padW b (j 0).val

/-- Sixteen more pads (after a load whose value is not used). -/
theorem pad_st {B : S10240.Idx → BitVec 32} {m : ℕ} {off : Fin 1 → ℕ} {h : ∀ a, off a + S16.size a ≤ S10240.size a}
    {hx : (bb.access (Rect.unit (s := S10240) off S16.size h)).Stores Finset.univ}
    {hm : (Finset.univ : Finset S16.Idx) = Finset.univ ∨ ∀ a, (Rect.unit (s := S10240) off S16.size h).stride a = 1}
    {w : S16.Idx → BitVec 32} {k : PUnit → TileProg F c s α}
    (hB : Padded b m B) (ho : off 0 = m) (h0 : 10000 ≤ m) (hw : ∀ x, w x = 1024#32)
    (hk : ∀ B', Padded b (m + 16) B' → iprop(Holds d bb (e := .i32) B' ∗ R) ⊢ twp d (k ⟨⟩) Q) :
    iprop(Holds d bb (e := .i32) B ∗ R)
      ⊢ twp d (Prog.lift (TpuEff.store (e := .i32) bb (Rect.unit (s := S10240) off S16.size h) w Finset.univ hx hm) >>= k) Q := by
  refine wp_st d (e := .i32) (fun j => if m ≤ (j 0).val ∧ (j 0).val < m + 16 then 1024#32 else B j) ?_ ?_ (hk _ ?_)
  · intro x
    have hx : (x 0).val < 16 := (x 0).isLt
    have e0 : (((Rect.unit (s := S10240) off S16.size h).emb x) 0).val = m + (x 0).val := by
      show off 0 + 1 * (x 0).val = _; omega
    rw [hw, e0]
    exact if_pos ⟨by omega, by omega⟩
  · intro j hj
    refine if_neg ?_
    rintro ⟨h1, h2⟩
    refine hj (ix1 ⟨(j 0).val - m, by omega⟩) ?_
    funext a
    match a with
    | ⟨0, _⟩ =>
      apply Fin.ext
      show off 0 + 1 * ((j 0).val - m) = (j 0).val
      omega
  · intro j hj
    show (if m ≤ (j 0).val ∧ (j 0).val < m + 16 then 1024#32 else B j) = _
    by_cases h1 : m ≤ (j 0).val
    · rw [if_pos ⟨h1, hj⟩, padW, if_neg (by omega)]
    · rw [if_neg (fun h => h1 h.1), hB j (by omega)]

end Pads

/-! ## The zeros -/

section Zeros
variable {acc : Memref sig (Proc.scVector c s : Proc τ).kind .vmem S32x512 .f32}

/-- The accumulator's zero. -/
abbrev zf : F .f32 := Scalar.ofBits .f32 0x00000000#32

/-- The accumulator is zero in the rows below `t`, and in row `t` in the columns below `n`. -/
def Zeroed (t n : ℕ) (A : Acc F) : Prop := ∀ j, (j 0).val < t ∨ ((j 0).val = t ∧ (j 1).val < n) → A j = zf

/-- The row a trip of the zeroing writes. -/
theorem zero_row : ∀ t : Fin 32, (Scalar.indexCast (Scf.iv 0#32 1#32 t.val)).toNat = t.val := by decide

/-- Sixteen more zeros (after a load whose value is not used). -/
theorem zero_st {A : Acc F} {t n : ℕ} {off : Fin 2 → ℕ} {h : ∀ a, off a + S1x16.size a ≤ S32x512.size a}
    {hx : (acc.access (Rect.unit (s := S32x512) off S1x16.size h)).Stores Finset.univ}
    {hm : (Finset.univ : Finset S1x16.Idx) = Finset.univ ∨ ∀ a, (Rect.unit (s := S32x512) off S1x16.size h).stride a = 1}
    {w : S1x16.Idx → F .f32} {k : PUnit → TileProg F c s α}
    (ht : t < 32) (hA : Zeroed t n A) (hoff : off = ![(Scalar.indexCast (Scf.iv 0#32 1#32 t)).toNat, n]) (hw : ∀ x, w x = zf)
    (hk : ∀ A', Zeroed t (n + 16) A' → iprop(Holds d acc A' ∗ R) ⊢ twp d (k ⟨⟩) Q) :
    iprop(Holds d acc A ∗ R)
      ⊢ twp d (Prog.lift (TpuEff.store acc (Rect.unit (s := S32x512) off S1x16.size h) w Finset.univ hx hm) >>= k) Q := by
  have ho : off = ![t, n] := hoff.trans (congrArg (fun r => ![r, n]) (zero_row ⟨t, ht⟩))
  refine wp_st d (fun j => if (j 0).val = t ∧ n ≤ (j 1).val ∧ (j 1).val < n + 16 then zf else A j) ?_ ?_ (hk _ ?_)
  · intro x
    have h0 : (x 0).val < 1 := (x 0).isLt
    have h1 : (x 1).val < 16 := (x 1).isLt
    have o0 : off 0 = t := congrFun ho 0
    have o1 : off 1 = n := congrFun ho 1
    rw [hw]
    refine if_pos ⟨?_, ?_, ?_⟩
    · show off 0 + 1 * (x 0).val = t; omega
    · show n ≤ off 1 + 1 * (x 1).val; omega
    · show off 1 + 1 * (x 1).val < n + 16; omega
  · intro j hj
    refine if_neg ?_
    rintro ⟨h1, h2, h3⟩
    refine hj (ix2 0 ⟨(j 1).val - n, by omega⟩) ?_
    exact (unit_idx h _ (j 0) (j 1) (by simp [ho, h1]) (by simp [ho]; omega)).trans (eq_ix2 j).symm
  · intro j hj
    show (if (j 0).val = t ∧ n ≤ (j 1).val ∧ (j 1).val < n + 16 then zf else A j) = _
    split
    · rfl
    · rename_i hn
      refine hA j ?_
      rcases hj with hj | ⟨h1, h2⟩
      · exact .inl hj
      · refine .inr ⟨h1, ?_⟩
        by_contra hc
        exact hn ⟨h1, by omega, h2⟩

end Zeros

/-! ## The lanes -/

/-- A block of sixteen ids, as the buffer is read at it. -/
theorem ld_block {bb : Memref sig (Proc.scVector c s : Proc τ).kind .vmem S10240 .i32} {b : S10000.Idx → BitVec 32} {B : S10240.Idx → BitVec 32}
    {off : Fin 1 → ℕ} {h : ∀ a, off a + S16.size a ≤ S10240.size a}
    {hl : bb.view.LoadsAt (Rect.unit (s := S10240) off S16.size h).toLoadRect} {k : (S16.Idx → BitVec 32) → TileProg F c s α}
    (hB : Padded b 10240 B)
    (hk : iprop(Holds d bb (e := .i32) B ∗ R) ⊢ twp d (k (fun t => padW b (off 0 + (t 0).val))) Q) :
    iprop(Holds d bb (e := .i32) B ∗ R) ⊢ twp d (Prog.lift (TpuEff.load (e := .i32) bb (Rect.unit (s := S10240) off S16.size h).toLoadRect hl) >>= k) Q := by
  refine wp_ld d (e := .i32) ?_
  have e : (fun x : S16.Idx => B ((Rect.unit (s := S10240) off S16.size h).toLoadRect.idx x)) = fun t => padW b (off 0 + (t 0).val) := by
    funext t
    have e0 : (((Rect.unit (s := S10240) off S16.size h).toLoadRect.idx t) 0).val = off 0 + (t 0).val := by
      show off 0 + 1 * (t 0).val = _; omega
    rw [hB _ (Fin.isLt _), e0]
  exact e ▸ hk

/-- Lane `k` of a vector, extracted. -/
theorem lane_of (v : IVec S16 32) (k : ℕ) (hs : S16.Slices ![k % 16] S1) (hp : ∀ a, (![0] : Fin 1 → ℕ) a < S1.size a) :
    extractAt ![0] (extractStridedSlice S1 ![k % 16] (shapeCast S16 v shapeCasts_S16_S16) hs) hp = v (lane k) := by
  rw [shapeCast_self]; rfl

/-! ## The program's parts -/

variable (i : grid0.Coords)
variable (arg2 : Memref sig .scVector .hbm S10000x512 .f32) (harg2 : arg2.IsWhole) (arg3 : Memref sig .scVector .hbm S10000 .f32) (harg3 : arg3.IsWhole) (arg4 : Memref sig .scVector .hbm S10000 .i32) (harg4 : arg4.IsWhole) (arg5 : Memref sig .scVector .hbm S1024x512 .f32) (harg5 : arg5.IsWhole) (arg6 : Memref sig .scVector .vmem S64x512 .f32) (harg6 : arg6.IsWhole) (arg7 : Memref sig .scVector .vmem S64x512 .f32) (harg7 : arg7.IsWhole) (arg8 : Memref sig .scVector .vmem S10240 .i32) (harg8 : arg8.IsWhole) (arg9 : Memref sig .scVector .vmem S10000 .f32) (harg9 : arg9.IsWhole) (arg10 : Memref sig .scVector .vmem S32x512 .f32) (harg10 : arg10.IsWhole) (arg11 : DmaSems sig S_) (arg12 : DmaSems sig S_) (v320_r0 : DmaSems sig S_) (v320_r1 : DmaSems sig S_) (v642_r2 : DmaSems sig S_) (v320_r3 : DmaSems sig S_)
variable {A : Acc F} {B : S10240.Idx → BitVec 32} {b : S10000.Idx → BitVec 32}

set_option maxHeartbeats 1000000 in
theorem t1_trip (v2 c1024 : BitVec 32) (t : Fin k0_t1_loop.trips) (hA : Zeroed t.val 0 A) :
    iprop(Holds (c := (i 0).castLE hcore0) (s := (i 1).castLE hsub0) d arg10 A ∗ R)
      ⊢ twp d (k0_t1_body i arg2 harg2 arg3 harg3 arg4 harg4 arg5 harg5 arg6 harg6 arg7 harg7 arg8 harg8 arg9 harg9 arg10 harg10 arg11 arg12 v320_r0 v320_r1 v642_r2 v320_r3 v2 c1024 t ⟨⟩) (fun _ => iprop(∃ A', ⌜Zeroed (t.val + 1) 0 A'⌝ ∗ Holds (c := (i 0).castLE hcore0) (s := (i 1).castLE hsub0) d arg10 A' ∗ R)) := by
  have ht : t.val < 32 := t.isLt
  unfold k0_t1_body
  refine enter ?_
  rw [k0_part1_eq_skeleton]; unfold k0_part1_skel
  iterate 7
    refine wp_ld d ?_
    refine zero_st ht (by assumption) rfl (fun _ => rfl) (fun A' hA' => ?_)
  refine leave ?_
  beta_reduce
  refine enter ?_
  rw [k0_part2_eq_skeleton]; unfold k0_part2_skel
  iterate 7
    refine wp_ld d ?_
    refine zero_st ht (by assumption) rfl (fun _ => rfl) (fun A' hA' => ?_)
  refine wp_ld d ?_
  refine leave ?_
  beta_reduce
  refine enter ?_
  rw [k0_part3_eq_skeleton]; unfold k0_part3_skel
  refine zero_st ht (by assumption) rfl (fun _ => rfl) (fun A' hA' => ?_)
  iterate 7
    refine wp_ld d ?_
    refine zero_st ht (by assumption) rfl (fun _ => rfl) (fun A' hA' => ?_)
  refine leave ?_
  beta_reduce
  refine enter ?_
  rw [k0_part4_eq_skeleton]; unfold k0_part4_skel
  iterate 7
    refine wp_ld d ?_
    refine zero_st ht (by assumption) rfl (fun _ => rfl) (fun A' hA' => ?_)
  refine wp_ld d ?_
  refine leave ?_
  beta_reduce
  refine zero_st ht (by assumption) rfl (fun _ => rfl) (fun A' hA' => ?_)
  refine wp_ld d ?_
  refine zero_st ht (by assumption) rfl (fun _ => rfl) (fun A' hA' => ?_)
  refine wp_ld d ?_
  refine zero_st ht (by assumption) rfl (fun _ => rfl) (fun A' hA' => ?_)
  refine leave ?_
  iintro H
  iexists A'
  isplitr
  · ipureintro
    intro j hj
    have h1 : (j 1).val < 512 := (j 1).isLt
    exact hA' j (by omega)
  · iexact H

/-- The accumulator, zeroed. -/
theorem zero_loop {k : Unit → TileProg F ((i 0).castLE hcore0) ((i 1).castLE hsub0) α} (v2 c1024 : BitVec 32)
    (hk : iprop(Holds (c := (i 0).castLE hcore0) (s := (i 1).castLE hsub0) d arg10 (fun _ => zf) ∗ R) ⊢ twp d (k ⟨⟩) Q) :
    iprop(Holds (c := (i 0).castLE hcore0) (s := (i 1).castLE hsub0) d arg10 A ∗ R)
      ⊢ twp d (Scf.Loop.for k0_t1_loop k0_t1_ok ⟨⟩ (k0_t1_body i arg2 harg2 arg3 harg3 arg4 harg4 arg5 harg5 arg6 harg6 arg7 harg7 arg8 harg8 arg9 harg9 arg10 harg10 arg11 arg12 v320_r0 v320_r1 v642_r2 v320_r3 v2 c1024) >>= k) Q := by
  have hw := Scf.wp_for_bind frame (wpE (defs₀ (F := F)) 𝒱₀ (d, .scVector ((i 0).castLE hcore0) ((i 1).castLE hsub0)) none) Set.univ
    k0_t1_loop.lb k0_t1_loop.ub k0_t1_loop.st k0_t1_ok ⟨⟩ (k0_t1_body i arg2 harg2 arg3 harg3 arg4 harg4 arg5 harg5 arg6 harg6 arg7 harg7 arg8 harg8 arg9 harg9 arg10 harg10 arg11 arg12 v320_r0 v320_r1 v642_r2 v320_r3 v2 c1024)
    (fun n _ => iprop(∃ A', ⌜Zeroed n 0 A'⌝ ∗ Holds (c := (i 0).castLE hcore0) (s := (i 1).castLE hsub0) d arg10 A' ∗ R))
    (fun t v => by
      iintro ⟨%A', %hA, H⟩
      iapply (t1_trip i arg2 harg2 arg3 harg3 arg4 harg4 arg5 harg5 arg6 harg6 arg7 harg7 arg8 harg8 arg9 harg9 arg10 harg10 arg11 arg12 v320_r0 v320_r1 v642_r2 v320_r3 v2 c1024 t hA)
      iexact H) (kk := k) (Q := Q)
  iintro H
  ihave Hw := hw $$ [H]
  · iexists A
    isplitr
    · ipureintro
      rintro j (h | ⟨-, h⟩) <;> exact absurd h (Nat.not_lt_zero _)
    · iexact H
  iapply Hw
  iintro %v ⟨%A', %hA, H⟩
  have e : A' = fun _ => zf := funext fun j => hA j (.inl (j 0).isLt)
  subst e
  iapply hk
  iexact H

/-! ## The searches -/

/-- A tile's bound, as a number: at most the number of segments. -/
theorem below_end {g : BitVec 32} (hg : ∃ e : ℤ, Affine.IsInt g e ∧ e ≤ 1024) : ∀ n, 10000 ≤ n → ¬ Below b g n :=
  fun _ hn => let ⟨_, h, he⟩ := hg; below_pad h he hn

theorem search_lo {k : BitVec 32 × BitVec 32 → TileProg F ((i 0).castLE hcore0) ((i 1).castLE hsub0) α} (v2 c1024 : BitVec 32)
    (hg : ∃ e : ℤ, Affine.IsInt v2 e ∧ e ≤ 1024) (hB : Padded b 10240 B)
    (hk : ∀ r, Found (Below b v2) r.1 → iprop(Holds (c := (i 0).castLE hcore0) (s := (i 1).castLE hsub0) d arg8 (e := .i32) B ∗ R) ⊢ twp d (k r) Q) :
    iprop(Holds (c := (i 0).castLE hcore0) (s := (i 1).castLE hsub0) d arg8 (e := .i32) B ∗ R)
      ⊢ twp d (Scf.Loop.for k0_t2_loop k0_t2_ok (0#32, 640#32) (k0_t2_body i arg2 harg2 arg3 harg3 arg4 harg4 arg5 harg5 arg6 harg6 arg7 harg7 arg8 harg8 arg9 harg9 arg10 harg10 arg11 arg12 v320_r0 v320_r1 v642_r2 v320_r3 v2 c1024) >>= k) Q := by
  have hw := Scf.wp_for_bind frame (wpE (defs₀ (F := F)) 𝒱₀ (d, .scVector ((i 0).castLE hcore0) ((i 1).castLE hsub0)) none) Set.univ
    k0_t2_loop.lb k0_t2_loop.ub k0_t2_loop.st k0_t2_ok (0#32, 640#32) (k0_t2_body i arg2 harg2 arg3 harg3 arg4 harg4 arg5 harg5 arg6 harg6 arg7 harg7 arg8 harg8 arg9 harg9 arg10 harg10 arg11 arg12 v320_r0 v320_r1 v642_r2 v320_r3 v2 c1024)
    (fun n r => iprop(⌜SInv (Below b v2) n r.1 r.2⌝ ∗ Holds (c := (i 0).castLE hcore0) (s := (i 1).castLE hsub0) d arg8 (e := .i32) B ∗ R))
    (fun t r => by
      refine of_pure fun h => ?_
      obtain ⟨l, r⟩ := r
      unfold k0_t2_body
      have hm := sinv_mid h
      refine assume_ok (fun a => by
        match a with
        | ⟨0, _⟩ => exact hm) ?_
      refine ld_block hB ?_
      refine leave ?_
      refine with_pure ?_
      refine sinv_step (below_end hg) h ?_
      refine iff_of_eq (congrArg (fun w => Scalar.cmpi .slt w v2 = 1#1) ?_)
      exact lane_of _ 0 slices_S16_o0_S1 inpos_S1_p0) (kk := k) (Q := Q)
  iintro H
  ihave Hw := hw $$ [H]
  · isplitr
    · ipureintro; exact sinv_start (below_end hg)
    · iexact H
  iapply Hw
  iintro %r ⟨%h, H⟩
  iapply (hk r (sinv_end h))
  iexact H

theorem search_hi {k : BitVec 32 × BitVec 32 → TileProg F ((i 0).castLE hcore0) ((i 1).castLE hsub0) α} (v2 v3 v66_0 v68 : BitVec 32)
    (v72 : IVec S16 32) (v132 : BitVec 32) (v135 : BitVec 1) (c1 : BitVec 32)
    (hg : ∃ e : ℤ, Affine.IsInt v3 e ∧ e ≤ 1024) (hB : Padded b 10240 B)
    (hk : ∀ r, Found (Below b v3) r.1 → iprop(Holds (c := (i 0).castLE hcore0) (s := (i 1).castLE hsub0) d arg8 (e := .i32) B ∗ R) ⊢ twp d (k r) Q) :
    iprop(Holds (c := (i 0).castLE hcore0) (s := (i 1).castLE hsub0) d arg8 (e := .i32) B ∗ R)
      ⊢ twp d (Scf.Loop.for k0_t3_loop k0_t3_ok (0#32, 640#32) (k0_t3_body i arg2 harg2 arg3 harg3 arg4 harg4 arg5 harg5 arg6 harg6 arg7 harg7 arg8 harg8 arg9 harg9 arg10 harg10 arg11 arg12 v320_r0 v320_r1 v642_r2 v320_r3 v2 v3 v66_0 v68 v72 v132 v135 c1) >>= k) Q := by
  have hw := Scf.wp_for_bind frame (wpE (defs₀ (F := F)) 𝒱₀ (d, .scVector ((i 0).castLE hcore0) ((i 1).castLE hsub0)) none) Set.univ
    k0_t3_loop.lb k0_t3_loop.ub k0_t3_loop.st k0_t3_ok (0#32, 640#32) (k0_t3_body i arg2 harg2 arg3 harg3 arg4 harg4 arg5 harg5 arg6 harg6 arg7 harg7 arg8 harg8 arg9 harg9 arg10 harg10 arg11 arg12 v320_r0 v320_r1 v642_r2 v320_r3 v2 v3 v66_0 v68 v72 v132 v135 c1)
    (fun n r => iprop(⌜SInv (Below b v3) n r.1 r.2⌝ ∗ Holds (c := (i 0).castLE hcore0) (s := (i 1).castLE hsub0) d arg8 (e := .i32) B ∗ R))
    (fun t r => by
      refine of_pure fun h => ?_
      obtain ⟨l, r⟩ := r
      unfold k0_t3_body
      have hm := sinv_mid h
      refine assume_ok (fun a => by
        match a with
        | ⟨0, _⟩ => exact hm) ?_
      refine ld_block hB ?_
      refine leave ?_
      refine with_pure ?_
      refine sinv_step (below_end hg) h ?_
      refine iff_of_eq (congrArg (fun w => Scalar.cmpi .slt w v3 = 1#1) ?_)
      exact lane_of _ 0 slices_S16_o0_S1 inpos_S1_p0) (kk := k) (Q := Q)
  iintro H
  ihave Hw := hw $$ [H]
  · isplitr
    · ipureintro; exact sinv_start (below_end hg)
    · iexact H
  iapply Hw
  iintro %r ⟨%h, H⟩
  iapply (hk r (sinv_end h))
  iexact H

end Cert.Proof.Pool

end
-- ==== Proof.Front2.lean ====
/-
  The parts of a tile's body between the arrival of its ids and its first chunk: what each leaves in the buffers and what
  the words it passes on are.
-/
module

public import proofs.«01_k».proof.Proof.Front

@[expose] public section

noncomputable section

namespace Cert.Proof.Pool

open Cert.KernelIdeal Cert.KernelIdeal.Gen
open Idealize.ShloMosaic Idealize.ShloMosaic.ValueIdx
open Idealize.SL Idealize.SL.RA Idealize.SL.BI
open scoped Idealize.SL.BI
open Idealize.SL.BI.BIBase Idealize.SL.BI.Laws Idealize.SL.ProofMode Idealize.SL.Sem

variable {F : FTy → Type} [FloatOps F]
variable {d : Dev nD} {R : sProp (MM F)}

/-- A part of the program at its head, with what it passes on known. -/
theorem enter_with {c : Fin τ.nSC} {s : Fin τ.nSub} {α β : Type} {Q : α → sProp (MM F)} {p : TileProg F c s β}
    {k : β → TileProg F c s α} {S : sProp (MM F)} {φ : β → Prop} {T : sProp (MM F)}
    (h : S ⊢ twp d p (fun r => iprop(⌜φ r⌝ ∗ T))) (hk : ∀ r, φ r → T ⊢ twp d (k r) Q) : S ⊢ twp d (p >>= k) Q :=
  enter (h.trans (wp_mono frame _ _ fun r => of_pure (hk r)))

/-- The ids and their pads. -/
def padB (b : S10000.Idx → BitVec 32) : S10240.Idx → BitVec 32 := fun j => padW b (j 0).val

theorem padB_padded (b : S10000.Idx → BitVec 32) : Padded b 10240 (padB b) := fun _ _ => rfl
theorem padB_ids (b : S10000.Idx → BitVec 32) : ∀ j : S10240.Idx, (j 0).val < 10000 → padB b j = idN b (j 0).val :=
  fun _ hj => if_pos hj

/-- The ids from node `n` on, as a vector of sixteen lanes. -/
def idVec (b : S10000.Idx → BitVec 32) (n : ℕ) : IVec S16 32 := fun t => padW b (n + (t 0).val)

/-- A lane extracted from a vector. -/
theorem lane_of' (v : IVec S16 32) (k : ℕ) (hs : S16.Slices ![k % 16] S1) (hp : ∀ a, (![0] : Fin 1 → ℕ) a < S1.size a) :
    extractAt ![0] (extractStridedSlice S1 ![k % 16] v hs) hp = v (lane k) := rfl

variable (i : grid0.Coords)
variable (arg2 : Memref sig .scVector .hbm S10000x512 .f32) (harg2 : arg2.IsWhole) (arg3 : Memref sig .scVector .hbm S10000 .f32) (harg3 : arg3.IsWhole) (arg4 : Memref sig .scVector .hbm S10000 .i32) (harg4 : arg4.IsWhole) (arg5 : Memref sig .scVector .hbm S1024x512 .f32) (harg5 : arg5.IsWhole) (arg6 : Memref sig .scVector .vmem S64x512 .f32) (harg6 : arg6.IsWhole) (arg7 : Memref sig .scVector .vmem S64x512 .f32) (harg7 : arg7.IsWhole) (arg8 : Memref sig .scVector .vmem S10240 .i32) (harg8 : arg8.IsWhole) (arg9 : Memref sig .scVector .vmem S10000 .f32) (harg9 : arg9.IsWhole) (arg10 : Memref sig .scVector .vmem S32x512 .f32) (harg10 : arg10.IsWhole) (arg11 : DmaSems sig S_) (arg12 : DmaSems sig S_) (v320_r0 : DmaSems sig S_) (v320_r1 : DmaSems sig S_) (v642_r2 : DmaSems sig S_) (v320_r3 : DmaSems sig S_)
variable {A : Acc F} {B : S10240.Idx → BitVec 32} {b : S10000.Idx → BitVec 32}

set_option maxHeartbeats 1000000 in
theorem part46_ok (v24 : IVec S16 32) (v25 : Vec F S16 .i32) (h24 : v24 = k0_pay506) (hB : Padded b 10080 B) :
    iprop(Holds (c := (i 0).castLE hcore0) (s := (i 1).castLE hsub0) d arg8 (e := .i32) B ∗ R) ⊢ twp d (k0_part46 i arg2 harg2 arg3 harg3 arg4 harg4 arg5 harg5 arg6 harg6 arg7 harg7 arg8 harg8 arg9 harg9 arg10 harg10 arg11 arg12 v320_r0 v320_r1 v642_r2 v320_r3 v24 v25)
      (fun w => iprop(⌜w = 1024#32⌝ ∗ (∃ B', ⌜Padded b 10224 B'⌝ ∗ Holds (c := (i 0).castLE hcore0) (s := (i 1).castLE hsub0) d arg8 (e := .i32) B' ∗ R))) := by
  subst h24
  rw [k0_part46_eq_skeleton]; unfold k0_part46_skel
  refine pad_st hB rfl (by norm_num) (fun _ => rfl) (fun B' hB' => ?_)
  iterate 8
    refine wp_ld d (e := .i32) ?_
    refine pad_st (by assumption) rfl (by norm_num) (fun _ => rfl) (fun B' hB' => ?_)
  refine leave ?_
  iintro H
  isplitr
  · ipureintro; rfl
  iexists B'
  isplitr
  · ipureintro; exact hB'
  · iexact H

/-- A vector read at its own shape. -/
theorem idVec_cast (v : IVec S16 32) : shapeCast S16 v shapeCasts_S16_S16 = v := shapeCast_self _ _

set_option maxHeartbeats 1000000 in
/-- What the first search passes on. -/
theorem part47_ok (v2 : BitVec 32) (hg : ∃ e : ℤ, Affine.IsInt v2 e ∧ e ≤ 1024) (hB : Padded b 10224 B) :
    iprop(Holds (c := (i 0).castLE hcore0) (s := (i 1).castLE hsub0) d arg8 (e := .i32) B ∗ Holds (c := (i 0).castLE hcore0) (s := (i 1).castLE hsub0) d arg10 A ∗ R) ⊢ twp d (k0_part47 i arg2 harg2 arg3 harg3 arg4 harg4 arg5 harg5 arg6 harg6 arg7 harg7 arg8 harg8 arg9 harg9 arg10 harg10 arg11 arg12 v320_r0 v320_r1 v642_r2 v320_r3 v2 1024#32)
      (fun r => iprop(⌜Found (Below b v2) r.1 ∧ r.2.1 = Scalar.maxsi (Scalar.subi r.1 1#32) 0#32
          ∧ r.2.2.1 = idVec b (blockW r.1).toNat ∧ r.2.2.2.1 = r.2.2.1 (lane 0) ∧ r.2.2.2.2.1 = r.2.2.1 (lane 1)
          ∧ r.2.2.2.2.2.1 = r.2.2.1 (lane 2) ∧ r.2.2.2.2.2.2.1 = r.2.2.1 (lane 3)
          ∧ r.2.2.2.2.2.2.2 = cntU v2 (fun k => r.2.2.1 (lane k)) 4⌝
        ∗ (Holds (c := (i 0).castLE hcore0) (s := (i 1).castLE hsub0) d arg8 (e := .i32) (padB b) ∗ Holds (c := (i 0).castLE hcore0) (s := (i 1).castLE hsub0) d arg10 (fun _ => zf) ∗ R))) := by
  rw [k0_part47_eq_skeleton]; unfold k0_part47_skel
  refine wp_ld d (e := .i32) ?_
  refine pad_st hB rfl (by norm_num) (fun _ => rfl) (fun B' hB' => ?_)
  have e : B' = padB b := funext fun j => hB' j (j 0).isLt
  subst e
  refine sep_left_comm.1.trans ?_
  refine zero_loop i arg2 harg2 arg3 harg3 arg4 harg4 arg5 harg5 arg6 harg6 arg7 harg7 arg8 harg8 arg9 harg9 arg10 harg10 arg11 arg12 v320_r0 v320_r1 v642_r2 v320_r3 v2 1024#32 ?_
  refine sep_left_comm.1.trans ?_
  refine search_lo i arg2 harg2 arg3 harg3 arg4 harg4 arg5 harg5 arg6 harg6 arg7 harg7 arg8 harg8 arg9 harg9 arg10 harg10 arg11 arg12 v320_r0 v320_r1 v642_r2 v320_r3 v2 1024#32 hg (padB_padded b) (fun r hr => ?_)
  obtain ⟨l, r⟩ := r
  have hb := found_block hr
  refine assume_ok (fun a => by
    match a with
    | ⟨0, _⟩ => exact hb.trans (by norm_num)) ?_
  refine ld_block (padB_padded b) ?_
  refine leave ?_
  exact with_pure ⟨hr, rfl, idVec_cast (idVec b (blockW l).toNat), rfl, rfl, rfl, rfl, rfl⟩

/-- The next lanes. -/
theorem part48_ok (v2 : BitVec 32) (v72 : IVec S16 32) (v92 : BitVec 32) (h92 : v92 = cntU v2 (fun k => v72 (lane k)) 4) :
    R ⊢ twp d (k0_part48 (F := F) i arg2 harg2 arg3 harg3 arg4 harg4 arg5 harg5 arg6 harg6 arg7 harg7 arg8 harg8 arg9 harg9 arg10 harg10 arg11 arg12 v320_r0 v320_r1 v642_r2 v320_r3 v2 v72 v92)
      (fun r => iprop(⌜r.1 = v72 (lane 4) ∧ r.2.1 = v72 (lane 5) ∧ r.2.2.1 = v72 (lane 6) ∧ r.2.2.2.1 = v72 (lane 7) ∧ r.2.2.2.2.1 = v72 (lane 8) ∧ r.2.2.2.2.2.1 = v72 (lane 9) ∧ r.2.2.2.2.2.2.1 = v72 (lane 10) ∧ r.2.2.2.2.2.2.2.1 = v72 (lane 11) ∧ r.2.2.2.2.2.2.2.2.1 = cntU v2 (fun k => v72 (lane k)) 12 ∧ r.2.2.2.2.2.2.2.2.2.1 = v72 (lane 12) ∧ r.2.2.2.2.2.2.2.2.2.2.1 = Scalar.cmpi .slt (v72 (lane 12)) v2 ∧ r.2.2.2.2.2.2.2.2.2.2.2 = 1#32⌝ ∗ R)) := by
  subst h92
  rw [k0_part48_eq_skeleton]; unfold k0_part48_skel
  refine leave ?_
  exact with_pure ⟨rfl, rfl, rfl, rfl, rfl, rfl, rfl, rfl, rfl, rfl, rfl, rfl⟩

set_option maxHeartbeats 1000000 in
/-- What the second search passes on. -/
theorem part49_ok (v2 v3 v66_0 v68 : BitVec 32) (v72 : IVec S16 32) (v132 : BitVec 32) (v135 : BitVec 1) (c1 : BitVec 32)
    (hg : ∃ e : ℤ, Affine.IsInt v3 e ∧ e ≤ 1024) :
    iprop(Holds (c := (i 0).castLE hcore0) (s := (i 1).castLE hsub0) d arg8 (e := .i32) (padB b) ∗ R) ⊢ twp d (k0_part49 i arg2 harg2 arg3 harg3 arg4 harg4 arg5 harg5 arg6 harg6 arg7 harg7 arg8 harg8 arg9 harg9 arg10 harg10 arg11 arg12 v320_r0 v320_r1 v642_r2 v320_r3 v2 v3 v66_0 v68 v72 v132 v135 c1)
      (fun r => iprop(⌜r.1 = v72 (lane 13) ∧ r.2.1 = v72 (lane 14) ∧ r.2.2.1 = v72 (lane 15) ∧ Found (Below b v3) r.2.2.2.2.1 ∧ r.2.2.2.2.2.2.1 = idVec b (blockW r.2.2.2.2.1).toNat ∧ r.2.2.2.2.2.2.2.1 = r.2.2.2.2.2.2.1 (lane 0) ∧ r.2.2.2.2.2.2.2.2.2.1 = r.2.2.2.2.2.2.1 (lane 1)⌝ ∗ (Holds (c := (i 0).castLE hcore0) (s := (i 1).castLE hsub0) d arg8 (e := .i32) (padB b) ∗ R))) := by
  rw [k0_part49_eq_skeleton]; unfold k0_part49_skel
  refine search_hi i arg2 harg2 arg3 harg3 arg4 harg4 arg5 harg5 arg6 harg6 arg7 harg7 arg8 harg8 arg9 harg9 arg10 harg10 arg11 arg12 v320_r0 v320_r1 v642_r2 v320_r3 v2 v3 v66_0 v68 v72 v132 v135 c1 hg (padB_padded b) (fun r hr => ?_)
  obtain ⟨l, r⟩ := r
  have hb := found_block hr
  refine assume_ok (fun a => by
    match a with
    | ⟨0, _⟩ => exact hb.trans (by norm_num)) ?_
  refine ld_block (padB_padded b) ?_
  refine leave ?_
  exact with_pure ⟨rfl, rfl, rfl, hr, idVec_cast (idVec b (blockW l).toNat), rfl, rfl⟩

/-- The next lanes. -/
theorem part50_ok (v3 : BitVec 32) (v164 : IVec S16 32) (v169 : BitVec 32) (v172 : BitVec 1) :
    R ⊢ twp d (k0_part50 (F := F) i arg2 harg2 arg3 harg3 arg4 harg4 arg5 harg5 arg6 harg6 arg7 harg7 arg8 harg8 arg9 harg9 arg10 harg10 arg11 arg12 v320_r0 v320_r1 v642_r2 v320_r3 v3 v164 v169 v172)
      (fun r => iprop(⌜r.1 = v164 (lane 2) ∧ r.2.1 = v164 (lane 3) ∧ r.2.2.1 = v164 (lane 4) ∧ r.2.2.2.1 = v164 (lane 5) ∧ r.2.2.2.2.1 = v164 (lane 6) ∧ r.2.2.2.2.2.1 = v164 (lane 7) ∧ r.2.2.2.2.2.2.1 = v164 (lane 8) ∧ r.2.2.2.2.2.2.2.1 = v164 (lane 9)⌝ ∗ R)) := by
  rw [k0_part50_eq_skeleton]; unfold k0_part50_skel
  refine leave ?_
  exact with_pure ⟨rfl, rfl, rfl, rfl, rfl, rfl, rfl, rfl⟩

/-- The last lanes. -/
theorem part51_ok (v3 v66_0 v74 v79 v84 v89 v94 v99 v104 v109 v114 v119 v124 v129 v134 v139 v144 v149 v156 : BitVec 32) (v158_0 v160 : BitVec 32) (v164 : IVec S16 32) (v166 v171 v176 v181 v186 v191 v196 v201 v206 v211 v214 : BitVec 32)
    (h5 : ∀ v216 v221 v226 v231 v236 v241 : BitVec 32, v216 = v164 (lane 10) → v221 = v164 (lane 11) → v226 = v164 (lane 12) → v231 = v164 (lane 13)
      → v236 = v164 (lane 14) → v241 = v164 (lane 15) → k0_chk5 i v66_0 v74 v79 v84 v89 v94 v99 v104 v109 v114 v119 v124 v129 v134 v139 v144 v149 v158_0 v166 v171 v176 v181 v186 v191 v196 v201 v206 v211 v216 v221 v226 v231 v236 v241) :
    R ⊢ twp d (k0_part51 (F := F) i arg2 harg2 arg3 harg3 arg4 harg4 arg5 harg5 arg6 harg6 arg7 harg7 arg8 harg8 arg9 harg9 arg10 harg10 arg11 arg12 v320_r0 v320_r1 v642_r2 v320_r3 v3 v66_0 v74 v79 v84 v89 v94 v99 v104 v109 v114 v119 v124 v129 v134 v139 v144 v149 v156 v158_0 v160 v164 v166 v171 v176 v181 v186 v191 v196 v201 v206 v211 v214)
      (fun r => iprop(⌜r.1 = v164 (lane 10) ∧ r.2.1 = v164 (lane 11) ∧ r.2.2.1 = v164 (lane 12) ∧ r.2.2.2.1 = v164 (lane 13) ∧ r.2.2.2.2.1 = v164 (lane 14) ∧ r.2.2.2.2.2.1 = v164 (lane 15)⌝ ∗ R)) := by
  rw [k0_part51_eq_skeleton]; unfold k0_part51_skel
  refine assume_ok (h5 _ _ _ _ _ _ rfl rfl rfl rfl rfl rfl) ?_
  refine leave ?_
  exact with_pure ⟨rfl, rfl, rfl, rfl, rfl, rfl⟩

end Cert.Proof.Pool

end
-- ==== Proof.Tail.lean ====
/-
  The last sixteen nodes, which no chunk of sixty-four covers: they are fetched by their own copy into the first of the
  row buffers and taken by the tile whose range reaches them.
-/
module

public import proofs.«01_k».proof.Proof.Dma
public import proofs.«01_k».proof.Proof.Group

@[expose] public section

noncomputable section

namespace Cert.Proof.Pool

open Cert.KernelIdeal Cert.KernelIdeal.Gen
open Idealize.ShloMosaic Idealize.ShloMosaic.ValueIdx
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem

variable {F : FTy → Type} [FloatOps F]

variable (i : grid0.Coords)
variable (arg2 : Memref sig .scVector .hbm S10000x512 .f32) (harg2 : arg2.IsWhole) (arg3 : Memref sig .scVector .hbm S10000 .f32) (harg3 : arg3.IsWhole) (arg4 : Memref sig .scVector .hbm S10000 .i32) (harg4 : arg4.IsWhole) (arg5 : Memref sig .scVector .hbm S1024x512 .f32) (harg5 : arg5.IsWhole) (arg6 : Memref sig .scVector .vmem S64x512 .f32) (harg6 : arg6.IsWhole) (arg7 : Memref sig .scVector .vmem S64x512 .f32) (harg7 : arg7.IsWhole) (arg8 : Memref sig .scVector .vmem S10240 .i32) (harg8 : arg8.IsWhole) (arg9 : Memref sig .scVector .vmem S10000 .f32) (harg9 : arg9.IsWhole) (arg10 : Memref sig .scVector .vmem S32x512 .f32) (harg10 : arg10.IsWhole) (arg11 : DmaSems sig S_) (arg12 : DmaSems sig S_) (v320_r0 : DmaSems sig S_) (v320_r1 : DmaSems sig S_) (v642_r2 : DmaSems sig S_) (v320_r3 : DmaSems sig S_)
variable (v2 v3 v158_0 v166 v171 v176 v181 v186 v191 v196 v201 v206 v211 v216 v221 v226 v231 v236 v241 : BitVec 32)

/-- The steps on the last sixteen nodes, before the rest of the program. -/
def tailRows {α : Type} (k0_h11 : k0_cond11 i v158_0 v166 v171 v176 v181 v186 v191 v196 v201 v206 v211 v216 v221 v226 v231 v236 v241 = 1#1) (kp : TileProg F ((i 0).castLE hcore0) ((i 1).castLE hsub0) α) :
    TileProg F ((i 0).castLE hcore0) ((i 1).castLE hsub0) α := do
  let ⟨v331, v337, v339, v341, k0_hw70, v344, v345⟩ : Σ' (v331 : FVec F S16 .f32) (v337 : IVec S16 32) (v339 : F .f32) (v341 : BitVec 32) (k0_hw70 : k0_chk70 i v158_0 v166 v171 v176 v181 v186 v191 v196 v201 v206 v211 v216 v221 v226 v231 v236 v241 v341) (v344 : FVec F S16 .f32), FVec F S16 .f32 ← k0_part37 i arg2 harg2 arg3 harg3 arg4 harg4 arg5 harg5 arg6 harg6 arg7 harg7 arg8 harg8 arg9 harg9 arg10 harg10 arg11 arg12 v320_r0 v320_r1 v642_r2 v320_r3 v2 v3 v158_0 v166 v171 v176 v181 v186 v191 v196 v201 v206 v211 v216 v221 v226 v231 v236 v241
  let ⟨v377, v379, k0_hw72, v384, c1_i32_157⟩ : Σ' (v377 : F .f32) (v379 : BitVec 32) (k0_hw72 : k0_chk72 i v158_0 v166 v171 v176 v181 v186 v191 v196 v201 v206 v211 v216 v221 v226 v231 v236 v241 v379) (v384 : FVec F S16 .f32), BitVec 32 ← k0_part38 i arg2 harg2 arg3 harg3 arg4 harg4 arg5 harg5 arg6 harg6 arg7 harg7 arg8 harg8 arg9 harg9 arg10 harg10 arg11 arg12 v320_r0 v320_r1 v642_r2 v320_r3 v158_0 v166 v171 v176 v181 v186 v191 v196 v201 v206 v211 v216 v221 v226 v231 v236 v241 k0_h11 v331 v337 v339 v341 k0_hw70 v344 v345
  let ⟨v415, v417, k0_hw74, v422, c1_i32_171⟩ : Σ' (v415 : F .f32) (v417 : BitVec 32) (k0_hw74 : k0_chk74 i v158_0 v166 v171 v176 v181 v186 v191 v196 v201 v206 v211 v216 v221 v226 v231 v236 v241 v417) (v422 : FVec F S16 .f32), BitVec 32 ← k0_part39 i arg2 harg2 arg3 harg3 arg4 harg4 arg5 harg5 arg6 harg6 arg7 harg7 arg8 harg8 arg9 harg9 arg10 harg10 arg11 arg12 v320_r0 v320_r1 v642_r2 v320_r3 v158_0 v166 v171 v176 v181 v186 v191 v196 v201 v206 v211 v216 v221 v226 v231 v236 v241 k0_h11 v331 v337 v377 v379 k0_hw72 v384 c1_i32_157
  let ⟨v455, k0_hw76, v462⟩ : Σ' (v455 : BitVec 32) (k0_hw76 : k0_chk76 i v158_0 v166 v171 v176 v181 v186 v191 v196 v201 v206 v211 v216 v221 v226 v231 v236 v241 v455), FVec F S16 .f32 ← k0_part40 i arg2 harg2 arg3 harg3 arg4 harg4 arg5 harg5 arg6 harg6 arg7 harg7 arg8 harg8 arg9 harg9 arg10 harg10 arg11 arg12 v320_r0 v320_r1 v642_r2 v320_r3 v158_0 v166 v171 v176 v181 v186 v191 v196 v201 v206 v211 v216 v221 v226 v231 v236 v241 k0_h11 v331 v337 v415 v417 k0_hw74 v422 c1_i32_171
  let ⟨v493, k0_hw78, v500⟩ : Σ' (v493 : BitVec 32) (k0_hw78 : k0_chk78 i v158_0 v166 v171 v176 v181 v186 v191 v196 v201 v206 v211 v216 v221 v226 v231 v236 v241 v493), FVec F S16 .f32 ← k0_part41 i arg2 harg2 arg3 harg3 arg4 harg4 arg5 harg5 arg6 harg6 arg7 harg7 arg8 harg8 arg9 harg9 arg10 harg10 arg11 arg12 v320_r0 v320_r1 v642_r2 v320_r3 v158_0 v166 v171 v176 v181 v186 v191 v196 v201 v206 v211 v216 v221 v226 v231 v236 v241 k0_h11 v331 v337 v455 k0_hw76 v462
  let ⟨v531, k0_hw80, v538, v540⟩ : Σ' (v531 : BitVec 32) (k0_hw80 : k0_chk80 i v158_0 v166 v171 v176 v181 v186 v191 v196 v201 v206 v211 v216 v221 v226 v231 v236 v241 v531) (v538 : FVec F S16 .f32), Vec F S1x16 .f32 ← k0_part42 i arg2 harg2 arg3 harg3 arg4 harg4 arg5 harg5 arg6 harg6 arg7 harg7 arg8 harg8 arg9 harg9 arg10 harg10 arg11 arg12 v320_r0 v320_r1 v642_r2 v320_r3 v158_0 v166 v171 v176 v181 v186 v191 v196 v201 v206 v211 v216 v221 v226 v231 v236 v241 k0_h11 v331 v337 v493 k0_hw78 v500
  let ⟨v569, k0_hw82, v580⟩ : Σ' (v569 : BitVec 32) (k0_hw82 : k0_chk82 i v158_0 v166 v171 v176 v181 v186 v191 v196 v201 v206 v211 v216 v221 v226 v231 v236 v241 v569), FVec F S16 .f32 ← k0_part43 i arg2 harg2 arg3 harg3 arg4 harg4 arg5 harg5 arg6 harg6 arg7 harg7 arg8 harg8 arg9 harg9 arg10 harg10 arg11 arg12 v320_r0 v320_r1 v642_r2 v320_r3 v158_0 v166 v171 v176 v181 v186 v191 v196 v201 v206 v211 v216 v221 v226 v231 v236 v241 k0_h11 v331 v337 v531 k0_hw80 v538 v540
  let ⟨v607, k0_hw84, v618⟩ : Σ' (v607 : BitVec 32) (k0_hw84 : k0_chk84 i v158_0 v166 v171 v176 v181 v186 v191 v196 v201 v206 v211 v216 v221 v226 v231 v236 v241 v607), FVec F S16 .f32 ← k0_part44 i arg2 harg2 arg3 harg3 arg4 harg4 arg5 harg5 arg6 harg6 arg7 harg7 arg8 harg8 arg9 harg9 arg10 harg10 arg11 arg12 v320_r0 v320_r1 v642_r2 v320_r3 v158_0 v166 v171 v176 v181 v186 v191 v196 v201 v206 v211 v216 v221 v226 v231 v236 v241 k0_h11 v331 v337 v569 k0_hw82 v580
  let v620 : Vec F S1x16 .f32 ← Prog.lift (.load arg10 (Rect.unit (s := S32x512) (k0_off355 v607) S1x16.size (k0_off355_inb i v158_0 v166 v171 v176 v181 v186 v191 v196 v201 v206 v211 v216 v221 v226 v231 v236 v241 v607 k0_hw84 k0_h11)).toLoadRect (View.loadsAt_vmem h_S1x16))
  Prog.lift (.store arg10 (Rect.unit (s := S32x512) (k0_off355 v607) S1x16.size (k0_off355_inb i v158_0 v166 v171 v176 v181 v186 v191 v196 v201 v206 v211 v216 v221 v226 v231 v236 v241 v607 k0_hw84 k0_h11)) (k0_pay579 v618) Finset.univ (View.stores_vmem_bits_univ h_S1x16 rfl) (.inl rfl))
  let v626 : BitVec 32 := extractAt ![0] (k0_pay581 v337) inpos_S1_p0
  have k0_hw85 : k0_chk85 i v158_0 v166 v171 v176 v181 v186 v191 v196 v201 v206 v211 v216 v221 v226 v231 v236 v241 v626 := (← Prog.lift (TpuEff.assume (k0_chk85 i v158_0 v166 v171 v176 v181 v186 v191 v196 v201 v206 v211 v216 v221 v226 v231 v236 v241 v626) (k0_chk85.dec i v158_0 v166 v171 v176 v181 v186 v191 v196 v201 v206 v211 v216 v221 v226 v231 v236 v241 v626))).down
  let v628 : Vec F S1x16 .f32 ← Prog.lift (.load arg6 (Rect.unit (s := S64x512) ![15, 0] S1x16.size inb_S64x512_S1x16_15_0).toLoadRect (View.loadsAt_vmem h_S1x16))
  let v633 : FVec F S16 .f32 ← Scf.Loop.for k0_t89_loop k0_t89_ok (k0_pay582 v331 v628) (k0_t89_body i arg2 harg2 arg3 harg3 arg4 harg4 arg5 harg5 arg6 harg6 arg7 harg7 arg8 harg8 arg9 harg9 arg10 harg10 arg11 arg12 v320_r0 v320_r1 v642_r2 v320_r3 v158_0 v166 v171 v176 v181 v186 v191 v196 v201 v206 v211 v216 v221 v226 v231 v236 v241 k0_h11 v331 v626 k0_hw85)
  let v635 : Vec F S1x16 .f32 ← Prog.lift (.load arg10 (Rect.unit (s := S32x512) (k0_off358 v626) S1x16.size (k0_off358_inb i v158_0 v166 v171 v176 v181 v186 v191 v196 v201 v206 v211 v216 v221 v226 v231 v236 v241 v626 k0_hw85 k0_h11)).toLoadRect (View.loadsAt_vmem h_S1x16))
  let v639 : Vec F S1x16 .f32 ← Prog.lift (.load arg10 (Rect.unit (s := S32x512) (k0_off358 v626) S1x16.size (k0_off358_inb i v158_0 v166 v171 v176 v181 v186 v191 v196 v201 v206 v211 v216 v221 v226 v231 v236 v241 v626 k0_hw85 k0_h11)).toLoadRect (View.loadsAt_vmem h_S1x16))
  Prog.lift (.store arg10 (Rect.unit (s := S32x512) (k0_off358 v626) S1x16.size (k0_off358_inb i v158_0 v166 v171 v176 v181 v186 v191 v196 v201 v206 v211 v216 v221 v226 v231 v236 v241 v626 k0_hw85 k0_h11)) (k0_pay585 v633 v635) Finset.univ (View.stores_vmem_bits_univ h_S1x16 rfl) (.inl rfl))
  kp

/-- The first rows of the buffer after the fetch of the last sixteen. -/
def tailX (x : S10000x512.Idx → F .f32) (X : S64x512.Idx → F .f32) : S64x512.Idx → F .f32 :=
  fun j => if (j 0).val < 16 then rowN x (9984 + (j 0).val) (j 1) else X j

variable {d : Dev nD} {q : PosShare TreeShare} {O : CellTallies nD τ sig (HIx 1)} {W : Waits sig (HIx 1)}
variable {X : S64x512.Idx → F .f32} {B : S10240.Idx → BitVec 32} {L : S10000.Idx → F .f32} {A : Acc F} {R : sProp (MM F)}

/-- What else is at hand while the last rows are taken: the rows in memory, the copy's cell and the tile's debts. -/
abbrev TailR (d : Dev nD) (q : PosShare TreeShare) (O : CellTallies nD τ sig (HIx 1)) (W : Waits sig (HIx 1))
    {c : Fin τ.nSC} {s : Fin τ.nSub} (xm : Memref sig (Proc.scVector c s : Proc τ).kind .hbm S10000x512 .f32) (sem : DmaSem sig)
    (x : S10000x512.Idx → F .f32) (R : sProp (MM F)) : sProp (MM F) :=
  iprop(Reads d q xm x ∗ Idle d c s sem ∗ Debt d c s O W ∗ R)

theorem tailX_row (x : S10000x512.Idx → F .f32) (X : S64x512.Idx → F .f32) (k : ℕ) (hk : k < 16) :
    rowAt (tailX x X) k = rowN x (9984 + k) := by
  funext c
  have e : k % 64 = k := by omega
  show (if k % 64 < 16 then rowN x (9984 + k % 64) c else _) = _
  rw [if_pos (by omega)]
  exact congrArg (fun n => rowN x (9984 + n) c) e

set_option maxHeartbeats 4000000 in
theorem tail_rows {α : Type} {Q : α → sProp (MM F)} (k0_h11 : k0_cond11 i v158_0 v166 v171 v176 v181 v186 v191 v196 v201 v206 v211 v216 v221 v226 v231 v236 v241 = 1#1)
    {kp : TileProg F ((i 0).castLE hcore0) ((i 1).castLE hsub0) α}
    (x : S10000x512.Idx → F .f32) (b : S10000.Idx → BitVec 32)
    (hB : ∀ j : S10240.Idx, (j 0).val < 10000 → B j = idN b (j 0).val)
    (hk : St (c := (i 0).castLE hcore0) (s := (i 1).castLE hsub0) d arg6 arg8 arg9 arg10 (tailX x X) B L (foldRows v2 v3 x L b A 9984 16)
          (TailR (c := (i 0).castLE hcore0) (s := (i 1).castLE hsub0) d q O W arg2 v642_r2.sem x R) ⊢ twp d (kp) Q) :
    St (c := (i 0).castLE hcore0) (s := (i 1).castLE hsub0) d arg6 arg8 arg9 arg10 X B L A (TailR (c := (i 0).castLE hcore0) (s := (i 1).castLE hsub0) d q O W arg2 v642_r2.sem x R)
      ⊢ twp d (tailRows (F := F) i arg2 harg2 arg3 harg3 arg4 harg4 arg5 harg5 arg6 harg6 arg7 harg7 arg8 harg8 arg9 harg9 arg10 harg10 arg11 arg12 v320_r0 v320_r1 v642_r2 v320_r3 v2 v3 v158_0 v166 v171 v176 v181 v186 v191 v196 v201 v206 v211 v216 v221 v226 v231 v236 v241 k0_h11 kp) Q := by
  unfold tailRows
  refine enter ?_
  rw [k0_part37_eq_skeleton]; unfold k0_part37_skel
  refine shift (show _ ⊢ iprop((Reads (c := (i 0).castLE hcore0) (s := (i 1).castLE hsub0) d q arg2 x ∗ Holds (c := (i 0).castLE hcore0) (s := (i 1).castLE hsub0) d arg6 X ∗ Idle d ((i 0).castLE hcore0) ((i 1).castLE hsub0) v642_r2.sem)
      ∗ (Holds (c := (i 0).castLE hcore0) (s := (i 1).castLE hsub0) d arg8 (e := .i32) B ∗ Holds (c := (i 0).castLE hcore0) (s := (i 1).castLE hsub0) d arg9 L ∗ Holds (c := (i 0).castLE hcore0) (s := (i 1).castLE hsub0) d arg10 A ∗ Debt d ((i 0).castLE hcore0) ((i 1).castLE hsub0) O W ∗ R)) from by
    unfold St TailR; iintro ⟨H1, H2, H3, H4, H5, H6, H7, H8⟩; iframe) ?_
  refine start d _ rfl (View.dmaCredit_pos _ (by decide)) (lends_slice d) (takes_slice d (X' := tailX x X) ?_ ?_) ?_
  · intro y
    have hy : (y 0).val < 16 := (y 0).isLt
    have e : ((((Rect.unit (s := S64x512) ![0, 0] S16x512.size inb_S64x512_S16x512_0_0)).emb y) 0).val = (y 0).val := by
      show 0 + 1 * (y 0).val = _; omega
    unfold tailX
    rw [e, if_pos hy]
    refine congrArg x ?_
    funext a
    match a with
    | ⟨0, _⟩ => apply Fin.ext; show (9984 + (y 0).val) % 10000 = 9984 + 1 * (y 0).val; omega
    | ⟨1, _⟩ => apply Fin.ext; show 0 + 1 * (y 1).val = 0 + 1 * (y 1).val; rfl
  · intro j hj
    unfold tailX
    split
    · rename_i h
      refine absurd ?_ (hj (ix2 ⟨(j 0).val, h⟩ (j 1)))
      funext a
      match a with
      | ⟨0, _⟩ => apply Fin.ext; show 0 + 1 * (j 0).val = (j 0).val; omega
      | ⟨1, _⟩ => apply Fin.ext; show 0 + 1 * (j 1).val = (j 1).val; omega
    · rfl
  refine shift (show _ ⊢ iprop(Fly d ((i 0).castLE hcore0) ((i 1).castLE hsub0) v642_r2.sem _ iprop(Reads (c := (i 0).castLE hcore0) (s := (i 1).castLE hsub0) d q arg2 x ∗ Holds (c := (i 0).castLE hcore0) (s := (i 1).castLE hsub0) d arg6 (tailX x X))
      ∗ Debt d ((i 0).castLE hcore0) ((i 1).castLE hsub0) O W
      ∗ (Holds (c := (i 0).castLE hcore0) (s := (i 1).castLE hsub0) d arg8 (e := .i32) B ∗ Holds (c := (i 0).castLE hcore0) (s := (i 1).castLE hsub0) d arg9 L ∗ Holds (c := (i 0).castLE hcore0) (s := (i 1).castLE hsub0) d arg10 A ∗ R)) from by
    iintro ⟨H1, H2, H3, H4, H5, H6⟩; iframe) ?_
  refine land d rfl ?_
  refine shift (show _ ⊢ St (c := (i 0).castLE hcore0) (s := (i 1).castLE hsub0) d arg6 arg8 arg9 arg10 (tailX x X) B L A (TailR (c := (i 0).castLE hcore0) (s := (i 1).castLE hsub0) d q O W arg2 v642_r2.sem x R) from by
    unfold St TailR; iintro ⟨⟨H1, H2⟩, H3, H4, H5, H6, H7, H8⟩; iframe) ?_
  refine ld_ids 9984 rfl hB (by norm_num) ?_
  refine ld_lps 9984 rfl (by norm_num) ?_
  refine assume_ok ⟨fun t _ => inb_cols (gV_lt v2 _ _) t.isLt, fun _ => inb_last (gV_lt v2 _ _)⟩ ?_
  refine ld_x ?_
  refine leave ?_
  beta_reduce
  refine enter ?_
  rw [k0_part38_eq_skeleton]; unfold k0_part38_skel
  refine row_loop (by decide) rfl (fun _ => rfl) (fun _ => rfl) rfl rfl (fun v hv => ?_)
  refine ld_a ?_
  refine ld_a ?_
  refine row_last (by assumption) rfl rfl ?_
  refine assume_ok ⟨fun t _ => inb_cols (gV_lt v2 _ _) t.isLt, fun _ => inb_last (gV_lt v2 _ _)⟩ ?_
  refine ld_x ?_
  refine row_loop (by decide) rfl (fun _ => rfl) (fun _ => rfl) rfl rfl (fun v hv => ?_)
  refine ld_a ?_
  refine ld_a ?_
  refine row_last (by assumption) rfl rfl ?_
  refine assume_ok ⟨fun t _ => inb_cols (gV_lt v2 _ _) t.isLt, fun _ => inb_last (gV_lt v2 _ _)⟩ ?_
  refine ld_x ?_
  refine leave ?_
  beta_reduce
  refine enter ?_
  rw [k0_part39_eq_skeleton]; unfold k0_part39_skel
  refine row_loop (by decide) rfl (fun _ => rfl) (fun _ => rfl) rfl rfl (fun v hv => ?_)
  refine ld_a ?_
  refine ld_a ?_
  refine row_last (by assumption) rfl rfl ?_
  refine assume_ok ⟨fun t _ => inb_cols (gV_lt v2 _ _) t.isLt, fun _ => inb_last (gV_lt v2 _ _)⟩ ?_
  refine ld_x ?_
  refine row_loop (by decide) rfl (fun _ => rfl) (fun _ => rfl) rfl rfl (fun v hv => ?_)
  refine ld_a ?_
  refine ld_a ?_
  refine row_last (by assumption) rfl rfl ?_
  refine assume_ok ⟨fun t _ => inb_cols (gV_lt v2 _ _) t.isLt, fun _ => inb_last (gV_lt v2 _ _)⟩ ?_
  refine ld_x ?_
  refine leave ?_
  beta_reduce
  refine enter ?_
  rw [k0_part40_eq_skeleton]; unfold k0_part40_skel
  refine row_loop (by decide) rfl (fun _ => rfl) (fun _ => rfl) rfl rfl (fun v hv => ?_)
  refine ld_a ?_
  refine ld_a ?_
  refine row_last (by assumption) rfl rfl ?_
  refine assume_ok ⟨fun t _ => inb_cols (gV_lt v2 _ _) t.isLt, fun _ => inb_last (gV_lt v2 _ _)⟩ ?_
  refine ld_x ?_
  refine row_loop (by decide) rfl (fun _ => rfl) (fun _ => rfl) rfl rfl (fun v hv => ?_)
  refine ld_a ?_
  refine ld_a ?_
  refine row_last (by assumption) rfl rfl ?_
  refine assume_ok ⟨fun t _ => inb_cols (gV_lt v2 _ _) t.isLt, fun _ => inb_last (gV_lt v2 _ _)⟩ ?_
  refine ld_x ?_
  refine row_loop (by decide) rfl (fun _ => rfl) (fun _ => rfl) rfl rfl (fun v hv => ?_)
  refine leave ?_
  beta_reduce
  refine enter ?_
  rw [k0_part41_eq_skeleton]; unfold k0_part41_skel
  refine ld_a ?_
  refine ld_a ?_
  refine row_last (by assumption) rfl rfl ?_
  refine assume_ok ⟨fun t _ => inb_cols (gV_lt v2 _ _) t.isLt, fun _ => inb_last (gV_lt v2 _ _)⟩ ?_
  refine ld_x ?_
  refine row_loop (by decide) rfl (fun _ => rfl) (fun _ => rfl) rfl rfl (fun v hv => ?_)
  refine ld_a ?_
  refine ld_a ?_
  refine row_last (by assumption) rfl rfl ?_
  refine assume_ok ⟨fun t _ => inb_cols (gV_lt v2 _ _) t.isLt, fun _ => inb_last (gV_lt v2 _ _)⟩ ?_
  refine ld_x ?_
  refine row_loop (by decide) rfl (fun _ => rfl) (fun _ => rfl) rfl rfl (fun v hv => ?_)
  refine leave ?_
  beta_reduce
  refine enter ?_
  rw [k0_part42_eq_skeleton]; unfold k0_part42_skel
  refine ld_a ?_
  refine ld_a ?_
  refine row_last (by assumption) rfl rfl ?_
  refine assume_ok ⟨fun t _ => inb_cols (gV_lt v2 _ _) t.isLt, fun _ => inb_last (gV_lt v2 _ _)⟩ ?_
  refine ld_x ?_
  refine row_loop (by decide) rfl (fun _ => rfl) (fun _ => rfl) rfl rfl (fun v hv => ?_)
  refine ld_a ?_
  refine ld_a ?_
  refine row_last (by assumption) rfl rfl ?_
  refine assume_ok ⟨fun t _ => inb_cols (gV_lt v2 _ _) t.isLt, fun _ => inb_last (gV_lt v2 _ _)⟩ ?_
  refine ld_x ?_
  refine row_loop (by decide) rfl (fun _ => rfl) (fun _ => rfl) rfl rfl (fun v hv => ?_)
  refine ld_a ?_
  refine leave ?_
  beta_reduce
  refine enter ?_
  rw [k0_part43_eq_skeleton]; unfold k0_part43_skel
  refine ld_a ?_
  refine row_last (by assumption) rfl rfl ?_
  refine assume_ok ⟨fun t _ => inb_cols (gV_lt v2 _ _) t.isLt, fun _ => inb_last (gV_lt v2 _ _)⟩ ?_
  refine ld_x ?_
  refine row_loop (by decide) rfl (fun _ => rfl) (fun _ => rfl) rfl rfl (fun v hv => ?_)
  refine ld_a ?_
  refine ld_a ?_
  refine row_last (by assumption) rfl rfl ?_
  refine assume_ok ⟨fun t _ => inb_cols (gV_lt v2 _ _) t.isLt, fun _ => inb_last (gV_lt v2 _ _)⟩ ?_
  refine ld_x ?_
  refine row_loop (by decide) rfl (fun _ => rfl) (fun _ => rfl) rfl rfl (fun v hv => ?_)
  refine ld_a ?_
  refine leave ?_
  beta_reduce
  refine enter ?_
  rw [k0_part44_eq_skeleton]; unfold k0_part44_skel
  refine ld_a ?_
  refine row_last (by assumption) rfl rfl ?_
  refine assume_ok ⟨fun t _ => inb_cols (gV_lt v2 _ _) t.isLt, fun _ => inb_last (gV_lt v2 _ _)⟩ ?_
  refine ld_x ?_
  refine row_loop (by decide) rfl (fun _ => rfl) (fun _ => rfl) rfl rfl (fun v hv => ?_)
  refine ld_a ?_
  refine ld_a ?_
  refine row_last (by assumption) rfl rfl ?_
  refine assume_ok ⟨fun t _ => inb_cols (gV_lt v2 _ _) t.isLt, fun _ => inb_last (gV_lt v2 _ _)⟩ ?_
  refine ld_x ?_
  refine row_loop (by decide) rfl (fun _ => rfl) (fun _ => rfl) rfl rfl (fun v hv => ?_)
  refine ld_a ?_
  refine leave ?_
  beta_reduce
  refine ld_a ?_
  refine row_last (by assumption) rfl rfl ?_
  refine assume_ok ⟨fun t _ => inb_cols (gV_lt v2 _ _) t.isLt, fun _ => inb_last (gV_lt v2 _ _)⟩ ?_
  refine ld_x ?_
  refine row_loop (by decide) rfl (fun _ => rfl) (fun _ => rfl) rfl rfl (fun v hv => ?_)
  refine ld_a ?_
  refine ld_a ?_
  refine row_last (by assumption) rfl rfl ?_
  rw [← group_eq v2 v3 x L b A (tailX x X) 9984 (fun k => k)] at hk
  · exact hk
  · intro k hk
    exact tailX_row x X k hk

end Cert.Proof.Pool

end
-- ==== Proof.Tile1.lean ====
/-
  The two ends of a tile's body: the arrival of its ids and log-probabilities, its first two fetches, and its last sixteen
  nodes.
-/
module

public import proofs.«01_k».proof.Proof.Rounds2
public import proofs.«01_k».proof.Proof.Front2
public import proofs.«01_k».proof.Proof.Tail

@[expose] public section

noncomputable section

namespace Cert.Proof.Pool

open Cert.KernelIdeal Cert.KernelIdeal.Gen
open Idealize.ShloMosaic Idealize.ShloMosaic.ValueIdx
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem

variable {F : FTy → Type} [FloatOps F] {d : Dev nD}

/-- The memref's own elements are held, and read `X`. -/
def Part {c : Fin τ.nSC} {s : Fin τ.nSub} {sp : Space} {sh : Shape} {e : EltTy} (d : Dev nD)
    (m : Memref sig (Proc.scVector c s : Proc τ).kind sp sh e) (X : sh.Idx → Elt F e) : sProp (MM F) :=
  iprop(∃ f : Buf (Elt F) (m.view.loc ((d, .scVector c s) : Thread nD τ)),
    ⌜m.view.read (Elt F) f = X⌝ ∗ (m.view.loc ((d, .scVector c s) : Thread nD τ) ↦[m.view.set]{fullShare} f))

theorem takes_part {c : Fin τ.nSC} {s : Fin τ.nSub} {sp : Space} {sh : Shape} {e : EltTy}
    {m : Memref sig (Proc.scVector c s : Proc τ).kind sp sh e} {X Y : sh.Idx → Elt F e} : Takes d m Y (Part d m X) (Part d m Y) := by
  unfold Takes Part
  iintro ⟨%f, %hf, H⟩
  iexists m.view.set
  iexists f
  isplitr; · ipureintro; exact Finset.Subset.refl _
  isplitl [H]; · iexact H
  iintro H
  iexists (m.view.write (Elt F) f Y Finset.univ)
  isplitr; · ipureintro; exact View.read_write_univ f Y
  iexact H

/-- Something held of some contents that are known to be right. -/
theorem of_some {β : Type} {φ : β → Prop} {T : β → sProp (MM F)} {U : sProp (MM F)} (h : ∀ B, φ B → T B ⊢ U) :
    iprop(∃ B, ⌜φ B⌝ ∗ T B) ⊢ U := by
  iintro ⟨%B, %hB, H⟩
  iapply (h B hB)
  iexact H

/-- A search's bound, from the sixteen lanes of its block. -/
theorem bound_lanes {b : S10000.Idx → BitVec 32} {g r : BitVec 32} {v : IVec S16 32} (h : Found (Below b g) r)
    (hv : v = idVec b (blockW r).toNat) :
    ∃ n, BoundOK (Below b g) (bndW g r [v (lane 0), v (lane 1), v (lane 2), v (lane 3), v (lane 4), v (lane 5), v (lane 6), v (lane 7),
      v (lane 8), v (lane 9), v (lane 10), v (lane 11), v (lane 12), v (lane 13), v (lane 14), v (lane 15)]) n := by
  refine bound_ok (v := fun k => v (lane k)) h (fun t ht => ?_)
  have e : v (lane t) = padW b ((blockW r).toNat + t) := by
    rw [hv]
    show padW b ((blockW r).toNat + ((lane t) 0).val) = _
    rw [lane_val t ht]
  show Scalar.cmpi .slt (v (lane t)) g = 1#1 ↔ _
  rw [e]
  exact Iff.rfl

variable (i : grid0.Coords)
variable (arg2 : Memref sig .scVector .hbm S10000x512 .f32) (harg2 : arg2.IsWhole) (arg3 : Memref sig .scVector .hbm S10000 .f32) (harg3 : arg3.IsWhole) (arg4 : Memref sig .scVector .hbm S10000 .i32) (harg4 : arg4.IsWhole) (arg5 : Memref sig .scVector .hbm S1024x512 .f32) (harg5 : arg5.IsWhole) (arg6 : Memref sig .scVector .vmem S64x512 .f32) (harg6 : arg6.IsWhole) (arg7 : Memref sig .scVector .vmem S64x512 .f32) (harg7 : arg7.IsWhole) (arg8 : Memref sig .scVector .vmem S10240 .i32) (harg8 : arg8.IsWhole) (arg9 : Memref sig .scVector .vmem S10000 .f32) (harg9 : arg9.IsWhole) (arg10 : Memref sig .scVector .vmem S32x512 .f32) (harg10 : arg10.IsWhole) (arg11 : DmaSems sig S_) (arg12 : DmaSems sig S_) (v320_r0 : DmaSems sig S_) (v320_r1 : DmaSems sig S_) (v642_r2 : DmaSems sig S_) (v320_r3 : DmaSems sig S_)
variable {q₁ q₂ qb ql : PosShare TreeShare} {x : S10000x512.Idx → F .f32} {b : S10000.Idx → BitVec 32} {lp : S10000.Idx → F .f32}
  {B : S10240.Idx → BitVec 32} {L : S10000.Idx → F .f32} {A : Acc F} {R : sProp (MM F)}
  {O : CellTallies nD τ sig (HIx 1)} {W : Waits sig (HIx 1)}

set_option maxHeartbeats 1000000 in
/-- The ids and the log-probabilities arrive, and the first pads follow the ids. -/
theorem part45_ok :
    iprop(Reads (c := (i 0).castLE hcore0) (s := (i 1).castLE hsub0) d qb arg4 (e := .i32) b ∗ Reads (c := (i 0).castLE hcore0) (s := (i 1).castLE hsub0) d ql arg3 lp ∗ Holds (c := (i 0).castLE hcore0) (s := (i 1).castLE hsub0) d arg8 (e := .i32) B ∗ Holds (c := (i 0).castLE hcore0) (s := (i 1).castLE hsub0) d arg9 L
        ∗ Idle d ((i 0).castLE hcore0) ((i 1).castLE hsub0) v320_r0.sem ∗ Idle d ((i 0).castLE hcore0) ((i 1).castLE hsub0) v320_r1.sem
        ∗ Debt d ((i 0).castLE hcore0) ((i 1).castLE hsub0) O W ∗ R)
      ⊢ twp d (k0_part45 (F := F) i arg2 harg2 arg3 harg3 arg4 harg4 arg5 harg5 arg6 harg6 arg7 harg7 arg8 harg8 arg9 harg9 arg10 harg10 arg11 arg12 v320_r0 v320_r1 v642_r2 v320_r3)
        (fun r => iprop(⌜r.1 = tileLo i ∧ r.2.1 = tileHi i ∧ r.2.2.1 = k0_pay506⌝
          ∗ (∃ B, ⌜Padded b 10080 B⌝ ∗ (Holds (c := (i 0).castLE hcore0) (s := (i 1).castLE hsub0) d arg8 (e := .i32) B
            ∗ (Reads (c := (i 0).castLE hcore0) (s := (i 1).castLE hsub0) d qb arg4 (e := .i32) b ∗ Reads (c := (i 0).castLE hcore0) (s := (i 1).castLE hsub0) d ql arg3 lp ∗ Holds (c := (i 0).castLE hcore0) (s := (i 1).castLE hsub0) d arg9 lp
        ∗ Idle d ((i 0).castLE hcore0) ((i 1).castLE hsub0) v320_r0.sem ∗ Idle d ((i 0).castLE hcore0) ((i 1).castLE hsub0) v320_r1.sem
        ∗ Debt d ((i 0).castLE hcore0) ((i 1).castLE hsub0) O W ∗ R))))) := by
  rw [k0_part45_eq_skeleton]; unfold k0_part45_skel
  let B1 : S10240.Idx → BitVec 32 := fun j => if (j 0).val < 10000 then idN b (j 0).val else B j
  have hB1 : Padded b 10000 B1 := fun j hj => by
    show (if (j 0).val < 10000 then idN b (j 0).val else B j) = padW b (j 0).val
    rw [if_pos hj, padW, if_pos hj]
  refine shift (show _ ⊢ iprop((Reads (c := (i 0).castLE hcore0) (s := (i 1).castLE hsub0) d qb arg4 (e := .i32) b ∗ Holds (c := (i 0).castLE hcore0) (s := (i 1).castLE hsub0) d arg8 (e := .i32) B
      ∗ Idle d ((i 0).castLE hcore0) ((i 1).castLE hsub0) v320_r0.sem)
      ∗ (Reads (c := (i 0).castLE hcore0) (s := (i 1).castLE hsub0) d ql arg3 lp ∗ Holds (c := (i 0).castLE hcore0) (s := (i 1).castLE hsub0) d arg9 L ∗ Idle d ((i 0).castLE hcore0) ((i 1).castLE hsub0) v320_r1.sem
        ∗ Debt d ((i 0).castLE hcore0) ((i 1).castLE hsub0) O W ∗ R)) from by
    iintro ⟨H1, H2, H3, H4, H5, H6, H7, H8⟩; iframe) ?_
  refine start d _ rfl (View.dmaCredit_pos _ (by decide)) (lends_whole d) (takes_slice d (X' := B1) ?_ ?_) ?_
  · intro y
    have hy : (y 0).val < 10000 := (y 0).isLt
    have e0 : (((Rect.unit (s := S10240) ![0] S10000.size inb_S10240_S10000_0).emb y) 0).val = (y 0).val := by
      show 0 + 1 * (y 0).val = _; omega
    show (if _ < 10000 then idN b _ else _) = b y
    rw [e0, if_pos hy]
    refine congrArg b ?_
    funext a
    match a with
    | ⟨0, _⟩ => apply Fin.ext; show (y 0).val % 10000 = (y 0).val; omega
  · intro j hj
    refine if_neg (fun h => hj (ix1 ⟨(j 0).val, h⟩) ?_)
    funext a
    match a with
    | ⟨0, _⟩ => apply Fin.ext; show 0 + 1 * (j 0).val = (j 0).val; omega
  refine shift (show _ ⊢ iprop(Fly d ((i 0).castLE hcore0) ((i 1).castLE hsub0) v320_r0.sem _ iprop(Reads (c := (i 0).castLE hcore0) (s := (i 1).castLE hsub0) d qb arg4 (e := .i32) b ∗ Holds (c := (i 0).castLE hcore0) (s := (i 1).castLE hsub0) d arg8 (e := .i32) B1)
      ∗ Debt d ((i 0).castLE hcore0) ((i 1).castLE hsub0) O W
      ∗ (Reads (c := (i 0).castLE hcore0) (s := (i 1).castLE hsub0) d ql arg3 lp ∗ Holds (c := (i 0).castLE hcore0) (s := (i 1).castLE hsub0) d arg9 L ∗ Idle d ((i 0).castLE hcore0) ((i 1).castLE hsub0) v320_r1.sem ∗ R)) from by
    iintro ⟨H1, H2, H3, H4, H5, H6⟩; iframe) ?_
  refine land d rfl ?_
  refine shift (show _ ⊢ iprop((Reads (c := (i 0).castLE hcore0) (s := (i 1).castLE hsub0) d ql arg3 lp ∗ Holds (c := (i 0).castLE hcore0) (s := (i 1).castLE hsub0) d arg9 L ∗ Idle d ((i 0).castLE hcore0) ((i 1).castLE hsub0) v320_r1.sem)
      ∗ (Reads (c := (i 0).castLE hcore0) (s := (i 1).castLE hsub0) d qb arg4 (e := .i32) b ∗ Holds (c := (i 0).castLE hcore0) (s := (i 1).castLE hsub0) d arg8 (e := .i32) B1 ∗ Idle d ((i 0).castLE hcore0) ((i 1).castLE hsub0) v320_r0.sem
        ∗ Debt d ((i 0).castLE hcore0) ((i 1).castLE hsub0) O W ∗ R)) from by
    iintro ⟨⟨H1, H2⟩, H3, H4, H5, H6, H7, H8⟩; iframe) ?_
  refine start d _ rfl (View.dmaCredit_pos _ (by decide)) (lends_whole d) (takes_whole d) ?_
  refine shift (show _ ⊢ iprop(Fly d ((i 0).castLE hcore0) ((i 1).castLE hsub0) v320_r1.sem _ iprop(Reads (c := (i 0).castLE hcore0) (s := (i 1).castLE hsub0) d ql arg3 lp ∗ Holds (c := (i 0).castLE hcore0) (s := (i 1).castLE hsub0) d arg9 lp)
      ∗ Debt d ((i 0).castLE hcore0) ((i 1).castLE hsub0) O W
      ∗ (Reads (c := (i 0).castLE hcore0) (s := (i 1).castLE hsub0) d qb arg4 (e := .i32) b ∗ Holds (c := (i 0).castLE hcore0) (s := (i 1).castLE hsub0) d arg8 (e := .i32) B1 ∗ Idle d ((i 0).castLE hcore0) ((i 1).castLE hsub0) v320_r0.sem ∗ R)) from by
    iintro ⟨H1, H2, H3, H4, H5, H6⟩; iframe) ?_
  refine land d rfl ?_
  refine shift (show _ ⊢ iprop(Holds (c := (i 0).castLE hcore0) (s := (i 1).castLE hsub0) d arg8 (e := .i32) B1
      ∗ (Reads (c := (i 0).castLE hcore0) (s := (i 1).castLE hsub0) d qb arg4 (e := .i32) b ∗ Reads (c := (i 0).castLE hcore0) (s := (i 1).castLE hsub0) d ql arg3 lp ∗ Holds (c := (i 0).castLE hcore0) (s := (i 1).castLE hsub0) d arg9 lp
        ∗ Idle d ((i 0).castLE hcore0) ((i 1).castLE hsub0) v320_r0.sem ∗ Idle d ((i 0).castLE hcore0) ((i 1).castLE hsub0) v320_r1.sem
        ∗ Debt d ((i 0).castLE hcore0) ((i 1).castLE hsub0) O W ∗ R)) from by
    iintro ⟨⟨H1, H2⟩, H3, H4, H5, H6, H7, H8⟩; iframe) ?_
  refine wp_ld d (e := .i32) ?_
  refine pad_st hB1 rfl (by norm_num) (fun _ => rfl) (fun B' hB' => ?_)
  iterate 4
    refine wp_ld d (e := .i32) ?_
    refine pad_st (by assumption) rfl (by norm_num) (fun _ => rfl) (fun B' hB' => ?_)
  refine wp_ld d (e := .i32) ?_
  refine leave ?_
  iintro H
  isplitr
  · ipureintro; exact ⟨rfl, rfl, rfl⟩
  iexists B'
  isplitr
  · ipureintro; exact hB'
  · iexact H

variable (v2 v3 : BitVec 32) (v66_0 v74 v79 v84 v89 v94 v99 v104 v109 v114 v119 v124 v129 v134 v139 v144 v149 v158_0 v166 v171 v176 v181 v186 v191 v196 v201 v206 v211 v216 v221 v226 v231 v236 v241 : BitVec 32)
variable {l h : ℕ} (hl : Affine.IsInt (loW i v66_0 v74 v79 v84 v89 v94 v99 v104 v109 v114 v119 v124 v129 v134 v139 v144 v149) l) (hh : Affine.IsInt (hiW i v158_0 v166 v171 v176 v181 v186 v191 v196 v201 v206 v211 v216 v221 v226 v231 v236 v241) h) (l0 : l ≤ 10000) (h0 : h ≤ 10000)

/-- Both buffers in hand. -/
abbrev Both (d : Dev nD) (q₁ q₂ : PosShare TreeShare) (x : S10000x512.Idx → F .f32) (R : sProp (MM F)) : sProp (MM F) :=
  iprop(Free (c := (i 0).castLE hcore0) (s := (i 1).castLE hsub0) d q₁ arg2 x arg6 arg11.sem ∗ Free (c := (i 0).castLE hcore0) (s := (i 1).castLE hsub0) d q₂ arg2 x arg7 arg12.sem ∗ R)

include hl hh l0 h0

set_option maxHeartbeats 1000000 in
/-- The first two fetches. -/
theorem part52_ok (v156 : BitVec 32) (k0_hw5 : k0_chk5 i v66_0 v74 v79 v84 v89 v94 v99 v104 v109 v114 v119 v124 v129 v134 v139 v144 v149 v158_0 v166 v171 v176 v181 v186 v191 v196 v201 v206 v211 v216 v221 v226 v231 v236 v241) (v248 c64 v249 v254 c0 : BitVec 32) :
    Both i arg2 arg6 arg7 arg11 arg12 d q₁ q₂ x R
      ⊢ twp d (k0_part52 (F := F) i arg2 harg2 arg3 harg3 arg4 harg4 arg5 harg5 arg6 harg6 arg7 harg7 arg8 harg8 arg9 harg9 arg10 harg10 arg11 arg12 v320_r0 v320_r1 v642_r2 v320_r3 v66_0 v74 v79 v84 v89 v94 v99 v104 v109 v114 v119 v124 v129 v134 v139 v144 v149 v156 v158_0 v166 v171 v176 v181 v186 v191 v196 v201 v206 v211 v216 v221 v226 v231 v236 v241 k0_hw5 v248 c64 v249 v254 c0)
        (fun _ => iprop(Slot (c := (i 0).castLE hcore0) (s := (i 1).castLE hsub0) d q₁ arg2 x arg6 arg11.sem (cE h) (cF l) ∗ Slot (c := (i 0).castLE hcore0) (s := (i 1).castLE hsub0) d q₂ arg2 x arg7 arg12.sem (cE h) (cF l + 1) ∗ R)) := by
  rw [k0_part52_eq_skeleton]; unfold k0_part52_skel
  refine fetch (cond1_iff i v66_0 v74 v79 v84 v89 v94 v99 v104 v109 v114 v119 v124 v129 v134 v139 v144 v149 v158_0 v166 v171 v176 v181 v186 v191 v196 v201 v206 v211 v216 v221 v226 v231 v236 v241 hl hh l0 h0) (off37_eq i v66_0 v74 v79 v84 v89 v94 v99 v104 v109 v114 v119 v124 v129 v134 v139 v144 v149 v158_0 v166 v171 v176 v181 v186 v191 v196 v201 v206 v211 v216 v221 v226 v231 v236 v241 hl hh l0 h0) ?_
  refine sep_left_comm.1.trans ?_
  refine fetch (cond2_iff i v66_0 v74 v79 v84 v89 v94 v99 v104 v109 v114 v119 v124 v129 v134 v139 v144 v149 v158_0 v166 v171 v176 v181 v186 v191 v196 v201 v206 v211 v216 v221 v226 v231 v236 v241 hl hh l0 h0) (off38_eq i v66_0 v74 v79 v84 v89 v94 v99 v104 v109 v114 v119 v124 v129 v134 v139 v144 v149 v158_0 v166 v171 v176 v181 v186 v191 v196 v201 v206 v211 v216 v221 v226 v231 v236 v241 hl hh l0 h0) ?_
  refine leave ?_
  exact sep_left_comm.1

omit hl l0 in
/-- The nodes past the last whole chunk, if the tile's nodes reach them. -/
theorem tail_if {α : Type} {Q : α → sProp (MM F)} {kp : TileProg F ((i 0).castLE hcore0) ((i 1).castLE hsub0) α}
    (hB : ∀ j : S10240.Idx, (j 0).val < 10000 → B j = idN b (j 0).val)
    (hk : iprop(Free (c := (i 0).castLE hcore0) (s := (i 1).castLE hsub0) d q₁ arg2 x arg6 arg11.sem ∗ Idle d ((i 0).castLE hcore0) ((i 1).castLE hsub0) v642_r2.sem
        ∗ (Holds (c := (i 0).castLE hcore0) (s := (i 1).castLE hsub0) d arg8 (e := .i32) B ∗ Holds (c := (i 0).castLE hcore0) (s := (i 1).castLE hsub0) d arg9 L ∗ Holds (c := (i 0).castLE hcore0) (s := (i 1).castLE hsub0) d arg10 (if 9984 < h then foldRows v2 v3 x L b A 9984 16 else A)
        ∗ Debt d ((i 0).castLE hcore0) ((i 1).castLE hsub0) O W ∗ R)) ⊢ twp d kp Q) :
    iprop(Free (c := (i 0).castLE hcore0) (s := (i 1).castLE hsub0) d q₁ arg2 x arg6 arg11.sem ∗ Idle d ((i 0).castLE hcore0) ((i 1).castLE hsub0) v642_r2.sem
        ∗ (Holds (c := (i 0).castLE hcore0) (s := (i 1).castLE hsub0) d arg8 (e := .i32) B ∗ Holds (c := (i 0).castLE hcore0) (s := (i 1).castLE hsub0) d arg9 L ∗ Holds (c := (i 0).castLE hcore0) (s := (i 1).castLE hsub0) d arg10 A
        ∗ Debt d ((i 0).castLE hcore0) ((i 1).castLE hsub0) O W ∗ R))
      ⊢ twp d (if k0_h11 : k0_cond11 i v158_0 v166 v171 v176 v181 v186 v191 v196 v201 v206 v211 v216 v221 v226 v231 v236 v241 = 1#1 then tailRows (F := F) i arg2 harg2 arg3 harg3 arg4 harg4 arg5 harg5 arg6 harg6 arg7 harg7 arg8 harg8 arg9 harg9 arg10 harg10 arg11 arg12 v320_r0 v320_r1 v642_r2 v320_r3 v2 v3 v158_0 v166 v171 v176 v181 v186 v191 v196 v201 v206 v211 v216 v221 v226 v231 v236 v241 k0_h11 kp else kp) Q := by
  by_cases p : k0_cond11 i v158_0 v166 v171 v176 v181 v186 v191 v196 v201 v206 v211 v216 v221 v226 v231 v236 v241 = 1#1
  · rw [dif_pos p]
    rw [if_pos ((cond11_iff i v158_0 v166 v171 v176 v181 v186 v191 v196 v201 v206 v211 v216 v221 v226 v231 v236 v241 hh h0).1 p)] at hk
    unfold Free
    iintro ⟨⟨H1, ⟨%X, H2⟩, H3⟩, H4, H5, H6, H7, H8, H9⟩
    iapply (tail_rows i arg2 harg2 arg3 harg3 arg4 harg4 arg5 harg5 arg6 harg6 arg7 harg7 arg8 harg8 arg9 harg9 arg10 harg10 arg11 arg12 v320_r0 v320_r1 v642_r2 v320_r3 v2 v3 v158_0 v166 v171 v176 v181 v186 v191 v196 v201 v206 v211 v216 v221 v226 v231 v236 v241 (X := X) (A := A) (L := L) (q := q₁) (O := O) (W := W)
      (R := iprop(Idle d ((i 0).castLE hcore0) ((i 1).castLE hsub0) arg11.sem ∗ R)) p x b hB (kp := kp) (Q := Q) ?_)
    · refine shift ?_ hk
      unfold St TailR Free
      iintro ⟨H2, H5, H6, H7, H1, H4, H8, H3, H9⟩
      isplitl [H1 H2 H3]
      · isplitl [H1]; · iexact H1
        isplitl [H2]
        · iexists (tailX x X); iexact H2
        · iexact H3
      iframe
    · unfold St TailR
      iframe
  · rw [dif_neg p]
    rw [if_neg (mt (cond11_iff i v158_0 v166 v171 v176 v181 v186 v191 v196 v201 v206 v211 v216 v221 v226 v231 v236 v241 hh h0).2 p)] at hk
    exact hk

end Cert.Proof.Pool

end
-- ==== Proof.Tile2.lean ====
/-
  A tile's whole body: from the nodes it reads to the rows of pooled values it writes.
-/
module

public import proofs.«01_k».proof.Proof.Tile1

@[expose] public section

noncomputable section

namespace Cert.Proof.Pool

open Cert.KernelIdeal Cert.KernelIdeal.Gen
open Idealize.ShloMosaic Idealize.ShloMosaic.ValueIdx
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem

variable {F : FTy → Type} [FloatOps F] {d : Dev nD}

/-- The rows of pooled values a tile may write: the sums over a run of nodes, which, where the ids ascend, leaves out no
    node of the tile's segments. -/
def Pooled (v2 v3 : BitVec 32) (x : S10000x512.Idx → F .f32) (lp : S10000.Idx → F .f32) (b : S10000.Idx → BitVec 32) (Y : Acc F) : Prop :=
  ∃ a n, Y = foldRows v2 v3 x lp b (fun _ => zf) a n ∧ a + n ≤ 10000 ∧
    (Initial (Below b v2) → ∀ m < a, Below b v2 m) ∧ (Initial (Below b v3) → ∀ m, a + n ≤ m → ¬ Below b v3 m)

theorem pooled_of {v2 v3 lo hi : BitVec 32} {l h : ℕ} {x : S10000x512.Idx → F .f32} {lp : S10000.Idx → F .f32} {b : S10000.Idx → BitVec 32}
    (hl : BoundOK (Below b v2) lo l) (hh : BoundOK (Below b v3) hi h) :
    Pooled v2 v3 x lp b (if 9984 < h then
        foldRows v2 v3 x lp b (foldRows v2 v3 x lp b (fun _ => zf) (64 * cF l) (64 * (cE h - cF l))) 9984 16
      else foldRows v2 v3 x lp b (fun _ => zf) (64 * cF l) (64 * (cE h - cF l))) := by
  obtain ⟨-, l0, hl⟩ := hl
  obtain ⟨-, h0, hh⟩ := hh
  have c1 := cF_le l0
  have c2 := cE_le h
  have d1 : cF l = l / 64 := rfl
  have d2 : cE h = min ((h + 63) / 64) 156 := rfl
  by_cases p : 9984 < h
  · rw [if_pos p]
    refine ⟨64 * cF l, 64 * (cE h - cF l) + 16, ?_, by omega, fun hi m hm => (hl hi).1 m (by omega), fun hi m hm => (hh hi).2 m (by omega)⟩
    have e : 9984 = 64 * cF l + 64 * (cE h - cF l) := by omega
    rw [foldRows_add, ← e]
  · rw [if_neg p]
    exact ⟨64 * cF l, 64 * (cE h - cF l), rfl, by omega, fun hi m hm => (hl hi).1 m (by omega), fun hi m hm => (hh hi).2 m (by omega)⟩

/-- Something held of some contents. -/
theorem of_ex {β : Type} {T : β → sProp (MM F)} {U : sProp (MM F)} (h : ∀ B, T B ⊢ U) : iprop(∃ B, T B) ⊢ U := by
  iintro ⟨%B, H⟩
  iapply (h B)
  iexact H

variable (i : grid0.Coords)
variable (arg2 : Memref sig .scVector .hbm S10000x512 .f32) (harg2 : arg2.IsWhole) (arg3 : Memref sig .scVector .hbm S10000 .f32) (harg3 : arg3.IsWhole) (arg4 : Memref sig .scVector .hbm S10000 .i32) (harg4 : arg4.IsWhole) (arg5 : Memref sig .scVector .hbm S1024x512 .f32) (harg5 : arg5.IsWhole) (arg6 : Memref sig .scVector .vmem S64x512 .f32) (harg6 : arg6.IsWhole) (arg7 : Memref sig .scVector .vmem S64x512 .f32) (harg7 : arg7.IsWhole) (arg8 : Memref sig .scVector .vmem S10240 .i32) (harg8 : arg8.IsWhole) (arg9 : Memref sig .scVector .vmem S10000 .f32) (harg9 : arg9.IsWhole) (arg10 : Memref sig .scVector .vmem S32x512 .f32) (harg10 : arg10.IsWhole) (arg11 : DmaSems sig S_) (arg12 : DmaSems sig S_) (v320_r0 : DmaSems sig S_) (v320_r1 : DmaSems sig S_) (v642_r2 : DmaSems sig S_) (v320_r3 : DmaSems sig S_)

/-- The block of rows of the result that the tile writes. -/
abbrev outRows : Memref sig .scVector .hbm S32x512 .f32 :=
  arg5.slice (Rect.unit (s := S1024x512) (k0_off359 i) S32x512.size (k0_off359_inb i)) (fun _ => rfl)

variable {q₁ q₂ qb ql : PosShare TreeShare} {x : S10000x512.Idx → F .f32} {b : S10000.Idx → BitVec 32} {lp : S10000.Idx → F .f32}
  {R : sProp (MM F)} {O : CellTallies nD τ sig (HIx 1)} {W : Waits sig (HIx 1)}

/-- What a tile holds before its body and after it, the rows of its result aside. -/
def Kit (d : Dev nD) (q₁ q₂ qb ql : PosShare TreeShare) (x : S10000x512.Idx → F .f32) (b : S10000.Idx → BitVec 32) (lp : S10000.Idx → F .f32)
    (O : CellTallies nD τ sig (HIx 1)) (W : Waits sig (HIx 1)) : sProp (MM F) :=
  iprop((Free (c := (i 0).castLE hcore0) (s := (i 1).castLE hsub0) d q₁ arg2 x arg6 arg11.sem ∗ Free (c := (i 0).castLE hcore0) (s := (i 1).castLE hsub0) d q₂ arg2 x arg7 arg12.sem ∗ Reads (c := (i 0).castLE hcore0) (s := (i 1).castLE hsub0) d ql arg3 lp ∗ Reads (c := (i 0).castLE hcore0) (s := (i 1).castLE hsub0) d qb arg4 (e := .i32) b)
    ∗ ((∃ B, Holds (c := (i 0).castLE hcore0) (s := (i 1).castLE hsub0) d arg8 (e := .i32) B) ∗ (∃ L, Holds (c := (i 0).castLE hcore0) (s := (i 1).castLE hsub0) d arg9 L) ∗ (∃ A, Holds (c := (i 0).castLE hcore0) (s := (i 1).castLE hsub0) d arg10 A))
    ∗ (Idle d ((i 0).castLE hcore0) ((i 1).castLE hsub0) v320_r0.sem ∗ Idle d ((i 0).castLE hcore0) ((i 1).castLE hsub0) v320_r1.sem
      ∗ Idle d ((i 0).castLE hcore0) ((i 1).castLE hsub0) v642_r2.sem ∗ Idle d ((i 0).castLE hcore0) ((i 1).castLE hsub0) v320_r3.sem)
    ∗ Debt d ((i 0).castLE hcore0) ((i 1).castLE hsub0) O W)

set_option maxHeartbeats 4000000 in
/-- A tile's body: its rows are pooled values. -/
theorem tile_body {Y0 : S32x512.Idx → F .f32} :
    iprop(Kit i arg2 arg3 arg4 arg6 arg7 arg8 arg9 arg10 arg11 arg12 v320_r0 v320_r1 v642_r2 v320_r3 d q₁ q₂ qb ql x b lp O W ∗ Part (c := (i 0).castLE hcore0) (s := (i 1).castLE hsub0) d (outRows i arg5) Y0)
      ⊢ twp d (cc0__sc_pool_call (F := F) i arg2 harg2 arg3 harg3 arg4 harg4 arg5 harg5 arg6 harg6 arg7 harg7 arg8 harg8 arg9 harg9 arg10 harg10 arg11 arg12 v320_r0 v320_r1 v642_r2 v320_r3) (fun _ =>
        iprop(Kit i arg2 arg3 arg4 arg6 arg7 arg8 arg9 arg10 arg11 arg12 v320_r0 v320_r1 v642_r2 v320_r3 d q₁ q₂ qb ql x b lp O W
          ∗ ∃ Y, ⌜Pooled (tileLo i) (tileHi i) x lp b Y⌝ ∗ Part (c := (i 0).castLE hcore0) (s := (i 1).castLE hsub0) d (outRows i arg5) Y)) := by
  rw [cc0__sc_pool_call_eq_skeleton]; unfold cc0__sc_pool_call_skel
  refine enter ?_
  rw [k0_part53_eq_skeleton]; unfold k0_part53_skel
  unfold Kit
  refine shift (T := iprop(∃ B L A, Reads (c := (i 0).castLE hcore0) (s := (i 1).castLE hsub0) d qb arg4 (e := .i32) b ∗ Reads (c := (i 0).castLE hcore0) (s := (i 1).castLE hsub0) d ql arg3 lp ∗ Holds (c := (i 0).castLE hcore0) (s := (i 1).castLE hsub0) d arg8 (e := .i32) B ∗ Holds (c := (i 0).castLE hcore0) (s := (i 1).castLE hsub0) d arg9 L
        ∗ Idle d ((i 0).castLE hcore0) ((i 1).castLE hsub0) v320_r0.sem ∗ Idle d ((i 0).castLE hcore0) ((i 1).castLE hsub0) v320_r1.sem
        ∗ Debt d ((i 0).castLE hcore0) ((i 1).castLE hsub0) O W ∗ (Holds (c := (i 0).castLE hcore0) (s := (i 1).castLE hsub0) d arg10 A ∗ Free (c := (i 0).castLE hcore0) (s := (i 1).castLE hsub0) d q₁ arg2 x arg6 arg11.sem
        ∗ Free (c := (i 0).castLE hcore0) (s := (i 1).castLE hsub0) d q₂ arg2 x arg7 arg12.sem ∗ Idle d ((i 0).castLE hcore0) ((i 1).castLE hsub0) v642_r2.sem
        ∗ Idle d ((i 0).castLE hcore0) ((i 1).castLE hsub0) v320_r3.sem ∗ Part (c := (i 0).castLE hcore0) (s := (i 1).castLE hsub0) d (outRows i arg5) Y0))) (by
    iintro ⟨⟨⟨H1, H2, H3, H4⟩, ⟨⟨%B, H5⟩, ⟨%L, H6⟩, ⟨%A, H7⟩⟩, ⟨H8, H9, H10, H11⟩, H12⟩, H13⟩
    iexists B; iexists L; iexists A
    iframe) ?_
  refine of_ex (fun B => of_ex (fun L => of_ex (fun A => ?_)))
  refine enter_with (part45_ok i arg2 harg2 arg3 harg3 arg4 harg4 arg5 harg5 arg6 harg6 arg7 harg7 arg8 harg8 arg9 harg9 arg10 harg10 arg11 arg12 v320_r0 v320_r1 v642_r2 v320_r3) ?_
  rintro ⟨v2, v3, v24, v25⟩ ⟨e2, e3, e24⟩
  obtain rfl : v2 = tileLo i := e2
  obtain rfl : v3 = tileHi i := e3
  refine of_some (fun B hB => ?_)
  refine enter_with (part46_ok i arg2 harg2 arg3 harg3 arg4 harg4 arg5 harg5 arg6 harg6 arg7 harg7 arg8 harg8 arg9 harg9 arg10 harg10 arg11 arg12 v320_r0 v320_r1 v642_r2 v320_r3 v24 v25 e24 hB) ?_
  rintro c e
  obtain rfl : c = 1024#32 := e
  refine of_some (fun B hB => ?_)
  refine shift (T := iprop(Holds (c := (i 0).castLE hcore0) (s := (i 1).castLE hsub0) d arg8 (e := .i32) B ∗ Holds (c := (i 0).castLE hcore0) (s := (i 1).castLE hsub0) d arg10 A ∗ (Reads (c := (i 0).castLE hcore0) (s := (i 1).castLE hsub0) d qb arg4 (e := .i32) b ∗ Reads (c := (i 0).castLE hcore0) (s := (i 1).castLE hsub0) d ql arg3 lp ∗ Holds (c := (i 0).castLE hcore0) (s := (i 1).castLE hsub0) d arg9 lp
        ∗ Idle d ((i 0).castLE hcore0) ((i 1).castLE hsub0) v320_r0.sem ∗ Idle d ((i 0).castLE hcore0) ((i 1).castLE hsub0) v320_r1.sem
        ∗ Debt d ((i 0).castLE hcore0) ((i 1).castLE hsub0) O W ∗ (Free (c := (i 0).castLE hcore0) (s := (i 1).castLE hsub0) d q₁ arg2 x arg6 arg11.sem
        ∗ Free (c := (i 0).castLE hcore0) (s := (i 1).castLE hsub0) d q₂ arg2 x arg7 arg12.sem ∗ Idle d ((i 0).castLE hcore0) ((i 1).castLE hsub0) v642_r2.sem
        ∗ Idle d ((i 0).castLE hcore0) ((i 1).castLE hsub0) v320_r3.sem ∗ Part (c := (i 0).castLE hcore0) (s := (i 1).castLE hsub0) d (outRows i arg5) Y0)))) (by
    iintro ⟨H1, H2, H3, H4, H5, H6, H7, H8, H9⟩; iframe) ?_
  refine enter_with (part47_ok i arg2 harg2 arg3 harg3 arg4 harg4 arg5 harg5 arg6 harg6 arg7 harg7 arg8 harg8 arg9 harg9 arg10 harg10 arg11 arg12 v320_r0 v320_r1 v642_r2 v320_r3 (tileLo i) ⟨_, tileLo_int i, by have h0 : (i 0).val < 2 := (i 0).isLt; have h1 : (i 1).val < 16 := (i 1).isLt; omega⟩ hB) ?_
  rintro ⟨v66_0, v68, v72, v74, v79, v84, v89, v92⟩ ⟨hf, -, h72, a0, a1, a2, a3, h92⟩
  refine enter_with (part48_ok i arg2 harg2 arg3 harg3 arg4 harg4 arg5 harg5 arg6 harg6 arg7 harg7 arg8 harg8 arg9 harg9 arg10 harg10 arg11 arg12 v320_r0 v320_r1 v642_r2 v320_r3 (tileLo i) v72 v92 h92) ?_
  rintro ⟨v94, v99, v104, v109, v114, v119, v124, v129, v132, v134, v135, c1⟩ ⟨a4, a5, a6, a7, a8, a9, a10, a11, -, a12, -, -⟩
  refine enter_with (part49_ok i arg2 harg2 arg3 harg3 arg4 harg4 arg5 harg5 arg6 harg6 arg7 harg7 arg8 harg8 arg9 harg9 arg10 harg10 arg11 arg12 v320_r0 v320_r1 v642_r2 v320_r3 (tileLo i) (tileHi i) v66_0 v68 v72 v132 v135 c1 ⟨_, tileHi_int i, by have h0 : (i 0).val < 2 := (i 0).isLt; have h1 : (i 1).val < 16 := (i 1).isLt; omega⟩) ?_
  rintro ⟨v139, v144, v149, v156, v158_0, v160, v164, v166, v169, v171, v172⟩ ⟨a13, a14, a15, hf', h164, b0, b1⟩
  have hl : ∃ l, BoundOK (Below b (tileLo i)) (loW i v66_0 v74 v79 v84 v89 v94 v99 v104 v109 v114 v119 v124 v129 v134 v139 v144 v149) l := by
    have e := bound_lanes (b := b) (g := tileLo i) (r := v66_0) (v := v72) hf h72
    rw [← show v74 = v72 (lane 0) from a0, ← show v79 = v72 (lane 1) from a1, ← show v84 = v72 (lane 2) from a2, ← show v89 = v72 (lane 3) from a3,
      ← show v94 = v72 (lane 4) from a4, ← show v99 = v72 (lane 5) from a5, ← show v104 = v72 (lane 6) from a6, ← show v109 = v72 (lane 7) from a7,
      ← show v114 = v72 (lane 8) from a8, ← show v119 = v72 (lane 9) from a9, ← show v124 = v72 (lane 10) from a10, ← show v129 = v72 (lane 11) from a11,
      ← show v134 = v72 (lane 12) from a12, ← show v139 = v72 (lane 13) from a13, ← show v144 = v72 (lane 14) from a14, ← show v149 = v72 (lane 15) from a15] at e
    exact e
  obtain ⟨l, hl⟩ := hl
  refine enter_with (part50_ok i arg2 harg2 arg3 harg3 arg4 harg4 arg5 harg5 arg6 harg6 arg7 harg7 arg8 harg8 arg9 harg9 arg10 harg10 arg11 arg12 v320_r0 v320_r1 v642_r2 v320_r3 (tileHi i) v164 v169 v172) ?_
  rintro ⟨v176, v181, v186, v191, v196, v201, v206, v211, v214⟩ ⟨b2, b3, b4, b5, b6, b7, b8, b9⟩
  have hh : ∀ v216 v221 v226 v231 v236 v241 : BitVec 32, v216 = v164 (lane 10) → v221 = v164 (lane 11) → v226 = v164 (lane 12) → v231 = v164 (lane 13)
      → v236 = v164 (lane 14) → v241 = v164 (lane 15) → ∃ h, BoundOK (Below b (tileHi i)) (hiW i v158_0 v166 v171 v176 v181 v186 v191 v196 v201 v206 v211 v216 v221 v226 v231 v236 v241) h := by
    intro v216 v221 v226 v231 v236 v241 b10 b11 b12 b13 b14 b15
    have e := bound_lanes (b := b) (g := tileHi i) (r := v158_0) (v := v164) hf' h164
    rw [← show v166 = v164 (lane 0) from b0, ← show v171 = v164 (lane 1) from b1, ← show v176 = v164 (lane 2) from b2, ← show v181 = v164 (lane 3) from b3,
      ← show v186 = v164 (lane 4) from b4, ← show v191 = v164 (lane 5) from b5, ← show v196 = v164 (lane 6) from b6, ← show v201 = v164 (lane 7) from b7,
      ← show v206 = v164 (lane 8) from b8, ← show v211 = v164 (lane 9) from b9, ← b10, ← b11, ← b12, ← b13, ← b14, ← b15] at e
    exact e
  refine enter_with (part51_ok i arg2 harg2 arg3 harg3 arg4 harg4 arg5 harg5 arg6 harg6 arg7 harg7 arg8 harg8 arg9 harg9 arg10 harg10 arg11 arg12 v320_r0 v320_r1 v642_r2 v320_r3 (tileHi i) v66_0 v74 v79 v84 v89 v94 v99 v104 v109 v114 v119 v124 v129 v134 v139 v144 v149 v156 v158_0 v160 v164 v166 v171 v176 v181 v186 v191 v196 v201 v206 v211 v214
    (fun v216 v221 v226 v231 v236 v241 b10 b11 b12 b13 b14 b15 => by
      obtain ⟨h, hh⟩ := hh v216 v221 v226 v231 v236 v241 b10 b11 b12 b13 b14 b15
      exact chk5_ok i v66_0 v74 v79 v84 v89 v94 v99 v104 v109 v114 v119 v124 v129 v134 v139 v144 v149 v158_0 v166 v171 v176 v181 v186 v191 v196 v201 v206 v211 v216 v221 v226 v231 v236 v241 hl.1 hh.1 hl.2.1 hh.2.1)) ?_
  rintro ⟨v216, v221, v226, v231, v236, v241, k0_hw5, v248, c64, v249, v254, c0⟩ ⟨b10, b11, b12, b13, b14, b15⟩
  obtain ⟨h, hh⟩ := hh v216 v221 v226 v231 v236 v241 b10 b11 b12 b13 b14 b15
  clear hf hf' h72 h164 h92 e24
  refine shift (T := Both i arg2 arg6 arg7 arg11 arg12 d q₁ q₂ x iprop(Holds (c := (i 0).castLE hcore0) (s := (i 1).castLE hsub0) d arg8 (e := .i32) (padB b) ∗ Holds (c := (i 0).castLE hcore0) (s := (i 1).castLE hsub0) d arg9 lp
        ∗ Holds (c := (i 0).castLE hcore0) (s := (i 1).castLE hsub0) d arg10 (fun _ => zf) ∗ Debt d ((i 0).castLE hcore0) ((i 1).castLE hsub0) O W
        ∗ (Reads (c := (i 0).castLE hcore0) (s := (i 1).castLE hsub0) d qb arg4 (e := .i32) b ∗ Reads (c := (i 0).castLE hcore0) (s := (i 1).castLE hsub0) d ql arg3 lp
        ∗ Idle d ((i 0).castLE hcore0) ((i 1).castLE hsub0) v320_r0.sem ∗ Idle d ((i 0).castLE hcore0) ((i 1).castLE hsub0) v320_r1.sem
        ∗ Idle d ((i 0).castLE hcore0) ((i 1).castLE hsub0) v642_r2.sem ∗ Idle d ((i 0).castLE hcore0) ((i 1).castLE hsub0) v320_r3.sem
        ∗ Part (c := (i 0).castLE hcore0) (s := (i 1).castLE hsub0) d (outRows i arg5) Y0))) (by
    unfold Both; iintro ⟨H1, H2, H3, H4, H5, H6, H7, H8, H9, H10, H11, H12, H13⟩; iframe) ?_
  refine enter ((part52_ok i arg2 harg2 arg3 harg3 arg4 harg4 arg5 harg5 arg6 harg6 arg7 harg7 arg8 harg8 arg9 harg9 arg10 harg10 arg11 arg12 v320_r0 v320_r1 v642_r2 v320_r3 v66_0 v74 v79 v84 v89 v94 v99 v104 v109 v114 v119 v124 v129 v134 v139 v144 v149 v158_0 v166 v171 v176 v181 v186 v191 v196 v201 v206 v211 v216 v221 v226 v231 v236 v241 hl.1 hh.1 hl.2.1 hh.2.1 v156 k0_hw5 v248 c64 v249 v254 c0).trans (wp_mono frame _ _ fun r => ?_))
  obtain ⟨v265, v285, v293, c1'⟩ := r
  refine rounds_loop i arg2 harg2 arg3 harg3 arg4 harg4 arg5 harg5 arg6 harg6 arg7 harg7 arg8 harg8 arg9 harg9 arg10 harg10 arg11 arg12 v320_r0 v320_r1 v642_r2 v320_r3 (tileLo i) (tileHi i) v66_0 v74 v79 v84 v89 v94 v99 v104 v109 v114 v119 v124 v129 v134 v139 v144 v149 v158_0 v166 v171 v176 v181 v186 v191 v196 v201 v206 v211 v216 v221 v226 v231 v236 v241 hl.1 hh.1 hl.2.1 hh.2.1 k0_hw5 v265 (padB_ids b) ?_
  refine rest_loop i arg2 harg2 arg3 harg3 arg4 harg4 arg5 harg5 arg6 harg6 arg7 harg7 arg8 harg8 arg9 harg9 arg10 harg10 arg11 arg12 v320_r0 v320_r1 v642_r2 v320_r3 (tileLo i) (tileHi i) v66_0 v74 v79 v84 v89 v94 v99 v104 v109 v114 v119 v124 v129 v134 v139 v144 v149 v158_0 v166 v171 v176 v181 v186 v191 v196 v201 v206 v211 v216 v221 v226 v231 v236 v241 hl.1 hh.1 hl.2.1 hh.2.1 k0_hw5 v265 _ ?_
  refine shift (T := iprop(Free (c := (i 0).castLE hcore0) (s := (i 1).castLE hsub0) d q₁ arg2 x arg6 arg11.sem ∗ Idle d ((i 0).castLE hcore0) ((i 1).castLE hsub0) v642_r2.sem
        ∗ (Holds (c := (i 0).castLE hcore0) (s := (i 1).castLE hsub0) d arg8 (e := .i32) (padB b) ∗ Holds (c := (i 0).castLE hcore0) (s := (i 1).castLE hsub0) d arg9 lp
          ∗ Holds (c := (i 0).castLE hcore0) (s := (i 1).castLE hsub0) d arg10 (foldRows (tileLo i) (tileHi i) x lp b (fun _ => zf) (64 * cF l) (64 * (cE h - cF l)))
        ∗ Debt d ((i 0).castLE hcore0) ((i 1).castLE hsub0) O W
        ∗ (Free (c := (i 0).castLE hcore0) (s := (i 1).castLE hsub0) d q₂ arg2 x arg7 arg12.sem ∗ Reads (c := (i 0).castLE hcore0) (s := (i 1).castLE hsub0) d qb arg4 (e := .i32) b ∗ Reads (c := (i 0).castLE hcore0) (s := (i 1).castLE hsub0) d ql arg3 lp
        ∗ Idle d ((i 0).castLE hcore0) ((i 1).castLE hsub0) v320_r0.sem ∗ Idle d ((i 0).castLE hcore0) ((i 1).castLE hsub0) v320_r1.sem
        ∗ Idle d ((i 0).castLE hcore0) ((i 1).castLE hsub0) v320_r3.sem ∗ Part (c := (i 0).castLE hcore0) (s := (i 1).castLE hsub0) d (outRows i arg5) Y0)))) (by
    iintro ⟨H1, H2, H3, H4, H5, H6, H7, H8, H9, H10, H11, H12, H13⟩; iframe) ?_
  refine tail_if i arg2 harg2 arg3 harg3 arg4 harg4 arg5 harg5 arg6 harg6 arg7 harg7 arg8 harg8 arg9 harg9 arg10 harg10 arg11 arg12 v320_r0 v320_r1 v642_r2 v320_r3 (tileLo i) (tileHi i) v158_0 v166 v171 v176 v181 v186 v191 v196 v201 v206 v211 v216 v221 v226 v231 v236 v241 hh.1 hh.2.1 (padB_ids b) ?_
  have hY := pooled_of (x := x) (lp := lp) hl hh
  clear b0 b1 b2 b3 b4 b5 b6 b7 b8 b9 b10 b11 b12 b13 b14 b15 a0 a1 a2 a3 a4 a5 a6 a7 a8 a9 a10 a11 a12 a13 a14 a15
  revert hY
  generalize (if 9984 < h then
        foldRows (tileLo i) (tileHi i) x lp b (foldRows (tileLo i) (tileHi i) x lp b (fun _ => zf) (64 * cF l) (64 * (cE h - cF l))) 9984 16
      else foldRows (tileLo i) (tileHi i) x lp b (fun _ => zf) (64 * cF l) (64 * (cE h - cF l))) = Y
  intro hY
  refine shift (T := iprop((Reads (c := (i 0).castLE hcore0) (s := (i 1).castLE hsub0) d fullShare arg10 Y ∗ Part (c := (i 0).castLE hcore0) (s := (i 1).castLE hsub0) d (outRows i arg5) Y0 ∗ Idle d ((i 0).castLE hcore0) ((i 1).castLE hsub0) v320_r3.sem)
        ∗ (Free (c := (i 0).castLE hcore0) (s := (i 1).castLE hsub0) d q₁ arg2 x arg6 arg11.sem ∗ Idle d ((i 0).castLE hcore0) ((i 1).castLE hsub0) v642_r2.sem
        ∗ Holds (c := (i 0).castLE hcore0) (s := (i 1).castLE hsub0) d arg8 (e := .i32) (padB b) ∗ Holds (c := (i 0).castLE hcore0) (s := (i 1).castLE hsub0) d arg9 lp ∗ Debt d ((i 0).castLE hcore0) ((i 1).castLE hsub0) O W
        ∗ Free (c := (i 0).castLE hcore0) (s := (i 1).castLE hsub0) d q₂ arg2 x arg7 arg12.sem ∗ Reads (c := (i 0).castLE hcore0) (s := (i 1).castLE hsub0) d qb arg4 (e := .i32) b ∗ Reads (c := (i 0).castLE hcore0) (s := (i 1).castLE hsub0) d ql arg3 lp
        ∗ Idle d ((i 0).castLE hcore0) ((i 1).castLE hsub0) v320_r0.sem ∗ Idle d ((i 0).castLE hcore0) ((i 1).castLE hsub0) v320_r1.sem))) (by
    iintro ⟨H1, H2, H3, H4, H5, H6, H7, H8, H9, H10, H11, H12, H13⟩
    isplitl [H5 H12 H13]
    · isplitl [H5]
      · iapply (show Holds (c := (i 0).castLE hcore0) (s := (i 1).castLE hsub0) d arg10 Y ⊢ Reads (c := (i 0).castLE hcore0) (s := (i 1).castLE hsub0) d fullShare arg10 Y from Entails.refl _) $$ H5
      iframe
    iframe) ?_
  refine start d _ rfl (View.dmaCredit_pos _ (by decide)) (lends_whole d) (takes_part) ?_
  refine leave ?_
  refine shift (T := iprop(Fly d ((i 0).castLE hcore0) ((i 1).castLE hsub0) v320_r3.sem _ iprop(Reads (c := (i 0).castLE hcore0) (s := (i 1).castLE hsub0) d fullShare arg10 Y ∗ Part (c := (i 0).castLE hcore0) (s := (i 1).castLE hsub0) d (outRows i arg5) Y)
        ∗ Debt d ((i 0).castLE hcore0) ((i 1).castLE hsub0) O W
        ∗ (Free (c := (i 0).castLE hcore0) (s := (i 1).castLE hsub0) d q₁ arg2 x arg6 arg11.sem ∗ Idle d ((i 0).castLE hcore0) ((i 1).castLE hsub0) v642_r2.sem
        ∗ Holds (c := (i 0).castLE hcore0) (s := (i 1).castLE hsub0) d arg8 (e := .i32) (padB b) ∗ Holds (c := (i 0).castLE hcore0) (s := (i 1).castLE hsub0) d arg9 lp
        ∗ Free (c := (i 0).castLE hcore0) (s := (i 1).castLE hsub0) d q₂ arg2 x arg7 arg12.sem ∗ Reads (c := (i 0).castLE hcore0) (s := (i 1).castLE hsub0) d qb arg4 (e := .i32) b ∗ Reads (c := (i 0).castLE hcore0) (s := (i 1).castLE hsub0) d ql arg3 lp
        ∗ Idle d ((i 0).castLE hcore0) ((i 1).castLE hsub0) v320_r0.sem ∗ Idle d ((i 0).castLE hcore0) ((i 1).castLE hsub0) v320_r1.sem))) (by
    iintro ⟨H1, H2, H3, H4, H5, H6, H7, H8, H9, H10, H11⟩
    iframe) ?_
  refine land d rfl ?_
  refine leave ?_
  iintro ⟨⟨H1, H2⟩, H3, H4, H5, H6, H7, H8, H9, H10, H11, H12, H13⟩
  isplitr [H2]
  · isplitl [H5 H9 H10 H11]; · iframe
    isplitl [H1 H7 H8]
    · isplitl [H7]; · iexists (padB b); iexact H7
      isplitl [H8]; · iexists lp; iexact H8
      iexists Y
      iapply (show Reads (c := (i 0).castLE hcore0) (s := (i 1).castLE hsub0) d fullShare arg10 Y ⊢ Holds (c := (i 0).castLE hcore0) (s := (i 1).castLE hsub0) d arg10 Y from Entails.refl _) $$ H1
    iframe
  · iexists Y
    isplitr; · ipureintro; exact hY
    iexact H2

end Cert.Proof.Pool

end
-- ==== Proof.TileObl.lean ====
/-
  One tile of the call as the launch sees it: what it is handed (a share of the nodes, of their log probabilities and of
  their ids, and its own rows of the pooled array), what it hands back, and that its body does so.
-/
module

public import proofs.«01_k».proof.Proof.Tile2
public import Idealize.ShloMosaic.Lib.ShareLeaves

@[expose] public section

noncomputable section

namespace Cert.Proof.Pool

open Cert.KernelIdeal Cert.KernelIdeal.Gen
open Idealize.ShloMosaic
open Idealize.ShloMosaic.SparseCore (V)
open Idealize.ShloMosaic.SparseCore.Cfg (HIx Pay ownBufs ownSems0 ownCells ownRefs mem_ownCells mem_ownRefs)
open Idealize.ShloMosaic.ShareLeaves (leaf)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

theorem nCore_zero : (K (F := F)).nCore 0 = 2 := rfl
theorem nSub_zero : (K (F := F)).nSub 0 = 16 := rfl

/-! ## The arrays the call takes -/

abbrev xLoc (d : Dev nD) : Loc nD τ sig := (SparseCore.T d).loc main_arg0
abbrev lLoc (d : Dev nD) : Loc nD τ sig := (SparseCore.T d).loc main_arg1
abbrev bLoc (d : Dev nD) : Loc nD τ sig := (SparseCore.T d).loc main_arg2
abbrev oLoc (d : Dev nD) : Loc nD τ sig := (SparseCore.T d).loc main_v0

variable (m : (ℓ : Loc nD τ sig) → Buf (Elt F) ℓ)

/-- The nodes, their log probabilities and their ids, as the launch memory holds them. -/
abbrev xOf (d : Dev nD) : S10000x512.Idx → F .f32 := m (xLoc d)
abbrev lOf (d : Dev nD) : S10000.Idx → F .f32 := m (lLoc d)
abbrev bOf (d : Dev nD) : S10000.Idx → BitVec 32 := m (bLoc d)

/-- A tile's core and its place on that core. -/
abbrev cV (L : grid0.Coords) : Fin τ.nSC := (L 0).castLE hcore0
abbrev jV (L : grid0.Coords) : Fin τ.nSub := (L 1).castLE hsub0

/-- The tile `s` of the core `c`. -/
def tileAt (c : Fin (grid0.bound 0)) (s : Fin (grid0.bound 1)) : grid0.Coords :=
  fun | 0 => c | 1 => s | ⟨_ + 2, h⟩ => absurd h (Nat.not_lt.2 (Nat.le_add_left _ _))

/-- The rows a tile writes, of the whole pooled array. -/
abbrev tileRows (L : grid0.Coords) : Memref sig .scVector .hbm S32x512 .f32 := outRows L (Memref.whole main_v0_scv)

/-- The share of what every tile reads that one tile holds. -/
def tileShare (L : grid0.Coords) : PosShare TreeShare :=
  leaf 4 (leaf 1 fullShare (Fin.cast (rfl : grid0.bound 0 = 2 ^ 1) (L 0))) (Fin.cast (rfl : grid0.bound 1 = 2 ^ 4) (L 1))

/-- What the tiles read, held at the share `q`. -/
def Inputs (d : Dev nD) (q : PosShare TreeShare) : sProp (MM F) :=
  iprop((xLoc d ↦{q} m (xLoc d)) ∗ (lLoc d ↦{q} m (lLoc d)) ∗ (bLoc d ↦{q} m (bLoc d)))

/-- A tile's rows of the pooled array, holding `f`'s words. -/
abbrev rowsPts (d : Dev nD) (L : grid0.Coords) (f : Buf (Elt F) (oLoc d)) : sProp (MM F) :=
  oLoc d ↦[(tileRows L).view.set]{fullShare} f

variable [FloatOps F]

/-- A tile's rows of `f` are pooled values. -/
def TileOK (d : Dev nD) (L : grid0.Coords) (f : Buf (Elt F) (oLoc d)) : Prop :=
  Pooled (tileLo L) (tileHi L) (xOf m d) (lOf m d) (bOf m d) ((tileRows L).view.read (Elt F) f)

/-- What a tile is handed, and what it hands back. -/
def Go (d : Dev nD) (L : grid0.Coords) : sProp (MM F) := iprop(Inputs m d (tileShare L) ∗ rowsPts d L (m (oLoc d)))
def Td (d : Dev nD) (L : grid0.Coords) : sProp (MM F) := iprop(Inputs m d (tileShare L) ∗ ∃ f, ⌜TileOK m d L f⌝ ∗ rowsPts d L f)

/-! ## A tile's own buffers and semaphores -/

/-- The six cells of a tile's copies and its five buffers. -/
def tileCell : Fin 6 → DmaSem sig :=
  ![cc0_scratch5.sem, cc0_scratch6.sem, cc0_scoped0.sem, cc0_scoped1.sem, cc0_scoped2.sem, cc0_scoped3.sem]
def tileBuf : Fin 5 → Ref sig .scVector := ![cc0_scratch0, cc0_scratch1, cc0_scratch2, cc0_scratch3, cc0_scratch4]

theorem tileCell_inj : Function.Injective tileCell := by decide
theorem tileBuf_inj : Function.Injective tileBuf := by decide
theorem tileCell_scoped (k : Fin 6) : (SemLoc.dma (tileCell k) : SemLoc sig).isScoped .scVector = true := by
  revert k; decide
theorem tileBuf_owner (c : Fin τ.nSC) (s : Fin τ.nSub) (k : Fin 5) :
    ((Proc.scVector c s).devRef (tileBuf k) : DevRef τ sig).owner = .proc (.scVector c s) := by
  match k with | 0 => rfl | 1 => rfl | 2 => rfl | 3 => rfl | 4 => rfl

/-- A tile's cells other than its copies', and its buffers other than the five. -/
abbrev otherCells (d : Dev nD) (c : Fin τ.nSC) (s : Fin τ.nSub) : sProp (MM F) :=
  bigSep (ownCells (V d c s) \ Finset.univ.image fun k : Fin 6 => ((V d c s, .dma (tileCell k)) : GSem nD τ sig)) fun g => semVal g 0
abbrev otherBufs (d : Dev nD) (c : Fin τ.nSC) (s : Fin τ.nSub) : sProp (MM F) :=
  bigSep (ownRefs (τ := τ) (.scVector c s) \ Finset.univ.image fun k : Fin 5 => ((Proc.scVector c s).devRef (tileBuf k) : DevRef τ sig))
    fun b => iprop(∃ f, ((d, b) : Loc nD τ sig) ↦{fullShare} f)

theorem ownSems0_tile (d : Dev nD) (c : Fin τ.nSC) (s : Fin τ.nSub) :
    (ownSems0 (V d c s) : sProp (MM F))
      = iprop((Idle d c s cc0_scratch5.sem ∗ Idle d c s cc0_scratch6.sem ∗ Idle d c s cc0_scoped0.sem
          ∗ Idle d c s cc0_scoped1.sem ∗ Idle d c s cc0_scoped2.sem ∗ Idle d c s cc0_scoped3.sem) ∗ otherCells d c s) := by
  unfold SparseCore.Cfg.ownSems0
  rw [SparseCore.bigSep_sdiff_split' (t := Finset.univ.image fun k : Fin 6 => ((V d c s, .dma (tileCell k)) : GSem nD τ sig))
      (Finset.image_subset_iff.mpr fun k _ => mem_ownCells.mpr ⟨rfl, tileCell_scoped k⟩),
    SparseCore.bigSep_image_of_injOn (fun a _ b _ h => tileCell_inj (by
      have := congrArg (fun g : GSem nD τ sig => g.2) h
      simpa only [SemLoc.dma.injEq] using this))]
  rw [show (Finset.univ : Finset (Fin 6)) = {0, 1, 2, 3, 4, 5} by decide, SparseCore.bigSep_insert' (by decide),
    SparseCore.bigSep_insert' (by decide), SparseCore.bigSep_insert' (by decide), SparseCore.bigSep_insert' (by decide),
    SparseCore.bigSep_insert' (by decide), bigSep_singleton]
  rfl

theorem ownBufs_tile (d : Dev nD) (c : Fin τ.nSC) (s : Fin τ.nSub) :
    (ownBufs (V d c s) : sProp (MM F))
      = iprop(((∃ f, (V d c s).loc cc0_scratch0 ↦{fullShare} f) ∗ (∃ f, (V d c s).loc cc0_scratch1 ↦{fullShare} f)
          ∗ (∃ f, (V d c s).loc cc0_scratch2 ↦{fullShare} f) ∗ (∃ f, (V d c s).loc cc0_scratch3 ↦{fullShare} f)
          ∗ (∃ f, (V d c s).loc cc0_scratch4 ↦{fullShare} f)) ∗ otherBufs d c s) := by
  unfold SparseCore.Cfg.ownBufs
  refine (SparseCore.bigSep_sdiff_split' (t := Finset.univ.image fun k : Fin 5 => ((Proc.scVector c s).devRef (tileBuf k) : DevRef τ sig))
      (Finset.image_subset_iff.mpr fun k _ => SparseCore.Cfg.mem_ownRefs_of_owner (p := Proc.scVector c s) (tileBuf_owner c s k))).trans ?_
  rw [SparseCore.bigSep_image_of_injOn (fun a _ b _ h => tileBuf_inj (Proc.devRef_injective _ h))]
  rw [show (Finset.univ : Finset (Fin 5)) = {0, 1, 2, 3, 4} by decide, SparseCore.bigSep_insert' (by decide),
    SparseCore.bigSep_insert' (by decide), SparseCore.bigSep_insert' (by decide), SparseCore.bigSep_insert' (by decide), bigSep_singleton]
  rfl

/-! ## Whole buffers, as the body names them -/

section Whole
variable (d : Dev nD) {c : Fin τ.nSC} {s : Fin τ.nSub}

theorem holds_of_buf (b : Ref sig .scVector) :
    iprop(∃ f, (V d c s).loc b ↦{fullShare} f) ⊢ iprop(∃ X, Holds (F := F) (c := c) (s := s) d (Memref.whole b) X) := by
  unfold Holds
  iintro ⟨%f, H⟩
  iexists f; iexists f
  isplitr; · ipureintro; rfl
  iexact H

theorem buf_of_holds (b : Ref sig .scVector) :
    iprop(∃ X, Holds (F := F) (c := c) (s := s) d (Memref.whole b) X) ⊢ iprop(∃ f, (V d c s).loc b ↦{fullShare} f) := by
  unfold Holds
  iintro ⟨%X, %f, -, H⟩
  iexists f
  iexact H

theorem reads_of_pts (b : Ref sig .scVector) (q : PosShare TreeShare) (f : Buf (Elt F) ((V d c s).loc b)) :
    ((V d c s).loc b ↦{q} f) ⊢ Reads (F := F) (c := c) (s := s) d q (Memref.whole b) f := by
  unfold Reads
  iintro H
  iexists f
  isplitr; · ipureintro; rfl
  iexact H

theorem pts_of_reads (b : Ref sig .scVector) (q : PosShare TreeShare) (f : Buf (Elt F) ((V d c s).loc b)) :
    Reads (F := F) (c := c) (s := s) d q (Memref.whole b) f ⊢ ((V d c s).loc b ↦{q} f) := by
  unfold Reads
  iintro ⟨%g, %h, H⟩
  have e : g = f := h
  subst e
  iexact H

end Whole

/-! ## The tile's obligation -/

/-- The body of a tile, on the arrays and the tile's own buffers and cells. -/
abbrev tileProg (L : grid0.Coords) : TileProg F (cV L) (jV L) PUnit :=
  cc0__sc_pool_call L (Memref.whole main_arg0_scv) (Memref.isWhole_whole _) (Memref.whole main_arg1_scv) (Memref.isWhole_whole _)
    (Memref.whole main_arg2_scv) (Memref.isWhole_whole _) (Memref.whole main_v0_scv) (Memref.isWhole_whole _)
    (Memref.whole cc0_scratch0) (Memref.isWhole_whole _) (Memref.whole cc0_scratch1) (Memref.isWhole_whole _)
    (Memref.whole cc0_scratch2) (Memref.isWhole_whole _) (Memref.whole cc0_scratch3) (Memref.isWhole_whole _)
    (Memref.whole cc0_scratch4) (Memref.isWhole_whole _) cc0_scratch5 cc0_scratch6 cc0_scoped0 cc0_scoped1 cc0_scoped2 cc0_scoped3

section Tile
variable (d : Dev nD) (L : grid0.Coords)

/-- `Kit` at this call's arrays, buffers and cells. -/
abbrev tileKit (O : CellTallies nD τ sig (HIx 1)) (W : Waits sig (HIx 1)) : sProp (MM F) :=
  Kit L (Memref.whole main_arg0_scv) (Memref.whole main_arg1_scv) (Memref.whole main_arg2_scv)
    (Memref.whole cc0_scratch0) (Memref.whole cc0_scratch1) (Memref.whole cc0_scratch2) (Memref.whole cc0_scratch3)
    (Memref.whole cc0_scratch4) cc0_scratch5 cc0_scratch6 cc0_scoped0 cc0_scoped1 cc0_scoped2 cc0_scoped3
    d (tileShare L).left (tileShare L).right (tileShare L) (tileShare L) (xOf m d) (bOf m d) (lOf m d) O W

/-- What a tile starts from is its kit, its rows, and the buffers and cells it does not use. -/
theorem kit_of (hF : (K (F := F)).Facts) (O : CellTallies nD τ sig (HIx 1)) (W : Waits sig (HIx 1)) (hO : ∀ g, O g none = 0) :
    iprop(levAts (K (F := F)).L (K (F := F)).lev ∗ emp ∗ Go m d L
        ∗ scopedBufs (V d (cV L) (jV L)) ∗ scopedSems0 (V d (cV L) (jV L)) ∗ owes (V d (cV L) (jV L)) O W)
      ⊢ iprop((tileKit m d L O W ∗ Part (c := cV L) (s := jV L) d (tileRows L) ((tileRows L).view.read (Elt F) (m (oLoc d))))
        ∗ otherBufs d (cV L) (jV L) ∗ otherCells d (cV L) (jV L)) := by
  rw [(K (F := F)).scopedBufs_V hF d (cV L) (jV L), SparseCore.Cfg.scopedSems0_V (Val := Elt F) d (cV L) (jV L), ownSems0_tile, ownBufs_tile]
  unfold Go Inputs tileKit Kit Free Debt Part
  iintro ⟨Hlv, -, ⟨⟨Hx, Hl, Hb⟩, Ho⟩, ⟨⟨H0, H1, H2, H3, H4⟩, HB⟩, ⟨⟨S0, S1, S2, S3, S4, S5⟩, HS⟩, HO⟩
  ihave Hx := (pointsTo_share (PosShare.mem_left_op_right (tileShare L))).1 $$ Hx
  icases Hx with ⟨Hx1, Hx2⟩
  ihave Hx1 := (reads_of_pts (F := F) (c := cV L) (s := jV L) d main_arg0_scv _ _) $$ [Hx1]
  · iexact Hx1
  ihave Hx2 := (reads_of_pts (F := F) (c := cV L) (s := jV L) d main_arg0_scv _ _) $$ [Hx2]
  · iexact Hx2
  ihave Hl := (reads_of_pts (F := F) (c := cV L) (s := jV L) d main_arg1_scv _ _) $$ [Hl]
  · iexact Hl
  ihave Hb := (reads_of_pts (F := F) (c := cV L) (s := jV L) d main_arg2_scv _ _) $$ [Hb]
  · iexact Hb
  ihave H0 := (holds_of_buf (F := F) (c := cV L) (s := jV L) d cc0_scratch0) $$ H0
  ihave H1 := (holds_of_buf (F := F) (c := cV L) (s := jV L) d cc0_scratch1) $$ H1
  ihave H2 := (holds_of_buf (F := F) (c := cV L) (s := jV L) d cc0_scratch2) $$ H2
  ihave H3 := (holds_of_buf (F := F) (c := cV L) (s := jV L) d cc0_scratch3) $$ H3
  ihave H4 := (holds_of_buf (F := F) (c := cV L) (s := jV L) d cc0_scratch4) $$ H4
  isplitr [HB HS]
  · isplitr [Ho]
    · isplitl [Hx1 Hx2 Hl Hb H0 H1 S0 S1]
      · isplitl [Hx1 H0 S0]
        · isplitl [Hx1]; · iexact Hx1
          isplitl [H0]; · iexact H0
          iexact S0
        isplitl [Hx2 H1 S1]
        · isplitl [Hx2]; · iexact Hx2
          isplitl [H1]; · iexact H1
          iexact S1
        isplitl [Hl]; · iexact Hl
        iexact Hb
      isplitl [H2 H3 H4]
      · isplitl [H2]; · iexact H2
        isplitl [H3]; · iexact H3
        iexact H4
      isplitl [S2 S3 S4 S5]
      · isplitl [S2]; · iexact S2
        isplitl [S3]; · iexact S3
        isplitl [S4]; · iexact S4
        iexact S5
      isplitl [Hlv]; · iexact Hlv
      isplitr; · ipureintro; exact hO
      iexists W
      isplitr; · ipureintro; exact fun p hp => .inl hp
      iexact HO
    iexists (m (oLoc d))
    isplitr; · ipureintro; rfl
    iexact Ho
  isplitl [HB] <;> iassumption

/-- What a tile ends with is what it hands back, and its own buffers and cells. -/
theorem of_kit (hF : (K (F := F)).Facts) (O : CellTallies nD τ sig (HIx 1)) (W : Waits sig (HIx 1)) :
    iprop((tileKit m d L O W ∗ ∃ Y, ⌜Pooled (tileLo L) (tileHi L) (xOf m d) (lOf m d) (bOf m d) Y⌝ ∗ Part (c := cV L) (s := jV L) d (tileRows L) Y)
        ∗ otherBufs d (cV L) (jV L) ∗ otherCells d (cV L) (jV L))
      ⊢ iprop(Td m d L ∗ scopedBufs (V d (cV L) (jV L)) ∗ scopedSems0 (V d (cV L) (jV L))
        ∗ ∃ W', ⌜∀ p ∈ W', p ∈ W ∨ p.2 = none ∨ p.2 = some (0 : Fin 1)⌝ ∗ owes (V d (cV L) (jV L)) O W') := by
  rw [(K (F := F)).scopedBufs_V hF d (cV L) (jV L), SparseCore.Cfg.scopedSems0_V (Val := Elt F) d (cV L) (jV L), ownSems0_tile, ownBufs_tile]
  unfold Td Inputs tileKit Kit Free Debt Part
  iintro ⟨⟨⟨⟨⟨Hx1, H0, S0⟩, ⟨Hx2, H1, S1⟩, Hl, Hb⟩, ⟨H2, H3, H4⟩, ⟨S2, S3, S4, S5⟩, -, -, %W', %hW', HO⟩, %Y, %hY, %f, %hf, Ho⟩, HB, HS⟩
  ihave Hx1 := (pts_of_reads (F := F) (c := cV L) (s := jV L) d main_arg0_scv _ (m (xLoc d))) $$ [Hx1]
  · iexact Hx1
  ihave Hx2 := (pts_of_reads (F := F) (c := cV L) (s := jV L) d main_arg0_scv _ (m (xLoc d))) $$ [Hx2]
  · iexact Hx2
  ihave Hl := (pts_of_reads (F := F) (c := cV L) (s := jV L) d main_arg1_scv _ (m (lLoc d))) $$ [Hl]
  · iexact Hl
  ihave Hb := (pts_of_reads (F := F) (c := cV L) (s := jV L) d main_arg2_scv _ (m (bLoc d))) $$ [Hb]
  · iexact Hb
  ihave Hx := (pointsTo_share (ℓ := xLoc d) (I := Finset.univ) (f := m (xLoc d)) (PosShare.mem_left_op_right (tileShare L))).2 $$ [Hx1 Hx2]
  · isplitl [Hx1]; · iexact Hx1
    iexact Hx2
  ihave H0 := (buf_of_holds (F := F) (c := cV L) (s := jV L) d cc0_scratch0) $$ H0
  ihave H1 := (buf_of_holds (F := F) (c := cV L) (s := jV L) d cc0_scratch1) $$ H1
  ihave H2 := (buf_of_holds (F := F) (c := cV L) (s := jV L) d cc0_scratch2) $$ H2
  ihave H3 := (buf_of_holds (F := F) (c := cV L) (s := jV L) d cc0_scratch3) $$ H3
  ihave H4 := (buf_of_holds (F := F) (c := cV L) (s := jV L) d cc0_scratch4) $$ H4
  isplitl [Hx Hl Hb Ho]
  · isplitr [Ho]
    · isplitl [Hx]; · iexact Hx
      isplitl [Hl]; · iexact Hl
      iexact Hb
    iexists f
    isplitr; · ipureintro; unfold TileOK; rw [hf]; exact hY
    iexact Ho
  isplitl [H0 H1 H2 H3 H4 HB]
  · isplitr [HB]
    · isplitl [H0]; · iexact H0
      isplitl [H1]; · iexact H1
      isplitl [H2]; · iexact H2
      isplitl [H3]; · iexact H3
      iexact H4
    iexact HB
  isplitl [S0 S1 S2 S3 S4 S5 HS]
  · isplitr [HS]
    · isplitl [S0]; · iexact S0
      isplitl [S1]; · iexact S1
      isplitl [S2]; · iexact S2
      isplitl [S3]; · iexact S3
      isplitl [S4]; · iexact S4
      iexact S5
    iexact HS
  iexists W'
  isplitr; · ipureintro; exact fun p hp => (hW' p hp).imp_right .inl
  iexact HO

theorem tile_step (O : CellTallies nD τ sig (HIx 1)) (W : Waits sig (HIx 1)) :
    iprop(tileKit m d L O W ∗ Part (c := cV L) (s := jV L) d (tileRows L) ((tileRows L).view.read (Elt F) (m (oLoc d))))
      ⊢ twp d (tileProg L) fun _ => iprop(tileKit m d L O W
        ∗ ∃ Y, ⌜Pooled (tileLo L) (tileHi L) (xOf m d) (lOf m d) (bOf m d) Y⌝ ∗ Part (c := cV L) (s := jV L) d (tileRows L) Y) :=
  tile_body (d := d) L _ (Memref.isWhole_whole _) _ (Memref.isWhole_whole _) _ (Memref.isWhole_whole _) _ (Memref.isWhole_whole _) _ (Memref.isWhole_whole _) _ (Memref.isWhole_whole _) _ (Memref.isWhole_whole _) _ (Memref.isWhole_whole _) _ (Memref.isWhole_whole _) _ _ _ _ _ _

theorem tile_run (hF : (K (F := F)).Facts) (O : CellTallies nD τ sig (HIx 1)) (W : Waits sig (HIx 1)) (hO : ∀ g, O g none = 0) :
    iprop(levAts (K (F := F)).L (K (F := F)).lev ∗ emp ∗ Go m d L
        ∗ scopedBufs (V d (cV L) (jV L)) ∗ scopedSems0 (V d (cV L) (jV L)) ∗ owes (V d (cV L) (jV L)) O W)
      ⊢ twp d (tileProg L) fun _ => iprop(Td m d L ∗ scopedBufs (V d (cV L) (jV L)) ∗ scopedSems0 (V d (cV L) (jV L))
        ∗ ∃ W', ⌜∀ p ∈ W', p ∈ W ∨ p.2 = none ∨ p.2 = some (0 : Fin 1)⌝ ∗ owes (V d (cV L) (jV L)) O W') := by
  refine (kit_of m d L hF O W hO).trans ?_
  refine (sep_mono (tile_step m d L O W) .rfl).trans ?_
  refine shift (wp_frame_r frame _ _) ?_
  exact wp_mono frame _ _ fun _ => of_kit m d L hF O W

end Tile

/-! ## What the call's hand-offs carry -/

/-- The tile the hand-off of core `c` and place `i` is with. -/
abbrev tileOf (c : Fin ((K (F := F)).nCore 0)) (i : Fin ((K (F := F)).nSub 0)) : grid0.Coords :=
  tileAt (Fin.cast (rfl : (K (F := F)).nCore 0 = grid0.bound 0) c) (Fin.cast (rfl : (K (F := F)).nSub 0 = grid0.bound 1) i)

/-- A core is handed what its tiles are, and hands back what they do. -/
def P : (K (F := F)).Pay (nD := nD) (Val := Elt F) (Name := ℕ) (U := UU) where
  st := fun q d c => match q with | 0 => bigSep Finset.univ fun i => Go m d (tileOf c i)
  dn := fun q d c => match q with | 0 => bigSep Finset.univ fun i => Td m d (tileOf c i)
  go := fun q d c i => match q with | 0 => Go m d (tileOf c i)
  td := fun q d c i => match q with | 0 => Td m d (tileOf c i)
  x := fun _ _ => iprop(emp)

instance go_storable (d : Dev nD) (L : grid0.Coords) : BI.Storable (upEmb : UEmb _ (MM F)) (Go m d L) := by
  unfold Go Inputs; infer_instance
instance td_storable (d : Dev nD) (L : grid0.Coords) : BI.Storable (upEmb : UEmb _ (MM F)) (Td m d L) := by
  unfold Td Inputs; infer_instance

instance P_storable : (P (F := F) m).IsStorable where
  st q d c := match q with
    | 0 => (inferInstance : BI.Storable (upEmb : UEmb _ (MM F)) (bigSep Finset.univ fun i => Go m d (tileOf c i)))
  dn q d c := match q with
    | 0 => (inferInstance : BI.Storable (upEmb : UEmb _ (MM F)) (bigSep Finset.univ fun i => Td m d (tileOf c i)))
  go q d c i := match q with | 0 => go_storable m d (tileOf c i)
  td q d c i := match q with | 0 => td_storable m d (tileOf c i)

theorem vecSplit : (K (F := F)).VecSplit' (P m) 0 := by
  intro d c
  show (bigSep Finset.univ fun i => Go m d (tileOf c i)) ⊢ |={Set.univ}=> iprop(
      (bigSep Finset.univ fun i => Go m d (tileOf c i))
      ∗ ((bigSep Finset.univ fun i => Td m d (tileOf c i)) -∗ bigSep Finset.univ fun i => Td m d (tileOf c i)))
  iintro H; imodintro
  isplitl [H]; · iexact H
  iintro H; iexact H

theorem defs₀_tile (c : Fin τ.nSC) (s : Fin τ.nSub) :
    defs₀ (F := F) (.scVector c s) 0 () = SparseCore.onTile hcore0 hsub0 (fun c s => tileProg (tileAt c s)) ⟨⟩ c s := rfl

set_option maxRecDepth 16384 in
theorem tileObl (hF : (K (F := F)).Facts) : (K (F := F)).TileObl (D (F := F)) 𝒱 (P m) v₀ 0 := by
  intro d c i O W hO _ _
  simp only [show (P m).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_tile]; simp only [SparseCore.onTile, hci, and_self, ↓reduceDIte]
  exact tile_run m d (tileAt ⟨_, hci.1⟩ ⟨_, hci.2⟩) hF O W hO

end Cert.Proof.Pool

end
-- ==== Proof.Split.lean ====
/-
  The arrays of the call as its tiles' parts: the shares of what every tile reads, and the blocks of rows the tiles write,
  which are apart and cover the pooled array.
-/
module

public import proofs.«01_k».proof.Proof.TileObl

@[expose] public section

noncomputable section

namespace Cert.Proof.Pool

open Cert.KernelIdeal Cert.KernelIdeal.Gen
open Idealize.ShloMosaic
open Idealize.ShloMosaic.SparseCore.Cfg (HIx)
open Idealize.ShloMosaic.ShareLeaves (leaf pointsTo_leaves)
open Idealize.SL Idealize.SL.RA Idealize.SL.BI
open scoped Idealize.SL.BI
open Idealize.SL.BI.BIBase Idealize.SL.BI.Laws Idealize.SL.ProofMode Idealize.SL.Sem

variable {F : FTy → Type} (m : (ℓ : Loc nD τ sig) → Buf (Elt F) ℓ) (d : Dev nD)

/-! ## The blocks of rows -/

/-- The tiles, by core and place. -/
abbrev Tiles : Type := Fin (grid0.bound 0) × Fin (grid0.bound 1)

/-- The elements a tile writes, of the pooled array. -/
abbrev rowSet (p : Tiles) : Finset S1024x512.Idx := (tileRows (tileAt p.1 p.2)).view.set

theorem mem_rowSet (p : Tiles) (j : S1024x512.Idx) :
    j ∈ rowSet p ↔ 32 * (2 * p.2.val + p.1.val) ≤ (j 0).val ∧ (j 0).val < 32 * (2 * p.2.val + p.1.val) + 32 := by
  have e : rowSet p = (Rect.unit (s := S1024x512) (k0_off359 (tileAt p.1 p.2)) S32x512.size (k0_off359_inb (tileAt p.1 p.2))).set :=
    View.set_slice_whole _ _
  rw [e, Rect.mem_set_unit, k0_off359_eq]
  have h1 : (j 1).val < 512 := (j 1).isLt
  constructor
  · intro h
    have h0 := h 0
    simp [tileAt, S32x512] at h0
    omega
  · intro h a
    match a with
    | 0 => simp [tileAt, S32x512]; omega
    | 1 => simp [S32x512]; exact h1

theorem rowSet_disjoint : ∀ p ∈ (Finset.univ : Finset Tiles), ∀ p' ∈ (Finset.univ : Finset Tiles), p ≠ p' → Disjoint (rowSet p) (rowSet p') := by
  intro p _ p' _ hp
  rw [Finset.disjoint_left]
  intro j h h'
  rw [mem_rowSet] at h h'
  have a : p.1.val < 2 := p.1.isLt
  have a' : p'.1.val < 2 := p'.1.isLt
  exact hp (Prod.ext (Fin.ext (by omega)) (Fin.ext (by omega)))

theorem rowSet_cover : (Finset.univ : Finset Tiles).biUnion rowSet = Finset.univ := by
  ext j
  simp only [Finset.mem_biUnion, Finset.mem_univ, true_and, iff_true]
  have h : (j 0).val < 1024 := (j 0).isLt
  refine ⟨(⟨(j 0).val / 32 % 2, show _ < 2 by omega⟩, ⟨(j 0).val / 64, show _ < 16 by omega⟩), ?_⟩
  rw [mem_rowSet]
  show 32 * (2 * ((j 0).val / 64) + (j 0).val / 32 % 2) ≤ _ ∧ _ < 32 * (2 * ((j 0).val / 64) + (j 0).val / 32 % 2) + 32
  omega

/-! ## The arrays, split and joined -/

theorem pts_shares (ℓ : Loc nD τ sig) (f : Buf (Elt F) ℓ) :
    (ℓ ↦{fullShare} f : sProp (MM F)) = bigSep Finset.univ fun p : Tiles => ℓ ↦{tileShare (tileAt p.1 p.2)} f := by
  rw [bigSep_univ_prod, pointsTo_leaves Finset.univ f 1 fullShare]
  refine bigSep_congr fun c _ => ?_
  rw [pointsTo_leaves Finset.univ f 4]
  rfl

theorem inputs_shares : Inputs m d fullShare = bigSep Finset.univ fun p : Tiles => Inputs m d (tileShare (tileAt p.1 p.2)) := by
  unfold Inputs
  rw [pts_shares (xLoc d), pts_shares (lLoc d), pts_shares (bLoc d), bigSep_sep', bigSep_sep']

theorem rows_split (f : Buf (Elt F) (oLoc d)) :
    (oLoc d ↦{fullShare} f : sProp (MM F)) = bigSep Finset.univ fun p : Tiles => rowsPts d (tileAt p.1 p.2) f := by
  have h := pointsTo_biUnion (Val := Elt F) (Ix := HIx 1) (Name := ℕ) (U := UU) (Lvl := ℕ) (q := fullShare) (f := f) Finset.univ (ℓ := oLoc d) rowSet rowSet_disjoint
  rw [rowSet_cover] at h
  exact h

variable [FloatOps F]

/-- The two cores' hand-offs are all the tiles'. -/
theorem st_eq : (bigSep Finset.univ fun c : Fin ((K (F := F)).nCore 0) => (P m).st 0 d c)
    = bigSep Finset.univ fun p : Tiles => Go m d (tileAt p.1 p.2) := by
  rw [bigSep_univ_prod]; rfl
theorem dn_eq : (bigSep Finset.univ fun c : Fin ((K (F := F)).nCore 0) => (P m).dn 0 d c)
    = bigSep Finset.univ fun p : Tiles => Td m d (tileAt p.1 p.2) := by
  rw [bigSep_univ_prod]; rfl

/-- The pooled array the call leaves: each tile's rows are pooled values. -/
def PoolOK (f : Buf (Elt F) (oLoc d)) : Prop := ∀ p : Tiles, TileOK m d (tileAt p.1 p.2) f

theorem call_takes : iprop(Inputs m d fullShare ∗ oLoc d ↦{fullShare} m (oLoc d))
    ⊢ bigSep Finset.univ fun c : Fin ((K (F := F)).nCore 0) => (P m).st 0 d c := by
  rw [st_eq, inputs_shares, rows_split]
  unfold Go
  rw [bigSep_sep']

theorem call_gives : (bigSep Finset.univ fun c : Fin ((K (F := F)).nCore 0) => (P m).dn 0 d c)
    ⊢ iprop(Inputs m d fullShare ∗ ∃ f, ⌜PoolOK m d f⌝ ∗ oLoc d ↦{fullShare} f) := by
  rw [dn_eq, inputs_shares]
  unfold Td
  rw [bigSep_sep']
  refine sep_mono .rfl ?_
  have : Nonempty (Buf (Elt F) (oLoc d)) := ⟨m (oLoc d)⟩
  refine shift (bigSep_exists_pi Finset.univ (fun (p : Tiles) (f : Buf (Elt F) (oLoc d)) => iprop(⌜TileOK m d (tileAt p.1 p.2) f⌝ ∗ rowsPts d (tileAt p.1 p.2) f))) ?_
  iintro ⟨%fs, H⟩
  ihave H := (bigSep_pure_sep Finset.univ (fun p : Tiles => TileOK m d (tileAt p.1 p.2) (fs p)) (fun p => rowsPts d (tileAt p.1 p.2) (fs p))) $$ H
  icases H with ⟨%hp, H⟩
  ihave H := (pointsTo_biUnion_join (ℓ := oLoc d) (q := fullShare) (Val := Elt F) Finset.univ rowSet fs (fs ⟨⟨0, by decide⟩, ⟨0, by decide⟩⟩) rowSet_disjoint) $$ H
  icases H with ⟨%g, %hg, H⟩
  iexists g
  isplitr
  · ipureintro
    intro p
    have e : (tileRows (tileAt p.1 p.2)).view.read (Elt F) g = (tileRows (tileAt p.1 p.2)).view.read (Elt F) (fs p) :=
      View.read_congr fun i hi => hg p (Finset.mem_univ p) i hi
    unfold TileOK
    rw [e]
    exact hp p (Finset.mem_univ p)
  rw [rowSet_cover]
  iexact H

end Cert.Proof.Pool

end
-- ==== Proof.Mlp.lean ====
/-
  The TensorCore call's body: it loads its six operands whole, computes the two layers, and stores the result whole.
-/
module

public import proofs.«01_k».proof.Proof.Setup

@[expose] public section

noncomputable section

namespace Cert.Proof.Pool

open Cert.KernelIdeal Cert.KernelIdeal.Gen
open Idealize.ShloMosaic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem

variable {F : FTy → Type} [FloatOps F]

/-- The TensorCore's memref reads `X`. -/
def HoldsT (d : Dev nD) {sp : Space} {sh : Shape} {e : EltTy} (m : Memref sig .tc sp sh e) (X : sh.Idx → Elt F e) : sProp (MM F) :=
  iprop(∃ f : Buf (Elt F) (m.view.loc (d.tc : Thread nD τ)),
    ⌜m.view.read (Elt F) f = X⌝ ∗ (m.view.loc (d.tc : Thread nD τ) ↦{fullShare} f))

/-- The weakest precondition of the TensorCore call's body. -/
abbrev mwp (d : Dev nD) {α : Type} (p : Prog (TpuEff nD τ sig (Elt F) Λ₀ .tc) α) (Q : α → sProp (MM F)) : sProp (MM F) :=
  wp frame (wpE (defs₀ (F := F)) 𝒱₀ (d.tc : Thread nD τ) none) Set.univ p Q

section One
variable {d : Dev nD} {cs : CoreSpace} {sh : Shape} {e : EltTy} {α : Type}

/-- A load of a whole buffer. -/
theorem ld_all {m : Memref sig .tc cs sh e} {off : Fin sh.rank → ℕ} {inb : ∀ a, off a + sh.size a ≤ sh.size a}
    {hl : m.view.LoadsAt (Rect.unit (s := sh) off sh.size inb).toLoadRect} {X : sh.Idx → Elt F e}
    {k : (sh.Idx → Elt F e) → Prog (TpuEff nD τ sig (Elt F) Λ₀ .tc) α} {R : sProp (MM F)} {Q : α → sProp (MM F)}
    (h : iprop(HoldsT d m X ∗ R) ⊢ mwp d (k X) Q) :
    iprop(HoldsT d m X ∗ R) ⊢ mwp d (Prog.lift (TpuEff.load m (Rect.unit (s := sh) off sh.size inb).toLoadRect hl) >>= k) Q := by
  have h0 : off = fun _ => 0 := by funext a; have := inb a; omega
  unfold HoldsT
  iintro ⟨⟨%f, %hf, Hm⟩, HR⟩
  ihave Hw := (wp_load 𝒱₀ (d.tc : Thread nD τ) none Set.univ (Γ := ∅) (hl := hl) (k := k) (Finset.subset_univ _)) $$ Hm
  iapply Hw
  iintro Hm
  have e1 : m.view.readAt (Elt F) (Rect.unit (s := sh) off sh.size inb).toLoadRect f = X := by
    funext x
    rw [← hf]
    show m.view.read (Elt F) f ((Rect.unit (s := sh) off sh.size inb).toLoadRect.idx x) = m.view.read (Elt F) f x
    congr 1
    funext a
    apply Fin.ext
    show off a + 1 * (x a : ℕ) = x a
    have : off a = 0 := congrFun h0 a
    omega
  rw [e1]
  iapply (show iprop(HoldsT d m X ∗ R) ⊢ mwp d (k X) Q from h)
  unfold HoldsT
  isplitl [Hm]
  · iexists f
    isplitr
    · ipureintro; exact hf
    · iexact Hm
  · iexact HR

/-- A store of a whole buffer. -/
theorem st_all {m : Memref sig .tc cs sh e} {off : Fin sh.rank → ℕ} {inb : ∀ a, off a + sh.size a ≤ sh.size a}
    {w : sh.Idx → Elt F e}
    {hx : (m.access (Rect.unit (s := sh) off sh.size inb)).Stores Finset.univ}
    {hm : (Finset.univ : Finset (Rect.unit (s := sh) off sh.size inb).shape.Idx) = Finset.univ ∨ ∀ a, (Rect.unit (s := sh) off sh.size inb).stride a = 1}
    {X : sh.Idx → Elt F e} {k : PUnit → Prog (TpuEff nD τ sig (Elt F) Λ₀ .tc) α} {R : sProp (MM F)} {Q : α → sProp (MM F)}
    (h : iprop(HoldsT d m w ∗ R) ⊢ mwp d (k ⟨⟩) Q) :
    iprop(HoldsT d m X ∗ R) ⊢ mwp d (Prog.lift (TpuEff.store m (Rect.unit (s := sh) off sh.size inb) w Finset.univ hx hm) >>= k) Q := by
  have h0 : ∀ a, off a = 0 := by intro a; have := inb a; omega
  unfold HoldsT
  iintro ⟨⟨%f, %hf, Hm⟩, HR⟩
  ihave Hw := (wp_store 𝒱₀ (d.tc : Thread nD τ) none Set.univ (Γ := ∅) (w := w) (hx := hx) (hm := hm) (k := k) (f := f)
    (Finset.subset_univ _)) $$ Hm
  iapply Hw
  iintro Hm
  iapply (show iprop(HoldsT d m w ∗ R) ⊢ mwp d (k ⟨⟩) Q from h)
  unfold HoldsT
  isplitl [Hm]
  · iexists ((m.access (Rect.unit (s := sh) off sh.size inb)).write (Elt F) f w Finset.univ)
    isplitr
    · ipureintro
      funext j
      have hj : (Rect.unit (s := sh) off sh.size inb).emb j = j := by
        funext a
        apply Fin.ext
        show off a + 1 * (j a : ℕ) = j a
        have := h0 a
        omega
      refine Eq.trans (congrArg (m.view.read (Elt F) _) hj.symm) ?_
      exact View.read_slice_write_emb (v := m.view) (Rect.unit (s := sh) off sh.size inb) f w (Finset.mem_univ j)
    · iexact Hm
  · iexact HR

end One

/-- The program that returns at once. -/
theorem ret_all {d : Dev nD} {S : sProp (MM F)} {Q : PUnit → sProp (MM F)} (h : S ⊢ Q ⟨⟩) : S ⊢ mwp d (pure ⟨⟩) Q :=
  h.trans (le_wp_ret _ _ _ _ _)

section Run
variable (d : Dev nD) (M0 : Memref sig .tc .vmem S1024x512 .f32) (M1 : Memref sig .tc .vmem S10000 .f32)
  (M2 : Memref sig .tc .vmem S512x512 .f32) (M3 : Memref sig .tc .vmem S1x512 .f32)
  (M4 : Memref sig .tc .vmem S512x512 .f32) (M5 : Memref sig .tc .vmem S1x512 .f32) (M6 : Memref sig .tc .vmem S1024x512 .f32)

/-- What the seven buffers of the body read. -/
def Seven (X0 : S1024x512.Idx → F .f32) (X1 : S10000.Idx → F .f32) (X2 : S512x512.Idx → F .f32) (X3 : S1x512.Idx → F .f32)
    (X4 : S512x512.Idx → F .f32) (X5 : S1x512.Idx → F .f32) (X6 : S1024x512.Idx → F .f32) : sProp (MM F) :=
  iprop(HoldsT d M0 X0 ∗ HoldsT d M1 X1 ∗ HoldsT d M2 X2 ∗ HoldsT d M3 X3 ∗ HoldsT d M4 X4 ∗ HoldsT d M5 X5 ∗ HoldsT d M6 X6)

variable {M0 M1 M2 M3 M4 M5 M6 d}
variable {X0 : S1024x512.Idx → F .f32} {X1 : S10000.Idx → F .f32} {X2 : S512x512.Idx → F .f32} {X3 : S1x512.Idx → F .f32}
  {X4 : S512x512.Idx → F .f32} {X5 : S1x512.Idx → F .f32} {X6 : S1024x512.Idx → F .f32}

/-- The body: its result buffer ends with the two layers of its operands. -/
theorem mlp_run (h0 : M0.IsWhole) (h1 : M1.IsWhole) (h2 : M2.IsWhole) (h3 : M3.IsWhole) (h4 : M4.IsWhole) (h5 : M5.IsWhole) (h6 : M6.IsWhole) :
    Seven d M0 M1 M2 M3 M4 M5 M6 X0 X1 X2 X3 X4 X5 X6
      ⊢ mwp d (cc1__mlp_body M0 h0 M1 h1 M2 h2 M3 h3 M4 h4 M5 h5 M6 h6)
          fun _ => Seven d M0 M1 M2 M3 M4 M5 M6 X0 X1 X2 X3 X4 X5 (k1_pay1 X1 X0 X2 X3 X4 X5) := by
  rw [cc1__mlp_body_eq_skeleton]
  unfold cc1__mlp_body_skel
  unfold Seven
  have e1 : ∀ {P0 P1 P2 P3 P4 P5 P6 : sProp (MM F)}, iprop(P0 ∗ P1 ∗ P2 ∗ P3 ∗ P4 ∗ P5 ∗ P6) ⊢ iprop(P1 ∗ P0 ∗ P2 ∗ P3 ∗ P4 ∗ P5 ∗ P6) := by
    intros; iintro ⟨H0, H1, H2, H3, H4, H5, H6⟩; iframe
  refine e1.trans (ld_all ?_)
  refine e1.trans (ld_all ?_)
  have e2 : ∀ {P0 P1 P2 P3 P4 P5 P6 : sProp (MM F)}, iprop(P0 ∗ P1 ∗ P2 ∗ P3 ∗ P4 ∗ P5 ∗ P6) ⊢ iprop(P2 ∗ P0 ∗ P1 ∗ P3 ∗ P4 ∗ P5 ∗ P6) := by
    intros; iintro ⟨H0, H1, H2, H3, H4, H5, H6⟩; iframe
  refine e2.trans (ld_all ?_)
  have e3 : ∀ {P0 P1 P2 P3 P4 P5 P6 : sProp (MM F)}, iprop(P0 ∗ P1 ∗ P2 ∗ P3 ∗ P4 ∗ P5 ∗ P6) ⊢ iprop(P3 ∗ P0 ∗ P1 ∗ P2 ∗ P4 ∗ P5 ∗ P6) := by
    intros; iintro ⟨H0, H1, H2, H3, H4, H5, H6⟩; iframe
  refine e3.trans (ld_all ?_)
  have e4 : ∀ {P0 P1 P2 P3 P4 P5 P6 : sProp (MM F)}, iprop(P0 ∗ P1 ∗ P2 ∗ P3 ∗ P4 ∗ P5 ∗ P6) ⊢ iprop(P4 ∗ P0 ∗ P1 ∗ P2 ∗ P3 ∗ P5 ∗ P6) := by
    intros; iintro ⟨H0, H1, H2, H3, H4, H5, H6⟩; iframe
  refine e4.trans (ld_all ?_)
  have e5 : ∀ {P0 P1 P2 P3 P4 P5 P6 : sProp (MM F)}, iprop(P0 ∗ P1 ∗ P2 ∗ P3 ∗ P4 ∗ P5 ∗ P6) ⊢ iprop(P5 ∗ P0 ∗ P1 ∗ P2 ∗ P3 ∗ P4 ∗ P6) := by
    intros; iintro ⟨H0, H1, H2, H3, H4, H5, H6⟩; iframe
  refine e5.trans (ld_all ?_)
  have e6 : ∀ {P0 P1 P2 P3 P4 P5 P6 : sProp (MM F)}, iprop(P0 ∗ P1 ∗ P2 ∗ P3 ∗ P4 ∗ P5 ∗ P6) ⊢ iprop(P6 ∗ P0 ∗ P1 ∗ P2 ∗ P3 ∗ P4 ∗ P5) := by
    intros; iintro ⟨H0, H1, H2, H3, H4, H5, H6⟩; iframe
  refine e6.trans (ld_all ?_)
  refine st_all ?_
  have e7 : ∀ {P0 P1 P2 P3 P4 P5 P6 : sProp (MM F)}, iprop(P6 ∗ P5 ∗ P4 ∗ P3 ∗ P2 ∗ P0 ∗ P1) ⊢ iprop(P0 ∗ P1 ∗ P2 ∗ P3 ∗ P4 ∗ P5 ∗ P6) := by
    intros; iintro ⟨H6, H5, H4, H3, H2, H0, H1⟩; iframe
  exact ret_all e7

end Run

end Cert.Proof.Pool

end
-- ==== Proof.Region.lean ====
/-
  The TensorCore call as a region of the main program: the pipeline's data at the contents `V` the arrays have when the
  call is reached, the body's obligation, and the arrays when the call returns — the operands as they were, the result
  the two layers of the operands.
-/
module

public import proofs.«01_k».proof.Proof.Mlp
public import proofs.«01_k».proof.Proof.Gen.KernelIdeal.Launch
public import proofs.«01_k».proof.Proof.Gen.KernelIdeal.Points
public import Idealize.ShloMosaic.Lib.Pipeline.Regions
public import Idealize.ShloMosaic.Lib.Pipeline.ValueKit.Geometry

@[expose] public section

noncomputable section

namespace Cert.Proof.Pool

open Cert.KernelIdeal Cert.KernelIdeal.Gen
open Idealize.ShloMosaic
open Idealize.ShloMosaic.SparseCore.Cfg (HIx)
open Idealize.ShloMosaic.Pipeline (Dat Cfg Window BodyObligation cellOf)
open Idealize.SL Idealize.SL.RA Idealize.SL.BI
open scoped Idealize.SL.BI
open Idealize.SL.BI.BIBase Idealize.SL.BI.Laws Idealize.SL.ProofMode Idealize.SL.Sem

variable {F : FTy → Type} [FloatOps F]

/-- A whole memref owned is a whole memref read. -/
theorem owns_eq (d : Dev nD) {sp : Space} {sh : Shape} {e : EltTy} (m : Memref sig .tc sp sh e) (hm : m.IsWhole) (X : sh.Idx → Elt F e) :
    (owns (d.tc : Thread nD τ) m fullShare X : sProp (MM F)) = HoldsT d m X := by
  unfold owns HoldsT
  rw [hm.set_eq_univ]

/-- The waits that may be on record when the TensorCore call is reached: those at or below the SparseCore call's level. -/
def Rec (d : Dev nD) : Set (SemLoc sig × HIx 1) := {p | (K (F := F)).lev ((d.tc : Thread nD τ), p.1) p.2 ≤ 8}

variable (V : (c : Dev nD) → (b : Ref sig .tc) → Buf (Elt F) ((c.tc : Thread nD τ).loc b))

/-- The result: the two layers of the call's operands. -/
def result (c : Dev nD) : S1024x512.Idx → F .f32 :=
  k1_pay1 (V c main_arg1) (V c main_v0) (V c main_arg4) (V c main_v1) (V c main_arg6) (V c main_v2)

/-- The pipeline's data: the arrays at `V`; each operand's buffer is left as it was and the result's holds the result. -/
def dats (_ : Fin 1) (c : Dev nD) : Dat τ (Elt F) (HIx 1) ℕ UU ℕ cfg1 c where
  A w := V c (Pipeline.arrRef spec1 w)
  after w _ := match w with
    | 0 => V c main_v0
    | 1 => V c main_arg1
    | 2 => V c main_arg4
    | 3 => V c main_v1
    | 4 => V c main_arg6
    | 5 => V c main_v2
    | 6 => result V c
    | ⟨_ + 7, h⟩ => absurd h (Nat.not_lt.2 (Nat.le_add_left _ _))
  Φ _ := iprop(emp)
  q _ := fullShare
  owed _ := 0
  recorded _ := Rec (F := F) c

theorem A_eq (c : Dev nD) (w : Fin cfg1.W) : (dats V 0 c).A w = V c (Pipeline.arrRef spec1 w) := by
  dsimp only [dats]

/-- The one block of each window begins at the array's first element. -/
theorem index_zero : ∀ (w : Fin cfg1.W) (a : Fin (cfg1.win w).shape.rank), (cfg1.win w).index t1_0 a = 0 := by decide +kernel

/-- Each operand's buffer holds the operand when the body runs. -/
theorem before_0 (c : Dev nD) (x) : (dats V 0 c).before 0 t1_0 x = V c main_v0 := by
  unfold Dat.before; rw [if_pos (fetch1_0 _)]; funext y
  show V c main_v0 _ = _; congr 1; funext a; apply Fin.ext; exact Window.rect_emb_val_of_index_zero (cfg1.win 0) t1_0 _ (index_zero 0 _) _
theorem before_1 (c : Dev nD) (x) : (dats V 0 c).before 1 t1_0 x = V c main_arg1 := by
  unfold Dat.before; rw [if_pos (fetch1_1 _)]; funext y
  show V c main_arg1 _ = _; congr 1; funext a; apply Fin.ext; exact Window.rect_emb_val_of_index_zero (cfg1.win 1) t1_0 _ (index_zero 1 _) _
theorem before_2 (c : Dev nD) (x) : (dats V 0 c).before 2 t1_0 x = V c main_arg4 := by
  unfold Dat.before; rw [if_pos (fetch1_2 _)]; funext y
  show V c main_arg4 _ = _; congr 1; funext a; apply Fin.ext; exact Window.rect_emb_val_of_index_zero (cfg1.win 2) t1_0 _ (index_zero 2 _) _
theorem before_3 (c : Dev nD) (x) : (dats V 0 c).before 3 t1_0 x = V c main_v1 := by
  unfold Dat.before; rw [if_pos (fetch1_3 _)]; funext y
  show V c main_v1 _ = _; congr 1; funext a; apply Fin.ext; exact Window.rect_emb_val_of_index_zero (cfg1.win 3) t1_0 _ (index_zero 3 _) _
theorem before_4 (c : Dev nD) (x) : (dats V 0 c).before 4 t1_0 x = V c main_arg6 := by
  unfold Dat.before; rw [if_pos (fetch1_4 _)]; funext y
  show V c main_arg6 _ = _; congr 1; funext a; apply Fin.ext; exact Window.rect_emb_val_of_index_zero (cfg1.win 4) t1_0 _ (index_zero 4 _) _
theorem before_5 (c : Dev nD) (x) : (dats V 0 c).before 5 t1_0 x = V c main_v2 := by
  unfold Dat.before; rw [if_pos (fetch1_5 _)]; funext y
  show V c main_v2 _ = _; congr 1; funext a; apply Fin.ext; exact Window.rect_emb_val_of_index_zero (cfg1.win 5) t1_0 _ (index_zero 5 _) _

theorem body_obligation (c : Dev nD) : BodyObligation (dats V 0 c) (defs₀ (F := F)) 𝒱₀ none Set.univ := fun t => by
  obtain rfl := fin_N1 t
  rw [bigSep_W1, bigSep_W1]
  rw [show (dats V 0 c).Φ t1_0.castSucc = iprop(emp) from rfl, show (dats V 0 c).Φ t1_0.succ = iprop(emp) from rfl]
  have hO : (dats V 0 c).owesAt none t1_0.castSucc = (dats V 0 c).owesAt none t1_0.succ := rfl
  rw [hO]
  generalize (dats V 0 c).owesAt none t1_0.succ = O
  rw [show (fun _ : PUnit => iprop(emp ∗ O ∗ _)) = fun _ : PUnit => iprop(emp ∗ O ∗ Seven c (st1_0 t1_0) (st1_1 t1_0) (st1_2 t1_0) (st1_3 t1_0)
      (st1_4 t1_0) (st1_5 t1_0) (st1_6 t1_0) (V c main_v0) (V c main_arg1) (V c main_arg4) (V c main_v1) (V c main_arg6) (V c main_v2) (result V c)) from by
    funext _; unfold Seven
    simp only [← owns_eq c (st1_0 t1_0) (stage_whole1 0 _), ← owns_eq c (st1_1 t1_0) (stage_whole1 1 _), ← owns_eq c (st1_2 t1_0) (stage_whole1 2 _),
      ← owns_eq c (st1_3 t1_0) (stage_whole1 3 _), ← owns_eq c (st1_4 t1_0) (stage_whole1 4 _), ← owns_eq c (st1_5 t1_0) (stage_whole1 5 _),
      ← owns_eq c (st1_6 t1_0) (stage_whole1 6 _)]
    rfl]
  have hrun := fun X6 => mlp_run (d := c) (X6 := X6) (X0 := V c main_v0) (X1 := V c main_arg1) (X2 := V c main_arg4) (X3 := V c main_v1) (X4 := V c main_arg6)
    (X5 := V c main_v2) (stage_whole1 0 (cfg1.slots t1_0 0)) (stage_whole1 1 (cfg1.slots t1_0 1)) (stage_whole1 2 (cfg1.slots t1_0 2))
    (stage_whole1 3 (cfg1.slots t1_0 3)) (stage_whole1 4 (cfg1.slots t1_0 4)) (stage_whole1 5 (cfg1.slots t1_0 5)) (stage_whole1 6 (cfg1.slots t1_0 6))
  dsimp only
  iintro ⟨-, HO, ⟨%d0, H0⟩, ⟨%d1, H1⟩, ⟨%d2, H2⟩, ⟨%d3, H3⟩, ⟨%d4, H4⟩, ⟨%d5, H5⟩, ⟨%d6, H6⟩⟩
  iapply (wp_mono frame _ _ fun (_ : PUnit) => (BIClass.emp_sep.mpr : iprop(O ∗ _) ⊢ iprop(emp ∗ O ∗ _)))
  iapply (wp_frame_l frame _ _)
  isplitl [HO]; · iexact HO
  iapply (hrun ((dats V 0 c).before 6 t1_0 d6))
  unfold Seven
  isplitl [H0]; · iapply (Entails.of_eq ((owns_eq c (st1_0 t1_0) (stage_whole1 0 _) _).trans (congrArg _ (before_0 V c d0)))); iexact H0
  isplitl [H1]; · iapply (Entails.of_eq ((owns_eq c (st1_1 t1_0) (stage_whole1 1 _) _).trans (congrArg _ (before_1 V c d1)))); iexact H1
  isplitl [H2]; · iapply (Entails.of_eq ((owns_eq c (st1_2 t1_0) (stage_whole1 2 _) _).trans (congrArg _ (before_2 V c d2)))); iexact H2
  isplitl [H3]; · iapply (Entails.of_eq ((owns_eq c (st1_3 t1_0) (stage_whole1 3 _) _).trans (congrArg _ (before_3 V c d3)))); iexact H3
  isplitl [H4]; · iapply (Entails.of_eq ((owns_eq c (st1_4 t1_0) (stage_whole1 4 _) _).trans (congrArg _ (before_4 V c d4)))); iexact H4
  isplitl [H5]; · iapply (Entails.of_eq ((owns_eq c (st1_5 t1_0) (stage_whole1 5 _) _).trans (congrArg _ (before_5 V c d5)))); iexact H5
  iapply (Entails.of_eq (owns_eq c (st1_6 t1_0) (stage_whole1 6 _) _)); iexact H6

abbrev adm : (p : Fin 1) → (pcfgs (F := F) p).Adm := fun p => (cfgs p).toPCfg_adm

/-- No semaphore of this call's own. -/
abbrev osem : Fin 0 → SemLoc sig := Fin.elim0

theorem ownFacts : Pipeline.OwnSemFacts spec1 osem := by decide

/-- The levels of the launch, as the region takes them. -/
abbrev lvl (F : FTy → Type) : GSem nD τ sig → HIx 1 → ℕ := (K (F := F)).lev

/-- What the TensorCore owes when the call is reached and when it returns: nothing, its waits at or below the SparseCore call's level. -/
def Owes (c : Dev nD) : sProp (MM F) := iprop(∃ W, ⌜∀ p ∈ W, p ∈ Rec (F := F) c⌝ ∗ owes (c.tc : Thread nD τ) (0 : CellTallies nD τ sig (HIx 1)) W)

/-- The arrays no window of the call is on. -/
abbrev restAt (c : Dev nD) : sProp (MM F) := Pipeline.unscopedRest (Ix := HIx 1) (Name := ℕ) (U := UU) (Lvl := ℕ) spec1 c (V c)

set_option backward.isDefEq.respectTransparency.types false in
/-- The region. -/
def seg : Pipeline.RegionSeg (pcfgs (F := F)) adm (dats V) none defs₀ 𝒱₀ (K (F := F)).L (lvl F) 0 where
  win := launch1.win.to₀
  block_pos := launch1.block_pos
  stage_whole := launch1.stage_whole
  K := Fin 0
  osem := osem
  ho := ownFacts
  hbody c := (body_obligation V c).loose
  hwaits := Pipeline.hwaits_of_owed_zero _ _ _ _ (K (F := F)).L (lvl F) 0 fun _ _ => rfl
  pre c := iprop(unscopedBufs c (V c) ∗ Owes c)
  post c := iprop(((dats V 0 c).arrays ((dats V 0 c).arrAt · cfg1.N) ∗ restAt V c) ∗ Owes c)
  X c := iprop(emp)
  Y c := iprop(emp)
  Z c := restAt V c
  hentry c := by
    have hsplit := Pipeline.arrays_of_unscopedBufs (pcfgs (F := F)) adm (dats V) launch1.win launch1.arr_whole c
      ((dats V 0 c).share_full fun _ => rfl) (V c) (A_eq V c)
    iintro ⟨⟨Hub, HO⟩, -, -⟩
    ihave H := hsplit $$ Hub
    icases H with ⟨Ha, H1⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin Owes
      icases HO with ⟨%W, %hW, HO⟩; iexists W; isplitr; · ipureintro; exact fun p hp => Or.inl (hW p hp)
      iexact HO
    isplitr; · iempintro
    iexact H1
  hin c := by
    rw [scopedRest1_eq]
    iintro -
    iempintro
  hout c := by
    rw [scopedRest1_eq, Pipeline.ownSems0_eq_of_list c osem [] (by decide) (by decide)]
    iintro -
    isplitr; · iempintro
    isplitr; · iempintro
    iempintro
  hexit c := by
    iintro ⟨Ha, HO, -, HZ⟩
    imodintro
    isplitr [HO]
    · isplitl [Ha] <;> iassumption
    · unfold Pipeline.Dat.owesAt Pipeline.owesWithin Owes
      icases HO with ⟨%W, %hW, HO⟩; iexists W; isplitr
      · ipureintro
        intro p hp
        rcases hW hp with h | ⟨w, s, h⟩
        · exact h
        · show (K (F := F)).lev _ _ ≤ 8
          rw [h]
          exact Nat.zero_le _
      iexact HO

/-- The operands are as they were. -/
theorem final_in (c : Dev nD) (w : Fin cfg1.W) (h : (cfg1.win w).isOut = false) :
    (dats V 0 c).arrAt w cfg1.N = V c (Pipeline.arrRef spec1 w) := (dats V 0 c).arrAt_in w h _

/-- The result array is the result. -/
theorem final_out (c : Dev nD) : (dats V 0 c).arrAt 6 cfg1.N = result V c := by
  refine (dats V 0 c).arrAt_eq_of_after_last 6 t1_0 (by decide +kernel) _ fun j => ?_
  rfl

end Cert.Proof.Pool

end
-- ==== Proof.Run.lean ====
/-
  The whole run of the kernel's program, at any floating-point values: the SparseCore call, the two reshapes and the
  TensorCore call. Every argument ends as it was; the pooled array is what the tiles left; the result is the two layers
  of the pooled array.
-/
module

public import proofs.«01_k».proof.Proof.Split
public import proofs.«01_k».proof.Proof.Region

@[expose] public section

set_option maxRecDepth 16384

noncomputable section

namespace Cert.Proof.Pool

open Cert.KernelIdeal Cert.KernelIdeal.Gen
open Idealize.ShloMosaic
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
variable (m : (ℓ : Loc nD τ sig) → Buf (Elt F) ℓ) (ρ : Dev nD → PrngReg)

/-! ## The arrays between the calls -/

/-- The two reshapes between the calls. -/
abbrev reshapes : List (HloOp τ sig (Elt F)) :=
  [StableHlo.reshape main_arg5 main_v1 (rfl : (.f32 : EltTy) = .f32) shapeCasts_S512_S1x512,
    StableHlo.reshape main_arg7 main_v2 (rfl : (.f32 : EltTy) = .f32) shapeCasts_S512_S1x512]

/-- The launch memory with the pooled array at `f`. -/
def V₁ (f : (d : Dev nD) → Buf (Elt F) (oLoc d)) (d : Dev nD) : Valuation τ sig (Elt F) :=
  Function.update (fun b => m (d, b)) (Proc.devRef .tc main_v0) (f d)

/-- What the arrays hold when the TensorCore call is reached. -/
def V₂ (f : (d : Dev nD) → Buf (Elt F) (oLoc d)) (d : Dev nD) (b : Ref sig .tc) : Buf (Elt F) ((d.tc : Thread nD τ).loc b) :=
  StableHlo.after reshapes (V₁ m f d) (Proc.devRef .tc b)

theorem V₁_pool (f : (d : Dev nD) → Buf (Elt F) (oLoc d)) (d : Dev nD) : V₁ m f d (Proc.devRef .tc main_v0) = f d := by
  unfold V₁; exact Function.update_self _ _ _

theorem V₁_other (f : (d : Dev nD) → Buf (Elt F) (oLoc d)) (d : Dev nD) (b : Ref sig .tc) (hb : b ≠ main_v0) :
    V₁ m f d (Proc.devRef .tc b) = m ((d.tc : Thread nD τ).loc b) := by
  unfold V₁; exact Function.update_of_ne (StableHlo.devRef_ne_of_ne hb) _ _

/-- The reshapes write their own results alone. -/
theorem V₂_kept (f : (d : Dev nD) → Buf (Elt F) (oLoc d)) (d : Dev nD) (b : Ref sig .tc) (hb : b ≠ main_v1 ∧ b ≠ main_v2) :
    V₂ m f d b = V₁ m f d (Proc.devRef .tc b) := by
  unfold V₂
  refine StableHlo.after_of_forall_not_mem (b := Proc.devRef .tc b) reshapes (V₁ m f d) ?_
  obtain ⟨h1, h2⟩ := hb
  intro op hop
  simp only [List.mem_cons, List.mem_nil_iff, or_false] at hop
  rcases hop with rfl | rfl <;> simp only [StableHlo.reshape_writes, Finset.mem_singleton] <;> exact StableHlo.devRef_ne_of_ne ‹_›

theorem V₂_pool (f : (d : Dev nD) → Buf (Elt F) (oLoc d)) (d : Dev nD) : V₂ m f d main_v0 = f d :=
  (V₂_kept m f d main_v0 (by decide)).trans (V₁_pool m f d)

theorem V₂_other (f : (d : Dev nD) → Buf (Elt F) (oLoc d)) (d : Dev nD) (b : Ref sig .tc) (hb : b ≠ main_v0 ∧ b ≠ main_v1 ∧ b ≠ main_v2) :
    V₂ m f d b = m ((d.tc : Thread nD τ).loc b) :=
  (V₂_kept m f d b hb.2).trans (V₁_other m f d b hb.1)

theorem V₂_bias (f : (d : Dev nD) → Buf (Elt F) (oLoc d)) (d : Dev nD) :
    V₂ m f d main_v1 = shapeCast S1x512 (m ((d.tc : Thread nD τ).loc main_arg5) : S512.Idx → F .f32) shapeCasts_S512_S1x512 := by
  unfold V₂
  rw [StableHlo.after_cons, StableHlo.after_cons, StableHlo.after_nil, StableHlo.reshape_result_ne (h := by decide)]
  refine (StableHlo.reshape_result' ..).trans ?_
  rw [V₁_other m f d main_arg5 (by decide)]
  rfl

theorem V₂_bias' (f : (d : Dev nD) → Buf (Elt F) (oLoc d)) (d : Dev nD) :
    V₂ m f d main_v2 = shapeCast S1x512 (m ((d.tc : Thread nD τ).loc main_arg7) : S512.Idx → F .f32) shapeCasts_S512_S1x512 := by
  unfold V₂
  rw [StableHlo.after_cons, StableHlo.after_cons, StableHlo.after_nil]
  refine (StableHlo.reshape_result' ..).trans ?_
  rw [StableHlo.reshape_result_ne (h := by decide), V₁_other m f d main_arg7 (by decide)]
  rfl

/-- The TensorCore's arrays, as device buffers. -/
def ucRefs : Finset (DevRef τ sig) := (StableHlo.tcRefs τ sig).filter fun b => ¬ b.isScoped

omit [FloatOps F] in
theorem unscopedBufs_held (c : Dev nD) (W : Valuation τ sig (Elt F)) :
    (unscopedBufs c (fun b => W (Proc.devRef .tc b)) : sProp (MM F)) = StableHlo.held (c.tc : Thread nD τ) ucRefs W := by
  unfold unscopedBufs StableHlo.held ucRefs StableHlo.tcRefs
  rw [Finset.filter_map, bigSep_map]
  rfl

omit [FloatOps F] in
theorem sub_ucRefs (op : HloOp τ sig (Elt F)) (h : op.bufs ⊆ StableHlo.tcRefs τ sig) : op.bufs ⊆ ucRefs := fun b hb =>
  Finset.mem_filter.mpr ⟨h hb, fun h' => Bool.false_ne_true ((op.no_scoped b hb).symm.trans h')⟩

/-- The arrays the SparseCore call does not take. -/
abbrev others : Finset (Ref sig .tc) := {main_arg3, main_arg4, main_arg5, main_arg6, main_arg7, main_v1, main_v2, main_v3}

omit [FloatOps F] in
/-- The TensorCore's arrays: the four the SparseCore call takes, and the others. -/
theorem unscopedBufs_call (d : Dev nD) (W : (b : Ref sig .tc) → Buf (Elt F) ((d.tc : Thread nD τ).loc b)) :
    (unscopedBufs d W : sProp (MM F)) = iprop((xLoc d ↦{fullShare} W main_arg0) ∗ (lLoc d ↦{fullShare} W main_arg1)
      ∗ (bLoc d ↦{fullShare} W main_arg2) ∗ (oLoc d ↦{fullShare} W main_v0)
      ∗ bigSep others fun b => ((d.tc : Thread nD τ).loc b) ↦{fullShare} W b) := by
  unfold unscopedBufs
  rw [show (Finset.univ.filter fun b : Ref sig .tc => ¬ b.isScoped) = insert main_arg0 (insert main_arg1 (insert main_arg2 (insert main_v0 others))) by decide,
    SparseCore.bigSep_insert' (by decide), SparseCore.bigSep_insert' (by decide), SparseCore.bigSep_insert' (by decide), SparseCore.bigSep_insert' (by decide)]

/-- After the call the arrays are held again: the pooled one at `f`, the others as they were. -/
theorem held_again (f : (d : Dev nD) → Buf (Elt F) (oLoc d)) (d : Dev nD) :
    iprop(Inputs m d fullShare ∗ (oLoc d ↦{fullShare} f d) ∗ bigSep others fun b => ((d.tc : Thread nD τ).loc b) ↦{fullShare} m ((d.tc : Thread nD τ).loc b))
      ⊢ (StableHlo.held (d.tc : Thread nD τ) ucRefs (V₁ m f d) : sProp (MM F)) := by
  rw [← unscopedBufs_held, unscopedBufs_call, V₁_pool, V₁_other m f d main_arg0 (by decide), V₁_other m f d main_arg1 (by decide),
    V₁_other m f d main_arg2 (by decide),
    show (bigSep others fun b => ((d.tc : Thread nD τ).loc b) ↦{fullShare} V₁ m f d (Proc.devRef .tc b) : sProp (MM F))
      = bigSep others fun b => ((d.tc : Thread nD τ).loc b) ↦{fullShare} m ((d.tc : Thread nD τ).loc b) from
      bigSep_congr fun b hb => by rw [V₁_other m f d b (by rintro rfl; exact absurd hb (by decide))]]
  unfold Inputs
  iintro ⟨⟨Hx, Hl, Hb⟩, Ho, Hr⟩
  iframe

/-! ## The launch element -/

/-- The launch element: the handshakes' rounds, and the TensorCore pipeline's. -/
def u₀ (F : FTy → Type) [FloatOps F] : UU :=
  (initOf (K (F := F)).hsCells (K (F := F)).hsToks,
    (initOf (Pipeline.cells (nD := nD) (τ := τ) cfgs cellOf_inj) (Pipeline.launchToks (nD := nD) (τ := τ) cfgs cellOf_inj), 1))

/-- What the TensorCore has of the pipeline's rounds at launch. -/
def G (d : Dev nD) : sProp (MM F) :=
  iprop(Pipeline.cellsGhost (nD := nD) (τ := τ) (Pipeline.pin (pcfgs (F := F)) adm) EP 0 d ∗ Pipeline.toksInit (nD := nD) (τ := τ) (Pipeline.pin (pcfgs (F := F)) adm) EP 0 d)

/-- The pipeline's rounds, as the TensorCore of each device has them. -/
theorem fund : (BI.own ((Emb.inl.trans embR) (initOf (Pipeline.cells (nD := nD) (τ := τ) cfgs cellOf_inj) (Pipeline.launchToks (nD := nD) (τ := τ) cfgs cellOf_inj))) : sProp (MM F))
    ⊢ |==> iprop((bigSep Finset.univ fun d : Dev nD => Pipeline.cellsGhost (nD := nD) (τ := τ) (Pipeline.pin (pcfgs (F := F)) adm) EP 0 d)
        ∗ (bigSep Finset.univ fun d : Dev nD => Pipeline.toksInit (nD := nD) (τ := τ) (Pipeline.pin (pcfgs (F := F)) adm) EP 0 d)) := by
  have h := Pipeline.fund_ghost (nD := nD) (τ := τ) (Val := Elt F) (U := UU) cfgs EP cellOf_inj
  simp only [bigSep_univ_of_subsingleton (0 : Fin 1), bigSep_univ_of_subsingleton (0 : Dev nD)] at h ⊢
  exact h

theorem hu₀ : (ownU (u₀ F) : sProp (MM F))
    ⊢ |={Set.univ}=> iprop(BI.own (EH (initOf (K (F := F)).hsCells (K (F := F)).hsToks)) ∗ (bigSep Finset.univ fun d : Dev nD => G d)
        ∗ bigSep Finset.univ fun thr : Thread nD τ => bigSep Finset.univ fun q : Fin 1 => (P m).x q thr) := by
  unfold u₀
  iintro Hu
  ihave H := (ownU_pair (initOf (K (F := F)).hsCells (K (F := F)).hsToks) _) $$ Hu
  icases H with ⟨HH, HR⟩
  ihave H := (own_pair_emb embR _ _) $$ HR
  icases H with ⟨HP, -⟩
  ihave HP' := (fund (F := F)) $$ HP
  imod HP' with ⟨Hc, Ht⟩
  imodintro
  isplitl [HH]; · iexact HH
  isplitl [Hc Ht]
  · unfold G
    rw [bigSep_sep']
    isplitl [Hc]
    · iexact Hc
    iexact Ht
  rw [show (bigSep Finset.univ fun thr : Thread nD τ => bigSep Finset.univ fun q : Fin 1 => (P (F := F) m).x q thr) = bigSep Finset.univ fun _ => iprop(emp) from
    bigSep_congr fun _ _ => bigSep_univ_of_subsingleton (0 : Fin 1)]
  iapply (Entails.of_eq (bigSep_emp_const Finset.univ).symm)
  iempintro

/-! ## The TensorCore -/

/-- Before call `n` the TensorCore's recorded waits are those of the calls before it. -/
theorem owes_after (d : Dev nD) : iprop(∃ W, ⌜(K (F := F)).WBelow (SparseCore.T d) W 8⌝ ∗ owes (SparseCore.T d) ((K (F := F)).Otc (N := 1) d 1) W)
    = (Owes d : sProp (MM F)) := by
  unfold Owes
  rw [(K (F := F)).Otc_end d le_rfl]
  rfl

/-- The TensorCore call: from the arrays at `V`, the result array at the two layers of the pooled one, the others as they were. -/
theorem wp_region [∀ e, Nonempty (Elt F e)] (V : (c : Dev nD) → (b : Ref sig .tc) → Buf (Elt F) ((c.tc : Thread nD τ).loc b)) (d : Dev nD)
    {Φ : PUnit → sProp (MM F)} :
    iprop(boundary (d.tc : Thread nD τ) ∗ (unscopedBufs d (V d) ∗ Owes d) ∗ levAts (K (F := F)).L (lvl F) ∗ G d)
      ⊢ iprop((boundary (d.tc : Thread nD τ) ∗ ((dats V 0 d).arrays ((dats V 0 d).arrAt · cfg1.N) ∗ restAt V d) ∗ Owes d -∗ Φ ⟨⟩)
        -∗ wp frame (wpE ((K (F := F)).defs (D (F := F))) 𝒱 (d.tc : Thread nD τ) none) Set.univ
          (Prog.lift (.customCall (SparseCore.inner (Pipeline.entry 0)) ())) Φ) := by
  unfold G
  iintro ⟨Hb, Hpre, Hlev, Hc, Ht⟩ Hk
  iapply ((K (F := F)).wp_liftProg (D (F := F)) 𝒱 (d.tc : Thread nD τ) Set.univ none (.op (.customCall (Pipeline.entry 0) ()) .ret) Φ)
  iapply (Pipeline.RegionSeg.wp (pcfgs (F := F)) adm (dats V) none cellOf_inj EP defs₀ 𝒱₀ (K (F := F)).L (lvl F) (seg V) d none (fun _ h => nomatch h) .ret Φ)
  isplitl [Hk]
  · iintro H
    rw [wp_ret]
    imodintro
    iapply Hk
    iapply (Entails.of_eq (show iprop(boundary (d.tc : Thread nD τ) ∗ (seg V).post d)
      = iprop(boundary (d.tc : Thread nD τ) ∗ ((dats V 0 d).arrays ((dats V 0 d).arrAt · cfg1.N) ∗ restAt V d) ∗ Owes d) from rfl))
    iexact H
  isplitl [Hb]; · iexact Hb
  isplitl [Hpre]
  · iapply (Entails.of_eq (show iprop(unscopedBufs d (V d) ∗ Owes d) = (seg V).pre d from rfl))
    iexact Hpre
  isplitl [Hlev]; · iexact Hlev
  isplitl [Hc] <;> iassumption

/-- What the TensorCore ends with: the pooled array as the tiles left it, the windows' arrays, and the other ones. -/
def FIN (d : Dev nD) : sProp (MM F) :=
  iprop(∃ f : (d : Dev nD) → Buf (Elt F) (oLoc d), ⌜PoolOK m d (f d)⌝
    ∗ ((dats (V₂ m f) 0 d).arrays ((dats (V₂ m f) 0 d).arrAt · cfg1.N) ∗ restAt (V₂ m f) d))

/-- The program on the TensorCore: from the launch to its end. -/
theorem hmain [∀ e, Nonempty (Elt F e)] (κ : GSem nD τ sig → ℕ) (d : Dev nD) :
    iprop((K (F := F)).ctx EH (P m) κ ∗ (K (F := F)).tcSt EH d 0 ∗ (K (F := F)).tcRes m ρ d ∗ G d)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [unscopedBufs_call]
  simp only [main, wp_bind, wp_pure]
  iintro ⟨#Hctx, Hst, ⟨Hb, ⟨Hx, Hl, Hi, Ho, Hr⟩, Hts, -⟩, HG⟩
  iapply ((K (F := F)).wp_run (D (F := F)) 𝒱 (EH := EH) (P := P m) κ d 0)
  isplitr; · iexact Hctx
  isplitl [Hst]; · iexact Hst
  isplitl [Hx Hl Hi Ho]
  · iapply (call_takes m d)
    unfold Inputs
    isplitr [Ho]
    · isplitl [Hx]; · iexact Hx
      isplitl [Hl]; · iexact Hl
      iexact Hi
    iexact Ho
  iintro ⟨Hst, Hdn⟩
  ihave Hdn' := (call_gives m d) $$ Hdn
  icases Hdn' with ⟨Hin, %f₀, %hf₀, Ho⟩
  obtain ⟨f, hf⟩ : ∃ f : (d : Dev nD) → Buf (Elt F) (oLoc d), f d = f₀ := ⟨Function.update (fun d => m (oLoc d)) d f₀, Function.update_self _ _ _⟩
  subst hf
  ihave Hh := (held_again m f d) $$ [Hin Ho Hr]
  · iframe
  iapply (StableHlo.wp_hlo_within 𝒱 (d.tc : Thread nD τ) none Set.univ (V := V₁ m f d) (sub_ucRefs _ (StableHlo.reshape_bufs_sub ..))) $$ [Hb Hh]
  · isplitl [Hb] <;> iassumption
  iintro ⟨Hb, Hh⟩
  rw [wp_ret]
  imodintro
  iapply (StableHlo.wp_hlo_within 𝒱 (d.tc : Thread nD τ) none Set.univ (sub_ucRefs _ (StableHlo.reshape_bufs_sub ..))) $$ [Hb Hh]
  · isplitl [Hb] <;> iassumption
  iintro ⟨Hb, Hh⟩
  rw [wp_ret]
  imodintro
  unfold SparseCore.Cfg.tcSt
  icases Hst with ⟨Hw, Hst⟩
  iapply (wp_region (V₂ m f) d) $$ [Hb Hh Hw HG]
  · isplitl [Hb]; · iexact Hb
    isplitl [Hh Hw]
    · isplitl [Hh]
      · iapply (Entails.of_eq (unscopedBufs_held d (StableHlo.after reshapes (V₁ m f d))).symm)
        iexact Hh
      iapply (Entails.of_eq (owes_after (F := F) d))
      iexact Hw
    isplitr [HG]
    · iapply (SparseCore.Cfg.ctx_levAts (K := K (F := F)) κ)
      iexact Hctx
    iexact HG
  iintro ⟨Hb, Ha, Hw⟩
  imodintro
  isplitl [Hw Hst]
  · isplitl [Hw]
    · iapply (Entails.of_eq (owes_after (F := F) d).symm)
      iexact Hw
    iexact Hst
  isplitl [Ha]
  · unfold FIN
    iexists f
    isplitr; · ipureintro; exact hf₀
    iexact Ha
  isplitl [Hb] <;> iassumption

/-! ## What the run ends in -/

/-- The argument arrays. -/
abbrev args : Finset (Ref sig .tc) := {main_arg0, main_arg1, main_arg2, main_arg3, main_arg4, main_arg5, main_arg6, main_arg7}

/-- What a run ends in on device `d`. -/
def fq (d : Dev nD) (mem : (ℓ : Loc nD τ sig) → Buf (Elt F) ℓ) : Prop :=
  ∃ f : (d : Dev nD) → Buf (Elt F) (oLoc d), PoolOK m d (f d)
    ∧ mem ((d.tc : Thread nD τ).loc main_v3) = result (V₂ m f) d
    ∧ ∀ b ∈ args, mem ((d.tc : Thread nD τ).loc b) = m ((d.tc : Thread nD τ).loc b)

theorem hfin (d : Dev nD) (s' : Phys nD τ sig (Elt F)) : iprop(FIN m d ∗ SI s') ⊢ (⌜fq m d s'.mem.mem⌝ : sProp (MM F)) := by
  unfold FIN
  simp only [restAt, unscopedRest1_eq]
  iintro ⟨⟨%f, %hf, Ha, H0, H2, H3, H5, H7⟩, HSI⟩
  ihave H := (Pipeline.arrays_read (pcfgs (F := F)) adm (dats (V₂ m f)) launch1.arr_whole d ((dats (V₂ m f) 0 d).share_full fun _ => rfl) _ s') $$ [Ha HSI]
  · isplitl [Ha] <;> iassumption
  icases H with ⟨%ha, HSI⟩
  icombine HSI H0 gives %h0
  icombine HSI H2 gives %h2
  icombine HSI H3 gives %h3
  icombine HSI H5 gives %h5
  icombine HSI H7 gives %h7
  ipureintro
  refine ⟨f, hf, (ha 6).trans (final_out _ _), ?_⟩
  have hw : ∀ w : Fin cfg1.W, (cfg1.win w).isOut = false → s'.mem.mem ((d.tc : Thread nD τ).loc (Pipeline.arrRef spec1 w)) = V₂ m f d (Pipeline.arrRef spec1 w) :=
    fun w h => (ha w).trans (final_in _ _ w h)
  intro b hb
  simp only [args, Finset.mem_insert, Finset.mem_singleton] at hb
  rcases hb with rfl | rfl | rfl | rfl | rfl | rfl | rfl | rfl
  · exact (Buf.eq_of_forall_mem_univ h0).trans (V₂_other m f d _ (by decide))
  · exact (hw 1 rfl).trans (V₂_other m f d _ (by decide))
  · exact (Buf.eq_of_forall_mem_univ h2).trans (V₂_other m f d _ (by decide))
  · exact (Buf.eq_of_forall_mem_univ h3).trans (V₂_other m f d _ (by decide))
  · exact (hw 2 rfl).trans (V₂_other m f d _ (by decide))
  · exact (Buf.eq_of_forall_mem_univ h5).trans (V₂_other m f d _ (by decide))
  · exact (hw 4 rfl).trans (V₂_other m f d _ (by decide))
  · exact (Buf.eq_of_forall_mem_univ h7).trans (V₂_other m f d _ (by decide))

/-- Every device's end, and every semaphore at zero. -/
def QC : PUnit × MemSt nD τ sig (Elt F) → Prop := fun r => (∀ d : Dev nD, fq m d r.2.mem) ∧ r.2.sem = fun _ => 0

theorem run_main [∀ e, Nonempty (Elt F e)] :
    θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := P m) (A := ∅) facts v₀
    (fun q hq => match q with | 0 => nomatch hq)
    (fun q _ => match q with | 0 => tileObl m facts)
    (fun q _ => match q with | 0 => SparseCore.Cfg.VecSplit.of_plain (vecSplit m))
    m ρ main G (FIN m) (u₀ F) (sep_elim_left.trans (hu₀ m)) (hmain m ρ) (fun d s => fq m d s.mem.mem) (hfin m) (QC m) (fun _ h hz => ⟨h, hz⟩)

end Cert.Proof.Pool

end
-- ==== Proof.Ref.lean ====
/-
  The reference's run: a straight line of host operations. Its result is `pred` of the arguments, and its arguments end
  as they were.
-/
module

public import proofs.«01_k».proof.Defs
public import proofs.«01_k».proof.Proof.Gen.ReferenceIdeal
public import Idealize.ShloMosaic.Lib.StableHlo.RunHlo
public import Idealize.ShloMosaic.Lib.Quiescent

@[expose] public section

noncomputable section

namespace Cert.Proof.Ref

open Cert.ReferenceIdeal Cert.ReferenceIdeal.Gen
open Idealize.ShloMosaic Idealize.ShloMosaic.TcCoe Idealize.ShloMosaic.StableHlo Idealize.SL.Sem

variable {F : FTy → Type} [FloatOps F]

/-! ## What it computes -/

/-- The weighted rows, summed by segment. -/
def pooled (x : S10000x512.Idx → F .f32) (l : S10000.Idx → F .f32) (b : S10000.Idx → BitVec 32) : S1024x512.Idx → F .f32 :=
  Host.scatterAdd scatter_S1024x512_S10000x1_S10000x512_1_0_0_1
    (broadcastInDim S1024x512 ![] bcast_S_S1024x512 (constant S_ .f32 0x00000000#32))
    (broadcastInDim S10000x1 ![0] bcast_S10000_S10000x1_0 b)
    (mulf x (broadcastInDim S10000x512 ![0, 1] bcast_S10000x1_S10000x512_0_1 (broadcastInDim S10000x1 ![0] bcast_S10000_S10000x1_0 (Host.exp l))))

/-- A layer: the product with the weights, and the bias on every row. -/
def layer (a : S1024x512.Idx → F .f32) (w : S512x512.Idx → F .f32) (c : S512.Idx → F .f32) : S1024x512.Idx → F .f32 :=
  addf (Host.dotGeneral dot_S1024x512_S512x512_S1024x512_1_0_0_1_n_n none a w)
    (broadcastInDim S1024x512 ![0, 1] bcast_S1x512_S1024x512_0_1 (broadcastInDim S1x512 ![1] bcast_S512_S1x512_1 c))

/-- The two layers of the pooled rows over the sum of the weights. -/
def pred (x : S10000x512.Idx → F .f32) (l : S10000.Idx → F .f32) (b : S10000.Idx → BitVec 32)
    (w : S512x512.Idx → F .f32) (c : S512.Idx → F .f32) (w' : S512x512.Idx → F .f32) (c' : S512.Idx → F .f32) : S1024x512.Idx → F .f32 :=
  layer (maximumf
      (layer (Host.divf (pooled x l b)
        (broadcastInDim S1024x512 ![] bcast_S_S1024x512 (Host.reduceAdd (Host.exp l) (constant S_ .f32 0x00000000#32) reducesTo_S10000_S_d0 h_S_))) w c)
      (broadcastInDim S1024x512 ![] bcast_S_S1024x512 (constant S_ .f32 0x00000000#32))) w' c'

/-! ## The run -/

/-- The program's operations, in order. -/
abbrev ops : List (HloOp τ sig (Elt F)) :=
  [ unary main_arg1 main_v0 Host.exp,
    unary main_v0 main_v1 (broadcastInDim S10000x1 ![0] bcast_S10000_S10000x1_0),
    unary main_v1 main_v2 (broadcastInDim S10000x512 ![0, 1] bcast_S10000x1_S10000x512_0_1),
    binary main_arg0 main_v2 main_v3 mulf,
    nullary main_cst (constant S_ .f32 0x00000000#32),
    unary main_cst main_v4 (broadcastInDim S1024x512 ![] bcast_S_S1024x512),
    unary main_arg2 main_v5 (broadcastInDim S10000x1 ![0] bcast_S10000_S10000x1_0),
    ternary main_v4 main_v5 main_v3 main_v6 (fun x i u => Host.scatterAdd scatter_S1024x512_S10000x1_S10000x512_1_0_0_1 x i u),
    nullary main_cst_0 (constant S_ .f32 0x00000000#32),
    binary main_v0 main_cst_0 main_v7 (fun x v => Host.reduceAdd x v reducesTo_S10000_S_d0 h_S_),
    unary main_v7 main_v8 (broadcastInDim S1024x512 ![] bcast_S_S1024x512),
    binary main_v6 main_v8 main_v9 Host.divf,
    binary main_v9 main_arg4 main_v10 (fun l r => Host.dotGeneral dot_S1024x512_S512x512_S1024x512_1_0_0_1_n_n none l r),
    unary main_arg5 main_v11 (broadcastInDim S1x512 ![1] bcast_S512_S1x512_1),
    unary main_v11 main_v12 (broadcastInDim S1024x512 ![0, 1] bcast_S1x512_S1024x512_0_1),
    binary main_v10 main_v12 main_v13 addf,
    nullary main_cst_1 (constant S_ .f32 0x00000000#32),
    unary main_cst_1 main_v14 (broadcastInDim S1024x512 ![] bcast_S_S1024x512),
    binary main_v13 main_v14 main_v15 maximumf,
    binary main_v15 main_arg6 main_v16 (fun l r => Host.dotGeneral dot_S1024x512_S512x512_S1024x512_1_0_0_1_n_n none l r),
    unary main_arg7 main_v17 (broadcastInDim S1x512 ![1] bcast_S512_S1x512_1),
    unary main_v17 main_v18 (broadcastInDim S1024x512 ![0, 1] bcast_S1x512_S1024x512_0_1),
    binary main_v16 main_v18 main_v19 addf ]

theorem main_eq (c : Dev nD) : main (F := F) c = seq ops := rfl

theorem ops_sub : (ops : List (HloOp τ sig (Elt F))).Forall fun op => op.bufs ⊆ tcRefs τ sig :=
  ⟨unary_bufs_sub .., unary_bufs_sub .., unary_bufs_sub .., binary_bufs_sub .., nullary_bufs_sub .., unary_bufs_sub ..,
    unary_bufs_sub .., ternary_bufs_sub .., nullary_bufs_sub .., binary_bufs_sub .., unary_bufs_sub .., binary_bufs_sub
    .., binary_bufs_sub .., unary_bufs_sub .., unary_bufs_sub .., binary_bufs_sub .., nullary_bufs_sub ..,
    unary_bufs_sub .., binary_bufs_sub .., binary_bufs_sub .., unary_bufs_sub .., unary_bufs_sub .., binary_bufs_sub ..⟩

/-- The arguments' references. -/
abbrev args : Finset (Ref sig .tc) := {main_arg0, main_arg1, main_arg2, main_arg3, main_arg4, main_arg5, main_arg6, main_arg7}

/-- What a run ends in on device `d`: the result, and the arguments as they were. -/
def fq (m : (ℓ : Loc nD τ sig) → Buf (Elt F) ℓ) (d : Dev nD) (mem : (ℓ : Loc nD τ sig) → Buf (Elt F) ℓ) : Prop :=
  mem ((d.tc : Thread nD τ).loc main_v19)
      = pred (m ((d.tc : Thread nD τ).loc main_arg0)) (m ((d.tc : Thread nD τ).loc main_arg1)) (m ((d.tc : Thread nD τ).loc main_arg2))
        (m ((d.tc : Thread nD τ).loc main_arg4)) (m ((d.tc : Thread nD τ).loc main_arg5)) (m ((d.tc : Thread nD τ).loc main_arg6)) (m ((d.tc : Thread nD τ).loc main_arg7))
    ∧ ∀ b ∈ args, mem ((d.tc : Thread nD τ).loc b) = m ((d.tc : Thread nD τ).loc b)

/-- The fold of the operations at the result, -/
theorem out_eq (V : Valuation τ sig (Elt F)) :
    after ops V (main_v19 : DevRef τ sig) = pred (V (main_arg0 : DevRef τ sig)) (V (main_arg1 : DevRef τ sig)) (V (main_arg2 : DevRef τ sig))
      (V (main_arg4 : DevRef τ sig)) (V (main_arg5 : DevRef τ sig)) (V (main_arg6 : DevRef τ sig)) (V (main_arg7 : DevRef τ sig)) := by
  after_results_simp
  rfl

/-- and at an argument. -/
theorem arg_eq (V : Valuation τ sig (Elt F)) (b : Ref sig .tc) (hb : b ∈ args) : after ops V (b : DevRef τ sig) = V (b : DevRef τ sig) := by
  simp only [args, Finset.mem_insert, Finset.mem_singleton] at hb
  rcases hb with rfl | rfl | rfl | rfl | rfl | rfl | rfl | rfl <;> after_results_simp

set_option maxRecDepth 16384 in
theorem run_main (m : (ℓ : Loc nD τ sig) → Buf (Elt F) ℓ) (ρ : Dev nD → PrngReg) :
    θ_run defs (onTc (τ := τ) (main (F := F))) ⟨m, fun _ => 0, ρ⟩ fun r => (∀ d : Dev nD, fq m d r.2.mem) ∧ r.2.sem = fun _ => 0 := by
  refine (θ_run _ _ _).mono (fun r h => ⟨fun d => ⟨(h d main_v19).trans (out_eq _), fun b hb => (h d b).trans (arg_eq _ b hb)⟩,
    Idealize.ShloMosaic.sem_eq_zero_of_no_sems (by decide) r.2⟩) (run_seq (by decide) (by decide) defs main (fun _ => ops) main_eq (fun _ => ops_sub) m ρ)

end Cert.Proof.Ref

end
-- ==== Proof.SameText.lean ====
/-
  The two printed programs of the kernel are one text, so their definitions are equal at every instance of the
  floating-point values, and a run of one is a run of the other.
-/
module

public import proofs.«01_k».proof.Proof.Gen.Kernel
public import proofs.«01_k».proof.Proof.Gen.KernelIdeal
public import Idealize.ShloMosaic.Adequacy

@[expose] public section

set_option maxHeartbeats 0
set_option maxRecDepth 100000

noncomputable section

namespace Cert.Proof

open Idealize.ShloMosaic Idealize.SL.Sem

variable {F : FTy → Type} [FloatOps F]

theorem pool_same : Cert.Kernel.cc0__sc_pool_call (F := F) = Cert.KernelIdeal.cc0__sc_pool_call (F := F) := rfl

theorem mlp_same : Cert.Kernel.cc1__mlp_body (F := F) = Cert.KernelIdeal.cc1__mlp_body (F := F) := rfl

/-- The bodies, by processor and label. -/
theorem bodies_same : Cert.Kernel.defs₀ (F := F) = Cert.KernelIdeal.defs₀ (F := F) := by
  funext t ℓ a
  match t, ℓ, a with
  | .tc, 0, _ => rfl
  | .tc, 1, (t, s) =>
    unfold Cert.Kernel.defs₀ Cert.KernelIdeal.defs₀
    dsimp only
    rw [mlp_same]
    rfl
  | .scVector c s, 1, _ => rfl
  | .scVector c s, 0, _ =>
    unfold Cert.Kernel.defs₀ Cert.KernelIdeal.defs₀
    dsimp only
    rw [pool_same]
    rfl
  | .scScalar c, 0, _ => rfl
  | .scScalar c, 1, _ => rfl

theorem defs_same : Cert.Kernel.defs (F := F) = Cert.KernelIdeal.defs (F := F) :=
  congrArg (fun d => Cert.KernelIdeal.sc.defs (Pipeline.defs Cert.KernelIdeal.pcfgs d)) bodies_same

theorem threads_same : Cert.Kernel.threads (F := F) = Cert.KernelIdeal.threads (F := F) := rfl

theorem run_same {s : MemSt Cert.Kernel.nD Cert.Kernel.τ Cert.Kernel.sig (Elt F)} {Q : _ → Prop}
    (h : θ_run (Cert.KernelIdeal.defs (F := F)) (Cert.KernelIdeal.threads (F := F)) s Q) :
    θ_run (Cert.Kernel.defs (F := F)) (Cert.Kernel.threads (F := F)) s Q := by
  rw [defs_same]
  exact h

end Cert.Proof

end
-- ==== Proof.Frames.lean ====
/-
  The frames: the kernel's program and the reference's terminate with their arguments as they were and every semaphore
  at zero.
-/
module

public import proofs.«01_k».proof.Proof.Run
public import proofs.«01_k».proof.Proof.Ref
public import proofs.«01_k».proof.Proof.SameText
public import Idealize.ShloMosaic.Adequacy
public import Idealize.ShloMosaic.Init

@[expose] public section

noncomputable section

namespace Cert.Proof

open Idealize.ShloMosaic Idealize.SL.Sem

/-- The precondition's side conditions. -/
instance preFacts : Cert.Pre_ids_sorted.Facts where
  slices_S10000_S9999_0 := by decide
  slices_S10000_S9999_1 := by decide

/-- The two programs are one text, read at two instances of the floating-point values. -/
theorem frame_kernel : Cert.quiescent_Kernel := fun m ρ _ =>
  run_same ((θ_run Cert.KernelIdeal.defs _ _).mono (fun _ h => ⟨fun c => by
    obtain ⟨_, _, _, ha⟩ := h.1 c
    exact ⟨ha _ (by decide), ha _ (by decide), ha _ (by decide), ha _ (by decide), ha _ (by decide), ha _ (by decide), ha _ (by decide), ha _ (by decide)⟩, h.2⟩)
    (Pool.run_main (F := Bits) m ρ))

theorem frame_kernelIdeal : Cert.quiescent_KernelIdeal := fun m ρ _ =>
  (θ_run Cert.KernelIdeal.defs _ _).mono (fun _ h => ⟨fun c => by
    obtain ⟨_, _, _, ha⟩ := h.1 c
    exact ⟨ha _ (by decide), ha _ (by decide), ha _ (by decide), ha _ (by decide), ha _ (by decide), ha _ (by decide), ha _ (by decide), ha _ (by decide)⟩, h.2⟩)
    (Pool.run_main (F := Ideal) m ρ)

theorem frame_referenceIdeal : Cert.quiescent_ReferenceIdeal := fun m ρ _ =>
  (θ_run Cert.ReferenceIdeal.defs _ _).mono (fun _ h => ⟨fun c => by
    have ha := (h.1 c).2
    exact ⟨ha _ (by decide), ha _ (by decide), ha _ (by decide), ha _ (by decide), ha _ (by decide), ha _ (by decide), ha _ (by decide), ha _ (by decide)⟩, h.2⟩)
    (Ref.run_main (F := Ideal) m ρ)

end Cert.Proof

end
-- ==== Proof.Seg.lean ====
/-
  The values over the extended reals: a tile's accumulated rows are the sums over all nodes of its segments, where the
  ids ascend.
-/
module

public import proofs.«01_k».proof.Proof.Tile2
public import Idealize.ShloMosaic.PureOps.Ideal.Laws

@[expose] public section

noncomputable section

namespace Cert.Proof.Pool

open Cert.KernelIdeal Cert.KernelIdeal.Gen
open Idealize.ShloMosaic Idealize.ShloMosaic.ValueIdx Idealize.ShloMosaic.Affine

/-! ## A run of rows as a sum -/

theorem rowsN_sum (A : Acc Ideal) (g : ℕ → BitVec 32) (xr : ℕ → Fin 512 → EReal) (p : ℕ → EReal) (k : ℕ) (j : S32x512.Idx) :
    rowsN (F := Ideal) A g xr p k j
      = (A j : EReal) + ∑ i ∈ Finset.range k, if (g i).toNat = (j 0).val then xr i (j 1) * p i else 0 := by
  induction k with
  | zero => exact (add_zero _).symm
  | succ k ih =>
    rw [Finset.sum_range_succ, ← add_assoc, ← ih]
    show (if (j 0).val = (g k).toNat then _ else _) = _
    by_cases h : (g k).toNat = (j 0).val
    · rw [if_pos h.symm, if_pos h]; rfl
    · rw [if_neg (Ne.symm h), if_neg h, add_zero]

/-! ## A node's row and weight, in a tile -/

/-- A node of the tile's segments goes to its segment's row. -/
theorem gW_toNat {lo id : BitVec 32} {e : ℤ} (hl : IsInt lo e) (h0 : e ≤ id.toInt) (h1 : id.toInt < e + 32) :
    ((gW lo id).toNat : ℤ) = id.toInt - e := by
  have s := subi (int_iff.2 rfl : IsInt id id.toInt) hl (e := id.toInt - e) ⟨rfl, by omega, by omega⟩
  have a := maxsi (ofNat 0 (e := 0) ⟨rfl, by norm_num⟩) s (e := id.toInt - e) (by omega)
  have b := minsi (ofNat 31 (e := 31) ⟨rfl, by norm_num⟩) a (e := id.toInt - e) (by omega)
  have c := int_iff.1 b
  change (gW lo id).toInt = _ at c
  have l := gW_lt lo id
  rw [BitVec.toInt_eq_toNat_of_lt (by omega)] at c
  exact c

/-- Its weight is the exponential, and another node's is zero. -/
theorem pW_eq {lo hi : BitVec 32} {e : ℤ} (hl : IsInt lo e) (hh : IsInt hi (e + 32)) (id : BitVec 32) (l : EReal) :
    pW (F := Ideal) lo hi id l = if e ≤ id.toInt ∧ id.toInt < e + 32 then FloatOps.exp (F := Ideal) (φ := .f32) l else (0 : EReal) := by
  have hi' : IsInt id id.toInt := int_iff.2 rfl
  show Scalar.select (Scalar.andi (Scalar.cmpi .sge id lo) (Scalar.cmpi .slt id hi)) _ _ = _
  by_cases h0 : e ≤ id.toInt
  · by_cases h1 : id.toInt < e + 32
    · rw [if_pos ⟨h0, h1⟩, Scalar.select]
      exact if_pos (andi_holds (sge_holds hi' hl h0) (slt_holds hi' hh h1))
    · rw [if_neg fun h => h1 h.2, Scalar.select]
      exact (if_neg (andi_fails_right trivial (slt_fails hi' hh h1))).trans Ideal.ofBits_zero_f32
  · rw [if_neg fun h => h0 h.1, Scalar.select]
    exact (if_neg (andi_fails_left (sge_fails hi' hl h0) trivial)).trans Ideal.ofBits_zero_f32

/-! ## A segment's sum -/

/-- What node `n` gives column `c` of segment `s`. -/
def term (x : S10000x512.Idx → EReal) (l : S10000.Idx → EReal) (b : S10000.Idx → BitVec 32) (s : ℤ) (c : Fin 512) (n : ℕ) : EReal :=
  if (idN b n).toInt = s then rowN (F := Ideal) x n c * FloatOps.exp (F := Ideal) (φ := .f32) (lpN (F := Ideal) l n) else 0

/-- Column `c` of segment `s`: the sum over all nodes. -/
def segSum (x : S10000x512.Idx → EReal) (l : S10000.Idx → EReal) (b : S10000.Idx → BitVec 32) (s : ℤ) (c : Fin 512) : EReal :=
  ∑ n ∈ Finset.range 10000, term x l b s c n

/-- What a node gives row `r` of a tile's accumulator is what it gives that row's segment. -/
theorem step_term {lo hi : BitVec 32} {e : ℤ} (hl : IsInt lo e) (hh : IsInt hi (e + 32)) (x : S10000x512.Idx → EReal)
    (l : S10000.Idx → EReal) (b : S10000.Idx → BitVec 32) (n r : ℕ) (hr : r < 32) (c : Fin 512) :
    (if (gW lo (idN b n)).toNat = r then rowN (F := Ideal) x n c * pW (F := Ideal) lo hi (idN b n) (lpN (F := Ideal) l n) else (0 : EReal))
      = term x l b (e + r) c n := by
  rw [pW_eq hl hh]
  unfold term
  by_cases h : e ≤ (idN b n).toInt ∧ (idN b n).toInt < e + 32
  · have g := gW_toNat hl h.1 h.2
    rw [if_pos h]
    by_cases hk : (gW lo (idN b n)).toNat = r
    · rw [if_pos hk, if_pos (by omega)]
    · rw [if_neg hk, if_neg (by omega)]
  · have h' : ¬ (idN b n).toInt = e + r := by omega
    rw [if_neg h, if_neg h']
    split
    · exact mul_zero _
    · rfl

theorem foldRows_sum {lo hi : BitVec 32} {e : ℤ} (hl : IsInt lo e) (hh : IsInt hi (e + 32)) (x : S10000x512.Idx → EReal)
    (l : S10000.Idx → EReal) (b : S10000.Idx → BitVec 32) (a n : ℕ) (j : S32x512.Idx) :
    foldRows (F := Ideal) lo hi x l b (fun _ => zf) a n j = ∑ i ∈ Finset.range n, term x l b (e + (j 0).val) (j 1) (a + i) := by
  unfold foldRows
  rw [rowsN_sum]
  have z : (zf (F := Ideal) : EReal) = 0 := Ideal.ofBits_zero_f32
  rw [z, zero_add]
  exact Finset.sum_congr rfl fun i _ => step_term hl hh x l b (a + i) _ (j 0).isLt (j 1)

/-- The nodes outside a run give nothing where they have other segments. -/
theorem sum_run {M : Type*} [AddCommMonoid M] (f : ℕ → M) (a n N : ℕ) (h : a + n ≤ N) (h0 : ∀ m < a, f m = 0)
    (h1 : ∀ m, a + n ≤ m → m < N → f m = 0) : ∑ i ∈ Finset.range n, f (a + i) = ∑ m ∈ Finset.range N, f m := by
  obtain ⟨k, rfl⟩ := Nat.exists_eq_add_of_le h
  rw [Finset.sum_range_add, Finset.sum_range_add, Finset.sum_eq_zero (s := Finset.range a) fun m hm => h0 m (Finset.mem_range.1 hm),
    Finset.sum_eq_zero (s := Finset.range k) fun m hm => h1 _ (by omega) (by have := Finset.mem_range.1 hm; omega), zero_add, add_zero]

/-- A tile's rows, where the nodes below each of its bounds are an initial run, are its segments' sums. -/
theorem pooled_segSum {lo hi : BitVec 32} {e : ℤ} (hl : IsInt lo e) (hh : IsInt hi (e + 32)) {x : S10000x512.Idx → EReal}
    {l : S10000.Idx → EReal} {b : S10000.Idx → BitVec 32} (il : Initial (Below b lo)) (ih : Initial (Below b hi)) {Y : Acc Ideal}
    (h : Pooled (F := Ideal) lo hi x l b Y) (j : S32x512.Idx) : Y j = segSum x l b (e + (j 0).val) (j 1) := by
  obtain ⟨a, n, rfl, han, hlo, hhi⟩ := h
  have hj : (j 0).val < 32 := (j 0).isLt
  rw [foldRows_sum hl hh]
  refine sum_run _ a n 10000 han (fun m hm => if_neg fun q => ?_) (fun m hm hN => if_neg fun q => ?_)
  · have w := hlo il m hm
    unfold Below padW at w
    rw [if_pos (by omega), slt_iff (int_iff.2 rfl) hl] at w
    omega
  · have w := hhi ih m hm
    unfold Below padW at w
    rw [if_pos hN, slt_iff (int_iff.2 rfl) hh] at w
    omega

/-! ## Ascending ids -/

/-- The ids ascend. -/
def Ascends (b : S10000.Idx → BitVec 32) : Prop := ∀ n, n + 1 < 10000 → (idN b n).toInt ≤ (idN b (n + 1)).toInt

theorem Ascends.le {b : S10000.Idx → BitVec 32} (h : Ascends b) {m n : ℕ} (hmn : m ≤ n) (hn : n < 10000) :
    (idN b m).toInt ≤ (idN b n).toInt := by
  induction n, hmn using Nat.le_induction with
  | base => exact le_rfl
  | succ n _ ih => exact (ih (by omega)).trans (h n hn)

/-- Then the nodes below a bound are an initial run; the padding is below none. -/
theorem Ascends.initial {b : S10000.Idx → BitVec 32} (h : Ascends b) {g : BitVec 32} {e : ℤ} (hg : IsInt g e) (he : e ≤ 1024) :
    Initial (Below b g) := by
  intro m n hmn hn
  by_cases hN : n < 10000
  · unfold Below padW at hn ⊢
    rw [if_pos hN, slt_iff (int_iff.2 rfl) hg] at hn
    rw [if_pos (by omega), slt_iff (int_iff.2 rfl) hg]
    have := h.le hmn hN
    omega
  · exact absurd hn (below_pad hg he (by omega))

end Cert.Proof.Pool

end
-- ==== Proof.Lands.lean ====
/-
  The reference's pooled array over the extended reals: a row and a column of it is that segment's sum over all nodes.
-/
module

public import proofs.«01_k».proof.Proof.Ref
public import proofs.«01_k».proof.Proof.Seg
public import Idealize.ShloMosaic.Lib.Routing.OpsPair

@[expose] public section

noncomputable section

namespace Cert.Proof.Ref

open Cert.ReferenceIdeal Cert.ReferenceIdeal.Gen
open Idealize.ShloMosaic Idealize.ShloMosaic.ValueIdx

/-- Where an update lands: at its node's segment, in its own column, when that is a segment of the array. -/
theorem lands (idx : IVec S10000x1 32) (n : Fin 10000) (k c : Fin 512) (s : Fin 1024) :
    scatter_S1024x512_S10000x1_S10000x512_1_0_0_1.resultIdx? (ix2 n k) idx = some (ix2 s c)
      ↔ (idx (ix2 n (0 : Fin 1))).toInt = s.val ∧ k = c := by
  have h0 : scatter_S1024x512_S10000x1_S10000x512_1_0_0_1.start (ix2 n k) idx 0 = (idx (ix2 n (0 : Fin 1))).toInt := by
    show (idx _).toInt = _
    refine congrArg (fun i => (idx i).toInt) (funext fun a => ?_)
    match a with
    | ⟨0, _⟩ => rfl
    | ⟨1, _⟩ => rfl
  have h1 : scatter_S1024x512_S10000x1_S10000x512_1_0_0_1.start (ix2 n k) idx 1 = 0 := rfl
  have w0 : scatter_S1024x512_S10000x1_S10000x512_1_0_0_1.window (ix2 n k) 0 = 0 := rfl
  have w1 : scatter_S1024x512_S10000x1_S10000x512_1_0_0_1.window (ix2 n k) 1 = k.val := rfl
  refine (Routing.resultIdx?_ix2 (R := 1024) (C := 512) _ _ _ s c).trans ?_
  rw [h0, h1, w0, w1, Fin.ext_iff]
  omega

/-- The ids as the one index of each update. -/
theorem ids_apply (b : S10000.Idx → BitVec 32) (n : Fin 10000) :
    broadcastInDim S10000x1 ![0] bcast_S10000_S10000x1_0 b (ix2 n (0 : Fin 1)) = b (ix1 n) :=
  broadcastInDim_apply ![0] bcast_S10000_S10000x1_0 b (ix2 n (0 : Fin 1)) (ix1 n) fun a => by
    match a with
    | ⟨0, _⟩ => rfl

/-- The weights laid along the rows. -/
theorem weights_apply (v : S10000.Idx → EReal) (j : S10000x512.Idx) :
    broadcastInDim S10000x512 ![0, 1] bcast_S10000x1_S10000x512_0_1 (broadcastInDim S10000x1 ![0] bcast_S10000_S10000x1_0 v) j
      = v (ix1 (j 0 : Fin 10000)) := by
  refine (broadcastInDim_apply ![0, 1] bcast_S10000x1_S10000x512_0_1 _ j (ix2 (j 0 : Fin 10000) (0 : Fin 1)) fun a => ?_).trans ?_
  · match a with
    | ⟨0, _⟩ => rfl
    | ⟨1, _⟩ => rfl
  · exact broadcastInDim_apply ![0] bcast_S10000_S10000x1_0 v (ix2 (j 0 : Fin 10000) (0 : Fin 1)) (ix1 (j 0 : Fin 10000)) fun a => by
      match a with
      | ⟨0, _⟩ => rfl

/-- The pooled array's row `s` is segment `s`'s sum. -/
theorem pooled_apply (x : S10000x512.Idx → EReal) (l : S10000.Idx → EReal) (b : S10000.Idx → BitVec 32) (s : Fin 1024) (c : Fin 512) :
    pooled (F := Ideal) x l b (ix2 s c) = Pool.segSum x l b (s.val : ℤ) c := by
  have e : pooled (F := Ideal) x l b (ix2 s c)
      = (0 : EReal) + ∑ j ∈ Finset.univ.filter (fun j : S10000x512.Idx =>
          scatter_S1024x512_S10000x1_S10000x512_1_0_0_1.resultIdx? j (broadcastInDim S10000x1 ![0] bcast_S10000_S10000x1_0 b) = some (ix2 s c)),
        (x j * FloatOps.exp (F := Ideal) (φ := .f32) (l (ix1 (j 0)))) := by
    show Ideal.hostScatterAdd _ _ _ _ _ = _
    unfold Ideal.hostScatterAdd
    refine congrArg₂ (· + ·) Ideal.ofBits_zero_f32 (Finset.sum_congr rfl fun j _ => ?_)
    exact congrArg (fun t : EReal => (x j : EReal) * t) (weights_apply (Host.exp (F := Ideal) (φ := .f32) l) j)
  rw [e, zero_add, Finset.sum_filter, sum_idx2]
  unfold Pool.segSum
  rw [Finset.sum_range]
  refine Finset.sum_congr rfl fun n _ => ?_
  have hn : (⟨n.val % 10000, Nat.mod_lt _ (by norm_num)⟩ : Fin 10000) = n := Fin.ext (Nat.mod_eq_of_lt n.isLt)
  have ht : Pool.term x l b (s.val : ℤ) c n.val
      = if (b (ix1 n)).toInt = (s.val : ℤ) then (x (ix2 n c) : EReal) * FloatOps.exp (F := Ideal) (φ := .f32) (l (ix1 n)) else 0 := by
    unfold Pool.term Pool.idN Pool.rowN Pool.lpN
    rw [hn]
  rw [ht, Finset.sum_eq_single c]
  · refine if_congr ((lands _ n c c s).trans ⟨fun h => ?_, fun h => ⟨?_, rfl⟩⟩) rfl rfl
    · rw [← ids_apply b n]; exact h.1
    · rw [ids_apply b n]; exact h
  · intro k _ hk
    exact if_neg fun h => hk ((lands _ n k c s).1 h).2
  · intro h; exact absurd (Finset.mem_univ c) h

end Cert.Proof.Ref

end
-- ==== Proof.MlpEq.lean ====
/-
  The second half over the extended reals: the kernel's quotient and two layers are the reference's.
-/
module

public import proofs.«01_k».proof.Proof.Run
public import proofs.«01_k».proof.Proof.Ref
public import Idealize.ShloMosaic.PureOps.Ideal.Laws
public import Idealize.ShloMosaic.Lib.KernelVsHost

@[expose] public section

noncomputable section

namespace Cert.Proof.Mlp

open Idealize.ShloMosaic Idealize.ShloMosaic.ValueIdx

abbrev Pool1024 := Cert.KernelIdeal.S1024x512.Idx → EReal
abbrev Mat := Cert.KernelIdeal.S512x512.Idx → EReal
abbrev Vec512 := Cert.KernelIdeal.S512.Idx → EReal

/-- The sum of the exponentials: the kernel's, of the one row that the vector is cast to, is the reference's. -/
theorem total_eq (l : Cert.KernelIdeal.S10000.Idx → EReal) (hc : Cert.KernelIdeal.S10000.ShapeCasts Cert.KernelIdeal.S1x10000)
    (hr : Cert.KernelIdeal.S1x10000.Reduces [1] Cert.KernelIdeal.S1)
    (hk : FKind.Formats .f32) (hn : 0x00000000#32 = FKind.add.neutral .f32 hk)
    (h' : Cert.ReferenceIdeal.S10000.ReducesTo [0] Cert.ReferenceIdeal.S_) (hu : 0 < Cert.ReferenceIdeal.S_.numel)
    (i : Cert.KernelIdeal.S1.Idx) (k : Cert.ReferenceIdeal.S_.Idx) :
    multiReduction (F := Ideal) .add [1] Cert.KernelIdeal.S1 (shapeCast Cert.KernelIdeal.S1x10000 (exp (F := Ideal) (φ := .f32) l) hc) 0x00000000#32 hr hk hn i
      = Host.reduceAdd (F := Ideal) (Host.exp (φ := .f32) l) (constant Cert.ReferenceIdeal.S_ .f32 0x00000000#32) h' hu k := by
  have a := Ideal.multiReduction_add_total (φ := .f32) (shapeCast Cert.KernelIdeal.S1x10000 (exp (F := Ideal) (φ := .f32) l) hc) 0x00000000#32 hr (by decide) hk hn i
  have b : Host.reduceAdd (F := Ideal) (Host.exp (φ := .f32) l) (constant Cert.ReferenceIdeal.S_ .f32 0x00000000#32) h' hu k
      = (Ideal.ofBits .f32 0x00000000#32 : EReal) + ∑ i : Cert.ReferenceIdeal.S10000.Idx, (Host.exp (F := Ideal) (φ := .f32) l i : EReal) :=
    Ideal.hostReduceAdd_total h' (fun b => b.elim0) _ _ k
  rw [a, b, Ideal.ofBits_zero_f32, zero_add, sum_idx2, Fintype.sum_unique]
  refine (Fintype.sum_equiv ⟨fun i => (i 0 : Fin 10000), fun n => ix1 n, fun i => (eq_ix1 i).symm, fun _ => rfl⟩ _ _ fun i => ?_).symm
  refine (shapeCast_apply _ hc (ix2 (default : Fin 1) (i 0 : Fin 10000)) i ?_).symm
  rw [Shape.rowMajor_val_two, Shape.rowMajor_val_one]
  show (i 0).val = 0 * 10000 + (i 0).val
  omega

/-- The bias on every row, in two steps and in one. -/
theorem bias_apply (c : Vec512) (hd : Cert.KernelIdeal.S512.BroadcastsInDim Cert.KernelIdeal.S1024x512 ![1]) (j : Cert.KernelIdeal.S1024x512.Idx) :
    broadcastInDim Cert.ReferenceIdeal.S1024x512 ![0, 1] Cert.ReferenceIdeal.Gen.bcast_S1x512_S1024x512_0_1
        (broadcastInDim Cert.ReferenceIdeal.S1x512 ![1] Cert.ReferenceIdeal.Gen.bcast_S512_S1x512_1 c) j
      = broadcastInDim Cert.KernelIdeal.S1024x512 ![1] hd c j := by
  refine (broadcastInDim_apply ![0, 1] Cert.ReferenceIdeal.Gen.bcast_S1x512_S1024x512_0_1 _ j (ix2 (0 : Fin 1) (j 1 : Fin 512)) fun a => ?_).trans
    ((broadcastInDim_apply ![1] Cert.ReferenceIdeal.Gen.bcast_S512_S1x512_1 c (ix2 (0 : Fin 1) (j 1 : Fin 512)) (ix1 (j 1 : Fin 512)) fun a => ?_).trans
      (broadcastInDim_apply ![1] hd c j (ix1 (j 1 : Fin 512)) fun a => ?_).symm)
  · match a with
    | ⟨0, _⟩ => rfl
    | ⟨1, _⟩ => rfl
  · match a with
    | ⟨0, _⟩ => rfl
  · match a with
    | ⟨0, _⟩ => rfl

/-- A layer: into a zero accumulator, with the one-row bias on every row. -/
theorem layer_eq (a : Pool1024) (w : Mat) (c : Vec512) (h1 : Cert.KernelIdeal.S512.ShapeCasts Cert.KernelIdeal.S1x512)
    (h2 : Cert.KernelIdeal.S1x512.ShapeCasts Cert.KernelIdeal.S1x512) (h3 : Cert.KernelIdeal.S1x512.Broadcasts Cert.KernelIdeal.S1024x512) :
    addf (F := Ideal) (φ := .f32) (matmul (F := Ideal) (φ₁ := .f32) (φ₂ := .f32) Cert.KernelIdeal.dot_S1024x512_S512x512_S1024x512_1_0_0_1_n_n none a w (constant Cert.KernelIdeal.S1024x512 .f32 0x00000000#32))
        (broadcastTo Cert.KernelIdeal.S1024x512 (shapeCast Cert.KernelIdeal.S1x512 (shapeCast Cert.KernelIdeal.S1x512 c h1) h2) h3)
      = Ref.layer (F := Ideal) a w c := by
  rw [matmul_zero_eq_dotGeneral, shapeCast_self]
  unfold Ref.layer
  refine congrArg₂ (addf (F := Ideal) (φ := .f32)) rfl (funext fun j => ?_)
  have e : ∀ hd, broadcastTo Cert.KernelIdeal.S1024x512 (shapeCast Cert.KernelIdeal.S1x512 c h1) h3
      = broadcastInDim Cert.KernelIdeal.S1024x512 ![1] hd c := fun hd => broadcastTo_row_eq_broadcastInDim c h1 h3 hd
  rw [e (by decide)]
  exact (bias_apply c _ j).symm

/-- The one entry of a one-entry vector. -/
theorem one_eq (v : Cert.KernelIdeal.S1.Idx → EReal) (h : Cert.KernelIdeal.S1.ShapeCasts Cert.KernelIdeal.S1x1)
    (hp : ∀ a, (![0, 0] : Fin 2 → ℕ) a < Cert.KernelIdeal.S1x1.size a) (i : Cert.KernelIdeal.S1.Idx) :
    extractAt ![0, 0] (shapeCast Cert.KernelIdeal.S1x1 v h) hp = v i := by
  refine congrArg v (funext fun a => Fin.ext ?_)
  match a with
  | ⟨0, _⟩ =>
    have h1 : ∀ z : Fin 1, z.val = 0 := fun z => by omega
    exact (h1 _).trans (h1 _).symm

/-- A scalar laid everywhere. -/
theorem splat_eq (v : Cert.ReferenceIdeal.S_.Idx → EReal)
    (hd : Cert.ReferenceIdeal.S_.BroadcastsInDim Cert.ReferenceIdeal.S1024x512 (![] : Fin 0 → Fin Cert.ReferenceIdeal.S1024x512.rank))
    (j : Cert.ReferenceIdeal.S1024x512.Idx) (k : Cert.ReferenceIdeal.S_.Idx) :
    broadcastInDim Cert.ReferenceIdeal.S1024x512 ![] hd v j = v k :=
  congrArg v (funext fun a => a.elim0)

/-- A quotient by one scalar everywhere. -/
theorem div_eq (p : Pool1024) (t : EReal) (v : Cert.ReferenceIdeal.S_.Idx → EReal)
    (hd : Cert.ReferenceIdeal.S_.BroadcastsInDim Cert.ReferenceIdeal.S1024x512 (![] : Fin 0 → Fin Cert.ReferenceIdeal.S1024x512.rank))
    (j : Cert.KernelIdeal.S1024x512.Idx) (h : t = v ix0) :
    divf (F := Ideal) (φ := .f32) p (broadcast Cert.KernelIdeal.S1024x512 t) j
      = Host.divf (F := Ideal) (φ := .f32) p (broadcastInDim Cert.ReferenceIdeal.S1024x512 ![] hd v) j := by
  have e := h.trans (splat_eq v hd j ix0).symm
  exact congrArg (Ideal.div (p j)) e

/-- The kernel's second half is the reference's. -/
theorem mlp_eq (l : Cert.KernelIdeal.S10000.Idx → EReal) (p : Pool1024) (w : Mat) (c : Vec512) (w' : Mat) (c' : Vec512)
    (x : Cert.KernelIdeal.S10000x512.Idx → EReal) (b : Cert.KernelIdeal.S10000.Idx → BitVec 32) (hp : p = Ref.pooled (F := Ideal) x l b)
    (h1 : Cert.KernelIdeal.S512.ShapeCasts Cert.KernelIdeal.S1x512) :
    Cert.KernelIdeal.Gen.k1_pay1 (F := Ideal) l p w (shapeCast Cert.KernelIdeal.S1x512 c h1) w' (shapeCast Cert.KernelIdeal.S1x512 c' h1)
      = Ref.pred (F := Ideal) x l b w c w' c' := by
  subst hp
  unfold Cert.KernelIdeal.Gen.k1_pay1 Ref.pred
  dsimp only
  rw [layer_eq, layer_eq, shapeCast_self]
  refine congrArg (fun t => Ref.layer (F := Ideal) (maximumf (Ref.layer (F := Ideal) t w c) _) w' c') (funext fun j => ?_)
  exact div_eq _ _ _ _ j ((one_eq _ _ _ (ix1 0)).trans (total_eq l _ _ _ _ _ _ _ _))

end Cert.Proof.Mlp

end
-- ==== Proof.Algebra.lean ====
/-
  The value over the extended reals: where the ids ascend, the pooled array that the tiles leave is the reference's, and
  so is the result.
-/
module

public import proofs.«01_k».proof.Proof.Lands
public import proofs.«01_k».proof.Proof.MlpEq
public import proofs.«01_k».proof.Proof.Frames

@[expose] public section

noncomputable section

namespace Cert.Proof

open Idealize.ShloMosaic Idealize.ShloMosaic.ValueIdx Idealize.SL.Sem

namespace Pool

open Cert.KernelIdeal Cert.KernelIdeal.Gen

variable {m : (ℓ : Loc nD τ sig) → Buf (Elt Ideal) ℓ} {d : Dev nD}

/-- A tile's rows of an array, by place. -/
theorem read_rows (p : Tiles) (f : Buf (Elt Ideal) (oLoc d)) (r : Fin 32) (c : Fin 512) (s : Fin 1024)
    (hs : s.val = 32 * (2 * p.2.val + p.1.val) + r.val) :
    (tileRows (tileAt p.1 p.2)).view.read (Elt Ideal) f (ix2 r c) = (f : S1024x512.Idx → EReal) (ix2 s c) := by
  have o := k0_off359_eq (tileAt p.1 p.2)
  have o0 : k0_off359 (tileAt p.1 p.2) 0 = 64 * p.2.val + 32 * p.1.val := congrFun o 0
  have o1 : k0_off359 (tileAt p.1 p.2) 1 = 0 := congrFun o 1
  refine congrArg (f : S1024x512.Idx → EReal) (funext fun a => Fin.ext ?_)
  match a with
  | ⟨0, _⟩ =>
    show k0_off359 (tileAt p.1 p.2) 0 + 1 * r.val = s.val
    omega
  | ⟨1, _⟩ =>
    show k0_off359 (tileAt p.1 p.2) 1 + 1 * c.val = c.val
    omega

/-- The pooled array, where the ids ascend. -/
theorem pool_eq {f : Buf (Elt Ideal) (oLoc d)} (h : PoolOK m d f) (hb : Ascends (bOf m d)) :
    (f : S1024x512.Idx → EReal) = Ref.pooled (F := Ideal) (xOf m d) (lOf m d) (bOf m d) := by
  funext j
  obtain ⟨s, c, rfl⟩ : ∃ (s : Fin 1024) (c : Fin 512), j = ix2 s c := ⟨j 0, j 1, eq_ix2 j⟩
  have hs := s.isLt
  let p : Tiles := (⟨s.val / 32 % 2, show _ < 2 by omega⟩, ⟨s.val / 64, show _ < 16 by omega⟩)
  have p1 : p.1.val = s.val / 32 % 2 := rfl
  have p2 : p.2.val = s.val / 64 := rfl
  have hr : s.val % 32 < 32 := Nat.mod_lt _ (by norm_num)
  have il := tileLo_int (tileAt p.1 p.2)
  have ih := tileHi_int (tileAt p.1 p.2)
  have e : (2 * ((tileAt p.1 p.2) 1).val + ((tileAt p.1 p.2) 0).val) * 32 = (2 * p.2.val + p.1.val) * 32 := rfl
  rw [e] at il ih
  have q := pooled_segSum il (by exact_mod_cast ih) (hb.initial il (by omega)) (hb.initial ih (by omega)) (h p) (ix2 ⟨s.val % 32, hr⟩ c)
  rw [read_rows p f ⟨s.val % 32, hr⟩ c s (by show s.val = _ + s.val % 32; omega)] at q
  rw [Ref.pooled_apply]
  refine q.trans (congrArg (fun t => segSum (xOf m d) (lOf m d) (bOf m d) t c) ?_)
  show (((2 * p.2.val + p.1.val) * 32 : ℕ) : ℤ) + ((s.val % 32 : ℕ) : ℤ) = (s.val : ℤ)
  omega

/-- The result, where the ids ascend. -/
theorem result_eq {f : (d : Dev nD) → Buf (Elt Ideal) (oLoc d)} (h : PoolOK m d (f d)) (hb : Ascends (bOf m d)) :
    result (V₂ m f) d = Ref.pred (F := Ideal) (xOf m d) (lOf m d) (bOf m d) (m (d.tc.loc main_arg4)) (m (d.tc.loc main_arg5))
      (m (d.tc.loc main_arg6)) (m (d.tc.loc main_arg7)) := by
  unfold result
  rw [V₂_pool, V₂_bias, V₂_bias', V₂_other m f d main_arg1 (by decide), V₂_other m f d main_arg4 (by decide),
    V₂_other m f d main_arg6 (by decide)]
  exact Mlp.mlp_eq _ _ _ _ _ _ (xOf m d) (bOf m d) (pool_eq h hb) _

/-- The precondition says that the ids ascend. -/
theorem ascends_of_pre (h : Cert.Pre_KernelIdeal_ids_sorted m) : Ascends (bOf m d) := by
  intro n hn
  have e := congrFun (h d) (ix1 (⟨n, by omega⟩ : Fin 9999))
  have a : idN (bOf m d) n = bOf m d (ix1 ⟨n, by omega⟩) := by
    unfold idN; congr 2; exact Fin.ext (Nat.mod_eq_of_lt (by omega))
  have b : idN (bOf m d) (n + 1) = bOf m d (ix1 ⟨n + 1, hn⟩) := by
    unfold idN; congr 2; exact Fin.ext (Nat.mod_eq_of_lt (by omega))
  rw [a, b]
  have g : Scalar.cmpi .sle (bOf m d (ix1 ⟨n, by omega⟩)) (bOf m d (ix1 ⟨n + 1, hn⟩)) = 1#1 := by
    refine Eq.trans ?_ e
    refine congrArg₂ (Scalar.cmpi .sle) (congrArg (bOf m d) (funext fun a => Fin.ext ?_)) (congrArg (bOf m d) (funext fun a => Fin.ext ?_))
    · match a with
      | ⟨0, _⟩ => exact (Nat.zero_add n).symm
    · match a with
      | ⟨0, _⟩ => exact Nat.add_comm n 1
  by_contra hlt
  exact Affine.sle_fails (int_iff.2 rfl) (int_iff.2 rfl) hlt g

end Pool

/-- From one set of arguments with ascending ids, the two programs end with equal results. -/
theorem algebraic : Cert.algebraic_KernelIdeal_ReferenceIdeal_pre_ids_sorted := by
  intro m g m' g' hpre hargs
  refine ⟨fun c => Ref.pred (F := Ideal) (m (c.tc.loc Cert.KernelIdeal.main_arg0)) (m (c.tc.loc Cert.KernelIdeal.main_arg1)) (m (c.tc.loc Cert.KernelIdeal.main_arg2))
      (m (c.tc.loc Cert.KernelIdeal.main_arg4)) (m (c.tc.loc Cert.KernelIdeal.main_arg5)) (m (c.tc.loc Cert.KernelIdeal.main_arg6)) (m (c.tc.loc Cert.KernelIdeal.main_arg7)),
    fun c => m (c.tc.loc Cert.KernelIdeal.main_arg3), ?_, ?_⟩
  · refine (θ_run Cert.KernelIdeal.defs _ _).mono (fun _ h c => ?_) (Pool.run_main (F := Ideal) m g)
    obtain ⟨f, hf, hv, ha⟩ := h.1 c
    exact ⟨hv.trans (Pool.result_eq hf (Pool.ascends_of_pre hpre)), ha _ (by decide), ha _ (by decide), ha _ (by decide), ha _ (by decide),
      ha _ (by decide), ha _ (by decide), ha _ (by decide), ha _ (by decide), ha _ (by decide)⟩
  · refine (θ_run Cert.ReferenceIdeal.defs _ _).mono (fun _ h c => ?_) (Ref.run_main (F := Ideal) m' g')
    obtain ⟨hv, ha⟩ := h.1 c
    obtain ⟨h0, h1, h2, h3, h4, h5, h6, h7⟩ := hargs c
    rw [h0, h1, h2, h4, h5, h6, h7] at hv
    exact ⟨hv, (ha _ (by decide)).trans h3, ha _ (by decide), ha _ (by decide), ha _ (by decide), ha _ (by decide),
      ha _ (by decide), ha _ (by decide), ha _ (by decide), ha _ (by decide)⟩

end Cert.Proof

end
-- ==== Proof.lean ====
/-
  The proof of `Cert.Claim`: the frames of the kernel's two programs and of the reference (Proof/Frames.lean), and the
  equality of their results over the extended reals where the ids ascend (Proof/Algebra.lean).
-/
module

public import proofs.«01_k».proof.Defs
public import proofs.«01_k».proof.Proof.Frames
public import proofs.«01_k».proof.Proof.Algebra

@[expose] public section

noncomputable section

namespace Cert.Proof

theorem claim : Cert.Claim :=
  ⟨Cert.Kernel.Gen.facts, Cert.KernelIdeal.Gen.facts, Cert.ReferenceIdeal.Gen.facts, preFacts,
    frame_kernel, frame_kernelIdeal, fun m g _ => frame_kernelIdeal m g trivial, frame_referenceIdeal,
    fun m g _ => frame_referenceIdeal m g trivial, trivial, algebraic⟩

end Cert.Proof

end
